-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2 = (fun _ => 1#1)

def Pre_Dense (m : (ℓ : Loc Cert.Dense.nD Cert.Dense.τ Cert.Dense.sig) → Buf (Elt Bits) ℓ) : Prop :=
  True

def Pre_DenseIdeal (m : (ℓ : Loc Cert.DenseIdeal.nD Cert.DenseIdeal.τ Cert.DenseIdeal.sig) → Buf (Elt Ideal) ℓ) : Prop :=
  True

def Pre_DenseIdeal_finite_forward [hPre_finite_forward : Cert.Pre_finite_forward.Facts] (m : (ℓ : Loc Cert.DenseIdeal.nD Cert.DenseIdeal.τ Cert.DenseIdeal.sig) → Buf (Elt Ideal) ℓ) : Prop :=
  ∀ c : Dev Cert.DenseIdeal.nD,
    (Cert.Pre_finite_forward.fn (F := Ideal) (m ((c.tc : Thread Cert.DenseIdeal.nD Cert.DenseIdeal.τ).loc Cert.DenseIdeal.main_arg0)) (m ((c.tc : Thread Cert.DenseIdeal.nD Cert.DenseIdeal.τ).loc Cert.DenseIdeal.main_arg1)) (m ((c.tc : Thread Cert.DenseIdeal.nD Cert.DenseIdeal.τ).loc Cert.DenseIdeal.main_arg2))).1 = (fun _ => 1#1)
    ∧ (Cert.Pre_finite_forward.fn (F := Ideal) (m ((c.tc : Thread Cert.DenseIdeal.nD Cert.DenseIdeal.τ).loc Cert.DenseIdeal.main_arg0)) (m ((c.tc : Thread Cert.DenseIdeal.nD Cert.DenseIdeal.τ).loc Cert.DenseIdeal.main_arg1)) (m ((c.tc : Thread Cert.DenseIdeal.nD Cert.DenseIdeal.τ).loc Cert.DenseIdeal.main_arg2))).2 = (fun _ => 1#1)

def Pre_DenseReferenceIdeal (m : (ℓ : Loc Cert.DenseReferenceIdeal.nD Cert.DenseReferenceIdeal.τ Cert.DenseReferenceIdeal.sig) → Buf (Elt Ideal) ℓ) : Prop :=
  True

def Pre_DenseReferenceIdeal_finite_forward [hPre_finite_forward : Cert.Pre_finite_forward.Facts] (m : (ℓ : Loc Cert.DenseReferenceIdeal.nD Cert.DenseReferenceIdeal.τ Cert.DenseReferenceIdeal.sig) → Buf (Elt Ideal) ℓ) : Prop :=
  ∀ c : Dev Cert.DenseReferenceIdeal.nD,
    (Cert.Pre_finite_forward.fn (F := Ideal) (m ((c.tc : Thread Cert.DenseReferenceIdeal.nD Cert.DenseReferenceIdeal.τ).loc Cert.DenseReferenceIdeal.main_arg0)) (m ((c.tc : Thread Cert.DenseReferenceIdeal.nD Cert.DenseReferenceIdeal.τ).loc Cert.DenseReferenceIdeal.main_arg1)) (m ((c.tc : Thread Cert.DenseReferenceIdeal.nD Cert.DenseReferenceIdeal.τ).loc Cert.DenseReferenceIdeal.main_arg2))).1 = (fun _ => 1#1)
    ∧ (Cert.Pre_finite_forward.fn (F := Ideal) (m ((c.tc : Thread Cert.DenseReferenceIdeal.nD Cert.DenseReferenceIdeal.τ).loc Cert.DenseReferenceIdeal.main_arg0)) (m ((c.tc : Thread Cert.DenseReferenceIdeal.nD Cert.DenseReferenceIdeal.τ).loc Cert.DenseReferenceIdeal.main_arg1)) (m ((c.tc : Thread Cert.DenseReferenceIdeal.nD Cert.DenseReferenceIdeal.τ).loc Cert.DenseReferenceIdeal.main_arg2))).2 = (fun _ => 1#1)

def Pre_Mla (m : (ℓ : Loc Cert.Mla.nD Cert.Mla.τ Cert.Mla.sig) → Buf (Elt Bits) ℓ) : Prop :=
  True

def Pre_MlaIdeal (m : (ℓ : Loc Cert.MlaIdeal.nD Cert.MlaIdeal.τ Cert.MlaIdeal.sig) → Buf (Elt Ideal) ℓ) : Prop :=
  True

def Pre_MlaIdeal_finite_mla_forward [hPre_finite_mla_forward : Cert.Pre_finite_mla_forward.Facts] (m : (ℓ : Loc Cert.MlaIdeal.nD Cert.MlaIdeal.τ Cert.MlaIdeal.sig) → Buf (Elt Ideal) ℓ) : Prop :=
  ∀ c : Dev Cert.MlaIdeal.nD,
    (Cert.Pre_finite_mla_forward.fn (F := Ideal) (m ((c.tc : Thread Cert.MlaIdeal.nD Cert.MlaIdeal.τ).loc Cert.MlaIdeal.main_arg0)) (m ((c.tc : Thread Cert.MlaIdeal.nD Cert.MlaIdeal.τ).loc Cert.MlaIdeal.main_arg1)) (m ((c.tc : Thread Cert.MlaIdeal.nD Cert.MlaIdeal.τ).loc Cert.MlaIdeal.main_arg2))).1 = (fun _ => 1#1)
    ∧ (Cert.Pre_finite_mla_forward.fn (F := Ideal) (m ((c.tc : Thread Cert.MlaIdeal.nD Cert.MlaIdeal.τ).loc Cert.MlaIdeal.main_arg0)) (m ((c.tc : Thread Cert.MlaIdeal.nD Cert.MlaIdeal.τ).loc Cert.MlaIdeal.main_arg1)) (m ((c.tc : Thread Cert.MlaIdeal.nD Cert.MlaIdeal.τ).loc Cert.MlaIdeal.main_arg2))).2 = (fun _ => 1#1)

def Pre_MlaReferenceIdeal (m : (ℓ : Loc Cert.MlaReferenceIdeal.nD Cert.MlaReferenceIdeal.τ Cert.MlaReferenceIdeal.sig) → Buf (Elt Ideal) ℓ) : Prop :=
  True

def Pre_MlaReferenceIdeal_finite_mla_forward [hPre_finite_mla_forward : Cert.Pre_finite_mla_forward.Facts] (m : (ℓ : Loc Cert.MlaReferenceIdeal.nD Cert.MlaReferenceIdeal.τ Cert.MlaReferenceIdeal.sig) → Buf (Elt Ideal) ℓ) : Prop :=
  ∀ c : Dev Cert.MlaReferenceIdeal.nD,
    (Cert.Pre_finite_mla_forward.fn (F := Ideal) (m ((c.tc : Thread Cert.MlaReferenceIdeal.nD Cert.MlaReferenceIdeal.τ).loc Cert.MlaReferenceIdeal.main_arg0)) (m ((c.tc : Thread Cert.MlaReferenceIdeal.nD Cert.MlaReferenceIdeal.τ).loc Cert.MlaReferenceIdeal.main_arg1)) (m ((c.tc : Thread Cert.MlaReferenceIdeal.nD Cert.MlaReferenceIdeal.τ).loc Cert.MlaReferenceIdeal.main_arg2))).1 = (fun _ => 1#1)
    ∧ (Cert.Pre_finite_mla_forward.fn (F := Ideal) (m ((c.tc : Thread Cert.MlaReferenceIdeal.nD Cert.MlaReferenceIdeal.τ).loc Cert.MlaReferenceIdeal.main_arg0)) (m ((c.tc : Thread Cert.MlaReferenceIdeal.nD Cert.MlaReferenceIdeal.τ).loc Cert.MlaReferenceIdeal.main_arg1)) (m ((c.tc : Thread Cert.MlaReferenceIdeal.nD Cert.MlaReferenceIdeal.τ).loc Cert.MlaReferenceIdeal.main_arg2))).2 = (fun _ => 1#1)

def Pre_MlaGrad (m : (ℓ : Loc Cert.MlaGrad.nD Cert.MlaGrad.τ Cert.MlaGrad.sig) → Buf (Elt Bits) ℓ) : Prop :=
  True

def Pre_MlaGradIdeal (m : (ℓ : Loc Cert.MlaGradIdeal.nD Cert.MlaGradIdeal.τ Cert.MlaGradIdeal.sig) → Buf (Elt Ideal) ℓ) : Prop :=
  True

def Pre_MlaGradIdeal_finite_mla [hPre_finite_mla : Cert.Pre_finite_mla.Facts] (m : (ℓ : Loc Cert.MlaGradIdeal.nD Cert.MlaGradIdeal.τ Cert.MlaGradIdeal.sig) → Buf (Elt Ideal) ℓ) : Prop :=
  ∀ c : Dev Cert.MlaGradIdeal.nD,
    (Cert.Pre_finite_mla.fn (F := Ideal) (m ((c.tc : Thread Cert.MlaGradIdeal.nD Cert.MlaGradIdeal.τ).loc Cert.MlaGradIdeal.main_arg0)) (m ((c.tc : Thread Cert.MlaGradIdeal.nD Cert.MlaGradIdeal.τ).loc Cert.MlaGradIdeal.main_arg1)) (m ((c.tc : Thread Cert.MlaGradIdeal.nD Cert.MlaGradIdeal.τ).loc Cert.MlaGradIdeal.main_arg2)) (m ((c.tc : Thread Cert.MlaGradIdeal.nD Cert.MlaGradIdeal.τ).loc Cert.MlaGradIdeal.main_arg3))).1 = (fun _ => 1#1)
    ∧ (Cert.Pre_finite_mla.fn (F := Ideal) (m ((c.tc : Thread Cert.MlaGradIdeal.nD Cert.MlaGradIdeal.τ).loc Cert.MlaGradIdeal.main_arg0)) (m ((c.tc : Thread Cert.MlaGradIdeal.nD Cert.MlaGradIdeal.τ).loc Cert.MlaGradIdeal.main_arg1)) (m ((c.tc : Thread Cert.MlaGradIdeal.nD Cert.MlaGradIdeal.τ).loc Cert.MlaGradIdeal.main_arg2)) (m ((c.tc : Thread Cert.MlaGradIdeal.nD Cert.MlaGradIdeal.τ).loc Cert.MlaGradIdeal.main_arg3))).2 = (fun _ => 1#1)

def Pre_MlaGradReferenceIdeal (m : (ℓ : Loc Cert.MlaGradReferenceIdeal.nD Cert.MlaGradReferenceIdeal.τ Cert.MlaGradReferenceIdeal.sig) → Buf (Elt Ideal) ℓ) : Prop :=
  True

def Pre_MlaGradReferenceIdeal_finite_mla [hPre_finite_mla : Cert.Pre_finite_mla.Facts] (m : (ℓ : Loc Cert.MlaGradReferenceIdeal.nD Cert.MlaGradReferenceIdeal.τ Cert.MlaGradReferenceIdeal.sig) → Buf (Elt Ideal) ℓ) : Prop :=
  ∀ c : Dev Cert.MlaGradReferenceIdeal.nD,
    (Cert.Pre_finite_mla.fn (F := Ideal) (m ((c.tc : Thread Cert.MlaGradReferenceIdeal.nD Cert.MlaGradReferenceIdeal.τ).loc Cert.MlaGradReferenceIdeal.main_arg0)) (m ((c.tc : Thread Cert.MlaGradReferenceIdeal.nD Cert.MlaGradReferenceIdeal.τ).loc Cert.MlaGradReferenceIdeal.main_arg1)) (m ((c.tc : Thread Cert.MlaGradReferenceIdeal.nD Cert.MlaGradReferenceIdeal.τ).loc Cert.MlaGradReferenceIdeal.main_arg2)) (m ((c.tc : Thread Cert.MlaGradReferenceIdeal.nD Cert.MlaGradReferenceIdeal.τ).loc Cert.MlaGradReferenceIdeal.main_arg3))).1 = (fun _ => 1#1)
    ∧ (Cert.Pre_finite_mla.fn (F := Ideal) (m ((c.tc : Thread Cert.MlaGradReferenceIdeal.nD Cert.MlaGradReferenceIdeal.τ).loc Cert.MlaGradReferenceIdeal.main_arg0)) (m ((c.tc : Thread Cert.MlaGradReferenceIdeal.nD Cert.MlaGradReferenceIdeal.τ).loc Cert.MlaGradReferenceIdeal.main_arg1)) (m ((c.tc : Thread Cert.MlaGradReferenceIdeal.nD Cert.MlaGradReferenceIdeal.τ).loc Cert.MlaGradReferenceIdeal.main_arg2)) (m ((c.tc : Thread Cert.MlaGradReferenceIdeal.nD Cert.MlaGradReferenceIdeal.τ).loc Cert.MlaGradReferenceIdeal.main_arg3))).2 = (fun _ => 1#1)

def Pre_MlpUp (m : (ℓ : Loc Cert.MlpUp.nD Cert.MlpUp.τ Cert.MlpUp.sig) → Buf (Elt Bits) ℓ) : Prop :=
  True

def Pre_MlpUpIdeal (m : (ℓ : Loc Cert.MlpUpIdeal.nD Cert.MlpUpIdeal.τ Cert.MlpUpIdeal.sig) → Buf (Elt Ideal) ℓ) : Prop :=
  True

def Pre_MlpUpReferenceIdeal (m : (ℓ : Loc Cert.MlpUpReferenceIdeal.nD Cert.MlpUpReferenceIdeal.τ Cert.MlpUpReferenceIdeal.sig) → Buf (Elt Ideal) ℓ) : Prop :=
  True

def Pre_MlpGrad (m : (ℓ : Loc Cert.MlpGrad.nD Cert.MlpGrad.τ Cert.MlpGrad.sig) → Buf (Elt Bits) ℓ) : Prop :=
  True

def Pre_MlpGradIdeal (m : (ℓ : Loc Cert.MlpGradIdeal.nD Cert.MlpGradIdeal.τ Cert.MlpGradIdeal.sig) → Buf (Elt Ideal) ℓ) : Prop :=
  True

def Pre_MlpGradReferenceIdeal (m : (ℓ : Loc Cert.MlpGradReferenceIdeal.nD Cert.MlpGradReferenceIdeal.τ Cert.MlpGradReferenceIdeal.sig) → Buf (Elt Ideal) ℓ) : Prop :=
  True

def Pre_MlpInT (m : (ℓ : Loc Cert.MlpInT.nD Cert.MlpInT.τ Cert.MlpInT.sig) → Buf (Elt Bits) ℓ) : Prop :=
  True

def Pre_MlpInTIdeal (m : (ℓ : Loc Cert.MlpInTIdeal.nD Cert.MlpInTIdeal.τ Cert.MlpInTIdeal.sig) → Buf (Elt Ideal) ℓ) : Prop :=
  True

def Pre_MlpInTReferenceIdeal (m : (ℓ : Loc Cert.MlpInTReferenceIdeal.nD Cert.MlpInTReferenceIdeal.τ Cert.MlpInTReferenceIdeal.sig) → Buf (Elt Ideal) ℓ) : Prop :=
  True

def Pre_MlpInW (m : (ℓ : Loc Cert.MlpInW.nD Cert.MlpInW.τ Cert.MlpInW.sig) → Buf (Elt Bits) ℓ) : Prop :=
  True

def Pre_MlpInWIdeal (m : (ℓ : Loc Cert.MlpInWIdeal.nD Cert.MlpInWIdeal.τ Cert.MlpInWIdeal.sig) → Buf (Elt Ideal) ℓ) : Prop :=
  True

def Pre_MlpInWReferenceIdeal (m : (ℓ : Loc Cert.MlpInWReferenceIdeal.nD Cert.MlpInWReferenceIdeal.τ Cert.MlpInWReferenceIdeal.sig) → Buf (Elt Ideal) ℓ) : Prop :=
  True

def Pre_MlpOut (m : (ℓ : Loc Cert.MlpOut.nD Cert.MlpOut.τ Cert.MlpOut.sig) → Buf (Elt Bits) ℓ) : Prop :=
  True

def Pre_MlpOutIdeal (m : (ℓ : Loc Cert.MlpOutIdeal.nD Cert.MlpOutIdeal.τ Cert.MlpOutIdeal.sig) → Buf (Elt Ideal) ℓ) : Prop :=
  True

def Pre_MlpOutReferenceIdeal (m : (ℓ : Loc Cert.MlpOutReferenceIdeal.nD Cert.MlpOutReferenceIdeal.τ Cert.MlpOutReferenceIdeal.sig) → Buf (Elt Ideal) ℓ) : Prop :=
  True

def Pre_MlpOutW (m : (ℓ : Loc Cert.MlpOutW.nD Cert.MlpOutW.τ Cert.MlpOutW.sig) → Buf (Elt Bits) ℓ) : Prop :=
  True

def Pre_MlpOutWIdeal (m : (ℓ : Loc Cert.MlpOutWIdeal.nD Cert.MlpOutWIdeal.τ Cert.MlpOutWIdeal.sig) → Buf (Elt Ideal) ℓ) : Prop :=
  True

def Pre_MlpOutWReferenceIdeal (m : (ℓ : Loc Cert.MlpOutWReferenceIdeal.nD Cert.MlpOutWReferenceIdeal.τ Cert.MlpOutWReferenceIdeal.sig) → Buf (Elt Ideal) ℓ) : Prop :=
  True

def Pre_LastUp (m : (ℓ : Loc Cert.LastUp.nD Cert.LastUp.τ Cert.LastUp.sig) → Buf (Elt Bits) ℓ) : Prop :=
  True

def Pre_LastUpIdeal (m : (ℓ : Loc Cert.LastUpIdeal.nD Cert.LastUpIdeal.τ Cert.LastUpIdeal.sig) → Buf (Elt Ideal) ℓ) : Prop :=
  True

def Pre_LastUpReferenceIdeal (m : (ℓ : Loc Cert.LastUpReferenceIdeal.nD Cert.LastUpReferenceIdeal.τ Cert.LastUpReferenceIdeal.sig) → Buf (Elt Ideal) ℓ) : Prop :=
  True

def Pre_LastGrad (m : (ℓ : Loc Cert.LastGrad.nD Cert.LastGrad.τ Cert.LastGrad.sig) → Buf (Elt Bits) ℓ) : Prop :=
  True

def Pre_LastGradIdeal (m : (ℓ : Loc Cert.LastGradIdeal.nD Cert.LastGradIdeal.τ Cert.LastGradIdeal.sig) → Buf (Elt Ideal) ℓ) : Prop :=
  True

def Pre_LastGradReferenceIdeal (m : (ℓ : Loc Cert.LastGradReferenceIdeal.nD Cert.LastGradReferenceIdeal.τ Cert.LastGradReferenceIdeal.sig) → Buf (Elt Ideal) ℓ) : Prop :=
  True

def Pre_LastInT (m : (ℓ : Loc Cert.LastInT.nD Cert.LastInT.τ Cert.LastInT.sig) → Buf (Elt Bits) ℓ) : Prop :=
  True

def Pre_LastInTIdeal (m : (ℓ : Loc Cert.LastInTIdeal.nD Cert.LastInTIdeal.τ Cert.LastInTIdeal.sig) → Buf (Elt Ideal) ℓ) : Prop :=
  True

def Pre_LastInTReferenceIdeal (m : (ℓ : Loc Cert.LastInTReferenceIdeal.nD Cert.LastInTReferenceIdeal.τ Cert.LastInTReferenceIdeal.sig) → Buf (Elt Ideal) ℓ) : Prop :=
  True

def Pre_LastInW (m : (ℓ : Loc Cert.LastInW.nD Cert.LastInW.τ Cert.LastInW.sig) → Buf (Elt Bits) ℓ) : Prop :=
  True

def Pre_LastInWIdeal (m : (ℓ : Loc Cert.LastInWIdeal.nD Cert.LastInWIdeal.τ Cert.LastInWIdeal.sig) → Buf (Elt Ideal) ℓ) : Prop :=
  True

def Pre_LastInWReferenceIdeal (m : (ℓ : Loc Cert.LastInWReferenceIdeal.nD Cert.LastInWReferenceIdeal.τ Cert.LastInWReferenceIdeal.sig) → Buf (Elt Ideal) ℓ) : Prop :=
  True

def Pre_LastOut (m : (ℓ : Loc Cert.LastOut.nD Cert.LastOut.τ Cert.LastOut.sig) → Buf (Elt Bits) ℓ) : Prop :=
  True

def Pre_LastOutIdeal (m : (ℓ : Loc Cert.LastOutIdeal.nD Cert.LastOutIdeal.τ Cert.LastOutIdeal.sig) → Buf (Elt Ideal) ℓ) : Prop :=
  True

def Pre_LastOutReferenceIdeal (m : (ℓ : Loc Cert.LastOutReferenceIdeal.nD Cert.LastOutReferenceIdeal.τ Cert.LastOutReferenceIdeal.sig) → Buf (Elt Ideal) ℓ) : Prop :=
  True

def Pre_LastOutW (m : (ℓ : Loc Cert.LastOutW.nD Cert.LastOutW.τ Cert.LastOutW.sig) → Buf (Elt Bits) ℓ) : Prop :=
  True

def Pre_LastOutWIdeal (m : (ℓ : Loc Cert.LastOutWIdeal.nD Cert.LastOutWIdeal.τ Cert.LastOutWIdeal.sig) → Buf (Elt Ideal) ℓ) : Prop :=
  True

def Pre_LastOutWReferenceIdeal (m : (ℓ : Loc Cert.LastOutWReferenceIdeal.nD Cert.LastOutWReferenceIdeal.τ Cert.LastOutWReferenceIdeal.sig) → Buf (Elt Ideal) ℓ) : Prop :=
  True

def Pre_EvenIn (m : (ℓ : Loc Cert.EvenIn.nD Cert.EvenIn.τ Cert.EvenIn.sig) → Buf (Elt Bits) ℓ) : Prop :=
  True

def Pre_EvenInIdeal (m : (ℓ : Loc Cert.EvenInIdeal.nD Cert.EvenInIdeal.τ Cert.EvenInIdeal.sig) → Buf (Elt Ideal) ℓ) : Prop :=
  True

def Pre_EvenInReferenceIdeal (m : (ℓ : Loc Cert.EvenInReferenceIdeal.nD Cert.EvenInReferenceIdeal.τ Cert.EvenInReferenceIdeal.sig) → Buf (Elt Ideal) ℓ) : Prop :=
  True

def Pre_EvenInT (m : (ℓ : Loc Cert.EvenInT.nD Cert.EvenInT.τ Cert.EvenInT.sig) → Buf (Elt Bits) ℓ) : Prop :=
  True

def Pre_EvenInTIdeal (m : (ℓ : Loc Cert.EvenInTIdeal.nD Cert.EvenInTIdeal.τ Cert.EvenInTIdeal.sig) → Buf (Elt Ideal) ℓ) : Prop :=
  True

def Pre_EvenInTReferenceIdeal (m : (ℓ : Loc Cert.EvenInTReferenceIdeal.nD Cert.EvenInTReferenceIdeal.τ Cert.EvenInTReferenceIdeal.sig) → Buf (Elt Ideal) ℓ) : Prop :=
  True

def Pre_EvenInW (m : (ℓ : Loc Cert.EvenInW.nD Cert.EvenInW.τ Cert.EvenInW.sig) → Buf (Elt Bits) ℓ) : Prop :=
  True

def Pre_EvenInWIdeal (m : (ℓ : Loc Cert.EvenInWIdeal.nD Cert.EvenInWIdeal.τ Cert.EvenInWIdeal.sig) → Buf (Elt Ideal) ℓ) : Prop :=
  True

def Pre_EvenInWReferenceIdeal (m : (ℓ : Loc Cert.EvenInWReferenceIdeal.nD Cert.EvenInWReferenceIdeal.τ Cert.EvenInWReferenceIdeal.sig) → Buf (Elt Ideal) ℓ) : Prop :=
  True

def Pre_OddIn (m : (ℓ : Loc Cert.OddIn.nD Cert.OddIn.τ Cert.OddIn.sig) → Buf (Elt Bits) ℓ) : Prop :=
  True

def Pre_OddInIdeal (m : (ℓ : Loc Cert.OddInIdeal.nD Cert.OddInIdeal.τ Cert.OddInIdeal.sig) → Buf (Elt Ideal) ℓ) : Prop :=
  True

def Pre_OddInReferenceIdeal (m : (ℓ : Loc Cert.OddInReferenceIdeal.nD Cert.OddInReferenceIdeal.τ Cert.OddInReferenceIdeal.sig) → Buf (Elt Ideal) ℓ) : Prop :=
  True

def Pre_OddInT (m : (ℓ : Loc Cert.OddInT.nD Cert.OddInT.τ Cert.OddInT.sig) → Buf (Elt Bits) ℓ) : Prop :=
  True

def Pre_OddInTIdeal (m : (ℓ : Loc Cert.OddInTIdeal.nD Cert.OddInTIdeal.τ Cert.OddInTIdeal.sig) → Buf (Elt Ideal) ℓ) : Prop :=
  True

def Pre_OddInTReferenceIdeal (m : (ℓ : Loc Cert.OddInTReferenceIdeal.nD Cert.OddInTReferenceIdeal.τ Cert.OddInTReferenceIdeal.sig) → Buf (Elt Ideal) ℓ) : Prop :=
  True

def Pre_OddInW (m : (ℓ : Loc Cert.OddInW.nD Cert.OddInW.τ Cert.OddInW.sig) → Buf (Elt Bits) ℓ) : Prop :=
  True

def Pre_OddInWIdeal (m : (ℓ : Loc Cert.OddInWIdeal.nD Cert.OddInWIdeal.τ Cert.OddInWIdeal.sig) → Buf (Elt Ideal) ℓ) : Prop :=
  True

def Pre_OddInWReferenceIdeal (m : (ℓ : Loc Cert.OddInWReferenceIdeal.nD Cert.OddInWReferenceIdeal.τ Cert.OddInWReferenceIdeal.sig) → Buf (Elt Ideal) ℓ) : Prop :=
  True

def Pre_MlaQ (m : (ℓ : Loc Cert.MlaQ.nD Cert.MlaQ.τ Cert.MlaQ.sig) → Buf (Elt Bits) ℓ) : Prop :=
  True

def Pre_MlaQIdeal (m : (ℓ : Loc Cert.MlaQIdeal.nD Cert.MlaQIdeal.τ Cert.MlaQIdeal.sig) → Buf (Elt Ideal) ℓ) : Prop :=
  True

def Pre_MlaQReferenceIdeal (m : (ℓ : Loc Cert.MlaQReferenceIdeal.nD Cert.MlaQReferenceIdeal.τ Cert.MlaQReferenceIdeal.sig) → Buf (Elt Ideal) ℓ) : Prop :=
  True

def Pre_MlaQT (m : (ℓ : Loc Cert.MlaQT.nD Cert.MlaQT.τ Cert.MlaQT.sig) → Buf (Elt Bits) ℓ) : Prop :=
  True

def Pre_MlaQTIdeal (m : (ℓ : Loc Cert.MlaQTIdeal.nD Cert.MlaQTIdeal.τ Cert.MlaQTIdeal.sig) → Buf (Elt Ideal) ℓ) : Prop :=
  True

def Pre_MlaQTReferenceIdeal (m : (ℓ : Loc Cert.MlaQTReferenceIdeal.nD Cert.MlaQTReferenceIdeal.τ Cert.MlaQTReferenceIdeal.sig) → Buf (Elt Ideal) ℓ) : Prop :=
  True

def Pre_MlaQW (m : (ℓ : Loc Cert.MlaQW.nD Cert.MlaQW.τ Cert.MlaQW.sig) → Buf (Elt Bits) ℓ) : Prop :=
  True

def Pre_MlaQWIdeal (m : (ℓ : Loc Cert.MlaQWIdeal.nD Cert.MlaQWIdeal.τ Cert.MlaQWIdeal.sig) → Buf (Elt Ideal) ℓ) : Prop :=
  True

def Pre_MlaQWReferenceIdeal (m : (ℓ : Loc Cert.MlaQWReferenceIdeal.nD Cert.MlaQWReferenceIdeal.τ Cert.MlaQWReferenceIdeal.sig) → Buf (Elt Ideal) ℓ) : Prop :=
  True

def Pre_MlaKv (m : (ℓ : Loc Cert.MlaKv.nD Cert.MlaKv.τ Cert.MlaKv.sig) → Buf (Elt Bits) ℓ) : Prop :=
  True

def Pre_MlaKvIdeal (m : (ℓ : Loc Cert.MlaKvIdeal.nD Cert.MlaKvIdeal.τ Cert.MlaKvIdeal.sig) → Buf (Elt Ideal) ℓ) : Prop :=
  True

def Pre_MlaKvReferenceIdeal (m : (ℓ : Loc Cert.MlaKvReferenceIdeal.nD Cert.MlaKvReferenceIdeal.τ Cert.MlaKvReferenceIdeal.sig) → Buf (Elt Ideal) ℓ) : Prop :=
  True

def Pre_MlaKvT (m : (ℓ : Loc Cert.MlaKvT.nD Cert.MlaKvT.τ Cert.MlaKvT.sig) → Buf (Elt Bits) ℓ) : Prop :=
  True

def Pre_MlaKvTIdeal (m : (ℓ : Loc Cert.MlaKvTIdeal.nD Cert.MlaKvTIdeal.τ Cert.MlaKvTIdeal.sig) → Buf (Elt Ideal) ℓ) : Prop :=
  True

def Pre_MlaKvTReferenceIdeal (m : (ℓ : Loc Cert.MlaKvTReferenceIdeal.nD Cert.MlaKvTReferenceIdeal.τ Cert.MlaKvTReferenceIdeal.sig) → Buf (Elt Ideal) ℓ) : Prop :=
  True

def Pre_MlaKvW (m : (ℓ : Loc Cert.MlaKvW.nD Cert.MlaKvW.τ Cert.MlaKvW.sig) → Buf (Elt Bits) ℓ) : Prop :=
  True

def Pre_MlaKvWIdeal (m : (ℓ : Loc Cert.MlaKvWIdeal.nD Cert.MlaKvWIdeal.τ Cert.MlaKvWIdeal.sig) → Buf (Elt Ideal) ℓ) : Prop :=
  True

def Pre_MlaKvWReferenceIdeal (m : (ℓ : Loc Cert.MlaKvWReferenceIdeal.nD Cert.MlaKvWReferenceIdeal.τ Cert.MlaKvWReferenceIdeal.sig) → Buf (Elt Ideal) ℓ) : Prop :=
  True

def Pre_Mix (m : (ℓ : Loc Cert.Mix.nD Cert.Mix.τ Cert.Mix.sig) → Buf (Elt Bits) ℓ) : Prop :=
  True

def Pre_MixIdeal (m : (ℓ : Loc Cert.MixIdeal.nD Cert.MixIdeal.τ Cert.MixIdeal.sig) → Buf (Elt Ideal) ℓ) : Prop :=
  True

def Pre_MixReferenceIdeal (m : (ℓ : Loc Cert.MixReferenceIdeal.nD Cert.MixReferenceIdeal.τ Cert.MixReferenceIdeal.sig) → Buf (Elt Ideal) ℓ) : Prop :=
  True

def Pre_MixT (m : (ℓ : Loc Cert.MixT.nD Cert.MixT.τ Cert.MixT.sig) → Buf (Elt Bits) ℓ) : Prop :=
  True

def Pre_MixTIdeal (m : (ℓ : Loc Cert.MixTIdeal.nD Cert.MixTIdeal.τ Cert.MixTIdeal.sig) → Buf (Elt Ideal) ℓ) : Prop :=
  True

def Pre_MixTReferenceIdeal (m : (ℓ : Loc Cert.MixTReferenceIdeal.nD Cert.MixTReferenceIdeal.τ Cert.MixTReferenceIdeal.sig) → Buf (Elt Ideal) ℓ) : Prop :=
  True

def Pre_MixW (m : (ℓ : Loc Cert.MixW.nD Cert.MixW.τ Cert.MixW.sig) → Buf (Elt Bits) ℓ) : Prop :=
  True

def Pre_MixWIdeal (m : (ℓ : Loc Cert.MixWIdeal.nD Cert.MixWIdeal.τ Cert.MixWIdeal.sig) → Buf (Elt Ideal) ℓ) : Prop :=
  True

def Pre_MixWReferenceIdeal (m : (ℓ : Loc Cert.MixWReferenceIdeal.nD Cert.MixWReferenceIdeal.τ Cert.MixWReferenceIdeal.sig) → Buf (Elt Ideal) ℓ) : Prop :=
  True

def Pre_LastMix (m : (ℓ : Loc Cert.LastMix.nD Cert.LastMix.τ Cert.LastMix.sig) → Buf (Elt Bits) ℓ) : Prop :=
  True

def Pre_LastMixIdeal (m : (ℓ : Loc Cert.LastMixIdeal.nD Cert.LastMixIdeal.τ Cert.LastMixIdeal.sig) → Buf (Elt Ideal) ℓ) : Prop :=
  True

def Pre_LastMixReferenceIdeal (m : (ℓ : Loc Cert.LastMixReferenceIdeal.nD Cert.LastMixReferenceIdeal.τ Cert.LastMixReferenceIdeal.sig) → Buf (Elt Ideal) ℓ) : Prop :=
  True

def Pre_LastMixT (m : (ℓ : Loc Cert.LastMixT.nD Cert.LastMixT.τ Cert.LastMixT.sig) → Buf (Elt Bits) ℓ) : Prop :=
  True

def Pre_LastMixTIdeal (m : (ℓ : Loc Cert.LastMixTIdeal.nD Cert.LastMixTIdeal.τ Cert.LastMixTIdeal.sig) → Buf (Elt Ideal) ℓ) : Prop :=
  True

def Pre_LastMixTReferenceIdeal (m : (ℓ : Loc Cert.LastMixTReferenceIdeal.nD Cert.LastMixTReferenceIdeal.τ Cert.LastMixTReferenceIdeal.sig) → Buf (Elt Ideal) ℓ) : Prop :=
  True

def Pre_LastMixW (m : (ℓ : Loc Cert.LastMixW.nD Cert.LastMixW.τ Cert.LastMixW.sig) → Buf (Elt Bits) ℓ) : Prop :=
  True

def Pre_LastMixWIdeal (m : (ℓ : Loc Cert.LastMixWIdeal.nD Cert.LastMixWIdeal.τ Cert.LastMixWIdeal.sig) → Buf (Elt Ideal) ℓ) : Prop :=
  True

def Pre_LastMixWReferenceIdeal (m : (ℓ : Loc Cert.LastMixWReferenceIdeal.nD Cert.LastMixWReferenceIdeal.τ Cert.LastMixWReferenceIdeal.sig) → Buf (Elt Ideal) ℓ) : Prop :=
  True

def Pre_Glu (m : (ℓ : Loc Cert.Glu.nD Cert.Glu.τ Cert.Glu.sig) → Buf (Elt Bits) ℓ) : Prop :=
  True

def Pre_GluIdeal (m : (ℓ : Loc Cert.GluIdeal.nD Cert.GluIdeal.τ Cert.GluIdeal.sig) → Buf (Elt Ideal) ℓ) : Prop :=
  True

def Pre_GluReferenceIdeal (m : (ℓ : Loc Cert.GluReferenceIdeal.nD Cert.GluReferenceIdeal.τ Cert.GluReferenceIdeal.sig) → Buf (Elt Ideal) ℓ) : Prop :=
  True

def Pre_GluT (m : (ℓ : Loc Cert.GluT.nD Cert.GluT.τ Cert.GluT.sig) → Buf (Elt Bits) ℓ) : Prop :=
  True

def Pre_GluTIdeal (m : (ℓ : Loc Cert.GluTIdeal.nD Cert.GluTIdeal.τ Cert.GluTIdeal.sig) → Buf (Elt Ideal) ℓ) : Prop :=
  True

def Pre_GluTReferenceIdeal (m : (ℓ : Loc Cert.GluTReferenceIdeal.nD Cert.GluTReferenceIdeal.τ Cert.GluTReferenceIdeal.sig) → Buf (Elt Ideal) ℓ) : Prop :=
  True

def Pre_GluW (m : (ℓ : Loc Cert.GluW.nD Cert.GluW.τ Cert.GluW.sig) → Buf (Elt Bits) ℓ) : Prop :=
  True

def Pre_GluWIdeal (m : (ℓ : Loc Cert.GluWIdeal.nD Cert.GluWIdeal.τ Cert.GluWIdeal.sig) → Buf (Elt Ideal) ℓ) : Prop :=
  True

def Pre_GluWReferenceIdeal (m : (ℓ : Loc Cert.GluWReferenceIdeal.nD Cert.GluWReferenceIdeal.τ Cert.GluWReferenceIdeal.sig) → Buf (Elt Ideal) ℓ) : Prop :=
  True

def Pre_GluCtx (m : (ℓ : Loc Cert.GluCtx.nD Cert.GluCtx.τ Cert.GluCtx.sig) → Buf (Elt Bits) ℓ) : Prop :=
  True

def Pre_GluCtxIdeal (m : (ℓ : Loc Cert.GluCtxIdeal.nD Cert.GluCtxIdeal.τ Cert.GluCtxIdeal.sig) → Buf (Elt Ideal) ℓ) : Prop :=
  True

def Pre_GluCtxReferenceIdeal (m : (ℓ : Loc Cert.GluCtxReferenceIdeal.nD Cert.GluCtxReferenceIdeal.τ Cert.GluCtxReferenceIdeal.sig) → Buf (Elt Ideal) ℓ) : Prop :=
  True

def Pre_GluCtxT (m : (ℓ : Loc Cert.GluCtxT.nD Cert.GluCtxT.τ Cert.GluCtxT.sig) → Buf (Elt Bits) ℓ) : Prop :=
  True

def Pre_GluCtxTIdeal (m : (ℓ : Loc Cert.GluCtxTIdeal.nD Cert.GluCtxTIdeal.τ Cert.GluCtxTIdeal.sig) → Buf (Elt Ideal) ℓ) : Prop :=
  True

def Pre_GluCtxTReferenceIdeal (m : (ℓ : Loc Cert.GluCtxTReferenceIdeal.nD Cert.GluCtxTReferenceIdeal.τ Cert.GluCtxTReferenceIdeal.sig) → Buf (Elt Ideal) ℓ) : Prop :=
  True

def Pre_GluCtxW (m : (ℓ : Loc Cert.GluCtxW.nD Cert.GluCtxW.τ Cert.GluCtxW.sig) → Buf (Elt Bits) ℓ) : Prop :=
  True

def Pre_GluCtxWIdeal (m : (ℓ : Loc Cert.GluCtxWIdeal.nD Cert.GluCtxWIdeal.τ Cert.GluCtxWIdeal.sig) → Buf (Elt Ideal) ℓ) : Prop :=
  True

def Pre_GluCtxWReferenceIdeal (m : (ℓ : Loc Cert.GluCtxWReferenceIdeal.nD Cert.GluCtxWReferenceIdeal.τ Cert.GluCtxWReferenceIdeal.sig) → Buf (Elt Ideal) ℓ) : Prop :=
  True

def Pre_AdamUp (m : (ℓ : Loc Cert.AdamUp.nD Cert.AdamUp.τ Cert.AdamUp.sig) → Buf (Elt Bits) ℓ) : Prop :=
  True

def Pre_AdamUpIdeal (m : (ℓ : Loc Cert.AdamUpIdeal.nD Cert.AdamUpIdeal.τ Cert.AdamUpIdeal.sig) → Buf (Elt Ideal) ℓ) : Prop :=
  True

def Pre_AdamUpReferenceIdeal (m : (ℓ : Loc Cert.AdamUpReferenceIdeal.nD Cert.AdamUpReferenceIdeal.τ Cert.AdamUpReferenceIdeal.sig) → Buf (Elt Ideal) ℓ) : Prop :=
  True

def Pre_AdamDown (m : (ℓ : Loc Cert.AdamDown.nD Cert.AdamDown.τ Cert.AdamDown.sig) → Buf (Elt Bits) ℓ) : Prop :=
  True

def Pre_AdamDownIdeal (m : (ℓ : Loc Cert.AdamDownIdeal.nD Cert.AdamDownIdeal.τ Cert.AdamDownIdeal.sig) → Buf (Elt Ideal) ℓ) : Prop :=
  True

def Pre_AdamDownReferenceIdeal (m : (ℓ : Loc Cert.AdamDownReferenceIdeal.nD Cert.AdamDownReferenceIdeal.τ Cert.AdamDownReferenceIdeal.sig) → Buf (Elt Ideal) ℓ) : Prop :=
  True

def Pre_AdamEvenIn (m : (ℓ : Loc Cert.AdamEvenIn.nD Cert.AdamEvenIn.τ Cert.AdamEvenIn.sig) → Buf (Elt Bits) ℓ) : Prop :=
  True

def Pre_AdamEvenInIdeal (m : (ℓ : Loc Cert.AdamEvenInIdeal.nD Cert.AdamEvenInIdeal.τ Cert.AdamEvenInIdeal.sig) → Buf (Elt Ideal) ℓ) : Prop :=
  True

def Pre_AdamEvenInReferenceIdeal (m : (ℓ : Loc Cert.AdamEvenInReferenceIdeal.nD Cert.AdamEvenInReferenceIdeal.τ Cert.AdamEvenInReferenceIdeal.sig) → Buf (Elt Ideal) ℓ) : Prop :=
  True

def Pre_AdamMix (m : (ℓ : Loc Cert.AdamMix.nD Cert.AdamMix.τ Cert.AdamMix.sig) → Buf (Elt Bits) ℓ) : Prop :=
  True

def Pre_AdamMixIdeal (m : (ℓ : Loc Cert.AdamMixIdeal.nD Cert.AdamMixIdeal.τ Cert.AdamMixIdeal.sig) → Buf (Elt Ideal) ℓ) : Prop :=
  True

def Pre_AdamMixReferenceIdeal (m : (ℓ : Loc Cert.AdamMixReferenceIdeal.nD Cert.AdamMixReferenceIdeal.τ Cert.AdamMixReferenceIdeal.sig) → Buf (Elt Ideal) ℓ) : Prop :=
  True

def Pre_AdamOddIn (m : (ℓ : Loc Cert.AdamOddIn.nD Cert.AdamOddIn.τ Cert.AdamOddIn.sig) → Buf (Elt Bits) ℓ) : Prop :=
  True

def Pre_AdamOddInIdeal (m : (ℓ : Loc Cert.AdamOddInIdeal.nD Cert.AdamOddInIdeal.τ Cert.AdamOddInIdeal.sig) → Buf (Elt Ideal) ℓ) : Prop :=
  True

def Pre_AdamOddInReferenceIdeal (m : (ℓ : Loc Cert.AdamOddInReferenceIdeal.nD Cert.AdamOddInReferenceIdeal.τ Cert.AdamOddInReferenceIdeal.sig) → Buf (Elt Ideal) ℓ) : Prop :=
  True

def Pre_AdamQ (m : (ℓ : Loc Cert.AdamQ.nD Cert.AdamQ.τ Cert.AdamQ.sig) → Buf (Elt Bits) ℓ) : Prop :=
  True

def Pre_AdamQIdeal (m : (ℓ : Loc Cert.AdamQIdeal.nD Cert.AdamQIdeal.τ Cert.AdamQIdeal.sig) → Buf (Elt Ideal) ℓ) : Prop :=
  True

def Pre_AdamQReferenceIdeal (m : (ℓ : Loc Cert.AdamQReferenceIdeal.nD Cert.AdamQReferenceIdeal.τ Cert.AdamQReferenceIdeal.sig) → Buf (Elt Ideal) ℓ) : Prop :=
  True

def Pre_AdamKv (m : (ℓ : Loc Cert.AdamKv.nD Cert.AdamKv.τ Cert.AdamKv.sig) → Buf (Elt Bits) ℓ) : Prop :=
  True

def Pre_AdamKvIdeal (m : (ℓ : Loc Cert.AdamKvIdeal.nD Cert.AdamKvIdeal.τ Cert.AdamKvIdeal.sig) → Buf (Elt Ideal) ℓ) : Prop :=
  True

def Pre_AdamKvReferenceIdeal (m : (ℓ : Loc Cert.AdamKvReferenceIdeal.nD Cert.AdamKvReferenceIdeal.τ Cert.AdamKvReferenceIdeal.sig) → Buf (Elt Ideal) ℓ) : Prop :=
  True

def Pre_AdamGlu (m : (ℓ : Loc Cert.AdamGlu.nD Cert.AdamGlu.τ Cert.AdamGlu.sig) → Buf (Elt Bits) ℓ) : Prop :=
  True

def Pre_AdamGluIdeal (m : (ℓ : Loc Cert.AdamGluIdeal.nD Cert.AdamGluIdeal.τ Cert.AdamGluIdeal.sig) → Buf (Elt Ideal) ℓ) : Prop :=
  True

def Pre_AdamGluReferenceIdeal (m : (ℓ : Loc Cert.AdamGluReferenceIdeal.nD Cert.AdamGluReferenceIdeal.τ Cert.AdamGluReferenceIdeal.sig) → Buf (Elt Ideal) ℓ) : Prop :=
  True

def Pre_AdamMod (m : (ℓ : Loc Cert.AdamMod.nD Cert.AdamMod.τ Cert.AdamMod.sig) → Buf (Elt Bits) ℓ) : Prop :=
  True

def Pre_AdamModIdeal (m : (ℓ : Loc Cert.AdamModIdeal.nD Cert.AdamModIdeal.τ Cert.AdamModIdeal.sig) → Buf (Elt Ideal) ℓ) : Prop :=
  True

def Pre_AdamModReferenceIdeal (m : (ℓ : Loc Cert.AdamModReferenceIdeal.nD Cert.AdamModReferenceIdeal.τ Cert.AdamModReferenceIdeal.sig) → Buf (Elt Ideal) ℓ) : Prop :=
  True

def Pre_SumSmall (m : (ℓ : Loc Cert.SumSmall.nD Cert.SumSmall.τ Cert.SumSmall.sig) → Buf (Elt Bits) ℓ) : Prop :=
  True

def Pre_SumSmallIdeal (m : (ℓ : Loc Cert.SumSmallIdeal.nD Cert.SumSmallIdeal.τ Cert.SumSmallIdeal.sig) → Buf (Elt Ideal) ℓ) : Prop :=
  True

def Pre_SumSmallReferenceIdeal (m : (ℓ : Loc Cert.SumSmallReferenceIdeal.nD Cert.SumSmallReferenceIdeal.τ Cert.SumSmallReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_Dense [hDense : Cert.Dense.Facts] : Prop :=
  ∀ (m : (ℓ : Loc Cert.Dense.nD Cert.Dense.τ Cert.Dense.sig) → Buf (Elt Bits) ℓ) (g : Dev Cert.Dense.nD → PrngReg), Pre_Dense m →
    θ_run (Cert.Dense.defs (F := Bits)) (onTc (τ := Cert.Dense.τ) (Cert.Dense.main (F := Bits))) ⟨m, fun _ => 0, g⟩ (fun r => (∀ c : Dev Cert.Dense.nD,
      r.2.mem ((c.tc : Thread Cert.Dense.nD Cert.Dense.τ).loc Cert.Dense.main_arg0) = m ((c.tc : Thread Cert.Dense.nD Cert.Dense.τ).loc Cert.Dense.main_arg0)
      ∧ r.2.mem ((c.tc : Thread Cert.Dense.nD Cert.Dense.τ).loc Cert.Dense.main_arg1) = m ((c.tc : Thread Cert.Dense.nD Cert.Dense.τ).loc Cert.Dense.main_arg1)
      ∧ r.2.mem ((c.tc : Thread Cert.Dense.nD Cert.Dense.τ).loc Cert.Dense.main_arg2) = m ((c.tc : Thread Cert.Dense.nD Cert.Dense.τ).loc Cert.Dense.main_arg2))
      ∧ r.2.sem = fun _ => 0)

def quiescent_DenseIdeal [hDenseIdeal : Cert.DenseIdeal.Facts] : Prop :=
  ∀ (m : (ℓ : Loc Cert.DenseIdeal.nD Cert.DenseIdeal.τ Cert.DenseIdeal.sig) → Buf (Elt Ideal) ℓ) (g : Dev Cert.DenseIdeal.nD → PrngReg), Pre_DenseIdeal m →
    θ_run (Cert.DenseIdeal.defs (F := Ideal)) (onTc (τ := Cert.DenseIdeal.τ) (Cert.DenseIdeal.main (F := Ideal))) ⟨m, fun _ => 0, g⟩ (fun r => (∀ c : Dev Cert.DenseIdeal.nD,
      r.2.mem ((c.tc : Thread Cert.DenseIdeal.nD Cert.DenseIdeal.τ).loc Cert.DenseIdeal.main_arg0) = m ((c.tc : Thread Cert.DenseIdeal.nD Cert.DenseIdeal.τ).loc Cert.DenseIdeal.main_arg0)
      ∧ r.2.mem ((c.tc : Thread Cert.DenseIdeal.nD Cert.DenseIdeal.τ).loc Cert.DenseIdeal.main_arg1) = m ((c.tc : Thread Cert.DenseIdeal.nD Cert.DenseIdeal.τ).loc Cert.DenseIdeal.main_arg1)
      ∧ r.2.mem ((c.tc : Thread Cert.DenseIdeal.nD Cert.DenseIdeal.τ).loc Cert.DenseIdeal.main_arg2) = m ((c.tc : Thread Cert.DenseIdeal.nD Cert.DenseIdeal.τ).loc Cert.DenseIdeal.main_arg2))
      ∧ r.2.sem = fun _ => 0)

def quiescent_DenseIdeal_pre_finite_forward [hDenseIdeal : Cert.DenseIdeal.Facts] [hPre_finite_forward : Cert.Pre_finite_forward.Facts] : Prop :=
  ∀ (m : (ℓ : Loc Cert.DenseIdeal.nD Cert.DenseIdeal.τ Cert.DenseIdeal.sig) → Buf (Elt Ideal) ℓ) (g : Dev Cert.DenseIdeal.nD → PrngReg), Pre_DenseIdeal_finite_forward m →
    θ_run (Cert.DenseIdeal.defs (F := Ideal)) (onTc (τ := Cert.DenseIdeal.τ) (Cert.DenseIdeal.main (F := Ideal))) ⟨m, fun _ => 0, g⟩ (fun r => (∀ c : Dev Cert.DenseIdeal.nD,
      r.2.mem ((c.tc : Thread Cert.DenseIdeal.nD Cert.DenseIdeal.τ).loc Cert.DenseIdeal.main_arg0) = m ((c.tc : Thread Cert.DenseIdeal.nD Cert.DenseIdeal.τ).loc Cert.DenseIdeal.main_arg0)
      ∧ r.2.mem ((c.tc : Thread Cert.DenseIdeal.nD Cert.DenseIdeal.τ).loc Cert.DenseIdeal.main_arg1) = m ((c.tc : Thread Cert.DenseIdeal.nD Cert.DenseIdeal.τ).loc Cert.DenseIdeal.main_arg1)
      ∧ r.2.mem ((c.tc : Thread Cert.DenseIdeal.nD Cert.DenseIdeal.τ).loc Cert.DenseIdeal.main_arg2) = m ((c.tc : Thread Cert.DenseIdeal.nD Cert.DenseIdeal.τ).loc Cert.DenseIdeal.main_arg2))
      ∧ r.2.sem = fun _ => 0)

def quiescent_DenseReferenceIdeal [hDenseReferenceIdeal : Cert.DenseReferenceIdeal.Facts] : Prop :=
  ∀ (m : (ℓ : Loc Cert.DenseReferenceIdeal.nD Cert.DenseReferenceIdeal.τ Cert.DenseReferenceIdeal.sig) → Buf (Elt Ideal) ℓ) (g : Dev Cert.DenseReferenceIdeal.nD → PrngReg), Pre_DenseReferenceIdeal m →
    θ_run (Cert.DenseReferenceIdeal.defs (F := Ideal)) (onTc (τ := Cert.DenseReferenceIdeal.τ) (Cert.DenseReferenceIdeal.main (F := Ideal))) ⟨m, fun _ => 0, g⟩ (fun r => (∀ c : Dev Cert.DenseReferenceIdeal.nD,
      r.2.mem ((c.tc : Thread Cert.DenseReferenceIdeal.nD Cert.DenseReferenceIdeal.τ).loc Cert.DenseReferenceIdeal.main_arg0) = m ((c.tc : Thread Cert.DenseReferenceIdeal.nD Cert.DenseReferenceIdeal.τ).loc Cert.DenseReferenceIdeal.main_arg0)
      ∧ r.2.mem ((c.tc : Thread Cert.DenseReferenceIdeal.nD Cert.DenseReferenceIdeal.τ).loc Cert.DenseReferenceIdeal.main_arg1) = m ((c.tc : Thread Cert.DenseReferenceIdeal.nD Cert.DenseReferenceIdeal.τ).loc Cert.DenseReferenceIdeal.main_arg1)
      ∧ r.2.mem ((c.tc : Thread Cert.DenseReferenceIdeal.nD Cert.DenseReferenceIdeal.τ).loc Cert.DenseReferenceIdeal.main_arg2) = m ((c.tc : Thread Cert.DenseReferenceIdeal.nD Cert.DenseReferenceIdeal.τ).loc Cert.DenseReferenceIdeal.main_arg2))
      ∧ r.2.sem = fun _ => 0)

def quiescent_DenseReferenceIdeal_pre_finite_forward [hDenseReferenceIdeal : Cert.DenseReferenceIdeal.Facts] [hPre_finite_forward : Cert.Pre_finite_forward.Facts] : Prop :=
  ∀ (m : (ℓ : Loc Cert.DenseReferenceIdeal.nD Cert.DenseReferenceIdeal.τ Cert.DenseReferenceIdeal.sig) → Buf (Elt Ideal) ℓ) (g : Dev Cert.DenseReferenceIdeal.nD → PrngReg), Pre_DenseReferenceIdeal_finite_forward m →
    θ_run (Cert.DenseReferenceIdeal.defs (F := Ideal)) (onTc (τ := Cert.DenseReferenceIdeal.τ) (Cert.DenseReferenceIdeal.main (F := Ideal))) ⟨m, fun _ => 0, g⟩ (fun r => (∀ c : Dev Cert.DenseReferenceIdeal.nD,
      r.2.mem ((c.tc : Thread Cert.DenseReferenceIdeal.nD Cert.DenseReferenceIdeal.τ).loc Cert.DenseReferenceIdeal.main_arg0) = m ((c.tc : Thread Cert.DenseReferenceIdeal.nD Cert.DenseReferenceIdeal.τ).loc Cert.DenseReferenceIdeal.main_arg0)
      ∧ r.2.mem ((c.tc : Thread Cert.DenseReferenceIdeal.nD Cert.DenseReferenceIdeal.τ).loc Cert.DenseReferenceIdeal.main_arg1) = m ((c.tc : Thread Cert.DenseReferenceIdeal.nD Cert.DenseReferenceIdeal.τ).loc Cert.DenseReferenceIdeal.main_arg1)
      ∧ r.2.mem ((c.tc : Thread Cert.DenseReferenceIdeal.nD Cert.DenseReferenceIdeal.τ).loc Cert.DenseReferenceIdeal.main_arg2) = m ((c.tc : Thread Cert.DenseReferenceIdeal.nD Cert.DenseReferenceIdeal.τ).loc Cert.DenseReferenceIdeal.main_arg2))
      ∧ r.2.sem = fun _ => 0)

def quiescent_Mla [hMla : Cert.Mla.Facts] : Prop :=
  ∀ (m : (ℓ : Loc Cert.Mla.nD Cert.Mla.τ Cert.Mla.sig) → Buf (Elt Bits) ℓ) (g : Dev Cert.Mla.nD → PrngReg), Pre_Mla m →
    θ_run (Cert.Mla.defs (F := Bits)) (onTc (τ := Cert.Mla.τ) (Cert.Mla.main (F := Bits))) ⟨m, fun _ => 0, g⟩ (fun r => (∀ c : Dev Cert.Mla.nD,
      r.2.mem ((c.tc : Thread Cert.Mla.nD Cert.Mla.τ).loc Cert.Mla.main_arg0) = m ((c.tc : Thread Cert.Mla.nD Cert.Mla.τ).loc Cert.Mla.main_arg0)
      ∧ r.2.mem ((c.tc : Thread Cert.Mla.nD Cert.Mla.τ).loc Cert.Mla.main_arg1) = m ((c.tc : Thread Cert.Mla.nD Cert.Mla.τ).loc Cert.Mla.main_arg1)
      ∧ r.2.mem ((c.tc : Thread Cert.Mla.nD Cert.Mla.τ).loc Cert.Mla.main_arg2) = m ((c.tc : Thread Cert.Mla.nD Cert.Mla.τ).loc Cert.Mla.main_arg2))
      ∧ r.2.sem = fun _ => 0)

def quiescent_MlaIdeal [hMlaIdeal : Cert.MlaIdeal.Facts] : Prop :=
  ∀ (m : (ℓ : Loc Cert.MlaIdeal.nD Cert.MlaIdeal.τ Cert.MlaIdeal.sig) → Buf (Elt Ideal) ℓ) (g : Dev Cert.MlaIdeal.nD → PrngReg), Pre_MlaIdeal m →
    θ_run (Cert.MlaIdeal.defs (F := Ideal)) (onTc (τ := Cert.MlaIdeal.τ) (Cert.MlaIdeal.main (F := Ideal))) ⟨m, fun _ => 0, g⟩ (fun r => (∀ c : Dev Cert.MlaIdeal.nD,
      r.2.mem ((c.tc : Thread Cert.MlaIdeal.nD Cert.MlaIdeal.τ).loc Cert.MlaIdeal.main_arg0) = m ((c.tc : Thread Cert.MlaIdeal.nD Cert.MlaIdeal.τ).loc Cert.MlaIdeal.main_arg0)
      ∧ r.2.mem ((c.tc : Thread Cert.MlaIdeal.nD Cert.MlaIdeal.τ).loc Cert.MlaIdeal.main_arg1) = m ((c.tc : Thread Cert.MlaIdeal.nD Cert.MlaIdeal.τ).loc Cert.MlaIdeal.main_arg1)
      ∧ r.2.mem ((c.tc : Thread Cert.MlaIdeal.nD Cert.MlaIdeal.τ).loc Cert.MlaIdeal.main_arg2) = m ((c.tc : Thread Cert.MlaIdeal.nD Cert.MlaIdeal.τ).loc Cert.MlaIdeal.main_arg2))
      ∧ r.2.sem = fun _ => 0)

def quiescent_MlaIdeal_pre_finite_mla_forward [hMlaIdeal : Cert.MlaIdeal.Facts] [hPre_finite_mla_forward : Cert.Pre_finite_mla_forward.Facts] : Prop :=
  ∀ (m : (ℓ : Loc Cert.MlaIdeal.nD Cert.MlaIdeal.τ Cert.MlaIdeal.sig) → Buf (Elt Ideal) ℓ) (g : Dev Cert.MlaIdeal.nD → PrngReg), Pre_MlaIdeal_finite_mla_forward m →
    θ_run (Cert.MlaIdeal.defs (F := Ideal)) (onTc (τ := Cert.MlaIdeal.τ) (Cert.MlaIdeal.main (F := Ideal))) ⟨m, fun _ => 0, g⟩ (fun r => (∀ c : Dev Cert.MlaIdeal.nD,
      r.2.mem ((c.tc : Thread Cert.MlaIdeal.nD Cert.MlaIdeal.τ).loc Cert.MlaIdeal.main_arg0) = m ((c.tc : Thread Cert.MlaIdeal.nD Cert.MlaIdeal.τ).loc Cert.MlaIdeal.main_arg0)
      ∧ r.2.mem ((c.tc : Thread Cert.MlaIdeal.nD Cert.MlaIdeal.τ).loc Cert.MlaIdeal.main_arg1) = m ((c.tc : Thread Cert.MlaIdeal.nD Cert.MlaIdeal.τ).loc Cert.MlaIdeal.main_arg1)
      ∧ r.2.mem ((c.tc : Thread Cert.MlaIdeal.nD Cert.MlaIdeal.τ).loc Cert.MlaIdeal.main_arg2) = m ((c.tc : Thread Cert.MlaIdeal.nD Cert.MlaIdeal.τ).loc Cert.MlaIdeal.main_arg2))
      ∧ r.2.sem = fun _ => 0)

def quiescent_MlaReferenceIdeal [hMlaReferenceIdeal : Cert.MlaReferenceIdeal.Facts] : Prop :=
  ∀ (m : (ℓ : Loc Cert.MlaReferenceIdeal.nD Cert.MlaReferenceIdeal.τ Cert.MlaReferenceIdeal.sig) → Buf (Elt Ideal) ℓ) (g : Dev Cert.MlaReferenceIdeal.nD → PrngReg), Pre_MlaReferenceIdeal m →
    θ_run (Cert.MlaReferenceIdeal.defs (F := Ideal)) (onTc (τ := Cert.MlaReferenceIdeal.τ) (Cert.MlaReferenceIdeal.main (F := Ideal))) ⟨m, fun _ => 0, g⟩ (fun r => (∀ c : Dev Cert.MlaReferenceIdeal.nD,
      r.2.mem ((c.tc : Thread Cert.MlaReferenceIdeal.nD Cert.MlaReferenceIdeal.τ).loc Cert.MlaReferenceIdeal.main_arg0) = m ((c.tc : Thread Cert.MlaReferenceIdeal.nD Cert.MlaReferenceIdeal.τ).loc Cert.MlaReferenceIdeal.main_arg0)
      ∧ r.2.mem ((c.tc : Thread Cert.MlaReferenceIdeal.nD Cert.MlaReferenceIdeal.τ).loc Cert.MlaReferenceIdeal.main_arg1) = m ((c.tc : Thread Cert.MlaReferenceIdeal.nD Cert.MlaReferenceIdeal.τ).loc Cert.MlaReferenceIdeal.main_arg1)
      ∧ r.2.mem ((c.tc : Thread Cert.MlaReferenceIdeal.nD Cert.MlaReferenceIdeal.τ).loc Cert.MlaReferenceIdeal.main_arg2) = m ((c.tc : Thread Cert.MlaReferenceIdeal.nD Cert.MlaReferenceIdeal.τ).loc Cert.MlaReferenceIdeal.main_arg2))
      ∧ r.2.sem = fun _ => 0)

def quiescent_MlaReferenceIdeal_pre_finite_mla_forward [hMlaReferenceIdeal : Cert.MlaReferenceIdeal.Facts] [hPre_finite_mla_forward : Cert.Pre_finite_mla_forward.Facts] : Prop :=
  ∀ (m : (ℓ : Loc Cert.MlaReferenceIdeal.nD Cert.MlaReferenceIdeal.τ Cert.MlaReferenceIdeal.sig) → Buf (Elt Ideal) ℓ) (g : Dev Cert.MlaReferenceIdeal.nD → PrngReg), Pre_MlaReferenceIdeal_finite_mla_forward m →
    θ_run (Cert.MlaReferenceIdeal.defs (F := Ideal)) (onTc (τ := Cert.MlaReferenceIdeal.τ) (Cert.MlaReferenceIdeal.main (F := Ideal))) ⟨m, fun _ => 0, g⟩ (fun r => (∀ c : Dev Cert.MlaReferenceIdeal.nD,
      r.2.mem ((c.tc : Thread Cert.MlaReferenceIdeal.nD Cert.MlaReferenceIdeal.τ).loc Cert.MlaReferenceIdeal.main_arg0) = m ((c.tc : Thread Cert.MlaReferenceIdeal.nD Cert.MlaReferenceIdeal.τ).loc Cert.MlaReferenceIdeal.main_arg0)
      ∧ r.2.mem ((c.tc : Thread Cert.MlaReferenceIdeal.nD Cert.MlaReferenceIdeal.τ).loc Cert.MlaReferenceIdeal.main_arg1) = m ((c.tc : Thread Cert.MlaReferenceIdeal.nD Cert.MlaReferenceIdeal.τ).loc Cert.MlaReferenceIdeal.main_arg1)
      ∧ r.2.mem ((c.tc : Thread Cert.MlaReferenceIdeal.nD Cert.MlaReferenceIdeal.τ).loc Cert.MlaReferenceIdeal.main_arg2) = m ((c.tc : Thread Cert.MlaReferenceIdeal.nD Cert.MlaReferenceIdeal.τ).loc Cert.MlaReferenceIdeal.main_arg2))
      ∧ r.2.sem = fun _ => 0)

def quiescent_MlaGrad [hMlaGrad : Cert.MlaGrad.Facts] : Prop :=
  ∀ (m : (ℓ : Loc Cert.MlaGrad.nD Cert.MlaGrad.τ Cert.MlaGrad.sig) → Buf (Elt Bits) ℓ) (g : Dev Cert.MlaGrad.nD → PrngReg), Pre_MlaGrad m →
    θ_run (Cert.MlaGrad.defs (F := Bits)) (onTc (τ := Cert.MlaGrad.τ) (Cert.MlaGrad.main (F := Bits))) ⟨m, fun _ => 0, g⟩ (fun r => (∀ c : Dev Cert.MlaGrad.nD,
      r.2.mem ((c.tc : Thread Cert.MlaGrad.nD Cert.MlaGrad.τ).loc Cert.MlaGrad.main_arg0) = m ((c.tc : Thread Cert.MlaGrad.nD Cert.MlaGrad.τ).loc Cert.MlaGrad.main_arg0)
      ∧ r.2.mem ((c.tc : Thread Cert.MlaGrad.nD Cert.MlaGrad.τ).loc Cert.MlaGrad.main_arg1) = m ((c.tc : Thread Cert.MlaGrad.nD Cert.MlaGrad.τ).loc Cert.MlaGrad.main_arg1)
      ∧ r.2.mem ((c.tc : Thread Cert.MlaGrad.nD Cert.MlaGrad.τ).loc Cert.MlaGrad.main_arg2) = m ((c.tc : Thread Cert.MlaGrad.nD Cert.MlaGrad.τ).loc Cert.MlaGrad.main_arg2)
      ∧ r.2.mem ((c.tc : Thread Cert.MlaGrad.nD Cert.MlaGrad.τ).loc Cert.MlaGrad.main_arg3) = m ((c.tc : Thread Cert.MlaGrad.nD Cert.MlaGrad.τ).loc Cert.MlaGrad.main_arg3))
      ∧ r.2.sem = fun _ => 0)

def quiescent_MlaGradIdeal [hMlaGradIdeal : Cert.MlaGradIdeal.Facts] : Prop :=
  ∀ (m : (ℓ : Loc Cert.MlaGradIdeal.nD Cert.MlaGradIdeal.τ Cert.MlaGradIdeal.sig) → Buf (Elt Ideal) ℓ) (g : Dev Cert.MlaGradIdeal.nD → PrngReg), Pre_MlaGradIdeal m →
    θ_run (Cert.MlaGradIdeal.defs (F := Ideal)) (onTc (τ := Cert.MlaGradIdeal.τ) (Cert.MlaGradIdeal.main (F := Ideal))) ⟨m, fun _ => 0, g⟩ (fun r => (∀ c : Dev Cert.MlaGradIdeal.nD,
      r.2.mem ((c.tc : Thread Cert.MlaGradIdeal.nD Cert.MlaGradIdeal.τ).loc Cert.MlaGradIdeal.main_arg0) = m ((c.tc : Thread Cert.MlaGradIdeal.nD Cert.MlaGradIdeal.τ).loc Cert.MlaGradIdeal.main_arg0)
      ∧ r.2.mem ((c.tc : Thread Cert.MlaGradIdeal.nD Cert.MlaGradIdeal.τ).loc Cert.MlaGradIdeal.main_arg1) = m ((c.tc : Thread Cert.MlaGradIdeal.nD Cert.MlaGradIdeal.τ).loc Cert.MlaGradIdeal.main_arg1)
      ∧ r.2.mem ((c.tc : Thread Cert.MlaGradIdeal.nD Cert.MlaGradIdeal.τ).loc Cert.MlaGradIdeal.main_arg2) = m ((c.tc : Thread Cert.MlaGradIdeal.nD Cert.MlaGradIdeal.τ).loc Cert.MlaGradIdeal.main_arg2)
      ∧ r.2.mem ((c.tc : Thread Cert.MlaGradIdeal.nD Cert.MlaGradIdeal.τ).loc Cert.MlaGradIdeal.main_arg3) = m ((c.tc : Thread Cert.MlaGradIdeal.nD Cert.MlaGradIdeal.τ).loc Cert.MlaGradIdeal.main_arg3))
      ∧ r.2.sem = fun _ => 0)

def quiescent_MlaGradIdeal_pre_finite_mla [hMlaGradIdeal : Cert.MlaGradIdeal.Facts] [hPre_finite_mla : Cert.Pre_finite_mla.Facts] : Prop :=
  ∀ (m : (ℓ : Loc Cert.MlaGradIdeal.nD Cert.MlaGradIdeal.τ Cert.MlaGradIdeal.sig) → Buf (Elt Ideal) ℓ) (g : Dev Cert.MlaGradIdeal.nD → PrngReg), Pre_MlaGradIdeal_finite_mla m →
    θ_run (Cert.MlaGradIdeal.defs (F := Ideal)) (onTc (τ := Cert.MlaGradIdeal.τ) (Cert.MlaGradIdeal.main (F := Ideal))) ⟨m, fun _ => 0, g⟩ (fun r => (∀ c : Dev Cert.MlaGradIdeal.nD,
      r.2.mem ((c.tc : Thread Cert.MlaGradIdeal.nD Cert.MlaGradIdeal.τ).loc Cert.MlaGradIdeal.main_arg0) = m ((c.tc : Thread Cert.MlaGradIdeal.nD Cert.MlaGradIdeal.τ).loc Cert.MlaGradIdeal.main_arg0)
      ∧ r.2.mem ((c.tc : Thread Cert.MlaGradIdeal.nD Cert.MlaGradIdeal.τ).loc Cert.MlaGradIdeal.main_arg1) = m ((c.tc : Thread Cert.MlaGradIdeal.nD Cert.MlaGradIdeal.τ).loc Cert.MlaGradIdeal.main_arg1)
      ∧ r.2.mem ((c.tc : Thread Cert.MlaGradIdeal.nD Cert.MlaGradIdeal.τ).loc Cert.MlaGradIdeal.main_arg2) = m ((c.tc : Thread Cert.MlaGradIdeal.nD Cert.MlaGradIdeal.τ).loc Cert.MlaGradIdeal.main_arg2)
      ∧ r.2.mem ((c.tc : Thread Cert.MlaGradIdeal.nD Cert.MlaGradIdeal.τ).loc Cert.MlaGradIdeal.main_arg3) = m ((c.tc : Thread Cert.MlaGradIdeal.nD Cert.MlaGradIdeal.τ).loc Cert.MlaGradIdeal.main_arg3))
      ∧ r.2.sem = fun _ => 0)

def quiescent_MlaGradReferenceIdeal [hMlaGradReferenceIdeal : Cert.MlaGradReferenceIdeal.Facts] : Prop :=
  ∀ (m : (ℓ : Loc Cert.MlaGradReferenceIdeal.nD Cert.MlaGradReferenceIdeal.τ Cert.MlaGradReferenceIdeal.sig) → Buf (Elt Ideal) ℓ) (g : Dev Cert.MlaGradReferenceIdeal.nD → PrngReg), Pre_MlaGradReferenceIdeal m →
    θ_run (Cert.MlaGradReferenceIdeal.defs (F := Ideal)) (onTc (τ := Cert.MlaGradReferenceIdeal.τ) (Cert.MlaGradReferenceIdeal.main (F := Ideal))) ⟨m, fun _ => 0, g⟩ (fun r => (∀ c : Dev Cert.MlaGradReferenceIdeal.nD,
      r.2.mem ((c.tc : Thread Cert.MlaGradReferenceIdeal.nD Cert.MlaGradReferenceIdeal.τ).loc Cert.MlaGradReferenceIdeal.main_arg0) = m ((c.tc : Thread Cert.MlaGradReferenceIdeal.nD Cert.MlaGradReferenceIdeal.τ).loc Cert.MlaGradReferenceIdeal.main_arg0)
      ∧ r.2.mem ((c.tc : Thread Cert.MlaGradReferenceIdeal.nD Cert.MlaGradReferenceIdeal.τ).loc Cert.MlaGradReferenceIdeal.main_arg1) = m ((c.tc : Thread Cert.MlaGradReferenceIdeal.nD Cert.MlaGradReferenceIdeal.τ).loc Cert.MlaGradReferenceIdeal.main_arg1)
      ∧ r.2.mem ((c.tc : Thread Cert.MlaGradReferenceIdeal.nD Cert.MlaGradReferenceIdeal.τ).loc Cert.MlaGradReferenceIdeal.main_arg2) = m ((c.tc : Thread Cert.MlaGradReferenceIdeal.nD Cert.MlaGradReferenceIdeal.τ).loc Cert.MlaGradReferenceIdeal.main_arg2)
      ∧ r.2.mem ((c.tc : Thread Cert.MlaGradReferenceIdeal.nD Cert.MlaGradReferenceIdeal.τ).loc Cert.MlaGradReferenceIdeal.main_arg3) = m ((c.tc : Thread Cert.MlaGradReferenceIdeal.nD Cert.MlaGradReferenceIdeal.τ).loc Cert.MlaGradReferenceIdeal.main_arg3))
      ∧ r.2.sem = fun _ => 0)

def quiescent_MlaGradReferenceIdeal_pre_finite_mla [hMlaGradReferenceIdeal : Cert.MlaGradReferenceIdeal.Facts] [hPre_finite_mla : Cert.Pre_finite_mla.Facts] : Prop :=
  ∀ (m : (ℓ : Loc Cert.MlaGradReferenceIdeal.nD Cert.MlaGradReferenceIdeal.τ Cert.MlaGradReferenceIdeal.sig) → Buf (Elt Ideal) ℓ) (g : Dev Cert.MlaGradReferenceIdeal.nD → PrngReg), Pre_MlaGradReferenceIdeal_finite_mla m →
    θ_run (Cert.MlaGradReferenceIdeal.defs (F := Ideal)) (onTc (τ := Cert.MlaGradReferenceIdeal.τ) (Cert.MlaGradReferenceIdeal.main (F := Ideal))) ⟨m, fun _ => 0, g⟩ (fun r => (∀ c : Dev Cert.MlaGradReferenceIdeal.nD,
      r.2.mem ((c.tc : Thread Cert.MlaGradReferenceIdeal.nD Cert.MlaGradReferenceIdeal.τ).loc Cert.MlaGradReferenceIdeal.main_arg0) = m ((c.tc : Thread Cert.MlaGradReferenceIdeal.nD Cert.MlaGradReferenceIdeal.τ).loc Cert.MlaGradReferenceIdeal.main_arg0)
      ∧ r.2.mem ((c.tc : Thread Cert.MlaGradReferenceIdeal.nD Cert.MlaGradReferenceIdeal.τ).loc Cert.MlaGradReferenceIdeal.main_arg1) = m ((c.tc : Thread Cert.MlaGradReferenceIdeal.nD Cert.MlaGradReferenceIdeal.τ).loc Cert.MlaGradReferenceIdeal.main_arg1)
      ∧ r.2.mem ((c.tc : Thread Cert.MlaGradReferenceIdeal.nD Cert.MlaGradReferenceIdeal.τ).loc Cert.MlaGradReferenceIdeal.main_arg2) = m ((c.tc : Thread Cert.MlaGradReferenceIdeal.nD Cert.MlaGradReferenceIdeal.τ).loc Cert.MlaGradReferenceIdeal.main_arg2)
      ∧ r.2.mem ((c.tc : Thread Cert.MlaGradReferenceIdeal.nD Cert.MlaGradReferenceIdeal.τ).loc Cert.MlaGradReferenceIdeal.main_arg3) = m ((c.tc : Thread Cert.MlaGradReferenceIdeal.nD Cert.MlaGradReferenceIdeal.τ).loc Cert.MlaGradReferenceIdeal.main_arg3))
      ∧ r.2.sem = fun _ => 0)

def quiescent_MlpUp [hMlpUp : Cert.MlpUp.Facts] : Prop :=
  ∀ (m : (ℓ : Loc Cert.MlpUp.nD Cert.MlpUp.τ Cert.MlpUp.sig) → Buf (Elt Bits) ℓ) (g : Dev Cert.MlpUp.nD → PrngReg), Pre_MlpUp m →
    θ_run (Cert.MlpUp.defs (F := Bits)) (onTc (τ := Cert.MlpUp.τ) (Cert.MlpUp.main (F := Bits))) ⟨m, fun _ => 0, g⟩ (fun r => (∀ c : Dev Cert.MlpUp.nD,
      r.2.mem ((c.tc : Thread Cert.MlpUp.nD Cert.MlpUp.τ).loc Cert.MlpUp.main_arg0) = m ((c.tc : Thread Cert.MlpUp.nD Cert.MlpUp.τ).loc Cert.MlpUp.main_arg0)
      ∧ r.2.mem ((c.tc : Thread Cert.MlpUp.nD Cert.MlpUp.τ).loc Cert.MlpUp.main_arg1) = m ((c.tc : Thread Cert.MlpUp.nD Cert.MlpUp.τ).loc Cert.MlpUp.main_arg1))
      ∧ r.2.sem = fun _ => 0)

def quiescent_MlpUpIdeal [hMlpUpIdeal : Cert.MlpUpIdeal.Facts] : Prop :=
  ∀ (m : (ℓ : Loc Cert.MlpUpIdeal.nD Cert.MlpUpIdeal.τ Cert.MlpUpIdeal.sig) → Buf (Elt Ideal) ℓ) (g : Dev Cert.MlpUpIdeal.nD → PrngReg), Pre_MlpUpIdeal m →
    θ_run (Cert.MlpUpIdeal.defs (F := Ideal)) (onTc (τ := Cert.MlpUpIdeal.τ) (Cert.MlpUpIdeal.main (F := Ideal))) ⟨m, fun _ => 0, g⟩ (fun r => (∀ c : Dev Cert.MlpUpIdeal.nD,
      r.2.mem ((c.tc : Thread Cert.MlpUpIdeal.nD Cert.MlpUpIdeal.τ).loc Cert.MlpUpIdeal.main_arg0) = m ((c.tc : Thread Cert.MlpUpIdeal.nD Cert.MlpUpIdeal.τ).loc Cert.MlpUpIdeal.main_arg0)
      ∧ r.2.mem ((c.tc : Thread Cert.MlpUpIdeal.nD Cert.MlpUpIdeal.τ).loc Cert.MlpUpIdeal.main_arg1) = m ((c.tc : Thread Cert.MlpUpIdeal.nD Cert.MlpUpIdeal.τ).loc Cert.MlpUpIdeal.main_arg1))
      ∧ r.2.sem = fun _ => 0)

def quiescent_MlpUpReferenceIdeal [hMlpUpReferenceIdeal : Cert.MlpUpReferenceIdeal.Facts] : Prop :=
  ∀ (m : (ℓ : Loc Cert.MlpUpReferenceIdeal.nD Cert.MlpUpReferenceIdeal.τ Cert.MlpUpReferenceIdeal.sig) → Buf (Elt Ideal) ℓ) (g : Dev Cert.MlpUpReferenceIdeal.nD → PrngReg), Pre_MlpUpReferenceIdeal m →
    θ_run (Cert.MlpUpReferenceIdeal.defs (F := Ideal)) (onTc (τ := Cert.MlpUpReferenceIdeal.τ) (Cert.MlpUpReferenceIdeal.main (F := Ideal))) ⟨m, fun _ => 0, g⟩ (fun r => (∀ c : Dev Cert.MlpUpReferenceIdeal.nD,
      r.2.mem ((c.tc : Thread Cert.MlpUpReferenceIdeal.nD Cert.MlpUpReferenceIdeal.τ).loc Cert.MlpUpReferenceIdeal.main_arg0) = m ((c.tc : Thread Cert.MlpUpReferenceIdeal.nD Cert.MlpUpReferenceIdeal.τ).loc Cert.MlpUpReferenceIdeal.main_arg0)
      ∧ r.2.mem ((c.tc : Thread Cert.MlpUpReferenceIdeal.nD Cert.MlpUpReferenceIdeal.τ).loc Cert.MlpUpReferenceIdeal.main_arg1) = m ((c.tc : Thread Cert.MlpUpReferenceIdeal.nD Cert.MlpUpReferenceIdeal.τ).loc Cert.MlpUpReferenceIdeal.main_arg1))
      ∧ r.2.sem = fun _ => 0)

def quiescent_MlpGrad [hMlpGrad : Cert.MlpGrad.Facts] : Prop :=
  ∀ (m : (ℓ : Loc Cert.MlpGrad.nD Cert.MlpGrad.τ Cert.MlpGrad.sig) → Buf (Elt Bits) ℓ) (g : Dev Cert.MlpGrad.nD → PrngReg), Pre_MlpGrad m →
    θ_run (Cert.MlpGrad.defs (F := Bits)) (onTc (τ := Cert.MlpGrad.τ) (Cert.MlpGrad.main (F := Bits))) ⟨m, fun _ => 0, g⟩ (fun r => (∀ c : Dev Cert.MlpGrad.nD,
      r.2.mem ((c.tc : Thread Cert.MlpGrad.nD Cert.MlpGrad.τ).loc Cert.MlpGrad.main_arg0) = m ((c.tc : Thread Cert.MlpGrad.nD Cert.MlpGrad.τ).loc Cert.MlpGrad.main_arg0)
      ∧ r.2.mem ((c.tc : Thread Cert.MlpGrad.nD Cert.MlpGrad.τ).loc Cert.MlpGrad.main_arg1) = m ((c.tc : Thread Cert.MlpGrad.nD Cert.MlpGrad.τ).loc Cert.MlpGrad.main_arg1)
      ∧ r.2.mem ((c.tc : Thread Cert.MlpGrad.nD Cert.MlpGrad.τ).loc Cert.MlpGrad.main_arg2) = m ((c.tc : Thread Cert.MlpGrad.nD Cert.MlpGrad.τ).loc Cert.MlpGrad.main_arg2))
      ∧ r.2.sem = fun _ => 0)

def quiescent_MlpGradIdeal [hMlpGradIdeal : Cert.MlpGradIdeal.Facts] : Prop :=
  ∀ (m : (ℓ : Loc Cert.MlpGradIdeal.nD Cert.MlpGradIdeal.τ Cert.MlpGradIdeal.sig) → Buf (Elt Ideal) ℓ) (g : Dev Cert.MlpGradIdeal.nD → PrngReg), Pre_MlpGradIdeal m →
    θ_run (Cert.MlpGradIdeal.defs (F := Ideal)) (onTc (τ := Cert.MlpGradIdeal.τ) (Cert.MlpGradIdeal.main (F := Ideal))) ⟨m, fun _ => 0, g⟩ (fun r => (∀ c : Dev Cert.MlpGradIdeal.nD,
      r.2.mem ((c.tc : Thread Cert.MlpGradIdeal.nD Cert.MlpGradIdeal.τ).loc Cert.MlpGradIdeal.main_arg0) = m ((c.tc : Thread Cert.MlpGradIdeal.nD Cert.MlpGradIdeal.τ).loc Cert.MlpGradIdeal.main_arg0)
      ∧ r.2.mem ((c.tc : Thread Cert.MlpGradIdeal.nD Cert.MlpGradIdeal.τ).loc Cert.MlpGradIdeal.main_arg1) = m ((c.tc : Thread Cert.MlpGradIdeal.nD Cert.MlpGradIdeal.τ).loc Cert.MlpGradIdeal.main_arg1)
      ∧ r.2.mem ((c.tc : Thread Cert.MlpGradIdeal.nD Cert.MlpGradIdeal.τ).loc Cert.MlpGradIdeal.main_arg2) = m ((c.tc : Thread Cert.MlpGradIdeal.nD Cert.MlpGradIdeal.τ).loc Cert.MlpGradIdeal.main_arg2))
      ∧ r.2.sem = fun _ => 0)

def quiescent_MlpGradReferenceIdeal [hMlpGradReferenceIdeal : Cert.MlpGradReferenceIdeal.Facts] : Prop :=
  ∀ (m : (ℓ : Loc Cert.MlpGradReferenceIdeal.nD Cert.MlpGradReferenceIdeal.τ Cert.MlpGradReferenceIdeal.sig) → Buf (Elt Ideal) ℓ) (g : Dev Cert.MlpGradReferenceIdeal.nD → PrngReg), Pre_MlpGradReferenceIdeal m →
    θ_run (Cert.MlpGradReferenceIdeal.defs (F := Ideal)) (onTc (τ := Cert.MlpGradReferenceIdeal.τ) (Cert.MlpGradReferenceIdeal.main (F := Ideal))) ⟨m, fun _ => 0, g⟩ (fun r => (∀ c : Dev Cert.MlpGradReferenceIdeal.nD,
      r.2.mem ((c.tc : Thread Cert.MlpGradReferenceIdeal.nD Cert.MlpGradReferenceIdeal.τ).loc Cert.MlpGradReferenceIdeal.main_arg0) = m ((c.tc : Thread Cert.MlpGradReferenceIdeal.nD Cert.MlpGradReferenceIdeal.τ).loc Cert.MlpGradReferenceIdeal.main_arg0)
      ∧ r.2.mem ((c.tc : Thread Cert.MlpGradReferenceIdeal.nD Cert.MlpGradReferenceIdeal.τ).loc Cert.MlpGradReferenceIdeal.main_arg1) = m ((c.tc : Thread Cert.MlpGradReferenceIdeal.nD Cert.MlpGradReferenceIdeal.τ).loc Cert.MlpGradReferenceIdeal.main_arg1)
      ∧ r.2.mem ((c.tc : Thread Cert.MlpGradReferenceIdeal.nD Cert.MlpGradReferenceIdeal.τ).loc Cert.MlpGradReferenceIdeal.main_arg2) = m ((c.tc : Thread Cert.MlpGradReferenceIdeal.nD Cert.MlpGradReferenceIdeal.τ).loc Cert.MlpGradReferenceIdeal.main_arg2))
      ∧ r.2.sem = fun _ => 0)

def quiescent_MlpInT [hMlpInT : Cert.MlpInT.Facts] : Prop :=
  ∀ (m : (ℓ : Loc Cert.MlpInT.nD Cert.MlpInT.τ Cert.MlpInT.sig) → Buf (Elt Bits) ℓ) (g : Dev Cert.MlpInT.nD → PrngReg), Pre_MlpInT m →
    θ_run (Cert.MlpInT.defs (F := Bits)) (onTc (τ := Cert.MlpInT.τ) (Cert.MlpInT.main (F := Bits))) ⟨m, fun _ => 0, g⟩ (fun r => (∀ c : Dev Cert.MlpInT.nD,
      r.2.mem ((c.tc : Thread Cert.MlpInT.nD Cert.MlpInT.τ).loc Cert.MlpInT.main_arg0) = m ((c.tc : Thread Cert.MlpInT.nD Cert.MlpInT.τ).loc Cert.MlpInT.main_arg0)
      ∧ r.2.mem ((c.tc : Thread Cert.MlpInT.nD Cert.MlpInT.τ).loc Cert.MlpInT.main_arg1) = m ((c.tc : Thread Cert.MlpInT.nD Cert.MlpInT.τ).loc Cert.MlpInT.main_arg1)
      ∧ r.2.mem ((c.tc : Thread Cert.MlpInT.nD Cert.MlpInT.τ).loc Cert.MlpInT.main_arg2) = m ((c.tc : Thread Cert.MlpInT.nD Cert.MlpInT.τ).loc Cert.MlpInT.main_arg2))
      ∧ r.2.sem = fun _ => 0)

def quiescent_MlpInTIdeal [hMlpInTIdeal : Cert.MlpInTIdeal.Facts] : Prop :=
  ∀ (m : (ℓ : Loc Cert.MlpInTIdeal.nD Cert.MlpInTIdeal.τ Cert.MlpInTIdeal.sig) → Buf (Elt Ideal) ℓ) (g : Dev Cert.MlpInTIdeal.nD → PrngReg), Pre_MlpInTIdeal m →
    θ_run (Cert.MlpInTIdeal.defs (F := Ideal)) (onTc (τ := Cert.MlpInTIdeal.τ) (Cert.MlpInTIdeal.main (F := Ideal))) ⟨m, fun _ => 0, g⟩ (fun r => (∀ c : Dev Cert.MlpInTIdeal.nD,
      r.2.mem ((c.tc : Thread Cert.MlpInTIdeal.nD Cert.MlpInTIdeal.τ).loc Cert.MlpInTIdeal.main_arg0) = m ((c.tc : Thread Cert.MlpInTIdeal.nD Cert.MlpInTIdeal.τ).loc Cert.MlpInTIdeal.main_arg0)
      ∧ r.2.mem ((c.tc : Thread Cert.MlpInTIdeal.nD Cert.MlpInTIdeal.τ).loc Cert.MlpInTIdeal.main_arg1) = m ((c.tc : Thread Cert.MlpInTIdeal.nD Cert.MlpInTIdeal.τ).loc Cert.MlpInTIdeal.main_arg1)
      ∧ r.2.mem ((c.tc : Thread Cert.MlpInTIdeal.nD Cert.MlpInTIdeal.τ).loc Cert.MlpInTIdeal.main_arg2) = m ((c.tc : Thread Cert.MlpInTIdeal.nD Cert.MlpInTIdeal.τ).loc Cert.MlpInTIdeal.main_arg2))
      ∧ r.2.sem = fun _ => 0)

def quiescent_MlpInTReferenceIdeal [hMlpInTReferenceIdeal : Cert.MlpInTReferenceIdeal.Facts] : Prop :=
  ∀ (m : (ℓ : Loc Cert.MlpInTReferenceIdeal.nD Cert.MlpInTReferenceIdeal.τ Cert.MlpInTReferenceIdeal.sig) → Buf (Elt Ideal) ℓ) (g : Dev Cert.MlpInTReferenceIdeal.nD → PrngReg), Pre_MlpInTReferenceIdeal m →
    θ_run (Cert.MlpInTReferenceIdeal.defs (F := Ideal)) (onTc (τ := Cert.MlpInTReferenceIdeal.τ) (Cert.MlpInTReferenceIdeal.main (F := Ideal))) ⟨m, fun _ => 0, g⟩ (fun r => (∀ c : Dev Cert.MlpInTReferenceIdeal.nD,
      r.2.mem ((c.tc : Thread Cert.MlpInTReferenceIdeal.nD Cert.MlpInTReferenceIdeal.τ).loc Cert.MlpInTReferenceIdeal.main_arg0) = m ((c.tc : Thread Cert.MlpInTReferenceIdeal.nD Cert.MlpInTReferenceIdeal.τ).loc Cert.MlpInTReferenceIdeal.main_arg0)
      ∧ r.2.mem ((c.tc : Thread Cert.MlpInTReferenceIdeal.nD Cert.MlpInTReferenceIdeal.τ).loc Cert.MlpInTReferenceIdeal.main_arg1) = m ((c.tc : Thread Cert.MlpInTReferenceIdeal.nD Cert.MlpInTReferenceIdeal.τ).loc Cert.MlpInTReferenceIdeal.main_arg1)
      ∧ r.2.mem ((c.tc : Thread Cert.MlpInTReferenceIdeal.nD Cert.MlpInTReferenceIdeal.τ).loc Cert.MlpInTReferenceIdeal.main_arg2) = m ((c.tc : Thread Cert.MlpInTReferenceIdeal.nD Cert.MlpInTReferenceIdeal.τ).loc Cert.MlpInTReferenceIdeal.main_arg2))
      ∧ r.2.sem = fun _ => 0)

def quiescent_MlpInW [hMlpInW : Cert.MlpInW.Facts] : Prop :=
  ∀ (m : (ℓ : Loc Cert.MlpInW.nD Cert.MlpInW.τ Cert.MlpInW.sig) → Buf (Elt Bits) ℓ) (g : Dev Cert.MlpInW.nD → PrngReg), Pre_MlpInW m →
    θ_run (Cert.MlpInW.defs (F := Bits)) (onTc (τ := Cert.MlpInW.τ) (Cert.MlpInW.main (F := Bits))) ⟨m, fun _ => 0, g⟩ (fun r => (∀ c : Dev Cert.MlpInW.nD,
      r.2.mem ((c.tc : Thread Cert.MlpInW.nD Cert.MlpInW.τ).loc Cert.MlpInW.main_arg0) = m ((c.tc : Thread Cert.MlpInW.nD Cert.MlpInW.τ).loc Cert.MlpInW.main_arg0)
      ∧ r.2.mem ((c.tc : Thread Cert.MlpInW.nD Cert.MlpInW.τ).loc Cert.MlpInW.main_arg1) = m ((c.tc : Thread Cert.MlpInW.nD Cert.MlpInW.τ).loc Cert.MlpInW.main_arg1)
      ∧ r.2.mem ((c.tc : Thread Cert.MlpInW.nD Cert.MlpInW.τ).loc Cert.MlpInW.main_arg2) = m ((c.tc : Thread Cert.MlpInW.nD Cert.MlpInW.τ).loc Cert.MlpInW.main_arg2))
      ∧ r.2.sem = fun _ => 0)

def quiescent_MlpInWIdeal [hMlpInWIdeal : Cert.MlpInWIdeal.Facts] : Prop :=
  ∀ (m : (ℓ : Loc Cert.MlpInWIdeal.nD Cert.MlpInWIdeal.τ Cert.MlpInWIdeal.sig) → Buf (Elt Ideal) ℓ) (g : Dev Cert.MlpInWIdeal.nD → PrngReg), Pre_MlpInWIdeal m →
    θ_run (Cert.MlpInWIdeal.defs (F := Ideal)) (onTc (τ := Cert.MlpInWIdeal.τ) (Cert.MlpInWIdeal.main (F := Ideal))) ⟨m, fun _ => 0, g⟩ (fun r => (∀ c : Dev Cert.MlpInWIdeal.nD,
      r.2.mem ((c.tc : Thread Cert.MlpInWIdeal.nD Cert.MlpInWIdeal.τ).loc Cert.MlpInWIdeal.main_arg0) = m ((c.tc : Thread Cert.MlpInWIdeal.nD Cert.MlpInWIdeal.τ).loc Cert.MlpInWIdeal.main_arg0)
      ∧ r.2.mem ((c.tc : Thread Cert.MlpInWIdeal.nD Cert.MlpInWIdeal.τ).loc Cert.MlpInWIdeal.main_arg1) = m ((c.tc : Thread Cert.MlpInWIdeal.nD Cert.MlpInWIdeal.τ).loc Cert.MlpInWIdeal.main_arg1)
      ∧ r.2.mem ((c.tc : Thread Cert.MlpInWIdeal.nD Cert.MlpInWIdeal.τ).loc Cert.MlpInWIdeal.main_arg2) = m ((c.tc : Thread Cert.MlpInWIdeal.nD Cert.MlpInWIdeal.τ).loc Cert.MlpInWIdeal.main_arg2))
      ∧ r.2.sem = fun _ => 0)

def quiescent_MlpInWReferenceIdeal [hMlpInWReferenceIdeal : Cert.MlpInWReferenceIdeal.Facts] : Prop :=
  ∀ (m : (ℓ : Loc Cert.MlpInWReferenceIdeal.nD Cert.MlpInWReferenceIdeal.τ Cert.MlpInWReferenceIdeal.sig) → Buf (Elt Ideal) ℓ) (g : Dev Cert.MlpInWReferenceIdeal.nD → PrngReg), Pre_MlpInWReferenceIdeal m →
    θ_run (Cert.MlpInWReferenceIdeal.defs (F := Ideal)) (onTc (τ := Cert.MlpInWReferenceIdeal.τ) (Cert.MlpInWReferenceIdeal.main (F := Ideal))) ⟨m, fun _ => 0, g⟩ (fun r => (∀ c : Dev Cert.MlpInWReferenceIdeal.nD,
      r.2.mem ((c.tc : Thread Cert.MlpInWReferenceIdeal.nD Cert.MlpInWReferenceIdeal.τ).loc Cert.MlpInWReferenceIdeal.main_arg0) = m ((c.tc : Thread Cert.MlpInWReferenceIdeal.nD Cert.MlpInWReferenceIdeal.τ).loc Cert.MlpInWReferenceIdeal.main_arg0)
      ∧ r.2.mem ((c.tc : Thread Cert.MlpInWReferenceIdeal.nD Cert.MlpInWReferenceIdeal.τ).loc Cert.MlpInWReferenceIdeal.main_arg1) = m ((c.tc : Thread Cert.MlpInWReferenceIdeal.nD Cert.MlpInWReferenceIdeal.τ).loc Cert.MlpInWReferenceIdeal.main_arg1)
      ∧ r.2.mem ((c.tc : Thread Cert.MlpInWReferenceIdeal.nD Cert.MlpInWReferenceIdeal.τ).loc Cert.MlpInWReferenceIdeal.main_arg2) = m ((c.tc : Thread Cert.MlpInWReferenceIdeal.nD Cert.MlpInWReferenceIdeal.τ).loc Cert.MlpInWReferenceIdeal.main_arg2))
      ∧ r.2.sem = fun _ => 0)

def quiescent_MlpOut [hMlpOut : Cert.MlpOut.Facts] : Prop :=
  ∀ (m : (ℓ : Loc Cert.MlpOut.nD Cert.MlpOut.τ Cert.MlpOut.sig) → Buf (Elt Bits) ℓ) (g : Dev Cert.MlpOut.nD → PrngReg), Pre_MlpOut m →
    θ_run (Cert.MlpOut.defs (F := Bits)) (onTc (τ := Cert.MlpOut.τ) (Cert.MlpOut.main (F := Bits))) ⟨m, fun _ => 0, g⟩ (fun r => (∀ c : Dev Cert.MlpOut.nD,
      r.2.mem ((c.tc : Thread Cert.MlpOut.nD Cert.MlpOut.τ).loc Cert.MlpOut.main_arg0) = m ((c.tc : Thread Cert.MlpOut.nD Cert.MlpOut.τ).loc Cert.MlpOut.main_arg0)
      ∧ r.2.mem ((c.tc : Thread Cert.MlpOut.nD Cert.MlpOut.τ).loc Cert.MlpOut.main_arg1) = m ((c.tc : Thread Cert.MlpOut.nD Cert.MlpOut.τ).loc Cert.MlpOut.main_arg1))
      ∧ r.2.sem = fun _ => 0)

def quiescent_MlpOutIdeal [hMlpOutIdeal : Cert.MlpOutIdeal.Facts] : Prop :=
  ∀ (m : (ℓ : Loc Cert.MlpOutIdeal.nD Cert.MlpOutIdeal.τ Cert.MlpOutIdeal.sig) → Buf (Elt Ideal) ℓ) (g : Dev Cert.MlpOutIdeal.nD → PrngReg), Pre_MlpOutIdeal m →
    θ_run (Cert.MlpOutIdeal.defs (F := Ideal)) (onTc (τ := Cert.MlpOutIdeal.τ) (Cert.MlpOutIdeal.main (F := Ideal))) ⟨m, fun _ => 0, g⟩ (fun r => (∀ c : Dev Cert.MlpOutIdeal.nD,
      r.2.mem ((c.tc : Thread Cert.MlpOutIdeal.nD Cert.MlpOutIdeal.τ).loc Cert.MlpOutIdeal.main_arg0) = m ((c.tc : Thread Cert.MlpOutIdeal.nD Cert.MlpOutIdeal.τ).loc Cert.MlpOutIdeal.main_arg0)
      ∧ r.2.mem ((c.tc : Thread Cert.MlpOutIdeal.nD Cert.MlpOutIdeal.τ).loc Cert.MlpOutIdeal.main_arg1) = m ((c.tc : Thread Cert.MlpOutIdeal.nD Cert.MlpOutIdeal.τ).loc Cert.MlpOutIdeal.main_arg1))
      ∧ r.2.sem = fun _ => 0)

def quiescent_MlpOutReferenceIdeal [hMlpOutReferenceIdeal : Cert.MlpOutReferenceIdeal.Facts] : Prop :=
  ∀ (m : (ℓ : Loc Cert.MlpOutReferenceIdeal.nD Cert.MlpOutReferenceIdeal.τ Cert.MlpOutReferenceIdeal.sig) → Buf (Elt Ideal) ℓ) (g : Dev Cert.MlpOutReferenceIdeal.nD → PrngReg), Pre_MlpOutReferenceIdeal m →
    θ_run (Cert.MlpOutReferenceIdeal.defs (F := Ideal)) (onTc (τ := Cert.MlpOutReferenceIdeal.τ) (Cert.MlpOutReferenceIdeal.main (F := Ideal))) ⟨m, fun _ => 0, g⟩ (fun r => (∀ c : Dev Cert.MlpOutReferenceIdeal.nD,
      r.2.mem ((c.tc : Thread Cert.MlpOutReferenceIdeal.nD Cert.MlpOutReferenceIdeal.τ).loc Cert.MlpOutReferenceIdeal.main_arg0) = m ((c.tc : Thread Cert.MlpOutReferenceIdeal.nD Cert.MlpOutReferenceIdeal.τ).loc Cert.MlpOutReferenceIdeal.main_arg0)
      ∧ r.2.mem ((c.tc : Thread Cert.MlpOutReferenceIdeal.nD Cert.MlpOutReferenceIdeal.τ).loc Cert.MlpOutReferenceIdeal.main_arg1) = m ((c.tc : Thread Cert.MlpOutReferenceIdeal.nD Cert.MlpOutReferenceIdeal.τ).loc Cert.MlpOutReferenceIdeal.main_arg1))
      ∧ r.2.sem = fun _ => 0)

def quiescent_MlpOutW [hMlpOutW : Cert.MlpOutW.Facts] : Prop :=
  ∀ (m : (ℓ : Loc Cert.MlpOutW.nD Cert.MlpOutW.τ Cert.MlpOutW.sig) → Buf (Elt Bits) ℓ) (g : Dev Cert.MlpOutW.nD → PrngReg), Pre_MlpOutW m →
    θ_run (Cert.MlpOutW.defs (F := Bits)) (onTc (τ := Cert.MlpOutW.τ) (Cert.MlpOutW.main (F := Bits))) ⟨m, fun _ => 0, g⟩ (fun r => (∀ c : Dev Cert.MlpOutW.nD,
      r.2.mem ((c.tc : Thread Cert.MlpOutW.nD Cert.MlpOutW.τ).loc Cert.MlpOutW.main_arg0) = m ((c.tc : Thread Cert.MlpOutW.nD Cert.MlpOutW.τ).loc Cert.MlpOutW.main_arg0)
      ∧ r.2.mem ((c.tc : Thread Cert.MlpOutW.nD Cert.MlpOutW.τ).loc Cert.MlpOutW.main_arg1) = m ((c.tc : Thread Cert.MlpOutW.nD Cert.MlpOutW.τ).loc Cert.MlpOutW.main_arg1)
      ∧ r.2.mem ((c.tc : Thread Cert.MlpOutW.nD Cert.MlpOutW.τ).loc Cert.MlpOutW.main_arg2) = m ((c.tc : Thread Cert.MlpOutW.nD Cert.MlpOutW.τ).loc Cert.MlpOutW.main_arg2))
      ∧ r.2.sem = fun _ => 0)

def quiescent_MlpOutWIdeal [hMlpOutWIdeal : Cert.MlpOutWIdeal.Facts] : Prop :=
  ∀ (m : (ℓ : Loc Cert.MlpOutWIdeal.nD Cert.MlpOutWIdeal.τ Cert.MlpOutWIdeal.sig) → Buf (Elt Ideal) ℓ) (g : Dev Cert.MlpOutWIdeal.nD → PrngReg), Pre_MlpOutWIdeal m →
    θ_run (Cert.MlpOutWIdeal.defs (F := Ideal)) (onTc (τ := Cert.MlpOutWIdeal.τ) (Cert.MlpOutWIdeal.main (F := Ideal))) ⟨m, fun _ => 0, g⟩ (fun r => (∀ c : Dev Cert.MlpOutWIdeal.nD,
      r.2.mem ((c.tc : Thread Cert.MlpOutWIdeal.nD Cert.MlpOutWIdeal.τ).loc Cert.MlpOutWIdeal.main_arg0) = m ((c.tc : Thread Cert.MlpOutWIdeal.nD Cert.MlpOutWIdeal.τ).loc Cert.MlpOutWIdeal.main_arg0)
      ∧ r.2.mem ((c.tc : Thread Cert.MlpOutWIdeal.nD Cert.MlpOutWIdeal.τ).loc Cert.MlpOutWIdeal.main_arg1) = m ((c.tc : Thread Cert.MlpOutWIdeal.nD Cert.MlpOutWIdeal.τ).loc Cert.MlpOutWIdeal.main_arg1)
      ∧ r.2.mem ((c.tc : Thread Cert.MlpOutWIdeal.nD Cert.MlpOutWIdeal.τ).loc Cert.MlpOutWIdeal.main_arg2) = m ((c.tc : Thread Cert.MlpOutWIdeal.nD Cert.MlpOutWIdeal.τ).loc Cert.MlpOutWIdeal.main_arg2))
      ∧ r.2.sem = fun _ => 0)

def quiescent_MlpOutWReferenceIdeal [hMlpOutWReferenceIdeal : Cert.MlpOutWReferenceIdeal.Facts] : Prop :=
  ∀ (m : (ℓ : Loc Cert.MlpOutWReferenceIdeal.nD Cert.MlpOutWReferenceIdeal.τ Cert.MlpOutWReferenceIdeal.sig) → Buf (Elt Ideal) ℓ) (g : Dev Cert.MlpOutWReferenceIdeal.nD → PrngReg), Pre_MlpOutWReferenceIdeal m →
    θ_run (Cert.MlpOutWReferenceIdeal.defs (F := Ideal)) (onTc (τ := Cert.MlpOutWReferenceIdeal.τ) (Cert.MlpOutWReferenceIdeal.main (F := Ideal))) ⟨m, fun _ => 0, g⟩ (fun r => (∀ c : Dev Cert.MlpOutWReferenceIdeal.nD,
      r.2.mem ((c.tc : Thread Cert.MlpOutWReferenceIdeal.nD Cert.MlpOutWReferenceIdeal.τ).loc Cert.MlpOutWReferenceIdeal.main_arg0) = m ((c.tc : Thread Cert.MlpOutWReferenceIdeal.nD Cert.MlpOutWReferenceIdeal.τ).loc Cert.MlpOutWReferenceIdeal.main_arg0)
      ∧ r.2.mem ((c.tc : Thread Cert.MlpOutWReferenceIdeal.nD Cert.MlpOutWReferenceIdeal.τ).loc Cert.MlpOutWReferenceIdeal.main_arg1) = m ((c.tc : Thread Cert.MlpOutWReferenceIdeal.nD Cert.MlpOutWReferenceIdeal.τ).loc Cert.MlpOutWReferenceIdeal.main_arg1)
      ∧ r.2.mem ((c.tc : Thread Cert.MlpOutWReferenceIdeal.nD Cert.MlpOutWReferenceIdeal.τ).loc Cert.MlpOutWReferenceIdeal.main_arg2) = m ((c.tc : Thread Cert.MlpOutWReferenceIdeal.nD Cert.MlpOutWReferenceIdeal.τ).loc Cert.MlpOutWReferenceIdeal.main_arg2))
      ∧ r.2.sem = fun _ => 0)

def quiescent_LastUp [hLastUp : Cert.LastUp.Facts] : Prop :=
  ∀ (m : (ℓ : Loc Cert.LastUp.nD Cert.LastUp.τ Cert.LastUp.sig) → Buf (Elt Bits) ℓ) (g : Dev Cert.LastUp.nD → PrngReg), Pre_LastUp m →
    θ_run (Cert.LastUp.defs (F := Bits)) (onTc (τ := Cert.LastUp.τ) (Cert.LastUp.main (F := Bits))) ⟨m, fun _ => 0, g⟩ (fun r => (∀ c : Dev Cert.LastUp.nD,
      r.2.mem ((c.tc : Thread Cert.LastUp.nD Cert.LastUp.τ).loc Cert.LastUp.main_arg0) = m ((c.tc : Thread Cert.LastUp.nD Cert.LastUp.τ).loc Cert.LastUp.main_arg0)
      ∧ r.2.mem ((c.tc : Thread Cert.LastUp.nD Cert.LastUp.τ).loc Cert.LastUp.main_arg1) = m ((c.tc : Thread Cert.LastUp.nD Cert.LastUp.τ).loc Cert.LastUp.main_arg1))
      ∧ r.2.sem = fun _ => 0)

def quiescent_LastUpIdeal [hLastUpIdeal : Cert.LastUpIdeal.Facts] : Prop :=
  ∀ (m : (ℓ : Loc Cert.LastUpIdeal.nD Cert.LastUpIdeal.τ Cert.LastUpIdeal.sig) → Buf (Elt Ideal) ℓ) (g : Dev Cert.LastUpIdeal.nD → PrngReg), Pre_LastUpIdeal m →
    θ_run (Cert.LastUpIdeal.defs (F := Ideal)) (onTc (τ := Cert.LastUpIdeal.τ) (Cert.LastUpIdeal.main (F := Ideal))) ⟨m, fun _ => 0, g⟩ (fun r => (∀ c : Dev Cert.LastUpIdeal.nD,
      r.2.mem ((c.tc : Thread Cert.LastUpIdeal.nD Cert.LastUpIdeal.τ).loc Cert.LastUpIdeal.main_arg0) = m ((c.tc : Thread Cert.LastUpIdeal.nD Cert.LastUpIdeal.τ).loc Cert.LastUpIdeal.main_arg0)
      ∧ r.2.mem ((c.tc : Thread Cert.LastUpIdeal.nD Cert.LastUpIdeal.τ).loc Cert.LastUpIdeal.main_arg1) = m ((c.tc : Thread Cert.LastUpIdeal.nD Cert.LastUpIdeal.τ).loc Cert.LastUpIdeal.main_arg1))
      ∧ r.2.sem = fun _ => 0)

def quiescent_LastUpReferenceIdeal [hLastUpReferenceIdeal : Cert.LastUpReferenceIdeal.Facts] : Prop :=
  ∀ (m : (ℓ : Loc Cert.LastUpReferenceIdeal.nD Cert.LastUpReferenceIdeal.τ Cert.LastUpReferenceIdeal.sig) → Buf (Elt Ideal) ℓ) (g : Dev Cert.LastUpReferenceIdeal.nD → PrngReg), Pre_LastUpReferenceIdeal m →
    θ_run (Cert.LastUpReferenceIdeal.defs (F := Ideal)) (onTc (τ := Cert.LastUpReferenceIdeal.τ) (Cert.LastUpReferenceIdeal.main (F := Ideal))) ⟨m, fun _ => 0, g⟩ (fun r => (∀ c : Dev Cert.LastUpReferenceIdeal.nD,
      r.2.mem ((c.tc : Thread Cert.LastUpReferenceIdeal.nD Cert.LastUpReferenceIdeal.τ).loc Cert.LastUpReferenceIdeal.main_arg0) = m ((c.tc : Thread Cert.LastUpReferenceIdeal.nD Cert.LastUpReferenceIdeal.τ).loc Cert.LastUpReferenceIdeal.main_arg0)
      ∧ r.2.mem ((c.tc : Thread Cert.LastUpReferenceIdeal.nD Cert.LastUpReferenceIdeal.τ).loc Cert.LastUpReferenceIdeal.main_arg1) = m ((c.tc : Thread Cert.LastUpReferenceIdeal.nD Cert.LastUpReferenceIdeal.τ).loc Cert.LastUpReferenceIdeal.main_arg1))
      ∧ r.2.sem = fun _ => 0)

def quiescent_LastGrad [hLastGrad : Cert.LastGrad.Facts] : Prop :=
  ∀ (m : (ℓ : Loc Cert.LastGrad.nD Cert.LastGrad.τ Cert.LastGrad.sig) → Buf (Elt Bits) ℓ) (g : Dev Cert.LastGrad.nD → PrngReg), Pre_LastGrad m →
    θ_run (Cert.LastGrad.defs (F := Bits)) (onTc (τ := Cert.LastGrad.τ) (Cert.LastGrad.main (F := Bits))) ⟨m, fun _ => 0, g⟩ (fun r => (∀ c : Dev Cert.LastGrad.nD,
      r.2.mem ((c.tc : Thread Cert.LastGrad.nD Cert.LastGrad.τ).loc Cert.LastGrad.main_arg0) = m ((c.tc : Thread Cert.LastGrad.nD Cert.LastGrad.τ).loc Cert.LastGrad.main_arg0)
      ∧ r.2.mem ((c.tc : Thread Cert.LastGrad.nD Cert.LastGrad.τ).loc Cert.LastGrad.main_arg1) = m ((c.tc : Thread Cert.LastGrad.nD Cert.LastGrad.τ).loc Cert.LastGrad.main_arg1)
      ∧ r.2.mem ((c.tc : Thread Cert.LastGrad.nD Cert.LastGrad.τ).loc Cert.LastGrad.main_arg2) = m ((c.tc : Thread Cert.LastGrad.nD Cert.LastGrad.τ).loc Cert.LastGrad.main_arg2))
      ∧ r.2.sem = fun _ => 0)

def quiescent_LastGradIdeal [hLastGradIdeal : Cert.LastGradIdeal.Facts] : Prop :=
  ∀ (m : (ℓ : Loc Cert.LastGradIdeal.nD Cert.LastGradIdeal.τ Cert.LastGradIdeal.sig) → Buf (Elt Ideal) ℓ) (g : Dev Cert.LastGradIdeal.nD → PrngReg), Pre_LastGradIdeal m →
    θ_run (Cert.LastGradIdeal.defs (F := Ideal)) (onTc (τ := Cert.LastGradIdeal.τ) (Cert.LastGradIdeal.main (F := Ideal))) ⟨m, fun _ => 0, g⟩ (fun r => (∀ c : Dev Cert.LastGradIdeal.nD,
      r.2.mem ((c.tc : Thread Cert.LastGradIdeal.nD Cert.LastGradIdeal.τ).loc Cert.LastGradIdeal.main_arg0) = m ((c.tc : Thread Cert.LastGradIdeal.nD Cert.LastGradIdeal.τ).loc Cert.LastGradIdeal.main_arg0)
      ∧ r.2.mem ((c.tc : Thread Cert.LastGradIdeal.nD Cert.LastGradIdeal.τ).loc Cert.LastGradIdeal.main_arg1) = m ((c.tc : Thread Cert.LastGradIdeal.nD Cert.LastGradIdeal.τ).loc Cert.LastGradIdeal.main_arg1)
      ∧ r.2.mem ((c.tc : Thread Cert.LastGradIdeal.nD Cert.LastGradIdeal.τ).loc Cert.LastGradIdeal.main_arg2) = m ((c.tc : Thread Cert.LastGradIdeal.nD Cert.LastGradIdeal.τ).loc Cert.LastGradIdeal.main_arg2))
      ∧ r.2.sem = fun _ => 0)

def quiescent_LastGradReferenceIdeal [hLastGradReferenceIdeal : Cert.LastGradReferenceIdeal.Facts] : Prop :=
  ∀ (m : (ℓ : Loc Cert.LastGradReferenceIdeal.nD Cert.LastGradReferenceIdeal.τ Cert.LastGradReferenceIdeal.sig) → Buf (Elt Ideal) ℓ) (g : Dev Cert.LastGradReferenceIdeal.nD → PrngReg), Pre_LastGradReferenceIdeal m →
    θ_run (Cert.LastGradReferenceIdeal.defs (F := Ideal)) (onTc (τ := Cert.LastGradReferenceIdeal.τ) (Cert.LastGradReferenceIdeal.main (F := Ideal))) ⟨m, fun _ => 0, g⟩ (fun r => (∀ c : Dev Cert.LastGradReferenceIdeal.nD,
      r.2.mem ((c.tc : Thread Cert.LastGradReferenceIdeal.nD Cert.LastGradReferenceIdeal.τ).loc Cert.LastGradReferenceIdeal.main_arg0) = m ((c.tc : Thread Cert.LastGradReferenceIdeal.nD Cert.LastGradReferenceIdeal.τ).loc Cert.LastGradReferenceIdeal.main_arg0)
      ∧ r.2.mem ((c.tc : Thread Cert.LastGradReferenceIdeal.nD Cert.LastGradReferenceIdeal.τ).loc Cert.LastGradReferenceIdeal.main_arg1) = m ((c.tc : Thread Cert.LastGradReferenceIdeal.nD Cert.LastGradReferenceIdeal.τ).loc Cert.LastGradReferenceIdeal.main_arg1)
      ∧ r.2.mem ((c.tc : Thread Cert.LastGradReferenceIdeal.nD Cert.LastGradReferenceIdeal.τ).loc Cert.LastGradReferenceIdeal.main_arg2) = m ((c.tc : Thread Cert.LastGradReferenceIdeal.nD Cert.LastGradReferenceIdeal.τ).loc Cert.LastGradReferenceIdeal.main_arg2))
      ∧ r.2.sem = fun _ => 0)

def quiescent_LastInT [hLastInT : Cert.LastInT.Facts] : Prop :=
  ∀ (m : (ℓ : Loc Cert.LastInT.nD Cert.LastInT.τ Cert.LastInT.sig) → Buf (Elt Bits) ℓ) (g : Dev Cert.LastInT.nD → PrngReg), Pre_LastInT m →
    θ_run (Cert.LastInT.defs (F := Bits)) (onTc (τ := Cert.LastInT.τ) (Cert.LastInT.main (F := Bits))) ⟨m, fun _ => 0, g⟩ (fun r => (∀ c : Dev Cert.LastInT.nD,
      r.2.mem ((c.tc : Thread Cert.LastInT.nD Cert.LastInT.τ).loc Cert.LastInT.main_arg0) = m ((c.tc : Thread Cert.LastInT.nD Cert.LastInT.τ).loc Cert.LastInT.main_arg0)
      ∧ r.2.mem ((c.tc : Thread Cert.LastInT.nD Cert.LastInT.τ).loc Cert.LastInT.main_arg1) = m ((c.tc : Thread Cert.LastInT.nD Cert.LastInT.τ).loc Cert.LastInT.main_arg1)
      ∧ r.2.mem ((c.tc : Thread Cert.LastInT.nD Cert.LastInT.τ).loc Cert.LastInT.main_arg2) = m ((c.tc : Thread Cert.LastInT.nD Cert.LastInT.τ).loc Cert.LastInT.main_arg2))
      ∧ r.2.sem = fun _ => 0)

def quiescent_LastInTIdeal [hLastInTIdeal : Cert.LastInTIdeal.Facts] : Prop :=
  ∀ (m : (ℓ : Loc Cert.LastInTIdeal.nD Cert.LastInTIdeal.τ Cert.LastInTIdeal.sig) → Buf (Elt Ideal) ℓ) (g : Dev Cert.LastInTIdeal.nD → PrngReg), Pre_LastInTIdeal m →
    θ_run (Cert.LastInTIdeal.defs (F := Ideal)) (onTc (τ := Cert.LastInTIdeal.τ) (Cert.LastInTIdeal.main (F := Ideal))) ⟨m, fun _ => 0, g⟩ (fun r => (∀ c : Dev Cert.LastInTIdeal.nD,
      r.2.mem ((c.tc : Thread Cert.LastInTIdeal.nD Cert.LastInTIdeal.τ).loc Cert.LastInTIdeal.main_arg0) = m ((c.tc : Thread Cert.LastInTIdeal.nD Cert.LastInTIdeal.τ).loc Cert.LastInTIdeal.main_arg0)
      ∧ r.2.mem ((c.tc : Thread Cert.LastInTIdeal.nD Cert.LastInTIdeal.τ).loc Cert.LastInTIdeal.main_arg1) = m ((c.tc : Thread Cert.LastInTIdeal.nD Cert.LastInTIdeal.τ).loc Cert.LastInTIdeal.main_arg1)
      ∧ r.2.mem ((c.tc : Thread Cert.LastInTIdeal.nD Cert.LastInTIdeal.τ).loc Cert.LastInTIdeal.main_arg2) = m ((c.tc : Thread Cert.LastInTIdeal.nD Cert.LastInTIdeal.τ).loc Cert.LastInTIdeal.main_arg2))
      ∧ r.2.sem = fun _ => 0)

def quiescent_LastInTReferenceIdeal [hLastInTReferenceIdeal : Cert.LastInTReferenceIdeal.Facts] : Prop :=
  ∀ (m : (ℓ : Loc Cert.LastInTReferenceIdeal.nD Cert.LastInTReferenceIdeal.τ Cert.LastInTReferenceIdeal.sig) → Buf (Elt Ideal) ℓ) (g : Dev Cert.LastInTReferenceIdeal.nD → PrngReg), Pre_LastInTReferenceIdeal m →
    θ_run (Cert.LastInTReferenceIdeal.defs (F := Ideal)) (onTc (τ := Cert.LastInTReferenceIdeal.τ) (Cert.LastInTReferenceIdeal.main (F := Ideal))) ⟨m, fun _ => 0, g⟩ (fun r => (∀ c : Dev Cert.LastInTReferenceIdeal.nD,
      r.2.mem ((c.tc : Thread Cert.LastInTReferenceIdeal.nD Cert.LastInTReferenceIdeal.τ).loc Cert.LastInTReferenceIdeal.main_arg0) = m ((c.tc : Thread Cert.LastInTReferenceIdeal.nD Cert.LastInTReferenceIdeal.τ).loc Cert.LastInTReferenceIdeal.main_arg0)
      ∧ r.2.mem ((c.tc : Thread Cert.LastInTReferenceIdeal.nD Cert.LastInTReferenceIdeal.τ).loc Cert.LastInTReferenceIdeal.main_arg1) = m ((c.tc : Thread Cert.LastInTReferenceIdeal.nD Cert.LastInTReferenceIdeal.τ).loc Cert.LastInTReferenceIdeal.main_arg1)
      ∧ r.2.mem ((c.tc : Thread Cert.LastInTReferenceIdeal.nD Cert.LastInTReferenceIdeal.τ).loc Cert.LastInTReferenceIdeal.main_arg2) = m ((c.tc : Thread Cert.LastInTReferenceIdeal.nD Cert.LastInTReferenceIdeal.τ).loc Cert.LastInTReferenceIdeal.main_arg2))
      ∧ r.2.sem = fun _ => 0)

def quiescent_LastInW [hLastInW : Cert.LastInW.Facts] : Prop :=
  ∀ (m : (ℓ : Loc Cert.LastInW.nD Cert.LastInW.τ Cert.LastInW.sig) → Buf (Elt Bits) ℓ) (g : Dev Cert.LastInW.nD → PrngReg), Pre_LastInW m →
    θ_run (Cert.LastInW.defs (F := Bits)) (onTc (τ := Cert.LastInW.τ) (Cert.LastInW.main (F := Bits))) ⟨m, fun _ => 0, g⟩ (fun r => (∀ c : Dev Cert.LastInW.nD,
      r.2.mem ((c.tc : Thread Cert.LastInW.nD Cert.LastInW.τ).loc Cert.LastInW.main_arg0) = m ((c.tc : Thread Cert.LastInW.nD Cert.LastInW.τ).loc Cert.LastInW.main_arg0)
      ∧ r.2.mem ((c.tc : Thread Cert.LastInW.nD Cert.LastInW.τ).loc Cert.LastInW.main_arg1) = m ((c.tc : Thread Cert.LastInW.nD Cert.LastInW.τ).loc Cert.LastInW.main_arg1)
      ∧ r.2.mem ((c.tc : Thread Cert.LastInW.nD Cert.LastInW.τ).loc Cert.LastInW.main_arg2) = m ((c.tc : Thread Cert.LastInW.nD Cert.LastInW.τ).loc Cert.LastInW.main_arg2))
      ∧ r.2.sem = fun _ => 0)

def quiescent_LastInWIdeal [hLastInWIdeal : Cert.LastInWIdeal.Facts] : Prop :=
  ∀ (m : (ℓ : Loc Cert.LastInWIdeal.nD Cert.LastInWIdeal.τ Cert.LastInWIdeal.sig) → Buf (Elt Ideal) ℓ) (g : Dev Cert.LastInWIdeal.nD → PrngReg), Pre_LastInWIdeal m →
    θ_run (Cert.LastInWIdeal.defs (F := Ideal)) (onTc (τ := Cert.LastInWIdeal.τ) (Cert.LastInWIdeal.main (F := Ideal))) ⟨m, fun _ => 0, g⟩ (fun r => (∀ c : Dev Cert.LastInWIdeal.nD,
      r.2.mem ((c.tc : Thread Cert.LastInWIdeal.nD Cert.LastInWIdeal.τ).loc Cert.LastInWIdeal.main_arg0) = m ((c.tc : Thread Cert.LastInWIdeal.nD Cert.LastInWIdeal.τ).loc Cert.LastInWIdeal.main_arg0)
      ∧ r.2.mem ((c.tc : Thread Cert.LastInWIdeal.nD Cert.LastInWIdeal.τ).loc Cert.LastInWIdeal.main_arg1) = m ((c.tc : Thread Cert.LastInWIdeal.nD Cert.LastInWIdeal.τ).loc Cert.LastInWIdeal.main_arg1)
      ∧ r.2.mem ((c.tc : Thread Cert.LastInWIdeal.nD Cert.LastInWIdeal.τ).loc Cert.LastInWIdeal.main_arg2) = m ((c.tc : Thread Cert.LastInWIdeal.nD Cert.LastInWIdeal.τ).loc Cert.LastInWIdeal.main_arg2))
      ∧ r.2.sem = fun _ => 0)

def quiescent_LastInWReferenceIdeal [hLastInWReferenceIdeal : Cert.LastInWReferenceIdeal.Facts] : Prop :=
  ∀ (m : (ℓ : Loc Cert.LastInWReferenceIdeal.nD Cert.LastInWReferenceIdeal.τ Cert.LastInWReferenceIdeal.sig) → Buf (Elt Ideal) ℓ) (g : Dev Cert.LastInWReferenceIdeal.nD → PrngReg), Pre_LastInWReferenceIdeal m →
    θ_run (Cert.LastInWReferenceIdeal.defs (F := Ideal)) (onTc (τ := Cert.LastInWReferenceIdeal.τ) (Cert.LastInWReferenceIdeal.main (F := Ideal))) ⟨m, fun _ => 0, g⟩ (fun r => (∀ c : Dev Cert.LastInWReferenceIdeal.nD,
      r.2.mem ((c.tc : Thread Cert.LastInWReferenceIdeal.nD Cert.LastInWReferenceIdeal.τ).loc Cert.LastInWReferenceIdeal.main_arg0) = m ((c.tc : Thread Cert.LastInWReferenceIdeal.nD Cert.LastInWReferenceIdeal.τ).loc Cert.LastInWReferenceIdeal.main_arg0)
      ∧ r.2.mem ((c.tc : Thread Cert.LastInWReferenceIdeal.nD Cert.LastInWReferenceIdeal.τ).loc Cert.LastInWReferenceIdeal.main_arg1) = m ((c.tc : Thread Cert.LastInWReferenceIdeal.nD Cert.LastInWReferenceIdeal.τ).loc Cert.LastInWReferenceIdeal.main_arg1)
      ∧ r.2.mem ((c.tc : Thread Cert.LastInWReferenceIdeal.nD Cert.LastInWReferenceIdeal.τ).loc Cert.LastInWReferenceIdeal.main_arg2) = m ((c.tc : Thread Cert.LastInWReferenceIdeal.nD Cert.LastInWReferenceIdeal.τ).loc Cert.LastInWReferenceIdeal.main_arg2))
      ∧ r.2.sem = fun _ => 0)

def quiescent_LastOut [hLastOut : Cert.LastOut.Facts] : Prop :=
  ∀ (m : (ℓ : Loc Cert.LastOut.nD Cert.LastOut.τ Cert.LastOut.sig) → Buf (Elt Bits) ℓ) (g : Dev Cert.LastOut.nD → PrngReg), Pre_LastOut m →
    θ_run (Cert.LastOut.defs (F := Bits)) (onTc (τ := Cert.LastOut.τ) (Cert.LastOut.main (F := Bits))) ⟨m, fun _ => 0, g⟩ (fun r => (∀ c : Dev Cert.LastOut.nD,
      r.2.mem ((c.tc : Thread Cert.LastOut.nD Cert.LastOut.τ).loc Cert.LastOut.main_arg0) = m ((c.tc : Thread Cert.LastOut.nD Cert.LastOut.τ).loc Cert.LastOut.main_arg0)
      ∧ r.2.mem ((c.tc : Thread Cert.LastOut.nD Cert.LastOut.τ).loc Cert.LastOut.main_arg1) = m ((c.tc : Thread Cert.LastOut.nD Cert.LastOut.τ).loc Cert.LastOut.main_arg1))
      ∧ r.2.sem = fun _ => 0)

def quiescent_LastOutIdeal [hLastOutIdeal : Cert.LastOutIdeal.Facts] : Prop :=
  ∀ (m : (ℓ : Loc Cert.LastOutIdeal.nD Cert.LastOutIdeal.τ Cert.LastOutIdeal.sig) → Buf (Elt Ideal) ℓ) (g : Dev Cert.LastOutIdeal.nD → PrngReg), Pre_LastOutIdeal m →
    θ_run (Cert.LastOutIdeal.defs (F := Ideal)) (onTc (τ := Cert.LastOutIdeal.τ) (Cert.LastOutIdeal.main (F := Ideal))) ⟨m, fun _ => 0, g⟩ (fun r => (∀ c : Dev Cert.LastOutIdeal.nD,
      r.2.mem ((c.tc : Thread Cert.LastOutIdeal.nD Cert.LastOutIdeal.τ).loc Cert.LastOutIdeal.main_arg0) = m ((c.tc : Thread Cert.LastOutIdeal.nD Cert.LastOutIdeal.τ).loc Cert.LastOutIdeal.main_arg0)
      ∧ r.2.mem ((c.tc : Thread Cert.LastOutIdeal.nD Cert.LastOutIdeal.τ).loc Cert.LastOutIdeal.main_arg1) = m ((c.tc : Thread Cert.LastOutIdeal.nD Cert.LastOutIdeal.τ).loc Cert.LastOutIdeal.main_arg1))
      ∧ r.2.sem = fun _ => 0)

def quiescent_LastOutReferenceIdeal [hLastOutReferenceIdeal : Cert.LastOutReferenceIdeal.Facts] : Prop :=
  ∀ (m : (ℓ : Loc Cert.LastOutReferenceIdeal.nD Cert.LastOutReferenceIdeal.τ Cert.LastOutReferenceIdeal.sig) → Buf (Elt Ideal) ℓ) (g : Dev Cert.LastOutReferenceIdeal.nD → PrngReg), Pre_LastOutReferenceIdeal m →
    θ_run (Cert.LastOutReferenceIdeal.defs (F := Ideal)) (onTc (τ := Cert.LastOutReferenceIdeal.τ) (Cert.LastOutReferenceIdeal.main (F := Ideal))) ⟨m, fun _ => 0, g⟩ (fun r => (∀ c : Dev Cert.LastOutReferenceIdeal.nD,
      r.2.mem ((c.tc : Thread Cert.LastOutReferenceIdeal.nD Cert.LastOutReferenceIdeal.τ).loc Cert.LastOutReferenceIdeal.main_arg0) = m ((c.tc : Thread Cert.LastOutReferenceIdeal.nD Cert.LastOutReferenceIdeal.τ).loc Cert.LastOutReferenceIdeal.main_arg0)
      ∧ r.2.mem ((c.tc : Thread Cert.LastOutReferenceIdeal.nD Cert.LastOutReferenceIdeal.τ).loc Cert.LastOutReferenceIdeal.main_arg1) = m ((c.tc : Thread Cert.LastOutReferenceIdeal.nD Cert.LastOutReferenceIdeal.τ).loc Cert.LastOutReferenceIdeal.main_arg1))
      ∧ r.2.sem = fun _ => 0)

def quiescent_LastOutW [hLastOutW : Cert.LastOutW.Facts] : Prop :=
  ∀ (m : (ℓ : Loc Cert.LastOutW.nD Cert.LastOutW.τ Cert.LastOutW.sig) → Buf (Elt Bits) ℓ) (g : Dev Cert.LastOutW.nD → PrngReg), Pre_LastOutW m →
    θ_run (Cert.LastOutW.defs (F := Bits)) (onTc (τ := Cert.LastOutW.τ) (Cert.LastOutW.main (F := Bits))) ⟨m, fun _ => 0, g⟩ (fun r => (∀ c : Dev Cert.LastOutW.nD,
      r.2.mem ((c.tc : Thread Cert.LastOutW.nD Cert.LastOutW.τ).loc Cert.LastOutW.main_arg0) = m ((c.tc : Thread Cert.LastOutW.nD Cert.LastOutW.τ).loc Cert.LastOutW.main_arg0)
      ∧ r.2.mem ((c.tc : Thread Cert.LastOutW.nD Cert.LastOutW.τ).loc Cert.LastOutW.main_arg1) = m ((c.tc : Thread Cert.LastOutW.nD Cert.LastOutW.τ).loc Cert.LastOutW.main_arg1)
      ∧ r.2.mem ((c.tc : Thread Cert.LastOutW.nD Cert.LastOutW.τ).loc Cert.LastOutW.main_arg2) = m ((c.tc : Thread Cert.LastOutW.nD Cert.LastOutW.τ).loc Cert.LastOutW.main_arg2))
      ∧ r.2.sem = fun _ => 0)

def quiescent_LastOutWIdeal [hLastOutWIdeal : Cert.LastOutWIdeal.Facts] : Prop :=
  ∀ (m : (ℓ : Loc Cert.LastOutWIdeal.nD Cert.LastOutWIdeal.τ Cert.LastOutWIdeal.sig) → Buf (Elt Ideal) ℓ) (g : Dev Cert.LastOutWIdeal.nD → PrngReg), Pre_LastOutWIdeal m →
    θ_run (Cert.LastOutWIdeal.defs (F := Ideal)) (onTc (τ := Cert.LastOutWIdeal.τ) (Cert.LastOutWIdeal.main (F := Ideal))) ⟨m, fun _ => 0, g⟩ (fun r => (∀ c : Dev Cert.LastOutWIdeal.nD,
      r.2.mem ((c.tc : Thread Cert.LastOutWIdeal.nD Cert.LastOutWIdeal.τ).loc Cert.LastOutWIdeal.main_arg0) = m ((c.tc : Thread Cert.LastOutWIdeal.nD Cert.LastOutWIdeal.τ).loc Cert.LastOutWIdeal.main_arg0)
      ∧ r.2.mem ((c.tc : Thread Cert.LastOutWIdeal.nD Cert.LastOutWIdeal.τ).loc Cert.LastOutWIdeal.main_arg1) = m ((c.tc : Thread Cert.LastOutWIdeal.nD Cert.LastOutWIdeal.τ).loc Cert.LastOutWIdeal.main_arg1)
      ∧ r.2.mem ((c.tc : Thread Cert.LastOutWIdeal.nD Cert.LastOutWIdeal.τ).loc Cert.LastOutWIdeal.main_arg2) = m ((c.tc : Thread Cert.LastOutWIdeal.nD Cert.LastOutWIdeal.τ).loc Cert.LastOutWIdeal.main_arg2))
      ∧ r.2.sem = fun _ => 0)

def quiescent_LastOutWReferenceIdeal [hLastOutWReferenceIdeal : Cert.LastOutWReferenceIdeal.Facts] : Prop :=
  ∀ (m : (ℓ : Loc Cert.LastOutWReferenceIdeal.nD Cert.LastOutWReferenceIdeal.τ Cert.LastOutWReferenceIdeal.sig) → Buf (Elt Ideal) ℓ) (g : Dev Cert.LastOutWReferenceIdeal.nD → PrngReg), Pre_LastOutWReferenceIdeal m →
    θ_run (Cert.LastOutWReferenceIdeal.defs (F := Ideal)) (onTc (τ := Cert.LastOutWReferenceIdeal.τ) (Cert.LastOutWReferenceIdeal.main (F := Ideal))) ⟨m, fun _ => 0, g⟩ (fun r => (∀ c : Dev Cert.LastOutWReferenceIdeal.nD,
      r.2.mem ((c.tc : Thread Cert.LastOutWReferenceIdeal.nD Cert.LastOutWReferenceIdeal.τ).loc Cert.LastOutWReferenceIdeal.main_arg0) = m ((c.tc : Thread Cert.LastOutWReferenceIdeal.nD Cert.LastOutWReferenceIdeal.τ).loc Cert.LastOutWReferenceIdeal.main_arg0)
      ∧ r.2.mem ((c.tc : Thread Cert.LastOutWReferenceIdeal.nD Cert.LastOutWReferenceIdeal.τ).loc Cert.LastOutWReferenceIdeal.main_arg1) = m ((c.tc : Thread Cert.LastOutWReferenceIdeal.nD Cert.LastOutWReferenceIdeal.τ).loc Cert.LastOutWReferenceIdeal.main_arg1)
      ∧ r.2.mem ((c.tc : Thread Cert.LastOutWReferenceIdeal.nD Cert.LastOutWReferenceIdeal.τ).loc Cert.LastOutWReferenceIdeal.main_arg2) = m ((c.tc : Thread Cert.LastOutWReferenceIdeal.nD Cert.LastOutWReferenceIdeal.τ).loc Cert.LastOutWReferenceIdeal.main_arg2))
      ∧ r.2.sem = fun _ => 0)

def quiescent_EvenIn [hEvenIn : Cert.EvenIn.Facts] : Prop :=
  ∀ (m : (ℓ : Loc Cert.EvenIn.nD Cert.EvenIn.τ Cert.EvenIn.sig) → Buf (Elt Bits) ℓ) (g : Dev Cert.EvenIn.nD → PrngReg), Pre_EvenIn m →
    θ_run (Cert.EvenIn.defs (F := Bits)) (onTc (τ := Cert.EvenIn.τ) (Cert.EvenIn.main (F := Bits))) ⟨m, fun _ => 0, g⟩ (fun r => (∀ c : Dev Cert.EvenIn.nD,
      r.2.mem ((c.tc : Thread Cert.EvenIn.nD Cert.EvenIn.τ).loc Cert.EvenIn.main_arg0) = m ((c.tc : Thread Cert.EvenIn.nD Cert.EvenIn.τ).loc Cert.EvenIn.main_arg0)
      ∧ r.2.mem ((c.tc : Thread Cert.EvenIn.nD Cert.EvenIn.τ).loc Cert.EvenIn.main_arg1) = m ((c.tc : Thread Cert.EvenIn.nD Cert.EvenIn.τ).loc Cert.EvenIn.main_arg1))
      ∧ r.2.sem = fun _ => 0)

def quiescent_EvenInIdeal [hEvenInIdeal : Cert.EvenInIdeal.Facts] : Prop :=
  ∀ (m : (ℓ : Loc Cert.EvenInIdeal.nD Cert.EvenInIdeal.τ Cert.EvenInIdeal.sig) → Buf (Elt Ideal) ℓ) (g : Dev Cert.EvenInIdeal.nD → PrngReg), Pre_EvenInIdeal m →
    θ_run (Cert.EvenInIdeal.defs (F := Ideal)) (onTc (τ := Cert.EvenInIdeal.τ) (Cert.EvenInIdeal.main (F := Ideal))) ⟨m, fun _ => 0, g⟩ (fun r => (∀ c : Dev Cert.EvenInIdeal.nD,
      r.2.mem ((c.tc : Thread Cert.EvenInIdeal.nD Cert.EvenInIdeal.τ).loc Cert.EvenInIdeal.main_arg0) = m ((c.tc : Thread Cert.EvenInIdeal.nD Cert.EvenInIdeal.τ).loc Cert.EvenInIdeal.main_arg0)
      ∧ r.2.mem ((c.tc : Thread Cert.EvenInIdeal.nD Cert.EvenInIdeal.τ).loc Cert.EvenInIdeal.main_arg1) = m ((c.tc : Thread Cert.EvenInIdeal.nD Cert.EvenInIdeal.τ).loc Cert.EvenInIdeal.main_arg1))
      ∧ r.2.sem = fun _ => 0)

def quiescent_EvenInReferenceIdeal [hEvenInReferenceIdeal : Cert.EvenInReferenceIdeal.Facts] : Prop :=
  ∀ (m : (ℓ : Loc Cert.EvenInReferenceIdeal.nD Cert.EvenInReferenceIdeal.τ Cert.EvenInReferenceIdeal.sig) → Buf (Elt Ideal) ℓ) (g : Dev Cert.EvenInReferenceIdeal.nD → PrngReg), Pre_EvenInReferenceIdeal m →
    θ_run (Cert.EvenInReferenceIdeal.defs (F := Ideal)) (onTc (τ := Cert.EvenInReferenceIdeal.τ) (Cert.EvenInReferenceIdeal.main (F := Ideal))) ⟨m, fun _ => 0, g⟩ (fun r => (∀ c : Dev Cert.EvenInReferenceIdeal.nD,
      r.2.mem ((c.tc : Thread Cert.EvenInReferenceIdeal.nD Cert.EvenInReferenceIdeal.τ).loc Cert.EvenInReferenceIdeal.main_arg0) = m ((c.tc : Thread Cert.EvenInReferenceIdeal.nD Cert.EvenInReferenceIdeal.τ).loc Cert.EvenInReferenceIdeal.main_arg0)
      ∧ r.2.mem ((c.tc : Thread Cert.EvenInReferenceIdeal.nD Cert.EvenInReferenceIdeal.τ).loc Cert.EvenInReferenceIdeal.main_arg1) = m ((c.tc : Thread Cert.EvenInReferenceIdeal.nD Cert.EvenInReferenceIdeal.τ).loc Cert.EvenInReferenceIdeal.main_arg1))
      ∧ r.2.sem = fun _ => 0)

def quiescent_EvenInT [hEvenInT : Cert.EvenInT.Facts] : Prop :=
  ∀ (m : (ℓ : Loc Cert.EvenInT.nD Cert.EvenInT.τ Cert.EvenInT.sig) → Buf (Elt Bits) ℓ) (g : Dev Cert.EvenInT.nD → PrngReg), Pre_EvenInT m →
    θ_run (Cert.EvenInT.defs (F := Bits)) (onTc (τ := Cert.EvenInT.τ) (Cert.EvenInT.main (F := Bits))) ⟨m, fun _ => 0, g⟩ (fun r => (∀ c : Dev Cert.EvenInT.nD,
      r.2.mem ((c.tc : Thread Cert.EvenInT.nD Cert.EvenInT.τ).loc Cert.EvenInT.main_arg0) = m ((c.tc : Thread Cert.EvenInT.nD Cert.EvenInT.τ).loc Cert.EvenInT.main_arg0)
      ∧ r.2.mem ((c.tc : Thread Cert.EvenInT.nD Cert.EvenInT.τ).loc Cert.EvenInT.main_arg1) = m ((c.tc : Thread Cert.EvenInT.nD Cert.EvenInT.τ).loc Cert.EvenInT.main_arg1)
      ∧ r.2.mem ((c.tc : Thread Cert.EvenInT.nD Cert.EvenInT.τ).loc Cert.EvenInT.main_arg2) = m ((c.tc : Thread Cert.EvenInT.nD Cert.EvenInT.τ).loc Cert.EvenInT.main_arg2))
      ∧ r.2.sem = fun _ => 0)

def quiescent_EvenInTIdeal [hEvenInTIdeal : Cert.EvenInTIdeal.Facts] : Prop :=
  ∀ (m : (ℓ : Loc Cert.EvenInTIdeal.nD Cert.EvenInTIdeal.τ Cert.EvenInTIdeal.sig) → Buf (Elt Ideal) ℓ) (g : Dev Cert.EvenInTIdeal.nD → PrngReg), Pre_EvenInTIdeal m →
    θ_run (Cert.EvenInTIdeal.defs (F := Ideal)) (onTc (τ := Cert.EvenInTIdeal.τ) (Cert.EvenInTIdeal.main (F := Ideal))) ⟨m, fun _ => 0, g⟩ (fun r => (∀ c : Dev Cert.EvenInTIdeal.nD,
      r.2.mem ((c.tc : Thread Cert.EvenInTIdeal.nD Cert.EvenInTIdeal.τ).loc Cert.EvenInTIdeal.main_arg0) = m ((c.tc : Thread Cert.EvenInTIdeal.nD Cert.EvenInTIdeal.τ).loc Cert.EvenInTIdeal.main_arg0)
      ∧ r.2.mem ((c.tc : Thread Cert.EvenInTIdeal.nD Cert.EvenInTIdeal.τ).loc Cert.EvenInTIdeal.main_arg1) = m ((c.tc : Thread Cert.EvenInTIdeal.nD Cert.EvenInTIdeal.τ).loc Cert.EvenInTIdeal.main_arg1)
      ∧ r.2.mem ((c.tc : Thread Cert.EvenInTIdeal.nD Cert.EvenInTIdeal.τ).loc Cert.EvenInTIdeal.main_arg2) = m ((c.tc : Thread Cert.EvenInTIdeal.nD Cert.EvenInTIdeal.τ).loc Cert.EvenInTIdeal.main_arg2))
      ∧ r.2.sem = fun _ => 0)

def quiescent_EvenInTReferenceIdeal [hEvenInTReferenceIdeal : Cert.EvenInTReferenceIdeal.Facts] : Prop :=
  ∀ (m : (ℓ : Loc Cert.EvenInTReferenceIdeal.nD Cert.EvenInTReferenceIdeal.τ Cert.EvenInTReferenceIdeal.sig) → Buf (Elt Ideal) ℓ) (g : Dev Cert.EvenInTReferenceIdeal.nD → PrngReg), Pre_EvenInTReferenceIdeal m →
    θ_run (Cert.EvenInTReferenceIdeal.defs (F := Ideal)) (onTc (τ := Cert.EvenInTReferenceIdeal.τ) (Cert.EvenInTReferenceIdeal.main (F := Ideal))) ⟨m, fun _ => 0, g⟩ (fun r => (∀ c : Dev Cert.EvenInTReferenceIdeal.nD,
      r.2.mem ((c.tc : Thread Cert.EvenInTReferenceIdeal.nD Cert.EvenInTReferenceIdeal.τ).loc Cert.EvenInTReferenceIdeal.main_arg0) = m ((c.tc : Thread Cert.EvenInTReferenceIdeal.nD Cert.EvenInTReferenceIdeal.τ).loc Cert.EvenInTReferenceIdeal.main_arg0)
      ∧ r.2.mem ((c.tc : Thread Cert.EvenInTReferenceIdeal.nD Cert.EvenInTReferenceIdeal.τ).loc Cert.EvenInTReferenceIdeal.main_arg1) = m ((c.tc : Thread Cert.EvenInTReferenceIdeal.nD Cert.EvenInTReferenceIdeal.τ).loc Cert.EvenInTReferenceIdeal.main_arg1)
      ∧ r.2.mem ((c.tc : Thread Cert.EvenInTReferenceIdeal.nD Cert.EvenInTReferenceIdeal.τ).loc Cert.EvenInTReferenceIdeal.main_arg2) = m ((c.tc : Thread Cert.EvenInTReferenceIdeal.nD Cert.EvenInTReferenceIdeal.τ).loc Cert.EvenInTReferenceIdeal.main_arg2))
      ∧ r.2.sem = fun _ => 0)

def quiescent_EvenInW [hEvenInW : Cert.EvenInW.Facts] : Prop :=
  ∀ (m : (ℓ : Loc Cert.EvenInW.nD Cert.EvenInW.τ Cert.EvenInW.sig) → Buf (Elt Bits) ℓ) (g : Dev Cert.EvenInW.nD → PrngReg), Pre_EvenInW m →
    θ_run (Cert.EvenInW.defs (F := Bits)) (onTc (τ := Cert.EvenInW.τ) (Cert.EvenInW.main (F := Bits))) ⟨m, fun _ => 0, g⟩ (fun r => (∀ c : Dev Cert.EvenInW.nD,
      r.2.mem ((c.tc : Thread Cert.EvenInW.nD Cert.EvenInW.τ).loc Cert.EvenInW.main_arg0) = m ((c.tc : Thread Cert.EvenInW.nD Cert.EvenInW.τ).loc Cert.EvenInW.main_arg0)
      ∧ r.2.mem ((c.tc : Thread Cert.EvenInW.nD Cert.EvenInW.τ).loc Cert.EvenInW.main_arg1) = m ((c.tc : Thread Cert.EvenInW.nD Cert.EvenInW.τ).loc Cert.EvenInW.main_arg1)
      ∧ r.2.mem ((c.tc : Thread Cert.EvenInW.nD Cert.EvenInW.τ).loc Cert.EvenInW.main_arg2) = m ((c.tc : Thread Cert.EvenInW.nD Cert.EvenInW.τ).loc Cert.EvenInW.main_arg2))
      ∧ r.2.sem = fun _ => 0)

def quiescent_EvenInWIdeal [hEvenInWIdeal : Cert.EvenInWIdeal.Facts] : Prop :=
  ∀ (m : (ℓ : Loc Cert.EvenInWIdeal.nD Cert.EvenInWIdeal.τ Cert.EvenInWIdeal.sig) → Buf (Elt Ideal) ℓ) (g : Dev Cert.EvenInWIdeal.nD → PrngReg), Pre_EvenInWIdeal m →
    θ_run (Cert.EvenInWIdeal.defs (F := Ideal)) (onTc (τ := Cert.EvenInWIdeal.τ) (Cert.EvenInWIdeal.main (F := Ideal))) ⟨m, fun _ => 0, g⟩ (fun r => (∀ c : Dev Cert.EvenInWIdeal.nD,
      r.2.mem ((c.tc : Thread Cert.EvenInWIdeal.nD Cert.EvenInWIdeal.τ).loc Cert.EvenInWIdeal.main_arg0) = m ((c.tc : Thread Cert.EvenInWIdeal.nD Cert.EvenInWIdeal.τ).loc Cert.EvenInWIdeal.main_arg0)
      ∧ r.2.mem ((c.tc : Thread Cert.EvenInWIdeal.nD Cert.EvenInWIdeal.τ).loc Cert.EvenInWIdeal.main_arg1) = m ((c.tc : Thread Cert.EvenInWIdeal.nD Cert.EvenInWIdeal.τ).loc Cert.EvenInWIdeal.main_arg1)
      ∧ r.2.mem ((c.tc : Thread Cert.EvenInWIdeal.nD Cert.EvenInWIdeal.τ).loc Cert.EvenInWIdeal.main_arg2) = m ((c.tc : Thread Cert.EvenInWIdeal.nD Cert.EvenInWIdeal.τ).loc Cert.EvenInWIdeal.main_arg2))
      ∧ r.2.sem = fun _ => 0)

def quiescent_EvenInWReferenceIdeal [hEvenInWReferenceIdeal : Cert.EvenInWReferenceIdeal.Facts] : Prop :=
  ∀ (m : (ℓ : Loc Cert.EvenInWReferenceIdeal.nD Cert.EvenInWReferenceIdeal.τ Cert.EvenInWReferenceIdeal.sig) → Buf (Elt Ideal) ℓ) (g : Dev Cert.EvenInWReferenceIdeal.nD → PrngReg), Pre_EvenInWReferenceIdeal m →
    θ_run (Cert.EvenInWReferenceIdeal.defs (F := Ideal)) (onTc (τ := Cert.EvenInWReferenceIdeal.τ) (Cert.EvenInWReferenceIdeal.main (F := Ideal))) ⟨m, fun _ => 0, g⟩ (fun r => (∀ c : Dev Cert.EvenInWReferenceIdeal.nD,
      r.2.mem ((c.tc : Thread Cert.EvenInWReferenceIdeal.nD Cert.EvenInWReferenceIdeal.τ).loc Cert.EvenInWReferenceIdeal.main_arg0) = m ((c.tc : Thread Cert.EvenInWReferenceIdeal.nD Cert.EvenInWReferenceIdeal.τ).loc Cert.EvenInWReferenceIdeal.main_arg0)
      ∧ r.2.mem ((c.tc : Thread Cert.EvenInWReferenceIdeal.nD Cert.EvenInWReferenceIdeal.τ).loc Cert.EvenInWReferenceIdeal.main_arg1) = m ((c.tc : Thread Cert.EvenInWReferenceIdeal.nD Cert.EvenInWReferenceIdeal.τ).loc Cert.EvenInWReferenceIdeal.main_arg1)
      ∧ r.2.mem ((c.tc : Thread Cert.EvenInWReferenceIdeal.nD Cert.EvenInWReferenceIdeal.τ).loc Cert.EvenInWReferenceIdeal.main_arg2) = m ((c.tc : Thread Cert.EvenInWReferenceIdeal.nD Cert.EvenInWReferenceIdeal.τ).loc Cert.EvenInWReferenceIdeal.main_arg2))
      ∧ r.2.sem = fun _ => 0)

def quiescent_OddIn [hOddIn : Cert.OddIn.Facts] : Prop :=
  ∀ (m : (ℓ : Loc Cert.OddIn.nD Cert.OddIn.τ Cert.OddIn.sig) → Buf (Elt Bits) ℓ) (g : Dev Cert.OddIn.nD → PrngReg), Pre_OddIn m →
    θ_run (Cert.OddIn.defs (F := Bits)) (onTc (τ := Cert.OddIn.τ) (Cert.OddIn.main (F := Bits))) ⟨m, fun _ => 0, g⟩ (fun r => (∀ c : Dev Cert.OddIn.nD,
      r.2.mem ((c.tc : Thread Cert.OddIn.nD Cert.OddIn.τ).loc Cert.OddIn.main_arg0) = m ((c.tc : Thread Cert.OddIn.nD Cert.OddIn.τ).loc Cert.OddIn.main_arg0)
      ∧ r.2.mem ((c.tc : Thread Cert.OddIn.nD Cert.OddIn.τ).loc Cert.OddIn.main_arg1) = m ((c.tc : Thread Cert.OddIn.nD Cert.OddIn.τ).loc Cert.OddIn.main_arg1))
      ∧ r.2.sem = fun _ => 0)

def quiescent_OddInIdeal [hOddInIdeal : Cert.OddInIdeal.Facts] : Prop :=
  ∀ (m : (ℓ : Loc Cert.OddInIdeal.nD Cert.OddInIdeal.τ Cert.OddInIdeal.sig) → Buf (Elt Ideal) ℓ) (g : Dev Cert.OddInIdeal.nD → PrngReg), Pre_OddInIdeal m →
    θ_run (Cert.OddInIdeal.defs (F := Ideal)) (onTc (τ := Cert.OddInIdeal.τ) (Cert.OddInIdeal.main (F := Ideal))) ⟨m, fun _ => 0, g⟩ (fun r => (∀ c : Dev Cert.OddInIdeal.nD,
      r.2.mem ((c.tc : Thread Cert.OddInIdeal.nD Cert.OddInIdeal.τ).loc Cert.OddInIdeal.main_arg0) = m ((c.tc : Thread Cert.OddInIdeal.nD Cert.OddInIdeal.τ).loc Cert.OddInIdeal.main_arg0)
      ∧ r.2.mem ((c.tc : Thread Cert.OddInIdeal.nD Cert.OddInIdeal.τ).loc Cert.OddInIdeal.main_arg1) = m ((c.tc : Thread Cert.OddInIdeal.nD Cert.OddInIdeal.τ).loc Cert.OddInIdeal.main_arg1))
      ∧ r.2.sem = fun _ => 0)

def quiescent_OddInReferenceIdeal [hOddInReferenceIdeal : Cert.OddInReferenceIdeal.Facts] : Prop :=
  ∀ (m : (ℓ : Loc Cert.OddInReferenceIdeal.nD Cert.OddInReferenceIdeal.τ Cert.OddInReferenceIdeal.sig) → Buf (Elt Ideal) ℓ) (g : Dev Cert.OddInReferenceIdeal.nD → PrngReg), Pre_OddInReferenceIdeal m →
    θ_run (Cert.OddInReferenceIdeal.defs (F := Ideal)) (onTc (τ := Cert.OddInReferenceIdeal.τ) (Cert.OddInReferenceIdeal.main (F := Ideal))) ⟨m, fun _ => 0, g⟩ (fun r => (∀ c : Dev Cert.OddInReferenceIdeal.nD,
      r.2.mem ((c.tc : Thread Cert.OddInReferenceIdeal.nD Cert.OddInReferenceIdeal.τ).loc Cert.OddInReferenceIdeal.main_arg0) = m ((c.tc : Thread Cert.OddInReferenceIdeal.nD Cert.OddInReferenceIdeal.τ).loc Cert.OddInReferenceIdeal.main_arg0)
      ∧ r.2.mem ((c.tc : Thread Cert.OddInReferenceIdeal.nD Cert.OddInReferenceIdeal.τ).loc Cert.OddInReferenceIdeal.main_arg1) = m ((c.tc : Thread Cert.OddInReferenceIdeal.nD Cert.OddInReferenceIdeal.τ).loc Cert.OddInReferenceIdeal.main_arg1))
      ∧ r.2.sem = fun _ => 0)

def quiescent_OddInT [hOddInT : Cert.OddInT.Facts] : Prop :=
  ∀ (m : (ℓ : Loc Cert.OddInT.nD Cert.OddInT.τ Cert.OddInT.sig) → Buf (Elt Bits) ℓ) (g : Dev Cert.OddInT.nD → PrngReg), Pre_OddInT m →
    θ_run (Cert.OddInT.defs (F := Bits)) (onTc (τ := Cert.OddInT.τ) (Cert.OddInT.main (F := Bits))) ⟨m, fun _ => 0, g⟩ (fun r => (∀ c : Dev Cert.OddInT.nD,
      r.2.mem ((c.tc : Thread Cert.OddInT.nD Cert.OddInT.τ).loc Cert.OddInT.main_arg0) = m ((c.tc : Thread Cert.OddInT.nD Cert.OddInT.τ).loc Cert.OddInT.main_arg0)
      ∧ r.2.mem ((c.tc : Thread Cert.OddInT.nD Cert.OddInT.τ).loc Cert.OddInT.main_arg1) = m ((c.tc : Thread Cert.OddInT.nD Cert.OddInT.τ).loc Cert.OddInT.main_arg1)
      ∧ r.2.mem ((c.tc : Thread Cert.OddInT.nD Cert.OddInT.τ).loc Cert.OddInT.main_arg2) = m ((c.tc : Thread Cert.OddInT.nD Cert.OddInT.τ).loc Cert.OddInT.main_arg2))
      ∧ r.2.sem = fun _ => 0)

def quiescent_OddInTIdeal [hOddInTIdeal : Cert.OddInTIdeal.Facts] : Prop :=
  ∀ (m : (ℓ : Loc Cert.OddInTIdeal.nD Cert.OddInTIdeal.τ Cert.OddInTIdeal.sig) → Buf (Elt Ideal) ℓ) (g : Dev Cert.OddInTIdeal.nD → PrngReg), Pre_OddInTIdeal m →
    θ_run (Cert.OddInTIdeal.defs (F := Ideal)) (onTc (τ := Cert.OddInTIdeal.τ) (Cert.OddInTIdeal.main (F := Ideal))) ⟨m, fun _ => 0, g⟩ (fun r => (∀ c : Dev Cert.OddInTIdeal.nD,
      r.2.mem ((c.tc : Thread Cert.OddInTIdeal.nD Cert.OddInTIdeal.τ).loc Cert.OddInTIdeal.main_arg0) = m ((c.tc : Thread Cert.OddInTIdeal.nD Cert.OddInTIdeal.τ).loc Cert.OddInTIdeal.main_arg0)
      ∧ r.2.mem ((c.tc : Thread Cert.OddInTIdeal.nD Cert.OddInTIdeal.τ).loc Cert.OddInTIdeal.main_arg1) = m ((c.tc : Thread Cert.OddInTIdeal.nD Cert.OddInTIdeal.τ).loc Cert.OddInTIdeal.main_arg1)
      ∧ r.2.mem ((c.tc : Thread Cert.OddInTIdeal.nD Cert.OddInTIdeal.τ).loc Cert.OddInTIdeal.main_arg2) = m ((c.tc : Thread Cert.OddInTIdeal.nD Cert.OddInTIdeal.τ).loc Cert.OddInTIdeal.main_arg2))
      ∧ r.2.sem = fun _ => 0)

def quiescent_OddInTReferenceIdeal [hOddInTReferenceIdeal : Cert.OddInTReferenceIdeal.Facts] : Prop :=
  ∀ (m : (ℓ : Loc Cert.OddInTReferenceIdeal.nD Cert.OddInTReferenceIdeal.τ Cert.OddInTReferenceIdeal.sig) → Buf (Elt Ideal) ℓ) (g : Dev Cert.OddInTReferenceIdeal.nD → PrngReg), Pre_OddInTReferenceIdeal m →
    θ_run (Cert.OddInTReferenceIdeal.defs (F := Ideal)) (onTc (τ := Cert.OddInTReferenceIdeal.τ) (Cert.OddInTReferenceIdeal.main (F := Ideal))) ⟨m, fun _ => 0, g⟩ (fun r => (∀ c : Dev Cert.OddInTReferenceIdeal.nD,
      r.2.mem ((c.tc : Thread Cert.OddInTReferenceIdeal.nD Cert.OddInTReferenceIdeal.τ).loc Cert.OddInTReferenceIdeal.main_arg0) = m ((c.tc : Thread Cert.OddInTReferenceIdeal.nD Cert.OddInTReferenceIdeal.τ).loc Cert.OddInTReferenceIdeal.main_arg0)
      ∧ r.2.mem ((c.tc : Thread Cert.OddInTReferenceIdeal.nD Cert.OddInTReferenceIdeal.τ).loc Cert.OddInTReferenceIdeal.main_arg1) = m ((c.tc : Thread Cert.OddInTReferenceIdeal.nD Cert.OddInTReferenceIdeal.τ).loc Cert.OddInTReferenceIdeal.main_arg1)
      ∧ r.2.mem ((c.tc : Thread Cert.OddInTReferenceIdeal.nD Cert.OddInTReferenceIdeal.τ).loc Cert.OddInTReferenceIdeal.main_arg2) = m ((c.tc : Thread Cert.OddInTReferenceIdeal.nD Cert.OddInTReferenceIdeal.τ).loc Cert.OddInTReferenceIdeal.main_arg2))
      ∧ r.2.sem = fun _ => 0)

def quiescent_OddInW [hOddInW : Cert.OddInW.Facts] : Prop :=
  ∀ (m : (ℓ : Loc Cert.OddInW.nD Cert.OddInW.τ Cert.OddInW.sig) → Buf (Elt Bits) ℓ) (g : Dev Cert.OddInW.nD → PrngReg), Pre_OddInW m →
    θ_run (Cert.OddInW.defs (F := Bits)) (onTc (τ := Cert.OddInW.τ) (Cert.OddInW.main (F := Bits))) ⟨m, fun _ => 0, g⟩ (fun r => (∀ c : Dev Cert.OddInW.nD,
      r.2.mem ((c.tc : Thread Cert.OddInW.nD Cert.OddInW.τ).loc Cert.OddInW.main_arg0) = m ((c.tc : Thread Cert.OddInW.nD Cert.OddInW.τ).loc Cert.OddInW.main_arg0)
      ∧ r.2.mem ((c.tc : Thread Cert.OddInW.nD Cert.OddInW.τ).loc Cert.OddInW.main_arg1) = m ((c.tc : Thread Cert.OddInW.nD Cert.OddInW.τ).loc Cert.OddInW.main_arg1)
      ∧ r.2.mem ((c.tc : Thread Cert.OddInW.nD Cert.OddInW.τ).loc Cert.OddInW.main_arg2) = m ((c.tc : Thread Cert.OddInW.nD Cert.OddInW.τ).loc Cert.OddInW.main_arg2))
      ∧ r.2.sem = fun _ => 0)

def quiescent_OddInWIdeal [hOddInWIdeal : Cert.OddInWIdeal.Facts] : Prop :=
  ∀ (m : (ℓ : Loc Cert.OddInWIdeal.nD Cert.OddInWIdeal.τ Cert.OddInWIdeal.sig) → Buf (Elt Ideal) ℓ) (g : Dev Cert.OddInWIdeal.nD → PrngReg), Pre_OddInWIdeal m →
    θ_run (Cert.OddInWIdeal.defs (F := Ideal)) (onTc (τ := Cert.OddInWIdeal.τ) (Cert.OddInWIdeal.main (F := Ideal))) ⟨m, fun _ => 0, g⟩ (fun r => (∀ c : Dev Cert.OddInWIdeal.nD,
      r.2.mem ((c.tc : Thread Cert.OddInWIdeal.nD Cert.OddInWIdeal.τ).loc Cert.OddInWIdeal.main_arg0) = m ((c.tc : Thread Cert.OddInWIdeal.nD Cert.OddInWIdeal.τ).loc Cert.OddInWIdeal.main_arg0)
      ∧ r.2.mem ((c.tc : Thread Cert.OddInWIdeal.nD Cert.OddInWIdeal.τ).loc Cert.OddInWIdeal.main_arg1) = m ((c.tc : Thread Cert.OddInWIdeal.nD Cert.OddInWIdeal.τ).loc Cert.OddInWIdeal.main_arg1)
      ∧ r.2.mem ((c.tc : Thread Cert.OddInWIdeal.nD Cert.OddInWIdeal.τ).loc Cert.OddInWIdeal.main_arg2) = m ((c.tc : Thread Cert.OddInWIdeal.nD Cert.OddInWIdeal.τ).loc Cert.OddInWIdeal.main_arg2))
      ∧ r.2.sem = fun _ => 0)

def quiescent_OddInWReferenceIdeal [hOddInWReferenceIdeal : Cert.OddInWReferenceIdeal.Facts] : Prop :=
  ∀ (m : (ℓ : Loc Cert.OddInWReferenceIdeal.nD Cert.OddInWReferenceIdeal.τ Cert.OddInWReferenceIdeal.sig) → Buf (Elt Ideal) ℓ) (g : Dev Cert.OddInWReferenceIdeal.nD → PrngReg), Pre_OddInWReferenceIdeal m →
    θ_run (Cert.OddInWReferenceIdeal.defs (F := Ideal)) (onTc (τ := Cert.OddInWReferenceIdeal.τ) (Cert.OddInWReferenceIdeal.main (F := Ideal))) ⟨m, fun _ => 0, g⟩ (fun r => (∀ c : Dev Cert.OddInWReferenceIdeal.nD,
      r.2.mem ((c.tc : Thread Cert.OddInWReferenceIdeal.nD Cert.OddInWReferenceIdeal.τ).loc Cert.OddInWReferenceIdeal.main_arg0) = m ((c.tc : Thread Cert.OddInWReferenceIdeal.nD Cert.OddInWReferenceIdeal.τ).loc Cert.OddInWReferenceIdeal.main_arg0)
      ∧ r.2.mem ((c.tc : Thread Cert.OddInWReferenceIdeal.nD Cert.OddInWReferenceIdeal.τ).loc Cert.OddInWReferenceIdeal.main_arg1) = m ((c.tc : Thread Cert.OddInWReferenceIdeal.nD Cert.OddInWReferenceIdeal.τ).loc Cert.OddInWReferenceIdeal.main_arg1)
      ∧ r.2.mem ((c.tc : Thread Cert.OddInWReferenceIdeal.nD Cert.OddInWReferenceIdeal.τ).loc Cert.OddInWReferenceIdeal.main_arg2) = m ((c.tc : Thread Cert.OddInWReferenceIdeal.nD Cert.OddInWReferenceIdeal.τ).loc Cert.OddInWReferenceIdeal.main_arg2))
      ∧ r.2.sem = fun _ => 0)

def quiescent_MlaQ [hMlaQ : Cert.MlaQ.Facts] : Prop :=
  ∀ (m : (ℓ : Loc Cert.MlaQ.nD Cert.MlaQ.τ Cert.MlaQ.sig) → Buf (Elt Bits) ℓ) (g : Dev Cert.MlaQ.nD → PrngReg), Pre_MlaQ m →
    θ_run (Cert.MlaQ.defs (F := Bits)) (onTc (τ := Cert.MlaQ.τ) (Cert.MlaQ.main (F := Bits))) ⟨m, fun _ => 0, g⟩ (fun r => (∀ c : Dev Cert.MlaQ.nD,
      r.2.mem ((c.tc : Thread Cert.MlaQ.nD Cert.MlaQ.τ).loc Cert.MlaQ.main_arg0) = m ((c.tc : Thread Cert.MlaQ.nD Cert.MlaQ.τ).loc Cert.MlaQ.main_arg0)
      ∧ r.2.mem ((c.tc : Thread Cert.MlaQ.nD Cert.MlaQ.τ).loc Cert.MlaQ.main_arg1) = m ((c.tc : Thread Cert.MlaQ.nD Cert.MlaQ.τ).loc Cert.MlaQ.main_arg1))
      ∧ r.2.sem = fun _ => 0)

def quiescent_MlaQIdeal [hMlaQIdeal : Cert.MlaQIdeal.Facts] : Prop :=
  ∀ (m : (ℓ : Loc Cert.MlaQIdeal.nD Cert.MlaQIdeal.τ Cert.MlaQIdeal.sig) → Buf (Elt Ideal) ℓ) (g : Dev Cert.MlaQIdeal.nD → PrngReg), Pre_MlaQIdeal m →
    θ_run (Cert.MlaQIdeal.defs (F := Ideal)) (onTc (τ := Cert.MlaQIdeal.τ) (Cert.MlaQIdeal.main (F := Ideal))) ⟨m, fun _ => 0, g⟩ (fun r => (∀ c : Dev Cert.MlaQIdeal.nD,
      r.2.mem ((c.tc : Thread Cert.MlaQIdeal.nD Cert.MlaQIdeal.τ).loc Cert.MlaQIdeal.main_arg0) = m ((c.tc : Thread Cert.MlaQIdeal.nD Cert.MlaQIdeal.τ).loc Cert.MlaQIdeal.main_arg0)
      ∧ r.2.mem ((c.tc : Thread Cert.MlaQIdeal.nD Cert.MlaQIdeal.τ).loc Cert.MlaQIdeal.main_arg1) = m ((c.tc : Thread Cert.MlaQIdeal.nD Cert.MlaQIdeal.τ).loc Cert.MlaQIdeal.main_arg1))
      ∧ r.2.sem = fun _ => 0)

def quiescent_MlaQReferenceIdeal [hMlaQReferenceIdeal : Cert.MlaQReferenceIdeal.Facts] : Prop :=
  ∀ (m : (ℓ : Loc Cert.MlaQReferenceIdeal.nD Cert.MlaQReferenceIdeal.τ Cert.MlaQReferenceIdeal.sig) → Buf (Elt Ideal) ℓ) (g : Dev Cert.MlaQReferenceIdeal.nD → PrngReg), Pre_MlaQReferenceIdeal m →
    θ_run (Cert.MlaQReferenceIdeal.defs (F := Ideal)) (onTc (τ := Cert.MlaQReferenceIdeal.τ) (Cert.MlaQReferenceIdeal.main (F := Ideal))) ⟨m, fun _ => 0, g⟩ (fun r => (∀ c : Dev Cert.MlaQReferenceIdeal.nD,
      r.2.mem ((c.tc : Thread Cert.MlaQReferenceIdeal.nD Cert.MlaQReferenceIdeal.τ).loc Cert.MlaQReferenceIdeal.main_arg0) = m ((c.tc : Thread Cert.MlaQReferenceIdeal.nD Cert.MlaQReferenceIdeal.τ).loc Cert.MlaQReferenceIdeal.main_arg0)
      ∧ r.2.mem ((c.tc : Thread Cert.MlaQReferenceIdeal.nD Cert.MlaQReferenceIdeal.τ).loc Cert.MlaQReferenceIdeal.main_arg1) = m ((c.tc : Thread Cert.MlaQReferenceIdeal.nD Cert.MlaQReferenceIdeal.τ).loc Cert.MlaQReferenceIdeal.main_arg1))
      ∧ r.2.sem = fun _ => 0)

def quiescent_MlaQT [hMlaQT : Cert.MlaQT.Facts] : Prop :=
  ∀ (m : (ℓ : Loc Cert.MlaQT.nD Cert.MlaQT.τ Cert.MlaQT.sig) → Buf (Elt Bits) ℓ) (g : Dev Cert.MlaQT.nD → PrngReg), Pre_MlaQT m →
    θ_run (Cert.MlaQT.defs (F := Bits)) (onTc (τ := Cert.MlaQT.τ) (Cert.MlaQT.main (F := Bits))) ⟨m, fun _ => 0, g⟩ (fun r => (∀ c : Dev Cert.MlaQT.nD,
      r.2.mem ((c.tc : Thread Cert.MlaQT.nD Cert.MlaQT.τ).loc Cert.MlaQT.main_arg0) = m ((c.tc : Thread Cert.MlaQT.nD Cert.MlaQT.τ).loc Cert.MlaQT.main_arg0)
      ∧ r.2.mem ((c.tc : Thread Cert.MlaQT.nD Cert.MlaQT.τ).loc Cert.MlaQT.main_arg1) = m ((c.tc : Thread Cert.MlaQT.nD Cert.MlaQT.τ).loc Cert.MlaQT.main_arg1)
      ∧ r.2.mem ((c.tc : Thread Cert.MlaQT.nD Cert.MlaQT.τ).loc Cert.MlaQT.main_arg2) = m ((c.tc : Thread Cert.MlaQT.nD Cert.MlaQT.τ).loc Cert.MlaQT.main_arg2))
      ∧ r.2.sem = fun _ => 0)

def quiescent_MlaQTIdeal [hMlaQTIdeal : Cert.MlaQTIdeal.Facts] : Prop :=
  ∀ (m : (ℓ : Loc Cert.MlaQTIdeal.nD Cert.MlaQTIdeal.τ Cert.MlaQTIdeal.sig) → Buf (Elt Ideal) ℓ) (g : Dev Cert.MlaQTIdeal.nD → PrngReg), Pre_MlaQTIdeal m →
    θ_run (Cert.MlaQTIdeal.defs (F := Ideal)) (onTc (τ := Cert.MlaQTIdeal.τ) (Cert.MlaQTIdeal.main (F := Ideal))) ⟨m, fun _ => 0, g⟩ (fun r => (∀ c : Dev Cert.MlaQTIdeal.nD,
      r.2.mem ((c.tc : Thread Cert.MlaQTIdeal.nD Cert.MlaQTIdeal.τ).loc Cert.MlaQTIdeal.main_arg0) = m ((c.tc : Thread Cert.MlaQTIdeal.nD Cert.MlaQTIdeal.τ).loc Cert.MlaQTIdeal.main_arg0)
      ∧ r.2.mem ((c.tc : Thread Cert.MlaQTIdeal.nD Cert.MlaQTIdeal.τ).loc Cert.MlaQTIdeal.main_arg1) = m ((c.tc : Thread Cert.MlaQTIdeal.nD Cert.MlaQTIdeal.τ).loc Cert.MlaQTIdeal.main_arg1)
      ∧ r.2.mem ((c.tc : Thread Cert.MlaQTIdeal.nD Cert.MlaQTIdeal.τ).loc Cert.MlaQTIdeal.main_arg2) = m ((c.tc : Thread Cert.MlaQTIdeal.nD Cert.MlaQTIdeal.τ).loc Cert.MlaQTIdeal.main_arg2))
      ∧ r.2.sem = fun _ => 0)

def quiescent_MlaQTReferenceIdeal [hMlaQTReferenceIdeal : Cert.MlaQTReferenceIdeal.Facts] : Prop :=
  ∀ (m : (ℓ : Loc Cert.MlaQTReferenceIdeal.nD Cert.MlaQTReferenceIdeal.τ Cert.MlaQTReferenceIdeal.sig) → Buf (Elt Ideal) ℓ) (g : Dev Cert.MlaQTReferenceIdeal.nD → PrngReg), Pre_MlaQTReferenceIdeal m →
    θ_run (Cert.MlaQTReferenceIdeal.defs (F := Ideal)) (onTc (τ := Cert.MlaQTReferenceIdeal.τ) (Cert.MlaQTReferenceIdeal.main (F := Ideal))) ⟨m, fun _ => 0, g⟩ (fun r => (∀ c : Dev Cert.MlaQTReferenceIdeal.nD,
      r.2.mem ((c.tc : Thread Cert.MlaQTReferenceIdeal.nD Cert.MlaQTReferenceIdeal.τ).loc Cert.MlaQTReferenceIdeal.main_arg0) = m ((c.tc : Thread Cert.MlaQTReferenceIdeal.nD Cert.MlaQTReferenceIdeal.τ).loc Cert.MlaQTReferenceIdeal.main_arg0)
      ∧ r.2.mem ((c.tc : Thread Cert.MlaQTReferenceIdeal.nD Cert.MlaQTReferenceIdeal.τ).loc Cert.MlaQTReferenceIdeal.main_arg1) = m ((c.tc : Thread Cert.MlaQTReferenceIdeal.nD Cert.MlaQTReferenceIdeal.τ).loc Cert.MlaQTReferenceIdeal.main_arg1)
      ∧ r.2.mem ((c.tc : Thread Cert.MlaQTReferenceIdeal.nD Cert.MlaQTReferenceIdeal.τ).loc Cert.MlaQTReferenceIdeal.main_arg2) = m ((c.tc : Thread Cert.MlaQTReferenceIdeal.nD Cert.MlaQTReferenceIdeal.τ).loc Cert.MlaQTReferenceIdeal.main_arg2))
      ∧ r.2.sem = fun _ => 0)

def quiescent_MlaQW [hMlaQW : Cert.MlaQW.Facts] : Prop :=
  ∀ (m : (ℓ : Loc Cert.MlaQW.nD Cert.MlaQW.τ Cert.MlaQW.sig) → Buf (Elt Bits) ℓ) (g : Dev Cert.MlaQW.nD → PrngReg), Pre_MlaQW m →
    θ_run (Cert.MlaQW.defs (F := Bits)) (onTc (τ := Cert.MlaQW.τ) (Cert.MlaQW.main (F := Bits))) ⟨m, fun _ => 0, g⟩ (fun r => (∀ c : Dev Cert.MlaQW.nD,
      r.2.mem ((c.tc : Thread Cert.MlaQW.nD Cert.MlaQW.τ).loc Cert.MlaQW.main_arg0) = m ((c.tc : Thread Cert.MlaQW.nD Cert.MlaQW.τ).loc Cert.MlaQW.main_arg0)
      ∧ r.2.mem ((c.tc : Thread Cert.MlaQW.nD Cert.MlaQW.τ).loc Cert.MlaQW.main_arg1) = m ((c.tc : Thread Cert.MlaQW.nD Cert.MlaQW.τ).loc Cert.MlaQW.main_arg1)
      ∧ r.2.mem ((c.tc : Thread Cert.MlaQW.nD Cert.MlaQW.τ).loc Cert.MlaQW.main_arg2) = m ((c.tc : Thread Cert.MlaQW.nD Cert.MlaQW.τ).loc Cert.MlaQW.main_arg2))
      ∧ r.2.sem = fun _ => 0)

def quiescent_MlaQWIdeal [hMlaQWIdeal : Cert.MlaQWIdeal.Facts] : Prop :=
  ∀ (m : (ℓ : Loc Cert.MlaQWIdeal.nD Cert.MlaQWIdeal.τ Cert.MlaQWIdeal.sig) → Buf (Elt Ideal) ℓ) (g : Dev Cert.MlaQWIdeal.nD → PrngReg), Pre_MlaQWIdeal m →
    θ_run (Cert.MlaQWIdeal.defs (F := Ideal)) (onTc (τ := Cert.MlaQWIdeal.τ) (Cert.MlaQWIdeal.main (F := Ideal))) ⟨m, fun _ => 0, g⟩ (fun r => (∀ c : Dev Cert.MlaQWIdeal.nD,
      r.2.mem ((c.tc : Thread Cert.MlaQWIdeal.nD Cert.MlaQWIdeal.τ).loc Cert.MlaQWIdeal.main_arg0) = m ((c.tc : Thread Cert.MlaQWIdeal.nD Cert.MlaQWIdeal.τ).loc Cert.MlaQWIdeal.main_arg0)
      ∧ r.2.mem ((c.tc : Thread Cert.MlaQWIdeal.nD Cert.MlaQWIdeal.τ).loc Cert.MlaQWIdeal.main_arg1) = m ((c.tc : Thread Cert.MlaQWIdeal.nD Cert.MlaQWIdeal.τ).loc Cert.MlaQWIdeal.main_arg1)
      ∧ r.2.mem ((c.tc : Thread Cert.MlaQWIdeal.nD Cert.MlaQWIdeal.τ).loc Cert.MlaQWIdeal.main_arg2) = m ((c.tc : Thread Cert.MlaQWIdeal.nD Cert.MlaQWIdeal.τ).loc Cert.MlaQWIdeal.main_arg2))
      ∧ r.2.sem = fun _ => 0)

def quiescent_MlaQWReferenceIdeal [hMlaQWReferenceIdeal : Cert.MlaQWReferenceIdeal.Facts] : Prop :=
  ∀ (m : (ℓ : Loc Cert.MlaQWReferenceIdeal.nD Cert.MlaQWReferenceIdeal.τ Cert.MlaQWReferenceIdeal.sig) → Buf (Elt Ideal) ℓ) (g : Dev Cert.MlaQWReferenceIdeal.nD → PrngReg), Pre_MlaQWReferenceIdeal m →
    θ_run (Cert.MlaQWReferenceIdeal.defs (F := Ideal)) (onTc (τ := Cert.MlaQWReferenceIdeal.τ) (Cert.MlaQWReferenceIdeal.main (F := Ideal))) ⟨m, fun _ => 0, g⟩ (fun r => (∀ c : Dev Cert.MlaQWReferenceIdeal.nD,
      r.2.mem ((c.tc : Thread Cert.MlaQWReferenceIdeal.nD Cert.MlaQWReferenceIdeal.τ).loc Cert.MlaQWReferenceIdeal.main_arg0) = m ((c.tc : Thread Cert.MlaQWReferenceIdeal.nD Cert.MlaQWReferenceIdeal.τ).loc Cert.MlaQWReferenceIdeal.main_arg0)
      ∧ r.2.mem ((c.tc : Thread Cert.MlaQWReferenceIdeal.nD Cert.MlaQWReferenceIdeal.τ).loc Cert.MlaQWReferenceIdeal.main_arg1) = m ((c.tc : Thread Cert.MlaQWReferenceIdeal.nD Cert.MlaQWReferenceIdeal.τ).loc Cert.MlaQWReferenceIdeal.main_arg1)
      ∧ r.2.mem ((c.tc : Thread Cert.MlaQWReferenceIdeal.nD Cert.MlaQWReferenceIdeal.τ).loc Cert.MlaQWReferenceIdeal.main_arg2) = m ((c.tc : Thread Cert.MlaQWReferenceIdeal.nD Cert.MlaQWReferenceIdeal.τ).loc Cert.MlaQWReferenceIdeal.main_arg2))
      ∧ r.2.sem = fun _ => 0)

def quiescent_MlaKv [hMlaKv : Cert.MlaKv.Facts] : Prop :=
  ∀ (m : (ℓ : Loc Cert.MlaKv.nD Cert.MlaKv.τ Cert.MlaKv.sig) → Buf (Elt Bits) ℓ) (g : Dev Cert.MlaKv.nD → PrngReg), Pre_MlaKv m →
    θ_run (Cert.MlaKv.defs (F := Bits)) (onTc (τ := Cert.MlaKv.τ) (Cert.MlaKv.main (F := Bits))) ⟨m, fun _ => 0, g⟩ (fun r => (∀ c : Dev Cert.MlaKv.nD,
      r.2.mem ((c.tc : Thread Cert.MlaKv.nD Cert.MlaKv.τ).loc Cert.MlaKv.main_arg0) = m ((c.tc : Thread Cert.MlaKv.nD Cert.MlaKv.τ).loc Cert.MlaKv.main_arg0)
      ∧ r.2.mem ((c.tc : Thread Cert.MlaKv.nD Cert.MlaKv.τ).loc Cert.MlaKv.main_arg1) = m ((c.tc : Thread Cert.MlaKv.nD Cert.MlaKv.τ).loc Cert.MlaKv.main_arg1))
      ∧ r.2.sem = fun _ => 0)

def quiescent_MlaKvIdeal [hMlaKvIdeal : Cert.MlaKvIdeal.Facts] : Prop :=
  ∀ (m : (ℓ : Loc Cert.MlaKvIdeal.nD Cert.MlaKvIdeal.τ Cert.MlaKvIdeal.sig) → Buf (Elt Ideal) ℓ) (g : Dev Cert.MlaKvIdeal.nD → PrngReg), Pre_MlaKvIdeal m →
    θ_run (Cert.MlaKvIdeal.defs (F := Ideal)) (onTc (τ := Cert.MlaKvIdeal.τ) (Cert.MlaKvIdeal.main (F := Ideal))) ⟨m, fun _ => 0, g⟩ (fun r => (∀ c : Dev Cert.MlaKvIdeal.nD,
      r.2.mem ((c.tc : Thread Cert.MlaKvIdeal.nD Cert.MlaKvIdeal.τ).loc Cert.MlaKvIdeal.main_arg0) = m ((c.tc : Thread Cert.MlaKvIdeal.nD Cert.MlaKvIdeal.τ).loc Cert.MlaKvIdeal.main_arg0)
      ∧ r.2.mem ((c.tc : Thread Cert.MlaKvIdeal.nD Cert.MlaKvIdeal.τ).loc Cert.MlaKvIdeal.main_arg1) = m ((c.tc : Thread Cert.MlaKvIdeal.nD Cert.MlaKvIdeal.τ).loc Cert.MlaKvIdeal.main_arg1))
      ∧ r.2.sem = fun _ => 0)

def quiescent_MlaKvReferenceIdeal [hMlaKvReferenceIdeal : Cert.MlaKvReferenceIdeal.Facts] : Prop :=
  ∀ (m : (ℓ : Loc Cert.MlaKvReferenceIdeal.nD Cert.MlaKvReferenceIdeal.τ Cert.MlaKvReferenceIdeal.sig) → Buf (Elt Ideal) ℓ) (g : Dev Cert.MlaKvReferenceIdeal.nD → PrngReg), Pre_MlaKvReferenceIdeal m →
    θ_run (Cert.MlaKvReferenceIdeal.defs (F := Ideal)) (onTc (τ := Cert.MlaKvReferenceIdeal.τ) (Cert.MlaKvReferenceIdeal.main (F := Ideal))) ⟨m, fun _ => 0, g⟩ (fun r => (∀ c : Dev Cert.MlaKvReferenceIdeal.nD,
      r.2.mem ((c.tc : Thread Cert.MlaKvReferenceIdeal.nD Cert.MlaKvReferenceIdeal.τ).loc Cert.MlaKvReferenceIdeal.main_arg0) = m ((c.tc : Thread Cert.MlaKvReferenceIdeal.nD Cert.MlaKvReferenceIdeal.τ).loc Cert.MlaKvReferenceIdeal.main_arg0)
      ∧ r.2.mem ((c.tc : Thread Cert.MlaKvReferenceIdeal.nD Cert.MlaKvReferenceIdeal.τ).loc Cert.MlaKvReferenceIdeal.main_arg1) = m ((c.tc : Thread Cert.MlaKvReferenceIdeal.nD Cert.MlaKvReferenceIdeal.τ).loc Cert.MlaKvReferenceIdeal.main_arg1))
      ∧ r.2.sem = fun _ => 0)

def quiescent_MlaKvT [hMlaKvT : Cert.MlaKvT.Facts] : Prop :=
  ∀ (m : (ℓ : Loc Cert.MlaKvT.nD Cert.MlaKvT.τ Cert.MlaKvT.sig) → Buf (Elt Bits) ℓ) (g : Dev Cert.MlaKvT.nD → PrngReg), Pre_MlaKvT m →
    θ_run (Cert.MlaKvT.defs (F := Bits)) (onTc (τ := Cert.MlaKvT.τ) (Cert.MlaKvT.main (F := Bits))) ⟨m, fun _ => 0, g⟩ (fun r => (∀ c : Dev Cert.MlaKvT.nD,
      r.2.mem ((c.tc : Thread Cert.MlaKvT.nD Cert.MlaKvT.τ).loc Cert.MlaKvT.main_arg0) = m ((c.tc : Thread Cert.MlaKvT.nD Cert.MlaKvT.τ).loc Cert.MlaKvT.main_arg0)
      ∧ r.2.mem ((c.tc : Thread Cert.MlaKvT.nD Cert.MlaKvT.τ).loc Cert.MlaKvT.main_arg1) = m ((c.tc : Thread Cert.MlaKvT.nD Cert.MlaKvT.τ).loc Cert.MlaKvT.main_arg1)
      ∧ r.2.mem ((c.tc : Thread Cert.MlaKvT.nD Cert.MlaKvT.τ).loc Cert.MlaKvT.main_arg2) = m ((c.tc : Thread Cert.MlaKvT.nD Cert.MlaKvT.τ).loc Cert.MlaKvT.main_arg2))
      ∧ r.2.sem = fun _ => 0)

def quiescent_MlaKvTIdeal [hMlaKvTIdeal : Cert.MlaKvTIdeal.Facts] : Prop :=
  ∀ (m : (ℓ : Loc Cert.MlaKvTIdeal.nD Cert.MlaKvTIdeal.τ Cert.MlaKvTIdeal.sig) → Buf (Elt Ideal) ℓ) (g : Dev Cert.MlaKvTIdeal.nD → PrngReg), Pre_MlaKvTIdeal m →
    θ_run (Cert.MlaKvTIdeal.defs (F := Ideal)) (onTc (τ := Cert.MlaKvTIdeal.τ) (Cert.MlaKvTIdeal.main (F := Ideal))) ⟨m, fun _ => 0, g⟩ (fun r => (∀ c : Dev Cert.MlaKvTIdeal.nD,
      r.2.mem ((c.tc : Thread Cert.MlaKvTIdeal.nD Cert.MlaKvTIdeal.τ).loc Cert.MlaKvTIdeal.main_arg0) = m ((c.tc : Thread Cert.MlaKvTIdeal.nD Cert.MlaKvTIdeal.τ).loc Cert.MlaKvTIdeal.main_arg0)
      ∧ r.2.mem ((c.tc : Thread Cert.MlaKvTIdeal.nD Cert.MlaKvTIdeal.τ).loc Cert.MlaKvTIdeal.main_arg1) = m ((c.tc : Thread Cert.MlaKvTIdeal.nD Cert.MlaKvTIdeal.τ).loc Cert.MlaKvTIdeal.main_arg1)
      ∧ r.2.mem ((c.tc : Thread Cert.MlaKvTIdeal.nD Cert.MlaKvTIdeal.τ).loc Cert.MlaKvTIdeal.main_arg2) = m ((c.tc : Thread Cert.MlaKvTIdeal.nD Cert.MlaKvTIdeal.τ).loc Cert.MlaKvTIdeal.main_arg2))
      ∧ r.2.sem = fun _ => 0)

def quiescent_MlaKvTReferenceIdeal [hMlaKvTReferenceIdeal : Cert.MlaKvTReferenceIdeal.Facts] : Prop :=
  ∀ (m : (ℓ : Loc Cert.MlaKvTReferenceIdeal.nD Cert.MlaKvTReferenceIdeal.τ Cert.MlaKvTReferenceIdeal.sig) → Buf (Elt Ideal) ℓ) (g : Dev Cert.MlaKvTReferenceIdeal.nD → PrngReg), Pre_MlaKvTReferenceIdeal m →
    θ_run (Cert.MlaKvTReferenceIdeal.defs (F := Ideal)) (onTc (τ := Cert.MlaKvTReferenceIdeal.τ) (Cert.MlaKvTReferenceIdeal.main (F := Ideal))) ⟨m, fun _ => 0, g⟩ (fun r => (∀ c : Dev Cert.MlaKvTReferenceIdeal.nD,
      r.2.mem ((c.tc : Thread Cert.MlaKvTReferenceIdeal.nD Cert.MlaKvTReferenceIdeal.τ).loc Cert.MlaKvTReferenceIdeal.main_arg0) = m ((c.tc : Thread Cert.MlaKvTReferenceIdeal.nD Cert.MlaKvTReferenceIdeal.τ).loc Cert.MlaKvTReferenceIdeal.main_arg0)
      ∧ r.2.mem ((c.tc : Thread Cert.MlaKvTReferenceIdeal.nD Cert.MlaKvTReferenceIdeal.τ).loc Cert.MlaKvTReferenceIdeal.main_arg1) = m ((c.tc : Thread Cert.MlaKvTReferenceIdeal.nD Cert.MlaKvTReferenceIdeal.τ).loc Cert.MlaKvTReferenceIdeal.main_arg1)
      ∧ r.2.mem ((c.tc : Thread Cert.MlaKvTReferenceIdeal.nD Cert.MlaKvTReferenceIdeal.τ).loc Cert.MlaKvTReferenceIdeal.main_arg2) = m ((c.tc : Thread Cert.MlaKvTReferenceIdeal.nD Cert.MlaKvTReferenceIdeal.τ).loc Cert.MlaKvTReferenceIdeal.main_arg2))
      ∧ r.2.sem = fun _ => 0)

def quiescent_MlaKvW [hMlaKvW : Cert.MlaKvW.Facts] : Prop :=
  ∀ (m : (ℓ : Loc Cert.MlaKvW.nD Cert.MlaKvW.τ Cert.MlaKvW.sig) → Buf (Elt Bits) ℓ) (g : Dev Cert.MlaKvW.nD → PrngReg), Pre_MlaKvW m →
    θ_run (Cert.MlaKvW.defs (F := Bits)) (onTc (τ := Cert.MlaKvW.τ) (Cert.MlaKvW.main (F := Bits))) ⟨m, fun _ => 0, g⟩ (fun r => (∀ c : Dev Cert.MlaKvW.nD,
      r.2.mem ((c.tc : Thread Cert.MlaKvW.nD Cert.MlaKvW.τ).loc Cert.MlaKvW.main_arg0) = m ((c.tc : Thread Cert.MlaKvW.nD Cert.MlaKvW.τ).loc Cert.MlaKvW.main_arg0)
      ∧ r.2.mem ((c.tc : Thread Cert.MlaKvW.nD Cert.MlaKvW.τ).loc Cert.MlaKvW.main_arg1) = m ((c.tc : Thread Cert.MlaKvW.nD Cert.MlaKvW.τ).loc Cert.MlaKvW.main_arg1)
      ∧ r.2.mem ((c.tc : Thread Cert.MlaKvW.nD Cert.MlaKvW.τ).loc Cert.MlaKvW.main_arg2) = m ((c.tc : Thread Cert.MlaKvW.nD Cert.MlaKvW.τ).loc Cert.MlaKvW.main_arg2))
      ∧ r.2.sem = fun _ => 0)

def quiescent_MlaKvWIdeal [hMlaKvWIdeal : Cert.MlaKvWIdeal.Facts] : Prop :=
  ∀ (m : (ℓ : Loc Cert.MlaKvWIdeal.nD Cert.MlaKvWIdeal.τ Cert.MlaKvWIdeal.sig) → Buf (Elt Ideal) ℓ) (g : Dev Cert.MlaKvWIdeal.nD → PrngReg), Pre_MlaKvWIdeal m →
    θ_run (Cert.MlaKvWIdeal.defs (F := Ideal)) (onTc (τ := Cert.MlaKvWIdeal.τ) (Cert.MlaKvWIdeal.main (F := Ideal))) ⟨m, fun _ => 0, g⟩ (fun r => (∀ c : Dev Cert.MlaKvWIdeal.nD,
      r.2.mem ((c.tc : Thread Cert.MlaKvWIdeal.nD Cert.MlaKvWIdeal.τ).loc Cert.MlaKvWIdeal.main_arg0) = m ((c.tc : Thread Cert.MlaKvWIdeal.nD Cert.MlaKvWIdeal.τ).loc Cert.MlaKvWIdeal.main_arg0)
      ∧ r.2.mem ((c.tc : Thread Cert.MlaKvWIdeal.nD Cert.MlaKvWIdeal.τ).loc Cert.MlaKvWIdeal.main_arg1) = m ((c.tc : Thread Cert.MlaKvWIdeal.nD Cert.MlaKvWIdeal.τ).loc Cert.MlaKvWIdeal.main_arg1)
      ∧ r.2.mem ((c.tc : Thread Cert.MlaKvWIdeal.nD Cert.MlaKvWIdeal.τ).loc Cert.MlaKvWIdeal.main_arg2) = m ((c.tc : Thread Cert.MlaKvWIdeal.nD Cert.MlaKvWIdeal.τ).loc Cert.MlaKvWIdeal.main_arg2))
      ∧ r.2.sem = fun _ => 0)

def quiescent_MlaKvWReferenceIdeal [hMlaKvWReferenceIdeal : Cert.MlaKvWReferenceIdeal.Facts] : Prop :=
  ∀ (m : (ℓ : Loc Cert.MlaKvWReferenceIdeal.nD Cert.MlaKvWReferenceIdeal.τ Cert.MlaKvWReferenceIdeal.sig) → Buf (Elt Ideal) ℓ) (g : Dev Cert.MlaKvWReferenceIdeal.nD → PrngReg), Pre_MlaKvWReferenceIdeal m →
    θ_run (Cert.MlaKvWReferenceIdeal.defs (F := Ideal)) (onTc (τ := Cert.MlaKvWReferenceIdeal.τ) (Cert.MlaKvWReferenceIdeal.main (F := Ideal))) ⟨m, fun _ => 0, g⟩ (fun r => (∀ c : Dev Cert.MlaKvWReferenceIdeal.nD,
      r.2.mem ((c.tc : Thread Cert.MlaKvWReferenceIdeal.nD Cert.MlaKvWReferenceIdeal.τ).loc Cert.MlaKvWReferenceIdeal.main_arg0) = m ((c.tc : Thread Cert.MlaKvWReferenceIdeal.nD Cert.MlaKvWReferenceIdeal.τ).loc Cert.MlaKvWReferenceIdeal.main_arg0)
      ∧ r.2.mem ((c.tc : Thread Cert.MlaKvWReferenceIdeal.nD Cert.MlaKvWReferenceIdeal.τ).loc Cert.MlaKvWReferenceIdeal.main_arg1) = m ((c.tc : Thread Cert.MlaKvWReferenceIdeal.nD Cert.MlaKvWReferenceIdeal.τ).loc Cert.MlaKvWReferenceIdeal.main_arg1)
      ∧ r.2.mem ((c.tc : Thread Cert.MlaKvWReferenceIdeal.nD Cert.MlaKvWReferenceIdeal.τ).loc Cert.MlaKvWReferenceIdeal.main_arg2) = m ((c.tc : Thread Cert.MlaKvWReferenceIdeal.nD Cert.MlaKvWReferenceIdeal.τ).loc Cert.MlaKvWReferenceIdeal.main_arg2))
      ∧ r.2.sem = fun _ => 0)

def quiescent_Mix [hMix : Cert.Mix.Facts] : Prop :=
  ∀ (m : (ℓ : Loc Cert.Mix.nD Cert.Mix.τ Cert.Mix.sig) → Buf (Elt Bits) ℓ) (g : Dev Cert.Mix.nD → PrngReg), Pre_Mix m →
    θ_run (Cert.Mix.defs (F := Bits)) (onTc (τ := Cert.Mix.τ) (Cert.Mix.main (F := Bits))) ⟨m, fun _ => 0, g⟩ (fun r => (∀ c : Dev Cert.Mix.nD,
      r.2.mem ((c.tc : Thread Cert.Mix.nD Cert.Mix.τ).loc Cert.Mix.main_arg0) = m ((c.tc : Thread Cert.Mix.nD Cert.Mix.τ).loc Cert.Mix.main_arg0)
      ∧ r.2.mem ((c.tc : Thread Cert.Mix.nD Cert.Mix.τ).loc Cert.Mix.main_arg1) = m ((c.tc : Thread Cert.Mix.nD Cert.Mix.τ).loc Cert.Mix.main_arg1))
      ∧ r.2.sem = fun _ => 0)

def quiescent_MixIdeal [hMixIdeal : Cert.MixIdeal.Facts] : Prop :=
  ∀ (m : (ℓ : Loc Cert.MixIdeal.nD Cert.MixIdeal.τ Cert.MixIdeal.sig) → Buf (Elt Ideal) ℓ) (g : Dev Cert.MixIdeal.nD → PrngReg), Pre_MixIdeal m →
    θ_run (Cert.MixIdeal.defs (F := Ideal)) (onTc (τ := Cert.MixIdeal.τ) (Cert.MixIdeal.main (F := Ideal))) ⟨m, fun _ => 0, g⟩ (fun r => (∀ c : Dev Cert.MixIdeal.nD,
      r.2.mem ((c.tc : Thread Cert.MixIdeal.nD Cert.MixIdeal.τ).loc Cert.MixIdeal.main_arg0) = m ((c.tc : Thread Cert.MixIdeal.nD Cert.MixIdeal.τ).loc Cert.MixIdeal.main_arg0)
      ∧ r.2.mem ((c.tc : Thread Cert.MixIdeal.nD Cert.MixIdeal.τ).loc Cert.MixIdeal.main_arg1) = m ((c.tc : Thread Cert.MixIdeal.nD Cert.MixIdeal.τ).loc Cert.MixIdeal.main_arg1))
      ∧ r.2.sem = fun _ => 0)

def quiescent_MixReferenceIdeal [hMixReferenceIdeal : Cert.MixReferenceIdeal.Facts] : Prop :=
  ∀ (m : (ℓ : Loc Cert.MixReferenceIdeal.nD Cert.MixReferenceIdeal.τ Cert.MixReferenceIdeal.sig) → Buf (Elt Ideal) ℓ) (g : Dev Cert.MixReferenceIdeal.nD → PrngReg), Pre_MixReferenceIdeal m →
    θ_run (Cert.MixReferenceIdeal.defs (F := Ideal)) (onTc (τ := Cert.MixReferenceIdeal.τ) (Cert.MixReferenceIdeal.main (F := Ideal))) ⟨m, fun _ => 0, g⟩ (fun r => (∀ c : Dev Cert.MixReferenceIdeal.nD,
      r.2.mem ((c.tc : Thread Cert.MixReferenceIdeal.nD Cert.MixReferenceIdeal.τ).loc Cert.MixReferenceIdeal.main_arg0) = m ((c.tc : Thread Cert.MixReferenceIdeal.nD Cert.MixReferenceIdeal.τ).loc Cert.MixReferenceIdeal.main_arg0)
      ∧ r.2.mem ((c.tc : Thread Cert.MixReferenceIdeal.nD Cert.MixReferenceIdeal.τ).loc Cert.MixReferenceIdeal.main_arg1) = m ((c.tc : Thread Cert.MixReferenceIdeal.nD Cert.MixReferenceIdeal.τ).loc Cert.MixReferenceIdeal.main_arg1))
      ∧ r.2.sem = fun _ => 0)

def quiescent_MixT [hMixT : Cert.MixT.Facts] : Prop :=
  ∀ (m : (ℓ : Loc Cert.MixT.nD Cert.MixT.τ Cert.MixT.sig) → Buf (Elt Bits) ℓ) (g : Dev Cert.MixT.nD → PrngReg), Pre_MixT m →
    θ_run (Cert.MixT.defs (F := Bits)) (onTc (τ := Cert.MixT.τ) (Cert.MixT.main (F := Bits))) ⟨m, fun _ => 0, g⟩ (fun r => (∀ c : Dev Cert.MixT.nD,
      r.2.mem ((c.tc : Thread Cert.MixT.nD Cert.MixT.τ).loc Cert.MixT.main_arg0) = m ((c.tc : Thread Cert.MixT.nD Cert.MixT.τ).loc Cert.MixT.main_arg0)
      ∧ r.2.mem ((c.tc : Thread Cert.MixT.nD Cert.MixT.τ).loc Cert.MixT.main_arg1) = m ((c.tc : Thread Cert.MixT.nD Cert.MixT.τ).loc Cert.MixT.main_arg1)
      ∧ r.2.mem ((c.tc : Thread Cert.MixT.nD Cert.MixT.τ).loc Cert.MixT.main_arg2) = m ((c.tc : Thread Cert.MixT.nD Cert.MixT.τ).loc Cert.MixT.main_arg2))
      ∧ r.2.sem = fun _ => 0)

def quiescent_MixTIdeal [hMixTIdeal : Cert.MixTIdeal.Facts] : Prop :=
  ∀ (m : (ℓ : Loc Cert.MixTIdeal.nD Cert.MixTIdeal.τ Cert.MixTIdeal.sig) → Buf (Elt Ideal) ℓ) (g : Dev Cert.MixTIdeal.nD → PrngReg), Pre_MixTIdeal m →
    θ_run (Cert.MixTIdeal.defs (F := Ideal)) (onTc (τ := Cert.MixTIdeal.τ) (Cert.MixTIdeal.main (F := Ideal))) ⟨m, fun _ => 0, g⟩ (fun r => (∀ c : Dev Cert.MixTIdeal.nD,
      r.2.mem ((c.tc : Thread Cert.MixTIdeal.nD Cert.MixTIdeal.τ).loc Cert.MixTIdeal.main_arg0) = m ((c.tc : Thread Cert.MixTIdeal.nD Cert.MixTIdeal.τ).loc Cert.MixTIdeal.main_arg0)
      ∧ r.2.mem ((c.tc : Thread Cert.MixTIdeal.nD Cert.MixTIdeal.τ).loc Cert.MixTIdeal.main_arg1) = m ((c.tc : Thread Cert.MixTIdeal.nD Cert.MixTIdeal.τ).loc Cert.MixTIdeal.main_arg1)
      ∧ r.2.mem ((c.tc : Thread Cert.MixTIdeal.nD Cert.MixTIdeal.τ).loc Cert.MixTIdeal.main_arg2) = m ((c.tc : Thread Cert.MixTIdeal.nD Cert.MixTIdeal.τ).loc Cert.MixTIdeal.main_arg2))
      ∧ r.2.sem = fun _ => 0)

def quiescent_MixTReferenceIdeal [hMixTReferenceIdeal : Cert.MixTReferenceIdeal.Facts] : Prop :=
  ∀ (m : (ℓ : Loc Cert.MixTReferenceIdeal.nD Cert.MixTReferenceIdeal.τ Cert.MixTReferenceIdeal.sig) → Buf (Elt Ideal) ℓ) (g : Dev Cert.MixTReferenceIdeal.nD → PrngReg), Pre_MixTReferenceIdeal m →
    θ_run (Cert.MixTReferenceIdeal.defs (F := Ideal)) (onTc (τ := Cert.MixTReferenceIdeal.τ) (Cert.MixTReferenceIdeal.main (F := Ideal))) ⟨m, fun _ => 0, g⟩ (fun r => (∀ c : Dev Cert.MixTReferenceIdeal.nD,
      r.2.mem ((c.tc : Thread Cert.MixTReferenceIdeal.nD Cert.MixTReferenceIdeal.τ).loc Cert.MixTReferenceIdeal.main_arg0) = m ((c.tc : Thread Cert.MixTReferenceIdeal.nD Cert.MixTReferenceIdeal.τ).loc Cert.MixTReferenceIdeal.main_arg0)
      ∧ r.2.mem ((c.tc : Thread Cert.MixTReferenceIdeal.nD Cert.MixTReferenceIdeal.τ).loc Cert.MixTReferenceIdeal.main_arg1) = m ((c.tc : Thread Cert.MixTReferenceIdeal.nD Cert.MixTReferenceIdeal.τ).loc Cert.MixTReferenceIdeal.main_arg1)
      ∧ r.2.mem ((c.tc : Thread Cert.MixTReferenceIdeal.nD Cert.MixTReferenceIdeal.τ).loc Cert.MixTReferenceIdeal.main_arg2) = m ((c.tc : Thread Cert.MixTReferenceIdeal.nD Cert.MixTReferenceIdeal.τ).loc Cert.MixTReferenceIdeal.main_arg2))
      ∧ r.2.sem = fun _ => 0)

def quiescent_MixW [hMixW : Cert.MixW.Facts] : Prop :=
  ∀ (m : (ℓ : Loc Cert.MixW.nD Cert.MixW.τ Cert.MixW.sig) → Buf (Elt Bits) ℓ) (g : Dev Cert.MixW.nD → PrngReg), Pre_MixW m →
    θ_run (Cert.MixW.defs (F := Bits)) (onTc (τ := Cert.MixW.τ) (Cert.MixW.main (F := Bits))) ⟨m, fun _ => 0, g⟩ (fun r => (∀ c : Dev Cert.MixW.nD,
      r.2.mem ((c.tc : Thread Cert.MixW.nD Cert.MixW.τ).loc Cert.MixW.main_arg0) = m ((c.tc : Thread Cert.MixW.nD Cert.MixW.τ).loc Cert.MixW.main_arg0)
      ∧ r.2.mem ((c.tc : Thread Cert.MixW.nD Cert.MixW.τ).loc Cert.MixW.main_arg1) = m ((c.tc : Thread Cert.MixW.nD Cert.MixW.τ).loc Cert.MixW.main_arg1)
      ∧ r.2.mem ((c.tc : Thread Cert.MixW.nD Cert.MixW.τ).loc Cert.MixW.main_arg2) = m ((c.tc : Thread Cert.MixW.nD Cert.MixW.τ).loc Cert.MixW.main_arg2))
      ∧ r.2.sem = fun _ => 0)

def quiescent_MixWIdeal [hMixWIdeal : Cert.MixWIdeal.Facts] : Prop :=
  ∀ (m : (ℓ : Loc Cert.MixWIdeal.nD Cert.MixWIdeal.τ Cert.MixWIdeal.sig) → Buf (Elt Ideal) ℓ) (g : Dev Cert.MixWIdeal.nD → PrngReg), Pre_MixWIdeal m →
    θ_run (Cert.MixWIdeal.defs (F := Ideal)) (onTc (τ := Cert.MixWIdeal.τ) (Cert.MixWIdeal.main (F := Ideal))) ⟨m, fun _ => 0, g⟩ (fun r => (∀ c : Dev Cert.MixWIdeal.nD,
      r.2.mem ((c.tc : Thread Cert.MixWIdeal.nD Cert.MixWIdeal.τ).loc Cert.MixWIdeal.main_arg0) = m ((c.tc : Thread Cert.MixWIdeal.nD Cert.MixWIdeal.τ).loc Cert.MixWIdeal.main_arg0)
      ∧ r.2.mem ((c.tc : Thread Cert.MixWIdeal.nD Cert.MixWIdeal.τ).loc Cert.MixWIdeal.main_arg1) = m ((c.tc : Thread Cert.MixWIdeal.nD Cert.MixWIdeal.τ).loc Cert.MixWIdeal.main_arg1)
      ∧ r.2.mem ((c.tc : Thread Cert.MixWIdeal.nD Cert.MixWIdeal.τ).loc Cert.MixWIdeal.main_arg2) = m ((c.tc : Thread Cert.MixWIdeal.nD Cert.MixWIdeal.τ).loc Cert.MixWIdeal.main_arg2))
      ∧ r.2.sem = fun _ => 0)

def quiescent_MixWReferenceIdeal [hMixWReferenceIdeal : Cert.MixWReferenceIdeal.Facts] : Prop :=
  ∀ (m : (ℓ : Loc Cert.MixWReferenceIdeal.nD Cert.MixWReferenceIdeal.τ Cert.MixWReferenceIdeal.sig) → Buf (Elt Ideal) ℓ) (g : Dev Cert.MixWReferenceIdeal.nD → PrngReg), Pre_MixWReferenceIdeal m →
    θ_run (Cert.MixWReferenceIdeal.defs (F := Ideal)) (onTc (τ := Cert.MixWReferenceIdeal.τ) (Cert.MixWReferenceIdeal.main (F := Ideal))) ⟨m, fun _ => 0, g⟩ (fun r => (∀ c : Dev Cert.MixWReferenceIdeal.nD,
      r.2.mem ((c.tc : Thread Cert.MixWReferenceIdeal.nD Cert.MixWReferenceIdeal.τ).loc Cert.MixWReferenceIdeal.main_arg0) = m ((c.tc : Thread Cert.MixWReferenceIdeal.nD Cert.MixWReferenceIdeal.τ).loc Cert.MixWReferenceIdeal.main_arg0)
      ∧ r.2.mem ((c.tc : Thread Cert.MixWReferenceIdeal.nD Cert.MixWReferenceIdeal.τ).loc Cert.MixWReferenceIdeal.main_arg1) = m ((c.tc : Thread Cert.MixWReferenceIdeal.nD Cert.MixWReferenceIdeal.τ).loc Cert.MixWReferenceIdeal.main_arg1)
      ∧ r.2.mem ((c.tc : Thread Cert.MixWReferenceIdeal.nD Cert.MixWReferenceIdeal.τ).loc Cert.MixWReferenceIdeal.main_arg2) = m ((c.tc : Thread Cert.MixWReferenceIdeal.nD Cert.MixWReferenceIdeal.τ).loc Cert.MixWReferenceIdeal.main_arg2))
      ∧ r.2.sem = fun _ => 0)

def quiescent_LastMix [hLastMix : Cert.LastMix.Facts] : Prop :=
  ∀ (m : (ℓ : Loc Cert.LastMix.nD Cert.LastMix.τ Cert.LastMix.sig) → Buf (Elt Bits) ℓ) (g : Dev Cert.LastMix.nD → PrngReg), Pre_LastMix m →
    θ_run (Cert.LastMix.defs (F := Bits)) (onTc (τ := Cert.LastMix.τ) (Cert.LastMix.main (F := Bits))) ⟨m, fun _ => 0, g⟩ (fun r => (∀ c : Dev Cert.LastMix.nD,
      r.2.mem ((c.tc : Thread Cert.LastMix.nD Cert.LastMix.τ).loc Cert.LastMix.main_arg0) = m ((c.tc : Thread Cert.LastMix.nD Cert.LastMix.τ).loc Cert.LastMix.main_arg0)
      ∧ r.2.mem ((c.tc : Thread Cert.LastMix.nD Cert.LastMix.τ).loc Cert.LastMix.main_arg1) = m ((c.tc : Thread Cert.LastMix.nD Cert.LastMix.τ).loc Cert.LastMix.main_arg1))
      ∧ r.2.sem = fun _ => 0)

def quiescent_LastMixIdeal [hLastMixIdeal : Cert.LastMixIdeal.Facts] : Prop :=
  ∀ (m : (ℓ : Loc Cert.LastMixIdeal.nD Cert.LastMixIdeal.τ Cert.LastMixIdeal.sig) → Buf (Elt Ideal) ℓ) (g : Dev Cert.LastMixIdeal.nD → PrngReg), Pre_LastMixIdeal m →
    θ_run (Cert.LastMixIdeal.defs (F := Ideal)) (onTc (τ := Cert.LastMixIdeal.τ) (Cert.LastMixIdeal.main (F := Ideal))) ⟨m, fun _ => 0, g⟩ (fun r => (∀ c : Dev Cert.LastMixIdeal.nD,
      r.2.mem ((c.tc : Thread Cert.LastMixIdeal.nD Cert.LastMixIdeal.τ).loc Cert.LastMixIdeal.main_arg0) = m ((c.tc : Thread Cert.LastMixIdeal.nD Cert.LastMixIdeal.τ).loc Cert.LastMixIdeal.main_arg0)
      ∧ r.2.mem ((c.tc : Thread Cert.LastMixIdeal.nD Cert.LastMixIdeal.τ).loc Cert.LastMixIdeal.main_arg1) = m ((c.tc : Thread Cert.LastMixIdeal.nD Cert.LastMixIdeal.τ).loc Cert.LastMixIdeal.main_arg1))
      ∧ r.2.sem = fun _ => 0)

def quiescent_LastMixReferenceIdeal [hLastMixReferenceIdeal : Cert.LastMixReferenceIdeal.Facts] : Prop :=
  ∀ (m : (ℓ : Loc Cert.LastMixReferenceIdeal.nD Cert.LastMixReferenceIdeal.τ Cert.LastMixReferenceIdeal.sig) → Buf (Elt Ideal) ℓ) (g : Dev Cert.LastMixReferenceIdeal.nD → PrngReg), Pre_LastMixReferenceIdeal m →
    θ_run (Cert.LastMixReferenceIdeal.defs (F := Ideal)) (onTc (τ := Cert.LastMixReferenceIdeal.τ) (Cert.LastMixReferenceIdeal.main (F := Ideal))) ⟨m, fun _ => 0, g⟩ (fun r => (∀ c : Dev Cert.LastMixReferenceIdeal.nD,
      r.2.mem ((c.tc : Thread Cert.LastMixReferenceIdeal.nD Cert.LastMixReferenceIdeal.τ).loc Cert.LastMixReferenceIdeal.main_arg0) = m ((c.tc : Thread Cert.LastMixReferenceIdeal.nD Cert.LastMixReferenceIdeal.τ).loc Cert.LastMixReferenceIdeal.main_arg0)
      ∧ r.2.mem ((c.tc : Thread Cert.LastMixReferenceIdeal.nD Cert.LastMixReferenceIdeal.τ).loc Cert.LastMixReferenceIdeal.main_arg1) = m ((c.tc : Thread Cert.LastMixReferenceIdeal.nD Cert.LastMixReferenceIdeal.τ).loc Cert.LastMixReferenceIdeal.main_arg1))
      ∧ r.2.sem = fun _ => 0)

def quiescent_LastMixT [hLastMixT : Cert.LastMixT.Facts] : Prop :=
  ∀ (m : (ℓ : Loc Cert.LastMixT.nD Cert.LastMixT.τ Cert.LastMixT.sig) → Buf (Elt Bits) ℓ) (g : Dev Cert.LastMixT.nD → PrngReg), Pre_LastMixT m →
    θ_run (Cert.LastMixT.defs (F := Bits)) (onTc (τ := Cert.LastMixT.τ) (Cert.LastMixT.main (F := Bits))) ⟨m, fun _ => 0, g⟩ (fun r => (∀ c : Dev Cert.LastMixT.nD,
      r.2.mem ((c.tc : Thread Cert.LastMixT.nD Cert.LastMixT.τ).loc Cert.LastMixT.main_arg0) = m ((c.tc : Thread Cert.LastMixT.nD Cert.LastMixT.τ).loc Cert.LastMixT.main_arg0)
      ∧ r.2.mem ((c.tc : Thread Cert.LastMixT.nD Cert.LastMixT.τ).loc Cert.LastMixT.main_arg1) = m ((c.tc : Thread Cert.LastMixT.nD Cert.LastMixT.τ).loc Cert.LastMixT.main_arg1)
      ∧ r.2.mem ((c.tc : Thread Cert.LastMixT.nD Cert.LastMixT.τ).loc Cert.LastMixT.main_arg2) = m ((c.tc : Thread Cert.LastMixT.nD Cert.LastMixT.τ).loc Cert.LastMixT.main_arg2))
      ∧ r.2.sem = fun _ => 0)

def quiescent_LastMixTIdeal [hLastMixTIdeal : Cert.LastMixTIdeal.Facts] : Prop :=
  ∀ (m : (ℓ : Loc Cert.LastMixTIdeal.nD Cert.LastMixTIdeal.τ Cert.LastMixTIdeal.sig) → Buf (Elt Ideal) ℓ) (g : Dev Cert.LastMixTIdeal.nD → PrngReg), Pre_LastMixTIdeal m →
    θ_run (Cert.LastMixTIdeal.defs (F := Ideal)) (onTc (τ := Cert.LastMixTIdeal.τ) (Cert.LastMixTIdeal.main (F := Ideal))) ⟨m, fun _ => 0, g⟩ (fun r => (∀ c : Dev Cert.LastMixTIdeal.nD,
      r.2.mem ((c.tc : Thread Cert.LastMixTIdeal.nD Cert.LastMixTIdeal.τ).loc Cert.LastMixTIdeal.main_arg0) = m ((c.tc : Thread Cert.LastMixTIdeal.nD Cert.LastMixTIdeal.τ).loc Cert.LastMixTIdeal.main_arg0)
      ∧ r.2.mem ((c.tc : Thread Cert.LastMixTIdeal.nD Cert.LastMixTIdeal.τ).loc Cert.LastMixTIdeal.main_arg1) = m ((c.tc : Thread Cert.LastMixTIdeal.nD Cert.LastMixTIdeal.τ).loc Cert.LastMixTIdeal.main_arg1)
      ∧ r.2.mem ((c.tc : Thread Cert.LastMixTIdeal.nD Cert.LastMixTIdeal.τ).loc Cert.LastMixTIdeal.main_arg2) = m ((c.tc : Thread Cert.LastMixTIdeal.nD Cert.LastMixTIdeal.τ).loc Cert.LastMixTIdeal.main_arg2))
      ∧ r.2.sem = fun _ => 0)

def quiescent_LastMixTReferenceIdeal [hLastMixTReferenceIdeal : Cert.LastMixTReferenceIdeal.Facts] : Prop :=
  ∀ (m : (ℓ : Loc Cert.LastMixTReferenceIdeal.nD Cert.LastMixTReferenceIdeal.τ Cert.LastMixTReferenceIdeal.sig) → Buf (Elt Ideal) ℓ) (g : Dev Cert.LastMixTReferenceIdeal.nD → PrngReg), Pre_LastMixTReferenceIdeal m →
    θ_run (Cert.LastMixTReferenceIdeal.defs (F := Ideal)) (onTc (τ := Cert.LastMixTReferenceIdeal.τ) (Cert.LastMixTReferenceIdeal.main (F := Ideal))) ⟨m, fun _ => 0, g⟩ (fun r => (∀ c : Dev Cert.LastMixTReferenceIdeal.nD,
      r.2.mem ((c.tc : Thread Cert.LastMixTReferenceIdeal.nD Cert.LastMixTReferenceIdeal.τ).loc Cert.LastMixTReferenceIdeal.main_arg0) = m ((c.tc : Thread Cert.LastMixTReferenceIdeal.nD Cert.LastMixTReferenceIdeal.τ).loc Cert.LastMixTReferenceIdeal.main_arg0)
      ∧ r.2.mem ((c.tc : Thread Cert.LastMixTReferenceIdeal.nD Cert.LastMixTReferenceIdeal.τ).loc Cert.LastMixTReferenceIdeal.main_arg1) = m ((c.tc : Thread Cert.LastMixTReferenceIdeal.nD Cert.LastMixTReferenceIdeal.τ).loc Cert.LastMixTReferenceIdeal.main_arg1)
      ∧ r.2.mem ((c.tc : Thread Cert.LastMixTReferenceIdeal.nD Cert.LastMixTReferenceIdeal.τ).loc Cert.LastMixTReferenceIdeal.main_arg2) = m ((c.tc : Thread Cert.LastMixTReferenceIdeal.nD Cert.LastMixTReferenceIdeal.τ).loc Cert.LastMixTReferenceIdeal.main_arg2))
      ∧ r.2.sem = fun _ => 0)

def quiescent_LastMixW [hLastMixW : Cert.LastMixW.Facts] : Prop :=
  ∀ (m : (ℓ : Loc Cert.LastMixW.nD Cert.LastMixW.τ Cert.LastMixW.sig) → Buf (Elt Bits) ℓ) (g : Dev Cert.LastMixW.nD → PrngReg), Pre_LastMixW m →
    θ_run (Cert.LastMixW.defs (F := Bits)) (onTc (τ := Cert.LastMixW.τ) (Cert.LastMixW.main (F := Bits))) ⟨m, fun _ => 0, g⟩ (fun r => (∀ c : Dev Cert.LastMixW.nD,
      r.2.mem ((c.tc : Thread Cert.LastMixW.nD Cert.LastMixW.τ).loc Cert.LastMixW.main_arg0) = m ((c.tc : Thread Cert.LastMixW.nD Cert.LastMixW.τ).loc Cert.LastMixW.main_arg0)
      ∧ r.2.mem ((c.tc : Thread Cert.LastMixW.nD Cert.LastMixW.τ).loc Cert.LastMixW.main_arg1) = m ((c.tc : Thread Cert.LastMixW.nD Cert.LastMixW.τ).loc Cert.LastMixW.main_arg1)
      ∧ r.2.mem ((c.tc : Thread Cert.LastMixW.nD Cert.LastMixW.τ).loc Cert.LastMixW.main_arg2) = m ((c.tc : Thread Cert.LastMixW.nD Cert.LastMixW.τ).loc Cert.LastMixW.main_arg2))
      ∧ r.2.sem = fun _ => 0)

def quiescent_LastMixWIdeal [hLastMixWIdeal : Cert.LastMixWIdeal.Facts] : Prop :=
  ∀ (m : (ℓ : Loc Cert.LastMixWIdeal.nD Cert.LastMixWIdeal.τ Cert.LastMixWIdeal.sig) → Buf (Elt Ideal) ℓ) (g : Dev Cert.LastMixWIdeal.nD → PrngReg), Pre_LastMixWIdeal m →
    θ_run (Cert.LastMixWIdeal.defs (F := Ideal)) (onTc (τ := Cert.LastMixWIdeal.τ) (Cert.LastMixWIdeal.main (F := Ideal))) ⟨m, fun _ => 0, g⟩ (fun r => (∀ c : Dev Cert.LastMixWIdeal.nD,
      r.2.mem ((c.tc : Thread Cert.LastMixWIdeal.nD Cert.LastMixWIdeal.τ).loc Cert.LastMixWIdeal.main_arg0) = m ((c.tc : Thread Cert.LastMixWIdeal.nD Cert.LastMixWIdeal.τ).loc Cert.LastMixWIdeal.main_arg0)
      ∧ r.2.mem ((c.tc : Thread Cert.LastMixWIdeal.nD Cert.LastMixWIdeal.τ).loc Cert.LastMixWIdeal.main_arg1) = m ((c.tc : Thread Cert.LastMixWIdeal.nD Cert.LastMixWIdeal.τ).loc Cert.LastMixWIdeal.main_arg1)
      ∧ r.2.mem ((c.tc : Thread Cert.LastMixWIdeal.nD Cert.LastMixWIdeal.τ).loc Cert.LastMixWIdeal.main_arg2) = m ((c.tc : Thread Cert.LastMixWIdeal.nD Cert.LastMixWIdeal.τ).loc Cert.LastMixWIdeal.main_arg2))
      ∧ r.2.sem = fun _ => 0)

def quiescent_LastMixWReferenceIdeal [hLastMixWReferenceIdeal : Cert.LastMixWReferenceIdeal.Facts] : Prop :=
  ∀ (m : (ℓ : Loc Cert.LastMixWReferenceIdeal.nD Cert.LastMixWReferenceIdeal.τ Cert.LastMixWReferenceIdeal.sig) → Buf (Elt Ideal) ℓ) (g : Dev Cert.LastMixWReferenceIdeal.nD → PrngReg), Pre_LastMixWReferenceIdeal m →
    θ_run (Cert.LastMixWReferenceIdeal.defs (F := Ideal)) (onTc (τ := Cert.LastMixWReferenceIdeal.τ) (Cert.LastMixWReferenceIdeal.main (F := Ideal))) ⟨m, fun _ => 0, g⟩ (fun r => (∀ c : Dev Cert.LastMixWReferenceIdeal.nD,
      r.2.mem ((c.tc : Thread Cert.LastMixWReferenceIdeal.nD Cert.LastMixWReferenceIdeal.τ).loc Cert.LastMixWReferenceIdeal.main_arg0) = m ((c.tc : Thread Cert.LastMixWReferenceIdeal.nD Cert.LastMixWReferenceIdeal.τ).loc Cert.LastMixWReferenceIdeal.main_arg0)
      ∧ r.2.mem ((c.tc : Thread Cert.LastMixWReferenceIdeal.nD Cert.LastMixWReferenceIdeal.τ).loc Cert.LastMixWReferenceIdeal.main_arg1) = m ((c.tc : Thread Cert.LastMixWReferenceIdeal.nD Cert.LastMixWReferenceIdeal.τ).loc Cert.LastMixWReferenceIdeal.main_arg1)
      ∧ r.2.mem ((c.tc : Thread Cert.LastMixWReferenceIdeal.nD Cert.LastMixWReferenceIdeal.τ).loc Cert.LastMixWReferenceIdeal.main_arg2) = m ((c.tc : Thread Cert.LastMixWReferenceIdeal.nD Cert.LastMixWReferenceIdeal.τ).loc Cert.LastMixWReferenceIdeal.main_arg2))
      ∧ r.2.sem = fun _ => 0)

def quiescent_Glu [hGlu : Cert.Glu.Facts] : Prop :=
  ∀ (m : (ℓ : Loc Cert.Glu.nD Cert.Glu.τ Cert.Glu.sig) → Buf (Elt Bits) ℓ) (g : Dev Cert.Glu.nD → PrngReg), Pre_Glu m →
    θ_run (Cert.Glu.defs (F := Bits)) (onTc (τ := Cert.Glu.τ) (Cert.Glu.main (F := Bits))) ⟨m, fun _ => 0, g⟩ (fun r => (∀ c : Dev Cert.Glu.nD,
      r.2.mem ((c.tc : Thread Cert.Glu.nD Cert.Glu.τ).loc Cert.Glu.main_arg0) = m ((c.tc : Thread Cert.Glu.nD Cert.Glu.τ).loc Cert.Glu.main_arg0)
      ∧ r.2.mem ((c.tc : Thread Cert.Glu.nD Cert.Glu.τ).loc Cert.Glu.main_arg1) = m ((c.tc : Thread Cert.Glu.nD Cert.Glu.τ).loc Cert.Glu.main_arg1))
      ∧ r.2.sem = fun _ => 0)

def quiescent_GluIdeal [hGluIdeal : Cert.GluIdeal.Facts] : Prop :=
  ∀ (m : (ℓ : Loc Cert.GluIdeal.nD Cert.GluIdeal.τ Cert.GluIdeal.sig) → Buf (Elt Ideal) ℓ) (g : Dev Cert.GluIdeal.nD → PrngReg), Pre_GluIdeal m →
    θ_run (Cert.GluIdeal.defs (F := Ideal)) (onTc (τ := Cert.GluIdeal.τ) (Cert.GluIdeal.main (F := Ideal))) ⟨m, fun _ => 0, g⟩ (fun r => (∀ c : Dev Cert.GluIdeal.nD,
      r.2.mem ((c.tc : Thread Cert.GluIdeal.nD Cert.GluIdeal.τ).loc Cert.GluIdeal.main_arg0) = m ((c.tc : Thread Cert.GluIdeal.nD Cert.GluIdeal.τ).loc Cert.GluIdeal.main_arg0)
      ∧ r.2.mem ((c.tc : Thread Cert.GluIdeal.nD Cert.GluIdeal.τ).loc Cert.GluIdeal.main_arg1) = m ((c.tc : Thread Cert.GluIdeal.nD Cert.GluIdeal.τ).loc Cert.GluIdeal.main_arg1))
      ∧ r.2.sem = fun _ => 0)

def quiescent_GluReferenceIdeal [hGluReferenceIdeal : Cert.GluReferenceIdeal.Facts] : Prop :=
  ∀ (m : (ℓ : Loc Cert.GluReferenceIdeal.nD Cert.GluReferenceIdeal.τ Cert.GluReferenceIdeal.sig) → Buf (Elt Ideal) ℓ) (g : Dev Cert.GluReferenceIdeal.nD → PrngReg), Pre_GluReferenceIdeal m →
    θ_run (Cert.GluReferenceIdeal.defs (F := Ideal)) (onTc (τ := Cert.GluReferenceIdeal.τ) (Cert.GluReferenceIdeal.main (F := Ideal))) ⟨m, fun _ => 0, g⟩ (fun r => (∀ c : Dev Cert.GluReferenceIdeal.nD,
      r.2.mem ((c.tc : Thread Cert.GluReferenceIdeal.nD Cert.GluReferenceIdeal.τ).loc Cert.GluReferenceIdeal.main_arg0) = m ((c.tc : Thread Cert.GluReferenceIdeal.nD Cert.GluReferenceIdeal.τ).loc Cert.GluReferenceIdeal.main_arg0)
      ∧ r.2.mem ((c.tc : Thread Cert.GluReferenceIdeal.nD Cert.GluReferenceIdeal.τ).loc Cert.GluReferenceIdeal.main_arg1) = m ((c.tc : Thread Cert.GluReferenceIdeal.nD Cert.GluReferenceIdeal.τ).loc Cert.GluReferenceIdeal.main_arg1))
      ∧ r.2.sem = fun _ => 0)

def quiescent_GluT [hGluT : Cert.GluT.Facts] : Prop :=
  ∀ (m : (ℓ : Loc Cert.GluT.nD Cert.GluT.τ Cert.GluT.sig) → Buf (Elt Bits) ℓ) (g : Dev Cert.GluT.nD → PrngReg), Pre_GluT m →
    θ_run (Cert.GluT.defs (F := Bits)) (onTc (τ := Cert.GluT.τ) (Cert.GluT.main (F := Bits))) ⟨m, fun _ => 0, g⟩ (fun r => (∀ c : Dev Cert.GluT.nD,
      r.2.mem ((c.tc : Thread Cert.GluT.nD Cert.GluT.τ).loc Cert.GluT.main_arg0) = m ((c.tc : Thread Cert.GluT.nD Cert.GluT.τ).loc Cert.GluT.main_arg0)
      ∧ r.2.mem ((c.tc : Thread Cert.GluT.nD Cert.GluT.τ).loc Cert.GluT.main_arg1) = m ((c.tc : Thread Cert.GluT.nD Cert.GluT.τ).loc Cert.GluT.main_arg1)
      ∧ r.2.mem ((c.tc : Thread Cert.GluT.nD Cert.GluT.τ).loc Cert.GluT.main_arg2) = m ((c.tc : Thread Cert.GluT.nD Cert.GluT.τ).loc Cert.GluT.main_arg2))
      ∧ r.2.sem = fun _ => 0)

def quiescent_GluTIdeal [hGluTIdeal : Cert.GluTIdeal.Facts] : Prop :=
  ∀ (m : (ℓ : Loc Cert.GluTIdeal.nD Cert.GluTIdeal.τ Cert.GluTIdeal.sig) → Buf (Elt Ideal) ℓ) (g : Dev Cert.GluTIdeal.nD → PrngReg), Pre_GluTIdeal m →
    θ_run (Cert.GluTIdeal.defs (F := Ideal)) (onTc (τ := Cert.GluTIdeal.τ) (Cert.GluTIdeal.main (F := Ideal))) ⟨m, fun _ => 0, g⟩ (fun r => (∀ c : Dev Cert.GluTIdeal.nD,
      r.2.mem ((c.tc : Thread Cert.GluTIdeal.nD Cert.GluTIdeal.τ).loc Cert.GluTIdeal.main_arg0) = m ((c.tc : Thread Cert.GluTIdeal.nD Cert.GluTIdeal.τ).loc Cert.GluTIdeal.main_arg0)
      ∧ r.2.mem ((c.tc : Thread Cert.GluTIdeal.nD Cert.GluTIdeal.τ).loc Cert.GluTIdeal.main_arg1) = m ((c.tc : Thread Cert.GluTIdeal.nD Cert.GluTIdeal.τ).loc Cert.GluTIdeal.main_arg1)
      ∧ r.2.mem ((c.tc : Thread Cert.GluTIdeal.nD Cert.GluTIdeal.τ).loc Cert.GluTIdeal.main_arg2) = m ((c.tc : Thread Cert.GluTIdeal.nD Cert.GluTIdeal.τ).loc Cert.GluTIdeal.main_arg2))
      ∧ r.2.sem = fun _ => 0)

def quiescent_GluTReferenceIdeal [hGluTReferenceIdeal : Cert.GluTReferenceIdeal.Facts] : Prop :=
  ∀ (m : (ℓ : Loc Cert.GluTReferenceIdeal.nD Cert.GluTReferenceIdeal.τ Cert.GluTReferenceIdeal.sig) → Buf (Elt Ideal) ℓ) (g : Dev Cert.GluTReferenceIdeal.nD → PrngReg), Pre_GluTReferenceIdeal m →
    θ_run (Cert.GluTReferenceIdeal.defs (F := Ideal)) (onTc (τ := Cert.GluTReferenceIdeal.τ) (Cert.GluTReferenceIdeal.main (F := Ideal))) ⟨m, fun _ => 0, g⟩ (fun r => (∀ c : Dev Cert.GluTReferenceIdeal.nD,
      r.2.mem ((c.tc : Thread Cert.GluTReferenceIdeal.nD Cert.GluTReferenceIdeal.τ).loc Cert.GluTReferenceIdeal.main_arg0) = m ((c.tc : Thread Cert.GluTReferenceIdeal.nD Cert.GluTReferenceIdeal.τ).loc Cert.GluTReferenceIdeal.main_arg0)
      ∧ r.2.mem ((c.tc : Thread Cert.GluTReferenceIdeal.nD Cert.GluTReferenceIdeal.τ).loc Cert.GluTReferenceIdeal.main_arg1) = m ((c.tc : Thread Cert.GluTReferenceIdeal.nD Cert.GluTReferenceIdeal.τ).loc Cert.GluTReferenceIdeal.main_arg1)
      ∧ r.2.mem ((c.tc : Thread Cert.GluTReferenceIdeal.nD Cert.GluTReferenceIdeal.τ).loc Cert.GluTReferenceIdeal.main_arg2) = m ((c.tc : Thread Cert.GluTReferenceIdeal.nD Cert.GluTReferenceIdeal.τ).loc Cert.GluTReferenceIdeal.main_arg2))
      ∧ r.2.sem = fun _ => 0)

def quiescent_GluW [hGluW : Cert.GluW.Facts] : Prop :=
  ∀ (m : (ℓ : Loc Cert.GluW.nD Cert.GluW.τ Cert.GluW.sig) → Buf (Elt Bits) ℓ) (g : Dev Cert.GluW.nD → PrngReg), Pre_GluW m →
    θ_run (Cert.GluW.defs (F := Bits)) (onTc (τ := Cert.GluW.τ) (Cert.GluW.main (F := Bits))) ⟨m, fun _ => 0, g⟩ (fun r => (∀ c : Dev Cert.GluW.nD,
      r.2.mem ((c.tc : Thread Cert.GluW.nD Cert.GluW.τ).loc Cert.GluW.main_arg0) = m ((c.tc : Thread Cert.GluW.nD Cert.GluW.τ).loc Cert.GluW.main_arg0)
      ∧ r.2.mem ((c.tc : Thread Cert.GluW.nD Cert.GluW.τ).loc Cert.GluW.main_arg1) = m ((c.tc : Thread Cert.GluW.nD Cert.GluW.τ).loc Cert.GluW.main_arg1)
      ∧ r.2.mem ((c.tc : Thread Cert.GluW.nD Cert.GluW.τ).loc Cert.GluW.main_arg2) = m ((c.tc : Thread Cert.GluW.nD Cert.GluW.τ).loc Cert.GluW.main_arg2))
      ∧ r.2.sem = fun _ => 0)

def quiescent_GluWIdeal [hGluWIdeal : Cert.GluWIdeal.Facts] : Prop :=
  ∀ (m : (ℓ : Loc Cert.GluWIdeal.nD Cert.GluWIdeal.τ Cert.GluWIdeal.sig) → Buf (Elt Ideal) ℓ) (g : Dev Cert.GluWIdeal.nD → PrngReg), Pre_GluWIdeal m →
    θ_run (Cert.GluWIdeal.defs (F := Ideal)) (onTc (τ := Cert.GluWIdeal.τ) (Cert.GluWIdeal.main (F := Ideal))) ⟨m, fun _ => 0, g⟩ (fun r => (∀ c : Dev Cert.GluWIdeal.nD,
      r.2.mem ((c.tc : Thread Cert.GluWIdeal.nD Cert.GluWIdeal.τ).loc Cert.GluWIdeal.main_arg0) = m ((c.tc : Thread Cert.GluWIdeal.nD Cert.GluWIdeal.τ).loc Cert.GluWIdeal.main_arg0)
      ∧ r.2.mem ((c.tc : Thread Cert.GluWIdeal.nD Cert.GluWIdeal.τ).loc Cert.GluWIdeal.main_arg1) = m ((c.tc : Thread Cert.GluWIdeal.nD Cert.GluWIdeal.τ).loc Cert.GluWIdeal.main_arg1)
      ∧ r.2.mem ((c.tc : Thread Cert.GluWIdeal.nD Cert.GluWIdeal.τ).loc Cert.GluWIdeal.main_arg2) = m ((c.tc : Thread Cert.GluWIdeal.nD Cert.GluWIdeal.τ).loc Cert.GluWIdeal.main_arg2))
      ∧ r.2.sem = fun _ => 0)

def quiescent_GluWReferenceIdeal [hGluWReferenceIdeal : Cert.GluWReferenceIdeal.Facts] : Prop :=
  ∀ (m : (ℓ : Loc Cert.GluWReferenceIdeal.nD Cert.GluWReferenceIdeal.τ Cert.GluWReferenceIdeal.sig) → Buf (Elt Ideal) ℓ) (g : Dev Cert.GluWReferenceIdeal.nD → PrngReg), Pre_GluWReferenceIdeal m →
    θ_run (Cert.GluWReferenceIdeal.defs (F := Ideal)) (onTc (τ := Cert.GluWReferenceIdeal.τ) (Cert.GluWReferenceIdeal.main (F := Ideal))) ⟨m, fun _ => 0, g⟩ (fun r => (∀ c : Dev Cert.GluWReferenceIdeal.nD,
      r.2.mem ((c.tc : Thread Cert.GluWReferenceIdeal.nD Cert.GluWReferenceIdeal.τ).loc Cert.GluWReferenceIdeal.main_arg0) = m ((c.tc : Thread Cert.GluWReferenceIdeal.nD Cert.GluWReferenceIdeal.τ).loc Cert.GluWReferenceIdeal.main_arg0)
      ∧ r.2.mem ((c.tc : Thread Cert.GluWReferenceIdeal.nD Cert.GluWReferenceIdeal.τ).loc Cert.GluWReferenceIdeal.main_arg1) = m ((c.tc : Thread Cert.GluWReferenceIdeal.nD Cert.GluWReferenceIdeal.τ).loc Cert.GluWReferenceIdeal.main_arg1)
      ∧ r.2.mem ((c.tc : Thread Cert.GluWReferenceIdeal.nD Cert.GluWReferenceIdeal.τ).loc Cert.GluWReferenceIdeal.main_arg2) = m ((c.tc : Thread Cert.GluWReferenceIdeal.nD Cert.GluWReferenceIdeal.τ).loc Cert.GluWReferenceIdeal.main_arg2))
      ∧ r.2.sem = fun _ => 0)

def quiescent_GluCtx [hGluCtx : Cert.GluCtx.Facts] : Prop :=
  ∀ (m : (ℓ : Loc Cert.GluCtx.nD Cert.GluCtx.τ Cert.GluCtx.sig) → Buf (Elt Bits) ℓ) (g : Dev Cert.GluCtx.nD → PrngReg), Pre_GluCtx m →
    θ_run (Cert.GluCtx.defs (F := Bits)) (onTc (τ := Cert.GluCtx.τ) (Cert.GluCtx.main (F := Bits))) ⟨m, fun _ => 0, g⟩ (fun r => (∀ c : Dev Cert.GluCtx.nD,
      r.2.mem ((c.tc : Thread Cert.GluCtx.nD Cert.GluCtx.τ).loc Cert.GluCtx.main_arg0) = m ((c.tc : Thread Cert.GluCtx.nD Cert.GluCtx.τ).loc Cert.GluCtx.main_arg0)
      ∧ r.2.mem ((c.tc : Thread Cert.GluCtx.nD Cert.GluCtx.τ).loc Cert.GluCtx.main_arg1) = m ((c.tc : Thread Cert.GluCtx.nD Cert.GluCtx.τ).loc Cert.GluCtx.main_arg1))
      ∧ r.2.sem = fun _ => 0)

def quiescent_GluCtxIdeal [hGluCtxIdeal : Cert.GluCtxIdeal.Facts] : Prop :=
  ∀ (m : (ℓ : Loc Cert.GluCtxIdeal.nD Cert.GluCtxIdeal.τ Cert.GluCtxIdeal.sig) → Buf (Elt Ideal) ℓ) (g : Dev Cert.GluCtxIdeal.nD → PrngReg), Pre_GluCtxIdeal m →
    θ_run (Cert.GluCtxIdeal.defs (F := Ideal)) (onTc (τ := Cert.GluCtxIdeal.τ) (Cert.GluCtxIdeal.main (F := Ideal))) ⟨m, fun _ => 0, g⟩ (fun r => (∀ c : Dev Cert.GluCtxIdeal.nD,
      r.2.mem ((c.tc : Thread Cert.GluCtxIdeal.nD Cert.GluCtxIdeal.τ).loc Cert.GluCtxIdeal.main_arg0) = m ((c.tc : Thread Cert.GluCtxIdeal.nD Cert.GluCtxIdeal.τ).loc Cert.GluCtxIdeal.main_arg0)
      ∧ r.2.mem ((c.tc : Thread Cert.GluCtxIdeal.nD Cert.GluCtxIdeal.τ).loc Cert.GluCtxIdeal.main_arg1) = m ((c.tc : Thread Cert.GluCtxIdeal.nD Cert.GluCtxIdeal.τ).loc Cert.GluCtxIdeal.main_arg1))
      ∧ r.2.sem = fun _ => 0)

def quiescent_GluCtxReferenceIdeal [hGluCtxReferenceIdeal : Cert.GluCtxReferenceIdeal.Facts] : Prop :=
  ∀ (m : (ℓ : Loc Cert.GluCtxReferenceIdeal.nD Cert.GluCtxReferenceIdeal.τ Cert.GluCtxReferenceIdeal.sig) → Buf (Elt Ideal) ℓ) (g : Dev Cert.GluCtxReferenceIdeal.nD → PrngReg), Pre_GluCtxReferenceIdeal m →
    θ_run (Cert.GluCtxReferenceIdeal.defs (F := Ideal)) (onTc (τ := Cert.GluCtxReferenceIdeal.τ) (Cert.GluCtxReferenceIdeal.main (F := Ideal))) ⟨m, fun _ => 0, g⟩ (fun r => (∀ c : Dev Cert.GluCtxReferenceIdeal.nD,
      r.2.mem ((c.tc : Thread Cert.GluCtxReferenceIdeal.nD Cert.GluCtxReferenceIdeal.τ).loc Cert.GluCtxReferenceIdeal.main_arg0) = m ((c.tc : Thread Cert.GluCtxReferenceIdeal.nD Cert.GluCtxReferenceIdeal.τ).loc Cert.GluCtxReferenceIdeal.main_arg0)
      ∧ r.2.mem ((c.tc : Thread Cert.GluCtxReferenceIdeal.nD Cert.GluCtxReferenceIdeal.τ).loc Cert.GluCtxReferenceIdeal.main_arg1) = m ((c.tc : Thread Cert.GluCtxReferenceIdeal.nD Cert.GluCtxReferenceIdeal.τ).loc Cert.GluCtxReferenceIdeal.main_arg1))
      ∧ r.2.sem = fun _ => 0)

def quiescent_GluCtxT [hGluCtxT : Cert.GluCtxT.Facts] : Prop :=
  ∀ (m : (ℓ : Loc Cert.GluCtxT.nD Cert.GluCtxT.τ Cert.GluCtxT.sig) → Buf (Elt Bits) ℓ) (g : Dev Cert.GluCtxT.nD → PrngReg), Pre_GluCtxT m →
    θ_run (Cert.GluCtxT.defs (F := Bits)) (onTc (τ := Cert.GluCtxT.τ) (Cert.GluCtxT.main (F := Bits))) ⟨m, fun _ => 0, g⟩ (fun r => (∀ c : Dev Cert.GluCtxT.nD,
      r.2.mem ((c.tc : Thread Cert.GluCtxT.nD Cert.GluCtxT.τ).loc Cert.GluCtxT.main_arg0) = m ((c.tc : Thread Cert.GluCtxT.nD Cert.GluCtxT.τ).loc Cert.GluCtxT.main_arg0)
      ∧ r.2.mem ((c.tc : Thread Cert.GluCtxT.nD Cert.GluCtxT.τ).loc Cert.GluCtxT.main_arg1) = m ((c.tc : Thread Cert.GluCtxT.nD Cert.GluCtxT.τ).loc Cert.GluCtxT.main_arg1)
      ∧ r.2.mem ((c.tc : Thread Cert.GluCtxT.nD Cert.GluCtxT.τ).loc Cert.GluCtxT.main_arg2) = m ((c.tc : Thread Cert.GluCtxT.nD Cert.GluCtxT.τ).loc Cert.GluCtxT.main_arg2))
      ∧ r.2.sem = fun _ => 0)

def quiescent_GluCtxTIdeal [hGluCtxTIdeal : Cert.GluCtxTIdeal.Facts] : Prop :=
  ∀ (m : (ℓ : Loc Cert.GluCtxTIdeal.nD Cert.GluCtxTIdeal.τ Cert.GluCtxTIdeal.sig) → Buf (Elt Ideal) ℓ) (g : Dev Cert.GluCtxTIdeal.nD → PrngReg), Pre_GluCtxTIdeal m →
    θ_run (Cert.GluCtxTIdeal.defs (F := Ideal)) (onTc (τ := Cert.GluCtxTIdeal.τ) (Cert.GluCtxTIdeal.main (F := Ideal))) ⟨m, fun _ => 0, g⟩ (fun r => (∀ c : Dev Cert.GluCtxTIdeal.nD,
      r.2.mem ((c.tc : Thread Cert.GluCtxTIdeal.nD Cert.GluCtxTIdeal.τ).loc Cert.GluCtxTIdeal.main_arg0) = m ((c.tc : Thread Cert.GluCtxTIdeal.nD Cert.GluCtxTIdeal.τ).loc Cert.GluCtxTIdeal.main_arg0)
      ∧ r.2.mem ((c.tc : Thread Cert.GluCtxTIdeal.nD Cert.GluCtxTIdeal.τ).loc Cert.GluCtxTIdeal.main_arg1) = m ((c.tc : Thread Cert.GluCtxTIdeal.nD Cert.GluCtxTIdeal.τ).loc Cert.GluCtxTIdeal.main_arg1)
      ∧ r.2.mem ((c.tc : Thread Cert.GluCtxTIdeal.nD Cert.GluCtxTIdeal.τ).loc Cert.GluCtxTIdeal.main_arg2) = m ((c.tc : Thread Cert.GluCtxTIdeal.nD Cert.GluCtxTIdeal.τ).loc Cert.GluCtxTIdeal.main_arg2))
      ∧ r.2.sem = fun _ => 0)

def quiescent_GluCtxTReferenceIdeal [hGluCtxTReferenceIdeal : Cert.GluCtxTReferenceIdeal.Facts] : Prop :=
  ∀ (m : (ℓ : Loc Cert.GluCtxTReferenceIdeal.nD Cert.GluCtxTReferenceIdeal.τ Cert.GluCtxTReferenceIdeal.sig) → Buf (Elt Ideal) ℓ) (g : Dev Cert.GluCtxTReferenceIdeal.nD → PrngReg), Pre_GluCtxTReferenceIdeal m →
    θ_run (Cert.GluCtxTReferenceIdeal.defs (F := Ideal)) (onTc (τ := Cert.GluCtxTReferenceIdeal.τ) (Cert.GluCtxTReferenceIdeal.main (F := Ideal))) ⟨m, fun _ => 0, g⟩ (fun r => (∀ c : Dev Cert.GluCtxTReferenceIdeal.nD,
      r.2.mem ((c.tc : Thread Cert.GluCtxTReferenceIdeal.nD Cert.GluCtxTReferenceIdeal.τ).loc Cert.GluCtxTReferenceIdeal.main_arg0) = m ((c.tc : Thread Cert.GluCtxTReferenceIdeal.nD Cert.GluCtxTReferenceIdeal.τ).loc Cert.GluCtxTReferenceIdeal.main_arg0)
      ∧ r.2.mem ((c.tc : Thread Cert.GluCtxTReferenceIdeal.nD Cert.GluCtxTReferenceIdeal.τ).loc Cert.GluCtxTReferenceIdeal.main_arg1) = m ((c.tc : Thread Cert.GluCtxTReferenceIdeal.nD Cert.GluCtxTReferenceIdeal.τ).loc Cert.GluCtxTReferenceIdeal.main_arg1)
      ∧ r.2.mem ((c.tc : Thread Cert.GluCtxTReferenceIdeal.nD Cert.GluCtxTReferenceIdeal.τ).loc Cert.GluCtxTReferenceIdeal.main_arg2) = m ((c.tc : Thread Cert.GluCtxTReferenceIdeal.nD Cert.GluCtxTReferenceIdeal.τ).loc Cert.GluCtxTReferenceIdeal.main_arg2))
      ∧ r.2.sem = fun _ => 0)

def quiescent_GluCtxW [hGluCtxW : Cert.GluCtxW.Facts] : Prop :=
  ∀ (m : (ℓ : Loc Cert.GluCtxW.nD Cert.GluCtxW.τ Cert.GluCtxW.sig) → Buf (Elt Bits) ℓ) (g : Dev Cert.GluCtxW.nD → PrngReg), Pre_GluCtxW m →
    θ_run (Cert.GluCtxW.defs (F := Bits)) (onTc (τ := Cert.GluCtxW.τ) (Cert.GluCtxW.main (F := Bits))) ⟨m, fun _ => 0, g⟩ (fun r => (∀ c : Dev Cert.GluCtxW.nD,
      r.2.mem ((c.tc : Thread Cert.GluCtxW.nD Cert.GluCtxW.τ).loc Cert.GluCtxW.main_arg0) = m ((c.tc : Thread Cert.GluCtxW.nD Cert.GluCtxW.τ).loc Cert.GluCtxW.main_arg0)
      ∧ r.2.mem ((c.tc : Thread Cert.GluCtxW.nD Cert.GluCtxW.τ).loc Cert.GluCtxW.main_arg1) = m ((c.tc : Thread Cert.GluCtxW.nD Cert.GluCtxW.τ).loc Cert.GluCtxW.main_arg1)
      ∧ r.2.mem ((c.tc : Thread Cert.GluCtxW.nD Cert.GluCtxW.τ).loc Cert.GluCtxW.main_arg2) = m ((c.tc : Thread Cert.GluCtxW.nD Cert.GluCtxW.τ).loc Cert.GluCtxW.main_arg2))
      ∧ r.2.sem = fun _ => 0)

def quiescent_GluCtxWIdeal [hGluCtxWIdeal : Cert.GluCtxWIdeal.Facts] : Prop :=
  ∀ (m : (ℓ : Loc Cert.GluCtxWIdeal.nD Cert.GluCtxWIdeal.τ Cert.GluCtxWIdeal.sig) → Buf (Elt Ideal) ℓ) (g : Dev Cert.GluCtxWIdeal.nD → PrngReg), Pre_GluCtxWIdeal m →
    θ_run (Cert.GluCtxWIdeal.defs (F := Ideal)) (onTc (τ := Cert.GluCtxWIdeal.τ) (Cert.GluCtxWIdeal.main (F := Ideal))) ⟨m, fun _ => 0, g⟩ (fun r => (∀ c : Dev Cert.GluCtxWIdeal.nD,
      r.2.mem ((c.tc : Thread Cert.GluCtxWIdeal.nD Cert.GluCtxWIdeal.τ).loc Cert.GluCtxWIdeal.main_arg0) = m ((c.tc : Thread Cert.GluCtxWIdeal.nD Cert.GluCtxWIdeal.τ).loc Cert.GluCtxWIdeal.main_arg0)
      ∧ r.2.mem ((c.tc : Thread Cert.GluCtxWIdeal.nD Cert.GluCtxWIdeal.τ).loc Cert.GluCtxWIdeal.main_arg1) = m ((c.tc : Thread Cert.GluCtxWIdeal.nD Cert.GluCtxWIdeal.τ).loc Cert.GluCtxWIdeal.main_arg1)
      ∧ r.2.mem ((c.tc : Thread Cert.GluCtxWIdeal.nD Cert.GluCtxWIdeal.τ).loc Cert.GluCtxWIdeal.main_arg2) = m ((c.tc : Thread Cert.GluCtxWIdeal.nD Cert.GluCtxWIdeal.τ).loc Cert.GluCtxWIdeal.main_arg2))
      ∧ r.2.sem = fun _ => 0)

def quiescent_GluCtxWReferenceIdeal [hGluCtxWReferenceIdeal : Cert.GluCtxWReferenceIdeal.Facts] : Prop :=
  ∀ (m : (ℓ : Loc Cert.GluCtxWReferenceIdeal.nD Cert.GluCtxWReferenceIdeal.τ Cert.GluCtxWReferenceIdeal.sig) → Buf (Elt Ideal) ℓ) (g : Dev Cert.GluCtxWReferenceIdeal.nD → PrngReg), Pre_GluCtxWReferenceIdeal m →
    θ_run (Cert.GluCtxWReferenceIdeal.defs (F := Ideal)) (onTc (τ := Cert.GluCtxWReferenceIdeal.τ) (Cert.GluCtxWReferenceIdeal.main (F := Ideal))) ⟨m, fun _ => 0, g⟩ (fun r => (∀ c : Dev Cert.GluCtxWReferenceIdeal.nD,
      r.2.mem ((c.tc : Thread Cert.GluCtxWReferenceIdeal.nD Cert.GluCtxWReferenceIdeal.τ).loc Cert.GluCtxWReferenceIdeal.main_arg0) = m ((c.tc : Thread Cert.GluCtxWReferenceIdeal.nD Cert.GluCtxWReferenceIdeal.τ).loc Cert.GluCtxWReferenceIdeal.main_arg0)
      ∧ r.2.mem ((c.tc : Thread Cert.GluCtxWReferenceIdeal.nD Cert.GluCtxWReferenceIdeal.τ).loc Cert.GluCtxWReferenceIdeal.main_arg1) = m ((c.tc : Thread Cert.GluCtxWReferenceIdeal.nD Cert.GluCtxWReferenceIdeal.τ).loc Cert.GluCtxWReferenceIdeal.main_arg1)
      ∧ r.2.mem ((c.tc : Thread Cert.GluCtxWReferenceIdeal.nD Cert.GluCtxWReferenceIdeal.τ).loc Cert.GluCtxWReferenceIdeal.main_arg2) = m ((c.tc : Thread Cert.GluCtxWReferenceIdeal.nD Cert.GluCtxWReferenceIdeal.τ).loc Cert.GluCtxWReferenceIdeal.main_arg2))
      ∧ r.2.sem = fun _ => 0)

def quiescent_AdamUp [hAdamUp : Cert.AdamUp.Facts] : Prop :=
  ∀ (m : (ℓ : Loc Cert.AdamUp.nD Cert.AdamUp.τ Cert.AdamUp.sig) → Buf (Elt Bits) ℓ) (g : Dev Cert.AdamUp.nD → PrngReg), Pre_AdamUp m →
    θ_run (Cert.AdamUp.defs (F := Bits)) (onTc (τ := Cert.AdamUp.τ) (Cert.AdamUp.main (F := Bits))) ⟨m, fun _ => 0, g⟩ (fun r => (∀ c : Dev Cert.AdamUp.nD,
      r.2.mem ((c.tc : Thread Cert.AdamUp.nD Cert.AdamUp.τ).loc Cert.AdamUp.main_arg0) = m ((c.tc : Thread Cert.AdamUp.nD Cert.AdamUp.τ).loc Cert.AdamUp.main_arg0)
      ∧ r.2.mem ((c.tc : Thread Cert.AdamUp.nD Cert.AdamUp.τ).loc Cert.AdamUp.main_arg1) = m ((c.tc : Thread Cert.AdamUp.nD Cert.AdamUp.τ).loc Cert.AdamUp.main_arg1)
      ∧ r.2.mem ((c.tc : Thread Cert.AdamUp.nD Cert.AdamUp.τ).loc Cert.AdamUp.main_arg2) = m ((c.tc : Thread Cert.AdamUp.nD Cert.AdamUp.τ).loc Cert.AdamUp.main_arg2)
      ∧ r.2.mem ((c.tc : Thread Cert.AdamUp.nD Cert.AdamUp.τ).loc Cert.AdamUp.main_arg3) = m ((c.tc : Thread Cert.AdamUp.nD Cert.AdamUp.τ).loc Cert.AdamUp.main_arg3))
      ∧ r.2.sem = fun _ => 0)

def quiescent_AdamUpIdeal [hAdamUpIdeal : Cert.AdamUpIdeal.Facts] : Prop :=
  ∀ (m : (ℓ : Loc Cert.AdamUpIdeal.nD Cert.AdamUpIdeal.τ Cert.AdamUpIdeal.sig) → Buf (Elt Ideal) ℓ) (g : Dev Cert.AdamUpIdeal.nD → PrngReg), Pre_AdamUpIdeal m →
    θ_run (Cert.AdamUpIdeal.defs (F := Ideal)) (onTc (τ := Cert.AdamUpIdeal.τ) (Cert.AdamUpIdeal.main (F := Ideal))) ⟨m, fun _ => 0, g⟩ (fun r => (∀ c : Dev Cert.AdamUpIdeal.nD,
      r.2.mem ((c.tc : Thread Cert.AdamUpIdeal.nD Cert.AdamUpIdeal.τ).loc Cert.AdamUpIdeal.main_arg0) = m ((c.tc : Thread Cert.AdamUpIdeal.nD Cert.AdamUpIdeal.τ).loc Cert.AdamUpIdeal.main_arg0)
      ∧ r.2.mem ((c.tc : Thread Cert.AdamUpIdeal.nD Cert.AdamUpIdeal.τ).loc Cert.AdamUpIdeal.main_arg1) = m ((c.tc : Thread Cert.AdamUpIdeal.nD Cert.AdamUpIdeal.τ).loc Cert.AdamUpIdeal.main_arg1)
      ∧ r.2.mem ((c.tc : Thread Cert.AdamUpIdeal.nD Cert.AdamUpIdeal.τ).loc Cert.AdamUpIdeal.main_arg2) = m ((c.tc : Thread Cert.AdamUpIdeal.nD Cert.AdamUpIdeal.τ).loc Cert.AdamUpIdeal.main_arg2)
      ∧ r.2.mem ((c.tc : Thread Cert.AdamUpIdeal.nD Cert.AdamUpIdeal.τ).loc Cert.AdamUpIdeal.main_arg3) = m ((c.tc : Thread Cert.AdamUpIdeal.nD Cert.AdamUpIdeal.τ).loc Cert.AdamUpIdeal.main_arg3))
      ∧ r.2.sem = fun _ => 0)

def quiescent_AdamUpReferenceIdeal [hAdamUpReferenceIdeal : Cert.AdamUpReferenceIdeal.Facts] : Prop :=
  ∀ (m : (ℓ : Loc Cert.AdamUpReferenceIdeal.nD Cert.AdamUpReferenceIdeal.τ Cert.AdamUpReferenceIdeal.sig) → Buf (Elt Ideal) ℓ) (g : Dev Cert.AdamUpReferenceIdeal.nD → PrngReg), Pre_AdamUpReferenceIdeal m →
    θ_run (Cert.AdamUpReferenceIdeal.defs (F := Ideal)) (onTc (τ := Cert.AdamUpReferenceIdeal.τ) (Cert.AdamUpReferenceIdeal.main (F := Ideal))) ⟨m, fun _ => 0, g⟩ (fun r => (∀ c : Dev Cert.AdamUpReferenceIdeal.nD,
      r.2.mem ((c.tc : Thread Cert.AdamUpReferenceIdeal.nD Cert.AdamUpReferenceIdeal.τ).loc Cert.AdamUpReferenceIdeal.main_arg0) = m ((c.tc : Thread Cert.AdamUpReferenceIdeal.nD Cert.AdamUpReferenceIdeal.τ).loc Cert.AdamUpReferenceIdeal.main_arg0)
      ∧ r.2.mem ((c.tc : Thread Cert.AdamUpReferenceIdeal.nD Cert.AdamUpReferenceIdeal.τ).loc Cert.AdamUpReferenceIdeal.main_arg1) = m ((c.tc : Thread Cert.AdamUpReferenceIdeal.nD Cert.AdamUpReferenceIdeal.τ).loc Cert.AdamUpReferenceIdeal.main_arg1)
      ∧ r.2.mem ((c.tc : Thread Cert.AdamUpReferenceIdeal.nD Cert.AdamUpReferenceIdeal.τ).loc Cert.AdamUpReferenceIdeal.main_arg2) = m ((c.tc : Thread Cert.AdamUpReferenceIdeal.nD Cert.AdamUpReferenceIdeal.τ).loc Cert.AdamUpReferenceIdeal.main_arg2)
      ∧ r.2.mem ((c.tc : Thread Cert.AdamUpReferenceIdeal.nD Cert.AdamUpReferenceIdeal.τ).loc Cert.AdamUpReferenceIdeal.main_arg3) = m ((c.tc : Thread Cert.AdamUpReferenceIdeal.nD Cert.AdamUpReferenceIdeal.τ).loc Cert.AdamUpReferenceIdeal.main_arg3))
      ∧ r.2.sem = fun _ => 0)

def quiescent_AdamDown [hAdamDown : Cert.AdamDown.Facts] : Prop :=
  ∀ (m : (ℓ : Loc Cert.AdamDown.nD Cert.AdamDown.τ Cert.AdamDown.sig) → Buf (Elt Bits) ℓ) (g : Dev Cert.AdamDown.nD → PrngReg), Pre_AdamDown m →
    θ_run (Cert.AdamDown.defs (F := Bits)) (onTc (τ := Cert.AdamDown.τ) (Cert.AdamDown.main (F := Bits))) ⟨m, fun _ => 0, g⟩ (fun r => (∀ c : Dev Cert.AdamDown.nD,
      r.2.mem ((c.tc : Thread Cert.AdamDown.nD Cert.AdamDown.τ).loc Cert.AdamDown.main_arg0) = m ((c.tc : Thread Cert.AdamDown.nD Cert.AdamDown.τ).loc Cert.AdamDown.main_arg0)
      ∧ r.2.mem ((c.tc : Thread Cert.AdamDown.nD Cert.AdamDown.τ).loc Cert.AdamDown.main_arg1) = m ((c.tc : Thread Cert.AdamDown.nD Cert.AdamDown.τ).loc Cert.AdamDown.main_arg1)
      ∧ r.2.mem ((c.tc : Thread Cert.AdamDown.nD Cert.AdamDown.τ).loc Cert.AdamDown.main_arg2) = m ((c.tc : Thread Cert.AdamDown.nD Cert.AdamDown.τ).loc Cert.AdamDown.main_arg2)
      ∧ r.2.mem ((c.tc : Thread Cert.AdamDown.nD Cert.AdamDown.τ).loc Cert.AdamDown.main_arg3) = m ((c.tc : Thread Cert.AdamDown.nD Cert.AdamDown.τ).loc Cert.AdamDown.main_arg3))
      ∧ r.2.sem = fun _ => 0)

def quiescent_AdamDownIdeal [hAdamDownIdeal : Cert.AdamDownIdeal.Facts] : Prop :=
  ∀ (m : (ℓ : Loc Cert.AdamDownIdeal.nD Cert.AdamDownIdeal.τ Cert.AdamDownIdeal.sig) → Buf (Elt Ideal) ℓ) (g : Dev Cert.AdamDownIdeal.nD → PrngReg), Pre_AdamDownIdeal m →
    θ_run (Cert.AdamDownIdeal.defs (F := Ideal)) (onTc (τ := Cert.AdamDownIdeal.τ) (Cert.AdamDownIdeal.main (F := Ideal))) ⟨m, fun _ => 0, g⟩ (fun r => (∀ c : Dev Cert.AdamDownIdeal.nD,
      r.2.mem ((c.tc : Thread Cert.AdamDownIdeal.nD Cert.AdamDownIdeal.τ).loc Cert.AdamDownIdeal.main_arg0) = m ((c.tc : Thread Cert.AdamDownIdeal.nD Cert.AdamDownIdeal.τ).loc Cert.AdamDownIdeal.main_arg0)
      ∧ r.2.mem ((c.tc : Thread Cert.AdamDownIdeal.nD Cert.AdamDownIdeal.τ).loc Cert.AdamDownIdeal.main_arg1) = m ((c.tc : Thread Cert.AdamDownIdeal.nD Cert.AdamDownIdeal.τ).loc Cert.AdamDownIdeal.main_arg1)
      ∧ r.2.mem ((c.tc : Thread Cert.AdamDownIdeal.nD Cert.AdamDownIdeal.τ).loc Cert.AdamDownIdeal.main_arg2) = m ((c.tc : Thread Cert.AdamDownIdeal.nD Cert.AdamDownIdeal.τ).loc Cert.AdamDownIdeal.main_arg2)
      ∧ r.2.mem ((c.tc : Thread Cert.AdamDownIdeal.nD Cert.AdamDownIdeal.τ).loc Cert.AdamDownIdeal.main_arg3) = m ((c.tc : Thread Cert.AdamDownIdeal.nD Cert.AdamDownIdeal.τ).loc Cert.AdamDownIdeal.main_arg3))
      ∧ r.2.sem = fun _ => 0)

def quiescent_AdamDownReferenceIdeal [hAdamDownReferenceIdeal : Cert.AdamDownReferenceIdeal.Facts] : Prop :=
  ∀ (m : (ℓ : Loc Cert.AdamDownReferenceIdeal.nD Cert.AdamDownReferenceIdeal.τ Cert.AdamDownReferenceIdeal.sig) → Buf (Elt Ideal) ℓ) (g : Dev Cert.AdamDownReferenceIdeal.nD → PrngReg), Pre_AdamDownReferenceIdeal m →
    θ_run (Cert.AdamDownReferenceIdeal.defs (F := Ideal)) (onTc (τ := Cert.AdamDownReferenceIdeal.τ) (Cert.AdamDownReferenceIdeal.main (F := Ideal))) ⟨m, fun _ => 0, g⟩ (fun r => (∀ c : Dev Cert.AdamDownReferenceIdeal.nD,
      r.2.mem ((c.tc : Thread Cert.AdamDownReferenceIdeal.nD Cert.AdamDownReferenceIdeal.τ).loc Cert.AdamDownReferenceIdeal.main_arg0) = m ((c.tc : Thread Cert.AdamDownReferenceIdeal.nD Cert.AdamDownReferenceIdeal.τ).loc Cert.AdamDownReferenceIdeal.main_arg0)
      ∧ r.2.mem ((c.tc : Thread Cert.AdamDownReferenceIdeal.nD Cert.AdamDownReferenceIdeal.τ).loc Cert.AdamDownReferenceIdeal.main_arg1) = m ((c.tc : Thread Cert.AdamDownReferenceIdeal.nD Cert.AdamDownReferenceIdeal.τ).loc Cert.AdamDownReferenceIdeal.main_arg1)
      ∧ r.2.mem ((c.tc : Thread Cert.AdamDownReferenceIdeal.nD Cert.AdamDownReferenceIdeal.τ).loc Cert.AdamDownReferenceIdeal.main_arg2) = m ((c.tc : Thread Cert.AdamDownReferenceIdeal.nD Cert.AdamDownReferenceIdeal.τ).loc Cert.AdamDownReferenceIdeal.main_arg2)
      ∧ r.2.mem ((c.tc : Thread Cert.AdamDownReferenceIdeal.nD Cert.AdamDownReferenceIdeal.τ).loc Cert.AdamDownReferenceIdeal.main_arg3) = m ((c.tc : Thread Cert.AdamDownReferenceIdeal.nD Cert.AdamDownReferenceIdeal.τ).loc Cert.AdamDownReferenceIdeal.main_arg3))
      ∧ r.2.sem = fun _ => 0)

def quiescent_AdamEvenIn [hAdamEvenIn : Cert.AdamEvenIn.Facts] : Prop :=
  ∀ (m : (ℓ : Loc Cert.AdamEvenIn.nD Cert.AdamEvenIn.τ Cert.AdamEvenIn.sig) → Buf (Elt Bits) ℓ) (g : Dev Cert.AdamEvenIn.nD → PrngReg), Pre_AdamEvenIn m →
    θ_run (Cert.AdamEvenIn.defs (F := Bits)) (onTc (τ := Cert.AdamEvenIn.τ) (Cert.AdamEvenIn.main (F := Bits))) ⟨m, fun _ => 0, g⟩ (fun r => (∀ c : Dev Cert.AdamEvenIn.nD,
      r.2.mem ((c.tc : Thread Cert.AdamEvenIn.nD Cert.AdamEvenIn.τ).loc Cert.AdamEvenIn.main_arg0) = m ((c.tc : Thread Cert.AdamEvenIn.nD Cert.AdamEvenIn.τ).loc Cert.AdamEvenIn.main_arg0)
      ∧ r.2.mem ((c.tc : Thread Cert.AdamEvenIn.nD Cert.AdamEvenIn.τ).loc Cert.AdamEvenIn.main_arg1) = m ((c.tc : Thread Cert.AdamEvenIn.nD Cert.AdamEvenIn.τ).loc Cert.AdamEvenIn.main_arg1)
      ∧ r.2.mem ((c.tc : Thread Cert.AdamEvenIn.nD Cert.AdamEvenIn.τ).loc Cert.AdamEvenIn.main_arg2) = m ((c.tc : Thread Cert.AdamEvenIn.nD Cert.AdamEvenIn.τ).loc Cert.AdamEvenIn.main_arg2)
      ∧ r.2.mem ((c.tc : Thread Cert.AdamEvenIn.nD Cert.AdamEvenIn.τ).loc Cert.AdamEvenIn.main_arg3) = m ((c.tc : Thread Cert.AdamEvenIn.nD Cert.AdamEvenIn.τ).loc Cert.AdamEvenIn.main_arg3))
      ∧ r.2.sem = fun _ => 0)

def quiescent_AdamEvenInIdeal [hAdamEvenInIdeal : Cert.AdamEvenInIdeal.Facts] : Prop :=
  ∀ (m : (ℓ : Loc Cert.AdamEvenInIdeal.nD Cert.AdamEvenInIdeal.τ Cert.AdamEvenInIdeal.sig) → Buf (Elt Ideal) ℓ) (g : Dev Cert.AdamEvenInIdeal.nD → PrngReg), Pre_AdamEvenInIdeal m →
    θ_run (Cert.AdamEvenInIdeal.defs (F := Ideal)) (onTc (τ := Cert.AdamEvenInIdeal.τ) (Cert.AdamEvenInIdeal.main (F := Ideal))) ⟨m, fun _ => 0, g⟩ (fun r => (∀ c : Dev Cert.AdamEvenInIdeal.nD,
      r.2.mem ((c.tc : Thread Cert.AdamEvenInIdeal.nD Cert.AdamEvenInIdeal.τ).loc Cert.AdamEvenInIdeal.main_arg0) = m ((c.tc : Thread Cert.AdamEvenInIdeal.nD Cert.AdamEvenInIdeal.τ).loc Cert.AdamEvenInIdeal.main_arg0)
      ∧ r.2.mem ((c.tc : Thread Cert.AdamEvenInIdeal.nD Cert.AdamEvenInIdeal.τ).loc Cert.AdamEvenInIdeal.main_arg1) = m ((c.tc : Thread Cert.AdamEvenInIdeal.nD Cert.AdamEvenInIdeal.τ).loc Cert.AdamEvenInIdeal.main_arg1)
      ∧ r.2.mem ((c.tc : Thread Cert.AdamEvenInIdeal.nD Cert.AdamEvenInIdeal.τ).loc Cert.AdamEvenInIdeal.main_arg2) = m ((c.tc : Thread Cert.AdamEvenInIdeal.nD Cert.AdamEvenInIdeal.τ).loc Cert.AdamEvenInIdeal.main_arg2)
      ∧ r.2.mem ((c.tc : Thread Cert.AdamEvenInIdeal.nD Cert.AdamEvenInIdeal.τ).loc Cert.AdamEvenInIdeal.main_arg3) = m ((c.tc : Thread Cert.AdamEvenInIdeal.nD Cert.AdamEvenInIdeal.τ).loc Cert.AdamEvenInIdeal.main_arg3))
      ∧ r.2.sem = fun _ => 0)

def quiescent_AdamEvenInReferenceIdeal [hAdamEvenInReferenceIdeal : Cert.AdamEvenInReferenceIdeal.Facts] : Prop :=
  ∀ (m : (ℓ : Loc Cert.AdamEvenInReferenceIdeal.nD Cert.AdamEvenInReferenceIdeal.τ Cert.AdamEvenInReferenceIdeal.sig) → Buf (Elt Ideal) ℓ) (g : Dev Cert.AdamEvenInReferenceIdeal.nD → PrngReg), Pre_AdamEvenInReferenceIdeal m →
    θ_run (Cert.AdamEvenInReferenceIdeal.defs (F := Ideal)) (onTc (τ := Cert.AdamEvenInReferenceIdeal.τ) (Cert.AdamEvenInReferenceIdeal.main (F := Ideal))) ⟨m, fun _ => 0, g⟩ (fun r => (∀ c : Dev Cert.AdamEvenInReferenceIdeal.nD,
      r.2.mem ((c.tc : Thread Cert.AdamEvenInReferenceIdeal.nD Cert.AdamEvenInReferenceIdeal.τ).loc Cert.AdamEvenInReferenceIdeal.main_arg0) = m ((c.tc : Thread Cert.AdamEvenInReferenceIdeal.nD Cert.AdamEvenInReferenceIdeal.τ).loc Cert.AdamEvenInReferenceIdeal.main_arg0)
      ∧ r.2.mem ((c.tc : Thread Cert.AdamEvenInReferenceIdeal.nD Cert.AdamEvenInReferenceIdeal.τ).loc Cert.AdamEvenInReferenceIdeal.main_arg1) = m ((c.tc : Thread Cert.AdamEvenInReferenceIdeal.nD Cert.AdamEvenInReferenceIdeal.τ).loc Cert.AdamEvenInReferenceIdeal.main_arg1)
      ∧ r.2.mem ((c.tc : Thread Cert.AdamEvenInReferenceIdeal.nD Cert.AdamEvenInReferenceIdeal.τ).loc Cert.AdamEvenInReferenceIdeal.main_arg2) = m ((c.tc : Thread Cert.AdamEvenInReferenceIdeal.nD Cert.AdamEvenInReferenceIdeal.τ).loc Cert.AdamEvenInReferenceIdeal.main_arg2)
      ∧ r.2.mem ((c.tc : Thread Cert.AdamEvenInReferenceIdeal.nD Cert.AdamEvenInReferenceIdeal.τ).loc Cert.AdamEvenInReferenceIdeal.main_arg3) = m ((c.tc : Thread Cert.AdamEvenInReferenceIdeal.nD Cert.AdamEvenInReferenceIdeal.τ).loc Cert.AdamEvenInReferenceIdeal.main_arg3))
      ∧ r.2.sem = fun _ => 0)

def quiescent_AdamMix [hAdamMix : Cert.AdamMix.Facts] : Prop :=
  ∀ (m : (ℓ : Loc Cert.AdamMix.nD Cert.AdamMix.τ Cert.AdamMix.sig) → Buf (Elt Bits) ℓ) (g : Dev Cert.AdamMix.nD → PrngReg), Pre_AdamMix m →
    θ_run (Cert.AdamMix.defs (F := Bits)) (onTc (τ := Cert.AdamMix.τ) (Cert.AdamMix.main (F := Bits))) ⟨m, fun _ => 0, g⟩ (fun r => (∀ c : Dev Cert.AdamMix.nD,
      r.2.mem ((c.tc : Thread Cert.AdamMix.nD Cert.AdamMix.τ).loc Cert.AdamMix.main_arg0) = m ((c.tc : Thread Cert.AdamMix.nD Cert.AdamMix.τ).loc Cert.AdamMix.main_arg0)
      ∧ r.2.mem ((c.tc : Thread Cert.AdamMix.nD Cert.AdamMix.τ).loc Cert.AdamMix.main_arg1) = m ((c.tc : Thread Cert.AdamMix.nD Cert.AdamMix.τ).loc Cert.AdamMix.main_arg1)
      ∧ r.2.mem ((c.tc : Thread Cert.AdamMix.nD Cert.AdamMix.τ).loc Cert.AdamMix.main_arg2) = m ((c.tc : Thread Cert.AdamMix.nD Cert.AdamMix.τ).loc Cert.AdamMix.main_arg2)
      ∧ r.2.mem ((c.tc : Thread Cert.AdamMix.nD Cert.AdamMix.τ).loc Cert.AdamMix.main_arg3) = m ((c.tc : Thread Cert.AdamMix.nD Cert.AdamMix.τ).loc Cert.AdamMix.main_arg3))
      ∧ r.2.sem = fun _ => 0)

def quiescent_AdamMixIdeal [hAdamMixIdeal : Cert.AdamMixIdeal.Facts] : Prop :=
  ∀ (m : (ℓ : Loc Cert.AdamMixIdeal.nD Cert.AdamMixIdeal.τ Cert.AdamMixIdeal.sig) → Buf (Elt Ideal) ℓ) (g : Dev Cert.AdamMixIdeal.nD → PrngReg), Pre_AdamMixIdeal m →
    θ_run (Cert.AdamMixIdeal.defs (F := Ideal)) (onTc (τ := Cert.AdamMixIdeal.τ) (Cert.AdamMixIdeal.main (F := Ideal))) ⟨m, fun _ => 0, g⟩ (fun r => (∀ c : Dev Cert.AdamMixIdeal.nD,
      r.2.mem ((c.tc : Thread Cert.AdamMixIdeal.nD Cert.AdamMixIdeal.τ).loc Cert.AdamMixIdeal.main_arg0) = m ((c.tc : Thread Cert.AdamMixIdeal.nD Cert.AdamMixIdeal.τ).loc Cert.AdamMixIdeal.main_arg0)
      ∧ r.2.mem ((c.tc : Thread Cert.AdamMixIdeal.nD Cert.AdamMixIdeal.τ).loc Cert.AdamMixIdeal.main_arg1) = m ((c.tc : Thread Cert.AdamMixIdeal.nD Cert.AdamMixIdeal.τ).loc Cert.AdamMixIdeal.main_arg1)
      ∧ r.2.mem ((c.tc : Thread Cert.AdamMixIdeal.nD Cert.AdamMixIdeal.τ).loc Cert.AdamMixIdeal.main_arg2) = m ((c.tc : Thread Cert.AdamMixIdeal.nD Cert.AdamMixIdeal.τ).loc Cert.AdamMixIdeal.main_arg2)
      ∧ r.2.mem ((c.tc : Thread Cert.AdamMixIdeal.nD Cert.AdamMixIdeal.τ).loc Cert.AdamMixIdeal.main_arg3) = m ((c.tc : Thread Cert.AdamMixIdeal.nD Cert.AdamMixIdeal.τ).loc Cert.AdamMixIdeal.main_arg3))
      ∧ r.2.sem = fun _ => 0)

def quiescent_AdamMixReferenceIdeal [hAdamMixReferenceIdeal : Cert.AdamMixReferenceIdeal.Facts] : Prop :=
  ∀ (m : (ℓ : Loc Cert.AdamMixReferenceIdeal.nD Cert.AdamMixReferenceIdeal.τ Cert.AdamMixReferenceIdeal.sig) → Buf (Elt Ideal) ℓ) (g : Dev Cert.AdamMixReferenceIdeal.nD → PrngReg), Pre_AdamMixReferenceIdeal m →
    θ_run (Cert.AdamMixReferenceIdeal.defs (F := Ideal)) (onTc (τ := Cert.AdamMixReferenceIdeal.τ) (Cert.AdamMixReferenceIdeal.main (F := Ideal))) ⟨m, fun _ => 0, g⟩ (fun r => (∀ c : Dev Cert.AdamMixReferenceIdeal.nD,
      r.2.mem ((c.tc : Thread Cert.AdamMixReferenceIdeal.nD Cert.AdamMixReferenceIdeal.τ).loc Cert.AdamMixReferenceIdeal.main_arg0) = m ((c.tc : Thread Cert.AdamMixReferenceIdeal.nD Cert.AdamMixReferenceIdeal.τ).loc Cert.AdamMixReferenceIdeal.main_arg0)
      ∧ r.2.mem ((c.tc : Thread Cert.AdamMixReferenceIdeal.nD Cert.AdamMixReferenceIdeal.τ).loc Cert.AdamMixReferenceIdeal.main_arg1) = m ((c.tc : Thread Cert.AdamMixReferenceIdeal.nD Cert.AdamMixReferenceIdeal.τ).loc Cert.AdamMixReferenceIdeal.main_arg1)
      ∧ r.2.mem ((c.tc : Thread Cert.AdamMixReferenceIdeal.nD Cert.AdamMixReferenceIdeal.τ).loc Cert.AdamMixReferenceIdeal.main_arg2) = m ((c.tc : Thread Cert.AdamMixReferenceIdeal.nD Cert.AdamMixReferenceIdeal.τ).loc Cert.AdamMixReferenceIdeal.main_arg2)
      ∧ r.2.mem ((c.tc : Thread Cert.AdamMixReferenceIdeal.nD Cert.AdamMixReferenceIdeal.τ).loc Cert.AdamMixReferenceIdeal.main_arg3) = m ((c.tc : Thread Cert.AdamMixReferenceIdeal.nD Cert.AdamMixReferenceIdeal.τ).loc Cert.AdamMixReferenceIdeal.main_arg3))
      ∧ r.2.sem = fun _ => 0)

def quiescent_AdamOddIn [hAdamOddIn : Cert.AdamOddIn.Facts] : Prop :=
  ∀ (m : (ℓ : Loc Cert.AdamOddIn.nD Cert.AdamOddIn.τ Cert.AdamOddIn.sig) → Buf (Elt Bits) ℓ) (g : Dev Cert.AdamOddIn.nD → PrngReg), Pre_AdamOddIn m →
    θ_run (Cert.AdamOddIn.defs (F := Bits)) (onTc (τ := Cert.AdamOddIn.τ) (Cert.AdamOddIn.main (F := Bits))) ⟨m, fun _ => 0, g⟩ (fun r => (∀ c : Dev Cert.AdamOddIn.nD,
      r.2.mem ((c.tc : Thread Cert.AdamOddIn.nD Cert.AdamOddIn.τ).loc Cert.AdamOddIn.main_arg0) = m ((c.tc : Thread Cert.AdamOddIn.nD Cert.AdamOddIn.τ).loc Cert.AdamOddIn.main_arg0)
      ∧ r.2.mem ((c.tc : Thread Cert.AdamOddIn.nD Cert.AdamOddIn.τ).loc Cert.AdamOddIn.main_arg1) = m ((c.tc : Thread Cert.AdamOddIn.nD Cert.AdamOddIn.τ).loc Cert.AdamOddIn.main_arg1)
      ∧ r.2.mem ((c.tc : Thread Cert.AdamOddIn.nD Cert.AdamOddIn.τ).loc Cert.AdamOddIn.main_arg2) = m ((c.tc : Thread Cert.AdamOddIn.nD Cert.AdamOddIn.τ).loc Cert.AdamOddIn.main_arg2)
      ∧ r.2.mem ((c.tc : Thread Cert.AdamOddIn.nD Cert.AdamOddIn.τ).loc Cert.AdamOddIn.main_arg3) = m ((c.tc : Thread Cert.AdamOddIn.nD Cert.AdamOddIn.τ).loc Cert.AdamOddIn.main_arg3))
      ∧ r.2.sem = fun _ => 0)

def quiescent_AdamOddInIdeal [hAdamOddInIdeal : Cert.AdamOddInIdeal.Facts] : Prop :=
  ∀ (m : (ℓ : Loc Cert.AdamOddInIdeal.nD Cert.AdamOddInIdeal.τ Cert.AdamOddInIdeal.sig) → Buf (Elt Ideal) ℓ) (g : Dev Cert.AdamOddInIdeal.nD → PrngReg), Pre_AdamOddInIdeal m →
    θ_run (Cert.AdamOddInIdeal.defs (F := Ideal)) (onTc (τ := Cert.AdamOddInIdeal.τ) (Cert.AdamOddInIdeal.main (F := Ideal))) ⟨m, fun _ => 0, g⟩ (fun r => (∀ c : Dev Cert.AdamOddInIdeal.nD,
      r.2.mem ((c.tc : Thread Cert.AdamOddInIdeal.nD Cert.AdamOddInIdeal.τ).loc Cert.AdamOddInIdeal.main_arg0) = m ((c.tc : Thread Cert.AdamOddInIdeal.nD Cert.AdamOddInIdeal.τ).loc Cert.AdamOddInIdeal.main_arg0)
      ∧ r.2.mem ((c.tc : Thread Cert.AdamOddInIdeal.nD Cert.AdamOddInIdeal.τ).loc Cert.AdamOddInIdeal.main_arg1) = m ((c.tc : Thread Cert.AdamOddInIdeal.nD Cert.AdamOddInIdeal.τ).loc Cert.AdamOddInIdeal.main_arg1)
      ∧ r.2.mem ((c.tc : Thread Cert.AdamOddInIdeal.nD Cert.AdamOddInIdeal.τ).loc Cert.AdamOddInIdeal.main_arg2) = m ((c.tc : Thread Cert.AdamOddInIdeal.nD Cert.AdamOddInIdeal.τ).loc Cert.AdamOddInIdeal.main_arg2)
      ∧ r.2.mem ((c.tc : Thread Cert.AdamOddInIdeal.nD Cert.AdamOddInIdeal.τ).loc Cert.AdamOddInIdeal.main_arg3) = m ((c.tc : Thread Cert.AdamOddInIdeal.nD Cert.AdamOddInIdeal.τ).loc Cert.AdamOddInIdeal.main_arg3))
      ∧ r.2.sem = fun _ => 0)

def quiescent_AdamOddInReferenceIdeal [hAdamOddInReferenceIdeal : Cert.AdamOddInReferenceIdeal.Facts] : Prop :=
  ∀ (m : (ℓ : Loc Cert.AdamOddInReferenceIdeal.nD Cert.AdamOddInReferenceIdeal.τ Cert.AdamOddInReferenceIdeal.sig) → Buf (Elt Ideal) ℓ) (g : Dev Cert.AdamOddInReferenceIdeal.nD → PrngReg), Pre_AdamOddInReferenceIdeal m →
    θ_run (Cert.AdamOddInReferenceIdeal.defs (F := Ideal)) (onTc (τ := Cert.AdamOddInReferenceIdeal.τ) (Cert.AdamOddInReferenceIdeal.main (F := Ideal))) ⟨m, fun _ => 0, g⟩ (fun r => (∀ c : Dev Cert.AdamOddInReferenceIdeal.nD,
      r.2.mem ((c.tc : Thread Cert.AdamOddInReferenceIdeal.nD Cert.AdamOddInReferenceIdeal.τ).loc Cert.AdamOddInReferenceIdeal.main_arg0) = m ((c.tc : Thread Cert.AdamOddInReferenceIdeal.nD Cert.AdamOddInReferenceIdeal.τ).loc Cert.AdamOddInReferenceIdeal.main_arg0)
      ∧ r.2.mem ((c.tc : Thread Cert.AdamOddInReferenceIdeal.nD Cert.AdamOddInReferenceIdeal.τ).loc Cert.AdamOddInReferenceIdeal.main_arg1) = m ((c.tc : Thread Cert.AdamOddInReferenceIdeal.nD Cert.AdamOddInReferenceIdeal.τ).loc Cert.AdamOddInReferenceIdeal.main_arg1)
      ∧ r.2.mem ((c.tc : Thread Cert.AdamOddInReferenceIdeal.nD Cert.AdamOddInReferenceIdeal.τ).loc Cert.AdamOddInReferenceIdeal.main_arg2) = m ((c.tc : Thread Cert.AdamOddInReferenceIdeal.nD Cert.AdamOddInReferenceIdeal.τ).loc Cert.AdamOddInReferenceIdeal.main_arg2)
      ∧ r.2.mem ((c.tc : Thread Cert.AdamOddInReferenceIdeal.nD Cert.AdamOddInReferenceIdeal.τ).loc Cert.AdamOddInReferenceIdeal.main_arg3) = m ((c.tc : Thread Cert.AdamOddInReferenceIdeal.nD Cert.AdamOddInReferenceIdeal.τ).loc Cert.AdamOddInReferenceIdeal.main_arg3))
      ∧ r.2.sem = fun _ => 0)

def quiescent_AdamQ [hAdamQ : Cert.AdamQ.Facts] : Prop :=
  ∀ (m : (ℓ : Loc Cert.AdamQ.nD Cert.AdamQ.τ Cert.AdamQ.sig) → Buf (Elt Bits) ℓ) (g : Dev Cert.AdamQ.nD → PrngReg), Pre_AdamQ m →
    θ_run (Cert.AdamQ.defs (F := Bits)) (onTc (τ := Cert.AdamQ.τ) (Cert.AdamQ.main (F := Bits))) ⟨m, fun _ => 0, g⟩ (fun r => (∀ c : Dev Cert.AdamQ.nD,
      r.2.mem ((c.tc : Thread Cert.AdamQ.nD Cert.AdamQ.τ).loc Cert.AdamQ.main_arg0) = m ((c.tc : Thread Cert.AdamQ.nD Cert.AdamQ.τ).loc Cert.AdamQ.main_arg0)
      ∧ r.2.mem ((c.tc : Thread Cert.AdamQ.nD Cert.AdamQ.τ).loc Cert.AdamQ.main_arg1) = m ((c.tc : Thread Cert.AdamQ.nD Cert.AdamQ.τ).loc Cert.AdamQ.main_arg1)
      ∧ r.2.mem ((c.tc : Thread Cert.AdamQ.nD Cert.AdamQ.τ).loc Cert.AdamQ.main_arg2) = m ((c.tc : Thread Cert.AdamQ.nD Cert.AdamQ.τ).loc Cert.AdamQ.main_arg2)
      ∧ r.2.mem ((c.tc : Thread Cert.AdamQ.nD Cert.AdamQ.τ).loc Cert.AdamQ.main_arg3) = m ((c.tc : Thread Cert.AdamQ.nD Cert.AdamQ.τ).loc Cert.AdamQ.main_arg3))
      ∧ r.2.sem = fun _ => 0)

def quiescent_AdamQIdeal [hAdamQIdeal : Cert.AdamQIdeal.Facts] : Prop :=
  ∀ (m : (ℓ : Loc Cert.AdamQIdeal.nD Cert.AdamQIdeal.τ Cert.AdamQIdeal.sig) → Buf (Elt Ideal) ℓ) (g : Dev Cert.AdamQIdeal.nD → PrngReg), Pre_AdamQIdeal m →
    θ_run (Cert.AdamQIdeal.defs (F := Ideal)) (onTc (τ := Cert.AdamQIdeal.τ) (Cert.AdamQIdeal.main (F := Ideal))) ⟨m, fun _ => 0, g⟩ (fun r => (∀ c : Dev Cert.AdamQIdeal.nD,
      r.2.mem ((c.tc : Thread Cert.AdamQIdeal.nD Cert.AdamQIdeal.τ).loc Cert.AdamQIdeal.main_arg0) = m ((c.tc : Thread Cert.AdamQIdeal.nD Cert.AdamQIdeal.τ).loc Cert.AdamQIdeal.main_arg0)
      ∧ r.2.mem ((c.tc : Thread Cert.AdamQIdeal.nD Cert.AdamQIdeal.τ).loc Cert.AdamQIdeal.main_arg1) = m ((c.tc : Thread Cert.AdamQIdeal.nD Cert.AdamQIdeal.τ).loc Cert.AdamQIdeal.main_arg1)
      ∧ r.2.mem ((c.tc : Thread Cert.AdamQIdeal.nD Cert.AdamQIdeal.τ).loc Cert.AdamQIdeal.main_arg2) = m ((c.tc : Thread Cert.AdamQIdeal.nD Cert.AdamQIdeal.τ).loc Cert.AdamQIdeal.main_arg2)
      ∧ r.2.mem ((c.tc : Thread Cert.AdamQIdeal.nD Cert.AdamQIdeal.τ).loc Cert.AdamQIdeal.main_arg3) = m ((c.tc : Thread Cert.AdamQIdeal.nD Cert.AdamQIdeal.τ).loc Cert.AdamQIdeal.main_arg3))
      ∧ r.2.sem = fun _ => 0)

def quiescent_AdamQReferenceIdeal [hAdamQReferenceIdeal : Cert.AdamQReferenceIdeal.Facts] : Prop :=
  ∀ (m : (ℓ : Loc Cert.AdamQReferenceIdeal.nD Cert.AdamQReferenceIdeal.τ Cert.AdamQReferenceIdeal.sig) → Buf (Elt Ideal) ℓ) (g : Dev Cert.AdamQReferenceIdeal.nD → PrngReg), Pre_AdamQReferenceIdeal m →
    θ_run (Cert.AdamQReferenceIdeal.defs (F := Ideal)) (onTc (τ := Cert.AdamQReferenceIdeal.τ) (Cert.AdamQReferenceIdeal.main (F := Ideal))) ⟨m, fun _ => 0, g⟩ (fun r => (∀ c : Dev Cert.AdamQReferenceIdeal.nD,
      r.2.mem ((c.tc : Thread Cert.AdamQReferenceIdeal.nD Cert.AdamQReferenceIdeal.τ).loc Cert.AdamQReferenceIdeal.main_arg0) = m ((c.tc : Thread Cert.AdamQReferenceIdeal.nD Cert.AdamQReferenceIdeal.τ).loc Cert.AdamQReferenceIdeal.main_arg0)
      ∧ r.2.mem ((c.tc : Thread Cert.AdamQReferenceIdeal.nD Cert.AdamQReferenceIdeal.τ).loc Cert.AdamQReferenceIdeal.main_arg1) = m ((c.tc : Thread Cert.AdamQReferenceIdeal.nD Cert.AdamQReferenceIdeal.τ).loc Cert.AdamQReferenceIdeal.main_arg1)
      ∧ r.2.mem ((c.tc : Thread Cert.AdamQReferenceIdeal.nD Cert.AdamQReferenceIdeal.τ).loc Cert.AdamQReferenceIdeal.main_arg2) = m ((c.tc : Thread Cert.AdamQReferenceIdeal.nD Cert.AdamQReferenceIdeal.τ).loc Cert.AdamQReferenceIdeal.main_arg2)
      ∧ r.2.mem ((c.tc : Thread Cert.AdamQReferenceIdeal.nD Cert.AdamQReferenceIdeal.τ).loc Cert.AdamQReferenceIdeal.main_arg3) = m ((c.tc : Thread Cert.AdamQReferenceIdeal.nD Cert.AdamQReferenceIdeal.τ).loc Cert.AdamQReferenceIdeal.main_arg3))
      ∧ r.2.sem = fun _ => 0)

def quiescent_AdamKv [hAdamKv : Cert.AdamKv.Facts] : Prop :=
  ∀ (m : (ℓ : Loc Cert.AdamKv.nD Cert.AdamKv.τ Cert.AdamKv.sig) → Buf (Elt Bits) ℓ) (g : Dev Cert.AdamKv.nD → PrngReg), Pre_AdamKv m →
    θ_run (Cert.AdamKv.defs (F := Bits)) (onTc (τ := Cert.AdamKv.τ) (Cert.AdamKv.main (F := Bits))) ⟨m, fun _ => 0, g⟩ (fun r => (∀ c : Dev Cert.AdamKv.nD,
      r.2.mem ((c.tc : Thread Cert.AdamKv.nD Cert.AdamKv.τ).loc Cert.AdamKv.main_arg0) = m ((c.tc : Thread Cert.AdamKv.nD Cert.AdamKv.τ).loc Cert.AdamKv.main_arg0)
      ∧ r.2.mem ((c.tc : Thread Cert.AdamKv.nD Cert.AdamKv.τ).loc Cert.AdamKv.main_arg1) = m ((c.tc : Thread Cert.AdamKv.nD Cert.AdamKv.τ).loc Cert.AdamKv.main_arg1)
      ∧ r.2.mem ((c.tc : Thread Cert.AdamKv.nD Cert.AdamKv.τ).loc Cert.AdamKv.main_arg2) = m ((c.tc : Thread Cert.AdamKv.nD Cert.AdamKv.τ).loc Cert.AdamKv.main_arg2)
      ∧ r.2.mem ((c.tc : Thread Cert.AdamKv.nD Cert.AdamKv.τ).loc Cert.AdamKv.main_arg3) = m ((c.tc : Thread Cert.AdamKv.nD Cert.AdamKv.τ).loc Cert.AdamKv.main_arg3))
      ∧ r.2.sem = fun _ => 0)

def quiescent_AdamKvIdeal [hAdamKvIdeal : Cert.AdamKvIdeal.Facts] : Prop :=
  ∀ (m : (ℓ : Loc Cert.AdamKvIdeal.nD Cert.AdamKvIdeal.τ Cert.AdamKvIdeal.sig) → Buf (Elt Ideal) ℓ) (g : Dev Cert.AdamKvIdeal.nD → PrngReg), Pre_AdamKvIdeal m →
    θ_run (Cert.AdamKvIdeal.defs (F := Ideal)) (onTc (τ := Cert.AdamKvIdeal.τ) (Cert.AdamKvIdeal.main (F := Ideal))) ⟨m, fun _ => 0, g⟩ (fun r => (∀ c : Dev Cert.AdamKvIdeal.nD,
      r.2.mem ((c.tc : Thread Cert.AdamKvIdeal.nD Cert.AdamKvIdeal.τ).loc Cert.AdamKvIdeal.main_arg0) = m ((c.tc : Thread Cert.AdamKvIdeal.nD Cert.AdamKvIdeal.τ).loc Cert.AdamKvIdeal.main_arg0)
      ∧ r.2.mem ((c.tc : Thread Cert.AdamKvIdeal.nD Cert.AdamKvIdeal.τ).loc Cert.AdamKvIdeal.main_arg1) = m ((c.tc : Thread Cert.AdamKvIdeal.nD Cert.AdamKvIdeal.τ).loc Cert.AdamKvIdeal.main_arg1)
      ∧ r.2.mem ((c.tc : Thread Cert.AdamKvIdeal.nD Cert.AdamKvIdeal.τ).loc Cert.AdamKvIdeal.main_arg2) = m ((c.tc : Thread Cert.AdamKvIdeal.nD Cert.AdamKvIdeal.τ).loc Cert.AdamKvIdeal.main_arg2)
      ∧ r.2.mem ((c.tc : Thread Cert.AdamKvIdeal.nD Cert.AdamKvIdeal.τ).loc Cert.AdamKvIdeal.main_arg3) = m ((c.tc : Thread Cert.AdamKvIdeal.nD Cert.AdamKvIdeal.τ).loc Cert.AdamKvIdeal.main_arg3))
      ∧ r.2.sem = fun _ => 0)

def quiescent_AdamKvReferenceIdeal [hAdamKvReferenceIdeal : Cert.AdamKvReferenceIdeal.Facts] : Prop :=
  ∀ (m : (ℓ : Loc Cert.AdamKvReferenceIdeal.nD Cert.AdamKvReferenceIdeal.τ Cert.AdamKvReferenceIdeal.sig) → Buf (Elt Ideal) ℓ) (g : Dev Cert.AdamKvReferenceIdeal.nD → PrngReg), Pre_AdamKvReferenceIdeal m →
    θ_run (Cert.AdamKvReferenceIdeal.defs (F := Ideal)) (onTc (τ := Cert.AdamKvReferenceIdeal.τ) (Cert.AdamKvReferenceIdeal.main (F := Ideal))) ⟨m, fun _ => 0, g⟩ (fun r => (∀ c : Dev Cert.AdamKvReferenceIdeal.nD,
      r.2.mem ((c.tc : Thread Cert.AdamKvReferenceIdeal.nD Cert.AdamKvReferenceIdeal.τ).loc Cert.AdamKvReferenceIdeal.main_arg0) = m ((c.tc : Thread Cert.AdamKvReferenceIdeal.nD Cert.AdamKvReferenceIdeal.τ).loc Cert.AdamKvReferenceIdeal.main_arg0)
      ∧ r.2.mem ((c.tc : Thread Cert.AdamKvReferenceIdeal.nD Cert.AdamKvReferenceIdeal.τ).loc Cert.AdamKvReferenceIdeal.main_arg1) = m ((c.tc : Thread Cert.AdamKvReferenceIdeal.nD Cert.AdamKvReferenceIdeal.τ).loc Cert.AdamKvReferenceIdeal.main_arg1)
      ∧ r.2.mem ((c.tc : Thread Cert.AdamKvReferenceIdeal.nD Cert.AdamKvReferenceIdeal.τ).loc Cert.AdamKvReferenceIdeal.main_arg2) = m ((c.tc : Thread Cert.AdamKvReferenceIdeal.nD Cert.AdamKvReferenceIdeal.τ).loc Cert.AdamKvReferenceIdeal.main_arg2)
      ∧ r.2.mem ((c.tc : Thread Cert.AdamKvReferenceIdeal.nD Cert.AdamKvReferenceIdeal.τ).loc Cert.AdamKvReferenceIdeal.main_arg3) = m ((c.tc : Thread Cert.AdamKvReferenceIdeal.nD Cert.AdamKvReferenceIdeal.τ).loc Cert.AdamKvReferenceIdeal.main_arg3))
      ∧ r.2.sem = fun _ => 0)

def quiescent_AdamGlu [hAdamGlu : Cert.AdamGlu.Facts] : Prop :=
  ∀ (m : (ℓ : Loc Cert.AdamGlu.nD Cert.AdamGlu.τ Cert.AdamGlu.sig) → Buf (Elt Bits) ℓ) (g : Dev Cert.AdamGlu.nD → PrngReg), Pre_AdamGlu m →
    θ_run (Cert.AdamGlu.defs (F := Bits)) (onTc (τ := Cert.AdamGlu.τ) (Cert.AdamGlu.main (F := Bits))) ⟨m, fun _ => 0, g⟩ (fun r => (∀ c : Dev Cert.AdamGlu.nD,
      r.2.mem ((c.tc : Thread Cert.AdamGlu.nD Cert.AdamGlu.τ).loc Cert.AdamGlu.main_arg0) = m ((c.tc : Thread Cert.AdamGlu.nD Cert.AdamGlu.τ).loc Cert.AdamGlu.main_arg0)
      ∧ r.2.mem ((c.tc : Thread Cert.AdamGlu.nD Cert.AdamGlu.τ).loc Cert.AdamGlu.main_arg1) = m ((c.tc : Thread Cert.AdamGlu.nD Cert.AdamGlu.τ).loc Cert.AdamGlu.main_arg1)
      ∧ r.2.mem ((c.tc : Thread Cert.AdamGlu.nD Cert.AdamGlu.τ).loc Cert.AdamGlu.main_arg2) = m ((c.tc : Thread Cert.AdamGlu.nD Cert.AdamGlu.τ).loc Cert.AdamGlu.main_arg2)
      ∧ r.2.mem ((c.tc : Thread Cert.AdamGlu.nD Cert.AdamGlu.τ).loc Cert.AdamGlu.main_arg3) = m ((c.tc : Thread Cert.AdamGlu.nD Cert.AdamGlu.τ).loc Cert.AdamGlu.main_arg3))
      ∧ r.2.sem = fun _ => 0)

def quiescent_AdamGluIdeal [hAdamGluIdeal : Cert.AdamGluIdeal.Facts] : Prop :=
  ∀ (m : (ℓ : Loc Cert.AdamGluIdeal.nD Cert.AdamGluIdeal.τ Cert.AdamGluIdeal.sig) → Buf (Elt Ideal) ℓ) (g : Dev Cert.AdamGluIdeal.nD → PrngReg), Pre_AdamGluIdeal m →
    θ_run (Cert.AdamGluIdeal.defs (F := Ideal)) (onTc (τ := Cert.AdamGluIdeal.τ) (Cert.AdamGluIdeal.main (F := Ideal))) ⟨m, fun _ => 0, g⟩ (fun r => (∀ c : Dev Cert.AdamGluIdeal.nD,
      r.2.mem ((c.tc : Thread Cert.AdamGluIdeal.nD Cert.AdamGluIdeal.τ).loc Cert.AdamGluIdeal.main_arg0) = m ((c.tc : Thread Cert.AdamGluIdeal.nD Cert.AdamGluIdeal.τ).loc Cert.AdamGluIdeal.main_arg0)
      ∧ r.2.mem ((c.tc : Thread Cert.AdamGluIdeal.nD Cert.AdamGluIdeal.τ).loc Cert.AdamGluIdeal.main_arg1) = m ((c.tc : Thread Cert.AdamGluIdeal.nD Cert.AdamGluIdeal.τ).loc Cert.AdamGluIdeal.main_arg1)
      ∧ r.2.mem ((c.tc : Thread Cert.AdamGluIdeal.nD Cert.AdamGluIdeal.τ).loc Cert.AdamGluIdeal.main_arg2) = m ((c.tc : Thread Cert.AdamGluIdeal.nD Cert.AdamGluIdeal.τ).loc Cert.AdamGluIdeal.main_arg2)
      ∧ r.2.mem ((c.tc : Thread Cert.AdamGluIdeal.nD Cert.AdamGluIdeal.τ).loc Cert.AdamGluIdeal.main_arg3) = m ((c.tc : Thread Cert.AdamGluIdeal.nD Cert.AdamGluIdeal.τ).loc Cert.AdamGluIdeal.main_arg3))
      ∧ r.2.sem = fun _ => 0)

def quiescent_AdamGluReferenceIdeal [hAdamGluReferenceIdeal : Cert.AdamGluReferenceIdeal.Facts] : Prop :=
  ∀ (m : (ℓ : Loc Cert.AdamGluReferenceIdeal.nD Cert.AdamGluReferenceIdeal.τ Cert.AdamGluReferenceIdeal.sig) → Buf (Elt Ideal) ℓ) (g : Dev Cert.AdamGluReferenceIdeal.nD → PrngReg), Pre_AdamGluReferenceIdeal m →
    θ_run (Cert.AdamGluReferenceIdeal.defs (F := Ideal)) (onTc (τ := Cert.AdamGluReferenceIdeal.τ) (Cert.AdamGluReferenceIdeal.main (F := Ideal))) ⟨m, fun _ => 0, g⟩ (fun r => (∀ c : Dev Cert.AdamGluReferenceIdeal.nD,
      r.2.mem ((c.tc : Thread Cert.AdamGluReferenceIdeal.nD Cert.AdamGluReferenceIdeal.τ).loc Cert.AdamGluReferenceIdeal.main_arg0) = m ((c.tc : Thread Cert.AdamGluReferenceIdeal.nD Cert.AdamGluReferenceIdeal.τ).loc Cert.AdamGluReferenceIdeal.main_arg0)
      ∧ r.2.mem ((c.tc : Thread Cert.AdamGluReferenceIdeal.nD Cert.AdamGluReferenceIdeal.τ).loc Cert.AdamGluReferenceIdeal.main_arg1) = m ((c.tc : Thread Cert.AdamGluReferenceIdeal.nD Cert.AdamGluReferenceIdeal.τ).loc Cert.AdamGluReferenceIdeal.main_arg1)
      ∧ r.2.mem ((c.tc : Thread Cert.AdamGluReferenceIdeal.nD Cert.AdamGluReferenceIdeal.τ).loc Cert.AdamGluReferenceIdeal.main_arg2) = m ((c.tc : Thread Cert.AdamGluReferenceIdeal.nD Cert.AdamGluReferenceIdeal.τ).loc Cert.AdamGluReferenceIdeal.main_arg2)
      ∧ r.2.mem ((c.tc : Thread Cert.AdamGluReferenceIdeal.nD Cert.AdamGluReferenceIdeal.τ).loc Cert.AdamGluReferenceIdeal.main_arg3) = m ((c.tc : Thread Cert.AdamGluReferenceIdeal.nD Cert.AdamGluReferenceIdeal.τ).loc Cert.AdamGluReferenceIdeal.main_arg3))
      ∧ r.2.sem = fun _ => 0)

def quiescent_AdamMod [hAdamMod : Cert.AdamMod.Facts] : Prop :=
  ∀ (m : (ℓ : Loc Cert.AdamMod.nD Cert.AdamMod.τ Cert.AdamMod.sig) → Buf (Elt Bits) ℓ) (g : Dev Cert.AdamMod.nD → PrngReg), Pre_AdamMod m →
    θ_run (Cert.AdamMod.defs (F := Bits)) (onTc (τ := Cert.AdamMod.τ) (Cert.AdamMod.main (F := Bits))) ⟨m, fun _ => 0, g⟩ (fun r => (∀ c : Dev Cert.AdamMod.nD,
      r.2.mem ((c.tc : Thread Cert.AdamMod.nD Cert.AdamMod.τ).loc Cert.AdamMod.main_arg0) = m ((c.tc : Thread Cert.AdamMod.nD Cert.AdamMod.τ).loc Cert.AdamMod.main_arg0)
      ∧ r.2.mem ((c.tc : Thread Cert.AdamMod.nD Cert.AdamMod.τ).loc Cert.AdamMod.main_arg1) = m ((c.tc : Thread Cert.AdamMod.nD Cert.AdamMod.τ).loc Cert.AdamMod.main_arg1)
      ∧ r.2.mem ((c.tc : Thread Cert.AdamMod.nD Cert.AdamMod.τ).loc Cert.AdamMod.main_arg2) = m ((c.tc : Thread Cert.AdamMod.nD Cert.AdamMod.τ).loc Cert.AdamMod.main_arg2)
      ∧ r.2.mem ((c.tc : Thread Cert.AdamMod.nD Cert.AdamMod.τ).loc Cert.AdamMod.main_arg3) = m ((c.tc : Thread Cert.AdamMod.nD Cert.AdamMod.τ).loc Cert.AdamMod.main_arg3))
      ∧ r.2.sem = fun _ => 0)

def quiescent_AdamModIdeal [hAdamModIdeal : Cert.AdamModIdeal.Facts] : Prop :=
  ∀ (m : (ℓ : Loc Cert.AdamModIdeal.nD Cert.AdamModIdeal.τ Cert.AdamModIdeal.sig) → Buf (Elt Ideal) ℓ) (g : Dev Cert.AdamModIdeal.nD → PrngReg), Pre_AdamModIdeal m →
    θ_run (Cert.AdamModIdeal.defs (F := Ideal)) (onTc (τ := Cert.AdamModIdeal.τ) (Cert.AdamModIdeal.main (F := Ideal))) ⟨m, fun _ => 0, g⟩ (fun r => (∀ c : Dev Cert.AdamModIdeal.nD,
      r.2.mem ((c.tc : Thread Cert.AdamModIdeal.nD Cert.AdamModIdeal.τ).loc Cert.AdamModIdeal.main_arg0) = m ((c.tc : Thread Cert.AdamModIdeal.nD Cert.AdamModIdeal.τ).loc Cert.AdamModIdeal.main_arg0)
      ∧ r.2.mem ((c.tc : Thread Cert.AdamModIdeal.nD Cert.AdamModIdeal.τ).loc Cert.AdamModIdeal.main_arg1) = m ((c.tc : Thread Cert.AdamModIdeal.nD Cert.AdamModIdeal.τ).loc Cert.AdamModIdeal.main_arg1)
      ∧ r.2.mem ((c.tc : Thread Cert.AdamModIdeal.nD Cert.AdamModIdeal.τ).loc Cert.AdamModIdeal.main_arg2) = m ((c.tc : Thread Cert.AdamModIdeal.nD Cert.AdamModIdeal.τ).loc Cert.AdamModIdeal.main_arg2)
      ∧ r.2.mem ((c.tc : Thread Cert.AdamModIdeal.nD Cert.AdamModIdeal.τ).loc Cert.AdamModIdeal.main_arg3) = m ((c.tc : Thread Cert.AdamModIdeal.nD Cert.AdamModIdeal.τ).loc Cert.AdamModIdeal.main_arg3))
      ∧ r.2.sem = fun _ => 0)

def quiescent_AdamModReferenceIdeal [hAdamModReferenceIdeal : Cert.AdamModReferenceIdeal.Facts] : Prop :=
  ∀ (m : (ℓ : Loc Cert.AdamModReferenceIdeal.nD Cert.AdamModReferenceIdeal.τ Cert.AdamModReferenceIdeal.sig) → Buf (Elt Ideal) ℓ) (g : Dev Cert.AdamModReferenceIdeal.nD → PrngReg), Pre_AdamModReferenceIdeal m →
    θ_run (Cert.AdamModReferenceIdeal.defs (F := Ideal)) (onTc (τ := Cert.AdamModReferenceIdeal.τ) (Cert.AdamModReferenceIdeal.main (F := Ideal))) ⟨m, fun _ => 0, g⟩ (fun r => (∀ c : Dev Cert.AdamModReferenceIdeal.nD,
      r.2.mem ((c.tc : Thread Cert.AdamModReferenceIdeal.nD Cert.AdamModReferenceIdeal.τ).loc Cert.AdamModReferenceIdeal.main_arg0) = m ((c.tc : Thread Cert.AdamModReferenceIdeal.nD Cert.AdamModReferenceIdeal.τ).loc Cert.AdamModReferenceIdeal.main_arg0)
      ∧ r.2.mem ((c.tc : Thread Cert.AdamModReferenceIdeal.nD Cert.AdamModReferenceIdeal.τ).loc Cert.AdamModReferenceIdeal.main_arg1) = m ((c.tc : Thread Cert.AdamModReferenceIdeal.nD Cert.AdamModReferenceIdeal.τ).loc Cert.AdamModReferenceIdeal.main_arg1)
      ∧ r.2.mem ((c.tc : Thread Cert.AdamModReferenceIdeal.nD Cert.AdamModReferenceIdeal.τ).loc Cert.AdamModReferenceIdeal.main_arg2) = m ((c.tc : Thread Cert.AdamModReferenceIdeal.nD Cert.AdamModReferenceIdeal.τ).loc Cert.AdamModReferenceIdeal.main_arg2)
      ∧ r.2.mem ((c.tc : Thread Cert.AdamModReferenceIdeal.nD Cert.AdamModReferenceIdeal.τ).loc Cert.AdamModReferenceIdeal.main_arg3) = m ((c.tc : Thread Cert.AdamModReferenceIdeal.nD Cert.AdamModReferenceIdeal.τ).loc Cert.AdamModReferenceIdeal.main_arg3))
      ∧ r.2.sem = fun _ => 0)

def quiescent_SumSmall [hSumSmall : Cert.SumSmall.Facts] : Prop :=
  ∀ (m : (ℓ : Loc Cert.SumSmall.nD Cert.SumSmall.τ Cert.SumSmall.sig) → Buf (Elt Bits) ℓ) (g : Dev Cert.SumSmall.nD → PrngReg), Pre_SumSmall m →
    θ_run (Cert.SumSmall.defs (F := Bits)) (onTc (τ := Cert.SumSmall.τ) (Cert.SumSmall.main (F := Bits))) ⟨m, fun _ => 0, g⟩ (fun r => (∀ c : Dev Cert.SumSmall.nD,
      r.2.mem ((c.tc : Thread Cert.SumSmall.nD Cert.SumSmall.τ).loc Cert.SumSmall.main_arg0) = m ((c.tc : Thread Cert.SumSmall.nD Cert.SumSmall.τ).loc Cert.SumSmall.main_arg0))
      ∧ r.2.sem = fun _ => 0)

def quiescent_SumSmallIdeal [hSumSmallIdeal : Cert.SumSmallIdeal.Facts] : Prop :=
  ∀ (m : (ℓ : Loc Cert.SumSmallIdeal.nD Cert.SumSmallIdeal.τ Cert.SumSmallIdeal.sig) → Buf (Elt Ideal) ℓ) (g : Dev Cert.SumSmallIdeal.nD → PrngReg), Pre_SumSmallIdeal m →
    θ_run (Cert.SumSmallIdeal.defs (F := Ideal)) (onTc (τ := Cert.SumSmallIdeal.τ) (Cert.SumSmallIdeal.main (F := Ideal))) ⟨m, fun _ => 0, g⟩ (fun r => (∀ c : Dev Cert.SumSmallIdeal.nD,
      r.2.mem ((c.tc : Thread Cert.SumSmallIdeal.nD Cert.SumSmallIdeal.τ).loc Cert.SumSmallIdeal.main_arg0) = m ((c.tc : Thread Cert.SumSmallIdeal.nD Cert.SumSmallIdeal.τ).loc Cert.SumSmallIdeal.main_arg0))
      ∧ r.2.sem = fun _ => 0)

def quiescent_SumSmallReferenceIdeal [hSumSmallReferenceIdeal : Cert.SumSmallReferenceIdeal.Facts] : Prop :=
  ∀ (m : (ℓ : Loc Cert.SumSmallReferenceIdeal.nD Cert.SumSmallReferenceIdeal.τ Cert.SumSmallReferenceIdeal.sig) → Buf (Elt Ideal) ℓ) (g : Dev Cert.SumSmallReferenceIdeal.nD → PrngReg), Pre_SumSmallReferenceIdeal m →
    θ_run (Cert.SumSmallReferenceIdeal.defs (F := Ideal)) (onTc (τ := Cert.SumSmallReferenceIdeal.τ) (Cert.SumSmallReferenceIdeal.main (F := Ideal))) ⟨m, fun _ => 0, g⟩ (fun r => (∀ c : Dev Cert.SumSmallReferenceIdeal.nD,
      r.2.mem ((c.tc : Thread Cert.SumSmallReferenceIdeal.nD Cert.SumSmallReferenceIdeal.τ).loc Cert.SumSmallReferenceIdeal.main_arg0) = m ((c.tc : Thread Cert.SumSmallReferenceIdeal.nD Cert.SumSmallReferenceIdeal.τ).loc Cert.SumSmallReferenceIdeal.main_arg0))
      ∧ r.2.sem = fun _ => 0)

def preserves_Kernel_KernelIdeal : Prop :=
  IdealRules.named_const.Statement Cert.KernelIdeal.κ "scale_log2e" .f32 0x3E38AA3B#32 (((1 / 8) * (Real.log 2)⁻¹ : ℝ) : EReal)

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v10_0)) (v1 : (c : Dev Cert.KernelIdeal.nD) → Buf (Elt Ideal) ((c.tc : Thread Cert.KernelIdeal.nD Cert.KernelIdeal.τ).loc Cert.KernelIdeal.main_v10_1)) (v2 : (c : Dev Cert.KernelIdeal.nD) → Buf (Elt Ideal) ((c.tc : Thread Cert.KernelIdeal.nD Cert.KernelIdeal.τ).loc Cert.KernelIdeal.main_v10_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v10_0) = v0 c
          ∧ r.2.mem ((c.tc : Thread Cert.KernelIdeal.nD Cert.KernelIdeal.τ).loc Cert.KernelIdeal.main_v10_1) = v1 c
          ∧ r.2.mem ((c.tc : Thread Cert.KernelIdeal.nD Cert.KernelIdeal.τ).loc Cert.KernelIdeal.main_v10_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v61) = v0 c
          ∧ r.2.mem ((c.tc : Thread Cert.ReferenceIdeal.nD Cert.ReferenceIdeal.τ).loc Cert.ReferenceIdeal.main_v62) = v1 c
          ∧ r.2.mem ((c.tc : Thread Cert.ReferenceIdeal.nD Cert.ReferenceIdeal.τ).loc Cert.ReferenceIdeal.main_v63) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def preserves_Dense_DenseIdeal : Prop :=
  IdealRules.named_const.Statement Cert.DenseIdeal.κ "scale_log2e" .f32 0x3E38AA3B#32 (((1 / 8) * (Real.log 2)⁻¹ : ℝ) : EReal)

def algebraic_DenseIdeal_DenseReferenceIdeal_pre_finite_forward [hDenseIdeal : Cert.DenseIdeal.Facts] [hDenseReferenceIdeal : Cert.DenseReferenceIdeal.Facts] [hPre_finite_forward : Cert.Pre_finite_forward.Facts] : Prop :=
  ∀ (m : (ℓ : Loc Cert.DenseIdeal.nD Cert.DenseIdeal.τ Cert.DenseIdeal.sig) → Buf (Elt Ideal) ℓ) (g : Dev Cert.DenseIdeal.nD → PrngReg)
    (m' : (ℓ : Loc Cert.DenseReferenceIdeal.nD Cert.DenseReferenceIdeal.τ Cert.DenseReferenceIdeal.sig) → Buf (Elt Ideal) ℓ) (g' : Dev Cert.DenseReferenceIdeal.nD → PrngReg), Pre_DenseIdeal_finite_forward m →
    (∀ c : Dev Cert.DenseIdeal.nD,
      m' ((c.tc : Thread Cert.DenseReferenceIdeal.nD Cert.DenseReferenceIdeal.τ).loc Cert.DenseReferenceIdeal.main_arg0) = m ((c.tc : Thread Cert.DenseIdeal.nD Cert.DenseIdeal.τ).loc Cert.DenseIdeal.main_arg0)
      ∧ m' ((c.tc : Thread Cert.DenseReferenceIdeal.nD Cert.DenseReferenceIdeal.τ).loc Cert.DenseReferenceIdeal.main_arg1) = m ((c.tc : Thread Cert.DenseIdeal.nD Cert.DenseIdeal.τ).loc Cert.DenseIdeal.main_arg1)
      ∧ m' ((c.tc : Thread Cert.DenseReferenceIdeal.nD Cert.DenseReferenceIdeal.τ).loc Cert.DenseReferenceIdeal.main_arg2) = m ((c.tc : Thread Cert.DenseIdeal.nD Cert.DenseIdeal.τ).loc Cert.DenseIdeal.main_arg2)) →
    ∃ (v0 : (c : Dev Cert.DenseIdeal.nD) → Buf (Elt Ideal) ((c.tc : Thread Cert.DenseIdeal.nD Cert.DenseIdeal.τ).loc Cert.DenseIdeal.main_v8)),
      θ_run (Cert.DenseIdeal.defs (F := Ideal)) (onTc (τ := Cert.DenseIdeal.τ) (Cert.DenseIdeal.main (F := Ideal))) ⟨m, fun _ => 0, g⟩ (fun r => ∀ c : Dev Cert.DenseIdeal.nD,
          r.2.mem ((c.tc : Thread Cert.DenseIdeal.nD Cert.DenseIdeal.τ).loc Cert.DenseIdeal.main_v8) = v0 c
          ∧ r.2.mem ((c.tc : Thread Cert.DenseIdeal.nD Cert.DenseIdeal.τ).loc Cert.DenseIdeal.main_arg0) = m ((c.tc : Thread Cert.DenseIdeal.nD Cert.DenseIdeal.τ).loc Cert.DenseIdeal.main_arg0)
          ∧ r.2.mem ((c.tc : Thread Cert.DenseIdeal.nD Cert.DenseIdeal.τ).loc Cert.DenseIdeal.main_arg1) = m ((c.tc : Thread Cert.DenseIdeal.nD Cert.DenseIdeal.τ).loc Cert.DenseIdeal.main_arg1)
          ∧ r.2.mem ((c.tc : Thread Cert.DenseIdeal.nD Cert.DenseIdeal.τ).loc Cert.DenseIdeal.main_arg2) = m ((c.tc : Thread Cert.DenseIdeal.nD Cert.DenseIdeal.τ).loc Cert.DenseIdeal.main_arg2))
      ∧ θ_run (Cert.DenseReferenceIdeal.defs (F := Ideal)) (onTc (τ := Cert.DenseReferenceIdeal.τ) (Cert.DenseReferenceIdeal.main (F := Ideal))) ⟨m', fun _ => 0, g'⟩ (fun r => ∀ c : Dev Cert.DenseReferenceIdeal.nD,
          r.2.mem ((c.tc : Thread Cert.DenseReferenceIdeal.nD Cert.DenseReferenceIdeal.τ).loc Cert.DenseReferenceIdeal.main_v19) = v0 c
          ∧ r.2.mem ((c.tc : Thread Cert.DenseReferenceIdeal.nD Cert.DenseReferenceIdeal.τ).loc Cert.DenseReferenceIdeal.main_arg0) = m' ((c.tc : Thread Cert.DenseReferenceIdeal.nD Cert.DenseReferenceIdeal.τ).loc Cert.DenseReferenceIdeal.main_arg0)
          ∧ r.2.mem ((c.tc : Thread Cert.DenseReferenceIdeal.nD Cert.DenseReferenceIdeal.τ).loc Cert.DenseReferenceIdeal.main_arg1) = m' ((c.tc : Thread Cert.DenseReferenceIdeal.nD Cert.DenseReferenceIdeal.τ).loc Cert.DenseReferenceIdeal.main_arg1)
          ∧ r.2.mem ((c.tc : Thread Cert.DenseReferenceIdeal.nD Cert.DenseReferenceIdeal.τ).loc Cert.DenseReferenceIdeal.main_arg2) = m' ((c.tc : Thread Cert.DenseReferenceIdeal.nD Cert.DenseReferenceIdeal.τ).loc Cert.DenseReferenceIdeal.main_arg2))

def preserves_Mla_MlaIdeal : Prop :=
  IdealRules.named_const.Statement Cert.MlaIdeal.κ "scale_log2e" .f32 0x3E16C740#32 (((3424635 / 33554432) * (Real.log 2)⁻¹ : ℝ) : EReal)

def algebraic_MlaIdeal_MlaReferenceIdeal_pre_finite_mla_forward [hMlaIdeal : Cert.MlaIdeal.Facts] [hMlaReferenceIdeal : Cert.MlaReferenceIdeal.Facts] [hPre_finite_mla_forward : Cert.Pre_finite_mla_forward.Facts] : Prop :=
  ∀ (m : (ℓ : Loc Cert.MlaIdeal.nD Cert.MlaIdeal.τ Cert.MlaIdeal.sig) → Buf (Elt Ideal) ℓ) (g : Dev Cert.MlaIdeal.nD → PrngReg)
    (m' : (ℓ : Loc Cert.MlaReferenceIdeal.nD Cert.MlaReferenceIdeal.τ Cert.MlaReferenceIdeal.sig) → Buf (Elt Ideal) ℓ) (g' : Dev Cert.MlaReferenceIdeal.nD → PrngReg), Pre_MlaIdeal_finite_mla_forward m →
    (∀ c : Dev Cert.MlaIdeal.nD,
      m' ((c.tc : Thread Cert.MlaReferenceIdeal.nD Cert.MlaReferenceIdeal.τ).loc Cert.MlaReferenceIdeal.main_arg0) = m ((c.tc : Thread Cert.MlaIdeal.nD Cert.MlaIdeal.τ).loc Cert.MlaIdeal.main_arg0)
      ∧ m' ((c.tc : Thread Cert.MlaReferenceIdeal.nD Cert.MlaReferenceIdeal.τ).loc Cert.MlaReferenceIdeal.main_arg1) = m ((c.tc : Thread Cert.MlaIdeal.nD Cert.MlaIdeal.τ).loc Cert.MlaIdeal.main_arg1)
      ∧ m' ((c.tc : Thread Cert.MlaReferenceIdeal.nD Cert.MlaReferenceIdeal.τ).loc Cert.MlaReferenceIdeal.main_arg2) = m ((c.tc : Thread Cert.MlaIdeal.nD Cert.MlaIdeal.τ).loc Cert.MlaIdeal.main_arg2)) →
    ∃ (v0 : (c : Dev Cert.MlaIdeal.nD) → Buf (Elt Ideal) ((c.tc : Thread Cert.MlaIdeal.nD Cert.MlaIdeal.τ).loc Cert.MlaIdeal.main_v8)),
      θ_run (Cert.MlaIdeal.defs (F := Ideal)) (onTc (τ := Cert.MlaIdeal.τ) (Cert.MlaIdeal.main (F := Ideal))) ⟨m, fun _ => 0, g⟩ (fun r => ∀ c : Dev Cert.MlaIdeal.nD,
          r.2.mem ((c.tc : Thread Cert.MlaIdeal.nD Cert.MlaIdeal.τ).loc Cert.MlaIdeal.main_v8) = v0 c
          ∧ r.2.mem ((c.tc : Thread Cert.MlaIdeal.nD Cert.MlaIdeal.τ).loc Cert.MlaIdeal.main_arg0) = m ((c.tc : Thread Cert.MlaIdeal.nD Cert.MlaIdeal.τ).loc Cert.MlaIdeal.main_arg0)
          ∧ r.2.mem ((c.tc : Thread Cert.MlaIdeal.nD Cert.MlaIdeal.τ).loc Cert.MlaIdeal.main_arg1) = m ((c.tc : Thread Cert.MlaIdeal.nD Cert.MlaIdeal.τ).loc Cert.MlaIdeal.main_arg1)
          ∧ r.2.mem ((c.tc : Thread Cert.MlaIdeal.nD Cert.MlaIdeal.τ).loc Cert.MlaIdeal.main_arg2) = m ((c.tc : Thread Cert.MlaIdeal.nD Cert.MlaIdeal.τ).loc Cert.MlaIdeal.main_arg2))
      ∧ θ_run (Cert.MlaReferenceIdeal.defs (F := Ideal)) (onTc (τ := Cert.MlaReferenceIdeal.τ) (Cert.MlaReferenceIdeal.main (F := Ideal))) ⟨m', fun _ => 0, g'⟩ (fun r => ∀ c : Dev Cert.MlaReferenceIdeal.nD,
          r.2.mem ((c.tc : Thread Cert.MlaReferenceIdeal.nD Cert.MlaReferenceIdeal.τ).loc Cert.MlaReferenceIdeal.main_v16) = v0 c
          ∧ r.2.mem ((c.tc : Thread Cert.MlaReferenceIdeal.nD Cert.MlaReferenceIdeal.τ).loc Cert.MlaReferenceIdeal.main_arg0) = m' ((c.tc : Thread Cert.MlaReferenceIdeal.nD Cert.MlaReferenceIdeal.τ).loc Cert.MlaReferenceIdeal.main_arg0)
          ∧ r.2.mem ((c.tc : Thread Cert.MlaReferenceIdeal.nD Cert.MlaReferenceIdeal.τ).loc Cert.MlaReferenceIdeal.main_arg1) = m' ((c.tc : Thread Cert.MlaReferenceIdeal.nD Cert.MlaReferenceIdeal.τ).loc Cert.MlaReferenceIdeal.main_arg1)
          ∧ r.2.mem ((c.tc : Thread Cert.MlaReferenceIdeal.nD Cert.MlaReferenceIdeal.τ).loc Cert.MlaReferenceIdeal.main_arg2) = m' ((c.tc : Thread Cert.MlaReferenceIdeal.nD Cert.MlaReferenceIdeal.τ).loc Cert.MlaReferenceIdeal.main_arg2))

def preserves_MlaGrad_MlaGradIdeal : Prop :=
  IdealRules.named_const.Statement Cert.MlaGradIdeal.κ "scale_log2e" .f32 0x3E16C740#32 (((3424635 / 33554432) * (Real.log 2)⁻¹ : ℝ) : EReal)

def algebraic_MlaGradIdeal_MlaGradReferenceIdeal_pre_finite_mla [hMlaGradIdeal : Cert.MlaGradIdeal.Facts] [hMlaGradReferenceIdeal : Cert.MlaGradReferenceIdeal.Facts] [hPre_finite_mla : Cert.Pre_finite_mla.Facts] : Prop :=
  ∀ (m : (ℓ : Loc Cert.MlaGradIdeal.nD Cert.MlaGradIdeal.τ Cert.MlaGradIdeal.sig) → Buf (Elt Ideal) ℓ) (g : Dev Cert.MlaGradIdeal.nD → PrngReg)
    (m' : (ℓ : Loc Cert.MlaGradReferenceIdeal.nD Cert.MlaGradReferenceIdeal.τ Cert.MlaGradReferenceIdeal.sig) → Buf (Elt Ideal) ℓ) (g' : Dev Cert.MlaGradReferenceIdeal.nD → PrngReg), Pre_MlaGradIdeal_finite_mla m →
    (∀ c : Dev Cert.MlaGradIdeal.nD,
      m' ((c.tc : Thread Cert.MlaGradReferenceIdeal.nD Cert.MlaGradReferenceIdeal.τ).loc Cert.MlaGradReferenceIdeal.main_arg0) = m ((c.tc : Thread Cert.MlaGradIdeal.nD Cert.MlaGradIdeal.τ).loc Cert.MlaGradIdeal.main_arg0)
      ∧ m' ((c.tc : Thread Cert.MlaGradReferenceIdeal.nD Cert.MlaGradReferenceIdeal.τ).loc Cert.MlaGradReferenceIdeal.main_arg1) = m ((c.tc : Thread Cert.MlaGradIdeal.nD Cert.MlaGradIdeal.τ).loc Cert.MlaGradIdeal.main_arg1)
      ∧ m' ((c.tc : Thread Cert.MlaGradReferenceIdeal.nD Cert.MlaGradReferenceIdeal.τ).loc Cert.MlaGradReferenceIdeal.main_arg2) = m ((c.tc : Thread Cert.MlaGradIdeal.nD Cert.MlaGradIdeal.τ).loc Cert.MlaGradIdeal.main_arg2)
      ∧ m' ((c.tc : Thread Cert.MlaGradReferenceIdeal.nD Cert.MlaGradReferenceIdeal.τ).loc Cert.MlaGradReferenceIdeal.main_arg3) = m ((c.tc : Thread Cert.MlaGradIdeal.nD Cert.MlaGradIdeal.τ).loc Cert.MlaGradIdeal.main_arg3)) →
    ∃ (v0 : (c : Dev Cert.MlaGradIdeal.nD) → Buf (Elt Ideal) ((c.tc : Thread Cert.MlaGradIdeal.nD Cert.MlaGradIdeal.τ).loc Cert.MlaGradIdeal.main_v10_0)) (v1 : (c : Dev Cert.MlaGradIdeal.nD) → Buf (Elt Ideal) ((c.tc : Thread Cert.MlaGradIdeal.nD Cert.MlaGradIdeal.τ).loc Cert.MlaGradIdeal.main_v10_1)) (v2 : (c : Dev Cert.MlaGradIdeal.nD) → Buf (Elt Ideal) ((c.tc : Thread Cert.MlaGradIdeal.nD Cert.MlaGradIdeal.τ).loc Cert.MlaGradIdeal.main_v10_2)),
      θ_run (Cert.MlaGradIdeal.defs (F := Ideal)) (onTc (τ := Cert.MlaGradIdeal.τ) (Cert.MlaGradIdeal.main (F := Ideal))) ⟨m, fun _ => 0, g⟩ (fun r => ∀ c : Dev Cert.MlaGradIdeal.nD,
          r.2.mem ((c.tc : Thread Cert.MlaGradIdeal.nD Cert.MlaGradIdeal.τ).loc Cert.MlaGradIdeal.main_v10_0) = v0 c
          ∧ r.2.mem ((c.tc : Thread Cert.MlaGradIdeal.nD Cert.MlaGradIdeal.τ).loc Cert.MlaGradIdeal.main_v10_1) = v1 c
          ∧ r.2.mem ((c.tc : Thread Cert.MlaGradIdeal.nD Cert.MlaGradIdeal.τ).loc Cert.MlaGradIdeal.main_v10_2) = v2 c
          ∧ r.2.mem ((c.tc : Thread Cert.MlaGradIdeal.nD Cert.MlaGradIdeal.τ).loc Cert.MlaGradIdeal.main_arg0) = m ((c.tc : Thread Cert.MlaGradIdeal.nD Cert.MlaGradIdeal.τ).loc Cert.MlaGradIdeal.main_arg0)
          ∧ r.2.mem ((c.tc : Thread Cert.MlaGradIdeal.nD Cert.MlaGradIdeal.τ).loc Cert.MlaGradIdeal.main_arg1) = m ((c.tc : Thread Cert.MlaGradIdeal.nD Cert.MlaGradIdeal.τ).loc Cert.MlaGradIdeal.main_arg1)
          ∧ r.2.mem ((c.tc : Thread Cert.MlaGradIdeal.nD Cert.MlaGradIdeal.τ).loc Cert.MlaGradIdeal.main_arg2) = m ((c.tc : Thread Cert.MlaGradIdeal.nD Cert.MlaGradIdeal.τ).loc Cert.MlaGradIdeal.main_arg2)
          ∧ r.2.mem ((c.tc : Thread Cert.MlaGradIdeal.nD Cert.MlaGradIdeal.τ).loc Cert.MlaGradIdeal.main_arg3) = m ((c.tc : Thread Cert.MlaGradIdeal.nD Cert.MlaGradIdeal.τ).loc Cert.MlaGradIdeal.main_arg3))
      ∧ θ_run (Cert.MlaGradReferenceIdeal.defs (F := Ideal)) (onTc (τ := Cert.MlaGradReferenceIdeal.τ) (Cert.MlaGradReferenceIdeal.main (F := Ideal))) ⟨m', fun _ => 0, g'⟩ (fun r => ∀ c : Dev Cert.MlaGradReferenceIdeal.nD,
          r.2.mem ((c.tc : Thread Cert.MlaGradReferenceIdeal.nD Cert.MlaGradReferenceIdeal.τ).loc Cert.MlaGradReferenceIdeal.main_v55) = v0 c
          ∧ r.2.mem ((c.tc : Thread Cert.MlaGradReferenceIdeal.nD Cert.MlaGradReferenceIdeal.τ).loc Cert.MlaGradReferenceIdeal.main_v56) = v1 c
          ∧ r.2.mem ((c.tc : Thread Cert.MlaGradReferenceIdeal.nD Cert.MlaGradReferenceIdeal.τ).loc Cert.MlaGradReferenceIdeal.main_v57) = v2 c
          ∧ r.2.mem ((c.tc : Thread Cert.MlaGradReferenceIdeal.nD Cert.MlaGradReferenceIdeal.τ).loc Cert.MlaGradReferenceIdeal.main_arg0) = m' ((c.tc : Thread Cert.MlaGradReferenceIdeal.nD Cert.MlaGradReferenceIdeal.τ).loc Cert.MlaGradReferenceIdeal.main_arg0)
          ∧ r.2.mem ((c.tc : Thread Cert.MlaGradReferenceIdeal.nD Cert.MlaGradReferenceIdeal.τ).loc Cert.MlaGradReferenceIdeal.main_arg1) = m' ((c.tc : Thread Cert.MlaGradReferenceIdeal.nD Cert.MlaGradReferenceIdeal.τ).loc Cert.MlaGradReferenceIdeal.main_arg1)
          ∧ r.2.mem ((c.tc : Thread Cert.MlaGradReferenceIdeal.nD Cert.MlaGradReferenceIdeal.τ).loc Cert.MlaGradReferenceIdeal.main_arg2) = m' ((c.tc : Thread Cert.MlaGradReferenceIdeal.nD Cert.MlaGradReferenceIdeal.τ).loc Cert.MlaGradReferenceIdeal.main_arg2)
          ∧ r.2.mem ((c.tc : Thread Cert.MlaGradReferenceIdeal.nD Cert.MlaGradReferenceIdeal.τ).loc Cert.MlaGradReferenceIdeal.main_arg3) = m' ((c.tc : Thread Cert.MlaGradReferenceIdeal.nD Cert.MlaGradReferenceIdeal.τ).loc Cert.MlaGradReferenceIdeal.main_arg3))

def preserves_MlpUp_MlpUpIdeal : Prop :=
  True

def algebraic_MlpUpIdeal_MlpUpReferenceIdeal [hMlpUpIdeal : Cert.MlpUpIdeal.Facts] [hMlpUpReferenceIdeal : Cert.MlpUpReferenceIdeal.Facts] : Prop :=
  ∀ (m : (ℓ : Loc Cert.MlpUpIdeal.nD Cert.MlpUpIdeal.τ Cert.MlpUpIdeal.sig) → Buf (Elt Ideal) ℓ) (g : Dev Cert.MlpUpIdeal.nD → PrngReg)
    (m' : (ℓ : Loc Cert.MlpUpReferenceIdeal.nD Cert.MlpUpReferenceIdeal.τ Cert.MlpUpReferenceIdeal.sig) → Buf (Elt Ideal) ℓ) (g' : Dev Cert.MlpUpReferenceIdeal.nD → PrngReg), Pre_MlpUpIdeal m →
    (∀ c : Dev Cert.MlpUpIdeal.nD,
      m' ((c.tc : Thread Cert.MlpUpReferenceIdeal.nD Cert.MlpUpReferenceIdeal.τ).loc Cert.MlpUpReferenceIdeal.main_arg0) = m ((c.tc : Thread Cert.MlpUpIdeal.nD Cert.MlpUpIdeal.τ).loc Cert.MlpUpIdeal.main_arg0)
      ∧ m' ((c.tc : Thread Cert.MlpUpReferenceIdeal.nD Cert.MlpUpReferenceIdeal.τ).loc Cert.MlpUpReferenceIdeal.main_arg1) = m ((c.tc : Thread Cert.MlpUpIdeal.nD Cert.MlpUpIdeal.τ).loc Cert.MlpUpIdeal.main_arg1)) →
    ∃ (v0 : (c : Dev Cert.MlpUpIdeal.nD) → Buf (Elt Ideal) ((c.tc : Thread Cert.MlpUpIdeal.nD Cert.MlpUpIdeal.τ).loc Cert.MlpUpIdeal.main_v3_0)) (v1 : (c : Dev Cert.MlpUpIdeal.nD) → Buf (Elt Ideal) ((c.tc : Thread Cert.MlpUpIdeal.nD Cert.MlpUpIdeal.τ).loc Cert.MlpUpIdeal.main_v3_1)),
      θ_run (Cert.MlpUpIdeal.defs (F := Ideal)) (onTc (τ := Cert.MlpUpIdeal.τ) (Cert.MlpUpIdeal.main (F := Ideal))) ⟨m, fun _ => 0, g⟩ (fun r => ∀ c : Dev Cert.MlpUpIdeal.nD,
          r.2.mem ((c.tc : Thread Cert.MlpUpIdeal.nD Cert.MlpUpIdeal.τ).loc Cert.MlpUpIdeal.main_v3_0) = v0 c
          ∧ r.2.mem ((c.tc : Thread Cert.MlpUpIdeal.nD Cert.MlpUpIdeal.τ).loc Cert.MlpUpIdeal.main_v3_1) = v1 c
          ∧ r.2.mem ((c.tc : Thread Cert.MlpUpIdeal.nD Cert.MlpUpIdeal.τ).loc Cert.MlpUpIdeal.main_arg0) = m ((c.tc : Thread Cert.MlpUpIdeal.nD Cert.MlpUpIdeal.τ).loc Cert.MlpUpIdeal.main_arg0)
          ∧ r.2.mem ((c.tc : Thread Cert.MlpUpIdeal.nD Cert.MlpUpIdeal.τ).loc Cert.MlpUpIdeal.main_arg1) = m ((c.tc : Thread Cert.MlpUpIdeal.nD Cert.MlpUpIdeal.τ).loc Cert.MlpUpIdeal.main_arg1))
      ∧ θ_run (Cert.MlpUpReferenceIdeal.defs (F := Ideal)) (onTc (τ := Cert.MlpUpReferenceIdeal.τ) (Cert.MlpUpReferenceIdeal.main (F := Ideal))) ⟨m', fun _ => 0, g'⟩ (fun r => ∀ c : Dev Cert.MlpUpReferenceIdeal.nD,
          r.2.mem ((c.tc : Thread Cert.MlpUpReferenceIdeal.nD Cert.MlpUpReferenceIdeal.τ).loc Cert.MlpUpReferenceIdeal.main_v3) = v0 c
          ∧ r.2.mem ((c.tc : Thread Cert.MlpUpReferenceIdeal.nD Cert.MlpUpReferenceIdeal.τ).loc Cert.MlpUpReferenceIdeal.main_v7) = v1 c
          ∧ r.2.mem ((c.tc : Thread Cert.MlpUpReferenceIdeal.nD Cert.MlpUpReferenceIdeal.τ).loc Cert.MlpUpReferenceIdeal.main_arg0) = m' ((c.tc : Thread Cert.MlpUpReferenceIdeal.nD Cert.MlpUpReferenceIdeal.τ).loc Cert.MlpUpReferenceIdeal.main_arg0)
          ∧ r.2.mem ((c.tc : Thread Cert.MlpUpReferenceIdeal.nD Cert.MlpUpReferenceIdeal.τ).loc Cert.MlpUpReferenceIdeal.main_arg1) = m' ((c.tc : Thread Cert.MlpUpReferenceIdeal.nD Cert.MlpUpReferenceIdeal.τ).loc Cert.MlpUpReferenceIdeal.main_arg1))

def preserves_MlpGrad_MlpGradIdeal : Prop :=
  True

def algebraic_MlpGradIdeal_MlpGradReferenceIdeal [hMlpGradIdeal : Cert.MlpGradIdeal.Facts] [hMlpGradReferenceIdeal : Cert.MlpGradReferenceIdeal.Facts] : Prop :=
  ∀ (m : (ℓ : Loc Cert.MlpGradIdeal.nD Cert.MlpGradIdeal.τ Cert.MlpGradIdeal.sig) → Buf (Elt Ideal) ℓ) (g : Dev Cert.MlpGradIdeal.nD → PrngReg)
    (m' : (ℓ : Loc Cert.MlpGradReferenceIdeal.nD Cert.MlpGradReferenceIdeal.τ Cert.MlpGradReferenceIdeal.sig) → Buf (Elt Ideal) ℓ) (g' : Dev Cert.MlpGradReferenceIdeal.nD → PrngReg), Pre_MlpGradIdeal m →
    (∀ c : Dev Cert.MlpGradIdeal.nD,
      m' ((c.tc : Thread Cert.MlpGradReferenceIdeal.nD Cert.MlpGradReferenceIdeal.τ).loc Cert.MlpGradReferenceIdeal.main_arg0) = m ((c.tc : Thread Cert.MlpGradIdeal.nD Cert.MlpGradIdeal.τ).loc Cert.MlpGradIdeal.main_arg0)
      ∧ m' ((c.tc : Thread Cert.MlpGradReferenceIdeal.nD Cert.MlpGradReferenceIdeal.τ).loc Cert.MlpGradReferenceIdeal.main_arg1) = m ((c.tc : Thread Cert.MlpGradIdeal.nD Cert.MlpGradIdeal.τ).loc Cert.MlpGradIdeal.main_arg1)
      ∧ m' ((c.tc : Thread Cert.MlpGradReferenceIdeal.nD Cert.MlpGradReferenceIdeal.τ).loc Cert.MlpGradReferenceIdeal.main_arg2) = m ((c.tc : Thread Cert.MlpGradIdeal.nD Cert.MlpGradIdeal.τ).loc Cert.MlpGradIdeal.main_arg2)) →
    ∃ (v0 : (c : Dev Cert.MlpGradIdeal.nD) → Buf (Elt Ideal) ((c.tc : Thread Cert.MlpGradIdeal.nD Cert.MlpGradIdeal.τ).loc Cert.MlpGradIdeal.main_v6)),
      θ_run (Cert.MlpGradIdeal.defs (F := Ideal)) (onTc (τ := Cert.MlpGradIdeal.τ) (Cert.MlpGradIdeal.main (F := Ideal))) ⟨m, fun _ => 0, g⟩ (fun r => ∀ c : Dev Cert.MlpGradIdeal.nD,
          r.2.mem ((c.tc : Thread Cert.MlpGradIdeal.nD Cert.MlpGradIdeal.τ).loc Cert.MlpGradIdeal.main_v6) = v0 c
          ∧ r.2.mem ((c.tc : Thread Cert.MlpGradIdeal.nD Cert.MlpGradIdeal.τ).loc Cert.MlpGradIdeal.main_arg0) = m ((c.tc : Thread Cert.MlpGradIdeal.nD Cert.MlpGradIdeal.τ).loc Cert.MlpGradIdeal.main_arg0)
          ∧ r.2.mem ((c.tc : Thread Cert.MlpGradIdeal.nD Cert.MlpGradIdeal.τ).loc Cert.MlpGradIdeal.main_arg1) = m ((c.tc : Thread Cert.MlpGradIdeal.nD Cert.MlpGradIdeal.τ).loc Cert.MlpGradIdeal.main_arg1)
          ∧ r.2.mem ((c.tc : Thread Cert.MlpGradIdeal.nD Cert.MlpGradIdeal.τ).loc Cert.MlpGradIdeal.main_arg2) = m ((c.tc : Thread Cert.MlpGradIdeal.nD Cert.MlpGradIdeal.τ).loc Cert.MlpGradIdeal.main_arg2))
      ∧ θ_run (Cert.MlpGradReferenceIdeal.defs (F := Ideal)) (onTc (τ := Cert.MlpGradReferenceIdeal.τ) (Cert.MlpGradReferenceIdeal.main (F := Ideal))) ⟨m', fun _ => 0, g'⟩ (fun r => ∀ c : Dev Cert.MlpGradReferenceIdeal.nD,
          r.2.mem ((c.tc : Thread Cert.MlpGradReferenceIdeal.nD Cert.MlpGradReferenceIdeal.τ).loc Cert.MlpGradReferenceIdeal.main_v13) = v0 c
          ∧ r.2.mem ((c.tc : Thread Cert.MlpGradReferenceIdeal.nD Cert.MlpGradReferenceIdeal.τ).loc Cert.MlpGradReferenceIdeal.main_arg0) = m' ((c.tc : Thread Cert.MlpGradReferenceIdeal.nD Cert.MlpGradReferenceIdeal.τ).loc Cert.MlpGradReferenceIdeal.main_arg0)
          ∧ r.2.mem ((c.tc : Thread Cert.MlpGradReferenceIdeal.nD Cert.MlpGradReferenceIdeal.τ).loc Cert.MlpGradReferenceIdeal.main_arg1) = m' ((c.tc : Thread Cert.MlpGradReferenceIdeal.nD Cert.MlpGradReferenceIdeal.τ).loc Cert.MlpGradReferenceIdeal.main_arg1)
          ∧ r.2.mem ((c.tc : Thread Cert.MlpGradReferenceIdeal.nD Cert.MlpGradReferenceIdeal.τ).loc Cert.MlpGradReferenceIdeal.main_arg2) = m' ((c.tc : Thread Cert.MlpGradReferenceIdeal.nD Cert.MlpGradReferenceIdeal.τ).loc Cert.MlpGradReferenceIdeal.main_arg2))

def preserves_MlpInT_MlpInTIdeal : Prop :=
  True

def algebraic_MlpInTIdeal_MlpInTReferenceIdeal [hMlpInTIdeal : Cert.MlpInTIdeal.Facts] [hMlpInTReferenceIdeal : Cert.MlpInTReferenceIdeal.Facts] : Prop :=
  ∀ (m : (ℓ : Loc Cert.MlpInTIdeal.nD Cert.MlpInTIdeal.τ Cert.MlpInTIdeal.sig) → Buf (Elt Ideal) ℓ) (g : Dev Cert.MlpInTIdeal.nD → PrngReg)
    (m' : (ℓ : Loc Cert.MlpInTReferenceIdeal.nD Cert.MlpInTReferenceIdeal.τ Cert.MlpInTReferenceIdeal.sig) → Buf (Elt Ideal) ℓ) (g' : Dev Cert.MlpInTReferenceIdeal.nD → PrngReg), Pre_MlpInTIdeal m →
    (∀ c : Dev Cert.MlpInTIdeal.nD,
      m' ((c.tc : Thread Cert.MlpInTReferenceIdeal.nD Cert.MlpInTReferenceIdeal.τ).loc Cert.MlpInTReferenceIdeal.main_arg0) = m ((c.tc : Thread Cert.MlpInTIdeal.nD Cert.MlpInTIdeal.τ).loc Cert.MlpInTIdeal.main_arg0)
      ∧ m' ((c.tc : Thread Cert.MlpInTReferenceIdeal.nD Cert.MlpInTReferenceIdeal.τ).loc Cert.MlpInTReferenceIdeal.main_arg1) = m ((c.tc : Thread Cert.MlpInTIdeal.nD Cert.MlpInTIdeal.τ).loc Cert.MlpInTIdeal.main_arg1)
      ∧ m' ((c.tc : Thread Cert.MlpInTReferenceIdeal.nD Cert.MlpInTReferenceIdeal.τ).loc Cert.MlpInTReferenceIdeal.main_arg2) = m ((c.tc : Thread Cert.MlpInTIdeal.nD Cert.MlpInTIdeal.τ).loc Cert.MlpInTIdeal.main_arg2)) →
    ∃ (v0 : (c : Dev Cert.MlpInTIdeal.nD) → Buf (Elt Ideal) ((c.tc : Thread Cert.MlpInTIdeal.nD Cert.MlpInTIdeal.τ).loc Cert.MlpInTIdeal.main_v3)),
      θ_run (Cert.MlpInTIdeal.defs (F := Ideal)) (onTc (τ := Cert.MlpInTIdeal.τ) (Cert.MlpInTIdeal.main (F := Ideal))) ⟨m, fun _ => 0, g⟩ (fun r => ∀ c : Dev Cert.MlpInTIdeal.nD,
          r.2.mem ((c.tc : Thread Cert.MlpInTIdeal.nD Cert.MlpInTIdeal.τ).loc Cert.MlpInTIdeal.main_v3) = v0 c
          ∧ r.2.mem ((c.tc : Thread Cert.MlpInTIdeal.nD Cert.MlpInTIdeal.τ).loc Cert.MlpInTIdeal.main_arg0) = m ((c.tc : Thread Cert.MlpInTIdeal.nD Cert.MlpInTIdeal.τ).loc Cert.MlpInTIdeal.main_arg0)
          ∧ r.2.mem ((c.tc : Thread Cert.MlpInTIdeal.nD Cert.MlpInTIdeal.τ).loc Cert.MlpInTIdeal.main_arg1) = m ((c.tc : Thread Cert.MlpInTIdeal.nD Cert.MlpInTIdeal.τ).loc Cert.MlpInTIdeal.main_arg1)
          ∧ r.2.mem ((c.tc : Thread Cert.MlpInTIdeal.nD Cert.MlpInTIdeal.τ).loc Cert.MlpInTIdeal.main_arg2) = m ((c.tc : Thread Cert.MlpInTIdeal.nD Cert.MlpInTIdeal.τ).loc Cert.MlpInTIdeal.main_arg2))
      ∧ θ_run (Cert.MlpInTReferenceIdeal.defs (F := Ideal)) (onTc (τ := Cert.MlpInTReferenceIdeal.τ) (Cert.MlpInTReferenceIdeal.main (F := Ideal))) ⟨m', fun _ => 0, g'⟩ (fun r => ∀ c : Dev Cert.MlpInTReferenceIdeal.nD,
          r.2.mem ((c.tc : Thread Cert.MlpInTReferenceIdeal.nD Cert.MlpInTReferenceIdeal.τ).loc Cert.MlpInTReferenceIdeal.main_v4) = v0 c
          ∧ r.2.mem ((c.tc : Thread Cert.MlpInTReferenceIdeal.nD Cert.MlpInTReferenceIdeal.τ).loc Cert.MlpInTReferenceIdeal.main_arg0) = m' ((c.tc : Thread Cert.MlpInTReferenceIdeal.nD Cert.MlpInTReferenceIdeal.τ).loc Cert.MlpInTReferenceIdeal.main_arg0)
          ∧ r.2.mem ((c.tc : Thread Cert.MlpInTReferenceIdeal.nD Cert.MlpInTReferenceIdeal.τ).loc Cert.MlpInTReferenceIdeal.main_arg1) = m' ((c.tc : Thread Cert.MlpInTReferenceIdeal.nD Cert.MlpInTReferenceIdeal.τ).loc Cert.MlpInTReferenceIdeal.main_arg1)
          ∧ r.2.mem ((c.tc : Thread Cert.MlpInTReferenceIdeal.nD Cert.MlpInTReferenceIdeal.τ).loc Cert.MlpInTReferenceIdeal.main_arg2) = m' ((c.tc : Thread Cert.MlpInTReferenceIdeal.nD Cert.MlpInTReferenceIdeal.τ).loc Cert.MlpInTReferenceIdeal.main_arg2))

def preserves_MlpInW_MlpInWIdeal : Prop :=
  True

def algebraic_MlpInWIdeal_MlpInWReferenceIdeal [hMlpInWIdeal : Cert.MlpInWIdeal.Facts] [hMlpInWReferenceIdeal : Cert.MlpInWReferenceIdeal.Facts] : Prop :=
  ∀ (m : (ℓ : Loc Cert.MlpInWIdeal.nD Cert.MlpInWIdeal.τ Cert.MlpInWIdeal.sig) → Buf (Elt Ideal) ℓ) (g : Dev Cert.MlpInWIdeal.nD → PrngReg)
    (m' : (ℓ : Loc Cert.MlpInWReferenceIdeal.nD Cert.MlpInWReferenceIdeal.τ Cert.MlpInWReferenceIdeal.sig) → Buf (Elt Ideal) ℓ) (g' : Dev Cert.MlpInWReferenceIdeal.nD → PrngReg), Pre_MlpInWIdeal m →
    (∀ c : Dev Cert.MlpInWIdeal.nD,
      m' ((c.tc : Thread Cert.MlpInWReferenceIdeal.nD Cert.MlpInWReferenceIdeal.τ).loc Cert.MlpInWReferenceIdeal.main_arg0) = m ((c.tc : Thread Cert.MlpInWIdeal.nD Cert.MlpInWIdeal.τ).loc Cert.MlpInWIdeal.main_arg0)
      ∧ m' ((c.tc : Thread Cert.MlpInWReferenceIdeal.nD Cert.MlpInWReferenceIdeal.τ).loc Cert.MlpInWReferenceIdeal.main_arg1) = m ((c.tc : Thread Cert.MlpInWIdeal.nD Cert.MlpInWIdeal.τ).loc Cert.MlpInWIdeal.main_arg1)
      ∧ m' ((c.tc : Thread Cert.MlpInWReferenceIdeal.nD Cert.MlpInWReferenceIdeal.τ).loc Cert.MlpInWReferenceIdeal.main_arg2) = m ((c.tc : Thread Cert.MlpInWIdeal.nD Cert.MlpInWIdeal.τ).loc Cert.MlpInWIdeal.main_arg2)) →
    ∃ (v0 : (c : Dev Cert.MlpInWIdeal.nD) → Buf (Elt Ideal) ((c.tc : Thread Cert.MlpInWIdeal.nD Cert.MlpInWIdeal.τ).loc Cert.MlpInWIdeal.main_v4)),
      θ_run (Cert.MlpInWIdeal.defs (F := Ideal)) (onTc (τ := Cert.MlpInWIdeal.τ) (Cert.MlpInWIdeal.main (F := Ideal))) ⟨m, fun _ => 0, g⟩ (fun r => ∀ c : Dev Cert.MlpInWIdeal.nD,
          r.2.mem ((c.tc : Thread Cert.MlpInWIdeal.nD Cert.MlpInWIdeal.τ).loc Cert.MlpInWIdeal.main_v4) = v0 c
          ∧ r.2.mem ((c.tc : Thread Cert.MlpInWIdeal.nD Cert.MlpInWIdeal.τ).loc Cert.MlpInWIdeal.main_arg0) = m ((c.tc : Thread Cert.MlpInWIdeal.nD Cert.MlpInWIdeal.τ).loc Cert.MlpInWIdeal.main_arg0)
          ∧ r.2.mem ((c.tc : Thread Cert.MlpInWIdeal.nD Cert.MlpInWIdeal.τ).loc Cert.MlpInWIdeal.main_arg1) = m ((c.tc : Thread Cert.MlpInWIdeal.nD Cert.MlpInWIdeal.τ).loc Cert.MlpInWIdeal.main_arg1)
          ∧ r.2.mem ((c.tc : Thread Cert.MlpInWIdeal.nD Cert.MlpInWIdeal.τ).loc Cert.MlpInWIdeal.main_arg2) = m ((c.tc : Thread Cert.MlpInWIdeal.nD Cert.MlpInWIdeal.τ).loc Cert.MlpInWIdeal.main_arg2))
      ∧ θ_run (Cert.MlpInWReferenceIdeal.defs (F := Ideal)) (onTc (τ := Cert.MlpInWReferenceIdeal.τ) (Cert.MlpInWReferenceIdeal.main (F := Ideal))) ⟨m', fun _ => 0, g'⟩ (fun r => ∀ c : Dev Cert.MlpInWReferenceIdeal.nD,
          r.2.mem ((c.tc : Thread Cert.MlpInWReferenceIdeal.nD Cert.MlpInWReferenceIdeal.τ).loc Cert.MlpInWReferenceIdeal.main_v4) = v0 c
          ∧ r.2.mem ((c.tc : Thread Cert.MlpInWReferenceIdeal.nD Cert.MlpInWReferenceIdeal.τ).loc Cert.MlpInWReferenceIdeal.main_arg0) = m' ((c.tc : Thread Cert.MlpInWReferenceIdeal.nD Cert.MlpInWReferenceIdeal.τ).loc Cert.MlpInWReferenceIdeal.main_arg0)
          ∧ r.2.mem ((c.tc : Thread Cert.MlpInWReferenceIdeal.nD Cert.MlpInWReferenceIdeal.τ).loc Cert.MlpInWReferenceIdeal.main_arg1) = m' ((c.tc : Thread Cert.MlpInWReferenceIdeal.nD Cert.MlpInWReferenceIdeal.τ).loc Cert.MlpInWReferenceIdeal.main_arg1)
          ∧ r.2.mem ((c.tc : Thread Cert.MlpInWReferenceIdeal.nD Cert.MlpInWReferenceIdeal.τ).loc Cert.MlpInWReferenceIdeal.main_arg2) = m' ((c.tc : Thread Cert.MlpInWReferenceIdeal.nD Cert.MlpInWReferenceIdeal.τ).loc Cert.MlpInWReferenceIdeal.main_arg2))

def preserves_MlpOut_MlpOutIdeal : Prop :=
  True

def algebraic_MlpOutIdeal_MlpOutReferenceIdeal [hMlpOutIdeal : Cert.MlpOutIdeal.Facts] [hMlpOutReferenceIdeal : Cert.MlpOutReferenceIdeal.Facts] : Prop :=
  ∀ (m : (ℓ : Loc Cert.MlpOutIdeal.nD Cert.MlpOutIdeal.τ Cert.MlpOutIdeal.sig) → Buf (Elt Ideal) ℓ) (g : Dev Cert.MlpOutIdeal.nD → PrngReg)
    (m' : (ℓ : Loc Cert.MlpOutReferenceIdeal.nD Cert.MlpOutReferenceIdeal.τ Cert.MlpOutReferenceIdeal.sig) → Buf (Elt Ideal) ℓ) (g' : Dev Cert.MlpOutReferenceIdeal.nD → PrngReg), Pre_MlpOutIdeal m →
    (∀ c : Dev Cert.MlpOutIdeal.nD,
      m' ((c.tc : Thread Cert.MlpOutReferenceIdeal.nD Cert.MlpOutReferenceIdeal.τ).loc Cert.MlpOutReferenceIdeal.main_arg0) = m ((c.tc : Thread Cert.MlpOutIdeal.nD Cert.MlpOutIdeal.τ).loc Cert.MlpOutIdeal.main_arg0)
      ∧ m' ((c.tc : Thread Cert.MlpOutReferenceIdeal.nD Cert.MlpOutReferenceIdeal.τ).loc Cert.MlpOutReferenceIdeal.main_arg1) = m ((c.tc : Thread Cert.MlpOutIdeal.nD Cert.MlpOutIdeal.τ).loc Cert.MlpOutIdeal.main_arg1)) →
    ∃ (v0 : (c : Dev Cert.MlpOutIdeal.nD) → Buf (Elt Ideal) ((c.tc : Thread Cert.MlpOutIdeal.nD Cert.MlpOutIdeal.τ).loc Cert.MlpOutIdeal.main_v3)),
      θ_run (Cert.MlpOutIdeal.defs (F := Ideal)) (onTc (τ := Cert.MlpOutIdeal.τ) (Cert.MlpOutIdeal.main (F := Ideal))) ⟨m, fun _ => 0, g⟩ (fun r => ∀ c : Dev Cert.MlpOutIdeal.nD,
          r.2.mem ((c.tc : Thread Cert.MlpOutIdeal.nD Cert.MlpOutIdeal.τ).loc Cert.MlpOutIdeal.main_v3) = v0 c
          ∧ r.2.mem ((c.tc : Thread Cert.MlpOutIdeal.nD Cert.MlpOutIdeal.τ).loc Cert.MlpOutIdeal.main_arg0) = m ((c.tc : Thread Cert.MlpOutIdeal.nD Cert.MlpOutIdeal.τ).loc Cert.MlpOutIdeal.main_arg0)
          ∧ r.2.mem ((c.tc : Thread Cert.MlpOutIdeal.nD Cert.MlpOutIdeal.τ).loc Cert.MlpOutIdeal.main_arg1) = m ((c.tc : Thread Cert.MlpOutIdeal.nD Cert.MlpOutIdeal.τ).loc Cert.MlpOutIdeal.main_arg1))
      ∧ θ_run (Cert.MlpOutReferenceIdeal.defs (F := Ideal)) (onTc (τ := Cert.MlpOutReferenceIdeal.τ) (Cert.MlpOutReferenceIdeal.main (F := Ideal))) ⟨m', fun _ => 0, g'⟩ (fun r => ∀ c : Dev Cert.MlpOutReferenceIdeal.nD,
          r.2.mem ((c.tc : Thread Cert.MlpOutReferenceIdeal.nD Cert.MlpOutReferenceIdeal.τ).loc Cert.MlpOutReferenceIdeal.main_v1) = v0 c
          ∧ r.2.mem ((c.tc : Thread Cert.MlpOutReferenceIdeal.nD Cert.MlpOutReferenceIdeal.τ).loc Cert.MlpOutReferenceIdeal.main_arg0) = m' ((c.tc : Thread Cert.MlpOutReferenceIdeal.nD Cert.MlpOutReferenceIdeal.τ).loc Cert.MlpOutReferenceIdeal.main_arg0)
          ∧ r.2.mem ((c.tc : Thread Cert.MlpOutReferenceIdeal.nD Cert.MlpOutReferenceIdeal.τ).loc Cert.MlpOutReferenceIdeal.main_arg1) = m' ((c.tc : Thread Cert.MlpOutReferenceIdeal.nD Cert.MlpOutReferenceIdeal.τ).loc Cert.MlpOutReferenceIdeal.main_arg1))

def preserves_MlpOutW_MlpOutWIdeal : Prop :=
  True

def algebraic_MlpOutWIdeal_MlpOutWReferenceIdeal [hMlpOutWIdeal : Cert.MlpOutWIdeal.Facts] [hMlpOutWReferenceIdeal : Cert.MlpOutWReferenceIdeal.Facts] : Prop :=
  ∀ (m : (ℓ : Loc Cert.MlpOutWIdeal.nD Cert.MlpOutWIdeal.τ Cert.MlpOutWIdeal.sig) → Buf (Elt Ideal) ℓ) (g : Dev Cert.MlpOutWIdeal.nD → PrngReg)
    (m' : (ℓ : Loc Cert.MlpOutWReferenceIdeal.nD Cert.MlpOutWReferenceIdeal.τ Cert.MlpOutWReferenceIdeal.sig) → Buf (Elt Ideal) ℓ) (g' : Dev Cert.MlpOutWReferenceIdeal.nD → PrngReg), Pre_MlpOutWIdeal m →
    (∀ c : Dev Cert.MlpOutWIdeal.nD,
      m' ((c.tc : Thread Cert.MlpOutWReferenceIdeal.nD Cert.MlpOutWReferenceIdeal.τ).loc Cert.MlpOutWReferenceIdeal.main_arg0) = m ((c.tc : Thread Cert.MlpOutWIdeal.nD Cert.MlpOutWIdeal.τ).loc Cert.MlpOutWIdeal.main_arg0)
      ∧ m' ((c.tc : Thread Cert.MlpOutWReferenceIdeal.nD Cert.MlpOutWReferenceIdeal.τ).loc Cert.MlpOutWReferenceIdeal.main_arg1) = m ((c.tc : Thread Cert.MlpOutWIdeal.nD Cert.MlpOutWIdeal.τ).loc Cert.MlpOutWIdeal.main_arg1)
      ∧ m' ((c.tc : Thread Cert.MlpOutWReferenceIdeal.nD Cert.MlpOutWReferenceIdeal.τ).loc Cert.MlpOutWReferenceIdeal.main_arg2) = m ((c.tc : Thread Cert.MlpOutWIdeal.nD Cert.MlpOutWIdeal.τ).loc Cert.MlpOutWIdeal.main_arg2)) →
    ∃ (v0 : (c : Dev Cert.MlpOutWIdeal.nD) → Buf (Elt Ideal) ((c.tc : Thread Cert.MlpOutWIdeal.nD Cert.MlpOutWIdeal.τ).loc Cert.MlpOutWIdeal.main_v4)),
      θ_run (Cert.MlpOutWIdeal.defs (F := Ideal)) (onTc (τ := Cert.MlpOutWIdeal.τ) (Cert.MlpOutWIdeal.main (F := Ideal))) ⟨m, fun _ => 0, g⟩ (fun r => ∀ c : Dev Cert.MlpOutWIdeal.nD,
          r.2.mem ((c.tc : Thread Cert.MlpOutWIdeal.nD Cert.MlpOutWIdeal.τ).loc Cert.MlpOutWIdeal.main_v4) = v0 c
          ∧ r.2.mem ((c.tc : Thread Cert.MlpOutWIdeal.nD Cert.MlpOutWIdeal.τ).loc Cert.MlpOutWIdeal.main_arg0) = m ((c.tc : Thread Cert.MlpOutWIdeal.nD Cert.MlpOutWIdeal.τ).loc Cert.MlpOutWIdeal.main_arg0)
          ∧ r.2.mem ((c.tc : Thread Cert.MlpOutWIdeal.nD Cert.MlpOutWIdeal.τ).loc Cert.MlpOutWIdeal.main_arg1) = m ((c.tc : Thread Cert.MlpOutWIdeal.nD Cert.MlpOutWIdeal.τ).loc Cert.MlpOutWIdeal.main_arg1)
          ∧ r.2.mem ((c.tc : Thread Cert.MlpOutWIdeal.nD Cert.MlpOutWIdeal.τ).loc Cert.MlpOutWIdeal.main_arg2) = m ((c.tc : Thread Cert.MlpOutWIdeal.nD Cert.MlpOutWIdeal.τ).loc Cert.MlpOutWIdeal.main_arg2))
      ∧ θ_run (Cert.MlpOutWReferenceIdeal.defs (F := Ideal)) (onTc (τ := Cert.MlpOutWReferenceIdeal.τ) (Cert.MlpOutWReferenceIdeal.main (F := Ideal))) ⟨m', fun _ => 0, g'⟩ (fun r => ∀ c : Dev Cert.MlpOutWReferenceIdeal.nD,
          r.2.mem ((c.tc : Thread Cert.MlpOutWReferenceIdeal.nD Cert.MlpOutWReferenceIdeal.τ).loc Cert.MlpOutWReferenceIdeal.main_v4) = v0 c
          ∧ r.2.mem ((c.tc : Thread Cert.MlpOutWReferenceIdeal.nD Cert.MlpOutWReferenceIdeal.τ).loc Cert.MlpOutWReferenceIdeal.main_arg0) = m' ((c.tc : Thread Cert.MlpOutWReferenceIdeal.nD Cert.MlpOutWReferenceIdeal.τ).loc Cert.MlpOutWReferenceIdeal.main_arg0)
          ∧ r.2.mem ((c.tc : Thread Cert.MlpOutWReferenceIdeal.nD Cert.MlpOutWReferenceIdeal.τ).loc Cert.MlpOutWReferenceIdeal.main_arg1) = m' ((c.tc : Thread Cert.MlpOutWReferenceIdeal.nD Cert.MlpOutWReferenceIdeal.τ).loc Cert.MlpOutWReferenceIdeal.main_arg1)
          ∧ r.2.mem ((c.tc : Thread Cert.MlpOutWReferenceIdeal.nD Cert.MlpOutWReferenceIdeal.τ).loc Cert.MlpOutWReferenceIdeal.main_arg2) = m' ((c.tc : Thread Cert.MlpOutWReferenceIdeal.nD Cert.MlpOutWReferenceIdeal.τ).loc Cert.MlpOutWReferenceIdeal.main_arg2))

def preserves_LastUp_LastUpIdeal : Prop :=
  True

def algebraic_LastUpIdeal_LastUpReferenceIdeal [hLastUpIdeal : Cert.LastUpIdeal.Facts] [hLastUpReferenceIdeal : Cert.LastUpReferenceIdeal.Facts] : Prop :=
  ∀ (m : (ℓ : Loc Cert.LastUpIdeal.nD Cert.LastUpIdeal.τ Cert.LastUpIdeal.sig) → Buf (Elt Ideal) ℓ) (g : Dev Cert.LastUpIdeal.nD → PrngReg)
    (m' : (ℓ : Loc Cert.LastUpReferenceIdeal.nD Cert.LastUpReferenceIdeal.τ Cert.LastUpReferenceIdeal.sig) → Buf (Elt Ideal) ℓ) (g' : Dev Cert.LastUpReferenceIdeal.nD → PrngReg), Pre_LastUpIdeal m →
    (∀ c : Dev Cert.LastUpIdeal.nD,
      m' ((c.tc : Thread Cert.LastUpReferenceIdeal.nD Cert.LastUpReferenceIdeal.τ).loc Cert.LastUpReferenceIdeal.main_arg0) = m ((c.tc : Thread Cert.LastUpIdeal.nD Cert.LastUpIdeal.τ).loc Cert.LastUpIdeal.main_arg0)
      ∧ m' ((c.tc : Thread Cert.LastUpReferenceIdeal.nD Cert.LastUpReferenceIdeal.τ).loc Cert.LastUpReferenceIdeal.main_arg1) = m ((c.tc : Thread Cert.LastUpIdeal.nD Cert.LastUpIdeal.τ).loc Cert.LastUpIdeal.main_arg1)) →
    ∃ (v0 : (c : Dev Cert.LastUpIdeal.nD) → Buf (Elt Ideal) ((c.tc : Thread Cert.LastUpIdeal.nD Cert.LastUpIdeal.τ).loc Cert.LastUpIdeal.main_v3_0)) (v1 : (c : Dev Cert.LastUpIdeal.nD) → Buf (Elt Ideal) ((c.tc : Thread Cert.LastUpIdeal.nD Cert.LastUpIdeal.τ).loc Cert.LastUpIdeal.main_v3_1)),
      θ_run (Cert.LastUpIdeal.defs (F := Ideal)) (onTc (τ := Cert.LastUpIdeal.τ) (Cert.LastUpIdeal.main (F := Ideal))) ⟨m, fun _ => 0, g⟩ (fun r => ∀ c : Dev Cert.LastUpIdeal.nD,
          r.2.mem ((c.tc : Thread Cert.LastUpIdeal.nD Cert.LastUpIdeal.τ).loc Cert.LastUpIdeal.main_v3_0) = v0 c
          ∧ r.2.mem ((c.tc : Thread Cert.LastUpIdeal.nD Cert.LastUpIdeal.τ).loc Cert.LastUpIdeal.main_v3_1) = v1 c
          ∧ r.2.mem ((c.tc : Thread Cert.LastUpIdeal.nD Cert.LastUpIdeal.τ).loc Cert.LastUpIdeal.main_arg0) = m ((c.tc : Thread Cert.LastUpIdeal.nD Cert.LastUpIdeal.τ).loc Cert.LastUpIdeal.main_arg0)
          ∧ r.2.mem ((c.tc : Thread Cert.LastUpIdeal.nD Cert.LastUpIdeal.τ).loc Cert.LastUpIdeal.main_arg1) = m ((c.tc : Thread Cert.LastUpIdeal.nD Cert.LastUpIdeal.τ).loc Cert.LastUpIdeal.main_arg1))
      ∧ θ_run (Cert.LastUpReferenceIdeal.defs (F := Ideal)) (onTc (τ := Cert.LastUpReferenceIdeal.τ) (Cert.LastUpReferenceIdeal.main (F := Ideal))) ⟨m', fun _ => 0, g'⟩ (fun r => ∀ c : Dev Cert.LastUpReferenceIdeal.nD,
          r.2.mem ((c.tc : Thread Cert.LastUpReferenceIdeal.nD Cert.LastUpReferenceIdeal.τ).loc Cert.LastUpReferenceIdeal.main_v3) = v0 c
          ∧ r.2.mem ((c.tc : Thread Cert.LastUpReferenceIdeal.nD Cert.LastUpReferenceIdeal.τ).loc Cert.LastUpReferenceIdeal.main_v7) = v1 c
          ∧ r.2.mem ((c.tc : Thread Cert.LastUpReferenceIdeal.nD Cert.LastUpReferenceIdeal.τ).loc Cert.LastUpReferenceIdeal.main_arg0) = m' ((c.tc : Thread Cert.LastUpReferenceIdeal.nD Cert.LastUpReferenceIdeal.τ).loc Cert.LastUpReferenceIdeal.main_arg0)
          ∧ r.2.mem ((c.tc : Thread Cert.LastUpReferenceIdeal.nD Cert.LastUpReferenceIdeal.τ).loc Cert.LastUpReferenceIdeal.main_arg1) = m' ((c.tc : Thread Cert.LastUpReferenceIdeal.nD Cert.LastUpReferenceIdeal.τ).loc Cert.LastUpReferenceIdeal.main_arg1))

def preserves_LastGrad_LastGradIdeal : Prop :=
  True

def algebraic_LastGradIdeal_LastGradReferenceIdeal [hLastGradIdeal : Cert.LastGradIdeal.Facts] [hLastGradReferenceIdeal : Cert.LastGradReferenceIdeal.Facts] : Prop :=
  ∀ (m : (ℓ : Loc Cert.LastGradIdeal.nD Cert.LastGradIdeal.τ Cert.LastGradIdeal.sig) → Buf (Elt Ideal) ℓ) (g : Dev Cert.LastGradIdeal.nD → PrngReg)
    (m' : (ℓ : Loc Cert.LastGradReferenceIdeal.nD Cert.LastGradReferenceIdeal.τ Cert.LastGradReferenceIdeal.sig) → Buf (Elt Ideal) ℓ) (g' : Dev Cert.LastGradReferenceIdeal.nD → PrngReg), Pre_LastGradIdeal m →
    (∀ c : Dev Cert.LastGradIdeal.nD,
      m' ((c.tc : Thread Cert.LastGradReferenceIdeal.nD Cert.LastGradReferenceIdeal.τ).loc Cert.LastGradReferenceIdeal.main_arg0) = m ((c.tc : Thread Cert.LastGradIdeal.nD Cert.LastGradIdeal.τ).loc Cert.LastGradIdeal.main_arg0)
      ∧ m' ((c.tc : Thread Cert.LastGradReferenceIdeal.nD Cert.LastGradReferenceIdeal.τ).loc Cert.LastGradReferenceIdeal.main_arg1) = m ((c.tc : Thread Cert.LastGradIdeal.nD Cert.LastGradIdeal.τ).loc Cert.LastGradIdeal.main_arg1)
      ∧ m' ((c.tc : Thread Cert.LastGradReferenceIdeal.nD Cert.LastGradReferenceIdeal.τ).loc Cert.LastGradReferenceIdeal.main_arg2) = m ((c.tc : Thread Cert.LastGradIdeal.nD Cert.LastGradIdeal.τ).loc Cert.LastGradIdeal.main_arg2)) →
    ∃ (v0 : (c : Dev Cert.LastGradIdeal.nD) → Buf (Elt Ideal) ((c.tc : Thread Cert.LastGradIdeal.nD Cert.LastGradIdeal.τ).loc Cert.LastGradIdeal.main_v6)),
      θ_run (Cert.LastGradIdeal.defs (F := Ideal)) (onTc (τ := Cert.LastGradIdeal.τ) (Cert.LastGradIdeal.main (F := Ideal))) ⟨m, fun _ => 0, g⟩ (fun r => ∀ c : Dev Cert.LastGradIdeal.nD,
          r.2.mem ((c.tc : Thread Cert.LastGradIdeal.nD Cert.LastGradIdeal.τ).loc Cert.LastGradIdeal.main_v6) = v0 c
          ∧ r.2.mem ((c.tc : Thread Cert.LastGradIdeal.nD Cert.LastGradIdeal.τ).loc Cert.LastGradIdeal.main_arg0) = m ((c.tc : Thread Cert.LastGradIdeal.nD Cert.LastGradIdeal.τ).loc Cert.LastGradIdeal.main_arg0)
          ∧ r.2.mem ((c.tc : Thread Cert.LastGradIdeal.nD Cert.LastGradIdeal.τ).loc Cert.LastGradIdeal.main_arg1) = m ((c.tc : Thread Cert.LastGradIdeal.nD Cert.LastGradIdeal.τ).loc Cert.LastGradIdeal.main_arg1)
          ∧ r.2.mem ((c.tc : Thread Cert.LastGradIdeal.nD Cert.LastGradIdeal.τ).loc Cert.LastGradIdeal.main_arg2) = m ((c.tc : Thread Cert.LastGradIdeal.nD Cert.LastGradIdeal.τ).loc Cert.LastGradIdeal.main_arg2))
      ∧ θ_run (Cert.LastGradReferenceIdeal.defs (F := Ideal)) (onTc (τ := Cert.LastGradReferenceIdeal.τ) (Cert.LastGradReferenceIdeal.main (F := Ideal))) ⟨m', fun _ => 0, g'⟩ (fun r => ∀ c : Dev Cert.LastGradReferenceIdeal.nD,
          r.2.mem ((c.tc : Thread Cert.LastGradReferenceIdeal.nD Cert.LastGradReferenceIdeal.τ).loc Cert.LastGradReferenceIdeal.main_v13) = v0 c
          ∧ r.2.mem ((c.tc : Thread Cert.LastGradReferenceIdeal.nD Cert.LastGradReferenceIdeal.τ).loc Cert.LastGradReferenceIdeal.main_arg0) = m' ((c.tc : Thread Cert.LastGradReferenceIdeal.nD Cert.LastGradReferenceIdeal.τ).loc Cert.LastGradReferenceIdeal.main_arg0)
          ∧ r.2.mem ((c.tc : Thread Cert.LastGradReferenceIdeal.nD Cert.LastGradReferenceIdeal.τ).loc Cert.LastGradReferenceIdeal.main_arg1) = m' ((c.tc : Thread Cert.LastGradReferenceIdeal.nD Cert.LastGradReferenceIdeal.τ).loc Cert.LastGradReferenceIdeal.main_arg1)
          ∧ r.2.mem ((c.tc : Thread Cert.LastGradReferenceIdeal.nD Cert.LastGradReferenceIdeal.τ).loc Cert.LastGradReferenceIdeal.main_arg2) = m' ((c.tc : Thread Cert.LastGradReferenceIdeal.nD Cert.LastGradReferenceIdeal.τ).loc Cert.LastGradReferenceIdeal.main_arg2))

def preserves_LastInT_LastInTIdeal : Prop :=
  True

def algebraic_LastInTIdeal_LastInTReferenceIdeal [hLastInTIdeal : Cert.LastInTIdeal.Facts] [hLastInTReferenceIdeal : Cert.LastInTReferenceIdeal.Facts] : Prop :=
  ∀ (m : (ℓ : Loc Cert.LastInTIdeal.nD Cert.LastInTIdeal.τ Cert.LastInTIdeal.sig) → Buf (Elt Ideal) ℓ) (g : Dev Cert.LastInTIdeal.nD → PrngReg)
    (m' : (ℓ : Loc Cert.LastInTReferenceIdeal.nD Cert.LastInTReferenceIdeal.τ Cert.LastInTReferenceIdeal.sig) → Buf (Elt Ideal) ℓ) (g' : Dev Cert.LastInTReferenceIdeal.nD → PrngReg), Pre_LastInTIdeal m →
    (∀ c : Dev Cert.LastInTIdeal.nD,
      m' ((c.tc : Thread Cert.LastInTReferenceIdeal.nD Cert.LastInTReferenceIdeal.τ).loc Cert.LastInTReferenceIdeal.main_arg0) = m ((c.tc : Thread Cert.LastInTIdeal.nD Cert.LastInTIdeal.τ).loc Cert.LastInTIdeal.main_arg0)
      ∧ m' ((c.tc : Thread Cert.LastInTReferenceIdeal.nD Cert.LastInTReferenceIdeal.τ).loc Cert.LastInTReferenceIdeal.main_arg1) = m ((c.tc : Thread Cert.LastInTIdeal.nD Cert.LastInTIdeal.τ).loc Cert.LastInTIdeal.main_arg1)
      ∧ m' ((c.tc : Thread Cert.LastInTReferenceIdeal.nD Cert.LastInTReferenceIdeal.τ).loc Cert.LastInTReferenceIdeal.main_arg2) = m ((c.tc : Thread Cert.LastInTIdeal.nD Cert.LastInTIdeal.τ).loc Cert.LastInTIdeal.main_arg2)) →
    ∃ (v0 : (c : Dev Cert.LastInTIdeal.nD) → Buf (Elt Ideal) ((c.tc : Thread Cert.LastInTIdeal.nD Cert.LastInTIdeal.τ).loc Cert.LastInTIdeal.main_v3)),
      θ_run (Cert.LastInTIdeal.defs (F := Ideal)) (onTc (τ := Cert.LastInTIdeal.τ) (Cert.LastInTIdeal.main (F := Ideal))) ⟨m, fun _ => 0, g⟩ (fun r => ∀ c : Dev Cert.LastInTIdeal.nD,
          r.2.mem ((c.tc : Thread Cert.LastInTIdeal.nD Cert.LastInTIdeal.τ).loc Cert.LastInTIdeal.main_v3) = v0 c
          ∧ r.2.mem ((c.tc : Thread Cert.LastInTIdeal.nD Cert.LastInTIdeal.τ).loc Cert.LastInTIdeal.main_arg0) = m ((c.tc : Thread Cert.LastInTIdeal.nD Cert.LastInTIdeal.τ).loc Cert.LastInTIdeal.main_arg0)
          ∧ r.2.mem ((c.tc : Thread Cert.LastInTIdeal.nD Cert.LastInTIdeal.τ).loc Cert.LastInTIdeal.main_arg1) = m ((c.tc : Thread Cert.LastInTIdeal.nD Cert.LastInTIdeal.τ).loc Cert.LastInTIdeal.main_arg1)
          ∧ r.2.mem ((c.tc : Thread Cert.LastInTIdeal.nD Cert.LastInTIdeal.τ).loc Cert.LastInTIdeal.main_arg2) = m ((c.tc : Thread Cert.LastInTIdeal.nD Cert.LastInTIdeal.τ).loc Cert.LastInTIdeal.main_arg2))
      ∧ θ_run (Cert.LastInTReferenceIdeal.defs (F := Ideal)) (onTc (τ := Cert.LastInTReferenceIdeal.τ) (Cert.LastInTReferenceIdeal.main (F := Ideal))) ⟨m', fun _ => 0, g'⟩ (fun r => ∀ c : Dev Cert.LastInTReferenceIdeal.nD,
          r.2.mem ((c.tc : Thread Cert.LastInTReferenceIdeal.nD Cert.LastInTReferenceIdeal.τ).loc Cert.LastInTReferenceIdeal.main_v4) = v0 c
          ∧ r.2.mem ((c.tc : Thread Cert.LastInTReferenceIdeal.nD Cert.LastInTReferenceIdeal.τ).loc Cert.LastInTReferenceIdeal.main_arg0) = m' ((c.tc : Thread Cert.LastInTReferenceIdeal.nD Cert.LastInTReferenceIdeal.τ).loc Cert.LastInTReferenceIdeal.main_arg0)
          ∧ r.2.mem ((c.tc : Thread Cert.LastInTReferenceIdeal.nD Cert.LastInTReferenceIdeal.τ).loc Cert.LastInTReferenceIdeal.main_arg1) = m' ((c.tc : Thread Cert.LastInTReferenceIdeal.nD Cert.LastInTReferenceIdeal.τ).loc Cert.LastInTReferenceIdeal.main_arg1)
          ∧ r.2.mem ((c.tc : Thread Cert.LastInTReferenceIdeal.nD Cert.LastInTReferenceIdeal.τ).loc Cert.LastInTReferenceIdeal.main_arg2) = m' ((c.tc : Thread Cert.LastInTReferenceIdeal.nD Cert.LastInTReferenceIdeal.τ).loc Cert.LastInTReferenceIdeal.main_arg2))

def preserves_LastInW_LastInWIdeal : Prop :=
  True

def algebraic_LastInWIdeal_LastInWReferenceIdeal [hLastInWIdeal : Cert.LastInWIdeal.Facts] [hLastInWReferenceIdeal : Cert.LastInWReferenceIdeal.Facts] : Prop :=
  ∀ (m : (ℓ : Loc Cert.LastInWIdeal.nD Cert.LastInWIdeal.τ Cert.LastInWIdeal.sig) → Buf (Elt Ideal) ℓ) (g : Dev Cert.LastInWIdeal.nD → PrngReg)
    (m' : (ℓ : Loc Cert.LastInWReferenceIdeal.nD Cert.LastInWReferenceIdeal.τ Cert.LastInWReferenceIdeal.sig) → Buf (Elt Ideal) ℓ) (g' : Dev Cert.LastInWReferenceIdeal.nD → PrngReg), Pre_LastInWIdeal m →
    (∀ c : Dev Cert.LastInWIdeal.nD,
      m' ((c.tc : Thread Cert.LastInWReferenceIdeal.nD Cert.LastInWReferenceIdeal.τ).loc Cert.LastInWReferenceIdeal.main_arg0) = m ((c.tc : Thread Cert.LastInWIdeal.nD Cert.LastInWIdeal.τ).loc Cert.LastInWIdeal.main_arg0)
      ∧ m' ((c.tc : Thread Cert.LastInWReferenceIdeal.nD Cert.LastInWReferenceIdeal.τ).loc Cert.LastInWReferenceIdeal.main_arg1) = m ((c.tc : Thread Cert.LastInWIdeal.nD Cert.LastInWIdeal.τ).loc Cert.LastInWIdeal.main_arg1)
      ∧ m' ((c.tc : Thread Cert.LastInWReferenceIdeal.nD Cert.LastInWReferenceIdeal.τ).loc Cert.LastInWReferenceIdeal.main_arg2) = m ((c.tc : Thread Cert.LastInWIdeal.nD Cert.LastInWIdeal.τ).loc Cert.LastInWIdeal.main_arg2)) →
    ∃ (v0 : (c : Dev Cert.LastInWIdeal.nD) → Buf (Elt Ideal) ((c.tc : Thread Cert.LastInWIdeal.nD Cert.LastInWIdeal.τ).loc Cert.LastInWIdeal.main_v4)),
      θ_run (Cert.LastInWIdeal.defs (F := Ideal)) (onTc (τ := Cert.LastInWIdeal.τ) (Cert.LastInWIdeal.main (F := Ideal))) ⟨m, fun _ => 0, g⟩ (fun r => ∀ c : Dev Cert.LastInWIdeal.nD,
          r.2.mem ((c.tc : Thread Cert.LastInWIdeal.nD Cert.LastInWIdeal.τ).loc Cert.LastInWIdeal.main_v4) = v0 c
          ∧ r.2.mem ((c.tc : Thread Cert.LastInWIdeal.nD Cert.LastInWIdeal.τ).loc Cert.LastInWIdeal.main_arg0) = m ((c.tc : Thread Cert.LastInWIdeal.nD Cert.LastInWIdeal.τ).loc Cert.LastInWIdeal.main_arg0)
          ∧ r.2.mem ((c.tc : Thread Cert.LastInWIdeal.nD Cert.LastInWIdeal.τ).loc Cert.LastInWIdeal.main_arg1) = m ((c.tc : Thread Cert.LastInWIdeal.nD Cert.LastInWIdeal.τ).loc Cert.LastInWIdeal.main_arg1)
          ∧ r.2.mem ((c.tc : Thread Cert.LastInWIdeal.nD Cert.LastInWIdeal.τ).loc Cert.LastInWIdeal.main_arg2) = m ((c.tc : Thread Cert.LastInWIdeal.nD Cert.LastInWIdeal.τ).loc Cert.LastInWIdeal.main_arg2))
      ∧ θ_run (Cert.LastInWReferenceIdeal.defs (F := Ideal)) (onTc (τ := Cert.LastInWReferenceIdeal.τ) (Cert.LastInWReferenceIdeal.main (F := Ideal))) ⟨m', fun _ => 0, g'⟩ (fun r => ∀ c : Dev Cert.LastInWReferenceIdeal.nD,
          r.2.mem ((c.tc : Thread Cert.LastInWReferenceIdeal.nD Cert.LastInWReferenceIdeal.τ).loc Cert.LastInWReferenceIdeal.main_v4) = v0 c
          ∧ r.2.mem ((c.tc : Thread Cert.LastInWReferenceIdeal.nD Cert.LastInWReferenceIdeal.τ).loc Cert.LastInWReferenceIdeal.main_arg0) = m' ((c.tc : Thread Cert.LastInWReferenceIdeal.nD Cert.LastInWReferenceIdeal.τ).loc Cert.LastInWReferenceIdeal.main_arg0)
          ∧ r.2.mem ((c.tc : Thread Cert.LastInWReferenceIdeal.nD Cert.LastInWReferenceIdeal.τ).loc Cert.LastInWReferenceIdeal.main_arg1) = m' ((c.tc : Thread Cert.LastInWReferenceIdeal.nD Cert.LastInWReferenceIdeal.τ).loc Cert.LastInWReferenceIdeal.main_arg1)
          ∧ r.2.mem ((c.tc : Thread Cert.LastInWReferenceIdeal.nD Cert.LastInWReferenceIdeal.τ).loc Cert.LastInWReferenceIdeal.main_arg2) = m' ((c.tc : Thread Cert.LastInWReferenceIdeal.nD Cert.LastInWReferenceIdeal.τ).loc Cert.LastInWReferenceIdeal.main_arg2))

def preserves_LastOut_LastOutIdeal : Prop :=
  True

def algebraic_LastOutIdeal_LastOutReferenceIdeal [hLastOutIdeal : Cert.LastOutIdeal.Facts] [hLastOutReferenceIdeal : Cert.LastOutReferenceIdeal.Facts] : Prop :=
  ∀ (m : (ℓ : Loc Cert.LastOutIdeal.nD Cert.LastOutIdeal.τ Cert.LastOutIdeal.sig) → Buf (Elt Ideal) ℓ) (g : Dev Cert.LastOutIdeal.nD → PrngReg)
    (m' : (ℓ : Loc Cert.LastOutReferenceIdeal.nD Cert.LastOutReferenceIdeal.τ Cert.LastOutReferenceIdeal.sig) → Buf (Elt Ideal) ℓ) (g' : Dev Cert.LastOutReferenceIdeal.nD → PrngReg), Pre_LastOutIdeal m →
    (∀ c : Dev Cert.LastOutIdeal.nD,
      m' ((c.tc : Thread Cert.LastOutReferenceIdeal.nD Cert.LastOutReferenceIdeal.τ).loc Cert.LastOutReferenceIdeal.main_arg0) = m ((c.tc : Thread Cert.LastOutIdeal.nD Cert.LastOutIdeal.τ).loc Cert.LastOutIdeal.main_arg0)
      ∧ m' ((c.tc : Thread Cert.LastOutReferenceIdeal.nD Cert.LastOutReferenceIdeal.τ).loc Cert.LastOutReferenceIdeal.main_arg1) = m ((c.tc : Thread Cert.LastOutIdeal.nD Cert.LastOutIdeal.τ).loc Cert.LastOutIdeal.main_arg1)) →
    ∃ (v0 : (c : Dev Cert.LastOutIdeal.nD) → Buf (Elt Ideal) ((c.tc : Thread Cert.LastOutIdeal.nD Cert.LastOutIdeal.τ).loc Cert.LastOutIdeal.main_v3)),
      θ_run (Cert.LastOutIdeal.defs (F := Ideal)) (onTc (τ := Cert.LastOutIdeal.τ) (Cert.LastOutIdeal.main (F := Ideal))) ⟨m, fun _ => 0, g⟩ (fun r => ∀ c : Dev Cert.LastOutIdeal.nD,
          r.2.mem ((c.tc : Thread Cert.LastOutIdeal.nD Cert.LastOutIdeal.τ).loc Cert.LastOutIdeal.main_v3) = v0 c
          ∧ r.2.mem ((c.tc : Thread Cert.LastOutIdeal.nD Cert.LastOutIdeal.τ).loc Cert.LastOutIdeal.main_arg0) = m ((c.tc : Thread Cert.LastOutIdeal.nD Cert.LastOutIdeal.τ).loc Cert.LastOutIdeal.main_arg0)
          ∧ r.2.mem ((c.tc : Thread Cert.LastOutIdeal.nD Cert.LastOutIdeal.τ).loc Cert.LastOutIdeal.main_arg1) = m ((c.tc : Thread Cert.LastOutIdeal.nD Cert.LastOutIdeal.τ).loc Cert.LastOutIdeal.main_arg1))
      ∧ θ_run (Cert.LastOutReferenceIdeal.defs (F := Ideal)) (onTc (τ := Cert.LastOutReferenceIdeal.τ) (Cert.LastOutReferenceIdeal.main (F := Ideal))) ⟨m', fun _ => 0, g'⟩ (fun r => ∀ c : Dev Cert.LastOutReferenceIdeal.nD,
          r.2.mem ((c.tc : Thread Cert.LastOutReferenceIdeal.nD Cert.LastOutReferenceIdeal.τ).loc Cert.LastOutReferenceIdeal.main_v1) = v0 c
          ∧ r.2.mem ((c.tc : Thread Cert.LastOutReferenceIdeal.nD Cert.LastOutReferenceIdeal.τ).loc Cert.LastOutReferenceIdeal.main_arg0) = m' ((c.tc : Thread Cert.LastOutReferenceIdeal.nD Cert.LastOutReferenceIdeal.τ).loc Cert.LastOutReferenceIdeal.main_arg0)
          ∧ r.2.mem ((c.tc : Thread Cert.LastOutReferenceIdeal.nD Cert.LastOutReferenceIdeal.τ).loc Cert.LastOutReferenceIdeal.main_arg1) = m' ((c.tc : Thread Cert.LastOutReferenceIdeal.nD Cert.LastOutReferenceIdeal.τ).loc Cert.LastOutReferenceIdeal.main_arg1))

def preserves_LastOutW_LastOutWIdeal : Prop :=
  True

def algebraic_LastOutWIdeal_LastOutWReferenceIdeal [hLastOutWIdeal : Cert.LastOutWIdeal.Facts] [hLastOutWReferenceIdeal : Cert.LastOutWReferenceIdeal.Facts] : Prop :=
  ∀ (m : (ℓ : Loc Cert.LastOutWIdeal.nD Cert.LastOutWIdeal.τ Cert.LastOutWIdeal.sig) → Buf (Elt Ideal) ℓ) (g : Dev Cert.LastOutWIdeal.nD → PrngReg)
    (m' : (ℓ : Loc Cert.LastOutWReferenceIdeal.nD Cert.LastOutWReferenceIdeal.τ Cert.LastOutWReferenceIdeal.sig) → Buf (Elt Ideal) ℓ) (g' : Dev Cert.LastOutWReferenceIdeal.nD → PrngReg), Pre_LastOutWIdeal m →
    (∀ c : Dev Cert.LastOutWIdeal.nD,
      m' ((c.tc : Thread Cert.LastOutWReferenceIdeal.nD Cert.LastOutWReferenceIdeal.τ).loc Cert.LastOutWReferenceIdeal.main_arg0) = m ((c.tc : Thread Cert.LastOutWIdeal.nD Cert.LastOutWIdeal.τ).loc Cert.LastOutWIdeal.main_arg0)
      ∧ m' ((c.tc : Thread Cert.LastOutWReferenceIdeal.nD Cert.LastOutWReferenceIdeal.τ).loc Cert.LastOutWReferenceIdeal.main_arg1) = m ((c.tc : Thread Cert.LastOutWIdeal.nD Cert.LastOutWIdeal.τ).loc Cert.LastOutWIdeal.main_arg1)
      ∧ m' ((c.tc : Thread Cert.LastOutWReferenceIdeal.nD Cert.LastOutWReferenceIdeal.τ).loc Cert.LastOutWReferenceIdeal.main_arg2) = m ((c.tc : Thread Cert.LastOutWIdeal.nD Cert.LastOutWIdeal.τ).loc Cert.LastOutWIdeal.main_arg2)) →
    ∃ (v0 : (c : Dev Cert.LastOutWIdeal.nD) → Buf (Elt Ideal) ((c.tc : Thread Cert.LastOutWIdeal.nD Cert.LastOutWIdeal.τ).loc Cert.LastOutWIdeal.main_v4)),
      θ_run (Cert.LastOutWIdeal.defs (F := Ideal)) (onTc (τ := Cert.LastOutWIdeal.τ) (Cert.LastOutWIdeal.main (F := Ideal))) ⟨m, fun _ => 0, g⟩ (fun r => ∀ c : Dev Cert.LastOutWIdeal.nD,
          r.2.mem ((c.tc : Thread Cert.LastOutWIdeal.nD Cert.LastOutWIdeal.τ).loc Cert.LastOutWIdeal.main_v4) = v0 c
          ∧ r.2.mem ((c.tc : Thread Cert.LastOutWIdeal.nD Cert.LastOutWIdeal.τ).loc Cert.LastOutWIdeal.main_arg0) = m ((c.tc : Thread Cert.LastOutWIdeal.nD Cert.LastOutWIdeal.τ).loc Cert.LastOutWIdeal.main_arg0)
          ∧ r.2.mem ((c.tc : Thread Cert.LastOutWIdeal.nD Cert.LastOutWIdeal.τ).loc Cert.LastOutWIdeal.main_arg1) = m ((c.tc : Thread Cert.LastOutWIdeal.nD Cert.LastOutWIdeal.τ).loc Cert.LastOutWIdeal.main_arg1)
          ∧ r.2.mem ((c.tc : Thread Cert.LastOutWIdeal.nD Cert.LastOutWIdeal.τ).loc Cert.LastOutWIdeal.main_arg2) = m ((c.tc : Thread Cert.LastOutWIdeal.nD Cert.LastOutWIdeal.τ).loc Cert.LastOutWIdeal.main_arg2))
      ∧ θ_run (Cert.LastOutWReferenceIdeal.defs (F := Ideal)) (onTc (τ := Cert.LastOutWReferenceIdeal.τ) (Cert.LastOutWReferenceIdeal.main (F := Ideal))) ⟨m', fun _ => 0, g'⟩ (fun r => ∀ c : Dev Cert.LastOutWReferenceIdeal.nD,
          r.2.mem ((c.tc : Thread Cert.LastOutWReferenceIdeal.nD Cert.LastOutWReferenceIdeal.τ).loc Cert.LastOutWReferenceIdeal.main_v4) = v0 c
          ∧ r.2.mem ((c.tc : Thread Cert.LastOutWReferenceIdeal.nD Cert.LastOutWReferenceIdeal.τ).loc Cert.LastOutWReferenceIdeal.main_arg0) = m' ((c.tc : Thread Cert.LastOutWReferenceIdeal.nD Cert.LastOutWReferenceIdeal.τ).loc Cert.LastOutWReferenceIdeal.main_arg0)
          ∧ r.2.mem ((c.tc : Thread Cert.LastOutWReferenceIdeal.nD Cert.LastOutWReferenceIdeal.τ).loc Cert.LastOutWReferenceIdeal.main_arg1) = m' ((c.tc : Thread Cert.LastOutWReferenceIdeal.nD Cert.LastOutWReferenceIdeal.τ).loc Cert.LastOutWReferenceIdeal.main_arg1)
          ∧ r.2.mem ((c.tc : Thread Cert.LastOutWReferenceIdeal.nD Cert.LastOutWReferenceIdeal.τ).loc Cert.LastOutWReferenceIdeal.main_arg2) = m' ((c.tc : Thread Cert.LastOutWReferenceIdeal.nD Cert.LastOutWReferenceIdeal.τ).loc Cert.LastOutWReferenceIdeal.main_arg2))

def preserves_EvenIn_EvenInIdeal : Prop :=
  True

def algebraic_EvenInIdeal_EvenInReferenceIdeal [hEvenInIdeal : Cert.EvenInIdeal.Facts] [hEvenInReferenceIdeal : Cert.EvenInReferenceIdeal.Facts] : Prop :=
  ∀ (m : (ℓ : Loc Cert.EvenInIdeal.nD Cert.EvenInIdeal.τ Cert.EvenInIdeal.sig) → Buf (Elt Ideal) ℓ) (g : Dev Cert.EvenInIdeal.nD → PrngReg)
    (m' : (ℓ : Loc Cert.EvenInReferenceIdeal.nD Cert.EvenInReferenceIdeal.τ Cert.EvenInReferenceIdeal.sig) → Buf (Elt Ideal) ℓ) (g' : Dev Cert.EvenInReferenceIdeal.nD → PrngReg), Pre_EvenInIdeal m →
    (∀ c : Dev Cert.EvenInIdeal.nD,
      m' ((c.tc : Thread Cert.EvenInReferenceIdeal.nD Cert.EvenInReferenceIdeal.τ).loc Cert.EvenInReferenceIdeal.main_arg0) = m ((c.tc : Thread Cert.EvenInIdeal.nD Cert.EvenInIdeal.τ).loc Cert.EvenInIdeal.main_arg0)
      ∧ m' ((c.tc : Thread Cert.EvenInReferenceIdeal.nD Cert.EvenInReferenceIdeal.τ).loc Cert.EvenInReferenceIdeal.main_arg1) = m ((c.tc : Thread Cert.EvenInIdeal.nD Cert.EvenInIdeal.τ).loc Cert.EvenInIdeal.main_arg1)) →
    ∃ (v0 : (c : Dev Cert.EvenInIdeal.nD) → Buf (Elt Ideal) ((c.tc : Thread Cert.EvenInIdeal.nD Cert.EvenInIdeal.τ).loc Cert.EvenInIdeal.main_v3)),
      θ_run (Cert.EvenInIdeal.defs (F := Ideal)) (onTc (τ := Cert.EvenInIdeal.τ) (Cert.EvenInIdeal.main (F := Ideal))) ⟨m, fun _ => 0, g⟩ (fun r => ∀ c : Dev Cert.EvenInIdeal.nD,
          r.2.mem ((c.tc : Thread Cert.EvenInIdeal.nD Cert.EvenInIdeal.τ).loc Cert.EvenInIdeal.main_v3) = v0 c
          ∧ r.2.mem ((c.tc : Thread Cert.EvenInIdeal.nD Cert.EvenInIdeal.τ).loc Cert.EvenInIdeal.main_arg0) = m ((c.tc : Thread Cert.EvenInIdeal.nD Cert.EvenInIdeal.τ).loc Cert.EvenInIdeal.main_arg0)
          ∧ r.2.mem ((c.tc : Thread Cert.EvenInIdeal.nD Cert.EvenInIdeal.τ).loc Cert.EvenInIdeal.main_arg1) = m ((c.tc : Thread Cert.EvenInIdeal.nD Cert.EvenInIdeal.τ).loc Cert.EvenInIdeal.main_arg1))
      ∧ θ_run (Cert.EvenInReferenceIdeal.defs (F := Ideal)) (onTc (τ := Cert.EvenInReferenceIdeal.τ) (Cert.EvenInReferenceIdeal.main (F := Ideal))) ⟨m', fun _ => 0, g'⟩ (fun r => ∀ c : Dev Cert.EvenInReferenceIdeal.nD,
          r.2.mem ((c.tc : Thread Cert.EvenInReferenceIdeal.nD Cert.EvenInReferenceIdeal.τ).loc Cert.EvenInReferenceIdeal.main_v1) = v0 c
          ∧ r.2.mem ((c.tc : Thread Cert.EvenInReferenceIdeal.nD Cert.EvenInReferenceIdeal.τ).loc Cert.EvenInReferenceIdeal.main_arg0) = m' ((c.tc : Thread Cert.EvenInReferenceIdeal.nD Cert.EvenInReferenceIdeal.τ).loc Cert.EvenInReferenceIdeal.main_arg0)
          ∧ r.2.mem ((c.tc : Thread Cert.EvenInReferenceIdeal.nD Cert.EvenInReferenceIdeal.τ).loc Cert.EvenInReferenceIdeal.main_arg1) = m' ((c.tc : Thread Cert.EvenInReferenceIdeal.nD Cert.EvenInReferenceIdeal.τ).loc Cert.EvenInReferenceIdeal.main_arg1))

def preserves_EvenInT_EvenInTIdeal : Prop :=
  True

def algebraic_EvenInTIdeal_EvenInTReferenceIdeal [hEvenInTIdeal : Cert.EvenInTIdeal.Facts] [hEvenInTReferenceIdeal : Cert.EvenInTReferenceIdeal.Facts] : Prop :=
  ∀ (m : (ℓ : Loc Cert.EvenInTIdeal.nD Cert.EvenInTIdeal.τ Cert.EvenInTIdeal.sig) → Buf (Elt Ideal) ℓ) (g : Dev Cert.EvenInTIdeal.nD → PrngReg)
    (m' : (ℓ : Loc Cert.EvenInTReferenceIdeal.nD Cert.EvenInTReferenceIdeal.τ Cert.EvenInTReferenceIdeal.sig) → Buf (Elt Ideal) ℓ) (g' : Dev Cert.EvenInTReferenceIdeal.nD → PrngReg), Pre_EvenInTIdeal m →
    (∀ c : Dev Cert.EvenInTIdeal.nD,
      m' ((c.tc : Thread Cert.EvenInTReferenceIdeal.nD Cert.EvenInTReferenceIdeal.τ).loc Cert.EvenInTReferenceIdeal.main_arg0) = m ((c.tc : Thread Cert.EvenInTIdeal.nD Cert.EvenInTIdeal.τ).loc Cert.EvenInTIdeal.main_arg0)
      ∧ m' ((c.tc : Thread Cert.EvenInTReferenceIdeal.nD Cert.EvenInTReferenceIdeal.τ).loc Cert.EvenInTReferenceIdeal.main_arg1) = m ((c.tc : Thread Cert.EvenInTIdeal.nD Cert.EvenInTIdeal.τ).loc Cert.EvenInTIdeal.main_arg1)
      ∧ m' ((c.tc : Thread Cert.EvenInTReferenceIdeal.nD Cert.EvenInTReferenceIdeal.τ).loc Cert.EvenInTReferenceIdeal.main_arg2) = m ((c.tc : Thread Cert.EvenInTIdeal.nD Cert.EvenInTIdeal.τ).loc Cert.EvenInTIdeal.main_arg2)) →
    ∃ (v0 : (c : Dev Cert.EvenInTIdeal.nD) → Buf (Elt Ideal) ((c.tc : Thread Cert.EvenInTIdeal.nD Cert.EvenInTIdeal.τ).loc Cert.EvenInTIdeal.main_v3)),
      θ_run (Cert.EvenInTIdeal.defs (F := Ideal)) (onTc (τ := Cert.EvenInTIdeal.τ) (Cert.EvenInTIdeal.main (F := Ideal))) ⟨m, fun _ => 0, g⟩ (fun r => ∀ c : Dev Cert.EvenInTIdeal.nD,
          r.2.mem ((c.tc : Thread Cert.EvenInTIdeal.nD Cert.EvenInTIdeal.τ).loc Cert.EvenInTIdeal.main_v3) = v0 c
          ∧ r.2.mem ((c.tc : Thread Cert.EvenInTIdeal.nD Cert.EvenInTIdeal.τ).loc Cert.EvenInTIdeal.main_arg0) = m ((c.tc : Thread Cert.EvenInTIdeal.nD Cert.EvenInTIdeal.τ).loc Cert.EvenInTIdeal.main_arg0)
          ∧ r.2.mem ((c.tc : Thread Cert.EvenInTIdeal.nD Cert.EvenInTIdeal.τ).loc Cert.EvenInTIdeal.main_arg1) = m ((c.tc : Thread Cert.EvenInTIdeal.nD Cert.EvenInTIdeal.τ).loc Cert.EvenInTIdeal.main_arg1)
          ∧ r.2.mem ((c.tc : Thread Cert.EvenInTIdeal.nD Cert.EvenInTIdeal.τ).loc Cert.EvenInTIdeal.main_arg2) = m ((c.tc : Thread Cert.EvenInTIdeal.nD Cert.EvenInTIdeal.τ).loc Cert.EvenInTIdeal.main_arg2))
      ∧ θ_run (Cert.EvenInTReferenceIdeal.defs (F := Ideal)) (onTc (τ := Cert.EvenInTReferenceIdeal.τ) (Cert.EvenInTReferenceIdeal.main (F := Ideal))) ⟨m', fun _ => 0, g'⟩ (fun r => ∀ c : Dev Cert.EvenInTReferenceIdeal.nD,
          r.2.mem ((c.tc : Thread Cert.EvenInTReferenceIdeal.nD Cert.EvenInTReferenceIdeal.τ).loc Cert.EvenInTReferenceIdeal.main_v4) = v0 c
          ∧ r.2.mem ((c.tc : Thread Cert.EvenInTReferenceIdeal.nD Cert.EvenInTReferenceIdeal.τ).loc Cert.EvenInTReferenceIdeal.main_arg0) = m' ((c.tc : Thread Cert.EvenInTReferenceIdeal.nD Cert.EvenInTReferenceIdeal.τ).loc Cert.EvenInTReferenceIdeal.main_arg0)
          ∧ r.2.mem ((c.tc : Thread Cert.EvenInTReferenceIdeal.nD Cert.EvenInTReferenceIdeal.τ).loc Cert.EvenInTReferenceIdeal.main_arg1) = m' ((c.tc : Thread Cert.EvenInTReferenceIdeal.nD Cert.EvenInTReferenceIdeal.τ).loc Cert.EvenInTReferenceIdeal.main_arg1)
          ∧ r.2.mem ((c.tc : Thread Cert.EvenInTReferenceIdeal.nD Cert.EvenInTReferenceIdeal.τ).loc Cert.EvenInTReferenceIdeal.main_arg2) = m' ((c.tc : Thread Cert.EvenInTReferenceIdeal.nD Cert.EvenInTReferenceIdeal.τ).loc Cert.EvenInTReferenceIdeal.main_arg2))

def preserves_EvenInW_EvenInWIdeal : Prop :=
  True

def algebraic_EvenInWIdeal_EvenInWReferenceIdeal [hEvenInWIdeal : Cert.EvenInWIdeal.Facts] [hEvenInWReferenceIdeal : Cert.EvenInWReferenceIdeal.Facts] : Prop :=
  ∀ (m : (ℓ : Loc Cert.EvenInWIdeal.nD Cert.EvenInWIdeal.τ Cert.EvenInWIdeal.sig) → Buf (Elt Ideal) ℓ) (g : Dev Cert.EvenInWIdeal.nD → PrngReg)
    (m' : (ℓ : Loc Cert.EvenInWReferenceIdeal.nD Cert.EvenInWReferenceIdeal.τ Cert.EvenInWReferenceIdeal.sig) → Buf (Elt Ideal) ℓ) (g' : Dev Cert.EvenInWReferenceIdeal.nD → PrngReg), Pre_EvenInWIdeal m →
    (∀ c : Dev Cert.EvenInWIdeal.nD,
      m' ((c.tc : Thread Cert.EvenInWReferenceIdeal.nD Cert.EvenInWReferenceIdeal.τ).loc Cert.EvenInWReferenceIdeal.main_arg0) = m ((c.tc : Thread Cert.EvenInWIdeal.nD Cert.EvenInWIdeal.τ).loc Cert.EvenInWIdeal.main_arg0)
      ∧ m' ((c.tc : Thread Cert.EvenInWReferenceIdeal.nD Cert.EvenInWReferenceIdeal.τ).loc Cert.EvenInWReferenceIdeal.main_arg1) = m ((c.tc : Thread Cert.EvenInWIdeal.nD Cert.EvenInWIdeal.τ).loc Cert.EvenInWIdeal.main_arg1)
      ∧ m' ((c.tc : Thread Cert.EvenInWReferenceIdeal.nD Cert.EvenInWReferenceIdeal.τ).loc Cert.EvenInWReferenceIdeal.main_arg2) = m ((c.tc : Thread Cert.EvenInWIdeal.nD Cert.EvenInWIdeal.τ).loc Cert.EvenInWIdeal.main_arg2)) →
    ∃ (v0 : (c : Dev Cert.EvenInWIdeal.nD) → Buf (Elt Ideal) ((c.tc : Thread Cert.EvenInWIdeal.nD Cert.EvenInWIdeal.τ).loc Cert.EvenInWIdeal.main_v4)),
      θ_run (Cert.EvenInWIdeal.defs (F := Ideal)) (onTc (τ := Cert.EvenInWIdeal.τ) (Cert.EvenInWIdeal.main (F := Ideal))) ⟨m, fun _ => 0, g⟩ (fun r => ∀ c : Dev Cert.EvenInWIdeal.nD,
          r.2.mem ((c.tc : Thread Cert.EvenInWIdeal.nD Cert.EvenInWIdeal.τ).loc Cert.EvenInWIdeal.main_v4) = v0 c
          ∧ r.2.mem ((c.tc : Thread Cert.EvenInWIdeal.nD Cert.EvenInWIdeal.τ).loc Cert.EvenInWIdeal.main_arg0) = m ((c.tc : Thread Cert.EvenInWIdeal.nD Cert.EvenInWIdeal.τ).loc Cert.EvenInWIdeal.main_arg0)
          ∧ r.2.mem ((c.tc : Thread Cert.EvenInWIdeal.nD Cert.EvenInWIdeal.τ).loc Cert.EvenInWIdeal.main_arg1) = m ((c.tc : Thread Cert.EvenInWIdeal.nD Cert.EvenInWIdeal.τ).loc Cert.EvenInWIdeal.main_arg1)
          ∧ r.2.mem ((c.tc : Thread Cert.EvenInWIdeal.nD Cert.EvenInWIdeal.τ).loc Cert.EvenInWIdeal.main_arg2) = m ((c.tc : Thread Cert.EvenInWIdeal.nD Cert.EvenInWIdeal.τ).loc Cert.EvenInWIdeal.main_arg2))
      ∧ θ_run (Cert.EvenInWReferenceIdeal.defs (F := Ideal)) (onTc (τ := Cert.EvenInWReferenceIdeal.τ) (Cert.EvenInWReferenceIdeal.main (F := Ideal))) ⟨m', fun _ => 0, g'⟩ (fun r => ∀ c : Dev Cert.EvenInWReferenceIdeal.nD,
          r.2.mem ((c.tc : Thread Cert.EvenInWReferenceIdeal.nD Cert.EvenInWReferenceIdeal.τ).loc Cert.EvenInWReferenceIdeal.main_v4) = v0 c
          ∧ r.2.mem ((c.tc : Thread Cert.EvenInWReferenceIdeal.nD Cert.EvenInWReferenceIdeal.τ).loc Cert.EvenInWReferenceIdeal.main_arg0) = m' ((c.tc : Thread Cert.EvenInWReferenceIdeal.nD Cert.EvenInWReferenceIdeal.τ).loc Cert.EvenInWReferenceIdeal.main_arg0)
          ∧ r.2.mem ((c.tc : Thread Cert.EvenInWReferenceIdeal.nD Cert.EvenInWReferenceIdeal.τ).loc Cert.EvenInWReferenceIdeal.main_arg1) = m' ((c.tc : Thread Cert.EvenInWReferenceIdeal.nD Cert.EvenInWReferenceIdeal.τ).loc Cert.EvenInWReferenceIdeal.main_arg1)
          ∧ r.2.mem ((c.tc : Thread Cert.EvenInWReferenceIdeal.nD Cert.EvenInWReferenceIdeal.τ).loc Cert.EvenInWReferenceIdeal.main_arg2) = m' ((c.tc : Thread Cert.EvenInWReferenceIdeal.nD Cert.EvenInWReferenceIdeal.τ).loc Cert.EvenInWReferenceIdeal.main_arg2))

def preserves_OddIn_OddInIdeal : Prop :=
  True

def algebraic_OddInIdeal_OddInReferenceIdeal [hOddInIdeal : Cert.OddInIdeal.Facts] [hOddInReferenceIdeal : Cert.OddInReferenceIdeal.Facts] : Prop :=
  ∀ (m : (ℓ : Loc Cert.OddInIdeal.nD Cert.OddInIdeal.τ Cert.OddInIdeal.sig) → Buf (Elt Ideal) ℓ) (g : Dev Cert.OddInIdeal.nD → PrngReg)
    (m' : (ℓ : Loc Cert.OddInReferenceIdeal.nD Cert.OddInReferenceIdeal.τ Cert.OddInReferenceIdeal.sig) → Buf (Elt Ideal) ℓ) (g' : Dev Cert.OddInReferenceIdeal.nD → PrngReg), Pre_OddInIdeal m →
    (∀ c : Dev Cert.OddInIdeal.nD,
      m' ((c.tc : Thread Cert.OddInReferenceIdeal.nD Cert.OddInReferenceIdeal.τ).loc Cert.OddInReferenceIdeal.main_arg0) = m ((c.tc : Thread Cert.OddInIdeal.nD Cert.OddInIdeal.τ).loc Cert.OddInIdeal.main_arg0)
      ∧ m' ((c.tc : Thread Cert.OddInReferenceIdeal.nD Cert.OddInReferenceIdeal.τ).loc Cert.OddInReferenceIdeal.main_arg1) = m ((c.tc : Thread Cert.OddInIdeal.nD Cert.OddInIdeal.τ).loc Cert.OddInIdeal.main_arg1)) →
    ∃ (v0 : (c : Dev Cert.OddInIdeal.nD) → Buf (Elt Ideal) ((c.tc : Thread Cert.OddInIdeal.nD Cert.OddInIdeal.τ).loc Cert.OddInIdeal.main_v3)),
      θ_run (Cert.OddInIdeal.defs (F := Ideal)) (onTc (τ := Cert.OddInIdeal.τ) (Cert.OddInIdeal.main (F := Ideal))) ⟨m, fun _ => 0, g⟩ (fun r => ∀ c : Dev Cert.OddInIdeal.nD,
          r.2.mem ((c.tc : Thread Cert.OddInIdeal.nD Cert.OddInIdeal.τ).loc Cert.OddInIdeal.main_v3) = v0 c
          ∧ r.2.mem ((c.tc : Thread Cert.OddInIdeal.nD Cert.OddInIdeal.τ).loc Cert.OddInIdeal.main_arg0) = m ((c.tc : Thread Cert.OddInIdeal.nD Cert.OddInIdeal.τ).loc Cert.OddInIdeal.main_arg0)
          ∧ r.2.mem ((c.tc : Thread Cert.OddInIdeal.nD Cert.OddInIdeal.τ).loc Cert.OddInIdeal.main_arg1) = m ((c.tc : Thread Cert.OddInIdeal.nD Cert.OddInIdeal.τ).loc Cert.OddInIdeal.main_arg1))
      ∧ θ_run (Cert.OddInReferenceIdeal.defs (F := Ideal)) (onTc (τ := Cert.OddInReferenceIdeal.τ) (Cert.OddInReferenceIdeal.main (F := Ideal))) ⟨m', fun _ => 0, g'⟩ (fun r => ∀ c : Dev Cert.OddInReferenceIdeal.nD,
          r.2.mem ((c.tc : Thread Cert.OddInReferenceIdeal.nD Cert.OddInReferenceIdeal.τ).loc Cert.OddInReferenceIdeal.main_v1) = v0 c
          ∧ r.2.mem ((c.tc : Thread Cert.OddInReferenceIdeal.nD Cert.OddInReferenceIdeal.τ).loc Cert.OddInReferenceIdeal.main_arg0) = m' ((c.tc : Thread Cert.OddInReferenceIdeal.nD Cert.OddInReferenceIdeal.τ).loc Cert.OddInReferenceIdeal.main_arg0)
          ∧ r.2.mem ((c.tc : Thread Cert.OddInReferenceIdeal.nD Cert.OddInReferenceIdeal.τ).loc Cert.OddInReferenceIdeal.main_arg1) = m' ((c.tc : Thread Cert.OddInReferenceIdeal.nD Cert.OddInReferenceIdeal.τ).loc Cert.OddInReferenceIdeal.main_arg1))

def preserves_OddInT_OddInTIdeal : Prop :=
  True

def algebraic_OddInTIdeal_OddInTReferenceIdeal [hOddInTIdeal : Cert.OddInTIdeal.Facts] [hOddInTReferenceIdeal : Cert.OddInTReferenceIdeal.Facts] : Prop :=
  ∀ (m : (ℓ : Loc Cert.OddInTIdeal.nD Cert.OddInTIdeal.τ Cert.OddInTIdeal.sig) → Buf (Elt Ideal) ℓ) (g : Dev Cert.OddInTIdeal.nD → PrngReg)
    (m' : (ℓ : Loc Cert.OddInTReferenceIdeal.nD Cert.OddInTReferenceIdeal.τ Cert.OddInTReferenceIdeal.sig) → Buf (Elt Ideal) ℓ) (g' : Dev Cert.OddInTReferenceIdeal.nD → PrngReg), Pre_OddInTIdeal m →
    (∀ c : Dev Cert.OddInTIdeal.nD,
      m' ((c.tc : Thread Cert.OddInTReferenceIdeal.nD Cert.OddInTReferenceIdeal.τ).loc Cert.OddInTReferenceIdeal.main_arg0) = m ((c.tc : Thread Cert.OddInTIdeal.nD Cert.OddInTIdeal.τ).loc Cert.OddInTIdeal.main_arg0)
      ∧ m' ((c.tc : Thread Cert.OddInTReferenceIdeal.nD Cert.OddInTReferenceIdeal.τ).loc Cert.OddInTReferenceIdeal.main_arg1) = m ((c.tc : Thread Cert.OddInTIdeal.nD Cert.OddInTIdeal.τ).loc Cert.OddInTIdeal.main_arg1)
      ∧ m' ((c.tc : Thread Cert.OddInTReferenceIdeal.nD Cert.OddInTReferenceIdeal.τ).loc Cert.OddInTReferenceIdeal.main_arg2) = m ((c.tc : Thread Cert.OddInTIdeal.nD Cert.OddInTIdeal.τ).loc Cert.OddInTIdeal.main_arg2)) →
    ∃ (v0 : (c : Dev Cert.OddInTIdeal.nD) → Buf (Elt Ideal) ((c.tc : Thread Cert.OddInTIdeal.nD Cert.OddInTIdeal.τ).loc Cert.OddInTIdeal.main_v3)),
      θ_run (Cert.OddInTIdeal.defs (F := Ideal)) (onTc (τ := Cert.OddInTIdeal.τ) (Cert.OddInTIdeal.main (F := Ideal))) ⟨m, fun _ => 0, g⟩ (fun r => ∀ c : Dev Cert.OddInTIdeal.nD,
          r.2.mem ((c.tc : Thread Cert.OddInTIdeal.nD Cert.OddInTIdeal.τ).loc Cert.OddInTIdeal.main_v3) = v0 c
          ∧ r.2.mem ((c.tc : Thread Cert.OddInTIdeal.nD Cert.OddInTIdeal.τ).loc Cert.OddInTIdeal.main_arg0) = m ((c.tc : Thread Cert.OddInTIdeal.nD Cert.OddInTIdeal.τ).loc Cert.OddInTIdeal.main_arg0)
          ∧ r.2.mem ((c.tc : Thread Cert.OddInTIdeal.nD Cert.OddInTIdeal.τ).loc Cert.OddInTIdeal.main_arg1) = m ((c.tc : Thread Cert.OddInTIdeal.nD Cert.OddInTIdeal.τ).loc Cert.OddInTIdeal.main_arg1)
          ∧ r.2.mem ((c.tc : Thread Cert.OddInTIdeal.nD Cert.OddInTIdeal.τ).loc Cert.OddInTIdeal.main_arg2) = m ((c.tc : Thread Cert.OddInTIdeal.nD Cert.OddInTIdeal.τ).loc Cert.OddInTIdeal.main_arg2))
      ∧ θ_run (Cert.OddInTReferenceIdeal.defs (F := Ideal)) (onTc (τ := Cert.OddInTReferenceIdeal.τ) (Cert.OddInTReferenceIdeal.main (F := Ideal))) ⟨m', fun _ => 0, g'⟩ (fun r => ∀ c : Dev Cert.OddInTReferenceIdeal.nD,
          r.2.mem ((c.tc : Thread Cert.OddInTReferenceIdeal.nD Cert.OddInTReferenceIdeal.τ).loc Cert.OddInTReferenceIdeal.main_v4) = v0 c
          ∧ r.2.mem ((c.tc : Thread Cert.OddInTReferenceIdeal.nD Cert.OddInTReferenceIdeal.τ).loc Cert.OddInTReferenceIdeal.main_arg0) = m' ((c.tc : Thread Cert.OddInTReferenceIdeal.nD Cert.OddInTReferenceIdeal.τ).loc Cert.OddInTReferenceIdeal.main_arg0)
          ∧ r.2.mem ((c.tc : Thread Cert.OddInTReferenceIdeal.nD Cert.OddInTReferenceIdeal.τ).loc Cert.OddInTReferenceIdeal.main_arg1) = m' ((c.tc : Thread Cert.OddInTReferenceIdeal.nD Cert.OddInTReferenceIdeal.τ).loc Cert.OddInTReferenceIdeal.main_arg1)
          ∧ r.2.mem ((c.tc : Thread Cert.OddInTReferenceIdeal.nD Cert.OddInTReferenceIdeal.τ).loc Cert.OddInTReferenceIdeal.main_arg2) = m' ((c.tc : Thread Cert.OddInTReferenceIdeal.nD Cert.OddInTReferenceIdeal.τ).loc Cert.OddInTReferenceIdeal.main_arg2))

def preserves_OddInW_OddInWIdeal : Prop :=
  True

def algebraic_OddInWIdeal_OddInWReferenceIdeal [hOddInWIdeal : Cert.OddInWIdeal.Facts] [hOddInWReferenceIdeal : Cert.OddInWReferenceIdeal.Facts] : Prop :=
  ∀ (m : (ℓ : Loc Cert.OddInWIdeal.nD Cert.OddInWIdeal.τ Cert.OddInWIdeal.sig) → Buf (Elt Ideal) ℓ) (g : Dev Cert.OddInWIdeal.nD → PrngReg)
    (m' : (ℓ : Loc Cert.OddInWReferenceIdeal.nD Cert.OddInWReferenceIdeal.τ Cert.OddInWReferenceIdeal.sig) → Buf (Elt Ideal) ℓ) (g' : Dev Cert.OddInWReferenceIdeal.nD → PrngReg), Pre_OddInWIdeal m →
    (∀ c : Dev Cert.OddInWIdeal.nD,
      m' ((c.tc : Thread Cert.OddInWReferenceIdeal.nD Cert.OddInWReferenceIdeal.τ).loc Cert.OddInWReferenceIdeal.main_arg0) = m ((c.tc : Thread Cert.OddInWIdeal.nD Cert.OddInWIdeal.τ).loc Cert.OddInWIdeal.main_arg0)
      ∧ m' ((c.tc : Thread Cert.OddInWReferenceIdeal.nD Cert.OddInWReferenceIdeal.τ).loc Cert.OddInWReferenceIdeal.main_arg1) = m ((c.tc : Thread Cert.OddInWIdeal.nD Cert.OddInWIdeal.τ).loc Cert.OddInWIdeal.main_arg1)
      ∧ m' ((c.tc : Thread Cert.OddInWReferenceIdeal.nD Cert.OddInWReferenceIdeal.τ).loc Cert.OddInWReferenceIdeal.main_arg2) = m ((c.tc : Thread Cert.OddInWIdeal.nD Cert.OddInWIdeal.τ).loc Cert.OddInWIdeal.main_arg2)) →
    ∃ (v0 : (c : Dev Cert.OddInWIdeal.nD) → Buf (Elt Ideal) ((c.tc : Thread Cert.OddInWIdeal.nD Cert.OddInWIdeal.τ).loc Cert.OddInWIdeal.main_v4)),
      θ_run (Cert.OddInWIdeal.defs (F := Ideal)) (onTc (τ := Cert.OddInWIdeal.τ) (Cert.OddInWIdeal.main (F := Ideal))) ⟨m, fun _ => 0, g⟩ (fun r => ∀ c : Dev Cert.OddInWIdeal.nD,
          r.2.mem ((c.tc : Thread Cert.OddInWIdeal.nD Cert.OddInWIdeal.τ).loc Cert.OddInWIdeal.main_v4) = v0 c
          ∧ r.2.mem ((c.tc : Thread Cert.OddInWIdeal.nD Cert.OddInWIdeal.τ).loc Cert.OddInWIdeal.main_arg0) = m ((c.tc : Thread Cert.OddInWIdeal.nD Cert.OddInWIdeal.τ).loc Cert.OddInWIdeal.main_arg0)
          ∧ r.2.mem ((c.tc : Thread Cert.OddInWIdeal.nD Cert.OddInWIdeal.τ).loc Cert.OddInWIdeal.main_arg1) = m ((c.tc : Thread Cert.OddInWIdeal.nD Cert.OddInWIdeal.τ).loc Cert.OddInWIdeal.main_arg1)
          ∧ r.2.mem ((c.tc : Thread Cert.OddInWIdeal.nD Cert.OddInWIdeal.τ).loc Cert.OddInWIdeal.main_arg2) = m ((c.tc : Thread Cert.OddInWIdeal.nD Cert.OddInWIdeal.τ).loc Cert.OddInWIdeal.main_arg2))
      ∧ θ_run (Cert.OddInWReferenceIdeal.defs (F := Ideal)) (onTc (τ := Cert.OddInWReferenceIdeal.τ) (Cert.OddInWReferenceIdeal.main (F := Ideal))) ⟨m', fun _ => 0, g'⟩ (fun r => ∀ c : Dev Cert.OddInWReferenceIdeal.nD,
          r.2.mem ((c.tc : Thread Cert.OddInWReferenceIdeal.nD Cert.OddInWReferenceIdeal.τ).loc Cert.OddInWReferenceIdeal.main_v4) = v0 c
          ∧ r.2.mem ((c.tc : Thread Cert.OddInWReferenceIdeal.nD Cert.OddInWReferenceIdeal.τ).loc Cert.OddInWReferenceIdeal.main_arg0) = m' ((c.tc : Thread Cert.OddInWReferenceIdeal.nD Cert.OddInWReferenceIdeal.τ).loc Cert.OddInWReferenceIdeal.main_arg0)
          ∧ r.2.mem ((c.tc : Thread Cert.OddInWReferenceIdeal.nD Cert.OddInWReferenceIdeal.τ).loc Cert.OddInWReferenceIdeal.main_arg1) = m' ((c.tc : Thread Cert.OddInWReferenceIdeal.nD Cert.OddInWReferenceIdeal.τ).loc Cert.OddInWReferenceIdeal.main_arg1)
          ∧ r.2.mem ((c.tc : Thread Cert.OddInWReferenceIdeal.nD Cert.OddInWReferenceIdeal.τ).loc Cert.OddInWReferenceIdeal.main_arg2) = m' ((c.tc : Thread Cert.OddInWReferenceIdeal.nD Cert.OddInWReferenceIdeal.τ).loc Cert.OddInWReferenceIdeal.main_arg2))

def preserves_MlaQ_MlaQIdeal : Prop :=
  True

def algebraic_MlaQIdeal_MlaQReferenceIdeal [hMlaQIdeal : Cert.MlaQIdeal.Facts] [hMlaQReferenceIdeal : Cert.MlaQReferenceIdeal.Facts] : Prop :=
  ∀ (m : (ℓ : Loc Cert.MlaQIdeal.nD Cert.MlaQIdeal.τ Cert.MlaQIdeal.sig) → Buf (Elt Ideal) ℓ) (g : Dev Cert.MlaQIdeal.nD → PrngReg)
    (m' : (ℓ : Loc Cert.MlaQReferenceIdeal.nD Cert.MlaQReferenceIdeal.τ Cert.MlaQReferenceIdeal.sig) → Buf (Elt Ideal) ℓ) (g' : Dev Cert.MlaQReferenceIdeal.nD → PrngReg), Pre_MlaQIdeal m →
    (∀ c : Dev Cert.MlaQIdeal.nD,
      m' ((c.tc : Thread Cert.MlaQReferenceIdeal.nD Cert.MlaQReferenceIdeal.τ).loc Cert.MlaQReferenceIdeal.main_arg0) = m ((c.tc : Thread Cert.MlaQIdeal.nD Cert.MlaQIdeal.τ).loc Cert.MlaQIdeal.main_arg0)
      ∧ m' ((c.tc : Thread Cert.MlaQReferenceIdeal.nD Cert.MlaQReferenceIdeal.τ).loc Cert.MlaQReferenceIdeal.main_arg1) = m ((c.tc : Thread Cert.MlaQIdeal.nD Cert.MlaQIdeal.τ).loc Cert.MlaQIdeal.main_arg1)) →
    ∃ (v0 : (c : Dev Cert.MlaQIdeal.nD) → Buf (Elt Ideal) ((c.tc : Thread Cert.MlaQIdeal.nD Cert.MlaQIdeal.τ).loc Cert.MlaQIdeal.main_v3)),
      θ_run (Cert.MlaQIdeal.defs (F := Ideal)) (onTc (τ := Cert.MlaQIdeal.τ) (Cert.MlaQIdeal.main (F := Ideal))) ⟨m, fun _ => 0, g⟩ (fun r => ∀ c : Dev Cert.MlaQIdeal.nD,
          r.2.mem ((c.tc : Thread Cert.MlaQIdeal.nD Cert.MlaQIdeal.τ).loc Cert.MlaQIdeal.main_v3) = v0 c
          ∧ r.2.mem ((c.tc : Thread Cert.MlaQIdeal.nD Cert.MlaQIdeal.τ).loc Cert.MlaQIdeal.main_arg0) = m ((c.tc : Thread Cert.MlaQIdeal.nD Cert.MlaQIdeal.τ).loc Cert.MlaQIdeal.main_arg0)
          ∧ r.2.mem ((c.tc : Thread Cert.MlaQIdeal.nD Cert.MlaQIdeal.τ).loc Cert.MlaQIdeal.main_arg1) = m ((c.tc : Thread Cert.MlaQIdeal.nD Cert.MlaQIdeal.τ).loc Cert.MlaQIdeal.main_arg1))
      ∧ θ_run (Cert.MlaQReferenceIdeal.defs (F := Ideal)) (onTc (τ := Cert.MlaQReferenceIdeal.τ) (Cert.MlaQReferenceIdeal.main (F := Ideal))) ⟨m', fun _ => 0, g'⟩ (fun r => ∀ c : Dev Cert.MlaQReferenceIdeal.nD,
          r.2.mem ((c.tc : Thread Cert.MlaQReferenceIdeal.nD Cert.MlaQReferenceIdeal.τ).loc Cert.MlaQReferenceIdeal.main_v1) = v0 c
          ∧ r.2.mem ((c.tc : Thread Cert.MlaQReferenceIdeal.nD Cert.MlaQReferenceIdeal.τ).loc Cert.MlaQReferenceIdeal.main_arg0) = m' ((c.tc : Thread Cert.MlaQReferenceIdeal.nD Cert.MlaQReferenceIdeal.τ).loc Cert.MlaQReferenceIdeal.main_arg0)
          ∧ r.2.mem ((c.tc : Thread Cert.MlaQReferenceIdeal.nD Cert.MlaQReferenceIdeal.τ).loc Cert.MlaQReferenceIdeal.main_arg1) = m' ((c.tc : Thread Cert.MlaQReferenceIdeal.nD Cert.MlaQReferenceIdeal.τ).loc Cert.MlaQReferenceIdeal.main_arg1))

def preserves_MlaQT_MlaQTIdeal : Prop :=
  True

def algebraic_MlaQTIdeal_MlaQTReferenceIdeal [hMlaQTIdeal : Cert.MlaQTIdeal.Facts] [hMlaQTReferenceIdeal : Cert.MlaQTReferenceIdeal.Facts] : Prop :=
  ∀ (m : (ℓ : Loc Cert.MlaQTIdeal.nD Cert.MlaQTIdeal.τ Cert.MlaQTIdeal.sig) → Buf (Elt Ideal) ℓ) (g : Dev Cert.MlaQTIdeal.nD → PrngReg)
    (m' : (ℓ : Loc Cert.MlaQTReferenceIdeal.nD Cert.MlaQTReferenceIdeal.τ Cert.MlaQTReferenceIdeal.sig) → Buf (Elt Ideal) ℓ) (g' : Dev Cert.MlaQTReferenceIdeal.nD → PrngReg), Pre_MlaQTIdeal m →
    (∀ c : Dev Cert.MlaQTIdeal.nD,
      m' ((c.tc : Thread Cert.MlaQTReferenceIdeal.nD Cert.MlaQTReferenceIdeal.τ).loc Cert.MlaQTReferenceIdeal.main_arg0) = m ((c.tc : Thread Cert.MlaQTIdeal.nD Cert.MlaQTIdeal.τ).loc Cert.MlaQTIdeal.main_arg0)
      ∧ m' ((c.tc : Thread Cert.MlaQTReferenceIdeal.nD Cert.MlaQTReferenceIdeal.τ).loc Cert.MlaQTReferenceIdeal.main_arg1) = m ((c.tc : Thread Cert.MlaQTIdeal.nD Cert.MlaQTIdeal.τ).loc Cert.MlaQTIdeal.main_arg1)
      ∧ m' ((c.tc : Thread Cert.MlaQTReferenceIdeal.nD Cert.MlaQTReferenceIdeal.τ).loc Cert.MlaQTReferenceIdeal.main_arg2) = m ((c.tc : Thread Cert.MlaQTIdeal.nD Cert.MlaQTIdeal.τ).loc Cert.MlaQTIdeal.main_arg2)) →
    ∃ (v0 : (c : Dev Cert.MlaQTIdeal.nD) → Buf (Elt Ideal) ((c.tc : Thread Cert.MlaQTIdeal.nD Cert.MlaQTIdeal.τ).loc Cert.MlaQTIdeal.main_v3)),
      θ_run (Cert.MlaQTIdeal.defs (F := Ideal)) (onTc (τ := Cert.MlaQTIdeal.τ) (Cert.MlaQTIdeal.main (F := Ideal))) ⟨m, fun _ => 0, g⟩ (fun r => ∀ c : Dev Cert.MlaQTIdeal.nD,
          r.2.mem ((c.tc : Thread Cert.MlaQTIdeal.nD Cert.MlaQTIdeal.τ).loc Cert.MlaQTIdeal.main_v3) = v0 c
          ∧ r.2.mem ((c.tc : Thread Cert.MlaQTIdeal.nD Cert.MlaQTIdeal.τ).loc Cert.MlaQTIdeal.main_arg0) = m ((c.tc : Thread Cert.MlaQTIdeal.nD Cert.MlaQTIdeal.τ).loc Cert.MlaQTIdeal.main_arg0)
          ∧ r.2.mem ((c.tc : Thread Cert.MlaQTIdeal.nD Cert.MlaQTIdeal.τ).loc Cert.MlaQTIdeal.main_arg1) = m ((c.tc : Thread Cert.MlaQTIdeal.nD Cert.MlaQTIdeal.τ).loc Cert.MlaQTIdeal.main_arg1)
          ∧ r.2.mem ((c.tc : Thread Cert.MlaQTIdeal.nD Cert.MlaQTIdeal.τ).loc Cert.MlaQTIdeal.main_arg2) = m ((c.tc : Thread Cert.MlaQTIdeal.nD Cert.MlaQTIdeal.τ).loc Cert.MlaQTIdeal.main_arg2))
      ∧ θ_run (Cert.MlaQTReferenceIdeal.defs (F := Ideal)) (onTc (τ := Cert.MlaQTReferenceIdeal.τ) (Cert.MlaQTReferenceIdeal.main (F := Ideal))) ⟨m', fun _ => 0, g'⟩ (fun r => ∀ c : Dev Cert.MlaQTReferenceIdeal.nD,
          r.2.mem ((c.tc : Thread Cert.MlaQTReferenceIdeal.nD Cert.MlaQTReferenceIdeal.τ).loc Cert.MlaQTReferenceIdeal.main_v4) = v0 c
          ∧ r.2.mem ((c.tc : Thread Cert.MlaQTReferenceIdeal.nD Cert.MlaQTReferenceIdeal.τ).loc Cert.MlaQTReferenceIdeal.main_arg0) = m' ((c.tc : Thread Cert.MlaQTReferenceIdeal.nD Cert.MlaQTReferenceIdeal.τ).loc Cert.MlaQTReferenceIdeal.main_arg0)
          ∧ r.2.mem ((c.tc : Thread Cert.MlaQTReferenceIdeal.nD Cert.MlaQTReferenceIdeal.τ).loc Cert.MlaQTReferenceIdeal.main_arg1) = m' ((c.tc : Thread Cert.MlaQTReferenceIdeal.nD Cert.MlaQTReferenceIdeal.τ).loc Cert.MlaQTReferenceIdeal.main_arg1)
          ∧ r.2.mem ((c.tc : Thread Cert.MlaQTReferenceIdeal.nD Cert.MlaQTReferenceIdeal.τ).loc Cert.MlaQTReferenceIdeal.main_arg2) = m' ((c.tc : Thread Cert.MlaQTReferenceIdeal.nD Cert.MlaQTReferenceIdeal.τ).loc Cert.MlaQTReferenceIdeal.main_arg2))

def preserves_MlaQW_MlaQWIdeal : Prop :=
  True

def algebraic_MlaQWIdeal_MlaQWReferenceIdeal [hMlaQWIdeal : Cert.MlaQWIdeal.Facts] [hMlaQWReferenceIdeal : Cert.MlaQWReferenceIdeal.Facts] : Prop :=
  ∀ (m : (ℓ : Loc Cert.MlaQWIdeal.nD Cert.MlaQWIdeal.τ Cert.MlaQWIdeal.sig) → Buf (Elt Ideal) ℓ) (g : Dev Cert.MlaQWIdeal.nD → PrngReg)
    (m' : (ℓ : Loc Cert.MlaQWReferenceIdeal.nD Cert.MlaQWReferenceIdeal.τ Cert.MlaQWReferenceIdeal.sig) → Buf (Elt Ideal) ℓ) (g' : Dev Cert.MlaQWReferenceIdeal.nD → PrngReg), Pre_MlaQWIdeal m →
    (∀ c : Dev Cert.MlaQWIdeal.nD,
      m' ((c.tc : Thread Cert.MlaQWReferenceIdeal.nD Cert.MlaQWReferenceIdeal.τ).loc Cert.MlaQWReferenceIdeal.main_arg0) = m ((c.tc : Thread Cert.MlaQWIdeal.nD Cert.MlaQWIdeal.τ).loc Cert.MlaQWIdeal.main_arg0)
      ∧ m' ((c.tc : Thread Cert.MlaQWReferenceIdeal.nD Cert.MlaQWReferenceIdeal.τ).loc Cert.MlaQWReferenceIdeal.main_arg1) = m ((c.tc : Thread Cert.MlaQWIdeal.nD Cert.MlaQWIdeal.τ).loc Cert.MlaQWIdeal.main_arg1)
      ∧ m' ((c.tc : Thread Cert.MlaQWReferenceIdeal.nD Cert.MlaQWReferenceIdeal.τ).loc Cert.MlaQWReferenceIdeal.main_arg2) = m ((c.tc : Thread Cert.MlaQWIdeal.nD Cert.MlaQWIdeal.τ).loc Cert.MlaQWIdeal.main_arg2)) →
    ∃ (v0 : (c : Dev Cert.MlaQWIdeal.nD) → Buf (Elt Ideal) ((c.tc : Thread Cert.MlaQWIdeal.nD Cert.MlaQWIdeal.τ).loc Cert.MlaQWIdeal.main_v4)),
      θ_run (Cert.MlaQWIdeal.defs (F := Ideal)) (onTc (τ := Cert.MlaQWIdeal.τ) (Cert.MlaQWIdeal.main (F := Ideal))) ⟨m, fun _ => 0, g⟩ (fun r => ∀ c : Dev Cert.MlaQWIdeal.nD,
          r.2.mem ((c.tc : Thread Cert.MlaQWIdeal.nD Cert.MlaQWIdeal.τ).loc Cert.MlaQWIdeal.main_v4) = v0 c
          ∧ r.2.mem ((c.tc : Thread Cert.MlaQWIdeal.nD Cert.MlaQWIdeal.τ).loc Cert.MlaQWIdeal.main_arg0) = m ((c.tc : Thread Cert.MlaQWIdeal.nD Cert.MlaQWIdeal.τ).loc Cert.MlaQWIdeal.main_arg0)
          ∧ r.2.mem ((c.tc : Thread Cert.MlaQWIdeal.nD Cert.MlaQWIdeal.τ).loc Cert.MlaQWIdeal.main_arg1) = m ((c.tc : Thread Cert.MlaQWIdeal.nD Cert.MlaQWIdeal.τ).loc Cert.MlaQWIdeal.main_arg1)
          ∧ r.2.mem ((c.tc : Thread Cert.MlaQWIdeal.nD Cert.MlaQWIdeal.τ).loc Cert.MlaQWIdeal.main_arg2) = m ((c.tc : Thread Cert.MlaQWIdeal.nD Cert.MlaQWIdeal.τ).loc Cert.MlaQWIdeal.main_arg2))
      ∧ θ_run (Cert.MlaQWReferenceIdeal.defs (F := Ideal)) (onTc (τ := Cert.MlaQWReferenceIdeal.τ) (Cert.MlaQWReferenceIdeal.main (F := Ideal))) ⟨m', fun _ => 0, g'⟩ (fun r => ∀ c : Dev Cert.MlaQWReferenceIdeal.nD,
          r.2.mem ((c.tc : Thread Cert.MlaQWReferenceIdeal.nD Cert.MlaQWReferenceIdeal.τ).loc Cert.MlaQWReferenceIdeal.main_v4) = v0 c
          ∧ r.2.mem ((c.tc : Thread Cert.MlaQWReferenceIdeal.nD Cert.MlaQWReferenceIdeal.τ).loc Cert.MlaQWReferenceIdeal.main_arg0) = m' ((c.tc : Thread Cert.MlaQWReferenceIdeal.nD Cert.MlaQWReferenceIdeal.τ).loc Cert.MlaQWReferenceIdeal.main_arg0)
          ∧ r.2.mem ((c.tc : Thread Cert.MlaQWReferenceIdeal.nD Cert.MlaQWReferenceIdeal.τ).loc Cert.MlaQWReferenceIdeal.main_arg1) = m' ((c.tc : Thread Cert.MlaQWReferenceIdeal.nD Cert.MlaQWReferenceIdeal.τ).loc Cert.MlaQWReferenceIdeal.main_arg1)
          ∧ r.2.mem ((c.tc : Thread Cert.MlaQWReferenceIdeal.nD Cert.MlaQWReferenceIdeal.τ).loc Cert.MlaQWReferenceIdeal.main_arg2) = m' ((c.tc : Thread Cert.MlaQWReferenceIdeal.nD Cert.MlaQWReferenceIdeal.τ).loc Cert.MlaQWReferenceIdeal.main_arg2))

def preserves_MlaKv_MlaKvIdeal : Prop :=
  True

def algebraic_MlaKvIdeal_MlaKvReferenceIdeal [hMlaKvIdeal : Cert.MlaKvIdeal.Facts] [hMlaKvReferenceIdeal : Cert.MlaKvReferenceIdeal.Facts] : Prop :=
  ∀ (m : (ℓ : Loc Cert.MlaKvIdeal.nD Cert.MlaKvIdeal.τ Cert.MlaKvIdeal.sig) → Buf (Elt Ideal) ℓ) (g : Dev Cert.MlaKvIdeal.nD → PrngReg)
    (m' : (ℓ : Loc Cert.MlaKvReferenceIdeal.nD Cert.MlaKvReferenceIdeal.τ Cert.MlaKvReferenceIdeal.sig) → Buf (Elt Ideal) ℓ) (g' : Dev Cert.MlaKvReferenceIdeal.nD → PrngReg), Pre_MlaKvIdeal m →
    (∀ c : Dev Cert.MlaKvIdeal.nD,
      m' ((c.tc : Thread Cert.MlaKvReferenceIdeal.nD Cert.MlaKvReferenceIdeal.τ).loc Cert.MlaKvReferenceIdeal.main_arg0) = m ((c.tc : Thread Cert.MlaKvIdeal.nD Cert.MlaKvIdeal.τ).loc Cert.MlaKvIdeal.main_arg0)
      ∧ m' ((c.tc : Thread Cert.MlaKvReferenceIdeal.nD Cert.MlaKvReferenceIdeal.τ).loc Cert.MlaKvReferenceIdeal.main_arg1) = m ((c.tc : Thread Cert.MlaKvIdeal.nD Cert.MlaKvIdeal.τ).loc Cert.MlaKvIdeal.main_arg1)) →
    ∃ (v0 : (c : Dev Cert.MlaKvIdeal.nD) → Buf (Elt Ideal) ((c.tc : Thread Cert.MlaKvIdeal.nD Cert.MlaKvIdeal.τ).loc Cert.MlaKvIdeal.main_v3)),
      θ_run (Cert.MlaKvIdeal.defs (F := Ideal)) (onTc (τ := Cert.MlaKvIdeal.τ) (Cert.MlaKvIdeal.main (F := Ideal))) ⟨m, fun _ => 0, g⟩ (fun r => ∀ c : Dev Cert.MlaKvIdeal.nD,
          r.2.mem ((c.tc : Thread Cert.MlaKvIdeal.nD Cert.MlaKvIdeal.τ).loc Cert.MlaKvIdeal.main_v3) = v0 c
          ∧ r.2.mem ((c.tc : Thread Cert.MlaKvIdeal.nD Cert.MlaKvIdeal.τ).loc Cert.MlaKvIdeal.main_arg0) = m ((c.tc : Thread Cert.MlaKvIdeal.nD Cert.MlaKvIdeal.τ).loc Cert.MlaKvIdeal.main_arg0)
          ∧ r.2.mem ((c.tc : Thread Cert.MlaKvIdeal.nD Cert.MlaKvIdeal.τ).loc Cert.MlaKvIdeal.main_arg1) = m ((c.tc : Thread Cert.MlaKvIdeal.nD Cert.MlaKvIdeal.τ).loc Cert.MlaKvIdeal.main_arg1))
      ∧ θ_run (Cert.MlaKvReferenceIdeal.defs (F := Ideal)) (onTc (τ := Cert.MlaKvReferenceIdeal.τ) (Cert.MlaKvReferenceIdeal.main (F := Ideal))) ⟨m', fun _ => 0, g'⟩ (fun r => ∀ c : Dev Cert.MlaKvReferenceIdeal.nD,
          r.2.mem ((c.tc : Thread Cert.MlaKvReferenceIdeal.nD Cert.MlaKvReferenceIdeal.τ).loc Cert.MlaKvReferenceIdeal.main_v1) = v0 c
          ∧ r.2.mem ((c.tc : Thread Cert.MlaKvReferenceIdeal.nD Cert.MlaKvReferenceIdeal.τ).loc Cert.MlaKvReferenceIdeal.main_arg0) = m' ((c.tc : Thread Cert.MlaKvReferenceIdeal.nD Cert.MlaKvReferenceIdeal.τ).loc Cert.MlaKvReferenceIdeal.main_arg0)
          ∧ r.2.mem ((c.tc : Thread Cert.MlaKvReferenceIdeal.nD Cert.MlaKvReferenceIdeal.τ).loc Cert.MlaKvReferenceIdeal.main_arg1) = m' ((c.tc : Thread Cert.MlaKvReferenceIdeal.nD Cert.MlaKvReferenceIdeal.τ).loc Cert.MlaKvReferenceIdeal.main_arg1))

def preserves_MlaKvT_MlaKvTIdeal : Prop :=
  True

def algebraic_MlaKvTIdeal_MlaKvTReferenceIdeal [hMlaKvTIdeal : Cert.MlaKvTIdeal.Facts] [hMlaKvTReferenceIdeal : Cert.MlaKvTReferenceIdeal.Facts] : Prop :=
  ∀ (m : (ℓ : Loc Cert.MlaKvTIdeal.nD Cert.MlaKvTIdeal.τ Cert.MlaKvTIdeal.sig) → Buf (Elt Ideal) ℓ) (g : Dev Cert.MlaKvTIdeal.nD → PrngReg)
    (m' : (ℓ : Loc Cert.MlaKvTReferenceIdeal.nD Cert.MlaKvTReferenceIdeal.τ Cert.MlaKvTReferenceIdeal.sig) → Buf (Elt Ideal) ℓ) (g' : Dev Cert.MlaKvTReferenceIdeal.nD → PrngReg), Pre_MlaKvTIdeal m →
    (∀ c : Dev Cert.MlaKvTIdeal.nD,
      m' ((c.tc : Thread Cert.MlaKvTReferenceIdeal.nD Cert.MlaKvTReferenceIdeal.τ).loc Cert.MlaKvTReferenceIdeal.main_arg0) = m ((c.tc : Thread Cert.MlaKvTIdeal.nD Cert.MlaKvTIdeal.τ).loc Cert.MlaKvTIdeal.main_arg0)
      ∧ m' ((c.tc : Thread Cert.MlaKvTReferenceIdeal.nD Cert.MlaKvTReferenceIdeal.τ).loc Cert.MlaKvTReferenceIdeal.main_arg1) = m ((c.tc : Thread Cert.MlaKvTIdeal.nD Cert.MlaKvTIdeal.τ).loc Cert.MlaKvTIdeal.main_arg1)
      ∧ m' ((c.tc : Thread Cert.MlaKvTReferenceIdeal.nD Cert.MlaKvTReferenceIdeal.τ).loc Cert.MlaKvTReferenceIdeal.main_arg2) = m ((c.tc : Thread Cert.MlaKvTIdeal.nD Cert.MlaKvTIdeal.τ).loc Cert.MlaKvTIdeal.main_arg2)) →
    ∃ (v0 : (c : Dev Cert.MlaKvTIdeal.nD) → Buf (Elt Ideal) ((c.tc : Thread Cert.MlaKvTIdeal.nD Cert.MlaKvTIdeal.τ).loc Cert.MlaKvTIdeal.main_v3)),
      θ_run (Cert.MlaKvTIdeal.defs (F := Ideal)) (onTc (τ := Cert.MlaKvTIdeal.τ) (Cert.MlaKvTIdeal.main (F := Ideal))) ⟨m, fun _ => 0, g⟩ (fun r => ∀ c : Dev Cert.MlaKvTIdeal.nD,
          r.2.mem ((c.tc : Thread Cert.MlaKvTIdeal.nD Cert.MlaKvTIdeal.τ).loc Cert.MlaKvTIdeal.main_v3) = v0 c
          ∧ r.2.mem ((c.tc : Thread Cert.MlaKvTIdeal.nD Cert.MlaKvTIdeal.τ).loc Cert.MlaKvTIdeal.main_arg0) = m ((c.tc : Thread Cert.MlaKvTIdeal.nD Cert.MlaKvTIdeal.τ).loc Cert.MlaKvTIdeal.main_arg0)
          ∧ r.2.mem ((c.tc : Thread Cert.MlaKvTIdeal.nD Cert.MlaKvTIdeal.τ).loc Cert.MlaKvTIdeal.main_arg1) = m ((c.tc : Thread Cert.MlaKvTIdeal.nD Cert.MlaKvTIdeal.τ).loc Cert.MlaKvTIdeal.main_arg1)
          ∧ r.2.mem ((c.tc : Thread Cert.MlaKvTIdeal.nD Cert.MlaKvTIdeal.τ).loc Cert.MlaKvTIdeal.main_arg2) = m ((c.tc : Thread Cert.MlaKvTIdeal.nD Cert.MlaKvTIdeal.τ).loc Cert.MlaKvTIdeal.main_arg2))
      ∧ θ_run (Cert.MlaKvTReferenceIdeal.defs (F := Ideal)) (onTc (τ := Cert.MlaKvTReferenceIdeal.τ) (Cert.MlaKvTReferenceIdeal.main (F := Ideal))) ⟨m', fun _ => 0, g'⟩ (fun r => ∀ c : Dev Cert.MlaKvTReferenceIdeal.nD,
          r.2.mem ((c.tc : Thread Cert.MlaKvTReferenceIdeal.nD Cert.MlaKvTReferenceIdeal.τ).loc Cert.MlaKvTReferenceIdeal.main_v4) = v0 c
          ∧ r.2.mem ((c.tc : Thread Cert.MlaKvTReferenceIdeal.nD Cert.MlaKvTReferenceIdeal.τ).loc Cert.MlaKvTReferenceIdeal.main_arg0) = m' ((c.tc : Thread Cert.MlaKvTReferenceIdeal.nD Cert.MlaKvTReferenceIdeal.τ).loc Cert.MlaKvTReferenceIdeal.main_arg0)
          ∧ r.2.mem ((c.tc : Thread Cert.MlaKvTReferenceIdeal.nD Cert.MlaKvTReferenceIdeal.τ).loc Cert.MlaKvTReferenceIdeal.main_arg1) = m' ((c.tc : Thread Cert.MlaKvTReferenceIdeal.nD Cert.MlaKvTReferenceIdeal.τ).loc Cert.MlaKvTReferenceIdeal.main_arg1)
          ∧ r.2.mem ((c.tc : Thread Cert.MlaKvTReferenceIdeal.nD Cert.MlaKvTReferenceIdeal.τ).loc Cert.MlaKvTReferenceIdeal.main_arg2) = m' ((c.tc : Thread Cert.MlaKvTReferenceIdeal.nD Cert.MlaKvTReferenceIdeal.τ).loc Cert.MlaKvTReferenceIdeal.main_arg2))

def preserves_MlaKvW_MlaKvWIdeal : Prop :=
  True

def algebraic_MlaKvWIdeal_MlaKvWReferenceIdeal [hMlaKvWIdeal : Cert.MlaKvWIdeal.Facts] [hMlaKvWReferenceIdeal : Cert.MlaKvWReferenceIdeal.Facts] : Prop :=
  ∀ (m : (ℓ : Loc Cert.MlaKvWIdeal.nD Cert.MlaKvWIdeal.τ Cert.MlaKvWIdeal.sig) → Buf (Elt Ideal) ℓ) (g : Dev Cert.MlaKvWIdeal.nD → PrngReg)
    (m' : (ℓ : Loc Cert.MlaKvWReferenceIdeal.nD Cert.MlaKvWReferenceIdeal.τ Cert.MlaKvWReferenceIdeal.sig) → Buf (Elt Ideal) ℓ) (g' : Dev Cert.MlaKvWReferenceIdeal.nD → PrngReg), Pre_MlaKvWIdeal m →
    (∀ c : Dev Cert.MlaKvWIdeal.nD,
      m' ((c.tc : Thread Cert.MlaKvWReferenceIdeal.nD Cert.MlaKvWReferenceIdeal.τ).loc Cert.MlaKvWReferenceIdeal.main_arg0) = m ((c.tc : Thread Cert.MlaKvWIdeal.nD Cert.MlaKvWIdeal.τ).loc Cert.MlaKvWIdeal.main_arg0)
      ∧ m' ((c.tc : Thread Cert.MlaKvWReferenceIdeal.nD Cert.MlaKvWReferenceIdeal.τ).loc Cert.MlaKvWReferenceIdeal.main_arg1) = m ((c.tc : Thread Cert.MlaKvWIdeal.nD Cert.MlaKvWIdeal.τ).loc Cert.MlaKvWIdeal.main_arg1)
      ∧ m' ((c.tc : Thread Cert.MlaKvWReferenceIdeal.nD Cert.MlaKvWReferenceIdeal.τ).loc Cert.MlaKvWReferenceIdeal.main_arg2) = m ((c.tc : Thread Cert.MlaKvWIdeal.nD Cert.MlaKvWIdeal.τ).loc Cert.MlaKvWIdeal.main_arg2)) →
    ∃ (v0 : (c : Dev Cert.MlaKvWIdeal.nD) → Buf (Elt Ideal) ((c.tc : Thread Cert.MlaKvWIdeal.nD Cert.MlaKvWIdeal.τ).loc Cert.MlaKvWIdeal.main_v4)),
      θ_run (Cert.MlaKvWIdeal.defs (F := Ideal)) (onTc (τ := Cert.MlaKvWIdeal.τ) (Cert.MlaKvWIdeal.main (F := Ideal))) ⟨m, fun _ => 0, g⟩ (fun r => ∀ c : Dev Cert.MlaKvWIdeal.nD,
          r.2.mem ((c.tc : Thread Cert.MlaKvWIdeal.nD Cert.MlaKvWIdeal.τ).loc Cert.MlaKvWIdeal.main_v4) = v0 c
          ∧ r.2.mem ((c.tc : Thread Cert.MlaKvWIdeal.nD Cert.MlaKvWIdeal.τ).loc Cert.MlaKvWIdeal.main_arg0) = m ((c.tc : Thread Cert.MlaKvWIdeal.nD Cert.MlaKvWIdeal.τ).loc Cert.MlaKvWIdeal.main_arg0)
          ∧ r.2.mem ((c.tc : Thread Cert.MlaKvWIdeal.nD Cert.MlaKvWIdeal.τ).loc Cert.MlaKvWIdeal.main_arg1) = m ((c.tc : Thread Cert.MlaKvWIdeal.nD Cert.MlaKvWIdeal.τ).loc Cert.MlaKvWIdeal.main_arg1)
          ∧ r.2.mem ((c.tc : Thread Cert.MlaKvWIdeal.nD Cert.MlaKvWIdeal.τ).loc Cert.MlaKvWIdeal.main_arg2) = m ((c.tc : Thread Cert.MlaKvWIdeal.nD Cert.MlaKvWIdeal.τ).loc Cert.MlaKvWIdeal.main_arg2))
      ∧ θ_run (Cert.MlaKvWReferenceIdeal.defs (F := Ideal)) (onTc (τ := Cert.MlaKvWReferenceIdeal.τ) (Cert.MlaKvWReferenceIdeal.main (F := Ideal))) ⟨m', fun _ => 0, g'⟩ (fun r => ∀ c : Dev Cert.MlaKvWReferenceIdeal.nD,
          r.2.mem ((c.tc : Thread Cert.MlaKvWReferenceIdeal.nD Cert.MlaKvWReferenceIdeal.τ).loc Cert.MlaKvWReferenceIdeal.main_v4) = v0 c
          ∧ r.2.mem ((c.tc : Thread Cert.MlaKvWReferenceIdeal.nD Cert.MlaKvWReferenceIdeal.τ).loc Cert.MlaKvWReferenceIdeal.main_arg0) = m' ((c.tc : Thread Cert.MlaKvWReferenceIdeal.nD Cert.MlaKvWReferenceIdeal.τ).loc Cert.MlaKvWReferenceIdeal.main_arg0)
          ∧ r.2.mem ((c.tc : Thread Cert.MlaKvWReferenceIdeal.nD Cert.MlaKvWReferenceIdeal.τ).loc Cert.MlaKvWReferenceIdeal.main_arg1) = m' ((c.tc : Thread Cert.MlaKvWReferenceIdeal.nD Cert.MlaKvWReferenceIdeal.τ).loc Cert.MlaKvWReferenceIdeal.main_arg1)
          ∧ r.2.mem ((c.tc : Thread Cert.MlaKvWReferenceIdeal.nD Cert.MlaKvWReferenceIdeal.τ).loc Cert.MlaKvWReferenceIdeal.main_arg2) = m' ((c.tc : Thread Cert.MlaKvWReferenceIdeal.nD Cert.MlaKvWReferenceIdeal.τ).loc Cert.MlaKvWReferenceIdeal.main_arg2))

def preserves_Mix_MixIdeal : Prop :=
  True

def algebraic_MixIdeal_MixReferenceIdeal [hMixIdeal : Cert.MixIdeal.Facts] [hMixReferenceIdeal : Cert.MixReferenceIdeal.Facts] : Prop :=
  ∀ (m : (ℓ : Loc Cert.MixIdeal.nD Cert.MixIdeal.τ Cert.MixIdeal.sig) → Buf (Elt Ideal) ℓ) (g : Dev Cert.MixIdeal.nD → PrngReg)
    (m' : (ℓ : Loc Cert.MixReferenceIdeal.nD Cert.MixReferenceIdeal.τ Cert.MixReferenceIdeal.sig) → Buf (Elt Ideal) ℓ) (g' : Dev Cert.MixReferenceIdeal.nD → PrngReg), Pre_MixIdeal m →
    (∀ c : Dev Cert.MixIdeal.nD,
      m' ((c.tc : Thread Cert.MixReferenceIdeal.nD Cert.MixReferenceIdeal.τ).loc Cert.MixReferenceIdeal.main_arg0) = m ((c.tc : Thread Cert.MixIdeal.nD Cert.MixIdeal.τ).loc Cert.MixIdeal.main_arg0)
      ∧ m' ((c.tc : Thread Cert.MixReferenceIdeal.nD Cert.MixReferenceIdeal.τ).loc Cert.MixReferenceIdeal.main_arg1) = m ((c.tc : Thread Cert.MixIdeal.nD Cert.MixIdeal.τ).loc Cert.MixIdeal.main_arg1)) →
    ∃ (v0 : (c : Dev Cert.MixIdeal.nD) → Buf (Elt Ideal) ((c.tc : Thread Cert.MixIdeal.nD Cert.MixIdeal.τ).loc Cert.MixIdeal.main_v3)),
      θ_run (Cert.MixIdeal.defs (F := Ideal)) (onTc (τ := Cert.MixIdeal.τ) (Cert.MixIdeal.main (F := Ideal))) ⟨m, fun _ => 0, g⟩ (fun r => ∀ c : Dev Cert.MixIdeal.nD,
          r.2.mem ((c.tc : Thread Cert.MixIdeal.nD Cert.MixIdeal.τ).loc Cert.MixIdeal.main_v3) = v0 c
          ∧ r.2.mem ((c.tc : Thread Cert.MixIdeal.nD Cert.MixIdeal.τ).loc Cert.MixIdeal.main_arg0) = m ((c.tc : Thread Cert.MixIdeal.nD Cert.MixIdeal.τ).loc Cert.MixIdeal.main_arg0)
          ∧ r.2.mem ((c.tc : Thread Cert.MixIdeal.nD Cert.MixIdeal.τ).loc Cert.MixIdeal.main_arg1) = m ((c.tc : Thread Cert.MixIdeal.nD Cert.MixIdeal.τ).loc Cert.MixIdeal.main_arg1))
      ∧ θ_run (Cert.MixReferenceIdeal.defs (F := Ideal)) (onTc (τ := Cert.MixReferenceIdeal.τ) (Cert.MixReferenceIdeal.main (F := Ideal))) ⟨m', fun _ => 0, g'⟩ (fun r => ∀ c : Dev Cert.MixReferenceIdeal.nD,
          r.2.mem ((c.tc : Thread Cert.MixReferenceIdeal.nD Cert.MixReferenceIdeal.τ).loc Cert.MixReferenceIdeal.main_v1) = v0 c
          ∧ r.2.mem ((c.tc : Thread Cert.MixReferenceIdeal.nD Cert.MixReferenceIdeal.τ).loc Cert.MixReferenceIdeal.main_arg0) = m' ((c.tc : Thread Cert.MixReferenceIdeal.nD Cert.MixReferenceIdeal.τ).loc Cert.MixReferenceIdeal.main_arg0)
          ∧ r.2.mem ((c.tc : Thread Cert.MixReferenceIdeal.nD Cert.MixReferenceIdeal.τ).loc Cert.MixReferenceIdeal.main_arg1) = m' ((c.tc : Thread Cert.MixReferenceIdeal.nD Cert.MixReferenceIdeal.τ).loc Cert.MixReferenceIdeal.main_arg1))

def preserves_MixT_MixTIdeal : Prop :=
  True

def algebraic_MixTIdeal_MixTReferenceIdeal [hMixTIdeal : Cert.MixTIdeal.Facts] [hMixTReferenceIdeal : Cert.MixTReferenceIdeal.Facts] : Prop :=
  ∀ (m : (ℓ : Loc Cert.MixTIdeal.nD Cert.MixTIdeal.τ Cert.MixTIdeal.sig) → Buf (Elt Ideal) ℓ) (g : Dev Cert.MixTIdeal.nD → PrngReg)
    (m' : (ℓ : Loc Cert.MixTReferenceIdeal.nD Cert.MixTReferenceIdeal.τ Cert.MixTReferenceIdeal.sig) → Buf (Elt Ideal) ℓ) (g' : Dev Cert.MixTReferenceIdeal.nD → PrngReg), Pre_MixTIdeal m →
    (∀ c : Dev Cert.MixTIdeal.nD,
      m' ((c.tc : Thread Cert.MixTReferenceIdeal.nD Cert.MixTReferenceIdeal.τ).loc Cert.MixTReferenceIdeal.main_arg0) = m ((c.tc : Thread Cert.MixTIdeal.nD Cert.MixTIdeal.τ).loc Cert.MixTIdeal.main_arg0)
      ∧ m' ((c.tc : Thread Cert.MixTReferenceIdeal.nD Cert.MixTReferenceIdeal.τ).loc Cert.MixTReferenceIdeal.main_arg1) = m ((c.tc : Thread Cert.MixTIdeal.nD Cert.MixTIdeal.τ).loc Cert.MixTIdeal.main_arg1)
      ∧ m' ((c.tc : Thread Cert.MixTReferenceIdeal.nD Cert.MixTReferenceIdeal.τ).loc Cert.MixTReferenceIdeal.main_arg2) = m ((c.tc : Thread Cert.MixTIdeal.nD Cert.MixTIdeal.τ).loc Cert.MixTIdeal.main_arg2)) →
    ∃ (v0 : (c : Dev Cert.MixTIdeal.nD) → Buf (Elt Ideal) ((c.tc : Thread Cert.MixTIdeal.nD Cert.MixTIdeal.τ).loc Cert.MixTIdeal.main_v3)),
      θ_run (Cert.MixTIdeal.defs (F := Ideal)) (onTc (τ := Cert.MixTIdeal.τ) (Cert.MixTIdeal.main (F := Ideal))) ⟨m, fun _ => 0, g⟩ (fun r => ∀ c : Dev Cert.MixTIdeal.nD,
          r.2.mem ((c.tc : Thread Cert.MixTIdeal.nD Cert.MixTIdeal.τ).loc Cert.MixTIdeal.main_v3) = v0 c
          ∧ r.2.mem ((c.tc : Thread Cert.MixTIdeal.nD Cert.MixTIdeal.τ).loc Cert.MixTIdeal.main_arg0) = m ((c.tc : Thread Cert.MixTIdeal.nD Cert.MixTIdeal.τ).loc Cert.MixTIdeal.main_arg0)
          ∧ r.2.mem ((c.tc : Thread Cert.MixTIdeal.nD Cert.MixTIdeal.τ).loc Cert.MixTIdeal.main_arg1) = m ((c.tc : Thread Cert.MixTIdeal.nD Cert.MixTIdeal.τ).loc Cert.MixTIdeal.main_arg1)
          ∧ r.2.mem ((c.tc : Thread Cert.MixTIdeal.nD Cert.MixTIdeal.τ).loc Cert.MixTIdeal.main_arg2) = m ((c.tc : Thread Cert.MixTIdeal.nD Cert.MixTIdeal.τ).loc Cert.MixTIdeal.main_arg2))
      ∧ θ_run (Cert.MixTReferenceIdeal.defs (F := Ideal)) (onTc (τ := Cert.MixTReferenceIdeal.τ) (Cert.MixTReferenceIdeal.main (F := Ideal))) ⟨m', fun _ => 0, g'⟩ (fun r => ∀ c : Dev Cert.MixTReferenceIdeal.nD,
          r.2.mem ((c.tc : Thread Cert.MixTReferenceIdeal.nD Cert.MixTReferenceIdeal.τ).loc Cert.MixTReferenceIdeal.main_v4) = v0 c
          ∧ r.2.mem ((c.tc : Thread Cert.MixTReferenceIdeal.nD Cert.MixTReferenceIdeal.τ).loc Cert.MixTReferenceIdeal.main_arg0) = m' ((c.tc : Thread Cert.MixTReferenceIdeal.nD Cert.MixTReferenceIdeal.τ).loc Cert.MixTReferenceIdeal.main_arg0)
          ∧ r.2.mem ((c.tc : Thread Cert.MixTReferenceIdeal.nD Cert.MixTReferenceIdeal.τ).loc Cert.MixTReferenceIdeal.main_arg1) = m' ((c.tc : Thread Cert.MixTReferenceIdeal.nD Cert.MixTReferenceIdeal.τ).loc Cert.MixTReferenceIdeal.main_arg1)
          ∧ r.2.mem ((c.tc : Thread Cert.MixTReferenceIdeal.nD Cert.MixTReferenceIdeal.τ).loc Cert.MixTReferenceIdeal.main_arg2) = m' ((c.tc : Thread Cert.MixTReferenceIdeal.nD Cert.MixTReferenceIdeal.τ).loc Cert.MixTReferenceIdeal.main_arg2))

def preserves_MixW_MixWIdeal : Prop :=
  True

def algebraic_MixWIdeal_MixWReferenceIdeal [hMixWIdeal : Cert.MixWIdeal.Facts] [hMixWReferenceIdeal : Cert.MixWReferenceIdeal.Facts] : Prop :=
  ∀ (m : (ℓ : Loc Cert.MixWIdeal.nD Cert.MixWIdeal.τ Cert.MixWIdeal.sig) → Buf (Elt Ideal) ℓ) (g : Dev Cert.MixWIdeal.nD → PrngReg)
    (m' : (ℓ : Loc Cert.MixWReferenceIdeal.nD Cert.MixWReferenceIdeal.τ Cert.MixWReferenceIdeal.sig) → Buf (Elt Ideal) ℓ) (g' : Dev Cert.MixWReferenceIdeal.nD → PrngReg), Pre_MixWIdeal m →
    (∀ c : Dev Cert.MixWIdeal.nD,
      m' ((c.tc : Thread Cert.MixWReferenceIdeal.nD Cert.MixWReferenceIdeal.τ).loc Cert.MixWReferenceIdeal.main_arg0) = m ((c.tc : Thread Cert.MixWIdeal.nD Cert.MixWIdeal.τ).loc Cert.MixWIdeal.main_arg0)
      ∧ m' ((c.tc : Thread Cert.MixWReferenceIdeal.nD Cert.MixWReferenceIdeal.τ).loc Cert.MixWReferenceIdeal.main_arg1) = m ((c.tc : Thread Cert.MixWIdeal.nD Cert.MixWIdeal.τ).loc Cert.MixWIdeal.main_arg1)
      ∧ m' ((c.tc : Thread Cert.MixWReferenceIdeal.nD Cert.MixWReferenceIdeal.τ).loc Cert.MixWReferenceIdeal.main_arg2) = m ((c.tc : Thread Cert.MixWIdeal.nD Cert.MixWIdeal.τ).loc Cert.MixWIdeal.main_arg2)) →
    ∃ (v0 : (c : Dev Cert.MixWIdeal.nD) → Buf (Elt Ideal) ((c.tc : Thread Cert.MixWIdeal.nD Cert.MixWIdeal.τ).loc Cert.MixWIdeal.main_v4)),
      θ_run (Cert.MixWIdeal.defs (F := Ideal)) (onTc (τ := Cert.MixWIdeal.τ) (Cert.MixWIdeal.main (F := Ideal))) ⟨m, fun _ => 0, g⟩ (fun r => ∀ c : Dev Cert.MixWIdeal.nD,
          r.2.mem ((c.tc : Thread Cert.MixWIdeal.nD Cert.MixWIdeal.τ).loc Cert.MixWIdeal.main_v4) = v0 c
          ∧ r.2.mem ((c.tc : Thread Cert.MixWIdeal.nD Cert.MixWIdeal.τ).loc Cert.MixWIdeal.main_arg0) = m ((c.tc : Thread Cert.MixWIdeal.nD Cert.MixWIdeal.τ).loc Cert.MixWIdeal.main_arg0)
          ∧ r.2.mem ((c.tc : Thread Cert.MixWIdeal.nD Cert.MixWIdeal.τ).loc Cert.MixWIdeal.main_arg1) = m ((c.tc : Thread Cert.MixWIdeal.nD Cert.MixWIdeal.τ).loc Cert.MixWIdeal.main_arg1)
          ∧ r.2.mem ((c.tc : Thread Cert.MixWIdeal.nD Cert.MixWIdeal.τ).loc Cert.MixWIdeal.main_arg2) = m ((c.tc : Thread Cert.MixWIdeal.nD Cert.MixWIdeal.τ).loc Cert.MixWIdeal.main_arg2))
      ∧ θ_run (Cert.MixWReferenceIdeal.defs (F := Ideal)) (onTc (τ := Cert.MixWReferenceIdeal.τ) (Cert.MixWReferenceIdeal.main (F := Ideal))) ⟨m', fun _ => 0, g'⟩ (fun r => ∀ c : Dev Cert.MixWReferenceIdeal.nD,
          r.2.mem ((c.tc : Thread Cert.MixWReferenceIdeal.nD Cert.MixWReferenceIdeal.τ).loc Cert.MixWReferenceIdeal.main_v4) = v0 c
          ∧ r.2.mem ((c.tc : Thread Cert.MixWReferenceIdeal.nD Cert.MixWReferenceIdeal.τ).loc Cert.MixWReferenceIdeal.main_arg0) = m' ((c.tc : Thread Cert.MixWReferenceIdeal.nD Cert.MixWReferenceIdeal.τ).loc Cert.MixWReferenceIdeal.main_arg0)
          ∧ r.2.mem ((c.tc : Thread Cert.MixWReferenceIdeal.nD Cert.MixWReferenceIdeal.τ).loc Cert.MixWReferenceIdeal.main_arg1) = m' ((c.tc : Thread Cert.MixWReferenceIdeal.nD Cert.MixWReferenceIdeal.τ).loc Cert.MixWReferenceIdeal.main_arg1)
          ∧ r.2.mem ((c.tc : Thread Cert.MixWReferenceIdeal.nD Cert.MixWReferenceIdeal.τ).loc Cert.MixWReferenceIdeal.main_arg2) = m' ((c.tc : Thread Cert.MixWReferenceIdeal.nD Cert.MixWReferenceIdeal.τ).loc Cert.MixWReferenceIdeal.main_arg2))

def preserves_LastMix_LastMixIdeal : Prop :=
  True

def algebraic_LastMixIdeal_LastMixReferenceIdeal [hLastMixIdeal : Cert.LastMixIdeal.Facts] [hLastMixReferenceIdeal : Cert.LastMixReferenceIdeal.Facts] : Prop :=
  ∀ (m : (ℓ : Loc Cert.LastMixIdeal.nD Cert.LastMixIdeal.τ Cert.LastMixIdeal.sig) → Buf (Elt Ideal) ℓ) (g : Dev Cert.LastMixIdeal.nD → PrngReg)
    (m' : (ℓ : Loc Cert.LastMixReferenceIdeal.nD Cert.LastMixReferenceIdeal.τ Cert.LastMixReferenceIdeal.sig) → Buf (Elt Ideal) ℓ) (g' : Dev Cert.LastMixReferenceIdeal.nD → PrngReg), Pre_LastMixIdeal m →
    (∀ c : Dev Cert.LastMixIdeal.nD,
      m' ((c.tc : Thread Cert.LastMixReferenceIdeal.nD Cert.LastMixReferenceIdeal.τ).loc Cert.LastMixReferenceIdeal.main_arg0) = m ((c.tc : Thread Cert.LastMixIdeal.nD Cert.LastMixIdeal.τ).loc Cert.LastMixIdeal.main_arg0)
      ∧ m' ((c.tc : Thread Cert.LastMixReferenceIdeal.nD Cert.LastMixReferenceIdeal.τ).loc Cert.LastMixReferenceIdeal.main_arg1) = m ((c.tc : Thread Cert.LastMixIdeal.nD Cert.LastMixIdeal.τ).loc Cert.LastMixIdeal.main_arg1)) →
    ∃ (v0 : (c : Dev Cert.LastMixIdeal.nD) → Buf (Elt Ideal) ((c.tc : Thread Cert.LastMixIdeal.nD Cert.LastMixIdeal.τ).loc Cert.LastMixIdeal.main_v3)),
      θ_run (Cert.LastMixIdeal.defs (F := Ideal)) (onTc (τ := Cert.LastMixIdeal.τ) (Cert.LastMixIdeal.main (F := Ideal))) ⟨m, fun _ => 0, g⟩ (fun r => ∀ c : Dev Cert.LastMixIdeal.nD,
          r.2.mem ((c.tc : Thread Cert.LastMixIdeal.nD Cert.LastMixIdeal.τ).loc Cert.LastMixIdeal.main_v3) = v0 c
          ∧ r.2.mem ((c.tc : Thread Cert.LastMixIdeal.nD Cert.LastMixIdeal.τ).loc Cert.LastMixIdeal.main_arg0) = m ((c.tc : Thread Cert.LastMixIdeal.nD Cert.LastMixIdeal.τ).loc Cert.LastMixIdeal.main_arg0)
          ∧ r.2.mem ((c.tc : Thread Cert.LastMixIdeal.nD Cert.LastMixIdeal.τ).loc Cert.LastMixIdeal.main_arg1) = m ((c.tc : Thread Cert.LastMixIdeal.nD Cert.LastMixIdeal.τ).loc Cert.LastMixIdeal.main_arg1))
      ∧ θ_run (Cert.LastMixReferenceIdeal.defs (F := Ideal)) (onTc (τ := Cert.LastMixReferenceIdeal.τ) (Cert.LastMixReferenceIdeal.main (F := Ideal))) ⟨m', fun _ => 0, g'⟩ (fun r => ∀ c : Dev Cert.LastMixReferenceIdeal.nD,
          r.2.mem ((c.tc : Thread Cert.LastMixReferenceIdeal.nD Cert.LastMixReferenceIdeal.τ).loc Cert.LastMixReferenceIdeal.main_v1) = v0 c
          ∧ r.2.mem ((c.tc : Thread Cert.LastMixReferenceIdeal.nD Cert.LastMixReferenceIdeal.τ).loc Cert.LastMixReferenceIdeal.main_arg0) = m' ((c.tc : Thread Cert.LastMixReferenceIdeal.nD Cert.LastMixReferenceIdeal.τ).loc Cert.LastMixReferenceIdeal.main_arg0)
          ∧ r.2.mem ((c.tc : Thread Cert.LastMixReferenceIdeal.nD Cert.LastMixReferenceIdeal.τ).loc Cert.LastMixReferenceIdeal.main_arg1) = m' ((c.tc : Thread Cert.LastMixReferenceIdeal.nD Cert.LastMixReferenceIdeal.τ).loc Cert.LastMixReferenceIdeal.main_arg1))

def preserves_LastMixT_LastMixTIdeal : Prop :=
  True

def algebraic_LastMixTIdeal_LastMixTReferenceIdeal [hLastMixTIdeal : Cert.LastMixTIdeal.Facts] [hLastMixTReferenceIdeal : Cert.LastMixTReferenceIdeal.Facts] : Prop :=
  ∀ (m : (ℓ : Loc Cert.LastMixTIdeal.nD Cert.LastMixTIdeal.τ Cert.LastMixTIdeal.sig) → Buf (Elt Ideal) ℓ) (g : Dev Cert.LastMixTIdeal.nD → PrngReg)
    (m' : (ℓ : Loc Cert.LastMixTReferenceIdeal.nD Cert.LastMixTReferenceIdeal.τ Cert.LastMixTReferenceIdeal.sig) → Buf (Elt Ideal) ℓ) (g' : Dev Cert.LastMixTReferenceIdeal.nD → PrngReg), Pre_LastMixTIdeal m →
    (∀ c : Dev Cert.LastMixTIdeal.nD,
      m' ((c.tc : Thread Cert.LastMixTReferenceIdeal.nD Cert.LastMixTReferenceIdeal.τ).loc Cert.LastMixTReferenceIdeal.main_arg0) = m ((c.tc : Thread Cert.LastMixTIdeal.nD Cert.LastMixTIdeal.τ).loc Cert.LastMixTIdeal.main_arg0)
      ∧ m' ((c.tc : Thread Cert.LastMixTReferenceIdeal.nD Cert.LastMixTReferenceIdeal.τ).loc Cert.LastMixTReferenceIdeal.main_arg1) = m ((c.tc : Thread Cert.LastMixTIdeal.nD Cert.LastMixTIdeal.τ).loc Cert.LastMixTIdeal.main_arg1)
      ∧ m' ((c.tc : Thread Cert.LastMixTReferenceIdeal.nD Cert.LastMixTReferenceIdeal.τ).loc Cert.LastMixTReferenceIdeal.main_arg2) = m ((c.tc : Thread Cert.LastMixTIdeal.nD Cert.LastMixTIdeal.τ).loc Cert.LastMixTIdeal.main_arg2)) →
    ∃ (v0 : (c : Dev Cert.LastMixTIdeal.nD) → Buf (Elt Ideal) ((c.tc : Thread Cert.LastMixTIdeal.nD Cert.LastMixTIdeal.τ).loc Cert.LastMixTIdeal.main_v3)),
      θ_run (Cert.LastMixTIdeal.defs (F := Ideal)) (onTc (τ := Cert.LastMixTIdeal.τ) (Cert.LastMixTIdeal.main (F := Ideal))) ⟨m, fun _ => 0, g⟩ (fun r => ∀ c : Dev Cert.LastMixTIdeal.nD,
          r.2.mem ((c.tc : Thread Cert.LastMixTIdeal.nD Cert.LastMixTIdeal.τ).loc Cert.LastMixTIdeal.main_v3) = v0 c
          ∧ r.2.mem ((c.tc : Thread Cert.LastMixTIdeal.nD Cert.LastMixTIdeal.τ).loc Cert.LastMixTIdeal.main_arg0) = m ((c.tc : Thread Cert.LastMixTIdeal.nD Cert.LastMixTIdeal.τ).loc Cert.LastMixTIdeal.main_arg0)
          ∧ r.2.mem ((c.tc : Thread Cert.LastMixTIdeal.nD Cert.LastMixTIdeal.τ).loc Cert.LastMixTIdeal.main_arg1) = m ((c.tc : Thread Cert.LastMixTIdeal.nD Cert.LastMixTIdeal.τ).loc Cert.LastMixTIdeal.main_arg1)
          ∧ r.2.mem ((c.tc : Thread Cert.LastMixTIdeal.nD Cert.LastMixTIdeal.τ).loc Cert.LastMixTIdeal.main_arg2) = m ((c.tc : Thread Cert.LastMixTIdeal.nD Cert.LastMixTIdeal.τ).loc Cert.LastMixTIdeal.main_arg2))
      ∧ θ_run (Cert.LastMixTReferenceIdeal.defs (F := Ideal)) (onTc (τ := Cert.LastMixTReferenceIdeal.τ) (Cert.LastMixTReferenceIdeal.main (F := Ideal))) ⟨m', fun _ => 0, g'⟩ (fun r => ∀ c : Dev Cert.LastMixTReferenceIdeal.nD,
          r.2.mem ((c.tc : Thread Cert.LastMixTReferenceIdeal.nD Cert.LastMixTReferenceIdeal.τ).loc Cert.LastMixTReferenceIdeal.main_v4) = v0 c
          ∧ r.2.mem ((c.tc : Thread Cert.LastMixTReferenceIdeal.nD Cert.LastMixTReferenceIdeal.τ).loc Cert.LastMixTReferenceIdeal.main_arg0) = m' ((c.tc : Thread Cert.LastMixTReferenceIdeal.nD Cert.LastMixTReferenceIdeal.τ).loc Cert.LastMixTReferenceIdeal.main_arg0)
          ∧ r.2.mem ((c.tc : Thread Cert.LastMixTReferenceIdeal.nD Cert.LastMixTReferenceIdeal.τ).loc Cert.LastMixTReferenceIdeal.main_arg1) = m' ((c.tc : Thread Cert.LastMixTReferenceIdeal.nD Cert.LastMixTReferenceIdeal.τ).loc Cert.LastMixTReferenceIdeal.main_arg1)
          ∧ r.2.mem ((c.tc : Thread Cert.LastMixTReferenceIdeal.nD Cert.LastMixTReferenceIdeal.τ).loc Cert.LastMixTReferenceIdeal.main_arg2) = m' ((c.tc : Thread Cert.LastMixTReferenceIdeal.nD Cert.LastMixTReferenceIdeal.τ).loc Cert.LastMixTReferenceIdeal.main_arg2))

def preserves_LastMixW_LastMixWIdeal : Prop :=
  True

def algebraic_LastMixWIdeal_LastMixWReferenceIdeal [hLastMixWIdeal : Cert.LastMixWIdeal.Facts] [hLastMixWReferenceIdeal : Cert.LastMixWReferenceIdeal.Facts] : Prop :=
  ∀ (m : (ℓ : Loc Cert.LastMixWIdeal.nD Cert.LastMixWIdeal.τ Cert.LastMixWIdeal.sig) → Buf (Elt Ideal) ℓ) (g : Dev Cert.LastMixWIdeal.nD → PrngReg)
    (m' : (ℓ : Loc Cert.LastMixWReferenceIdeal.nD Cert.LastMixWReferenceIdeal.τ Cert.LastMixWReferenceIdeal.sig) → Buf (Elt Ideal) ℓ) (g' : Dev Cert.LastMixWReferenceIdeal.nD → PrngReg), Pre_LastMixWIdeal m →
    (∀ c : Dev Cert.LastMixWIdeal.nD,
      m' ((c.tc : Thread Cert.LastMixWReferenceIdeal.nD Cert.LastMixWReferenceIdeal.τ).loc Cert.LastMixWReferenceIdeal.main_arg0) = m ((c.tc : Thread Cert.LastMixWIdeal.nD Cert.LastMixWIdeal.τ).loc Cert.LastMixWIdeal.main_arg0)
      ∧ m' ((c.tc : Thread Cert.LastMixWReferenceIdeal.nD Cert.LastMixWReferenceIdeal.τ).loc Cert.LastMixWReferenceIdeal.main_arg1) = m ((c.tc : Thread Cert.LastMixWIdeal.nD Cert.LastMixWIdeal.τ).loc Cert.LastMixWIdeal.main_arg1)
      ∧ m' ((c.tc : Thread Cert.LastMixWReferenceIdeal.nD Cert.LastMixWReferenceIdeal.τ).loc Cert.LastMixWReferenceIdeal.main_arg2) = m ((c.tc : Thread Cert.LastMixWIdeal.nD Cert.LastMixWIdeal.τ).loc Cert.LastMixWIdeal.main_arg2)) →
    ∃ (v0 : (c : Dev Cert.LastMixWIdeal.nD) → Buf (Elt Ideal) ((c.tc : Thread Cert.LastMixWIdeal.nD Cert.LastMixWIdeal.τ).loc Cert.LastMixWIdeal.main_v4)),
      θ_run (Cert.LastMixWIdeal.defs (F := Ideal)) (onTc (τ := Cert.LastMixWIdeal.τ) (Cert.LastMixWIdeal.main (F := Ideal))) ⟨m, fun _ => 0, g⟩ (fun r => ∀ c : Dev Cert.LastMixWIdeal.nD,
          r.2.mem ((c.tc : Thread Cert.LastMixWIdeal.nD Cert.LastMixWIdeal.τ).loc Cert.LastMixWIdeal.main_v4) = v0 c
          ∧ r.2.mem ((c.tc : Thread Cert.LastMixWIdeal.nD Cert.LastMixWIdeal.τ).loc Cert.LastMixWIdeal.main_arg0) = m ((c.tc : Thread Cert.LastMixWIdeal.nD Cert.LastMixWIdeal.τ).loc Cert.LastMixWIdeal.main_arg0)
          ∧ r.2.mem ((c.tc : Thread Cert.LastMixWIdeal.nD Cert.LastMixWIdeal.τ).loc Cert.LastMixWIdeal.main_arg1) = m ((c.tc : Thread Cert.LastMixWIdeal.nD Cert.LastMixWIdeal.τ).loc Cert.LastMixWIdeal.main_arg1)
          ∧ r.2.mem ((c.tc : Thread Cert.LastMixWIdeal.nD Cert.LastMixWIdeal.τ).loc Cert.LastMixWIdeal.main_arg2) = m ((c.tc : Thread Cert.LastMixWIdeal.nD Cert.LastMixWIdeal.τ).loc Cert.LastMixWIdeal.main_arg2))
      ∧ θ_run (Cert.LastMixWReferenceIdeal.defs (F := Ideal)) (onTc (τ := Cert.LastMixWReferenceIdeal.τ) (Cert.LastMixWReferenceIdeal.main (F := Ideal))) ⟨m', fun _ => 0, g'⟩ (fun r => ∀ c : Dev Cert.LastMixWReferenceIdeal.nD,
          r.2.mem ((c.tc : Thread Cert.LastMixWReferenceIdeal.nD Cert.LastMixWReferenceIdeal.τ).loc Cert.LastMixWReferenceIdeal.main_v4) = v0 c
          ∧ r.2.mem ((c.tc : Thread Cert.LastMixWReferenceIdeal.nD Cert.LastMixWReferenceIdeal.τ).loc Cert.LastMixWReferenceIdeal.main_arg0) = m' ((c.tc : Thread Cert.LastMixWReferenceIdeal.nD Cert.LastMixWReferenceIdeal.τ).loc Cert.LastMixWReferenceIdeal.main_arg0)
          ∧ r.2.mem ((c.tc : Thread Cert.LastMixWReferenceIdeal.nD Cert.LastMixWReferenceIdeal.τ).loc Cert.LastMixWReferenceIdeal.main_arg1) = m' ((c.tc : Thread Cert.LastMixWReferenceIdeal.nD Cert.LastMixWReferenceIdeal.τ).loc Cert.LastMixWReferenceIdeal.main_arg1)
          ∧ r.2.mem ((c.tc : Thread Cert.LastMixWReferenceIdeal.nD Cert.LastMixWReferenceIdeal.τ).loc Cert.LastMixWReferenceIdeal.main_arg2) = m' ((c.tc : Thread Cert.LastMixWReferenceIdeal.nD Cert.LastMixWReferenceIdeal.τ).loc Cert.LastMixWReferenceIdeal.main_arg2))

def preserves_Glu_GluIdeal : Prop :=
  True

def algebraic_GluIdeal_GluReferenceIdeal [hGluIdeal : Cert.GluIdeal.Facts] [hGluReferenceIdeal : Cert.GluReferenceIdeal.Facts] : Prop :=
  ∀ (m : (ℓ : Loc Cert.GluIdeal.nD Cert.GluIdeal.τ Cert.GluIdeal.sig) → Buf (Elt Ideal) ℓ) (g : Dev Cert.GluIdeal.nD → PrngReg)
    (m' : (ℓ : Loc Cert.GluReferenceIdeal.nD Cert.GluReferenceIdeal.τ Cert.GluReferenceIdeal.sig) → Buf (Elt Ideal) ℓ) (g' : Dev Cert.GluReferenceIdeal.nD → PrngReg), Pre_GluIdeal m →
    (∀ c : Dev Cert.GluIdeal.nD,
      m' ((c.tc : Thread Cert.GluReferenceIdeal.nD Cert.GluReferenceIdeal.τ).loc Cert.GluReferenceIdeal.main_arg0) = m ((c.tc : Thread Cert.GluIdeal.nD Cert.GluIdeal.τ).loc Cert.GluIdeal.main_arg0)
      ∧ m' ((c.tc : Thread Cert.GluReferenceIdeal.nD Cert.GluReferenceIdeal.τ).loc Cert.GluReferenceIdeal.main_arg1) = m ((c.tc : Thread Cert.GluIdeal.nD Cert.GluIdeal.τ).loc Cert.GluIdeal.main_arg1)) →
    ∃ (v0 : (c : Dev Cert.GluIdeal.nD) → Buf (Elt Ideal) ((c.tc : Thread Cert.GluIdeal.nD Cert.GluIdeal.τ).loc Cert.GluIdeal.main_v3)),
      θ_run (Cert.GluIdeal.defs (F := Ideal)) (onTc (τ := Cert.GluIdeal.τ) (Cert.GluIdeal.main (F := Ideal))) ⟨m, fun _ => 0, g⟩ (fun r => ∀ c : Dev Cert.GluIdeal.nD,
          r.2.mem ((c.tc : Thread Cert.GluIdeal.nD Cert.GluIdeal.τ).loc Cert.GluIdeal.main_v3) = v0 c
          ∧ r.2.mem ((c.tc : Thread Cert.GluIdeal.nD Cert.GluIdeal.τ).loc Cert.GluIdeal.main_arg0) = m ((c.tc : Thread Cert.GluIdeal.nD Cert.GluIdeal.τ).loc Cert.GluIdeal.main_arg0)
          ∧ r.2.mem ((c.tc : Thread Cert.GluIdeal.nD Cert.GluIdeal.τ).loc Cert.GluIdeal.main_arg1) = m ((c.tc : Thread Cert.GluIdeal.nD Cert.GluIdeal.τ).loc Cert.GluIdeal.main_arg1))
      ∧ θ_run (Cert.GluReferenceIdeal.defs (F := Ideal)) (onTc (τ := Cert.GluReferenceIdeal.τ) (Cert.GluReferenceIdeal.main (F := Ideal))) ⟨m', fun _ => 0, g'⟩ (fun r => ∀ c : Dev Cert.GluReferenceIdeal.nD,
          r.2.mem ((c.tc : Thread Cert.GluReferenceIdeal.nD Cert.GluReferenceIdeal.τ).loc Cert.GluReferenceIdeal.main_v1) = v0 c
          ∧ r.2.mem ((c.tc : Thread Cert.GluReferenceIdeal.nD Cert.GluReferenceIdeal.τ).loc Cert.GluReferenceIdeal.main_arg0) = m' ((c.tc : Thread Cert.GluReferenceIdeal.nD Cert.GluReferenceIdeal.τ).loc Cert.GluReferenceIdeal.main_arg0)
          ∧ r.2.mem ((c.tc : Thread Cert.GluReferenceIdeal.nD Cert.GluReferenceIdeal.τ).loc Cert.GluReferenceIdeal.main_arg1) = m' ((c.tc : Thread Cert.GluReferenceIdeal.nD Cert.GluReferenceIdeal.τ).loc Cert.GluReferenceIdeal.main_arg1))

def preserves_GluT_GluTIdeal : Prop :=
  True

def algebraic_GluTIdeal_GluTReferenceIdeal [hGluTIdeal : Cert.GluTIdeal.Facts] [hGluTReferenceIdeal : Cert.GluTReferenceIdeal.Facts] : Prop :=
  ∀ (m : (ℓ : Loc Cert.GluTIdeal.nD Cert.GluTIdeal.τ Cert.GluTIdeal.sig) → Buf (Elt Ideal) ℓ) (g : Dev Cert.GluTIdeal.nD → PrngReg)
    (m' : (ℓ : Loc Cert.GluTReferenceIdeal.nD Cert.GluTReferenceIdeal.τ Cert.GluTReferenceIdeal.sig) → Buf (Elt Ideal) ℓ) (g' : Dev Cert.GluTReferenceIdeal.nD → PrngReg), Pre_GluTIdeal m →
    (∀ c : Dev Cert.GluTIdeal.nD,
      m' ((c.tc : Thread Cert.GluTReferenceIdeal.nD Cert.GluTReferenceIdeal.τ).loc Cert.GluTReferenceIdeal.main_arg0) = m ((c.tc : Thread Cert.GluTIdeal.nD Cert.GluTIdeal.τ).loc Cert.GluTIdeal.main_arg0)
      ∧ m' ((c.tc : Thread Cert.GluTReferenceIdeal.nD Cert.GluTReferenceIdeal.τ).loc Cert.GluTReferenceIdeal.main_arg1) = m ((c.tc : Thread Cert.GluTIdeal.nD Cert.GluTIdeal.τ).loc Cert.GluTIdeal.main_arg1)
      ∧ m' ((c.tc : Thread Cert.GluTReferenceIdeal.nD Cert.GluTReferenceIdeal.τ).loc Cert.GluTReferenceIdeal.main_arg2) = m ((c.tc : Thread Cert.GluTIdeal.nD Cert.GluTIdeal.τ).loc Cert.GluTIdeal.main_arg2)) →
    ∃ (v0 : (c : Dev Cert.GluTIdeal.nD) → Buf (Elt Ideal) ((c.tc : Thread Cert.GluTIdeal.nD Cert.GluTIdeal.τ).loc Cert.GluTIdeal.main_v3)),
      θ_run (Cert.GluTIdeal.defs (F := Ideal)) (onTc (τ := Cert.GluTIdeal.τ) (Cert.GluTIdeal.main (F := Ideal))) ⟨m, fun _ => 0, g⟩ (fun r => ∀ c : Dev Cert.GluTIdeal.nD,
          r.2.mem ((c.tc : Thread Cert.GluTIdeal.nD Cert.GluTIdeal.τ).loc Cert.GluTIdeal.main_v3) = v0 c
          ∧ r.2.mem ((c.tc : Thread Cert.GluTIdeal.nD Cert.GluTIdeal.τ).loc Cert.GluTIdeal.main_arg0) = m ((c.tc : Thread Cert.GluTIdeal.nD Cert.GluTIdeal.τ).loc Cert.GluTIdeal.main_arg0)
          ∧ r.2.mem ((c.tc : Thread Cert.GluTIdeal.nD Cert.GluTIdeal.τ).loc Cert.GluTIdeal.main_arg1) = m ((c.tc : Thread Cert.GluTIdeal.nD Cert.GluTIdeal.τ).loc Cert.GluTIdeal.main_arg1)
          ∧ r.2.mem ((c.tc : Thread Cert.GluTIdeal.nD Cert.GluTIdeal.τ).loc Cert.GluTIdeal.main_arg2) = m ((c.tc : Thread Cert.GluTIdeal.nD Cert.GluTIdeal.τ).loc Cert.GluTIdeal.main_arg2))
      ∧ θ_run (Cert.GluTReferenceIdeal.defs (F := Ideal)) (onTc (τ := Cert.GluTReferenceIdeal.τ) (Cert.GluTReferenceIdeal.main (F := Ideal))) ⟨m', fun _ => 0, g'⟩ (fun r => ∀ c : Dev Cert.GluTReferenceIdeal.nD,
          r.2.mem ((c.tc : Thread Cert.GluTReferenceIdeal.nD Cert.GluTReferenceIdeal.τ).loc Cert.GluTReferenceIdeal.main_v4) = v0 c
          ∧ r.2.mem ((c.tc : Thread Cert.GluTReferenceIdeal.nD Cert.GluTReferenceIdeal.τ).loc Cert.GluTReferenceIdeal.main_arg0) = m' ((c.tc : Thread Cert.GluTReferenceIdeal.nD Cert.GluTReferenceIdeal.τ).loc Cert.GluTReferenceIdeal.main_arg0)
          ∧ r.2.mem ((c.tc : Thread Cert.GluTReferenceIdeal.nD Cert.GluTReferenceIdeal.τ).loc Cert.GluTReferenceIdeal.main_arg1) = m' ((c.tc : Thread Cert.GluTReferenceIdeal.nD Cert.GluTReferenceIdeal.τ).loc Cert.GluTReferenceIdeal.main_arg1)
          ∧ r.2.mem ((c.tc : Thread Cert.GluTReferenceIdeal.nD Cert.GluTReferenceIdeal.τ).loc Cert.GluTReferenceIdeal.main_arg2) = m' ((c.tc : Thread Cert.GluTReferenceIdeal.nD Cert.GluTReferenceIdeal.τ).loc Cert.GluTReferenceIdeal.main_arg2))

def preserves_GluW_GluWIdeal : Prop :=
  True

def algebraic_GluWIdeal_GluWReferenceIdeal [hGluWIdeal : Cert.GluWIdeal.Facts] [hGluWReferenceIdeal : Cert.GluWReferenceIdeal.Facts] : Prop :=
  ∀ (m : (ℓ : Loc Cert.GluWIdeal.nD Cert.GluWIdeal.τ Cert.GluWIdeal.sig) → Buf (Elt Ideal) ℓ) (g : Dev Cert.GluWIdeal.nD → PrngReg)
    (m' : (ℓ : Loc Cert.GluWReferenceIdeal.nD Cert.GluWReferenceIdeal.τ Cert.GluWReferenceIdeal.sig) → Buf (Elt Ideal) ℓ) (g' : Dev Cert.GluWReferenceIdeal.nD → PrngReg), Pre_GluWIdeal m →
    (∀ c : Dev Cert.GluWIdeal.nD,
      m' ((c.tc : Thread Cert.GluWReferenceIdeal.nD Cert.GluWReferenceIdeal.τ).loc Cert.GluWReferenceIdeal.main_arg0) = m ((c.tc : Thread Cert.GluWIdeal.nD Cert.GluWIdeal.τ).loc Cert.GluWIdeal.main_arg0)
      ∧ m' ((c.tc : Thread Cert.GluWReferenceIdeal.nD Cert.GluWReferenceIdeal.τ).loc Cert.GluWReferenceIdeal.main_arg1) = m ((c.tc : Thread Cert.GluWIdeal.nD Cert.GluWIdeal.τ).loc Cert.GluWIdeal.main_arg1)
      ∧ m' ((c.tc : Thread Cert.GluWReferenceIdeal.nD Cert.GluWReferenceIdeal.τ).loc Cert.GluWReferenceIdeal.main_arg2) = m ((c.tc : Thread Cert.GluWIdeal.nD Cert.GluWIdeal.τ).loc Cert.GluWIdeal.main_arg2)) →
    ∃ (v0 : (c : Dev Cert.GluWIdeal.nD) → Buf (Elt Ideal) ((c.tc : Thread Cert.GluWIdeal.nD Cert.GluWIdeal.τ).loc Cert.GluWIdeal.main_v4)),
      θ_run (Cert.GluWIdeal.defs (F := Ideal)) (onTc (τ := Cert.GluWIdeal.τ) (Cert.GluWIdeal.main (F := Ideal))) ⟨m, fun _ => 0, g⟩ (fun r => ∀ c : Dev Cert.GluWIdeal.nD,
          r.2.mem ((c.tc : Thread Cert.GluWIdeal.nD Cert.GluWIdeal.τ).loc Cert.GluWIdeal.main_v4) = v0 c
          ∧ r.2.mem ((c.tc : Thread Cert.GluWIdeal.nD Cert.GluWIdeal.τ).loc Cert.GluWIdeal.main_arg0) = m ((c.tc : Thread Cert.GluWIdeal.nD Cert.GluWIdeal.τ).loc Cert.GluWIdeal.main_arg0)
          ∧ r.2.mem ((c.tc : Thread Cert.GluWIdeal.nD Cert.GluWIdeal.τ).loc Cert.GluWIdeal.main_arg1) = m ((c.tc : Thread Cert.GluWIdeal.nD Cert.GluWIdeal.τ).loc Cert.GluWIdeal.main_arg1)
          ∧ r.2.mem ((c.tc : Thread Cert.GluWIdeal.nD Cert.GluWIdeal.τ).loc Cert.GluWIdeal.main_arg2) = m ((c.tc : Thread Cert.GluWIdeal.nD Cert.GluWIdeal.τ).loc Cert.GluWIdeal.main_arg2))
      ∧ θ_run (Cert.GluWReferenceIdeal.defs (F := Ideal)) (onTc (τ := Cert.GluWReferenceIdeal.τ) (Cert.GluWReferenceIdeal.main (F := Ideal))) ⟨m', fun _ => 0, g'⟩ (fun r => ∀ c : Dev Cert.GluWReferenceIdeal.nD,
          r.2.mem ((c.tc : Thread Cert.GluWReferenceIdeal.nD Cert.GluWReferenceIdeal.τ).loc Cert.GluWReferenceIdeal.main_v4) = v0 c
          ∧ r.2.mem ((c.tc : Thread Cert.GluWReferenceIdeal.nD Cert.GluWReferenceIdeal.τ).loc Cert.GluWReferenceIdeal.main_arg0) = m' ((c.tc : Thread Cert.GluWReferenceIdeal.nD Cert.GluWReferenceIdeal.τ).loc Cert.GluWReferenceIdeal.main_arg0)
          ∧ r.2.mem ((c.tc : Thread Cert.GluWReferenceIdeal.nD Cert.GluWReferenceIdeal.τ).loc Cert.GluWReferenceIdeal.main_arg1) = m' ((c.tc : Thread Cert.GluWReferenceIdeal.nD Cert.GluWReferenceIdeal.τ).loc Cert.GluWReferenceIdeal.main_arg1)
          ∧ r.2.mem ((c.tc : Thread Cert.GluWReferenceIdeal.nD Cert.GluWReferenceIdeal.τ).loc Cert.GluWReferenceIdeal.main_arg2) = m' ((c.tc : Thread Cert.GluWReferenceIdeal.nD Cert.GluWReferenceIdeal.τ).loc Cert.GluWReferenceIdeal.main_arg2))

def preserves_GluCtx_GluCtxIdeal : Prop :=
  True

def algebraic_GluCtxIdeal_GluCtxReferenceIdeal [hGluCtxIdeal : Cert.GluCtxIdeal.Facts] [hGluCtxReferenceIdeal : Cert.GluCtxReferenceIdeal.Facts] : Prop :=
  ∀ (m : (ℓ : Loc Cert.GluCtxIdeal.nD Cert.GluCtxIdeal.τ Cert.GluCtxIdeal.sig) → Buf (Elt Ideal) ℓ) (g : Dev Cert.GluCtxIdeal.nD → PrngReg)
    (m' : (ℓ : Loc Cert.GluCtxReferenceIdeal.nD Cert.GluCtxReferenceIdeal.τ Cert.GluCtxReferenceIdeal.sig) → Buf (Elt Ideal) ℓ) (g' : Dev Cert.GluCtxReferenceIdeal.nD → PrngReg), Pre_GluCtxIdeal m →
    (∀ c : Dev Cert.GluCtxIdeal.nD,
      m' ((c.tc : Thread Cert.GluCtxReferenceIdeal.nD Cert.GluCtxReferenceIdeal.τ).loc Cert.GluCtxReferenceIdeal.main_arg0) = m ((c.tc : Thread Cert.GluCtxIdeal.nD Cert.GluCtxIdeal.τ).loc Cert.GluCtxIdeal.main_arg0)
      ∧ m' ((c.tc : Thread Cert.GluCtxReferenceIdeal.nD Cert.GluCtxReferenceIdeal.τ).loc Cert.GluCtxReferenceIdeal.main_arg1) = m ((c.tc : Thread Cert.GluCtxIdeal.nD Cert.GluCtxIdeal.τ).loc Cert.GluCtxIdeal.main_arg1)) →
    ∃ (v0 : (c : Dev Cert.GluCtxIdeal.nD) → Buf (Elt Ideal) ((c.tc : Thread Cert.GluCtxIdeal.nD Cert.GluCtxIdeal.τ).loc Cert.GluCtxIdeal.main_v3)),
      θ_run (Cert.GluCtxIdeal.defs (F := Ideal)) (onTc (τ := Cert.GluCtxIdeal.τ) (Cert.GluCtxIdeal.main (F := Ideal))) ⟨m, fun _ => 0, g⟩ (fun r => ∀ c : Dev Cert.GluCtxIdeal.nD,
          r.2.mem ((c.tc : Thread Cert.GluCtxIdeal.nD Cert.GluCtxIdeal.τ).loc Cert.GluCtxIdeal.main_v3) = v0 c
          ∧ r.2.mem ((c.tc : Thread Cert.GluCtxIdeal.nD Cert.GluCtxIdeal.τ).loc Cert.GluCtxIdeal.main_arg0) = m ((c.tc : Thread Cert.GluCtxIdeal.nD Cert.GluCtxIdeal.τ).loc Cert.GluCtxIdeal.main_arg0)
          ∧ r.2.mem ((c.tc : Thread Cert.GluCtxIdeal.nD Cert.GluCtxIdeal.τ).loc Cert.GluCtxIdeal.main_arg1) = m ((c.tc : Thread Cert.GluCtxIdeal.nD Cert.GluCtxIdeal.τ).loc Cert.GluCtxIdeal.main_arg1))
      ∧ θ_run (Cert.GluCtxReferenceIdeal.defs (F := Ideal)) (onTc (τ := Cert.GluCtxReferenceIdeal.τ) (Cert.GluCtxReferenceIdeal.main (F := Ideal))) ⟨m', fun _ => 0, g'⟩ (fun r => ∀ c : Dev Cert.GluCtxReferenceIdeal.nD,
          r.2.mem ((c.tc : Thread Cert.GluCtxReferenceIdeal.nD Cert.GluCtxReferenceIdeal.τ).loc Cert.GluCtxReferenceIdeal.main_v1) = v0 c
          ∧ r.2.mem ((c.tc : Thread Cert.GluCtxReferenceIdeal.nD Cert.GluCtxReferenceIdeal.τ).loc Cert.GluCtxReferenceIdeal.main_arg0) = m' ((c.tc : Thread Cert.GluCtxReferenceIdeal.nD Cert.GluCtxReferenceIdeal.τ).loc Cert.GluCtxReferenceIdeal.main_arg0)
          ∧ r.2.mem ((c.tc : Thread Cert.GluCtxReferenceIdeal.nD Cert.GluCtxReferenceIdeal.τ).loc Cert.GluCtxReferenceIdeal.main_arg1) = m' ((c.tc : Thread Cert.GluCtxReferenceIdeal.nD Cert.GluCtxReferenceIdeal.τ).loc Cert.GluCtxReferenceIdeal.main_arg1))

def preserves_GluCtxT_GluCtxTIdeal : Prop :=
  True

def algebraic_GluCtxTIdeal_GluCtxTReferenceIdeal [hGluCtxTIdeal : Cert.GluCtxTIdeal.Facts] [hGluCtxTReferenceIdeal : Cert.GluCtxTReferenceIdeal.Facts] : Prop :=
  ∀ (m : (ℓ : Loc Cert.GluCtxTIdeal.nD Cert.GluCtxTIdeal.τ Cert.GluCtxTIdeal.sig) → Buf (Elt Ideal) ℓ) (g : Dev Cert.GluCtxTIdeal.nD → PrngReg)
    (m' : (ℓ : Loc Cert.GluCtxTReferenceIdeal.nD Cert.GluCtxTReferenceIdeal.τ Cert.GluCtxTReferenceIdeal.sig) → Buf (Elt Ideal) ℓ) (g' : Dev Cert.GluCtxTReferenceIdeal.nD → PrngReg), Pre_GluCtxTIdeal m →
    (∀ c : Dev Cert.GluCtxTIdeal.nD,
      m' ((c.tc : Thread Cert.GluCtxTReferenceIdeal.nD Cert.GluCtxTReferenceIdeal.τ).loc Cert.GluCtxTReferenceIdeal.main_arg0) = m ((c.tc : Thread Cert.GluCtxTIdeal.nD Cert.GluCtxTIdeal.τ).loc Cert.GluCtxTIdeal.main_arg0)
      ∧ m' ((c.tc : Thread Cert.GluCtxTReferenceIdeal.nD Cert.GluCtxTReferenceIdeal.τ).loc Cert.GluCtxTReferenceIdeal.main_arg1) = m ((c.tc : Thread Cert.GluCtxTIdeal.nD Cert.GluCtxTIdeal.τ).loc Cert.GluCtxTIdeal.main_arg1)
      ∧ m' ((c.tc : Thread Cert.GluCtxTReferenceIdeal.nD Cert.GluCtxTReferenceIdeal.τ).loc Cert.GluCtxTReferenceIdeal.main_arg2) = m ((c.tc : Thread Cert.GluCtxTIdeal.nD Cert.GluCtxTIdeal.τ).loc Cert.GluCtxTIdeal.main_arg2)) →
    ∃ (v0 : (c : Dev Cert.GluCtxTIdeal.nD) → Buf (Elt Ideal) ((c.tc : Thread Cert.GluCtxTIdeal.nD Cert.GluCtxTIdeal.τ).loc Cert.GluCtxTIdeal.main_v3)),
      θ_run (Cert.GluCtxTIdeal.defs (F := Ideal)) (onTc (τ := Cert.GluCtxTIdeal.τ) (Cert.GluCtxTIdeal.main (F := Ideal))) ⟨m, fun _ => 0, g⟩ (fun r => ∀ c : Dev Cert.GluCtxTIdeal.nD,
          r.2.mem ((c.tc : Thread Cert.GluCtxTIdeal.nD Cert.GluCtxTIdeal.τ).loc Cert.GluCtxTIdeal.main_v3) = v0 c
          ∧ r.2.mem ((c.tc : Thread Cert.GluCtxTIdeal.nD Cert.GluCtxTIdeal.τ).loc Cert.GluCtxTIdeal.main_arg0) = m ((c.tc : Thread Cert.GluCtxTIdeal.nD Cert.GluCtxTIdeal.τ).loc Cert.GluCtxTIdeal.main_arg0)
          ∧ r.2.mem ((c.tc : Thread Cert.GluCtxTIdeal.nD Cert.GluCtxTIdeal.τ).loc Cert.GluCtxTIdeal.main_arg1) = m ((c.tc : Thread Cert.GluCtxTIdeal.nD Cert.GluCtxTIdeal.τ).loc Cert.GluCtxTIdeal.main_arg1)
          ∧ r.2.mem ((c.tc : Thread Cert.GluCtxTIdeal.nD Cert.GluCtxTIdeal.τ).loc Cert.GluCtxTIdeal.main_arg2) = m ((c.tc : Thread Cert.GluCtxTIdeal.nD Cert.GluCtxTIdeal.τ).loc Cert.GluCtxTIdeal.main_arg2))
      ∧ θ_run (Cert.GluCtxTReferenceIdeal.defs (F := Ideal)) (onTc (τ := Cert.GluCtxTReferenceIdeal.τ) (Cert.GluCtxTReferenceIdeal.main (F := Ideal))) ⟨m', fun _ => 0, g'⟩ (fun r => ∀ c : Dev Cert.GluCtxTReferenceIdeal.nD,
          r.2.mem ((c.tc : Thread Cert.GluCtxTReferenceIdeal.nD Cert.GluCtxTReferenceIdeal.τ).loc Cert.GluCtxTReferenceIdeal.main_v4) = v0 c
          ∧ r.2.mem ((c.tc : Thread Cert.GluCtxTReferenceIdeal.nD Cert.GluCtxTReferenceIdeal.τ).loc Cert.GluCtxTReferenceIdeal.main_arg0) = m' ((c.tc : Thread Cert.GluCtxTReferenceIdeal.nD Cert.GluCtxTReferenceIdeal.τ).loc Cert.GluCtxTReferenceIdeal.main_arg0)
          ∧ r.2.mem ((c.tc : Thread Cert.GluCtxTReferenceIdeal.nD Cert.GluCtxTReferenceIdeal.τ).loc Cert.GluCtxTReferenceIdeal.main_arg1) = m' ((c.tc : Thread Cert.GluCtxTReferenceIdeal.nD Cert.GluCtxTReferenceIdeal.τ).loc Cert.GluCtxTReferenceIdeal.main_arg1)
          ∧ r.2.mem ((c.tc : Thread Cert.GluCtxTReferenceIdeal.nD Cert.GluCtxTReferenceIdeal.τ).loc Cert.GluCtxTReferenceIdeal.main_arg2) = m' ((c.tc : Thread Cert.GluCtxTReferenceIdeal.nD Cert.GluCtxTReferenceIdeal.τ).loc Cert.GluCtxTReferenceIdeal.main_arg2))

def preserves_GluCtxW_GluCtxWIdeal : Prop :=
  True

def algebraic_GluCtxWIdeal_GluCtxWReferenceIdeal [hGluCtxWIdeal : Cert.GluCtxWIdeal.Facts] [hGluCtxWReferenceIdeal : Cert.GluCtxWReferenceIdeal.Facts] : Prop :=
  ∀ (m : (ℓ : Loc Cert.GluCtxWIdeal.nD Cert.GluCtxWIdeal.τ Cert.GluCtxWIdeal.sig) → Buf (Elt Ideal) ℓ) (g : Dev Cert.GluCtxWIdeal.nD → PrngReg)
    (m' : (ℓ : Loc Cert.GluCtxWReferenceIdeal.nD Cert.GluCtxWReferenceIdeal.τ Cert.GluCtxWReferenceIdeal.sig) → Buf (Elt Ideal) ℓ) (g' : Dev Cert.GluCtxWReferenceIdeal.nD → PrngReg), Pre_GluCtxWIdeal m →
    (∀ c : Dev Cert.GluCtxWIdeal.nD,
      m' ((c.tc : Thread Cert.GluCtxWReferenceIdeal.nD Cert.GluCtxWReferenceIdeal.τ).loc Cert.GluCtxWReferenceIdeal.main_arg0) = m ((c.tc : Thread Cert.GluCtxWIdeal.nD Cert.GluCtxWIdeal.τ).loc Cert.GluCtxWIdeal.main_arg0)
      ∧ m' ((c.tc : Thread Cert.GluCtxWReferenceIdeal.nD Cert.GluCtxWReferenceIdeal.τ).loc Cert.GluCtxWReferenceIdeal.main_arg1) = m ((c.tc : Thread Cert.GluCtxWIdeal.nD Cert.GluCtxWIdeal.τ).loc Cert.GluCtxWIdeal.main_arg1)
      ∧ m' ((c.tc : Thread Cert.GluCtxWReferenceIdeal.nD Cert.GluCtxWReferenceIdeal.τ).loc Cert.GluCtxWReferenceIdeal.main_arg2) = m ((c.tc : Thread Cert.GluCtxWIdeal.nD Cert.GluCtxWIdeal.τ).loc Cert.GluCtxWIdeal.main_arg2)) →
    ∃ (v0 : (c : Dev Cert.GluCtxWIdeal.nD) → Buf (Elt Ideal) ((c.tc : Thread Cert.GluCtxWIdeal.nD Cert.GluCtxWIdeal.τ).loc Cert.GluCtxWIdeal.main_v4)),
      θ_run (Cert.GluCtxWIdeal.defs (F := Ideal)) (onTc (τ := Cert.GluCtxWIdeal.τ) (Cert.GluCtxWIdeal.main (F := Ideal))) ⟨m, fun _ => 0, g⟩ (fun r => ∀ c : Dev Cert.GluCtxWIdeal.nD,
          r.2.mem ((c.tc : Thread Cert.GluCtxWIdeal.nD Cert.GluCtxWIdeal.τ).loc Cert.GluCtxWIdeal.main_v4) = v0 c
          ∧ r.2.mem ((c.tc : Thread Cert.GluCtxWIdeal.nD Cert.GluCtxWIdeal.τ).loc Cert.GluCtxWIdeal.main_arg0) = m ((c.tc : Thread Cert.GluCtxWIdeal.nD Cert.GluCtxWIdeal.τ).loc Cert.GluCtxWIdeal.main_arg0)
          ∧ r.2.mem ((c.tc : Thread Cert.GluCtxWIdeal.nD Cert.GluCtxWIdeal.τ).loc Cert.GluCtxWIdeal.main_arg1) = m ((c.tc : Thread Cert.GluCtxWIdeal.nD Cert.GluCtxWIdeal.τ).loc Cert.GluCtxWIdeal.main_arg1)
          ∧ r.2.mem ((c.tc : Thread Cert.GluCtxWIdeal.nD Cert.GluCtxWIdeal.τ).loc Cert.GluCtxWIdeal.main_arg2) = m ((c.tc : Thread Cert.GluCtxWIdeal.nD Cert.GluCtxWIdeal.τ).loc Cert.GluCtxWIdeal.main_arg2))
      ∧ θ_run (Cert.GluCtxWReferenceIdeal.defs (F := Ideal)) (onTc (τ := Cert.GluCtxWReferenceIdeal.τ) (Cert.GluCtxWReferenceIdeal.main (F := Ideal))) ⟨m', fun _ => 0, g'⟩ (fun r => ∀ c : Dev Cert.GluCtxWReferenceIdeal.nD,
          r.2.mem ((c.tc : Thread Cert.GluCtxWReferenceIdeal.nD Cert.GluCtxWReferenceIdeal.τ).loc Cert.GluCtxWReferenceIdeal.main_v4) = v0 c
          ∧ r.2.mem ((c.tc : Thread Cert.GluCtxWReferenceIdeal.nD Cert.GluCtxWReferenceIdeal.τ).loc Cert.GluCtxWReferenceIdeal.main_arg0) = m' ((c.tc : Thread Cert.GluCtxWReferenceIdeal.nD Cert.GluCtxWReferenceIdeal.τ).loc Cert.GluCtxWReferenceIdeal.main_arg0)
          ∧ r.2.mem ((c.tc : Thread Cert.GluCtxWReferenceIdeal.nD Cert.GluCtxWReferenceIdeal.τ).loc Cert.GluCtxWReferenceIdeal.main_arg1) = m' ((c.tc : Thread Cert.GluCtxWReferenceIdeal.nD Cert.GluCtxWReferenceIdeal.τ).loc Cert.GluCtxWReferenceIdeal.main_arg1)
          ∧ r.2.mem ((c.tc : Thread Cert.GluCtxWReferenceIdeal.nD Cert.GluCtxWReferenceIdeal.τ).loc Cert.GluCtxWReferenceIdeal.main_arg2) = m' ((c.tc : Thread Cert.GluCtxWReferenceIdeal.nD Cert.GluCtxWReferenceIdeal.τ).loc Cert.GluCtxWReferenceIdeal.main_arg2))

def preserves_AdamUp_AdamUpIdeal : Prop :=
  True

def algebraic_AdamUpIdeal_AdamUpReferenceIdeal [hAdamUpIdeal : Cert.AdamUpIdeal.Facts] [hAdamUpReferenceIdeal : Cert.AdamUpReferenceIdeal.Facts] : Prop :=
  ∀ (m : (ℓ : Loc Cert.AdamUpIdeal.nD Cert.AdamUpIdeal.τ Cert.AdamUpIdeal.sig) → Buf (Elt Ideal) ℓ) (g : Dev Cert.AdamUpIdeal.nD → PrngReg)
    (m' : (ℓ : Loc Cert.AdamUpReferenceIdeal.nD Cert.AdamUpReferenceIdeal.τ Cert.AdamUpReferenceIdeal.sig) → Buf (Elt Ideal) ℓ) (g' : Dev Cert.AdamUpReferenceIdeal.nD → PrngReg), Pre_AdamUpIdeal m →
    (∀ c : Dev Cert.AdamUpIdeal.nD,
      m' ((c.tc : Thread Cert.AdamUpReferenceIdeal.nD Cert.AdamUpReferenceIdeal.τ).loc Cert.AdamUpReferenceIdeal.main_arg0) = m ((c.tc : Thread Cert.AdamUpIdeal.nD Cert.AdamUpIdeal.τ).loc Cert.AdamUpIdeal.main_arg0)
      ∧ m' ((c.tc : Thread Cert.AdamUpReferenceIdeal.nD Cert.AdamUpReferenceIdeal.τ).loc Cert.AdamUpReferenceIdeal.main_arg1) = m ((c.tc : Thread Cert.AdamUpIdeal.nD Cert.AdamUpIdeal.τ).loc Cert.AdamUpIdeal.main_arg1)
      ∧ m' ((c.tc : Thread Cert.AdamUpReferenceIdeal.nD Cert.AdamUpReferenceIdeal.τ).loc Cert.AdamUpReferenceIdeal.main_arg2) = m ((c.tc : Thread Cert.AdamUpIdeal.nD Cert.AdamUpIdeal.τ).loc Cert.AdamUpIdeal.main_arg2)
      ∧ m' ((c.tc : Thread Cert.AdamUpReferenceIdeal.nD Cert.AdamUpReferenceIdeal.τ).loc Cert.AdamUpReferenceIdeal.main_arg3) = m ((c.tc : Thread Cert.AdamUpIdeal.nD Cert.AdamUpIdeal.τ).loc Cert.AdamUpIdeal.main_arg3)) →
    ∃ (v0 : (c : Dev Cert.AdamUpIdeal.nD) → Buf (Elt Ideal) ((c.tc : Thread Cert.AdamUpIdeal.nD Cert.AdamUpIdeal.τ).loc Cert.AdamUpIdeal.main_v4_0)) (v1 : (c : Dev Cert.AdamUpIdeal.nD) → Buf (Elt Ideal) ((c.tc : Thread Cert.AdamUpIdeal.nD Cert.AdamUpIdeal.τ).loc Cert.AdamUpIdeal.main_v4_1)) (v2 : (c : Dev Cert.AdamUpIdeal.nD) → Buf (Elt Ideal) ((c.tc : Thread Cert.AdamUpIdeal.nD Cert.AdamUpIdeal.τ).loc Cert.AdamUpIdeal.main_v4_2)) (v3 : (c : Dev Cert.AdamUpIdeal.nD) → Buf (Elt Ideal) ((c.tc : Thread Cert.AdamUpIdeal.nD Cert.AdamUpIdeal.τ).loc Cert.AdamUpIdeal.main_v4_3)),
      θ_run (Cert.AdamUpIdeal.defs (F := Ideal)) (onTc (τ := Cert.AdamUpIdeal.τ) (Cert.AdamUpIdeal.main (F := Ideal))) ⟨m, fun _ => 0, g⟩ (fun r => ∀ c : Dev Cert.AdamUpIdeal.nD,
          r.2.mem ((c.tc : Thread Cert.AdamUpIdeal.nD Cert.AdamUpIdeal.τ).loc Cert.AdamUpIdeal.main_v4_0) = v0 c
          ∧ r.2.mem ((c.tc : Thread Cert.AdamUpIdeal.nD Cert.AdamUpIdeal.τ).loc Cert.AdamUpIdeal.main_v4_1) = v1 c
          ∧ r.2.mem ((c.tc : Thread Cert.AdamUpIdeal.nD Cert.AdamUpIdeal.τ).loc Cert.AdamUpIdeal.main_v4_2) = v2 c
          ∧ r.2.mem ((c.tc : Thread Cert.AdamUpIdeal.nD Cert.AdamUpIdeal.τ).loc Cert.AdamUpIdeal.main_v4_3) = v3 c
          ∧ r.2.mem ((c.tc : Thread Cert.AdamUpIdeal.nD Cert.AdamUpIdeal.τ).loc Cert.AdamUpIdeal.main_arg0) = m ((c.tc : Thread Cert.AdamUpIdeal.nD Cert.AdamUpIdeal.τ).loc Cert.AdamUpIdeal.main_arg0)
          ∧ r.2.mem ((c.tc : Thread Cert.AdamUpIdeal.nD Cert.AdamUpIdeal.τ).loc Cert.AdamUpIdeal.main_arg1) = m ((c.tc : Thread Cert.AdamUpIdeal.nD Cert.AdamUpIdeal.τ).loc Cert.AdamUpIdeal.main_arg1)
          ∧ r.2.mem ((c.tc : Thread Cert.AdamUpIdeal.nD Cert.AdamUpIdeal.τ).loc Cert.AdamUpIdeal.main_arg2) = m ((c.tc : Thread Cert.AdamUpIdeal.nD Cert.AdamUpIdeal.τ).loc Cert.AdamUpIdeal.main_arg2)
          ∧ r.2.mem ((c.tc : Thread Cert.AdamUpIdeal.nD Cert.AdamUpIdeal.τ).loc Cert.AdamUpIdeal.main_arg3) = m ((c.tc : Thread Cert.AdamUpIdeal.nD Cert.AdamUpIdeal.τ).loc Cert.AdamUpIdeal.main_arg3))
      ∧ θ_run (Cert.AdamUpReferenceIdeal.defs (F := Ideal)) (onTc (τ := Cert.AdamUpReferenceIdeal.τ) (Cert.AdamUpReferenceIdeal.main (F := Ideal))) ⟨m', fun _ => 0, g'⟩ (fun r => ∀ c : Dev Cert.AdamUpReferenceIdeal.nD,
          r.2.mem ((c.tc : Thread Cert.AdamUpReferenceIdeal.nD Cert.AdamUpReferenceIdeal.τ).loc Cert.AdamUpReferenceIdeal.main_v26) = v0 c
          ∧ r.2.mem ((c.tc : Thread Cert.AdamUpReferenceIdeal.nD Cert.AdamUpReferenceIdeal.τ).loc Cert.AdamUpReferenceIdeal.main_v27) = v1 c
          ∧ r.2.mem ((c.tc : Thread Cert.AdamUpReferenceIdeal.nD Cert.AdamUpReferenceIdeal.τ).loc Cert.AdamUpReferenceIdeal.main_v28) = v2 c
          ∧ r.2.mem ((c.tc : Thread Cert.AdamUpReferenceIdeal.nD Cert.AdamUpReferenceIdeal.τ).loc Cert.AdamUpReferenceIdeal.main_v29) = v3 c
          ∧ r.2.mem ((c.tc : Thread Cert.AdamUpReferenceIdeal.nD Cert.AdamUpReferenceIdeal.τ).loc Cert.AdamUpReferenceIdeal.main_arg0) = m' ((c.tc : Thread Cert.AdamUpReferenceIdeal.nD Cert.AdamUpReferenceIdeal.τ).loc Cert.AdamUpReferenceIdeal.main_arg0)
          ∧ r.2.mem ((c.tc : Thread Cert.AdamUpReferenceIdeal.nD Cert.AdamUpReferenceIdeal.τ).loc Cert.AdamUpReferenceIdeal.main_arg1) = m' ((c.tc : Thread Cert.AdamUpReferenceIdeal.nD Cert.AdamUpReferenceIdeal.τ).loc Cert.AdamUpReferenceIdeal.main_arg1)
          ∧ r.2.mem ((c.tc : Thread Cert.AdamUpReferenceIdeal.nD Cert.AdamUpReferenceIdeal.τ).loc Cert.AdamUpReferenceIdeal.main_arg2) = m' ((c.tc : Thread Cert.AdamUpReferenceIdeal.nD Cert.AdamUpReferenceIdeal.τ).loc Cert.AdamUpReferenceIdeal.main_arg2)
          ∧ r.2.mem ((c.tc : Thread Cert.AdamUpReferenceIdeal.nD Cert.AdamUpReferenceIdeal.τ).loc Cert.AdamUpReferenceIdeal.main_arg3) = m' ((c.tc : Thread Cert.AdamUpReferenceIdeal.nD Cert.AdamUpReferenceIdeal.τ).loc Cert.AdamUpReferenceIdeal.main_arg3))

def preserves_AdamDown_AdamDownIdeal : Prop :=
  True

def algebraic_AdamDownIdeal_AdamDownReferenceIdeal [hAdamDownIdeal : Cert.AdamDownIdeal.Facts] [hAdamDownReferenceIdeal : Cert.AdamDownReferenceIdeal.Facts] : Prop :=
  ∀ (m : (ℓ : Loc Cert.AdamDownIdeal.nD Cert.AdamDownIdeal.τ Cert.AdamDownIdeal.sig) → Buf (Elt Ideal) ℓ) (g : Dev Cert.AdamDownIdeal.nD → PrngReg)
    (m' : (ℓ : Loc Cert.AdamDownReferenceIdeal.nD Cert.AdamDownReferenceIdeal.τ Cert.AdamDownReferenceIdeal.sig) → Buf (Elt Ideal) ℓ) (g' : Dev Cert.AdamDownReferenceIdeal.nD → PrngReg), Pre_AdamDownIdeal m →
    (∀ c : Dev Cert.AdamDownIdeal.nD,
      m' ((c.tc : Thread Cert.AdamDownReferenceIdeal.nD Cert.AdamDownReferenceIdeal.τ).loc Cert.AdamDownReferenceIdeal.main_arg0) = m ((c.tc : Thread Cert.AdamDownIdeal.nD Cert.AdamDownIdeal.τ).loc Cert.AdamDownIdeal.main_arg0)
      ∧ m' ((c.tc : Thread Cert.AdamDownReferenceIdeal.nD Cert.AdamDownReferenceIdeal.τ).loc Cert.AdamDownReferenceIdeal.main_arg1) = m ((c.tc : Thread Cert.AdamDownIdeal.nD Cert.AdamDownIdeal.τ).loc Cert.AdamDownIdeal.main_arg1)
      ∧ m' ((c.tc : Thread Cert.AdamDownReferenceIdeal.nD Cert.AdamDownReferenceIdeal.τ).loc Cert.AdamDownReferenceIdeal.main_arg2) = m ((c.tc : Thread Cert.AdamDownIdeal.nD Cert.AdamDownIdeal.τ).loc Cert.AdamDownIdeal.main_arg2)
      ∧ m' ((c.tc : Thread Cert.AdamDownReferenceIdeal.nD Cert.AdamDownReferenceIdeal.τ).loc Cert.AdamDownReferenceIdeal.main_arg3) = m ((c.tc : Thread Cert.AdamDownIdeal.nD Cert.AdamDownIdeal.τ).loc Cert.AdamDownIdeal.main_arg3)) →
    ∃ (v0 : (c : Dev Cert.AdamDownIdeal.nD) → Buf (Elt Ideal) ((c.tc : Thread Cert.AdamDownIdeal.nD Cert.AdamDownIdeal.τ).loc Cert.AdamDownIdeal.main_v4_0)) (v1 : (c : Dev Cert.AdamDownIdeal.nD) → Buf (Elt Ideal) ((c.tc : Thread Cert.AdamDownIdeal.nD Cert.AdamDownIdeal.τ).loc Cert.AdamDownIdeal.main_v4_1)) (v2 : (c : Dev Cert.AdamDownIdeal.nD) → Buf (Elt Ideal) ((c.tc : Thread Cert.AdamDownIdeal.nD Cert.AdamDownIdeal.τ).loc Cert.AdamDownIdeal.main_v4_2)) (v3 : (c : Dev Cert.AdamDownIdeal.nD) → Buf (Elt Ideal) ((c.tc : Thread Cert.AdamDownIdeal.nD Cert.AdamDownIdeal.τ).loc Cert.AdamDownIdeal.main_v4_3)),
      θ_run (Cert.AdamDownIdeal.defs (F := Ideal)) (onTc (τ := Cert.AdamDownIdeal.τ) (Cert.AdamDownIdeal.main (F := Ideal))) ⟨m, fun _ => 0, g⟩ (fun r => ∀ c : Dev Cert.AdamDownIdeal.nD,
          r.2.mem ((c.tc : Thread Cert.AdamDownIdeal.nD Cert.AdamDownIdeal.τ).loc Cert.AdamDownIdeal.main_v4_0) = v0 c
          ∧ r.2.mem ((c.tc : Thread Cert.AdamDownIdeal.nD Cert.AdamDownIdeal.τ).loc Cert.AdamDownIdeal.main_v4_1) = v1 c
          ∧ r.2.mem ((c.tc : Thread Cert.AdamDownIdeal.nD Cert.AdamDownIdeal.τ).loc Cert.AdamDownIdeal.main_v4_2) = v2 c
          ∧ r.2.mem ((c.tc : Thread Cert.AdamDownIdeal.nD Cert.AdamDownIdeal.τ).loc Cert.AdamDownIdeal.main_v4_3) = v3 c
          ∧ r.2.mem ((c.tc : Thread Cert.AdamDownIdeal.nD Cert.AdamDownIdeal.τ).loc Cert.AdamDownIdeal.main_arg0) = m ((c.tc : Thread Cert.AdamDownIdeal.nD Cert.AdamDownIdeal.τ).loc Cert.AdamDownIdeal.main_arg0)
          ∧ r.2.mem ((c.tc : Thread Cert.AdamDownIdeal.nD Cert.AdamDownIdeal.τ).loc Cert.AdamDownIdeal.main_arg1) = m ((c.tc : Thread Cert.AdamDownIdeal.nD Cert.AdamDownIdeal.τ).loc Cert.AdamDownIdeal.main_arg1)
          ∧ r.2.mem ((c.tc : Thread Cert.AdamDownIdeal.nD Cert.AdamDownIdeal.τ).loc Cert.AdamDownIdeal.main_arg2) = m ((c.tc : Thread Cert.AdamDownIdeal.nD Cert.AdamDownIdeal.τ).loc Cert.AdamDownIdeal.main_arg2)
          ∧ r.2.mem ((c.tc : Thread Cert.AdamDownIdeal.nD Cert.AdamDownIdeal.τ).loc Cert.AdamDownIdeal.main_arg3) = m ((c.tc : Thread Cert.AdamDownIdeal.nD Cert.AdamDownIdeal.τ).loc Cert.AdamDownIdeal.main_arg3))
      ∧ θ_run (Cert.AdamDownReferenceIdeal.defs (F := Ideal)) (onTc (τ := Cert.AdamDownReferenceIdeal.τ) (Cert.AdamDownReferenceIdeal.main (F := Ideal))) ⟨m', fun _ => 0, g'⟩ (fun r => ∀ c : Dev Cert.AdamDownReferenceIdeal.nD,
          r.2.mem ((c.tc : Thread Cert.AdamDownReferenceIdeal.nD Cert.AdamDownReferenceIdeal.τ).loc Cert.AdamDownReferenceIdeal.main_v26) = v0 c
          ∧ r.2.mem ((c.tc : Thread Cert.AdamDownReferenceIdeal.nD Cert.AdamDownReferenceIdeal.τ).loc Cert.AdamDownReferenceIdeal.main_v27) = v1 c
          ∧ r.2.mem ((c.tc : Thread Cert.AdamDownReferenceIdeal.nD Cert.AdamDownReferenceIdeal.τ).loc Cert.AdamDownReferenceIdeal.main_v28) = v2 c
          ∧ r.2.mem ((c.tc : Thread Cert.AdamDownReferenceIdeal.nD Cert.AdamDownReferenceIdeal.τ).loc Cert.AdamDownReferenceIdeal.main_v29) = v3 c
          ∧ r.2.mem ((c.tc : Thread Cert.AdamDownReferenceIdeal.nD Cert.AdamDownReferenceIdeal.τ).loc Cert.AdamDownReferenceIdeal.main_arg0) = m' ((c.tc : Thread Cert.AdamDownReferenceIdeal.nD Cert.AdamDownReferenceIdeal.τ).loc Cert.AdamDownReferenceIdeal.main_arg0)
          ∧ r.2.mem ((c.tc : Thread Cert.AdamDownReferenceIdeal.nD Cert.AdamDownReferenceIdeal.τ).loc Cert.AdamDownReferenceIdeal.main_arg1) = m' ((c.tc : Thread Cert.AdamDownReferenceIdeal.nD Cert.AdamDownReferenceIdeal.τ).loc Cert.AdamDownReferenceIdeal.main_arg1)
          ∧ r.2.mem ((c.tc : Thread Cert.AdamDownReferenceIdeal.nD Cert.AdamDownReferenceIdeal.τ).loc Cert.AdamDownReferenceIdeal.main_arg2) = m' ((c.tc : Thread Cert.AdamDownReferenceIdeal.nD Cert.AdamDownReferenceIdeal.τ).loc Cert.AdamDownReferenceIdeal.main_arg2)
          ∧ r.2.mem ((c.tc : Thread Cert.AdamDownReferenceIdeal.nD Cert.AdamDownReferenceIdeal.τ).loc Cert.AdamDownReferenceIdeal.main_arg3) = m' ((c.tc : Thread Cert.AdamDownReferenceIdeal.nD Cert.AdamDownReferenceIdeal.τ).loc Cert.AdamDownReferenceIdeal.main_arg3))

def preserves_AdamEvenIn_AdamEvenInIdeal : Prop :=
  True

def algebraic_AdamEvenInIdeal_AdamEvenInReferenceIdeal [hAdamEvenInIdeal : Cert.AdamEvenInIdeal.Facts] [hAdamEvenInReferenceIdeal : Cert.AdamEvenInReferenceIdeal.Facts] : Prop :=
  ∀ (m : (ℓ : Loc Cert.AdamEvenInIdeal.nD Cert.AdamEvenInIdeal.τ Cert.AdamEvenInIdeal.sig) → Buf (Elt Ideal) ℓ) (g : Dev Cert.AdamEvenInIdeal.nD → PrngReg)
    (m' : (ℓ : Loc Cert.AdamEvenInReferenceIdeal.nD Cert.AdamEvenInReferenceIdeal.τ Cert.AdamEvenInReferenceIdeal.sig) → Buf (Elt Ideal) ℓ) (g' : Dev Cert.AdamEvenInReferenceIdeal.nD → PrngReg), Pre_AdamEvenInIdeal m →
    (∀ c : Dev Cert.AdamEvenInIdeal.nD,
      m' ((c.tc : Thread Cert.AdamEvenInReferenceIdeal.nD Cert.AdamEvenInReferenceIdeal.τ).loc Cert.AdamEvenInReferenceIdeal.main_arg0) = m ((c.tc : Thread Cert.AdamEvenInIdeal.nD Cert.AdamEvenInIdeal.τ).loc Cert.AdamEvenInIdeal.main_arg0)
      ∧ m' ((c.tc : Thread Cert.AdamEvenInReferenceIdeal.nD Cert.AdamEvenInReferenceIdeal.τ).loc Cert.AdamEvenInReferenceIdeal.main_arg1) = m ((c.tc : Thread Cert.AdamEvenInIdeal.nD Cert.AdamEvenInIdeal.τ).loc Cert.AdamEvenInIdeal.main_arg1)
      ∧ m' ((c.tc : Thread Cert.AdamEvenInReferenceIdeal.nD Cert.AdamEvenInReferenceIdeal.τ).loc Cert.AdamEvenInReferenceIdeal.main_arg2) = m ((c.tc : Thread Cert.AdamEvenInIdeal.nD Cert.AdamEvenInIdeal.τ).loc Cert.AdamEvenInIdeal.main_arg2)
      ∧ m' ((c.tc : Thread Cert.AdamEvenInReferenceIdeal.nD Cert.AdamEvenInReferenceIdeal.τ).loc Cert.AdamEvenInReferenceIdeal.main_arg3) = m ((c.tc : Thread Cert.AdamEvenInIdeal.nD Cert.AdamEvenInIdeal.τ).loc Cert.AdamEvenInIdeal.main_arg3)) →
    ∃ (v0 : (c : Dev Cert.AdamEvenInIdeal.nD) → Buf (Elt Ideal) ((c.tc : Thread Cert.AdamEvenInIdeal.nD Cert.AdamEvenInIdeal.τ).loc Cert.AdamEvenInIdeal.main_v4_0)) (v1 : (c : Dev Cert.AdamEvenInIdeal.nD) → Buf (Elt Ideal) ((c.tc : Thread Cert.AdamEvenInIdeal.nD Cert.AdamEvenInIdeal.τ).loc Cert.AdamEvenInIdeal.main_v4_1)) (v2 : (c : Dev Cert.AdamEvenInIdeal.nD) → Buf (Elt Ideal) ((c.tc : Thread Cert.AdamEvenInIdeal.nD Cert.AdamEvenInIdeal.τ).loc Cert.AdamEvenInIdeal.main_v4_2)) (v3 : (c : Dev Cert.AdamEvenInIdeal.nD) → Buf (Elt Ideal) ((c.tc : Thread Cert.AdamEvenInIdeal.nD Cert.AdamEvenInIdeal.τ).loc Cert.AdamEvenInIdeal.main_v4_3)),
      θ_run (Cert.AdamEvenInIdeal.defs (F := Ideal)) (onTc (τ := Cert.AdamEvenInIdeal.τ) (Cert.AdamEvenInIdeal.main (F := Ideal))) ⟨m, fun _ => 0, g⟩ (fun r => ∀ c : Dev Cert.AdamEvenInIdeal.nD,
          r.2.mem ((c.tc : Thread Cert.AdamEvenInIdeal.nD Cert.AdamEvenInIdeal.τ).loc Cert.AdamEvenInIdeal.main_v4_0) = v0 c
          ∧ r.2.mem ((c.tc : Thread Cert.AdamEvenInIdeal.nD Cert.AdamEvenInIdeal.τ).loc Cert.AdamEvenInIdeal.main_v4_1) = v1 c
          ∧ r.2.mem ((c.tc : Thread Cert.AdamEvenInIdeal.nD Cert.AdamEvenInIdeal.τ).loc Cert.AdamEvenInIdeal.main_v4_2) = v2 c
          ∧ r.2.mem ((c.tc : Thread Cert.AdamEvenInIdeal.nD Cert.AdamEvenInIdeal.τ).loc Cert.AdamEvenInIdeal.main_v4_3) = v3 c
          ∧ r.2.mem ((c.tc : Thread Cert.AdamEvenInIdeal.nD Cert.AdamEvenInIdeal.τ).loc Cert.AdamEvenInIdeal.main_arg0) = m ((c.tc : Thread Cert.AdamEvenInIdeal.nD Cert.AdamEvenInIdeal.τ).loc Cert.AdamEvenInIdeal.main_arg0)
          ∧ r.2.mem ((c.tc : Thread Cert.AdamEvenInIdeal.nD Cert.AdamEvenInIdeal.τ).loc Cert.AdamEvenInIdeal.main_arg1) = m ((c.tc : Thread Cert.AdamEvenInIdeal.nD Cert.AdamEvenInIdeal.τ).loc Cert.AdamEvenInIdeal.main_arg1)
          ∧ r.2.mem ((c.tc : Thread Cert.AdamEvenInIdeal.nD Cert.AdamEvenInIdeal.τ).loc Cert.AdamEvenInIdeal.main_arg2) = m ((c.tc : Thread Cert.AdamEvenInIdeal.nD Cert.AdamEvenInIdeal.τ).loc Cert.AdamEvenInIdeal.main_arg2)
          ∧ r.2.mem ((c.tc : Thread Cert.AdamEvenInIdeal.nD Cert.AdamEvenInIdeal.τ).loc Cert.AdamEvenInIdeal.main_arg3) = m ((c.tc : Thread Cert.AdamEvenInIdeal.nD Cert.AdamEvenInIdeal.τ).loc Cert.AdamEvenInIdeal.main_arg3))
      ∧ θ_run (Cert.AdamEvenInReferenceIdeal.defs (F := Ideal)) (onTc (τ := Cert.AdamEvenInReferenceIdeal.τ) (Cert.AdamEvenInReferenceIdeal.main (F := Ideal))) ⟨m', fun _ => 0, g'⟩ (fun r => ∀ c : Dev Cert.AdamEvenInReferenceIdeal.nD,
          r.2.mem ((c.tc : Thread Cert.AdamEvenInReferenceIdeal.nD Cert.AdamEvenInReferenceIdeal.τ).loc Cert.AdamEvenInReferenceIdeal.main_v26) = v0 c
          ∧ r.2.mem ((c.tc : Thread Cert.AdamEvenInReferenceIdeal.nD Cert.AdamEvenInReferenceIdeal.τ).loc Cert.AdamEvenInReferenceIdeal.main_v27) = v1 c
          ∧ r.2.mem ((c.tc : Thread Cert.AdamEvenInReferenceIdeal.nD Cert.AdamEvenInReferenceIdeal.τ).loc Cert.AdamEvenInReferenceIdeal.main_v28) = v2 c
          ∧ r.2.mem ((c.tc : Thread Cert.AdamEvenInReferenceIdeal.nD Cert.AdamEvenInReferenceIdeal.τ).loc Cert.AdamEvenInReferenceIdeal.main_v29) = v3 c
          ∧ r.2.mem ((c.tc : Thread Cert.AdamEvenInReferenceIdeal.nD Cert.AdamEvenInReferenceIdeal.τ).loc Cert.AdamEvenInReferenceIdeal.main_arg0) = m' ((c.tc : Thread Cert.AdamEvenInReferenceIdeal.nD Cert.AdamEvenInReferenceIdeal.τ).loc Cert.AdamEvenInReferenceIdeal.main_arg0)
          ∧ r.2.mem ((c.tc : Thread Cert.AdamEvenInReferenceIdeal.nD Cert.AdamEvenInReferenceIdeal.τ).loc Cert.AdamEvenInReferenceIdeal.main_arg1) = m' ((c.tc : Thread Cert.AdamEvenInReferenceIdeal.nD Cert.AdamEvenInReferenceIdeal.τ).loc Cert.AdamEvenInReferenceIdeal.main_arg1)
          ∧ r.2.mem ((c.tc : Thread Cert.AdamEvenInReferenceIdeal.nD Cert.AdamEvenInReferenceIdeal.τ).loc Cert.AdamEvenInReferenceIdeal.main_arg2) = m' ((c.tc : Thread Cert.AdamEvenInReferenceIdeal.nD Cert.AdamEvenInReferenceIdeal.τ).loc Cert.AdamEvenInReferenceIdeal.main_arg2)
          ∧ r.2.mem ((c.tc : Thread Cert.AdamEvenInReferenceIdeal.nD Cert.AdamEvenInReferenceIdeal.τ).loc Cert.AdamEvenInReferenceIdeal.main_arg3) = m' ((c.tc : Thread Cert.AdamEvenInReferenceIdeal.nD Cert.AdamEvenInReferenceIdeal.τ).loc Cert.AdamEvenInReferenceIdeal.main_arg3))

def preserves_AdamMix_AdamMixIdeal : Prop :=
  True

def algebraic_AdamMixIdeal_AdamMixReferenceIdeal [hAdamMixIdeal : Cert.AdamMixIdeal.Facts] [hAdamMixReferenceIdeal : Cert.AdamMixReferenceIdeal.Facts] : Prop :=
  ∀ (m : (ℓ : Loc Cert.AdamMixIdeal.nD Cert.AdamMixIdeal.τ Cert.AdamMixIdeal.sig) → Buf (Elt Ideal) ℓ) (g : Dev Cert.AdamMixIdeal.nD → PrngReg)
    (m' : (ℓ : Loc Cert.AdamMixReferenceIdeal.nD Cert.AdamMixReferenceIdeal.τ Cert.AdamMixReferenceIdeal.sig) → Buf (Elt Ideal) ℓ) (g' : Dev Cert.AdamMixReferenceIdeal.nD → PrngReg), Pre_AdamMixIdeal m →
    (∀ c : Dev Cert.AdamMixIdeal.nD,
      m' ((c.tc : Thread Cert.AdamMixReferenceIdeal.nD Cert.AdamMixReferenceIdeal.τ).loc Cert.AdamMixReferenceIdeal.main_arg0) = m ((c.tc : Thread Cert.AdamMixIdeal.nD Cert.AdamMixIdeal.τ).loc Cert.AdamMixIdeal.main_arg0)
      ∧ m' ((c.tc : Thread Cert.AdamMixReferenceIdeal.nD Cert.AdamMixReferenceIdeal.τ).loc Cert.AdamMixReferenceIdeal.main_arg1) = m ((c.tc : Thread Cert.AdamMixIdeal.nD Cert.AdamMixIdeal.τ).loc Cert.AdamMixIdeal.main_arg1)
      ∧ m' ((c.tc : Thread Cert.AdamMixReferenceIdeal.nD Cert.AdamMixReferenceIdeal.τ).loc Cert.AdamMixReferenceIdeal.main_arg2) = m ((c.tc : Thread Cert.AdamMixIdeal.nD Cert.AdamMixIdeal.τ).loc Cert.AdamMixIdeal.main_arg2)
      ∧ m' ((c.tc : Thread Cert.AdamMixReferenceIdeal.nD Cert.AdamMixReferenceIdeal.τ).loc Cert.AdamMixReferenceIdeal.main_arg3) = m ((c.tc : Thread Cert.AdamMixIdeal.nD Cert.AdamMixIdeal.τ).loc Cert.AdamMixIdeal.main_arg3)) →
    ∃ (v0 : (c : Dev Cert.AdamMixIdeal.nD) → Buf (Elt Ideal) ((c.tc : Thread Cert.AdamMixIdeal.nD Cert.AdamMixIdeal.τ).loc Cert.AdamMixIdeal.main_v4_0)) (v1 : (c : Dev Cert.AdamMixIdeal.nD) → Buf (Elt Ideal) ((c.tc : Thread Cert.AdamMixIdeal.nD Cert.AdamMixIdeal.τ).loc Cert.AdamMixIdeal.main_v4_1)) (v2 : (c : Dev Cert.AdamMixIdeal.nD) → Buf (Elt Ideal) ((c.tc : Thread Cert.AdamMixIdeal.nD Cert.AdamMixIdeal.τ).loc Cert.AdamMixIdeal.main_v4_2)) (v3 : (c : Dev Cert.AdamMixIdeal.nD) → Buf (Elt Ideal) ((c.tc : Thread Cert.AdamMixIdeal.nD Cert.AdamMixIdeal.τ).loc Cert.AdamMixIdeal.main_v4_3)),
      θ_run (Cert.AdamMixIdeal.defs (F := Ideal)) (onTc (τ := Cert.AdamMixIdeal.τ) (Cert.AdamMixIdeal.main (F := Ideal))) ⟨m, fun _ => 0, g⟩ (fun r => ∀ c : Dev Cert.AdamMixIdeal.nD,
          r.2.mem ((c.tc : Thread Cert.AdamMixIdeal.nD Cert.AdamMixIdeal.τ).loc Cert.AdamMixIdeal.main_v4_0) = v0 c
          ∧ r.2.mem ((c.tc : Thread Cert.AdamMixIdeal.nD Cert.AdamMixIdeal.τ).loc Cert.AdamMixIdeal.main_v4_1) = v1 c
          ∧ r.2.mem ((c.tc : Thread Cert.AdamMixIdeal.nD Cert.AdamMixIdeal.τ).loc Cert.AdamMixIdeal.main_v4_2) = v2 c
          ∧ r.2.mem ((c.tc : Thread Cert.AdamMixIdeal.nD Cert.AdamMixIdeal.τ).loc Cert.AdamMixIdeal.main_v4_3) = v3 c
          ∧ r.2.mem ((c.tc : Thread Cert.AdamMixIdeal.nD Cert.AdamMixIdeal.τ).loc Cert.AdamMixIdeal.main_arg0) = m ((c.tc : Thread Cert.AdamMixIdeal.nD Cert.AdamMixIdeal.τ).loc Cert.AdamMixIdeal.main_arg0)
          ∧ r.2.mem ((c.tc : Thread Cert.AdamMixIdeal.nD Cert.AdamMixIdeal.τ).loc Cert.AdamMixIdeal.main_arg1) = m ((c.tc : Thread Cert.AdamMixIdeal.nD Cert.AdamMixIdeal.τ).loc Cert.AdamMixIdeal.main_arg1)
          ∧ r.2.mem ((c.tc : Thread Cert.AdamMixIdeal.nD Cert.AdamMixIdeal.τ).loc Cert.AdamMixIdeal.main_arg2) = m ((c.tc : Thread Cert.AdamMixIdeal.nD Cert.AdamMixIdeal.τ).loc Cert.AdamMixIdeal.main_arg2)
          ∧ r.2.mem ((c.tc : Thread Cert.AdamMixIdeal.nD Cert.AdamMixIdeal.τ).loc Cert.AdamMixIdeal.main_arg3) = m ((c.tc : Thread Cert.AdamMixIdeal.nD Cert.AdamMixIdeal.τ).loc Cert.AdamMixIdeal.main_arg3))
      ∧ θ_run (Cert.AdamMixReferenceIdeal.defs (F := Ideal)) (onTc (τ := Cert.AdamMixReferenceIdeal.τ) (Cert.AdamMixReferenceIdeal.main (F := Ideal))) ⟨m', fun _ => 0, g'⟩ (fun r => ∀ c : Dev Cert.AdamMixReferenceIdeal.nD,
          r.2.mem ((c.tc : Thread Cert.AdamMixReferenceIdeal.nD Cert.AdamMixReferenceIdeal.τ).loc Cert.AdamMixReferenceIdeal.main_v26) = v0 c
          ∧ r.2.mem ((c.tc : Thread Cert.AdamMixReferenceIdeal.nD Cert.AdamMixReferenceIdeal.τ).loc Cert.AdamMixReferenceIdeal.main_v27) = v1 c
          ∧ r.2.mem ((c.tc : Thread Cert.AdamMixReferenceIdeal.nD Cert.AdamMixReferenceIdeal.τ).loc Cert.AdamMixReferenceIdeal.main_v28) = v2 c
          ∧ r.2.mem ((c.tc : Thread Cert.AdamMixReferenceIdeal.nD Cert.AdamMixReferenceIdeal.τ).loc Cert.AdamMixReferenceIdeal.main_v29) = v3 c
          ∧ r.2.mem ((c.tc : Thread Cert.AdamMixReferenceIdeal.nD Cert.AdamMixReferenceIdeal.τ).loc Cert.AdamMixReferenceIdeal.main_arg0) = m' ((c.tc : Thread Cert.AdamMixReferenceIdeal.nD Cert.AdamMixReferenceIdeal.τ).loc Cert.AdamMixReferenceIdeal.main_arg0)
          ∧ r.2.mem ((c.tc : Thread Cert.AdamMixReferenceIdeal.nD Cert.AdamMixReferenceIdeal.τ).loc Cert.AdamMixReferenceIdeal.main_arg1) = m' ((c.tc : Thread Cert.AdamMixReferenceIdeal.nD Cert.AdamMixReferenceIdeal.τ).loc Cert.AdamMixReferenceIdeal.main_arg1)
          ∧ r.2.mem ((c.tc : Thread Cert.AdamMixReferenceIdeal.nD Cert.AdamMixReferenceIdeal.τ).loc Cert.AdamMixReferenceIdeal.main_arg2) = m' ((c.tc : Thread Cert.AdamMixReferenceIdeal.nD Cert.AdamMixReferenceIdeal.τ).loc Cert.AdamMixReferenceIdeal.main_arg2)
          ∧ r.2.mem ((c.tc : Thread Cert.AdamMixReferenceIdeal.nD Cert.AdamMixReferenceIdeal.τ).loc Cert.AdamMixReferenceIdeal.main_arg3) = m' ((c.tc : Thread Cert.AdamMixReferenceIdeal.nD Cert.AdamMixReferenceIdeal.τ).loc Cert.AdamMixReferenceIdeal.main_arg3))

def preserves_AdamOddIn_AdamOddInIdeal : Prop :=
  True

def algebraic_AdamOddInIdeal_AdamOddInReferenceIdeal [hAdamOddInIdeal : Cert.AdamOddInIdeal.Facts] [hAdamOddInReferenceIdeal : Cert.AdamOddInReferenceIdeal.Facts] : Prop :=
  ∀ (m : (ℓ : Loc Cert.AdamOddInIdeal.nD Cert.AdamOddInIdeal.τ Cert.AdamOddInIdeal.sig) → Buf (Elt Ideal) ℓ) (g : Dev Cert.AdamOddInIdeal.nD → PrngReg)
    (m' : (ℓ : Loc Cert.AdamOddInReferenceIdeal.nD Cert.AdamOddInReferenceIdeal.τ Cert.AdamOddInReferenceIdeal.sig) → Buf (Elt Ideal) ℓ) (g' : Dev Cert.AdamOddInReferenceIdeal.nD → PrngReg), Pre_AdamOddInIdeal m →
    (∀ c : Dev Cert.AdamOddInIdeal.nD,
      m' ((c.tc : Thread Cert.AdamOddInReferenceIdeal.nD Cert.AdamOddInReferenceIdeal.τ).loc Cert.AdamOddInReferenceIdeal.main_arg0) = m ((c.tc : Thread Cert.AdamOddInIdeal.nD Cert.AdamOddInIdeal.τ).loc Cert.AdamOddInIdeal.main_arg0)
      ∧ m' ((c.tc : Thread Cert.AdamOddInReferenceIdeal.nD Cert.AdamOddInReferenceIdeal.τ).loc Cert.AdamOddInReferenceIdeal.main_arg1) = m ((c.tc : Thread Cert.AdamOddInIdeal.nD Cert.AdamOddInIdeal.τ).loc Cert.AdamOddInIdeal.main_arg1)
      ∧ m' ((c.tc : Thread Cert.AdamOddInReferenceIdeal.nD Cert.AdamOddInReferenceIdeal.τ).loc Cert.AdamOddInReferenceIdeal.main_arg2) = m ((c.tc : Thread Cert.AdamOddInIdeal.nD Cert.AdamOddInIdeal.τ).loc Cert.AdamOddInIdeal.main_arg2)
      ∧ m' ((c.tc : Thread Cert.AdamOddInReferenceIdeal.nD Cert.AdamOddInReferenceIdeal.τ).loc Cert.AdamOddInReferenceIdeal.main_arg3) = m ((c.tc : Thread Cert.AdamOddInIdeal.nD Cert.AdamOddInIdeal.τ).loc Cert.AdamOddInIdeal.main_arg3)) →
    ∃ (v0 : (c : Dev Cert.AdamOddInIdeal.nD) → Buf (Elt Ideal) ((c.tc : Thread Cert.AdamOddInIdeal.nD Cert.AdamOddInIdeal.τ).loc Cert.AdamOddInIdeal.main_v4_0)) (v1 : (c : Dev Cert.AdamOddInIdeal.nD) → Buf (Elt Ideal) ((c.tc : Thread Cert.AdamOddInIdeal.nD Cert.AdamOddInIdeal.τ).loc Cert.AdamOddInIdeal.main_v4_1)) (v2 : (c : Dev Cert.AdamOddInIdeal.nD) → Buf (Elt Ideal) ((c.tc : Thread Cert.AdamOddInIdeal.nD Cert.AdamOddInIdeal.τ).loc Cert.AdamOddInIdeal.main_v4_2)) (v3 : (c : Dev Cert.AdamOddInIdeal.nD) → Buf (Elt Ideal) ((c.tc : Thread Cert.AdamOddInIdeal.nD Cert.AdamOddInIdeal.τ).loc Cert.AdamOddInIdeal.main_v4_3)),
      θ_run (Cert.AdamOddInIdeal.defs (F := Ideal)) (onTc (τ := Cert.AdamOddInIdeal.τ) (Cert.AdamOddInIdeal.main (F := Ideal))) ⟨m, fun _ => 0, g⟩ (fun r => ∀ c : Dev Cert.AdamOddInIdeal.nD,
          r.2.mem ((c.tc : Thread Cert.AdamOddInIdeal.nD Cert.AdamOddInIdeal.τ).loc Cert.AdamOddInIdeal.main_v4_0) = v0 c
          ∧ r.2.mem ((c.tc : Thread Cert.AdamOddInIdeal.nD Cert.AdamOddInIdeal.τ).loc Cert.AdamOddInIdeal.main_v4_1) = v1 c
          ∧ r.2.mem ((c.tc : Thread Cert.AdamOddInIdeal.nD Cert.AdamOddInIdeal.τ).loc Cert.AdamOddInIdeal.main_v4_2) = v2 c
          ∧ r.2.mem ((c.tc : Thread Cert.AdamOddInIdeal.nD Cert.AdamOddInIdeal.τ).loc Cert.AdamOddInIdeal.main_v4_3) = v3 c
          ∧ r.2.mem ((c.tc : Thread Cert.AdamOddInIdeal.nD Cert.AdamOddInIdeal.τ).loc Cert.AdamOddInIdeal.main_arg0) = m ((c.tc : Thread Cert.AdamOddInIdeal.nD Cert.AdamOddInIdeal.τ).loc Cert.AdamOddInIdeal.main_arg0)
          ∧ r.2.mem ((c.tc : Thread Cert.AdamOddInIdeal.nD Cert.AdamOddInIdeal.τ).loc Cert.AdamOddInIdeal.main_arg1) = m ((c.tc : Thread Cert.AdamOddInIdeal.nD Cert.AdamOddInIdeal.τ).loc Cert.AdamOddInIdeal.main_arg1)
          ∧ r.2.mem ((c.tc : Thread Cert.AdamOddInIdeal.nD Cert.AdamOddInIdeal.τ).loc Cert.AdamOddInIdeal.main_arg2) = m ((c.tc : Thread Cert.AdamOddInIdeal.nD Cert.AdamOddInIdeal.τ).loc Cert.AdamOddInIdeal.main_arg2)
          ∧ r.2.mem ((c.tc : Thread Cert.AdamOddInIdeal.nD Cert.AdamOddInIdeal.τ).loc Cert.AdamOddInIdeal.main_arg3) = m ((c.tc : Thread Cert.AdamOddInIdeal.nD Cert.AdamOddInIdeal.τ).loc Cert.AdamOddInIdeal.main_arg3))
      ∧ θ_run (Cert.AdamOddInReferenceIdeal.defs (F := Ideal)) (onTc (τ := Cert.AdamOddInReferenceIdeal.τ) (Cert.AdamOddInReferenceIdeal.main (F := Ideal))) ⟨m', fun _ => 0, g'⟩ (fun r => ∀ c : Dev Cert.AdamOddInReferenceIdeal.nD,
          r.2.mem ((c.tc : Thread Cert.AdamOddInReferenceIdeal.nD Cert.AdamOddInReferenceIdeal.τ).loc Cert.AdamOddInReferenceIdeal.main_v26) = v0 c
          ∧ r.2.mem ((c.tc : Thread Cert.AdamOddInReferenceIdeal.nD Cert.AdamOddInReferenceIdeal.τ).loc Cert.AdamOddInReferenceIdeal.main_v27) = v1 c
          ∧ r.2.mem ((c.tc : Thread Cert.AdamOddInReferenceIdeal.nD Cert.AdamOddInReferenceIdeal.τ).loc Cert.AdamOddInReferenceIdeal.main_v28) = v2 c
          ∧ r.2.mem ((c.tc : Thread Cert.AdamOddInReferenceIdeal.nD Cert.AdamOddInReferenceIdeal.τ).loc Cert.AdamOddInReferenceIdeal.main_v29) = v3 c
          ∧ r.2.mem ((c.tc : Thread Cert.AdamOddInReferenceIdeal.nD Cert.AdamOddInReferenceIdeal.τ).loc Cert.AdamOddInReferenceIdeal.main_arg0) = m' ((c.tc : Thread Cert.AdamOddInReferenceIdeal.nD Cert.AdamOddInReferenceIdeal.τ).loc Cert.AdamOddInReferenceIdeal.main_arg0)
          ∧ r.2.mem ((c.tc : Thread Cert.AdamOddInReferenceIdeal.nD Cert.AdamOddInReferenceIdeal.τ).loc Cert.AdamOddInReferenceIdeal.main_arg1) = m' ((c.tc : Thread Cert.AdamOddInReferenceIdeal.nD Cert.AdamOddInReferenceIdeal.τ).loc Cert.AdamOddInReferenceIdeal.main_arg1)
          ∧ r.2.mem ((c.tc : Thread Cert.AdamOddInReferenceIdeal.nD Cert.AdamOddInReferenceIdeal.τ).loc Cert.AdamOddInReferenceIdeal.main_arg2) = m' ((c.tc : Thread Cert.AdamOddInReferenceIdeal.nD Cert.AdamOddInReferenceIdeal.τ).loc Cert.AdamOddInReferenceIdeal.main_arg2)
          ∧ r.2.mem ((c.tc : Thread Cert.AdamOddInReferenceIdeal.nD Cert.AdamOddInReferenceIdeal.τ).loc Cert.AdamOddInReferenceIdeal.main_arg3) = m' ((c.tc : Thread Cert.AdamOddInReferenceIdeal.nD Cert.AdamOddInReferenceIdeal.τ).loc Cert.AdamOddInReferenceIdeal.main_arg3))

def preserves_AdamQ_AdamQIdeal : Prop :=
  True

def algebraic_AdamQIdeal_AdamQReferenceIdeal [hAdamQIdeal : Cert.AdamQIdeal.Facts] [hAdamQReferenceIdeal : Cert.AdamQReferenceIdeal.Facts] : Prop :=
  ∀ (m : (ℓ : Loc Cert.AdamQIdeal.nD Cert.AdamQIdeal.τ Cert.AdamQIdeal.sig) → Buf (Elt Ideal) ℓ) (g : Dev Cert.AdamQIdeal.nD → PrngReg)
    (m' : (ℓ : Loc Cert.AdamQReferenceIdeal.nD Cert.AdamQReferenceIdeal.τ Cert.AdamQReferenceIdeal.sig) → Buf (Elt Ideal) ℓ) (g' : Dev Cert.AdamQReferenceIdeal.nD → PrngReg), Pre_AdamQIdeal m →
    (∀ c : Dev Cert.AdamQIdeal.nD,
      m' ((c.tc : Thread Cert.AdamQReferenceIdeal.nD Cert.AdamQReferenceIdeal.τ).loc Cert.AdamQReferenceIdeal.main_arg0) = m ((c.tc : Thread Cert.AdamQIdeal.nD Cert.AdamQIdeal.τ).loc Cert.AdamQIdeal.main_arg0)
      ∧ m' ((c.tc : Thread Cert.AdamQReferenceIdeal.nD Cert.AdamQReferenceIdeal.τ).loc Cert.AdamQReferenceIdeal.main_arg1) = m ((c.tc : Thread Cert.AdamQIdeal.nD Cert.AdamQIdeal.τ).loc Cert.AdamQIdeal.main_arg1)
      ∧ m' ((c.tc : Thread Cert.AdamQReferenceIdeal.nD Cert.AdamQReferenceIdeal.τ).loc Cert.AdamQReferenceIdeal.main_arg2) = m ((c.tc : Thread Cert.AdamQIdeal.nD Cert.AdamQIdeal.τ).loc Cert.AdamQIdeal.main_arg2)
      ∧ m' ((c.tc : Thread Cert.AdamQReferenceIdeal.nD Cert.AdamQReferenceIdeal.τ).loc Cert.AdamQReferenceIdeal.main_arg3) = m ((c.tc : Thread Cert.AdamQIdeal.nD Cert.AdamQIdeal.τ).loc Cert.AdamQIdeal.main_arg3)) →
    ∃ (v0 : (c : Dev Cert.AdamQIdeal.nD) → Buf (Elt Ideal) ((c.tc : Thread Cert.AdamQIdeal.nD Cert.AdamQIdeal.τ).loc Cert.AdamQIdeal.main_v4_0)) (v1 : (c : Dev Cert.AdamQIdeal.nD) → Buf (Elt Ideal) ((c.tc : Thread Cert.AdamQIdeal.nD Cert.AdamQIdeal.τ).loc Cert.AdamQIdeal.main_v4_1)) (v2 : (c : Dev Cert.AdamQIdeal.nD) → Buf (Elt Ideal) ((c.tc : Thread Cert.AdamQIdeal.nD Cert.AdamQIdeal.τ).loc Cert.AdamQIdeal.main_v4_2)) (v3 : (c : Dev Cert.AdamQIdeal.nD) → Buf (Elt Ideal) ((c.tc : Thread Cert.AdamQIdeal.nD Cert.AdamQIdeal.τ).loc Cert.AdamQIdeal.main_v4_3)),
      θ_run (Cert.AdamQIdeal.defs (F := Ideal)) (onTc (τ := Cert.AdamQIdeal.τ) (Cert.AdamQIdeal.main (F := Ideal))) ⟨m, fun _ => 0, g⟩ (fun r => ∀ c : Dev Cert.AdamQIdeal.nD,
          r.2.mem ((c.tc : Thread Cert.AdamQIdeal.nD Cert.AdamQIdeal.τ).loc Cert.AdamQIdeal.main_v4_0) = v0 c
          ∧ r.2.mem ((c.tc : Thread Cert.AdamQIdeal.nD Cert.AdamQIdeal.τ).loc Cert.AdamQIdeal.main_v4_1) = v1 c
          ∧ r.2.mem ((c.tc : Thread Cert.AdamQIdeal.nD Cert.AdamQIdeal.τ).loc Cert.AdamQIdeal.main_v4_2) = v2 c
          ∧ r.2.mem ((c.tc : Thread Cert.AdamQIdeal.nD Cert.AdamQIdeal.τ).loc Cert.AdamQIdeal.main_v4_3) = v3 c
          ∧ r.2.mem ((c.tc : Thread Cert.AdamQIdeal.nD Cert.AdamQIdeal.τ).loc Cert.AdamQIdeal.main_arg0) = m ((c.tc : Thread Cert.AdamQIdeal.nD Cert.AdamQIdeal.τ).loc Cert.AdamQIdeal.main_arg0)
          ∧ r.2.mem ((c.tc : Thread Cert.AdamQIdeal.nD Cert.AdamQIdeal.τ).loc Cert.AdamQIdeal.main_arg1) = m ((c.tc : Thread Cert.AdamQIdeal.nD Cert.AdamQIdeal.τ).loc Cert.AdamQIdeal.main_arg1)
          ∧ r.2.mem ((c.tc : Thread Cert.AdamQIdeal.nD Cert.AdamQIdeal.τ).loc Cert.AdamQIdeal.main_arg2) = m ((c.tc : Thread Cert.AdamQIdeal.nD Cert.AdamQIdeal.τ).loc Cert.AdamQIdeal.main_arg2)
          ∧ r.2.mem ((c.tc : Thread Cert.AdamQIdeal.nD Cert.AdamQIdeal.τ).loc Cert.AdamQIdeal.main_arg3) = m ((c.tc : Thread Cert.AdamQIdeal.nD Cert.AdamQIdeal.τ).loc Cert.AdamQIdeal.main_arg3))
      ∧ θ_run (Cert.AdamQReferenceIdeal.defs (F := Ideal)) (onTc (τ := Cert.AdamQReferenceIdeal.τ) (Cert.AdamQReferenceIdeal.main (F := Ideal))) ⟨m', fun _ => 0, g'⟩ (fun r => ∀ c : Dev Cert.AdamQReferenceIdeal.nD,
          r.2.mem ((c.tc : Thread Cert.AdamQReferenceIdeal.nD Cert.AdamQReferenceIdeal.τ).loc Cert.AdamQReferenceIdeal.main_v26) = v0 c
          ∧ r.2.mem ((c.tc : Thread Cert.AdamQReferenceIdeal.nD Cert.AdamQReferenceIdeal.τ).loc Cert.AdamQReferenceIdeal.main_v27) = v1 c
          ∧ r.2.mem ((c.tc : Thread Cert.AdamQReferenceIdeal.nD Cert.AdamQReferenceIdeal.τ).loc Cert.AdamQReferenceIdeal.main_v28) = v2 c
          ∧ r.2.mem ((c.tc : Thread Cert.AdamQReferenceIdeal.nD Cert.AdamQReferenceIdeal.τ).loc Cert.AdamQReferenceIdeal.main_v29) = v3 c
          ∧ r.2.mem ((c.tc : Thread Cert.AdamQReferenceIdeal.nD Cert.AdamQReferenceIdeal.τ).loc Cert.AdamQReferenceIdeal.main_arg0) = m' ((c.tc : Thread Cert.AdamQReferenceIdeal.nD Cert.AdamQReferenceIdeal.τ).loc Cert.AdamQReferenceIdeal.main_arg0)
          ∧ r.2.mem ((c.tc : Thread Cert.AdamQReferenceIdeal.nD Cert.AdamQReferenceIdeal.τ).loc Cert.AdamQReferenceIdeal.main_arg1) = m' ((c.tc : Thread Cert.AdamQReferenceIdeal.nD Cert.AdamQReferenceIdeal.τ).loc Cert.AdamQReferenceIdeal.main_arg1)
          ∧ r.2.mem ((c.tc : Thread Cert.AdamQReferenceIdeal.nD Cert.AdamQReferenceIdeal.τ).loc Cert.AdamQReferenceIdeal.main_arg2) = m' ((c.tc : Thread Cert.AdamQReferenceIdeal.nD Cert.AdamQReferenceIdeal.τ).loc Cert.AdamQReferenceIdeal.main_arg2)
          ∧ r.2.mem ((c.tc : Thread Cert.AdamQReferenceIdeal.nD Cert.AdamQReferenceIdeal.τ).loc Cert.AdamQReferenceIdeal.main_arg3) = m' ((c.tc : Thread Cert.AdamQReferenceIdeal.nD Cert.AdamQReferenceIdeal.τ).loc Cert.AdamQReferenceIdeal.main_arg3))

def preserves_AdamKv_AdamKvIdeal : Prop :=
  True

def algebraic_AdamKvIdeal_AdamKvReferenceIdeal [hAdamKvIdeal : Cert.AdamKvIdeal.Facts] [hAdamKvReferenceIdeal : Cert.AdamKvReferenceIdeal.Facts] : Prop :=
  ∀ (m : (ℓ : Loc Cert.AdamKvIdeal.nD Cert.AdamKvIdeal.τ Cert.AdamKvIdeal.sig) → Buf (Elt Ideal) ℓ) (g : Dev Cert.AdamKvIdeal.nD → PrngReg)
    (m' : (ℓ : Loc Cert.AdamKvReferenceIdeal.nD Cert.AdamKvReferenceIdeal.τ Cert.AdamKvReferenceIdeal.sig) → Buf (Elt Ideal) ℓ) (g' : Dev Cert.AdamKvReferenceIdeal.nD → PrngReg), Pre_AdamKvIdeal m →
    (∀ c : Dev Cert.AdamKvIdeal.nD,
      m' ((c.tc : Thread Cert.AdamKvReferenceIdeal.nD Cert.AdamKvReferenceIdeal.τ).loc Cert.AdamKvReferenceIdeal.main_arg0) = m ((c.tc : Thread Cert.AdamKvIdeal.nD Cert.AdamKvIdeal.τ).loc Cert.AdamKvIdeal.main_arg0)
      ∧ m' ((c.tc : Thread Cert.AdamKvReferenceIdeal.nD Cert.AdamKvReferenceIdeal.τ).loc Cert.AdamKvReferenceIdeal.main_arg1) = m ((c.tc : Thread Cert.AdamKvIdeal.nD Cert.AdamKvIdeal.τ).loc Cert.AdamKvIdeal.main_arg1)
      ∧ m' ((c.tc : Thread Cert.AdamKvReferenceIdeal.nD Cert.AdamKvReferenceIdeal.τ).loc Cert.AdamKvReferenceIdeal.main_arg2) = m ((c.tc : Thread Cert.AdamKvIdeal.nD Cert.AdamKvIdeal.τ).loc Cert.AdamKvIdeal.main_arg2)
      ∧ m' ((c.tc : Thread Cert.AdamKvReferenceIdeal.nD Cert.AdamKvReferenceIdeal.τ).loc Cert.AdamKvReferenceIdeal.main_arg3) = m ((c.tc : Thread Cert.AdamKvIdeal.nD Cert.AdamKvIdeal.τ).loc Cert.AdamKvIdeal.main_arg3)) →
    ∃ (v0 : (c : Dev Cert.AdamKvIdeal.nD) → Buf (Elt Ideal) ((c.tc : Thread Cert.AdamKvIdeal.nD Cert.AdamKvIdeal.τ).loc Cert.AdamKvIdeal.main_v4_0)) (v1 : (c : Dev Cert.AdamKvIdeal.nD) → Buf (Elt Ideal) ((c.tc : Thread Cert.AdamKvIdeal.nD Cert.AdamKvIdeal.τ).loc Cert.AdamKvIdeal.main_v4_1)) (v2 : (c : Dev Cert.AdamKvIdeal.nD) → Buf (Elt Ideal) ((c.tc : Thread Cert.AdamKvIdeal.nD Cert.AdamKvIdeal.τ).loc Cert.AdamKvIdeal.main_v4_2)) (v3 : (c : Dev Cert.AdamKvIdeal.nD) → Buf (Elt Ideal) ((c.tc : Thread Cert.AdamKvIdeal.nD Cert.AdamKvIdeal.τ).loc Cert.AdamKvIdeal.main_v4_3)),
      θ_run (Cert.AdamKvIdeal.defs (F := Ideal)) (onTc (τ := Cert.AdamKvIdeal.τ) (Cert.AdamKvIdeal.main (F := Ideal))) ⟨m, fun _ => 0, g⟩ (fun r => ∀ c : Dev Cert.AdamKvIdeal.nD,
          r.2.mem ((c.tc : Thread Cert.AdamKvIdeal.nD Cert.AdamKvIdeal.τ).loc Cert.AdamKvIdeal.main_v4_0) = v0 c
          ∧ r.2.mem ((c.tc : Thread Cert.AdamKvIdeal.nD Cert.AdamKvIdeal.τ).loc Cert.AdamKvIdeal.main_v4_1) = v1 c
          ∧ r.2.mem ((c.tc : Thread Cert.AdamKvIdeal.nD Cert.AdamKvIdeal.τ).loc Cert.AdamKvIdeal.main_v4_2) = v2 c
          ∧ r.2.mem ((c.tc : Thread Cert.AdamKvIdeal.nD Cert.AdamKvIdeal.τ).loc Cert.AdamKvIdeal.main_v4_3) = v3 c
          ∧ r.2.mem ((c.tc : Thread Cert.AdamKvIdeal.nD Cert.AdamKvIdeal.τ).loc Cert.AdamKvIdeal.main_arg0) = m ((c.tc : Thread Cert.AdamKvIdeal.nD Cert.AdamKvIdeal.τ).loc Cert.AdamKvIdeal.main_arg0)
          ∧ r.2.mem ((c.tc : Thread Cert.AdamKvIdeal.nD Cert.AdamKvIdeal.τ).loc Cert.AdamKvIdeal.main_arg1) = m ((c.tc : Thread Cert.AdamKvIdeal.nD Cert.AdamKvIdeal.τ).loc Cert.AdamKvIdeal.main_arg1)
          ∧ r.2.mem ((c.tc : Thread Cert.AdamKvIdeal.nD Cert.AdamKvIdeal.τ).loc Cert.AdamKvIdeal.main_arg2) = m ((c.tc : Thread Cert.AdamKvIdeal.nD Cert.AdamKvIdeal.τ).loc Cert.AdamKvIdeal.main_arg2)
          ∧ r.2.mem ((c.tc : Thread Cert.AdamKvIdeal.nD Cert.AdamKvIdeal.τ).loc Cert.AdamKvIdeal.main_arg3) = m ((c.tc : Thread Cert.AdamKvIdeal.nD Cert.AdamKvIdeal.τ).loc Cert.AdamKvIdeal.main_arg3))
      ∧ θ_run (Cert.AdamKvReferenceIdeal.defs (F := Ideal)) (onTc (τ := Cert.AdamKvReferenceIdeal.τ) (Cert.AdamKvReferenceIdeal.main (F := Ideal))) ⟨m', fun _ => 0, g'⟩ (fun r => ∀ c : Dev Cert.AdamKvReferenceIdeal.nD,
          r.2.mem ((c.tc : Thread Cert.AdamKvReferenceIdeal.nD Cert.AdamKvReferenceIdeal.τ).loc Cert.AdamKvReferenceIdeal.main_v26) = v0 c
          ∧ r.2.mem ((c.tc : Thread Cert.AdamKvReferenceIdeal.nD Cert.AdamKvReferenceIdeal.τ).loc Cert.AdamKvReferenceIdeal.main_v27) = v1 c
          ∧ r.2.mem ((c.tc : Thread Cert.AdamKvReferenceIdeal.nD Cert.AdamKvReferenceIdeal.τ).loc Cert.AdamKvReferenceIdeal.main_v28) = v2 c
          ∧ r.2.mem ((c.tc : Thread Cert.AdamKvReferenceIdeal.nD Cert.AdamKvReferenceIdeal.τ).loc Cert.AdamKvReferenceIdeal.main_v29) = v3 c
          ∧ r.2.mem ((c.tc : Thread Cert.AdamKvReferenceIdeal.nD Cert.AdamKvReferenceIdeal.τ).loc Cert.AdamKvReferenceIdeal.main_arg0) = m' ((c.tc : Thread Cert.AdamKvReferenceIdeal.nD Cert.AdamKvReferenceIdeal.τ).loc Cert.AdamKvReferenceIdeal.main_arg0)
          ∧ r.2.mem ((c.tc : Thread Cert.AdamKvReferenceIdeal.nD Cert.AdamKvReferenceIdeal.τ).loc Cert.AdamKvReferenceIdeal.main_arg1) = m' ((c.tc : Thread Cert.AdamKvReferenceIdeal.nD Cert.AdamKvReferenceIdeal.τ).loc Cert.AdamKvReferenceIdeal.main_arg1)
          ∧ r.2.mem ((c.tc : Thread Cert.AdamKvReferenceIdeal.nD Cert.AdamKvReferenceIdeal.τ).loc Cert.AdamKvReferenceIdeal.main_arg2) = m' ((c.tc : Thread Cert.AdamKvReferenceIdeal.nD Cert.AdamKvReferenceIdeal.τ).loc Cert.AdamKvReferenceIdeal.main_arg2)
          ∧ r.2.mem ((c.tc : Thread Cert.AdamKvReferenceIdeal.nD Cert.AdamKvReferenceIdeal.τ).loc Cert.AdamKvReferenceIdeal.main_arg3) = m' ((c.tc : Thread Cert.AdamKvReferenceIdeal.nD Cert.AdamKvReferenceIdeal.τ).loc Cert.AdamKvReferenceIdeal.main_arg3))

def preserves_AdamGlu_AdamGluIdeal : Prop :=
  True

def algebraic_AdamGluIdeal_AdamGluReferenceIdeal [hAdamGluIdeal : Cert.AdamGluIdeal.Facts] [hAdamGluReferenceIdeal : Cert.AdamGluReferenceIdeal.Facts] : Prop :=
  ∀ (m : (ℓ : Loc Cert.AdamGluIdeal.nD Cert.AdamGluIdeal.τ Cert.AdamGluIdeal.sig) → Buf (Elt Ideal) ℓ) (g : Dev Cert.AdamGluIdeal.nD → PrngReg)
    (m' : (ℓ : Loc Cert.AdamGluReferenceIdeal.nD Cert.AdamGluReferenceIdeal.τ Cert.AdamGluReferenceIdeal.sig) → Buf (Elt Ideal) ℓ) (g' : Dev Cert.AdamGluReferenceIdeal.nD → PrngReg), Pre_AdamGluIdeal m →
    (∀ c : Dev Cert.AdamGluIdeal.nD,
      m' ((c.tc : Thread Cert.AdamGluReferenceIdeal.nD Cert.AdamGluReferenceIdeal.τ).loc Cert.AdamGluReferenceIdeal.main_arg0) = m ((c.tc : Thread Cert.AdamGluIdeal.nD Cert.AdamGluIdeal.τ).loc Cert.AdamGluIdeal.main_arg0)
      ∧ m' ((c.tc : Thread Cert.AdamGluReferenceIdeal.nD Cert.AdamGluReferenceIdeal.τ).loc Cert.AdamGluReferenceIdeal.main_arg1) = m ((c.tc : Thread Cert.AdamGluIdeal.nD Cert.AdamGluIdeal.τ).loc Cert.AdamGluIdeal.main_arg1)
      ∧ m' ((c.tc : Thread Cert.AdamGluReferenceIdeal.nD Cert.AdamGluReferenceIdeal.τ).loc Cert.AdamGluReferenceIdeal.main_arg2) = m ((c.tc : Thread Cert.AdamGluIdeal.nD Cert.AdamGluIdeal.τ).loc Cert.AdamGluIdeal.main_arg2)
      ∧ m' ((c.tc : Thread Cert.AdamGluReferenceIdeal.nD Cert.AdamGluReferenceIdeal.τ).loc Cert.AdamGluReferenceIdeal.main_arg3) = m ((c.tc : Thread Cert.AdamGluIdeal.nD Cert.AdamGluIdeal.τ).loc Cert.AdamGluIdeal.main_arg3)) →
    ∃ (v0 : (c : Dev Cert.AdamGluIdeal.nD) → Buf (Elt Ideal) ((c.tc : Thread Cert.AdamGluIdeal.nD Cert.AdamGluIdeal.τ).loc Cert.AdamGluIdeal.main_v4_0)) (v1 : (c : Dev Cert.AdamGluIdeal.nD) → Buf (Elt Ideal) ((c.tc : Thread Cert.AdamGluIdeal.nD Cert.AdamGluIdeal.τ).loc Cert.AdamGluIdeal.main_v4_1)) (v2 : (c : Dev Cert.AdamGluIdeal.nD) → Buf (Elt Ideal) ((c.tc : Thread Cert.AdamGluIdeal.nD Cert.AdamGluIdeal.τ).loc Cert.AdamGluIdeal.main_v4_2)) (v3 : (c : Dev Cert.AdamGluIdeal.nD) → Buf (Elt Ideal) ((c.tc : Thread Cert.AdamGluIdeal.nD Cert.AdamGluIdeal.τ).loc Cert.AdamGluIdeal.main_v4_3)),
      θ_run (Cert.AdamGluIdeal.defs (F := Ideal)) (onTc (τ := Cert.AdamGluIdeal.τ) (Cert.AdamGluIdeal.main (F := Ideal))) ⟨m, fun _ => 0, g⟩ (fun r => ∀ c : Dev Cert.AdamGluIdeal.nD,
          r.2.mem ((c.tc : Thread Cert.AdamGluIdeal.nD Cert.AdamGluIdeal.τ).loc Cert.AdamGluIdeal.main_v4_0) = v0 c
          ∧ r.2.mem ((c.tc : Thread Cert.AdamGluIdeal.nD Cert.AdamGluIdeal.τ).loc Cert.AdamGluIdeal.main_v4_1) = v1 c
          ∧ r.2.mem ((c.tc : Thread Cert.AdamGluIdeal.nD Cert.AdamGluIdeal.τ).loc Cert.AdamGluIdeal.main_v4_2) = v2 c
          ∧ r.2.mem ((c.tc : Thread Cert.AdamGluIdeal.nD Cert.AdamGluIdeal.τ).loc Cert.AdamGluIdeal.main_v4_3) = v3 c
          ∧ r.2.mem ((c.tc : Thread Cert.AdamGluIdeal.nD Cert.AdamGluIdeal.τ).loc Cert.AdamGluIdeal.main_arg0) = m ((c.tc : Thread Cert.AdamGluIdeal.nD Cert.AdamGluIdeal.τ).loc Cert.AdamGluIdeal.main_arg0)
          ∧ r.2.mem ((c.tc : Thread Cert.AdamGluIdeal.nD Cert.AdamGluIdeal.τ).loc Cert.AdamGluIdeal.main_arg1) = m ((c.tc : Thread Cert.AdamGluIdeal.nD Cert.AdamGluIdeal.τ).loc Cert.AdamGluIdeal.main_arg1)
          ∧ r.2.mem ((c.tc : Thread Cert.AdamGluIdeal.nD Cert.AdamGluIdeal.τ).loc Cert.AdamGluIdeal.main_arg2) = m ((c.tc : Thread Cert.AdamGluIdeal.nD Cert.AdamGluIdeal.τ).loc Cert.AdamGluIdeal.main_arg2)
          ∧ r.2.mem ((c.tc : Thread Cert.AdamGluIdeal.nD Cert.AdamGluIdeal.τ).loc Cert.AdamGluIdeal.main_arg3) = m ((c.tc : Thread Cert.AdamGluIdeal.nD Cert.AdamGluIdeal.τ).loc Cert.AdamGluIdeal.main_arg3))
      ∧ θ_run (Cert.AdamGluReferenceIdeal.defs (F := Ideal)) (onTc (τ := Cert.AdamGluReferenceIdeal.τ) (Cert.AdamGluReferenceIdeal.main (F := Ideal))) ⟨m', fun _ => 0, g'⟩ (fun r => ∀ c : Dev Cert.AdamGluReferenceIdeal.nD,
          r.2.mem ((c.tc : Thread Cert.AdamGluReferenceIdeal.nD Cert.AdamGluReferenceIdeal.τ).loc Cert.AdamGluReferenceIdeal.main_v26) = v0 c
          ∧ r.2.mem ((c.tc : Thread Cert.AdamGluReferenceIdeal.nD Cert.AdamGluReferenceIdeal.τ).loc Cert.AdamGluReferenceIdeal.main_v27) = v1 c
          ∧ r.2.mem ((c.tc : Thread Cert.AdamGluReferenceIdeal.nD Cert.AdamGluReferenceIdeal.τ).loc Cert.AdamGluReferenceIdeal.main_v28) = v2 c
          ∧ r.2.mem ((c.tc : Thread Cert.AdamGluReferenceIdeal.nD Cert.AdamGluReferenceIdeal.τ).loc Cert.AdamGluReferenceIdeal.main_v29) = v3 c
          ∧ r.2.mem ((c.tc : Thread Cert.AdamGluReferenceIdeal.nD Cert.AdamGluReferenceIdeal.τ).loc Cert.AdamGluReferenceIdeal.main_arg0) = m' ((c.tc : Thread Cert.AdamGluReferenceIdeal.nD Cert.AdamGluReferenceIdeal.τ).loc Cert.AdamGluReferenceIdeal.main_arg0)
          ∧ r.2.mem ((c.tc : Thread Cert.AdamGluReferenceIdeal.nD Cert.AdamGluReferenceIdeal.τ).loc Cert.AdamGluReferenceIdeal.main_arg1) = m' ((c.tc : Thread Cert.AdamGluReferenceIdeal.nD Cert.AdamGluReferenceIdeal.τ).loc Cert.AdamGluReferenceIdeal.main_arg1)
          ∧ r.2.mem ((c.tc : Thread Cert.AdamGluReferenceIdeal.nD Cert.AdamGluReferenceIdeal.τ).loc Cert.AdamGluReferenceIdeal.main_arg2) = m' ((c.tc : Thread Cert.AdamGluReferenceIdeal.nD Cert.AdamGluReferenceIdeal.τ).loc Cert.AdamGluReferenceIdeal.main_arg2)
          ∧ r.2.mem ((c.tc : Thread Cert.AdamGluReferenceIdeal.nD Cert.AdamGluReferenceIdeal.τ).loc Cert.AdamGluReferenceIdeal.main_arg3) = m' ((c.tc : Thread Cert.AdamGluReferenceIdeal.nD Cert.AdamGluReferenceIdeal.τ).loc Cert.AdamGluReferenceIdeal.main_arg3))

def preserves_AdamMod_AdamModIdeal : Prop :=
  True

def algebraic_AdamModIdeal_AdamModReferenceIdeal [hAdamModIdeal : Cert.AdamModIdeal.Facts] [hAdamModReferenceIdeal : Cert.AdamModReferenceIdeal.Facts] : Prop :=
  ∀ (m : (ℓ : Loc Cert.AdamModIdeal.nD Cert.AdamModIdeal.τ Cert.AdamModIdeal.sig) → Buf (Elt Ideal) ℓ) (g : Dev Cert.AdamModIdeal.nD → PrngReg)
    (m' : (ℓ : Loc Cert.AdamModReferenceIdeal.nD Cert.AdamModReferenceIdeal.τ Cert.AdamModReferenceIdeal.sig) → Buf (Elt Ideal) ℓ) (g' : Dev Cert.AdamModReferenceIdeal.nD → PrngReg), Pre_AdamModIdeal m →
    (∀ c : Dev Cert.AdamModIdeal.nD,
      m' ((c.tc : Thread Cert.AdamModReferenceIdeal.nD Cert.AdamModReferenceIdeal.τ).loc Cert.AdamModReferenceIdeal.main_arg0) = m ((c.tc : Thread Cert.AdamModIdeal.nD Cert.AdamModIdeal.τ).loc Cert.AdamModIdeal.main_arg0)
      ∧ m' ((c.tc : Thread Cert.AdamModReferenceIdeal.nD Cert.AdamModReferenceIdeal.τ).loc Cert.AdamModReferenceIdeal.main_arg1) = m ((c.tc : Thread Cert.AdamModIdeal.nD Cert.AdamModIdeal.τ).loc Cert.AdamModIdeal.main_arg1)
      ∧ m' ((c.tc : Thread Cert.AdamModReferenceIdeal.nD Cert.AdamModReferenceIdeal.τ).loc Cert.AdamModReferenceIdeal.main_arg2) = m ((c.tc : Thread Cert.AdamModIdeal.nD Cert.AdamModIdeal.τ).loc Cert.AdamModIdeal.main_arg2)
      ∧ m' ((c.tc : Thread Cert.AdamModReferenceIdeal.nD Cert.AdamModReferenceIdeal.τ).loc Cert.AdamModReferenceIdeal.main_arg3) = m ((c.tc : Thread Cert.AdamModIdeal.nD Cert.AdamModIdeal.τ).loc Cert.AdamModIdeal.main_arg3)) →
    ∃ (v0 : (c : Dev Cert.AdamModIdeal.nD) → Buf (Elt Ideal) ((c.tc : Thread Cert.AdamModIdeal.nD Cert.AdamModIdeal.τ).loc Cert.AdamModIdeal.main_v4_0)) (v1 : (c : Dev Cert.AdamModIdeal.nD) → Buf (Elt Ideal) ((c.tc : Thread Cert.AdamModIdeal.nD Cert.AdamModIdeal.τ).loc Cert.AdamModIdeal.main_v4_1)) (v2 : (c : Dev Cert.AdamModIdeal.nD) → Buf (Elt Ideal) ((c.tc : Thread Cert.AdamModIdeal.nD Cert.AdamModIdeal.τ).loc Cert.AdamModIdeal.main_v4_2)),
      θ_run (Cert.AdamModIdeal.defs (F := Ideal)) (onTc (τ := Cert.AdamModIdeal.τ) (Cert.AdamModIdeal.main (F := Ideal))) ⟨m, fun _ => 0, g⟩ (fun r => ∀ c : Dev Cert.AdamModIdeal.nD,
          r.2.mem ((c.tc : Thread Cert.AdamModIdeal.nD Cert.AdamModIdeal.τ).loc Cert.AdamModIdeal.main_v4_0) = v0 c
          ∧ r.2.mem ((c.tc : Thread Cert.AdamModIdeal.nD Cert.AdamModIdeal.τ).loc Cert.AdamModIdeal.main_v4_1) = v1 c
          ∧ r.2.mem ((c.tc : Thread Cert.AdamModIdeal.nD Cert.AdamModIdeal.τ).loc Cert.AdamModIdeal.main_v4_2) = v2 c
          ∧ r.2.mem ((c.tc : Thread Cert.AdamModIdeal.nD Cert.AdamModIdeal.τ).loc Cert.AdamModIdeal.main_arg0) = m ((c.tc : Thread Cert.AdamModIdeal.nD Cert.AdamModIdeal.τ).loc Cert.AdamModIdeal.main_arg0)
          ∧ r.2.mem ((c.tc : Thread Cert.AdamModIdeal.nD Cert.AdamModIdeal.τ).loc Cert.AdamModIdeal.main_arg1) = m ((c.tc : Thread Cert.AdamModIdeal.nD Cert.AdamModIdeal.τ).loc Cert.AdamModIdeal.main_arg1)
          ∧ r.2.mem ((c.tc : Thread Cert.AdamModIdeal.nD Cert.AdamModIdeal.τ).loc Cert.AdamModIdeal.main_arg2) = m ((c.tc : Thread Cert.AdamModIdeal.nD Cert.AdamModIdeal.τ).loc Cert.AdamModIdeal.main_arg2)
          ∧ r.2.mem ((c.tc : Thread Cert.AdamModIdeal.nD Cert.AdamModIdeal.τ).loc Cert.AdamModIdeal.main_arg3) = m ((c.tc : Thread Cert.AdamModIdeal.nD Cert.AdamModIdeal.τ).loc Cert.AdamModIdeal.main_arg3))
      ∧ θ_run (Cert.AdamModReferenceIdeal.defs (F := Ideal)) (onTc (τ := Cert.AdamModReferenceIdeal.τ) (Cert.AdamModReferenceIdeal.main (F := Ideal))) ⟨m', fun _ => 0, g'⟩ (fun r => ∀ c : Dev Cert.AdamModReferenceIdeal.nD,
          r.2.mem ((c.tc : Thread Cert.AdamModReferenceIdeal.nD Cert.AdamModReferenceIdeal.τ).loc Cert.AdamModReferenceIdeal.main_v24) = v0 c
          ∧ r.2.mem ((c.tc : Thread Cert.AdamModReferenceIdeal.nD Cert.AdamModReferenceIdeal.τ).loc Cert.AdamModReferenceIdeal.main_v25) = v1 c
          ∧ r.2.mem ((c.tc : Thread Cert.AdamModReferenceIdeal.nD Cert.AdamModReferenceIdeal.τ).loc Cert.AdamModReferenceIdeal.main_v26) = v2 c
          ∧ r.2.mem ((c.tc : Thread Cert.AdamModReferenceIdeal.nD Cert.AdamModReferenceIdeal.τ).loc Cert.AdamModReferenceIdeal.main_arg0) = m' ((c.tc : Thread Cert.AdamModReferenceIdeal.nD Cert.AdamModReferenceIdeal.τ).loc Cert.AdamModReferenceIdeal.main_arg0)
          ∧ r.2.mem ((c.tc : Thread Cert.AdamModReferenceIdeal.nD Cert.AdamModReferenceIdeal.τ).loc Cert.AdamModReferenceIdeal.main_arg1) = m' ((c.tc : Thread Cert.AdamModReferenceIdeal.nD Cert.AdamModReferenceIdeal.τ).loc Cert.AdamModReferenceIdeal.main_arg1)
          ∧ r.2.mem ((c.tc : Thread Cert.AdamModReferenceIdeal.nD Cert.AdamModReferenceIdeal.τ).loc Cert.AdamModReferenceIdeal.main_arg2) = m' ((c.tc : Thread Cert.AdamModReferenceIdeal.nD Cert.AdamModReferenceIdeal.τ).loc Cert.AdamModReferenceIdeal.main_arg2)
          ∧ r.2.mem ((c.tc : Thread Cert.AdamModReferenceIdeal.nD Cert.AdamModReferenceIdeal.τ).loc Cert.AdamModReferenceIdeal.main_arg3) = m' ((c.tc : Thread Cert.AdamModReferenceIdeal.nD Cert.AdamModReferenceIdeal.τ).loc Cert.AdamModReferenceIdeal.main_arg3))

def preserves_SumSmall_SumSmallIdeal : Prop :=
  True

def algebraic_SumSmallIdeal_SumSmallReferenceIdeal [hSumSmallIdeal : Cert.SumSmallIdeal.Facts] [hSumSmallReferenceIdeal : Cert.SumSmallReferenceIdeal.Facts] : Prop :=
  ∀ (m : (ℓ : Loc Cert.SumSmallIdeal.nD Cert.SumSmallIdeal.τ Cert.SumSmallIdeal.sig) → Buf (Elt Ideal) ℓ) (g : Dev Cert.SumSmallIdeal.nD → PrngReg)
    (m' : (ℓ : Loc Cert.SumSmallReferenceIdeal.nD Cert.SumSmallReferenceIdeal.τ Cert.SumSmallReferenceIdeal.sig) → Buf (Elt Ideal) ℓ) (g' : Dev Cert.SumSmallReferenceIdeal.nD → PrngReg), Pre_SumSmallIdeal m →
    (∀ c : Dev Cert.SumSmallIdeal.nD,
      m' ((c.tc : Thread Cert.SumSmallReferenceIdeal.nD Cert.SumSmallReferenceIdeal.τ).loc Cert.SumSmallReferenceIdeal.main_arg0) = m ((c.tc : Thread Cert.SumSmallIdeal.nD Cert.SumSmallIdeal.τ).loc Cert.SumSmallIdeal.main_arg0)) →
    ∃ (v0 : (c : Dev Cert.SumSmallIdeal.nD) → Buf (Elt Ideal) ((c.tc : Thread Cert.SumSmallIdeal.nD Cert.SumSmallIdeal.τ).loc Cert.SumSmallIdeal.main_v0)),
      θ_run (Cert.SumSmallIdeal.defs (F := Ideal)) (onTc (τ := Cert.SumSmallIdeal.τ) (Cert.SumSmallIdeal.main (F := Ideal))) ⟨m, fun _ => 0, g⟩ (fun r => ∀ c : Dev Cert.SumSmallIdeal.nD,
          r.2.mem ((c.tc : Thread Cert.SumSmallIdeal.nD Cert.SumSmallIdeal.τ).loc Cert.SumSmallIdeal.main_v0) = v0 c
          ∧ r.2.mem ((c.tc : Thread Cert.SumSmallIdeal.nD Cert.SumSmallIdeal.τ).loc Cert.SumSmallIdeal.main_arg0) = m ((c.tc : Thread Cert.SumSmallIdeal.nD Cert.SumSmallIdeal.τ).loc Cert.SumSmallIdeal.main_arg0))
      ∧ θ_run (Cert.SumSmallReferenceIdeal.defs (F := Ideal)) (onTc (τ := Cert.SumSmallReferenceIdeal.τ) (Cert.SumSmallReferenceIdeal.main (F := Ideal))) ⟨m', fun _ => 0, g'⟩ (fun r => ∀ c : Dev Cert.SumSmallReferenceIdeal.nD,
          r.2.mem ((c.tc : Thread Cert.SumSmallReferenceIdeal.nD Cert.SumSmallReferenceIdeal.τ).loc Cert.SumSmallReferenceIdeal.main_v0) = v0 c
          ∧ r.2.mem ((c.tc : Thread Cert.SumSmallReferenceIdeal.nD Cert.SumSmallReferenceIdeal.τ).loc Cert.SumSmallReferenceIdeal.main_arg0) = m' ((c.tc : Thread Cert.SumSmallReferenceIdeal.nD Cert.SumSmallReferenceIdeal.τ).loc Cert.SumSmallReferenceIdeal.main_arg0))

def Claim : Prop :=
  ∃ (hKernel : Cert.Kernel.Facts) (hKernelIdeal : Cert.KernelIdeal.Facts) (hReferenceIdeal : Cert.ReferenceIdeal.Facts) (hDense : Cert.Dense.Facts) (hDenseIdeal : Cert.DenseIdeal.Facts) (hDenseReferenceIdeal : Cert.DenseReferenceIdeal.Facts) (hMla : Cert.Mla.Facts) (hMlaIdeal : Cert.MlaIdeal.Facts) (hMlaReferenceIdeal : Cert.MlaReferenceIdeal.Facts) (hMlaGrad : Cert.MlaGrad.Facts) (hMlaGradIdeal : Cert.MlaGradIdeal.Facts) (hMlaGradReferenceIdeal : Cert.MlaGradReferenceIdeal.Facts) (hMlpUp : Cert.MlpUp.Facts) (hMlpUpIdeal : Cert.MlpUpIdeal.Facts) (hMlpUpReferenceIdeal : Cert.MlpUpReferenceIdeal.Facts) (hMlpGrad : Cert.MlpGrad.Facts) (hMlpGradIdeal : Cert.MlpGradIdeal.Facts) (hMlpGradReferenceIdeal : Cert.MlpGradReferenceIdeal.Facts) (hMlpInT : Cert.MlpInT.Facts) (hMlpInTIdeal : Cert.MlpInTIdeal.Facts) (hMlpInTReferenceIdeal : Cert.MlpInTReferenceIdeal.Facts) (hMlpInW : Cert.MlpInW.Facts) (hMlpInWIdeal : Cert.MlpInWIdeal.Facts) (hMlpInWReferenceIdeal : Cert.MlpInWReferenceIdeal.Facts) (hMlpOut : Cert.MlpOut.Facts) (hMlpOutIdeal : Cert.MlpOutIdeal.Facts) (hMlpOutReferenceIdeal : Cert.MlpOutReferenceIdeal.Facts) (hMlpOutW : Cert.MlpOutW.Facts) (hMlpOutWIdeal : Cert.MlpOutWIdeal.Facts) (hMlpOutWReferenceIdeal : Cert.MlpOutWReferenceIdeal.Facts) (hLastUp : Cert.LastUp.Facts) (hLastUpIdeal : Cert.LastUpIdeal.Facts) (hLastUpReferenceIdeal : Cert.LastUpReferenceIdeal.Facts) (hLastGrad : Cert.LastGrad.Facts) (hLastGradIdeal : Cert.LastGradIdeal.Facts) (hLastGradReferenceIdeal : Cert.LastGradReferenceIdeal.Facts) (hLastInT : Cert.LastInT.Facts) (hLastInTIdeal : Cert.LastInTIdeal.Facts) (hLastInTReferenceIdeal : Cert.LastInTReferenceIdeal.Facts) (hLastInW : Cert.LastInW.Facts) (hLastInWIdeal : Cert.LastInWIdeal.Facts) (hLastInWReferenceIdeal : Cert.LastInWReferenceIdeal.Facts) (hLastOut : Cert.LastOut.Facts) (hLastOutIdeal : Cert.LastOutIdeal.Facts) (hLastOutReferenceIdeal : Cert.LastOutReferenceIdeal.Facts) (hLastOutW : Cert.LastOutW.Facts) (hLastOutWIdeal : Cert.LastOutWIdeal.Facts) (hLastOutWReferenceIdeal : Cert.LastOutWReferenceIdeal.Facts) (hEvenIn : Cert.EvenIn.Facts) (hEvenInIdeal : Cert.EvenInIdeal.Facts) (hEvenInReferenceIdeal : Cert.EvenInReferenceIdeal.Facts) (hEvenInT : Cert.EvenInT.Facts) (hEvenInTIdeal : Cert.EvenInTIdeal.Facts) (hEvenInTReferenceIdeal : Cert.EvenInTReferenceIdeal.Facts) (hEvenInW : Cert.EvenInW.Facts) (hEvenInWIdeal : Cert.EvenInWIdeal.Facts) (hEvenInWReferenceIdeal : Cert.EvenInWReferenceIdeal.Facts) (hOddIn : Cert.OddIn.Facts) (hOddInIdeal : Cert.OddInIdeal.Facts) (hOddInReferenceIdeal : Cert.OddInReferenceIdeal.Facts) (hOddInT : Cert.OddInT.Facts) (hOddInTIdeal : Cert.OddInTIdeal.Facts) (hOddInTReferenceIdeal : Cert.OddInTReferenceIdeal.Facts) (hOddInW : Cert.OddInW.Facts) (hOddInWIdeal : Cert.OddInWIdeal.Facts) (hOddInWReferenceIdeal : Cert.OddInWReferenceIdeal.Facts) (hMlaQ : Cert.MlaQ.Facts) (hMlaQIdeal : Cert.MlaQIdeal.Facts) (hMlaQReferenceIdeal : Cert.MlaQReferenceIdeal.Facts) (hMlaQT : Cert.MlaQT.Facts) (hMlaQTIdeal : Cert.MlaQTIdeal.Facts) (hMlaQTReferenceIdeal : Cert.MlaQTReferenceIdeal.Facts) (hMlaQW : Cert.MlaQW.Facts) (hMlaQWIdeal : Cert.MlaQWIdeal.Facts) (hMlaQWReferenceIdeal : Cert.MlaQWReferenceIdeal.Facts) (hMlaKv : Cert.MlaKv.Facts) (hMlaKvIdeal : Cert.MlaKvIdeal.Facts) (hMlaKvReferenceIdeal : Cert.MlaKvReferenceIdeal.Facts) (hMlaKvT : Cert.MlaKvT.Facts) (hMlaKvTIdeal : Cert.MlaKvTIdeal.Facts) (hMlaKvTReferenceIdeal : Cert.MlaKvTReferenceIdeal.Facts) (hMlaKvW : Cert.MlaKvW.Facts) (hMlaKvWIdeal : Cert.MlaKvWIdeal.Facts) (hMlaKvWReferenceIdeal : Cert.MlaKvWReferenceIdeal.Facts) (hMix : Cert.Mix.Facts) (hMixIdeal : Cert.MixIdeal.Facts) (hMixReferenceIdeal : Cert.MixReferenceIdeal.Facts) (hMixT : Cert.MixT.Facts) (hMixTIdeal : Cert.MixTIdeal.Facts) (hMixTReferenceIdeal : Cert.MixTReferenceIdeal.Facts) (hMixW : Cert.MixW.Facts) (hMixWIdeal : Cert.MixWIdeal.Facts) (hMixWReferenceIdeal : Cert.MixWReferenceIdeal.Facts) (hLastMix : Cert.LastMix.Facts) (hLastMixIdeal : Cert.LastMixIdeal.Facts) (hLastMixReferenceIdeal : Cert.LastMixReferenceIdeal.Facts) (hLastMixT : Cert.LastMixT.Facts) (hLastMixTIdeal : Cert.LastMixTIdeal.Facts) (hLastMixTReferenceIdeal : Cert.LastMixTReferenceIdeal.Facts) (hLastMixW : Cert.LastMixW.Facts) (hLastMixWIdeal : Cert.LastMixWIdeal.Facts) (hLastMixWReferenceIdeal : Cert.LastMixWReferenceIdeal.Facts) (hGlu : Cert.Glu.Facts) (hGluIdeal : Cert.GluIdeal.Facts) (hGluReferenceIdeal : Cert.GluReferenceIdeal.Facts) (hGluT : Cert.GluT.Facts) (hGluTIdeal : Cert.GluTIdeal.Facts) (hGluTReferenceIdeal : Cert.GluTReferenceIdeal.Facts) (hGluW : Cert.GluW.Facts) (hGluWIdeal : Cert.GluWIdeal.Facts) (hGluWReferenceIdeal : Cert.GluWReferenceIdeal.Facts) (hGluCtx : Cert.GluCtx.Facts) (hGluCtxIdeal : Cert.GluCtxIdeal.Facts) (hGluCtxReferenceIdeal : Cert.GluCtxReferenceIdeal.Facts) (hGluCtxT : Cert.GluCtxT.Facts) (hGluCtxTIdeal : Cert.GluCtxTIdeal.Facts) (hGluCtxTReferenceIdeal : Cert.GluCtxTReferenceIdeal.Facts) (hGluCtxW : Cert.GluCtxW.Facts) (hGluCtxWIdeal : Cert.GluCtxWIdeal.Facts) (hGluCtxWReferenceIdeal : Cert.GluCtxWReferenceIdeal.Facts) (hAdamUp : Cert.AdamUp.Facts) (hAdamUpIdeal : Cert.AdamUpIdeal.Facts) (hAdamUpReferenceIdeal : Cert.AdamUpReferenceIdeal.Facts) (hAdamDown : Cert.AdamDown.Facts) (hAdamDownIdeal : Cert.AdamDownIdeal.Facts) (hAdamDownReferenceIdeal : Cert.AdamDownReferenceIdeal.Facts) (hAdamEvenIn : Cert.AdamEvenIn.Facts) (hAdamEvenInIdeal : Cert.AdamEvenInIdeal.Facts) (hAdamEvenInReferenceIdeal : Cert.AdamEvenInReferenceIdeal.Facts) (hAdamMix : Cert.AdamMix.Facts) (hAdamMixIdeal : Cert.AdamMixIdeal.Facts) (hAdamMixReferenceIdeal : Cert.AdamMixReferenceIdeal.Facts) (hAdamOddIn : Cert.AdamOddIn.Facts) (hAdamOddInIdeal : Cert.AdamOddInIdeal.Facts) (hAdamOddInReferenceIdeal : Cert.AdamOddInReferenceIdeal.Facts) (hAdamQ : Cert.AdamQ.Facts) (hAdamQIdeal : Cert.AdamQIdeal.Facts) (hAdamQReferenceIdeal : Cert.AdamQReferenceIdeal.Facts) (hAdamKv : Cert.AdamKv.Facts) (hAdamKvIdeal : Cert.AdamKvIdeal.Facts) (hAdamKvReferenceIdeal : Cert.AdamKvReferenceIdeal.Facts) (hAdamGlu : Cert.AdamGlu.Facts) (hAdamGluIdeal : Cert.AdamGluIdeal.Facts) (hAdamGluReferenceIdeal : Cert.AdamGluReferenceIdeal.Facts) (hAdamMod : Cert.AdamMod.Facts) (hAdamModIdeal : Cert.AdamModIdeal.Facts) (hAdamModReferenceIdeal : Cert.AdamModReferenceIdeal.Facts) (hSumSmall : Cert.SumSmall.Facts) (hSumSmallIdeal : Cert.SumSmallIdeal.Facts) (hSumSmallReferenceIdeal : Cert.SumSmallReferenceIdeal.Facts) (hPre_finite : Cert.Pre_finite.Facts) (hPre_finite_forward : Cert.Pre_finite_forward.Facts) (hPre_finite_mla_forward : Cert.Pre_finite_mla_forward.Facts) (hPre_finite_mla : Cert.Pre_finite_mla.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Dense (hDense := hDense)
    ∧ quiescent_DenseIdeal (hDenseIdeal := hDenseIdeal)
    ∧ quiescent_DenseIdeal_pre_finite_forward (hDenseIdeal := hDenseIdeal) (hPre_finite_forward := hPre_finite_forward)
    ∧ quiescent_DenseReferenceIdeal (hDenseReferenceIdeal := hDenseReferenceIdeal)
    ∧ quiescent_DenseReferenceIdeal_pre_finite_forward (hDenseReferenceIdeal := hDenseReferenceIdeal) (hPre_finite_forward := hPre_finite_forward)
    ∧ quiescent_Mla (hMla := hMla)
    ∧ quiescent_MlaIdeal (hMlaIdeal := hMlaIdeal)
    ∧ quiescent_MlaIdeal_pre_finite_mla_forward (hMlaIdeal := hMlaIdeal) (hPre_finite_mla_forward := hPre_finite_mla_forward)
    ∧ quiescent_MlaReferenceIdeal (hMlaReferenceIdeal := hMlaReferenceIdeal)
    ∧ quiescent_MlaReferenceIdeal_pre_finite_mla_forward (hMlaReferenceIdeal := hMlaReferenceIdeal) (hPre_finite_mla_forward := hPre_finite_mla_forward)
    ∧ quiescent_MlaGrad (hMlaGrad := hMlaGrad)
    ∧ quiescent_MlaGradIdeal (hMlaGradIdeal := hMlaGradIdeal)
    ∧ quiescent_MlaGradIdeal_pre_finite_mla (hMlaGradIdeal := hMlaGradIdeal) (hPre_finite_mla := hPre_finite_mla)
    ∧ quiescent_MlaGradReferenceIdeal (hMlaGradReferenceIdeal := hMlaGradReferenceIdeal)
    ∧ quiescent_MlaGradReferenceIdeal_pre_finite_mla (hMlaGradReferenceIdeal := hMlaGradReferenceIdeal) (hPre_finite_mla := hPre_finite_mla)
    ∧ quiescent_MlpUp (hMlpUp := hMlpUp)
    ∧ quiescent_MlpUpIdeal (hMlpUpIdeal := hMlpUpIdeal)
    ∧ quiescent_MlpUpReferenceIdeal (hMlpUpReferenceIdeal := hMlpUpReferenceIdeal)
    ∧ quiescent_MlpGrad (hMlpGrad := hMlpGrad)
    ∧ quiescent_MlpGradIdeal (hMlpGradIdeal := hMlpGradIdeal)
    ∧ quiescent_MlpGradReferenceIdeal (hMlpGradReferenceIdeal := hMlpGradReferenceIdeal)
    ∧ quiescent_MlpInT (hMlpInT := hMlpInT)
    ∧ quiescent_MlpInTIdeal (hMlpInTIdeal := hMlpInTIdeal)
    ∧ quiescent_MlpInTReferenceIdeal (hMlpInTReferenceIdeal := hMlpInTReferenceIdeal)
    ∧ quiescent_MlpInW (hMlpInW := hMlpInW)
    ∧ quiescent_MlpInWIdeal (hMlpInWIdeal := hMlpInWIdeal)
    ∧ quiescent_MlpInWReferenceIdeal (hMlpInWReferenceIdeal := hMlpInWReferenceIdeal)
    ∧ quiescent_MlpOut (hMlpOut := hMlpOut)
    ∧ quiescent_MlpOutIdeal (hMlpOutIdeal := hMlpOutIdeal)
    ∧ quiescent_MlpOutReferenceIdeal (hMlpOutReferenceIdeal := hMlpOutReferenceIdeal)
    ∧ quiescent_MlpOutW (hMlpOutW := hMlpOutW)
    ∧ quiescent_MlpOutWIdeal (hMlpOutWIdeal := hMlpOutWIdeal)
    ∧ quiescent_MlpOutWReferenceIdeal (hMlpOutWReferenceIdeal := hMlpOutWReferenceIdeal)
    ∧ quiescent_LastUp (hLastUp := hLastUp)
    ∧ quiescent_LastUpIdeal (hLastUpIdeal := hLastUpIdeal)
    ∧ quiescent_LastUpReferenceIdeal (hLastUpReferenceIdeal := hLastUpReferenceIdeal)
    ∧ quiescent_LastGrad (hLastGrad := hLastGrad)
    ∧ quiescent_LastGradIdeal (hLastGradIdeal := hLastGradIdeal)
    ∧ quiescent_LastGradReferenceIdeal (hLastGradReferenceIdeal := hLastGradReferenceIdeal)
    ∧ quiescent_LastInT (hLastInT := hLastInT)
    ∧ quiescent_LastInTIdeal (hLastInTIdeal := hLastInTIdeal)
    ∧ quiescent_LastInTReferenceIdeal (hLastInTReferenceIdeal := hLastInTReferenceIdeal)
    ∧ quiescent_LastInW (hLastInW := hLastInW)
    ∧ quiescent_LastInWIdeal (hLastInWIdeal := hLastInWIdeal)
    ∧ quiescent_LastInWReferenceIdeal (hLastInWReferenceIdeal := hLastInWReferenceIdeal)
    ∧ quiescent_LastOut (hLastOut := hLastOut)
    ∧ quiescent_LastOutIdeal (hLastOutIdeal := hLastOutIdeal)
    ∧ quiescent_LastOutReferenceIdeal (hLastOutReferenceIdeal := hLastOutReferenceIdeal)
    ∧ quiescent_LastOutW (hLastOutW := hLastOutW)
    ∧ quiescent_LastOutWIdeal (hLastOutWIdeal := hLastOutWIdeal)
    ∧ quiescent_LastOutWReferenceIdeal (hLastOutWReferenceIdeal := hLastOutWReferenceIdeal)
    ∧ quiescent_EvenIn (hEvenIn := hEvenIn)
    ∧ quiescent_EvenInIdeal (hEvenInIdeal := hEvenInIdeal)
    ∧ quiescent_EvenInReferenceIdeal (hEvenInReferenceIdeal := hEvenInReferenceIdeal)
    ∧ quiescent_EvenInT (hEvenInT := hEvenInT)
    ∧ quiescent_EvenInTIdeal (hEvenInTIdeal := hEvenInTIdeal)
    ∧ quiescent_EvenInTReferenceIdeal (hEvenInTReferenceIdeal := hEvenInTReferenceIdeal)
    ∧ quiescent_EvenInW (hEvenInW := hEvenInW)
    ∧ quiescent_EvenInWIdeal (hEvenInWIdeal := hEvenInWIdeal)
    ∧ quiescent_EvenInWReferenceIdeal (hEvenInWReferenceIdeal := hEvenInWReferenceIdeal)
    ∧ quiescent_OddIn (hOddIn := hOddIn)
    ∧ quiescent_OddInIdeal (hOddInIdeal := hOddInIdeal)
    ∧ quiescent_OddInReferenceIdeal (hOddInReferenceIdeal := hOddInReferenceIdeal)
    ∧ quiescent_OddInT (hOddInT := hOddInT)
    ∧ quiescent_OddInTIdeal (hOddInTIdeal := hOddInTIdeal)
    ∧ quiescent_OddInTReferenceIdeal (hOddInTReferenceIdeal := hOddInTReferenceIdeal)
    ∧ quiescent_OddInW (hOddInW := hOddInW)
    ∧ quiescent_OddInWIdeal (hOddInWIdeal := hOddInWIdeal)
    ∧ quiescent_OddInWReferenceIdeal (hOddInWReferenceIdeal := hOddInWReferenceIdeal)
    ∧ quiescent_MlaQ (hMlaQ := hMlaQ)
    ∧ quiescent_MlaQIdeal (hMlaQIdeal := hMlaQIdeal)
    ∧ quiescent_MlaQReferenceIdeal (hMlaQReferenceIdeal := hMlaQReferenceIdeal)
    ∧ quiescent_MlaQT (hMlaQT := hMlaQT)
    ∧ quiescent_MlaQTIdeal (hMlaQTIdeal := hMlaQTIdeal)
    ∧ quiescent_MlaQTReferenceIdeal (hMlaQTReferenceIdeal := hMlaQTReferenceIdeal)
    ∧ quiescent_MlaQW (hMlaQW := hMlaQW)
    ∧ quiescent_MlaQWIdeal (hMlaQWIdeal := hMlaQWIdeal)
    ∧ quiescent_MlaQWReferenceIdeal (hMlaQWReferenceIdeal := hMlaQWReferenceIdeal)
    ∧ quiescent_MlaKv (hMlaKv := hMlaKv)
    ∧ quiescent_MlaKvIdeal (hMlaKvIdeal := hMlaKvIdeal)
    ∧ quiescent_MlaKvReferenceIdeal (hMlaKvReferenceIdeal := hMlaKvReferenceIdeal)
    ∧ quiescent_MlaKvT (hMlaKvT := hMlaKvT)
    ∧ quiescent_MlaKvTIdeal (hMlaKvTIdeal := hMlaKvTIdeal)
    ∧ quiescent_MlaKvTReferenceIdeal (hMlaKvTReferenceIdeal := hMlaKvTReferenceIdeal)
    ∧ quiescent_MlaKvW (hMlaKvW := hMlaKvW)
    ∧ quiescent_MlaKvWIdeal (hMlaKvWIdeal := hMlaKvWIdeal)
    ∧ quiescent_MlaKvWReferenceIdeal (hMlaKvWReferenceIdeal := hMlaKvWReferenceIdeal)
    ∧ quiescent_Mix (hMix := hMix)
    ∧ quiescent_MixIdeal (hMixIdeal := hMixIdeal)
    ∧ quiescent_MixReferenceIdeal (hMixReferenceIdeal := hMixReferenceIdeal)
    ∧ quiescent_MixT (hMixT := hMixT)
    ∧ quiescent_MixTIdeal (hMixTIdeal := hMixTIdeal)
    ∧ quiescent_MixTReferenceIdeal (hMixTReferenceIdeal := hMixTReferenceIdeal)
    ∧ quiescent_MixW (hMixW := hMixW)
    ∧ quiescent_MixWIdeal (hMixWIdeal := hMixWIdeal)
    ∧ quiescent_MixWReferenceIdeal (hMixWReferenceIdeal := hMixWReferenceIdeal)
    ∧ quiescent_LastMix (hLastMix := hLastMix)
    ∧ quiescent_LastMixIdeal (hLastMixIdeal := hLastMixIdeal)
    ∧ quiescent_LastMixReferenceIdeal (hLastMixReferenceIdeal := hLastMixReferenceIdeal)
    ∧ quiescent_LastMixT (hLastMixT := hLastMixT)
    ∧ quiescent_LastMixTIdeal (hLastMixTIdeal := hLastMixTIdeal)
    ∧ quiescent_LastMixTReferenceIdeal (hLastMixTReferenceIdeal := hLastMixTReferenceIdeal)
    ∧ quiescent_LastMixW (hLastMixW := hLastMixW)
    ∧ quiescent_LastMixWIdeal (hLastMixWIdeal := hLastMixWIdeal)
    ∧ quiescent_LastMixWReferenceIdeal (hLastMixWReferenceIdeal := hLastMixWReferenceIdeal)
    ∧ quiescent_Glu (hGlu := hGlu)
    ∧ quiescent_GluIdeal (hGluIdeal := hGluIdeal)
    ∧ quiescent_GluReferenceIdeal (hGluReferenceIdeal := hGluReferenceIdeal)
    ∧ quiescent_GluT (hGluT := hGluT)
    ∧ quiescent_GluTIdeal (hGluTIdeal := hGluTIdeal)
    ∧ quiescent_GluTReferenceIdeal (hGluTReferenceIdeal := hGluTReferenceIdeal)
    ∧ quiescent_GluW (hGluW := hGluW)
    ∧ quiescent_GluWIdeal (hGluWIdeal := hGluWIdeal)
    ∧ quiescent_GluWReferenceIdeal (hGluWReferenceIdeal := hGluWReferenceIdeal)
    ∧ quiescent_GluCtx (hGluCtx := hGluCtx)
    ∧ quiescent_GluCtxIdeal (hGluCtxIdeal := hGluCtxIdeal)
    ∧ quiescent_GluCtxReferenceIdeal (hGluCtxReferenceIdeal := hGluCtxReferenceIdeal)
    ∧ quiescent_GluCtxT (hGluCtxT := hGluCtxT)
    ∧ quiescent_GluCtxTIdeal (hGluCtxTIdeal := hGluCtxTIdeal)
    ∧ quiescent_GluCtxTReferenceIdeal (hGluCtxTReferenceIdeal := hGluCtxTReferenceIdeal)
    ∧ quiescent_GluCtxW (hGluCtxW := hGluCtxW)
    ∧ quiescent_GluCtxWIdeal (hGluCtxWIdeal := hGluCtxWIdeal)
    ∧ quiescent_GluCtxWReferenceIdeal (hGluCtxWReferenceIdeal := hGluCtxWReferenceIdeal)
    ∧ quiescent_AdamUp (hAdamUp := hAdamUp)
    ∧ quiescent_AdamUpIdeal (hAdamUpIdeal := hAdamUpIdeal)
    ∧ quiescent_AdamUpReferenceIdeal (hAdamUpReferenceIdeal := hAdamUpReferenceIdeal)
    ∧ quiescent_AdamDown (hAdamDown := hAdamDown)
    ∧ quiescent_AdamDownIdeal (hAdamDownIdeal := hAdamDownIdeal)
    ∧ quiescent_AdamDownReferenceIdeal (hAdamDownReferenceIdeal := hAdamDownReferenceIdeal)
    ∧ quiescent_AdamEvenIn (hAdamEvenIn := hAdamEvenIn)
    ∧ quiescent_AdamEvenInIdeal (hAdamEvenInIdeal := hAdamEvenInIdeal)
    ∧ quiescent_AdamEvenInReferenceIdeal (hAdamEvenInReferenceIdeal := hAdamEvenInReferenceIdeal)
    ∧ quiescent_AdamMix (hAdamMix := hAdamMix)
    ∧ quiescent_AdamMixIdeal (hAdamMixIdeal := hAdamMixIdeal)
    ∧ quiescent_AdamMixReferenceIdeal (hAdamMixReferenceIdeal := hAdamMixReferenceIdeal)
    ∧ quiescent_AdamOddIn (hAdamOddIn := hAdamOddIn)
    ∧ quiescent_AdamOddInIdeal (hAdamOddInIdeal := hAdamOddInIdeal)
    ∧ quiescent_AdamOddInReferenceIdeal (hAdamOddInReferenceIdeal := hAdamOddInReferenceIdeal)
    ∧ quiescent_AdamQ (hAdamQ := hAdamQ)
    ∧ quiescent_AdamQIdeal (hAdamQIdeal := hAdamQIdeal)
    ∧ quiescent_AdamQReferenceIdeal (hAdamQReferenceIdeal := hAdamQReferenceIdeal)
    ∧ quiescent_AdamKv (hAdamKv := hAdamKv)
    ∧ quiescent_AdamKvIdeal (hAdamKvIdeal := hAdamKvIdeal)
    ∧ quiescent_AdamKvReferenceIdeal (hAdamKvReferenceIdeal := hAdamKvReferenceIdeal)
    ∧ quiescent_AdamGlu (hAdamGlu := hAdamGlu)
    ∧ quiescent_AdamGluIdeal (hAdamGluIdeal := hAdamGluIdeal)
    ∧ quiescent_AdamGluReferenceIdeal (hAdamGluReferenceIdeal := hAdamGluReferenceIdeal)
    ∧ quiescent_AdamMod (hAdamMod := hAdamMod)
    ∧ quiescent_AdamModIdeal (hAdamModIdeal := hAdamModIdeal)
    ∧ quiescent_AdamModReferenceIdeal (hAdamModReferenceIdeal := hAdamModReferenceIdeal)
    ∧ quiescent_SumSmall (hSumSmall := hSumSmall)
    ∧ quiescent_SumSmallIdeal (hSumSmallIdeal := hSumSmallIdeal)
    ∧ quiescent_SumSmallReferenceIdeal (hSumSmallReferenceIdeal := hSumSmallReferenceIdeal)
    ∧ preserves_Kernel_KernelIdeal
    ∧ algebraic_KernelIdeal_ReferenceIdeal_pre_finite (hKernelIdeal := hKernelIdeal) (hReferenceIdeal := hReferenceIdeal) (hPre_finite := hPre_finite)
    ∧ preserves_Dense_DenseIdeal
    ∧ algebraic_DenseIdeal_DenseReferenceIdeal_pre_finite_forward (hDenseIdeal := hDenseIdeal) (hDenseReferenceIdeal := hDenseReferenceIdeal) (hPre_finite_forward := hPre_finite_forward)
    ∧ preserves_Mla_MlaIdeal
    ∧ algebraic_MlaIdeal_MlaReferenceIdeal_pre_finite_mla_forward (hMlaIdeal := hMlaIdeal) (hMlaReferenceIdeal := hMlaReferenceIdeal) (hPre_finite_mla_forward := hPre_finite_mla_forward)
    ∧ preserves_MlaGrad_MlaGradIdeal
    ∧ algebraic_MlaGradIdeal_MlaGradReferenceIdeal_pre_finite_mla (hMlaGradIdeal := hMlaGradIdeal) (hMlaGradReferenceIdeal := hMlaGradReferenceIdeal) (hPre_finite_mla := hPre_finite_mla)
    ∧ preserves_MlpUp_MlpUpIdeal
    ∧ algebraic_MlpUpIdeal_MlpUpReferenceIdeal (hMlpUpIdeal := hMlpUpIdeal) (hMlpUpReferenceIdeal := hMlpUpReferenceIdeal)
    ∧ preserves_MlpGrad_MlpGradIdeal
    ∧ algebraic_MlpGradIdeal_MlpGradReferenceIdeal (hMlpGradIdeal := hMlpGradIdeal) (hMlpGradReferenceIdeal := hMlpGradReferenceIdeal)
    ∧ preserves_MlpInT_MlpInTIdeal
    ∧ algebraic_MlpInTIdeal_MlpInTReferenceIdeal (hMlpInTIdeal := hMlpInTIdeal) (hMlpInTReferenceIdeal := hMlpInTReferenceIdeal)
    ∧ preserves_MlpInW_MlpInWIdeal
    ∧ algebraic_MlpInWIdeal_MlpInWReferenceIdeal (hMlpInWIdeal := hMlpInWIdeal) (hMlpInWReferenceIdeal := hMlpInWReferenceIdeal)
    ∧ preserves_MlpOut_MlpOutIdeal
    ∧ algebraic_MlpOutIdeal_MlpOutReferenceIdeal (hMlpOutIdeal := hMlpOutIdeal) (hMlpOutReferenceIdeal := hMlpOutReferenceIdeal)
    ∧ preserves_MlpOutW_MlpOutWIdeal
    ∧ algebraic_MlpOutWIdeal_MlpOutWReferenceIdeal (hMlpOutWIdeal := hMlpOutWIdeal) (hMlpOutWReferenceIdeal := hMlpOutWReferenceIdeal)
    ∧ preserves_LastUp_LastUpIdeal
    ∧ algebraic_LastUpIdeal_LastUpReferenceIdeal (hLastUpIdeal := hLastUpIdeal) (hLastUpReferenceIdeal := hLastUpReferenceIdeal)
    ∧ preserves_LastGrad_LastGradIdeal
    ∧ algebraic_LastGradIdeal_LastGradReferenceIdeal (hLastGradIdeal := hLastGradIdeal) (hLastGradReferenceIdeal := hLastGradReferenceIdeal)
    ∧ preserves_LastInT_LastInTIdeal
    ∧ algebraic_LastInTIdeal_LastInTReferenceIdeal (hLastInTIdeal := hLastInTIdeal) (hLastInTReferenceIdeal := hLastInTReferenceIdeal)
    ∧ preserves_LastInW_LastInWIdeal
    ∧ algebraic_LastInWIdeal_LastInWReferenceIdeal (hLastInWIdeal := hLastInWIdeal) (hLastInWReferenceIdeal := hLastInWReferenceIdeal)
    ∧ preserves_LastOut_LastOutIdeal
    ∧ algebraic_LastOutIdeal_LastOutReferenceIdeal (hLastOutIdeal := hLastOutIdeal) (hLastOutReferenceIdeal := hLastOutReferenceIdeal)
    ∧ preserves_LastOutW_LastOutWIdeal
    ∧ algebraic_LastOutWIdeal_LastOutWReferenceIdeal (hLastOutWIdeal := hLastOutWIdeal) (hLastOutWReferenceIdeal := hLastOutWReferenceIdeal)
    ∧ preserves_EvenIn_EvenInIdeal
    ∧ algebraic_EvenInIdeal_EvenInReferenceIdeal (hEvenInIdeal := hEvenInIdeal) (hEvenInReferenceIdeal := hEvenInReferenceIdeal)
    ∧ preserves_EvenInT_EvenInTIdeal
    ∧ algebraic_EvenInTIdeal_EvenInTReferenceIdeal (hEvenInTIdeal := hEvenInTIdeal) (hEvenInTReferenceIdeal := hEvenInTReferenceIdeal)
    ∧ preserves_EvenInW_EvenInWIdeal
    ∧ algebraic_EvenInWIdeal_EvenInWReferenceIdeal (hEvenInWIdeal := hEvenInWIdeal) (hEvenInWReferenceIdeal := hEvenInWReferenceIdeal)
    ∧ preserves_OddIn_OddInIdeal
    ∧ algebraic_OddInIdeal_OddInReferenceIdeal (hOddInIdeal := hOddInIdeal) (hOddInReferenceIdeal := hOddInReferenceIdeal)
    ∧ preserves_OddInT_OddInTIdeal
    ∧ algebraic_OddInTIdeal_OddInTReferenceIdeal (hOddInTIdeal := hOddInTIdeal) (hOddInTReferenceIdeal := hOddInTReferenceIdeal)
    ∧ preserves_OddInW_OddInWIdeal
    ∧ algebraic_OddInWIdeal_OddInWReferenceIdeal (hOddInWIdeal := hOddInWIdeal) (hOddInWReferenceIdeal := hOddInWReferenceIdeal)
    ∧ preserves_MlaQ_MlaQIdeal
    ∧ algebraic_MlaQIdeal_MlaQReferenceIdeal (hMlaQIdeal := hMlaQIdeal) (hMlaQReferenceIdeal := hMlaQReferenceIdeal)
    ∧ preserves_MlaQT_MlaQTIdeal
    ∧ algebraic_MlaQTIdeal_MlaQTReferenceIdeal (hMlaQTIdeal := hMlaQTIdeal) (hMlaQTReferenceIdeal := hMlaQTReferenceIdeal)
    ∧ preserves_MlaQW_MlaQWIdeal
    ∧ algebraic_MlaQWIdeal_MlaQWReferenceIdeal (hMlaQWIdeal := hMlaQWIdeal) (hMlaQWReferenceIdeal := hMlaQWReferenceIdeal)
    ∧ preserves_MlaKv_MlaKvIdeal
    ∧ algebraic_MlaKvIdeal_MlaKvReferenceIdeal (hMlaKvIdeal := hMlaKvIdeal) (hMlaKvReferenceIdeal := hMlaKvReferenceIdeal)
    ∧ preserves_MlaKvT_MlaKvTIdeal
    ∧ algebraic_MlaKvTIdeal_MlaKvTReferenceIdeal (hMlaKvTIdeal := hMlaKvTIdeal) (hMlaKvTReferenceIdeal := hMlaKvTReferenceIdeal)
    ∧ preserves_MlaKvW_MlaKvWIdeal
    ∧ algebraic_MlaKvWIdeal_MlaKvWReferenceIdeal (hMlaKvWIdeal := hMlaKvWIdeal) (hMlaKvWReferenceIdeal := hMlaKvWReferenceIdeal)
    ∧ preserves_Mix_MixIdeal
    ∧ algebraic_MixIdeal_MixReferenceIdeal (hMixIdeal := hMixIdeal) (hMixReferenceIdeal := hMixReferenceIdeal)
    ∧ preserves_MixT_MixTIdeal
    ∧ algebraic_MixTIdeal_MixTReferenceIdeal (hMixTIdeal := hMixTIdeal) (hMixTReferenceIdeal := hMixTReferenceIdeal)
    ∧ preserves_MixW_MixWIdeal
    ∧ algebraic_MixWIdeal_MixWReferenceIdeal (hMixWIdeal := hMixWIdeal) (hMixWReferenceIdeal := hMixWReferenceIdeal)
    ∧ preserves_LastMix_LastMixIdeal
    ∧ algebraic_LastMixIdeal_LastMixReferenceIdeal (hLastMixIdeal := hLastMixIdeal) (hLastMixReferenceIdeal := hLastMixReferenceIdeal)
    ∧ preserves_LastMixT_LastMixTIdeal
    ∧ algebraic_LastMixTIdeal_LastMixTReferenceIdeal (hLastMixTIdeal := hLastMixTIdeal) (hLastMixTReferenceIdeal := hLastMixTReferenceIdeal)
    ∧ preserves_LastMixW_LastMixWIdeal
    ∧ algebraic_LastMixWIdeal_LastMixWReferenceIdeal (hLastMixWIdeal := hLastMixWIdeal) (hLastMixWReferenceIdeal := hLastMixWReferenceIdeal)
    ∧ preserves_Glu_GluIdeal
    ∧ algebraic_GluIdeal_GluReferenceIdeal (hGluIdeal := hGluIdeal) (hGluReferenceIdeal := hGluReferenceIdeal)
    ∧ preserves_GluT_GluTIdeal
    ∧ algebraic_GluTIdeal_GluTReferenceIdeal (hGluTIdeal := hGluTIdeal) (hGluTReferenceIdeal := hGluTReferenceIdeal)
    ∧ preserves_GluW_GluWIdeal
    ∧ algebraic_GluWIdeal_GluWReferenceIdeal (hGluWIdeal := hGluWIdeal) (hGluWReferenceIdeal := hGluWReferenceIdeal)
    ∧ preserves_GluCtx_GluCtxIdeal
    ∧ algebraic_GluCtxIdeal_GluCtxReferenceIdeal (hGluCtxIdeal := hGluCtxIdeal) (hGluCtxReferenceIdeal := hGluCtxReferenceIdeal)
    ∧ preserves_GluCtxT_GluCtxTIdeal
    ∧ algebraic_GluCtxTIdeal_GluCtxTReferenceIdeal (hGluCtxTIdeal := hGluCtxTIdeal) (hGluCtxTReferenceIdeal := hGluCtxTReferenceIdeal)
    ∧ preserves_GluCtxW_GluCtxWIdeal
    ∧ algebraic_GluCtxWIdeal_GluCtxWReferenceIdeal (hGluCtxWIdeal := hGluCtxWIdeal) (hGluCtxWReferenceIdeal := hGluCtxWReferenceIdeal)
    ∧ preserves_AdamUp_AdamUpIdeal
    ∧ algebraic_AdamUpIdeal_AdamUpReferenceIdeal (hAdamUpIdeal := hAdamUpIdeal) (hAdamUpReferenceIdeal := hAdamUpReferenceIdeal)
    ∧ preserves_AdamDown_AdamDownIdeal
    ∧ algebraic_AdamDownIdeal_AdamDownReferenceIdeal (hAdamDownIdeal := hAdamDownIdeal) (hAdamDownReferenceIdeal := hAdamDownReferenceIdeal)
    ∧ preserves_AdamEvenIn_AdamEvenInIdeal
    ∧ algebraic_AdamEvenInIdeal_AdamEvenInReferenceIdeal (hAdamEvenInIdeal := hAdamEvenInIdeal) (hAdamEvenInReferenceIdeal := hAdamEvenInReferenceIdeal)
    ∧ preserves_AdamMix_AdamMixIdeal
    ∧ algebraic_AdamMixIdeal_AdamMixReferenceIdeal (hAdamMixIdeal := hAdamMixIdeal) (hAdamMixReferenceIdeal := hAdamMixReferenceIdeal)
    ∧ preserves_AdamOddIn_AdamOddInIdeal
    ∧ algebraic_AdamOddInIdeal_AdamOddInReferenceIdeal (hAdamOddInIdeal := hAdamOddInIdeal) (hAdamOddInReferenceIdeal := hAdamOddInReferenceIdeal)
    ∧ preserves_AdamQ_AdamQIdeal
    ∧ algebraic_AdamQIdeal_AdamQReferenceIdeal (hAdamQIdeal := hAdamQIdeal) (hAdamQReferenceIdeal := hAdamQReferenceIdeal)
    ∧ preserves_AdamKv_AdamKvIdeal
    ∧ algebraic_AdamKvIdeal_AdamKvReferenceIdeal (hAdamKvIdeal := hAdamKvIdeal) (hAdamKvReferenceIdeal := hAdamKvReferenceIdeal)
    ∧ preserves_AdamGlu_AdamGluIdeal
    ∧ algebraic_AdamGluIdeal_AdamGluReferenceIdeal (hAdamGluIdeal := hAdamGluIdeal) (hAdamGluReferenceIdeal := hAdamGluReferenceIdeal)
    ∧ preserves_AdamMod_AdamModIdeal
    ∧ algebraic_AdamModIdeal_AdamModReferenceIdeal (hAdamModIdeal := hAdamModIdeal) (hAdamModReferenceIdeal := hAdamModReferenceIdeal)
    ∧ preserves_SumSmall_SumSmallIdeal
    ∧ algebraic_SumSmallIdeal_SumSmallReferenceIdeal (hSumSmallIdeal := hSumSmallIdeal) (hSumSmallReferenceIdeal := hSumSmallReferenceIdeal)
-- ==== Pre_finite.lean ====
abbrev S2x2048x12x64 : Shape := ⟨4, ![2, 2048, 12, 64]⟩
abbrev S2x2304x4x64 : Shape := ⟨4, ![2, 2304, 4, 64]⟩
abbrev S_ : Shape := ⟨0, ![]⟩

class Facts : Prop where
  bcast_S_S2x2048x12x64 : S_.BroadcastsInDim S2x2048x12x64 (![] : Fin 0 → Fin S2x2048x12x64.rank)
  bcast_S_S2x2304x4x64 : S_.BroadcastsInDim S2x2304x4x64 (![] : Fin 0 → Fin S2x2304x4x64.rank)

variable [Facts]

def fn {F : FTy → Type} [FloatOps F] (main_arg0 : FVec F S2x2048x12x64 .f32) (main_arg1 : FVec F S2x2304x4x64 .f32) (main_arg2 : FVec F S2x2304x4x64 .f32) (main_arg3 : FVec F S2x2048x12x64 .f32) : IVec S2x2048x12x64 1 × IVec S2x2304x4x64 1 :=
  let main_v0 : FVec F S2x2048x12x64 .f32 := Host.absf main_arg0
  let main_cst : FVec F S_ .f32 := constant S_ .f32 0x7F800000#32
  let main_v1 : FVec F S2x2048x12x64 .f32 := broadcastInDim S2x2048x12x64 ![] bcast_S_S2x2048x12x64 main_cst
  let main_v2 : IVec S2x2048x12x64 1 := cmpf .olt main_v0 main_v1
  let main_v3 : FVec F S2x2304x4x64 .f32 := Host.absf main_arg1
  let main_cst_0 : FVec F S_ .f32 := constant S_ .f32 0x7F800000#32
  let main_v4 : FVec F S2x2304x4x64 .f32 := broadcastInDim S2x2304x4x64 ![] bcast_S_S2x2304x4x64 main_cst_0
  let main_v5 : IVec S2x2304x4x64 1 := cmpf .olt main_v3 main_v4
  (main_v2, main_v5)
-- ==== Pre_finite_forward.lean ====
abbrev S2x2048x12x64 : Shape := ⟨4, ![2, 2048, 12, 64]⟩
abbrev S2x2304x4x64 : Shape := ⟨4, ![2, 2304, 4, 64]⟩
abbrev S_ : Shape := ⟨0, ![]⟩

class Facts : Prop where
  bcast_S_S2x2048x12x64 : S_.BroadcastsInDim S2x2048x12x64 (![] : Fin 0 → Fin S2x2048x12x64.rank)
  bcast_S_S2x2304x4x64 : S_.BroadcastsInDim S2x2304x4x64 (![] : Fin 0 → Fin S2x2304x4x64.rank)

variable [Facts]

def fn {F : FTy → Type} [FloatOps F] (main_arg0 : FVec F S2x2048x12x64 .f32) (main_arg1 : FVec F S2x2304x4x64 .f32) (main_arg2 : FVec F S2x2304x4x64 .f32) : IVec S2x2048x12x64 1 × IVec S2x2304x4x64 1 :=
  let main_v0 : FVec F S2x2048x12x64 .f32 := Host.absf main_arg0
  let main_cst : FVec F S_ .f32 := constant S_ .f32 0x7F800000#32
  let main_v1 : FVec F S2x2048x12x64 .f32 := broadcastInDim S2x2048x12x64 ![] bcast_S_S2x2048x12x64 main_cst
  let main_v2 : IVec S2x2048x12x64 1 := cmpf .olt main_v0 main_v1
  let main_v3 : FVec F S2x2304x4x64 .f32 := Host.absf main_arg1
  let main_cst_0 : FVec F S_ .f32 := constant S_ .f32 0x7F800000#32
  let main_v4 : FVec F S2x2304x4x64 .f32 := broadcastInDim S2x2304x4x64 ![] bcast_S_S2x2304x4x64 main_cst_0
  let main_v5 : IVec S2x2304x4x64 1 := cmpf .olt main_v3 main_v4
  (main_v2, main_v5)
-- ==== Pre_finite_mla.lean ====
abbrev S2x2048x8x96 : Shape := ⟨4, ![2, 2048, 8, 96]⟩
abbrev S2x2304x8x96 : Shape := ⟨4, ![2, 2304, 8, 96]⟩
abbrev S2x2304x8x64 : Shape := ⟨4, ![2, 2304, 8, 64]⟩
abbrev S2x2048x8x64 : Shape := ⟨4, ![2, 2048, 8, 64]⟩
abbrev S_ : Shape := ⟨0, ![]⟩

class Facts : Prop where
  bcast_S_S2x2048x8x96 : S_.BroadcastsInDim S2x2048x8x96 (![] : Fin 0 → Fin S2x2048x8x96.rank)
  bcast_S_S2x2304x8x96 : S_.BroadcastsInDim S2x2304x8x96 (![] : Fin 0 → Fin S2x2304x8x96.rank)

variable [Facts]

def fn {F : FTy → Type} [FloatOps F] (main_arg0 : FVec F S2x2048x8x96 .f32) (main_arg1 : FVec F S2x2304x8x96 .f32) (main_arg2 : FVec F S2x2304x8x64 .f32) (main_arg3 : FVec F S2x2048x8x64 .f32) : IVec S2x2048x8x96 1 × IVec S2x2304x8x96 1 :=
  let main_v0 : FVec F S2x2048x8x96 .f32 := Host.absf main_arg0
  let main_cst : FVec F S_ .f32 := constant S_ .f32 0x7F800000#32
  let main_v1 : FVec F S2x2048x8x96 .f32 := broadcastInDim S2x2048x8x96 ![] bcast_S_S2x2048x8x96 main_cst
  let main_v2 : IVec S2x2048x8x96 1 := cmpf .olt main_v0 main_v1
  let main_v3 : FVec F S2x2304x8x96 .f32 := Host.absf main_arg1
  let main_cst_0 : FVec F S_ .f32 := constant S_ .f32 0x7F800000#32
  let main_v4 : FVec F S2x2304x8x96 .f32 := broadcastInDim S2x2304x8x96 ![] bcast_S_S2x2304x8x96 main_cst_0
  let main_v5 : IVec S2x2304x8x96 1 := cmpf .olt main_v3 main_v4
  (main_v2, main_v5)
-- ==== Pre_finite_mla_forward.lean ====
abbrev S2x2048x8x96 : Shape := ⟨4, ![2, 2048, 8, 96]⟩
abbrev S2x2304x8x96 : Shape := ⟨4, ![2, 2304, 8, 96]⟩
abbrev S2x2304x8x64 : Shape := ⟨4, ![2, 2304, 8, 64]⟩
abbrev S_ : Shape := ⟨0, ![]⟩

class Facts : Prop where
  bcast_S_S2x2048x8x96 : S_.BroadcastsInDim S2x2048x8x96 (![] : Fin 0 → Fin S2x2048x8x96.rank)
  bcast_S_S2x2304x8x96 : S_.BroadcastsInDim S2x2304x8x96 (![] : Fin 0 → Fin S2x2304x8x96.rank)

variable [Facts]

def fn {F : FTy → Type} [FloatOps F] (main_arg0 : FVec F S2x2048x8x96 .f32) (main_arg1 : FVec F S2x2304x8x96 .f32) (main_arg2 : FVec F S2x2304x8x64 .f32) : IVec S2x2048x8x96 1 × IVec S2x2304x8x96 1 :=
  let main_v0 : FVec F S2x2048x8x96 .f32 := Host.absf main_arg0
  let main_cst : FVec F S_ .f32 := constant S_ .f32 0x7F800000#32
  let main_v1 : FVec F S2x2048x8x96 .f32 := broadcastInDim S2x2048x8x96 ![] bcast_S_S2x2048x8x96 main_cst
  let main_v2 : IVec S2x2048x8x96 1 := cmpf .olt main_v0 main_v1
  let main_v3 : FVec F S2x2304x8x96 .f32 := Host.absf main_arg1
  let main_cst_0 : FVec F S_ .f32 := constant S_ .f32 0x7F800000#32
  let main_v4 : FVec F S2x2304x8x96 .f32 := broadcastInDim S2x2304x8x96 ![] bcast_S_S2x2304x8x96 main_cst_0
  let main_v5 : IVec S2x2304x8x96 1 := cmpf .olt main_v3 main_v4
  (main_v2, main_v5)
-- ==== Kernel.lean ====
abbrev S2x2048x12x64 : Shape := ⟨4, ![2, 2048, 12, 64]⟩
abbrev S2x2304x4x64 : Shape := ⟨4, ![2, 2304, 4, 64]⟩
abbrev S2x12x2048x64 : Shape := ⟨4, ![2, 12, 2048, 64]⟩
abbrev S2x4x2304x64 : Shape := ⟨4, ![2, 4, 2304, 64]⟩
abbrev S2x4x64x2304 : Shape := ⟨4, ![2, 4, 64, 2304]⟩
abbrev S2x12x64x2048 : Shape := ⟨4, ![2, 12, 64, 2048]⟩
abbrev S1x1x512x64 : Shape := ⟨4, ![1, 1, 512, 64]⟩
abbrev S1x1x64x2304 : Shape := ⟨4, ![1, 1, 64, 2304]⟩
abbrev S1x1x64x512 : Shape := ⟨4, ![1, 1, 64, 512]⟩
abbrev S1x1x2304x64 : Shape := ⟨4, ![1, 1, 2304, 64]⟩
abbrev S2304x64 : Shape := ⟨2, ![2304, 64]⟩
abbrev S64x2304 : Shape := ⟨2, ![64, 2304]⟩
abbrev S1x1x256x64 : Shape := ⟨4, ![1, 1, 256, 64]⟩
abbrev S256x64 : Shape := ⟨2, ![256, 64]⟩
abbrev S256x2304 : Shape := ⟨2, ![256, 2304]⟩
abbrev S256 : Shape := ⟨1, ![256]⟩
abbrev S256x1 : Shape := ⟨2, ![256, 1]⟩
abbrev S64x256 : Shape := ⟨2, ![64, 256]⟩
abbrev S1x1x64x256 : Shape := ⟨4, ![1, 1, 64, 256]⟩

abbrev nBuf : Space → Nat
  | .hbm => 17
  | .vmem => 14
  | .smem => 0
  | _ => 0

abbrev bufTy : (tb : Table) → Fin (tcTables nBuf tb) → BufTy
  | .hbm, ⟨0, _⟩ => ⟨S2x2048x12x64, .f32⟩
  | .hbm, ⟨1, _⟩ => ⟨S2x2304x4x64, .f32⟩
  | .hbm, ⟨2, _⟩ => ⟨S2x2304x4x64, .f32⟩
  | .hbm, ⟨3, _⟩ => ⟨S2x2048x12x64, .f32⟩
  | .hbm, ⟨4, _⟩ => ⟨S2x12x2048x64, .f32⟩
  | .hbm, ⟨5, _⟩ => ⟨S2x4x2304x64, .f32⟩
  | .hbm, ⟨6, _⟩ => ⟨S2x4x2304x64, .f32⟩
  | .hbm, ⟨7, _⟩ => ⟨S2x12x2048x64, .bf16⟩
  | .hbm, ⟨8, _⟩ => ⟨S2x4x2304x64, .bf16⟩
  | .hbm, ⟨9, _⟩ => ⟨S2x4x64x2304, .bf16⟩
  | .hbm, ⟨10, _⟩ => ⟨S2x4x2304x64, .bf16⟩
  | .hbm, ⟨11, _⟩ => ⟨S2x4x64x2304, .bf16⟩
  | .hbm, ⟨12, _⟩ => ⟨S2x12x2048x64, .f32⟩
  | .hbm, ⟨13, _⟩ => ⟨S2x12x2048x64, .bf16⟩
  | .hbm, ⟨14, _⟩ => ⟨S2x12x64x2048, .f32⟩
  | .hbm, ⟨15, _⟩ => ⟨S2x4x2304x64, .f32⟩
  | .hbm, ⟨16, _⟩ => ⟨S2x4x2304x64, .f32⟩
  | .local _ .vmem, ⟨0, _⟩ => ⟨S1x1x512x64, .bf16⟩
  | .local _ .vmem, ⟨1, _⟩ => ⟨S1x1x512x64, .bf16⟩
  | .local _ .vmem, ⟨2, _⟩ => ⟨S1x1x64x2304, .bf16⟩
  | .local _ .vmem, ⟨3, _⟩ => ⟨S1x1x64x2304, .bf16⟩
  | .local _ .vmem, ⟨4, _⟩ => ⟨S1x1x64x2304, .bf16⟩
  | .local _ .vmem, ⟨5, _⟩ => ⟨S1x1x64x2304, .bf16⟩
  | .local _ .vmem, ⟨6, _⟩ => ⟨S1x1x512x64, .bf16⟩
  | .local _ .vmem, ⟨7, _⟩ => ⟨S1x1x512x64, .bf16⟩
  | .local _ .vmem, ⟨8, _⟩ => ⟨S1x1x64x512, .f32⟩
  | .local _ .vmem, ⟨9, _⟩ => ⟨S1x1x64x512, .f32⟩
  | .local _ .vmem, ⟨10, _⟩ => ⟨S1x1x2304x64, .f32⟩
  | .local _ .vmem, ⟨11, _⟩ => ⟨S1x1x2304x64, .f32⟩
  | .local _ .vmem, ⟨12, _⟩ => ⟨S1x1x2304x64, .f32⟩
  | .local _ .vmem, ⟨13, _⟩ => ⟨S1x1x2304x64, .f32⟩
  | _, _ => ⟨S2x2048x12x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10_0 : Ref sig .tc := ⟨.hbm, 14, rfl⟩
abbrev main_v10_1 : Ref sig .tc := ⟨.hbm, 15, rfl⟩
abbrev main_v10_2 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨4, ![2, 4, 3, 4], ![false, false, false, false]⟩

def cc0_transform_0 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c3_i32 : BitVec 32 := 3#32
  let v0 : BitVec 32 := Scalar.muli arg1 c3_i32
  let v1 : BitVec 32 := Scalar.addi v0 arg2
  let c0_i32 : BitVec 32 := 0#32
  let c0_i32_0 : BitVec 32 := 0#32
  ![arg0.toNat, v1.toNat, arg3.toNat, c0_i32.toNat]

def cc0_transform_1 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  let c0_i32_0 : BitVec 32 := 0#32
  let c0_i32_1 : BitVec 32 := 0#32
  ![arg0.toNat, arg1.toNat, c0_i32.toNat, c0_i32_0.toNat]

def cc0_transform_2 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  let c0_i32_0 : BitVec 32 := 0#32
  let c0_i32_1 : BitVec 32 := 0#32
  ![arg0.toNat, arg1.toNat, c0_i32.toNat, c0_i32_0.toNat]

def cc0_transform_3 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c3_i32 : BitVec 32 := 3#32
  let v0 : BitVec 32 := Scalar.muli arg1 c3_i32
  let v1 : BitVec 32 := Scalar.addi v0 arg2
  let c0_i32 : BitVec 32 := 0#32
  let c0_i32_0 : BitVec 32 := 0#32
  ![arg0.toNat, v1.toNat, arg3.toNat, c0_i32.toNat]

def cc0_transform_4 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c3_i32 : BitVec 32 := 3#32
  let v0 : BitVec 32 := Scalar.muli arg1 c3_i32
  let v1 : BitVec 32 := Scalar.addi v0 arg2
  let c0_i32 : BitVec 32 := 0#32
  let c0_i32_0 : BitVec 32 := 0#32
  ![arg0.toNat, v1.toNat, c0_i32.toNat, arg3.toNat]

def cc0_transform_5 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  let c0_i32_0 : BitVec 32 := 0#32
  let c0_i32_1 : BitVec 32 := 0#32
  ![arg0.toNat, arg1.toNat, c0_i32.toNat, c0_i32_0.toNat]

def cc0_transform_6 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  let c0_i32_0 : BitVec 32 := 0#32
  let c0_i32_1 : BitVec 32 := 0#32
  ![arg0.toNat, arg1.toNat, c0_i32.toNat, c0_i32_0.toNat]

abbrev stage0_0 : Fin 2 → Memref sig .tc .vmem S1x1x512x64 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true, true]

abbrev stage0_1 : Fin 2 → Memref sig .tc .vmem S1x1x64x2304 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false, false]

abbrev stage0_2 : Fin 2 → Memref sig .tc .vmem S1x1x64x2304 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false, false]

abbrev stage0_3 : Fin 2 → Memref sig .tc .vmem S1x1x512x64 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true, true]

abbrev stage0_4 : Fin 2 → Memref sig .tc .vmem S1x1x64x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true, true]

abbrev stage0_5 : Fin 2 → Memref sig .tc .vmem S1x1x2304x64 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false, false]

abbrev stage0_6 : Fin 2 → Memref sig .tc .vmem S1x1x2304x64 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, false, false]
-- ==== KernelIdeal.lean ====
abbrev S2x2048x12x64 : Shape := ⟨4, ![2, 2048, 12, 64]⟩
abbrev S2x2304x4x64 : Shape := ⟨4, ![2, 2304, 4, 64]⟩
abbrev S2x12x2048x64 : Shape := ⟨4, ![2, 12, 2048, 64]⟩
abbrev S2x4x2304x64 : Shape := ⟨4, ![2, 4, 2304, 64]⟩
abbrev S2x4x64x2304 : Shape := ⟨4, ![2, 4, 64, 2304]⟩
abbrev S2x12x64x2048 : Shape := ⟨4, ![2, 12, 64, 2048]⟩
abbrev S1x1x512x64 : Shape := ⟨4, ![1, 1, 512, 64]⟩
abbrev S1x1x64x2304 : Shape := ⟨4, ![1, 1, 64, 2304]⟩
abbrev S1x1x64x512 : Shape := ⟨4, ![1, 1, 64, 512]⟩
abbrev S1x1x2304x64 : Shape := ⟨4, ![1, 1, 2304, 64]⟩
abbrev S2304x64 : Shape := ⟨2, ![2304, 64]⟩
abbrev S64x2304 : Shape := ⟨2, ![64, 2304]⟩
abbrev S1x1x256x64 : Shape := ⟨4, ![1, 1, 256, 64]⟩
abbrev S256x64 : Shape := ⟨2, ![256, 64]⟩
abbrev S256x2304 : Shape := ⟨2, ![256, 2304]⟩
abbrev S256 : Shape := ⟨1, ![256]⟩
abbrev S256x1 : Shape := ⟨2, ![256, 1]⟩
abbrev S64x256 : Shape := ⟨2, ![64, 256]⟩
abbrev S1x1x64x256 : Shape := ⟨4, ![1, 1, 64, 256]⟩

abbrev nBuf : Space → Nat
  | .hbm => 17
  | .vmem => 14
  | .smem => 0
  | _ => 0

abbrev bufTy : (tb : Table) → Fin (tcTables nBuf tb) → BufTy
  | .hbm, ⟨0, _⟩ => ⟨S2x2048x12x64, .f32⟩
  | .hbm, ⟨1, _⟩ => ⟨S2x2304x4x64, .f32⟩
  | .hbm, ⟨2, _⟩ => ⟨S2x2304x4x64, .f32⟩
  | .hbm, ⟨3, _⟩ => ⟨S2x2048x12x64, .f32⟩
  | .hbm, ⟨4, _⟩ => ⟨S2x12x2048x64, .f32⟩
  | .hbm, ⟨5, _⟩ => ⟨S2x4x2304x64, .f32⟩
  | .hbm, ⟨6, _⟩ => ⟨S2x4x2304x64, .f32⟩
  | .hbm, ⟨7, _⟩ => ⟨S2x12x2048x64, .bf16⟩
  | .hbm, ⟨8, _⟩ => ⟨S2x4x2304x64, .bf16⟩
  | .hbm, ⟨9, _⟩ => ⟨S2x4x64x2304, .bf16⟩
  | .hbm, ⟨10, _⟩ => ⟨S2x4x2304x64, .bf16⟩
  | .hbm, ⟨11, _⟩ => ⟨S2x4x64x2304, .bf16⟩
  | .hbm, ⟨12, _⟩ => ⟨S2x12x2048x64, .f32⟩
  | .hbm, ⟨13, _⟩ => ⟨S2x12x2048x64, .bf16⟩
  | .hbm, ⟨14, _⟩ => ⟨S2x12x64x2048, .f32⟩
  | .hbm, ⟨15, _⟩ => ⟨S2x4x2304x64, .f32⟩
  | .hbm, ⟨16, _⟩ => ⟨S2x4x2304x64, .f32⟩
  | .local _ .vmem, ⟨0, _⟩ => ⟨S1x1x512x64, .bf16⟩
  | .local _ .vmem, ⟨1, _⟩ => ⟨S1x1x512x64, .bf16⟩
  | .local _ .vmem, ⟨2, _⟩ => ⟨S1x1x64x2304, .bf16⟩
  | .local _ .vmem, ⟨3, _⟩ => ⟨S1x1x64x2304, .bf16⟩
  | .local _ .vmem, ⟨4, _⟩ => ⟨S1x1x64x2304, .bf16⟩
  | .local _ .vmem, ⟨5, _⟩ => ⟨S1x1x64x2304, .bf16⟩
  | .local _ .vmem, ⟨6, _⟩ => ⟨S1x1x512x64, .bf16⟩
  | .local _ .vmem, ⟨7, _⟩ => ⟨S1x1x512x64, .bf16⟩
  | .local _ .vmem, ⟨8, _⟩ => ⟨S1x1x64x512, .f32⟩
  | .local _ .vmem, ⟨9, _⟩ => ⟨S1x1x64x512, .f32⟩
  | .local _ .vmem, ⟨10, _⟩ => ⟨S1x1x2304x64, .f32⟩
  | .local _ .vmem, ⟨11, _⟩ => ⟨S1x1x2304x64, .f32⟩
  | .local _ .vmem, ⟨12, _⟩ => ⟨S1x1x2304x64, .f32⟩
  | .local _ .vmem, ⟨13, _⟩ => ⟨S1x1x2304x64, .f32⟩
  | _, _ => ⟨S2x2048x12x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10_0 : Ref sig .tc := ⟨.hbm, 14, rfl⟩
abbrev main_v10_1 : Ref sig .tc := ⟨.hbm, 15, rfl⟩
abbrev main_v10_2 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F] [Named F]

def κ : String → Option EReal := fun
  | "scale_log2e" => some (((1 / 8) * (Real.log 2)⁻¹ : ℝ) : EReal)
  | _ => none

abbrev grid0 : Pipeline.Grid := ⟨4, ![2, 4, 3, 4], ![false, false, false, false]⟩

def cc0_transform_0 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c3_i32 : BitVec 32 := 3#32
  let v0 : BitVec 32 := Scalar.muli arg1 c3_i32
  let v1 : BitVec 32 := Scalar.addi v0 arg2
  let c0_i32 : BitVec 32 := 0#32
  let c0_i32_0 : BitVec 32 := 0#32
  ![arg0.toNat, v1.toNat, arg3.toNat, c0_i32.toNat]

def cc0_transform_1 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  let c0_i32_0 : BitVec 32 := 0#32
  let c0_i32_1 : BitVec 32 := 0#32
  ![arg0.toNat, arg1.toNat, c0_i32.toNat, c0_i32_0.toNat]

def cc0_transform_2 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  let c0_i32_0 : BitVec 32 := 0#32
  let c0_i32_1 : BitVec 32 := 0#32
  ![arg0.toNat, arg1.toNat, c0_i32.toNat, c0_i32_0.toNat]

def cc0_transform_3 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c3_i32 : BitVec 32 := 3#32
  let v0 : BitVec 32 := Scalar.muli arg1 c3_i32
  let v1 : BitVec 32 := Scalar.addi v0 arg2
  let c0_i32 : BitVec 32 := 0#32
  let c0_i32_0 : BitVec 32 := 0#32
  ![arg0.toNat, v1.toNat, arg3.toNat, c0_i32.toNat]

def cc0_transform_4 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c3_i32 : BitVec 32 := 3#32
  let v0 : BitVec 32 := Scalar.muli arg1 c3_i32
  let v1 : BitVec 32 := Scalar.addi v0 arg2
  let c0_i32 : BitVec 32 := 0#32
  let c0_i32_0 : BitVec 32 := 0#32
  ![arg0.toNat, v1.toNat, c0_i32.toNat, arg3.toNat]

def cc0_transform_5 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  let c0_i32_0 : BitVec 32 := 0#32
  let c0_i32_1 : BitVec 32 := 0#32
  ![arg0.toNat, arg1.toNat, c0_i32.toNat, c0_i32_0.toNat]

def cc0_transform_6 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  let c0_i32_0 : BitVec 32 := 0#32
  let c0_i32_1 : BitVec 32 := 0#32
  ![arg0.toNat, arg1.toNat, c0_i32.toNat, c0_i32_0.toNat]

abbrev stage0_0 : Fin 2 → Memref sig .tc .vmem S1x1x512x64 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true, true]

abbrev stage0_1 : Fin 2 → Memref sig .tc .vmem S1x1x64x2304 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false, false]

abbrev stage0_2 : Fin 2 → Memref sig .tc .vmem S1x1x64x2304 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false, false]

abbrev stage0_3 : Fin 2 → Memref sig .tc .vmem S1x1x512x64 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true, true]

abbrev stage0_4 : Fin 2 → Memref sig .tc .vmem S1x1x64x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true, true]

abbrev stage0_5 : Fin 2 → Memref sig .tc .vmem S1x1x2304x64 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false, false]

abbrev stage0_6 : Fin 2 → Memref sig .tc .vmem S1x1x2304x64 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, false, false]
-- ==== ReferenceIdeal.lean ====
abbrev S2x2048x12x64 : Shape := ⟨4, ![2, 2048, 12, 64]⟩
abbrev S2x2304x4x64 : Shape := ⟨4, ![2, 2304, 4, 64]⟩
abbrev S2x2048x4x3x64 : Shape := ⟨5, ![2, 2048, 4, 3, 64]⟩
abbrev S2x4x2304x2048x3 : Shape := ⟨5, ![2, 4, 2304, 2048, 3]⟩
abbrev S2x4x3x2048x2304 : Shape := ⟨5, ![2, 4, 3, 2048, 2304]⟩
abbrev S_ : Shape := ⟨0, ![]⟩
abbrev S2x4x3x2048 : Shape := ⟨4, ![2, 4, 3, 2048]⟩
abbrev S2x4x3x2048x1 : Shape := ⟨5, ![2, 4, 3, 2048, 1]⟩
abbrev S2x4x64x3x2048 : Shape := ⟨5, ![2, 4, 64, 3, 2048]⟩
abbrev S2x4x64x2304 : Shape := ⟨4, ![2, 4, 64, 2304]⟩
abbrev S2x4x2048x3x64 : Shape := ⟨5, ![2, 4, 2048, 3, 64]⟩
abbrev S2x4x2304x64 : Shape := ⟨4, ![2, 4, 2304, 64]⟩
abbrev S2x12x64x2048 : Shape := ⟨4, ![2, 12, 64, 2048]⟩

abbrev nBuf : Space → Nat
  | .hbm => 82
  | .vmem => 0
  | .smem => 0
  | _ => 0

abbrev bufTy : (tb : Table) → Fin (tcTables nBuf tb) → BufTy
  | .hbm, ⟨0, _⟩ => ⟨S2x2048x12x64, .f32⟩
  | .hbm, ⟨1, _⟩ => ⟨S2x2304x4x64, .f32⟩
  | .hbm, ⟨2, _⟩ => ⟨S2x2304x4x64, .f32⟩
  | .hbm, ⟨3, _⟩ => ⟨S2x2048x12x64, .f32⟩
  | .hbm, ⟨4, _⟩ => ⟨S2x2048x4x3x64, .f32⟩
  | .hbm, ⟨5, _⟩ => ⟨S2x4x2304x2048x3, .f32⟩
  | .hbm, ⟨6, _⟩ => ⟨S2x4x3x2048x2304, .f32⟩
  | .hbm, ⟨7, _⟩ => ⟨S_, .f32⟩
  | .hbm, ⟨8, _⟩ => ⟨S2x4x3x2048x2304, .f32⟩
  | .hbm, ⟨9, _⟩ => ⟨S2x4x3x2048x2304, .f32⟩
  | .hbm, ⟨10, _⟩ => ⟨S_, .f32⟩
  | .hbm, ⟨11, _⟩ => ⟨S2x4x3x2048, .f32⟩
  | .hbm, ⟨12, _⟩ => ⟨S2x4x3x2048x1, .f32⟩
  | .hbm, ⟨13, _⟩ => ⟨S2x4x3x2048x2304, .f32⟩
  | .hbm, ⟨14, _⟩ => ⟨S2x4x3x2048x2304, .i1⟩
  | .hbm, ⟨15, _⟩ => ⟨S2x4x3x2048x2304, .f32⟩
  | .hbm, ⟨16, _⟩ => ⟨S_, .f32⟩
  | .hbm, ⟨17, _⟩ => ⟨S2x4x3x2048, .f32⟩
  | .hbm, ⟨18, _⟩ => ⟨S_, .f32⟩
  | .hbm, ⟨19, _⟩ => ⟨S2x4x3x2048, .f32⟩
  | .hbm, ⟨20, _⟩ => ⟨S2x4x3x2048, .f32⟩
  | .hbm, ⟨21, _⟩ => ⟨S_, .f32⟩
  | .hbm, ⟨22, _⟩ => ⟨S2x4x3x2048, .f32⟩
  | .hbm, ⟨23, _⟩ => ⟨S2x4x3x2048, .i1⟩
  | .hbm, ⟨24, _⟩ => ⟨S_, .f32⟩
  | .hbm, ⟨25, _⟩ => ⟨S2x4x3x2048, .f32⟩
  | .hbm, ⟨26, _⟩ => ⟨S2x4x3x2048, .i1⟩
  | .hbm, ⟨27, _⟩ => ⟨S_, .f32⟩
  | .hbm, ⟨28, _⟩ => ⟨S2x4x3x2048, .f32⟩
  | .hbm, ⟨29, _⟩ => ⟨S_, .f32⟩
  | .hbm, ⟨30, _⟩ => ⟨S2x4x3x2048, .f32⟩
  | .hbm, ⟨31, _⟩ => ⟨S_, .f32⟩
  | .hbm, ⟨32, _⟩ => ⟨S2x4x3x2048, .f32⟩
  | .hbm, ⟨33, _⟩ => ⟨S2x4x3x2048, .f32⟩
  | .hbm, ⟨34, _⟩ => ⟨S2x4x3x2048, .f32⟩
  | .hbm, ⟨35, _⟩ => ⟨S2x4x3x2048x1, .f32⟩
  | .hbm, ⟨36, _⟩ => ⟨S2x4x3x2048x2304, .f32⟩
  | .hbm, ⟨37, _⟩ => ⟨S2x4x3x2048x2304, .f32⟩
  | .hbm, ⟨38, _⟩ => ⟨S2x4x3x2048x2304, .f32⟩
  | .hbm, ⟨39, _⟩ => ⟨S_, .f32⟩
  | .hbm, ⟨40, _⟩ => ⟨S2x4x3x2048, .f32⟩
  | .hbm, ⟨41, _⟩ => ⟨S2x4x3x2048x1, .f32⟩
  | .hbm, ⟨42, _⟩ => ⟨S2x4x3x2048x2304, .f32⟩
  | .hbm, ⟨43, _⟩ => ⟨S2x4x3x2048x2304, .f32⟩
  | .hbm, ⟨44, _⟩ => ⟨S2x4x3x2048x1, .f32⟩
  | .hbm, ⟨45, _⟩ => ⟨S_, .f32⟩
  | .hbm, ⟨46, _⟩ => ⟨S2x4x3x2048x1, .f32⟩
  | .hbm, ⟨47, _⟩ => ⟨S2x4x3x2048x1, .f32⟩
  | .hbm, ⟨48, _⟩ => ⟨S2x4x64x3x2048, .f32⟩
  | .hbm, ⟨49, _⟩ => ⟨S2x2048x4x3x64, .f32⟩
  | .hbm, ⟨50, _⟩ => ⟨S2x2048x12x64, .f32⟩
  | .hbm, ⟨51, _⟩ => ⟨S2x2048x4x3x64, .f32⟩
  | .hbm, ⟨52, _⟩ => ⟨S2x4x64x3x2048, .f32⟩
  | .hbm, ⟨53, _⟩ => ⟨S2x4x3x2048x2304, .f32⟩
  | .hbm, ⟨54, _⟩ => ⟨S2x4x64x2304, .f32⟩
  | .hbm, ⟨55, _⟩ => ⟨S2x2304x4x64, .f32⟩
  | .hbm, ⟨56, _⟩ => ⟨S2x4x3x2048x2304, .f32⟩
  | .hbm, ⟨57, _⟩ => ⟨S2x4x3x2048x2304, .f32⟩
  | .hbm, ⟨58, _⟩ => ⟨S2x4x3x2048x2304, .f32⟩
  | .hbm, ⟨59, _⟩ => ⟨S_, .f32⟩
  | .hbm, ⟨60, _⟩ => ⟨S2x4x3x2048, .f32⟩
  | .hbm, ⟨61, _⟩ => ⟨S2x4x3x2048x1, .f32⟩
  | .hbm, ⟨62, _⟩ => ⟨S2x4x3x2048x1, .f32⟩
  | .hbm, ⟨63, _⟩ => ⟨S2x4x3x2048x2304, .f32⟩
  | .hbm, ⟨64, _⟩ => ⟨S2x4x3x2048x2304, .f32⟩
  | .hbm, ⟨65, _⟩ => ⟨S_, .f32⟩
  | .hbm, ⟨66, _⟩ => ⟨S2x4x3x2048, .f32⟩
  | .hbm, ⟨67, _⟩ => ⟨S2x4x3x2048x2304, .f32⟩
  | .hbm, ⟨68, _⟩ => ⟨S2x4x3x2048x2304, .f32⟩
  | .hbm, ⟨69, _⟩ => ⟨S2x4x3x2048x2304, .f32⟩
  | .hbm, ⟨70, _⟩ => ⟨S_, .f32⟩
  | .hbm, ⟨71, _⟩ => ⟨S2x4x3x2048x2304, .f32⟩
  | .hbm, ⟨72, _⟩ => ⟨S2x4x3x2048x2304, .f32⟩
  | .hbm, ⟨73, _⟩ => ⟨S2x4x2304x2048x3, .f32⟩
  | .hbm, ⟨74, _⟩ => ⟨S2x4x2048x3x64, .f32⟩
  | .hbm, ⟨75, _⟩ => ⟨S2x2048x4x3x64, .f32⟩
  | .hbm, ⟨76, _⟩ => ⟨S2x4x2304x64, .f32⟩
  | .hbm, ⟨77, _⟩ => ⟨S2x2304x4x64, .f32⟩
  | .hbm, ⟨78, _⟩ => ⟨S2x2048x12x64, .f32⟩
  | .hbm, ⟨79, _⟩ => ⟨S2x12x64x2048, .f32⟩
  | .hbm, ⟨80, _⟩ => ⟨S2x4x2304x64, .f32⟩
  | .hbm, ⟨81, _⟩ => ⟨S2x4x2304x64, .f32⟩
  | _, _ => ⟨S2x2048x12x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_v4 : Ref sig .tc := ⟨.hbm, 9, rfl⟩
abbrev main_cst_0 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_cst_1 : Ref sig .tc := ⟨.hbm, 16, rfl⟩
abbrev main_v10 : Ref sig .tc := ⟨.hbm, 17, rfl⟩
abbrev main_cst_2 : Ref sig .tc := ⟨.hbm, 18, rfl⟩
abbrev main_v11 : Ref sig .tc := ⟨.hbm, 19, rfl⟩
abbrev main_v12 : Ref sig .tc := ⟨.hbm, 20, rfl⟩
abbrev main_cst_3 : Ref sig .tc := ⟨.hbm, 21, rfl⟩
abbrev main_v13 : Ref sig .tc := ⟨.hbm, 22, rfl⟩
abbrev main_v14 : Ref sig .tc := ⟨.hbm, 23, rfl⟩
abbrev main_cst_4 : Ref sig .tc := ⟨.hbm, 24, rfl⟩
abbrev main_v15 : Ref sig .tc := ⟨.hbm, 25, rfl⟩
abbrev main_v16 : Ref sig .tc := ⟨.hbm, 26, rfl⟩
abbrev main_cst_5 : Ref sig .tc := ⟨.hbm, 27, rfl⟩
abbrev main_v17 : Ref sig .tc := ⟨.hbm, 28, rfl⟩
abbrev main_cst_6 : Ref sig .tc := ⟨.hbm, 29, rfl⟩
abbrev main_v18 : Ref sig .tc := ⟨.hbm, 30, rfl⟩
abbrev main_cst_7 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_cst_8 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_cst_9 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_cst_10 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_cst_11 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_cst_12 : Ref sig .tc := ⟨.hbm, 70, rfl⟩
abbrev main_v53 : Ref sig .tc := ⟨.hbm, 71, rfl⟩
abbrev main_v54 : Ref sig .tc := ⟨.hbm, 72, rfl⟩
abbrev main_v55 : Ref sig .tc := ⟨.hbm, 73, rfl⟩
abbrev main_v56 : Ref sig .tc := ⟨.hbm, 74, rfl⟩
abbrev main_v57 : Ref sig .tc := ⟨.hbm, 75, rfl⟩
abbrev main_v58 : Ref sig .tc := ⟨.hbm, 76, rfl⟩
abbrev main_v59 : Ref sig .tc := ⟨.hbm, 77, rfl⟩
abbrev main_v60 : Ref sig .tc := ⟨.hbm, 78, rfl⟩
abbrev main_v61 : Ref sig .tc := ⟨.hbm, 79, rfl⟩
abbrev main_v62 : Ref sig .tc := ⟨.hbm, 80, rfl⟩
abbrev main_v63 : Ref sig .tc := ⟨.hbm, 81, rfl⟩

abbrev nD : Nat := 1
abbrev τ : Topo := Topo.v7x

variable {F : FTy → Type} [FloatOps F]
-- ==== Dense.lean ====
abbrev S2x2048x12x64 : Shape := ⟨4, ![2, 2048, 12, 64]⟩
abbrev S2x2304x4x64 : Shape := ⟨4, ![2, 2304, 4, 64]⟩
abbrev S2x12x2048x64 : Shape := ⟨4, ![2, 12, 2048, 64]⟩
abbrev S2x4x2304x64 : Shape := ⟨4, ![2, 4, 2304, 64]⟩
abbrev S2x4x64x2304 : Shape := ⟨4, ![2, 4, 64, 2304]⟩
abbrev S2x12x64x2048 : Shape := ⟨4, ![2, 12, 64, 2048]⟩
abbrev S1x1x512x64 : Shape := ⟨4, ![1, 1, 512, 64]⟩
abbrev S1x1x64x2304 : Shape := ⟨4, ![1, 1, 64, 2304]⟩
abbrev S1x1x64x512 : Shape := ⟨4, ![1, 1, 64, 512]⟩
abbrev S64x2304 : Shape := ⟨2, ![64, 2304]⟩
abbrev S1x1x256x64 : Shape := ⟨4, ![1, 1, 256, 64]⟩
abbrev S256x64 : Shape := ⟨2, ![256, 64]⟩
abbrev S256x2304 : Shape := ⟨2, ![256, 2304]⟩
abbrev S256 : Shape := ⟨1, ![256]⟩
abbrev S256x1 : Shape := ⟨2, ![256, 1]⟩
abbrev S64x256 : Shape := ⟨2, ![64, 256]⟩
abbrev S1x1x64x256 : Shape := ⟨4, ![1, 1, 64, 256]⟩

abbrev nBuf : Space → Nat
  | .hbm => 12
  | .vmem => 8
  | .smem => 0
  | _ => 0

abbrev bufTy : (tb : Table) → Fin (tcTables nBuf tb) → BufTy
  | .hbm, ⟨0, _⟩ => ⟨S2x2048x12x64, .f32⟩
  | .hbm, ⟨1, _⟩ => ⟨S2x2304x4x64, .f32⟩
  | .hbm, ⟨2, _⟩ => ⟨S2x2304x4x64, .f32⟩
  | .hbm, ⟨3, _⟩ => ⟨S2x12x2048x64, .f32⟩
  | .hbm, ⟨4, _⟩ => ⟨S2x4x2304x64, .f32⟩
  | .hbm, ⟨5, _⟩ => ⟨S2x4x2304x64, .f32⟩
  | .hbm, ⟨6, _⟩ => ⟨S2x12x2048x64, .bf16⟩
  | .hbm, ⟨7, _⟩ => ⟨S2x4x2304x64, .bf16⟩
  | .hbm, ⟨8, _⟩ => ⟨S2x4x64x2304, .bf16⟩
  | .hbm, ⟨9, _⟩ => ⟨S2x4x2304x64, .bf16⟩
  | .hbm, ⟨10, _⟩ => ⟨S2x4x64x2304, .bf16⟩
  | .hbm, ⟨11, _⟩ => ⟨S2x12x64x2048, .f32⟩
  | .local _ .vmem, ⟨0, _⟩ => ⟨S1x1x512x64, .bf16⟩
  | .local _ .vmem, ⟨1, _⟩ => ⟨S1x1x512x64, .bf16⟩
  | .local _ .vmem, ⟨2, _⟩ => ⟨S1x1x64x2304, .bf16⟩
  | .local _ .vmem, ⟨3, _⟩ => ⟨S1x1x64x2304, .bf16⟩
  | .local _ .vmem, ⟨4, _⟩ => ⟨S1x1x64x2304, .bf16⟩
  | .local _ .vmem, ⟨5, _⟩ => ⟨S1x1x64x2304, .bf16⟩
  | .local _ .vmem, ⟨6, _⟩ => ⟨S1x1x64x512, .f32⟩
  | .local _ .vmem, ⟨7, _⟩ => ⟨S1x1x64x512, .f32⟩
  | _, _ => ⟨S2x2048x12x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨4, ![2, 4, 3, 4], ![false, false, false, false]⟩

def cc0_transform_0 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c3_i32 : BitVec 32 := 3#32
  let v0 : BitVec 32 := Scalar.muli arg1 c3_i32
  let v1 : BitVec 32 := Scalar.addi v0 arg2
  let c0_i32 : BitVec 32 := 0#32
  let c0_i32_0 : BitVec 32 := 0#32
  ![arg0.toNat, v1.toNat, arg3.toNat, c0_i32.toNat]

def cc0_transform_1 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  let c0_i32_0 : BitVec 32 := 0#32
  let c0_i32_1 : BitVec 32 := 0#32
  ![arg0.toNat, arg1.toNat, c0_i32.toNat, c0_i32_0.toNat]

def cc0_transform_2 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  let c0_i32_0 : BitVec 32 := 0#32
  let c0_i32_1 : BitVec 32 := 0#32
  ![arg0.toNat, arg1.toNat, c0_i32.toNat, c0_i32_0.toNat]

def cc0_transform_3 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c3_i32 : BitVec 32 := 3#32
  let v0 : BitVec 32 := Scalar.muli arg1 c3_i32
  let v1 : BitVec 32 := Scalar.addi v0 arg2
  let c0_i32 : BitVec 32 := 0#32
  let c0_i32_0 : BitVec 32 := 0#32
  ![arg0.toNat, v1.toNat, c0_i32.toNat, arg3.toNat]

abbrev stage0_0 : Fin 2 → Memref sig .tc .vmem S1x1x512x64 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true, true]

abbrev stage0_1 : Fin 2 → Memref sig .tc .vmem S1x1x64x2304 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false, false]

abbrev stage0_2 : Fin 2 → Memref sig .tc .vmem S1x1x64x2304 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false, false]

abbrev stage0_3 : Fin 2 → Memref sig .tc .vmem S1x1x64x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true, true]
-- ==== DenseIdeal.lean ====
abbrev S2x2048x12x64 : Shape := ⟨4, ![2, 2048, 12, 64]⟩
abbrev S2x2304x4x64 : Shape := ⟨4, ![2, 2304, 4, 64]⟩
abbrev S2x12x2048x64 : Shape := ⟨4, ![2, 12, 2048, 64]⟩
abbrev S2x4x2304x64 : Shape := ⟨4, ![2, 4, 2304, 64]⟩
abbrev S2x4x64x2304 : Shape := ⟨4, ![2, 4, 64, 2304]⟩
abbrev S2x12x64x2048 : Shape := ⟨4, ![2, 12, 64, 2048]⟩
abbrev S1x1x512x64 : Shape := ⟨4, ![1, 1, 512, 64]⟩
abbrev S1x1x64x2304 : Shape := ⟨4, ![1, 1, 64, 2304]⟩
abbrev S1x1x64x512 : Shape := ⟨4, ![1, 1, 64, 512]⟩
abbrev S64x2304 : Shape := ⟨2, ![64, 2304]⟩
abbrev S1x1x256x64 : Shape := ⟨4, ![1, 1, 256, 64]⟩
abbrev S256x64 : Shape := ⟨2, ![256, 64]⟩
abbrev S256x2304 : Shape := ⟨2, ![256, 2304]⟩
abbrev S256 : Shape := ⟨1, ![256]⟩
abbrev S256x1 : Shape := ⟨2, ![256, 1]⟩
abbrev S64x256 : Shape := ⟨2, ![64, 256]⟩
abbrev S1x1x64x256 : Shape := ⟨4, ![1, 1, 64, 256]⟩

abbrev nBuf : Space → Nat
  | .hbm => 12
  | .vmem => 8
  | .smem => 0
  | _ => 0

abbrev bufTy : (tb : Table) → Fin (tcTables nBuf tb) → BufTy
  | .hbm, ⟨0, _⟩ => ⟨S2x2048x12x64, .f32⟩
  | .hbm, ⟨1, _⟩ => ⟨S2x2304x4x64, .f32⟩
  | .hbm, ⟨2, _⟩ => ⟨S2x2304x4x64, .f32⟩
  | .hbm, ⟨3, _⟩ => ⟨S2x12x2048x64, .f32⟩
  | .hbm, ⟨4, _⟩ => ⟨S2x4x2304x64, .f32⟩
  | .hbm, ⟨5, _⟩ => ⟨S2x4x2304x64, .f32⟩
  | .hbm, ⟨6, _⟩ => ⟨S2x12x2048x64, .bf16⟩
  | .hbm, ⟨7, _⟩ => ⟨S2x4x2304x64, .bf16⟩
  | .hbm, ⟨8, _⟩ => ⟨S2x4x64x2304, .bf16⟩
  | .hbm, ⟨9, _⟩ => ⟨S2x4x2304x64, .bf16⟩
  | .hbm, ⟨10, _⟩ => ⟨S2x4x64x2304, .bf16⟩
  | .hbm, ⟨11, _⟩ => ⟨S2x12x64x2048, .f32⟩
  | .local _ .vmem, ⟨0, _⟩ => ⟨S1x1x512x64, .bf16⟩
  | .local _ .vmem, ⟨1, _⟩ => ⟨S1x1x512x64, .bf16⟩
  | .local _ .vmem, ⟨2, _⟩ => ⟨S1x1x64x2304, .bf16⟩
  | .local _ .vmem, ⟨3, _⟩ => ⟨S1x1x64x2304, .bf16⟩
  | .local _ .vmem, ⟨4, _⟩ => ⟨S1x1x64x2304, .bf16⟩
  | .local _ .vmem, ⟨5, _⟩ => ⟨S1x1x64x2304, .bf16⟩
  | .local _ .vmem, ⟨6, _⟩ => ⟨S1x1x64x512, .f32⟩
  | .local _ .vmem, ⟨7, _⟩ => ⟨S1x1x64x512, .f32⟩
  | _, _ => ⟨S2x2048x12x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F] [Named F]

def κ : String → Option EReal := fun
  | "scale_log2e" => some (((1 / 8) * (Real.log 2)⁻¹ : ℝ) : EReal)
  | _ => none

abbrev grid0 : Pipeline.Grid := ⟨4, ![2, 4, 3, 4], ![false, false, false, false]⟩

def cc0_transform_0 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c3_i32 : BitVec 32 := 3#32
  let v0 : BitVec 32 := Scalar.muli arg1 c3_i32
  let v1 : BitVec 32 := Scalar.addi v0 arg2
  let c0_i32 : BitVec 32 := 0#32
  let c0_i32_0 : BitVec 32 := 0#32
  ![arg0.toNat, v1.toNat, arg3.toNat, c0_i32.toNat]

def cc0_transform_1 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  let c0_i32_0 : BitVec 32 := 0#32
  let c0_i32_1 : BitVec 32 := 0#32
  ![arg0.toNat, arg1.toNat, c0_i32.toNat, c0_i32_0.toNat]

def cc0_transform_2 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  let c0_i32_0 : BitVec 32 := 0#32
  let c0_i32_1 : BitVec 32 := 0#32
  ![arg0.toNat, arg1.toNat, c0_i32.toNat, c0_i32_0.toNat]

def cc0_transform_3 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c3_i32 : BitVec 32 := 3#32
  let v0 : BitVec 32 := Scalar.muli arg1 c3_i32
  let v1 : BitVec 32 := Scalar.addi v0 arg2
  let c0_i32 : BitVec 32 := 0#32
  let c0_i32_0 : BitVec 32 := 0#32
  ![arg0.toNat, v1.toNat, c0_i32.toNat, arg3.toNat]

abbrev stage0_0 : Fin 2 → Memref sig .tc .vmem S1x1x512x64 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true, true]

abbrev stage0_1 : Fin 2 → Memref sig .tc .vmem S1x1x64x2304 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false, false]

abbrev stage0_2 : Fin 2 → Memref sig .tc .vmem S1x1x64x2304 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false, false]

abbrev stage0_3 : Fin 2 → Memref sig .tc .vmem S1x1x64x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true, true]
-- ==== DenseReferenceIdeal.lean ====
abbrev S2x2048x12x64 : Shape := ⟨4, ![2, 2048, 12, 64]⟩
abbrev S2x2304x4x64 : Shape := ⟨4, ![2, 2304, 4, 64]⟩
abbrev S2x2048x4x3x64 : Shape := ⟨5, ![2, 2048, 4, 3, 64]⟩
abbrev S2x4x2304x2048x3 : Shape := ⟨5, ![2, 4, 2304, 2048, 3]⟩
abbrev S2x4x3x2048x2304 : Shape := ⟨5, ![2, 4, 3, 2048, 2304]⟩
abbrev S_ : Shape := ⟨0, ![]⟩
abbrev S2x4x3x2048 : Shape := ⟨4, ![2, 4, 3, 2048]⟩
abbrev S2x4x3x2048x1 : Shape := ⟨5, ![2, 4, 3, 2048, 1]⟩
abbrev S2x4x64x3x2048 : Shape := ⟨5, ![2, 4, 64, 3, 2048]⟩
abbrev S2x12x64x2048 : Shape := ⟨4, ![2, 12, 64, 2048]⟩

abbrev nBuf : Space → Nat
  | .hbm => 27
  | .vmem => 0
  | .smem => 0
  | _ => 0

abbrev bufTy : (tb : Table) → Fin (tcTables nBuf tb) → BufTy
  | .hbm, ⟨0, _⟩ => ⟨S2x2048x12x64, .f32⟩
  | .hbm, ⟨1, _⟩ => ⟨S2x2304x4x64, .f32⟩
  | .hbm, ⟨2, _⟩ => ⟨S2x2304x4x64, .f32⟩
  | .hbm, ⟨3, _⟩ => ⟨S2x2048x4x3x64, .f32⟩
  | .hbm, ⟨4, _⟩ => ⟨S2x4x2304x2048x3, .f32⟩
  | .hbm, ⟨5, _⟩ => ⟨S2x4x3x2048x2304, .f32⟩
  | .hbm, ⟨6, _⟩ => ⟨S_, .f32⟩
  | .hbm, ⟨7, _⟩ => ⟨S2x4x3x2048x2304, .f32⟩
  | .hbm, ⟨8, _⟩ => ⟨S2x4x3x2048x2304, .f32⟩
  | .hbm, ⟨9, _⟩ => ⟨S_, .f32⟩
  | .hbm, ⟨10, _⟩ => ⟨S2x4x3x2048, .f32⟩
  | .hbm, ⟨11, _⟩ => ⟨S_, .f32⟩
  | .hbm, ⟨12, _⟩ => ⟨S2x4x3x2048, .f32⟩
  | .hbm, ⟨13, _⟩ => ⟨S2x4x3x2048, .f32⟩
  | .hbm, ⟨14, _⟩ => ⟨S2x4x3x2048x1, .f32⟩
  | .hbm, ⟨15, _⟩ => ⟨S2x4x3x2048x2304, .f32⟩
  | .hbm, ⟨16, _⟩ => ⟨S2x4x3x2048x2304, .f32⟩
  | .hbm, ⟨17, _⟩ => ⟨S2x4x3x2048x2304, .f32⟩
  | .hbm, ⟨18, _⟩ => ⟨S_, .f32⟩
  | .hbm, ⟨19, _⟩ => ⟨S2x4x3x2048, .f32⟩
  | .hbm, ⟨20, _⟩ => ⟨S2x4x3x2048x1, .f32⟩
  | .hbm, ⟨21, _⟩ => ⟨S2x4x3x2048x2304, .f32⟩
  | .hbm, ⟨22, _⟩ => ⟨S2x4x3x2048x2304, .f32⟩
  | .hbm, ⟨23, _⟩ => ⟨S2x4x64x3x2048, .f32⟩
  | .hbm, ⟨24, _⟩ => ⟨S2x2048x4x3x64, .f32⟩
  | .hbm, ⟨25, _⟩ => ⟨S2x2048x12x64, .f32⟩
  | .hbm, ⟨26, _⟩ => ⟨S2x12x64x2048, .f32⟩
  | _, _ => ⟨S2x2048x12x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_cst_0 : Ref sig .tc := ⟨.hbm, 9, rfl⟩
abbrev main_v5 : Ref sig .tc := ⟨.hbm, 10, rfl⟩
abbrev main_cst_1 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_cst_2 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩

abbrev nD : Nat := 1
abbrev τ : Topo := Topo.v7x

variable {F : FTy → Type} [FloatOps F]
-- ==== Mla.lean ====
abbrev S2x2048x8x96 : Shape := ⟨4, ![2, 2048, 8, 96]⟩
abbrev S2x2304x8x96 : Shape := ⟨4, ![2, 2304, 8, 96]⟩
abbrev S2x2304x8x64 : Shape := ⟨4, ![2, 2304, 8, 64]⟩
abbrev S2x8x2048x96 : Shape := ⟨4, ![2, 8, 2048, 96]⟩
abbrev S2x8x2304x96 : Shape := ⟨4, ![2, 8, 2304, 96]⟩
abbrev S2x8x2304x64 : Shape := ⟨4, ![2, 8, 2304, 64]⟩
abbrev S2x8x96x2304 : Shape := ⟨4, ![2, 8, 96, 2304]⟩
abbrev S2x8x64x2304 : Shape := ⟨4, ![2, 8, 64, 2304]⟩
abbrev S2x8x64x2048 : Shape := ⟨4, ![2, 8, 64, 2048]⟩
abbrev S1x1x512x96 : Shape := ⟨4, ![1, 1, 512, 96]⟩
abbrev S1x1x96x2304 : Shape := ⟨4, ![1, 1, 96, 2304]⟩
abbrev S1x1x64x2304 : Shape := ⟨4, ![1, 1, 64, 2304]⟩
abbrev S1x1x64x512 : Shape := ⟨4, ![1, 1, 64, 512]⟩
abbrev S96x2304 : Shape := ⟨2, ![96, 2304]⟩
abbrev S64x2304 : Shape := ⟨2, ![64, 2304]⟩
abbrev S1x1x256x96 : Shape := ⟨4, ![1, 1, 256, 96]⟩
abbrev S256x96 : Shape := ⟨2, ![256, 96]⟩
abbrev S256x2304 : Shape := ⟨2, ![256, 2304]⟩
abbrev S256 : Shape := ⟨1, ![256]⟩
abbrev S256x1 : Shape := ⟨2, ![256, 1]⟩
abbrev S64x256 : Shape := ⟨2, ![64, 256]⟩
abbrev S1x1x64x256 : Shape := ⟨4, ![1, 1, 64, 256]⟩

abbrev nBuf : Space → Nat
  | .hbm => 12
  | .vmem => 8
  | .smem => 0
  | _ => 0

abbrev bufTy : (tb : Table) → Fin (tcTables nBuf tb) → BufTy
  | .hbm, ⟨0, _⟩ => ⟨S2x2048x8x96, .f32⟩
  | .hbm, ⟨1, _⟩ => ⟨S2x2304x8x96, .f32⟩
  | .hbm, ⟨2, _⟩ => ⟨S2x2304x8x64, .f32⟩
  | .hbm, ⟨3, _⟩ => ⟨S2x8x2048x96, .f32⟩
  | .hbm, ⟨4, _⟩ => ⟨S2x8x2304x96, .f32⟩
  | .hbm, ⟨5, _⟩ => ⟨S2x8x2304x64, .f32⟩
  | .hbm, ⟨6, _⟩ => ⟨S2x8x2048x96, .bf16⟩
  | .hbm, ⟨7, _⟩ => ⟨S2x8x2304x96, .bf16⟩
  | .hbm, ⟨8, _⟩ => ⟨S2x8x96x2304, .bf16⟩
  | .hbm, ⟨9, _⟩ => ⟨S2x8x2304x64, .bf16⟩
  | .hbm, ⟨10, _⟩ => ⟨S2x8x64x2304, .bf16⟩
  | .hbm, ⟨11, _⟩ => ⟨S2x8x64x2048, .f32⟩
  | .local _ .vmem, ⟨0, _⟩ => ⟨S1x1x512x96, .bf16⟩
  | .local _ .vmem, ⟨1, _⟩ => ⟨S1x1x512x96, .bf16⟩
  | .local _ .vmem, ⟨2, _⟩ => ⟨S1x1x96x2304, .bf16⟩
  | .local _ .vmem, ⟨3, _⟩ => ⟨S1x1x96x2304, .bf16⟩
  | .local _ .vmem, ⟨4, _⟩ => ⟨S1x1x64x2304, .bf16⟩
  | .local _ .vmem, ⟨5, _⟩ => ⟨S1x1x64x2304, .bf16⟩
  | .local _ .vmem, ⟨6, _⟩ => ⟨S1x1x64x512, .f32⟩
  | .local _ .vmem, ⟨7, _⟩ => ⟨S1x1x64x512, .f32⟩
  | _, _ => ⟨S2x2048x8x96, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨4, ![2, 8, 1, 4], ![false, false, false, false]⟩

def cc0_transform_0 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c1_i32 : BitVec 32 := 1#32
  let v0 : BitVec 32 := Scalar.muli arg1 c1_i32
  let v1 : BitVec 32 := Scalar.addi v0 arg2
  let c0_i32 : BitVec 32 := 0#32
  let c0_i32_0 : BitVec 32 := 0#32
  ![arg0.toNat, v1.toNat, arg3.toNat, c0_i32.toNat]

def cc0_transform_1 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  let c0_i32_0 : BitVec 32 := 0#32
  let c0_i32_1 : BitVec 32 := 0#32
  ![arg0.toNat, arg1.toNat, c0_i32.toNat, c0_i32_0.toNat]

def cc0_transform_2 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  let c0_i32_0 : BitVec 32 := 0#32
  let c0_i32_1 : BitVec 32 := 0#32
  ![arg0.toNat, arg1.toNat, c0_i32.toNat, c0_i32_0.toNat]

def cc0_transform_3 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c1_i32 : BitVec 32 := 1#32
  let v0 : BitVec 32 := Scalar.muli arg1 c1_i32
  let v1 : BitVec 32 := Scalar.addi v0 arg2
  let c0_i32 : BitVec 32 := 0#32
  let c0_i32_0 : BitVec 32 := 0#32
  ![arg0.toNat, v1.toNat, c0_i32.toNat, arg3.toNat]

abbrev stage0_0 : Fin 2 → Memref sig .tc .vmem S1x1x512x96 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true, true]

abbrev stage0_1 : Fin 2 → Memref sig .tc .vmem S1x1x96x2304 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false, false]

abbrev stage0_2 : Fin 2 → Memref sig .tc .vmem S1x1x64x2304 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false, false]

abbrev stage0_3 : Fin 2 → Memref sig .tc .vmem S1x1x64x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true, true]
-- ==== MlaIdeal.lean ====
variable {F : FTy → Type} [FloatOps F] [Named F]
def κ : String → Option EReal := fun
  | "scale_log2e" => some (((3424635 / 33554432) * (Real.log 2)⁻¹ : ℝ) : EReal)
  | _ => none
-- ==== MlaReferenceIdeal.lean ====
abbrev S2x2048x8x96 : Shape := ⟨4, ![2, 2048, 8, 96]⟩
abbrev S2x2304x8x96 : Shape := ⟨4, ![2, 2304, 8, 96]⟩
abbrev S2x2304x8x64 : Shape := ⟨4, ![2, 2304, 8, 64]⟩
abbrev S2x8x2048x2304 : Shape := ⟨4, ![2, 8, 2048, 2304]⟩
abbrev S_ : Shape := ⟨0, ![]⟩
abbrev S2x8x2048 : Shape := ⟨3, ![2, 8, 2048]⟩
abbrev S2x8x2048x1 : Shape := ⟨4, ![2, 8, 2048, 1]⟩
abbrev S2x8x64x2048 : Shape := ⟨4, ![2, 8, 64, 2048]⟩
abbrev S2x2048x8x64 : Shape := ⟨4, ![2, 2048, 8, 64]⟩

abbrev nBuf : Space → Nat
  | .hbm => 24
  | .vmem => 0
  | .smem => 0
  | _ => 0

abbrev bufTy : (tb : Table) → Fin (tcTables nBuf tb) → BufTy
  | .hbm, ⟨0, _⟩ => ⟨S2x2048x8x96, .f32⟩
  | .hbm, ⟨1, _⟩ => ⟨S2x2304x8x96, .f32⟩
  | .hbm, ⟨2, _⟩ => ⟨S2x2304x8x64, .f32⟩
  | .hbm, ⟨3, _⟩ => ⟨S2x8x2048x2304, .f32⟩
  | .hbm, ⟨4, _⟩ => ⟨S_, .f32⟩
  | .hbm, ⟨5, _⟩ => ⟨S2x8x2048x2304, .f32⟩
  | .hbm, ⟨6, _⟩ => ⟨S2x8x2048x2304, .f32⟩
  | .hbm, ⟨7, _⟩ => ⟨S_, .f32⟩
  | .hbm, ⟨8, _⟩ => ⟨S2x8x2048, .f32⟩
  | .hbm, ⟨9, _⟩ => ⟨S_, .f32⟩
  | .hbm, ⟨10, _⟩ => ⟨S2x8x2048, .f32⟩
  | .hbm, ⟨11, _⟩ => ⟨S2x8x2048, .f32⟩
  | .hbm, ⟨12, _⟩ => ⟨S2x8x2048x1, .f32⟩
  | .hbm, ⟨13, _⟩ => ⟨S2x8x2048x2304, .f32⟩
  | .hbm, ⟨14, _⟩ => ⟨S2x8x2048x2304, .f32⟩
  | .hbm, ⟨15, _⟩ => ⟨S2x8x2048x2304, .f32⟩
  | .hbm, ⟨16, _⟩ => ⟨S_, .f32⟩
  | .hbm, ⟨17, _⟩ => ⟨S2x8x2048, .f32⟩
  | .hbm, ⟨18, _⟩ => ⟨S2x8x2048x1, .f32⟩
  | .hbm, ⟨19, _⟩ => ⟨S2x8x2048x2304, .f32⟩
  | .hbm, ⟨20, _⟩ => ⟨S2x8x2048x2304, .f32⟩
  | .hbm, ⟨21, _⟩ => ⟨S2x8x64x2048, .f32⟩
  | .hbm, ⟨22, _⟩ => ⟨S2x2048x8x64, .f32⟩
  | .hbm, ⟨23, _⟩ => ⟨S2x8x64x2048, .f32⟩
  | _, _ => ⟨S2x2048x8x96, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_cst_1 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_cst_2 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩

abbrev nD : Nat := 1
abbrev τ : Topo := Topo.v7x

variable {F : FTy → Type} [FloatOps F]
-- ==== MlaGrad.lean ====
abbrev S2x2048x8x96 : Shape := ⟨4, ![2, 2048, 8, 96]⟩
abbrev S2x2304x8x96 : Shape := ⟨4, ![2, 2304, 8, 96]⟩
abbrev S2x2304x8x64 : Shape := ⟨4, ![2, 2304, 8, 64]⟩
abbrev S2x2048x8x64 : Shape := ⟨4, ![2, 2048, 8, 64]⟩
abbrev S2x8x2048x96 : Shape := ⟨4, ![2, 8, 2048, 96]⟩
abbrev S2x8x2304x96 : Shape := ⟨4, ![2, 8, 2304, 96]⟩
abbrev S2x8x2304x64 : Shape := ⟨4, ![2, 8, 2304, 64]⟩
abbrev S2x8x96x2304 : Shape := ⟨4, ![2, 8, 96, 2304]⟩
abbrev S2x8x64x2304 : Shape := ⟨4, ![2, 8, 64, 2304]⟩
abbrev S2x8x2048x64 : Shape := ⟨4, ![2, 8, 2048, 64]⟩
abbrev S2x8x96x2048 : Shape := ⟨4, ![2, 8, 96, 2048]⟩
abbrev S1x1x512x96 : Shape := ⟨4, ![1, 1, 512, 96]⟩
abbrev S1x1x96x2304 : Shape := ⟨4, ![1, 1, 96, 2304]⟩
abbrev S1x1x64x2304 : Shape := ⟨4, ![1, 1, 64, 2304]⟩
abbrev S1x1x512x64 : Shape := ⟨4, ![1, 1, 512, 64]⟩
abbrev S1x1x96x512 : Shape := ⟨4, ![1, 1, 96, 512]⟩
abbrev S1x1x2304x96 : Shape := ⟨4, ![1, 1, 2304, 96]⟩
abbrev S1x1x2304x64 : Shape := ⟨4, ![1, 1, 2304, 64]⟩
abbrev S2304x96 : Shape := ⟨2, ![2304, 96]⟩
abbrev S2304x64 : Shape := ⟨2, ![2304, 64]⟩
abbrev S96x2304 : Shape := ⟨2, ![96, 2304]⟩
abbrev S64x2304 : Shape := ⟨2, ![64, 2304]⟩
abbrev S1x1x256x96 : Shape := ⟨4, ![1, 1, 256, 96]⟩
abbrev S256x96 : Shape := ⟨2, ![256, 96]⟩
abbrev S1x1x256x64 : Shape := ⟨4, ![1, 1, 256, 64]⟩
abbrev S256x64 : Shape := ⟨2, ![256, 64]⟩
abbrev S256x2304 : Shape := ⟨2, ![256, 2304]⟩
abbrev S256 : Shape := ⟨1, ![256]⟩
abbrev S256x1 : Shape := ⟨2, ![256, 1]⟩
abbrev S96x256 : Shape := ⟨2, ![96, 256]⟩
abbrev S1x1x96x256 : Shape := ⟨4, ![1, 1, 96, 256]⟩

abbrev nBuf : Space → Nat
  | .hbm => 17
  | .vmem => 14
  | .smem => 0
  | _ => 0

abbrev bufTy : (tb : Table) → Fin (tcTables nBuf tb) → BufTy
  | .hbm, ⟨0, _⟩ => ⟨S2x2048x8x96, .f32⟩
  | .hbm, ⟨1, _⟩ => ⟨S2x2304x8x96, .f32⟩
  | .hbm, ⟨2, _⟩ => ⟨S2x2304x8x64, .f32⟩
  | .hbm, ⟨3, _⟩ => ⟨S2x2048x8x64, .f32⟩
  | .hbm, ⟨4, _⟩ => ⟨S2x8x2048x96, .f32⟩
  | .hbm, ⟨5, _⟩ => ⟨S2x8x2304x96, .f32⟩
  | .hbm, ⟨6, _⟩ => ⟨S2x8x2304x64, .f32⟩
  | .hbm, ⟨7, _⟩ => ⟨S2x8x2048x96, .bf16⟩
  | .hbm, ⟨8, _⟩ => ⟨S2x8x2304x96, .bf16⟩
  | .hbm, ⟨9, _⟩ => ⟨S2x8x96x2304, .bf16⟩
  | .hbm, ⟨10, _⟩ => ⟨S2x8x2304x64, .bf16⟩
  | .hbm, ⟨11, _⟩ => ⟨S2x8x64x2304, .bf16⟩
  | .hbm, ⟨12, _⟩ => ⟨S2x8x2048x64, .f32⟩
  | .hbm, ⟨13, _⟩ => ⟨S2x8x2048x64, .bf16⟩
  | .hbm, ⟨14, _⟩ => ⟨S2x8x96x2048, .f32⟩
  | .hbm, ⟨15, _⟩ => ⟨S2x8x2304x96, .f32⟩
  | .hbm, ⟨16, _⟩ => ⟨S2x8x2304x64, .f32⟩
  | .local _ .vmem, ⟨0, _⟩ => ⟨S1x1x512x96, .bf16⟩
  | .local _ .vmem, ⟨1, _⟩ => ⟨S1x1x512x96, .bf16⟩
  | .local _ .vmem, ⟨2, _⟩ => ⟨S1x1x96x2304, .bf16⟩
  | .local _ .vmem, ⟨3, _⟩ => ⟨S1x1x96x2304, .bf16⟩
  | .local _ .vmem, ⟨4, _⟩ => ⟨S1x1x64x2304, .bf16⟩
  | .local _ .vmem, ⟨5, _⟩ => ⟨S1x1x64x2304, .bf16⟩
  | .local _ .vmem, ⟨6, _⟩ => ⟨S1x1x512x64, .bf16⟩
  | .local _ .vmem, ⟨7, _⟩ => ⟨S1x1x512x64, .bf16⟩
  | .local _ .vmem, ⟨8, _⟩ => ⟨S1x1x96x512, .f32⟩
  | .local _ .vmem, ⟨9, _⟩ => ⟨S1x1x96x512, .f32⟩
  | .local _ .vmem, ⟨10, _⟩ => ⟨S1x1x2304x96, .f32⟩
  | .local _ .vmem, ⟨11, _⟩ => ⟨S1x1x2304x96, .f32⟩
  | .local _ .vmem, ⟨12, _⟩ => ⟨S1x1x2304x64, .f32⟩
  | .local _ .vmem, ⟨13, _⟩ => ⟨S1x1x2304x64, .f32⟩
  | _, _ => ⟨S2x2048x8x96, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10_0 : Ref sig .tc := ⟨.hbm, 14, rfl⟩
abbrev main_v10_1 : Ref sig .tc := ⟨.hbm, 15, rfl⟩
abbrev main_v10_2 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨4, ![2, 8, 1, 4], ![false, false, false, false]⟩

def cc0_transform_0 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c1_i32 : BitVec 32 := 1#32
  let v0 : BitVec 32 := Scalar.muli arg1 c1_i32
  let v1 : BitVec 32 := Scalar.addi v0 arg2
  let c0_i32 : BitVec 32 := 0#32
  let c0_i32_0 : BitVec 32 := 0#32
  ![arg0.toNat, v1.toNat, arg3.toNat, c0_i32.toNat]

def cc0_transform_1 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  let c0_i32_0 : BitVec 32 := 0#32
  let c0_i32_1 : BitVec 32 := 0#32
  ![arg0.toNat, arg1.toNat, c0_i32.toNat, c0_i32_0.toNat]

def cc0_transform_2 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  let c0_i32_0 : BitVec 32 := 0#32
  let c0_i32_1 : BitVec 32 := 0#32
  ![arg0.toNat, arg1.toNat, c0_i32.toNat, c0_i32_0.toNat]

def cc0_transform_3 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c1_i32 : BitVec 32 := 1#32
  let v0 : BitVec 32 := Scalar.muli arg1 c1_i32
  let v1 : BitVec 32 := Scalar.addi v0 arg2
  let c0_i32 : BitVec 32 := 0#32
  let c0_i32_0 : BitVec 32 := 0#32
  ![arg0.toNat, v1.toNat, arg3.toNat, c0_i32.toNat]

def cc0_transform_4 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c1_i32 : BitVec 32 := 1#32
  let v0 : BitVec 32 := Scalar.muli arg1 c1_i32
  let v1 : BitVec 32 := Scalar.addi v0 arg2
  let c0_i32 : BitVec 32 := 0#32
  let c0_i32_0 : BitVec 32 := 0#32
  ![arg0.toNat, v1.toNat, c0_i32.toNat, arg3.toNat]

def cc0_transform_5 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  let c0_i32_0 : BitVec 32 := 0#32
  let c0_i32_1 : BitVec 32 := 0#32
  ![arg0.toNat, arg1.toNat, c0_i32.toNat, c0_i32_0.toNat]

def cc0_transform_6 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  let c0_i32_0 : BitVec 32 := 0#32
  let c0_i32_1 : BitVec 32 := 0#32
  ![arg0.toNat, arg1.toNat, c0_i32.toNat, c0_i32_0.toNat]

abbrev stage0_0 : Fin 2 → Memref sig .tc .vmem S1x1x512x96 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true, true]

abbrev stage0_1 : Fin 2 → Memref sig .tc .vmem S1x1x96x2304 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false, false]

abbrev stage0_2 : Fin 2 → Memref sig .tc .vmem S1x1x64x2304 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false, false]

abbrev stage0_3 : Fin 2 → Memref sig .tc .vmem S1x1x512x64 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true, true]

abbrev stage0_4 : Fin 2 → Memref sig .tc .vmem S1x1x96x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true, true]

abbrev stage0_5 : Fin 2 → Memref sig .tc .vmem S1x1x2304x96 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false, false]

abbrev stage0_6 : Fin 2 → Memref sig .tc .vmem S1x1x2304x64 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, false, false]
-- ==== MlaGradIdeal.lean ====
variable {F : FTy → Type} [FloatOps F] [Named F]
def κ : String → Option EReal := fun
  | "scale_log2e" => some (((3424635 / 33554432) * (Real.log 2)⁻¹ : ℝ) : EReal)
  | _ => none
-- ==== MlaGradReferenceIdeal.lean ====
abbrev S2x2048x8x96 : Shape := ⟨4, ![2, 2048, 8, 96]⟩
abbrev S2x2304x8x96 : Shape := ⟨4, ![2, 2304, 8, 96]⟩
abbrev S2x2304x8x64 : Shape := ⟨4, ![2, 2304, 8, 64]⟩
abbrev S2x2048x8x64 : Shape := ⟨4, ![2, 2048, 8, 64]⟩
abbrev S2x8x2048x2304 : Shape := ⟨4, ![2, 8, 2048, 2304]⟩
abbrev S_ : Shape := ⟨0, ![]⟩
abbrev S2x8x2048 : Shape := ⟨3, ![2, 8, 2048]⟩
abbrev S2x8x2048x1 : Shape := ⟨4, ![2, 8, 2048, 1]⟩
abbrev S2x8x64x2048 : Shape := ⟨4, ![2, 8, 64, 2048]⟩
abbrev S2x8x64x2304 : Shape := ⟨4, ![2, 8, 64, 2304]⟩
abbrev S2x8x2304x96 : Shape := ⟨4, ![2, 8, 2304, 96]⟩
abbrev S2x8x2048x96 : Shape := ⟨4, ![2, 8, 2048, 96]⟩
abbrev S2x8x96x2048 : Shape := ⟨4, ![2, 8, 96, 2048]⟩
abbrev S2x8x2304x64 : Shape := ⟨4, ![2, 8, 2304, 64]⟩

abbrev nBuf : Space → Nat
  | .hbm => 76
  | .vmem => 0
  | .smem => 0
  | _ => 0

abbrev bufTy : (tb : Table) → Fin (tcTables nBuf tb) → BufTy
  | .hbm, ⟨0, _⟩ => ⟨S2x2048x8x96, .f32⟩
  | .hbm, ⟨1, _⟩ => ⟨S2x2304x8x96, .f32⟩
  | .hbm, ⟨2, _⟩ => ⟨S2x2304x8x64, .f32⟩
  | .hbm, ⟨3, _⟩ => ⟨S2x2048x8x64, .f32⟩
  | .hbm, ⟨4, _⟩ => ⟨S2x8x2048x2304, .f32⟩
  | .hbm, ⟨5, _⟩ => ⟨S_, .f32⟩
  | .hbm, ⟨6, _⟩ => ⟨S2x8x2048x2304, .f32⟩
  | .hbm, ⟨7, _⟩ => ⟨S2x8x2048x2304, .f32⟩
  | .hbm, ⟨8, _⟩ => ⟨S_, .f32⟩
  | .hbm, ⟨9, _⟩ => ⟨S2x8x2048, .f32⟩
  | .hbm, ⟨10, _⟩ => ⟨S2x8x2048x1, .f32⟩
  | .hbm, ⟨11, _⟩ => ⟨S2x8x2048x2304, .f32⟩
  | .hbm, ⟨12, _⟩ => ⟨S2x8x2048x2304, .i1⟩
  | .hbm, ⟨13, _⟩ => ⟨S2x8x2048x2304, .f32⟩
  | .hbm, ⟨14, _⟩ => ⟨S_, .f32⟩
  | .hbm, ⟨15, _⟩ => ⟨S2x8x2048, .f32⟩
  | .hbm, ⟨16, _⟩ => ⟨S_, .f32⟩
  | .hbm, ⟨17, _⟩ => ⟨S2x8x2048, .f32⟩
  | .hbm, ⟨18, _⟩ => ⟨S2x8x2048, .f32⟩
  | .hbm, ⟨19, _⟩ => ⟨S_, .f32⟩
  | .hbm, ⟨20, _⟩ => ⟨S2x8x2048, .f32⟩
  | .hbm, ⟨21, _⟩ => ⟨S2x8x2048, .i1⟩
  | .hbm, ⟨22, _⟩ => ⟨S_, .f32⟩
  | .hbm, ⟨23, _⟩ => ⟨S2x8x2048, .f32⟩
  | .hbm, ⟨24, _⟩ => ⟨S2x8x2048, .i1⟩
  | .hbm, ⟨25, _⟩ => ⟨S_, .f32⟩
  | .hbm, ⟨26, _⟩ => ⟨S2x8x2048, .f32⟩
  | .hbm, ⟨27, _⟩ => ⟨S_, .f32⟩
  | .hbm, ⟨28, _⟩ => ⟨S2x8x2048, .f32⟩
  | .hbm, ⟨29, _⟩ => ⟨S_, .f32⟩
  | .hbm, ⟨30, _⟩ => ⟨S2x8x2048, .f32⟩
  | .hbm, ⟨31, _⟩ => ⟨S2x8x2048, .f32⟩
  | .hbm, ⟨32, _⟩ => ⟨S2x8x2048, .f32⟩
  | .hbm, ⟨33, _⟩ => ⟨S2x8x2048x1, .f32⟩
  | .hbm, ⟨34, _⟩ => ⟨S2x8x2048x2304, .f32⟩
  | .hbm, ⟨35, _⟩ => ⟨S2x8x2048x2304, .f32⟩
  | .hbm, ⟨36, _⟩ => ⟨S2x8x2048x2304, .f32⟩
  | .hbm, ⟨37, _⟩ => ⟨S_, .f32⟩
  | .hbm, ⟨38, _⟩ => ⟨S2x8x2048, .f32⟩
  | .hbm, ⟨39, _⟩ => ⟨S2x8x2048x1, .f32⟩
  | .hbm, ⟨40, _⟩ => ⟨S2x8x2048x2304, .f32⟩
  | .hbm, ⟨41, _⟩ => ⟨S2x8x2048x2304, .f32⟩
  | .hbm, ⟨42, _⟩ => ⟨S2x8x2048x1, .f32⟩
  | .hbm, ⟨43, _⟩ => ⟨S_, .f32⟩
  | .hbm, ⟨44, _⟩ => ⟨S2x8x2048x1, .f32⟩
  | .hbm, ⟨45, _⟩ => ⟨S2x8x2048x1, .f32⟩
  | .hbm, ⟨46, _⟩ => ⟨S2x8x64x2048, .f32⟩
  | .hbm, ⟨47, _⟩ => ⟨S2x2048x8x64, .f32⟩
  | .hbm, ⟨48, _⟩ => ⟨S2x8x64x2048, .f32⟩
  | .hbm, ⟨49, _⟩ => ⟨S2x8x2048x2304, .f32⟩
  | .hbm, ⟨50, _⟩ => ⟨S2x8x64x2304, .f32⟩
  | .hbm, ⟨51, _⟩ => ⟨S2x2304x8x64, .f32⟩
  | .hbm, ⟨52, _⟩ => ⟨S2x8x2048x2304, .f32⟩
  | .hbm, ⟨53, _⟩ => ⟨S2x8x2048x2304, .f32⟩
  | .hbm, ⟨54, _⟩ => ⟨S2x8x2048x2304, .f32⟩
  | .hbm, ⟨55, _⟩ => ⟨S_, .f32⟩
  | .hbm, ⟨56, _⟩ => ⟨S2x8x2048, .f32⟩
  | .hbm, ⟨57, _⟩ => ⟨S2x8x2048x1, .f32⟩
  | .hbm, ⟨58, _⟩ => ⟨S2x8x2048x1, .f32⟩
  | .hbm, ⟨59, _⟩ => ⟨S2x8x2048x2304, .f32⟩
  | .hbm, ⟨60, _⟩ => ⟨S2x8x2048x2304, .f32⟩
  | .hbm, ⟨61, _⟩ => ⟨S_, .f32⟩
  | .hbm, ⟨62, _⟩ => ⟨S2x8x2048, .f32⟩
  | .hbm, ⟨63, _⟩ => ⟨S2x8x2048x2304, .f32⟩
  | .hbm, ⟨64, _⟩ => ⟨S2x8x2048x2304, .f32⟩
  | .hbm, ⟨65, _⟩ => ⟨S2x8x2048x2304, .f32⟩
  | .hbm, ⟨66, _⟩ => ⟨S_, .f32⟩
  | .hbm, ⟨67, _⟩ => ⟨S2x8x2048x2304, .f32⟩
  | .hbm, ⟨68, _⟩ => ⟨S2x8x2048x2304, .f32⟩
  | .hbm, ⟨69, _⟩ => ⟨S2x8x2304x96, .f32⟩
  | .hbm, ⟨70, _⟩ => ⟨S2x2304x8x96, .f32⟩
  | .hbm, ⟨71, _⟩ => ⟨S2x8x2048x96, .f32⟩
  | .hbm, ⟨72, _⟩ => ⟨S2x2048x8x96, .f32⟩
  | .hbm, ⟨73, _⟩ => ⟨S2x8x96x2048, .f32⟩
  | .hbm, ⟨74, _⟩ => ⟨S2x8x2304x96, .f32⟩
  | .hbm, ⟨75, _⟩ => ⟨S2x8x2304x64, .f32⟩
  | _, _ => ⟨S2x2048x8x96, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst_1 : Ref sig .tc := ⟨.hbm, 14, rfl⟩
abbrev main_v8 : Ref sig .tc := ⟨.hbm, 15, rfl⟩
abbrev main_cst_2 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_cst_5 : Ref sig .tc := ⟨.hbm, 25, rfl⟩
abbrev main_v15 : Ref sig .tc := ⟨.hbm, 26, rfl⟩
abbrev main_cst_6 : Ref sig .tc := ⟨.hbm, 27, rfl⟩
abbrev main_v16 : Ref sig .tc := ⟨.hbm, 28, rfl⟩
abbrev main_cst_7 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_8 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_cst_9 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_cst_10 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_cst_11 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_cst_12 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩
abbrev main_v55 : Ref sig .tc := ⟨.hbm, 73, rfl⟩
abbrev main_v56 : Ref sig .tc := ⟨.hbm, 74, rfl⟩
abbrev main_v57 : Ref sig .tc := ⟨.hbm, 75, rfl⟩

abbrev nD : Nat := 1
abbrev τ : Topo := Topo.v7x

variable {F : FTy → Type} [FloatOps F]
-- ==== MlpUp.lean ====
abbrev S2x2304x1024 : Shape := ⟨3, ![2, 2304, 1024]⟩
abbrev S1024x4096 : Shape := ⟨2, ![1024, 4096]⟩
abbrev S4608x1024 : Shape := ⟨2, ![4608, 1024]⟩
abbrev S4608x4096 : Shape := ⟨2, ![4608, 4096]⟩
abbrev S1536x1024 : Shape := ⟨2, ![1536, 1024]⟩
abbrev S1024x1024 : Shape := ⟨2, ![1024, 1024]⟩

abbrev nBuf : Space → Nat
  | .hbm => 7
  | .vmem => 8
  | .smem => 0
  | _ => 0

abbrev bufTy : (tb : Table) → Fin (tcTables nBuf tb) → BufTy
  | .hbm, ⟨0, _⟩ => ⟨S2x2304x1024, .f32⟩
  | .hbm, ⟨1, _⟩ => ⟨S1024x4096, .f32⟩
  | .hbm, ⟨2, _⟩ => ⟨S4608x1024, .f32⟩
  | .hbm, ⟨3, _⟩ => ⟨S4608x1024, .bf16⟩
  | .hbm, ⟨4, _⟩ => ⟨S1024x4096, .bf16⟩
  | .hbm, ⟨5, _⟩ => ⟨S4608x4096, .bf16⟩
  | .hbm, ⟨6, _⟩ => ⟨S4608x4096, .bf16⟩
  | .local _ .vmem, ⟨0, _⟩ => ⟨S1536x1024, .bf16⟩
  | .local _ .vmem, ⟨1, _⟩ => ⟨S1536x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1536x1024, .bf16⟩
  | .local _ .vmem, ⟨5, _⟩ => ⟨S1536x1024, .bf16⟩
  | .local _ .vmem, ⟨6, _⟩ => ⟨S1536x1024, .bf16⟩
  | .local _ .vmem, ⟨7, _⟩ => ⟨S1536x1024, .bf16⟩
  | _, _ => ⟨S2x2304x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3_0 : Ref sig .tc := ⟨.hbm, 5, rfl⟩
abbrev main_v3_1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![3, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1536x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1536x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1536x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== MlpUpIdeal.lean ====
abbrev S2x2304x1024 : Shape := ⟨3, ![2, 2304, 1024]⟩
abbrev S1024x4096 : Shape := ⟨2, ![1024, 4096]⟩
abbrev S4608x1024 : Shape := ⟨2, ![4608, 1024]⟩
abbrev S4608x4096 : Shape := ⟨2, ![4608, 4096]⟩
abbrev S1536x1024 : Shape := ⟨2, ![1536, 1024]⟩
abbrev S1024x1024 : Shape := ⟨2, ![1024, 1024]⟩

abbrev nBuf : Space → Nat
  | .hbm => 7
  | .vmem => 8
  | .smem => 0
  | _ => 0

abbrev bufTy : (tb : Table) → Fin (tcTables nBuf tb) → BufTy
  | .hbm, ⟨0, _⟩ => ⟨S2x2304x1024, .f32⟩
  | .hbm, ⟨1, _⟩ => ⟨S1024x4096, .f32⟩
  | .hbm, ⟨2, _⟩ => ⟨S4608x1024, .f32⟩
  | .hbm, ⟨3, _⟩ => ⟨S4608x1024, .bf16⟩
  | .hbm, ⟨4, _⟩ => ⟨S1024x4096, .bf16⟩
  | .hbm, ⟨5, _⟩ => ⟨S4608x4096, .bf16⟩
  | .hbm, ⟨6, _⟩ => ⟨S4608x4096, .bf16⟩
  | .local _ .vmem, ⟨0, _⟩ => ⟨S1536x1024, .bf16⟩
  | .local _ .vmem, ⟨1, _⟩ => ⟨S1536x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1536x1024, .bf16⟩
  | .local _ .vmem, ⟨5, _⟩ => ⟨S1536x1024, .bf16⟩
  | .local _ .vmem, ⟨6, _⟩ => ⟨S1536x1024, .bf16⟩
  | .local _ .vmem, ⟨7, _⟩ => ⟨S1536x1024, .bf16⟩
  | _, _ => ⟨S2x2304x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3_0 : Ref sig .tc := ⟨.hbm, 5, rfl⟩
abbrev main_v3_1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![3, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1536x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1536x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1536x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== MlpUpReferenceIdeal.lean ====
abbrev S2x2304x1024 : Shape := ⟨3, ![2, 2304, 1024]⟩
abbrev S1024x4096 : Shape := ⟨2, ![1024, 4096]⟩
abbrev S2x2304x4096 : Shape := ⟨3, ![2, 2304, 4096]⟩
abbrev S_ : Shape := ⟨0, ![]⟩
abbrev S4608x4096 : Shape := ⟨2, ![4608, 4096]⟩

abbrev nBuf : Space → Nat
  | .hbm => 14
  | .vmem => 0
  | .smem => 0
  | _ => 0

abbrev bufTy : (tb : Table) → Fin (tcTables nBuf tb) → BufTy
  | .hbm, ⟨0, _⟩ => ⟨S2x2304x1024, .f32⟩
  | .hbm, ⟨1, _⟩ => ⟨S1024x4096, .f32⟩
  | .hbm, ⟨2, _⟩ => ⟨S2x2304x4096, .f32⟩
  | .hbm, ⟨3, _⟩ => ⟨S_, .f32⟩
  | .hbm, ⟨4, _⟩ => ⟨S2x2304x4096, .f32⟩
  | .hbm, ⟨5, _⟩ => ⟨S2x2304x4096, .f32⟩
  | .hbm, ⟨6, _⟩ => ⟨S4608x4096, .f32⟩
  | .hbm, ⟨7, _⟩ => ⟨S4608x4096, .bf16⟩
  | .hbm, ⟨8, _⟩ => ⟨S_, .f32⟩
  | .hbm, ⟨9, _⟩ => ⟨S2x2304x4096, .f32⟩
  | .hbm, ⟨10, _⟩ => ⟨S2x2304x4096, .f32⟩
  | .hbm, ⟨11, _⟩ => ⟨S2x2304x4096, .f32⟩
  | .hbm, ⟨12, _⟩ => ⟨S4608x4096, .f32⟩
  | .hbm, ⟨13, _⟩ => ⟨S4608x4096, .bf16⟩
  | _, _ => ⟨S2x2304x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_call0_cst : Ref sig .tc := ⟨.hbm, 3, rfl⟩
abbrev main_call0_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_call1_cst : Ref sig .tc := ⟨.hbm, 8, rfl⟩
abbrev main_call1_v0 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩

abbrev nD : Nat := 1
abbrev τ : Topo := Topo.v7x

variable {F : FTy → Type} [FloatOps F]
-- ==== MlpGrad.lean ====
abbrev S2x2304x4096 : Shape := ⟨3, ![2, 2304, 4096]⟩
abbrev S4096x1024 : Shape := ⟨2, ![4096, 1024]⟩
abbrev S2x2304x1024 : Shape := ⟨3, ![2, 2304, 1024]⟩
abbrev S4608x4096 : Shape := ⟨2, ![4608, 4096]⟩
abbrev S_ : Shape := ⟨0, ![]⟩
abbrev S4608x1024 : Shape := ⟨2, ![4608, 1024]⟩
abbrev S1536x1024 : Shape := ⟨2, ![1536, 1024]⟩
abbrev S1024x1024 : Shape := ⟨2, ![1024, 1024]⟩

abbrev nBuf : Space → Nat
  | .hbm => 12
  | .vmem => 8
  | .smem => 0
  | _ => 0

abbrev bufTy : (tb : Table) → Fin (tcTables nBuf tb) → BufTy
  | .hbm, ⟨0, _⟩ => ⟨S2x2304x4096, .f32⟩
  | .hbm, ⟨1, _⟩ => ⟨S4096x1024, .f32⟩
  | .hbm, ⟨2, _⟩ => ⟨S2x2304x1024, .f32⟩
  | .hbm, ⟨3, _⟩ => ⟨S4608x4096, .f32⟩
  | .hbm, ⟨4, _⟩ => ⟨S_, .f32⟩
  | .hbm, ⟨5, _⟩ => ⟨S4608x4096, .f32⟩
  | .hbm, ⟨6, _⟩ => ⟨S4608x4096, .f32⟩
  | .hbm, ⟨7, _⟩ => ⟨S4608x4096, .bf16⟩
  | .hbm, ⟨8, _⟩ => ⟨S4608x1024, .f32⟩
  | .hbm, ⟨9, _⟩ => ⟨S4608x1024, .bf16⟩
  | .hbm, ⟨10, _⟩ => ⟨S4096x1024, .bf16⟩
  | .hbm, ⟨11, _⟩ => ⟨S4608x4096, .bf16⟩
  | .local _ .vmem, ⟨0, _⟩ => ⟨S1536x1024, .bf16⟩
  | .local _ .vmem, ⟨1, _⟩ => ⟨S1536x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1536x1024, .bf16⟩
  | .local _ .vmem, ⟨5, _⟩ => ⟨S1536x1024, .bf16⟩
  | .local _ .vmem, ⟨6, _⟩ => ⟨S1536x1024, .bf16⟩
  | .local _ .vmem, ⟨7, _⟩ => ⟨S1536x1024, .bf16⟩
  | _, _ => ⟨S2x2304x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_call0_cst : Ref sig .tc := ⟨.hbm, 4, rfl⟩
abbrev main_call0_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![3, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1536x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1536x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1536x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== MlpGradIdeal.lean ====
abbrev S2x2304x4096 : Shape := ⟨3, ![2, 2304, 4096]⟩
abbrev S4096x1024 : Shape := ⟨2, ![4096, 1024]⟩
abbrev S2x2304x1024 : Shape := ⟨3, ![2, 2304, 1024]⟩
abbrev S4608x4096 : Shape := ⟨2, ![4608, 4096]⟩
abbrev S_ : Shape := ⟨0, ![]⟩
abbrev S4608x1024 : Shape := ⟨2, ![4608, 1024]⟩
abbrev S1536x1024 : Shape := ⟨2, ![1536, 1024]⟩
abbrev S1024x1024 : Shape := ⟨2, ![1024, 1024]⟩

abbrev nBuf : Space → Nat
  | .hbm => 12
  | .vmem => 8
  | .smem => 0
  | _ => 0

abbrev bufTy : (tb : Table) → Fin (tcTables nBuf tb) → BufTy
  | .hbm, ⟨0, _⟩ => ⟨S2x2304x4096, .f32⟩
  | .hbm, ⟨1, _⟩ => ⟨S4096x1024, .f32⟩
  | .hbm, ⟨2, _⟩ => ⟨S2x2304x1024, .f32⟩
  | .hbm, ⟨3, _⟩ => ⟨S4608x4096, .f32⟩
  | .hbm, ⟨4, _⟩ => ⟨S_, .f32⟩
  | .hbm, ⟨5, _⟩ => ⟨S4608x4096, .f32⟩
  | .hbm, ⟨6, _⟩ => ⟨S4608x4096, .f32⟩
  | .hbm, ⟨7, _⟩ => ⟨S4608x4096, .bf16⟩
  | .hbm, ⟨8, _⟩ => ⟨S4608x1024, .f32⟩
  | .hbm, ⟨9, _⟩ => ⟨S4608x1024, .bf16⟩
  | .hbm, ⟨10, _⟩ => ⟨S4096x1024, .bf16⟩
  | .hbm, ⟨11, _⟩ => ⟨S4608x4096, .bf16⟩
  | .local _ .vmem, ⟨0, _⟩ => ⟨S1536x1024, .bf16⟩
  | .local _ .vmem, ⟨1, _⟩ => ⟨S1536x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1536x1024, .bf16⟩
  | .local _ .vmem, ⟨5, _⟩ => ⟨S1536x1024, .bf16⟩
  | .local _ .vmem, ⟨6, _⟩ => ⟨S1536x1024, .bf16⟩
  | .local _ .vmem, ⟨7, _⟩ => ⟨S1536x1024, .bf16⟩
  | _, _ => ⟨S2x2304x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_call0_cst : Ref sig .tc := ⟨.hbm, 4, rfl⟩
abbrev main_call0_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![3, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1536x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1536x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1536x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== MlpGradReferenceIdeal.lean ====
abbrev S2x2304x4096 : Shape := ⟨3, ![2, 2304, 4096]⟩
abbrev S4096x1024 : Shape := ⟨2, ![4096, 1024]⟩
abbrev S2x2304x1024 : Shape := ⟨3, ![2, 2304, 1024]⟩
abbrev S_ : Shape := ⟨0, ![]⟩
abbrev S4608x4096 : Shape := ⟨2, ![4608, 4096]⟩

abbrev nBuf : Space → Nat
  | .hbm => 23
  | .vmem => 0
  | .smem => 0
  | _ => 0

abbrev bufTy : (tb : Table) → Fin (tcTables nBuf tb) → BufTy
  | .hbm, ⟨0, _⟩ => ⟨S2x2304x4096, .f32⟩
  | .hbm, ⟨1, _⟩ => ⟨S4096x1024, .f32⟩
  | .hbm, ⟨2, _⟩ => ⟨S2x2304x1024, .f32⟩
  | .hbm, ⟨3, _⟩ => ⟨S_, .f32⟩
  | .hbm, ⟨4, _⟩ => ⟨S2x2304x4096, .f32⟩
  | .hbm, ⟨5, _⟩ => ⟨S2x2304x4096, .f32⟩
  | .hbm, ⟨6, _⟩ => ⟨S_, .f32⟩
  | .hbm, ⟨7, _⟩ => ⟨S2x2304x4096, .f32⟩
  | .hbm, ⟨8, _⟩ => ⟨S2x2304x4096, .i1⟩
  | .hbm, ⟨9, _⟩ => ⟨S_, .f32⟩
  | .hbm, ⟨10, _⟩ => ⟨S2x2304x4096, .f32⟩
  | .hbm, ⟨11, _⟩ => ⟨S2x2304x4096, .f32⟩
  | .hbm, ⟨12, _⟩ => ⟨S_, .f32⟩
  | .hbm, ⟨13, _⟩ => ⟨S2x2304x4096, .f32⟩
  | .hbm, ⟨14, _⟩ => ⟨S2x2304x4096, .f32⟩
  | .hbm, ⟨15, _⟩ => ⟨S2x2304x1024, .f32⟩
  | .hbm, ⟨16, _⟩ => ⟨S2x2304x4096, .f32⟩
  | .hbm, ⟨17, _⟩ => ⟨S2x2304x4096, .f32⟩
  | .hbm, ⟨18, _⟩ => ⟨S_, .f32⟩
  | .hbm, ⟨19, _⟩ => ⟨S2x2304x4096, .f32⟩
  | .hbm, ⟨20, _⟩ => ⟨S2x2304x4096, .f32⟩
  | .hbm, ⟨21, _⟩ => ⟨S4608x4096, .f32⟩
  | .hbm, ⟨22, _⟩ => ⟨S4608x4096, .bf16⟩
  | _, _ => ⟨S2x2304x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_cst : Ref sig .tc := ⟨.hbm, 3, rfl⟩
abbrev main_call0_v0 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_2 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩

abbrev nD : Nat := 1
abbrev τ : Topo := Topo.v7x

variable {F : FTy → Type} [FloatOps F]
-- ==== MlpInT.lean ====
abbrev S2x2304x1024 : Shape := ⟨3, ![2, 2304, 1024]⟩
abbrev S1024x4096 : Shape := ⟨2, ![1024, 4096]⟩
abbrev S2x2304x4096 : Shape := ⟨3, ![2, 2304, 4096]⟩
abbrev S4608x4096 : Shape := ⟨2, ![4608, 4096]⟩
abbrev S4608x1024 : Shape := ⟨2, ![4608, 1024]⟩
abbrev S1536x1024 : Shape := ⟨2, ![1536, 1024]⟩
abbrev S1024x1024 : Shape := ⟨2, ![1024, 1024]⟩

abbrev nBuf : Space → Nat
  | .hbm => 7
  | .vmem => 7
  | .smem => 0
  | _ => 0

abbrev bufTy : (tb : Table) → Fin (tcTables nBuf tb) → BufTy
  | .hbm, ⟨0, _⟩ => ⟨S2x2304x1024, .f32⟩
  | .hbm, ⟨1, _⟩ => ⟨S1024x4096, .f32⟩
  | .hbm, ⟨2, _⟩ => ⟨S2x2304x4096, .f32⟩
  | .hbm, ⟨3, _⟩ => ⟨S4608x4096, .f32⟩
  | .hbm, ⟨4, _⟩ => ⟨S4608x4096, .bf16⟩
  | .hbm, ⟨5, _⟩ => ⟨S1024x4096, .bf16⟩
  | .hbm, ⟨6, _⟩ => ⟨S4608x1024, .f32⟩
  | .local _ .vmem, ⟨0, _⟩ => ⟨S1536x1024, .bf16⟩
  | .local _ .vmem, ⟨1, _⟩ => ⟨S1536x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1536x1024, .f32⟩
  | .local _ .vmem, ⟨5, _⟩ => ⟨S1536x1024, .f32⟩
  | .local _ .vmem, ⟨6, _⟩ => ⟨S1536x1024, .f32⟩
  | _, _ => ⟨S2x2304x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![3, 1, 4], ![false, false, false]⟩

def k0_cond3 (i : grid0.Coords) : BitVec 1 :=
  let arg2 : BitVec 32 := BitVec.ofNat 32 (i 2).val
  let c3_i32_6 : BitVec 32 := 3#32
  let v13 : BitVec 1 := Scalar.cmpi .eq arg2 c3_i32_6
  let v14 : BitVec 32 := Scalar.extui v13
  let c0_i32_7 : BitVec 32 := 0#32
  let v15 : BitVec 1 := Scalar.cmpi .ne v14 c0_i32_7
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1536x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1536x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== MlpInTIdeal.lean ====
abbrev S2x2304x1024 : Shape := ⟨3, ![2, 2304, 1024]⟩
abbrev S1024x4096 : Shape := ⟨2, ![1024, 4096]⟩
abbrev S2x2304x4096 : Shape := ⟨3, ![2, 2304, 4096]⟩
abbrev S4608x4096 : Shape := ⟨2, ![4608, 4096]⟩
abbrev S4608x1024 : Shape := ⟨2, ![4608, 1024]⟩
abbrev S1536x1024 : Shape := ⟨2, ![1536, 1024]⟩
abbrev S1024x1024 : Shape := ⟨2, ![1024, 1024]⟩

abbrev nBuf : Space → Nat
  | .hbm => 7
  | .vmem => 7
  | .smem => 0
  | _ => 0

abbrev bufTy : (tb : Table) → Fin (tcTables nBuf tb) → BufTy
  | .hbm, ⟨0, _⟩ => ⟨S2x2304x1024, .f32⟩
  | .hbm, ⟨1, _⟩ => ⟨S1024x4096, .f32⟩
  | .hbm, ⟨2, _⟩ => ⟨S2x2304x4096, .f32⟩
  | .hbm, ⟨3, _⟩ => ⟨S4608x4096, .f32⟩
  | .hbm, ⟨4, _⟩ => ⟨S4608x4096, .bf16⟩
  | .hbm, ⟨5, _⟩ => ⟨S1024x4096, .bf16⟩
  | .hbm, ⟨6, _⟩ => ⟨S4608x1024, .f32⟩
  | .local _ .vmem, ⟨0, _⟩ => ⟨S1536x1024, .bf16⟩
  | .local _ .vmem, ⟨1, _⟩ => ⟨S1536x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1536x1024, .f32⟩
  | .local _ .vmem, ⟨5, _⟩ => ⟨S1536x1024, .f32⟩
  | .local _ .vmem, ⟨6, _⟩ => ⟨S1536x1024, .f32⟩
  | _, _ => ⟨S2x2304x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![3, 1, 4], ![false, false, false]⟩

def k0_cond3 (i : grid0.Coords) : BitVec 1 :=
  let arg2 : BitVec 32 := BitVec.ofNat 32 (i 2).val
  let c3_i32_6 : BitVec 32 := 3#32
  let v13 : BitVec 1 := Scalar.cmpi .eq arg2 c3_i32_6
  let v14 : BitVec 32 := Scalar.extui v13
  let c0_i32_7 : BitVec 32 := 0#32
  let v15 : BitVec 1 := Scalar.cmpi .ne v14 c0_i32_7
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1536x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1536x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== MlpInTReferenceIdeal.lean ====
abbrev S2x2304x1024 : Shape := ⟨3, ![2, 2304, 1024]⟩
abbrev S1024x4096 : Shape := ⟨2, ![1024, 4096]⟩
abbrev S2x2304x4096 : Shape := ⟨3, ![2, 2304, 4096]⟩
abbrev S4096x1024 : Shape := ⟨2, ![4096, 1024]⟩
abbrev S4608x1024 : Shape := ⟨2, ![4608, 1024]⟩

abbrev nBuf : Space → Nat
  | .hbm => 8
  | .vmem => 0
  | .smem => 0
  | _ => 0

abbrev bufTy : (tb : Table) → Fin (tcTables nBuf tb) → BufTy
  | .hbm, ⟨0, _⟩ => ⟨S2x2304x1024, .f32⟩
  | .hbm, ⟨1, _⟩ => ⟨S1024x4096, .f32⟩
  | .hbm, ⟨2, _⟩ => ⟨S2x2304x4096, .f32⟩
  | .hbm, ⟨3, _⟩ => ⟨S2x2304x4096, .f32⟩
  | .hbm, ⟨4, _⟩ => ⟨S4096x1024, .f32⟩
  | .hbm, ⟨5, _⟩ => ⟨S1024x4096, .f32⟩
  | .hbm, ⟨6, _⟩ => ⟨S2x2304x1024, .f32⟩
  | .hbm, ⟨7, _⟩ => ⟨S4608x1024, .f32⟩
  | _, _ => ⟨S2x2304x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== MlpInW.lean ====
abbrev S2x2304x1024 : Shape := ⟨3, ![2, 2304, 1024]⟩
abbrev S1024x4096 : Shape := ⟨2, ![1024, 4096]⟩
abbrev S2x2304x4096 : Shape := ⟨3, ![2, 2304, 4096]⟩
abbrev S4608x1024 : Shape := ⟨2, ![4608, 1024]⟩
abbrev S4608x4096 : Shape := ⟨2, ![4608, 4096]⟩
abbrev S1536x1024 : Shape := ⟨2, ![1536, 1024]⟩
abbrev S1024x1024 : Shape := ⟨2, ![1024, 1024]⟩

abbrev nBuf : Space → Nat
  | .hbm => 8
  | .vmem => 7
  | .smem => 0
  | _ => 0

abbrev bufTy : (tb : Table) → Fin (tcTables nBuf tb) → BufTy
  | .hbm, ⟨0, _⟩ => ⟨S2x2304x1024, .f32⟩
  | .hbm, ⟨1, _⟩ => ⟨S1024x4096, .f32⟩
  | .hbm, ⟨2, _⟩ => ⟨S2x2304x4096, .f32⟩
  | .hbm, ⟨3, _⟩ => ⟨S4608x1024, .f32⟩
  | .hbm, ⟨4, _⟩ => ⟨S4608x1024, .bf16⟩
  | .hbm, ⟨5, _⟩ => ⟨S4608x4096, .f32⟩
  | .hbm, ⟨6, _⟩ => ⟨S4608x4096, .bf16⟩
  | .hbm, ⟨7, _⟩ => ⟨S1024x4096, .bf16⟩
  | .local _ .vmem, ⟨0, _⟩ => ⟨S1536x1024, .bf16⟩
  | .local _ .vmem, ⟨1, _⟩ => ⟨S1536x1024, .bf16⟩
  | .local _ .vmem, ⟨2, _⟩ => ⟨S1536x1024, .bf16⟩
  | .local _ .vmem, ⟨3, _⟩ => ⟨S1536x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .f32⟩
  | _, _ => ⟨S2x2304x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 4, 3], ![false, false, false]⟩

def k0_cond3 (i : grid0.Coords) : BitVec 1 :=
  let arg2 : BitVec 32 := BitVec.ofNat 32 (i 2).val
  let c2_i32_6 : BitVec 32 := 2#32
  let v13 : BitVec 1 := Scalar.cmpi .eq arg2 c2_i32_6
  let v14 : BitVec 32 := Scalar.extui v13
  let c0_i32_7 : BitVec 32 := 0#32
  let v15 : BitVec 1 := Scalar.cmpi .ne v14 c0_i32_7
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1536x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1536x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== MlpInWIdeal.lean ====
abbrev S2x2304x1024 : Shape := ⟨3, ![2, 2304, 1024]⟩
abbrev S1024x4096 : Shape := ⟨2, ![1024, 4096]⟩
abbrev S2x2304x4096 : Shape := ⟨3, ![2, 2304, 4096]⟩
abbrev S4608x1024 : Shape := ⟨2, ![4608, 1024]⟩
abbrev S4608x4096 : Shape := ⟨2, ![4608, 4096]⟩
abbrev S1536x1024 : Shape := ⟨2, ![1536, 1024]⟩
abbrev S1024x1024 : Shape := ⟨2, ![1024, 1024]⟩

abbrev nBuf : Space → Nat
  | .hbm => 8
  | .vmem => 7
  | .smem => 0
  | _ => 0

abbrev bufTy : (tb : Table) → Fin (tcTables nBuf tb) → BufTy
  | .hbm, ⟨0, _⟩ => ⟨S2x2304x1024, .f32⟩
  | .hbm, ⟨1, _⟩ => ⟨S1024x4096, .f32⟩
  | .hbm, ⟨2, _⟩ => ⟨S2x2304x4096, .f32⟩
  | .hbm, ⟨3, _⟩ => ⟨S4608x1024, .f32⟩
  | .hbm, ⟨4, _⟩ => ⟨S4608x1024, .bf16⟩
  | .hbm, ⟨5, _⟩ => ⟨S4608x4096, .f32⟩
  | .hbm, ⟨6, _⟩ => ⟨S4608x4096, .bf16⟩
  | .hbm, ⟨7, _⟩ => ⟨S1024x4096, .bf16⟩
  | .local _ .vmem, ⟨0, _⟩ => ⟨S1536x1024, .bf16⟩
  | .local _ .vmem, ⟨1, _⟩ => ⟨S1536x1024, .bf16⟩
  | .local _ .vmem, ⟨2, _⟩ => ⟨S1536x1024, .bf16⟩
  | .local _ .vmem, ⟨3, _⟩ => ⟨S1536x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .f32⟩
  | _, _ => ⟨S2x2304x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 4, 3], ![false, false, false]⟩

def k0_cond3 (i : grid0.Coords) : BitVec 1 :=
  let arg2 : BitVec 32 := BitVec.ofNat 32 (i 2).val
  let c2_i32_6 : BitVec 32 := 2#32
  let v13 : BitVec 1 := Scalar.cmpi .eq arg2 c2_i32_6
  let v14 : BitVec 32 := Scalar.extui v13
  let c0_i32_7 : BitVec 32 := 0#32
  let v15 : BitVec 1 := Scalar.cmpi .ne v14 c0_i32_7
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1536x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1536x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== MlpInWReferenceIdeal.lean ====
abbrev S2x2304x1024 : Shape := ⟨3, ![2, 2304, 1024]⟩
abbrev S1024x4096 : Shape := ⟨2, ![1024, 4096]⟩
abbrev S2x2304x4096 : Shape := ⟨3, ![2, 2304, 4096]⟩
abbrev S4096x1024 : Shape := ⟨2, ![4096, 1024]⟩

abbrev nBuf : Space → Nat
  | .hbm => 8
  | .vmem => 0
  | .smem => 0
  | _ => 0

abbrev bufTy : (tb : Table) → Fin (tcTables nBuf tb) → BufTy
  | .hbm, ⟨0, _⟩ => ⟨S2x2304x1024, .f32⟩
  | .hbm, ⟨1, _⟩ => ⟨S1024x4096, .f32⟩
  | .hbm, ⟨2, _⟩ => ⟨S2x2304x4096, .f32⟩
  | .hbm, ⟨3, _⟩ => ⟨S2x2304x4096, .f32⟩
  | .hbm, ⟨4, _⟩ => ⟨S4096x1024, .f32⟩
  | .hbm, ⟨5, _⟩ => ⟨S1024x4096, .f32⟩
  | .hbm, ⟨6, _⟩ => ⟨S2x2304x1024, .f32⟩
  | .hbm, ⟨7, _⟩ => ⟨S1024x4096, .bf16⟩
  | _, _ => ⟨S2x2304x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== MlpOut.lean ====
abbrev S2x2304x4096 : Shape := ⟨3, ![2, 2304, 4096]⟩
abbrev S4096x1024 : Shape := ⟨2, ![4096, 1024]⟩
abbrev S4608x4096 : Shape := ⟨2, ![4608, 4096]⟩
abbrev S4608x1024 : Shape := ⟨2, ![4608, 1024]⟩
abbrev S1536x1024 : Shape := ⟨2, ![1536, 1024]⟩
abbrev S1024x1024 : Shape := ⟨2, ![1024, 1024]⟩

abbrev nBuf : Space → Nat
  | .hbm => 6
  | .vmem => 7
  | .smem => 0
  | _ => 0

abbrev bufTy : (tb : Table) → Fin (tcTables nBuf tb) → BufTy
  | .hbm, ⟨0, _⟩ => ⟨S2x2304x4096, .f32⟩
  | .hbm, ⟨1, _⟩ => ⟨S4096x1024, .f32⟩
  | .hbm, ⟨2, _⟩ => ⟨S4608x4096, .f32⟩
  | .hbm, ⟨3, _⟩ => ⟨S4608x4096, .bf16⟩
  | .hbm, ⟨4, _⟩ => ⟨S4096x1024, .bf16⟩
  | .hbm, ⟨5, _⟩ => ⟨S4608x1024, .f32⟩
  | .local _ .vmem, ⟨0, _⟩ => ⟨S1536x1024, .bf16⟩
  | .local _ .vmem, ⟨1, _⟩ => ⟨S1536x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1536x1024, .f32⟩
  | .local _ .vmem, ⟨5, _⟩ => ⟨S1536x1024, .f32⟩
  | .local _ .vmem, ⟨6, _⟩ => ⟨S1536x1024, .f32⟩
  | _, _ => ⟨S2x2304x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![3, 1, 4], ![false, false, false]⟩

def k0_cond3 (i : grid0.Coords) : BitVec 1 :=
  let arg2 : BitVec 32 := BitVec.ofNat 32 (i 2).val
  let c3_i32_6 : BitVec 32 := 3#32
  let v13 : BitVec 1 := Scalar.cmpi .eq arg2 c3_i32_6
  let v14 : BitVec 32 := Scalar.extui v13
  let c0_i32_7 : BitVec 32 := 0#32
  let v15 : BitVec 1 := Scalar.cmpi .ne v14 c0_i32_7
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1536x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1536x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== MlpOutIdeal.lean ====
abbrev S2x2304x4096 : Shape := ⟨3, ![2, 2304, 4096]⟩
abbrev S4096x1024 : Shape := ⟨2, ![4096, 1024]⟩
abbrev S4608x4096 : Shape := ⟨2, ![4608, 4096]⟩
abbrev S4608x1024 : Shape := ⟨2, ![4608, 1024]⟩
abbrev S1536x1024 : Shape := ⟨2, ![1536, 1024]⟩
abbrev S1024x1024 : Shape := ⟨2, ![1024, 1024]⟩

abbrev nBuf : Space → Nat
  | .hbm => 6
  | .vmem => 7
  | .smem => 0
  | _ => 0

abbrev bufTy : (tb : Table) → Fin (tcTables nBuf tb) → BufTy
  | .hbm, ⟨0, _⟩ => ⟨S2x2304x4096, .f32⟩
  | .hbm, ⟨1, _⟩ => ⟨S4096x1024, .f32⟩
  | .hbm, ⟨2, _⟩ => ⟨S4608x4096, .f32⟩
  | .hbm, ⟨3, _⟩ => ⟨S4608x4096, .bf16⟩
  | .hbm, ⟨4, _⟩ => ⟨S4096x1024, .bf16⟩
  | .hbm, ⟨5, _⟩ => ⟨S4608x1024, .f32⟩
  | .local _ .vmem, ⟨0, _⟩ => ⟨S1536x1024, .bf16⟩
  | .local _ .vmem, ⟨1, _⟩ => ⟨S1536x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1536x1024, .f32⟩
  | .local _ .vmem, ⟨5, _⟩ => ⟨S1536x1024, .f32⟩
  | .local _ .vmem, ⟨6, _⟩ => ⟨S1536x1024, .f32⟩
  | _, _ => ⟨S2x2304x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![3, 1, 4], ![false, false, false]⟩

def k0_cond3 (i : grid0.Coords) : BitVec 1 :=
  let arg2 : BitVec 32 := BitVec.ofNat 32 (i 2).val
  let c3_i32_6 : BitVec 32 := 3#32
  let v13 : BitVec 1 := Scalar.cmpi .eq arg2 c3_i32_6
  let v14 : BitVec 32 := Scalar.extui v13
  let c0_i32_7 : BitVec 32 := 0#32
  let v15 : BitVec 1 := Scalar.cmpi .ne v14 c0_i32_7
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1536x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1536x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== MlpOutReferenceIdeal.lean ====
abbrev S2x2304x4096 : Shape := ⟨3, ![2, 2304, 4096]⟩
abbrev S4096x1024 : Shape := ⟨2, ![4096, 1024]⟩
abbrev S2x2304x1024 : Shape := ⟨3, ![2, 2304, 1024]⟩
abbrev S4608x1024 : Shape := ⟨2, ![4608, 1024]⟩

abbrev nBuf : Space → Nat
  | .hbm => 4
  | .vmem => 0
  | .smem => 0
  | _ => 0

abbrev bufTy : (tb : Table) → Fin (tcTables nBuf tb) → BufTy
  | .hbm, ⟨0, _⟩ => ⟨S2x2304x4096, .f32⟩
  | .hbm, ⟨1, _⟩ => ⟨S4096x1024, .f32⟩
  | .hbm, ⟨2, _⟩ => ⟨S2x2304x1024, .f32⟩
  | .hbm, ⟨3, _⟩ => ⟨S4608x1024, .f32⟩
  | _, _ => ⟨S2x2304x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== MlpOutW.lean ====
abbrev S2x2304x4096 : Shape := ⟨3, ![2, 2304, 4096]⟩
abbrev S4096x1024 : Shape := ⟨2, ![4096, 1024]⟩
abbrev S2x2304x1024 : Shape := ⟨3, ![2, 2304, 1024]⟩
abbrev S4608x4096 : Shape := ⟨2, ![4608, 4096]⟩
abbrev S4608x1024 : Shape := ⟨2, ![4608, 1024]⟩
abbrev S1536x1024 : Shape := ⟨2, ![1536, 1024]⟩
abbrev S1024x1024 : Shape := ⟨2, ![1024, 1024]⟩

abbrev nBuf : Space → Nat
  | .hbm => 8
  | .vmem => 7
  | .smem => 0
  | _ => 0

abbrev bufTy : (tb : Table) → Fin (tcTables nBuf tb) → BufTy
  | .hbm, ⟨0, _⟩ => ⟨S2x2304x4096, .f32⟩
  | .hbm, ⟨1, _⟩ => ⟨S4096x1024, .f32⟩
  | .hbm, ⟨2, _⟩ => ⟨S2x2304x1024, .f32⟩
  | .hbm, ⟨3, _⟩ => ⟨S4608x4096, .f32⟩
  | .hbm, ⟨4, _⟩ => ⟨S4608x4096, .bf16⟩
  | .hbm, ⟨5, _⟩ => ⟨S4608x1024, .f32⟩
  | .hbm, ⟨6, _⟩ => ⟨S4608x1024, .bf16⟩
  | .hbm, ⟨7, _⟩ => ⟨S4096x1024, .bf16⟩
  | .local _ .vmem, ⟨0, _⟩ => ⟨S1536x1024, .bf16⟩
  | .local _ .vmem, ⟨1, _⟩ => ⟨S1536x1024, .bf16⟩
  | .local _ .vmem, ⟨2, _⟩ => ⟨S1536x1024, .bf16⟩
  | .local _ .vmem, ⟨3, _⟩ => ⟨S1536x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .f32⟩
  | _, _ => ⟨S2x2304x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 1, 3], ![false, false, false]⟩

def k0_cond3 (i : grid0.Coords) : BitVec 1 :=
  let arg2 : BitVec 32 := BitVec.ofNat 32 (i 2).val
  let c2_i32_6 : BitVec 32 := 2#32
  let v13 : BitVec 1 := Scalar.cmpi .eq arg2 c2_i32_6
  let v14 : BitVec 32 := Scalar.extui v13
  let c0_i32_7 : BitVec 32 := 0#32
  let v15 : BitVec 1 := Scalar.cmpi .ne v14 c0_i32_7
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1536x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1536x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== MlpOutWIdeal.lean ====
abbrev S2x2304x4096 : Shape := ⟨3, ![2, 2304, 4096]⟩
abbrev S4096x1024 : Shape := ⟨2, ![4096, 1024]⟩
abbrev S2x2304x1024 : Shape := ⟨3, ![2, 2304, 1024]⟩
abbrev S4608x4096 : Shape := ⟨2, ![4608, 4096]⟩
abbrev S4608x1024 : Shape := ⟨2, ![4608, 1024]⟩
abbrev S1536x1024 : Shape := ⟨2, ![1536, 1024]⟩
abbrev S1024x1024 : Shape := ⟨2, ![1024, 1024]⟩

abbrev nBuf : Space → Nat
  | .hbm => 8
  | .vmem => 7
  | .smem => 0
  | _ => 0

abbrev bufTy : (tb : Table) → Fin (tcTables nBuf tb) → BufTy
  | .hbm, ⟨0, _⟩ => ⟨S2x2304x4096, .f32⟩
  | .hbm, ⟨1, _⟩ => ⟨S4096x1024, .f32⟩
  | .hbm, ⟨2, _⟩ => ⟨S2x2304x1024, .f32⟩
  | .hbm, ⟨3, _⟩ => ⟨S4608x4096, .f32⟩
  | .hbm, ⟨4, _⟩ => ⟨S4608x4096, .bf16⟩
  | .hbm, ⟨5, _⟩ => ⟨S4608x1024, .f32⟩
  | .hbm, ⟨6, _⟩ => ⟨S4608x1024, .bf16⟩
  | .hbm, ⟨7, _⟩ => ⟨S4096x1024, .bf16⟩
  | .local _ .vmem, ⟨0, _⟩ => ⟨S1536x1024, .bf16⟩
  | .local _ .vmem, ⟨1, _⟩ => ⟨S1536x1024, .bf16⟩
  | .local _ .vmem, ⟨2, _⟩ => ⟨S1536x1024, .bf16⟩
  | .local _ .vmem, ⟨3, _⟩ => ⟨S1536x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .f32⟩
  | _, _ => ⟨S2x2304x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 1, 3], ![false, false, false]⟩

def k0_cond3 (i : grid0.Coords) : BitVec 1 :=
  let arg2 : BitVec 32 := BitVec.ofNat 32 (i 2).val
  let c2_i32_6 : BitVec 32 := 2#32
  let v13 : BitVec 1 := Scalar.cmpi .eq arg2 c2_i32_6
  let v14 : BitVec 32 := Scalar.extui v13
  let c0_i32_7 : BitVec 32 := 0#32
  let v15 : BitVec 1 := Scalar.cmpi .ne v14 c0_i32_7
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1536x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1536x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== MlpOutWReferenceIdeal.lean ====
abbrev S2x2304x4096 : Shape := ⟨3, ![2, 2304, 4096]⟩
abbrev S4096x1024 : Shape := ⟨2, ![4096, 1024]⟩
abbrev S2x2304x1024 : Shape := ⟨3, ![2, 2304, 1024]⟩
abbrev S1024x4096 : Shape := ⟨2, ![1024, 4096]⟩

abbrev nBuf : Space → Nat
  | .hbm => 8
  | .vmem => 0
  | .smem => 0
  | _ => 0

abbrev bufTy : (tb : Table) → Fin (tcTables nBuf tb) → BufTy
  | .hbm, ⟨0, _⟩ => ⟨S2x2304x4096, .f32⟩
  | .hbm, ⟨1, _⟩ => ⟨S4096x1024, .f32⟩
  | .hbm, ⟨2, _⟩ => ⟨S2x2304x1024, .f32⟩
  | .hbm, ⟨3, _⟩ => ⟨S2x2304x1024, .f32⟩
  | .hbm, ⟨4, _⟩ => ⟨S1024x4096, .f32⟩
  | .hbm, ⟨5, _⟩ => ⟨S4096x1024, .f32⟩
  | .hbm, ⟨6, _⟩ => ⟨S2x2304x4096, .f32⟩
  | .hbm, ⟨7, _⟩ => ⟨S4096x1024, .bf16⟩
  | _, _ => ⟨S2x2304x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== LastUp.lean ====
abbrev S2x2048x1024 : Shape := ⟨3, ![2, 2048, 1024]⟩
abbrev S1024x4096 : Shape := ⟨2, ![1024, 4096]⟩
abbrev S4096x1024 : Shape := ⟨2, ![4096, 1024]⟩
abbrev S4096x4096 : Shape := ⟨2, ![4096, 4096]⟩
abbrev S1024x1024 : Shape := ⟨2, ![1024, 1024]⟩

abbrev nBuf : Space → Nat
  | .hbm => 7
  | .vmem => 8
  | .smem => 0
  | _ => 0

abbrev bufTy : (tb : Table) → Fin (tcTables nBuf tb) → BufTy
  | .hbm, ⟨0, _⟩ => ⟨S2x2048x1024, .f32⟩
  | .hbm, ⟨1, _⟩ => ⟨S1024x4096, .f32⟩
  | .hbm, ⟨2, _⟩ => ⟨S4096x1024, .f32⟩
  | .hbm, ⟨3, _⟩ => ⟨S4096x1024, .bf16⟩
  | .hbm, ⟨4, _⟩ => ⟨S1024x4096, .bf16⟩
  | .hbm, ⟨5, _⟩ => ⟨S4096x4096, .bf16⟩
  | .hbm, ⟨6, _⟩ => ⟨S4096x4096, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .bf16⟩
  | .local _ .vmem, ⟨7, _⟩ => ⟨S1024x1024, .bf16⟩
  | _, _ => ⟨S2x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3_0 : Ref sig .tc := ⟨.hbm, 5, rfl⟩
abbrev main_v3_1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![4, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== LastUpReferenceIdeal.lean ====
abbrev S2x2048x1024 : Shape := ⟨3, ![2, 2048, 1024]⟩
abbrev S1024x4096 : Shape := ⟨2, ![1024, 4096]⟩
abbrev S2x2048x4096 : Shape := ⟨3, ![2, 2048, 4096]⟩
abbrev S_ : Shape := ⟨0, ![]⟩
abbrev S4096x4096 : Shape := ⟨2, ![4096, 4096]⟩

abbrev nBuf : Space → Nat
  | .hbm => 14
  | .vmem => 0
  | .smem => 0
  | _ => 0

abbrev bufTy : (tb : Table) → Fin (tcTables nBuf tb) → BufTy
  | .hbm, ⟨0, _⟩ => ⟨S2x2048x1024, .f32⟩
  | .hbm, ⟨1, _⟩ => ⟨S1024x4096, .f32⟩
  | .hbm, ⟨2, _⟩ => ⟨S2x2048x4096, .f32⟩
  | .hbm, ⟨3, _⟩ => ⟨S_, .f32⟩
  | .hbm, ⟨4, _⟩ => ⟨S2x2048x4096, .f32⟩
  | .hbm, ⟨5, _⟩ => ⟨S2x2048x4096, .f32⟩
  | .hbm, ⟨6, _⟩ => ⟨S4096x4096, .f32⟩
  | .hbm, ⟨7, _⟩ => ⟨S4096x4096, .bf16⟩
  | .hbm, ⟨8, _⟩ => ⟨S_, .f32⟩
  | .hbm, ⟨9, _⟩ => ⟨S2x2048x4096, .f32⟩
  | .hbm, ⟨10, _⟩ => ⟨S2x2048x4096, .f32⟩
  | .hbm, ⟨11, _⟩ => ⟨S2x2048x4096, .f32⟩
  | .hbm, ⟨12, _⟩ => ⟨S4096x4096, .f32⟩
  | .hbm, ⟨13, _⟩ => ⟨S4096x4096, .bf16⟩
  | _, _ => ⟨S2x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_call0_cst : Ref sig .tc := ⟨.hbm, 3, rfl⟩
abbrev main_call0_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_call1_cst : Ref sig .tc := ⟨.hbm, 8, rfl⟩
abbrev main_call1_v0 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩

abbrev nD : Nat := 1
abbrev τ : Topo := Topo.v7x

variable {F : FTy → Type} [FloatOps F]
-- ==== LastGrad.lean ====
abbrev S2x2048x4096 : Shape := ⟨3, ![2, 2048, 4096]⟩
abbrev S4096x1024 : Shape := ⟨2, ![4096, 1024]⟩
abbrev S2x2048x1024 : Shape := ⟨3, ![2, 2048, 1024]⟩
abbrev S4096x4096 : Shape := ⟨2, ![4096, 4096]⟩
abbrev S_ : Shape := ⟨0, ![]⟩
abbrev S1024x1024 : Shape := ⟨2, ![1024, 1024]⟩

abbrev nBuf : Space → Nat
  | .hbm => 12
  | .vmem => 8
  | .smem => 0
  | _ => 0

abbrev bufTy : (tb : Table) → Fin (tcTables nBuf tb) → BufTy
  | .hbm, ⟨0, _⟩ => ⟨S2x2048x4096, .f32⟩
  | .hbm, ⟨1, _⟩ => ⟨S4096x1024, .f32⟩
  | .hbm, ⟨2, _⟩ => ⟨S2x2048x1024, .f32⟩
  | .hbm, ⟨3, _⟩ => ⟨S4096x4096, .f32⟩
  | .hbm, ⟨4, _⟩ => ⟨S_, .f32⟩
  | .hbm, ⟨5, _⟩ => ⟨S4096x4096, .f32⟩
  | .hbm, ⟨6, _⟩ => ⟨S4096x4096, .f32⟩
  | .hbm, ⟨7, _⟩ => ⟨S4096x4096, .bf16⟩
  | .hbm, ⟨8, _⟩ => ⟨S4096x1024, .f32⟩
  | .hbm, ⟨9, _⟩ => ⟨S4096x1024, .bf16⟩
  | .hbm, ⟨10, _⟩ => ⟨S4096x1024, .bf16⟩
  | .hbm, ⟨11, _⟩ => ⟨S4096x4096, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .bf16⟩
  | .local _ .vmem, ⟨7, _⟩ => ⟨S1024x1024, .bf16⟩
  | _, _ => ⟨S2x2048x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_call0_cst : Ref sig .tc := ⟨.hbm, 4, rfl⟩
abbrev main_call0_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![4, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== LastGradReferenceIdeal.lean ====
abbrev S2x2048x4096 : Shape := ⟨3, ![2, 2048, 4096]⟩
abbrev S4096x1024 : Shape := ⟨2, ![4096, 1024]⟩
abbrev S2x2048x1024 : Shape := ⟨3, ![2, 2048, 1024]⟩
abbrev S_ : Shape := ⟨0, ![]⟩
abbrev S4096x4096 : Shape := ⟨2, ![4096, 4096]⟩

abbrev nBuf : Space → Nat
  | .hbm => 23
  | .vmem => 0
  | .smem => 0
  | _ => 0

abbrev bufTy : (tb : Table) → Fin (tcTables nBuf tb) → BufTy
  | .hbm, ⟨0, _⟩ => ⟨S2x2048x4096, .f32⟩
  | .hbm, ⟨1, _⟩ => ⟨S4096x1024, .f32⟩
  | .hbm, ⟨2, _⟩ => ⟨S2x2048x1024, .f32⟩
  | .hbm, ⟨3, _⟩ => ⟨S_, .f32⟩
  | .hbm, ⟨4, _⟩ => ⟨S2x2048x4096, .f32⟩
  | .hbm, ⟨5, _⟩ => ⟨S2x2048x4096, .f32⟩
  | .hbm, ⟨6, _⟩ => ⟨S_, .f32⟩
  | .hbm, ⟨7, _⟩ => ⟨S2x2048x4096, .f32⟩
  | .hbm, ⟨8, _⟩ => ⟨S2x2048x4096, .i1⟩
  | .hbm, ⟨9, _⟩ => ⟨S_, .f32⟩
  | .hbm, ⟨10, _⟩ => ⟨S2x2048x4096, .f32⟩
  | .hbm, ⟨11, _⟩ => ⟨S2x2048x4096, .f32⟩
  | .hbm, ⟨12, _⟩ => ⟨S_, .f32⟩
  | .hbm, ⟨13, _⟩ => ⟨S2x2048x4096, .f32⟩
  | .hbm, ⟨14, _⟩ => ⟨S2x2048x4096, .f32⟩
  | .hbm, ⟨15, _⟩ => ⟨S2x2048x1024, .f32⟩
  | .hbm, ⟨16, _⟩ => ⟨S2x2048x4096, .f32⟩
  | .hbm, ⟨17, _⟩ => ⟨S2x2048x4096, .f32⟩
  | .hbm, ⟨18, _⟩ => ⟨S_, .f32⟩
  | .hbm, ⟨19, _⟩ => ⟨S2x2048x4096, .f32⟩
  | .hbm, ⟨20, _⟩ => ⟨S2x2048x4096, .f32⟩
  | .hbm, ⟨21, _⟩ => ⟨S4096x4096, .f32⟩
  | .hbm, ⟨22, _⟩ => ⟨S4096x4096, .bf16⟩
  | _, _ => ⟨S2x2048x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_cst : Ref sig .tc := ⟨.hbm, 3, rfl⟩
abbrev main_call0_v0 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_2 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩

abbrev nD : Nat := 1
abbrev τ : Topo := Topo.v7x

variable {F : FTy → Type} [FloatOps F]
-- ==== LastInT.lean ====
abbrev S2x2048x1024 : Shape := ⟨3, ![2, 2048, 1024]⟩
abbrev S1024x4096 : Shape := ⟨2, ![1024, 4096]⟩
abbrev S2x2048x4096 : Shape := ⟨3, ![2, 2048, 4096]⟩
abbrev S4096x4096 : Shape := ⟨2, ![4096, 4096]⟩
abbrev S4096x1024 : Shape := ⟨2, ![4096, 1024]⟩
abbrev S1024x1024 : Shape := ⟨2, ![1024, 1024]⟩

abbrev nBuf : Space → Nat
  | .hbm => 7
  | .vmem => 7
  | .smem => 0
  | _ => 0

abbrev bufTy : (tb : Table) → Fin (tcTables nBuf tb) → BufTy
  | .hbm, ⟨0, _⟩ => ⟨S2x2048x1024, .f32⟩
  | .hbm, ⟨1, _⟩ => ⟨S1024x4096, .f32⟩
  | .hbm, ⟨2, _⟩ => ⟨S2x2048x4096, .f32⟩
  | .hbm, ⟨3, _⟩ => ⟨S4096x4096, .f32⟩
  | .hbm, ⟨4, _⟩ => ⟨S4096x4096, .bf16⟩
  | .hbm, ⟨5, _⟩ => ⟨S1024x4096, .bf16⟩
  | .hbm, ⟨6, _⟩ => ⟨S4096x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S2x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 1, 4], ![false, false, false]⟩

def k0_cond3 (i : grid0.Coords) : BitVec 1 :=
  let arg2 : BitVec 32 := BitVec.ofNat 32 (i 2).val
  let c3_i32_6 : BitVec 32 := 3#32
  let v13 : BitVec 1 := Scalar.cmpi .eq arg2 c3_i32_6
  let v14 : BitVec 32 := Scalar.extui v13
  let c0_i32_7 : BitVec 32 := 0#32
  let v15 : BitVec 1 := Scalar.cmpi .ne v14 c0_i32_7
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== LastInTIdeal.lean ====
abbrev S2x2048x1024 : Shape := ⟨3, ![2, 2048, 1024]⟩
abbrev S1024x4096 : Shape := ⟨2, ![1024, 4096]⟩
abbrev S2x2048x4096 : Shape := ⟨3, ![2, 2048, 4096]⟩
abbrev S4096x4096 : Shape := ⟨2, ![4096, 4096]⟩
abbrev S4096x1024 : Shape := ⟨2, ![4096, 1024]⟩
abbrev S1024x1024 : Shape := ⟨2, ![1024, 1024]⟩

abbrev nBuf : Space → Nat
  | .hbm => 7
  | .vmem => 7
  | .smem => 0
  | _ => 0

abbrev bufTy : (tb : Table) → Fin (tcTables nBuf tb) → BufTy
  | .hbm, ⟨0, _⟩ => ⟨S2x2048x1024, .f32⟩
  | .hbm, ⟨1, _⟩ => ⟨S1024x4096, .f32⟩
  | .hbm, ⟨2, _⟩ => ⟨S2x2048x4096, .f32⟩
  | .hbm, ⟨3, _⟩ => ⟨S4096x4096, .f32⟩
  | .hbm, ⟨4, _⟩ => ⟨S4096x4096, .bf16⟩
  | .hbm, ⟨5, _⟩ => ⟨S1024x4096, .bf16⟩
  | .hbm, ⟨6, _⟩ => ⟨S4096x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S2x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 1, 4], ![false, false, false]⟩

def k0_cond3 (i : grid0.Coords) : BitVec 1 :=
  let arg2 : BitVec 32 := BitVec.ofNat 32 (i 2).val
  let c3_i32_6 : BitVec 32 := 3#32
  let v13 : BitVec 1 := Scalar.cmpi .eq arg2 c3_i32_6
  let v14 : BitVec 32 := Scalar.extui v13
  let c0_i32_7 : BitVec 32 := 0#32
  let v15 : BitVec 1 := Scalar.cmpi .ne v14 c0_i32_7
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== LastInTReferenceIdeal.lean ====
abbrev S2x2048x1024 : Shape := ⟨3, ![2, 2048, 1024]⟩
abbrev S1024x4096 : Shape := ⟨2, ![1024, 4096]⟩
abbrev S2x2048x4096 : Shape := ⟨3, ![2, 2048, 4096]⟩
abbrev S4096x1024 : Shape := ⟨2, ![4096, 1024]⟩

abbrev nBuf : Space → Nat
  | .hbm => 8
  | .vmem => 0
  | .smem => 0
  | _ => 0

abbrev bufTy : (tb : Table) → Fin (tcTables nBuf tb) → BufTy
  | .hbm, ⟨0, _⟩ => ⟨S2x2048x1024, .f32⟩
  | .hbm, ⟨1, _⟩ => ⟨S1024x4096, .f32⟩
  | .hbm, ⟨2, _⟩ => ⟨S2x2048x4096, .f32⟩
  | .hbm, ⟨3, _⟩ => ⟨S2x2048x4096, .f32⟩
  | .hbm, ⟨4, _⟩ => ⟨S4096x1024, .f32⟩
  | .hbm, ⟨5, _⟩ => ⟨S1024x4096, .f32⟩
  | .hbm, ⟨6, _⟩ => ⟨S2x2048x1024, .f32⟩
  | .hbm, ⟨7, _⟩ => ⟨S4096x1024, .f32⟩
  | _, _ => ⟨S2x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== LastInW.lean ====
abbrev S2x2048x1024 : Shape := ⟨3, ![2, 2048, 1024]⟩
abbrev S1024x4096 : Shape := ⟨2, ![1024, 4096]⟩
abbrev S2x2048x4096 : Shape := ⟨3, ![2, 2048, 4096]⟩
abbrev S4096x1024 : Shape := ⟨2, ![4096, 1024]⟩
abbrev S4096x4096 : Shape := ⟨2, ![4096, 4096]⟩
abbrev S1024x1024 : Shape := ⟨2, ![1024, 1024]⟩

abbrev nBuf : Space → Nat
  | .hbm => 8
  | .vmem => 7
  | .smem => 0
  | _ => 0

abbrev bufTy : (tb : Table) → Fin (tcTables nBuf tb) → BufTy
  | .hbm, ⟨0, _⟩ => ⟨S2x2048x1024, .f32⟩
  | .hbm, ⟨1, _⟩ => ⟨S1024x4096, .f32⟩
  | .hbm, ⟨2, _⟩ => ⟨S2x2048x4096, .f32⟩
  | .hbm, ⟨3, _⟩ => ⟨S4096x1024, .f32⟩
  | .hbm, ⟨4, _⟩ => ⟨S4096x1024, .bf16⟩
  | .hbm, ⟨5, _⟩ => ⟨S4096x4096, .f32⟩
  | .hbm, ⟨6, _⟩ => ⟨S4096x4096, .bf16⟩
  | .hbm, ⟨7, _⟩ => ⟨S1024x4096, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .f32⟩
  | _, _ => ⟨S2x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 4, 4], ![false, false, false]⟩

def k0_cond3 (i : grid0.Coords) : BitVec 1 :=
  let arg2 : BitVec 32 := BitVec.ofNat 32 (i 2).val
  let c3_i32_6 : BitVec 32 := 3#32
  let v13 : BitVec 1 := Scalar.cmpi .eq arg2 c3_i32_6
  let v14 : BitVec 32 := Scalar.extui v13
  let c0_i32_7 : BitVec 32 := 0#32
  let v15 : BitVec 1 := Scalar.cmpi .ne v14 c0_i32_7
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== LastInWIdeal.lean ====
abbrev S2x2048x1024 : Shape := ⟨3, ![2, 2048, 1024]⟩
abbrev S1024x4096 : Shape := ⟨2, ![1024, 4096]⟩
abbrev S2x2048x4096 : Shape := ⟨3, ![2, 2048, 4096]⟩
abbrev S4096x1024 : Shape := ⟨2, ![4096, 1024]⟩
abbrev S4096x4096 : Shape := ⟨2, ![4096, 4096]⟩
abbrev S1024x1024 : Shape := ⟨2, ![1024, 1024]⟩

abbrev nBuf : Space → Nat
  | .hbm => 8
  | .vmem => 7
  | .smem => 0
  | _ => 0

abbrev bufTy : (tb : Table) → Fin (tcTables nBuf tb) → BufTy
  | .hbm, ⟨0, _⟩ => ⟨S2x2048x1024, .f32⟩
  | .hbm, ⟨1, _⟩ => ⟨S1024x4096, .f32⟩
  | .hbm, ⟨2, _⟩ => ⟨S2x2048x4096, .f32⟩
  | .hbm, ⟨3, _⟩ => ⟨S4096x1024, .f32⟩
  | .hbm, ⟨4, _⟩ => ⟨S4096x1024, .bf16⟩
  | .hbm, ⟨5, _⟩ => ⟨S4096x4096, .f32⟩
  | .hbm, ⟨6, _⟩ => ⟨S4096x4096, .bf16⟩
  | .hbm, ⟨7, _⟩ => ⟨S1024x4096, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .f32⟩
  | _, _ => ⟨S2x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 4, 4], ![false, false, false]⟩

def k0_cond3 (i : grid0.Coords) : BitVec 1 :=
  let arg2 : BitVec 32 := BitVec.ofNat 32 (i 2).val
  let c3_i32_6 : BitVec 32 := 3#32
  let v13 : BitVec 1 := Scalar.cmpi .eq arg2 c3_i32_6
  let v14 : BitVec 32 := Scalar.extui v13
  let c0_i32_7 : BitVec 32 := 0#32
  let v15 : BitVec 1 := Scalar.cmpi .ne v14 c0_i32_7
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== LastInWReferenceIdeal.lean ====
abbrev S2x2048x1024 : Shape := ⟨3, ![2, 2048, 1024]⟩
abbrev S1024x4096 : Shape := ⟨2, ![1024, 4096]⟩
abbrev S2x2048x4096 : Shape := ⟨3, ![2, 2048, 4096]⟩
abbrev S4096x1024 : Shape := ⟨2, ![4096, 1024]⟩

abbrev nBuf : Space → Nat
  | .hbm => 8
  | .vmem => 0
  | .smem => 0
  | _ => 0

abbrev bufTy : (tb : Table) → Fin (tcTables nBuf tb) → BufTy
  | .hbm, ⟨0, _⟩ => ⟨S2x2048x1024, .f32⟩
  | .hbm, ⟨1, _⟩ => ⟨S1024x4096, .f32⟩
  | .hbm, ⟨2, _⟩ => ⟨S2x2048x4096, .f32⟩
  | .hbm, ⟨3, _⟩ => ⟨S2x2048x4096, .f32⟩
  | .hbm, ⟨4, _⟩ => ⟨S4096x1024, .f32⟩
  | .hbm, ⟨5, _⟩ => ⟨S1024x4096, .f32⟩
  | .hbm, ⟨6, _⟩ => ⟨S2x2048x1024, .f32⟩
  | .hbm, ⟨7, _⟩ => ⟨S1024x4096, .bf16⟩
  | _, _ => ⟨S2x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== LastOut.lean ====
abbrev S2x2048x4096 : Shape := ⟨3, ![2, 2048, 4096]⟩
abbrev S4096x1024 : Shape := ⟨2, ![4096, 1024]⟩
abbrev S4096x4096 : Shape := ⟨2, ![4096, 4096]⟩
abbrev S1024x1024 : Shape := ⟨2, ![1024, 1024]⟩

abbrev nBuf : Space → Nat
  | .hbm => 6
  | .vmem => 7
  | .smem => 0
  | _ => 0

abbrev bufTy : (tb : Table) → Fin (tcTables nBuf tb) → BufTy
  | .hbm, ⟨0, _⟩ => ⟨S2x2048x4096, .f32⟩
  | .hbm, ⟨1, _⟩ => ⟨S4096x1024, .f32⟩
  | .hbm, ⟨2, _⟩ => ⟨S4096x4096, .f32⟩
  | .hbm, ⟨3, _⟩ => ⟨S4096x4096, .bf16⟩
  | .hbm, ⟨4, _⟩ => ⟨S4096x1024, .bf16⟩
  | .hbm, ⟨5, _⟩ => ⟨S4096x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S2x2048x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 1, 4], ![false, false, false]⟩

def k0_cond3 (i : grid0.Coords) : BitVec 1 :=
  let arg2 : BitVec 32 := BitVec.ofNat 32 (i 2).val
  let c3_i32_6 : BitVec 32 := 3#32
  let v13 : BitVec 1 := Scalar.cmpi .eq arg2 c3_i32_6
  let v14 : BitVec 32 := Scalar.extui v13
  let c0_i32_7 : BitVec 32 := 0#32
  let v15 : BitVec 1 := Scalar.cmpi .ne v14 c0_i32_7
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== LastOutIdeal.lean ====
abbrev S2x2048x4096 : Shape := ⟨3, ![2, 2048, 4096]⟩
abbrev S4096x1024 : Shape := ⟨2, ![4096, 1024]⟩
abbrev S4096x4096 : Shape := ⟨2, ![4096, 4096]⟩
abbrev S1024x1024 : Shape := ⟨2, ![1024, 1024]⟩

abbrev nBuf : Space → Nat
  | .hbm => 6
  | .vmem => 7
  | .smem => 0
  | _ => 0

abbrev bufTy : (tb : Table) → Fin (tcTables nBuf tb) → BufTy
  | .hbm, ⟨0, _⟩ => ⟨S2x2048x4096, .f32⟩
  | .hbm, ⟨1, _⟩ => ⟨S4096x1024, .f32⟩
  | .hbm, ⟨2, _⟩ => ⟨S4096x4096, .f32⟩
  | .hbm, ⟨3, _⟩ => ⟨S4096x4096, .bf16⟩
  | .hbm, ⟨4, _⟩ => ⟨S4096x1024, .bf16⟩
  | .hbm, ⟨5, _⟩ => ⟨S4096x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S2x2048x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 1, 4], ![false, false, false]⟩

def k0_cond3 (i : grid0.Coords) : BitVec 1 :=
  let arg2 : BitVec 32 := BitVec.ofNat 32 (i 2).val
  let c3_i32_6 : BitVec 32 := 3#32
  let v13 : BitVec 1 := Scalar.cmpi .eq arg2 c3_i32_6
  let v14 : BitVec 32 := Scalar.extui v13
  let c0_i32_7 : BitVec 32 := 0#32
  let v15 : BitVec 1 := Scalar.cmpi .ne v14 c0_i32_7
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== LastOutReferenceIdeal.lean ====
abbrev S2x2048x4096 : Shape := ⟨3, ![2, 2048, 4096]⟩
abbrev S4096x1024 : Shape := ⟨2, ![4096, 1024]⟩
abbrev S2x2048x1024 : Shape := ⟨3, ![2, 2048, 1024]⟩

abbrev nBuf : Space → Nat
  | .hbm => 4
  | .vmem => 0
  | .smem => 0
  | _ => 0

abbrev bufTy : (tb : Table) → Fin (tcTables nBuf tb) → BufTy
  | .hbm, ⟨0, _⟩ => ⟨S2x2048x4096, .f32⟩
  | .hbm, ⟨1, _⟩ => ⟨S4096x1024, .f32⟩
  | .hbm, ⟨2, _⟩ => ⟨S2x2048x1024, .f32⟩
  | .hbm, ⟨3, _⟩ => ⟨S4096x1024, .f32⟩
  | _, _ => ⟨S2x2048x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== LastOutW.lean ====
abbrev S2x2048x4096 : Shape := ⟨3, ![2, 2048, 4096]⟩
abbrev S4096x1024 : Shape := ⟨2, ![4096, 1024]⟩
abbrev S2x2048x1024 : Shape := ⟨3, ![2, 2048, 1024]⟩
abbrev S4096x4096 : Shape := ⟨2, ![4096, 4096]⟩
abbrev S1024x1024 : Shape := ⟨2, ![1024, 1024]⟩

abbrev nBuf : Space → Nat
  | .hbm => 8
  | .vmem => 7
  | .smem => 0
  | _ => 0

abbrev bufTy : (tb : Table) → Fin (tcTables nBuf tb) → BufTy
  | .hbm, ⟨0, _⟩ => ⟨S2x2048x4096, .f32⟩
  | .hbm, ⟨1, _⟩ => ⟨S4096x1024, .f32⟩
  | .hbm, ⟨2, _⟩ => ⟨S2x2048x1024, .f32⟩
  | .hbm, ⟨3, _⟩ => ⟨S4096x4096, .f32⟩
  | .hbm, ⟨4, _⟩ => ⟨S4096x4096, .bf16⟩
  | .hbm, ⟨5, _⟩ => ⟨S4096x1024, .f32⟩
  | .hbm, ⟨6, _⟩ => ⟨S4096x1024, .bf16⟩
  | .hbm, ⟨7, _⟩ => ⟨S4096x1024, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .f32⟩
  | _, _ => ⟨S2x2048x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 1, 4], ![false, false, false]⟩

def k0_cond3 (i : grid0.Coords) : BitVec 1 :=
  let arg2 : BitVec 32 := BitVec.ofNat 32 (i 2).val
  let c3_i32_6 : BitVec 32 := 3#32
  let v13 : BitVec 1 := Scalar.cmpi .eq arg2 c3_i32_6
  let v14 : BitVec 32 := Scalar.extui v13
  let c0_i32_7 : BitVec 32 := 0#32
  let v15 : BitVec 1 := Scalar.cmpi .ne v14 c0_i32_7
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== LastOutWIdeal.lean ====
abbrev S2x2048x4096 : Shape := ⟨3, ![2, 2048, 4096]⟩
abbrev S4096x1024 : Shape := ⟨2, ![4096, 1024]⟩
abbrev S2x2048x1024 : Shape := ⟨3, ![2, 2048, 1024]⟩
abbrev S4096x4096 : Shape := ⟨2, ![4096, 4096]⟩
abbrev S1024x1024 : Shape := ⟨2, ![1024, 1024]⟩

abbrev nBuf : Space → Nat
  | .hbm => 8
  | .vmem => 7
  | .smem => 0
  | _ => 0

abbrev bufTy : (tb : Table) → Fin (tcTables nBuf tb) → BufTy
  | .hbm, ⟨0, _⟩ => ⟨S2x2048x4096, .f32⟩
  | .hbm, ⟨1, _⟩ => ⟨S4096x1024, .f32⟩
  | .hbm, ⟨2, _⟩ => ⟨S2x2048x1024, .f32⟩
  | .hbm, ⟨3, _⟩ => ⟨S4096x4096, .f32⟩
  | .hbm, ⟨4, _⟩ => ⟨S4096x4096, .bf16⟩
  | .hbm, ⟨5, _⟩ => ⟨S4096x1024, .f32⟩
  | .hbm, ⟨6, _⟩ => ⟨S4096x1024, .bf16⟩
  | .hbm, ⟨7, _⟩ => ⟨S4096x1024, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .f32⟩
  | _, _ => ⟨S2x2048x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 1, 4], ![false, false, false]⟩

def k0_cond3 (i : grid0.Coords) : BitVec 1 :=
  let arg2 : BitVec 32 := BitVec.ofNat 32 (i 2).val
  let c3_i32_6 : BitVec 32 := 3#32
  let v13 : BitVec 1 := Scalar.cmpi .eq arg2 c3_i32_6
  let v14 : BitVec 32 := Scalar.extui v13
  let c0_i32_7 : BitVec 32 := 0#32
  let v15 : BitVec 1 := Scalar.cmpi .ne v14 c0_i32_7
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== LastOutWReferenceIdeal.lean ====
abbrev S2x2048x4096 : Shape := ⟨3, ![2, 2048, 4096]⟩
abbrev S4096x1024 : Shape := ⟨2, ![4096, 1024]⟩
abbrev S2x2048x1024 : Shape := ⟨3, ![2, 2048, 1024]⟩
abbrev S1024x4096 : Shape := ⟨2, ![1024, 4096]⟩

abbrev nBuf : Space → Nat
  | .hbm => 8
  | .vmem => 0
  | .smem => 0
  | _ => 0

abbrev bufTy : (tb : Table) → Fin (tcTables nBuf tb) → BufTy
  | .hbm, ⟨0, _⟩ => ⟨S2x2048x4096, .f32⟩
  | .hbm, ⟨1, _⟩ => ⟨S4096x1024, .f32⟩
  | .hbm, ⟨2, _⟩ => ⟨S2x2048x1024, .f32⟩
  | .hbm, ⟨3, _⟩ => ⟨S2x2048x1024, .f32⟩
  | .hbm, ⟨4, _⟩ => ⟨S1024x4096, .f32⟩
  | .hbm, ⟨5, _⟩ => ⟨S4096x1024, .f32⟩
  | .hbm, ⟨6, _⟩ => ⟨S2x2048x4096, .f32⟩
  | .hbm, ⟨7, _⟩ => ⟨S4096x1024, .bf16⟩
  | _, _ => ⟨S2x2048x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== EvenIn.lean ====
abbrev S2x2304x1024 : Shape := ⟨3, ![2, 2304, 1024]⟩
abbrev S1024x1536 : Shape := ⟨2, ![1024, 1536]⟩
abbrev S4608x1024 : Shape := ⟨2, ![4608, 1024]⟩
abbrev S4608x1536 : Shape := ⟨2, ![4608, 1536]⟩
abbrev S768x1024 : Shape := ⟨2, ![768, 1024]⟩
abbrev S768x1536 : Shape := ⟨2, ![768, 1536]⟩

abbrev nBuf : Space → Nat
  | .hbm => 6
  | .vmem => 5
  | .smem => 0
  | _ => 0

abbrev bufTy : (tb : Table) → Fin (tcTables nBuf tb) → BufTy
  | .hbm, ⟨0, _⟩ => ⟨S2x2304x1024, .f32⟩
  | .hbm, ⟨1, _⟩ => ⟨S1024x1536, .f32⟩
  | .hbm, ⟨2, _⟩ => ⟨S4608x1024, .f32⟩
  | .hbm, ⟨3, _⟩ => ⟨S4608x1024, .bf16⟩
  | .hbm, ⟨4, _⟩ => ⟨S1024x1536, .bf16⟩
  | .hbm, ⟨5, _⟩ => ⟨S4608x1536, .f32⟩
  | .local _ .vmem, ⟨0, _⟩ => ⟨S768x1024, .bf16⟩
  | .local _ .vmem, ⟨1, _⟩ => ⟨S768x1024, .bf16⟩
  | .local _ .vmem, ⟨2, _⟩ => ⟨S1024x1536, .bf16⟩
  | .local _ .vmem, ⟨3, _⟩ => ⟨S768x1536, .f32⟩
  | .local _ .vmem, ⟨4, _⟩ => ⟨S768x1536, .f32⟩
  | _, _ => ⟨S2x2304x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![6, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S768x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1536 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S768x1536 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== EvenInIdeal.lean ====
abbrev S2x2304x1024 : Shape := ⟨3, ![2, 2304, 1024]⟩
abbrev S1024x1536 : Shape := ⟨2, ![1024, 1536]⟩
abbrev S4608x1024 : Shape := ⟨2, ![4608, 1024]⟩
abbrev S4608x1536 : Shape := ⟨2, ![4608, 1536]⟩
abbrev S768x1024 : Shape := ⟨2, ![768, 1024]⟩
abbrev S768x1536 : Shape := ⟨2, ![768, 1536]⟩

abbrev nBuf : Space → Nat
  | .hbm => 6
  | .vmem => 5
  | .smem => 0
  | _ => 0

abbrev bufTy : (tb : Table) → Fin (tcTables nBuf tb) → BufTy
  | .hbm, ⟨0, _⟩ => ⟨S2x2304x1024, .f32⟩
  | .hbm, ⟨1, _⟩ => ⟨S1024x1536, .f32⟩
  | .hbm, ⟨2, _⟩ => ⟨S4608x1024, .f32⟩
  | .hbm, ⟨3, _⟩ => ⟨S4608x1024, .bf16⟩
  | .hbm, ⟨4, _⟩ => ⟨S1024x1536, .bf16⟩
  | .hbm, ⟨5, _⟩ => ⟨S4608x1536, .f32⟩
  | .local _ .vmem, ⟨0, _⟩ => ⟨S768x1024, .bf16⟩
  | .local _ .vmem, ⟨1, _⟩ => ⟨S768x1024, .bf16⟩
  | .local _ .vmem, ⟨2, _⟩ => ⟨S1024x1536, .bf16⟩
  | .local _ .vmem, ⟨3, _⟩ => ⟨S768x1536, .f32⟩
  | .local _ .vmem, ⟨4, _⟩ => ⟨S768x1536, .f32⟩
  | _, _ => ⟨S2x2304x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![6, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S768x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1536 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S768x1536 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== EvenInReferenceIdeal.lean ====
abbrev S2x2304x1024 : Shape := ⟨3, ![2, 2304, 1024]⟩
abbrev S1024x1536 : Shape := ⟨2, ![1024, 1536]⟩
abbrev S2x2304x1536 : Shape := ⟨3, ![2, 2304, 1536]⟩
abbrev S4608x1536 : Shape := ⟨2, ![4608, 1536]⟩

abbrev nBuf : Space → Nat
  | .hbm => 4
  | .vmem => 0
  | .smem => 0
  | _ => 0

abbrev bufTy : (tb : Table) → Fin (tcTables nBuf tb) → BufTy
  | .hbm, ⟨0, _⟩ => ⟨S2x2304x1024, .f32⟩
  | .hbm, ⟨1, _⟩ => ⟨S1024x1536, .f32⟩
  | .hbm, ⟨2, _⟩ => ⟨S2x2304x1536, .f32⟩
  | .hbm, ⟨3, _⟩ => ⟨S4608x1536, .f32⟩
  | _, _ => ⟨S2x2304x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== EvenInT.lean ====
abbrev S2x2304x1024 : Shape := ⟨3, ![2, 2304, 1024]⟩
abbrev S1024x1536 : Shape := ⟨2, ![1024, 1536]⟩
abbrev S2x2304x1536 : Shape := ⟨3, ![2, 2304, 1536]⟩
abbrev S4608x1536 : Shape := ⟨2, ![4608, 1536]⟩
abbrev S4608x1024 : Shape := ⟨2, ![4608, 1024]⟩
abbrev S1536x1536 : Shape := ⟨2, ![1536, 1536]⟩
abbrev S1536x1024 : Shape := ⟨2, ![1536, 1024]⟩

abbrev nBuf : Space → Nat
  | .hbm => 7
  | .vmem => 5
  | .smem => 0
  | _ => 0

abbrev bufTy : (tb : Table) → Fin (tcTables nBuf tb) → BufTy
  | .hbm, ⟨0, _⟩ => ⟨S2x2304x1024, .f32⟩
  | .hbm, ⟨1, _⟩ => ⟨S1024x1536, .f32⟩
  | .hbm, ⟨2, _⟩ => ⟨S2x2304x1536, .f32⟩
  | .hbm, ⟨3, _⟩ => ⟨S4608x1536, .f32⟩
  | .hbm, ⟨4, _⟩ => ⟨S4608x1536, .bf16⟩
  | .hbm, ⟨5, _⟩ => ⟨S1024x1536, .bf16⟩
  | .hbm, ⟨6, _⟩ => ⟨S4608x1024, .f32⟩
  | .local _ .vmem, ⟨0, _⟩ => ⟨S1536x1536, .bf16⟩
  | .local _ .vmem, ⟨1, _⟩ => ⟨S1536x1536, .bf16⟩
  | .local _ .vmem, ⟨2, _⟩ => ⟨S1024x1536, .bf16⟩
  | .local _ .vmem, ⟨3, _⟩ => ⟨S1536x1024, .f32⟩
  | .local _ .vmem, ⟨4, _⟩ => ⟨S1536x1024, .f32⟩
  | _, _ => ⟨S2x2304x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![3, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1536x1536 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1536 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1536x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== EvenInTIdeal.lean ====
abbrev S2x2304x1024 : Shape := ⟨3, ![2, 2304, 1024]⟩
abbrev S1024x1536 : Shape := ⟨2, ![1024, 1536]⟩
abbrev S2x2304x1536 : Shape := ⟨3, ![2, 2304, 1536]⟩
abbrev S4608x1536 : Shape := ⟨2, ![4608, 1536]⟩
abbrev S4608x1024 : Shape := ⟨2, ![4608, 1024]⟩
abbrev S1536x1536 : Shape := ⟨2, ![1536, 1536]⟩
abbrev S1536x1024 : Shape := ⟨2, ![1536, 1024]⟩

abbrev nBuf : Space → Nat
  | .hbm => 7
  | .vmem => 5
  | .smem => 0
  | _ => 0

abbrev bufTy : (tb : Table) → Fin (tcTables nBuf tb) → BufTy
  | .hbm, ⟨0, _⟩ => ⟨S2x2304x1024, .f32⟩
  | .hbm, ⟨1, _⟩ => ⟨S1024x1536, .f32⟩
  | .hbm, ⟨2, _⟩ => ⟨S2x2304x1536, .f32⟩
  | .hbm, ⟨3, _⟩ => ⟨S4608x1536, .f32⟩
  | .hbm, ⟨4, _⟩ => ⟨S4608x1536, .bf16⟩
  | .hbm, ⟨5, _⟩ => ⟨S1024x1536, .bf16⟩
  | .hbm, ⟨6, _⟩ => ⟨S4608x1024, .f32⟩
  | .local _ .vmem, ⟨0, _⟩ => ⟨S1536x1536, .bf16⟩
  | .local _ .vmem, ⟨1, _⟩ => ⟨S1536x1536, .bf16⟩
  | .local _ .vmem, ⟨2, _⟩ => ⟨S1024x1536, .bf16⟩
  | .local _ .vmem, ⟨3, _⟩ => ⟨S1536x1024, .f32⟩
  | .local _ .vmem, ⟨4, _⟩ => ⟨S1536x1024, .f32⟩
  | _, _ => ⟨S2x2304x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![3, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1536x1536 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1536 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1536x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== EvenInTReferenceIdeal.lean ====
abbrev S2x2304x1024 : Shape := ⟨3, ![2, 2304, 1024]⟩
abbrev S1024x1536 : Shape := ⟨2, ![1024, 1536]⟩
abbrev S2x2304x1536 : Shape := ⟨3, ![2, 2304, 1536]⟩
abbrev S1536x1024 : Shape := ⟨2, ![1536, 1024]⟩
abbrev S4608x1024 : Shape := ⟨2, ![4608, 1024]⟩

abbrev nBuf : Space → Nat
  | .hbm => 8
  | .vmem => 0
  | .smem => 0
  | _ => 0

abbrev bufTy : (tb : Table) → Fin (tcTables nBuf tb) → BufTy
  | .hbm, ⟨0, _⟩ => ⟨S2x2304x1024, .f32⟩
  | .hbm, ⟨1, _⟩ => ⟨S1024x1536, .f32⟩
  | .hbm, ⟨2, _⟩ => ⟨S2x2304x1536, .f32⟩
  | .hbm, ⟨3, _⟩ => ⟨S2x2304x1536, .f32⟩
  | .hbm, ⟨4, _⟩ => ⟨S1536x1024, .f32⟩
  | .hbm, ⟨5, _⟩ => ⟨S1024x1536, .f32⟩
  | .hbm, ⟨6, _⟩ => ⟨S2x2304x1024, .f32⟩
  | .hbm, ⟨7, _⟩ => ⟨S4608x1024, .f32⟩
  | _, _ => ⟨S2x2304x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== EvenInW.lean ====
abbrev S2x2304x1024 : Shape := ⟨3, ![2, 2304, 1024]⟩
abbrev S1024x1536 : Shape := ⟨2, ![1024, 1536]⟩
abbrev S2x2304x1536 : Shape := ⟨3, ![2, 2304, 1536]⟩
abbrev S4608x1024 : Shape := ⟨2, ![4608, 1024]⟩
abbrev S4608x1536 : Shape := ⟨2, ![4608, 1536]⟩
abbrev S1536x1024 : Shape := ⟨2, ![1536, 1024]⟩
abbrev S1536x768 : Shape := ⟨2, ![1536, 768]⟩
abbrev S1024x768 : Shape := ⟨2, ![1024, 768]⟩

abbrev nBuf : Space → Nat
  | .hbm => 8
  | .vmem => 7
  | .smem => 0
  | _ => 0

abbrev bufTy : (tb : Table) → Fin (tcTables nBuf tb) → BufTy
  | .hbm, ⟨0, _⟩ => ⟨S2x2304x1024, .f32⟩
  | .hbm, ⟨1, _⟩ => ⟨S1024x1536, .f32⟩
  | .hbm, ⟨2, _⟩ => ⟨S2x2304x1536, .f32⟩
  | .hbm, ⟨3, _⟩ => ⟨S4608x1024, .f32⟩
  | .hbm, ⟨4, _⟩ => ⟨S4608x1024, .bf16⟩
  | .hbm, ⟨5, _⟩ => ⟨S4608x1536, .f32⟩
  | .hbm, ⟨6, _⟩ => ⟨S4608x1536, .bf16⟩
  | .hbm, ⟨7, _⟩ => ⟨S1024x1536, .bf16⟩
  | .local _ .vmem, ⟨0, _⟩ => ⟨S1536x1024, .bf16⟩
  | .local _ .vmem, ⟨1, _⟩ => ⟨S1536x1024, .bf16⟩
  | .local _ .vmem, ⟨2, _⟩ => ⟨S1536x768, .bf16⟩
  | .local _ .vmem, ⟨3, _⟩ => ⟨S1536x768, .bf16⟩
  | .local _ .vmem, ⟨4, _⟩ => ⟨S1024x768, .bf16⟩
  | .local _ .vmem, ⟨5, _⟩ => ⟨S1024x768, .bf16⟩
  | .local _ .vmem, ⟨6, _⟩ => ⟨S1024x768, .f32⟩
  | _, _ => ⟨S2x2304x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 2, 3], ![false, false, false]⟩

def k0_cond3 (i : grid0.Coords) : BitVec 1 :=
  let arg2 : BitVec 32 := BitVec.ofNat 32 (i 2).val
  let c2_i32_6 : BitVec 32 := 2#32
  let v13 : BitVec 1 := Scalar.cmpi .eq arg2 c2_i32_6
  let v14 : BitVec 32 := Scalar.extui v13
  let c0_i32_7 : BitVec 32 := 0#32
  let v15 : BitVec 1 := Scalar.cmpi .ne v14 c0_i32_7
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1536x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1536x768 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x768 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== EvenInWIdeal.lean ====
abbrev S2x2304x1024 : Shape := ⟨3, ![2, 2304, 1024]⟩
abbrev S1024x1536 : Shape := ⟨2, ![1024, 1536]⟩
abbrev S2x2304x1536 : Shape := ⟨3, ![2, 2304, 1536]⟩
abbrev S4608x1024 : Shape := ⟨2, ![4608, 1024]⟩
abbrev S4608x1536 : Shape := ⟨2, ![4608, 1536]⟩
abbrev S1536x1024 : Shape := ⟨2, ![1536, 1024]⟩
abbrev S1536x768 : Shape := ⟨2, ![1536, 768]⟩
abbrev S1024x768 : Shape := ⟨2, ![1024, 768]⟩

abbrev nBuf : Space → Nat
  | .hbm => 8
  | .vmem => 7
  | .smem => 0
  | _ => 0

abbrev bufTy : (tb : Table) → Fin (tcTables nBuf tb) → BufTy
  | .hbm, ⟨0, _⟩ => ⟨S2x2304x1024, .f32⟩
  | .hbm, ⟨1, _⟩ => ⟨S1024x1536, .f32⟩
  | .hbm, ⟨2, _⟩ => ⟨S2x2304x1536, .f32⟩
  | .hbm, ⟨3, _⟩ => ⟨S4608x1024, .f32⟩
  | .hbm, ⟨4, _⟩ => ⟨S4608x1024, .bf16⟩
  | .hbm, ⟨5, _⟩ => ⟨S4608x1536, .f32⟩
  | .hbm, ⟨6, _⟩ => ⟨S4608x1536, .bf16⟩
  | .hbm, ⟨7, _⟩ => ⟨S1024x1536, .bf16⟩
  | .local _ .vmem, ⟨0, _⟩ => ⟨S1536x1024, .bf16⟩
  | .local _ .vmem, ⟨1, _⟩ => ⟨S1536x1024, .bf16⟩
  | .local _ .vmem, ⟨2, _⟩ => ⟨S1536x768, .bf16⟩
  | .local _ .vmem, ⟨3, _⟩ => ⟨S1536x768, .bf16⟩
  | .local _ .vmem, ⟨4, _⟩ => ⟨S1024x768, .bf16⟩
  | .local _ .vmem, ⟨5, _⟩ => ⟨S1024x768, .bf16⟩
  | .local _ .vmem, ⟨6, _⟩ => ⟨S1024x768, .f32⟩
  | _, _ => ⟨S2x2304x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 2, 3], ![false, false, false]⟩

def k0_cond3 (i : grid0.Coords) : BitVec 1 :=
  let arg2 : BitVec 32 := BitVec.ofNat 32 (i 2).val
  let c2_i32_6 : BitVec 32 := 2#32
  let v13 : BitVec 1 := Scalar.cmpi .eq arg2 c2_i32_6
  let v14 : BitVec 32 := Scalar.extui v13
  let c0_i32_7 : BitVec 32 := 0#32
  let v15 : BitVec 1 := Scalar.cmpi .ne v14 c0_i32_7
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1536x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1536x768 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x768 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== EvenInWReferenceIdeal.lean ====
abbrev S2x2304x1024 : Shape := ⟨3, ![2, 2304, 1024]⟩
abbrev S1024x1536 : Shape := ⟨2, ![1024, 1536]⟩
abbrev S2x2304x1536 : Shape := ⟨3, ![2, 2304, 1536]⟩
abbrev S1536x1024 : Shape := ⟨2, ![1536, 1024]⟩

abbrev nBuf : Space → Nat
  | .hbm => 8
  | .vmem => 0
  | .smem => 0
  | _ => 0

abbrev bufTy : (tb : Table) → Fin (tcTables nBuf tb) → BufTy
  | .hbm, ⟨0, _⟩ => ⟨S2x2304x1024, .f32⟩
  | .hbm, ⟨1, _⟩ => ⟨S1024x1536, .f32⟩
  | .hbm, ⟨2, _⟩ => ⟨S2x2304x1536, .f32⟩
  | .hbm, ⟨3, _⟩ => ⟨S2x2304x1536, .f32⟩
  | .hbm, ⟨4, _⟩ => ⟨S1536x1024, .f32⟩
  | .hbm, ⟨5, _⟩ => ⟨S1024x1536, .f32⟩
  | .hbm, ⟨6, _⟩ => ⟨S2x2304x1024, .f32⟩
  | .hbm, ⟨7, _⟩ => ⟨S1024x1536, .bf16⟩
  | _, _ => ⟨S2x2304x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== OddIn.lean ====
abbrev S2x2304x1024 : Shape := ⟨3, ![2, 2304, 1024]⟩
abbrev S1024x2560 : Shape := ⟨2, ![1024, 2560]⟩
abbrev S4608x1024 : Shape := ⟨2, ![4608, 1024]⟩
abbrev S4608x2560 : Shape := ⟨2, ![4608, 2560]⟩
abbrev S512x1024 : Shape := ⟨2, ![512, 1024]⟩
abbrev S512x2560 : Shape := ⟨2, ![512, 2560]⟩

abbrev nBuf : Space → Nat
  | .hbm => 6
  | .vmem => 5
  | .smem => 0
  | _ => 0

abbrev bufTy : (tb : Table) → Fin (tcTables nBuf tb) → BufTy
  | .hbm, ⟨0, _⟩ => ⟨S2x2304x1024, .f32⟩
  | .hbm, ⟨1, _⟩ => ⟨S1024x2560, .f32⟩
  | .hbm, ⟨2, _⟩ => ⟨S4608x1024, .f32⟩
  | .hbm, ⟨3, _⟩ => ⟨S4608x1024, .bf16⟩
  | .hbm, ⟨4, _⟩ => ⟨S1024x2560, .bf16⟩
  | .hbm, ⟨5, _⟩ => ⟨S4608x2560, .f32⟩
  | .local _ .vmem, ⟨0, _⟩ => ⟨S512x1024, .bf16⟩
  | .local _ .vmem, ⟨1, _⟩ => ⟨S512x1024, .bf16⟩
  | .local _ .vmem, ⟨2, _⟩ => ⟨S1024x2560, .bf16⟩
  | .local _ .vmem, ⟨3, _⟩ => ⟨S512x2560, .f32⟩
  | .local _ .vmem, ⟨4, _⟩ => ⟨S512x2560, .f32⟩
  | _, _ => ⟨S2x2304x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![9, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x2560 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S512x2560 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== OddInIdeal.lean ====
abbrev S2x2304x1024 : Shape := ⟨3, ![2, 2304, 1024]⟩
abbrev S1024x2560 : Shape := ⟨2, ![1024, 2560]⟩
abbrev S4608x1024 : Shape := ⟨2, ![4608, 1024]⟩
abbrev S4608x2560 : Shape := ⟨2, ![4608, 2560]⟩
abbrev S512x1024 : Shape := ⟨2, ![512, 1024]⟩
abbrev S512x2560 : Shape := ⟨2, ![512, 2560]⟩

abbrev nBuf : Space → Nat
  | .hbm => 6
  | .vmem => 5
  | .smem => 0
  | _ => 0

abbrev bufTy : (tb : Table) → Fin (tcTables nBuf tb) → BufTy
  | .hbm, ⟨0, _⟩ => ⟨S2x2304x1024, .f32⟩
  | .hbm, ⟨1, _⟩ => ⟨S1024x2560, .f32⟩
  | .hbm, ⟨2, _⟩ => ⟨S4608x1024, .f32⟩
  | .hbm, ⟨3, _⟩ => ⟨S4608x1024, .bf16⟩
  | .hbm, ⟨4, _⟩ => ⟨S1024x2560, .bf16⟩
  | .hbm, ⟨5, _⟩ => ⟨S4608x2560, .f32⟩
  | .local _ .vmem, ⟨0, _⟩ => ⟨S512x1024, .bf16⟩
  | .local _ .vmem, ⟨1, _⟩ => ⟨S512x1024, .bf16⟩
  | .local _ .vmem, ⟨2, _⟩ => ⟨S1024x2560, .bf16⟩
  | .local _ .vmem, ⟨3, _⟩ => ⟨S512x2560, .f32⟩
  | .local _ .vmem, ⟨4, _⟩ => ⟨S512x2560, .f32⟩
  | _, _ => ⟨S2x2304x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![9, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x2560 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S512x2560 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== OddInReferenceIdeal.lean ====
abbrev S2x2304x1024 : Shape := ⟨3, ![2, 2304, 1024]⟩
abbrev S1024x2560 : Shape := ⟨2, ![1024, 2560]⟩
abbrev S2x2304x2560 : Shape := ⟨3, ![2, 2304, 2560]⟩
abbrev S4608x2560 : Shape := ⟨2, ![4608, 2560]⟩

abbrev nBuf : Space → Nat
  | .hbm => 4
  | .vmem => 0
  | .smem => 0
  | _ => 0

abbrev bufTy : (tb : Table) → Fin (tcTables nBuf tb) → BufTy
  | .hbm, ⟨0, _⟩ => ⟨S2x2304x1024, .f32⟩
  | .hbm, ⟨1, _⟩ => ⟨S1024x2560, .f32⟩
  | .hbm, ⟨2, _⟩ => ⟨S2x2304x2560, .f32⟩
  | .hbm, ⟨3, _⟩ => ⟨S4608x2560, .f32⟩
  | _, _ => ⟨S2x2304x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== OddInT.lean ====
abbrev S2x2304x1024 : Shape := ⟨3, ![2, 2304, 1024]⟩
abbrev S1024x2560 : Shape := ⟨2, ![1024, 2560]⟩
abbrev S2x2304x2560 : Shape := ⟨3, ![2, 2304, 2560]⟩
abbrev S4608x2560 : Shape := ⟨2, ![4608, 2560]⟩
abbrev S4608x1024 : Shape := ⟨2, ![4608, 1024]⟩
abbrev S1536x2560 : Shape := ⟨2, ![1536, 2560]⟩
abbrev S1536x1024 : Shape := ⟨2, ![1536, 1024]⟩

abbrev nBuf : Space → Nat
  | .hbm => 7
  | .vmem => 5
  | .smem => 0
  | _ => 0

abbrev bufTy : (tb : Table) → Fin (tcTables nBuf tb) → BufTy
  | .hbm, ⟨0, _⟩ => ⟨S2x2304x1024, .f32⟩
  | .hbm, ⟨1, _⟩ => ⟨S1024x2560, .f32⟩
  | .hbm, ⟨2, _⟩ => ⟨S2x2304x2560, .f32⟩
  | .hbm, ⟨3, _⟩ => ⟨S4608x2560, .f32⟩
  | .hbm, ⟨4, _⟩ => ⟨S4608x2560, .bf16⟩
  | .hbm, ⟨5, _⟩ => ⟨S1024x2560, .bf16⟩
  | .hbm, ⟨6, _⟩ => ⟨S4608x1024, .f32⟩
  | .local _ .vmem, ⟨0, _⟩ => ⟨S1536x2560, .bf16⟩
  | .local _ .vmem, ⟨1, _⟩ => ⟨S1536x2560, .bf16⟩
  | .local _ .vmem, ⟨2, _⟩ => ⟨S1024x2560, .bf16⟩
  | .local _ .vmem, ⟨3, _⟩ => ⟨S1536x1024, .f32⟩
  | .local _ .vmem, ⟨4, _⟩ => ⟨S1536x1024, .f32⟩
  | _, _ => ⟨S2x2304x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![3, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1536x2560 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x2560 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1536x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== OddInTIdeal.lean ====
abbrev S2x2304x1024 : Shape := ⟨3, ![2, 2304, 1024]⟩
abbrev S1024x2560 : Shape := ⟨2, ![1024, 2560]⟩
abbrev S2x2304x2560 : Shape := ⟨3, ![2, 2304, 2560]⟩
abbrev S4608x2560 : Shape := ⟨2, ![4608, 2560]⟩
abbrev S4608x1024 : Shape := ⟨2, ![4608, 1024]⟩
abbrev S1536x2560 : Shape := ⟨2, ![1536, 2560]⟩
abbrev S1536x1024 : Shape := ⟨2, ![1536, 1024]⟩

abbrev nBuf : Space → Nat
  | .hbm => 7
  | .vmem => 5
  | .smem => 0
  | _ => 0

abbrev bufTy : (tb : Table) → Fin (tcTables nBuf tb) → BufTy
  | .hbm, ⟨0, _⟩ => ⟨S2x2304x1024, .f32⟩
  | .hbm, ⟨1, _⟩ => ⟨S1024x2560, .f32⟩
  | .hbm, ⟨2, _⟩ => ⟨S2x2304x2560, .f32⟩
  | .hbm, ⟨3, _⟩ => ⟨S4608x2560, .f32⟩
  | .hbm, ⟨4, _⟩ => ⟨S4608x2560, .bf16⟩
  | .hbm, ⟨5, _⟩ => ⟨S1024x2560, .bf16⟩
  | .hbm, ⟨6, _⟩ => ⟨S4608x1024, .f32⟩
  | .local _ .vmem, ⟨0, _⟩ => ⟨S1536x2560, .bf16⟩
  | .local _ .vmem, ⟨1, _⟩ => ⟨S1536x2560, .bf16⟩
  | .local _ .vmem, ⟨2, _⟩ => ⟨S1024x2560, .bf16⟩
  | .local _ .vmem, ⟨3, _⟩ => ⟨S1536x1024, .f32⟩
  | .local _ .vmem, ⟨4, _⟩ => ⟨S1536x1024, .f32⟩
  | _, _ => ⟨S2x2304x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![3, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1536x2560 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x2560 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1536x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== OddInTReferenceIdeal.lean ====
abbrev S2x2304x1024 : Shape := ⟨3, ![2, 2304, 1024]⟩
abbrev S1024x2560 : Shape := ⟨2, ![1024, 2560]⟩
abbrev S2x2304x2560 : Shape := ⟨3, ![2, 2304, 2560]⟩
abbrev S2560x1024 : Shape := ⟨2, ![2560, 1024]⟩
abbrev S4608x1024 : Shape := ⟨2, ![4608, 1024]⟩

abbrev nBuf : Space → Nat
  | .hbm => 8
  | .vmem => 0
  | .smem => 0
  | _ => 0

abbrev bufTy : (tb : Table) → Fin (tcTables nBuf tb) → BufTy
  | .hbm, ⟨0, _⟩ => ⟨S2x2304x1024, .f32⟩
  | .hbm, ⟨1, _⟩ => ⟨S1024x2560, .f32⟩
  | .hbm, ⟨2, _⟩ => ⟨S2x2304x2560, .f32⟩
  | .hbm, ⟨3, _⟩ => ⟨S2x2304x2560, .f32⟩
  | .hbm, ⟨4, _⟩ => ⟨S2560x1024, .f32⟩
  | .hbm, ⟨5, _⟩ => ⟨S1024x2560, .f32⟩
  | .hbm, ⟨6, _⟩ => ⟨S2x2304x1024, .f32⟩
  | .hbm, ⟨7, _⟩ => ⟨S4608x1024, .f32⟩
  | _, _ => ⟨S2x2304x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== OddInW.lean ====
abbrev S2x2304x1024 : Shape := ⟨3, ![2, 2304, 1024]⟩
abbrev S1024x2560 : Shape := ⟨2, ![1024, 2560]⟩
abbrev S2x2304x2560 : Shape := ⟨3, ![2, 2304, 2560]⟩
abbrev S4608x1024 : Shape := ⟨2, ![4608, 1024]⟩
abbrev S4608x2560 : Shape := ⟨2, ![4608, 2560]⟩
abbrev S1536x1024 : Shape := ⟨2, ![1536, 1024]⟩
abbrev S1536x512 : Shape := ⟨2, ![1536, 512]⟩
abbrev S1024x512 : Shape := ⟨2, ![1024, 512]⟩

abbrev nBuf : Space → Nat
  | .hbm => 8
  | .vmem => 7
  | .smem => 0
  | _ => 0

abbrev bufTy : (tb : Table) → Fin (tcTables nBuf tb) → BufTy
  | .hbm, ⟨0, _⟩ => ⟨S2x2304x1024, .f32⟩
  | .hbm, ⟨1, _⟩ => ⟨S1024x2560, .f32⟩
  | .hbm, ⟨2, _⟩ => ⟨S2x2304x2560, .f32⟩
  | .hbm, ⟨3, _⟩ => ⟨S4608x1024, .f32⟩
  | .hbm, ⟨4, _⟩ => ⟨S4608x1024, .bf16⟩
  | .hbm, ⟨5, _⟩ => ⟨S4608x2560, .f32⟩
  | .hbm, ⟨6, _⟩ => ⟨S4608x2560, .bf16⟩
  | .hbm, ⟨7, _⟩ => ⟨S1024x2560, .bf16⟩
  | .local _ .vmem, ⟨0, _⟩ => ⟨S1536x1024, .bf16⟩
  | .local _ .vmem, ⟨1, _⟩ => ⟨S1536x1024, .bf16⟩
  | .local _ .vmem, ⟨2, _⟩ => ⟨S1536x512, .bf16⟩
  | .local _ .vmem, ⟨3, _⟩ => ⟨S1536x512, .bf16⟩
  | .local _ .vmem, ⟨4, _⟩ => ⟨S1024x512, .bf16⟩
  | .local _ .vmem, ⟨5, _⟩ => ⟨S1024x512, .bf16⟩
  | .local _ .vmem, ⟨6, _⟩ => ⟨S1024x512, .f32⟩
  | _, _ => ⟨S2x2304x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 5, 3], ![false, false, false]⟩

def k0_cond3 (i : grid0.Coords) : BitVec 1 :=
  let arg2 : BitVec 32 := BitVec.ofNat 32 (i 2).val
  let c2_i32_6 : BitVec 32 := 2#32
  let v13 : BitVec 1 := Scalar.cmpi .eq arg2 c2_i32_6
  let v14 : BitVec 32 := Scalar.extui v13
  let c0_i32_7 : BitVec 32 := 0#32
  let v15 : BitVec 1 := Scalar.cmpi .ne v14 c0_i32_7
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1536x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1536x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== OddInWIdeal.lean ====
abbrev S2x2304x1024 : Shape := ⟨3, ![2, 2304, 1024]⟩
abbrev S1024x2560 : Shape := ⟨2, ![1024, 2560]⟩
abbrev S2x2304x2560 : Shape := ⟨3, ![2, 2304, 2560]⟩
abbrev S4608x1024 : Shape := ⟨2, ![4608, 1024]⟩
abbrev S4608x2560 : Shape := ⟨2, ![4608, 2560]⟩
abbrev S1536x1024 : Shape := ⟨2, ![1536, 1024]⟩
abbrev S1536x512 : Shape := ⟨2, ![1536, 512]⟩
abbrev S1024x512 : Shape := ⟨2, ![1024, 512]⟩

abbrev nBuf : Space → Nat
  | .hbm => 8
  | .vmem => 7
  | .smem => 0
  | _ => 0

abbrev bufTy : (tb : Table) → Fin (tcTables nBuf tb) → BufTy
  | .hbm, ⟨0, _⟩ => ⟨S2x2304x1024, .f32⟩
  | .hbm, ⟨1, _⟩ => ⟨S1024x2560, .f32⟩
  | .hbm, ⟨2, _⟩ => ⟨S2x2304x2560, .f32⟩
  | .hbm, ⟨3, _⟩ => ⟨S4608x1024, .f32⟩
  | .hbm, ⟨4, _⟩ => ⟨S4608x1024, .bf16⟩
  | .hbm, ⟨5, _⟩ => ⟨S4608x2560, .f32⟩
  | .hbm, ⟨6, _⟩ => ⟨S4608x2560, .bf16⟩
  | .hbm, ⟨7, _⟩ => ⟨S1024x2560, .bf16⟩
  | .local _ .vmem, ⟨0, _⟩ => ⟨S1536x1024, .bf16⟩
  | .local _ .vmem, ⟨1, _⟩ => ⟨S1536x1024, .bf16⟩
  | .local _ .vmem, ⟨2, _⟩ => ⟨S1536x512, .bf16⟩
  | .local _ .vmem, ⟨3, _⟩ => ⟨S1536x512, .bf16⟩
  | .local _ .vmem, ⟨4, _⟩ => ⟨S1024x512, .bf16⟩
  | .local _ .vmem, ⟨5, _⟩ => ⟨S1024x512, .bf16⟩
  | .local _ .vmem, ⟨6, _⟩ => ⟨S1024x512, .f32⟩
  | _, _ => ⟨S2x2304x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 5, 3], ![false, false, false]⟩

def k0_cond3 (i : grid0.Coords) : BitVec 1 :=
  let arg2 : BitVec 32 := BitVec.ofNat 32 (i 2).val
  let c2_i32_6 : BitVec 32 := 2#32
  let v13 : BitVec 1 := Scalar.cmpi .eq arg2 c2_i32_6
  let v14 : BitVec 32 := Scalar.extui v13
  let c0_i32_7 : BitVec 32 := 0#32
  let v15 : BitVec 1 := Scalar.cmpi .ne v14 c0_i32_7
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1536x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1536x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== OddInWReferenceIdeal.lean ====
abbrev S2x2304x1024 : Shape := ⟨3, ![2, 2304, 1024]⟩
abbrev S1024x2560 : Shape := ⟨2, ![1024, 2560]⟩
abbrev S2x2304x2560 : Shape := ⟨3, ![2, 2304, 2560]⟩
abbrev S2560x1024 : Shape := ⟨2, ![2560, 1024]⟩

abbrev nBuf : Space → Nat
  | .hbm => 8
  | .vmem => 0
  | .smem => 0
  | _ => 0

abbrev bufTy : (tb : Table) → Fin (tcTables nBuf tb) → BufTy
  | .hbm, ⟨0, _⟩ => ⟨S2x2304x1024, .f32⟩
  | .hbm, ⟨1, _⟩ => ⟨S1024x2560, .f32⟩
  | .hbm, ⟨2, _⟩ => ⟨S2x2304x2560, .f32⟩
  | .hbm, ⟨3, _⟩ => ⟨S2x2304x2560, .f32⟩
  | .hbm, ⟨4, _⟩ => ⟨S2560x1024, .f32⟩
  | .hbm, ⟨5, _⟩ => ⟨S1024x2560, .f32⟩
  | .hbm, ⟨6, _⟩ => ⟨S2x2304x1024, .f32⟩
  | .hbm, ⟨7, _⟩ => ⟨S1024x2560, .bf16⟩
  | _, _ => ⟨S2x2304x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== MlaQ.lean ====
abbrev S2x2304x512 : Shape := ⟨3, ![2, 2304, 512]⟩
abbrev S512x768 : Shape := ⟨2, ![512, 768]⟩
abbrev S4608x512 : Shape := ⟨2, ![4608, 512]⟩
abbrev S4608x768 : Shape := ⟨2, ![4608, 768]⟩
abbrev S1536x512 : Shape := ⟨2, ![1536, 512]⟩
abbrev S1536x768 : Shape := ⟨2, ![1536, 768]⟩

abbrev nBuf : Space → Nat
  | .hbm => 6
  | .vmem => 5
  | .smem => 0
  | _ => 0

abbrev bufTy : (tb : Table) → Fin (tcTables nBuf tb) → BufTy
  | .hbm, ⟨0, _⟩ => ⟨S2x2304x512, .f32⟩
  | .hbm, ⟨1, _⟩ => ⟨S512x768, .f32⟩
  | .hbm, ⟨2, _⟩ => ⟨S4608x512, .f32⟩
  | .hbm, ⟨3, _⟩ => ⟨S4608x512, .bf16⟩
  | .hbm, ⟨4, _⟩ => ⟨S512x768, .bf16⟩
  | .hbm, ⟨5, _⟩ => ⟨S4608x768, .f32⟩
  | .local _ .vmem, ⟨0, _⟩ => ⟨S1536x512, .bf16⟩
  | .local _ .vmem, ⟨1, _⟩ => ⟨S1536x512, .bf16⟩
  | .local _ .vmem, ⟨2, _⟩ => ⟨S512x768, .bf16⟩
  | .local _ .vmem, ⟨3, _⟩ => ⟨S1536x768, .f32⟩
  | .local _ .vmem, ⟨4, _⟩ => ⟨S1536x768, .f32⟩
  | _, _ => ⟨S2x2304x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![3, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1536x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S512x768 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1536x768 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== MlaQIdeal.lean ====
abbrev S2x2304x512 : Shape := ⟨3, ![2, 2304, 512]⟩
abbrev S512x768 : Shape := ⟨2, ![512, 768]⟩
abbrev S4608x512 : Shape := ⟨2, ![4608, 512]⟩
abbrev S4608x768 : Shape := ⟨2, ![4608, 768]⟩
abbrev S1536x512 : Shape := ⟨2, ![1536, 512]⟩
abbrev S1536x768 : Shape := ⟨2, ![1536, 768]⟩

abbrev nBuf : Space → Nat
  | .hbm => 6
  | .vmem => 5
  | .smem => 0
  | _ => 0

abbrev bufTy : (tb : Table) → Fin (tcTables nBuf tb) → BufTy
  | .hbm, ⟨0, _⟩ => ⟨S2x2304x512, .f32⟩
  | .hbm, ⟨1, _⟩ => ⟨S512x768, .f32⟩
  | .hbm, ⟨2, _⟩ => ⟨S4608x512, .f32⟩
  | .hbm, ⟨3, _⟩ => ⟨S4608x512, .bf16⟩
  | .hbm, ⟨4, _⟩ => ⟨S512x768, .bf16⟩
  | .hbm, ⟨5, _⟩ => ⟨S4608x768, .f32⟩
  | .local _ .vmem, ⟨0, _⟩ => ⟨S1536x512, .bf16⟩
  | .local _ .vmem, ⟨1, _⟩ => ⟨S1536x512, .bf16⟩
  | .local _ .vmem, ⟨2, _⟩ => ⟨S512x768, .bf16⟩
  | .local _ .vmem, ⟨3, _⟩ => ⟨S1536x768, .f32⟩
  | .local _ .vmem, ⟨4, _⟩ => ⟨S1536x768, .f32⟩
  | _, _ => ⟨S2x2304x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![3, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1536x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S512x768 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1536x768 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== MlaQReferenceIdeal.lean ====
abbrev S2x2304x512 : Shape := ⟨3, ![2, 2304, 512]⟩
abbrev S512x768 : Shape := ⟨2, ![512, 768]⟩
abbrev S2x2304x768 : Shape := ⟨3, ![2, 2304, 768]⟩
abbrev S4608x768 : Shape := ⟨2, ![4608, 768]⟩

abbrev nBuf : Space → Nat
  | .hbm => 4
  | .vmem => 0
  | .smem => 0
  | _ => 0

abbrev bufTy : (tb : Table) → Fin (tcTables nBuf tb) → BufTy
  | .hbm, ⟨0, _⟩ => ⟨S2x2304x512, .f32⟩
  | .hbm, ⟨1, _⟩ => ⟨S512x768, .f32⟩
  | .hbm, ⟨2, _⟩ => ⟨S2x2304x768, .f32⟩
  | .hbm, ⟨3, _⟩ => ⟨S4608x768, .f32⟩
  | _, _ => ⟨S2x2304x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== MlaQT.lean ====
abbrev S2x2304x512 : Shape := ⟨3, ![2, 2304, 512]⟩
abbrev S512x768 : Shape := ⟨2, ![512, 768]⟩
abbrev S2x2304x768 : Shape := ⟨3, ![2, 2304, 768]⟩
abbrev S4608x768 : Shape := ⟨2, ![4608, 768]⟩
abbrev S4608x512 : Shape := ⟨2, ![4608, 512]⟩
abbrev S1536x768 : Shape := ⟨2, ![1536, 768]⟩
abbrev S1536x512 : Shape := ⟨2, ![1536, 512]⟩

abbrev nBuf : Space → Nat
  | .hbm => 7
  | .vmem => 5
  | .smem => 0
  | _ => 0

abbrev bufTy : (tb : Table) → Fin (tcTables nBuf tb) → BufTy
  | .hbm, ⟨0, _⟩ => ⟨S2x2304x512, .f32⟩
  | .hbm, ⟨1, _⟩ => ⟨S512x768, .f32⟩
  | .hbm, ⟨2, _⟩ => ⟨S2x2304x768, .f32⟩
  | .hbm, ⟨3, _⟩ => ⟨S4608x768, .f32⟩
  | .hbm, ⟨4, _⟩ => ⟨S4608x768, .bf16⟩
  | .hbm, ⟨5, _⟩ => ⟨S512x768, .bf16⟩
  | .hbm, ⟨6, _⟩ => ⟨S4608x512, .f32⟩
  | .local _ .vmem, ⟨0, _⟩ => ⟨S1536x768, .bf16⟩
  | .local _ .vmem, ⟨1, _⟩ => ⟨S1536x768, .bf16⟩
  | .local _ .vmem, ⟨2, _⟩ => ⟨S512x768, .bf16⟩
  | .local _ .vmem, ⟨3, _⟩ => ⟨S1536x512, .f32⟩
  | .local _ .vmem, ⟨4, _⟩ => ⟨S1536x512, .f32⟩
  | _, _ => ⟨S2x2304x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![3, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1536x768 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S512x768 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1536x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== MlaQTIdeal.lean ====
abbrev S2x2304x512 : Shape := ⟨3, ![2, 2304, 512]⟩
abbrev S512x768 : Shape := ⟨2, ![512, 768]⟩
abbrev S2x2304x768 : Shape := ⟨3, ![2, 2304, 768]⟩
abbrev S4608x768 : Shape := ⟨2, ![4608, 768]⟩
abbrev S4608x512 : Shape := ⟨2, ![4608, 512]⟩
abbrev S1536x768 : Shape := ⟨2, ![1536, 768]⟩
abbrev S1536x512 : Shape := ⟨2, ![1536, 512]⟩

abbrev nBuf : Space → Nat
  | .hbm => 7
  | .vmem => 5
  | .smem => 0
  | _ => 0

abbrev bufTy : (tb : Table) → Fin (tcTables nBuf tb) → BufTy
  | .hbm, ⟨0, _⟩ => ⟨S2x2304x512, .f32⟩
  | .hbm, ⟨1, _⟩ => ⟨S512x768, .f32⟩
  | .hbm, ⟨2, _⟩ => ⟨S2x2304x768, .f32⟩
  | .hbm, ⟨3, _⟩ => ⟨S4608x768, .f32⟩
  | .hbm, ⟨4, _⟩ => ⟨S4608x768, .bf16⟩
  | .hbm, ⟨5, _⟩ => ⟨S512x768, .bf16⟩
  | .hbm, ⟨6, _⟩ => ⟨S4608x512, .f32⟩
  | .local _ .vmem, ⟨0, _⟩ => ⟨S1536x768, .bf16⟩
  | .local _ .vmem, ⟨1, _⟩ => ⟨S1536x768, .bf16⟩
  | .local _ .vmem, ⟨2, _⟩ => ⟨S512x768, .bf16⟩
  | .local _ .vmem, ⟨3, _⟩ => ⟨S1536x512, .f32⟩
  | .local _ .vmem, ⟨4, _⟩ => ⟨S1536x512, .f32⟩
  | _, _ => ⟨S2x2304x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![3, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1536x768 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S512x768 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1536x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== MlaQTReferenceIdeal.lean ====
abbrev S2x2304x512 : Shape := ⟨3, ![2, 2304, 512]⟩
abbrev S512x768 : Shape := ⟨2, ![512, 768]⟩
abbrev S2x2304x768 : Shape := ⟨3, ![2, 2304, 768]⟩
abbrev S768x512 : Shape := ⟨2, ![768, 512]⟩
abbrev S4608x512 : Shape := ⟨2, ![4608, 512]⟩

abbrev nBuf : Space → Nat
  | .hbm => 8
  | .vmem => 0
  | .smem => 0
  | _ => 0

abbrev bufTy : (tb : Table) → Fin (tcTables nBuf tb) → BufTy
  | .hbm, ⟨0, _⟩ => ⟨S2x2304x512, .f32⟩
  | .hbm, ⟨1, _⟩ => ⟨S512x768, .f32⟩
  | .hbm, ⟨2, _⟩ => ⟨S2x2304x768, .f32⟩
  | .hbm, ⟨3, _⟩ => ⟨S2x2304x768, .f32⟩
  | .hbm, ⟨4, _⟩ => ⟨S768x512, .f32⟩
  | .hbm, ⟨5, _⟩ => ⟨S512x768, .f32⟩
  | .hbm, ⟨6, _⟩ => ⟨S2x2304x512, .f32⟩
  | .hbm, ⟨7, _⟩ => ⟨S4608x512, .f32⟩
  | _, _ => ⟨S2x2304x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== MlaQW.lean ====
abbrev S2x2304x512 : Shape := ⟨3, ![2, 2304, 512]⟩
abbrev S512x768 : Shape := ⟨2, ![512, 768]⟩
abbrev S2x2304x768 : Shape := ⟨3, ![2, 2304, 768]⟩
abbrev S4608x512 : Shape := ⟨2, ![4608, 512]⟩
abbrev S4608x768 : Shape := ⟨2, ![4608, 768]⟩
abbrev S1536x512 : Shape := ⟨2, ![1536, 512]⟩
abbrev S1536x768 : Shape := ⟨2, ![1536, 768]⟩

abbrev nBuf : Space → Nat
  | .hbm => 8
  | .vmem => 6
  | .smem => 0
  | _ => 0

abbrev bufTy : (tb : Table) → Fin (tcTables nBuf tb) → BufTy
  | .hbm, ⟨0, _⟩ => ⟨S2x2304x512, .f32⟩
  | .hbm, ⟨1, _⟩ => ⟨S512x768, .f32⟩
  | .hbm, ⟨2, _⟩ => ⟨S2x2304x768, .f32⟩
  | .hbm, ⟨3, _⟩ => ⟨S4608x512, .f32⟩
  | .hbm, ⟨4, _⟩ => ⟨S4608x512, .bf16⟩
  | .hbm, ⟨5, _⟩ => ⟨S4608x768, .f32⟩
  | .hbm, ⟨6, _⟩ => ⟨S4608x768, .bf16⟩
  | .hbm, ⟨7, _⟩ => ⟨S512x768, .bf16⟩
  | .local _ .vmem, ⟨0, _⟩ => ⟨S1536x512, .bf16⟩
  | .local _ .vmem, ⟨1, _⟩ => ⟨S1536x512, .bf16⟩
  | .local _ .vmem, ⟨2, _⟩ => ⟨S1536x768, .bf16⟩
  | .local _ .vmem, ⟨3, _⟩ => ⟨S1536x768, .bf16⟩
  | .local _ .vmem, ⟨4, _⟩ => ⟨S512x768, .bf16⟩
  | .local _ .vmem, ⟨5, _⟩ => ⟨S512x768, .f32⟩
  | _, _ => ⟨S2x2304x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 3], ![false, false, false]⟩

def k0_cond3 (i : grid0.Coords) : BitVec 1 :=
  let arg2 : BitVec 32 := BitVec.ofNat 32 (i 2).val
  let c2_i32_6 : BitVec 32 := 2#32
  let v13 : BitVec 1 := Scalar.cmpi .eq arg2 c2_i32_6
  let v14 : BitVec 32 := Scalar.extui v13
  let c0_i32_7 : BitVec 32 := 0#32
  let v15 : BitVec 1 := Scalar.cmpi .ne v14 c0_i32_7
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1536x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1536x768 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S512x768 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== MlaQWIdeal.lean ====
abbrev S2x2304x512 : Shape := ⟨3, ![2, 2304, 512]⟩
abbrev S512x768 : Shape := ⟨2, ![512, 768]⟩
abbrev S2x2304x768 : Shape := ⟨3, ![2, 2304, 768]⟩
abbrev S4608x512 : Shape := ⟨2, ![4608, 512]⟩
abbrev S4608x768 : Shape := ⟨2, ![4608, 768]⟩
abbrev S1536x512 : Shape := ⟨2, ![1536, 512]⟩
abbrev S1536x768 : Shape := ⟨2, ![1536, 768]⟩

abbrev nBuf : Space → Nat
  | .hbm => 8
  | .vmem => 6
  | .smem => 0
  | _ => 0

abbrev bufTy : (tb : Table) → Fin (tcTables nBuf tb) → BufTy
  | .hbm, ⟨0, _⟩ => ⟨S2x2304x512, .f32⟩
  | .hbm, ⟨1, _⟩ => ⟨S512x768, .f32⟩
  | .hbm, ⟨2, _⟩ => ⟨S2x2304x768, .f32⟩
  | .hbm, ⟨3, _⟩ => ⟨S4608x512, .f32⟩
  | .hbm, ⟨4, _⟩ => ⟨S4608x512, .bf16⟩
  | .hbm, ⟨5, _⟩ => ⟨S4608x768, .f32⟩
  | .hbm, ⟨6, _⟩ => ⟨S4608x768, .bf16⟩
  | .hbm, ⟨7, _⟩ => ⟨S512x768, .bf16⟩
  | .local _ .vmem, ⟨0, _⟩ => ⟨S1536x512, .bf16⟩
  | .local _ .vmem, ⟨1, _⟩ => ⟨S1536x512, .bf16⟩
  | .local _ .vmem, ⟨2, _⟩ => ⟨S1536x768, .bf16⟩
  | .local _ .vmem, ⟨3, _⟩ => ⟨S1536x768, .bf16⟩
  | .local _ .vmem, ⟨4, _⟩ => ⟨S512x768, .bf16⟩
  | .local _ .vmem, ⟨5, _⟩ => ⟨S512x768, .f32⟩
  | _, _ => ⟨S2x2304x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 3], ![false, false, false]⟩

def k0_cond3 (i : grid0.Coords) : BitVec 1 :=
  let arg2 : BitVec 32 := BitVec.ofNat 32 (i 2).val
  let c2_i32_6 : BitVec 32 := 2#32
  let v13 : BitVec 1 := Scalar.cmpi .eq arg2 c2_i32_6
  let v14 : BitVec 32 := Scalar.extui v13
  let c0_i32_7 : BitVec 32 := 0#32
  let v15 : BitVec 1 := Scalar.cmpi .ne v14 c0_i32_7
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1536x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1536x768 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S512x768 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== MlaQWReferenceIdeal.lean ====
abbrev S2x2304x512 : Shape := ⟨3, ![2, 2304, 512]⟩
abbrev S512x768 : Shape := ⟨2, ![512, 768]⟩
abbrev S2x2304x768 : Shape := ⟨3, ![2, 2304, 768]⟩
abbrev S768x512 : Shape := ⟨2, ![768, 512]⟩

abbrev nBuf : Space → Nat
  | .hbm => 8
  | .vmem => 0
  | .smem => 0
  | _ => 0

abbrev bufTy : (tb : Table) → Fin (tcTables nBuf tb) → BufTy
  | .hbm, ⟨0, _⟩ => ⟨S2x2304x512, .f32⟩
  | .hbm, ⟨1, _⟩ => ⟨S512x768, .f32⟩
  | .hbm, ⟨2, _⟩ => ⟨S2x2304x768, .f32⟩
  | .hbm, ⟨3, _⟩ => ⟨S2x2304x768, .f32⟩
  | .hbm, ⟨4, _⟩ => ⟨S768x512, .f32⟩
  | .hbm, ⟨5, _⟩ => ⟨S512x768, .f32⟩
  | .hbm, ⟨6, _⟩ => ⟨S2x2304x512, .f32⟩
  | .hbm, ⟨7, _⟩ => ⟨S512x768, .bf16⟩
  | _, _ => ⟨S2x2304x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== MlaKv.lean ====
abbrev S2x2304x256 : Shape := ⟨3, ![2, 2304, 256]⟩
abbrev S256x1024 : Shape := ⟨2, ![256, 1024]⟩
abbrev S4608x256 : Shape := ⟨2, ![4608, 256]⟩
abbrev S4608x1024 : Shape := ⟨2, ![4608, 1024]⟩
abbrev S1536x256 : Shape := ⟨2, ![1536, 256]⟩
abbrev S1536x1024 : Shape := ⟨2, ![1536, 1024]⟩

abbrev nBuf : Space → Nat
  | .hbm => 6
  | .vmem => 5
  | .smem => 0
  | _ => 0

abbrev bufTy : (tb : Table) → Fin (tcTables nBuf tb) → BufTy
  | .hbm, ⟨0, _⟩ => ⟨S2x2304x256, .f32⟩
  | .hbm, ⟨1, _⟩ => ⟨S256x1024, .f32⟩
  | .hbm, ⟨2, _⟩ => ⟨S4608x256, .f32⟩
  | .hbm, ⟨3, _⟩ => ⟨S4608x256, .bf16⟩
  | .hbm, ⟨4, _⟩ => ⟨S256x1024, .bf16⟩
  | .hbm, ⟨5, _⟩ => ⟨S4608x1024, .f32⟩
  | .local _ .vmem, ⟨0, _⟩ => ⟨S1536x256, .bf16⟩
  | .local _ .vmem, ⟨1, _⟩ => ⟨S1536x256, .bf16⟩
  | .local _ .vmem, ⟨2, _⟩ => ⟨S256x1024, .bf16⟩
  | .local _ .vmem, ⟨3, _⟩ => ⟨S1536x1024, .f32⟩
  | .local _ .vmem, ⟨4, _⟩ => ⟨S1536x1024, .f32⟩
  | _, _ => ⟨S2x2304x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![3, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1536x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S256x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1536x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== MlaKvIdeal.lean ====
abbrev S2x2304x256 : Shape := ⟨3, ![2, 2304, 256]⟩
abbrev S256x1024 : Shape := ⟨2, ![256, 1024]⟩
abbrev S4608x256 : Shape := ⟨2, ![4608, 256]⟩
abbrev S4608x1024 : Shape := ⟨2, ![4608, 1024]⟩
abbrev S1536x256 : Shape := ⟨2, ![1536, 256]⟩
abbrev S1536x1024 : Shape := ⟨2, ![1536, 1024]⟩

abbrev nBuf : Space → Nat
  | .hbm => 6
  | .vmem => 5
  | .smem => 0
  | _ => 0

abbrev bufTy : (tb : Table) → Fin (tcTables nBuf tb) → BufTy
  | .hbm, ⟨0, _⟩ => ⟨S2x2304x256, .f32⟩
  | .hbm, ⟨1, _⟩ => ⟨S256x1024, .f32⟩
  | .hbm, ⟨2, _⟩ => ⟨S4608x256, .f32⟩
  | .hbm, ⟨3, _⟩ => ⟨S4608x256, .bf16⟩
  | .hbm, ⟨4, _⟩ => ⟨S256x1024, .bf16⟩
  | .hbm, ⟨5, _⟩ => ⟨S4608x1024, .f32⟩
  | .local _ .vmem, ⟨0, _⟩ => ⟨S1536x256, .bf16⟩
  | .local _ .vmem, ⟨1, _⟩ => ⟨S1536x256, .bf16⟩
  | .local _ .vmem, ⟨2, _⟩ => ⟨S256x1024, .bf16⟩
  | .local _ .vmem, ⟨3, _⟩ => ⟨S1536x1024, .f32⟩
  | .local _ .vmem, ⟨4, _⟩ => ⟨S1536x1024, .f32⟩
  | _, _ => ⟨S2x2304x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![3, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1536x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S256x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1536x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== MlaKvReferenceIdeal.lean ====
abbrev S2x2304x256 : Shape := ⟨3, ![2, 2304, 256]⟩
abbrev S256x1024 : Shape := ⟨2, ![256, 1024]⟩
abbrev S2x2304x1024 : Shape := ⟨3, ![2, 2304, 1024]⟩
abbrev S4608x1024 : Shape := ⟨2, ![4608, 1024]⟩

abbrev nBuf : Space → Nat
  | .hbm => 4
  | .vmem => 0
  | .smem => 0
  | _ => 0

abbrev bufTy : (tb : Table) → Fin (tcTables nBuf tb) → BufTy
  | .hbm, ⟨0, _⟩ => ⟨S2x2304x256, .f32⟩
  | .hbm, ⟨1, _⟩ => ⟨S256x1024, .f32⟩
  | .hbm, ⟨2, _⟩ => ⟨S2x2304x1024, .f32⟩
  | .hbm, ⟨3, _⟩ => ⟨S4608x1024, .f32⟩
  | _, _ => ⟨S2x2304x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== MlaKvT.lean ====
abbrev S2x2304x256 : Shape := ⟨3, ![2, 2304, 256]⟩
abbrev S256x1024 : Shape := ⟨2, ![256, 1024]⟩
abbrev S2x2304x1024 : Shape := ⟨3, ![2, 2304, 1024]⟩
abbrev S4608x1024 : Shape := ⟨2, ![4608, 1024]⟩
abbrev S4608x256 : Shape := ⟨2, ![4608, 256]⟩
abbrev S1536x1024 : Shape := ⟨2, ![1536, 1024]⟩
abbrev S1536x256 : Shape := ⟨2, ![1536, 256]⟩

abbrev nBuf : Space → Nat
  | .hbm => 7
  | .vmem => 5
  | .smem => 0
  | _ => 0

abbrev bufTy : (tb : Table) → Fin (tcTables nBuf tb) → BufTy
  | .hbm, ⟨0, _⟩ => ⟨S2x2304x256, .f32⟩
  | .hbm, ⟨1, _⟩ => ⟨S256x1024, .f32⟩
  | .hbm, ⟨2, _⟩ => ⟨S2x2304x1024, .f32⟩
  | .hbm, ⟨3, _⟩ => ⟨S4608x1024, .f32⟩
  | .hbm, ⟨4, _⟩ => ⟨S4608x1024, .bf16⟩
  | .hbm, ⟨5, _⟩ => ⟨S256x1024, .bf16⟩
  | .hbm, ⟨6, _⟩ => ⟨S4608x256, .f32⟩
  | .local _ .vmem, ⟨0, _⟩ => ⟨S1536x1024, .bf16⟩
  | .local _ .vmem, ⟨1, _⟩ => ⟨S1536x1024, .bf16⟩
  | .local _ .vmem, ⟨2, _⟩ => ⟨S256x1024, .bf16⟩
  | .local _ .vmem, ⟨3, _⟩ => ⟨S1536x256, .f32⟩
  | .local _ .vmem, ⟨4, _⟩ => ⟨S1536x256, .f32⟩
  | _, _ => ⟨S2x2304x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![3, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1536x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S256x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1536x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== MlaKvTIdeal.lean ====
abbrev S2x2304x256 : Shape := ⟨3, ![2, 2304, 256]⟩
abbrev S256x1024 : Shape := ⟨2, ![256, 1024]⟩
abbrev S2x2304x1024 : Shape := ⟨3, ![2, 2304, 1024]⟩
abbrev S4608x1024 : Shape := ⟨2, ![4608, 1024]⟩
abbrev S4608x256 : Shape := ⟨2, ![4608, 256]⟩
abbrev S1536x1024 : Shape := ⟨2, ![1536, 1024]⟩
abbrev S1536x256 : Shape := ⟨2, ![1536, 256]⟩

abbrev nBuf : Space → Nat
  | .hbm => 7
  | .vmem => 5
  | .smem => 0
  | _ => 0

abbrev bufTy : (tb : Table) → Fin (tcTables nBuf tb) → BufTy
  | .hbm, ⟨0, _⟩ => ⟨S2x2304x256, .f32⟩
  | .hbm, ⟨1, _⟩ => ⟨S256x1024, .f32⟩
  | .hbm, ⟨2, _⟩ => ⟨S2x2304x1024, .f32⟩
  | .hbm, ⟨3, _⟩ => ⟨S4608x1024, .f32⟩
  | .hbm, ⟨4, _⟩ => ⟨S4608x1024, .bf16⟩
  | .hbm, ⟨5, _⟩ => ⟨S256x1024, .bf16⟩
  | .hbm, ⟨6, _⟩ => ⟨S4608x256, .f32⟩
  | .local _ .vmem, ⟨0, _⟩ => ⟨S1536x1024, .bf16⟩
  | .local _ .vmem, ⟨1, _⟩ => ⟨S1536x1024, .bf16⟩
  | .local _ .vmem, ⟨2, _⟩ => ⟨S256x1024, .bf16⟩
  | .local _ .vmem, ⟨3, _⟩ => ⟨S1536x256, .f32⟩
  | .local _ .vmem, ⟨4, _⟩ => ⟨S1536x256, .f32⟩
  | _, _ => ⟨S2x2304x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![3, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1536x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S256x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1536x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== MlaKvTReferenceIdeal.lean ====
abbrev S2x2304x256 : Shape := ⟨3, ![2, 2304, 256]⟩
abbrev S256x1024 : Shape := ⟨2, ![256, 1024]⟩
abbrev S2x2304x1024 : Shape := ⟨3, ![2, 2304, 1024]⟩
abbrev S1024x256 : Shape := ⟨2, ![1024, 256]⟩
abbrev S4608x256 : Shape := ⟨2, ![4608, 256]⟩

abbrev nBuf : Space → Nat
  | .hbm => 8
  | .vmem => 0
  | .smem => 0
  | _ => 0

abbrev bufTy : (tb : Table) → Fin (tcTables nBuf tb) → BufTy
  | .hbm, ⟨0, _⟩ => ⟨S2x2304x256, .f32⟩
  | .hbm, ⟨1, _⟩ => ⟨S256x1024, .f32⟩
  | .hbm, ⟨2, _⟩ => ⟨S2x2304x1024, .f32⟩
  | .hbm, ⟨3, _⟩ => ⟨S2x2304x1024, .f32⟩
  | .hbm, ⟨4, _⟩ => ⟨S1024x256, .f32⟩
  | .hbm, ⟨5, _⟩ => ⟨S256x1024, .f32⟩
  | .hbm, ⟨6, _⟩ => ⟨S2x2304x256, .f32⟩
  | .hbm, ⟨7, _⟩ => ⟨S4608x256, .f32⟩
  | _, _ => ⟨S2x2304x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== MlaKvW.lean ====
abbrev S2x2304x256 : Shape := ⟨3, ![2, 2304, 256]⟩
abbrev S256x1024 : Shape := ⟨2, ![256, 1024]⟩
abbrev S2x2304x1024 : Shape := ⟨3, ![2, 2304, 1024]⟩
abbrev S4608x256 : Shape := ⟨2, ![4608, 256]⟩
abbrev S4608x1024 : Shape := ⟨2, ![4608, 1024]⟩
abbrev S1536x256 : Shape := ⟨2, ![1536, 256]⟩
abbrev S1536x1024 : Shape := ⟨2, ![1536, 1024]⟩

abbrev nBuf : Space → Nat
  | .hbm => 8
  | .vmem => 6
  | .smem => 0
  | _ => 0

abbrev bufTy : (tb : Table) → Fin (tcTables nBuf tb) → BufTy
  | .hbm, ⟨0, _⟩ => ⟨S2x2304x256, .f32⟩
  | .hbm, ⟨1, _⟩ => ⟨S256x1024, .f32⟩
  | .hbm, ⟨2, _⟩ => ⟨S2x2304x1024, .f32⟩
  | .hbm, ⟨3, _⟩ => ⟨S4608x256, .f32⟩
  | .hbm, ⟨4, _⟩ => ⟨S4608x256, .bf16⟩
  | .hbm, ⟨5, _⟩ => ⟨S4608x1024, .f32⟩
  | .hbm, ⟨6, _⟩ => ⟨S4608x1024, .bf16⟩
  | .hbm, ⟨7, _⟩ => ⟨S256x1024, .bf16⟩
  | .local _ .vmem, ⟨0, _⟩ => ⟨S1536x256, .bf16⟩
  | .local _ .vmem, ⟨1, _⟩ => ⟨S1536x256, .bf16⟩
  | .local _ .vmem, ⟨2, _⟩ => ⟨S1536x1024, .bf16⟩
  | .local _ .vmem, ⟨3, _⟩ => ⟨S1536x1024, .bf16⟩
  | .local _ .vmem, ⟨4, _⟩ => ⟨S256x1024, .bf16⟩
  | .local _ .vmem, ⟨5, _⟩ => ⟨S256x1024, .f32⟩
  | _, _ => ⟨S2x2304x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 3], ![false, false, false]⟩

def k0_cond3 (i : grid0.Coords) : BitVec 1 :=
  let arg2 : BitVec 32 := BitVec.ofNat 32 (i 2).val
  let c2_i32_6 : BitVec 32 := 2#32
  let v13 : BitVec 1 := Scalar.cmpi .eq arg2 c2_i32_6
  let v14 : BitVec 32 := Scalar.extui v13
  let c0_i32_7 : BitVec 32 := 0#32
  let v15 : BitVec 1 := Scalar.cmpi .ne v14 c0_i32_7
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1536x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1536x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S256x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== MlaKvWIdeal.lean ====
abbrev S2x2304x256 : Shape := ⟨3, ![2, 2304, 256]⟩
abbrev S256x1024 : Shape := ⟨2, ![256, 1024]⟩
abbrev S2x2304x1024 : Shape := ⟨3, ![2, 2304, 1024]⟩
abbrev S4608x256 : Shape := ⟨2, ![4608, 256]⟩
abbrev S4608x1024 : Shape := ⟨2, ![4608, 1024]⟩
abbrev S1536x256 : Shape := ⟨2, ![1536, 256]⟩
abbrev S1536x1024 : Shape := ⟨2, ![1536, 1024]⟩

abbrev nBuf : Space → Nat
  | .hbm => 8
  | .vmem => 6
  | .smem => 0
  | _ => 0

abbrev bufTy : (tb : Table) → Fin (tcTables nBuf tb) → BufTy
  | .hbm, ⟨0, _⟩ => ⟨S2x2304x256, .f32⟩
  | .hbm, ⟨1, _⟩ => ⟨S256x1024, .f32⟩
  | .hbm, ⟨2, _⟩ => ⟨S2x2304x1024, .f32⟩
  | .hbm, ⟨3, _⟩ => ⟨S4608x256, .f32⟩
  | .hbm, ⟨4, _⟩ => ⟨S4608x256, .bf16⟩
  | .hbm, ⟨5, _⟩ => ⟨S4608x1024, .f32⟩
  | .hbm, ⟨6, _⟩ => ⟨S4608x1024, .bf16⟩
  | .hbm, ⟨7, _⟩ => ⟨S256x1024, .bf16⟩
  | .local _ .vmem, ⟨0, _⟩ => ⟨S1536x256, .bf16⟩
  | .local _ .vmem, ⟨1, _⟩ => ⟨S1536x256, .bf16⟩
  | .local _ .vmem, ⟨2, _⟩ => ⟨S1536x1024, .bf16⟩
  | .local _ .vmem, ⟨3, _⟩ => ⟨S1536x1024, .bf16⟩
  | .local _ .vmem, ⟨4, _⟩ => ⟨S256x1024, .bf16⟩
  | .local _ .vmem, ⟨5, _⟩ => ⟨S256x1024, .f32⟩
  | _, _ => ⟨S2x2304x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 3], ![false, false, false]⟩

def k0_cond3 (i : grid0.Coords) : BitVec 1 :=
  let arg2 : BitVec 32 := BitVec.ofNat 32 (i 2).val
  let c2_i32_6 : BitVec 32 := 2#32
  let v13 : BitVec 1 := Scalar.cmpi .eq arg2 c2_i32_6
  let v14 : BitVec 32 := Scalar.extui v13
  let c0_i32_7 : BitVec 32 := 0#32
  let v15 : BitVec 1 := Scalar.cmpi .ne v14 c0_i32_7
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1536x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1536x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S256x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== MlaKvWReferenceIdeal.lean ====
abbrev S2x2304x256 : Shape := ⟨3, ![2, 2304, 256]⟩
abbrev S256x1024 : Shape := ⟨2, ![256, 1024]⟩
abbrev S2x2304x1024 : Shape := ⟨3, ![2, 2304, 1024]⟩
abbrev S1024x256 : Shape := ⟨2, ![1024, 256]⟩

abbrev nBuf : Space → Nat
  | .hbm => 8
  | .vmem => 0
  | .smem => 0
  | _ => 0

abbrev bufTy : (tb : Table) → Fin (tcTables nBuf tb) → BufTy
  | .hbm, ⟨0, _⟩ => ⟨S2x2304x256, .f32⟩
  | .hbm, ⟨1, _⟩ => ⟨S256x1024, .f32⟩
  | .hbm, ⟨2, _⟩ => ⟨S2x2304x1024, .f32⟩
  | .hbm, ⟨3, _⟩ => ⟨S2x2304x1024, .f32⟩
  | .hbm, ⟨4, _⟩ => ⟨S1024x256, .f32⟩
  | .hbm, ⟨5, _⟩ => ⟨S256x1024, .f32⟩
  | .hbm, ⟨6, _⟩ => ⟨S2x2304x256, .f32⟩
  | .hbm, ⟨7, _⟩ => ⟨S256x1024, .bf16⟩
  | _, _ => ⟨S2x2304x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Mix.lean ====
abbrev S2x2304x1024 : Shape := ⟨3, ![2, 2304, 1024]⟩
abbrev S1024x1024 : Shape := ⟨2, ![1024, 1024]⟩
abbrev S4608x1024 : Shape := ⟨2, ![4608, 1024]⟩
abbrev S1536x1024 : Shape := ⟨2, ![1536, 1024]⟩

abbrev nBuf : Space → Nat
  | .hbm => 6
  | .vmem => 5
  | .smem => 0
  | _ => 0

abbrev bufTy : (tb : Table) → Fin (tcTables nBuf tb) → BufTy
  | .hbm, ⟨0, _⟩ => ⟨S2x2304x1024, .f32⟩
  | .hbm, ⟨1, _⟩ => ⟨S1024x1024, .f32⟩
  | .hbm, ⟨2, _⟩ => ⟨S4608x1024, .f32⟩
  | .hbm, ⟨3, _⟩ => ⟨S4608x1024, .bf16⟩
  | .hbm, ⟨4, _⟩ => ⟨S1024x1024, .bf16⟩
  | .hbm, ⟨5, _⟩ => ⟨S4608x1024, .f32⟩
  | .local _ .vmem, ⟨0, _⟩ => ⟨S1536x1024, .bf16⟩
  | .local _ .vmem, ⟨1, _⟩ => ⟨S1536x1024, .bf16⟩
  | .local _ .vmem, ⟨2, _⟩ => ⟨S1024x1024, .bf16⟩
  | .local _ .vmem, ⟨3, _⟩ => ⟨S1536x1024, .f32⟩
  | .local _ .vmem, ⟨4, _⟩ => ⟨S1536x1024, .f32⟩
  | _, _ => ⟨S2x2304x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![3, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1536x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1536x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== MixIdeal.lean ====
abbrev S2x2304x1024 : Shape := ⟨3, ![2, 2304, 1024]⟩
abbrev S1024x1024 : Shape := ⟨2, ![1024, 1024]⟩
abbrev S4608x1024 : Shape := ⟨2, ![4608, 1024]⟩
abbrev S1536x1024 : Shape := ⟨2, ![1536, 1024]⟩

abbrev nBuf : Space → Nat
  | .hbm => 6
  | .vmem => 5
  | .smem => 0
  | _ => 0

abbrev bufTy : (tb : Table) → Fin (tcTables nBuf tb) → BufTy
  | .hbm, ⟨0, _⟩ => ⟨S2x2304x1024, .f32⟩
  | .hbm, ⟨1, _⟩ => ⟨S1024x1024, .f32⟩
  | .hbm, ⟨2, _⟩ => ⟨S4608x1024, .f32⟩
  | .hbm, ⟨3, _⟩ => ⟨S4608x1024, .bf16⟩
  | .hbm, ⟨4, _⟩ => ⟨S1024x1024, .bf16⟩
  | .hbm, ⟨5, _⟩ => ⟨S4608x1024, .f32⟩
  | .local _ .vmem, ⟨0, _⟩ => ⟨S1536x1024, .bf16⟩
  | .local _ .vmem, ⟨1, _⟩ => ⟨S1536x1024, .bf16⟩
  | .local _ .vmem, ⟨2, _⟩ => ⟨S1024x1024, .bf16⟩
  | .local _ .vmem, ⟨3, _⟩ => ⟨S1536x1024, .f32⟩
  | .local _ .vmem, ⟨4, _⟩ => ⟨S1536x1024, .f32⟩
  | _, _ => ⟨S2x2304x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![3, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1536x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1536x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== MixReferenceIdeal.lean ====
abbrev S2x2304x1024 : Shape := ⟨3, ![2, 2304, 1024]⟩
abbrev S1024x1024 : Shape := ⟨2, ![1024, 1024]⟩
abbrev S4608x1024 : Shape := ⟨2, ![4608, 1024]⟩

abbrev nBuf : Space → Nat
  | .hbm => 4
  | .vmem => 0
  | .smem => 0
  | _ => 0

abbrev bufTy : (tb : Table) → Fin (tcTables nBuf tb) → BufTy
  | .hbm, ⟨0, _⟩ => ⟨S2x2304x1024, .f32⟩
  | .hbm, ⟨1, _⟩ => ⟨S1024x1024, .f32⟩
  | .hbm, ⟨2, _⟩ => ⟨S2x2304x1024, .f32⟩
  | .hbm, ⟨3, _⟩ => ⟨S4608x1024, .f32⟩
  | _, _ => ⟨S2x2304x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== MixT.lean ====
abbrev S2x2304x1024 : Shape := ⟨3, ![2, 2304, 1024]⟩
abbrev S1024x1024 : Shape := ⟨2, ![1024, 1024]⟩
abbrev S4608x1024 : Shape := ⟨2, ![4608, 1024]⟩
abbrev S1536x1024 : Shape := ⟨2, ![1536, 1024]⟩

abbrev nBuf : Space → Nat
  | .hbm => 7
  | .vmem => 5
  | .smem => 0
  | _ => 0

abbrev bufTy : (tb : Table) → Fin (tcTables nBuf tb) → BufTy
  | .hbm, ⟨0, _⟩ => ⟨S2x2304x1024, .f32⟩
  | .hbm, ⟨1, _⟩ => ⟨S1024x1024, .f32⟩
  | .hbm, ⟨2, _⟩ => ⟨S2x2304x1024, .f32⟩
  | .hbm, ⟨3, _⟩ => ⟨S4608x1024, .f32⟩
  | .hbm, ⟨4, _⟩ => ⟨S4608x1024, .bf16⟩
  | .hbm, ⟨5, _⟩ => ⟨S1024x1024, .bf16⟩
  | .hbm, ⟨6, _⟩ => ⟨S4608x1024, .f32⟩
  | .local _ .vmem, ⟨0, _⟩ => ⟨S1536x1024, .bf16⟩
  | .local _ .vmem, ⟨1, _⟩ => ⟨S1536x1024, .bf16⟩
  | .local _ .vmem, ⟨2, _⟩ => ⟨S1024x1024, .bf16⟩
  | .local _ .vmem, ⟨3, _⟩ => ⟨S1536x1024, .f32⟩
  | .local _ .vmem, ⟨4, _⟩ => ⟨S1536x1024, .f32⟩
  | _, _ => ⟨S2x2304x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![3, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1536x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1536x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== MixTIdeal.lean ====
abbrev S2x2304x1024 : Shape := ⟨3, ![2, 2304, 1024]⟩
abbrev S1024x1024 : Shape := ⟨2, ![1024, 1024]⟩
abbrev S4608x1024 : Shape := ⟨2, ![4608, 1024]⟩
abbrev S1536x1024 : Shape := ⟨2, ![1536, 1024]⟩

abbrev nBuf : Space → Nat
  | .hbm => 7
  | .vmem => 5
  | .smem => 0
  | _ => 0

abbrev bufTy : (tb : Table) → Fin (tcTables nBuf tb) → BufTy
  | .hbm, ⟨0, _⟩ => ⟨S2x2304x1024, .f32⟩
  | .hbm, ⟨1, _⟩ => ⟨S1024x1024, .f32⟩
  | .hbm, ⟨2, _⟩ => ⟨S2x2304x1024, .f32⟩
  | .hbm, ⟨3, _⟩ => ⟨S4608x1024, .f32⟩
  | .hbm, ⟨4, _⟩ => ⟨S4608x1024, .bf16⟩
  | .hbm, ⟨5, _⟩ => ⟨S1024x1024, .bf16⟩
  | .hbm, ⟨6, _⟩ => ⟨S4608x1024, .f32⟩
  | .local _ .vmem, ⟨0, _⟩ => ⟨S1536x1024, .bf16⟩
  | .local _ .vmem, ⟨1, _⟩ => ⟨S1536x1024, .bf16⟩
  | .local _ .vmem, ⟨2, _⟩ => ⟨S1024x1024, .bf16⟩
  | .local _ .vmem, ⟨3, _⟩ => ⟨S1536x1024, .f32⟩
  | .local _ .vmem, ⟨4, _⟩ => ⟨S1536x1024, .f32⟩
  | _, _ => ⟨S2x2304x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![3, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1536x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1536x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== MixTReferenceIdeal.lean ====
abbrev S2x2304x1024 : Shape := ⟨3, ![2, 2304, 1024]⟩
abbrev S1024x1024 : Shape := ⟨2, ![1024, 1024]⟩
abbrev S4608x1024 : Shape := ⟨2, ![4608, 1024]⟩

abbrev nBuf : Space → Nat
  | .hbm => 8
  | .vmem => 0
  | .smem => 0
  | _ => 0

abbrev bufTy : (tb : Table) → Fin (tcTables nBuf tb) → BufTy
  | .hbm, ⟨0, _⟩ => ⟨S2x2304x1024, .f32⟩
  | .hbm, ⟨1, _⟩ => ⟨S1024x1024, .f32⟩
  | .hbm, ⟨2, _⟩ => ⟨S2x2304x1024, .f32⟩
  | .hbm, ⟨3, _⟩ => ⟨S2x2304x1024, .f32⟩
  | .hbm, ⟨4, _⟩ => ⟨S1024x1024, .f32⟩
  | .hbm, ⟨5, _⟩ => ⟨S1024x1024, .f32⟩
  | .hbm, ⟨6, _⟩ => ⟨S2x2304x1024, .f32⟩
  | .hbm, ⟨7, _⟩ => ⟨S4608x1024, .f32⟩
  | _, _ => ⟨S2x2304x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== MixW.lean ====
abbrev S2x2304x1024 : Shape := ⟨3, ![2, 2304, 1024]⟩
abbrev S1024x1024 : Shape := ⟨2, ![1024, 1024]⟩
abbrev S4608x1024 : Shape := ⟨2, ![4608, 1024]⟩
abbrev S1536x1024 : Shape := ⟨2, ![1536, 1024]⟩

abbrev nBuf : Space → Nat
  | .hbm => 8
  | .vmem => 6
  | .smem => 0
  | _ => 0

abbrev bufTy : (tb : Table) → Fin (tcTables nBuf tb) → BufTy
  | .hbm, ⟨0, _⟩ => ⟨S2x2304x1024, .f32⟩
  | .hbm, ⟨1, _⟩ => ⟨S1024x1024, .f32⟩
  | .hbm, ⟨2, _⟩ => ⟨S2x2304x1024, .f32⟩
  | .hbm, ⟨3, _⟩ => ⟨S4608x1024, .f32⟩
  | .hbm, ⟨4, _⟩ => ⟨S4608x1024, .bf16⟩
  | .hbm, ⟨5, _⟩ => ⟨S4608x1024, .f32⟩
  | .hbm, ⟨6, _⟩ => ⟨S4608x1024, .bf16⟩
  | .hbm, ⟨7, _⟩ => ⟨S1024x1024, .bf16⟩
  | .local _ .vmem, ⟨0, _⟩ => ⟨S1536x1024, .bf16⟩
  | .local _ .vmem, ⟨1, _⟩ => ⟨S1536x1024, .bf16⟩
  | .local _ .vmem, ⟨2, _⟩ => ⟨S1536x1024, .bf16⟩
  | .local _ .vmem, ⟨3, _⟩ => ⟨S1536x1024, .bf16⟩
  | .local _ .vmem, ⟨4, _⟩ => ⟨S1024x1024, .bf16⟩
  | .local _ .vmem, ⟨5, _⟩ => ⟨S1024x1024, .f32⟩
  | _, _ => ⟨S2x2304x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 3], ![false, false, false]⟩

def k0_cond3 (i : grid0.Coords) : BitVec 1 :=
  let arg2 : BitVec 32 := BitVec.ofNat 32 (i 2).val
  let c2_i32_6 : BitVec 32 := 2#32
  let v13 : BitVec 1 := Scalar.cmpi .eq arg2 c2_i32_6
  let v14 : BitVec 32 := Scalar.extui v13
  let c0_i32_7 : BitVec 32 := 0#32
  let v15 : BitVec 1 := Scalar.cmpi .ne v14 c0_i32_7
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1536x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1536x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== MixWIdeal.lean ====
abbrev S2x2304x1024 : Shape := ⟨3, ![2, 2304, 1024]⟩
abbrev S1024x1024 : Shape := ⟨2, ![1024, 1024]⟩
abbrev S4608x1024 : Shape := ⟨2, ![4608, 1024]⟩
abbrev S1536x1024 : Shape := ⟨2, ![1536, 1024]⟩

abbrev nBuf : Space → Nat
  | .hbm => 8
  | .vmem => 6
  | .smem => 0
  | _ => 0

abbrev bufTy : (tb : Table) → Fin (tcTables nBuf tb) → BufTy
  | .hbm, ⟨0, _⟩ => ⟨S2x2304x1024, .f32⟩
  | .hbm, ⟨1, _⟩ => ⟨S1024x1024, .f32⟩
  | .hbm, ⟨2, _⟩ => ⟨S2x2304x1024, .f32⟩
  | .hbm, ⟨3, _⟩ => ⟨S4608x1024, .f32⟩
  | .hbm, ⟨4, _⟩ => ⟨S4608x1024, .bf16⟩
  | .hbm, ⟨5, _⟩ => ⟨S4608x1024, .f32⟩
  | .hbm, ⟨6, _⟩ => ⟨S4608x1024, .bf16⟩
  | .hbm, ⟨7, _⟩ => ⟨S1024x1024, .bf16⟩
  | .local _ .vmem, ⟨0, _⟩ => ⟨S1536x1024, .bf16⟩
  | .local _ .vmem, ⟨1, _⟩ => ⟨S1536x1024, .bf16⟩
  | .local _ .vmem, ⟨2, _⟩ => ⟨S1536x1024, .bf16⟩
  | .local _ .vmem, ⟨3, _⟩ => ⟨S1536x1024, .bf16⟩
  | .local _ .vmem, ⟨4, _⟩ => ⟨S1024x1024, .bf16⟩
  | .local _ .vmem, ⟨5, _⟩ => ⟨S1024x1024, .f32⟩
  | _, _ => ⟨S2x2304x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 3], ![false, false, false]⟩

def k0_cond3 (i : grid0.Coords) : BitVec 1 :=
  let arg2 : BitVec 32 := BitVec.ofNat 32 (i 2).val
  let c2_i32_6 : BitVec 32 := 2#32
  let v13 : BitVec 1 := Scalar.cmpi .eq arg2 c2_i32_6
  let v14 : BitVec 32 := Scalar.extui v13
  let c0_i32_7 : BitVec 32 := 0#32
  let v15 : BitVec 1 := Scalar.cmpi .ne v14 c0_i32_7
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1536x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1536x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== MixWReferenceIdeal.lean ====
abbrev S2x2304x1024 : Shape := ⟨3, ![2, 2304, 1024]⟩
abbrev S1024x1024 : Shape := ⟨2, ![1024, 1024]⟩

abbrev nBuf : Space → Nat
  | .hbm => 8
  | .vmem => 0
  | .smem => 0
  | _ => 0

abbrev bufTy : (tb : Table) → Fin (tcTables nBuf tb) → BufTy
  | .hbm, ⟨0, _⟩ => ⟨S2x2304x1024, .f32⟩
  | .hbm, ⟨1, _⟩ => ⟨S1024x1024, .f32⟩
  | .hbm, ⟨2, _⟩ => ⟨S2x2304x1024, .f32⟩
  | .hbm, ⟨3, _⟩ => ⟨S2x2304x1024, .f32⟩
  | .hbm, ⟨4, _⟩ => ⟨S1024x1024, .f32⟩
  | .hbm, ⟨5, _⟩ => ⟨S1024x1024, .f32⟩
  | .hbm, ⟨6, _⟩ => ⟨S2x2304x1024, .f32⟩
  | .hbm, ⟨7, _⟩ => ⟨S1024x1024, .bf16⟩
  | _, _ => ⟨S2x2304x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== LastMix.lean ====
abbrev S2x2048x1024 : Shape := ⟨3, ![2, 2048, 1024]⟩
abbrev S1024x1024 : Shape := ⟨2, ![1024, 1024]⟩
abbrev S4096x1024 : Shape := ⟨2, ![4096, 1024]⟩

abbrev nBuf : Space → Nat
  | .hbm => 6
  | .vmem => 5
  | .smem => 0
  | _ => 0

abbrev bufTy : (tb : Table) → Fin (tcTables nBuf tb) → BufTy
  | .hbm, ⟨0, _⟩ => ⟨S2x2048x1024, .f32⟩
  | .hbm, ⟨1, _⟩ => ⟨S1024x1024, .f32⟩
  | .hbm, ⟨2, _⟩ => ⟨S4096x1024, .f32⟩
  | .hbm, ⟨3, _⟩ => ⟨S4096x1024, .bf16⟩
  | .hbm, ⟨4, _⟩ => ⟨S1024x1024, .bf16⟩
  | .hbm, ⟨5, _⟩ => ⟨S4096x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .f32⟩
  | .local _ .vmem, ⟨4, _⟩ => ⟨S1024x1024, .f32⟩
  | _, _ => ⟨S2x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![4, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== LastMixIdeal.lean ====
abbrev S2x2048x1024 : Shape := ⟨3, ![2, 2048, 1024]⟩
abbrev S1024x1024 : Shape := ⟨2, ![1024, 1024]⟩
abbrev S4096x1024 : Shape := ⟨2, ![4096, 1024]⟩

abbrev nBuf : Space → Nat
  | .hbm => 6
  | .vmem => 5
  | .smem => 0
  | _ => 0

abbrev bufTy : (tb : Table) → Fin (tcTables nBuf tb) → BufTy
  | .hbm, ⟨0, _⟩ => ⟨S2x2048x1024, .f32⟩
  | .hbm, ⟨1, _⟩ => ⟨S1024x1024, .f32⟩
  | .hbm, ⟨2, _⟩ => ⟨S4096x1024, .f32⟩
  | .hbm, ⟨3, _⟩ => ⟨S4096x1024, .bf16⟩
  | .hbm, ⟨4, _⟩ => ⟨S1024x1024, .bf16⟩
  | .hbm, ⟨5, _⟩ => ⟨S4096x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .f32⟩
  | .local _ .vmem, ⟨4, _⟩ => ⟨S1024x1024, .f32⟩
  | _, _ => ⟨S2x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![4, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== LastMixReferenceIdeal.lean ====
abbrev S2x2048x1024 : Shape := ⟨3, ![2, 2048, 1024]⟩
abbrev S1024x1024 : Shape := ⟨2, ![1024, 1024]⟩
abbrev S4096x1024 : Shape := ⟨2, ![4096, 1024]⟩

abbrev nBuf : Space → Nat
  | .hbm => 4
  | .vmem => 0
  | .smem => 0
  | _ => 0

abbrev bufTy : (tb : Table) → Fin (tcTables nBuf tb) → BufTy
  | .hbm, ⟨0, _⟩ => ⟨S2x2048x1024, .f32⟩
  | .hbm, ⟨1, _⟩ => ⟨S1024x1024, .f32⟩
  | .hbm, ⟨2, _⟩ => ⟨S2x2048x1024, .f32⟩
  | .hbm, ⟨3, _⟩ => ⟨S4096x1024, .f32⟩
  | _, _ => ⟨S2x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== LastMixT.lean ====
abbrev S2x2048x1024 : Shape := ⟨3, ![2, 2048, 1024]⟩
abbrev S1024x1024 : Shape := ⟨2, ![1024, 1024]⟩
abbrev S4096x1024 : Shape := ⟨2, ![4096, 1024]⟩

abbrev nBuf : Space → Nat
  | .hbm => 7
  | .vmem => 5
  | .smem => 0
  | _ => 0

abbrev bufTy : (tb : Table) → Fin (tcTables nBuf tb) → BufTy
  | .hbm, ⟨0, _⟩ => ⟨S2x2048x1024, .f32⟩
  | .hbm, ⟨1, _⟩ => ⟨S1024x1024, .f32⟩
  | .hbm, ⟨2, _⟩ => ⟨S2x2048x1024, .f32⟩
  | .hbm, ⟨3, _⟩ => ⟨S4096x1024, .f32⟩
  | .hbm, ⟨4, _⟩ => ⟨S4096x1024, .bf16⟩
  | .hbm, ⟨5, _⟩ => ⟨S1024x1024, .bf16⟩
  | .hbm, ⟨6, _⟩ => ⟨S4096x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .f32⟩
  | .local _ .vmem, ⟨4, _⟩ => ⟨S1024x1024, .f32⟩
  | _, _ => ⟨S2x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![4, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== LastMixTIdeal.lean ====
abbrev S2x2048x1024 : Shape := ⟨3, ![2, 2048, 1024]⟩
abbrev S1024x1024 : Shape := ⟨2, ![1024, 1024]⟩
abbrev S4096x1024 : Shape := ⟨2, ![4096, 1024]⟩

abbrev nBuf : Space → Nat
  | .hbm => 7
  | .vmem => 5
  | .smem => 0
  | _ => 0

abbrev bufTy : (tb : Table) → Fin (tcTables nBuf tb) → BufTy
  | .hbm, ⟨0, _⟩ => ⟨S2x2048x1024, .f32⟩
  | .hbm, ⟨1, _⟩ => ⟨S1024x1024, .f32⟩
  | .hbm, ⟨2, _⟩ => ⟨S2x2048x1024, .f32⟩
  | .hbm, ⟨3, _⟩ => ⟨S4096x1024, .f32⟩
  | .hbm, ⟨4, _⟩ => ⟨S4096x1024, .bf16⟩
  | .hbm, ⟨5, _⟩ => ⟨S1024x1024, .bf16⟩
  | .hbm, ⟨6, _⟩ => ⟨S4096x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .f32⟩
  | .local _ .vmem, ⟨4, _⟩ => ⟨S1024x1024, .f32⟩
  | _, _ => ⟨S2x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![4, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== LastMixTReferenceIdeal.lean ====
abbrev S2x2048x1024 : Shape := ⟨3, ![2, 2048, 1024]⟩
abbrev S1024x1024 : Shape := ⟨2, ![1024, 1024]⟩
abbrev S4096x1024 : Shape := ⟨2, ![4096, 1024]⟩

abbrev nBuf : Space → Nat
  | .hbm => 8
  | .vmem => 0
  | .smem => 0
  | _ => 0

abbrev bufTy : (tb : Table) → Fin (tcTables nBuf tb) → BufTy
  | .hbm, ⟨0, _⟩ => ⟨S2x2048x1024, .f32⟩
  | .hbm, ⟨1, _⟩ => ⟨S1024x1024, .f32⟩
  | .hbm, ⟨2, _⟩ => ⟨S2x2048x1024, .f32⟩
  | .hbm, ⟨3, _⟩ => ⟨S2x2048x1024, .f32⟩
  | .hbm, ⟨4, _⟩ => ⟨S1024x1024, .f32⟩
  | .hbm, ⟨5, _⟩ => ⟨S1024x1024, .f32⟩
  | .hbm, ⟨6, _⟩ => ⟨S2x2048x1024, .f32⟩
  | .hbm, ⟨7, _⟩ => ⟨S4096x1024, .f32⟩
  | _, _ => ⟨S2x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== LastMixW.lean ====
abbrev S2x2048x1024 : Shape := ⟨3, ![2, 2048, 1024]⟩
abbrev S1024x1024 : Shape := ⟨2, ![1024, 1024]⟩
abbrev S4096x1024 : Shape := ⟨2, ![4096, 1024]⟩

abbrev nBuf : Space → Nat
  | .hbm => 8
  | .vmem => 6
  | .smem => 0
  | _ => 0

abbrev bufTy : (tb : Table) → Fin (tcTables nBuf tb) → BufTy
  | .hbm, ⟨0, _⟩ => ⟨S2x2048x1024, .f32⟩
  | .hbm, ⟨1, _⟩ => ⟨S1024x1024, .f32⟩
  | .hbm, ⟨2, _⟩ => ⟨S2x2048x1024, .f32⟩
  | .hbm, ⟨3, _⟩ => ⟨S4096x1024, .f32⟩
  | .hbm, ⟨4, _⟩ => ⟨S4096x1024, .bf16⟩
  | .hbm, ⟨5, _⟩ => ⟨S4096x1024, .f32⟩
  | .hbm, ⟨6, _⟩ => ⟨S4096x1024, .bf16⟩
  | .hbm, ⟨7, _⟩ => ⟨S1024x1024, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | .local _ .vmem, ⟨5, _⟩ => ⟨S1024x1024, .f32⟩
  | _, _ => ⟨S2x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 4], ![false, false, false]⟩

def k0_cond3 (i : grid0.Coords) : BitVec 1 :=
  let arg2 : BitVec 32 := BitVec.ofNat 32 (i 2).val
  let c3_i32_6 : BitVec 32 := 3#32
  let v13 : BitVec 1 := Scalar.cmpi .eq arg2 c3_i32_6
  let v14 : BitVec 32 := Scalar.extui v13
  let c0_i32_7 : BitVec 32 := 0#32
  let v15 : BitVec 1 := Scalar.cmpi .ne v14 c0_i32_7
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== LastMixWIdeal.lean ====
abbrev S2x2048x1024 : Shape := ⟨3, ![2, 2048, 1024]⟩
abbrev S1024x1024 : Shape := ⟨2, ![1024, 1024]⟩
abbrev S4096x1024 : Shape := ⟨2, ![4096, 1024]⟩

abbrev nBuf : Space → Nat
  | .hbm => 8
  | .vmem => 6
  | .smem => 0
  | _ => 0

abbrev bufTy : (tb : Table) → Fin (tcTables nBuf tb) → BufTy
  | .hbm, ⟨0, _⟩ => ⟨S2x2048x1024, .f32⟩
  | .hbm, ⟨1, _⟩ => ⟨S1024x1024, .f32⟩
  | .hbm, ⟨2, _⟩ => ⟨S2x2048x1024, .f32⟩
  | .hbm, ⟨3, _⟩ => ⟨S4096x1024, .f32⟩
  | .hbm, ⟨4, _⟩ => ⟨S4096x1024, .bf16⟩
  | .hbm, ⟨5, _⟩ => ⟨S4096x1024, .f32⟩
  | .hbm, ⟨6, _⟩ => ⟨S4096x1024, .bf16⟩
  | .hbm, ⟨7, _⟩ => ⟨S1024x1024, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | .local _ .vmem, ⟨5, _⟩ => ⟨S1024x1024, .f32⟩
  | _, _ => ⟨S2x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 4], ![false, false, false]⟩

def k0_cond3 (i : grid0.Coords) : BitVec 1 :=
  let arg2 : BitVec 32 := BitVec.ofNat 32 (i 2).val
  let c3_i32_6 : BitVec 32 := 3#32
  let v13 : BitVec 1 := Scalar.cmpi .eq arg2 c3_i32_6
  let v14 : BitVec 32 := Scalar.extui v13
  let c0_i32_7 : BitVec 32 := 0#32
  let v15 : BitVec 1 := Scalar.cmpi .ne v14 c0_i32_7
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== LastMixWReferenceIdeal.lean ====
abbrev S2x2048x1024 : Shape := ⟨3, ![2, 2048, 1024]⟩
abbrev S1024x1024 : Shape := ⟨2, ![1024, 1024]⟩

abbrev nBuf : Space → Nat
  | .hbm => 8
  | .vmem => 0
  | .smem => 0
  | _ => 0

abbrev bufTy : (tb : Table) → Fin (tcTables nBuf tb) → BufTy
  | .hbm, ⟨0, _⟩ => ⟨S2x2048x1024, .f32⟩
  | .hbm, ⟨1, _⟩ => ⟨S1024x1024, .f32⟩
  | .hbm, ⟨2, _⟩ => ⟨S2x2048x1024, .f32⟩
  | .hbm, ⟨3, _⟩ => ⟨S2x2048x1024, .f32⟩
  | .hbm, ⟨4, _⟩ => ⟨S1024x1024, .f32⟩
  | .hbm, ⟨5, _⟩ => ⟨S1024x1024, .f32⟩
  | .hbm, ⟨6, _⟩ => ⟨S2x2048x1024, .f32⟩
  | .hbm, ⟨7, _⟩ => ⟨S1024x1024, .bf16⟩
  | _, _ => ⟨S2x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Glu.lean ====
abbrev S2x2048x256 : Shape := ⟨3, ![2, 2048, 256]⟩
abbrev S256x256 : Shape := ⟨2, ![256, 256]⟩
abbrev S4096x256 : Shape := ⟨2, ![4096, 256]⟩
abbrev S1024x256 : Shape := ⟨2, ![1024, 256]⟩

abbrev nBuf : Space → Nat
  | .hbm => 6
  | .vmem => 5
  | .smem => 0
  | _ => 0

abbrev bufTy : (tb : Table) → Fin (tcTables nBuf tb) → BufTy
  | .hbm, ⟨0, _⟩ => ⟨S2x2048x256, .f32⟩
  | .hbm, ⟨1, _⟩ => ⟨S256x256, .f32⟩
  | .hbm, ⟨2, _⟩ => ⟨S4096x256, .f32⟩
  | .hbm, ⟨3, _⟩ => ⟨S4096x256, .bf16⟩
  | .hbm, ⟨4, _⟩ => ⟨S256x256, .bf16⟩
  | .hbm, ⟨5, _⟩ => ⟨S4096x256, .f32⟩
  | .local _ .vmem, ⟨0, _⟩ => ⟨S1024x256, .bf16⟩
  | .local _ .vmem, ⟨1, _⟩ => ⟨S1024x256, .bf16⟩
  | .local _ .vmem, ⟨2, _⟩ => ⟨S256x256, .bf16⟩
  | .local _ .vmem, ⟨3, _⟩ => ⟨S1024x256, .f32⟩
  | .local _ .vmem, ⟨4, _⟩ => ⟨S1024x256, .f32⟩
  | _, _ => ⟨S2x2048x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![4, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S256x256 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== GluIdeal.lean ====
abbrev S2x2048x256 : Shape := ⟨3, ![2, 2048, 256]⟩
abbrev S256x256 : Shape := ⟨2, ![256, 256]⟩
abbrev S4096x256 : Shape := ⟨2, ![4096, 256]⟩
abbrev S1024x256 : Shape := ⟨2, ![1024, 256]⟩

abbrev nBuf : Space → Nat
  | .hbm => 6
  | .vmem => 5
  | .smem => 0
  | _ => 0

abbrev bufTy : (tb : Table) → Fin (tcTables nBuf tb) → BufTy
  | .hbm, ⟨0, _⟩ => ⟨S2x2048x256, .f32⟩
  | .hbm, ⟨1, _⟩ => ⟨S256x256, .f32⟩
  | .hbm, ⟨2, _⟩ => ⟨S4096x256, .f32⟩
  | .hbm, ⟨3, _⟩ => ⟨S4096x256, .bf16⟩
  | .hbm, ⟨4, _⟩ => ⟨S256x256, .bf16⟩
  | .hbm, ⟨5, _⟩ => ⟨S4096x256, .f32⟩
  | .local _ .vmem, ⟨0, _⟩ => ⟨S1024x256, .bf16⟩
  | .local _ .vmem, ⟨1, _⟩ => ⟨S1024x256, .bf16⟩
  | .local _ .vmem, ⟨2, _⟩ => ⟨S256x256, .bf16⟩
  | .local _ .vmem, ⟨3, _⟩ => ⟨S1024x256, .f32⟩
  | .local _ .vmem, ⟨4, _⟩ => ⟨S1024x256, .f32⟩
  | _, _ => ⟨S2x2048x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![4, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S256x256 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== GluReferenceIdeal.lean ====
abbrev S2x2048x256 : Shape := ⟨3, ![2, 2048, 256]⟩
abbrev S256x256 : Shape := ⟨2, ![256, 256]⟩
abbrev S4096x256 : Shape := ⟨2, ![4096, 256]⟩

abbrev nBuf : Space → Nat
  | .hbm => 4
  | .vmem => 0
  | .smem => 0
  | _ => 0

abbrev bufTy : (tb : Table) → Fin (tcTables nBuf tb) → BufTy
  | .hbm, ⟨0, _⟩ => ⟨S2x2048x256, .f32⟩
  | .hbm, ⟨1, _⟩ => ⟨S256x256, .f32⟩
  | .hbm, ⟨2, _⟩ => ⟨S2x2048x256, .f32⟩
  | .hbm, ⟨3, _⟩ => ⟨S4096x256, .f32⟩
  | _, _ => ⟨S2x2048x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== GluT.lean ====
abbrev S2x2048x256 : Shape := ⟨3, ![2, 2048, 256]⟩
abbrev S256x256 : Shape := ⟨2, ![256, 256]⟩
abbrev S4096x256 : Shape := ⟨2, ![4096, 256]⟩
abbrev S1024x256 : Shape := ⟨2, ![1024, 256]⟩

abbrev nBuf : Space → Nat
  | .hbm => 7
  | .vmem => 5
  | .smem => 0
  | _ => 0

abbrev bufTy : (tb : Table) → Fin (tcTables nBuf tb) → BufTy
  | .hbm, ⟨0, _⟩ => ⟨S2x2048x256, .f32⟩
  | .hbm, ⟨1, _⟩ => ⟨S256x256, .f32⟩
  | .hbm, ⟨2, _⟩ => ⟨S2x2048x256, .f32⟩
  | .hbm, ⟨3, _⟩ => ⟨S4096x256, .f32⟩
  | .hbm, ⟨4, _⟩ => ⟨S4096x256, .bf16⟩
  | .hbm, ⟨5, _⟩ => ⟨S256x256, .bf16⟩
  | .hbm, ⟨6, _⟩ => ⟨S4096x256, .f32⟩
  | .local _ .vmem, ⟨0, _⟩ => ⟨S1024x256, .bf16⟩
  | .local _ .vmem, ⟨1, _⟩ => ⟨S1024x256, .bf16⟩
  | .local _ .vmem, ⟨2, _⟩ => ⟨S256x256, .bf16⟩
  | .local _ .vmem, ⟨3, _⟩ => ⟨S1024x256, .f32⟩
  | .local _ .vmem, ⟨4, _⟩ => ⟨S1024x256, .f32⟩
  | _, _ => ⟨S2x2048x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![4, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S256x256 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== GluTIdeal.lean ====
abbrev S2x2048x256 : Shape := ⟨3, ![2, 2048, 256]⟩
abbrev S256x256 : Shape := ⟨2, ![256, 256]⟩
abbrev S4096x256 : Shape := ⟨2, ![4096, 256]⟩
abbrev S1024x256 : Shape := ⟨2, ![1024, 256]⟩

abbrev nBuf : Space → Nat
  | .hbm => 7
  | .vmem => 5
  | .smem => 0
  | _ => 0

abbrev bufTy : (tb : Table) → Fin (tcTables nBuf tb) → BufTy
  | .hbm, ⟨0, _⟩ => ⟨S2x2048x256, .f32⟩
  | .hbm, ⟨1, _⟩ => ⟨S256x256, .f32⟩
  | .hbm, ⟨2, _⟩ => ⟨S2x2048x256, .f32⟩
  | .hbm, ⟨3, _⟩ => ⟨S4096x256, .f32⟩
  | .hbm, ⟨4, _⟩ => ⟨S4096x256, .bf16⟩
  | .hbm, ⟨5, _⟩ => ⟨S256x256, .bf16⟩
  | .hbm, ⟨6, _⟩ => ⟨S4096x256, .f32⟩
  | .local _ .vmem, ⟨0, _⟩ => ⟨S1024x256, .bf16⟩
  | .local _ .vmem, ⟨1, _⟩ => ⟨S1024x256, .bf16⟩
  | .local _ .vmem, ⟨2, _⟩ => ⟨S256x256, .bf16⟩
  | .local _ .vmem, ⟨3, _⟩ => ⟨S1024x256, .f32⟩
  | .local _ .vmem, ⟨4, _⟩ => ⟨S1024x256, .f32⟩
  | _, _ => ⟨S2x2048x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![4, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S256x256 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== GluTReferenceIdeal.lean ====
abbrev S2x2048x256 : Shape := ⟨3, ![2, 2048, 256]⟩
abbrev S256x256 : Shape := ⟨2, ![256, 256]⟩
abbrev S4096x256 : Shape := ⟨2, ![4096, 256]⟩

abbrev nBuf : Space → Nat
  | .hbm => 8
  | .vmem => 0
  | .smem => 0
  | _ => 0

abbrev bufTy : (tb : Table) → Fin (tcTables nBuf tb) → BufTy
  | .hbm, ⟨0, _⟩ => ⟨S2x2048x256, .f32⟩
  | .hbm, ⟨1, _⟩ => ⟨S256x256, .f32⟩
  | .hbm, ⟨2, _⟩ => ⟨S2x2048x256, .f32⟩
  | .hbm, ⟨3, _⟩ => ⟨S2x2048x256, .f32⟩
  | .hbm, ⟨4, _⟩ => ⟨S256x256, .f32⟩
  | .hbm, ⟨5, _⟩ => ⟨S256x256, .f32⟩
  | .hbm, ⟨6, _⟩ => ⟨S2x2048x256, .f32⟩
  | .hbm, ⟨7, _⟩ => ⟨S4096x256, .f32⟩
  | _, _ => ⟨S2x2048x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== GluW.lean ====
abbrev S2x2048x256 : Shape := ⟨3, ![2, 2048, 256]⟩
abbrev S256x256 : Shape := ⟨2, ![256, 256]⟩
abbrev S4096x256 : Shape := ⟨2, ![4096, 256]⟩
abbrev S2048x256 : Shape := ⟨2, ![2048, 256]⟩

abbrev nBuf : Space → Nat
  | .hbm => 8
  | .vmem => 6
  | .smem => 0
  | _ => 0

abbrev bufTy : (tb : Table) → Fin (tcTables nBuf tb) → BufTy
  | .hbm, ⟨0, _⟩ => ⟨S2x2048x256, .f32⟩
  | .hbm, ⟨1, _⟩ => ⟨S256x256, .f32⟩
  | .hbm, ⟨2, _⟩ => ⟨S2x2048x256, .f32⟩
  | .hbm, ⟨3, _⟩ => ⟨S4096x256, .f32⟩
  | .hbm, ⟨4, _⟩ => ⟨S4096x256, .bf16⟩
  | .hbm, ⟨5, _⟩ => ⟨S4096x256, .f32⟩
  | .hbm, ⟨6, _⟩ => ⟨S4096x256, .bf16⟩
  | .hbm, ⟨7, _⟩ => ⟨S256x256, .bf16⟩
  | .local _ .vmem, ⟨0, _⟩ => ⟨S2048x256, .bf16⟩
  | .local _ .vmem, ⟨1, _⟩ => ⟨S2048x256, .bf16⟩
  | .local _ .vmem, ⟨2, _⟩ => ⟨S2048x256, .bf16⟩
  | .local _ .vmem, ⟨3, _⟩ => ⟨S2048x256, .bf16⟩
  | .local _ .vmem, ⟨4, _⟩ => ⟨S256x256, .bf16⟩
  | .local _ .vmem, ⟨5, _⟩ => ⟨S256x256, .f32⟩
  | _, _ => ⟨S2x2048x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 2], ![false, false, false]⟩

def k0_cond3 (i : grid0.Coords) : BitVec 1 :=
  let arg2 : BitVec 32 := BitVec.ofNat 32 (i 2).val
  let c1_i32_6 : BitVec 32 := 1#32
  let v13 : BitVec 1 := Scalar.cmpi .eq arg2 c1_i32_6
  let v14 : BitVec 32 := Scalar.extui v13
  let c0_i32_7 : BitVec 32 := 0#32
  let v15 : BitVec 1 := Scalar.cmpi .ne v14 c0_i32_7
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S256x256 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== GluWIdeal.lean ====
abbrev S2x2048x256 : Shape := ⟨3, ![2, 2048, 256]⟩
abbrev S256x256 : Shape := ⟨2, ![256, 256]⟩
abbrev S4096x256 : Shape := ⟨2, ![4096, 256]⟩
abbrev S2048x256 : Shape := ⟨2, ![2048, 256]⟩

abbrev nBuf : Space → Nat
  | .hbm => 8
  | .vmem => 6
  | .smem => 0
  | _ => 0

abbrev bufTy : (tb : Table) → Fin (tcTables nBuf tb) → BufTy
  | .hbm, ⟨0, _⟩ => ⟨S2x2048x256, .f32⟩
  | .hbm, ⟨1, _⟩ => ⟨S256x256, .f32⟩
  | .hbm, ⟨2, _⟩ => ⟨S2x2048x256, .f32⟩
  | .hbm, ⟨3, _⟩ => ⟨S4096x256, .f32⟩
  | .hbm, ⟨4, _⟩ => ⟨S4096x256, .bf16⟩
  | .hbm, ⟨5, _⟩ => ⟨S4096x256, .f32⟩
  | .hbm, ⟨6, _⟩ => ⟨S4096x256, .bf16⟩
  | .hbm, ⟨7, _⟩ => ⟨S256x256, .bf16⟩
  | .local _ .vmem, ⟨0, _⟩ => ⟨S2048x256, .bf16⟩
  | .local _ .vmem, ⟨1, _⟩ => ⟨S2048x256, .bf16⟩
  | .local _ .vmem, ⟨2, _⟩ => ⟨S2048x256, .bf16⟩
  | .local _ .vmem, ⟨3, _⟩ => ⟨S2048x256, .bf16⟩
  | .local _ .vmem, ⟨4, _⟩ => ⟨S256x256, .bf16⟩
  | .local _ .vmem, ⟨5, _⟩ => ⟨S256x256, .f32⟩
  | _, _ => ⟨S2x2048x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 2], ![false, false, false]⟩

def k0_cond3 (i : grid0.Coords) : BitVec 1 :=
  let arg2 : BitVec 32 := BitVec.ofNat 32 (i 2).val
  let c1_i32_6 : BitVec 32 := 1#32
  let v13 : BitVec 1 := Scalar.cmpi .eq arg2 c1_i32_6
  let v14 : BitVec 32 := Scalar.extui v13
  let c0_i32_7 : BitVec 32 := 0#32
  let v15 : BitVec 1 := Scalar.cmpi .ne v14 c0_i32_7
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S256x256 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== GluWReferenceIdeal.lean ====
abbrev S2x2048x256 : Shape := ⟨3, ![2, 2048, 256]⟩
abbrev S256x256 : Shape := ⟨2, ![256, 256]⟩

abbrev nBuf : Space → Nat
  | .hbm => 8
  | .vmem => 0
  | .smem => 0
  | _ => 0

abbrev bufTy : (tb : Table) → Fin (tcTables nBuf tb) → BufTy
  | .hbm, ⟨0, _⟩ => ⟨S2x2048x256, .f32⟩
  | .hbm, ⟨1, _⟩ => ⟨S256x256, .f32⟩
  | .hbm, ⟨2, _⟩ => ⟨S2x2048x256, .f32⟩
  | .hbm, ⟨3, _⟩ => ⟨S2x2048x256, .f32⟩
  | .hbm, ⟨4, _⟩ => ⟨S256x256, .f32⟩
  | .hbm, ⟨5, _⟩ => ⟨S256x256, .f32⟩
  | .hbm, ⟨6, _⟩ => ⟨S2x2048x256, .f32⟩
  | .hbm, ⟨7, _⟩ => ⟨S256x256, .bf16⟩
  | _, _ => ⟨S2x2048x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== GluCtx.lean ====
abbrev S2x256x256 : Shape := ⟨3, ![2, 256, 256]⟩
abbrev S256x256 : Shape := ⟨2, ![256, 256]⟩
abbrev S512x256 : Shape := ⟨2, ![512, 256]⟩

abbrev nBuf : Space → Nat
  | .hbm => 6
  | .vmem => 3
  | .smem => 0
  | _ => 0

abbrev bufTy : (tb : Table) → Fin (tcTables nBuf tb) → BufTy
  | .hbm, ⟨0, _⟩ => ⟨S2x256x256, .f32⟩
  | .hbm, ⟨1, _⟩ => ⟨S256x256, .f32⟩
  | .hbm, ⟨2, _⟩ => ⟨S512x256, .f32⟩
  | .hbm, ⟨3, _⟩ => ⟨S512x256, .bf16⟩
  | .hbm, ⟨4, _⟩ => ⟨S256x256, .bf16⟩
  | .hbm, ⟨5, _⟩ => ⟨S512x256, .f32⟩
  | .local _ .vmem, ⟨0, _⟩ => ⟨S512x256, .bf16⟩
  | .local _ .vmem, ⟨1, _⟩ => ⟨S256x256, .bf16⟩
  | .local _ .vmem, ⟨2, _⟩ => ⟨S512x256, .f32⟩
  | _, _ => ⟨S2x256x256, .f32⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := ⟨3, ![1, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 1 → Memref sig .tc .vmem S512x256 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 1 → Memref sig .tc .vmem S256x256 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 1 → Memref sig .tc .vmem S512x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== GluCtxReferenceIdeal.lean ====
abbrev S2x256x256 : Shape := ⟨3, ![2, 256, 256]⟩
abbrev S256x256 : Shape := ⟨2, ![256, 256]⟩
abbrev S512x256 : Shape := ⟨2, ![512, 256]⟩

abbrev nBuf : Space → Nat
  | .hbm => 4
  | .vmem => 0
  | .smem => 0
  | _ => 0

abbrev bufTy : (tb : Table) → Fin (tcTables nBuf tb) → BufTy
  | .hbm, ⟨0, _⟩ => ⟨S2x256x256, .f32⟩
  | .hbm, ⟨1, _⟩ => ⟨S256x256, .f32⟩
  | .hbm, ⟨2, _⟩ => ⟨S2x256x256, .f32⟩
  | .hbm, ⟨3, _⟩ => ⟨S512x256, .f32⟩
  | _, _ => ⟨S2x256x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== GluCtxT.lean ====
abbrev S2x256x256 : Shape := ⟨3, ![2, 256, 256]⟩
abbrev S256x256 : Shape := ⟨2, ![256, 256]⟩
abbrev S512x256 : Shape := ⟨2, ![512, 256]⟩

abbrev nBuf : Space → Nat
  | .hbm => 7
  | .vmem => 3
  | .smem => 0
  | _ => 0

abbrev bufTy : (tb : Table) → Fin (tcTables nBuf tb) → BufTy
  | .hbm, ⟨0, _⟩ => ⟨S2x256x256, .f32⟩
  | .hbm, ⟨1, _⟩ => ⟨S256x256, .f32⟩
  | .hbm, ⟨2, _⟩ => ⟨S2x256x256, .f32⟩
  | .hbm, ⟨3, _⟩ => ⟨S512x256, .f32⟩
  | .hbm, ⟨4, _⟩ => ⟨S512x256, .bf16⟩
  | .hbm, ⟨5, _⟩ => ⟨S256x256, .bf16⟩
  | .hbm, ⟨6, _⟩ => ⟨S512x256, .f32⟩
  | .local _ .vmem, ⟨0, _⟩ => ⟨S512x256, .bf16⟩
  | .local _ .vmem, ⟨1, _⟩ => ⟨S256x256, .bf16⟩
  | .local _ .vmem, ⟨2, _⟩ => ⟨S512x256, .f32⟩
  | _, _ => ⟨S2x256x256, .f32⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := ⟨3, ![1, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 1 → Memref sig .tc .vmem S512x256 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 1 → Memref sig .tc .vmem S256x256 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 1 → Memref sig .tc .vmem S512x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== GluCtxTReferenceIdeal.lean ====
abbrev S2x256x256 : Shape := ⟨3, ![2, 256, 256]⟩
abbrev S256x256 : Shape := ⟨2, ![256, 256]⟩
abbrev S512x256 : Shape := ⟨2, ![512, 256]⟩

abbrev nBuf : Space → Nat
  | .hbm => 8
  | .vmem => 0
  | .smem => 0
  | _ => 0

abbrev bufTy : (tb : Table) → Fin (tcTables nBuf tb) → BufTy
  | .hbm, ⟨0, _⟩ => ⟨S2x256x256, .f32⟩
  | .hbm, ⟨1, _⟩ => ⟨S256x256, .f32⟩
  | .hbm, ⟨2, _⟩ => ⟨S2x256x256, .f32⟩
  | .hbm, ⟨3, _⟩ => ⟨S2x256x256, .f32⟩
  | .hbm, ⟨4, _⟩ => ⟨S256x256, .f32⟩
  | .hbm, ⟨5, _⟩ => ⟨S256x256, .f32⟩
  | .hbm, ⟨6, _⟩ => ⟨S2x256x256, .f32⟩
  | .hbm, ⟨7, _⟩ => ⟨S512x256, .f32⟩
  | _, _ => ⟨S2x256x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== GluCtxW.lean ====
abbrev S2x256x256 : Shape := ⟨3, ![2, 256, 256]⟩
abbrev S256x256 : Shape := ⟨2, ![256, 256]⟩
abbrev S512x256 : Shape := ⟨2, ![512, 256]⟩

abbrev nBuf : Space → Nat
  | .hbm => 8
  | .vmem => 3
  | .smem => 0
  | _ => 0

abbrev bufTy : (tb : Table) → Fin (tcTables nBuf tb) → BufTy
  | .hbm, ⟨0, _⟩ => ⟨S2x256x256, .f32⟩
  | .hbm, ⟨1, _⟩ => ⟨S256x256, .f32⟩
  | .hbm, ⟨2, _⟩ => ⟨S2x256x256, .f32⟩
  | .hbm, ⟨3, _⟩ => ⟨S512x256, .f32⟩
  | .hbm, ⟨4, _⟩ => ⟨S512x256, .bf16⟩
  | .hbm, ⟨5, _⟩ => ⟨S512x256, .f32⟩
  | .hbm, ⟨6, _⟩ => ⟨S512x256, .bf16⟩
  | .hbm, ⟨7, _⟩ => ⟨S256x256, .bf16⟩
  | .local _ .vmem, ⟨0, _⟩ => ⟨S512x256, .bf16⟩
  | .local _ .vmem, ⟨1, _⟩ => ⟨S512x256, .bf16⟩
  | .local _ .vmem, ⟨2, _⟩ => ⟨S256x256, .bf16⟩
  | _, _ => ⟨S2x256x256, .f32⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := ⟨3, ![1, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 1 → Memref sig .tc .vmem S512x256 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 1 → Memref sig .tc .vmem S512x256 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 1 → Memref sig .tc .vmem S256x256 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== GluCtxWReferenceIdeal.lean ====
abbrev S2x256x256 : Shape := ⟨3, ![2, 256, 256]⟩
abbrev S256x256 : Shape := ⟨2, ![256, 256]⟩

abbrev nBuf : Space → Nat
  | .hbm => 8
  | .vmem => 0
  | .smem => 0
  | _ => 0

abbrev bufTy : (tb : Table) → Fin (tcTables nBuf tb) → BufTy
  | .hbm, ⟨0, _⟩ => ⟨S2x256x256, .f32⟩
  | .hbm, ⟨1, _⟩ => ⟨S256x256, .f32⟩
  | .hbm, ⟨2, _⟩ => ⟨S2x256x256, .f32⟩
  | .hbm, ⟨3, _⟩ => ⟨S2x256x256, .f32⟩
  | .hbm, ⟨4, _⟩ => ⟨S256x256, .f32⟩
  | .hbm, ⟨5, _⟩ => ⟨S256x256, .f32⟩
  | .hbm, ⟨6, _⟩ => ⟨S2x256x256, .f32⟩
  | .hbm, ⟨7, _⟩ => ⟨S256x256, .bf16⟩
  | _, _ => ⟨S2x256x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== AdamUp.lean ====
abbrev S8x4x1024x512 : Shape := ⟨4, ![8, 4, 1024, 512]⟩
abbrev S4x1024x512 : Shape := ⟨3, ![4, 1024, 512]⟩
abbrev S4096x512 : Shape := ⟨2, ![4096, 512]⟩
abbrev S8x4096x512 : Shape := ⟨3, ![8, 4096, 512]⟩
abbrev S8x256x512 : Shape := ⟨3, ![8, 256, 512]⟩
abbrev S256x512 : Shape := ⟨2, ![256, 512]⟩
abbrev S1x256x512 : Shape := ⟨3, ![1, 256, 512]⟩

abbrev nBuf : Space → Nat
  | .hbm => 12
  | .vmem => 16
  | .smem => 0
  | _ => 0

abbrev bufTy : (tb : Table) → Fin (tcTables nBuf tb) → BufTy
  | .hbm, ⟨0, _⟩ => ⟨S8x4x1024x512, .bf16⟩
  | .hbm, ⟨1, _⟩ => ⟨S4x1024x512, .f32⟩
  | .hbm, ⟨2, _⟩ => ⟨S4x1024x512, .f32⟩
  | .hbm, ⟨3, _⟩ => ⟨S4x1024x512, .f32⟩
  | .hbm, ⟨4, _⟩ => ⟨S4096x512, .f32⟩
  | .hbm, ⟨5, _⟩ => ⟨S4096x512, .f32⟩
  | .hbm, ⟨6, _⟩ => ⟨S4096x512, .f32⟩
  | .hbm, ⟨7, _⟩ => ⟨S8x4096x512, .bf16⟩
  | .hbm, ⟨8, _⟩ => ⟨S4096x512, .f32⟩
  | .hbm, ⟨9, _⟩ => ⟨S4096x512, .f32⟩
  | .hbm, ⟨10, _⟩ => ⟨S4096x512, .f32⟩
  | .hbm, ⟨11, _⟩ => ⟨S4096x512, .f32⟩
  | .local _ .vmem, ⟨0, _⟩ => ⟨S8x256x512, .bf16⟩
  | .local _ .vmem, ⟨1, _⟩ => ⟨S8x256x512, .bf16⟩
  | .local _ .vmem, ⟨2, _⟩ => ⟨S256x512, .f32⟩
  | .local _ .vmem, ⟨3, _⟩ => ⟨S256x512, .f32⟩
  | .local _ .vmem, ⟨4, _⟩ => ⟨S256x512, .f32⟩
  | .local _ .vmem, ⟨5, _⟩ => ⟨S256x512, .f32⟩
  | .local _ .vmem, ⟨6, _⟩ => ⟨S256x512, .f32⟩
  | .local _ .vmem, ⟨7, _⟩ => ⟨S256x512, .f32⟩
  | .local _ .vmem, ⟨8, _⟩ => ⟨S256x512, .f32⟩
  | .local _ .vmem, ⟨9, _⟩ => ⟨S256x512, .f32⟩
  | .local _ .vmem, ⟨10, _⟩ => ⟨S256x512, .f32⟩
  | .local _ .vmem, ⟨11, _⟩ => ⟨S256x512, .f32⟩
  | .local _ .vmem, ⟨12, _⟩ => ⟨S256x512, .f32⟩
  | .local _ .vmem, ⟨13, _⟩ => ⟨S256x512, .f32⟩
  | .local _ .vmem, ⟨14, _⟩ => ⟨S256x512, .f32⟩
  | .local _ .vmem, ⟨15, _⟩ => ⟨S256x512, .f32⟩
  | _, _ => ⟨S8x4x1024x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev main_v4_3 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![16], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8x256x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== AdamUpIdeal.lean ====
abbrev S8x4x1024x512 : Shape := ⟨4, ![8, 4, 1024, 512]⟩
abbrev S4x1024x512 : Shape := ⟨3, ![4, 1024, 512]⟩
abbrev S4096x512 : Shape := ⟨2, ![4096, 512]⟩
abbrev S8x4096x512 : Shape := ⟨3, ![8, 4096, 512]⟩
abbrev S8x256x512 : Shape := ⟨3, ![8, 256, 512]⟩
abbrev S256x512 : Shape := ⟨2, ![256, 512]⟩
abbrev S1x256x512 : Shape := ⟨3, ![1, 256, 512]⟩

abbrev nBuf : Space → Nat
  | .hbm => 12
  | .vmem => 16
  | .smem => 0
  | _ => 0

abbrev bufTy : (tb : Table) → Fin (tcTables nBuf tb) → BufTy
  | .hbm, ⟨0, _⟩ => ⟨S8x4x1024x512, .bf16⟩
  | .hbm, ⟨1, _⟩ => ⟨S4x1024x512, .f32⟩
  | .hbm, ⟨2, _⟩ => ⟨S4x1024x512, .f32⟩
  | .hbm, ⟨3, _⟩ => ⟨S4x1024x512, .f32⟩
  | .hbm, ⟨4, _⟩ => ⟨S4096x512, .f32⟩
  | .hbm, ⟨5, _⟩ => ⟨S4096x512, .f32⟩
  | .hbm, ⟨6, _⟩ => ⟨S4096x512, .f32⟩
  | .hbm, ⟨7, _⟩ => ⟨S8x4096x512, .bf16⟩
  | .hbm, ⟨8, _⟩ => ⟨S4096x512, .f32⟩
  | .hbm, ⟨9, _⟩ => ⟨S4096x512, .f32⟩
  | .hbm, ⟨10, _⟩ => ⟨S4096x512, .f32⟩
  | .hbm, ⟨11, _⟩ => ⟨S4096x512, .f32⟩
  | .local _ .vmem, ⟨0, _⟩ => ⟨S8x256x512, .bf16⟩
  | .local _ .vmem, ⟨1, _⟩ => ⟨S8x256x512, .bf16⟩
  | .local _ .vmem, ⟨2, _⟩ => ⟨S256x512, .f32⟩
  | .local _ .vmem, ⟨3, _⟩ => ⟨S256x512, .f32⟩
  | .local _ .vmem, ⟨4, _⟩ => ⟨S256x512, .f32⟩
  | .local _ .vmem, ⟨5, _⟩ => ⟨S256x512, .f32⟩
  | .local _ .vmem, ⟨6, _⟩ => ⟨S256x512, .f32⟩
  | .local _ .vmem, ⟨7, _⟩ => ⟨S256x512, .f32⟩
  | .local _ .vmem, ⟨8, _⟩ => ⟨S256x512, .f32⟩
  | .local _ .vmem, ⟨9, _⟩ => ⟨S256x512, .f32⟩
  | .local _ .vmem, ⟨10, _⟩ => ⟨S256x512, .f32⟩
  | .local _ .vmem, ⟨11, _⟩ => ⟨S256x512, .f32⟩
  | .local _ .vmem, ⟨12, _⟩ => ⟨S256x512, .f32⟩
  | .local _ .vmem, ⟨13, _⟩ => ⟨S256x512, .f32⟩
  | .local _ .vmem, ⟨14, _⟩ => ⟨S256x512, .f32⟩
  | .local _ .vmem, ⟨15, _⟩ => ⟨S256x512, .f32⟩
  | _, _ => ⟨S8x4x1024x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev main_v4_3 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![16], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8x256x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== AdamUpReferenceIdeal.lean ====
abbrev S8x4x1024x512 : Shape := ⟨4, ![8, 4, 1024, 512]⟩
abbrev S4x1024x512 : Shape := ⟨3, ![4, 1024, 512]⟩
abbrev S_ : Shape := ⟨0, ![]⟩
abbrev S4096x512 : Shape := ⟨2, ![4096, 512]⟩

abbrev nBuf : Space → Nat
  | .hbm => 44
  | .vmem => 0
  | .smem => 0
  | _ => 0

abbrev bufTy : (tb : Table) → Fin (tcTables nBuf tb) → BufTy
  | .hbm, ⟨0, _⟩ => ⟨S8x4x1024x512, .bf16⟩
  | .hbm, ⟨1, _⟩ => ⟨S4x1024x512, .f32⟩
  | .hbm, ⟨2, _⟩ => ⟨S4x1024x512, .f32⟩
  | .hbm, ⟨3, _⟩ => ⟨S4x1024x512, .f32⟩
  | .hbm, ⟨4, _⟩ => ⟨S8x4x1024x512, .f32⟩
  | .hbm, ⟨5, _⟩ => ⟨S_, .f32⟩
  | .hbm, ⟨6, _⟩ => ⟨S4x1024x512, .f32⟩
  | .hbm, ⟨7, _⟩ => ⟨S_, .f32⟩
  | .hbm, ⟨8, _⟩ => ⟨S4x1024x512, .f32⟩
  | .hbm, ⟨9, _⟩ => ⟨S4x1024x512, .f32⟩
  | .hbm, ⟨10, _⟩ => ⟨S_, .f32⟩
  | .hbm, ⟨11, _⟩ => ⟨S4x1024x512, .f32⟩
  | .hbm, ⟨12, _⟩ => ⟨S4x1024x512, .f32⟩
  | .hbm, ⟨13, _⟩ => ⟨S4x1024x512, .f32⟩
  | .hbm, ⟨14, _⟩ => ⟨S_, .f32⟩
  | .hbm, ⟨15, _⟩ => ⟨S4x1024x512, .f32⟩
  | .hbm, ⟨16, _⟩ => ⟨S4x1024x512, .f32⟩
  | .hbm, ⟨17, _⟩ => ⟨S4x1024x512, .f32⟩
  | .hbm, ⟨18, _⟩ => ⟨S_, .f32⟩
  | .hbm, ⟨19, _⟩ => ⟨S4x1024x512, .f32⟩
  | .hbm, ⟨20, _⟩ => ⟨S4x1024x512, .f32⟩
  | .hbm, ⟨21, _⟩ => ⟨S4x1024x512, .f32⟩
  | .hbm, ⟨22, _⟩ => ⟨S_, .f32⟩
  | .hbm, ⟨23, _⟩ => ⟨S4x1024x512, .f32⟩
  | .hbm, ⟨24, _⟩ => ⟨S4x1024x512, .f32⟩
  | .hbm, ⟨25, _⟩ => ⟨S_, .f32⟩
  | .hbm, ⟨26, _⟩ => ⟨S4x1024x512, .f32⟩
  | .hbm, ⟨27, _⟩ => ⟨S4x1024x512, .f32⟩
  | .hbm, ⟨28, _⟩ => ⟨S4x1024x512, .f32⟩
  | .hbm, ⟨29, _⟩ => ⟨S_, .f32⟩
  | .hbm, ⟨30, _⟩ => ⟨S4x1024x512, .f32⟩
  | .hbm, ⟨31, _⟩ => ⟨S4x1024x512, .f32⟩
  | .hbm, ⟨32, _⟩ => ⟨S4x1024x512, .f32⟩
  | .hbm, ⟨33, _⟩ => ⟨S_, .f32⟩
  | .hbm, ⟨34, _⟩ => ⟨S4x1024x512, .f32⟩
  | .hbm, ⟨35, _⟩ => ⟨S4x1024x512, .f32⟩
  | .hbm, ⟨36, _⟩ => ⟨S4x1024x512, .f32⟩
  | .hbm, ⟨37, _⟩ => ⟨S_, .f32⟩
  | .hbm, ⟨38, _⟩ => ⟨S4x1024x512, .f32⟩
  | .hbm, ⟨39, _⟩ => ⟨S4x1024x512, .f32⟩
  | .hbm, ⟨40, _⟩ => ⟨S4096x512, .f32⟩
  | .hbm, ⟨41, _⟩ => ⟨S4096x512, .f32⟩
  | .hbm, ⟨42, _⟩ => ⟨S4096x512, .f32⟩
  | .hbm, ⟨43, _⟩ => ⟨S4096x512, .f32⟩
  | _, _ => ⟨S8x4x1024x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_cst_1 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_2 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_3 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_cst_5 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_6 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_7 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_8 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩

abbrev nD : Nat := 1
abbrev τ : Topo := Topo.v7x

variable {F : FTy → Type} [FloatOps F]
-- ==== AdamDown.lean ====
abbrev S8x4x512x1024 : Shape := ⟨4, ![8, 4, 512, 1024]⟩
abbrev S4x512x1024 : Shape := ⟨3, ![4, 512, 1024]⟩
abbrev S2048x1024 : Shape := ⟨2, ![2048, 1024]⟩
abbrev S8x2048x1024 : Shape := ⟨3, ![8, 2048, 1024]⟩
abbrev S8x256x1024 : Shape := ⟨3, ![8, 256, 1024]⟩
abbrev S256x1024 : Shape := ⟨2, ![256, 1024]⟩
abbrev S1x256x1024 : Shape := ⟨3, ![1, 256, 1024]⟩

abbrev nBuf : Space → Nat
  | .hbm => 12
  | .vmem => 16
  | .smem => 0
  | _ => 0

abbrev bufTy : (tb : Table) → Fin (tcTables nBuf tb) → BufTy
  | .hbm, ⟨0, _⟩ => ⟨S8x4x512x1024, .bf16⟩
  | .hbm, ⟨1, _⟩ => ⟨S4x512x1024, .f32⟩
  | .hbm, ⟨2, _⟩ => ⟨S4x512x1024, .f32⟩
  | .hbm, ⟨3, _⟩ => ⟨S4x512x1024, .f32⟩
  | .hbm, ⟨4, _⟩ => ⟨S2048x1024, .f32⟩
  | .hbm, ⟨5, _⟩ => ⟨S2048x1024, .f32⟩
  | .hbm, ⟨6, _⟩ => ⟨S2048x1024, .f32⟩
  | .hbm, ⟨7, _⟩ => ⟨S8x2048x1024, .bf16⟩
  | .hbm, ⟨8, _⟩ => ⟨S2048x1024, .f32⟩
  | .hbm, ⟨9, _⟩ => ⟨S2048x1024, .f32⟩
  | .hbm, ⟨10, _⟩ => ⟨S2048x1024, .f32⟩
  | .hbm, ⟨11, _⟩ => ⟨S2048x1024, .f32⟩
  | .local _ .vmem, ⟨0, _⟩ => ⟨S8x256x1024, .bf16⟩
  | .local _ .vmem, ⟨1, _⟩ => ⟨S8x256x1024, .bf16⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | .local _ .vmem, ⟨7, _⟩ => ⟨S256x1024, .f32⟩
  | .local _ .vmem, ⟨8, _⟩ => ⟨S256x1024, .f32⟩
  | .local _ .vmem, ⟨9, _⟩ => ⟨S256x1024, .f32⟩
  | .local _ .vmem, ⟨10, _⟩ => ⟨S256x1024, .f32⟩
  | .local _ .vmem, ⟨11, _⟩ => ⟨S256x1024, .f32⟩
  | .local _ .vmem, ⟨12, _⟩ => ⟨S256x1024, .f32⟩
  | .local _ .vmem, ⟨13, _⟩ => ⟨S256x1024, .f32⟩
  | .local _ .vmem, ⟨14, _⟩ => ⟨S256x1024, .f32⟩
  | .local _ .vmem, ⟨15, _⟩ => ⟨S256x1024, .f32⟩
  | _, _ => ⟨S8x4x512x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev main_v4_3 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![8], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8x256x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== AdamDownIdeal.lean ====
abbrev S8x4x512x1024 : Shape := ⟨4, ![8, 4, 512, 1024]⟩
abbrev S4x512x1024 : Shape := ⟨3, ![4, 512, 1024]⟩
abbrev S2048x1024 : Shape := ⟨2, ![2048, 1024]⟩
abbrev S8x2048x1024 : Shape := ⟨3, ![8, 2048, 1024]⟩
abbrev S8x256x1024 : Shape := ⟨3, ![8, 256, 1024]⟩
abbrev S256x1024 : Shape := ⟨2, ![256, 1024]⟩
abbrev S1x256x1024 : Shape := ⟨3, ![1, 256, 1024]⟩

abbrev nBuf : Space → Nat
  | .hbm => 12
  | .vmem => 16
  | .smem => 0
  | _ => 0

abbrev bufTy : (tb : Table) → Fin (tcTables nBuf tb) → BufTy
  | .hbm, ⟨0, _⟩ => ⟨S8x4x512x1024, .bf16⟩
  | .hbm, ⟨1, _⟩ => ⟨S4x512x1024, .f32⟩
  | .hbm, ⟨2, _⟩ => ⟨S4x512x1024, .f32⟩
  | .hbm, ⟨3, _⟩ => ⟨S4x512x1024, .f32⟩
  | .hbm, ⟨4, _⟩ => ⟨S2048x1024, .f32⟩
  | .hbm, ⟨5, _⟩ => ⟨S2048x1024, .f32⟩
  | .hbm, ⟨6, _⟩ => ⟨S2048x1024, .f32⟩
  | .hbm, ⟨7, _⟩ => ⟨S8x2048x1024, .bf16⟩
  | .hbm, ⟨8, _⟩ => ⟨S2048x1024, .f32⟩
  | .hbm, ⟨9, _⟩ => ⟨S2048x1024, .f32⟩
  | .hbm, ⟨10, _⟩ => ⟨S2048x1024, .f32⟩
  | .hbm, ⟨11, _⟩ => ⟨S2048x1024, .f32⟩
  | .local _ .vmem, ⟨0, _⟩ => ⟨S8x256x1024, .bf16⟩
  | .local _ .vmem, ⟨1, _⟩ => ⟨S8x256x1024, .bf16⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | .local _ .vmem, ⟨7, _⟩ => ⟨S256x1024, .f32⟩
  | .local _ .vmem, ⟨8, _⟩ => ⟨S256x1024, .f32⟩
  | .local _ .vmem, ⟨9, _⟩ => ⟨S256x1024, .f32⟩
  | .local _ .vmem, ⟨10, _⟩ => ⟨S256x1024, .f32⟩
  | .local _ .vmem, ⟨11, _⟩ => ⟨S256x1024, .f32⟩
  | .local _ .vmem, ⟨12, _⟩ => ⟨S256x1024, .f32⟩
  | .local _ .vmem, ⟨13, _⟩ => ⟨S256x1024, .f32⟩
  | .local _ .vmem, ⟨14, _⟩ => ⟨S256x1024, .f32⟩
  | .local _ .vmem, ⟨15, _⟩ => ⟨S256x1024, .f32⟩
  | _, _ => ⟨S8x4x512x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev main_v4_3 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![8], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8x256x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== AdamDownReferenceIdeal.lean ====
abbrev S8x4x512x1024 : Shape := ⟨4, ![8, 4, 512, 1024]⟩
abbrev S4x512x1024 : Shape := ⟨3, ![4, 512, 1024]⟩
abbrev S_ : Shape := ⟨0, ![]⟩
abbrev S2048x1024 : Shape := ⟨2, ![2048, 1024]⟩

abbrev nBuf : Space → Nat
  | .hbm => 44
  | .vmem => 0
  | .smem => 0
  | _ => 0

abbrev bufTy : (tb : Table) → Fin (tcTables nBuf tb) → BufTy
  | .hbm, ⟨0, _⟩ => ⟨S8x4x512x1024, .bf16⟩
  | .hbm, ⟨1, _⟩ => ⟨S4x512x1024, .f32⟩
  | .hbm, ⟨2, _⟩ => ⟨S4x512x1024, .f32⟩
  | .hbm, ⟨3, _⟩ => ⟨S4x512x1024, .f32⟩
  | .hbm, ⟨4, _⟩ => ⟨S8x4x512x1024, .f32⟩
  | .hbm, ⟨5, _⟩ => ⟨S_, .f32⟩
  | .hbm, ⟨6, _⟩ => ⟨S4x512x1024, .f32⟩
  | .hbm, ⟨7, _⟩ => ⟨S_, .f32⟩
  | .hbm, ⟨8, _⟩ => ⟨S4x512x1024, .f32⟩
  | .hbm, ⟨9, _⟩ => ⟨S4x512x1024, .f32⟩
  | .hbm, ⟨10, _⟩ => ⟨S_, .f32⟩
  | .hbm, ⟨11, _⟩ => ⟨S4x512x1024, .f32⟩
  | .hbm, ⟨12, _⟩ => ⟨S4x512x1024, .f32⟩
  | .hbm, ⟨13, _⟩ => ⟨S4x512x1024, .f32⟩
  | .hbm, ⟨14, _⟩ => ⟨S_, .f32⟩
  | .hbm, ⟨15, _⟩ => ⟨S4x512x1024, .f32⟩
  | .hbm, ⟨16, _⟩ => ⟨S4x512x1024, .f32⟩
  | .hbm, ⟨17, _⟩ => ⟨S4x512x1024, .f32⟩
  | .hbm, ⟨18, _⟩ => ⟨S_, .f32⟩
  | .hbm, ⟨19, _⟩ => ⟨S4x512x1024, .f32⟩
  | .hbm, ⟨20, _⟩ => ⟨S4x512x1024, .f32⟩
  | .hbm, ⟨21, _⟩ => ⟨S4x512x1024, .f32⟩
  | .hbm, ⟨22, _⟩ => ⟨S_, .f32⟩
  | .hbm, ⟨23, _⟩ => ⟨S4x512x1024, .f32⟩
  | .hbm, ⟨24, _⟩ => ⟨S4x512x1024, .f32⟩
  | .hbm, ⟨25, _⟩ => ⟨S_, .f32⟩
  | .hbm, ⟨26, _⟩ => ⟨S4x512x1024, .f32⟩
  | .hbm, ⟨27, _⟩ => ⟨S4x512x1024, .f32⟩
  | .hbm, ⟨28, _⟩ => ⟨S4x512x1024, .f32⟩
  | .hbm, ⟨29, _⟩ => ⟨S_, .f32⟩
  | .hbm, ⟨30, _⟩ => ⟨S4x512x1024, .f32⟩
  | .hbm, ⟨31, _⟩ => ⟨S4x512x1024, .f32⟩
  | .hbm, ⟨32, _⟩ => ⟨S4x512x1024, .f32⟩
  | .hbm, ⟨33, _⟩ => ⟨S_, .f32⟩
  | .hbm, ⟨34, _⟩ => ⟨S4x512x1024, .f32⟩
  | .hbm, ⟨35, _⟩ => ⟨S4x512x1024, .f32⟩
  | .hbm, ⟨36, _⟩ => ⟨S4x512x1024, .f32⟩
  | .hbm, ⟨37, _⟩ => ⟨S_, .f32⟩
  | .hbm, ⟨38, _⟩ => ⟨S4x512x1024, .f32⟩
  | .hbm, ⟨39, _⟩ => ⟨S4x512x1024, .f32⟩
  | .hbm, ⟨40, _⟩ => ⟨S2048x1024, .f32⟩
  | .hbm, ⟨41, _⟩ => ⟨S2048x1024, .f32⟩
  | .hbm, ⟨42, _⟩ => ⟨S2048x1024, .f32⟩
  | .hbm, ⟨43, _⟩ => ⟨S2048x1024, .f32⟩
  | _, _ => ⟨S8x4x512x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_cst_1 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_2 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_3 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_cst_5 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_6 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_7 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_8 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩

abbrev nD : Nat := 1
abbrev τ : Topo := Topo.v7x

variable {F : FTy → Type} [FloatOps F]
-- ==== AdamEvenIn.lean ====
abbrev S8x2x1024x192 : Shape := ⟨4, ![8, 2, 1024, 192]⟩
abbrev S2x1024x192 : Shape := ⟨3, ![2, 1024, 192]⟩
abbrev S2048x192 : Shape := ⟨2, ![2048, 192]⟩
abbrev S8x2048x192 : Shape := ⟨3, ![8, 2048, 192]⟩
abbrev S8x256x192 : Shape := ⟨3, ![8, 256, 192]⟩
abbrev S256x192 : Shape := ⟨2, ![256, 192]⟩
abbrev S1x256x192 : Shape := ⟨3, ![1, 256, 192]⟩

abbrev nBuf : Space → Nat
  | .hbm => 12
  | .vmem => 16
  | .smem => 0
  | _ => 0

abbrev bufTy : (tb : Table) → Fin (tcTables nBuf tb) → BufTy
  | .hbm, ⟨0, _⟩ => ⟨S8x2x1024x192, .bf16⟩
  | .hbm, ⟨1, _⟩ => ⟨S2x1024x192, .f32⟩
  | .hbm, ⟨2, _⟩ => ⟨S2x1024x192, .f32⟩
  | .hbm, ⟨3, _⟩ => ⟨S2x1024x192, .f32⟩
  | .hbm, ⟨4, _⟩ => ⟨S2048x192, .f32⟩
  | .hbm, ⟨5, _⟩ => ⟨S2048x192, .f32⟩
  | .hbm, ⟨6, _⟩ => ⟨S2048x192, .f32⟩
  | .hbm, ⟨7, _⟩ => ⟨S8x2048x192, .bf16⟩
  | .hbm, ⟨8, _⟩ => ⟨S2048x192, .f32⟩
  | .hbm, ⟨9, _⟩ => ⟨S2048x192, .f32⟩
  | .hbm, ⟨10, _⟩ => ⟨S2048x192, .f32⟩
  | .hbm, ⟨11, _⟩ => ⟨S2048x192, .f32⟩
  | .local _ .vmem, ⟨0, _⟩ => ⟨S8x256x192, .bf16⟩
  | .local _ .vmem, ⟨1, _⟩ => ⟨S8x256x192, .bf16⟩
  | .local _ .vmem, ⟨2, _⟩ => ⟨S256x192, .f32⟩
  | .local _ .vmem, ⟨3, _⟩ => ⟨S256x192, .f32⟩
  | .local _ .vmem, ⟨4, _⟩ => ⟨S256x192, .f32⟩
  | .local _ .vmem, ⟨5, _⟩ => ⟨S256x192, .f32⟩
  | .local _ .vmem, ⟨6, _⟩ => ⟨S256x192, .f32⟩
  | .local _ .vmem, ⟨7, _⟩ => ⟨S256x192, .f32⟩
  | .local _ .vmem, ⟨8, _⟩ => ⟨S256x192, .f32⟩
  | .local _ .vmem, ⟨9, _⟩ => ⟨S256x192, .f32⟩
  | .local _ .vmem, ⟨10, _⟩ => ⟨S256x192, .f32⟩
  | .local _ .vmem, ⟨11, _⟩ => ⟨S256x192, .f32⟩
  | .local _ .vmem, ⟨12, _⟩ => ⟨S256x192, .f32⟩
  | .local _ .vmem, ⟨13, _⟩ => ⟨S256x192, .f32⟩
  | .local _ .vmem, ⟨14, _⟩ => ⟨S256x192, .f32⟩
  | .local _ .vmem, ⟨15, _⟩ => ⟨S256x192, .f32⟩
  | _, _ => ⟨S8x2x1024x192, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev main_v4_3 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![8], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8x256x192 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x192 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x192 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x192 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x192 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x192 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x192 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x192 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== AdamEvenInIdeal.lean ====
abbrev S8x2x1024x192 : Shape := ⟨4, ![8, 2, 1024, 192]⟩
abbrev S2x1024x192 : Shape := ⟨3, ![2, 1024, 192]⟩
abbrev S2048x192 : Shape := ⟨2, ![2048, 192]⟩
abbrev S8x2048x192 : Shape := ⟨3, ![8, 2048, 192]⟩
abbrev S8x256x192 : Shape := ⟨3, ![8, 256, 192]⟩
abbrev S256x192 : Shape := ⟨2, ![256, 192]⟩
abbrev S1x256x192 : Shape := ⟨3, ![1, 256, 192]⟩

abbrev nBuf : Space → Nat
  | .hbm => 12
  | .vmem => 16
  | .smem => 0
  | _ => 0

abbrev bufTy : (tb : Table) → Fin (tcTables nBuf tb) → BufTy
  | .hbm, ⟨0, _⟩ => ⟨S8x2x1024x192, .bf16⟩
  | .hbm, ⟨1, _⟩ => ⟨S2x1024x192, .f32⟩
  | .hbm, ⟨2, _⟩ => ⟨S2x1024x192, .f32⟩
  | .hbm, ⟨3, _⟩ => ⟨S2x1024x192, .f32⟩
  | .hbm, ⟨4, _⟩ => ⟨S2048x192, .f32⟩
  | .hbm, ⟨5, _⟩ => ⟨S2048x192, .f32⟩
  | .hbm, ⟨6, _⟩ => ⟨S2048x192, .f32⟩
  | .hbm, ⟨7, _⟩ => ⟨S8x2048x192, .bf16⟩
  | .hbm, ⟨8, _⟩ => ⟨S2048x192, .f32⟩
  | .hbm, ⟨9, _⟩ => ⟨S2048x192, .f32⟩
  | .hbm, ⟨10, _⟩ => ⟨S2048x192, .f32⟩
  | .hbm, ⟨11, _⟩ => ⟨S2048x192, .f32⟩
  | .local _ .vmem, ⟨0, _⟩ => ⟨S8x256x192, .bf16⟩
  | .local _ .vmem, ⟨1, _⟩ => ⟨S8x256x192, .bf16⟩
  | .local _ .vmem, ⟨2, _⟩ => ⟨S256x192, .f32⟩
  | .local _ .vmem, ⟨3, _⟩ => ⟨S256x192, .f32⟩
  | .local _ .vmem, ⟨4, _⟩ => ⟨S256x192, .f32⟩
  | .local _ .vmem, ⟨5, _⟩ => ⟨S256x192, .f32⟩
  | .local _ .vmem, ⟨6, _⟩ => ⟨S256x192, .f32⟩
  | .local _ .vmem, ⟨7, _⟩ => ⟨S256x192, .f32⟩
  | .local _ .vmem, ⟨8, _⟩ => ⟨S256x192, .f32⟩
  | .local _ .vmem, ⟨9, _⟩ => ⟨S256x192, .f32⟩
  | .local _ .vmem, ⟨10, _⟩ => ⟨S256x192, .f32⟩
  | .local _ .vmem, ⟨11, _⟩ => ⟨S256x192, .f32⟩
  | .local _ .vmem, ⟨12, _⟩ => ⟨S256x192, .f32⟩
  | .local _ .vmem, ⟨13, _⟩ => ⟨S256x192, .f32⟩
  | .local _ .vmem, ⟨14, _⟩ => ⟨S256x192, .f32⟩
  | .local _ .vmem, ⟨15, _⟩ => ⟨S256x192, .f32⟩
  | _, _ => ⟨S8x2x1024x192, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev main_v4_3 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![8], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8x256x192 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x192 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x192 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x192 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x192 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x192 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x192 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x192 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== AdamEvenInReferenceIdeal.lean ====
abbrev S8x2x1024x192 : Shape := ⟨4, ![8, 2, 1024, 192]⟩
abbrev S2x1024x192 : Shape := ⟨3, ![2, 1024, 192]⟩
abbrev S_ : Shape := ⟨0, ![]⟩
abbrev S2048x192 : Shape := ⟨2, ![2048, 192]⟩

abbrev nBuf : Space → Nat
  | .hbm => 44
  | .vmem => 0
  | .smem => 0
  | _ => 0

abbrev bufTy : (tb : Table) → Fin (tcTables nBuf tb) → BufTy
  | .hbm, ⟨0, _⟩ => ⟨S8x2x1024x192, .bf16⟩
  | .hbm, ⟨1, _⟩ => ⟨S2x1024x192, .f32⟩
  | .hbm, ⟨2, _⟩ => ⟨S2x1024x192, .f32⟩
  | .hbm, ⟨3, _⟩ => ⟨S2x1024x192, .f32⟩
  | .hbm, ⟨4, _⟩ => ⟨S8x2x1024x192, .f32⟩
  | .hbm, ⟨5, _⟩ => ⟨S_, .f32⟩
  | .hbm, ⟨6, _⟩ => ⟨S2x1024x192, .f32⟩
  | .hbm, ⟨7, _⟩ => ⟨S_, .f32⟩
  | .hbm, ⟨8, _⟩ => ⟨S2x1024x192, .f32⟩
  | .hbm, ⟨9, _⟩ => ⟨S2x1024x192, .f32⟩
  | .hbm, ⟨10, _⟩ => ⟨S_, .f32⟩
  | .hbm, ⟨11, _⟩ => ⟨S2x1024x192, .f32⟩
  | .hbm, ⟨12, _⟩ => ⟨S2x1024x192, .f32⟩
  | .hbm, ⟨13, _⟩ => ⟨S2x1024x192, .f32⟩
  | .hbm, ⟨14, _⟩ => ⟨S_, .f32⟩
  | .hbm, ⟨15, _⟩ => ⟨S2x1024x192, .f32⟩
  | .hbm, ⟨16, _⟩ => ⟨S2x1024x192, .f32⟩
  | .hbm, ⟨17, _⟩ => ⟨S2x1024x192, .f32⟩
  | .hbm, ⟨18, _⟩ => ⟨S_, .f32⟩
  | .hbm, ⟨19, _⟩ => ⟨S2x1024x192, .f32⟩
  | .hbm, ⟨20, _⟩ => ⟨S2x1024x192, .f32⟩
  | .hbm, ⟨21, _⟩ => ⟨S2x1024x192, .f32⟩
  | .hbm, ⟨22, _⟩ => ⟨S_, .f32⟩
  | .hbm, ⟨23, _⟩ => ⟨S2x1024x192, .f32⟩
  | .hbm, ⟨24, _⟩ => ⟨S2x1024x192, .f32⟩
  | .hbm, ⟨25, _⟩ => ⟨S_, .f32⟩
  | .hbm, ⟨26, _⟩ => ⟨S2x1024x192, .f32⟩
  | .hbm, ⟨27, _⟩ => ⟨S2x1024x192, .f32⟩
  | .hbm, ⟨28, _⟩ => ⟨S2x1024x192, .f32⟩
  | .hbm, ⟨29, _⟩ => ⟨S_, .f32⟩
  | .hbm, ⟨30, _⟩ => ⟨S2x1024x192, .f32⟩
  | .hbm, ⟨31, _⟩ => ⟨S2x1024x192, .f32⟩
  | .hbm, ⟨32, _⟩ => ⟨S2x1024x192, .f32⟩
  | .hbm, ⟨33, _⟩ => ⟨S_, .f32⟩
  | .hbm, ⟨34, _⟩ => ⟨S2x1024x192, .f32⟩
  | .hbm, ⟨35, _⟩ => ⟨S2x1024x192, .f32⟩
  | .hbm, ⟨36, _⟩ => ⟨S2x1024x192, .f32⟩
  | .hbm, ⟨37, _⟩ => ⟨S_, .f32⟩
  | .hbm, ⟨38, _⟩ => ⟨S2x1024x192, .f32⟩
  | .hbm, ⟨39, _⟩ => ⟨S2x1024x192, .f32⟩
  | .hbm, ⟨40, _⟩ => ⟨S2048x192, .f32⟩
  | .hbm, ⟨41, _⟩ => ⟨S2048x192, .f32⟩
  | .hbm, ⟨42, _⟩ => ⟨S2048x192, .f32⟩
  | .hbm, ⟨43, _⟩ => ⟨S2048x192, .f32⟩
  | _, _ => ⟨S8x2x1024x192, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_cst_1 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_2 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_3 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_cst_5 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_6 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_7 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_8 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩

abbrev nD : Nat := 1
abbrev τ : Topo := Topo.v7x

variable {F : FTy → Type} [FloatOps F]
-- ==== AdamMix.lean ====
abbrev S8x2x128x1024 : Shape := ⟨4, ![8, 2, 128, 1024]⟩
abbrev S2x128x1024 : Shape := ⟨3, ![2, 128, 1024]⟩
abbrev S256x1024 : Shape := ⟨2, ![256, 1024]⟩
abbrev S8x256x1024 : Shape := ⟨3, ![8, 256, 1024]⟩
abbrev S1x256x1024 : Shape := ⟨3, ![1, 256, 1024]⟩

abbrev nBuf : Space → Nat
  | .hbm => 12
  | .vmem => 8
  | .smem => 0
  | _ => 0

abbrev bufTy : (tb : Table) → Fin (tcTables nBuf tb) → BufTy
  | .hbm, ⟨0, _⟩ => ⟨S8x2x128x1024, .bf16⟩
  | .hbm, ⟨1, _⟩ => ⟨S2x128x1024, .f32⟩
  | .hbm, ⟨2, _⟩ => ⟨S2x128x1024, .f32⟩
  | .hbm, ⟨3, _⟩ => ⟨S2x128x1024, .f32⟩
  | .hbm, ⟨4, _⟩ => ⟨S256x1024, .f32⟩
  | .hbm, ⟨5, _⟩ => ⟨S256x1024, .f32⟩
  | .hbm, ⟨6, _⟩ => ⟨S256x1024, .f32⟩
  | .hbm, ⟨7, _⟩ => ⟨S8x256x1024, .bf16⟩
  | .hbm, ⟨8, _⟩ => ⟨S256x1024, .f32⟩
  | .hbm, ⟨9, _⟩ => ⟨S256x1024, .f32⟩
  | .hbm, ⟨10, _⟩ => ⟨S256x1024, .f32⟩
  | .hbm, ⟨11, _⟩ => ⟨S256x1024, .f32⟩
  | .local _ .vmem, ⟨0, _⟩ => ⟨S8x256x1024, .bf16⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | .local _ .vmem, ⟨7, _⟩ => ⟨S256x1024, .f32⟩
  | _, _ => ⟨S8x2x128x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev main_v4_3 : Ref sig .tc := ⟨.hbm, 11, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨1, ![1], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S8x256x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S256x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S256x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S256x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S256x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S256x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S256x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S256x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]
-- ==== AdamMixIdeal.lean ====
abbrev S8x2x128x1024 : Shape := ⟨4, ![8, 2, 128, 1024]⟩
abbrev S2x128x1024 : Shape := ⟨3, ![2, 128, 1024]⟩
abbrev S256x1024 : Shape := ⟨2, ![256, 1024]⟩
abbrev S8x256x1024 : Shape := ⟨3, ![8, 256, 1024]⟩
abbrev S1x256x1024 : Shape := ⟨3, ![1, 256, 1024]⟩

abbrev nBuf : Space → Nat
  | .hbm => 12
  | .vmem => 8
  | .smem => 0
  | _ => 0

abbrev bufTy : (tb : Table) → Fin (tcTables nBuf tb) → BufTy
  | .hbm, ⟨0, _⟩ => ⟨S8x2x128x1024, .bf16⟩
  | .hbm, ⟨1, _⟩ => ⟨S2x128x1024, .f32⟩
  | .hbm, ⟨2, _⟩ => ⟨S2x128x1024, .f32⟩
  | .hbm, ⟨3, _⟩ => ⟨S2x128x1024, .f32⟩
  | .hbm, ⟨4, _⟩ => ⟨S256x1024, .f32⟩
  | .hbm, ⟨5, _⟩ => ⟨S256x1024, .f32⟩
  | .hbm, ⟨6, _⟩ => ⟨S256x1024, .f32⟩
  | .hbm, ⟨7, _⟩ => ⟨S8x256x1024, .bf16⟩
  | .hbm, ⟨8, _⟩ => ⟨S256x1024, .f32⟩
  | .hbm, ⟨9, _⟩ => ⟨S256x1024, .f32⟩
  | .hbm, ⟨10, _⟩ => ⟨S256x1024, .f32⟩
  | .hbm, ⟨11, _⟩ => ⟨S256x1024, .f32⟩
  | .local _ .vmem, ⟨0, _⟩ => ⟨S8x256x1024, .bf16⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | .local _ .vmem, ⟨7, _⟩ => ⟨S256x1024, .f32⟩
  | _, _ => ⟨S8x2x128x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev main_v4_3 : Ref sig .tc := ⟨.hbm, 11, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨1, ![1], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S8x256x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S256x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S256x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S256x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S256x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S256x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S256x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S256x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]
-- ==== AdamMixReferenceIdeal.lean ====
abbrev S8x2x128x1024 : Shape := ⟨4, ![8, 2, 128, 1024]⟩
abbrev S2x128x1024 : Shape := ⟨3, ![2, 128, 1024]⟩
abbrev S_ : Shape := ⟨0, ![]⟩
abbrev S256x1024 : Shape := ⟨2, ![256, 1024]⟩

abbrev nBuf : Space → Nat
  | .hbm => 44
  | .vmem => 0
  | .smem => 0
  | _ => 0

abbrev bufTy : (tb : Table) → Fin (tcTables nBuf tb) → BufTy
  | .hbm, ⟨0, _⟩ => ⟨S8x2x128x1024, .bf16⟩
  | .hbm, ⟨1, _⟩ => ⟨S2x128x1024, .f32⟩
  | .hbm, ⟨2, _⟩ => ⟨S2x128x1024, .f32⟩
  | .hbm, ⟨3, _⟩ => ⟨S2x128x1024, .f32⟩
  | .hbm, ⟨4, _⟩ => ⟨S8x2x128x1024, .f32⟩
  | .hbm, ⟨5, _⟩ => ⟨S_, .f32⟩
  | .hbm, ⟨6, _⟩ => ⟨S2x128x1024, .f32⟩
  | .hbm, ⟨7, _⟩ => ⟨S_, .f32⟩
  | .hbm, ⟨8, _⟩ => ⟨S2x128x1024, .f32⟩
  | .hbm, ⟨9, _⟩ => ⟨S2x128x1024, .f32⟩
  | .hbm, ⟨10, _⟩ => ⟨S_, .f32⟩
  | .hbm, ⟨11, _⟩ => ⟨S2x128x1024, .f32⟩
  | .hbm, ⟨12, _⟩ => ⟨S2x128x1024, .f32⟩
  | .hbm, ⟨13, _⟩ => ⟨S2x128x1024, .f32⟩
  | .hbm, ⟨14, _⟩ => ⟨S_, .f32⟩
  | .hbm, ⟨15, _⟩ => ⟨S2x128x1024, .f32⟩
  | .hbm, ⟨16, _⟩ => ⟨S2x128x1024, .f32⟩
  | .hbm, ⟨17, _⟩ => ⟨S2x128x1024, .f32⟩
  | .hbm, ⟨18, _⟩ => ⟨S_, .f32⟩
  | .hbm, ⟨19, _⟩ => ⟨S2x128x1024, .f32⟩
  | .hbm, ⟨20, _⟩ => ⟨S2x128x1024, .f32⟩
  | .hbm, ⟨21, _⟩ => ⟨S2x128x1024, .f32⟩
  | .hbm, ⟨22, _⟩ => ⟨S_, .f32⟩
  | .hbm, ⟨23, _⟩ => ⟨S2x128x1024, .f32⟩
  | .hbm, ⟨24, _⟩ => ⟨S2x128x1024, .f32⟩
  | .hbm, ⟨25, _⟩ => ⟨S_, .f32⟩
  | .hbm, ⟨26, _⟩ => ⟨S2x128x1024, .f32⟩
  | .hbm, ⟨27, _⟩ => ⟨S2x128x1024, .f32⟩
  | .hbm, ⟨28, _⟩ => ⟨S2x128x1024, .f32⟩
  | .hbm, ⟨29, _⟩ => ⟨S_, .f32⟩
  | .hbm, ⟨30, _⟩ => ⟨S2x128x1024, .f32⟩
  | .hbm, ⟨31, _⟩ => ⟨S2x128x1024, .f32⟩
  | .hbm, ⟨32, _⟩ => ⟨S2x128x1024, .f32⟩
  | .hbm, ⟨33, _⟩ => ⟨S_, .f32⟩
  | .hbm, ⟨34, _⟩ => ⟨S2x128x1024, .f32⟩
  | .hbm, ⟨35, _⟩ => ⟨S2x128x1024, .f32⟩
  | .hbm, ⟨36, _⟩ => ⟨S2x128x1024, .f32⟩
  | .hbm, ⟨37, _⟩ => ⟨S_, .f32⟩
  | .hbm, ⟨38, _⟩ => ⟨S2x128x1024, .f32⟩
  | .hbm, ⟨39, _⟩ => ⟨S2x128x1024, .f32⟩
  | .hbm, ⟨40, _⟩ => ⟨S256x1024, .f32⟩
  | .hbm, ⟨41, _⟩ => ⟨S256x1024, .f32⟩
  | .hbm, ⟨42, _⟩ => ⟨S256x1024, .f32⟩
  | .hbm, ⟨43, _⟩ => ⟨S256x1024, .f32⟩
  | _, _ => ⟨S8x2x128x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_cst_1 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_2 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_3 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_cst_5 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_6 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_7 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_8 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩

abbrev nD : Nat := 1
abbrev τ : Topo := Topo.v7x

variable {F : FTy → Type} [FloatOps F]
-- ==== AdamOddIn.lean ====
abbrev S8x2x1024x292 : Shape := ⟨4, ![8, 2, 1024, 292]⟩
abbrev S2x1024x292 : Shape := ⟨3, ![2, 1024, 292]⟩
abbrev S2048x292 : Shape := ⟨2, ![2048, 292]⟩
abbrev S8x2048x292 : Shape := ⟨3, ![8, 2048, 292]⟩
abbrev S8x256x292 : Shape := ⟨3, ![8, 256, 292]⟩
abbrev S256x292 : Shape := ⟨2, ![256, 292]⟩
abbrev S1x256x292 : Shape := ⟨3, ![1, 256, 292]⟩

abbrev nBuf : Space → Nat
  | .hbm => 12
  | .vmem => 16
  | .smem => 0
  | _ => 0

abbrev bufTy : (tb : Table) → Fin (tcTables nBuf tb) → BufTy
  | .hbm, ⟨0, _⟩ => ⟨S8x2x1024x292, .bf16⟩
  | .hbm, ⟨1, _⟩ => ⟨S2x1024x292, .f32⟩
  | .hbm, ⟨2, _⟩ => ⟨S2x1024x292, .f32⟩
  | .hbm, ⟨3, _⟩ => ⟨S2x1024x292, .f32⟩
  | .hbm, ⟨4, _⟩ => ⟨S2048x292, .f32⟩
  | .hbm, ⟨5, _⟩ => ⟨S2048x292, .f32⟩
  | .hbm, ⟨6, _⟩ => ⟨S2048x292, .f32⟩
  | .hbm, ⟨7, _⟩ => ⟨S8x2048x292, .bf16⟩
  | .hbm, ⟨8, _⟩ => ⟨S2048x292, .f32⟩
  | .hbm, ⟨9, _⟩ => ⟨S2048x292, .f32⟩
  | .hbm, ⟨10, _⟩ => ⟨S2048x292, .f32⟩
  | .hbm, ⟨11, _⟩ => ⟨S2048x292, .f32⟩
  | .local _ .vmem, ⟨0, _⟩ => ⟨S8x256x292, .bf16⟩
  | .local _ .vmem, ⟨1, _⟩ => ⟨S8x256x292, .bf16⟩
  | .local _ .vmem, ⟨2, _⟩ => ⟨S256x292, .f32⟩
  | .local _ .vmem, ⟨3, _⟩ => ⟨S256x292, .f32⟩
  | .local _ .vmem, ⟨4, _⟩ => ⟨S256x292, .f32⟩
  | .local _ .vmem, ⟨5, _⟩ => ⟨S256x292, .f32⟩
  | .local _ .vmem, ⟨6, _⟩ => ⟨S256x292, .f32⟩
  | .local _ .vmem, ⟨7, _⟩ => ⟨S256x292, .f32⟩
  | .local _ .vmem, ⟨8, _⟩ => ⟨S256x292, .f32⟩
  | .local _ .vmem, ⟨9, _⟩ => ⟨S256x292, .f32⟩
  | .local _ .vmem, ⟨10, _⟩ => ⟨S256x292, .f32⟩
  | .local _ .vmem, ⟨11, _⟩ => ⟨S256x292, .f32⟩
  | .local _ .vmem, ⟨12, _⟩ => ⟨S256x292, .f32⟩
  | .local _ .vmem, ⟨13, _⟩ => ⟨S256x292, .f32⟩
  | .local _ .vmem, ⟨14, _⟩ => ⟨S256x292, .f32⟩
  | .local _ .vmem, ⟨15, _⟩ => ⟨S256x292, .f32⟩
  | _, _ => ⟨S8x2x1024x292, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev main_v4_3 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![8], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8x256x292 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x292 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x292 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x292 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x292 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x292 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x292 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x292 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== AdamOddInIdeal.lean ====
abbrev S8x2x1024x292 : Shape := ⟨4, ![8, 2, 1024, 292]⟩
abbrev S2x1024x292 : Shape := ⟨3, ![2, 1024, 292]⟩
abbrev S2048x292 : Shape := ⟨2, ![2048, 292]⟩
abbrev S8x2048x292 : Shape := ⟨3, ![8, 2048, 292]⟩
abbrev S8x256x292 : Shape := ⟨3, ![8, 256, 292]⟩
abbrev S256x292 : Shape := ⟨2, ![256, 292]⟩
abbrev S1x256x292 : Shape := ⟨3, ![1, 256, 292]⟩

abbrev nBuf : Space → Nat
  | .hbm => 12
  | .vmem => 16
  | .smem => 0
  | _ => 0

abbrev bufTy : (tb : Table) → Fin (tcTables nBuf tb) → BufTy
  | .hbm, ⟨0, _⟩ => ⟨S8x2x1024x292, .bf16⟩
  | .hbm, ⟨1, _⟩ => ⟨S2x1024x292, .f32⟩
  | .hbm, ⟨2, _⟩ => ⟨S2x1024x292, .f32⟩
  | .hbm, ⟨3, _⟩ => ⟨S2x1024x292, .f32⟩
  | .hbm, ⟨4, _⟩ => ⟨S2048x292, .f32⟩
  | .hbm, ⟨5, _⟩ => ⟨S2048x292, .f32⟩
  | .hbm, ⟨6, _⟩ => ⟨S2048x292, .f32⟩
  | .hbm, ⟨7, _⟩ => ⟨S8x2048x292, .bf16⟩
  | .hbm, ⟨8, _⟩ => ⟨S2048x292, .f32⟩
  | .hbm, ⟨9, _⟩ => ⟨S2048x292, .f32⟩
  | .hbm, ⟨10, _⟩ => ⟨S2048x292, .f32⟩
  | .hbm, ⟨11, _⟩ => ⟨S2048x292, .f32⟩
  | .local _ .vmem, ⟨0, _⟩ => ⟨S8x256x292, .bf16⟩
  | .local _ .vmem, ⟨1, _⟩ => ⟨S8x256x292, .bf16⟩
  | .local _ .vmem, ⟨2, _⟩ => ⟨S256x292, .f32⟩
  | .local _ .vmem, ⟨3, _⟩ => ⟨S256x292, .f32⟩
  | .local _ .vmem, ⟨4, _⟩ => ⟨S256x292, .f32⟩
  | .local _ .vmem, ⟨5, _⟩ => ⟨S256x292, .f32⟩
  | .local _ .vmem, ⟨6, _⟩ => ⟨S256x292, .f32⟩
  | .local _ .vmem, ⟨7, _⟩ => ⟨S256x292, .f32⟩
  | .local _ .vmem, ⟨8, _⟩ => ⟨S256x292, .f32⟩
  | .local _ .vmem, ⟨9, _⟩ => ⟨S256x292, .f32⟩
  | .local _ .vmem, ⟨10, _⟩ => ⟨S256x292, .f32⟩
  | .local _ .vmem, ⟨11, _⟩ => ⟨S256x292, .f32⟩
  | .local _ .vmem, ⟨12, _⟩ => ⟨S256x292, .f32⟩
  | .local _ .vmem, ⟨13, _⟩ => ⟨S256x292, .f32⟩
  | .local _ .vmem, ⟨14, _⟩ => ⟨S256x292, .f32⟩
  | .local _ .vmem, ⟨15, _⟩ => ⟨S256x292, .f32⟩
  | _, _ => ⟨S8x2x1024x292, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev main_v4_3 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![8], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8x256x292 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x292 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x292 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x292 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x292 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x292 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x292 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x292 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== AdamOddInReferenceIdeal.lean ====
abbrev S8x2x1024x292 : Shape := ⟨4, ![8, 2, 1024, 292]⟩
abbrev S2x1024x292 : Shape := ⟨3, ![2, 1024, 292]⟩
abbrev S_ : Shape := ⟨0, ![]⟩
abbrev S2048x292 : Shape := ⟨2, ![2048, 292]⟩

abbrev nBuf : Space → Nat
  | .hbm => 44
  | .vmem => 0
  | .smem => 0
  | _ => 0

abbrev bufTy : (tb : Table) → Fin (tcTables nBuf tb) → BufTy
  | .hbm, ⟨0, _⟩ => ⟨S8x2x1024x292, .bf16⟩
  | .hbm, ⟨1, _⟩ => ⟨S2x1024x292, .f32⟩
  | .hbm, ⟨2, _⟩ => ⟨S2x1024x292, .f32⟩
  | .hbm, ⟨3, _⟩ => ⟨S2x1024x292, .f32⟩
  | .hbm, ⟨4, _⟩ => ⟨S8x2x1024x292, .f32⟩
  | .hbm, ⟨5, _⟩ => ⟨S_, .f32⟩
  | .hbm, ⟨6, _⟩ => ⟨S2x1024x292, .f32⟩
  | .hbm, ⟨7, _⟩ => ⟨S_, .f32⟩
  | .hbm, ⟨8, _⟩ => ⟨S2x1024x292, .f32⟩
  | .hbm, ⟨9, _⟩ => ⟨S2x1024x292, .f32⟩
  | .hbm, ⟨10, _⟩ => ⟨S_, .f32⟩
  | .hbm, ⟨11, _⟩ => ⟨S2x1024x292, .f32⟩
  | .hbm, ⟨12, _⟩ => ⟨S2x1024x292, .f32⟩
  | .hbm, ⟨13, _⟩ => ⟨S2x1024x292, .f32⟩
  | .hbm, ⟨14, _⟩ => ⟨S_, .f32⟩
  | .hbm, ⟨15, _⟩ => ⟨S2x1024x292, .f32⟩
  | .hbm, ⟨16, _⟩ => ⟨S2x1024x292, .f32⟩
  | .hbm, ⟨17, _⟩ => ⟨S2x1024x292, .f32⟩
  | .hbm, ⟨18, _⟩ => ⟨S_, .f32⟩
  | .hbm, ⟨19, _⟩ => ⟨S2x1024x292, .f32⟩
  | .hbm, ⟨20, _⟩ => ⟨S2x1024x292, .f32⟩
  | .hbm, ⟨21, _⟩ => ⟨S2x1024x292, .f32⟩
  | .hbm, ⟨22, _⟩ => ⟨S_, .f32⟩
  | .hbm, ⟨23, _⟩ => ⟨S2x1024x292, .f32⟩
  | .hbm, ⟨24, _⟩ => ⟨S2x1024x292, .f32⟩
  | .hbm, ⟨25, _⟩ => ⟨S_, .f32⟩
  | .hbm, ⟨26, _⟩ => ⟨S2x1024x292, .f32⟩
  | .hbm, ⟨27, _⟩ => ⟨S2x1024x292, .f32⟩
  | .hbm, ⟨28, _⟩ => ⟨S2x1024x292, .f32⟩
  | .hbm, ⟨29, _⟩ => ⟨S_, .f32⟩
  | .hbm, ⟨30, _⟩ => ⟨S2x1024x292, .f32⟩
  | .hbm, ⟨31, _⟩ => ⟨S2x1024x292, .f32⟩
  | .hbm, ⟨32, _⟩ => ⟨S2x1024x292, .f32⟩
  | .hbm, ⟨33, _⟩ => ⟨S_, .f32⟩
  | .hbm, ⟨34, _⟩ => ⟨S2x1024x292, .f32⟩
  | .hbm, ⟨35, _⟩ => ⟨S2x1024x292, .f32⟩
  | .hbm, ⟨36, _⟩ => ⟨S2x1024x292, .f32⟩
  | .hbm, ⟨37, _⟩ => ⟨S_, .f32⟩
  | .hbm, ⟨38, _⟩ => ⟨S2x1024x292, .f32⟩
  | .hbm, ⟨39, _⟩ => ⟨S2x1024x292, .f32⟩
  | .hbm, ⟨40, _⟩ => ⟨S2048x292, .f32⟩
  | .hbm, ⟨41, _⟩ => ⟨S2048x292, .f32⟩
  | .hbm, ⟨42, _⟩ => ⟨S2048x292, .f32⟩
  | .hbm, ⟨43, _⟩ => ⟨S2048x292, .f32⟩
  | _, _ => ⟨S8x2x1024x292, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_cst_1 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_2 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_3 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_cst_5 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_6 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_7 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_8 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩

abbrev nD : Nat := 1
abbrev τ : Topo := Topo.v7x

variable {F : FTy → Type} [FloatOps F]
-- ==== AdamQ.lean ====
abbrev S8x2x512x96 : Shape := ⟨4, ![8, 2, 512, 96]⟩
abbrev S2x512x96 : Shape := ⟨3, ![2, 512, 96]⟩
abbrev S1024x96 : Shape := ⟨2, ![1024, 96]⟩
abbrev S8x1024x96 : Shape := ⟨3, ![8, 1024, 96]⟩
abbrev S8x256x96 : Shape := ⟨3, ![8, 256, 96]⟩
abbrev S256x96 : Shape := ⟨2, ![256, 96]⟩
abbrev S1x256x96 : Shape := ⟨3, ![1, 256, 96]⟩

abbrev nBuf : Space → Nat
  | .hbm => 12
  | .vmem => 16
  | .smem => 0
  | _ => 0

abbrev bufTy : (tb : Table) → Fin (tcTables nBuf tb) → BufTy
  | .hbm, ⟨0, _⟩ => ⟨S8x2x512x96, .bf16⟩
  | .hbm, ⟨1, _⟩ => ⟨S2x512x96, .f32⟩
  | .hbm, ⟨2, _⟩ => ⟨S2x512x96, .f32⟩
  | .hbm, ⟨3, _⟩ => ⟨S2x512x96, .f32⟩
  | .hbm, ⟨4, _⟩ => ⟨S1024x96, .f32⟩
  | .hbm, ⟨5, _⟩ => ⟨S1024x96, .f32⟩
  | .hbm, ⟨6, _⟩ => ⟨S1024x96, .f32⟩
  | .hbm, ⟨7, _⟩ => ⟨S8x1024x96, .bf16⟩
  | .hbm, ⟨8, _⟩ => ⟨S1024x96, .f32⟩
  | .hbm, ⟨9, _⟩ => ⟨S1024x96, .f32⟩
  | .hbm, ⟨10, _⟩ => ⟨S1024x96, .f32⟩
  | .hbm, ⟨11, _⟩ => ⟨S1024x96, .f32⟩
  | .local _ .vmem, ⟨0, _⟩ => ⟨S8x256x96, .bf16⟩
  | .local _ .vmem, ⟨1, _⟩ => ⟨S8x256x96, .bf16⟩
  | .local _ .vmem, ⟨2, _⟩ => ⟨S256x96, .f32⟩
  | .local _ .vmem, ⟨3, _⟩ => ⟨S256x96, .f32⟩
  | .local _ .vmem, ⟨4, _⟩ => ⟨S256x96, .f32⟩
  | .local _ .vmem, ⟨5, _⟩ => ⟨S256x96, .f32⟩
  | .local _ .vmem, ⟨6, _⟩ => ⟨S256x96, .f32⟩
  | .local _ .vmem, ⟨7, _⟩ => ⟨S256x96, .f32⟩
  | .local _ .vmem, ⟨8, _⟩ => ⟨S256x96, .f32⟩
  | .local _ .vmem, ⟨9, _⟩ => ⟨S256x96, .f32⟩
  | .local _ .vmem, ⟨10, _⟩ => ⟨S256x96, .f32⟩
  | .local _ .vmem, ⟨11, _⟩ => ⟨S256x96, .f32⟩
  | .local _ .vmem, ⟨12, _⟩ => ⟨S256x96, .f32⟩
  | .local _ .vmem, ⟨13, _⟩ => ⟨S256x96, .f32⟩
  | .local _ .vmem, ⟨14, _⟩ => ⟨S256x96, .f32⟩
  | .local _ .vmem, ⟨15, _⟩ => ⟨S256x96, .f32⟩
  | _, _ => ⟨S8x2x512x96, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev main_v4_3 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![4], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8x256x96 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x96 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x96 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x96 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x96 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x96 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x96 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x96 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== AdamQIdeal.lean ====
abbrev S8x2x512x96 : Shape := ⟨4, ![8, 2, 512, 96]⟩
abbrev S2x512x96 : Shape := ⟨3, ![2, 512, 96]⟩
abbrev S1024x96 : Shape := ⟨2, ![1024, 96]⟩
abbrev S8x1024x96 : Shape := ⟨3, ![8, 1024, 96]⟩
abbrev S8x256x96 : Shape := ⟨3, ![8, 256, 96]⟩
abbrev S256x96 : Shape := ⟨2, ![256, 96]⟩
abbrev S1x256x96 : Shape := ⟨3, ![1, 256, 96]⟩

abbrev nBuf : Space → Nat
  | .hbm => 12
  | .vmem => 16
  | .smem => 0
  | _ => 0

abbrev bufTy : (tb : Table) → Fin (tcTables nBuf tb) → BufTy
  | .hbm, ⟨0, _⟩ => ⟨S8x2x512x96, .bf16⟩
  | .hbm, ⟨1, _⟩ => ⟨S2x512x96, .f32⟩
  | .hbm, ⟨2, _⟩ => ⟨S2x512x96, .f32⟩
  | .hbm, ⟨3, _⟩ => ⟨S2x512x96, .f32⟩
  | .hbm, ⟨4, _⟩ => ⟨S1024x96, .f32⟩
  | .hbm, ⟨5, _⟩ => ⟨S1024x96, .f32⟩
  | .hbm, ⟨6, _⟩ => ⟨S1024x96, .f32⟩
  | .hbm, ⟨7, _⟩ => ⟨S8x1024x96, .bf16⟩
  | .hbm, ⟨8, _⟩ => ⟨S1024x96, .f32⟩
  | .hbm, ⟨9, _⟩ => ⟨S1024x96, .f32⟩
  | .hbm, ⟨10, _⟩ => ⟨S1024x96, .f32⟩
  | .hbm, ⟨11, _⟩ => ⟨S1024x96, .f32⟩
  | .local _ .vmem, ⟨0, _⟩ => ⟨S8x256x96, .bf16⟩
  | .local _ .vmem, ⟨1, _⟩ => ⟨S8x256x96, .bf16⟩
  | .local _ .vmem, ⟨2, _⟩ => ⟨S256x96, .f32⟩
  | .local _ .vmem, ⟨3, _⟩ => ⟨S256x96, .f32⟩
  | .local _ .vmem, ⟨4, _⟩ => ⟨S256x96, .f32⟩
  | .local _ .vmem, ⟨5, _⟩ => ⟨S256x96, .f32⟩
  | .local _ .vmem, ⟨6, _⟩ => ⟨S256x96, .f32⟩
  | .local _ .vmem, ⟨7, _⟩ => ⟨S256x96, .f32⟩
  | .local _ .vmem, ⟨8, _⟩ => ⟨S256x96, .f32⟩
  | .local _ .vmem, ⟨9, _⟩ => ⟨S256x96, .f32⟩
  | .local _ .vmem, ⟨10, _⟩ => ⟨S256x96, .f32⟩
  | .local _ .vmem, ⟨11, _⟩ => ⟨S256x96, .f32⟩
  | .local _ .vmem, ⟨12, _⟩ => ⟨S256x96, .f32⟩
  | .local _ .vmem, ⟨13, _⟩ => ⟨S256x96, .f32⟩
  | .local _ .vmem, ⟨14, _⟩ => ⟨S256x96, .f32⟩
  | .local _ .vmem, ⟨15, _⟩ => ⟨S256x96, .f32⟩
  | _, _ => ⟨S8x2x512x96, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev main_v4_3 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![4], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8x256x96 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x96 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x96 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x96 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x96 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x96 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x96 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x96 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== AdamQReferenceIdeal.lean ====
abbrev S8x2x512x96 : Shape := ⟨4, ![8, 2, 512, 96]⟩
abbrev S2x512x96 : Shape := ⟨3, ![2, 512, 96]⟩
abbrev S_ : Shape := ⟨0, ![]⟩
abbrev S1024x96 : Shape := ⟨2, ![1024, 96]⟩

abbrev nBuf : Space → Nat
  | .hbm => 44
  | .vmem => 0
  | .smem => 0
  | _ => 0

abbrev bufTy : (tb : Table) → Fin (tcTables nBuf tb) → BufTy
  | .hbm, ⟨0, _⟩ => ⟨S8x2x512x96, .bf16⟩
  | .hbm, ⟨1, _⟩ => ⟨S2x512x96, .f32⟩
  | .hbm, ⟨2, _⟩ => ⟨S2x512x96, .f32⟩
  | .hbm, ⟨3, _⟩ => ⟨S2x512x96, .f32⟩
  | .hbm, ⟨4, _⟩ => ⟨S8x2x512x96, .f32⟩
  | .hbm, ⟨5, _⟩ => ⟨S_, .f32⟩
  | .hbm, ⟨6, _⟩ => ⟨S2x512x96, .f32⟩
  | .hbm, ⟨7, _⟩ => ⟨S_, .f32⟩
  | .hbm, ⟨8, _⟩ => ⟨S2x512x96, .f32⟩
  | .hbm, ⟨9, _⟩ => ⟨S2x512x96, .f32⟩
  | .hbm, ⟨10, _⟩ => ⟨S_, .f32⟩
  | .hbm, ⟨11, _⟩ => ⟨S2x512x96, .f32⟩
  | .hbm, ⟨12, _⟩ => ⟨S2x512x96, .f32⟩
  | .hbm, ⟨13, _⟩ => ⟨S2x512x96, .f32⟩
  | .hbm, ⟨14, _⟩ => ⟨S_, .f32⟩
  | .hbm, ⟨15, _⟩ => ⟨S2x512x96, .f32⟩
  | .hbm, ⟨16, _⟩ => ⟨S2x512x96, .f32⟩
  | .hbm, ⟨17, _⟩ => ⟨S2x512x96, .f32⟩
  | .hbm, ⟨18, _⟩ => ⟨S_, .f32⟩
  | .hbm, ⟨19, _⟩ => ⟨S2x512x96, .f32⟩
  | .hbm, ⟨20, _⟩ => ⟨S2x512x96, .f32⟩
  | .hbm, ⟨21, _⟩ => ⟨S2x512x96, .f32⟩
  | .hbm, ⟨22, _⟩ => ⟨S_, .f32⟩
  | .hbm, ⟨23, _⟩ => ⟨S2x512x96, .f32⟩
  | .hbm, ⟨24, _⟩ => ⟨S2x512x96, .f32⟩
  | .hbm, ⟨25, _⟩ => ⟨S_, .f32⟩
  | .hbm, ⟨26, _⟩ => ⟨S2x512x96, .f32⟩
  | .hbm, ⟨27, _⟩ => ⟨S2x512x96, .f32⟩
  | .hbm, ⟨28, _⟩ => ⟨S2x512x96, .f32⟩
  | .hbm, ⟨29, _⟩ => ⟨S_, .f32⟩
  | .hbm, ⟨30, _⟩ => ⟨S2x512x96, .f32⟩
  | .hbm, ⟨31, _⟩ => ⟨S2x512x96, .f32⟩
  | .hbm, ⟨32, _⟩ => ⟨S2x512x96, .f32⟩
  | .hbm, ⟨33, _⟩ => ⟨S_, .f32⟩
  | .hbm, ⟨34, _⟩ => ⟨S2x512x96, .f32⟩
  | .hbm, ⟨35, _⟩ => ⟨S2x512x96, .f32⟩
  | .hbm, ⟨36, _⟩ => ⟨S2x512x96, .f32⟩
  | .hbm, ⟨37, _⟩ => ⟨S_, .f32⟩
  | .hbm, ⟨38, _⟩ => ⟨S2x512x96, .f32⟩
  | .hbm, ⟨39, _⟩ => ⟨S2x512x96, .f32⟩
  | .hbm, ⟨40, _⟩ => ⟨S1024x96, .f32⟩
  | .hbm, ⟨41, _⟩ => ⟨S1024x96, .f32⟩
  | .hbm, ⟨42, _⟩ => ⟨S1024x96, .f32⟩
  | .hbm, ⟨43, _⟩ => ⟨S1024x96, .f32⟩
  | _, _ => ⟨S8x2x512x96, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_cst_1 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_2 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_3 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_cst_5 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_6 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_7 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_8 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩

abbrev nD : Nat := 1
abbrev τ : Topo := Topo.v7x

variable {F : FTy → Type} [FloatOps F]
-- ==== AdamKv.lean ====
abbrev S8x2x256x128 : Shape := ⟨4, ![8, 2, 256, 128]⟩
abbrev S2x256x128 : Shape := ⟨3, ![2, 256, 128]⟩
abbrev S512x128 : Shape := ⟨2, ![512, 128]⟩
abbrev S8x512x128 : Shape := ⟨3, ![8, 512, 128]⟩
abbrev S8x256x128 : Shape := ⟨3, ![8, 256, 128]⟩
abbrev S256x128 : Shape := ⟨2, ![256, 128]⟩
abbrev S1x256x128 : Shape := ⟨3, ![1, 256, 128]⟩

abbrev nBuf : Space → Nat
  | .hbm => 12
  | .vmem => 16
  | .smem => 0
  | _ => 0

abbrev bufTy : (tb : Table) → Fin (tcTables nBuf tb) → BufTy
  | .hbm, ⟨0, _⟩ => ⟨S8x2x256x128, .bf16⟩
  | .hbm, ⟨1, _⟩ => ⟨S2x256x128, .f32⟩
  | .hbm, ⟨2, _⟩ => ⟨S2x256x128, .f32⟩
  | .hbm, ⟨3, _⟩ => ⟨S2x256x128, .f32⟩
  | .hbm, ⟨4, _⟩ => ⟨S512x128, .f32⟩
  | .hbm, ⟨5, _⟩ => ⟨S512x128, .f32⟩
  | .hbm, ⟨6, _⟩ => ⟨S512x128, .f32⟩
  | .hbm, ⟨7, _⟩ => ⟨S8x512x128, .bf16⟩
  | .hbm, ⟨8, _⟩ => ⟨S512x128, .f32⟩
  | .hbm, ⟨9, _⟩ => ⟨S512x128, .f32⟩
  | .hbm, ⟨10, _⟩ => ⟨S512x128, .f32⟩
  | .hbm, ⟨11, _⟩ => ⟨S512x128, .f32⟩
  | .local _ .vmem, ⟨0, _⟩ => ⟨S8x256x128, .bf16⟩
  | .local _ .vmem, ⟨1, _⟩ => ⟨S8x256x128, .bf16⟩
  | .local _ .vmem, ⟨2, _⟩ => ⟨S256x128, .f32⟩
  | .local _ .vmem, ⟨3, _⟩ => ⟨S256x128, .f32⟩
  | .local _ .vmem, ⟨4, _⟩ => ⟨S256x128, .f32⟩
  | .local _ .vmem, ⟨5, _⟩ => ⟨S256x128, .f32⟩
  | .local _ .vmem, ⟨6, _⟩ => ⟨S256x128, .f32⟩
  | .local _ .vmem, ⟨7, _⟩ => ⟨S256x128, .f32⟩
  | .local _ .vmem, ⟨8, _⟩ => ⟨S256x128, .f32⟩
  | .local _ .vmem, ⟨9, _⟩ => ⟨S256x128, .f32⟩
  | .local _ .vmem, ⟨10, _⟩ => ⟨S256x128, .f32⟩
  | .local _ .vmem, ⟨11, _⟩ => ⟨S256x128, .f32⟩
  | .local _ .vmem, ⟨12, _⟩ => ⟨S256x128, .f32⟩
  | .local _ .vmem, ⟨13, _⟩ => ⟨S256x128, .f32⟩
  | .local _ .vmem, ⟨14, _⟩ => ⟨S256x128, .f32⟩
  | .local _ .vmem, ⟨15, _⟩ => ⟨S256x128, .f32⟩
  | _, _ => ⟨S8x2x256x128, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev main_v4_3 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![2], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8x256x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== AdamKvIdeal.lean ====
abbrev S8x2x256x128 : Shape := ⟨4, ![8, 2, 256, 128]⟩
abbrev S2x256x128 : Shape := ⟨3, ![2, 256, 128]⟩
abbrev S512x128 : Shape := ⟨2, ![512, 128]⟩
abbrev S8x512x128 : Shape := ⟨3, ![8, 512, 128]⟩
abbrev S8x256x128 : Shape := ⟨3, ![8, 256, 128]⟩
abbrev S256x128 : Shape := ⟨2, ![256, 128]⟩
abbrev S1x256x128 : Shape := ⟨3, ![1, 256, 128]⟩

abbrev nBuf : Space → Nat
  | .hbm => 12
  | .vmem => 16
  | .smem => 0
  | _ => 0

abbrev bufTy : (tb : Table) → Fin (tcTables nBuf tb) → BufTy
  | .hbm, ⟨0, _⟩ => ⟨S8x2x256x128, .bf16⟩
  | .hbm, ⟨1, _⟩ => ⟨S2x256x128, .f32⟩
  | .hbm, ⟨2, _⟩ => ⟨S2x256x128, .f32⟩
  | .hbm, ⟨3, _⟩ => ⟨S2x256x128, .f32⟩
  | .hbm, ⟨4, _⟩ => ⟨S512x128, .f32⟩
  | .hbm, ⟨5, _⟩ => ⟨S512x128, .f32⟩
  | .hbm, ⟨6, _⟩ => ⟨S512x128, .f32⟩
  | .hbm, ⟨7, _⟩ => ⟨S8x512x128, .bf16⟩
  | .hbm, ⟨8, _⟩ => ⟨S512x128, .f32⟩
  | .hbm, ⟨9, _⟩ => ⟨S512x128, .f32⟩
  | .hbm, ⟨10, _⟩ => ⟨S512x128, .f32⟩
  | .hbm, ⟨11, _⟩ => ⟨S512x128, .f32⟩
  | .local _ .vmem, ⟨0, _⟩ => ⟨S8x256x128, .bf16⟩
  | .local _ .vmem, ⟨1, _⟩ => ⟨S8x256x128, .bf16⟩
  | .local _ .vmem, ⟨2, _⟩ => ⟨S256x128, .f32⟩
  | .local _ .vmem, ⟨3, _⟩ => ⟨S256x128, .f32⟩
  | .local _ .vmem, ⟨4, _⟩ => ⟨S256x128, .f32⟩
  | .local _ .vmem, ⟨5, _⟩ => ⟨S256x128, .f32⟩
  | .local _ .vmem, ⟨6, _⟩ => ⟨S256x128, .f32⟩
  | .local _ .vmem, ⟨7, _⟩ => ⟨S256x128, .f32⟩
  | .local _ .vmem, ⟨8, _⟩ => ⟨S256x128, .f32⟩
  | .local _ .vmem, ⟨9, _⟩ => ⟨S256x128, .f32⟩
  | .local _ .vmem, ⟨10, _⟩ => ⟨S256x128, .f32⟩
  | .local _ .vmem, ⟨11, _⟩ => ⟨S256x128, .f32⟩
  | .local _ .vmem, ⟨12, _⟩ => ⟨S256x128, .f32⟩
  | .local _ .vmem, ⟨13, _⟩ => ⟨S256x128, .f32⟩
  | .local _ .vmem, ⟨14, _⟩ => ⟨S256x128, .f32⟩
  | .local _ .vmem, ⟨15, _⟩ => ⟨S256x128, .f32⟩
  | _, _ => ⟨S8x2x256x128, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev main_v4_3 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![2], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8x256x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== AdamKvReferenceIdeal.lean ====
abbrev S8x2x256x128 : Shape := ⟨4, ![8, 2, 256, 128]⟩
abbrev S2x256x128 : Shape := ⟨3, ![2, 256, 128]⟩
abbrev S_ : Shape := ⟨0, ![]⟩
abbrev S512x128 : Shape := ⟨2, ![512, 128]⟩

abbrev nBuf : Space → Nat
  | .hbm => 44
  | .vmem => 0
  | .smem => 0
  | _ => 0

abbrev bufTy : (tb : Table) → Fin (tcTables nBuf tb) → BufTy
  | .hbm, ⟨0, _⟩ => ⟨S8x2x256x128, .bf16⟩
  | .hbm, ⟨1, _⟩ => ⟨S2x256x128, .f32⟩
  | .hbm, ⟨2, _⟩ => ⟨S2x256x128, .f32⟩
  | .hbm, ⟨3, _⟩ => ⟨S2x256x128, .f32⟩
  | .hbm, ⟨4, _⟩ => ⟨S8x2x256x128, .f32⟩
  | .hbm, ⟨5, _⟩ => ⟨S_, .f32⟩
  | .hbm, ⟨6, _⟩ => ⟨S2x256x128, .f32⟩
  | .hbm, ⟨7, _⟩ => ⟨S_, .f32⟩
  | .hbm, ⟨8, _⟩ => ⟨S2x256x128, .f32⟩
  | .hbm, ⟨9, _⟩ => ⟨S2x256x128, .f32⟩
  | .hbm, ⟨10, _⟩ => ⟨S_, .f32⟩
  | .hbm, ⟨11, _⟩ => ⟨S2x256x128, .f32⟩
  | .hbm, ⟨12, _⟩ => ⟨S2x256x128, .f32⟩
  | .hbm, ⟨13, _⟩ => ⟨S2x256x128, .f32⟩
  | .hbm, ⟨14, _⟩ => ⟨S_, .f32⟩
  | .hbm, ⟨15, _⟩ => ⟨S2x256x128, .f32⟩
  | .hbm, ⟨16, _⟩ => ⟨S2x256x128, .f32⟩
  | .hbm, ⟨17, _⟩ => ⟨S2x256x128, .f32⟩
  | .hbm, ⟨18, _⟩ => ⟨S_, .f32⟩
  | .hbm, ⟨19, _⟩ => ⟨S2x256x128, .f32⟩
  | .hbm, ⟨20, _⟩ => ⟨S2x256x128, .f32⟩
  | .hbm, ⟨21, _⟩ => ⟨S2x256x128, .f32⟩
  | .hbm, ⟨22, _⟩ => ⟨S_, .f32⟩
  | .hbm, ⟨23, _⟩ => ⟨S2x256x128, .f32⟩
  | .hbm, ⟨24, _⟩ => ⟨S2x256x128, .f32⟩
  | .hbm, ⟨25, _⟩ => ⟨S_, .f32⟩
  | .hbm, ⟨26, _⟩ => ⟨S2x256x128, .f32⟩
  | .hbm, ⟨27, _⟩ => ⟨S2x256x128, .f32⟩
  | .hbm, ⟨28, _⟩ => ⟨S2x256x128, .f32⟩
  | .hbm, ⟨29, _⟩ => ⟨S_, .f32⟩
  | .hbm, ⟨30, _⟩ => ⟨S2x256x128, .f32⟩
  | .hbm, ⟨31, _⟩ => ⟨S2x256x128, .f32⟩
  | .hbm, ⟨32, _⟩ => ⟨S2x256x128, .f32⟩
  | .hbm, ⟨33, _⟩ => ⟨S_, .f32⟩
  | .hbm, ⟨34, _⟩ => ⟨S2x256x128, .f32⟩
  | .hbm, ⟨35, _⟩ => ⟨S2x256x128, .f32⟩
  | .hbm, ⟨36, _⟩ => ⟨S2x256x128, .f32⟩
  | .hbm, ⟨37, _⟩ => ⟨S_, .f32⟩
  | .hbm, ⟨38, _⟩ => ⟨S2x256x128, .f32⟩
  | .hbm, ⟨39, _⟩ => ⟨S2x256x128, .f32⟩
  | .hbm, ⟨40, _⟩ => ⟨S512x128, .f32⟩
  | .hbm, ⟨41, _⟩ => ⟨S512x128, .f32⟩
  | .hbm, ⟨42, _⟩ => ⟨S512x128, .f32⟩
  | .hbm, ⟨43, _⟩ => ⟨S512x128, .f32⟩
  | _, _ => ⟨S8x2x256x128, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_cst_1 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_2 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_3 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_cst_5 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_6 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_7 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_8 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩

abbrev nD : Nat := 1
abbrev τ : Topo := Topo.v7x

variable {F : FTy → Type} [FloatOps F]
-- ==== AdamGlu.lean ====
abbrev S8x2x32x256 : Shape := ⟨4, ![8, 2, 32, 256]⟩
abbrev S2x32x256 : Shape := ⟨3, ![2, 32, 256]⟩
abbrev S64x256 : Shape := ⟨2, ![64, 256]⟩
abbrev S8x64x256 : Shape := ⟨3, ![8, 64, 256]⟩
abbrev S1x64x256 : Shape := ⟨3, ![1, 64, 256]⟩

abbrev nBuf : Space → Nat
  | .hbm => 12
  | .vmem => 8
  | .smem => 0
  | _ => 0

abbrev bufTy : (tb : Table) → Fin (tcTables nBuf tb) → BufTy
  | .hbm, ⟨0, _⟩ => ⟨S8x2x32x256, .bf16⟩
  | .hbm, ⟨1, _⟩ => ⟨S2x32x256, .f32⟩
  | .hbm, ⟨2, _⟩ => ⟨S2x32x256, .f32⟩
  | .hbm, ⟨3, _⟩ => ⟨S2x32x256, .f32⟩
  | .hbm, ⟨4, _⟩ => ⟨S64x256, .f32⟩
  | .hbm, ⟨5, _⟩ => ⟨S64x256, .f32⟩
  | .hbm, ⟨6, _⟩ => ⟨S64x256, .f32⟩
  | .hbm, ⟨7, _⟩ => ⟨S8x64x256, .bf16⟩
  | .hbm, ⟨8, _⟩ => ⟨S64x256, .f32⟩
  | .hbm, ⟨9, _⟩ => ⟨S64x256, .f32⟩
  | .hbm, ⟨10, _⟩ => ⟨S64x256, .f32⟩
  | .hbm, ⟨11, _⟩ => ⟨S64x256, .f32⟩
  | .local _ .vmem, ⟨0, _⟩ => ⟨S8x64x256, .bf16⟩
  | .local _ .vmem, ⟨1, _⟩ => ⟨S64x256, .f32⟩
  | .local _ .vmem, ⟨2, _⟩ => ⟨S64x256, .f32⟩
  | .local _ .vmem, ⟨3, _⟩ => ⟨S64x256, .f32⟩
  | .local _ .vmem, ⟨4, _⟩ => ⟨S64x256, .f32⟩
  | .local _ .vmem, ⟨5, _⟩ => ⟨S64x256, .f32⟩
  | .local _ .vmem, ⟨6, _⟩ => ⟨S64x256, .f32⟩
  | .local _ .vmem, ⟨7, _⟩ => ⟨S64x256, .f32⟩
  | _, _ => ⟨S8x2x32x256, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev main_v4_3 : Ref sig .tc := ⟨.hbm, 11, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨1, ![1], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S8x64x256 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S64x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S64x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S64x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S64x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S64x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S64x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S64x256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]
-- ==== AdamGluReferenceIdeal.lean ====
abbrev S8x2x32x256 : Shape := ⟨4, ![8, 2, 32, 256]⟩
abbrev S2x32x256 : Shape := ⟨3, ![2, 32, 256]⟩
abbrev S_ : Shape := ⟨0, ![]⟩
abbrev S64x256 : Shape := ⟨2, ![64, 256]⟩

abbrev nBuf : Space → Nat
  | .hbm => 44
  | .vmem => 0
  | .smem => 0
  | _ => 0

abbrev bufTy : (tb : Table) → Fin (tcTables nBuf tb) → BufTy
  | .hbm, ⟨0, _⟩ => ⟨S8x2x32x256, .bf16⟩
  | .hbm, ⟨1, _⟩ => ⟨S2x32x256, .f32⟩
  | .hbm, ⟨2, _⟩ => ⟨S2x32x256, .f32⟩
  | .hbm, ⟨3, _⟩ => ⟨S2x32x256, .f32⟩
  | .hbm, ⟨4, _⟩ => ⟨S8x2x32x256, .f32⟩
  | .hbm, ⟨5, _⟩ => ⟨S_, .f32⟩
  | .hbm, ⟨6, _⟩ => ⟨S2x32x256, .f32⟩
  | .hbm, ⟨7, _⟩ => ⟨S_, .f32⟩
  | .hbm, ⟨8, _⟩ => ⟨S2x32x256, .f32⟩
  | .hbm, ⟨9, _⟩ => ⟨S2x32x256, .f32⟩
  | .hbm, ⟨10, _⟩ => ⟨S_, .f32⟩
  | .hbm, ⟨11, _⟩ => ⟨S2x32x256, .f32⟩
  | .hbm, ⟨12, _⟩ => ⟨S2x32x256, .f32⟩
  | .hbm, ⟨13, _⟩ => ⟨S2x32x256, .f32⟩
  | .hbm, ⟨14, _⟩ => ⟨S_, .f32⟩
  | .hbm, ⟨15, _⟩ => ⟨S2x32x256, .f32⟩
  | .hbm, ⟨16, _⟩ => ⟨S2x32x256, .f32⟩
  | .hbm, ⟨17, _⟩ => ⟨S2x32x256, .f32⟩
  | .hbm, ⟨18, _⟩ => ⟨S_, .f32⟩
  | .hbm, ⟨19, _⟩ => ⟨S2x32x256, .f32⟩
  | .hbm, ⟨20, _⟩ => ⟨S2x32x256, .f32⟩
  | .hbm, ⟨21, _⟩ => ⟨S2x32x256, .f32⟩
  | .hbm, ⟨22, _⟩ => ⟨S_, .f32⟩
  | .hbm, ⟨23, _⟩ => ⟨S2x32x256, .f32⟩
  | .hbm, ⟨24, _⟩ => ⟨S2x32x256, .f32⟩
  | .hbm, ⟨25, _⟩ => ⟨S_, .f32⟩
  | .hbm, ⟨26, _⟩ => ⟨S2x32x256, .f32⟩
  | .hbm, ⟨27, _⟩ => ⟨S2x32x256, .f32⟩
  | .hbm, ⟨28, _⟩ => ⟨S2x32x256, .f32⟩
  | .hbm, ⟨29, _⟩ => ⟨S_, .f32⟩
  | .hbm, ⟨30, _⟩ => ⟨S2x32x256, .f32⟩
  | .hbm, ⟨31, _⟩ => ⟨S2x32x256, .f32⟩
  | .hbm, ⟨32, _⟩ => ⟨S2x32x256, .f32⟩
  | .hbm, ⟨33, _⟩ => ⟨S_, .f32⟩
  | .hbm, ⟨34, _⟩ => ⟨S2x32x256, .f32⟩
  | .hbm, ⟨35, _⟩ => ⟨S2x32x256, .f32⟩
  | .hbm, ⟨36, _⟩ => ⟨S2x32x256, .f32⟩
  | .hbm, ⟨37, _⟩ => ⟨S_, .f32⟩
  | .hbm, ⟨38, _⟩ => ⟨S2x32x256, .f32⟩
  | .hbm, ⟨39, _⟩ => ⟨S2x32x256, .f32⟩
  | .hbm, ⟨40, _⟩ => ⟨S64x256, .f32⟩
  | .hbm, ⟨41, _⟩ => ⟨S64x256, .f32⟩
  | .hbm, ⟨42, _⟩ => ⟨S64x256, .f32⟩
  | .hbm, ⟨43, _⟩ => ⟨S64x256, .f32⟩
  | _, _ => ⟨S8x2x32x256, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_cst_1 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_2 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_3 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_cst_5 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_6 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_7 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_8 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩

abbrev nD : Nat := 1
abbrev τ : Topo := Topo.v7x

variable {F : FTy → Type} [FloatOps F]
-- ==== AdamMod.lean ====
abbrev S4x1024x768 : Shape := ⟨3, ![4, 1024, 768]⟩
abbrev S4096x768 : Shape := ⟨2, ![4096, 768]⟩
abbrev S512x768 : Shape := ⟨2, ![512, 768]⟩

abbrev nBuf : Space → Nat
  | .hbm => 11
  | .vmem => 14
  | .smem => 0
  | _ => 0

abbrev bufTy : (tb : Table) → Fin (tcTables nBuf tb) → BufTy
  | .hbm, ⟨0, _⟩ => ⟨S4x1024x768, .f32⟩
  | .hbm, ⟨1, _⟩ => ⟨S4x1024x768, .f32⟩
  | .hbm, ⟨2, _⟩ => ⟨S4x1024x768, .f32⟩
  | .hbm, ⟨3, _⟩ => ⟨S4x1024x768, .f32⟩
  | .hbm, ⟨4, _⟩ => ⟨S4096x768, .f32⟩
  | .hbm, ⟨5, _⟩ => ⟨S4096x768, .f32⟩
  | .hbm, ⟨6, _⟩ => ⟨S4096x768, .f32⟩
  | .hbm, ⟨7, _⟩ => ⟨S4096x768, .f32⟩
  | .hbm, ⟨8, _⟩ => ⟨S4096x768, .f32⟩
  | .hbm, ⟨9, _⟩ => ⟨S4096x768, .f32⟩
  | .hbm, ⟨10, _⟩ => ⟨S4096x768, .f32⟩
  | .local _ .vmem, ⟨0, _⟩ => ⟨S512x768, .f32⟩
  | .local _ .vmem, ⟨1, _⟩ => ⟨S512x768, .f32⟩
  | .local _ .vmem, ⟨2, _⟩ => ⟨S512x768, .f32⟩
  | .local _ .vmem, ⟨3, _⟩ => ⟨S512x768, .f32⟩
  | .local _ .vmem, ⟨4, _⟩ => ⟨S512x768, .f32⟩
  | .local _ .vmem, ⟨5, _⟩ => ⟨S512x768, .f32⟩
  | .local _ .vmem, ⟨6, _⟩ => ⟨S512x768, .f32⟩
  | .local _ .vmem, ⟨7, _⟩ => ⟨S512x768, .f32⟩
  | .local _ .vmem, ⟨8, _⟩ => ⟨S512x768, .f32⟩
  | .local _ .vmem, ⟨9, _⟩ => ⟨S512x768, .f32⟩
  | .local _ .vmem, ⟨10, _⟩ => ⟨S512x768, .f32⟩
  | .local _ .vmem, ⟨11, _⟩ => ⟨S512x768, .f32⟩
  | .local _ .vmem, ⟨12, _⟩ => ⟨S512x768, .f32⟩
  | .local _ .vmem, ⟨13, _⟩ => ⟨S512x768, .f32⟩
  | _, _ => ⟨S4x1024x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x768 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x768 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x768 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x768 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x768 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x768 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== AdamModReferenceIdeal.lean ====
abbrev S4x1024x768 : Shape := ⟨3, ![4, 1024, 768]⟩
abbrev S_ : Shape := ⟨0, ![]⟩
abbrev S4096x768 : Shape := ⟨2, ![4096, 768]⟩

abbrev nBuf : Space → Nat
  | .hbm => 40
  | .vmem => 0
  | .smem => 0
  | _ => 0

abbrev bufTy : (tb : Table) → Fin (tcTables nBuf tb) → BufTy
  | .hbm, ⟨0, _⟩ => ⟨S4x1024x768, .f32⟩
  | .hbm, ⟨1, _⟩ => ⟨S4x1024x768, .f32⟩
  | .hbm, ⟨2, _⟩ => ⟨S4x1024x768, .f32⟩
  | .hbm, ⟨3, _⟩ => ⟨S4x1024x768, .f32⟩
  | .hbm, ⟨4, _⟩ => ⟨S_, .f32⟩
  | .hbm, ⟨5, _⟩ => ⟨S4x1024x768, .f32⟩
  | .hbm, ⟨6, _⟩ => ⟨S4x1024x768, .f32⟩
  | .hbm, ⟨7, _⟩ => ⟨S_, .f32⟩
  | .hbm, ⟨8, _⟩ => ⟨S4x1024x768, .f32⟩
  | .hbm, ⟨9, _⟩ => ⟨S4x1024x768, .f32⟩
  | .hbm, ⟨10, _⟩ => ⟨S4x1024x768, .f32⟩
  | .hbm, ⟨11, _⟩ => ⟨S_, .f32⟩
  | .hbm, ⟨12, _⟩ => ⟨S4x1024x768, .f32⟩
  | .hbm, ⟨13, _⟩ => ⟨S4x1024x768, .f32⟩
  | .hbm, ⟨14, _⟩ => ⟨S4x1024x768, .f32⟩
  | .hbm, ⟨15, _⟩ => ⟨S_, .f32⟩
  | .hbm, ⟨16, _⟩ => ⟨S4x1024x768, .f32⟩
  | .hbm, ⟨17, _⟩ => ⟨S4x1024x768, .f32⟩
  | .hbm, ⟨18, _⟩ => ⟨S4x1024x768, .f32⟩
  | .hbm, ⟨19, _⟩ => ⟨S_, .f32⟩
  | .hbm, ⟨20, _⟩ => ⟨S4x1024x768, .f32⟩
  | .hbm, ⟨21, _⟩ => ⟨S4x1024x768, .f32⟩
  | .hbm, ⟨22, _⟩ => ⟨S_, .f32⟩
  | .hbm, ⟨23, _⟩ => ⟨S4x1024x768, .f32⟩
  | .hbm, ⟨24, _⟩ => ⟨S4x1024x768, .f32⟩
  | .hbm, ⟨25, _⟩ => ⟨S4x1024x768, .f32⟩
  | .hbm, ⟨26, _⟩ => ⟨S_, .f32⟩
  | .hbm, ⟨27, _⟩ => ⟨S4x1024x768, .f32⟩
  | .hbm, ⟨28, _⟩ => ⟨S4x1024x768, .f32⟩
  | .hbm, ⟨29, _⟩ => ⟨S4x1024x768, .f32⟩
  | .hbm, ⟨30, _⟩ => ⟨S_, .f32⟩
  | .hbm, ⟨31, _⟩ => ⟨S4x1024x768, .f32⟩
  | .hbm, ⟨32, _⟩ => ⟨S4x1024x768, .f32⟩
  | .hbm, ⟨33, _⟩ => ⟨S4x1024x768, .f32⟩
  | .hbm, ⟨34, _⟩ => ⟨S_, .f32⟩
  | .hbm, ⟨35, _⟩ => ⟨S4x1024x768, .f32⟩
  | .hbm, ⟨36, _⟩ => ⟨S4x1024x768, .f32⟩
  | .hbm, ⟨37, _⟩ => ⟨S4096x768, .f32⟩
  | .hbm, ⟨38, _⟩ => ⟨S4096x768, .f32⟩
  | .hbm, ⟨39, _⟩ => ⟨S4096x768, .f32⟩
  | _, _ => ⟨S4x1024x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩

abbrev nD : Nat := 1
abbrev τ : Topo := Topo.v7x

variable {F : FTy → Type} [FloatOps F]
-- ==== SumSmall.lean ====
abbrev S8x2336x128 : Shape := ⟨3, ![8, 2336, 128]⟩
abbrev S2336x128 : Shape := ⟨2, ![2336, 128]⟩
abbrev S1x2336x128 : Shape := ⟨3, ![1, 2336, 128]⟩

abbrev nBuf : Space → Nat
  | .hbm => 2
  | .vmem => 2
  | .smem => 0
  | _ => 0

abbrev bufTy : (tb : Table) → Fin (tcTables nBuf tb) → BufTy
  | .hbm, ⟨0, _⟩ => ⟨S8x2336x128, .f32⟩
  | .hbm, ⟨1, _⟩ => ⟨S2336x128, .f32⟩
  | .local _ .vmem, ⟨0, _⟩ => ⟨S8x2336x128, .f32⟩
  | .local _ .vmem, ⟨1, _⟩ => ⟨S2336x128, .f32⟩
  | _, _ => ⟨S8x2336x128, .f32⟩

abbrev bufScoped : (cs : CoreSpace) → Fin (nBuf (.core cs)) → Bool
  | .vmem, ⟨0, _⟩ => true
  | .vmem, ⟨1, _⟩ => true
  | _, _ => false

abbrev semScoped : Fin 0 → Bool
  | ⟨_, h⟩ => absurd h (Nat.not_lt_zero _)

abbrev dmaSemScoped : Fin 2 → Bool
  | ⟨0, _⟩ => true
  | ⟨1, _⟩ => true
  | _ => false

abbrev sig : RefSig :=
  ofTc nBuf bufTy 0 2 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg1_0 : Ref sig .tc := ⟨.vmem, 1, rfl⟩
abbrev cc0_sem0_0 : DmaSem sig := 0
abbrev cc0_sem1_0 : DmaSem sig := 1

abbrev nD : Nat := 1
abbrev τ : Topo := Topo.v7x

variable {F : FTy → Type} [FloatOps F]

abbrev grid0 : Pipeline.Grid := .none

abbrev stage0_0 : Fin 1 → Memref sig .tc .vmem S8x2336x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S2336x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== SumSmallReferenceIdeal.lean ====
abbrev S8x2336x128 : Shape := ⟨3, ![8, 2336, 128]⟩
abbrev S_ : Shape := ⟨0, ![]⟩
abbrev S2336x128 : Shape := ⟨2, ![2336, 128]⟩

abbrev nBuf : Space → Nat
  | .hbm => 3
  | .vmem => 0
  | .smem => 0
  | _ => 0

abbrev bufTy : (tb : Table) → Fin (tcTables nBuf tb) → BufTy
  | .hbm, ⟨0, _⟩ => ⟨S8x2336x128, .f32⟩
  | .hbm, ⟨1, _⟩ => ⟨S_, .f32⟩
  | .hbm, ⟨2, _⟩ => ⟨S2336x128, .f32⟩
  | _, _ => ⟨S8x2336x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== Proof.SoftmaxGrad.lean ====
/- The mathematics of a softmax and of its gradient on one row of scores, over the extended reals, in the two forms that
   meet in this certificate: the base-2 exponential of scores scaled by `scale * log2 e`, with the row's reciprocal sum
   multiplied in (the kernel), and the natural exponential of scores scaled by `scale`, divided by the row's sum (the
   reference's automatic derivative). -/
module

public import Idealize.ShloMosaic.Lib.Pipeline.ValueKit
public import Idealize.ShloMosaic.Lib.Pointwise

@[expose] public section

noncomputable section

namespace Cert.SoftmaxGrad

open Idealize.ShloMosaic

variable {n : ℕ}

/-- The kernel's unnormalised weight: two to the scaled score less the row's largest scaled score. -/
def kExp (κ : EReal) (t : Fin n → EReal) (j : Fin n) : EReal :=
  Ideal.exp2 (t j * κ - Finset.univ.fold max (Ideal.ofBits .f32 0xFF800000#32) fun i => t i * κ)

/-- The kernel's softmax weight: the unnormalised one times the reciprocal of the row's sum. -/
def kProb (κ : EReal) (t : Fin n → EReal) (j : Fin n) : EReal :=
  kExp κ t j * Ideal.div 1 (∑ i, kExp κ t i)

/-- The kernel's gradient of the scores, from the gradient `d` of the weights; `c` is the scores' scale. -/
def kGrad (κ c : EReal) (t d : Fin n → EReal) (j : Fin n) : EReal :=
  kProb κ t j * (d j - ∑ i, kProb κ t i * d i) * c

/-- The reference's unnormalised weight. -/
def rExp (c : EReal) (t : Fin n → EReal) (j : Fin n) : EReal :=
  Ideal.exp (t j * c - max (Ideal.ofBits .f32 0xFF800000#32)
    (Finset.univ.fold max (Ideal.ofBits .f32 0xFF800000#32) fun i => t i * c))

/-- The reference's softmax weight. -/
def rProb (c : EReal) (t : Fin n → EReal) (j : Fin n) : EReal :=
  Ideal.div (rExp c t j) (∑ i, rExp c t i)

/-- The reference's gradient of the scores: the derivative of the quotient, term by term. -/
def rGrad (c : EReal) (t d : Fin n → EReal) (j : Fin n) : EReal :=
  (Ideal.div (d j) (∑ i, rExp c t i)
      + -(∑ i, d i * Ideal.div 1 ((∑ l, rExp c t l) * ∑ l, rExp c t l) * rExp c t i)) * rExp c t j * c

/-- The word of the least score is the least extended real. -/
theorem ofBits_least : Ideal.ofBits .f32 0xFF800000#32 = ⊥ := by
  simp [Ideal.ofBits, Ideal.ieee]

/-- The word of one eighth. -/
theorem ofBits_eighth : Ideal.ofBits .f32 0x3E000000#32 = ((1 / 8 : ℝ) : EReal) := by
  simp [Ideal.ofBits, Ideal.ieee, -EReal.coe_mul]; norm_num

/-- A positive real factor is taken out of a sum of extended reals. -/
theorem mul_sum_of_pos (a : ℝ) (ha : 0 < a) (f : Fin n → EReal) : ∑ i, (a : EReal) * f i = (a : EReal) * ∑ i, f i := by
  have h : ∀ s : Finset (Fin n), ∑ i ∈ s, (a : EReal) * f i = (a : EReal) * ∑ i ∈ s, f i := by
    intro s
    induction s using Finset.induction_on with
    | empty => simp
    | insert i s hi ih =>
      rw [Finset.sum_insert hi, Finset.sum_insert hi, ih,
        EReal.left_distrib_of_nonneg_of_ne_top (by exact_mod_cast ha.le) (EReal.coe_ne_top a)]
  exact h _

/-- The largest of the scaled scores, at a place `i₀` where the unscaled ones are largest. -/
theorem fold_max_mul (x : Fin n → ℝ) (i₀ : Fin n) (h : ∀ i, x i ≤ x i₀) (c : ℝ) (hc : 0 < c) :
    (Finset.univ.fold max (Ideal.ofBits .f32 0xFF800000#32) fun i => (x i : EReal) * (c : EReal)) = ((x i₀ * c : ℝ) : EReal) := by
  rw [ofBits_least]
  refine le_antisymm ?_ ?_
  · rw [Finset.fold_max_le]
    refine ⟨bot_le, fun i _ => ?_⟩
    exact_mod_cast mul_le_mul_of_nonneg_right (h i) hc.le
  · rw [Finset.le_fold_max]
    exact Or.inr ⟨i₀, Finset.mem_univ _, by exact_mod_cast le_rfl⟩

/-- On a row of real scores both forms have the same unnormalised weights, and these are positive reals. -/
theorem exps (c : ℝ) (hc : 0 < c) (t : Fin n → EReal) (j₀ : Fin n) (ht : ∀ j, ∃ r : ℝ, t j = r) :
    ∃ E : Fin n → ℝ, (∀ j, 0 < E j) ∧ (∀ j, kExp ((c * (Real.log 2)⁻¹ : ℝ) : EReal) t j = E j) ∧ ∀ j, rExp (c : EReal) t j = E j := by
  choose x hx using ht
  haveI : Nonempty (Fin n) := ⟨j₀⟩
  obtain ⟨i₀, hi₀⟩ := Finite.exists_max x
  have hl : 0 < Real.log 2 := Real.log_pos one_lt_two
  have hk : 0 < c * (Real.log 2)⁻¹ := mul_pos hc (inv_pos.2 hl)
  refine ⟨fun j => Real.exp (x j * c - x i₀ * c), fun j => Real.exp_pos _, fun j => ?_, fun j => ?_⟩
  · unfold kExp
    simp only [hx]
    rw [fold_max_mul x i₀ hi₀ _ hk, ← EReal.coe_mul, ← EReal.coe_sub]
    show ((Real.rpow 2 _ : ℝ) : EReal) = _
    congr 1
    show (2 : ℝ) ^ (_ : ℝ) = _
    rw [Real.rpow_def_of_pos two_pos]
    congr 1
    field_simp
  · unfold rExp
    simp only [hx]
    rw [fold_max_mul x i₀ hi₀ _ hc, ofBits_least, max_eq_right bot_le, ← EReal.coe_mul, ← EReal.coe_sub]
    rfl

/-- The sum of real numbers, taken among the extended reals. -/
theorem coe_sum (E : Fin n → ℝ) : ∑ i, (E i : EReal) = ((∑ i, E i : ℝ) : EReal) :=
  (map_sum (⟨⟨(fun r : ℝ => (r : EReal)), EReal.coe_zero⟩, EReal.coe_add⟩ : ℝ →+ EReal) E Finset.univ).symm

/-- On a row of real scores the two softmax weights are equal. -/
theorem prob_eq (c : ℝ) (hc : 0 < c) (t : Fin n → EReal) (ht : ∀ j, ∃ r : ℝ, t j = r) (j : Fin n) :
    kProb ((c * (Real.log 2)⁻¹ : ℝ) : EReal) t j = rProb (c : EReal) t j := by
  obtain ⟨E, hE, hk, hr⟩ := exps c hc t j ht
  have hZ : (∑ i, E i) ≠ 0 := (Finset.sum_pos (fun i _ => hE i) ⟨j, Finset.mem_univ j⟩).ne'
  unfold kProb rProb
  simp only [hk, hr]
  rw [coe_sum, Ideal.div_coe hZ, Ideal.div_coe hZ, one_mul]

/-- On a row of real scores the two gradients are equal, whatever the gradient of the weights is. -/
theorem grad_eq (c : ℝ) (hc : 0 < c) (t d : Fin n → EReal) (ht : ∀ j, ∃ r : ℝ, t j = r) (j : Fin n) :
    kGrad ((c * (Real.log 2)⁻¹ : ℝ) : EReal) (c : EReal) t d j = rGrad (c : EReal) t d j := by
  obtain ⟨E, hE, hk, hr⟩ := exps c hc t j ht
  have hZ : 0 < ∑ i, E i := Finset.sum_pos (fun i _ => hE i) ⟨j, Finset.mem_univ j⟩
  unfold kGrad rGrad kProb
  simp only [hk, hr]
  rw [coe_sum]
  generalize hZ' : ∑ i, E i = Z at hZ
  have ha : 0 < 1 / Z := one_div_pos.2 hZ
  have hw : Ideal.div 1 ((Z : EReal) * (Z : EReal)) = ((1 / Z : ℝ) : EReal) * ((1 / Z : ℝ) : EReal) := by
    rw [← EReal.coe_mul, Ideal.div_coe (mul_pos hZ hZ).ne', one_mul, ← EReal.coe_mul]
    congr 1
    field_simp
  rw [hw, Ideal.div_coe hZ.ne', Ideal.div_coe hZ.ne', one_mul]
  generalize 1 / Z = a at ha
  have hs : (∑ i, d i * ((a : EReal) * (a : EReal)) * (E i : EReal)) = (a : EReal) * ∑ i, (E i : EReal) * (a : EReal) * d i := by
    rw [← mul_sum_of_pos a ha]
    exact Finset.sum_congr rfl fun i _ => by ac_rfl
  rw [hs]
  congr 1
  rw [sub_eq_add_neg, mul_comm (d j), ← mul_neg,
    ← EReal.left_distrib_of_nonneg_of_ne_top (by exact_mod_cast ha.le) (EReal.coe_ne_top a)]
  ac_rfl

/-- A product of real numbers is real. -/
theorem real_mul {x y : EReal} (hx : ∃ r : ℝ, x = r) (hy : ∃ r : ℝ, y = r) : ∃ r : ℝ, x * y = r := by
  obtain ⟨a, rfl⟩ := hx
  obtain ⟨b, rfl⟩ := hy
  exact ⟨a * b, (EReal.coe_mul a b).symm⟩

/-- A sum of real numbers is real. -/
theorem real_sum (f : Fin n → EReal) (h : ∀ i, ∃ r : ℝ, f i = r) : ∃ r : ℝ, ∑ i, f i = r := by
  choose x hx using h
  exact ⟨∑ i, x i, by simp only [hx]; exact coe_sum x⟩

end Cert.SoftmaxGrad

end
-- ==== Proof.HeadRows.lean ====
/- The rows of the grouped-query attention by query head, and the weighted sum of the values. -/
module

public import proofs.«01_k».proof.Proof.SoftmaxGrad

@[expose] public section

noncomputable section

namespace Cert.HeadRows

open Idealize.ShloMosaic

/-- The queries, over batch, token, head and feature. -/
abbrev QArr := (⟨4, ![2, 2048, 12, 64]⟩ : Shape).Idx → EReal
/-- The keys. -/
abbrev KArr := (⟨4, ![2, 2304, 4, 64]⟩ : Shape).Idx → EReal
/-- The values. -/
abbrev VArr := (⟨4, ![2, 2304, 4, 64]⟩ : Shape).Idx → EReal
/-- The results, and their upstream gradient. -/
abbrev OArr := (⟨4, ![2, 2048, 12, 64]⟩ : Shape).Idx → EReal

/-- The key head which query head `h` reads. -/
def kv (h : Fin 12) : Fin 4 := ⟨h.val / 3, by omega⟩

/-- The unscaled scores of query row `r`. -/
def row (q : QArr) (k : KArr) (b : Fin 2) (h : Fin 12) (r : Fin 2048) (s : Fin 2304) : EReal :=
  ∑ e : Fin 64, q (ix4 b r h e) * k (ix4 b s (kv h) e)

/-- The gradient of the weights of query row `r`. -/
def drow (g : OArr) (v : VArr) (b : Fin 2) (h : Fin 12) (r : Fin 2048) (s : Fin 2304) : EReal :=
  ∑ e : Fin 64, g (ix4 b r h e) * v (ix4 b s (kv h) e)

/-- The values, summed with the weights of a row. -/
def mixed (p : Fin 2304 → EReal) (v : VArr) (b : Fin 2) (h : Fin 12) (e : Fin 64) : EReal :=
  ∑ s : Fin 2304, p s * v (ix4 b s (kv h) e)

/-- Where queries and keys are real, so is every row of scores. -/
theorem row_real (q : QArr) (k : KArr) (hq : ∀ i, ∃ r : ℝ, (q i : EReal) = r) (hk : ∀ i, ∃ r : ℝ, (k i : EReal) = r)
    (b : Fin 2) (h : Fin 12) (n : Fin 2048) (s : Fin 2304) : ∃ r : ℝ, row q k b h n s = r :=
  SoftmaxGrad.real_sum _ fun _ => SoftmaxGrad.real_mul (hq _) (hk _)

end Cert.HeadRows

end
-- ==== Proof.DenseArray.lean ====
/- The grouped-query attention of the even layers: the array the call returns, from its arguments. -/
module

public import proofs.«01_k».proof.Proof.Gen.DenseIdeal.Value
public import proofs.«01_k».proof.Proof.HeadRows
public import Idealize.ShloMosaic.Lib.Pipeline.ValueKit
public import Idealize.ShloMosaic.Lib.Pointwise

@[expose] public section

set_option maxRecDepth 16384

noncomputable section

namespace Cert.DenseArray

open Cert.DenseIdeal Cert.DenseIdeal.Gen Idealize.ShloMosaic Idealize.ShloMosaic.TcCoe Idealize.SL.Sem
open Cert.SoftmaxGrad (kExp kProb)
open Cert.HeadRows (QArr KArr VArr kv row mixed)

/-- The named constant: the scores' scale times the logarithm of e to base 2. -/
abbrev kap : EReal := Named.named (F := Ideal) (φ := .f32) κ "scale_log2e" 0x3E38AA3B#32

/-- The products of row `r` of a 256-row block with every column of a transposed block. -/
def brow (x : FVec Ideal S1x1x256x64 .bf16) (y : FVec Ideal S1x1x64x2304 .bf16) (r : Fin 256) (s : Fin 2304) : EReal :=
  ∑ e : Fin 64, (x (ix4 0 0 r e) : EReal) * y (ix4 0 0 e s)

theorem exp2_eq (x : EReal) : FloatOps.exp2 (F := Ideal) (φ := .f32) x = Ideal.exp2 x := rfl

section
variable (q : FVec Ideal S1x1x256x64 .bf16) (k : FVec Ideal S1x1x64x2304 .bf16) (v : FVec Ideal S1x1x64x2304 .bf16)
variable (r : Fin 256) (e : Fin 64)

/-- The first half of a block. -/
theorem first : (k0_pay4 (F := Ideal) k v q (ix4 0 0 e r) : EReal) = ∑ s, kProb kap (brow q k r) s * v (ix4 0 0 e s) := by
  simp only [mul_comm _ (v _)]
  pointwise [k0_pay4, k0_pay2, k0_pay3, kProb, kExp, brow]
  simp only [exp2_eq]

/-- The second half of a block. -/
theorem second : (k0_pay1 (F := Ideal) (k0_pay3 v) (k0_pay5 k q) (ix4 0 0 e r) : EReal) = ∑ s, kProb kap (brow q k r) s * v (ix4 0 0 e s) := by
  simp only [mul_comm _ (v _)]
  pointwise [k0_pay1, k0_pay5, k0_pay2, k0_pay3, kProb, kExp, brow]
  simp only [exp2_eq]
end

variable (m : (ℓ : Loc nD τ sig) → Buf (Elt Ideal) ℓ) (c : Dev nD)

/-- The queries. -/
abbrev qA : QArr := m ((c : Thread nD τ).loc main_arg0)
/-- The keys. -/
abbrev kA : KArr := m ((c : Thread nD τ).loc main_arg1)
/-- The values. -/
abbrev vA : VArr := m ((c : Thread nD τ).loc main_arg2)

theorem idx : ∀ t : Fin cfg0.N, win0_0.index t = ![t.val / 48, t.val / 4 % 12, t.val % 4, 0]
    ∧ win0_1.index t = ![t.val / 48, t.val / 12 % 4, 0, 0] ∧ win0_2.index t = ![t.val / 48, t.val / 12 % 4, 0, 0]
    ∧ win0_3.index t = ![t.val / 48, t.val / 4 % 12, 0, t.val % 4] :=
  (by decide +kernel : ∀ t : Fin grid0.N, _)

/-- Row `r` of the first half of a block. -/
def lo (r : Fin 256) : Fin 512 := ⟨r.val, by omega⟩
/-- Row `r` of the second half of a block. -/
def hi (r : Fin 256) : Fin 512 := ⟨256 + r.val, by omega⟩

/-- The first half of a block of queries. -/
abbrev half0 (X : FVec Ideal S1x1x512x64 .bf16) : FVec Ideal S1x1x256x64 .bf16 :=
  View.ld (Val := Elt Ideal) (e' := .bf16) X (Rect.unit ![0, 0, 0, 0] ![1, 1, 256, 64] inb_S1x1x512x64_S1x1x256x64_0_0_0_0)

/-- The second half. -/
abbrev half1 (X : FVec Ideal S1x1x512x64 .bf16) : FVec Ideal S1x1x256x64 .bf16 :=
  View.ld (Val := Elt Ideal) (e' := .bf16) X (Rect.unit ![0, 0, 256, 0] ![1, 1, 256, 64] inb_S1x1x512x64_S1x1x256x64_0_0_256_0)

theorem half0_at (X : FVec Ideal S1x1x512x64 .bf16) (r : Fin 256) (e : Fin 64) : half0 X (ix4 0 0 r e) = X (ix4 0 0 (lo r) e) := by
  show X _ = X _
  congr 1
  unfold lo
  idx_ext

theorem half1_at (X : FVec Ideal S1x1x512x64 .bf16) (r : Fin 256) (e : Fin 64) : half1 X (ix4 0 0 r e) = X (ix4 0 0 (hi r) e) := by
  show X _ = X _
  congr 1
  unfold hi
  idx_ext

variable (t : Fin cfg0.N) (b : Fin 2) (hd : Fin 12) (hb : b.val = t.val / 48) (hh : hd.val = t.val / 4 % 12)

include hb hh in
theorem q_read (x : Fin 512) (e : Fin 64) (n : Fin 2048) (hn : n.val = t.val % 4 * 512 + x.val) :
    (iblk m c 0 t (ix4 0 0 x e) : EReal) = qA m c (ix4 b n hd e) := by
  blk_point [iblk, V, idx t]

include hb hh in
theorem k_read (e : Fin 64) (s : Fin 2304) : (iblk m c 1 t (ix4 0 0 e s) : EReal) = kA m c (ix4 b s (kv hd) e) := by
  have hk : (kv hd).val = t.val / 12 % 4 := by
    simp only [kv]
    omega
  generalize kv hd = j at hk
  blk_point [iblk, V, idx t]

include hb hh in
theorem v_read (e : Fin 64) (s : Fin 2304) : (iblk m c 2 t (ix4 0 0 e s) : EReal) = vA m c (ix4 b s (kv hd) e) := by
  have hk : (kv hd).val = t.val / 12 % 4 := by
    simp only [kv]
    omega
  generalize kv hd = j at hk
  blk_point [iblk, V, idx t]

/-- The result at an index of its array. -/
def outAt (b : Fin 2) (hd : Fin 12) (e : Fin 64) (n : Fin 2048) : EReal :=
  mixed (kProb kap (row (qA m c) (kA m c) b hd n)) (vA m c) b hd e

include hb hh in
/-- A half block's rows are the arrays' rows. -/
theorem half_out (X : FVec Ideal S1x1x256x64 .bf16) (r : Fin 256) (e : Fin 64) (n : Fin 2048)
    (hX : ∀ e, (X (ix4 0 0 r e) : EReal) = qA m c (ix4 b n hd e)) :
    (∑ s, kProb kap (brow X (iblk m c 1 t) r) s * (iblk m c 2 t (ix4 0 0 e s) : EReal)) = outAt m c b hd e n := by
  have h : brow X (iblk m c 1 t) r = row (qA m c) (kA m c) b hd n := by
    funext s
    exact Finset.sum_congr rfl fun e _ => congrArg₂ (· * ·) (hX e) (k_read m c t b hd hb hh e s)
  unfold outAt mixed
  rw [h]
  exact Finset.sum_congr rfl fun s _ => congrArg₂ (· * ·) rfl (v_read m c t b hd hb hh e s)

include hb hh in
/-- What a grid point leaves in its block. -/
theorem point (y : S1x1x64x512.Idx) (e : Fin 64) (n : Fin 2048) (he : e.val = (y 2).val) (hn : n.val = t.val % 4 * 512 + (y 3).val) :
    (out0_3 (F := Ideal) (iblk m c 0 t) (iblk m c 1 t) (iblk m c 2 t) y : EReal) = outAt m c b hd e n := by
  unfold out0_3
  frame_out
  canon_tiles x h'
  · have hx : x = ix4 0 0 e (x 3) := by idx_ext
    rw [hx]
    refine (second _ _ _ (x 3) e).trans (half_out m c t b hd hb hh _ (x 3) e n fun e => ?_)
    exact (half1_at _ _ e).trans (q_read m c t b hd hb hh _ e n (by simp only [hi]; omega))
  · have hx : x = ix4 0 0 e (x 3) := by idx_ext
    rw [hx]
    refine (first _ _ _ (x 3) e).trans (half_out m c t b hd hb hh _ (x 3) e n fun e => ?_)
    exact (half0_at _ _ e).trans (q_read m c t b hd hb hh _ e n (by simp only [lo]; omega))

/-- The array after the run. -/
theorem final : (dats m 0 c).arrAt 3 cfg0.N = fun y : S2x12x64x2048.Idx => outAt m c (y 0) (y 1) (y 2) (y 3) := by
  refine (dats m 0 c).arrAt_eq_of_covers 3 _ (by decide +kernel) fun t hf y => ?_
  blk_simp
  rw [after0_3]
  refine point m c t _ _ ?_ ?_ y _ _ ?_ ?_
  · blk_simp [idx t]
  · blk_simp [idx t]
  · blk_simp [idx t]
    try omega
  · blk_simp [idx t]
    try omega

end Cert.DenseArray

end
-- ==== Proof.HostMax.lean ====
/- The host's maximum along the last of five axes, at an index, for arrays of any size. -/
module

public import Idealize.ShloMosaic.Lib.Pipeline.ValueKit
public import Idealize.ShloMosaic.Lib.Pointwise

@[expose] public section

noncomputable section

namespace Cert.HostMax

open Idealize.ShloMosaic

/-- The largest element along the last of five axes, starting from a constant. -/
theorem reduce_max_at {n0 n1 n2 n3 n4 : ℕ} {u : Shape} (x : FVec Ideal ⟨5, ![n0, n1, n2, n3, n4]⟩ .f32) (w : BitVec 32)
    (h : (⟨5, ![n0, n1, n2, n3, n4]⟩ : Shape).ReducesTo [4] (⟨4, ![n0, n1, n2, n3]⟩ : Shape)) (hu : 0 < u.numel)
    (a : Fin n0) (b : Fin n1) (c : Fin n2) (d : Fin n3) :
    Host.reduce (FloatOps.maximumf (F := Ideal) (φ := .f32)) x (constant (F := Ideal) u .f32 w) h hu (ix4 a b c d)
      = Finset.univ.fold max (Ideal.ofBits .f32 w) fun k => x (ix5 a b c d k) := by
  haveI : Std.Commutative (FloatOps.maximumf (F := Ideal) (φ := .f32)) := ⟨fun p q => max_comm (α := EReal) p q⟩
  haveI : Std.Associative (FloatOps.maximumf (F := Ideal) (φ := .f32)) := ⟨fun p q r => max_assoc (α := EReal) p q r⟩
  rw [Host.reduce_eq_fold, h.fold_fiber_r5_a4]
  rfl

end Cert.HostMax

end
-- ==== Proof.DenseRef.lean ====
/- The reference of the grouped-query attention, through named intermediate arrays and at an index. -/
module

public import proofs.«01_k».proof.Proof.Gen.DenseReferenceIdeal.Run
public import proofs.«01_k».proof.Proof.HeadRows
public import proofs.«01_k».proof.Proof.HostMax

@[expose] public section

set_option maxRecDepth 16384

noncomputable section

namespace Cert.DenseRef

open Cert.DenseReferenceIdeal Cert.DenseReferenceIdeal.Gen Idealize.ShloMosaic Idealize.ShloMosaic.TcCoe Idealize.SL.Sem
open Cert.HeadRows (kv row mixed)

abbrev QArr := FVec Ideal S2x2048x12x64 .f32
abbrev KArr := FVec Ideal S2x2304x4x64 .f32

/-- The scores times the scale. -/
def scores (q : QArr) (k : KArr) : FVec Ideal S2x4x3x2048x2304 .f32 :=
  mulf (transpose S2x4x3x2048x2304 [0, 1, 4, 3, 2]
      (Host.dotGeneral dot_S2x2304x4x64_S2x2048x4x3x64_S2x4x2304x2048x3_3_4_1_13_02_02 none k
        (shapeCast _ q shapeCasts_S2x2048x12x64_S2x2048x4x3x64)) transposes_S2x4x2304x2048x3_S2x4x3x2048x2304_0_1_4_3_2)
    (broadcastInDim S2x4x3x2048x2304 ![] bcast_S_S2x4x3x2048x2304 (constant S_ .f32 0x3E000000#32))

/-- A row statistic, repeated along the row. -/
def along (x : FVec Ideal S2x4x3x2048 .f32) : FVec Ideal S2x4x3x2048x2304 .f32 :=
  broadcastInDim S2x4x3x2048x2304 ![0, 1, 2, 3, 4] bcast_S2x4x3x2048x1_S2x4x3x2048x2304_0_1_2_3_4
    (broadcastInDim S2x4x3x2048x1 ![0, 1, 2, 3] bcast_S2x4x3x2048_S2x4x3x2048x1_0_1_2_3 x)

/-- The largest scaled score of each row. -/
def rowMax (s : FVec Ideal S2x4x3x2048x2304 .f32) : FVec Ideal S2x4x3x2048 .f32 :=
  maximumf (broadcastInDim S2x4x3x2048 ![] bcast_S_S2x4x3x2048 (constant S_ .f32 0xFF800000#32))
    (Host.reduce (FloatOps.maximumf (F := Ideal) (φ := .f32)) s (constant S_ .f32 0xFF800000#32) reducesTo_S2x4x3x2048x2304_S2x4x3x2048_d4 h_S_)

/-- The unnormalised weights. -/
def exps (s : FVec Ideal S2x4x3x2048x2304 .f32) : FVec Ideal S2x4x3x2048x2304 .f32 :=
  Host.exp (subf s (along (rowMax s)))

/-- The weights. -/
def prob (e : FVec Ideal S2x4x3x2048x2304 .f32) : FVec Ideal S2x4x3x2048x2304 .f32 :=
  Host.divf e (along (Host.reduceAdd e (constant S_ .f32 0x00000000#32) reducesTo_S2x4x3x2048x2304_S2x4x3x2048_d4 h_S_))

/-- The weighted sums of the values. -/
def sums (p : FVec Ideal S2x4x3x2048x2304 .f32) (v : KArr) : FVec Ideal S2x12x64x2048 .f32 :=
  transpose S2x12x64x2048 [0, 2, 3, 1] (shapeCast _ (transpose S2x2048x4x3x64 [0, 4, 1, 3, 2]
      (Host.dotGeneral dot_S2x2304x4x64_S2x4x3x2048x2304_S2x4x64x3x2048_1_4_3_23_02_01 none v p)
      transposes_S2x4x64x3x2048_S2x2048x4x3x64_0_4_1_3_2) shapeCasts_S2x2048x4x3x64_S2x2048x12x64)
    transposes_S2x2048x12x64_S2x12x64x2048_0_2_3_1

/-- The reference's result. -/
def out (q : QArr) (k v : KArr) : FVec Ideal S2x12x64x2048 .f32 := sums (prob (exps (scores q k))) v

/-- The scores' scale. -/
abbrev scale : EReal := Ideal.ofBits .f32 0x3E000000#32

theorem max_at {s : Shape} (p q : FVec Ideal s .f32) (j : s.Idx) : maximumf p q j = max (p j : EReal) (q j : EReal) := rfl

theorem const_at {s : Shape} (f) (h) (w : BitVec 32) (j : s.Idx) :
    broadcastInDim s f h (constant (F := Ideal) S_ .f32 w) j = Ideal.ofBits .f32 w := rfl

variable (q : QArr) (k v : KArr) (x : FVec Ideal S2x4x3x2048x2304 .f32)
variable (b : Fin 2) (h : Fin 4) (u : Fin 3) (r : Fin 2048) (s : Fin 2304) (e : Fin 64)

/-- The query head number `u` of the group of key head `h`. -/
def head (h : Fin 4) (u : Fin 3) : Fin 12 := ⟨h.val * 3 + u.val, by omega⟩

theorem kv_head : kv (head h u) = h := Fin.ext (by show (h.val * 3 + u.val) / 3 = h.val; omega)

theorem scores_at : scores q k (ix5 b h u r s) = row q k b (head h u) r s * scale := by
  unfold row
  rw [kv_head]
  simp only [mul_comm (q _)]
  pointwise [scores, head]

theorem rowMax_at : rowMax x (ix4 b h u r) = max (Ideal.ofBits .f32 0xFF800000#32)
    (Finset.univ.fold max (Ideal.ofBits .f32 0xFF800000#32) fun s => x (ix5 b h u r s)) := by
  unfold rowMax
  rw [max_at, const_at, HostMax.reduce_max_at]

theorem exps_at : exps x (ix5 b h u r s) = Ideal.exp (x (ix5 b h u r s) - rowMax x (ix4 b h u r)) := by
  pointwise [exps, along]

theorem exps_scores_at :
    exps (scores q k) (ix5 b h u r s) = SoftmaxGrad.rExp scale (row q k b (head h u) r) s := by
  rw [exps_at, rowMax_at]
  simp only [scores_at]
  rfl

theorem prob_at : prob x (ix5 b h u r s) = Ideal.div (x (ix5 b h u r s)) (∑ i, x (ix5 b h u r i)) := by
  pointwise [prob, along]

theorem sums_at (h : Fin 12) : sums x v (ix4 b h e r)
    = ∑ s, x (ix5 b ⟨h.val / 3, by omega⟩ ⟨h.val % 3, by omega⟩ r s) * v (ix4 b s (kv h) e) := by
  simp only [mul_comm _ (v _)]
  pointwise [sums, kv]

/-- The reference's result at an index. -/
theorem out_at (h : Fin 12) : out q k v (ix4 b h e r) = mixed (SoftmaxGrad.rProb scale (row q k b h r)) v b h e := by
  have hh : head ⟨h.val / 3, by omega⟩ ⟨h.val % 3, by omega⟩ = h := Fin.ext (by show h.val / 3 * 3 + h.val % 3 = h.val; omega)
  unfold out mixed SoftmaxGrad.rProb
  rw [sums_at]
  simp only [prob_at, exps_scores_at, hh]

end Cert.DenseRef

end
-- ==== Proof.Rows.lean ====
/- The rows of the attention: the raw scores of one query row, and the gradient of that row's weights, as functions of the
   four argument arrays; and the three results as sums over these rows. -/
module

public import proofs.«01_k».proof.Proof.SoftmaxGrad

@[expose] public section

noncomputable section

namespace Cert.Rows

open Idealize.ShloMosaic

/-- An array over batch, token, query head and feature. -/
abbrev QArr := (⟨4, ![2, 2048, 12, 64]⟩ : Shape).Idx → EReal
/-- An array over batch, token, key head and feature. -/
abbrev KArr := (⟨4, ![2, 2304, 4, 64]⟩ : Shape).Idx → EReal

/-- The query head number `u` of the group that reads key head `h`. -/
def qHead (h : Fin 4) (u : Fin 3) : Fin 12 := ⟨h.val * 3 + u.val, by omega⟩

/-- The unscaled products of query row `r` with every key: scores when `x` holds the queries and `y` the keys, and the
    gradient of the weights when `x` holds the upstream gradient and `y` the values. -/
def row (x : QArr) (y : KArr) (b : Fin 2) (h : Fin 4) (u : Fin 3) (r : Fin 2048) (s : Fin 2304) : EReal :=
  ∑ e : Fin 64, x (ix4 b r (qHead h u) e) * y (ix4 b s h e)

/-- The gradient of the queries from the gradient `ds` of the scores. -/
def dqOf (ds : Fin 2 → Fin 4 → Fin 3 → Fin 2048 → Fin 2304 → EReal) (k : KArr)
    (b : Fin 2) (h : Fin 4) (u : Fin 3) (e : Fin 64) (r : Fin 2048) : EReal :=
  ∑ s : Fin 2304, ds b h u r s * k (ix4 b s h e)

/-- The gradient of the keys (from that of the scores and the queries), or of the values (from the weights and the upstream gradient). -/
def dkOf (ds : Fin 2 → Fin 4 → Fin 3 → Fin 2048 → Fin 2304 → EReal) (q : QArr)
    (b : Fin 2) (h : Fin 4) (s : Fin 2304) (e : Fin 64) : EReal :=
  ∑ u : Fin 3, ∑ r : Fin 2048, ds b h u r s * q (ix4 b r (qHead h u) e)

end Cert.Rows

end
-- ==== Proof.Finite.lean ====
/- What the precondition says: the queries and the keys are real, so every row of scores is. -/
module

public import proofs.«01_k».proof.Defs
public import proofs.«01_k».proof.Proof.Rows
public import proofs.«01_k».proof.Proof.SoftmaxGrad

@[expose] public section

set_option maxRecDepth 16384

noncomputable section

namespace Cert.Finite

open Idealize.ShloMosaic
open Cert.Rows (QArr KArr qHead row)

/-- The side conditions of the predicate. -/
theorem facts : Cert.Pre_finite.Facts where
  bcast_S_S2x2048x12x64 := by decide
  bcast_S_S2x2304x4x64 := by decide

/-- The word of infinity is the greatest extended real. -/
theorem ofBits_inf : Ideal.ofBits .f32 0x7F800000#32 = ⊤ := by
  simp [Ideal.ofBits, Ideal.ieee]

/-- An extended real whose absolute value compares below infinity is real. -/
theorem real_of_lt (x : EReal) (h : Ideal.cmp .olt (max x (-x)) ⊤ = 1#1) : ∃ r : ℝ, x = r := by
  have hl : max x (-x) < ⊤ := by
    by_contra hn
    simp [Ideal.cmp, hn] at h
  induction x with
  | bot => simp at hl
  | top => simp at hl
  | coe r => exact ⟨r, rfl⟩

variable [Cert.Pre_finite.Facts]

/-- The predicate at an element. -/
theorem real_at {s : Shape} (f) (h) (x : FVec Ideal s .f32)
    (hx : cmpf .olt (Host.absf x) (broadcastInDim s f h (constant (F := Ideal) ⟨0, ![]⟩ .f32 0x7F800000#32)) = fun _ => 1#1) (i : s.Idx) :
    ∃ r : ℝ, (x i : EReal) = r := by
  refine real_of_lt _ (Eq.trans ?_ (congrFun hx i))
  show _ = Ideal.cmp .olt (max (x i) (-x i)) (Ideal.ofBits .f32 0x7F800000#32)
  rw [ofBits_inf]

/-- Every row of products of real queries and keys is real. -/
theorem row_real (q : QArr) (k : KArr) (hq : ∀ i, ∃ r : ℝ, (q i : EReal) = r) (hk : ∀ i, ∃ r : ℝ, (k i : EReal) = r)
    (b : Fin 2) (h : Fin 4) (u : Fin 3) (n : Fin 2048) (s : Fin 2304) : ∃ r : ℝ, row q k b h u n s = r :=
  SoftmaxGrad.real_sum _ fun _ => SoftmaxGrad.real_mul (hq _) (hk _)

/-- The precondition gives real rows. -/
theorem rows (q g : QArr) (k v : KArr) (h : (Cert.Pre_finite.fn (F := Ideal) q k v g).1 = (fun _ => 1#1)
    ∧ (Cert.Pre_finite.fn (F := Ideal) q k v g).2 = (fun _ => 1#1)) (b : Fin 2) (hd : Fin 4) (u : Fin 3) (n : Fin 2048) :
    ∀ s, ∃ r : ℝ, row q k b hd u n s = r :=
  row_real q k (real_at _ _ q h.1) (real_at _ _ k h.2) b hd u n

end Cert.Finite

end
-- ==== Proof.RealInputs.lean ====
/- An array which the precondition calls finite holds real numbers. -/
module

public import proofs.«01_k».proof.Proof.Finite

@[expose] public section

set_option maxRecDepth 16384

noncomputable section

namespace Cert.RealInputs

open Idealize.ShloMosaic

/-- An array whose absolute values compare below infinity is real at every index. -/
theorem real_at {s : Shape} (f) (h) (x : FVec Ideal s .f32)
    (hx : cmpf .olt (Host.absf x) (broadcastInDim s f h (constant (F := Ideal) ⟨0, ![]⟩ .f32 0x7F800000#32)) = fun _ => 1#1) (i : s.Idx) :
    ∃ r : ℝ, (x i : EReal) = r := by
  refine Finite.real_of_lt _ (Eq.trans ?_ (congrFun hx i))
  show _ = Ideal.cmp .olt (max (x i) (-x i)) (Ideal.ofBits .f32 0x7F800000#32)
  rw [Finite.ofBits_inf]

end Cert.RealInputs

end
-- ==== Proof.DenseEquation.lean ====
/- The grouped-query attention of the even layers: the kernel's array is the reference's, where the precondition holds. -/
module

public import proofs.«01_k».proof.Proof.DenseArray
public import proofs.«01_k».proof.Proof.DenseRef
public import proofs.«01_k».proof.Proof.RealInputs

@[expose] public section

set_option maxRecDepth 16384

noncomputable section

namespace Cert.DenseEquation

open Cert.DenseIdeal Cert.DenseIdeal.Gen Idealize.ShloMosaic Idealize.ShloMosaic.TcCoe Idealize.SL.Sem
open Cert.DenseArray (qA kA vA)
open Cert.HeadRows (row mixed)

/-- The side conditions of the predicate. -/
theorem facts : Cert.Pre_finite_forward.Facts where
  bcast_S_S2x2048x12x64 := by decide
  bcast_S_S2x2304x4x64 := by decide

/-- The kernel's named constant is the scale over the natural logarithm of two. -/
theorem kap_eq : DenseArray.kap = (((1 / 8 : ℝ) * (Real.log 2)⁻¹ : ℝ) : EReal) :=
  IdealRules.named_const.ideal_named_scalar _ _ _ _ rfl

/-- The reference's scale. -/
theorem scale_eq : DenseRef.scale = ((1 / 8 : ℝ) : EReal) := by
  simp [DenseRef.scale, Ideal.ofBits, Ideal.ieee, -EReal.coe_mul]; norm_num

variable (m : (ℓ : Loc nD τ sig) → Buf (Elt Ideal) ℓ) (c : Dev nD)

theorem idx_out (y : S2x12x64x2048.Idx) : y = ix4 (y 0) (y 1) (y 2) (y 3) := by idx_ext

theorem equal [hPre_finite_forward : Cert.Pre_finite_forward.Facts] (h : (Cert.Pre_finite_forward.fn (F := Ideal) (qA m c) (kA m c) (vA m c)).1 = (fun _ => 1#1)
    ∧ (Cert.Pre_finite_forward.fn (F := Ideal) (qA m c) (kA m c) (vA m c)).2 = (fun _ => 1#1)) :
    (dats m 0 c).arrAt 3 cfg0.N = DenseRef.out (qA m c) (kA m c) (vA m c) := by
  rw [DenseArray.final]
  funext y
  refine Eq.trans ?_ (Eq.trans (DenseRef.out_at (qA m c) (kA m c) (vA m c) (y 0) (y 3) (y 2) (y 1)).symm (congrArg _ (idx_out y).symm))
  unfold DenseArray.outAt
  refine congrArg (fun p => mixed p (vA m c) (y 0) (y 1) (y 2)) (funext fun s => ?_)
  rw [kap_eq, scale_eq]
  exact SoftmaxGrad.prob_eq _ (by norm_num) _
    (HeadRows.row_real (qA m c) (kA m c) (RealInputs.real_at _ _ (qA m c) h.1) (RealInputs.real_at _ _ (kA m c) h.2) (y 0) (y 1) (y 3)) s

end Cert.DenseEquation

end
-- ==== Proof.MlaRows.lean ====
/- The rows of the latent attention, and the weighted sum of the values. -/
module

public import proofs.«01_k».proof.Proof.SoftmaxGrad

@[expose] public section

noncomputable section

namespace Cert.MlaRows

open Idealize.ShloMosaic

/-- The queries, over batch, token, head and feature. -/
abbrev QArr := (⟨4, ![2, 2048, 8, 96]⟩ : Shape).Idx → EReal
/-- The keys. -/
abbrev KArr := (⟨4, ![2, 2304, 8, 96]⟩ : Shape).Idx → EReal
/-- The values. -/
abbrev VArr := (⟨4, ![2, 2304, 8, 64]⟩ : Shape).Idx → EReal
/-- The results, and their upstream gradient. -/
abbrev OArr := (⟨4, ![2, 2048, 8, 64]⟩ : Shape).Idx → EReal

/-- Every head reads its own keys. -/
def kv (h : Fin 8) : Fin 8 := h

/-- The unscaled scores of query row `r`. -/
def row (q : QArr) (k : KArr) (b : Fin 2) (h : Fin 8) (r : Fin 2048) (s : Fin 2304) : EReal :=
  ∑ e : Fin 96, q (ix4 b r h e) * k (ix4 b s (kv h) e)

/-- The gradient of the weights of query row `r`. -/
def drow (g : OArr) (v : VArr) (b : Fin 2) (h : Fin 8) (r : Fin 2048) (s : Fin 2304) : EReal :=
  ∑ e : Fin 64, g (ix4 b r h e) * v (ix4 b s (kv h) e)

/-- The values, summed with the weights of a row. -/
def mixed (p : Fin 2304 → EReal) (v : VArr) (b : Fin 2) (h : Fin 8) (e : Fin 64) : EReal :=
  ∑ s : Fin 2304, p s * v (ix4 b s (kv h) e)

/-- Where queries and keys are real, so is every row of scores. -/
theorem row_real (q : QArr) (k : KArr) (hq : ∀ i, ∃ r : ℝ, (q i : EReal) = r) (hk : ∀ i, ∃ r : ℝ, (k i : EReal) = r)
    (b : Fin 2) (h : Fin 8) (n : Fin 2048) (s : Fin 2304) : ∃ r : ℝ, row q k b h n s = r :=
  SoftmaxGrad.real_sum _ fun _ => SoftmaxGrad.real_mul (hq _) (hk _)

end Cert.MlaRows

end
-- ==== Proof.MlaArray.lean ====
/- The latent attention of the odd layers: the array the call returns, from its arguments. -/
module

public import proofs.«01_k».proof.Proof.Gen.MlaIdeal.Value
public import proofs.«01_k».proof.Proof.MlaRows
public import Idealize.ShloMosaic.Lib.Pipeline.ValueKit
public import Idealize.ShloMosaic.Lib.Pointwise

@[expose] public section

set_option maxRecDepth 16384

noncomputable section

namespace Cert.MlaArray

open Cert.MlaIdeal Cert.MlaIdeal.Gen Idealize.ShloMosaic Idealize.ShloMosaic.TcCoe Idealize.SL.Sem
open Cert.SoftmaxGrad (kExp kProb)
open Cert.MlaRows (QArr KArr VArr kv row mixed)

/-- The named constant: the scores' scale times the logarithm of e to base 2. -/
abbrev kap : EReal := Named.named (F := Ideal) (φ := .f32) κ "scale_log2e" 0x3E16C740#32

/-- The products of row `r` of a 256-row block with every column of a transposed block. -/
def brow (x : FVec Ideal S1x1x256x96 .bf16) (y : FVec Ideal S1x1x96x2304 .bf16) (r : Fin 256) (s : Fin 2304) : EReal :=
  ∑ e : Fin 96, (x (ix4 0 0 r e) : EReal) * y (ix4 0 0 e s)

theorem exp2_eq (x : EReal) : FloatOps.exp2 (F := Ideal) (φ := .f32) x = Ideal.exp2 x := rfl

section
variable (q : FVec Ideal S1x1x256x96 .bf16) (k : FVec Ideal S1x1x96x2304 .bf16) (v : FVec Ideal S1x1x64x2304 .bf16)
variable (r : Fin 256) (e : Fin 64)

/-- The first half of a block. -/
theorem first : (k0_pay4 (F := Ideal) k v q (ix4 0 0 e r) : EReal) = ∑ s, kProb kap (brow q k r) s * v (ix4 0 0 e s) := by
  simp only [mul_comm _ (v _)]
  pointwise [k0_pay4, k0_pay2, k0_pay3, kProb, kExp, brow]
  simp only [exp2_eq]

/-- The second half of a block. -/
theorem second : (k0_pay1 (F := Ideal) (k0_pay3 v) (k0_pay5 k q) (ix4 0 0 e r) : EReal) = ∑ s, kProb kap (brow q k r) s * v (ix4 0 0 e s) := by
  simp only [mul_comm _ (v _)]
  pointwise [k0_pay1, k0_pay5, k0_pay2, k0_pay3, kProb, kExp, brow]
  simp only [exp2_eq]
end

variable (m : (ℓ : Loc nD τ sig) → Buf (Elt Ideal) ℓ) (c : Dev nD)

/-- The queries. -/
abbrev qA : QArr := m ((c : Thread nD τ).loc main_arg0)
/-- The keys. -/
abbrev kA : KArr := m ((c : Thread nD τ).loc main_arg1)
/-- The values. -/
abbrev vA : VArr := m ((c : Thread nD τ).loc main_arg2)

theorem idx : ∀ t : Fin cfg0.N, win0_0.index t = ![t.val / 32, t.val / 4 % 8, t.val % 4, 0]
    ∧ win0_1.index t = ![t.val / 32, t.val / 4 % 8, 0, 0] ∧ win0_2.index t = ![t.val / 32, t.val / 4 % 8, 0, 0]
    ∧ win0_3.index t = ![t.val / 32, t.val / 4 % 8, 0, t.val % 4] :=
  (by decide +kernel : ∀ t : Fin grid0.N, _)

/-- Row `r` of the first half of a block. -/
def lo (r : Fin 256) : Fin 512 := ⟨r.val, by omega⟩
/-- Row `r` of the second half of a block. -/
def hi (r : Fin 256) : Fin 512 := ⟨256 + r.val, by omega⟩

/-- The first half of a block of queries. -/
abbrev half0 (X : FVec Ideal S1x1x512x96 .bf16) : FVec Ideal S1x1x256x96 .bf16 :=
  View.ld (Val := Elt Ideal) (e' := .bf16) X (Rect.unit ![0, 0, 0, 0] ![1, 1, 256, 96] inb_S1x1x512x96_S1x1x256x96_0_0_0_0)

/-- The second half. -/
abbrev half1 (X : FVec Ideal S1x1x512x96 .bf16) : FVec Ideal S1x1x256x96 .bf16 :=
  View.ld (Val := Elt Ideal) (e' := .bf16) X (Rect.unit ![0, 0, 256, 0] ![1, 1, 256, 96] inb_S1x1x512x96_S1x1x256x96_0_0_256_0)

theorem half0_at (X : FVec Ideal S1x1x512x96 .bf16) (r : Fin 256) (e : Fin 96) : half0 X (ix4 0 0 r e) = X (ix4 0 0 (lo r) e) := by
  show X _ = X _
  congr 1
  unfold lo
  idx_ext

theorem half1_at (X : FVec Ideal S1x1x512x96 .bf16) (r : Fin 256) (e : Fin 96) : half1 X (ix4 0 0 r e) = X (ix4 0 0 (hi r) e) := by
  show X _ = X _
  congr 1
  unfold hi
  idx_ext

variable (t : Fin cfg0.N) (b : Fin 2) (hd : Fin 8) (hb : b.val = t.val / 32) (hh : hd.val = t.val / 4 % 8)

include hb hh in
theorem q_read (x : Fin 512) (e : Fin 96) (n : Fin 2048) (hn : n.val = t.val % 4 * 512 + x.val) :
    (iblk m c 0 t (ix4 0 0 x e) : EReal) = qA m c (ix4 b n hd e) := by
  blk_point [iblk, V, idx t]

include hb hh in
theorem k_read (e : Fin 96) (s : Fin 2304) : (iblk m c 1 t (ix4 0 0 e s) : EReal) = kA m c (ix4 b s (kv hd) e) := by
  have hk : (kv hd).val = t.val / 4 % 8 := by
    simp only [kv]
    omega
  generalize kv hd = j at hk
  blk_point [iblk, V, idx t]

include hb hh in
theorem v_read (e : Fin 64) (s : Fin 2304) : (iblk m c 2 t (ix4 0 0 e s) : EReal) = vA m c (ix4 b s (kv hd) e) := by
  have hk : (kv hd).val = t.val / 4 % 8 := by
    simp only [kv]
    omega
  generalize kv hd = j at hk
  blk_point [iblk, V, idx t]

/-- The result at an index of its array. -/
def outAt (b : Fin 2) (hd : Fin 8) (e : Fin 64) (n : Fin 2048) : EReal :=
  mixed (kProb kap (row (qA m c) (kA m c) b hd n)) (vA m c) b hd e

include hb hh in
/-- A half block's rows are the arrays' rows. -/
theorem half_out (X : FVec Ideal S1x1x256x96 .bf16) (r : Fin 256) (e : Fin 64) (n : Fin 2048)
    (hX : ∀ e, (X (ix4 0 0 r e) : EReal) = qA m c (ix4 b n hd e)) :
    (∑ s, kProb kap (brow X (iblk m c 1 t) r) s * (iblk m c 2 t (ix4 0 0 e s) : EReal)) = outAt m c b hd e n := by
  have h : brow X (iblk m c 1 t) r = row (qA m c) (kA m c) b hd n := by
    funext s
    exact Finset.sum_congr rfl fun e _ => congrArg₂ (· * ·) (hX e) (k_read m c t b hd hb hh e s)
  unfold outAt mixed
  rw [h]
  exact Finset.sum_congr rfl fun s _ => congrArg₂ (· * ·) rfl (v_read m c t b hd hb hh e s)

include hb hh in
/-- What a grid point leaves in its block. -/
theorem point (y : S1x1x64x512.Idx) (e : Fin 64) (n : Fin 2048) (he : e.val = (y 2).val) (hn : n.val = t.val % 4 * 512 + (y 3).val) :
    (out0_3 (F := Ideal) (iblk m c 0 t) (iblk m c 1 t) (iblk m c 2 t) y : EReal) = outAt m c b hd e n := by
  unfold out0_3
  frame_out
  canon_tiles x h'
  · have hx : x = ix4 0 0 e (x 3) := by idx_ext
    rw [hx]
    refine (second _ _ _ (x 3) e).trans (half_out m c t b hd hb hh _ (x 3) e n fun e => ?_)
    exact (half1_at _ _ e).trans (q_read m c t b hd hb hh _ e n (by simp only [hi]; omega))
  · have hx : x = ix4 0 0 e (x 3) := by idx_ext
    rw [hx]
    refine (first _ _ _ (x 3) e).trans (half_out m c t b hd hb hh _ (x 3) e n fun e => ?_)
    exact (half0_at _ _ e).trans (q_read m c t b hd hb hh _ e n (by simp only [lo]; omega))

/-- The array after the run. -/
theorem final : (dats m 0 c).arrAt 3 cfg0.N = fun y : S2x8x64x2048.Idx => outAt m c (y 0) (y 1) (y 2) (y 3) := by
  refine (dats m 0 c).arrAt_eq_of_covers 3 _ (by decide +kernel) fun t hf y => ?_
  blk_simp
  rw [after0_3]
  refine point m c t _ _ ?_ ?_ y _ _ ?_ ?_
  · blk_simp [idx t]
  · blk_simp [idx t]
  · blk_simp [idx t]
    try omega
  · blk_simp [idx t]
    try omega

end Cert.MlaArray

end
-- ==== Proof.RowMax.lean ====
/- The host's maximum along the last of four axes, at an index, for arrays of any size. -/
module

public import Idealize.ShloMosaic.Lib.Pipeline.ValueKit
public import Idealize.ShloMosaic.Lib.Pointwise

@[expose] public section

noncomputable section

namespace Cert.RowMax

open Idealize.ShloMosaic

/-- The largest element along the last of four axes, starting from a constant. -/
theorem reduce_max_at {n0 n1 n2 n3 : ℕ} {u : Shape} (x : FVec Ideal ⟨4, ![n0, n1, n2, n3]⟩ .f32) (w : BitVec 32)
    (h : (⟨4, ![n0, n1, n2, n3]⟩ : Shape).ReducesTo [3] (⟨3, ![n0, n1, n2]⟩ : Shape)) (hu : 0 < u.numel)
    (a : Fin n0) (b : Fin n1) (c : Fin n2) :
    Host.reduce (FloatOps.maximumf (F := Ideal) (φ := .f32)) x (constant (F := Ideal) u .f32 w) h hu (ix3 a b c)
      = Finset.univ.fold max (Ideal.ofBits .f32 w) fun k => x (ix4 a b c k) := by
  haveI : Std.Commutative (FloatOps.maximumf (F := Ideal) (φ := .f32)) := ⟨fun p q => max_comm (α := EReal) p q⟩
  haveI : Std.Associative (FloatOps.maximumf (F := Ideal) (φ := .f32)) := ⟨fun p q r => max_assoc (α := EReal) p q r⟩
  rw [Host.reduce_eq_fold, h.fold_fiber_r4_a3]
  rfl

end Cert.RowMax

end
-- ==== Proof.MlaRef.lean ====
/- The reference of the latent attention, through named intermediate arrays and at an index. -/
module

public import proofs.«01_k».proof.Proof.Gen.MlaReferenceIdeal.Run
public import proofs.«01_k».proof.Proof.MlaRows
public import proofs.«01_k».proof.Proof.RowMax

@[expose] public section

set_option maxRecDepth 16384

noncomputable section

namespace Cert.MlaRef

open Cert.MlaReferenceIdeal Cert.MlaReferenceIdeal.Gen Idealize.ShloMosaic Idealize.ShloMosaic.TcCoe Idealize.SL.Sem
open Cert.MlaRows (kv row mixed)

abbrev QArr := FVec Ideal S2x2048x8x96 .f32
abbrev KArr := FVec Ideal S2x2304x8x96 .f32
abbrev VArr := FVec Ideal S2x2304x8x64 .f32

/-- The scores times the scale. -/
def scores (q : QArr) (k : KArr) : FVec Ideal S2x8x2048x2304 .f32 :=
  mulf (Host.dotGeneral dot_S2x2048x8x96_S2x2304x8x96_S2x8x2048x2304_3_3_1_1_02_02 none q k)
    (broadcastInDim S2x8x2048x2304 ![] bcast_S_S2x8x2048x2304 (constant S_ .f32 0x3DD105EC#32))

/-- A row statistic, repeated along the row. -/
def along (x : FVec Ideal S2x8x2048 .f32) : FVec Ideal S2x8x2048x2304 .f32 :=
  broadcastInDim S2x8x2048x2304 ![0, 1, 2, 3] bcast_S2x8x2048x1_S2x8x2048x2304_0_1_2_3
    (broadcastInDim S2x8x2048x1 ![0, 1, 2] bcast_S2x8x2048_S2x8x2048x1_0_1_2 x)

/-- The largest scaled score of each row. -/
def rowMax (s : FVec Ideal S2x8x2048x2304 .f32) : FVec Ideal S2x8x2048 .f32 :=
  maximumf (broadcastInDim S2x8x2048 ![] bcast_S_S2x8x2048 (constant S_ .f32 0xFF800000#32))
    (Host.reduce (FloatOps.maximumf (F := Ideal) (φ := .f32)) s (constant S_ .f32 0xFF800000#32) reducesTo_S2x8x2048x2304_S2x8x2048_d3 h_S_)

/-- The unnormalised weights. -/
def exps (s : FVec Ideal S2x8x2048x2304 .f32) : FVec Ideal S2x8x2048x2304 .f32 :=
  Host.exp (subf s (along (rowMax s)))

/-- The weights. -/
def prob (e : FVec Ideal S2x8x2048x2304 .f32) : FVec Ideal S2x8x2048x2304 .f32 :=
  Host.divf e (along (Host.reduceAdd e (constant S_ .f32 0x00000000#32) reducesTo_S2x8x2048x2304_S2x8x2048_d3 h_S_))

/-- The weighted sums of the values. -/
def sums (p : FVec Ideal S2x8x2048x2304 .f32) (v : VArr) : FVec Ideal S2x8x64x2048 .f32 :=
  transpose S2x8x64x2048 [0, 2, 3, 1] (transpose S2x2048x8x64 [0, 3, 1, 2]
      (Host.dotGeneral dot_S2x2304x8x64_S2x8x2048x2304_S2x8x64x2048_1_3_3_2_02_01 none v p)
      transposes_S2x8x64x2048_S2x2048x8x64_0_3_1_2) transposes_S2x2048x8x64_S2x8x64x2048_0_2_3_1

/-- The reference's result. -/
def out (q : QArr) (k : KArr) (v : VArr) : FVec Ideal S2x8x64x2048 .f32 := sums (prob (exps (scores q k))) v

/-- The scores' scale. -/
abbrev scale : EReal := Ideal.ofBits .f32 0x3DD105EC#32

theorem max_at {s : Shape} (p q : FVec Ideal s .f32) (j : s.Idx) : maximumf p q j = max (p j : EReal) (q j : EReal) := rfl

theorem const_at {s : Shape} (f) (h) (w : BitVec 32) (j : s.Idx) :
    broadcastInDim s f h (constant (F := Ideal) S_ .f32 w) j = Ideal.ofBits .f32 w := rfl

variable (q : QArr) (k : KArr) (v : VArr) (x : FVec Ideal S2x8x2048x2304 .f32)
variable (b : Fin 2) (h : Fin 8) (r : Fin 2048) (s : Fin 2304) (e : Fin 64)

theorem scores_at : scores q k (ix4 b h r s) = row q k b h r s * scale := by
  pointwise [scores, row, kv]

theorem rowMax_at : rowMax x (ix3 b h r) = max (Ideal.ofBits .f32 0xFF800000#32)
    (Finset.univ.fold max (Ideal.ofBits .f32 0xFF800000#32) fun s => x (ix4 b h r s)) := by
  unfold rowMax
  rw [max_at, const_at, RowMax.reduce_max_at]

theorem exps_at : exps x (ix4 b h r s) = Ideal.exp (x (ix4 b h r s) - rowMax x (ix3 b h r)) := by
  pointwise [exps, along]

theorem exps_scores_at : exps (scores q k) (ix4 b h r s) = SoftmaxGrad.rExp scale (row q k b h r) s := by
  rw [exps_at, rowMax_at]
  simp only [scores_at]
  rfl

theorem prob_at : prob x (ix4 b h r s) = Ideal.div (x (ix4 b h r s)) (∑ i, x (ix4 b h r i)) := by
  pointwise [prob, along]

theorem sums_at : sums x v (ix4 b h e r) = ∑ s, x (ix4 b h r s) * v (ix4 b s (kv h) e) := by
  simp only [mul_comm _ (v _)]
  pointwise [sums, kv]

/-- The reference's result at an index. -/
theorem out_at (h : Fin 8) : out q k v (ix4 b h e r) = mixed (SoftmaxGrad.rProb scale (row q k b h r)) v b h e := by
  unfold out mixed SoftmaxGrad.rProb
  rw [sums_at]
  simp only [prob_at, exps_scores_at]

end Cert.MlaRef

end
-- ==== Proof.MlaEquation.lean ====
/- The latent attention of the odd layers: the kernel's array is the reference's, where the precondition holds. -/
module

public import proofs.«01_k».proof.Proof.MlaArray
public import proofs.«01_k».proof.Proof.MlaRef
public import proofs.«01_k».proof.Proof.RealInputs

@[expose] public section

set_option maxRecDepth 16384

noncomputable section

namespace Cert.MlaEquation

open Cert.MlaIdeal Cert.MlaIdeal.Gen Idealize.ShloMosaic Idealize.ShloMosaic.TcCoe Idealize.SL.Sem
open Cert.MlaArray (qA kA vA)
open Cert.MlaRows (row mixed)

/-- The side conditions of the predicate. -/
theorem facts : Cert.Pre_finite_mla_forward.Facts where
  bcast_S_S2x2048x8x96 := by decide
  bcast_S_S2x2304x8x96 := by decide

/-- The kernel's named constant is the scale over the natural logarithm of two. -/
theorem kap_eq : MlaArray.kap = (((3424635 / 33554432 : ℝ) * (Real.log 2)⁻¹ : ℝ) : EReal) :=
  IdealRules.named_const.ideal_named_scalar _ _ _ _ rfl

/-- The reference's scale. -/
theorem scale_eq : MlaRef.scale = ((3424635 / 33554432 : ℝ) : EReal) := by
  simp [MlaRef.scale, Ideal.ofBits, Ideal.ieee, -EReal.coe_mul]; norm_num

variable (m : (ℓ : Loc nD τ sig) → Buf (Elt Ideal) ℓ) (c : Dev nD)

theorem idx_out (y : S2x8x64x2048.Idx) : y = ix4 (y 0) (y 1) (y 2) (y 3) := by idx_ext

theorem equal [hPre_finite_mla_forward : Cert.Pre_finite_mla_forward.Facts] (h : (Cert.Pre_finite_mla_forward.fn (F := Ideal) (qA m c) (kA m c) (vA m c)).1 = (fun _ => 1#1)
    ∧ (Cert.Pre_finite_mla_forward.fn (F := Ideal) (qA m c) (kA m c) (vA m c)).2 = (fun _ => 1#1)) :
    (dats m 0 c).arrAt 3 cfg0.N = MlaRef.out (qA m c) (kA m c) (vA m c) := by
  rw [MlaArray.final]
  funext y
  refine Eq.trans ?_ (Eq.trans (MlaRef.out_at (qA m c) (kA m c) (vA m c) (y 0) (y 3) (y 2) (y 1)).symm (congrArg _ (idx_out y).symm))
  unfold MlaArray.outAt
  refine congrArg (fun p => mixed p (vA m c) (y 0) (y 1) (y 2)) (funext fun s => ?_)
  rw [kap_eq, scale_eq]
  exact SoftmaxGrad.prob_eq _ (by norm_num) _
    (MlaRows.row_real (qA m c) (kA m c) (RealInputs.real_at _ _ (qA m c) h.1) (RealInputs.real_at _ _ (kA m c) h.2) (y 0) (y 1) (y 3)) s

end Cert.MlaEquation

end
-- ==== Proof.MlaGradBlock.lean ====
/- What one half of the kernel's block computes: the weights of 256 query rows of the latent attention, the gradient of their scores, and their parts
   of the three results, at an index. -/
module

public import proofs.«01_k».proof.Proof.Gen.MlaGradIdeal.Value
public import proofs.«01_k».proof.Proof.SoftmaxGrad

@[expose] public section

set_option maxRecDepth 16384

noncomputable section

namespace Cert.MlaGradBlock

open Cert.MlaGradIdeal Cert.MlaGradIdeal.Gen Idealize.ShloMosaic Idealize.ShloMosaic.TcCoe Idealize.SL.Sem
open Cert.SoftmaxGrad (kExp kProb kGrad)

/-- The named constant: the scores' scale times the logarithm of e to base 2. -/
abbrev kap : EReal := Named.named (F := Ideal) (φ := .f32) κ "scale_log2e" 0x3E16C740#32

/-- One scale, the scores' scale. -/
abbrev scale : EReal := Ideal.ofBits .f32 0x3DD105EC#32

/-- The products of row `r` of a 256-row block with every column of a transposed block. -/
def brow {D : ℕ} (x : FVec Ideal ⟨4, ![1, 1, 256, D]⟩ .bf16) (y : FVec Ideal ⟨4, ![1, 1, D, 2304]⟩ .bf16) (r : Fin 256) (s : Fin 2304) : EReal :=
  ∑ e : Fin D, (x (ix4 0 0 r e) : EReal) * y (ix4 0 0 e s)

theorem exp2_eq (x : EReal) : FloatOps.exp2 (F := Ideal) (φ := .f32) x = Ideal.exp2 x := rfl

variable (q : FVec Ideal S1x1x256x96 .bf16) (d : FVec Ideal S1x1x256x64 .bf16) (k : FVec Ideal S1x1x96x2304 .bf16) (v : FVec Ideal S1x1x64x2304 .bf16)
variable (r : Fin 256) (s : Fin 2304) (e : Fin 96) (f : Fin 64)

/-- The weights, first half. -/
theorem pay11_at : k0_pay11 (F := Ideal) k q (ix2 r s) = kProb kap (brow q k r) s := by
  pointwise [k0_pay11, k0_pay7, k0_pay9, kProb, kExp, brow]
  simp only [exp2_eq]

/-- The weights' gradient, first half. -/
theorem pay12_at : k0_pay12 (F := Ideal) v d (ix2 r s) = brow d v r s := by
  pointwise [k0_pay12, k0_pay8, k0_pay10, brow]

/-- The weights, second half. -/
theorem pay20_at : k0_pay20 (F := Ideal) (k0_pay7 (F := Ideal) k) q (ix2 r s) = kProb kap (brow q k r) s := by
  pointwise [k0_pay20, k0_pay7, k0_pay18, kProb, kExp, brow]
  simp only [exp2_eq]

/-- The weights' gradient, second half. -/
theorem pay21_at : k0_pay21 (F := Ideal) (k0_pay8 (F := Ideal) v) d (ix2 r s) = brow d v r s := by
  pointwise [k0_pay21, k0_pay8, k0_pay19, brow]

/-- The scores' gradient, first half, over any weights and gradients of them. -/
theorem pay14_at (p dp : FVec Ideal S256x2304 .f32) :
    k0_pay14 (F := Ideal) p dp (mulf p dp) (ix2 r s) = p (ix2 r s) * (dp (ix2 r s) - ∑ i, p (ix2 r i) * dp (ix2 r i)) * scale := by
  pointwise [k0_pay14]

/-- The scores' gradient, first half. -/
theorem grad_first : k0_pay14 (F := Ideal) (k0_pay11 (F := Ideal) k q) (k0_pay12 (F := Ideal) v d) (k0_pay13 (F := Ideal) k v q d) (ix2 r s)
    = kGrad kap scale (brow q k r) (brow d v r) s := by
  unfold k0_pay13
  rw [pay14_at]
  simp only [pay11_at, pay12_at]
  rfl

/-- The scores' gradient, second half. -/
theorem grad_second : k0_pay1 (F := Ideal) (k0_pay20 (F := Ideal) (k0_pay7 (F := Ideal) k) q) (k0_pay21 (F := Ideal) (k0_pay8 (F := Ideal) v) d) (k0_pay22 (F := Ideal) (k0_pay7 (F := Ideal) k) (k0_pay8 (F := Ideal) v) q d) (ix2 r s)
    = kGrad kap scale (brow q k r) (brow d v r) s := by
  have h : k0_pay1 (F := Ideal) (k0_pay20 (F := Ideal) (k0_pay7 (F := Ideal) k) q) (k0_pay21 (F := Ideal) (k0_pay8 (F := Ideal) v) d) (k0_pay22 (F := Ideal) (k0_pay7 (F := Ideal) k) (k0_pay8 (F := Ideal) v) q d) (ix2 r s)
      = k0_pay20 (F := Ideal) (k0_pay7 (F := Ideal) k) q (ix2 r s) * (k0_pay21 (F := Ideal) (k0_pay8 (F := Ideal) v) d (ix2 r s)
          - ∑ i, k0_pay20 (F := Ideal) (k0_pay7 (F := Ideal) k) q (ix2 r i) * k0_pay21 (F := Ideal) (k0_pay8 (F := Ideal) v) d (ix2 r i)) * scale := by
    pointwise [k0_pay1, k0_pay22]
  rw [h]
  simp only [pay20_at, pay21_at]
  rfl

/-- The queries' gradient, first half, transposed. -/
theorem dq_first : k0_pay15 (F := Ideal) (k0_pay7 (F := Ideal) k) (k0_pay11 (F := Ideal) k q) (k0_pay12 (F := Ideal) v d) (k0_pay13 (F := Ideal) k v q d) (ix4 0 0 e r)
    = ∑ s, kGrad kap scale (brow q k r) (brow d v r) s * k (ix4 0 0 e s) := by
  have h : ∀ w : FVec Ideal S96x2304 .bf16, ∀ a b c, k0_pay15 (F := Ideal) w a b c (ix4 0 0 e r) = ∑ s, w (ix2 e s) * k0_pay14 (F := Ideal) a b c (ix2 r s) := by
    intro w a b c
    pointwise [k0_pay15]
  rw [h]
  refine Finset.sum_congr rfl fun s _ => ?_
  rw [grad_first, mul_comm]
  pointwise [k0_pay7]

/-- The queries' gradient, second half, transposed. -/
theorem dq_second : k0_pay2 (F := Ideal) (k0_pay7 (F := Ideal) k) (k0_pay20 (F := Ideal) (k0_pay7 (F := Ideal) k) q) (k0_pay21 (F := Ideal) (k0_pay8 (F := Ideal) v) d) (k0_pay22 (F := Ideal) (k0_pay7 (F := Ideal) k) (k0_pay8 (F := Ideal) v) q d) (ix4 0 0 e r)
    = ∑ s, kGrad kap scale (brow q k r) (brow d v r) s * k (ix4 0 0 e s) := by
  have h : ∀ w : FVec Ideal S96x2304 .bf16, ∀ a b c, k0_pay2 (F := Ideal) w a b c (ix4 0 0 e r) = ∑ s, w (ix2 e s) * k0_pay1 (F := Ideal) a b c (ix2 r s) := by
    intro w a b c
    pointwise [k0_pay2]
  rw [h]
  refine Finset.sum_congr rfl fun s _ => ?_
  rw [grad_second, mul_comm]
  pointwise [k0_pay7]

variable (q' : FVec Ideal S1x1x256x96 .bf16) (d' : FVec Ideal S1x1x256x64 .bf16) (o : FVec Ideal S1x1x2304x96 .f32) (o' : FVec Ideal S1x1x2304x64 .f32)

/-- The keys' gradient after the block: what was there, and the parts of the two halves. -/
theorem dk_step :
    k0_pay3 (F := Ideal) (k0_pay16 (F := Ideal) (k0_pay9 (F := Ideal) q) (k0_pay11 (F := Ideal) k q) (k0_pay12 (F := Ideal) v d) (k0_pay13 (F := Ideal) k v q d)) (k0_pay18 (F := Ideal) q')
        (k0_pay20 (F := Ideal) (k0_pay7 (F := Ideal) k) q') (k0_pay21 (F := Ideal) (k0_pay8 (F := Ideal) v) d') (k0_pay22 (F := Ideal) (k0_pay7 (F := Ideal) k) (k0_pay8 (F := Ideal) v) q' d') o (ix4 0 0 s e)
      = o (ix4 0 0 s e) + ((∑ r, kGrad kap scale (brow q k r) (brow d v r) s * q (ix4 0 0 r e))
          + ∑ r, kGrad kap scale (brow q' k r) (brow d' v r) s * q' (ix4 0 0 r e)) := by
  have h : ∀ x y a b c, k0_pay3 (F := Ideal) x y a b c o (ix4 0 0 s e)
      = o (ix4 0 0 s e) + (x (ix2 s e) + ∑ r, k0_pay1 (F := Ideal) a b c (ix2 r s) * y (ix2 r e)) := by
    intro x y a b c
    pointwise [k0_pay3]
  have h' : ∀ y a b c, k0_pay16 (F := Ideal) y a b c (ix2 s e) = ∑ r, k0_pay14 (F := Ideal) a b c (ix2 r s) * y (ix2 r e) := by
    intro y a b c
    pointwise [k0_pay16]
  rw [h, h']
  simp only [grad_first, grad_second]
  pointwise [k0_pay9, k0_pay18]

/-- The values' gradient after the block: what was there, and the parts of the two halves. -/
theorem dv_step :
    k0_pay4 (F := Ideal) (k0_pay17 (F := Ideal) (k0_pay10 (F := Ideal) d) (k0_pay11 (F := Ideal) k q)) (k0_pay19 (F := Ideal) d') (k0_pay20 (F := Ideal) (k0_pay7 (F := Ideal) k) q') o' (ix4 0 0 s f)
      = o' (ix4 0 0 s f) + ((∑ r, kProb kap (brow q k r) s * d (ix4 0 0 r f))
          + ∑ r, kProb kap (brow q' k r) s * d' (ix4 0 0 r f)) := by
  have h : ∀ x y a, k0_pay4 (F := Ideal) x y a o' (ix4 0 0 s f)
      = o' (ix4 0 0 s f) + (x (ix2 s f) + ∑ r, a (ix2 r s) * y (ix2 r f)) := by
    intro x y a
    pointwise [k0_pay4]
  have h' : ∀ y a, k0_pay17 (F := Ideal) y a (ix2 s f) = ∑ r, a (ix2 r s) * y (ix2 r f) := by
    intro y a
    pointwise [k0_pay17]
  rw [h, h']
  simp only [pay11_at, pay20_at]
  pointwise [k0_pay10, k0_pay19]

/-- The keys' accumulator starts at zero. -/
theorem zero_dk : k0_pay5 (F := Ideal) (ix4 0 0 s e) = 0 := by
  pointwise [k0_pay5]

/-- The values' accumulator starts at zero. -/
theorem zero_dv : k0_pay6 (F := Ideal) (ix4 0 0 s f) = 0 := by
  pointwise [k0_pay6]

end Cert.MlaGradBlock

end
-- ==== Proof.MlaGradRows.lean ====
/- The results of the backward of the latent attention, as sums over its rows. -/
module

public import proofs.«01_k».proof.Proof.MlaRows

@[expose] public section

noncomputable section

namespace Cert.MlaGradRows

open Idealize.ShloMosaic

/-- The gradient of the queries from the gradient `ds` of the scores. -/
def dqOf (ds : Fin 2 → Fin 8 → Fin 2048 → Fin 2304 → EReal) (k : MlaRows.KArr)
    (b : Fin 2) (h : Fin 8) (e : Fin 96) (r : Fin 2048) : EReal :=
  ∑ s : Fin 2304, ds b h r s * k (ix4 b s h e)

/-- The gradient of the keys (from that of the scores and the queries), or of the values (from the weights and the upstream gradient). -/
def dkOf {D : ℕ} (ds : Fin 2 → Fin 8 → Fin 2048 → Fin 2304 → EReal) (q : (⟨4, ![2, 2048, 8, D]⟩ : Shape).Idx → EReal)
    (b : Fin 2) (h : Fin 8) (s : Fin 2304) (e : Fin D) : EReal :=
  ∑ r : Fin 2048, ds b h r s * q (ix4 b r h e)

/-- The sum over the four points of a run, each adding two halves of 256 rows, is the sum over the rows. -/
theorem sum_run (f : Fin 2048 → EReal) :
    (∑ j : Fin 4, ((∑ r : Fin 256, f ⟨j.val * 512 + r.val, by omega⟩) + ∑ r : Fin 256, f ⟨j.val * 512 + (256 + r.val), by omega⟩))
      = ∑ n : Fin 2048, f n := by
  rw [Fin.sum_univ_tiles 4 512 rfl f]
  refine Finset.sum_congr rfl fun i _ => ?_
  rw [Fin.sum_univ_tiles 2 256 rfl, Fin.sum_univ_two]
  refine congrArg₂ (· + ·) (Finset.sum_congr rfl fun r _ => ?_) (Finset.sum_congr rfl fun r _ => ?_)
  · refine congrArg f (Fin.ext ?_)
    show i.val * 512 + r.val = i.val * 512 + (0 * 256 + r.val)
    omega
  · refine congrArg f (Fin.ext ?_)
    show i.val * 512 + (256 + r.val) = i.val * 512 + (1 * 256 + r.val)
    omega

end Cert.MlaGradRows

end
-- ==== Proof.MlaGradReads.lean ====
/- The blocks the backward kernel of the latent attention reads, as parts of the argument arrays. -/
module

public import proofs.«01_k».proof.Proof.MlaGradBlock
public import proofs.«01_k».proof.Proof.MlaGradRows

@[expose] public section

set_option maxRecDepth 16384

noncomputable section

namespace Cert.MlaGradArrays

open Cert.MlaGradIdeal Cert.MlaGradIdeal.Gen Idealize.ShloMosaic Idealize.ShloMosaic.TcCoe Idealize.SL.Sem
open Cert.MlaRows (QArr KArr VArr OArr row drow)
open Cert.SoftmaxGrad (kProb kGrad)
open Cert.MlaGradBlock (kap scale brow)

variable (m : (ℓ : Loc nD τ sig) → Buf (Elt Ideal) ℓ) (c : Dev nD)

/-- The queries. -/
abbrev qA : QArr := m ((c : Thread nD τ).loc main_arg0)
/-- The keys. -/
abbrev kA : KArr := m ((c : Thread nD τ).loc main_arg1)
/-- The values. -/
abbrev vA : VArr := m ((c : Thread nD τ).loc main_arg2)
/-- The upstream gradient. -/
abbrev gA : OArr := m ((c : Thread nD τ).loc main_arg3)

/-- The kernel's gradient of the scores. -/
abbrev dS (b : Fin 2) (h : Fin 8) (n : Fin 2048) : Fin 2304 → EReal :=
  kGrad kap scale (row (qA m c) (kA m c) b h n) (drow (gA m c) (vA m c) b h n)

/-- The kernel's weights. -/
abbrev prob (b : Fin 2) (h : Fin 8) (n : Fin 2048) : Fin 2304 → EReal :=
  kProb kap (row (qA m c) (kA m c) b h n)

theorem idx : ∀ t : Fin cfg0.N, win0_0.index t = ![t.val / 32, t.val / 4 % 8, t.val % 4, 0]
    ∧ win0_1.index t = ![t.val / 32, t.val / 4 % 8, 0, 0] ∧ win0_2.index t = ![t.val / 32, t.val / 4 % 8, 0, 0]
    ∧ win0_3.index t = ![t.val / 32, t.val / 4 % 8, t.val % 4, 0] ∧ win0_4.index t = ![t.val / 32, t.val / 4 % 8, 0, t.val % 4]
    ∧ win0_5.index t = ![t.val / 32, t.val / 4 % 8, 0, 0] ∧ win0_6.index t = ![t.val / 32, t.val / 4 % 8, 0, 0] :=
  (by decide +kernel : ∀ t : Fin grid0.N, _)

theorem lt64 (t : Fin cfg0.N) : t.val < 64 := lt_of_lt_of_eq t.isLt N_0

/-- The batch element of grid point `t`. -/
def tb (t : Fin cfg0.N) : Fin 2 := ⟨t.val / 32, by have := lt64 t; omega⟩
/-- The head of grid point `t`. -/
def th (t : Fin cfg0.N) : Fin 8 := ⟨t.val / 4 % 8, by omega⟩
/-- Row `r` of the query block of grid point `t`. -/
def tn (t : Fin cfg0.N) (r : Fin 512) : Fin 2048 := ⟨t.val % 4 * 512 + r.val, by omega⟩
/-- Row `r` of the first half of a block. -/
def lo (r : Fin 256) : Fin 512 := ⟨r.val, by omega⟩
/-- Row `r` of the second half of a block. -/
def hi (r : Fin 256) : Fin 512 := ⟨256 + r.val, by omega⟩

variable (t : Fin cfg0.N) (x : Fin 512) (r : Fin 256) (s : Fin 2304) (e : Fin 96) (f : Fin 64)

theorem read_at (b : Fin 2) (h : Fin 8) (n : Fin 2048) (hb : b.val = t.val / 32)
    (hh : h.val = t.val / 4 % 8) (hn : n.val = t.val % 4 * 512 + x.val) :
    (iblk m c 0 t (ix4 0 0 x e) : EReal) = qA m c (ix4 b n h e) ∧ (iblk m c 1 t (ix4 0 0 e s) : EReal) = kA m c (ix4 b s h e)
      ∧ (iblk m c 2 t (ix4 0 0 f s) : EReal) = vA m c (ix4 b s h f) ∧ (iblk m c 3 t (ix4 0 0 x f) : EReal) = gA m c (ix4 b n h f) := by
  refine ⟨?_, ?_, ?_, ?_⟩
  · blk_point [iblk, V, idx t]
  · blk_point [iblk, V, idx t]
  · blk_point [iblk, V, idx t]
  · blk_point [iblk, V, idx t]

theorem q_read : (iblk m c 0 t (ix4 0 0 x e) : EReal) = qA m c (ix4 (tb t) (tn t x) (th t) e) :=
  (read_at m c t x 0 e 0 _ _ _ rfl rfl rfl).1

theorem k_read : (iblk m c 1 t (ix4 0 0 e s) : EReal) = kA m c (ix4 (tb t) s (th t) e) :=
  (read_at m c t 0 s e 0 _ _ (tn t 0) rfl rfl rfl).2.1

theorem v_read : (iblk m c 2 t (ix4 0 0 f s) : EReal) = vA m c (ix4 (tb t) s (th t) f) :=
  (read_at m c t 0 s 0 f _ _ (tn t 0) rfl rfl rfl).2.2.1

theorem g_read : (iblk m c 3 t (ix4 0 0 x f) : EReal) = gA m c (ix4 (tb t) (tn t x) (th t) f) :=
  (read_at m c t x 0 0 f _ _ _ rfl rfl rfl).2.2.2

/-- The first half of a block of queries. -/
abbrev half0 (X : FVec Ideal S1x1x512x96 .bf16) : FVec Ideal S1x1x256x96 .bf16 :=
  View.ld (Val := Elt Ideal) (e' := .bf16) X (Rect.unit ![0, 0, 0, 0] ![1, 1, 256, 96] inb_S1x1x512x96_S1x1x256x96_0_0_0_0)
/-- The second half. -/
abbrev half1 (X : FVec Ideal S1x1x512x96 .bf16) : FVec Ideal S1x1x256x96 .bf16 :=
  View.ld (Val := Elt Ideal) (e' := .bf16) X (Rect.unit ![0, 0, 256, 0] ![1, 1, 256, 96] inb_S1x1x512x96_S1x1x256x96_0_0_256_0)
/-- The first half of a block of upstream gradients. -/
abbrev ghalf0 (X : FVec Ideal S1x1x512x64 .bf16) : FVec Ideal S1x1x256x64 .bf16 :=
  View.ld (Val := Elt Ideal) (e' := .bf16) X (Rect.unit ![0, 0, 0, 0] ![1, 1, 256, 64] inb_S1x1x512x64_S1x1x256x64_0_0_0_0)
/-- The second half. -/
abbrev ghalf1 (X : FVec Ideal S1x1x512x64 .bf16) : FVec Ideal S1x1x256x64 .bf16 :=
  View.ld (Val := Elt Ideal) (e' := .bf16) X (Rect.unit ![0, 0, 256, 0] ![1, 1, 256, 64] inb_S1x1x512x64_S1x1x256x64_0_0_256_0)

theorem half0_at (X : FVec Ideal S1x1x512x96 .bf16) : half0 X (ix4 0 0 r e) = X (ix4 0 0 (lo r) e) := by
  show X _ = X _
  congr 1
  unfold lo
  idx_ext

theorem half1_at (X : FVec Ideal S1x1x512x96 .bf16) : half1 X (ix4 0 0 r e) = X (ix4 0 0 (hi r) e) := by
  show X _ = X _
  congr 1
  unfold hi
  idx_ext

theorem ghalf0_at (X : FVec Ideal S1x1x512x64 .bf16) : ghalf0 X (ix4 0 0 r f) = X (ix4 0 0 (lo r) f) := by
  show X _ = X _
  congr 1
  unfold lo
  idx_ext

theorem ghalf1_at (X : FVec Ideal S1x1x512x64 .bf16) : ghalf1 X (ix4 0 0 r f) = X (ix4 0 0 (hi r) f) := by
  show X _ = X _
  congr 1
  unfold hi
  idx_ext

/-- A block's row of scores is the arrays' row. -/
theorem brow_eq (X : FVec Ideal S1x1x256x96 .bf16) (Y : FVec Ideal S1x1x96x2304 .bf16) (xs : QArr) (ys : KArr)
    (b : Fin 2) (h : Fin 8) (n : Fin 2048) (hX : ∀ e, X (ix4 0 0 r e) = xs (ix4 b n h e))
    (hY : ∀ e s, Y (ix4 0 0 e s) = ys (ix4 b s h e)) : brow X Y r = row xs ys b h n := by
  funext s
  unfold brow row
  exact Finset.sum_congr rfl fun e _ => congrArg₂ (· * ·) (hX e) (hY e s)

/-- A block's row of the weights' gradient is the arrays' row. -/
theorem bdrow_eq (X : FVec Ideal S1x1x256x64 .bf16) (Y : FVec Ideal S1x1x64x2304 .bf16) (xs : OArr) (ys : VArr)
    (b : Fin 2) (h : Fin 8) (n : Fin 2048) (hX : ∀ e, X (ix4 0 0 r e) = xs (ix4 b n h e))
    (hY : ∀ e s, Y (ix4 0 0 e s) = ys (ix4 b s h e)) : brow X Y r = drow xs ys b h n := by
  funext s
  unfold brow drow
  exact Finset.sum_congr rfl fun e _ => congrArg₂ (· * ·) (hX e) (hY e s)

theorem score0 : brow (half0 (iblk m c 0 t)) (iblk m c 1 t) r = row (qA m c) (kA m c) (tb t) (th t) (tn t (lo r)) :=
  brow_eq r _ _ _ _ _ _ _ (fun e => (half0_at r e _).trans (q_read m c t _ e)) fun e s => k_read m c t s e

theorem score1 : brow (half1 (iblk m c 0 t)) (iblk m c 1 t) r = row (qA m c) (kA m c) (tb t) (th t) (tn t (hi r)) :=
  brow_eq r _ _ _ _ _ _ _ (fun e => (half1_at r e _).trans (q_read m c t _ e)) fun e s => k_read m c t s e

theorem dprob0 : brow (ghalf0 (iblk m c 3 t)) (iblk m c 2 t) r = drow (gA m c) (vA m c) (tb t) (th t) (tn t (lo r)) :=
  bdrow_eq r _ _ _ _ _ _ _ (fun e => (ghalf0_at r e _).trans (g_read m c t _ e)) fun e s => v_read m c t s e

theorem dprob1 : brow (ghalf1 (iblk m c 3 t)) (iblk m c 2 t) r = drow (gA m c) (vA m c) (tb t) (th t) (tn t (hi r)) :=
  bdrow_eq r _ _ _ _ _ _ _ (fun e => (ghalf1_at r e _).trans (g_read m c t _ e)) fun e s => v_read m c t s e

end Cert.MlaGradArrays

end
-- ==== Proof.MlaGradDq.lean ====
/- The kernel's array of the queries' gradient, of the latent attention. -/
module

public import proofs.«01_k».proof.Proof.MlaGradReads

@[expose] public section

set_option maxRecDepth 16384

noncomputable section

namespace Cert.MlaGradArrays

open Cert.MlaGradIdeal Cert.MlaGradIdeal.Gen Idealize.ShloMosaic Idealize.ShloMosaic.TcCoe Idealize.SL.Sem
open Cert.MlaRows (row drow)
open Cert.MlaGradRows (dqOf dkOf)
open Cert.SoftmaxGrad (kProb kGrad)
open Cert.MlaGradBlock (kap scale brow)

variable (m : (ℓ : Loc nD τ sig) → Buf (Elt Ideal) ℓ) (c : Dev nD)

/-- The queries' gradient at an index of its array. -/
def dqAt (b : Fin 2) (hd : Fin 8) (e : Fin 96) (n : Fin 2048) : EReal :=
  dqOf (dS m c) (kA m c) b hd e n

section
variable (t : Fin cfg0.N) (r : Fin 256) (e : Fin 96) (b : Fin 2) (hd : Fin 8) (n : Fin 2048)

theorem dqAt_eq (n' : Fin 2048) (hb : b.val = t.val / 32) (hh : hd.val = t.val / 4 % 8) (hn : n = n') :
    dqAt m c b hd e n = dqOf (dS m c) (kA m c) (tb t) (th t) e n' := by
  subst hn
  have e1 : b = tb t := Fin.ext hb
  have e2 : hd = th t := Fin.ext hh
  unfold dqAt
  rw [e1, e2]

/-- The first half of a block's queries' gradient. -/
theorem dq0 : (k0_pay15 (F := Ideal) (k0_pay7 (iblk m c 1 t)) (k0_pay11 (iblk m c 1 t) (half0 (iblk m c 0 t)))
      (k0_pay12 (iblk m c 2 t) (ghalf0 (iblk m c 3 t)))
      (k0_pay13 (iblk m c 1 t) (iblk m c 2 t) (half0 (iblk m c 0 t)) (ghalf0 (iblk m c 3 t))) (ix4 0 0 e r) : EReal)
    = dqOf (dS m c) (kA m c) (tb t) (th t) e (tn t (lo r)) := by
  refine (MlaGradBlock.dq_first _ _ _ _ r e).trans (Finset.sum_congr rfl fun s _ => ?_)
  rw [score0, dprob0]
  exact congrArg₂ (· * ·) rfl (k_read m c t s e)

/-- The second half of a block's queries' gradient. -/
theorem dq1 : (k0_pay2 (F := Ideal) (k0_pay7 (iblk m c 1 t)) (k0_pay20 (k0_pay7 (iblk m c 1 t)) (half1 (iblk m c 0 t)))
      (k0_pay21 (k0_pay8 (iblk m c 2 t)) (ghalf1 (iblk m c 3 t)))
      (k0_pay22 (k0_pay7 (iblk m c 1 t)) (k0_pay8 (iblk m c 2 t)) (half1 (iblk m c 0 t)) (ghalf1 (iblk m c 3 t))) (ix4 0 0 e r) : EReal)
    = dqOf (dS m c) (kA m c) (tb t) (th t) e (tn t (hi r)) := by
  refine (MlaGradBlock.dq_second _ _ _ _ r e).trans (Finset.sum_congr rfl fun s _ => ?_)
  rw [score1, dprob1]
  exact congrArg₂ (· * ·) rfl (k_read m c t s e)
end

/-- What a grid point leaves in the block of the queries' gradient, whichever case it runs. -/
theorem dq_point (t : Fin cfg0.N) (y : S1x1x96x512.Idx) (b : Fin 2) (hd : Fin 8) (e : Fin 96) (n : Fin 2048)
    (hb : b.val = t.val / 32) (hh : hd.val = t.val / 4 % 8) (he : e.val = (y 2).val) (hn : n.val = t.val % 4 * 512 + (y 3).val) :
    ((outsAt0 m c t.val t.isLt).1 y : EReal) = dqAt m c b hd e n := by
  by_cases h : t.val % 4 = 0
  · rw [outsAt0_A m c t h]
    frame_out
    canon_tiles x h'
    · have hx : x = ix4 0 0 e (x 3) := by idx_ext
      rw [hx]
      exact (dq1 m c t (x 3) e).trans (dqAt_eq m c t e b hd n _ hb hh (Fin.ext (by simp only [tn, hi]; omega))).symm
    · have hx : x = ix4 0 0 e (x 3) := by idx_ext
      rw [hx]
      exact (dq0 m c t (x 3) e).trans (dqAt_eq m c t e b hd n _ hb hh (Fin.ext (by simp only [tn, lo]; omega))).symm
  · rw [outsAt0_B m c t h]
    frame_out
    canon_tiles x h'
    · have hx : x = ix4 0 0 e (x 3) := by idx_ext
      rw [hx]
      exact (dq1 m c t (x 3) e).trans (dqAt_eq m c t e b hd n _ hb hh (Fin.ext (by simp only [tn, hi]; omega))).symm
    · have hx : x = ix4 0 0 e (x 3) := by idx_ext
      rw [hx]
      exact (dq0 m c t (x 3) e).trans (dqAt_eq m c t e b hd n _ hb hh (Fin.ext (by simp only [tn, lo]; omega))).symm

/-- The array of the queries' gradient after the run. -/
theorem dq_final : (dats m 0 c).arrAt 4 cfg0.N = fun y : S2x8x96x2048.Idx => dqAt m c (y 0) (y 1) (y 2) (y 3) := by
  refine (dats m 0 c).arrAt_eq_of_covers 4 _ (by decide +kernel) fun t hf y => ?_
  blk_simp
  rw [after0_4]
  refine dq_point m c t y _ _ _ _ ?_ ?_ ?_ ?_
  · blk_simp [idx t]
  · blk_simp [idx t]
  · blk_simp [idx t]
    try omega
  · blk_simp [idx t]
    try omega

end Cert.MlaGradArrays

end
-- ==== Proof.MlaGradDk.lean ====
/- The kernel's arrays of the keys' and the values' gradients, summed over the four grid points of a run, of the latent attention. -/
module

public import proofs.«01_k».proof.Proof.MlaGradReads

@[expose] public section

set_option maxRecDepth 16384

noncomputable section

namespace Cert.MlaGradArrays

open Cert.MlaGradIdeal Cert.MlaGradIdeal.Gen Idealize.ShloMosaic Idealize.ShloMosaic.TcCoe Idealize.SL.Sem
open Cert.MlaRows (row drow)
open Cert.MlaGradRows (dqOf dkOf)
open Cert.SoftmaxGrad (kProb kGrad)
open Cert.MlaGradBlock (kap scale brow)

variable (m : (ℓ : Loc nD τ sig) → Buf (Elt Ideal) ℓ) (c : Dev nD)

/-- What one grid point adds to an element of a gradient summed over query rows. -/
def part {D : ℕ} (ds : Fin 2 → Fin 8 → Fin 2048 → Fin 2304 → EReal) (q : (⟨4, ![2, 2048, 8, D]⟩ : Shape).Idx → EReal)
    (t : Fin cfg0.N) (s : Fin 2304) (e : Fin D) : EReal :=
  (∑ r : Fin 256, ds (tb t) (th t) (tn t (lo r)) s * q (ix4 (tb t) (tn t (lo r)) (th t) e))
    + ∑ r : Fin 256, ds (tb t) (th t) (tn t (hi r)) s * q (ix4 (tb t) (tn t (hi r)) (th t) e)

section
variable (t : Fin cfg0.N) (s : Fin 2304) (e : Fin 96) (f : Fin 64) (o : FVec Ideal S1x1x2304x96 .f32) (o' : FVec Ideal S1x1x2304x64 .f32)

/-- One point's step of the keys' gradient. -/
theorem dk_step : (k0_pay3 (F := Ideal)
      (k0_pay16 (k0_pay9 (half0 (iblk m c 0 t))) (k0_pay11 (iblk m c 1 t) (half0 (iblk m c 0 t)))
        (k0_pay12 (iblk m c 2 t) (ghalf0 (iblk m c 3 t)))
        (k0_pay13 (iblk m c 1 t) (iblk m c 2 t) (half0 (iblk m c 0 t)) (ghalf0 (iblk m c 3 t))))
      (k0_pay18 (half1 (iblk m c 0 t))) (k0_pay20 (k0_pay7 (iblk m c 1 t)) (half1 (iblk m c 0 t)))
      (k0_pay21 (k0_pay8 (iblk m c 2 t)) (ghalf1 (iblk m c 3 t)))
      (k0_pay22 (k0_pay7 (iblk m c 1 t)) (k0_pay8 (iblk m c 2 t)) (half1 (iblk m c 0 t)) (ghalf1 (iblk m c 3 t))) o (ix4 0 0 s e) : EReal)
    = (o (ix4 0 0 s e) : EReal) + part (dS m c) (qA m c) t s e := by
  refine (MlaGradBlock.dk_step _ _ _ _ s e _ _ o).trans ?_
  unfold part
  refine congrArg₂ (· + ·) rfl (congrArg₂ (· + ·) (Finset.sum_congr rfl fun r _ => ?_) (Finset.sum_congr rfl fun r _ => ?_))
  · rw [score0, dprob0]
    exact congrArg₂ (· * ·) rfl ((half0_at r e _).trans (q_read m c t _ e))
  · rw [score1, dprob1]
    exact congrArg₂ (· * ·) rfl ((half1_at r e _).trans (q_read m c t _ e))

/-- One point's step of the values' gradient. -/
theorem dv_step : (k0_pay4 (F := Ideal)
      (k0_pay17 (k0_pay10 (ghalf0 (iblk m c 3 t))) (k0_pay11 (iblk m c 1 t) (half0 (iblk m c 0 t))))
      (k0_pay19 (ghalf1 (iblk m c 3 t))) (k0_pay20 (k0_pay7 (iblk m c 1 t)) (half1 (iblk m c 0 t))) o' (ix4 0 0 s f) : EReal)
    = (o' (ix4 0 0 s f) : EReal) + part (prob m c) (gA m c) t s f := by
  refine (MlaGradBlock.dv_step _ _ _ s f _ _ o').trans ?_
  unfold part
  refine congrArg₂ (· + ·) rfl (congrArg₂ (· + ·) (Finset.sum_congr rfl fun r _ => ?_) (Finset.sum_congr rfl fun r _ => ?_))
  · rw [score0]
    exact congrArg₂ (· * ·) rfl ((ghalf0_at r f _).trans (g_read m c t _ f))
  · rw [score1]
    exact congrArg₂ (· * ·) rfl ((ghalf1_at r f _).trans (g_read m c t _ f))
end

/-- The parts of a run's four points are the whole sum over the head's rows. -/
theorem sum_parts {D : ℕ} (ds : Fin 2 → Fin 8 → Fin 2048 → Fin 2304 → EReal) (q : (⟨4, ![2, 2048, 8, D]⟩ : Shape).Idx → EReal) (t : Fin cfg0.N)
    (ht : ∀ j : Fin 4, 4 * (t.val / 4) + j.val < cfg0.N) (b : Fin 2) (h : Fin 8) (hb : b.val = t.val / 32) (hh : h.val = t.val / 4 % 8)
    (s : Fin 2304) (e : Fin D) : ∑ j : Fin 4, part ds q ⟨4 * (t.val / 4) + j.val, ht j⟩ s e = dkOf ds q b h s e := by
  refine Eq.trans (Finset.sum_congr rfl fun j _ => ?_)
    (MlaGradRows.sum_run fun n => ds b h n s * q (ix4 b n h e))
  have hj := j.isLt
  have e1 : tb ⟨4 * (t.val / 4) + j.val, ht j⟩ = b := Fin.ext (by show (4 * (t.val / 4) + j.val) / 32 = b.val; omega)
  have e2 : th ⟨4 * (t.val / 4) + j.val, ht j⟩ = h := Fin.ext (by show (4 * (t.val / 4) + j.val) / 4 % 8 = h.val; omega)
  have e4 : ∀ r : Fin 256, tn ⟨4 * (t.val / 4) + j.val, ht j⟩ (lo r) = (⟨j.val * 512 + r.val, by omega⟩ : Fin 2048) :=
    fun r => Fin.ext (by show (4 * (t.val / 4) + j.val) % 4 * 512 + r.val = j.val * 512 + r.val; omega)
  have e5 : ∀ r : Fin 256, tn ⟨4 * (t.val / 4) + j.val, ht j⟩ (hi r) = (⟨j.val * 512 + (256 + r.val), by omega⟩ : Fin 2048) :=
    fun r => Fin.ext (by show (4 * (t.val / 4) + j.val) % 4 * 512 + (256 + r.val) = j.val * 512 + (256 + r.val); omega)
  unfold part
  simp only [e1, e2, e4, e5]

theorem idx_dk (i : S1x1x2304x96.Idx) : i = ix4 0 0 (i 2) (i 3) := by idx_ext
theorem idx_dv (i : S1x1x2304x64.Idx) : i = ix4 0 0 (i 2) (i 3) := by idx_ext

/-- The array of the keys' gradient after the run. -/
theorem dk_final : (dats m 0 c).arrAt 5 cfg0.N = fun y : S2x8x2304x96.Idx => dkOf (dS m c) (qA m c) (y 0) (y 1) (y 2) (y 3) := by
  refine (dats m 0 c).arrAt_eq_of_covers 5 _ (by decide +kernel) fun t hf y => ?_
  blk_simp
  rw [after0_5, Pipeline.eq_sum_fin_of_reset_step_apply_of_flush (M := EReal) (fun n h => (outsAt0 m c n h).2.1) 4 (fun _ => 0)
    (fun t i => part (dS m c) (qA m c) t (i 2) (i 3))
    (fun t h i => by
      rw [outsAt0_A m c t h]
      frame_out
      rw [idx_dk i]
      exact (dk_step m c t (i 2) (i 3) _).trans (congrArg₂ (· + ·) (MlaGradBlock.zero_dk (i 2) (i 3)) rfl))
    (fun t h i => by
      rw [outsAt0_B m c t h]
      frame_out
      rw [idx_dk i]
      exact dk_step m c t (i 2) (i 3) _)
    t ((flush0_5 t).mp hf) _, zero_add]
  have h2 : (y 2).val < 2304 := (y 2).isLt
  have h0 : (y 0).val < 1 := (y 0).isLt
  have h1 : (y 1).val < 1 := (y 1).isLt
  refine (sum_parts (dS m c) (qA m c) t (Pipeline.run_point_lt_of_flush t ((flush0_5 t).mp hf)) _ _ ?_ ?_ (y 2) (y 3)).trans
    (congrArg₂ (dkOf (dS m c) (qA m c) _ _) (Fin.ext ?_) (Fin.ext ?_))
  · blk_simp [idx t]
  · blk_simp [idx t]
  · blk_simp [idx t]
    try omega
  · blk_simp [idx t]
    try omega

/-- The array of the values' gradient after the run. -/
theorem dv_final : (dats m 0 c).arrAt 6 cfg0.N = fun y : S2x8x2304x64.Idx => dkOf (prob m c) (gA m c) (y 0) (y 1) (y 2) (y 3) := by
  refine (dats m 0 c).arrAt_eq_of_covers 6 _ (by decide +kernel) fun t hf y => ?_
  blk_simp
  rw [after0_6, Pipeline.eq_sum_fin_of_reset_step_apply_of_flush (M := EReal) (fun n h => (outsAt0 m c n h).2.2) 4 (fun _ => 0)
    (fun t i => part (prob m c) (gA m c) t (i 2) (i 3))
    (fun t h i => by
      rw [outsAt0_A m c t h]
      frame_out
      rw [idx_dv i]
      exact (dv_step m c t (i 2) (i 3) _).trans (congrArg₂ (· + ·) (MlaGradBlock.zero_dv (i 2) (i 3)) rfl))
    (fun t h i => by
      rw [outsAt0_B m c t h]
      frame_out
      rw [idx_dv i]
      exact dv_step m c t (i 2) (i 3) _)
    t ((flush0_6 t).mp hf) _, zero_add]
  have h0 : (y 0).val < 1 := (y 0).isLt
  have h1 : (y 1).val < 1 := (y 1).isLt
  refine (sum_parts (prob m c) (gA m c) t (Pipeline.run_point_lt_of_flush t ((flush0_6 t).mp hf)) _ _ ?_ ?_ (y 2) (y 3)).trans
    (congrArg₂ (dkOf (prob m c) (gA m c) _ _) (Fin.ext ?_) (Fin.ext ?_))
  · blk_simp [idx t]
  · blk_simp [idx t]
  · blk_simp [idx t]
    try omega
  · blk_simp [idx t]
    try omega

end Cert.MlaGradArrays

end
-- ==== Proof.MlaGradRef.lean ====
/- The reference's gradients of the latent attention, through named intermediate arrays and at an index. -/
module

public import proofs.«01_k».proof.Proof.Gen.MlaGradReferenceIdeal.Run
public import proofs.«01_k».proof.Proof.MlaGradRows
public import proofs.«01_k».proof.Proof.RowMax

@[expose] public section

set_option maxRecDepth 16384

noncomputable section

namespace Cert.MlaGradRef

open Cert.MlaGradReferenceIdeal Cert.MlaGradReferenceIdeal.Gen Idealize.ShloMosaic Idealize.ShloMosaic.TcCoe Idealize.SL.Sem
open Cert.MlaRows (row drow kv)
open Cert.MlaGradRows (dqOf dkOf)

abbrev QArr := FVec Ideal S2x2048x8x96 .f32
abbrev KArr := FVec Ideal S2x2304x8x96 .f32
abbrev VArr := FVec Ideal S2x2304x8x64 .f32
abbrev OArr := FVec Ideal S2x2048x8x64 .f32
abbrev SArr := FVec Ideal S2x8x2048x2304 .f32
abbrev Stat := FVec Ideal S2x8x2048 .f32
abbrev Column := FVec Ideal S2x8x2048x1 .f32

/-- The scores times the scale. -/
def scores (q : QArr) (k : KArr) : SArr :=
  mulf (Host.dotGeneral dot_S2x2048x8x96_S2x2304x8x96_S2x8x2048x2304_3_3_1_1_02_02 none q k)
    (broadcastInDim S2x8x2048x2304 ![] bcast_S_S2x8x2048x2304 (constant S_ .f32 0x3DD105EC#32))

/-- A row statistic, repeated along the row. -/
def along (x : Column) : SArr :=
  broadcastInDim S2x8x2048x2304 ![0, 1, 2, 3] bcast_S2x8x2048x1_S2x8x2048x2304_0_1_2_3 x

/-- A row statistic as a column. -/
def column (x : Stat) : Column :=
  broadcastInDim S2x8x2048x1 ![0, 1, 2] bcast_S2x8x2048_S2x8x2048x1_0_1_2 x

/-- The largest scaled score of each row. -/
def rowMax (s : SArr) : Stat :=
  maximumf (broadcastInDim S2x8x2048 ![] bcast_S_S2x8x2048 (constant S_ .f32 0xFF800000#32))
    (Host.reduce (FloatOps.maximumf (F := Ideal) (φ := .f32)) s (constant S_ .f32 0xFF800000#32) reducesTo_S2x8x2048x2304_S2x8x2048_d3 h_S_)

/-- The unnormalised weights. -/
def exps (s : SArr) : SArr := Host.exp (subf s (along (column (rowMax s))))

/-- The sum along each row. -/
def rowSum (e : SArr) : Stat :=
  Host.reduceAdd e (constant S_ .f32 0x00000000#32) reducesTo_S2x8x2048x2304_S2x8x2048_d3 h_S_

/-- The upstream gradient with its rows last. -/
def gT (g : OArr) : FVec Ideal S2x8x64x2048 .f32 :=
  transpose S2x8x64x2048 [0, 2, 3, 1] g transposes_S2x2048x8x64_S2x8x64x2048_0_2_3_1

/-- The gradient of the weights. -/
def dProb (g : OArr) (v : VArr) : SArr :=
  Host.dotGeneral dot_S2x8x64x2048_S2x2304x8x64_S2x8x2048x2304_2_3_3_1_01_02 none (gT g) v

/-- Minus the row's product of gradient and weight, as the derivative of the quotient's denominator gives it. -/
def denom (d e : SArr) : Stat :=
  Host.reduceAdd (Host.negf (shapeCast _ (rowSum (mulf (mulf d (along
      (Host.divf (broadcastInDim S2x8x2048x1 ![] bcast_S_S2x8x2048x1 (constant S_ .f32 0x3F800000#32))
        (mulf (column (rowSum e)) (column (rowSum e)))))) e)) shapeCasts_S2x8x2048_S2x8x2048x1))
    (constant S_ .f32 0x00000000#32) reducesTo_S2x8x2048x1_S2x8x2048_d3 h_S_

/-- The gradient of the unscaled scores. -/
def dScore (d e : SArr) : SArr :=
  mulf (mulf (addf (Host.divf d (along (column (rowSum e))))
      (broadcastInDim S2x8x2048x2304 ![0, 1, 2] bcast_S2x8x2048_S2x8x2048x2304_0_1_2 (denom d e))) e)
    (broadcastInDim S2x8x2048x2304 ![] bcast_S_S2x8x2048x2304 (constant S_ .f32 0x3DD105EC#32))

/-- The gradient of the queries, from that of the scores. -/
def dq (s : SArr) (k : KArr) : FVec Ideal S2x8x96x2048 .f32 :=
  transpose S2x8x96x2048 [0, 2, 3, 1] (transpose S2x2048x8x96 [0, 2, 1, 3]
      (Host.dotGeneral dot_S2x8x2048x2304_S2x2304x8x96_S2x8x2048x96_3_1_2_3_01_02 none s k)
      transposes_S2x8x2048x96_S2x2048x8x96_0_2_1_3) transposes_S2x2048x8x96_S2x8x96x2048_0_2_3_1

/-- The gradient of the keys, from that of the scores. -/
def dk (s : SArr) (q : QArr) : FVec Ideal S2x8x2304x96 .f32 :=
  transpose S2x8x2304x96 [0, 2, 1, 3] (transpose S2x2304x8x96 [0, 2, 1, 3]
      (Host.dotGeneral dot_S2x8x2048x2304_S2x2048x8x96_S2x8x2304x96_2_1_3_3_01_02 none s q)
      transposes_S2x8x2304x96_S2x2304x8x96_0_2_1_3) transposes_S2x2304x8x96_S2x8x2304x96_0_2_1_3

/-- The gradient of the values, from the weights. -/
def dv (e : SArr) (g : OArr) : FVec Ideal S2x8x2304x64 .f32 :=
  transpose S2x8x2304x64 [0, 2, 1, 3] (transpose S2x2304x8x64 [0, 3, 1, 2]
      (Host.dotGeneral dot_S2x8x64x2048_S2x8x2048x2304_S2x8x64x2304_3_2_2_3_01_01 none (gT g)
        (Host.divf e (along (column (rowSum e)))))
      transposes_S2x8x64x2304_S2x2304x8x64_0_3_1_2) transposes_S2x2304x8x64_S2x8x2304x64_0_2_1_3

section
variable (m : (ℓ : Loc nD τ sig) → Buf (Elt Ideal) ℓ) (c : Dev nD)

theorem out0 : Value.res_main_v55 m c = dq (dScore (dProb (m ((c.tc : Thread nD τ).loc main_arg3)) (m ((c.tc : Thread nD τ).loc main_arg2)))
    (exps (scores (m ((c.tc : Thread nD τ).loc main_arg0)) (m ((c.tc : Thread nD τ).loc main_arg1))))) (m ((c.tc : Thread nD τ).loc main_arg1)) := rfl

theorem out1 : Value.res_main_v56 m c = dk (dScore (dProb (m ((c.tc : Thread nD τ).loc main_arg3)) (m ((c.tc : Thread nD τ).loc main_arg2)))
    (exps (scores (m ((c.tc : Thread nD τ).loc main_arg0)) (m ((c.tc : Thread nD τ).loc main_arg1))))) (m ((c.tc : Thread nD τ).loc main_arg0)) := rfl
end

/-- The scores' scale. -/
abbrev scale : EReal := Ideal.ofBits .f32 0x3DD105EC#32

theorem max_at {s : Shape} (p q : FVec Ideal s .f32) (j : s.Idx) : maximumf p q j = max (p j : EReal) (q j : EReal) := rfl

theorem const_at {s : Shape} (f) (h) (w : BitVec 32) (j : s.Idx) :
    broadcastInDim s f h (constant (F := Ideal) S_ .f32 w) j = Ideal.ofBits .f32 w := rfl

variable (q : QArr) (g : OArr) (k : KArr) (v : VArr) (x d : SArr)
variable (b : Fin 2) (h : Fin 8) (r : Fin 2048) (s : Fin 2304) (e : Fin 96) (f : Fin 64)

theorem scores_at : scores q k (ix4 b h r s) = row q k b h r s * scale := by
  pointwise [scores, row, kv]

theorem dProb_at : dProb g v (ix4 b h r s) = drow g v b h r s := by
  pointwise [dProb, gT, drow, kv]

theorem rowMax_at : rowMax x (ix3 b h r) = max (Ideal.ofBits .f32 0xFF800000#32)
    (Finset.univ.fold max (Ideal.ofBits .f32 0xFF800000#32) fun s => x (ix4 b h r s)) := by
  unfold rowMax
  rw [max_at, const_at, RowMax.reduce_max_at]

theorem exps_at : exps x (ix4 b h r s) = Ideal.exp (x (ix4 b h r s) - rowMax x (ix3 b h r)) := by
  pointwise [exps, along, column]

theorem exps_scores_at : exps (scores q k) (ix4 b h r s) = SoftmaxGrad.rExp scale (row q k b h r) s := by
  rw [exps_at, rowMax_at]
  simp only [scores_at]
  rfl

theorem dScore_at' :
    dScore d x (ix4 b h r s) = (Ideal.div (d (ix4 b h r s)) (∑ i, x (ix4 b h r i))
      + -(∑ i, d (ix4 b h r i) * Ideal.div 1 ((∑ l, x (ix4 b h r l)) * ∑ l, x (ix4 b h r l)) * x (ix4 b h r i)))
        * x (ix4 b h r s) * scale := by
  pointwise [dScore, denom, along, column, rowSum]
  simp only [Finset.univ_unique, Finset.sum_singleton]

/-- The reference's gradient of the scores. -/
abbrev dS (b : Fin 2) (h : Fin 8) (r : Fin 2048) : Fin 2304 → EReal :=
  SoftmaxGrad.rGrad scale (row q k b h r) (drow g v b h r)

/-- The reference's weights. -/
abbrev prob (b : Fin 2) (h : Fin 8) (r : Fin 2048) : Fin 2304 → EReal :=
  SoftmaxGrad.rProb scale (row q k b h r)

theorem dScore_at : dScore (dProb g v) (exps (scores q k)) (ix4 b h r s) = dS q g k v b h r s := by
  rw [dScore_at']
  simp only [exps_scores_at, dProb_at]
  rfl

theorem dq_at' : dq x k (ix4 b h e r) = ∑ s, x (ix4 b h r s) * k (ix4 b s h e) := by
  pointwise [dq]

theorem dk_at' : dk x q (ix4 b h s e) = ∑ r, x (ix4 b h r s) * q (ix4 b r h e) := by
  pointwise [dk]

theorem dv_at' : dv x g (ix4 b h s f)
    = ∑ r, Ideal.div (x (ix4 b h r s)) (∑ i, x (ix4 b h r i)) * g (ix4 b r h f) := by
  simp only [mul_comm _ (g _)]
  pointwise [dv, gT, along, column, rowSum]

/-- The reference's gradient of the queries at an index. -/
theorem dq_at : dq (dScore (dProb g v) (exps (scores q k))) k (ix4 b h e r) = dqOf (dS q g k v) k b h e r := by
  rw [dq_at']
  simp only [dScore_at]
  rfl

/-- The reference's gradient of the keys at an index. -/
theorem dk_at : dk (dScore (dProb g v) (exps (scores q k))) q (ix4 b h s e) = dkOf (dS q g k v) q b h s e := by
  rw [dk_at']
  simp only [dScore_at]
  rfl

/-- The reference's gradient of the values at an index. -/
theorem dv_at : dv (exps (scores q k)) g (ix4 b h s f) = dkOf (prob q k) g b h s f := by
  rw [dv_at']
  simp only [exps_scores_at]
  rfl

end Cert.MlaGradRef

end
-- ==== Proof.MlaGradEquation.lean ====
/- The backward of the latent attention: the kernel's arrays are the reference's, where the precondition holds. -/
module

public import proofs.«01_k».proof.Proof.MlaGradDq
public import proofs.«01_k».proof.Proof.MlaGradDk
public import proofs.«01_k».proof.Proof.MlaGradRef
public import proofs.«01_k».proof.Proof.RealInputs

@[expose] public section

set_option maxRecDepth 16384

noncomputable section

namespace Cert.MlaGradEquation

open Cert.MlaGradIdeal Cert.MlaGradIdeal.Gen Idealize.ShloMosaic Idealize.ShloMosaic.TcCoe Idealize.SL.Sem
open Cert.MlaGradArrays (qA kA vA gA)
open Cert.MlaRows (QArr KArr VArr OArr row)

/-- The side conditions of the predicate. -/
theorem facts : Cert.Pre_finite_mla.Facts where
  bcast_S_S2x2048x8x96 := by decide
  bcast_S_S2x2304x8x96 := by decide

/-- The precondition gives real rows. -/
theorem rows [Cert.Pre_finite_mla.Facts] (q : QArr) (k : KArr) (v : VArr) (g : OArr) (h : (Cert.Pre_finite_mla.fn (F := Ideal) q k v g).1 = (fun _ => 1#1)
    ∧ (Cert.Pre_finite_mla.fn (F := Ideal) q k v g).2 = (fun _ => 1#1)) (b : Fin 2) (hd : Fin 8) (n : Fin 2048) :
    ∀ s, ∃ r : ℝ, row q k b hd n s = r :=
  MlaRows.row_real q k (RealInputs.real_at _ _ q h.1) (RealInputs.real_at _ _ k h.2) b hd n

/-- The kernel's named constant is the scale over the natural logarithm of two. -/
theorem kap_eq : MlaGradBlock.kap = (((3424635 / 33554432 : ℝ) * (Real.log 2)⁻¹ : ℝ) : EReal) :=
  IdealRules.named_const.ideal_named_scalar _ _ _ _ rfl

/-- The scale, as its word holds it. -/
theorem scale_eq : MlaGradBlock.scale = ((3424635 / 33554432 : ℝ) : EReal) := by
  simp [MlaGradBlock.scale, Ideal.ofBits, Ideal.ieee, -EReal.coe_mul]; norm_num

variable (m : (ℓ : Loc nD τ sig) → Buf (Elt Ideal) ℓ) (c : Dev nD)
variable (hr : ∀ b h n s, ∃ r : ℝ, row (qA m c) (kA m c) b h n s = r)

include hr in
theorem prob_eq : MlaGradArrays.prob m c = MlaGradRef.prob (qA m c) (kA m c) := by
  funext b h n s
  show SoftmaxGrad.kProb MlaGradBlock.kap _ s = SoftmaxGrad.rProb MlaGradBlock.scale _ s
  rw [kap_eq, scale_eq]
  exact SoftmaxGrad.prob_eq _ (by norm_num) _ (hr b h n) s

include hr in
theorem dS_eq : MlaGradArrays.dS m c = MlaGradRef.dS (qA m c) (gA m c) (kA m c) (vA m c) := by
  funext b h n s
  show SoftmaxGrad.kGrad MlaGradBlock.kap MlaGradBlock.scale _ _ s = SoftmaxGrad.rGrad MlaGradBlock.scale _ _ s
  rw [kap_eq, scale_eq]
  exact SoftmaxGrad.grad_eq _ (by norm_num) _ _ (hr b h n) s

theorem idx_q (y : S2x8x96x2048.Idx) : y = ix4 (y 0) (y 1) (y 2) (y 3) := by idx_ext
theorem idx_k (y : S2x8x2304x96.Idx) : y = ix4 (y 0) (y 1) (y 2) (y 3) := by idx_ext
theorem idx_v (y : S2x8x2304x64.Idx) : y = ix4 (y 0) (y 1) (y 2) (y 3) := by idx_ext

include hr in
theorem dq_eq : (dats m 0 c).arrAt 4 cfg0.N = MlaGradRef.dq (MlaGradRef.dScore (MlaGradRef.dProb (gA m c) (vA m c))
    (MlaGradRef.exps (MlaGradRef.scores (qA m c) (kA m c)))) (kA m c) := by
  rw [MlaGradArrays.dq_final]
  funext y
  refine Eq.trans ?_ (Eq.trans (MlaGradRef.dq_at (qA m c) (gA m c) (kA m c) (vA m c) (y 0) (y 1) (y 3) (y 2)).symm (congrArg _ (idx_q y).symm))
  unfold MlaGradArrays.dqAt
  rw [dS_eq m c hr]

include hr in
theorem dk_eq : (dats m 0 c).arrAt 5 cfg0.N = MlaGradRef.dk (MlaGradRef.dScore (MlaGradRef.dProb (gA m c) (vA m c))
    (MlaGradRef.exps (MlaGradRef.scores (qA m c) (kA m c)))) (qA m c) := by
  rw [MlaGradArrays.dk_final, dS_eq m c hr]
  funext y
  exact Eq.trans (MlaGradRef.dk_at (qA m c) (gA m c) (kA m c) (vA m c) (y 0) (y 1) (y 2) (y 3)).symm (congrArg _ (idx_k y).symm)

include hr in
theorem dv_eq : (dats m 0 c).arrAt 6 cfg0.N = MlaGradRef.dv (MlaGradRef.exps (MlaGradRef.scores (qA m c) (kA m c))) (gA m c) := by
  rw [MlaGradArrays.dv_final, prob_eq m c hr]
  funext y
  exact Eq.trans (MlaGradRef.dv_at (qA m c) (gA m c) (kA m c) (y 0) (y 1) (y 2) (y 3)).symm (congrArg _ (idx_v y).symm)

end Cert.MlaGradEquation

end
-- ==== Proof.MlpUp.lean ====
/- The feed-forward block's first layer, forward: the rectified product and its square. -/
module

public import proofs.«01_k».proof.Proof.Gen.MlpUpIdeal.Value
public import proofs.«01_k».proof.Proof.Gen.MlpUpReferenceIdeal.Run
public import Idealize.ShloMosaic.Lib.Pipeline.ValueKit
public import Idealize.ShloMosaic.Lib.Pointwise

@[expose] public section

set_option maxRecDepth 16384

noncomputable section

namespace Cert.MlpUpEq

open Cert.MlpUpIdeal Cert.MlpUpIdeal.Gen Idealize.ShloMosaic Idealize.ShloMosaic.TcCoe Idealize.SL.Sem

/-- The left factor at a row and a summation index. -/
def lhs (a : FVec Ideal S2x2304x1024 .f32) (i : Fin 4608) (k : Fin 1024) : EReal :=
  a (ix3 ⟨i.val / 2304, by omega⟩ ⟨i.val % 2304, by omega⟩ k)

/-- The product at an element, rectified. -/
def rect (a : FVec Ideal S2x2304x1024 .f32) (b : FVec Ideal S1024x4096 .f32) (y : S4608x4096.Idx) : EReal :=
  max (∑ k, lhs a (y 0) k * b (ix2 k (y 1))) 0

/-- Its square. -/
def square (a : FVec Ideal S2x2304x1024 .f32) (b : FVec Ideal S1024x4096 .f32) (y : S4608x4096.Idx) : EReal :=
  rect a b y * rect a b y

variable (m : (ℓ : Loc nD τ sig) → Buf (Elt Ideal) ℓ) (c : Dev nD)

/-- The factors as arguments of the kernel. -/
abbrev aA : FVec Ideal S2x2304x1024 .f32 := m ((c : Thread nD τ).loc main_arg0)
abbrev bA : FVec Ideal S1024x4096 .f32 := m ((c : Thread nD τ).loc main_arg1)

theorem idx : ∀ t : Fin cfg0.N, win0_0.index t = ![t.val / 4, 0] ∧ win0_1.index t = ![0, t.val % 4]
    ∧ win0_2.index t = ![t.val / 4, t.val % 4] ∧ win0_3.index t = ![t.val / 4, t.val % 4] :=
  (by decide +kernel : ∀ t : Fin grid0.N, _)

theorem points (t : Fin cfg0.N) : t.val < 12 := lt_of_lt_of_eq t.isLt N_0

/-- Row and column of an element of the blocks of grid point `t`. -/
def ti (t : Fin cfg0.N) (x : Fin 1536) : Fin 4608 := ⟨t.val / 4 * 1536 + x.val, by have := points t; omega⟩
def tj (t : Fin cfg0.N) (y : Fin 1024) : Fin 4096 := ⟨t.val % 4 * 1024 + y.val, by omega⟩

variable (t : Fin cfg0.N) (x : Fin 1536) (y : Fin 1024) (k : Fin 1024)

theorem lhs_read : (iblk m c 0 t (ix2 x k) : EReal) = lhs (aA m c) (ti t x) k := by
  unfold lhs ti
  blk_point [iblk, V, idx t]

theorem rhs_read : (iblk m c 1 t (ix2 k y) : EReal) = bA m c (ix2 k (tj t y)) := by
  unfold tj
  blk_point [iblk, V, idx t]

theorem rect_at (a : FVec Ideal S1536x1024 .bf16) (b : FVec Ideal S1024x1024 .bf16) :
    (k0_pay1 (F := Ideal) a b (ix2 x y) : EReal) = max (∑ k, (a (ix2 x k) : EReal) * b (ix2 k y)) 0 := by
  pointwise [k0_pay1]

theorem rect_part (i : S1536x1024.Idx) (y : S4608x4096.Idx) (h0 : (y 0).val = t.val / 4 * 1536 + (i 0).val)
    (h1 : (y 1).val = t.val % 4 * 1024 + (i 1).val) :
    (k0_pay1 (F := Ideal) (iblk m c 0 t) (iblk m c 1 t) i : EReal) = rect (aA m c) (bA m c) y := by
  have h : i = ix2 (i 0) (i 1) := by idx_ext
  refine (congrArg (k0_pay1 (F := Ideal) (iblk m c 0 t) (iblk m c 1 t)) h).trans ((rect_at _ _ _ _).trans ?_)
  refine congrArg (max · 0) (Finset.sum_congr rfl fun k _ => congrArg₂ (· * ·) ?_ ?_)
  · exact (lhs_read m c t _ k).trans (congrArg (lhs (aA m c) · k) (Fin.ext h0.symm))
  · exact (rhs_read m c t _ k).trans (congrArg (fun j => bA m c (ix2 k j)) (Fin.ext h1.symm))

theorem first_at (i : S1536x1024.Idx) : (k0_pay2 (F := Ideal) (iblk m c 0 t) (iblk m c 1 t) i : EReal)
    = k0_pay1 (F := Ideal) (iblk m c 0 t) (iblk m c 1 t) i := by
  pointwise [k0_pay2]

theorem second_at (i : S1536x1024.Idx) : (k0_pay3 (F := Ideal) (iblk m c 0 t) (iblk m c 1 t) i : EReal)
    = (k0_pay1 (F := Ideal) (iblk m c 0 t) (iblk m c 1 t) i : EReal) * k0_pay1 (F := Ideal) (iblk m c 0 t) (iblk m c 1 t) i := by
  pointwise [k0_pay3]

/-- The kernel's arrays after the run. -/
theorem final_rect : (dats m 0 c).arrAt 2 cfg0.N = rect (aA m c) (bA m c) := by
  refine (dats m 0 c).arrAt_eq_of_covers 2 _ (by decide +kernel) fun t hf y => ?_
  blk_simp
  rw [after0_2]
  unfold out0_2
  frame_out
  refine (first_at m c t y).trans (rect_part m c t y _ ?_ ?_)
  · blk_simp [idx t]
  · blk_simp [idx t]

theorem final_square : (dats m 0 c).arrAt 3 cfg0.N = square (aA m c) (bA m c) := by
  refine (dats m 0 c).arrAt_eq_of_covers 3 _ (by decide +kernel) fun t hf y => ?_
  blk_simp
  rw [after0_3]
  unfold out0_3
  frame_out
  refine (second_at m c t y).trans ?_
  refine congrArg₂ (· * ·) (rect_part m c t y _ ?_ ?_) (rect_part m c t y _ ?_ ?_)
  all_goals blk_simp [idx t]

/-- The reference's arrays. -/
theorem reference_rect (a : FVec Ideal S2x2304x1024 .f32) (b : FVec Ideal S1024x4096 .f32) :
    truncf .bf16 (shapeCast Cert.MlpUpReferenceIdeal.S4608x4096 (maximumf (Host.dotGeneral Cert.MlpUpReferenceIdeal.dot_S2x2304x1024_S1024x4096_S2x2304x4096_2_0_01_1_n_n none a b)
      (broadcastInDim Cert.MlpUpReferenceIdeal.S2x2304x4096 ![] Cert.MlpUpReferenceIdeal.Gen.bcast_S_S2x2304x4096 (constant Cert.MlpUpReferenceIdeal.S_ .f32 0x00000000#32)))
      Cert.MlpUpReferenceIdeal.Gen.shapeCasts_S2x2304x4096_S4608x4096) Cert.MlpUpReferenceIdeal.Gen.bitsLt_bf16_f32 = rect a b := by
  funext y
  have h : y = ix2 (y 0) (y 1) := by idx_ext
  rw [h]
  pointwise [rect, lhs]

theorem reference_square (a : FVec Ideal S2x2304x1024 .f32) (b : FVec Ideal S1024x4096 .f32) :
    truncf .bf16 (shapeCast Cert.MlpUpReferenceIdeal.S4608x4096 (mulf (maximumf (Host.dotGeneral Cert.MlpUpReferenceIdeal.dot_S2x2304x1024_S1024x4096_S2x2304x4096_2_0_01_1_n_n none a b)
      (broadcastInDim Cert.MlpUpReferenceIdeal.S2x2304x4096 ![] Cert.MlpUpReferenceIdeal.Gen.bcast_S_S2x2304x4096 (constant Cert.MlpUpReferenceIdeal.S_ .f32 0x00000000#32))) (maximumf (Host.dotGeneral Cert.MlpUpReferenceIdeal.dot_S2x2304x1024_S1024x4096_S2x2304x4096_2_0_01_1_n_n none a b)
      (broadcastInDim Cert.MlpUpReferenceIdeal.S2x2304x4096 ![] Cert.MlpUpReferenceIdeal.Gen.bcast_S_S2x2304x4096 (constant Cert.MlpUpReferenceIdeal.S_ .f32 0x00000000#32))))
      Cert.MlpUpReferenceIdeal.Gen.shapeCasts_S2x2304x4096_S4608x4096) Cert.MlpUpReferenceIdeal.Gen.bitsLt_bf16_f32 = square a b := by
  funext y
  have h : y = ix2 (y 0) (y 1) := by idx_ext
  rw [h]
  pointwise [square, rect, lhs]

end Cert.MlpUpEq

end
-- ==== Proof.MlpGrad.lean ====
/- The feed-forward block's gradient with respect to what it rectifies. -/
module

public import proofs.«01_k».proof.Proof.Gen.MlpGradIdeal.Value
public import proofs.«01_k».proof.Proof.Gen.MlpGradReferenceIdeal.Run
public import Idealize.ShloMosaic.Lib.Pipeline.ValueKit
public import Idealize.ShloMosaic.Lib.Pointwise

@[expose] public section

set_option maxRecDepth 16384

noncomputable section

namespace Cert.MlpGradEq

open Cert.MlpGradIdeal Cert.MlpGradIdeal.Gen Idealize.ShloMosaic Idealize.ShloMosaic.TcCoe Idealize.SL.Sem

/-- The gradient of the layer's result at a row and a summation index. -/
def lhs (g : FVec Ideal S2x2304x1024 .f32) (i : Fin 4608) (k : Fin 1024) : EReal :=
  g (ix3 ⟨i.val / 2304, by omega⟩ ⟨i.val % 2304, by omega⟩ k)

/-- What is rectified, at a row and a column. -/
def rows (z : FVec Ideal S2x2304x4096 .f32) (i : Fin 4608) (j : Fin 4096) : EReal :=
  z (ix3 ⟨i.val / 2304, by omega⟩ ⟨i.val % 2304, by omega⟩ j)

/-- The gradient at an element. -/
def grad (z : FVec Ideal S2x2304x4096 .f32) (b : FVec Ideal S4096x1024 .f32) (g : FVec Ideal S2x2304x1024 .f32)
    (y : S4608x4096.Idx) : EReal :=
  (∑ k, lhs g (y 0) k * b (ix2 (y 1) k)) * (Ideal.ofBits .f32 0x40000000#32 * max (rows z (y 0) (y 1)) 0)

variable (m : (ℓ : Loc nD τ sig) → Buf (Elt Ideal) ℓ) (c : Dev nD)

/-- The kernel's arguments. -/
abbrev zA : FVec Ideal S2x2304x4096 .f32 := m ((c : Thread nD τ).loc main_arg0)
abbrev bA : FVec Ideal S4096x1024 .f32 := m ((c : Thread nD τ).loc main_arg1)
abbrev gA : FVec Ideal S2x2304x1024 .f32 := m ((c : Thread nD τ).loc main_arg2)

/-- What the host hands to the kernel. -/
theorem V_g : V m c main_v4 = truncf .bf16 (shapeCast S4608x1024 (gA m c) shapeCasts_S2x2304x1024_S4608x1024) bitsLt_bf16_f32 := by
  simp only [V, hostOps0, hostOps0_1, hostOps0_2, List.flatten_cons, List.flatten_nil, List.append_nil, List.cons_append, List.nil_append,
    StableHlo.TRef.binary, StableHlo.TRef.nullary, StableHlo.TRef.unary, StableHlo.TRef.toBuf, StableHlo.TRef.ofBuf, cast_eq]
  after_results <;> rfl

theorem V_b : V m c main_v5 = truncf .bf16 (bA m c) bitsLt_bf16_f32 := by
  simp only [V, hostOps0, hostOps0_1, hostOps0_2, List.flatten_cons, List.flatten_nil, List.append_nil, List.cons_append, List.nil_append,
    StableHlo.TRef.binary, StableHlo.TRef.nullary, StableHlo.TRef.unary, StableHlo.TRef.toBuf, StableHlo.TRef.ofBuf, cast_eq]
  after_results <;> rfl

theorem V_r : V m c main_v2 = truncf .bf16 (maximumf (shapeCast S4608x4096 (zA m c) shapeCasts_S2x2304x4096_S4608x4096)
      (broadcastInDim S4608x4096 ![] bcast_S_S4608x4096 (constant S_ .f32 0x00000000#32))) bitsLt_bf16_f32 := by
  simp only [V, hostOps0, hostOps0_1, hostOps0_2, List.flatten_cons, List.flatten_nil, List.append_nil, List.cons_append, List.nil_append,
    StableHlo.TRef.binary, StableHlo.TRef.nullary, StableHlo.TRef.unary, StableHlo.TRef.toBuf, StableHlo.TRef.ofBuf, cast_eq]
  after_results <;> rfl

theorem idx : ∀ t : Fin cfg0.N, win0_0.index t = ![t.val / 4, 0] ∧ win0_1.index t = ![t.val % 4, 0]
    ∧ win0_2.index t = ![t.val / 4, t.val % 4] ∧ win0_3.index t = ![t.val / 4, t.val % 4] :=
  (by decide +kernel : ∀ t : Fin grid0.N, _)

theorem points (t : Fin cfg0.N) : t.val < 12 := lt_of_lt_of_eq t.isLt N_0

/-- Row and column of an element of the blocks of grid point `t`. -/
def ti (t : Fin cfg0.N) (x : Fin 1536) : Fin 4608 := ⟨t.val / 4 * 1536 + x.val, by have := points t; omega⟩
def tj (t : Fin cfg0.N) (y : Fin 1024) : Fin 4096 := ⟨t.val % 4 * 1024 + y.val, by omega⟩

variable (t : Fin cfg0.N) (x : Fin 1536) (y : Fin 1024) (k : Fin 1024)

theorem lhs_read : (iblk m c 0 t (ix2 x k) : EReal) = lhs (gA m c) (ti t x) k := by
  unfold lhs ti
  show ((cfg0.win 0).blk t).view.read (Elt Ideal) (V m c main_v4) _ = _
  rw [V_g]
  blk_simp [idx t]
  pointwise
  blk_ext [idx t]

theorem rhs_read : (iblk m c 1 t (ix2 y k) : EReal) = bA m c (ix2 (tj t y) k) := by
  unfold tj
  show ((cfg0.win 1).blk t).view.read (Elt Ideal) (V m c main_v5) _ = _
  rw [V_b]
  blk_simp [idx t]
  pointwise
  blk_ext [idx t]

theorem rect_read : (iblk m c 2 t (ix2 x y) : EReal) = max (rows (zA m c) (ti t x) (tj t y)) 0 := by
  unfold rows ti tj
  show ((cfg0.win 2).blk t).view.read (Elt Ideal) (V m c main_v2) _ = _
  rw [V_r]
  blk_simp [idx t]
  pointwise
  refine congrArg (fun u : EReal => max u 0) ?_
  blk_ext [idx t]

theorem grad_at (a : FVec Ideal S1536x1024 .bf16) (b : FVec Ideal S1024x1024 .bf16) (r : FVec Ideal S1536x1024 .bf16) :
    (k0_pay1 (F := Ideal) a b r (ix2 x y) : EReal)
      = (∑ k, (a (ix2 x k) : EReal) * b (ix2 y k)) * (Ideal.ofBits .f32 0x40000000#32 * r (ix2 x y)) := by
  pointwise [k0_pay1]

theorem grad_part (i : S1536x1024.Idx) (y : S4608x4096.Idx) (h0 : (y 0).val = t.val / 4 * 1536 + (i 0).val)
    (h1 : (y 1).val = t.val % 4 * 1024 + (i 1).val) :
    (k0_pay1 (F := Ideal) (iblk m c 0 t) (iblk m c 1 t) (iblk m c 2 t) i : EReal) = grad (zA m c) (bA m c) (gA m c) y := by
  have h : i = ix2 (i 0) (i 1) := by idx_ext
  refine (congrArg (k0_pay1 (F := Ideal) (iblk m c 0 t) (iblk m c 1 t) (iblk m c 2 t)) h).trans ((grad_at _ _ _ _ _).trans ?_)
  have e0 : ti t (i 0) = y 0 := Fin.ext h0.symm
  have e1 : tj t (i 1) = y 1 := Fin.ext h1.symm
  refine congrArg₂ (· * ·) (Finset.sum_congr rfl fun k _ => congrArg₂ (· * ·) ?_ ?_) (congrArg _ ?_)
  · exact (lhs_read m c t _ k).trans (congrArg (lhs (gA m c) · k) e0)
  · exact (rhs_read m c t _ k).trans (congrArg (fun j => bA m c (ix2 j k)) e1)
  · exact (rect_read m c t _ _).trans (congrArg₂ (fun i j => max (rows (zA m c) i j) 0) e0 e1)

/-- The kernel's array after the run. -/
theorem final : (dats m 0 c).arrAt 3 cfg0.N = grad (zA m c) (bA m c) (gA m c) := by
  refine (dats m 0 c).arrAt_eq_of_covers 3 _ (by decide +kernel) fun t hf y => ?_
  blk_simp
  rw [after0_3]
  unfold out0_3
  frame_out
  refine grad_part m c t y _ ?_ ?_
  all_goals blk_simp [idx t]

/-- The reference's array: where it selects nought, the rectified value is nought. -/
theorem reference (z : FVec Ideal S2x2304x4096 .f32) (b : FVec Ideal S4096x1024 .f32) (g : FVec Ideal S2x2304x1024 .f32) :
    truncf .bf16 (shapeCast Cert.MlpGradReferenceIdeal.S4608x4096 (select (cmpf .ogt z (broadcastInDim Cert.MlpGradReferenceIdeal.S2x2304x4096 ![] Cert.MlpGradReferenceIdeal.Gen.bcast_S_S2x2304x4096 (constant Cert.MlpGradReferenceIdeal.S_ .f32 0x00000000#32)))
      (mulf (Host.dotGeneral Cert.MlpGradReferenceIdeal.dot_S2x2304x1024_S4096x1024_S2x2304x4096_2_1_01_0_n_n none g b)
        (mulf (broadcastInDim Cert.MlpGradReferenceIdeal.S2x2304x4096 ![] Cert.MlpGradReferenceIdeal.Gen.bcast_S_S2x2304x4096 (constant Cert.MlpGradReferenceIdeal.S_ .f32 0x40000000#32))
          (maximumf z (broadcastInDim Cert.MlpGradReferenceIdeal.S2x2304x4096 ![] Cert.MlpGradReferenceIdeal.Gen.bcast_S_S2x2304x4096 (constant Cert.MlpGradReferenceIdeal.S_ .f32 0x00000000#32)))))
      (broadcastInDim Cert.MlpGradReferenceIdeal.S2x2304x4096 ![] Cert.MlpGradReferenceIdeal.Gen.bcast_S_S2x2304x4096 (constant Cert.MlpGradReferenceIdeal.S_ .f32 0x00000000#32)))
      Cert.MlpGradReferenceIdeal.Gen.shapeCasts_S2x2304x4096_S4608x4096) Cert.MlpGradReferenceIdeal.Gen.bitsLt_bf16_f32 = grad z b g := by
  funext y
  have h : y = ix2 (y 0) (y 1) := by idx_ext
  rw [h]
  pointwise [grad, lhs, rows]
  split
  · rfl
  · next hz => rw [max_eq_right (not_lt.mp hz), mul_zero, mul_zero]

end Cert.MlpGradEq

end
-- ==== Proof.MlpInT.lean ====
/- The feed-forward block's first layer: the product, gradient with respect to the tokens. -/
module

public import proofs.«01_k».proof.Proof.Gen.MlpInTIdeal.Value
public import proofs.«01_k».proof.Proof.Gen.MlpInTReferenceIdeal.Run
public import Idealize.ShloMosaic.Lib.Pipeline.ValueKit
public import Idealize.ShloMosaic.Lib.Pointwise
public import Idealize.ShloMosaic.Lib.Pipeline.ReadBack

@[expose] public section

set_option maxRecDepth 16384

noncomputable section

namespace Cert.MlpInTEq

open Cert.MlpInTIdeal Cert.MlpInTIdeal.Gen Idealize.ShloMosaic Idealize.ShloMosaic.TcCoe Idealize.SL.Sem

/-- The left factor at a row and a summation index. -/
def lhs (a : FVec Ideal S2x2304x4096 .f32) (i : Fin 4608) (k : Fin 4096) : EReal :=
  a (ix3 ⟨i.val / 2304, by omega⟩ ⟨i.val % 2304, by omega⟩ k)

/-- The right factor at a summation index and a column. -/
def rhs (b : FVec Ideal S1024x4096 .f32) (k : Fin 4096) (j : Fin 1024) : EReal :=
  b (ix2 j k)

/-- The product at an element. -/
def prod (a : FVec Ideal S2x2304x4096 .f32) (b : FVec Ideal S1024x4096 .f32) (y : S4608x1024.Idx) : EReal :=
  ∑ k, lhs a (y 0) k * rhs b k (y 1)

variable (m : (ℓ : Loc nD τ sig) → Buf (Elt Ideal) ℓ) (c : Dev nD)

/-- The factors as arguments of the kernel. -/
abbrev aA : FVec Ideal S2x2304x4096 .f32 := m ((c : Thread nD τ).loc main_arg2)
abbrev bA : FVec Ideal S1024x4096 .f32 := m ((c : Thread nD τ).loc main_arg1)

theorem idx : ∀ t : Fin cfg0.N, win0_0.index t = ![t.val / 4, t.val % 4] ∧ win0_1.index t = ![t.val / 4 % 1, t.val % 4]
    ∧ win0_2.index t = ![t.val / 4, t.val / 4 % 1] :=
  (by decide +kernel : ∀ t : Fin grid0.N, _)

theorem points (t : Fin cfg0.N) : t.val < 12 := lt_of_lt_of_eq t.isLt N_0

/-- Row, column and summation index of an element of the blocks of grid point `t`. -/
def ti (t : Fin cfg0.N) (x : Fin 1536) : Fin 4608 := ⟨t.val / 4 * 1536 + x.val, by have := points t; omega⟩
def tj (t : Fin cfg0.N) (y : Fin 1024) : Fin 1024 := ⟨t.val / 4 % 1 * 1024 + y.val, by omega⟩
def tk (t : Fin cfg0.N) (k : Fin 1024) : Fin 4096 := ⟨t.val % 4 * 1024 + k.val, by omega⟩

variable (t : Fin cfg0.N) (x : Fin 1536) (y : Fin 1024) (k : Fin 1024)

theorem lhs_read : (iblk m c 0 t (ix2 x k) : EReal) = lhs (aA m c) (ti t x) (tk t k) := by
  unfold lhs ti tk
  blk_point [iblk, V, idx t]

theorem rhs_read : (iblk m c 1 t (ix2 y k) : EReal) = rhs (bA m c) (tk t k) (tj t y) := by
  unfold rhs tk tj
  blk_point [iblk, V, idx t]

/-- What one grid point adds to an element of its block. -/
def part (t : Fin cfg0.N) (i : S1536x1024.Idx) : EReal :=
  ∑ k, lhs (aA m c) (ti t (i 0)) (tk t k) * rhs (bA m c) (tk t k) (tj t (i 1))

theorem product_at (a : FVec Ideal S1536x1024 .bf16) (b : FVec Ideal S1024x1024 .bf16) :
    (k0_pay1 (F := Ideal) a b (ix2 x y) : EReal) = ∑ k, (a (ix2 x k) : EReal) * b (ix2 y k) := by
  pointwise [k0_pay1]

theorem product_part (i : S1536x1024.Idx) : (k0_pay1 (F := Ideal) (iblk m c 0 t) (iblk m c 1 t) i : EReal) = part m c t i := by
  have h : i = ix2 (i 0) (i 1) := by idx_ext
  refine (congrArg (k0_pay1 (F := Ideal) (iblk m c 0 t) (iblk m c 1 t)) h).trans ((product_at _ _ _ _).trans ?_)
  exact Finset.sum_congr rfl fun k _ => congrArg₂ (· * ·) (lhs_read m c t _ k) (rhs_read m c t _ k)

theorem first_at (i : S1536x1024.Idx) : (k0_pay2 (F := Ideal) (iblk m c 0 t) (iblk m c 1 t) i : EReal) = 0 + part m c t i := by
  rw [zero_add, ← product_part]
  pointwise [k0_pay2]

theorem next_at (o : FVec Ideal S1536x1024 .f32) (i : S1536x1024.Idx) :
    (k0_pay3 (F := Ideal) (iblk m c 0 t) (iblk m c 1 t) o i : EReal) = (o i : EReal) + part m c t i := by
  rw [← product_part]
  pointwise [k0_pay3]

theorem last_at (o : FVec Ideal S1536x1024 .f32) (i : S1536x1024.Idx) :
    (k0_pay4 (F := Ideal) (iblk m c 0 t) (iblk m c 1 t) o i : EReal) = (o i : EReal) + part m c t i := by
  rw [← product_part]
  pointwise [k0_pay4]

/-- What is accumulated after point `n`: in the scratch, and at a run's last point in the output block. -/
def acc (n : ℕ) (h : n < cfg0.N) (i : S1536x1024.Idx) : EReal :=
  if n % 4 = 3 then ((outsAt0 m c n h).1 i : EReal) else (outsAt0 m c n h).2 i

theorem acc_first (h : t.val % 4 = 0) (i : S1536x1024.Idx) : acc m c t.val t.isLt i = 0 + part m c t i := by
  rw [acc, if_neg (by omega), outsAt0_A m c t h (by omega) (by omega)]
  frame_out
  exact first_at m c t i

theorem acc_step (h : ¬t.val % 4 = 0) (i : S1536x1024.Idx) :
    acc m c t.val t.isLt i = acc m c (t.val - 1) (Nat.lt_of_le_of_lt (Nat.sub_le _ _) t.isLt) i + part m c t i := by
  rw [acc, acc, if_neg (show ¬(t.val - 1) % 4 = 3 by omega)]
  by_cases h' : t.val % 4 = 3
  · rw [if_pos h', outsAt0_C m c t h (by omega) h']
    frame_out
    rw [read_unread_whole]
    exact last_at m c t _ i
  · rw [if_neg h', outsAt0_B m c t h (by omega) h']
    frame_out
    rw [read_unread_whole]
    exact next_at m c t _ i

theorem sum_parts (ht : ∀ j : Fin 4, 4 * (t.val / 4) + j.val < cfg0.N) (i : S1536x1024.Idx) (y : S4608x1024.Idx)
    (h0 : (y 0).val = t.val / 4 * 1536 + (i 0).val) (h1 : (y 1).val = t.val / 4 % 1 * 1024 + (i 1).val) :
    ∑ j : Fin 4, part m c ⟨4 * (t.val / 4) + j.val, ht j⟩ i = prod (aA m c) (bA m c) y := by
  unfold prod
  rw [Fin.sum_univ_tiles 4 1024 rfl]
  refine Finset.sum_congr rfl fun j _ => Finset.sum_congr rfl fun k _ => ?_
  have hj := j.isLt
  refine congrArg₂ (· * ·) (congrArg₂ _ (Fin.ext ?_) (Fin.ext ?_)) (congrArg₂ _ (Fin.ext ?_) (Fin.ext ?_))
  · show (4 * (t.val / 4) + j.val) / 4 * 1536 + (i 0).val = (y 0).val
    omega
  · show (4 * (t.val / 4) + j.val) % 4 * 1024 + k.val = j.val * 1024 + k.val
    omega
  · show (4 * (t.val / 4) + j.val) % 4 * 1024 + k.val = j.val * 1024 + k.val
    omega
  · show (4 * (t.val / 4) + j.val) / 4 % 1 * 1024 + (i 1).val = (y 1).val
    omega

/-- The kernel's array after the run. -/
theorem final : (dats m 0 c).arrAt 2 cfg0.N = prod (aA m c) (bA m c) := by
  refine (dats m 0 c).arrAt_eq_of_covers 2 _ (by decide +kernel) fun t hf y => ?_
  have hl := (flush0_2 t).mp hf
  blk_simp
  rw [after0_2]
  have e := Pipeline.eq_sum_fin_of_reset_step_apply_of_flush (M := EReal) (acc m c) 4 (fun _ => 0) (part m c)
    (acc_first m c) (acc_step m c) t hl
  refine Eq.trans ?_ ((e y).trans ((zero_add _).trans (sum_parts m c t (Pipeline.run_point_lt_of_flush t hl) y _ ?_ ?_)))
  · rw [acc, if_pos hl]
  · blk_simp [idx t]
  · blk_simp [idx t]

/-- The reference's array. -/
theorem reference (a : FVec Ideal S2x2304x4096 .f32) (b : FVec Ideal S1024x4096 .f32) :
    shapeCast Cert.MlpInTReferenceIdeal.S4608x1024 (Host.dotGeneral Cert.MlpInTReferenceIdeal.dot_S2x2304x4096_S1024x4096_S2x2304x1024_2_1_01_0_n_n none a b)
      Cert.MlpInTReferenceIdeal.Gen.shapeCasts_S2x2304x1024_S4608x1024 = prod a b := by
  funext y
  have h : y = ix2 (y 0) (y 1) := by idx_ext
  rw [h]
  pointwise [prod, lhs, rhs]

end Cert.MlpInTEq

end
-- ==== Proof.MlpInW.lean ====
/- The feed-forward block's first layer: the product, gradient with respect to the weights. -/
module

public import proofs.«01_k».proof.Proof.Gen.MlpInWIdeal.Value
public import proofs.«01_k».proof.Proof.Gen.MlpInWReferenceIdeal.Run
public import Idealize.ShloMosaic.Lib.Pipeline.ValueKit
public import Idealize.ShloMosaic.Lib.Pointwise
public import Idealize.ShloMosaic.Lib.Pipeline.ReadBack

@[expose] public section

set_option maxRecDepth 16384

noncomputable section

namespace Cert.MlpInWEq

open Cert.MlpInWIdeal Cert.MlpInWIdeal.Gen Idealize.ShloMosaic Idealize.ShloMosaic.TcCoe Idealize.SL.Sem

/-- The left factor at a row and a summation index. -/
def lhs (a : FVec Ideal S2x2304x1024 .f32) (i : Fin 1024) (k : Fin 4608) : EReal :=
  a (ix3 ⟨k.val / 2304, by omega⟩ ⟨k.val % 2304, by omega⟩ i)

/-- The right factor at a summation index and a column. -/
def rhs (b : FVec Ideal S2x2304x4096 .f32) (k : Fin 4608) (j : Fin 4096) : EReal :=
  b (ix3 ⟨k.val / 2304, by omega⟩ ⟨k.val % 2304, by omega⟩ j)

/-- The product at an element. -/
def prod (a : FVec Ideal S2x2304x1024 .f32) (b : FVec Ideal S2x2304x4096 .f32) (y : S1024x4096.Idx) : EReal :=
  ∑ k, lhs a (y 0) k * rhs b k (y 1)

variable (m : (ℓ : Loc nD τ sig) → Buf (Elt Ideal) ℓ) (c : Dev nD)

/-- The factors as arguments of the kernel. -/
abbrev aA : FVec Ideal S2x2304x1024 .f32 := m ((c : Thread nD τ).loc main_arg0)
abbrev bA : FVec Ideal S2x2304x4096 .f32 := m ((c : Thread nD τ).loc main_arg2)

theorem idx : ∀ t : Fin cfg0.N, win0_0.index t = ![t.val % 3, t.val / 12] ∧ win0_1.index t = ![t.val % 3, t.val / 3 % 4]
    ∧ win0_2.index t = ![t.val / 12, t.val / 3 % 4] :=
  (by decide +kernel : ∀ t : Fin grid0.N, _)

theorem points (t : Fin cfg0.N) : t.val < 12 := lt_of_lt_of_eq t.isLt N_0

/-- Row, column and summation index of an element of the blocks of grid point `t`. -/
def ti (t : Fin cfg0.N) (x : Fin 1024) : Fin 1024 := ⟨t.val / 12 * 1024 + x.val, by have := points t; omega⟩
def tj (t : Fin cfg0.N) (y : Fin 1024) : Fin 4096 := ⟨t.val / 3 % 4 * 1024 + y.val, by omega⟩
def tk (t : Fin cfg0.N) (k : Fin 1536) : Fin 4608 := ⟨t.val % 3 * 1536 + k.val, by omega⟩

variable (t : Fin cfg0.N) (x : Fin 1024) (y : Fin 1024) (k : Fin 1536)

theorem lhs_read : (iblk m c 0 t (ix2 k x) : EReal) = lhs (aA m c) (ti t x) (tk t k) := by
  unfold lhs ti tk
  blk_point [iblk, V, idx t]

theorem rhs_read : (iblk m c 1 t (ix2 k y) : EReal) = rhs (bA m c) (tk t k) (tj t y) := by
  unfold rhs tk tj
  blk_point [iblk, V, idx t]

/-- What one grid point adds to an element of its block. -/
def part (t : Fin cfg0.N) (i : S1024x1024.Idx) : EReal :=
  ∑ k, lhs (aA m c) (ti t (i 0)) (tk t k) * rhs (bA m c) (tk t k) (tj t (i 1))

theorem product_at (a : FVec Ideal S1536x1024 .bf16) (b : FVec Ideal S1536x1024 .bf16) :
    (k0_pay1 (F := Ideal) a b (ix2 x y) : EReal) = ∑ k, (a (ix2 k x) : EReal) * b (ix2 k y) := by
  pointwise [k0_pay1]

theorem product_part (i : S1024x1024.Idx) : (k0_pay1 (F := Ideal) (iblk m c 0 t) (iblk m c 1 t) i : EReal) = part m c t i := by
  have h : i = ix2 (i 0) (i 1) := by idx_ext
  refine (congrArg (k0_pay1 (F := Ideal) (iblk m c 0 t) (iblk m c 1 t)) h).trans ((product_at _ _ _ _).trans ?_)
  exact Finset.sum_congr rfl fun k _ => congrArg₂ (· * ·) (lhs_read m c t _ k) (rhs_read m c t _ k)

theorem first_at (i : S1024x1024.Idx) : (k0_pay2 (F := Ideal) (iblk m c 0 t) (iblk m c 1 t) i : EReal) = 0 + part m c t i := by
  rw [zero_add, ← product_part]
  pointwise [k0_pay2]

theorem next_at (o : FVec Ideal S1024x1024 .f32) (i : S1024x1024.Idx) :
    (k0_pay3 (F := Ideal) (iblk m c 0 t) (iblk m c 1 t) o i : EReal) = (o i : EReal) + part m c t i := by
  rw [← product_part]
  pointwise [k0_pay3]

theorem last_at (o : FVec Ideal S1024x1024 .f32) (i : S1024x1024.Idx) :
    (k0_pay4 (F := Ideal) (iblk m c 0 t) (iblk m c 1 t) o i : EReal) = (o i : EReal) + part m c t i := by
  rw [← product_part]
  pointwise [k0_pay4]

/-- What is accumulated after point `n`: in the scratch, and at a run's last point in the output block. -/
def acc (n : ℕ) (h : n < cfg0.N) (i : S1024x1024.Idx) : EReal :=
  if n % 3 = 2 then ((outsAt0 m c n h).1 i : EReal) else (outsAt0 m c n h).2 i

theorem acc_first (h : t.val % 3 = 0) (i : S1024x1024.Idx) : acc m c t.val t.isLt i = 0 + part m c t i := by
  rw [acc, if_neg (by omega), outsAt0_A m c t h (by omega) (by omega)]
  frame_out
  exact first_at m c t i

theorem acc_step (h : ¬t.val % 3 = 0) (i : S1024x1024.Idx) :
    acc m c t.val t.isLt i = acc m c (t.val - 1) (Nat.lt_of_le_of_lt (Nat.sub_le _ _) t.isLt) i + part m c t i := by
  rw [acc, acc, if_neg (show ¬(t.val - 1) % 3 = 2 by omega)]
  by_cases h' : t.val % 3 = 2
  · rw [if_pos h', outsAt0_C m c t h (by omega) h']
    frame_out
    rw [read_unread_whole]
    exact last_at m c t _ i
  · rw [if_neg h', outsAt0_B m c t h (by omega) h']
    frame_out
    rw [read_unread_whole]
    exact next_at m c t _ i

theorem sum_parts (ht : ∀ j : Fin 3, 3 * (t.val / 3) + j.val < cfg0.N) (i : S1024x1024.Idx) (y : S1024x4096.Idx)
    (h0 : (y 0).val = t.val / 12 * 1024 + (i 0).val) (h1 : (y 1).val = t.val / 3 % 4 * 1024 + (i 1).val) :
    ∑ j : Fin 3, part m c ⟨3 * (t.val / 3) + j.val, ht j⟩ i = prod (aA m c) (bA m c) y := by
  unfold prod
  rw [Fin.sum_univ_tiles 3 1536 rfl]
  refine Finset.sum_congr rfl fun j _ => Finset.sum_congr rfl fun k _ => ?_
  have hj := j.isLt
  refine congrArg₂ (· * ·) (congrArg₂ _ (Fin.ext ?_) (Fin.ext ?_)) (congrArg₂ _ (Fin.ext ?_) (Fin.ext ?_))
  · show (3 * (t.val / 3) + j.val) / 12 * 1024 + (i 0).val = (y 0).val
    omega
  · show (3 * (t.val / 3) + j.val) % 3 * 1536 + k.val = j.val * 1536 + k.val
    omega
  · show (3 * (t.val / 3) + j.val) % 3 * 1536 + k.val = j.val * 1536 + k.val
    omega
  · show (3 * (t.val / 3) + j.val) / 3 % 4 * 1024 + (i 1).val = (y 1).val
    omega

/-- The kernel's array after the run. -/
theorem final : (dats m 0 c).arrAt 2 cfg0.N = prod (aA m c) (bA m c) := by
  refine (dats m 0 c).arrAt_eq_of_covers 2 _ (by decide +kernel) fun t hf y => ?_
  have hl := (flush0_2 t).mp hf
  blk_simp
  rw [after0_2]
  have e := Pipeline.eq_sum_fin_of_reset_step_apply_of_flush (M := EReal) (acc m c) 3 (fun _ => 0) (part m c)
    (acc_first m c) (acc_step m c) t hl
  refine Eq.trans ?_ ((e y).trans ((zero_add _).trans (sum_parts m c t (Pipeline.run_point_lt_of_flush t hl) y _ ?_ ?_)))
  · rw [acc, if_pos hl]
  · blk_simp [idx t]
  · blk_simp [idx t]

/-- The reference's array: its sum over the two sequences and their positions is one sum over the rows. -/
theorem reference (a : FVec Ideal S2x2304x1024 .f32) (b : FVec Ideal S2x2304x4096 .f32) :
    truncf .bf16 (transpose Cert.MlpInWReferenceIdeal.S1024x4096 [1, 0] (Host.dotGeneral Cert.MlpInWReferenceIdeal.dot_S2x2304x4096_S2x2304x1024_S4096x1024_01_01_2_2_n_n none b a)
      Cert.MlpInWReferenceIdeal.Gen.transposes_S4096x1024_S1024x4096_1_0) Cert.MlpInWReferenceIdeal.Gen.bitsLt_bf16_f32 = prod a b := by
  funext y
  have h : y = ix2 (y 0) (y 1) := by idx_ext
  rw [h]
  unfold prod
  rw [Fin.sum_univ_tiles 2 2304 rfl]
  pointwise [lhs, rhs]
  refine Finset.sum_congr rfl fun q _ => Finset.sum_congr rfl fun k _ => (mul_comm _ _).trans ?_
  have hk := k.isLt
  have h1 : (⟨(q.val * 2304 + k.val) / 2304, by omega⟩ : Fin 2) = q := Fin.ext (show (q.val * 2304 + k.val) / 2304 = q.val by omega)
  have h2 : (⟨(q.val * 2304 + k.val) % 2304, by omega⟩ : Fin 2304) = k := Fin.ext (show (q.val * 2304 + k.val) % 2304 = k.val by omega)
  exact (congrArg₂ (fun u v => a (ix3 u v (y 0)) * b (ix3 u v (y 1))) h1 h2).symm

end Cert.MlpInWEq

end
-- ==== Proof.MlpOut.lean ====
/- The feed-forward block's second layer: the product, forward. -/
module

public import proofs.«01_k».proof.Proof.Gen.MlpOutIdeal.Value
public import proofs.«01_k».proof.Proof.Gen.MlpOutReferenceIdeal.Run
public import Idealize.ShloMosaic.Lib.Pipeline.ValueKit
public import Idealize.ShloMosaic.Lib.Pointwise
public import Idealize.ShloMosaic.Lib.Pipeline.ReadBack

@[expose] public section

set_option maxRecDepth 16384

noncomputable section

namespace Cert.MlpOutEq

open Cert.MlpOutIdeal Cert.MlpOutIdeal.Gen Idealize.ShloMosaic Idealize.ShloMosaic.TcCoe Idealize.SL.Sem

/-- The left factor at a row and a summation index. -/
def lhs (a : FVec Ideal S2x2304x4096 .f32) (i : Fin 4608) (k : Fin 4096) : EReal :=
  a (ix3 ⟨i.val / 2304, by omega⟩ ⟨i.val % 2304, by omega⟩ k)

/-- The right factor at a summation index and a column. -/
def rhs (b : FVec Ideal S4096x1024 .f32) (k : Fin 4096) (j : Fin 1024) : EReal :=
  b (ix2 k j)

/-- The product at an element. -/
def prod (a : FVec Ideal S2x2304x4096 .f32) (b : FVec Ideal S4096x1024 .f32) (y : S4608x1024.Idx) : EReal :=
  ∑ k, lhs a (y 0) k * rhs b k (y 1)

variable (m : (ℓ : Loc nD τ sig) → Buf (Elt Ideal) ℓ) (c : Dev nD)

/-- The factors as arguments of the kernel. -/
abbrev aA : FVec Ideal S2x2304x4096 .f32 := m ((c : Thread nD τ).loc main_arg0)
abbrev bA : FVec Ideal S4096x1024 .f32 := m ((c : Thread nD τ).loc main_arg1)

theorem idx : ∀ t : Fin cfg0.N, win0_0.index t = ![t.val / 4, t.val % 4] ∧ win0_1.index t = ![t.val % 4, t.val / 4 % 1]
    ∧ win0_2.index t = ![t.val / 4, t.val / 4 % 1] :=
  (by decide +kernel : ∀ t : Fin grid0.N, _)

theorem points (t : Fin cfg0.N) : t.val < 12 := lt_of_lt_of_eq t.isLt N_0

/-- Row, column and summation index of an element of the blocks of grid point `t`. -/
def ti (t : Fin cfg0.N) (x : Fin 1536) : Fin 4608 := ⟨t.val / 4 * 1536 + x.val, by have := points t; omega⟩
def tj (t : Fin cfg0.N) (y : Fin 1024) : Fin 1024 := ⟨t.val / 4 % 1 * 1024 + y.val, by omega⟩
def tk (t : Fin cfg0.N) (k : Fin 1024) : Fin 4096 := ⟨t.val % 4 * 1024 + k.val, by omega⟩

variable (t : Fin cfg0.N) (x : Fin 1536) (y : Fin 1024) (k : Fin 1024)

theorem lhs_read : (iblk m c 0 t (ix2 x k) : EReal) = lhs (aA m c) (ti t x) (tk t k) := by
  unfold lhs ti tk
  blk_point [iblk, V, idx t]

theorem rhs_read : (iblk m c 1 t (ix2 k y) : EReal) = rhs (bA m c) (tk t k) (tj t y) := by
  unfold rhs tk tj
  blk_point [iblk, V, idx t]

/-- What one grid point adds to an element of its block. -/
def part (t : Fin cfg0.N) (i : S1536x1024.Idx) : EReal :=
  ∑ k, lhs (aA m c) (ti t (i 0)) (tk t k) * rhs (bA m c) (tk t k) (tj t (i 1))

theorem product_at (a : FVec Ideal S1536x1024 .bf16) (b : FVec Ideal S1024x1024 .bf16) :
    (k0_pay1 (F := Ideal) a b (ix2 x y) : EReal) = ∑ k, (a (ix2 x k) : EReal) * b (ix2 k y) := by
  pointwise [k0_pay1]

theorem product_part (i : S1536x1024.Idx) : (k0_pay1 (F := Ideal) (iblk m c 0 t) (iblk m c 1 t) i : EReal) = part m c t i := by
  have h : i = ix2 (i 0) (i 1) := by idx_ext
  refine (congrArg (k0_pay1 (F := Ideal) (iblk m c 0 t) (iblk m c 1 t)) h).trans ((product_at _ _ _ _).trans ?_)
  exact Finset.sum_congr rfl fun k _ => congrArg₂ (· * ·) (lhs_read m c t _ k) (rhs_read m c t _ k)

theorem first_at (i : S1536x1024.Idx) : (k0_pay2 (F := Ideal) (iblk m c 0 t) (iblk m c 1 t) i : EReal) = 0 + part m c t i := by
  rw [zero_add, ← product_part]
  pointwise [k0_pay2]

theorem next_at (o : FVec Ideal S1536x1024 .f32) (i : S1536x1024.Idx) :
    (k0_pay3 (F := Ideal) (iblk m c 0 t) (iblk m c 1 t) o i : EReal) = (o i : EReal) + part m c t i := by
  rw [← product_part]
  pointwise [k0_pay3]

theorem last_at (o : FVec Ideal S1536x1024 .f32) (i : S1536x1024.Idx) :
    (k0_pay4 (F := Ideal) (iblk m c 0 t) (iblk m c 1 t) o i : EReal) = (o i : EReal) + part m c t i := by
  rw [← product_part]
  pointwise [k0_pay4]

/-- What is accumulated after point `n`: in the scratch, and at a run's last point in the output block. -/
def acc (n : ℕ) (h : n < cfg0.N) (i : S1536x1024.Idx) : EReal :=
  if n % 4 = 3 then ((outsAt0 m c n h).1 i : EReal) else (outsAt0 m c n h).2 i

theorem acc_first (h : t.val % 4 = 0) (i : S1536x1024.Idx) : acc m c t.val t.isLt i = 0 + part m c t i := by
  rw [acc, if_neg (by omega), outsAt0_A m c t h (by omega) (by omega)]
  frame_out
  exact first_at m c t i

theorem acc_step (h : ¬t.val % 4 = 0) (i : S1536x1024.Idx) :
    acc m c t.val t.isLt i = acc m c (t.val - 1) (Nat.lt_of_le_of_lt (Nat.sub_le _ _) t.isLt) i + part m c t i := by
  rw [acc, acc, if_neg (show ¬(t.val - 1) % 4 = 3 by omega)]
  by_cases h' : t.val % 4 = 3
  · rw [if_pos h', outsAt0_C m c t h (by omega) h']
    frame_out
    rw [read_unread_whole]
    exact last_at m c t _ i
  · rw [if_neg h', outsAt0_B m c t h (by omega) h']
    frame_out
    rw [read_unread_whole]
    exact next_at m c t _ i

theorem sum_parts (ht : ∀ j : Fin 4, 4 * (t.val / 4) + j.val < cfg0.N) (i : S1536x1024.Idx) (y : S4608x1024.Idx)
    (h0 : (y 0).val = t.val / 4 * 1536 + (i 0).val) (h1 : (y 1).val = t.val / 4 % 1 * 1024 + (i 1).val) :
    ∑ j : Fin 4, part m c ⟨4 * (t.val / 4) + j.val, ht j⟩ i = prod (aA m c) (bA m c) y := by
  unfold prod
  rw [Fin.sum_univ_tiles 4 1024 rfl]
  refine Finset.sum_congr rfl fun j _ => Finset.sum_congr rfl fun k _ => ?_
  have hj := j.isLt
  refine congrArg₂ (· * ·) (congrArg₂ _ (Fin.ext ?_) (Fin.ext ?_)) (congrArg₂ _ (Fin.ext ?_) (Fin.ext ?_))
  · show (4 * (t.val / 4) + j.val) / 4 * 1536 + (i 0).val = (y 0).val
    omega
  · show (4 * (t.val / 4) + j.val) % 4 * 1024 + k.val = j.val * 1024 + k.val
    omega
  · show (4 * (t.val / 4) + j.val) % 4 * 1024 + k.val = j.val * 1024 + k.val
    omega
  · show (4 * (t.val / 4) + j.val) / 4 % 1 * 1024 + (i 1).val = (y 1).val
    omega

/-- The kernel's array after the run. -/
theorem final : (dats m 0 c).arrAt 2 cfg0.N = prod (aA m c) (bA m c) := by
  refine (dats m 0 c).arrAt_eq_of_covers 2 _ (by decide +kernel) fun t hf y => ?_
  have hl := (flush0_2 t).mp hf
  blk_simp
  rw [after0_2]
  have e := Pipeline.eq_sum_fin_of_reset_step_apply_of_flush (M := EReal) (acc m c) 4 (fun _ => 0) (part m c)
    (acc_first m c) (acc_step m c) t hl
  refine Eq.trans ?_ ((e y).trans ((zero_add _).trans (sum_parts m c t (Pipeline.run_point_lt_of_flush t hl) y _ ?_ ?_)))
  · rw [acc, if_pos hl]
  · blk_simp [idx t]
  · blk_simp [idx t]

/-- The reference's array. -/
theorem reference (a : FVec Ideal S2x2304x4096 .f32) (b : FVec Ideal S4096x1024 .f32) :
    shapeCast Cert.MlpOutReferenceIdeal.S4608x1024 (Host.dotGeneral Cert.MlpOutReferenceIdeal.dot_S2x2304x4096_S4096x1024_S2x2304x1024_2_0_01_1_n_n none a b)
      Cert.MlpOutReferenceIdeal.Gen.shapeCasts_S2x2304x1024_S4608x1024 = prod a b := by
  funext y
  have h : y = ix2 (y 0) (y 1) := by idx_ext
  rw [h]
  pointwise [prod, lhs, rhs]

end Cert.MlpOutEq

end
-- ==== Proof.MlpOutW.lean ====
/- The feed-forward block's second layer: the product, gradient with respect to the weights. -/
module

public import proofs.«01_k».proof.Proof.Gen.MlpOutWIdeal.Value
public import proofs.«01_k».proof.Proof.Gen.MlpOutWReferenceIdeal.Run
public import Idealize.ShloMosaic.Lib.Pipeline.ValueKit
public import Idealize.ShloMosaic.Lib.Pointwise
public import Idealize.ShloMosaic.Lib.Pipeline.ReadBack

@[expose] public section

set_option maxRecDepth 16384

noncomputable section

namespace Cert.MlpOutWEq

open Cert.MlpOutWIdeal Cert.MlpOutWIdeal.Gen Idealize.ShloMosaic Idealize.ShloMosaic.TcCoe Idealize.SL.Sem

/-- The left factor at a row and a summation index. -/
def lhs (a : FVec Ideal S2x2304x4096 .f32) (i : Fin 4096) (k : Fin 4608) : EReal :=
  a (ix3 ⟨k.val / 2304, by omega⟩ ⟨k.val % 2304, by omega⟩ i)

/-- The right factor at a summation index and a column. -/
def rhs (b : FVec Ideal S2x2304x1024 .f32) (k : Fin 4608) (j : Fin 1024) : EReal :=
  b (ix3 ⟨k.val / 2304, by omega⟩ ⟨k.val % 2304, by omega⟩ j)

/-- The product at an element. -/
def prod (a : FVec Ideal S2x2304x4096 .f32) (b : FVec Ideal S2x2304x1024 .f32) (y : S4096x1024.Idx) : EReal :=
  ∑ k, lhs a (y 0) k * rhs b k (y 1)

variable (m : (ℓ : Loc nD τ sig) → Buf (Elt Ideal) ℓ) (c : Dev nD)

/-- The factors as arguments of the kernel. -/
abbrev aA : FVec Ideal S2x2304x4096 .f32 := m ((c : Thread nD τ).loc main_arg0)
abbrev bA : FVec Ideal S2x2304x1024 .f32 := m ((c : Thread nD τ).loc main_arg2)

theorem idx : ∀ t : Fin cfg0.N, win0_0.index t = ![t.val % 3, t.val / 3] ∧ win0_1.index t = ![t.val % 3, t.val / 3 % 1]
    ∧ win0_2.index t = ![t.val / 3, t.val / 3 % 1] :=
  (by decide +kernel : ∀ t : Fin grid0.N, _)

theorem points (t : Fin cfg0.N) : t.val < 12 := lt_of_lt_of_eq t.isLt N_0

/-- Row, column and summation index of an element of the blocks of grid point `t`. -/
def ti (t : Fin cfg0.N) (x : Fin 1024) : Fin 4096 := ⟨t.val / 3 * 1024 + x.val, by have := points t; omega⟩
def tj (t : Fin cfg0.N) (y : Fin 1024) : Fin 1024 := ⟨t.val / 3 % 1 * 1024 + y.val, by omega⟩
def tk (t : Fin cfg0.N) (k : Fin 1536) : Fin 4608 := ⟨t.val % 3 * 1536 + k.val, by omega⟩

variable (t : Fin cfg0.N) (x : Fin 1024) (y : Fin 1024) (k : Fin 1536)

theorem lhs_read : (iblk m c 0 t (ix2 k x) : EReal) = lhs (aA m c) (ti t x) (tk t k) := by
  unfold lhs ti tk
  blk_point [iblk, V, idx t]

theorem rhs_read : (iblk m c 1 t (ix2 k y) : EReal) = rhs (bA m c) (tk t k) (tj t y) := by
  unfold rhs tk tj
  blk_point [iblk, V, idx t]

/-- What one grid point adds to an element of its block. -/
def part (t : Fin cfg0.N) (i : S1024x1024.Idx) : EReal :=
  ∑ k, lhs (aA m c) (ti t (i 0)) (tk t k) * rhs (bA m c) (tk t k) (tj t (i 1))

theorem product_at (a : FVec Ideal S1536x1024 .bf16) (b : FVec Ideal S1536x1024 .bf16) :
    (k0_pay1 (F := Ideal) a b (ix2 x y) : EReal) = ∑ k, (a (ix2 k x) : EReal) * b (ix2 k y) := by
  pointwise [k0_pay1]

theorem product_part (i : S1024x1024.Idx) : (k0_pay1 (F := Ideal) (iblk m c 0 t) (iblk m c 1 t) i : EReal) = part m c t i := by
  have h : i = ix2 (i 0) (i 1) := by idx_ext
  refine (congrArg (k0_pay1 (F := Ideal) (iblk m c 0 t) (iblk m c 1 t)) h).trans ((product_at _ _ _ _).trans ?_)
  exact Finset.sum_congr rfl fun k _ => congrArg₂ (· * ·) (lhs_read m c t _ k) (rhs_read m c t _ k)

theorem first_at (i : S1024x1024.Idx) : (k0_pay2 (F := Ideal) (iblk m c 0 t) (iblk m c 1 t) i : EReal) = 0 + part m c t i := by
  rw [zero_add, ← product_part]
  pointwise [k0_pay2]

theorem next_at (o : FVec Ideal S1024x1024 .f32) (i : S1024x1024.Idx) :
    (k0_pay3 (F := Ideal) (iblk m c 0 t) (iblk m c 1 t) o i : EReal) = (o i : EReal) + part m c t i := by
  rw [← product_part]
  pointwise [k0_pay3]

theorem last_at (o : FVec Ideal S1024x1024 .f32) (i : S1024x1024.Idx) :
    (k0_pay4 (F := Ideal) (iblk m c 0 t) (iblk m c 1 t) o i : EReal) = (o i : EReal) + part m c t i := by
  rw [← product_part]
  pointwise [k0_pay4]

/-- What is accumulated after point `n`: in the scratch, and at a run's last point in the output block. -/
def acc (n : ℕ) (h : n < cfg0.N) (i : S1024x1024.Idx) : EReal :=
  if n % 3 = 2 then ((outsAt0 m c n h).1 i : EReal) else (outsAt0 m c n h).2 i

theorem acc_first (h : t.val % 3 = 0) (i : S1024x1024.Idx) : acc m c t.val t.isLt i = 0 + part m c t i := by
  rw [acc, if_neg (by omega), outsAt0_A m c t h (by omega) (by omega)]
  frame_out
  exact first_at m c t i

theorem acc_step (h : ¬t.val % 3 = 0) (i : S1024x1024.Idx) :
    acc m c t.val t.isLt i = acc m c (t.val - 1) (Nat.lt_of_le_of_lt (Nat.sub_le _ _) t.isLt) i + part m c t i := by
  rw [acc, acc, if_neg (show ¬(t.val - 1) % 3 = 2 by omega)]
  by_cases h' : t.val % 3 = 2
  · rw [if_pos h', outsAt0_C m c t h (by omega) h']
    frame_out
    rw [read_unread_whole]
    exact last_at m c t _ i
  · rw [if_neg h', outsAt0_B m c t h (by omega) h']
    frame_out
    rw [read_unread_whole]
    exact next_at m c t _ i

theorem sum_parts (ht : ∀ j : Fin 3, 3 * (t.val / 3) + j.val < cfg0.N) (i : S1024x1024.Idx) (y : S4096x1024.Idx)
    (h0 : (y 0).val = t.val / 3 * 1024 + (i 0).val) (h1 : (y 1).val = t.val / 3 % 1 * 1024 + (i 1).val) :
    ∑ j : Fin 3, part m c ⟨3 * (t.val / 3) + j.val, ht j⟩ i = prod (aA m c) (bA m c) y := by
  unfold prod
  rw [Fin.sum_univ_tiles 3 1536 rfl]
  refine Finset.sum_congr rfl fun j _ => Finset.sum_congr rfl fun k _ => ?_
  have hj := j.isLt
  refine congrArg₂ (· * ·) (congrArg₂ _ (Fin.ext ?_) (Fin.ext ?_)) (congrArg₂ _ (Fin.ext ?_) (Fin.ext ?_))
  · show (3 * (t.val / 3) + j.val) / 3 * 1024 + (i 0).val = (y 0).val
    omega
  · show (3 * (t.val / 3) + j.val) % 3 * 1536 + k.val = j.val * 1536 + k.val
    omega
  · show (3 * (t.val / 3) + j.val) % 3 * 1536 + k.val = j.val * 1536 + k.val
    omega
  · show (3 * (t.val / 3) + j.val) / 3 % 1 * 1024 + (i 1).val = (y 1).val
    omega

/-- The kernel's array after the run. -/
theorem final : (dats m 0 c).arrAt 2 cfg0.N = prod (aA m c) (bA m c) := by
  refine (dats m 0 c).arrAt_eq_of_covers 2 _ (by decide +kernel) fun t hf y => ?_
  have hl := (flush0_2 t).mp hf
  blk_simp
  rw [after0_2]
  have e := Pipeline.eq_sum_fin_of_reset_step_apply_of_flush (M := EReal) (acc m c) 3 (fun _ => 0) (part m c)
    (acc_first m c) (acc_step m c) t hl
  refine Eq.trans ?_ ((e y).trans ((zero_add _).trans (sum_parts m c t (Pipeline.run_point_lt_of_flush t hl) y _ ?_ ?_)))
  · rw [acc, if_pos hl]
  · blk_simp [idx t]
  · blk_simp [idx t]

/-- The reference's array: its sum over the two sequences and their positions is one sum over the rows. -/
theorem reference (a : FVec Ideal S2x2304x4096 .f32) (b : FVec Ideal S2x2304x1024 .f32) :
    truncf .bf16 (transpose Cert.MlpOutWReferenceIdeal.S4096x1024 [1, 0] (Host.dotGeneral Cert.MlpOutWReferenceIdeal.dot_S2x2304x1024_S2x2304x4096_S1024x4096_01_01_2_2_n_n none b a)
      Cert.MlpOutWReferenceIdeal.Gen.transposes_S1024x4096_S4096x1024_1_0) Cert.MlpOutWReferenceIdeal.Gen.bitsLt_bf16_f32 = prod a b := by
  funext y
  have h : y = ix2 (y 0) (y 1) := by idx_ext
  rw [h]
  unfold prod
  rw [Fin.sum_univ_tiles 2 2304 rfl]
  pointwise [lhs, rhs]
  refine Finset.sum_congr rfl fun q _ => Finset.sum_congr rfl fun k _ => (mul_comm _ _).trans ?_
  have hk := k.isLt
  have h1 : (⟨(q.val * 2304 + k.val) / 2304, by omega⟩ : Fin 2) = q := Fin.ext (show (q.val * 2304 + k.val) / 2304 = q.val by omega)
  have h2 : (⟨(q.val * 2304 + k.val) % 2304, by omega⟩ : Fin 2304) = k := Fin.ext (show (q.val * 2304 + k.val) % 2304 = k.val by omega)
  exact (congrArg₂ (fun u v => a (ix3 u v (y 0)) * b (ix3 u v (y 1))) h1 h2).symm

end Cert.MlpOutWEq

end
-- ==== Proof.LastUp.lean ====
/- The last layer's feed-forward block's first layer, forward: the rectified product and its square. -/
module

public import proofs.«01_k».proof.Proof.Gen.LastUpIdeal.Value
public import proofs.«01_k».proof.Proof.Gen.LastUpReferenceIdeal.Run
public import Idealize.ShloMosaic.Lib.Pipeline.ValueKit
public import Idealize.ShloMosaic.Lib.Pointwise

@[expose] public section

set_option maxRecDepth 16384

noncomputable section

namespace Cert.LastUpEq

open Cert.LastUpIdeal Cert.LastUpIdeal.Gen Idealize.ShloMosaic Idealize.ShloMosaic.TcCoe Idealize.SL.Sem

/-- The left factor at a row and a summation index. -/
def lhs (a : FVec Ideal S2x2048x1024 .f32) (i : Fin 4096) (k : Fin 1024) : EReal :=
  a (ix3 ⟨i.val / 2048, by omega⟩ ⟨i.val % 2048, by omega⟩ k)

/-- The product at an element, rectified. -/
def rect (a : FVec Ideal S2x2048x1024 .f32) (b : FVec Ideal S1024x4096 .f32) (y : S4096x4096.Idx) : EReal :=
  max (∑ k, lhs a (y 0) k * b (ix2 k (y 1))) 0

/-- Its square. -/
def square (a : FVec Ideal S2x2048x1024 .f32) (b : FVec Ideal S1024x4096 .f32) (y : S4096x4096.Idx) : EReal :=
  rect a b y * rect a b y

variable (m : (ℓ : Loc nD τ sig) → Buf (Elt Ideal) ℓ) (c : Dev nD)

/-- The factors as arguments of the kernel. -/
abbrev aA : FVec Ideal S2x2048x1024 .f32 := m ((c : Thread nD τ).loc main_arg0)
abbrev bA : FVec Ideal S1024x4096 .f32 := m ((c : Thread nD τ).loc main_arg1)

theorem idx : ∀ t : Fin cfg0.N, win0_0.index t = ![t.val / 4, 0] ∧ win0_1.index t = ![0, t.val % 4]
    ∧ win0_2.index t = ![t.val / 4, t.val % 4] ∧ win0_3.index t = ![t.val / 4, t.val % 4] :=
  (by decide +kernel : ∀ t : Fin grid0.N, _)

theorem points (t : Fin cfg0.N) : t.val < 16 := lt_of_lt_of_eq t.isLt N_0

/-- Row and column of an element of the blocks of grid point `t`. -/
def ti (t : Fin cfg0.N) (x : Fin 1024) : Fin 4096 := ⟨t.val / 4 * 1024 + x.val, by have := points t; omega⟩
def tj (t : Fin cfg0.N) (y : Fin 1024) : Fin 4096 := ⟨t.val % 4 * 1024 + y.val, by omega⟩

variable (t : Fin cfg0.N) (x : Fin 1024) (y : Fin 1024) (k : Fin 1024)

theorem lhs_read : (iblk m c 0 t (ix2 x k) : EReal) = lhs (aA m c) (ti t x) k := by
  unfold lhs ti
  blk_point [iblk, V, idx t]

theorem rhs_read : (iblk m c 1 t (ix2 k y) : EReal) = bA m c (ix2 k (tj t y)) := by
  unfold tj
  blk_point [iblk, V, idx t]

theorem rect_at (a : FVec Ideal S1024x1024 .bf16) (b : FVec Ideal S1024x1024 .bf16) :
    (k0_pay1 (F := Ideal) a b (ix2 x y) : EReal) = max (∑ k, (a (ix2 x k) : EReal) * b (ix2 k y)) 0 := by
  pointwise [k0_pay1]

theorem rect_part (i : S1024x1024.Idx) (y : S4096x4096.Idx) (h0 : (y 0).val = t.val / 4 * 1024 + (i 0).val)
    (h1 : (y 1).val = t.val % 4 * 1024 + (i 1).val) :
    (k0_pay1 (F := Ideal) (iblk m c 0 t) (iblk m c 1 t) i : EReal) = rect (aA m c) (bA m c) y := by
  have h : i = ix2 (i 0) (i 1) := by idx_ext
  refine (congrArg (k0_pay1 (F := Ideal) (iblk m c 0 t) (iblk m c 1 t)) h).trans ((rect_at _ _ _ _).trans ?_)
  refine congrArg (max · 0) (Finset.sum_congr rfl fun k _ => congrArg₂ (· * ·) ?_ ?_)
  · exact (lhs_read m c t _ k).trans (congrArg (lhs (aA m c) · k) (Fin.ext h0.symm))
  · exact (rhs_read m c t _ k).trans (congrArg (fun j => bA m c (ix2 k j)) (Fin.ext h1.symm))

theorem first_at (i : S1024x1024.Idx) : (k0_pay2 (F := Ideal) (iblk m c 0 t) (iblk m c 1 t) i : EReal)
    = k0_pay1 (F := Ideal) (iblk m c 0 t) (iblk m c 1 t) i := by
  pointwise [k0_pay2]

theorem second_at (i : S1024x1024.Idx) : (k0_pay3 (F := Ideal) (iblk m c 0 t) (iblk m c 1 t) i : EReal)
    = (k0_pay1 (F := Ideal) (iblk m c 0 t) (iblk m c 1 t) i : EReal) * k0_pay1 (F := Ideal) (iblk m c 0 t) (iblk m c 1 t) i := by
  pointwise [k0_pay3]

/-- The kernel's arrays after the run. -/
theorem final_rect : (dats m 0 c).arrAt 2 cfg0.N = rect (aA m c) (bA m c) := by
  refine (dats m 0 c).arrAt_eq_of_covers 2 _ (by decide +kernel) fun t hf y => ?_
  blk_simp
  rw [after0_2]
  unfold out0_2
  frame_out
  refine (first_at m c t y).trans (rect_part m c t y _ ?_ ?_)
  · blk_simp [idx t]
  · blk_simp [idx t]

theorem final_square : (dats m 0 c).arrAt 3 cfg0.N = square (aA m c) (bA m c) := by
  refine (dats m 0 c).arrAt_eq_of_covers 3 _ (by decide +kernel) fun t hf y => ?_
  blk_simp
  rw [after0_3]
  unfold out0_3
  frame_out
  refine (second_at m c t y).trans ?_
  refine congrArg₂ (· * ·) (rect_part m c t y _ ?_ ?_) (rect_part m c t y _ ?_ ?_)
  all_goals blk_simp [idx t]

/-- The reference's arrays. -/
theorem reference_rect (a : FVec Ideal S2x2048x1024 .f32) (b : FVec Ideal S1024x4096 .f32) :
    truncf .bf16 (shapeCast Cert.LastUpReferenceIdeal.S4096x4096 (maximumf (Host.dotGeneral Cert.LastUpReferenceIdeal.dot_S2x2048x1024_S1024x4096_S2x2048x4096_2_0_01_1_n_n none a b)
      (broadcastInDim Cert.LastUpReferenceIdeal.S2x2048x4096 ![] Cert.LastUpReferenceIdeal.Gen.bcast_S_S2x2048x4096 (constant Cert.LastUpReferenceIdeal.S_ .f32 0x00000000#32)))
      Cert.LastUpReferenceIdeal.Gen.shapeCasts_S2x2048x4096_S4096x4096) Cert.LastUpReferenceIdeal.Gen.bitsLt_bf16_f32 = rect a b := by
  funext y
  have h : y = ix2 (y 0) (y 1) := by idx_ext
  rw [h]
  pointwise [rect, lhs]

theorem reference_square (a : FVec Ideal S2x2048x1024 .f32) (b : FVec Ideal S1024x4096 .f32) :
    truncf .bf16 (shapeCast Cert.LastUpReferenceIdeal.S4096x4096 (mulf (maximumf (Host.dotGeneral Cert.LastUpReferenceIdeal.dot_S2x2048x1024_S1024x4096_S2x2048x4096_2_0_01_1_n_n none a b)
      (broadcastInDim Cert.LastUpReferenceIdeal.S2x2048x4096 ![] Cert.LastUpReferenceIdeal.Gen.bcast_S_S2x2048x4096 (constant Cert.LastUpReferenceIdeal.S_ .f32 0x00000000#32))) (maximumf (Host.dotGeneral Cert.LastUpReferenceIdeal.dot_S2x2048x1024_S1024x4096_S2x2048x4096_2_0_01_1_n_n none a b)
      (broadcastInDim Cert.LastUpReferenceIdeal.S2x2048x4096 ![] Cert.LastUpReferenceIdeal.Gen.bcast_S_S2x2048x4096 (constant Cert.LastUpReferenceIdeal.S_ .f32 0x00000000#32))))
      Cert.LastUpReferenceIdeal.Gen.shapeCasts_S2x2048x4096_S4096x4096) Cert.LastUpReferenceIdeal.Gen.bitsLt_bf16_f32 = square a b := by
  funext y
  have h : y = ix2 (y 0) (y 1) := by idx_ext
  rw [h]
  pointwise [square, rect, lhs]

end Cert.LastUpEq

end
-- ==== Proof.LastGrad.lean ====
/- The last layer's feed-forward block's gradient with respect to what it rectifies. -/
module

public import proofs.«01_k».proof.Proof.Gen.LastGradIdeal.Value
public import proofs.«01_k».proof.Proof.Gen.LastGradReferenceIdeal.Run
public import Idealize.ShloMosaic.Lib.Pipeline.ValueKit
public import Idealize.ShloMosaic.Lib.Pointwise

@[expose] public section

set_option maxRecDepth 16384

noncomputable section

namespace Cert.LastGradEq

open Cert.LastGradIdeal Cert.LastGradIdeal.Gen Idealize.ShloMosaic Idealize.ShloMosaic.TcCoe Idealize.SL.Sem

/-- The gradient of the layer's result at a row and a summation index. -/
def lhs (g : FVec Ideal S2x2048x1024 .f32) (i : Fin 4096) (k : Fin 1024) : EReal :=
  g (ix3 ⟨i.val / 2048, by omega⟩ ⟨i.val % 2048, by omega⟩ k)

/-- What is rectified, at a row and a column. -/
def rows (z : FVec Ideal S2x2048x4096 .f32) (i : Fin 4096) (j : Fin 4096) : EReal :=
  z (ix3 ⟨i.val / 2048, by omega⟩ ⟨i.val % 2048, by omega⟩ j)

/-- The gradient at an element. -/
def grad (z : FVec Ideal S2x2048x4096 .f32) (b : FVec Ideal S4096x1024 .f32) (g : FVec Ideal S2x2048x1024 .f32)
    (y : S4096x4096.Idx) : EReal :=
  (∑ k, lhs g (y 0) k * b (ix2 (y 1) k)) * (Ideal.ofBits .f32 0x40000000#32 * max (rows z (y 0) (y 1)) 0)

variable (m : (ℓ : Loc nD τ sig) → Buf (Elt Ideal) ℓ) (c : Dev nD)

/-- The kernel's arguments. -/
abbrev zA : FVec Ideal S2x2048x4096 .f32 := m ((c : Thread nD τ).loc main_arg0)
abbrev bA : FVec Ideal S4096x1024 .f32 := m ((c : Thread nD τ).loc main_arg1)
abbrev gA : FVec Ideal S2x2048x1024 .f32 := m ((c : Thread nD τ).loc main_arg2)

/-- What the host hands to the kernel. -/
theorem V_g : V m c main_v4 = truncf .bf16 (shapeCast S4096x1024 (gA m c) shapeCasts_S2x2048x1024_S4096x1024) bitsLt_bf16_f32 := by
  simp only [V, hostOps0, hostOps0_1, hostOps0_2, List.flatten_cons, List.flatten_nil, List.append_nil, List.cons_append, List.nil_append,
    StableHlo.TRef.binary, StableHlo.TRef.nullary, StableHlo.TRef.unary, StableHlo.TRef.toBuf, StableHlo.TRef.ofBuf, cast_eq]
  after_results <;> rfl

theorem V_b : V m c main_v5 = truncf .bf16 (bA m c) bitsLt_bf16_f32 := by
  simp only [V, hostOps0, hostOps0_1, hostOps0_2, List.flatten_cons, List.flatten_nil, List.append_nil, List.cons_append, List.nil_append,
    StableHlo.TRef.binary, StableHlo.TRef.nullary, StableHlo.TRef.unary, StableHlo.TRef.toBuf, StableHlo.TRef.ofBuf, cast_eq]
  after_results <;> rfl

theorem V_r : V m c main_v2 = truncf .bf16 (maximumf (shapeCast S4096x4096 (zA m c) shapeCasts_S2x2048x4096_S4096x4096)
      (broadcastInDim S4096x4096 ![] bcast_S_S4096x4096 (constant S_ .f32 0x00000000#32))) bitsLt_bf16_f32 := by
  simp only [V, hostOps0, hostOps0_1, hostOps0_2, List.flatten_cons, List.flatten_nil, List.append_nil, List.cons_append, List.nil_append,
    StableHlo.TRef.binary, StableHlo.TRef.nullary, StableHlo.TRef.unary, StableHlo.TRef.toBuf, StableHlo.TRef.ofBuf, cast_eq]
  after_results <;> rfl

theorem idx : ∀ t : Fin cfg0.N, win0_0.index t = ![t.val / 4, 0] ∧ win0_1.index t = ![t.val % 4, 0]
    ∧ win0_2.index t = ![t.val / 4, t.val % 4] ∧ win0_3.index t = ![t.val / 4, t.val % 4] :=
  (by decide +kernel : ∀ t : Fin grid0.N, _)

theorem points (t : Fin cfg0.N) : t.val < 16 := lt_of_lt_of_eq t.isLt N_0

/-- Row and column of an element of the blocks of grid point `t`. -/
def ti (t : Fin cfg0.N) (x : Fin 1024) : Fin 4096 := ⟨t.val / 4 * 1024 + x.val, by have := points t; omega⟩
def tj (t : Fin cfg0.N) (y : Fin 1024) : Fin 4096 := ⟨t.val % 4 * 1024 + y.val, by omega⟩

variable (t : Fin cfg0.N) (x : Fin 1024) (y : Fin 1024) (k : Fin 1024)

theorem lhs_read : (iblk m c 0 t (ix2 x k) : EReal) = lhs (gA m c) (ti t x) k := by
  unfold lhs ti
  show ((cfg0.win 0).blk t).view.read (Elt Ideal) (V m c main_v4) _ = _
  rw [V_g]
  blk_simp [idx t]
  pointwise
  blk_ext [idx t]

theorem rhs_read : (iblk m c 1 t (ix2 y k) : EReal) = bA m c (ix2 (tj t y) k) := by
  unfold tj
  show ((cfg0.win 1).blk t).view.read (Elt Ideal) (V m c main_v5) _ = _
  rw [V_b]
  blk_simp [idx t]
  pointwise
  blk_ext [idx t]

theorem rect_read : (iblk m c 2 t (ix2 x y) : EReal) = max (rows (zA m c) (ti t x) (tj t y)) 0 := by
  unfold rows ti tj
  show ((cfg0.win 2).blk t).view.read (Elt Ideal) (V m c main_v2) _ = _
  rw [V_r]
  blk_simp [idx t]
  pointwise
  refine congrArg (fun u : EReal => max u 0) ?_
  blk_ext [idx t]

theorem grad_at (a : FVec Ideal S1024x1024 .bf16) (b : FVec Ideal S1024x1024 .bf16) (r : FVec Ideal S1024x1024 .bf16) :
    (k0_pay1 (F := Ideal) a b r (ix2 x y) : EReal)
      = (∑ k, (a (ix2 x k) : EReal) * b (ix2 y k)) * (Ideal.ofBits .f32 0x40000000#32 * r (ix2 x y)) := by
  pointwise [k0_pay1]

theorem grad_part (i : S1024x1024.Idx) (y : S4096x4096.Idx) (h0 : (y 0).val = t.val / 4 * 1024 + (i 0).val)
    (h1 : (y 1).val = t.val % 4 * 1024 + (i 1).val) :
    (k0_pay1 (F := Ideal) (iblk m c 0 t) (iblk m c 1 t) (iblk m c 2 t) i : EReal) = grad (zA m c) (bA m c) (gA m c) y := by
  have h : i = ix2 (i 0) (i 1) := by idx_ext
  refine (congrArg (k0_pay1 (F := Ideal) (iblk m c 0 t) (iblk m c 1 t) (iblk m c 2 t)) h).trans ((grad_at _ _ _ _ _).trans ?_)
  have e0 : ti t (i 0) = y 0 := Fin.ext h0.symm
  have e1 : tj t (i 1) = y 1 := Fin.ext h1.symm
  refine congrArg₂ (· * ·) (Finset.sum_congr rfl fun k _ => congrArg₂ (· * ·) ?_ ?_) (congrArg _ ?_)
  · exact (lhs_read m c t _ k).trans (congrArg (lhs (gA m c) · k) e0)
  · exact (rhs_read m c t _ k).trans (congrArg (fun j => bA m c (ix2 j k)) e1)
  · exact (rect_read m c t _ _).trans (congrArg₂ (fun i j => max (rows (zA m c) i j) 0) e0 e1)

/-- The kernel's array after the run. -/
theorem final : (dats m 0 c).arrAt 3 cfg0.N = grad (zA m c) (bA m c) (gA m c) := by
  refine (dats m 0 c).arrAt_eq_of_covers 3 _ (by decide +kernel) fun t hf y => ?_
  blk_simp
  rw [after0_3]
  unfold out0_3
  frame_out
  refine grad_part m c t y _ ?_ ?_
  all_goals blk_simp [idx t]

/-- The reference's array: where it selects nought, the rectified value is nought. -/
theorem reference (z : FVec Ideal S2x2048x4096 .f32) (b : FVec Ideal S4096x1024 .f32) (g : FVec Ideal S2x2048x1024 .f32) :
    truncf .bf16 (shapeCast Cert.LastGradReferenceIdeal.S4096x4096 (select (cmpf .ogt z (broadcastInDim Cert.LastGradReferenceIdeal.S2x2048x4096 ![] Cert.LastGradReferenceIdeal.Gen.bcast_S_S2x2048x4096 (constant Cert.LastGradReferenceIdeal.S_ .f32 0x00000000#32)))
      (mulf (Host.dotGeneral Cert.LastGradReferenceIdeal.dot_S2x2048x1024_S4096x1024_S2x2048x4096_2_1_01_0_n_n none g b)
        (mulf (broadcastInDim Cert.LastGradReferenceIdeal.S2x2048x4096 ![] Cert.LastGradReferenceIdeal.Gen.bcast_S_S2x2048x4096 (constant Cert.LastGradReferenceIdeal.S_ .f32 0x40000000#32))
          (maximumf z (broadcastInDim Cert.LastGradReferenceIdeal.S2x2048x4096 ![] Cert.LastGradReferenceIdeal.Gen.bcast_S_S2x2048x4096 (constant Cert.LastGradReferenceIdeal.S_ .f32 0x00000000#32)))))
      (broadcastInDim Cert.LastGradReferenceIdeal.S2x2048x4096 ![] Cert.LastGradReferenceIdeal.Gen.bcast_S_S2x2048x4096 (constant Cert.LastGradReferenceIdeal.S_ .f32 0x00000000#32)))
      Cert.LastGradReferenceIdeal.Gen.shapeCasts_S2x2048x4096_S4096x4096) Cert.LastGradReferenceIdeal.Gen.bitsLt_bf16_f32 = grad z b g := by
  funext y
  have h : y = ix2 (y 0) (y 1) := by idx_ext
  rw [h]
  pointwise [grad, lhs, rows]
  split
  · rfl
  · next hz => rw [max_eq_right (not_lt.mp hz), mul_zero, mul_zero]

end Cert.LastGradEq

end
-- ==== Proof.LastInT.lean ====
/- The last layer's feed-forward block's first layer: the product, gradient with respect to the tokens. -/
module

public import proofs.«01_k».proof.Proof.Gen.LastInTIdeal.Value
public import proofs.«01_k».proof.Proof.Gen.LastInTReferenceIdeal.Run
public import Idealize.ShloMosaic.Lib.Pipeline.ValueKit
public import Idealize.ShloMosaic.Lib.Pointwise
public import Idealize.ShloMosaic.Lib.Pipeline.ReadBack

@[expose] public section

set_option maxRecDepth 16384

noncomputable section

namespace Cert.LastInTEq

open Cert.LastInTIdeal Cert.LastInTIdeal.Gen Idealize.ShloMosaic Idealize.ShloMosaic.TcCoe Idealize.SL.Sem

/-- The left factor at a row and a summation index. -/
def lhs (a : FVec Ideal S2x2048x4096 .f32) (i : Fin 4096) (k : Fin 4096) : EReal :=
  a (ix3 ⟨i.val / 2048, by omega⟩ ⟨i.val % 2048, by omega⟩ k)

/-- The right factor at a summation index and a column. -/
def rhs (b : FVec Ideal S1024x4096 .f32) (k : Fin 4096) (j : Fin 1024) : EReal :=
  b (ix2 j k)

/-- The product at an element. -/
def prod (a : FVec Ideal S2x2048x4096 .f32) (b : FVec Ideal S1024x4096 .f32) (y : S4096x1024.Idx) : EReal :=
  ∑ k, lhs a (y 0) k * rhs b k (y 1)

variable (m : (ℓ : Loc nD τ sig) → Buf (Elt Ideal) ℓ) (c : Dev nD)

/-- The factors as arguments of the kernel. -/
abbrev aA : FVec Ideal S2x2048x4096 .f32 := m ((c : Thread nD τ).loc main_arg2)
abbrev bA : FVec Ideal S1024x4096 .f32 := m ((c : Thread nD τ).loc main_arg1)

theorem idx : ∀ t : Fin cfg0.N, win0_0.index t = ![t.val / 4, t.val % 4] ∧ win0_1.index t = ![t.val / 4 % 1, t.val % 4]
    ∧ win0_2.index t = ![t.val / 4, t.val / 4 % 1] :=
  (by decide +kernel : ∀ t : Fin grid0.N, _)

theorem points (t : Fin cfg0.N) : t.val < 16 := lt_of_lt_of_eq t.isLt N_0

/-- Row, column and summation index of an element of the blocks of grid point `t`. -/
def ti (t : Fin cfg0.N) (x : Fin 1024) : Fin 4096 := ⟨t.val / 4 * 1024 + x.val, by have := points t; omega⟩
def tj (t : Fin cfg0.N) (y : Fin 1024) : Fin 1024 := ⟨t.val / 4 % 1 * 1024 + y.val, by omega⟩
def tk (t : Fin cfg0.N) (k : Fin 1024) : Fin 4096 := ⟨t.val % 4 * 1024 + k.val, by omega⟩

variable (t : Fin cfg0.N) (x : Fin 1024) (y : Fin 1024) (k : Fin 1024)

theorem lhs_read : (iblk m c 0 t (ix2 x k) : EReal) = lhs (aA m c) (ti t x) (tk t k) := by
  unfold lhs ti tk
  blk_point [iblk, V, idx t]

theorem rhs_read : (iblk m c 1 t (ix2 y k) : EReal) = rhs (bA m c) (tk t k) (tj t y) := by
  unfold rhs tk tj
  blk_point [iblk, V, idx t]

/-- What one grid point adds to an element of its block. -/
def part (t : Fin cfg0.N) (i : S1024x1024.Idx) : EReal :=
  ∑ k, lhs (aA m c) (ti t (i 0)) (tk t k) * rhs (bA m c) (tk t k) (tj t (i 1))

theorem product_at (a : FVec Ideal S1024x1024 .bf16) (b : FVec Ideal S1024x1024 .bf16) :
    (k0_pay1 (F := Ideal) a b (ix2 x y) : EReal) = ∑ k, (a (ix2 x k) : EReal) * b (ix2 y k) := by
  pointwise [k0_pay1]

theorem product_part (i : S1024x1024.Idx) : (k0_pay1 (F := Ideal) (iblk m c 0 t) (iblk m c 1 t) i : EReal) = part m c t i := by
  have h : i = ix2 (i 0) (i 1) := by idx_ext
  refine (congrArg (k0_pay1 (F := Ideal) (iblk m c 0 t) (iblk m c 1 t)) h).trans ((product_at _ _ _ _).trans ?_)
  exact Finset.sum_congr rfl fun k _ => congrArg₂ (· * ·) (lhs_read m c t _ k) (rhs_read m c t _ k)

theorem first_at (i : S1024x1024.Idx) : (k0_pay2 (F := Ideal) (iblk m c 0 t) (iblk m c 1 t) i : EReal) = 0 + part m c t i := by
  rw [zero_add, ← product_part]
  pointwise [k0_pay2]

theorem next_at (o : FVec Ideal S1024x1024 .f32) (i : S1024x1024.Idx) :
    (k0_pay3 (F := Ideal) (iblk m c 0 t) (iblk m c 1 t) o i : EReal) = (o i : EReal) + part m c t i := by
  rw [← product_part]
  pointwise [k0_pay3]

theorem last_at (o : FVec Ideal S1024x1024 .f32) (i : S1024x1024.Idx) :
    (k0_pay4 (F := Ideal) (iblk m c 0 t) (iblk m c 1 t) o i : EReal) = (o i : EReal) + part m c t i := by
  rw [← product_part]
  pointwise [k0_pay4]

/-- What is accumulated after point `n`: in the scratch, and at a run's last point in the output block. -/
def acc (n : ℕ) (h : n < cfg0.N) (i : S1024x1024.Idx) : EReal :=
  if n % 4 = 3 then ((outsAt0 m c n h).1 i : EReal) else (outsAt0 m c n h).2 i

theorem acc_first (h : t.val % 4 = 0) (i : S1024x1024.Idx) : acc m c t.val t.isLt i = 0 + part m c t i := by
  rw [acc, if_neg (by omega), outsAt0_A m c t h (by omega) (by omega)]
  frame_out
  exact first_at m c t i

theorem acc_step (h : ¬t.val % 4 = 0) (i : S1024x1024.Idx) :
    acc m c t.val t.isLt i = acc m c (t.val - 1) (Nat.lt_of_le_of_lt (Nat.sub_le _ _) t.isLt) i + part m c t i := by
  rw [acc, acc, if_neg (show ¬(t.val - 1) % 4 = 3 by omega)]
  by_cases h' : t.val % 4 = 3
  · rw [if_pos h', outsAt0_C m c t h (by omega) h']
    frame_out
    rw [read_unread_whole]
    exact last_at m c t _ i
  · rw [if_neg h', outsAt0_B m c t h (by omega) h']
    frame_out
    rw [read_unread_whole]
    exact next_at m c t _ i

theorem sum_parts (ht : ∀ j : Fin 4, 4 * (t.val / 4) + j.val < cfg0.N) (i : S1024x1024.Idx) (y : S4096x1024.Idx)
    (h0 : (y 0).val = t.val / 4 * 1024 + (i 0).val) (h1 : (y 1).val = t.val / 4 % 1 * 1024 + (i 1).val) :
    ∑ j : Fin 4, part m c ⟨4 * (t.val / 4) + j.val, ht j⟩ i = prod (aA m c) (bA m c) y := by
  unfold prod
  rw [Fin.sum_univ_tiles 4 1024 rfl]
  refine Finset.sum_congr rfl fun j _ => Finset.sum_congr rfl fun k _ => ?_
  have hj := j.isLt
  refine congrArg₂ (· * ·) (congrArg₂ _ (Fin.ext ?_) (Fin.ext ?_)) (congrArg₂ _ (Fin.ext ?_) (Fin.ext ?_))
  · show (4 * (t.val / 4) + j.val) / 4 * 1024 + (i 0).val = (y 0).val
    omega
  · show (4 * (t.val / 4) + j.val) % 4 * 1024 + k.val = j.val * 1024 + k.val
    omega
  · show (4 * (t.val / 4) + j.val) % 4 * 1024 + k.val = j.val * 1024 + k.val
    omega
  · show (4 * (t.val / 4) + j.val) / 4 % 1 * 1024 + (i 1).val = (y 1).val
    omega

/-- The kernel's array after the run. -/
theorem final : (dats m 0 c).arrAt 2 cfg0.N = prod (aA m c) (bA m c) := by
  refine (dats m 0 c).arrAt_eq_of_covers 2 _ (by decide +kernel) fun t hf y => ?_
  have hl := (flush0_2 t).mp hf
  blk_simp
  rw [after0_2]
  have e := Pipeline.eq_sum_fin_of_reset_step_apply_of_flush (M := EReal) (acc m c) 4 (fun _ => 0) (part m c)
    (acc_first m c) (acc_step m c) t hl
  refine Eq.trans ?_ ((e y).trans ((zero_add _).trans (sum_parts m c t (Pipeline.run_point_lt_of_flush t hl) y _ ?_ ?_)))
  · rw [acc, if_pos hl]
  · blk_simp [idx t]
  · blk_simp [idx t]

/-- The reference's array. -/
theorem reference (a : FVec Ideal S2x2048x4096 .f32) (b : FVec Ideal S1024x4096 .f32) :
    shapeCast Cert.LastInTReferenceIdeal.S4096x1024 (Host.dotGeneral Cert.LastInTReferenceIdeal.dot_S2x2048x4096_S1024x4096_S2x2048x1024_2_1_01_0_n_n none a b)
      Cert.LastInTReferenceIdeal.Gen.shapeCasts_S2x2048x1024_S4096x1024 = prod a b := by
  funext y
  have h : y = ix2 (y 0) (y 1) := by idx_ext
  rw [h]
  pointwise [prod, lhs, rhs]

end Cert.LastInTEq

end
-- ==== Proof.LastInW.lean ====
/- The last layer's feed-forward block's first layer: the product, gradient with respect to the weights. -/
module

public import proofs.«01_k».proof.Proof.Gen.LastInWIdeal.Value
public import proofs.«01_k».proof.Proof.Gen.LastInWReferenceIdeal.Run
public import Idealize.ShloMosaic.Lib.Pipeline.ValueKit
public import Idealize.ShloMosaic.Lib.Pointwise
public import Idealize.ShloMosaic.Lib.Pipeline.ReadBack

@[expose] public section

set_option maxRecDepth 16384

noncomputable section

namespace Cert.LastInWEq

open Cert.LastInWIdeal Cert.LastInWIdeal.Gen Idealize.ShloMosaic Idealize.ShloMosaic.TcCoe Idealize.SL.Sem

/-- The left factor at a row and a summation index. -/
def lhs (a : FVec Ideal S2x2048x1024 .f32) (i : Fin 1024) (k : Fin 4096) : EReal :=
  a (ix3 ⟨k.val / 2048, by omega⟩ ⟨k.val % 2048, by omega⟩ i)

/-- The right factor at a summation index and a column. -/
def rhs (b : FVec Ideal S2x2048x4096 .f32) (k : Fin 4096) (j : Fin 4096) : EReal :=
  b (ix3 ⟨k.val / 2048, by omega⟩ ⟨k.val % 2048, by omega⟩ j)

/-- The product at an element. -/
def prod (a : FVec Ideal S2x2048x1024 .f32) (b : FVec Ideal S2x2048x4096 .f32) (y : S1024x4096.Idx) : EReal :=
  ∑ k, lhs a (y 0) k * rhs b k (y 1)

variable (m : (ℓ : Loc nD τ sig) → Buf (Elt Ideal) ℓ) (c : Dev nD)

/-- The factors as arguments of the kernel. -/
abbrev aA : FVec Ideal S2x2048x1024 .f32 := m ((c : Thread nD τ).loc main_arg0)
abbrev bA : FVec Ideal S2x2048x4096 .f32 := m ((c : Thread nD τ).loc main_arg2)

theorem idx : ∀ t : Fin cfg0.N, win0_0.index t = ![t.val % 4, t.val / 16] ∧ win0_1.index t = ![t.val % 4, t.val / 4 % 4]
    ∧ win0_2.index t = ![t.val / 16, t.val / 4 % 4] :=
  (by decide +kernel : ∀ t : Fin grid0.N, _)

theorem points (t : Fin cfg0.N) : t.val < 16 := lt_of_lt_of_eq t.isLt N_0

/-- Row, column and summation index of an element of the blocks of grid point `t`. -/
def ti (t : Fin cfg0.N) (x : Fin 1024) : Fin 1024 := ⟨t.val / 16 * 1024 + x.val, by have := points t; omega⟩
def tj (t : Fin cfg0.N) (y : Fin 1024) : Fin 4096 := ⟨t.val / 4 % 4 * 1024 + y.val, by omega⟩
def tk (t : Fin cfg0.N) (k : Fin 1024) : Fin 4096 := ⟨t.val % 4 * 1024 + k.val, by omega⟩

variable (t : Fin cfg0.N) (x : Fin 1024) (y : Fin 1024) (k : Fin 1024)

theorem lhs_read : (iblk m c 0 t (ix2 k x) : EReal) = lhs (aA m c) (ti t x) (tk t k) := by
  unfold lhs ti tk
  blk_point [iblk, V, idx t]

theorem rhs_read : (iblk m c 1 t (ix2 k y) : EReal) = rhs (bA m c) (tk t k) (tj t y) := by
  unfold rhs tk tj
  blk_point [iblk, V, idx t]

/-- What one grid point adds to an element of its block. -/
def part (t : Fin cfg0.N) (i : S1024x1024.Idx) : EReal :=
  ∑ k, lhs (aA m c) (ti t (i 0)) (tk t k) * rhs (bA m c) (tk t k) (tj t (i 1))

theorem product_at (a : FVec Ideal S1024x1024 .bf16) (b : FVec Ideal S1024x1024 .bf16) :
    (k0_pay1 (F := Ideal) a b (ix2 x y) : EReal) = ∑ k, (a (ix2 k x) : EReal) * b (ix2 k y) := by
  pointwise [k0_pay1]

theorem product_part (i : S1024x1024.Idx) : (k0_pay1 (F := Ideal) (iblk m c 0 t) (iblk m c 1 t) i : EReal) = part m c t i := by
  have h : i = ix2 (i 0) (i 1) := by idx_ext
  refine (congrArg (k0_pay1 (F := Ideal) (iblk m c 0 t) (iblk m c 1 t)) h).trans ((product_at _ _ _ _).trans ?_)
  exact Finset.sum_congr rfl fun k _ => congrArg₂ (· * ·) (lhs_read m c t _ k) (rhs_read m c t _ k)

theorem first_at (i : S1024x1024.Idx) : (k0_pay2 (F := Ideal) (iblk m c 0 t) (iblk m c 1 t) i : EReal) = 0 + part m c t i := by
  rw [zero_add, ← product_part]
  pointwise [k0_pay2]

theorem next_at (o : FVec Ideal S1024x1024 .f32) (i : S1024x1024.Idx) :
    (k0_pay3 (F := Ideal) (iblk m c 0 t) (iblk m c 1 t) o i : EReal) = (o i : EReal) + part m c t i := by
  rw [← product_part]
  pointwise [k0_pay3]

theorem last_at (o : FVec Ideal S1024x1024 .f32) (i : S1024x1024.Idx) :
    (k0_pay4 (F := Ideal) (iblk m c 0 t) (iblk m c 1 t) o i : EReal) = (o i : EReal) + part m c t i := by
  rw [← product_part]
  pointwise [k0_pay4]

/-- What is accumulated after point `n`: in the scratch, and at a run's last point in the output block. -/
def acc (n : ℕ) (h : n < cfg0.N) (i : S1024x1024.Idx) : EReal :=
  if n % 4 = 3 then ((outsAt0 m c n h).1 i : EReal) else (outsAt0 m c n h).2 i

theorem acc_first (h : t.val % 4 = 0) (i : S1024x1024.Idx) : acc m c t.val t.isLt i = 0 + part m c t i := by
  rw [acc, if_neg (by omega), outsAt0_A m c t h (by omega) (by omega)]
  frame_out
  exact first_at m c t i

theorem acc_step (h : ¬t.val % 4 = 0) (i : S1024x1024.Idx) :
    acc m c t.val t.isLt i = acc m c (t.val - 1) (Nat.lt_of_le_of_lt (Nat.sub_le _ _) t.isLt) i + part m c t i := by
  rw [acc, acc, if_neg (show ¬(t.val - 1) % 4 = 3 by omega)]
  by_cases h' : t.val % 4 = 3
  · rw [if_pos h', outsAt0_C m c t h (by omega) h']
    frame_out
    rw [read_unread_whole]
    exact last_at m c t _ i
  · rw [if_neg h', outsAt0_B m c t h (by omega) h']
    frame_out
    rw [read_unread_whole]
    exact next_at m c t _ i

theorem sum_parts (ht : ∀ j : Fin 4, 4 * (t.val / 4) + j.val < cfg0.N) (i : S1024x1024.Idx) (y : S1024x4096.Idx)
    (h0 : (y 0).val = t.val / 16 * 1024 + (i 0).val) (h1 : (y 1).val = t.val / 4 % 4 * 1024 + (i 1).val) :
    ∑ j : Fin 4, part m c ⟨4 * (t.val / 4) + j.val, ht j⟩ i = prod (aA m c) (bA m c) y := by
  unfold prod
  rw [Fin.sum_univ_tiles 4 1024 rfl]
  refine Finset.sum_congr rfl fun j _ => Finset.sum_congr rfl fun k _ => ?_
  have hj := j.isLt
  refine congrArg₂ (· * ·) (congrArg₂ _ (Fin.ext ?_) (Fin.ext ?_)) (congrArg₂ _ (Fin.ext ?_) (Fin.ext ?_))
  · show (4 * (t.val / 4) + j.val) / 16 * 1024 + (i 0).val = (y 0).val
    omega
  · show (4 * (t.val / 4) + j.val) % 4 * 1024 + k.val = j.val * 1024 + k.val
    omega
  · show (4 * (t.val / 4) + j.val) % 4 * 1024 + k.val = j.val * 1024 + k.val
    omega
  · show (4 * (t.val / 4) + j.val) / 4 % 4 * 1024 + (i 1).val = (y 1).val
    omega

/-- The kernel's array after the run. -/
theorem final : (dats m 0 c).arrAt 2 cfg0.N = prod (aA m c) (bA m c) := by
  refine (dats m 0 c).arrAt_eq_of_covers 2 _ (by decide +kernel) fun t hf y => ?_
  have hl := (flush0_2 t).mp hf
  blk_simp
  rw [after0_2]
  have e := Pipeline.eq_sum_fin_of_reset_step_apply_of_flush (M := EReal) (acc m c) 4 (fun _ => 0) (part m c)
    (acc_first m c) (acc_step m c) t hl
  refine Eq.trans ?_ ((e y).trans ((zero_add _).trans (sum_parts m c t (Pipeline.run_point_lt_of_flush t hl) y _ ?_ ?_)))
  · rw [acc, if_pos hl]
  · blk_simp [idx t]
  · blk_simp [idx t]

/-- The reference's array: its sum over the two sequences and their positions is one sum over the rows. -/
theorem reference (a : FVec Ideal S2x2048x1024 .f32) (b : FVec Ideal S2x2048x4096 .f32) :
    truncf .bf16 (transpose Cert.LastInWReferenceIdeal.S1024x4096 [1, 0] (Host.dotGeneral Cert.LastInWReferenceIdeal.dot_S2x2048x4096_S2x2048x1024_S4096x1024_01_01_2_2_n_n none b a)
      Cert.LastInWReferenceIdeal.Gen.transposes_S4096x1024_S1024x4096_1_0) Cert.LastInWReferenceIdeal.Gen.bitsLt_bf16_f32 = prod a b := by
  funext y
  have h : y = ix2 (y 0) (y 1) := by idx_ext
  rw [h]
  unfold prod
  rw [Fin.sum_univ_tiles 2 2048 rfl]
  pointwise [lhs, rhs]
  refine Finset.sum_congr rfl fun q _ => Finset.sum_congr rfl fun k _ => (mul_comm _ _).trans ?_
  have hk := k.isLt
  have h1 : (⟨(q.val * 2048 + k.val) / 2048, by omega⟩ : Fin 2) = q := Fin.ext (show (q.val * 2048 + k.val) / 2048 = q.val by omega)
  have h2 : (⟨(q.val * 2048 + k.val) % 2048, by omega⟩ : Fin 2048) = k := Fin.ext (show (q.val * 2048 + k.val) % 2048 = k.val by omega)
  exact (congrArg₂ (fun u v => a (ix3 u v (y 0)) * b (ix3 u v (y 1))) h1 h2).symm

end Cert.LastInWEq

end
-- ==== Proof.LastOut.lean ====
/- The last layer's feed-forward block's second layer: the product, forward. -/
module

public import proofs.«01_k».proof.Proof.Gen.LastOutIdeal.Value
public import proofs.«01_k».proof.Proof.Gen.LastOutReferenceIdeal.Run
public import Idealize.ShloMosaic.Lib.Pipeline.ValueKit
public import Idealize.ShloMosaic.Lib.Pointwise
public import Idealize.ShloMosaic.Lib.Pipeline.ReadBack

@[expose] public section

set_option maxRecDepth 16384

noncomputable section

namespace Cert.LastOutEq

open Cert.LastOutIdeal Cert.LastOutIdeal.Gen Idealize.ShloMosaic Idealize.ShloMosaic.TcCoe Idealize.SL.Sem

/-- The left factor at a row and a summation index. -/
def lhs (a : FVec Ideal S2x2048x4096 .f32) (i : Fin 4096) (k : Fin 4096) : EReal :=
  a (ix3 ⟨i.val / 2048, by omega⟩ ⟨i.val % 2048, by omega⟩ k)

/-- The right factor at a summation index and a column. -/
def rhs (b : FVec Ideal S4096x1024 .f32) (k : Fin 4096) (j : Fin 1024) : EReal :=
  b (ix2 k j)

/-- The product at an element. -/
def prod (a : FVec Ideal S2x2048x4096 .f32) (b : FVec Ideal S4096x1024 .f32) (y : S4096x1024.Idx) : EReal :=
  ∑ k, lhs a (y 0) k * rhs b k (y 1)

variable (m : (ℓ : Loc nD τ sig) → Buf (Elt Ideal) ℓ) (c : Dev nD)

/-- The factors as arguments of the kernel. -/
abbrev aA : FVec Ideal S2x2048x4096 .f32 := m ((c : Thread nD τ).loc main_arg0)
abbrev bA : FVec Ideal S4096x1024 .f32 := m ((c : Thread nD τ).loc main_arg1)

theorem idx : ∀ t : Fin cfg0.N, win0_0.index t = ![t.val / 4, t.val % 4] ∧ win0_1.index t = ![t.val % 4, t.val / 4 % 1]
    ∧ win0_2.index t = ![t.val / 4, t.val / 4 % 1] :=
  (by decide +kernel : ∀ t : Fin grid0.N, _)

theorem points (t : Fin cfg0.N) : t.val < 16 := lt_of_lt_of_eq t.isLt N_0

/-- Row, column and summation index of an element of the blocks of grid point `t`. -/
def ti (t : Fin cfg0.N) (x : Fin 1024) : Fin 4096 := ⟨t.val / 4 * 1024 + x.val, by have := points t; omega⟩
def tj (t : Fin cfg0.N) (y : Fin 1024) : Fin 1024 := ⟨t.val / 4 % 1 * 1024 + y.val, by omega⟩
def tk (t : Fin cfg0.N) (k : Fin 1024) : Fin 4096 := ⟨t.val % 4 * 1024 + k.val, by omega⟩

variable (t : Fin cfg0.N) (x : Fin 1024) (y : Fin 1024) (k : Fin 1024)

theorem lhs_read : (iblk m c 0 t (ix2 x k) : EReal) = lhs (aA m c) (ti t x) (tk t k) := by
  unfold lhs ti tk
  blk_point [iblk, V, idx t]

theorem rhs_read : (iblk m c 1 t (ix2 k y) : EReal) = rhs (bA m c) (tk t k) (tj t y) := by
  unfold rhs tk tj
  blk_point [iblk, V, idx t]

/-- What one grid point adds to an element of its block. -/
def part (t : Fin cfg0.N) (i : S1024x1024.Idx) : EReal :=
  ∑ k, lhs (aA m c) (ti t (i 0)) (tk t k) * rhs (bA m c) (tk t k) (tj t (i 1))

theorem product_at (a : FVec Ideal S1024x1024 .bf16) (b : FVec Ideal S1024x1024 .bf16) :
    (k0_pay1 (F := Ideal) a b (ix2 x y) : EReal) = ∑ k, (a (ix2 x k) : EReal) * b (ix2 k y) := by
  pointwise [k0_pay1]

theorem product_part (i : S1024x1024.Idx) : (k0_pay1 (F := Ideal) (iblk m c 0 t) (iblk m c 1 t) i : EReal) = part m c t i := by
  have h : i = ix2 (i 0) (i 1) := by idx_ext
  refine (congrArg (k0_pay1 (F := Ideal) (iblk m c 0 t) (iblk m c 1 t)) h).trans ((product_at _ _ _ _).trans ?_)
  exact Finset.sum_congr rfl fun k _ => congrArg₂ (· * ·) (lhs_read m c t _ k) (rhs_read m c t _ k)

theorem first_at (i : S1024x1024.Idx) : (k0_pay2 (F := Ideal) (iblk m c 0 t) (iblk m c 1 t) i : EReal) = 0 + part m c t i := by
  rw [zero_add, ← product_part]
  pointwise [k0_pay2]

theorem next_at (o : FVec Ideal S1024x1024 .f32) (i : S1024x1024.Idx) :
    (k0_pay3 (F := Ideal) (iblk m c 0 t) (iblk m c 1 t) o i : EReal) = (o i : EReal) + part m c t i := by
  rw [← product_part]
  pointwise [k0_pay3]

theorem last_at (o : FVec Ideal S1024x1024 .f32) (i : S1024x1024.Idx) :
    (k0_pay4 (F := Ideal) (iblk m c 0 t) (iblk m c 1 t) o i : EReal) = (o i : EReal) + part m c t i := by
  rw [← product_part]
  pointwise [k0_pay4]

/-- What is accumulated after point `n`: in the scratch, and at a run's last point in the output block. -/
def acc (n : ℕ) (h : n < cfg0.N) (i : S1024x1024.Idx) : EReal :=
  if n % 4 = 3 then ((outsAt0 m c n h).1 i : EReal) else (outsAt0 m c n h).2 i

theorem acc_first (h : t.val % 4 = 0) (i : S1024x1024.Idx) : acc m c t.val t.isLt i = 0 + part m c t i := by
  rw [acc, if_neg (by omega), outsAt0_A m c t h (by omega) (by omega)]
  frame_out
  exact first_at m c t i

theorem acc_step (h : ¬t.val % 4 = 0) (i : S1024x1024.Idx) :
    acc m c t.val t.isLt i = acc m c (t.val - 1) (Nat.lt_of_le_of_lt (Nat.sub_le _ _) t.isLt) i + part m c t i := by
  rw [acc, acc, if_neg (show ¬(t.val - 1) % 4 = 3 by omega)]
  by_cases h' : t.val % 4 = 3
  · rw [if_pos h', outsAt0_C m c t h (by omega) h']
    frame_out
    rw [read_unread_whole]
    exact last_at m c t _ i
  · rw [if_neg h', outsAt0_B m c t h (by omega) h']
    frame_out
    rw [read_unread_whole]
    exact next_at m c t _ i

theorem sum_parts (ht : ∀ j : Fin 4, 4 * (t.val / 4) + j.val < cfg0.N) (i : S1024x1024.Idx) (y : S4096x1024.Idx)
    (h0 : (y 0).val = t.val / 4 * 1024 + (i 0).val) (h1 : (y 1).val = t.val / 4 % 1 * 1024 + (i 1).val) :
    ∑ j : Fin 4, part m c ⟨4 * (t.val / 4) + j.val, ht j⟩ i = prod (aA m c) (bA m c) y := by
  unfold prod
  rw [Fin.sum_univ_tiles 4 1024 rfl]
  refine Finset.sum_congr rfl fun j _ => Finset.sum_congr rfl fun k _ => ?_
  have hj := j.isLt
  refine congrArg₂ (· * ·) (congrArg₂ _ (Fin.ext ?_) (Fin.ext ?_)) (congrArg₂ _ (Fin.ext ?_) (Fin.ext ?_))
  · show (4 * (t.val / 4) + j.val) / 4 * 1024 + (i 0).val = (y 0).val
    omega
  · show (4 * (t.val / 4) + j.val) % 4 * 1024 + k.val = j.val * 1024 + k.val
    omega
  · show (4 * (t.val / 4) + j.val) % 4 * 1024 + k.val = j.val * 1024 + k.val
    omega
  · show (4 * (t.val / 4) + j.val) / 4 % 1 * 1024 + (i 1).val = (y 1).val
    omega

/-- The kernel's array after the run. -/
theorem final : (dats m 0 c).arrAt 2 cfg0.N = prod (aA m c) (bA m c) := by
  refine (dats m 0 c).arrAt_eq_of_covers 2 _ (by decide +kernel) fun t hf y => ?_
  have hl := (flush0_2 t).mp hf
  blk_simp
  rw [after0_2]
  have e := Pipeline.eq_sum_fin_of_reset_step_apply_of_flush (M := EReal) (acc m c) 4 (fun _ => 0) (part m c)
    (acc_first m c) (acc_step m c) t hl
  refine Eq.trans ?_ ((e y).trans ((zero_add _).trans (sum_parts m c t (Pipeline.run_point_lt_of_flush t hl) y _ ?_ ?_)))
  · rw [acc, if_pos hl]
  · blk_simp [idx t]
  · blk_simp [idx t]

/-- The reference's array. -/
theorem reference (a : FVec Ideal S2x2048x4096 .f32) (b : FVec Ideal S4096x1024 .f32) :
    shapeCast Cert.LastOutReferenceIdeal.S4096x1024 (Host.dotGeneral Cert.LastOutReferenceIdeal.dot_S2x2048x4096_S4096x1024_S2x2048x1024_2_0_01_1_n_n none a b)
      Cert.LastOutReferenceIdeal.Gen.shapeCasts_S2x2048x1024_S4096x1024 = prod a b := by
  funext y
  have h : y = ix2 (y 0) (y 1) := by idx_ext
  rw [h]
  pointwise [prod, lhs, rhs]

end Cert.LastOutEq

end
-- ==== Proof.LastOutW.lean ====
/- The last layer's feed-forward block's second layer: the product, gradient with respect to the weights. -/
module

public import proofs.«01_k».proof.Proof.Gen.LastOutWIdeal.Value
public import proofs.«01_k».proof.Proof.Gen.LastOutWReferenceIdeal.Run
public import Idealize.ShloMosaic.Lib.Pipeline.ValueKit
public import Idealize.ShloMosaic.Lib.Pointwise
public import Idealize.ShloMosaic.Lib.Pipeline.ReadBack

@[expose] public section

set_option maxRecDepth 16384

noncomputable section

namespace Cert.LastOutWEq

open Cert.LastOutWIdeal Cert.LastOutWIdeal.Gen Idealize.ShloMosaic Idealize.ShloMosaic.TcCoe Idealize.SL.Sem

/-- The left factor at a row and a summation index. -/
def lhs (a : FVec Ideal S2x2048x4096 .f32) (i : Fin 4096) (k : Fin 4096) : EReal :=
  a (ix3 ⟨k.val / 2048, by omega⟩ ⟨k.val % 2048, by omega⟩ i)

/-- The right factor at a summation index and a column. -/
def rhs (b : FVec Ideal S2x2048x1024 .f32) (k : Fin 4096) (j : Fin 1024) : EReal :=
  b (ix3 ⟨k.val / 2048, by omega⟩ ⟨k.val % 2048, by omega⟩ j)

/-- The product at an element. -/
def prod (a : FVec Ideal S2x2048x4096 .f32) (b : FVec Ideal S2x2048x1024 .f32) (y : S4096x1024.Idx) : EReal :=
  ∑ k, lhs a (y 0) k * rhs b k (y 1)

variable (m : (ℓ : Loc nD τ sig) → Buf (Elt Ideal) ℓ) (c : Dev nD)

/-- The factors as arguments of the kernel. -/
abbrev aA : FVec Ideal S2x2048x4096 .f32 := m ((c : Thread nD τ).loc main_arg0)
abbrev bA : FVec Ideal S2x2048x1024 .f32 := m ((c : Thread nD τ).loc main_arg2)

theorem idx : ∀ t : Fin cfg0.N, win0_0.index t = ![t.val % 4, t.val / 4] ∧ win0_1.index t = ![t.val % 4, t.val / 4 % 1]
    ∧ win0_2.index t = ![t.val / 4, t.val / 4 % 1] :=
  (by decide +kernel : ∀ t : Fin grid0.N, _)

theorem points (t : Fin cfg0.N) : t.val < 16 := lt_of_lt_of_eq t.isLt N_0

/-- Row, column and summation index of an element of the blocks of grid point `t`. -/
def ti (t : Fin cfg0.N) (x : Fin 1024) : Fin 4096 := ⟨t.val / 4 * 1024 + x.val, by have := points t; omega⟩
def tj (t : Fin cfg0.N) (y : Fin 1024) : Fin 1024 := ⟨t.val / 4 % 1 * 1024 + y.val, by omega⟩
def tk (t : Fin cfg0.N) (k : Fin 1024) : Fin 4096 := ⟨t.val % 4 * 1024 + k.val, by omega⟩

variable (t : Fin cfg0.N) (x : Fin 1024) (y : Fin 1024) (k : Fin 1024)

theorem lhs_read : (iblk m c 0 t (ix2 k x) : EReal) = lhs (aA m c) (ti t x) (tk t k) := by
  unfold lhs ti tk
  blk_point [iblk, V, idx t]

theorem rhs_read : (iblk m c 1 t (ix2 k y) : EReal) = rhs (bA m c) (tk t k) (tj t y) := by
  unfold rhs tk tj
  blk_point [iblk, V, idx t]

/-- What one grid point adds to an element of its block. -/
def part (t : Fin cfg0.N) (i : S1024x1024.Idx) : EReal :=
  ∑ k, lhs (aA m c) (ti t (i 0)) (tk t k) * rhs (bA m c) (tk t k) (tj t (i 1))

theorem product_at (a : FVec Ideal S1024x1024 .bf16) (b : FVec Ideal S1024x1024 .bf16) :
    (k0_pay1 (F := Ideal) a b (ix2 x y) : EReal) = ∑ k, (a (ix2 k x) : EReal) * b (ix2 k y) := by
  pointwise [k0_pay1]

theorem product_part (i : S1024x1024.Idx) : (k0_pay1 (F := Ideal) (iblk m c 0 t) (iblk m c 1 t) i : EReal) = part m c t i := by
  have h : i = ix2 (i 0) (i 1) := by idx_ext
  refine (congrArg (k0_pay1 (F := Ideal) (iblk m c 0 t) (iblk m c 1 t)) h).trans ((product_at _ _ _ _).trans ?_)
  exact Finset.sum_congr rfl fun k _ => congrArg₂ (· * ·) (lhs_read m c t _ k) (rhs_read m c t _ k)

theorem first_at (i : S1024x1024.Idx) : (k0_pay2 (F := Ideal) (iblk m c 0 t) (iblk m c 1 t) i : EReal) = 0 + part m c t i := by
  rw [zero_add, ← product_part]
  pointwise [k0_pay2]

theorem next_at (o : FVec Ideal S1024x1024 .f32) (i : S1024x1024.Idx) :
    (k0_pay3 (F := Ideal) (iblk m c 0 t) (iblk m c 1 t) o i : EReal) = (o i : EReal) + part m c t i := by
  rw [← product_part]
  pointwise [k0_pay3]

theorem last_at (o : FVec Ideal S1024x1024 .f32) (i : S1024x1024.Idx) :
    (k0_pay4 (F := Ideal) (iblk m c 0 t) (iblk m c 1 t) o i : EReal) = (o i : EReal) + part m c t i := by
  rw [← product_part]
  pointwise [k0_pay4]

/-- What is accumulated after point `n`: in the scratch, and at a run's last point in the output block. -/
def acc (n : ℕ) (h : n < cfg0.N) (i : S1024x1024.Idx) : EReal :=
  if n % 4 = 3 then ((outsAt0 m c n h).1 i : EReal) else (outsAt0 m c n h).2 i

theorem acc_first (h : t.val % 4 = 0) (i : S1024x1024.Idx) : acc m c t.val t.isLt i = 0 + part m c t i := by
  rw [acc, if_neg (by omega), outsAt0_A m c t h (by omega) (by omega)]
  frame_out
  exact first_at m c t i

theorem acc_step (h : ¬t.val % 4 = 0) (i : S1024x1024.Idx) :
    acc m c t.val t.isLt i = acc m c (t.val - 1) (Nat.lt_of_le_of_lt (Nat.sub_le _ _) t.isLt) i + part m c t i := by
  rw [acc, acc, if_neg (show ¬(t.val - 1) % 4 = 3 by omega)]
  by_cases h' : t.val % 4 = 3
  · rw [if_pos h', outsAt0_C m c t h (by omega) h']
    frame_out
    rw [read_unread_whole]
    exact last_at m c t _ i
  · rw [if_neg h', outsAt0_B m c t h (by omega) h']
    frame_out
    rw [read_unread_whole]
    exact next_at m c t _ i

theorem sum_parts (ht : ∀ j : Fin 4, 4 * (t.val / 4) + j.val < cfg0.N) (i : S1024x1024.Idx) (y : S4096x1024.Idx)
    (h0 : (y 0).val = t.val / 4 * 1024 + (i 0).val) (h1 : (y 1).val = t.val / 4 % 1 * 1024 + (i 1).val) :
    ∑ j : Fin 4, part m c ⟨4 * (t.val / 4) + j.val, ht j⟩ i = prod (aA m c) (bA m c) y := by
  unfold prod
  rw [Fin.sum_univ_tiles 4 1024 rfl]
  refine Finset.sum_congr rfl fun j _ => Finset.sum_congr rfl fun k _ => ?_
  have hj := j.isLt
  refine congrArg₂ (· * ·) (congrArg₂ _ (Fin.ext ?_) (Fin.ext ?_)) (congrArg₂ _ (Fin.ext ?_) (Fin.ext ?_))
  · show (4 * (t.val / 4) + j.val) / 4 * 1024 + (i 0).val = (y 0).val
    omega
  · show (4 * (t.val / 4) + j.val) % 4 * 1024 + k.val = j.val * 1024 + k.val
    omega
  · show (4 * (t.val / 4) + j.val) % 4 * 1024 + k.val = j.val * 1024 + k.val
    omega
  · show (4 * (t.val / 4) + j.val) / 4 % 1 * 1024 + (i 1).val = (y 1).val
    omega

/-- The kernel's array after the run. -/
theorem final : (dats m 0 c).arrAt 2 cfg0.N = prod (aA m c) (bA m c) := by
  refine (dats m 0 c).arrAt_eq_of_covers 2 _ (by decide +kernel) fun t hf y => ?_
  have hl := (flush0_2 t).mp hf
  blk_simp
  rw [after0_2]
  have e := Pipeline.eq_sum_fin_of_reset_step_apply_of_flush (M := EReal) (acc m c) 4 (fun _ => 0) (part m c)
    (acc_first m c) (acc_step m c) t hl
  refine Eq.trans ?_ ((e y).trans ((zero_add _).trans (sum_parts m c t (Pipeline.run_point_lt_of_flush t hl) y _ ?_ ?_)))
  · rw [acc, if_pos hl]
  · blk_simp [idx t]
  · blk_simp [idx t]

/-- The reference's array: its sum over the two sequences and their positions is one sum over the rows. -/
theorem reference (a : FVec Ideal S2x2048x4096 .f32) (b : FVec Ideal S2x2048x1024 .f32) :
    truncf .bf16 (transpose Cert.LastOutWReferenceIdeal.S4096x1024 [1, 0] (Host.dotGeneral Cert.LastOutWReferenceIdeal.dot_S2x2048x1024_S2x2048x4096_S1024x4096_01_01_2_2_n_n none b a)
      Cert.LastOutWReferenceIdeal.Gen.transposes_S1024x4096_S4096x1024_1_0) Cert.LastOutWReferenceIdeal.Gen.bitsLt_bf16_f32 = prod a b := by
  funext y
  have h : y = ix2 (y 0) (y 1) := by idx_ext
  rw [h]
  unfold prod
  rw [Fin.sum_univ_tiles 2 2048 rfl]
  pointwise [lhs, rhs]
  refine Finset.sum_congr rfl fun q _ => Finset.sum_congr rfl fun k _ => (mul_comm _ _).trans ?_
  have hk := k.isLt
  have h1 : (⟨(q.val * 2048 + k.val) / 2048, by omega⟩ : Fin 2) = q := Fin.ext (show (q.val * 2048 + k.val) / 2048 = q.val by omega)
  have h2 : (⟨(q.val * 2048 + k.val) % 2048, by omega⟩ : Fin 2048) = k := Fin.ext (show (q.val * 2048 + k.val) % 2048 = k.val by omega)
  exact (congrArg₂ (fun u v => a (ix3 u v (y 0)) * b (ix3 u v (y 1))) h1 h2).symm

end Cert.LastOutWEq

end
-- ==== Proof.EvenIn.lean ====
/- The even layers' projection of their input: the product, forward. -/
module

public import proofs.«01_k».proof.Proof.Gen.EvenInIdeal.Value
public import proofs.«01_k».proof.Proof.Gen.EvenInReferenceIdeal.Run
public import Idealize.ShloMosaic.Lib.Pipeline.ValueKit
public import Idealize.ShloMosaic.Lib.Pointwise

@[expose] public section

set_option maxRecDepth 16384

noncomputable section

namespace Cert.EvenInEq

open Cert.EvenInIdeal Cert.EvenInIdeal.Gen Idealize.ShloMosaic Idealize.ShloMosaic.TcCoe Idealize.SL.Sem

/-- The left factor at a row and a summation index. -/
def lhs (a : FVec Ideal S2x2304x1024 .f32) (i : Fin 4608) (k : Fin 1024) : EReal :=
  a (ix3 ⟨i.val / 2304, by omega⟩ ⟨i.val % 2304, by omega⟩ k)

/-- The right factor at a summation index and a column. -/
def rhs (b : FVec Ideal S1024x1536 .f32) (k : Fin 1024) (j : Fin 1536) : EReal :=
  b (ix2 k j)

/-- The product at an element. -/
def prod (a : FVec Ideal S2x2304x1024 .f32) (b : FVec Ideal S1024x1536 .f32) (y : S4608x1536.Idx) : EReal :=
  ∑ k, lhs a (y 0) k * rhs b k (y 1)

variable (m : (ℓ : Loc nD τ sig) → Buf (Elt Ideal) ℓ) (c : Dev nD)

/-- The factors as arguments of the kernel. -/
abbrev aA : FVec Ideal S2x2304x1024 .f32 := m ((c : Thread nD τ).loc main_arg0)
abbrev bA : FVec Ideal S1024x1536 .f32 := m ((c : Thread nD τ).loc main_arg1)

theorem idx : ∀ t : Fin cfg0.N, win0_0.index t = ![t.val / 1, t.val % 1] ∧ win0_1.index t = ![t.val % 1, t.val / 1 % 1]
    ∧ win0_2.index t = ![t.val / 1, t.val / 1 % 1] :=
  (by decide +kernel : ∀ t : Fin grid0.N, _)

theorem points (t : Fin cfg0.N) : t.val < 6 := lt_of_lt_of_eq t.isLt N_0

/-- Row, column and summation index of an element of the blocks of grid point `t`. -/
def ti (t : Fin cfg0.N) (x : Fin 768) : Fin 4608 := ⟨t.val / 1 * 768 + x.val, by have := points t; omega⟩
def tj (t : Fin cfg0.N) (y : Fin 1536) : Fin 1536 := ⟨t.val / 1 % 1 * 1536 + y.val, by omega⟩
def tk (t : Fin cfg0.N) (k : Fin 1024) : Fin 1024 := ⟨t.val % 1 * 1024 + k.val, by omega⟩

variable (t : Fin cfg0.N) (x : Fin 768) (y : Fin 1536) (k : Fin 1024)

theorem lhs_read : (iblk m c 0 t (ix2 x k) : EReal) = lhs (aA m c) (ti t x) (tk t k) := by
  unfold lhs ti tk
  blk_point [iblk, V, idx t]

theorem rhs_read : (iblk m c 1 t (ix2 k y) : EReal) = rhs (bA m c) (tk t k) (tj t y) := by
  unfold rhs tk tj
  blk_point [iblk, V, idx t]

/-- What one grid point adds to an element of its block. -/
def part (t : Fin cfg0.N) (i : S768x1536.Idx) : EReal :=
  ∑ k, lhs (aA m c) (ti t (i 0)) (tk t k) * rhs (bA m c) (tk t k) (tj t (i 1))

theorem product_at (a : FVec Ideal S768x1024 .bf16) (b : FVec Ideal S1024x1536 .bf16) :
    (k0_pay1 (F := Ideal) a b (ix2 x y) : EReal) = ∑ k, (a (ix2 x k) : EReal) * b (ix2 k y) := by
  pointwise [k0_pay1]

theorem product_part (i : S768x1536.Idx) : (k0_pay1 (F := Ideal) (iblk m c 0 t) (iblk m c 1 t) i : EReal) = part m c t i := by
  have h : i = ix2 (i 0) (i 1) := by idx_ext
  refine (congrArg (k0_pay1 (F := Ideal) (iblk m c 0 t) (iblk m c 1 t)) h).trans ((product_at _ _ _ _).trans ?_)
  exact Finset.sum_congr rfl fun k _ => congrArg₂ (· * ·) (lhs_read m c t _ k) (rhs_read m c t _ k)

theorem part_prod (i : S768x1536.Idx) (y : S4608x1536.Idx) (h0 : (y 0).val = t.val / 1 * 768 + (i 0).val)
    (h1 : (y 1).val = t.val / 1 % 1 * 1536 + (i 1).val) : part m c t i = prod (aA m c) (bA m c) y := by
  refine Finset.sum_congr rfl fun k _ => ?_
  refine congrArg₂ (· * ·) (congrArg₂ _ (Fin.ext ?_) (Fin.ext ?_)) (congrArg₂ _ (Fin.ext ?_) (Fin.ext ?_))
  · exact h0.symm
  · show t.val % 1 * 1024 + k.val = k.val
    omega
  · show t.val % 1 * 1024 + k.val = k.val
    omega
  · exact h1.symm

/-- The kernel's array after the run. -/
theorem final : (dats m 0 c).arrAt 2 cfg0.N = prod (aA m c) (bA m c) := by
  refine (dats m 0 c).arrAt_eq_of_covers 2 _ (by decide +kernel) fun t hf y => ?_
  blk_simp
  rw [after0_2]
  unfold out0_2
  frame_out
  refine (product_part m c t y).trans (part_prod m c t y _ ?_ ?_)
  · blk_simp [idx t]
  · blk_simp [idx t]

/-- The reference's array. -/
theorem reference (a : FVec Ideal S2x2304x1024 .f32) (b : FVec Ideal S1024x1536 .f32) :
    shapeCast Cert.EvenInReferenceIdeal.S4608x1536 (Host.dotGeneral Cert.EvenInReferenceIdeal.dot_S2x2304x1024_S1024x1536_S2x2304x1536_2_0_01_1_n_n none a b)
      Cert.EvenInReferenceIdeal.Gen.shapeCasts_S2x2304x1536_S4608x1536 = prod a b := by
  funext y
  have h : y = ix2 (y 0) (y 1) := by idx_ext
  rw [h]
  pointwise [prod, lhs, rhs]

end Cert.EvenInEq

end
-- ==== Proof.EvenInT.lean ====
/- The even layers' projection of their input: the product, gradient with respect to the tokens. -/
module

public import proofs.«01_k».proof.Proof.Gen.EvenInTIdeal.Value
public import proofs.«01_k».proof.Proof.Gen.EvenInTReferenceIdeal.Run
public import Idealize.ShloMosaic.Lib.Pipeline.ValueKit
public import Idealize.ShloMosaic.Lib.Pointwise

@[expose] public section

set_option maxRecDepth 16384

noncomputable section

namespace Cert.EvenInTEq

open Cert.EvenInTIdeal Cert.EvenInTIdeal.Gen Idealize.ShloMosaic Idealize.ShloMosaic.TcCoe Idealize.SL.Sem

/-- The left factor at a row and a summation index. -/
def lhs (a : FVec Ideal S2x2304x1536 .f32) (i : Fin 4608) (k : Fin 1536) : EReal :=
  a (ix3 ⟨i.val / 2304, by omega⟩ ⟨i.val % 2304, by omega⟩ k)

/-- The right factor at a summation index and a column. -/
def rhs (b : FVec Ideal S1024x1536 .f32) (k : Fin 1536) (j : Fin 1024) : EReal :=
  b (ix2 j k)

/-- The product at an element. -/
def prod (a : FVec Ideal S2x2304x1536 .f32) (b : FVec Ideal S1024x1536 .f32) (y : S4608x1024.Idx) : EReal :=
  ∑ k, lhs a (y 0) k * rhs b k (y 1)

variable (m : (ℓ : Loc nD τ sig) → Buf (Elt Ideal) ℓ) (c : Dev nD)

/-- The factors as arguments of the kernel. -/
abbrev aA : FVec Ideal S2x2304x1536 .f32 := m ((c : Thread nD τ).loc main_arg2)
abbrev bA : FVec Ideal S1024x1536 .f32 := m ((c : Thread nD τ).loc main_arg1)

theorem idx : ∀ t : Fin cfg0.N, win0_0.index t = ![t.val / 1, t.val % 1] ∧ win0_1.index t = ![t.val / 1 % 1, t.val % 1]
    ∧ win0_2.index t = ![t.val / 1, t.val / 1 % 1] :=
  (by decide +kernel : ∀ t : Fin grid0.N, _)

theorem points (t : Fin cfg0.N) : t.val < 3 := lt_of_lt_of_eq t.isLt N_0

/-- Row, column and summation index of an element of the blocks of grid point `t`. -/
def ti (t : Fin cfg0.N) (x : Fin 1536) : Fin 4608 := ⟨t.val / 1 * 1536 + x.val, by have := points t; omega⟩
def tj (t : Fin cfg0.N) (y : Fin 1024) : Fin 1024 := ⟨t.val / 1 % 1 * 1024 + y.val, by omega⟩
def tk (t : Fin cfg0.N) (k : Fin 1536) : Fin 1536 := ⟨t.val % 1 * 1536 + k.val, by omega⟩

variable (t : Fin cfg0.N) (x : Fin 1536) (y : Fin 1024) (k : Fin 1536)

theorem lhs_read : (iblk m c 0 t (ix2 x k) : EReal) = lhs (aA m c) (ti t x) (tk t k) := by
  unfold lhs ti tk
  blk_point [iblk, V, idx t]

theorem rhs_read : (iblk m c 1 t (ix2 y k) : EReal) = rhs (bA m c) (tk t k) (tj t y) := by
  unfold rhs tk tj
  blk_point [iblk, V, idx t]

/-- What one grid point adds to an element of its block. -/
def part (t : Fin cfg0.N) (i : S1536x1024.Idx) : EReal :=
  ∑ k, lhs (aA m c) (ti t (i 0)) (tk t k) * rhs (bA m c) (tk t k) (tj t (i 1))

theorem product_at (a : FVec Ideal S1536x1536 .bf16) (b : FVec Ideal S1024x1536 .bf16) :
    (k0_pay1 (F := Ideal) a b (ix2 x y) : EReal) = ∑ k, (a (ix2 x k) : EReal) * b (ix2 y k) := by
  pointwise [k0_pay1]

theorem product_part (i : S1536x1024.Idx) : (k0_pay1 (F := Ideal) (iblk m c 0 t) (iblk m c 1 t) i : EReal) = part m c t i := by
  have h : i = ix2 (i 0) (i 1) := by idx_ext
  refine (congrArg (k0_pay1 (F := Ideal) (iblk m c 0 t) (iblk m c 1 t)) h).trans ((product_at _ _ _ _).trans ?_)
  exact Finset.sum_congr rfl fun k _ => congrArg₂ (· * ·) (lhs_read m c t _ k) (rhs_read m c t _ k)

theorem part_prod (i : S1536x1024.Idx) (y : S4608x1024.Idx) (h0 : (y 0).val = t.val / 1 * 1536 + (i 0).val)
    (h1 : (y 1).val = t.val / 1 % 1 * 1024 + (i 1).val) : part m c t i = prod (aA m c) (bA m c) y := by
  refine Finset.sum_congr rfl fun k _ => ?_
  refine congrArg₂ (· * ·) (congrArg₂ _ (Fin.ext ?_) (Fin.ext ?_)) (congrArg₂ _ (Fin.ext ?_) (Fin.ext ?_))
  · exact h0.symm
  · show t.val % 1 * 1536 + k.val = k.val
    omega
  · show t.val % 1 * 1536 + k.val = k.val
    omega
  · exact h1.symm

/-- The kernel's array after the run. -/
theorem final : (dats m 0 c).arrAt 2 cfg0.N = prod (aA m c) (bA m c) := by
  refine (dats m 0 c).arrAt_eq_of_covers 2 _ (by decide +kernel) fun t hf y => ?_
  blk_simp
  rw [after0_2]
  unfold out0_2
  frame_out
  refine (product_part m c t y).trans (part_prod m c t y _ ?_ ?_)
  · blk_simp [idx t]
  · blk_simp [idx t]

/-- The reference's array. -/
theorem reference (a : FVec Ideal S2x2304x1536 .f32) (b : FVec Ideal S1024x1536 .f32) :
    shapeCast Cert.EvenInTReferenceIdeal.S4608x1024 (Host.dotGeneral Cert.EvenInTReferenceIdeal.dot_S2x2304x1536_S1024x1536_S2x2304x1024_2_1_01_0_n_n none a b)
      Cert.EvenInTReferenceIdeal.Gen.shapeCasts_S2x2304x1024_S4608x1024 = prod a b := by
  funext y
  have h : y = ix2 (y 0) (y 1) := by idx_ext
  rw [h]
  pointwise [prod, lhs, rhs]

end Cert.EvenInTEq

end
-- ==== Proof.EvenInW.lean ====
/- The even layers' projection of their input: the product, gradient with respect to the weights. -/
module

public import proofs.«01_k».proof.Proof.Gen.EvenInWIdeal.Value
public import proofs.«01_k».proof.Proof.Gen.EvenInWReferenceIdeal.Run
public import Idealize.ShloMosaic.Lib.Pipeline.ValueKit
public import Idealize.ShloMosaic.Lib.Pointwise
public import Idealize.ShloMosaic.Lib.Pipeline.ReadBack

@[expose] public section

set_option maxRecDepth 16384

noncomputable section

namespace Cert.EvenInWEq

open Cert.EvenInWIdeal Cert.EvenInWIdeal.Gen Idealize.ShloMosaic Idealize.ShloMosaic.TcCoe Idealize.SL.Sem

/-- The left factor at a row and a summation index. -/
def lhs (a : FVec Ideal S2x2304x1024 .f32) (i : Fin 1024) (k : Fin 4608) : EReal :=
  a (ix3 ⟨k.val / 2304, by omega⟩ ⟨k.val % 2304, by omega⟩ i)

/-- The right factor at a summation index and a column. -/
def rhs (b : FVec Ideal S2x2304x1536 .f32) (k : Fin 4608) (j : Fin 1536) : EReal :=
  b (ix3 ⟨k.val / 2304, by omega⟩ ⟨k.val % 2304, by omega⟩ j)

/-- The product at an element. -/
def prod (a : FVec Ideal S2x2304x1024 .f32) (b : FVec Ideal S2x2304x1536 .f32) (y : S1024x1536.Idx) : EReal :=
  ∑ k, lhs a (y 0) k * rhs b k (y 1)

variable (m : (ℓ : Loc nD τ sig) → Buf (Elt Ideal) ℓ) (c : Dev nD)

/-- The factors as arguments of the kernel. -/
abbrev aA : FVec Ideal S2x2304x1024 .f32 := m ((c : Thread nD τ).loc main_arg0)
abbrev bA : FVec Ideal S2x2304x1536 .f32 := m ((c : Thread nD τ).loc main_arg2)

theorem idx : ∀ t : Fin cfg0.N, win0_0.index t = ![t.val % 3, t.val / 6] ∧ win0_1.index t = ![t.val % 3, t.val / 3 % 2]
    ∧ win0_2.index t = ![t.val / 6, t.val / 3 % 2] :=
  (by decide +kernel : ∀ t : Fin grid0.N, _)

theorem points (t : Fin cfg0.N) : t.val < 6 := lt_of_lt_of_eq t.isLt N_0

/-- Row, column and summation index of an element of the blocks of grid point `t`. -/
def ti (t : Fin cfg0.N) (x : Fin 1024) : Fin 1024 := ⟨t.val / 6 * 1024 + x.val, by have := points t; omega⟩
def tj (t : Fin cfg0.N) (y : Fin 768) : Fin 1536 := ⟨t.val / 3 % 2 * 768 + y.val, by omega⟩
def tk (t : Fin cfg0.N) (k : Fin 1536) : Fin 4608 := ⟨t.val % 3 * 1536 + k.val, by omega⟩

variable (t : Fin cfg0.N) (x : Fin 1024) (y : Fin 768) (k : Fin 1536)

theorem lhs_read : (iblk m c 0 t (ix2 k x) : EReal) = lhs (aA m c) (ti t x) (tk t k) := by
  unfold lhs ti tk
  blk_point [iblk, V, idx t]

theorem rhs_read : (iblk m c 1 t (ix2 k y) : EReal) = rhs (bA m c) (tk t k) (tj t y) := by
  unfold rhs tk tj
  blk_point [iblk, V, idx t]

/-- What one grid point adds to an element of its block. -/
def part (t : Fin cfg0.N) (i : S1024x768.Idx) : EReal :=
  ∑ k, lhs (aA m c) (ti t (i 0)) (tk t k) * rhs (bA m c) (tk t k) (tj t (i 1))

theorem product_at (a : FVec Ideal S1536x1024 .bf16) (b : FVec Ideal S1536x768 .bf16) :
    (k0_pay1 (F := Ideal) a b (ix2 x y) : EReal) = ∑ k, (a (ix2 k x) : EReal) * b (ix2 k y) := by
  pointwise [k0_pay1]

theorem product_part (i : S1024x768.Idx) : (k0_pay1 (F := Ideal) (iblk m c 0 t) (iblk m c 1 t) i : EReal) = part m c t i := by
  have h : i = ix2 (i 0) (i 1) := by idx_ext
  refine (congrArg (k0_pay1 (F := Ideal) (iblk m c 0 t) (iblk m c 1 t)) h).trans ((product_at _ _ _ _).trans ?_)
  exact Finset.sum_congr rfl fun k _ => congrArg₂ (· * ·) (lhs_read m c t _ k) (rhs_read m c t _ k)

theorem first_at (i : S1024x768.Idx) : (k0_pay2 (F := Ideal) (iblk m c 0 t) (iblk m c 1 t) i : EReal) = 0 + part m c t i := by
  rw [zero_add, ← product_part]
  pointwise [k0_pay2]

theorem next_at (o : FVec Ideal S1024x768 .f32) (i : S1024x768.Idx) :
    (k0_pay3 (F := Ideal) (iblk m c 0 t) (iblk m c 1 t) o i : EReal) = (o i : EReal) + part m c t i := by
  rw [← product_part]
  pointwise [k0_pay3]

theorem last_at (o : FVec Ideal S1024x768 .f32) (i : S1024x768.Idx) :
    (k0_pay4 (F := Ideal) (iblk m c 0 t) (iblk m c 1 t) o i : EReal) = (o i : EReal) + part m c t i := by
  rw [← product_part]
  pointwise [k0_pay4]

/-- What is accumulated after point `n`: in the scratch, and at a run's last point in the output block. -/
def acc (n : ℕ) (h : n < cfg0.N) (i : S1024x768.Idx) : EReal :=
  if n % 3 = 2 then ((outsAt0 m c n h).1 i : EReal) else (outsAt0 m c n h).2 i

theorem acc_first (h : t.val % 3 = 0) (i : S1024x768.Idx) : acc m c t.val t.isLt i = 0 + part m c t i := by
  rw [acc, if_neg (by omega), outsAt0_A m c t h (by omega) (by omega)]
  frame_out
  exact first_at m c t i

theorem acc_step (h : ¬t.val % 3 = 0) (i : S1024x768.Idx) :
    acc m c t.val t.isLt i = acc m c (t.val - 1) (Nat.lt_of_le_of_lt (Nat.sub_le _ _) t.isLt) i + part m c t i := by
  rw [acc, acc, if_neg (show ¬(t.val - 1) % 3 = 2 by omega)]
  by_cases h' : t.val % 3 = 2
  · rw [if_pos h', outsAt0_C m c t h (by omega) h']
    frame_out
    rw [read_unread_whole]
    exact last_at m c t _ i
  · rw [if_neg h', outsAt0_B m c t h (by omega) h']
    frame_out
    rw [read_unread_whole]
    exact next_at m c t _ i

theorem sum_parts (ht : ∀ j : Fin 3, 3 * (t.val / 3) + j.val < cfg0.N) (i : S1024x768.Idx) (y : S1024x1536.Idx)
    (h0 : (y 0).val = t.val / 6 * 1024 + (i 0).val) (h1 : (y 1).val = t.val / 3 % 2 * 768 + (i 1).val) :
    ∑ j : Fin 3, part m c ⟨3 * (t.val / 3) + j.val, ht j⟩ i = prod (aA m c) (bA m c) y := by
  unfold prod
  rw [Fin.sum_univ_tiles 3 1536 rfl]
  refine Finset.sum_congr rfl fun j _ => Finset.sum_congr rfl fun k _ => ?_
  have hj := j.isLt
  refine congrArg₂ (· * ·) (congrArg₂ _ (Fin.ext ?_) (Fin.ext ?_)) (congrArg₂ _ (Fin.ext ?_) (Fin.ext ?_))
  · show (3 * (t.val / 3) + j.val) / 6 * 1024 + (i 0).val = (y 0).val
    omega
  · show (3 * (t.val / 3) + j.val) % 3 * 1536 + k.val = j.val * 1536 + k.val
    omega
  · show (3 * (t.val / 3) + j.val) % 3 * 1536 + k.val = j.val * 1536 + k.val
    omega
  · show (3 * (t.val / 3) + j.val) / 3 % 2 * 768 + (i 1).val = (y 1).val
    omega

/-- The kernel's array after the run. -/
theorem final : (dats m 0 c).arrAt 2 cfg0.N = prod (aA m c) (bA m c) := by
  refine (dats m 0 c).arrAt_eq_of_covers 2 _ (by decide +kernel) fun t hf y => ?_
  have hl := (flush0_2 t).mp hf
  blk_simp
  rw [after0_2]
  have e := Pipeline.eq_sum_fin_of_reset_step_apply_of_flush (M := EReal) (acc m c) 3 (fun _ => 0) (part m c)
    (acc_first m c) (acc_step m c) t hl
  refine Eq.trans ?_ ((e y).trans ((zero_add _).trans (sum_parts m c t (Pipeline.run_point_lt_of_flush t hl) y _ ?_ ?_)))
  · rw [acc, if_pos hl]
  · blk_simp [idx t]
  · blk_simp [idx t]

/-- The reference's array: its sum over the two sequences and their positions is one sum over the rows. -/
theorem reference (a : FVec Ideal S2x2304x1024 .f32) (b : FVec Ideal S2x2304x1536 .f32) :
    truncf .bf16 (transpose Cert.EvenInWReferenceIdeal.S1024x1536 [1, 0] (Host.dotGeneral Cert.EvenInWReferenceIdeal.dot_S2x2304x1536_S2x2304x1024_S1536x1024_01_01_2_2_n_n none b a)
      Cert.EvenInWReferenceIdeal.Gen.transposes_S1536x1024_S1024x1536_1_0) Cert.EvenInWReferenceIdeal.Gen.bitsLt_bf16_f32 = prod a b := by
  funext y
  have h : y = ix2 (y 0) (y 1) := by idx_ext
  rw [h]
  unfold prod
  rw [Fin.sum_univ_tiles 2 2304 rfl]
  pointwise [lhs, rhs]
  refine Finset.sum_congr rfl fun q _ => Finset.sum_congr rfl fun k _ => (mul_comm _ _).trans ?_
  have hk := k.isLt
  have h1 : (⟨(q.val * 2304 + k.val) / 2304, by omega⟩ : Fin 2) = q := Fin.ext (show (q.val * 2304 + k.val) / 2304 = q.val by omega)
  have h2 : (⟨(q.val * 2304 + k.val) % 2304, by omega⟩ : Fin 2304) = k := Fin.ext (show (q.val * 2304 + k.val) % 2304 = k.val by omega)
  exact (congrArg₂ (fun u v => a (ix3 u v (y 0)) * b (ix3 u v (y 1))) h1 h2).symm

end Cert.EvenInWEq

end
-- ==== Proof.OddIn.lean ====
/- The odd layers' projection of their input: the product, forward. -/
module

public import proofs.«01_k».proof.Proof.Gen.OddInIdeal.Value
public import proofs.«01_k».proof.Proof.Gen.OddInReferenceIdeal.Run
public import Idealize.ShloMosaic.Lib.Pipeline.ValueKit
public import Idealize.ShloMosaic.Lib.Pointwise

@[expose] public section

set_option maxRecDepth 16384

noncomputable section

namespace Cert.OddInEq

open Cert.OddInIdeal Cert.OddInIdeal.Gen Idealize.ShloMosaic Idealize.ShloMosaic.TcCoe Idealize.SL.Sem

/-- The left factor at a row and a summation index. -/
def lhs (a : FVec Ideal S2x2304x1024 .f32) (i : Fin 4608) (k : Fin 1024) : EReal :=
  a (ix3 ⟨i.val / 2304, by omega⟩ ⟨i.val % 2304, by omega⟩ k)

/-- The right factor at a summation index and a column. -/
def rhs (b : FVec Ideal S1024x2560 .f32) (k : Fin 1024) (j : Fin 2560) : EReal :=
  b (ix2 k j)

/-- The product at an element. -/
def prod (a : FVec Ideal S2x2304x1024 .f32) (b : FVec Ideal S1024x2560 .f32) (y : S4608x2560.Idx) : EReal :=
  ∑ k, lhs a (y 0) k * rhs b k (y 1)

variable (m : (ℓ : Loc nD τ sig) → Buf (Elt Ideal) ℓ) (c : Dev nD)

/-- The factors as arguments of the kernel. -/
abbrev aA : FVec Ideal S2x2304x1024 .f32 := m ((c : Thread nD τ).loc main_arg0)
abbrev bA : FVec Ideal S1024x2560 .f32 := m ((c : Thread nD τ).loc main_arg1)

theorem idx : ∀ t : Fin cfg0.N, win0_0.index t = ![t.val / 1, t.val % 1] ∧ win0_1.index t = ![t.val % 1, t.val / 1 % 1]
    ∧ win0_2.index t = ![t.val / 1, t.val / 1 % 1] :=
  (by decide +kernel : ∀ t : Fin grid0.N, _)

theorem points (t : Fin cfg0.N) : t.val < 9 := lt_of_lt_of_eq t.isLt N_0

/-- Row, column and summation index of an element of the blocks of grid point `t`. -/
def ti (t : Fin cfg0.N) (x : Fin 512) : Fin 4608 := ⟨t.val / 1 * 512 + x.val, by have := points t; omega⟩
def tj (t : Fin cfg0.N) (y : Fin 2560) : Fin 2560 := ⟨t.val / 1 % 1 * 2560 + y.val, by omega⟩
def tk (t : Fin cfg0.N) (k : Fin 1024) : Fin 1024 := ⟨t.val % 1 * 1024 + k.val, by omega⟩

variable (t : Fin cfg0.N) (x : Fin 512) (y : Fin 2560) (k : Fin 1024)

theorem lhs_read : (iblk m c 0 t (ix2 x k) : EReal) = lhs (aA m c) (ti t x) (tk t k) := by
  unfold lhs ti tk
  blk_point [iblk, V, idx t]

theorem rhs_read : (iblk m c 1 t (ix2 k y) : EReal) = rhs (bA m c) (tk t k) (tj t y) := by
  unfold rhs tk tj
  blk_point [iblk, V, idx t]

/-- What one grid point adds to an element of its block. -/
def part (t : Fin cfg0.N) (i : S512x2560.Idx) : EReal :=
  ∑ k, lhs (aA m c) (ti t (i 0)) (tk t k) * rhs (bA m c) (tk t k) (tj t (i 1))

theorem product_at (a : FVec Ideal S512x1024 .bf16) (b : FVec Ideal S1024x2560 .bf16) :
    (k0_pay1 (F := Ideal) a b (ix2 x y) : EReal) = ∑ k, (a (ix2 x k) : EReal) * b (ix2 k y) := by
  pointwise [k0_pay1]

theorem product_part (i : S512x2560.Idx) : (k0_pay1 (F := Ideal) (iblk m c 0 t) (iblk m c 1 t) i : EReal) = part m c t i := by
  have h : i = ix2 (i 0) (i 1) := by idx_ext
  refine (congrArg (k0_pay1 (F := Ideal) (iblk m c 0 t) (iblk m c 1 t)) h).trans ((product_at _ _ _ _).trans ?_)
  exact Finset.sum_congr rfl fun k _ => congrArg₂ (· * ·) (lhs_read m c t _ k) (rhs_read m c t _ k)

theorem part_prod (i : S512x2560.Idx) (y : S4608x2560.Idx) (h0 : (y 0).val = t.val / 1 * 512 + (i 0).val)
    (h1 : (y 1).val = t.val / 1 % 1 * 2560 + (i 1).val) : part m c t i = prod (aA m c) (bA m c) y := by
  refine Finset.sum_congr rfl fun k _ => ?_
  refine congrArg₂ (· * ·) (congrArg₂ _ (Fin.ext ?_) (Fin.ext ?_)) (congrArg₂ _ (Fin.ext ?_) (Fin.ext ?_))
  · exact h0.symm
  · show t.val % 1 * 1024 + k.val = k.val
    omega
  · show t.val % 1 * 1024 + k.val = k.val
    omega
  · exact h1.symm

/-- The kernel's array after the run. -/
theorem final : (dats m 0 c).arrAt 2 cfg0.N = prod (aA m c) (bA m c) := by
  refine (dats m 0 c).arrAt_eq_of_covers 2 _ (by decide +kernel) fun t hf y => ?_
  blk_simp
  rw [after0_2]
  unfold out0_2
  frame_out
  refine (product_part m c t y).trans (part_prod m c t y _ ?_ ?_)
  · blk_simp [idx t]
  · blk_simp [idx t]

/-- The reference's array. -/
theorem reference (a : FVec Ideal S2x2304x1024 .f32) (b : FVec Ideal S1024x2560 .f32) :
    shapeCast Cert.OddInReferenceIdeal.S4608x2560 (Host.dotGeneral Cert.OddInReferenceIdeal.dot_S2x2304x1024_S1024x2560_S2x2304x2560_2_0_01_1_n_n none a b)
      Cert.OddInReferenceIdeal.Gen.shapeCasts_S2x2304x2560_S4608x2560 = prod a b := by
  funext y
  have h : y = ix2 (y 0) (y 1) := by idx_ext
  rw [h]
  pointwise [prod, lhs, rhs]

end Cert.OddInEq

end
-- ==== Proof.OddInT.lean ====
/- The odd layers' projection of their input: the product, gradient with respect to the tokens. -/
module

public import proofs.«01_k».proof.Proof.Gen.OddInTIdeal.Value
public import proofs.«01_k».proof.Proof.Gen.OddInTReferenceIdeal.Run
public import Idealize.ShloMosaic.Lib.Pipeline.ValueKit
public import Idealize.ShloMosaic.Lib.Pointwise

@[expose] public section

set_option maxRecDepth 16384

noncomputable section

namespace Cert.OddInTEq

open Cert.OddInTIdeal Cert.OddInTIdeal.Gen Idealize.ShloMosaic Idealize.ShloMosaic.TcCoe Idealize.SL.Sem

/-- The left factor at a row and a summation index. -/
def lhs (a : FVec Ideal S2x2304x2560 .f32) (i : Fin 4608) (k : Fin 2560) : EReal :=
  a (ix3 ⟨i.val / 2304, by omega⟩ ⟨i.val % 2304, by omega⟩ k)

/-- The right factor at a summation index and a column. -/
def rhs (b : FVec Ideal S1024x2560 .f32) (k : Fin 2560) (j : Fin 1024) : EReal :=
  b (ix2 j k)

/-- The product at an element. -/
def prod (a : FVec Ideal S2x2304x2560 .f32) (b : FVec Ideal S1024x2560 .f32) (y : S4608x1024.Idx) : EReal :=
  ∑ k, lhs a (y 0) k * rhs b k (y 1)

variable (m : (ℓ : Loc nD τ sig) → Buf (Elt Ideal) ℓ) (c : Dev nD)

/-- The factors as arguments of the kernel. -/
abbrev aA : FVec Ideal S2x2304x2560 .f32 := m ((c : Thread nD τ).loc main_arg2)
abbrev bA : FVec Ideal S1024x2560 .f32 := m ((c : Thread nD τ).loc main_arg1)

theorem idx : ∀ t : Fin cfg0.N, win0_0.index t = ![t.val / 1, t.val % 1] ∧ win0_1.index t = ![t.val / 1 % 1, t.val % 1]
    ∧ win0_2.index t = ![t.val / 1, t.val / 1 % 1] :=
  (by decide +kernel : ∀ t : Fin grid0.N, _)

theorem points (t : Fin cfg0.N) : t.val < 3 := lt_of_lt_of_eq t.isLt N_0

/-- Row, column and summation index of an element of the blocks of grid point `t`. -/
def ti (t : Fin cfg0.N) (x : Fin 1536) : Fin 4608 := ⟨t.val / 1 * 1536 + x.val, by have := points t; omega⟩
def tj (t : Fin cfg0.N) (y : Fin 1024) : Fin 1024 := ⟨t.val / 1 % 1 * 1024 + y.val, by omega⟩
def tk (t : Fin cfg0.N) (k : Fin 2560) : Fin 2560 := ⟨t.val % 1 * 2560 + k.val, by omega⟩

variable (t : Fin cfg0.N) (x : Fin 1536) (y : Fin 1024) (k : Fin 2560)

theorem lhs_read : (iblk m c 0 t (ix2 x k) : EReal) = lhs (aA m c) (ti t x) (tk t k) := by
  unfold lhs ti tk
  blk_point [iblk, V, idx t]

theorem rhs_read : (iblk m c 1 t (ix2 y k) : EReal) = rhs (bA m c) (tk t k) (tj t y) := by
  unfold rhs tk tj
  blk_point [iblk, V, idx t]

/-- What one grid point adds to an element of its block. -/
def part (t : Fin cfg0.N) (i : S1536x1024.Idx) : EReal :=
  ∑ k, lhs (aA m c) (ti t (i 0)) (tk t k) * rhs (bA m c) (tk t k) (tj t (i 1))

theorem product_at (a : FVec Ideal S1536x2560 .bf16) (b : FVec Ideal S1024x2560 .bf16) :
    (k0_pay1 (F := Ideal) a b (ix2 x y) : EReal) = ∑ k, (a (ix2 x k) : EReal) * b (ix2 y k) := by
  pointwise [k0_pay1]

theorem product_part (i : S1536x1024.Idx) : (k0_pay1 (F := Ideal) (iblk m c 0 t) (iblk m c 1 t) i : EReal) = part m c t i := by
  have h : i = ix2 (i 0) (i 1) := by idx_ext
  refine (congrArg (k0_pay1 (F := Ideal) (iblk m c 0 t) (iblk m c 1 t)) h).trans ((product_at _ _ _ _).trans ?_)
  exact Finset.sum_congr rfl fun k _ => congrArg₂ (· * ·) (lhs_read m c t _ k) (rhs_read m c t _ k)

theorem part_prod (i : S1536x1024.Idx) (y : S4608x1024.Idx) (h0 : (y 0).val = t.val / 1 * 1536 + (i 0).val)
    (h1 : (y 1).val = t.val / 1 % 1 * 1024 + (i 1).val) : part m c t i = prod (aA m c) (bA m c) y := by
  refine Finset.sum_congr rfl fun k _ => ?_
  refine congrArg₂ (· * ·) (congrArg₂ _ (Fin.ext ?_) (Fin.ext ?_)) (congrArg₂ _ (Fin.ext ?_) (Fin.ext ?_))
  · exact h0.symm
  · show t.val % 1 * 2560 + k.val = k.val
    omega
  · show t.val % 1 * 2560 + k.val = k.val
    omega
  · exact h1.symm

/-- The kernel's array after the run. -/
theorem final : (dats m 0 c).arrAt 2 cfg0.N = prod (aA m c) (bA m c) := by
  refine (dats m 0 c).arrAt_eq_of_covers 2 _ (by decide +kernel) fun t hf y => ?_
  blk_simp
  rw [after0_2]
  unfold out0_2
  frame_out
  refine (product_part m c t y).trans (part_prod m c t y _ ?_ ?_)
  · blk_simp [idx t]
  · blk_simp [idx t]

/-- The reference's array. -/
theorem reference (a : FVec Ideal S2x2304x2560 .f32) (b : FVec Ideal S1024x2560 .f32) :
    shapeCast Cert.OddInTReferenceIdeal.S4608x1024 (Host.dotGeneral Cert.OddInTReferenceIdeal.dot_S2x2304x2560_S1024x2560_S2x2304x1024_2_1_01_0_n_n none a b)
      Cert.OddInTReferenceIdeal.Gen.shapeCasts_S2x2304x1024_S4608x1024 = prod a b := by
  funext y
  have h : y = ix2 (y 0) (y 1) := by idx_ext
  rw [h]
  pointwise [prod, lhs, rhs]

end Cert.OddInTEq

end
-- ==== Proof.OddInW.lean ====
/- The odd layers' projection of their input: the product, gradient with respect to the weights. -/
module

public import proofs.«01_k».proof.Proof.Gen.OddInWIdeal.Value
public import proofs.«01_k».proof.Proof.Gen.OddInWReferenceIdeal.Run
public import Idealize.ShloMosaic.Lib.Pipeline.ValueKit
public import Idealize.ShloMosaic.Lib.Pointwise
public import Idealize.ShloMosaic.Lib.Pipeline.ReadBack

@[expose] public section

set_option maxRecDepth 16384

noncomputable section

namespace Cert.OddInWEq

open Cert.OddInWIdeal Cert.OddInWIdeal.Gen Idealize.ShloMosaic Idealize.ShloMosaic.TcCoe Idealize.SL.Sem

/-- The left factor at a row and a summation index. -/
def lhs (a : FVec Ideal S2x2304x1024 .f32) (i : Fin 1024) (k : Fin 4608) : EReal :=
  a (ix3 ⟨k.val / 2304, by omega⟩ ⟨k.val % 2304, by omega⟩ i)

/-- The right factor at a summation index and a column. -/
def rhs (b : FVec Ideal S2x2304x2560 .f32) (k : Fin 4608) (j : Fin 2560) : EReal :=
  b (ix3 ⟨k.val / 2304, by omega⟩ ⟨k.val % 2304, by omega⟩ j)

/-- The product at an element. -/
def prod (a : FVec Ideal S2x2304x1024 .f32) (b : FVec Ideal S2x2304x2560 .f32) (y : S1024x2560.Idx) : EReal :=
  ∑ k, lhs a (y 0) k * rhs b k (y 1)

variable (m : (ℓ : Loc nD τ sig) → Buf (Elt Ideal) ℓ) (c : Dev nD)

/-- The factors as arguments of the kernel. -/
abbrev aA : FVec Ideal S2x2304x1024 .f32 := m ((c : Thread nD τ).loc main_arg0)
abbrev bA : FVec Ideal S2x2304x2560 .f32 := m ((c : Thread nD τ).loc main_arg2)

theorem idx : ∀ t : Fin cfg0.N, win0_0.index t = ![t.val % 3, t.val / 15] ∧ win0_1.index t = ![t.val % 3, t.val / 3 % 5]
    ∧ win0_2.index t = ![t.val / 15, t.val / 3 % 5] :=
  (by decide +kernel : ∀ t : Fin grid0.N, _)

theorem points (t : Fin cfg0.N) : t.val < 15 := lt_of_lt_of_eq t.isLt N_0

/-- Row, column and summation index of an element of the blocks of grid point `t`. -/
def ti (t : Fin cfg0.N) (x : Fin 1024) : Fin 1024 := ⟨t.val / 15 * 1024 + x.val, by have := points t; omega⟩
def tj (t : Fin cfg0.N) (y : Fin 512) : Fin 2560 := ⟨t.val / 3 % 5 * 512 + y.val, by omega⟩
def tk (t : Fin cfg0.N) (k : Fin 1536) : Fin 4608 := ⟨t.val % 3 * 1536 + k.val, by omega⟩

variable (t : Fin cfg0.N) (x : Fin 1024) (y : Fin 512) (k : Fin 1536)

theorem lhs_read : (iblk m c 0 t (ix2 k x) : EReal) = lhs (aA m c) (ti t x) (tk t k) := by
  unfold lhs ti tk
  blk_point [iblk, V, idx t]

theorem rhs_read : (iblk m c 1 t (ix2 k y) : EReal) = rhs (bA m c) (tk t k) (tj t y) := by
  unfold rhs tk tj
  blk_point [iblk, V, idx t]

/-- What one grid point adds to an element of its block. -/
def part (t : Fin cfg0.N) (i : S1024x512.Idx) : EReal :=
  ∑ k, lhs (aA m c) (ti t (i 0)) (tk t k) * rhs (bA m c) (tk t k) (tj t (i 1))

theorem product_at (a : FVec Ideal S1536x1024 .bf16) (b : FVec Ideal S1536x512 .bf16) :
    (k0_pay1 (F := Ideal) a b (ix2 x y) : EReal) = ∑ k, (a (ix2 k x) : EReal) * b (ix2 k y) := by
  pointwise [k0_pay1]

theorem product_part (i : S1024x512.Idx) : (k0_pay1 (F := Ideal) (iblk m c 0 t) (iblk m c 1 t) i : EReal) = part m c t i := by
  have h : i = ix2 (i 0) (i 1) := by idx_ext
  refine (congrArg (k0_pay1 (F := Ideal) (iblk m c 0 t) (iblk m c 1 t)) h).trans ((product_at _ _ _ _).trans ?_)
  exact Finset.sum_congr rfl fun k _ => congrArg₂ (· * ·) (lhs_read m c t _ k) (rhs_read m c t _ k)

theorem first_at (i : S1024x512.Idx) : (k0_pay2 (F := Ideal) (iblk m c 0 t) (iblk m c 1 t) i : EReal) = 0 + part m c t i := by
  rw [zero_add, ← product_part]
  pointwise [k0_pay2]

theorem next_at (o : FVec Ideal S1024x512 .f32) (i : S1024x512.Idx) :
    (k0_pay3 (F := Ideal) (iblk m c 0 t) (iblk m c 1 t) o i : EReal) = (o i : EReal) + part m c t i := by
  rw [← product_part]
  pointwise [k0_pay3]

theorem last_at (o : FVec Ideal S1024x512 .f32) (i : S1024x512.Idx) :
    (k0_pay4 (F := Ideal) (iblk m c 0 t) (iblk m c 1 t) o i : EReal) = (o i : EReal) + part m c t i := by
  rw [← product_part]
  pointwise [k0_pay4]

/-- What is accumulated after point `n`: in the scratch, and at a run's last point in the output block. -/
def acc (n : ℕ) (h : n < cfg0.N) (i : S1024x512.Idx) : EReal :=
  if n % 3 = 2 then ((outsAt0 m c n h).1 i : EReal) else (outsAt0 m c n h).2 i

theorem acc_first (h : t.val % 3 = 0) (i : S1024x512.Idx) : acc m c t.val t.isLt i = 0 + part m c t i := by
  rw [acc, if_neg (by omega), outsAt0_A m c t h (by omega) (by omega)]
  frame_out
  exact first_at m c t i

theorem acc_step (h : ¬t.val % 3 = 0) (i : S1024x512.Idx) :
    acc m c t.val t.isLt i = acc m c (t.val - 1) (Nat.lt_of_le_of_lt (Nat.sub_le _ _) t.isLt) i + part m c t i := by
  rw [acc, acc, if_neg (show ¬(t.val - 1) % 3 = 2 by omega)]
  by_cases h' : t.val % 3 = 2
  · rw [if_pos h', outsAt0_C m c t h (by omega) h']
    frame_out
    rw [read_unread_whole]
    exact last_at m c t _ i
  · rw [if_neg h', outsAt0_B m c t h (by omega) h']
    frame_out
    rw [read_unread_whole]
    exact next_at m c t _ i

theorem sum_parts (ht : ∀ j : Fin 3, 3 * (t.val / 3) + j.val < cfg0.N) (i : S1024x512.Idx) (y : S1024x2560.Idx)
    (h0 : (y 0).val = t.val / 15 * 1024 + (i 0).val) (h1 : (y 1).val = t.val / 3 % 5 * 512 + (i 1).val) :
    ∑ j : Fin 3, part m c ⟨3 * (t.val / 3) + j.val, ht j⟩ i = prod (aA m c) (bA m c) y := by
  unfold prod
  rw [Fin.sum_univ_tiles 3 1536 rfl]
  refine Finset.sum_congr rfl fun j _ => Finset.sum_congr rfl fun k _ => ?_
  have hj := j.isLt
  refine congrArg₂ (· * ·) (congrArg₂ _ (Fin.ext ?_) (Fin.ext ?_)) (congrArg₂ _ (Fin.ext ?_) (Fin.ext ?_))
  · show (3 * (t.val / 3) + j.val) / 15 * 1024 + (i 0).val = (y 0).val
    omega
  · show (3 * (t.val / 3) + j.val) % 3 * 1536 + k.val = j.val * 1536 + k.val
    omega
  · show (3 * (t.val / 3) + j.val) % 3 * 1536 + k.val = j.val * 1536 + k.val
    omega
  · show (3 * (t.val / 3) + j.val) / 3 % 5 * 512 + (i 1).val = (y 1).val
    omega

/-- The kernel's array after the run. -/
theorem final : (dats m 0 c).arrAt 2 cfg0.N = prod (aA m c) (bA m c) := by
  refine (dats m 0 c).arrAt_eq_of_covers 2 _ (by decide +kernel) fun t hf y => ?_
  have hl := (flush0_2 t).mp hf
  blk_simp
  rw [after0_2]
  have e := Pipeline.eq_sum_fin_of_reset_step_apply_of_flush (M := EReal) (acc m c) 3 (fun _ => 0) (part m c)
    (acc_first m c) (acc_step m c) t hl
  refine Eq.trans ?_ ((e y).trans ((zero_add _).trans (sum_parts m c t (Pipeline.run_point_lt_of_flush t hl) y _ ?_ ?_)))
  · rw [acc, if_pos hl]
  · blk_simp [idx t]
  · blk_simp [idx t]

/-- The reference's array: its sum over the two sequences and their positions is one sum over the rows. -/
theorem reference (a : FVec Ideal S2x2304x1024 .f32) (b : FVec Ideal S2x2304x2560 .f32) :
    truncf .bf16 (transpose Cert.OddInWReferenceIdeal.S1024x2560 [1, 0] (Host.dotGeneral Cert.OddInWReferenceIdeal.dot_S2x2304x2560_S2x2304x1024_S2560x1024_01_01_2_2_n_n none b a)
      Cert.OddInWReferenceIdeal.Gen.transposes_S2560x1024_S1024x2560_1_0) Cert.OddInWReferenceIdeal.Gen.bitsLt_bf16_f32 = prod a b := by
  funext y
  have h : y = ix2 (y 0) (y 1) := by idx_ext
  rw [h]
  unfold prod
  rw [Fin.sum_univ_tiles 2 2304 rfl]
  pointwise [lhs, rhs]
  refine Finset.sum_congr rfl fun q _ => Finset.sum_congr rfl fun k _ => (mul_comm _ _).trans ?_
  have hk := k.isLt
  have h1 : (⟨(q.val * 2304 + k.val) / 2304, by omega⟩ : Fin 2) = q := Fin.ext (show (q.val * 2304 + k.val) / 2304 = q.val by omega)
  have h2 : (⟨(q.val * 2304 + k.val) % 2304, by omega⟩ : Fin 2304) = k := Fin.ext (show (q.val * 2304 + k.val) % 2304 = k.val by omega)
  exact (congrArg₂ (fun u v => a (ix3 u v (y 0)) * b (ix3 u v (y 1))) h1 h2).symm

end Cert.OddInWEq

end
-- ==== Proof.MlaQ.lean ====
/- The odd layers' projection to queries: the product, forward. -/
module

public import proofs.«01_k».proof.Proof.Gen.MlaQIdeal.Value
public import proofs.«01_k».proof.Proof.Gen.MlaQReferenceIdeal.Run
public import Idealize.ShloMosaic.Lib.Pipeline.ValueKit
public import Idealize.ShloMosaic.Lib.Pointwise

@[expose] public section

set_option maxRecDepth 16384

noncomputable section

namespace Cert.MlaQEq

open Cert.MlaQIdeal Cert.MlaQIdeal.Gen Idealize.ShloMosaic Idealize.ShloMosaic.TcCoe Idealize.SL.Sem

/-- The left factor at a row and a summation index. -/
def lhs (a : FVec Ideal S2x2304x512 .f32) (i : Fin 4608) (k : Fin 512) : EReal :=
  a (ix3 ⟨i.val / 2304, by omega⟩ ⟨i.val % 2304, by omega⟩ k)

/-- The right factor at a summation index and a column. -/
def rhs (b : FVec Ideal S512x768 .f32) (k : Fin 512) (j : Fin 768) : EReal :=
  b (ix2 k j)

/-- The product at an element. -/
def prod (a : FVec Ideal S2x2304x512 .f32) (b : FVec Ideal S512x768 .f32) (y : S4608x768.Idx) : EReal :=
  ∑ k, lhs a (y 0) k * rhs b k (y 1)

variable (m : (ℓ : Loc nD τ sig) → Buf (Elt Ideal) ℓ) (c : Dev nD)

/-- The factors as arguments of the kernel. -/
abbrev aA : FVec Ideal S2x2304x512 .f32 := m ((c : Thread nD τ).loc main_arg0)
abbrev bA : FVec Ideal S512x768 .f32 := m ((c : Thread nD τ).loc main_arg1)

theorem idx : ∀ t : Fin cfg0.N, win0_0.index t = ![t.val / 1, t.val % 1] ∧ win0_1.index t = ![t.val % 1, t.val / 1 % 1]
    ∧ win0_2.index t = ![t.val / 1, t.val / 1 % 1] :=
  (by decide +kernel : ∀ t : Fin grid0.N, _)

theorem points (t : Fin cfg0.N) : t.val < 3 := lt_of_lt_of_eq t.isLt N_0

/-- Row, column and summation index of an element of the blocks of grid point `t`. -/
def ti (t : Fin cfg0.N) (x : Fin 1536) : Fin 4608 := ⟨t.val / 1 * 1536 + x.val, by have := points t; omega⟩
def tj (t : Fin cfg0.N) (y : Fin 768) : Fin 768 := ⟨t.val / 1 % 1 * 768 + y.val, by omega⟩
def tk (t : Fin cfg0.N) (k : Fin 512) : Fin 512 := ⟨t.val % 1 * 512 + k.val, by omega⟩

variable (t : Fin cfg0.N) (x : Fin 1536) (y : Fin 768) (k : Fin 512)

theorem lhs_read : (iblk m c 0 t (ix2 x k) : EReal) = lhs (aA m c) (ti t x) (tk t k) := by
  unfold lhs ti tk
  blk_point [iblk, V, idx t]

theorem rhs_read : (iblk m c 1 t (ix2 k y) : EReal) = rhs (bA m c) (tk t k) (tj t y) := by
  unfold rhs tk tj
  blk_point [iblk, V, idx t]

/-- What one grid point adds to an element of its block. -/
def part (t : Fin cfg0.N) (i : S1536x768.Idx) : EReal :=
  ∑ k, lhs (aA m c) (ti t (i 0)) (tk t k) * rhs (bA m c) (tk t k) (tj t (i 1))

theorem product_at (a : FVec Ideal S1536x512 .bf16) (b : FVec Ideal S512x768 .bf16) :
    (k0_pay1 (F := Ideal) a b (ix2 x y) : EReal) = ∑ k, (a (ix2 x k) : EReal) * b (ix2 k y) := by
  pointwise [k0_pay1]

theorem product_part (i : S1536x768.Idx) : (k0_pay1 (F := Ideal) (iblk m c 0 t) (iblk m c 1 t) i : EReal) = part m c t i := by
  have h : i = ix2 (i 0) (i 1) := by idx_ext
  refine (congrArg (k0_pay1 (F := Ideal) (iblk m c 0 t) (iblk m c 1 t)) h).trans ((product_at _ _ _ _).trans ?_)
  exact Finset.sum_congr rfl fun k _ => congrArg₂ (· * ·) (lhs_read m c t _ k) (rhs_read m c t _ k)

theorem part_prod (i : S1536x768.Idx) (y : S4608x768.Idx) (h0 : (y 0).val = t.val / 1 * 1536 + (i 0).val)
    (h1 : (y 1).val = t.val / 1 % 1 * 768 + (i 1).val) : part m c t i = prod (aA m c) (bA m c) y := by
  refine Finset.sum_congr rfl fun k _ => ?_
  refine congrArg₂ (· * ·) (congrArg₂ _ (Fin.ext ?_) (Fin.ext ?_)) (congrArg₂ _ (Fin.ext ?_) (Fin.ext ?_))
  · exact h0.symm
  · show t.val % 1 * 512 + k.val = k.val
    omega
  · show t.val % 1 * 512 + k.val = k.val
    omega
  · exact h1.symm

/-- The kernel's array after the run. -/
theorem final : (dats m 0 c).arrAt 2 cfg0.N = prod (aA m c) (bA m c) := by
  refine (dats m 0 c).arrAt_eq_of_covers 2 _ (by decide +kernel) fun t hf y => ?_
  blk_simp
  rw [after0_2]
  unfold out0_2
  frame_out
  refine (product_part m c t y).trans (part_prod m c t y _ ?_ ?_)
  · blk_simp [idx t]
  · blk_simp [idx t]

/-- The reference's array. -/
theorem reference (a : FVec Ideal S2x2304x512 .f32) (b : FVec Ideal S512x768 .f32) :
    shapeCast Cert.MlaQReferenceIdeal.S4608x768 (Host.dotGeneral Cert.MlaQReferenceIdeal.dot_S2x2304x512_S512x768_S2x2304x768_2_0_01_1_n_n none a b)
      Cert.MlaQReferenceIdeal.Gen.shapeCasts_S2x2304x768_S4608x768 = prod a b := by
  funext y
  have h : y = ix2 (y 0) (y 1) := by idx_ext
  rw [h]
  pointwise [prod, lhs, rhs]

end Cert.MlaQEq

end
-- ==== Proof.MlaQT.lean ====
/- The odd layers' projection to queries: the product, gradient with respect to the tokens. -/
module

public import proofs.«01_k».proof.Proof.Gen.MlaQTIdeal.Value
public import proofs.«01_k».proof.Proof.Gen.MlaQTReferenceIdeal.Run
public import Idealize.ShloMosaic.Lib.Pipeline.ValueKit
public import Idealize.ShloMosaic.Lib.Pointwise

@[expose] public section

set_option maxRecDepth 16384

noncomputable section

namespace Cert.MlaQTEq

open Cert.MlaQTIdeal Cert.MlaQTIdeal.Gen Idealize.ShloMosaic Idealize.ShloMosaic.TcCoe Idealize.SL.Sem

/-- The left factor at a row and a summation index. -/
def lhs (a : FVec Ideal S2x2304x768 .f32) (i : Fin 4608) (k : Fin 768) : EReal :=
  a (ix3 ⟨i.val / 2304, by omega⟩ ⟨i.val % 2304, by omega⟩ k)

/-- The right factor at a summation index and a column. -/
def rhs (b : FVec Ideal S512x768 .f32) (k : Fin 768) (j : Fin 512) : EReal :=
  b (ix2 j k)

/-- The product at an element. -/
def prod (a : FVec Ideal S2x2304x768 .f32) (b : FVec Ideal S512x768 .f32) (y : S4608x512.Idx) : EReal :=
  ∑ k, lhs a (y 0) k * rhs b k (y 1)

variable (m : (ℓ : Loc nD τ sig) → Buf (Elt Ideal) ℓ) (c : Dev nD)

/-- The factors as arguments of the kernel. -/
abbrev aA : FVec Ideal S2x2304x768 .f32 := m ((c : Thread nD τ).loc main_arg2)
abbrev bA : FVec Ideal S512x768 .f32 := m ((c : Thread nD τ).loc main_arg1)

theorem idx : ∀ t : Fin cfg0.N, win0_0.index t = ![t.val / 1, t.val % 1] ∧ win0_1.index t = ![t.val / 1 % 1, t.val % 1]
    ∧ win0_2.index t = ![t.val / 1, t.val / 1 % 1] :=
  (by decide +kernel : ∀ t : Fin grid0.N, _)

theorem points (t : Fin cfg0.N) : t.val < 3 := lt_of_lt_of_eq t.isLt N_0

/-- Row, column and summation index of an element of the blocks of grid point `t`. -/
def ti (t : Fin cfg0.N) (x : Fin 1536) : Fin 4608 := ⟨t.val / 1 * 1536 + x.val, by have := points t; omega⟩
def tj (t : Fin cfg0.N) (y : Fin 512) : Fin 512 := ⟨t.val / 1 % 1 * 512 + y.val, by omega⟩
def tk (t : Fin cfg0.N) (k : Fin 768) : Fin 768 := ⟨t.val % 1 * 768 + k.val, by omega⟩

variable (t : Fin cfg0.N) (x : Fin 1536) (y : Fin 512) (k : Fin 768)

theorem lhs_read : (iblk m c 0 t (ix2 x k) : EReal) = lhs (aA m c) (ti t x) (tk t k) := by
  unfold lhs ti tk
  blk_point [iblk, V, idx t]

theorem rhs_read : (iblk m c 1 t (ix2 y k) : EReal) = rhs (bA m c) (tk t k) (tj t y) := by
  unfold rhs tk tj
  blk_point [iblk, V, idx t]

/-- What one grid point adds to an element of its block. -/
def part (t : Fin cfg0.N) (i : S1536x512.Idx) : EReal :=
  ∑ k, lhs (aA m c) (ti t (i 0)) (tk t k) * rhs (bA m c) (tk t k) (tj t (i 1))

theorem product_at (a : FVec Ideal S1536x768 .bf16) (b : FVec Ideal S512x768 .bf16) :
    (k0_pay1 (F := Ideal) a b (ix2 x y) : EReal) = ∑ k, (a (ix2 x k) : EReal) * b (ix2 y k) := by
  pointwise [k0_pay1]

theorem product_part (i : S1536x512.Idx) : (k0_pay1 (F := Ideal) (iblk m c 0 t) (iblk m c 1 t) i : EReal) = part m c t i := by
  have h : i = ix2 (i 0) (i 1) := by idx_ext
  refine (congrArg (k0_pay1 (F := Ideal) (iblk m c 0 t) (iblk m c 1 t)) h).trans ((product_at _ _ _ _).trans ?_)
  exact Finset.sum_congr rfl fun k _ => congrArg₂ (· * ·) (lhs_read m c t _ k) (rhs_read m c t _ k)

theorem part_prod (i : S1536x512.Idx) (y : S4608x512.Idx) (h0 : (y 0).val = t.val / 1 * 1536 + (i 0).val)
    (h1 : (y 1).val = t.val / 1 % 1 * 512 + (i 1).val) : part m c t i = prod (aA m c) (bA m c) y := by
  refine Finset.sum_congr rfl fun k _ => ?_
  refine congrArg₂ (· * ·) (congrArg₂ _ (Fin.ext ?_) (Fin.ext ?_)) (congrArg₂ _ (Fin.ext ?_) (Fin.ext ?_))
  · exact h0.symm
  · show t.val % 1 * 768 + k.val = k.val
    omega
  · show t.val % 1 * 768 + k.val = k.val
    omega
  · exact h1.symm

/-- The kernel's array after the run. -/
theorem final : (dats m 0 c).arrAt 2 cfg0.N = prod (aA m c) (bA m c) := by
  refine (dats m 0 c).arrAt_eq_of_covers 2 _ (by decide +kernel) fun t hf y => ?_
  blk_simp
  rw [after0_2]
  unfold out0_2
  frame_out
  refine (product_part m c t y).trans (part_prod m c t y _ ?_ ?_)
  · blk_simp [idx t]
  · blk_simp [idx t]

/-- The reference's array. -/
theorem reference (a : FVec Ideal S2x2304x768 .f32) (b : FVec Ideal S512x768 .f32) :
    shapeCast Cert.MlaQTReferenceIdeal.S4608x512 (Host.dotGeneral Cert.MlaQTReferenceIdeal.dot_S2x2304x768_S512x768_S2x2304x512_2_1_01_0_n_n none a b)
      Cert.MlaQTReferenceIdeal.Gen.shapeCasts_S2x2304x512_S4608x512 = prod a b := by
  funext y
  have h : y = ix2 (y 0) (y 1) := by idx_ext
  rw [h]
  pointwise [prod, lhs, rhs]

end Cert.MlaQTEq

end
-- ==== Proof.MlaQW.lean ====
/- The odd layers' projection to queries: the product, gradient with respect to the weights. -/
module

public import proofs.«01_k».proof.Proof.Gen.MlaQWIdeal.Value
public import proofs.«01_k».proof.Proof.Gen.MlaQWReferenceIdeal.Run
public import Idealize.ShloMosaic.Lib.Pipeline.ValueKit
public import Idealize.ShloMosaic.Lib.Pointwise
public import Idealize.ShloMosaic.Lib.Pipeline.ReadBack

@[expose] public section

set_option maxRecDepth 16384

noncomputable section

namespace Cert.MlaQWEq

open Cert.MlaQWIdeal Cert.MlaQWIdeal.Gen Idealize.ShloMosaic Idealize.ShloMosaic.TcCoe Idealize.SL.Sem

/-- The left factor at a row and a summation index. -/
def lhs (a : FVec Ideal S2x2304x512 .f32) (i : Fin 512) (k : Fin 4608) : EReal :=
  a (ix3 ⟨k.val / 2304, by omega⟩ ⟨k.val % 2304, by omega⟩ i)

/-- The right factor at a summation index and a column. -/
def rhs (b : FVec Ideal S2x2304x768 .f32) (k : Fin 4608) (j : Fin 768) : EReal :=
  b (ix3 ⟨k.val / 2304, by omega⟩ ⟨k.val % 2304, by omega⟩ j)

/-- The product at an element. -/
def prod (a : FVec Ideal S2x2304x512 .f32) (b : FVec Ideal S2x2304x768 .f32) (y : S512x768.Idx) : EReal :=
  ∑ k, lhs a (y 0) k * rhs b k (y 1)

variable (m : (ℓ : Loc nD τ sig) → Buf (Elt Ideal) ℓ) (c : Dev nD)

/-- The factors as arguments of the kernel. -/
abbrev aA : FVec Ideal S2x2304x512 .f32 := m ((c : Thread nD τ).loc main_arg0)
abbrev bA : FVec Ideal S2x2304x768 .f32 := m ((c : Thread nD τ).loc main_arg2)

theorem idx : ∀ t : Fin cfg0.N, win0_0.index t = ![t.val % 3, t.val / 3] ∧ win0_1.index t = ![t.val % 3, t.val / 3 % 1]
    ∧ win0_2.index t = ![t.val / 3, t.val / 3 % 1] :=
  (by decide +kernel : ∀ t : Fin grid0.N, _)

theorem points (t : Fin cfg0.N) : t.val < 3 := lt_of_lt_of_eq t.isLt N_0

/-- Row, column and summation index of an element of the blocks of grid point `t`. -/
def ti (t : Fin cfg0.N) (x : Fin 512) : Fin 512 := ⟨t.val / 3 * 512 + x.val, by have := points t; omega⟩
def tj (t : Fin cfg0.N) (y : Fin 768) : Fin 768 := ⟨t.val / 3 % 1 * 768 + y.val, by omega⟩
def tk (t : Fin cfg0.N) (k : Fin 1536) : Fin 4608 := ⟨t.val % 3 * 1536 + k.val, by omega⟩

variable (t : Fin cfg0.N) (x : Fin 512) (y : Fin 768) (k : Fin 1536)

theorem lhs_read : (iblk m c 0 t (ix2 k x) : EReal) = lhs (aA m c) (ti t x) (tk t k) := by
  unfold lhs ti tk
  blk_point [iblk, V, idx t]

theorem rhs_read : (iblk m c 1 t (ix2 k y) : EReal) = rhs (bA m c) (tk t k) (tj t y) := by
  unfold rhs tk tj
  blk_point [iblk, V, idx t]

/-- What one grid point adds to an element of its block. -/
def part (t : Fin cfg0.N) (i : S512x768.Idx) : EReal :=
  ∑ k, lhs (aA m c) (ti t (i 0)) (tk t k) * rhs (bA m c) (tk t k) (tj t (i 1))

theorem product_at (a : FVec Ideal S1536x512 .bf16) (b : FVec Ideal S1536x768 .bf16) :
    (k0_pay1 (F := Ideal) a b (ix2 x y) : EReal) = ∑ k, (a (ix2 k x) : EReal) * b (ix2 k y) := by
  pointwise [k0_pay1]

theorem product_part (i : S512x768.Idx) : (k0_pay1 (F := Ideal) (iblk m c 0 t) (iblk m c 1 t) i : EReal) = part m c t i := by
  have h : i = ix2 (i 0) (i 1) := by idx_ext
  refine (congrArg (k0_pay1 (F := Ideal) (iblk m c 0 t) (iblk m c 1 t)) h).trans ((product_at _ _ _ _).trans ?_)
  exact Finset.sum_congr rfl fun k _ => congrArg₂ (· * ·) (lhs_read m c t _ k) (rhs_read m c t _ k)

theorem first_at (i : S512x768.Idx) : (k0_pay2 (F := Ideal) (iblk m c 0 t) (iblk m c 1 t) i : EReal) = 0 + part m c t i := by
  rw [zero_add, ← product_part]
  pointwise [k0_pay2]

theorem next_at (o : FVec Ideal S512x768 .f32) (i : S512x768.Idx) :
    (k0_pay3 (F := Ideal) (iblk m c 0 t) (iblk m c 1 t) o i : EReal) = (o i : EReal) + part m c t i := by
  rw [← product_part]
  pointwise [k0_pay3]

theorem last_at (o : FVec Ideal S512x768 .f32) (i : S512x768.Idx) :
    (k0_pay4 (F := Ideal) (iblk m c 0 t) (iblk m c 1 t) o i : EReal) = (o i : EReal) + part m c t i := by
  rw [← product_part]
  pointwise [k0_pay4]

/-- What is accumulated after point `n`: in the scratch, and at a run's last point in the output block. -/
def acc (n : ℕ) (h : n < cfg0.N) (i : S512x768.Idx) : EReal :=
  if n % 3 = 2 then ((outsAt0 m c n h).1 i : EReal) else (outsAt0 m c n h).2 i

theorem acc_first (h : t.val % 3 = 0) (i : S512x768.Idx) : acc m c t.val t.isLt i = 0 + part m c t i := by
  rw [acc, if_neg (by omega), outsAt0_A m c t h (by omega) (by omega)]
  frame_out
  exact first_at m c t i

theorem acc_step (h : ¬t.val % 3 = 0) (i : S512x768.Idx) :
    acc m c t.val t.isLt i = acc m c (t.val - 1) (Nat.lt_of_le_of_lt (Nat.sub_le _ _) t.isLt) i + part m c t i := by
  rw [acc, acc, if_neg (show ¬(t.val - 1) % 3 = 2 by omega)]
  by_cases h' : t.val % 3 = 2
  · rw [if_pos h', outsAt0_C m c t h (by omega) h']
    frame_out
    rw [read_unread_whole]
    exact last_at m c t _ i
  · rw [if_neg h', outsAt0_B m c t h (by omega) h']
    frame_out
    rw [read_unread_whole]
    exact next_at m c t _ i

theorem sum_parts (ht : ∀ j : Fin 3, 3 * (t.val / 3) + j.val < cfg0.N) (i : S512x768.Idx) (y : S512x768.Idx)
    (h0 : (y 0).val = t.val / 3 * 512 + (i 0).val) (h1 : (y 1).val = t.val / 3 % 1 * 768 + (i 1).val) :
    ∑ j : Fin 3, part m c ⟨3 * (t.val / 3) + j.val, ht j⟩ i = prod (aA m c) (bA m c) y := by
  unfold prod
  rw [Fin.sum_univ_tiles 3 1536 rfl]
  refine Finset.sum_congr rfl fun j _ => Finset.sum_congr rfl fun k _ => ?_
  have hj := j.isLt
  refine congrArg₂ (· * ·) (congrArg₂ _ (Fin.ext ?_) (Fin.ext ?_)) (congrArg₂ _ (Fin.ext ?_) (Fin.ext ?_))
  · show (3 * (t.val / 3) + j.val) / 3 * 512 + (i 0).val = (y 0).val
    omega
  · show (3 * (t.val / 3) + j.val) % 3 * 1536 + k.val = j.val * 1536 + k.val
    omega
  · show (3 * (t.val / 3) + j.val) % 3 * 1536 + k.val = j.val * 1536 + k.val
    omega
  · show (3 * (t.val / 3) + j.val) / 3 % 1 * 768 + (i 1).val = (y 1).val
    omega

/-- The kernel's array after the run. -/
theorem final : (dats m 0 c).arrAt 2 cfg0.N = prod (aA m c) (bA m c) := by
  refine (dats m 0 c).arrAt_eq_of_covers 2 _ (by decide +kernel) fun t hf y => ?_
  have hl := (flush0_2 t).mp hf
  blk_simp
  rw [after0_2]
  have e := Pipeline.eq_sum_fin_of_reset_step_apply_of_flush (M := EReal) (acc m c) 3 (fun _ => 0) (part m c)
    (acc_first m c) (acc_step m c) t hl
  refine Eq.trans ?_ ((e y).trans ((zero_add _).trans (sum_parts m c t (Pipeline.run_point_lt_of_flush t hl) y _ ?_ ?_)))
  · rw [acc, if_pos hl]
  · blk_simp [idx t]
  · blk_simp [idx t]

/-- The reference's array: its sum over the two sequences and their positions is one sum over the rows. -/
theorem reference (a : FVec Ideal S2x2304x512 .f32) (b : FVec Ideal S2x2304x768 .f32) :
    truncf .bf16 (transpose Cert.MlaQWReferenceIdeal.S512x768 [1, 0] (Host.dotGeneral Cert.MlaQWReferenceIdeal.dot_S2x2304x768_S2x2304x512_S768x512_01_01_2_2_n_n none b a)
      Cert.MlaQWReferenceIdeal.Gen.transposes_S768x512_S512x768_1_0) Cert.MlaQWReferenceIdeal.Gen.bitsLt_bf16_f32 = prod a b := by
  funext y
  have h : y = ix2 (y 0) (y 1) := by idx_ext
  rw [h]
  unfold prod
  rw [Fin.sum_univ_tiles 2 2304 rfl]
  pointwise [lhs, rhs]
  refine Finset.sum_congr rfl fun q _ => Finset.sum_congr rfl fun k _ => (mul_comm _ _).trans ?_
  have hk := k.isLt
  have h1 : (⟨(q.val * 2304 + k.val) / 2304, by omega⟩ : Fin 2) = q := Fin.ext (show (q.val * 2304 + k.val) / 2304 = q.val by omega)
  have h2 : (⟨(q.val * 2304 + k.val) % 2304, by omega⟩ : Fin 2304) = k := Fin.ext (show (q.val * 2304 + k.val) % 2304 = k.val by omega)
  exact (congrArg₂ (fun u v => a (ix3 u v (y 0)) * b (ix3 u v (y 1))) h1 h2).symm

end Cert.MlaQWEq

end
-- ==== Proof.MlaKv.lean ====
/- The odd layers' projection to keys and values: the product, forward. -/
module

public import proofs.«01_k».proof.Proof.Gen.MlaKvIdeal.Value
public import proofs.«01_k».proof.Proof.Gen.MlaKvReferenceIdeal.Run
public import Idealize.ShloMosaic.Lib.Pipeline.ValueKit
public import Idealize.ShloMosaic.Lib.Pointwise

@[expose] public section

set_option maxRecDepth 16384

noncomputable section

namespace Cert.MlaKvEq

open Cert.MlaKvIdeal Cert.MlaKvIdeal.Gen Idealize.ShloMosaic Idealize.ShloMosaic.TcCoe Idealize.SL.Sem

/-- The left factor at a row and a summation index. -/
def lhs (a : FVec Ideal S2x2304x256 .f32) (i : Fin 4608) (k : Fin 256) : EReal :=
  a (ix3 ⟨i.val / 2304, by omega⟩ ⟨i.val % 2304, by omega⟩ k)

/-- The right factor at a summation index and a column. -/
def rhs (b : FVec Ideal S256x1024 .f32) (k : Fin 256) (j : Fin 1024) : EReal :=
  b (ix2 k j)

/-- The product at an element. -/
def prod (a : FVec Ideal S2x2304x256 .f32) (b : FVec Ideal S256x1024 .f32) (y : S4608x1024.Idx) : EReal :=
  ∑ k, lhs a (y 0) k * rhs b k (y 1)

variable (m : (ℓ : Loc nD τ sig) → Buf (Elt Ideal) ℓ) (c : Dev nD)

/-- The factors as arguments of the kernel. -/
abbrev aA : FVec Ideal S2x2304x256 .f32 := m ((c : Thread nD τ).loc main_arg0)
abbrev bA : FVec Ideal S256x1024 .f32 := m ((c : Thread nD τ).loc main_arg1)

theorem idx : ∀ t : Fin cfg0.N, win0_0.index t = ![t.val / 1, t.val % 1] ∧ win0_1.index t = ![t.val % 1, t.val / 1 % 1]
    ∧ win0_2.index t = ![t.val / 1, t.val / 1 % 1] :=
  (by decide +kernel : ∀ t : Fin grid0.N, _)

theorem points (t : Fin cfg0.N) : t.val < 3 := lt_of_lt_of_eq t.isLt N_0

/-- Row, column and summation index of an element of the blocks of grid point `t`. -/
def ti (t : Fin cfg0.N) (x : Fin 1536) : Fin 4608 := ⟨t.val / 1 * 1536 + x.val, by have := points t; omega⟩
def tj (t : Fin cfg0.N) (y : Fin 1024) : Fin 1024 := ⟨t.val / 1 % 1 * 1024 + y.val, by omega⟩
def tk (t : Fin cfg0.N) (k : Fin 256) : Fin 256 := ⟨t.val % 1 * 256 + k.val, by omega⟩

variable (t : Fin cfg0.N) (x : Fin 1536) (y : Fin 1024) (k : Fin 256)

theorem lhs_read : (iblk m c 0 t (ix2 x k) : EReal) = lhs (aA m c) (ti t x) (tk t k) := by
  unfold lhs ti tk
  blk_point [iblk, V, idx t]

theorem rhs_read : (iblk m c 1 t (ix2 k y) : EReal) = rhs (bA m c) (tk t k) (tj t y) := by
  unfold rhs tk tj
  blk_point [iblk, V, idx t]

/-- What one grid point adds to an element of its block. -/
def part (t : Fin cfg0.N) (i : S1536x1024.Idx) : EReal :=
  ∑ k, lhs (aA m c) (ti t (i 0)) (tk t k) * rhs (bA m c) (tk t k) (tj t (i 1))

theorem product_at (a : FVec Ideal S1536x256 .bf16) (b : FVec Ideal S256x1024 .bf16) :
    (k0_pay1 (F := Ideal) a b (ix2 x y) : EReal) = ∑ k, (a (ix2 x k) : EReal) * b (ix2 k y) := by
  pointwise [k0_pay1]

theorem product_part (i : S1536x1024.Idx) : (k0_pay1 (F := Ideal) (iblk m c 0 t) (iblk m c 1 t) i : EReal) = part m c t i := by
  have h : i = ix2 (i 0) (i 1) := by idx_ext
  refine (congrArg (k0_pay1 (F := Ideal) (iblk m c 0 t) (iblk m c 1 t)) h).trans ((product_at _ _ _ _).trans ?_)
  exact Finset.sum_congr rfl fun k _ => congrArg₂ (· * ·) (lhs_read m c t _ k) (rhs_read m c t _ k)

theorem part_prod (i : S1536x1024.Idx) (y : S4608x1024.Idx) (h0 : (y 0).val = t.val / 1 * 1536 + (i 0).val)
    (h1 : (y 1).val = t.val / 1 % 1 * 1024 + (i 1).val) : part m c t i = prod (aA m c) (bA m c) y := by
  refine Finset.sum_congr rfl fun k _ => ?_
  refine congrArg₂ (· * ·) (congrArg₂ _ (Fin.ext ?_) (Fin.ext ?_)) (congrArg₂ _ (Fin.ext ?_) (Fin.ext ?_))
  · exact h0.symm
  · show t.val % 1 * 256 + k.val = k.val
    omega
  · show t.val % 1 * 256 + k.val = k.val
    omega
  · exact h1.symm

/-- The kernel's array after the run. -/
theorem final : (dats m 0 c).arrAt 2 cfg0.N = prod (aA m c) (bA m c) := by
  refine (dats m 0 c).arrAt_eq_of_covers 2 _ (by decide +kernel) fun t hf y => ?_
  blk_simp
  rw [after0_2]
  unfold out0_2
  frame_out
  refine (product_part m c t y).trans (part_prod m c t y _ ?_ ?_)
  · blk_simp [idx t]
  · blk_simp [idx t]

/-- The reference's array. -/
theorem reference (a : FVec Ideal S2x2304x256 .f32) (b : FVec Ideal S256x1024 .f32) :
    shapeCast Cert.MlaKvReferenceIdeal.S4608x1024 (Host.dotGeneral Cert.MlaKvReferenceIdeal.dot_S2x2304x256_S256x1024_S2x2304x1024_2_0_01_1_n_n none a b)
      Cert.MlaKvReferenceIdeal.Gen.shapeCasts_S2x2304x1024_S4608x1024 = prod a b := by
  funext y
  have h : y = ix2 (y 0) (y 1) := by idx_ext
  rw [h]
  pointwise [prod, lhs, rhs]

end Cert.MlaKvEq

end
-- ==== Proof.MlaKvT.lean ====
/- The odd layers' projection to keys and values: the product, gradient with respect to the tokens. -/
module

public import proofs.«01_k».proof.Proof.Gen.MlaKvTIdeal.Value
public import proofs.«01_k».proof.Proof.Gen.MlaKvTReferenceIdeal.Run
public import Idealize.ShloMosaic.Lib.Pipeline.ValueKit
public import Idealize.ShloMosaic.Lib.Pointwise

@[expose] public section

set_option maxRecDepth 16384

noncomputable section

namespace Cert.MlaKvTEq

open Cert.MlaKvTIdeal Cert.MlaKvTIdeal.Gen Idealize.ShloMosaic Idealize.ShloMosaic.TcCoe Idealize.SL.Sem

/-- The left factor at a row and a summation index. -/
def lhs (a : FVec Ideal S2x2304x1024 .f32) (i : Fin 4608) (k : Fin 1024) : EReal :=
  a (ix3 ⟨i.val / 2304, by omega⟩ ⟨i.val % 2304, by omega⟩ k)

/-- The right factor at a summation index and a column. -/
def rhs (b : FVec Ideal S256x1024 .f32) (k : Fin 1024) (j : Fin 256) : EReal :=
  b (ix2 j k)

/-- The product at an element. -/
def prod (a : FVec Ideal S2x2304x1024 .f32) (b : FVec Ideal S256x1024 .f32) (y : S4608x256.Idx) : EReal :=
  ∑ k, lhs a (y 0) k * rhs b k (y 1)

variable (m : (ℓ : Loc nD τ sig) → Buf (Elt Ideal) ℓ) (c : Dev nD)

/-- The factors as arguments of the kernel. -/
abbrev aA : FVec Ideal S2x2304x1024 .f32 := m ((c : Thread nD τ).loc main_arg2)
abbrev bA : FVec Ideal S256x1024 .f32 := m ((c : Thread nD τ).loc main_arg1)

theorem idx : ∀ t : Fin cfg0.N, win0_0.index t = ![t.val / 1, t.val % 1] ∧ win0_1.index t = ![t.val / 1 % 1, t.val % 1]
    ∧ win0_2.index t = ![t.val / 1, t.val / 1 % 1] :=
  (by decide +kernel : ∀ t : Fin grid0.N, _)

theorem points (t : Fin cfg0.N) : t.val < 3 := lt_of_lt_of_eq t.isLt N_0

/-- Row, column and summation index of an element of the blocks of grid point `t`. -/
def ti (t : Fin cfg0.N) (x : Fin 1536) : Fin 4608 := ⟨t.val / 1 * 1536 + x.val, by have := points t; omega⟩
def tj (t : Fin cfg0.N) (y : Fin 256) : Fin 256 := ⟨t.val / 1 % 1 * 256 + y.val, by omega⟩
def tk (t : Fin cfg0.N) (k : Fin 1024) : Fin 1024 := ⟨t.val % 1 * 1024 + k.val, by omega⟩

variable (t : Fin cfg0.N) (x : Fin 1536) (y : Fin 256) (k : Fin 1024)

theorem lhs_read : (iblk m c 0 t (ix2 x k) : EReal) = lhs (aA m c) (ti t x) (tk t k) := by
  unfold lhs ti tk
  blk_point [iblk, V, idx t]

theorem rhs_read : (iblk m c 1 t (ix2 y k) : EReal) = rhs (bA m c) (tk t k) (tj t y) := by
  unfold rhs tk tj
  blk_point [iblk, V, idx t]

/-- What one grid point adds to an element of its block. -/
def part (t : Fin cfg0.N) (i : S1536x256.Idx) : EReal :=
  ∑ k, lhs (aA m c) (ti t (i 0)) (tk t k) * rhs (bA m c) (tk t k) (tj t (i 1))

theorem product_at (a : FVec Ideal S1536x1024 .bf16) (b : FVec Ideal S256x1024 .bf16) :
    (k0_pay1 (F := Ideal) a b (ix2 x y) : EReal) = ∑ k, (a (ix2 x k) : EReal) * b (ix2 y k) := by
  pointwise [k0_pay1]

theorem product_part (i : S1536x256.Idx) : (k0_pay1 (F := Ideal) (iblk m c 0 t) (iblk m c 1 t) i : EReal) = part m c t i := by
  have h : i = ix2 (i 0) (i 1) := by idx_ext
  refine (congrArg (k0_pay1 (F := Ideal) (iblk m c 0 t) (iblk m c 1 t)) h).trans ((product_at _ _ _ _).trans ?_)
  exact Finset.sum_congr rfl fun k _ => congrArg₂ (· * ·) (lhs_read m c t _ k) (rhs_read m c t _ k)

theorem part_prod (i : S1536x256.Idx) (y : S4608x256.Idx) (h0 : (y 0).val = t.val / 1 * 1536 + (i 0).val)
    (h1 : (y 1).val = t.val / 1 % 1 * 256 + (i 1).val) : part m c t i = prod (aA m c) (bA m c) y := by
  refine Finset.sum_congr rfl fun k _ => ?_
  refine congrArg₂ (· * ·) (congrArg₂ _ (Fin.ext ?_) (Fin.ext ?_)) (congrArg₂ _ (Fin.ext ?_) (Fin.ext ?_))
  · exact h0.symm
  · show t.val % 1 * 1024 + k.val = k.val
    omega
  · show t.val % 1 * 1024 + k.val = k.val
    omega
  · exact h1.symm

/-- The kernel's array after the run. -/
theorem final : (dats m 0 c).arrAt 2 cfg0.N = prod (aA m c) (bA m c) := by
  refine (dats m 0 c).arrAt_eq_of_covers 2 _ (by decide +kernel) fun t hf y => ?_
  blk_simp
  rw [after0_2]
  unfold out0_2
  frame_out
  refine (product_part m c t y).trans (part_prod m c t y _ ?_ ?_)
  · blk_simp [idx t]
  · blk_simp [idx t]

/-- The reference's array. -/
theorem reference (a : FVec Ideal S2x2304x1024 .f32) (b : FVec Ideal S256x1024 .f32) :
    shapeCast Cert.MlaKvTReferenceIdeal.S4608x256 (Host.dotGeneral Cert.MlaKvTReferenceIdeal.dot_S2x2304x1024_S256x1024_S2x2304x256_2_1_01_0_n_n none a b)
      Cert.MlaKvTReferenceIdeal.Gen.shapeCasts_S2x2304x256_S4608x256 = prod a b := by
  funext y
  have h : y = ix2 (y 0) (y 1) := by idx_ext
  rw [h]
  pointwise [prod, lhs, rhs]

end Cert.MlaKvTEq

end
-- ==== Proof.MlaKvW.lean ====
/- The odd layers' projection to keys and values: the product, gradient with respect to the weights. -/
module

public import proofs.«01_k».proof.Proof.Gen.MlaKvWIdeal.Value
public import proofs.«01_k».proof.Proof.Gen.MlaKvWReferenceIdeal.Run
public import Idealize.ShloMosaic.Lib.Pipeline.ValueKit
public import Idealize.ShloMosaic.Lib.Pointwise
public import Idealize.ShloMosaic.Lib.Pipeline.ReadBack

@[expose] public section

set_option maxRecDepth 16384

noncomputable section

namespace Cert.MlaKvWEq

open Cert.MlaKvWIdeal Cert.MlaKvWIdeal.Gen Idealize.ShloMosaic Idealize.ShloMosaic.TcCoe Idealize.SL.Sem

/-- The left factor at a row and a summation index. -/
def lhs (a : FVec Ideal S2x2304x256 .f32) (i : Fin 256) (k : Fin 4608) : EReal :=
  a (ix3 ⟨k.val / 2304, by omega⟩ ⟨k.val % 2304, by omega⟩ i)

/-- The right factor at a summation index and a column. -/
def rhs (b : FVec Ideal S2x2304x1024 .f32) (k : Fin 4608) (j : Fin 1024) : EReal :=
  b (ix3 ⟨k.val / 2304, by omega⟩ ⟨k.val % 2304, by omega⟩ j)

/-- The product at an element. -/
def prod (a : FVec Ideal S2x2304x256 .f32) (b : FVec Ideal S2x2304x1024 .f32) (y : S256x1024.Idx) : EReal :=
  ∑ k, lhs a (y 0) k * rhs b k (y 1)

variable (m : (ℓ : Loc nD τ sig) → Buf (Elt Ideal) ℓ) (c : Dev nD)

/-- The factors as arguments of the kernel. -/
abbrev aA : FVec Ideal S2x2304x256 .f32 := m ((c : Thread nD τ).loc main_arg0)
abbrev bA : FVec Ideal S2x2304x1024 .f32 := m ((c : Thread nD τ).loc main_arg2)

theorem idx : ∀ t : Fin cfg0.N, win0_0.index t = ![t.val % 3, t.val / 3] ∧ win0_1.index t = ![t.val % 3, t.val / 3 % 1]
    ∧ win0_2.index t = ![t.val / 3, t.val / 3 % 1] :=
  (by decide +kernel : ∀ t : Fin grid0.N, _)

theorem points (t : Fin cfg0.N) : t.val < 3 := lt_of_lt_of_eq t.isLt N_0

/-- Row, column and summation index of an element of the blocks of grid point `t`. -/
def ti (t : Fin cfg0.N) (x : Fin 256) : Fin 256 := ⟨t.val / 3 * 256 + x.val, by have := points t; omega⟩
def tj (t : Fin cfg0.N) (y : Fin 1024) : Fin 1024 := ⟨t.val / 3 % 1 * 1024 + y.val, by omega⟩
def tk (t : Fin cfg0.N) (k : Fin 1536) : Fin 4608 := ⟨t.val % 3 * 1536 + k.val, by omega⟩

variable (t : Fin cfg0.N) (x : Fin 256) (y : Fin 1024) (k : Fin 1536)

theorem lhs_read : (iblk m c 0 t (ix2 k x) : EReal) = lhs (aA m c) (ti t x) (tk t k) := by
  unfold lhs ti tk
  blk_point [iblk, V, idx t]

theorem rhs_read : (iblk m c 1 t (ix2 k y) : EReal) = rhs (bA m c) (tk t k) (tj t y) := by
  unfold rhs tk tj
  blk_point [iblk, V, idx t]

/-- What one grid point adds to an element of its block. -/
def part (t : Fin cfg0.N) (i : S256x1024.Idx) : EReal :=
  ∑ k, lhs (aA m c) (ti t (i 0)) (tk t k) * rhs (bA m c) (tk t k) (tj t (i 1))

theorem product_at (a : FVec Ideal S1536x256 .bf16) (b : FVec Ideal S1536x1024 .bf16) :
    (k0_pay1 (F := Ideal) a b (ix2 x y) : EReal) = ∑ k, (a (ix2 k x) : EReal) * b (ix2 k y) := by
  pointwise [k0_pay1]

theorem product_part (i : S256x1024.Idx) : (k0_pay1 (F := Ideal) (iblk m c 0 t) (iblk m c 1 t) i : EReal) = part m c t i := by
  have h : i = ix2 (i 0) (i 1) := by idx_ext
  refine (congrArg (k0_pay1 (F := Ideal) (iblk m c 0 t) (iblk m c 1 t)) h).trans ((product_at _ _ _ _).trans ?_)
  exact Finset.sum_congr rfl fun k _ => congrArg₂ (· * ·) (lhs_read m c t _ k) (rhs_read m c t _ k)

theorem first_at (i : S256x1024.Idx) : (k0_pay2 (F := Ideal) (iblk m c 0 t) (iblk m c 1 t) i : EReal) = 0 + part m c t i := by
  rw [zero_add, ← product_part]
  pointwise [k0_pay2]

theorem next_at (o : FVec Ideal S256x1024 .f32) (i : S256x1024.Idx) :
    (k0_pay3 (F := Ideal) (iblk m c 0 t) (iblk m c 1 t) o i : EReal) = (o i : EReal) + part m c t i := by
  rw [← product_part]
  pointwise [k0_pay3]

theorem last_at (o : FVec Ideal S256x1024 .f32) (i : S256x1024.Idx) :
    (k0_pay4 (F := Ideal) (iblk m c 0 t) (iblk m c 1 t) o i : EReal) = (o i : EReal) + part m c t i := by
  rw [← product_part]
  pointwise [k0_pay4]

/-- What is accumulated after point `n`: in the scratch, and at a run's last point in the output block. -/
def acc (n : ℕ) (h : n < cfg0.N) (i : S256x1024.Idx) : EReal :=
  if n % 3 = 2 then ((outsAt0 m c n h).1 i : EReal) else (outsAt0 m c n h).2 i

theorem acc_first (h : t.val % 3 = 0) (i : S256x1024.Idx) : acc m c t.val t.isLt i = 0 + part m c t i := by
  rw [acc, if_neg (by omega), outsAt0_A m c t h (by omega) (by omega)]
  frame_out
  exact first_at m c t i

theorem acc_step (h : ¬t.val % 3 = 0) (i : S256x1024.Idx) :
    acc m c t.val t.isLt i = acc m c (t.val - 1) (Nat.lt_of_le_of_lt (Nat.sub_le _ _) t.isLt) i + part m c t i := by
  rw [acc, acc, if_neg (show ¬(t.val - 1) % 3 = 2 by omega)]
  by_cases h' : t.val % 3 = 2
  · rw [if_pos h', outsAt0_C m c t h (by omega) h']
    frame_out
    rw [read_unread_whole]
    exact last_at m c t _ i
  · rw [if_neg h', outsAt0_B m c t h (by omega) h']
    frame_out
    rw [read_unread_whole]
    exact next_at m c t _ i

theorem sum_parts (ht : ∀ j : Fin 3, 3 * (t.val / 3) + j.val < cfg0.N) (i : S256x1024.Idx) (y : S256x1024.Idx)
    (h0 : (y 0).val = t.val / 3 * 256 + (i 0).val) (h1 : (y 1).val = t.val / 3 % 1 * 1024 + (i 1).val) :
    ∑ j : Fin 3, part m c ⟨3 * (t.val / 3) + j.val, ht j⟩ i = prod (aA m c) (bA m c) y := by
  unfold prod
  rw [Fin.sum_univ_tiles 3 1536 rfl]
  refine Finset.sum_congr rfl fun j _ => Finset.sum_congr rfl fun k _ => ?_
  have hj := j.isLt
  refine congrArg₂ (· * ·) (congrArg₂ _ (Fin.ext ?_) (Fin.ext ?_)) (congrArg₂ _ (Fin.ext ?_) (Fin.ext ?_))
  · show (3 * (t.val / 3) + j.val) / 3 * 256 + (i 0).val = (y 0).val
    omega
  · show (3 * (t.val / 3) + j.val) % 3 * 1536 + k.val = j.val * 1536 + k.val
    omega
  · show (3 * (t.val / 3) + j.val) % 3 * 1536 + k.val = j.val * 1536 + k.val
    omega
  · show (3 * (t.val / 3) + j.val) / 3 % 1 * 1024 + (i 1).val = (y 1).val
    omega

/-- The kernel's array after the run. -/
theorem final : (dats m 0 c).arrAt 2 cfg0.N = prod (aA m c) (bA m c) := by
  refine (dats m 0 c).arrAt_eq_of_covers 2 _ (by decide +kernel) fun t hf y => ?_
  have hl := (flush0_2 t).mp hf
  blk_simp
  rw [after0_2]
  have e := Pipeline.eq_sum_fin_of_reset_step_apply_of_flush (M := EReal) (acc m c) 3 (fun _ => 0) (part m c)
    (acc_first m c) (acc_step m c) t hl
  refine Eq.trans ?_ ((e y).trans ((zero_add _).trans (sum_parts m c t (Pipeline.run_point_lt_of_flush t hl) y _ ?_ ?_)))
  · rw [acc, if_pos hl]
  · blk_simp [idx t]
  · blk_simp [idx t]

/-- The reference's array: its sum over the two sequences and their positions is one sum over the rows. -/
theorem reference (a : FVec Ideal S2x2304x256 .f32) (b : FVec Ideal S2x2304x1024 .f32) :
    truncf .bf16 (transpose Cert.MlaKvWReferenceIdeal.S256x1024 [1, 0] (Host.dotGeneral Cert.MlaKvWReferenceIdeal.dot_S2x2304x1024_S2x2304x256_S1024x256_01_01_2_2_n_n none b a)
      Cert.MlaKvWReferenceIdeal.Gen.transposes_S1024x256_S256x1024_1_0) Cert.MlaKvWReferenceIdeal.Gen.bitsLt_bf16_f32 = prod a b := by
  funext y
  have h : y = ix2 (y 0) (y 1) := by idx_ext
  rw [h]
  unfold prod
  rw [Fin.sum_univ_tiles 2 2304 rfl]
  pointwise [lhs, rhs]
  refine Finset.sum_congr rfl fun q _ => Finset.sum_congr rfl fun k _ => (mul_comm _ _).trans ?_
  have hk := k.isLt
  have h1 : (⟨(q.val * 2304 + k.val) / 2304, by omega⟩ : Fin 2) = q := Fin.ext (show (q.val * 2304 + k.val) / 2304 = q.val by omega)
  have h2 : (⟨(q.val * 2304 + k.val) % 2304, by omega⟩ : Fin 2304) = k := Fin.ext (show (q.val * 2304 + k.val) % 2304 = k.val by omega)
  exact (congrArg₂ (fun u v => a (ix3 u v (y 0)) * b (ix3 u v (y 1))) h1 h2).symm

end Cert.MlaKvWEq

end
-- ==== Proof.Mix.lean ====
/- The projection of the mixed heads: the product, forward. -/
module

public import proofs.«01_k».proof.Proof.Gen.MixIdeal.Value
public import proofs.«01_k».proof.Proof.Gen.MixReferenceIdeal.Run
public import Idealize.ShloMosaic.Lib.Pipeline.ValueKit
public import Idealize.ShloMosaic.Lib.Pointwise

@[expose] public section

set_option maxRecDepth 16384

noncomputable section

namespace Cert.MixEq

open Cert.MixIdeal Cert.MixIdeal.Gen Idealize.ShloMosaic Idealize.ShloMosaic.TcCoe Idealize.SL.Sem

/-- The left factor at a row and a summation index. -/
def lhs (a : FVec Ideal S2x2304x1024 .f32) (i : Fin 4608) (k : Fin 1024) : EReal :=
  a (ix3 ⟨i.val / 2304, by omega⟩ ⟨i.val % 2304, by omega⟩ k)

/-- The right factor at a summation index and a column. -/
def rhs (b : FVec Ideal S1024x1024 .f32) (k : Fin 1024) (j : Fin 1024) : EReal :=
  b (ix2 k j)

/-- The product at an element. -/
def prod (a : FVec Ideal S2x2304x1024 .f32) (b : FVec Ideal S1024x1024 .f32) (y : S4608x1024.Idx) : EReal :=
  ∑ k, lhs a (y 0) k * rhs b k (y 1)

variable (m : (ℓ : Loc nD τ sig) → Buf (Elt Ideal) ℓ) (c : Dev nD)

/-- The factors as arguments of the kernel. -/
abbrev aA : FVec Ideal S2x2304x1024 .f32 := m ((c : Thread nD τ).loc main_arg0)
abbrev bA : FVec Ideal S1024x1024 .f32 := m ((c : Thread nD τ).loc main_arg1)

theorem idx : ∀ t : Fin cfg0.N, win0_0.index t = ![t.val / 1, t.val % 1] ∧ win0_1.index t = ![t.val % 1, t.val / 1 % 1]
    ∧ win0_2.index t = ![t.val / 1, t.val / 1 % 1] :=
  (by decide +kernel : ∀ t : Fin grid0.N, _)

theorem points (t : Fin cfg0.N) : t.val < 3 := lt_of_lt_of_eq t.isLt N_0

/-- Row, column and summation index of an element of the blocks of grid point `t`. -/
def ti (t : Fin cfg0.N) (x : Fin 1536) : Fin 4608 := ⟨t.val / 1 * 1536 + x.val, by have := points t; omega⟩
def tj (t : Fin cfg0.N) (y : Fin 1024) : Fin 1024 := ⟨t.val / 1 % 1 * 1024 + y.val, by omega⟩
def tk (t : Fin cfg0.N) (k : Fin 1024) : Fin 1024 := ⟨t.val % 1 * 1024 + k.val, by omega⟩

variable (t : Fin cfg0.N) (x : Fin 1536) (y : Fin 1024) (k : Fin 1024)

theorem lhs_read : (iblk m c 0 t (ix2 x k) : EReal) = lhs (aA m c) (ti t x) (tk t k) := by
  unfold lhs ti tk
  blk_point [iblk, V, idx t]

theorem rhs_read : (iblk m c 1 t (ix2 k y) : EReal) = rhs (bA m c) (tk t k) (tj t y) := by
  unfold rhs tk tj
  blk_point [iblk, V, idx t]

/-- What one grid point adds to an element of its block. -/
def part (t : Fin cfg0.N) (i : S1536x1024.Idx) : EReal :=
  ∑ k, lhs (aA m c) (ti t (i 0)) (tk t k) * rhs (bA m c) (tk t k) (tj t (i 1))

theorem product_at (a : FVec Ideal S1536x1024 .bf16) (b : FVec Ideal S1024x1024 .bf16) :
    (k0_pay1 (F := Ideal) a b (ix2 x y) : EReal) = ∑ k, (a (ix2 x k) : EReal) * b (ix2 k y) := by
  pointwise [k0_pay1]

theorem product_part (i : S1536x1024.Idx) : (k0_pay1 (F := Ideal) (iblk m c 0 t) (iblk m c 1 t) i : EReal) = part m c t i := by
  have h : i = ix2 (i 0) (i 1) := by idx_ext
  refine (congrArg (k0_pay1 (F := Ideal) (iblk m c 0 t) (iblk m c 1 t)) h).trans ((product_at _ _ _ _).trans ?_)
  exact Finset.sum_congr rfl fun k _ => congrArg₂ (· * ·) (lhs_read m c t _ k) (rhs_read m c t _ k)

theorem part_prod (i : S1536x1024.Idx) (y : S4608x1024.Idx) (h0 : (y 0).val = t.val / 1 * 1536 + (i 0).val)
    (h1 : (y 1).val = t.val / 1 % 1 * 1024 + (i 1).val) : part m c t i = prod (aA m c) (bA m c) y := by
  refine Finset.sum_congr rfl fun k _ => ?_
  refine congrArg₂ (· * ·) (congrArg₂ _ (Fin.ext ?_) (Fin.ext ?_)) (congrArg₂ _ (Fin.ext ?_) (Fin.ext ?_))
  · exact h0.symm
  · show t.val % 1 * 1024 + k.val = k.val
    omega
  · show t.val % 1 * 1024 + k.val = k.val
    omega
  · exact h1.symm

/-- The kernel's array after the run. -/
theorem final : (dats m 0 c).arrAt 2 cfg0.N = prod (aA m c) (bA m c) := by
  refine (dats m 0 c).arrAt_eq_of_covers 2 _ (by decide +kernel) fun t hf y => ?_
  blk_simp
  rw [after0_2]
  unfold out0_2
  frame_out
  refine (product_part m c t y).trans (part_prod m c t y _ ?_ ?_)
  · blk_simp [idx t]
  · blk_simp [idx t]

/-- The reference's array. -/
theorem reference (a : FVec Ideal S2x2304x1024 .f32) (b : FVec Ideal S1024x1024 .f32) :
    shapeCast Cert.MixReferenceIdeal.S4608x1024 (Host.dotGeneral Cert.MixReferenceIdeal.dot_S2x2304x1024_S1024x1024_S2x2304x1024_2_0_01_1_n_n none a b)
      Cert.MixReferenceIdeal.Gen.shapeCasts_S2x2304x1024_S4608x1024 = prod a b := by
  funext y
  have h : y = ix2 (y 0) (y 1) := by idx_ext
  rw [h]
  pointwise [prod, lhs, rhs]

end Cert.MixEq

end
-- ==== Proof.MixT.lean ====
/- The projection of the mixed heads: the product, gradient with respect to the tokens. -/
module

public import proofs.«01_k».proof.Proof.Gen.MixTIdeal.Value
public import proofs.«01_k».proof.Proof.Gen.MixTReferenceIdeal.Run
public import Idealize.ShloMosaic.Lib.Pipeline.ValueKit
public import Idealize.ShloMosaic.Lib.Pointwise

@[expose] public section

set_option maxRecDepth 16384

noncomputable section

namespace Cert.MixTEq

open Cert.MixTIdeal Cert.MixTIdeal.Gen Idealize.ShloMosaic Idealize.ShloMosaic.TcCoe Idealize.SL.Sem

/-- The left factor at a row and a summation index. -/
def lhs (a : FVec Ideal S2x2304x1024 .f32) (i : Fin 4608) (k : Fin 1024) : EReal :=
  a (ix3 ⟨i.val / 2304, by omega⟩ ⟨i.val % 2304, by omega⟩ k)

/-- The right factor at a summation index and a column. -/
def rhs (b : FVec Ideal S1024x1024 .f32) (k : Fin 1024) (j : Fin 1024) : EReal :=
  b (ix2 j k)

/-- The product at an element. -/
def prod (a : FVec Ideal S2x2304x1024 .f32) (b : FVec Ideal S1024x1024 .f32) (y : S4608x1024.Idx) : EReal :=
  ∑ k, lhs a (y 0) k * rhs b k (y 1)

variable (m : (ℓ : Loc nD τ sig) → Buf (Elt Ideal) ℓ) (c : Dev nD)

/-- The factors as arguments of the kernel. -/
abbrev aA : FVec Ideal S2x2304x1024 .f32 := m ((c : Thread nD τ).loc main_arg2)
abbrev bA : FVec Ideal S1024x1024 .f32 := m ((c : Thread nD τ).loc main_arg1)

theorem idx : ∀ t : Fin cfg0.N, win0_0.index t = ![t.val / 1, t.val % 1] ∧ win0_1.index t = ![t.val / 1 % 1, t.val % 1]
    ∧ win0_2.index t = ![t.val / 1, t.val / 1 % 1] :=
  (by decide +kernel : ∀ t : Fin grid0.N, _)

theorem points (t : Fin cfg0.N) : t.val < 3 := lt_of_lt_of_eq t.isLt N_0

/-- Row, column and summation index of an element of the blocks of grid point `t`. -/
def ti (t : Fin cfg0.N) (x : Fin 1536) : Fin 4608 := ⟨t.val / 1 * 1536 + x.val, by have := points t; omega⟩
def tj (t : Fin cfg0.N) (y : Fin 1024) : Fin 1024 := ⟨t.val / 1 % 1 * 1024 + y.val, by omega⟩
def tk (t : Fin cfg0.N) (k : Fin 1024) : Fin 1024 := ⟨t.val % 1 * 1024 + k.val, by omega⟩

variable (t : Fin cfg0.N) (x : Fin 1536) (y : Fin 1024) (k : Fin 1024)

theorem lhs_read : (iblk m c 0 t (ix2 x k) : EReal) = lhs (aA m c) (ti t x) (tk t k) := by
  unfold lhs ti tk
  blk_point [iblk, V, idx t]

theorem rhs_read : (iblk m c 1 t (ix2 y k) : EReal) = rhs (bA m c) (tk t k) (tj t y) := by
  unfold rhs tk tj
  blk_point [iblk, V, idx t]

/-- What one grid point adds to an element of its block. -/
def part (t : Fin cfg0.N) (i : S1536x1024.Idx) : EReal :=
  ∑ k, lhs (aA m c) (ti t (i 0)) (tk t k) * rhs (bA m c) (tk t k) (tj t (i 1))

theorem product_at (a : FVec Ideal S1536x1024 .bf16) (b : FVec Ideal S1024x1024 .bf16) :
    (k0_pay1 (F := Ideal) a b (ix2 x y) : EReal) = ∑ k, (a (ix2 x k) : EReal) * b (ix2 y k) := by
  pointwise [k0_pay1]

theorem product_part (i : S1536x1024.Idx) : (k0_pay1 (F := Ideal) (iblk m c 0 t) (iblk m c 1 t) i : EReal) = part m c t i := by
  have h : i = ix2 (i 0) (i 1) := by idx_ext
  refine (congrArg (k0_pay1 (F := Ideal) (iblk m c 0 t) (iblk m c 1 t)) h).trans ((product_at _ _ _ _).trans ?_)
  exact Finset.sum_congr rfl fun k _ => congrArg₂ (· * ·) (lhs_read m c t _ k) (rhs_read m c t _ k)

theorem part_prod (i : S1536x1024.Idx) (y : S4608x1024.Idx) (h0 : (y 0).val = t.val / 1 * 1536 + (i 0).val)
    (h1 : (y 1).val = t.val / 1 % 1 * 1024 + (i 1).val) : part m c t i = prod (aA m c) (bA m c) y := by
  refine Finset.sum_congr rfl fun k _ => ?_
  refine congrArg₂ (· * ·) (congrArg₂ _ (Fin.ext ?_) (Fin.ext ?_)) (congrArg₂ _ (Fin.ext ?_) (Fin.ext ?_))
  · exact h0.symm
  · show t.val % 1 * 1024 + k.val = k.val
    omega
  · show t.val % 1 * 1024 + k.val = k.val
    omega
  · exact h1.symm

/-- The kernel's array after the run. -/
theorem final : (dats m 0 c).arrAt 2 cfg0.N = prod (aA m c) (bA m c) := by
  refine (dats m 0 c).arrAt_eq_of_covers 2 _ (by decide +kernel) fun t hf y => ?_
  blk_simp
  rw [after0_2]
  unfold out0_2
  frame_out
  refine (product_part m c t y).trans (part_prod m c t y _ ?_ ?_)
  · blk_simp [idx t]
  · blk_simp [idx t]

/-- The reference's array. -/
theorem reference (a : FVec Ideal S2x2304x1024 .f32) (b : FVec Ideal S1024x1024 .f32) :
    shapeCast Cert.MixTReferenceIdeal.S4608x1024 (Host.dotGeneral Cert.MixTReferenceIdeal.dot_S2x2304x1024_S1024x1024_S2x2304x1024_2_1_01_0_n_n none a b)
      Cert.MixTReferenceIdeal.Gen.shapeCasts_S2x2304x1024_S4608x1024 = prod a b := by
  funext y
  have h : y = ix2 (y 0) (y 1) := by idx_ext
  rw [h]
  pointwise [prod, lhs, rhs]

end Cert.MixTEq

end
-- ==== Proof.MixW.lean ====
/- The projection of the mixed heads: the product, gradient with respect to the weights. -/
module

public import proofs.«01_k».proof.Proof.Gen.MixWIdeal.Value
public import proofs.«01_k».proof.Proof.Gen.MixWReferenceIdeal.Run
public import Idealize.ShloMosaic.Lib.Pipeline.ValueKit
public import Idealize.ShloMosaic.Lib.Pointwise
public import Idealize.ShloMosaic.Lib.Pipeline.ReadBack

@[expose] public section

set_option maxRecDepth 16384

noncomputable section

namespace Cert.MixWEq

open Cert.MixWIdeal Cert.MixWIdeal.Gen Idealize.ShloMosaic Idealize.ShloMosaic.TcCoe Idealize.SL.Sem

/-- The left factor at a row and a summation index. -/
def lhs (a : FVec Ideal S2x2304x1024 .f32) (i : Fin 1024) (k : Fin 4608) : EReal :=
  a (ix3 ⟨k.val / 2304, by omega⟩ ⟨k.val % 2304, by omega⟩ i)

/-- The right factor at a summation index and a column. -/
def rhs (b : FVec Ideal S2x2304x1024 .f32) (k : Fin 4608) (j : Fin 1024) : EReal :=
  b (ix3 ⟨k.val / 2304, by omega⟩ ⟨k.val % 2304, by omega⟩ j)

/-- The product at an element. -/
def prod (a : FVec Ideal S2x2304x1024 .f32) (b : FVec Ideal S2x2304x1024 .f32) (y : S1024x1024.Idx) : EReal :=
  ∑ k, lhs a (y 0) k * rhs b k (y 1)

variable (m : (ℓ : Loc nD τ sig) → Buf (Elt Ideal) ℓ) (c : Dev nD)

/-- The factors as arguments of the kernel. -/
abbrev aA : FVec Ideal S2x2304x1024 .f32 := m ((c : Thread nD τ).loc main_arg0)
abbrev bA : FVec Ideal S2x2304x1024 .f32 := m ((c : Thread nD τ).loc main_arg2)

theorem idx : ∀ t : Fin cfg0.N, win0_0.index t = ![t.val % 3, t.val / 3] ∧ win0_1.index t = ![t.val % 3, t.val / 3 % 1]
    ∧ win0_2.index t = ![t.val / 3, t.val / 3 % 1] :=
  (by decide +kernel : ∀ t : Fin grid0.N, _)

theorem points (t : Fin cfg0.N) : t.val < 3 := lt_of_lt_of_eq t.isLt N_0

/-- Row, column and summation index of an element of the blocks of grid point `t`. -/
def ti (t : Fin cfg0.N) (x : Fin 1024) : Fin 1024 := ⟨t.val / 3 * 1024 + x.val, by have := points t; omega⟩
def tj (t : Fin cfg0.N) (y : Fin 1024) : Fin 1024 := ⟨t.val / 3 % 1 * 1024 + y.val, by omega⟩
def tk (t : Fin cfg0.N) (k : Fin 1536) : Fin 4608 := ⟨t.val % 3 * 1536 + k.val, by omega⟩

variable (t : Fin cfg0.N) (x : Fin 1024) (y : Fin 1024) (k : Fin 1536)

theorem lhs_read : (iblk m c 0 t (ix2 k x) : EReal) = lhs (aA m c) (ti t x) (tk t k) := by
  unfold lhs ti tk
  blk_point [iblk, V, idx t]

theorem rhs_read : (iblk m c 1 t (ix2 k y) : EReal) = rhs (bA m c) (tk t k) (tj t y) := by
  unfold rhs tk tj
  blk_point [iblk, V, idx t]

/-- What one grid point adds to an element of its block. -/
def part (t : Fin cfg0.N) (i : S1024x1024.Idx) : EReal :=
  ∑ k, lhs (aA m c) (ti t (i 0)) (tk t k) * rhs (bA m c) (tk t k) (tj t (i 1))

theorem product_at (a : FVec Ideal S1536x1024 .bf16) (b : FVec Ideal S1536x1024 .bf16) :
    (k0_pay1 (F := Ideal) a b (ix2 x y) : EReal) = ∑ k, (a (ix2 k x) : EReal) * b (ix2 k y) := by
  pointwise [k0_pay1]

theorem product_part (i : S1024x1024.Idx) : (k0_pay1 (F := Ideal) (iblk m c 0 t) (iblk m c 1 t) i : EReal) = part m c t i := by
  have h : i = ix2 (i 0) (i 1) := by idx_ext
  refine (congrArg (k0_pay1 (F := Ideal) (iblk m c 0 t) (iblk m c 1 t)) h).trans ((product_at _ _ _ _).trans ?_)
  exact Finset.sum_congr rfl fun k _ => congrArg₂ (· * ·) (lhs_read m c t _ k) (rhs_read m c t _ k)

theorem first_at (i : S1024x1024.Idx) : (k0_pay2 (F := Ideal) (iblk m c 0 t) (iblk m c 1 t) i : EReal) = 0 + part m c t i := by
  rw [zero_add, ← product_part]
  pointwise [k0_pay2]

theorem next_at (o : FVec Ideal S1024x1024 .f32) (i : S1024x1024.Idx) :
    (k0_pay3 (F := Ideal) (iblk m c 0 t) (iblk m c 1 t) o i : EReal) = (o i : EReal) + part m c t i := by
  rw [← product_part]
  pointwise [k0_pay3]

theorem last_at (o : FVec Ideal S1024x1024 .f32) (i : S1024x1024.Idx) :
    (k0_pay4 (F := Ideal) (iblk m c 0 t) (iblk m c 1 t) o i : EReal) = (o i : EReal) + part m c t i := by
  rw [← product_part]
  pointwise [k0_pay4]

/-- What is accumulated after point `n`: in the scratch, and at a run's last point in the output block. -/
def acc (n : ℕ) (h : n < cfg0.N) (i : S1024x1024.Idx) : EReal :=
  if n % 3 = 2 then ((outsAt0 m c n h).1 i : EReal) else (outsAt0 m c n h).2 i

theorem acc_first (h : t.val % 3 = 0) (i : S1024x1024.Idx) : acc m c t.val t.isLt i = 0 + part m c t i := by
  rw [acc, if_neg (by omega), outsAt0_A m c t h (by omega) (by omega)]
  frame_out
  exact first_at m c t i

theorem acc_step (h : ¬t.val % 3 = 0) (i : S1024x1024.Idx) :
    acc m c t.val t.isLt i = acc m c (t.val - 1) (Nat.lt_of_le_of_lt (Nat.sub_le _ _) t.isLt) i + part m c t i := by
  rw [acc, acc, if_neg (show ¬(t.val - 1) % 3 = 2 by omega)]
  by_cases h' : t.val % 3 = 2
  · rw [if_pos h', outsAt0_C m c t h (by omega) h']
    frame_out
    rw [read_unread_whole]
    exact last_at m c t _ i
  · rw [if_neg h', outsAt0_B m c t h (by omega) h']
    frame_out
    rw [read_unread_whole]
    exact next_at m c t _ i

theorem sum_parts (ht : ∀ j : Fin 3, 3 * (t.val / 3) + j.val < cfg0.N) (i : S1024x1024.Idx) (y : S1024x1024.Idx)
    (h0 : (y 0).val = t.val / 3 * 1024 + (i 0).val) (h1 : (y 1).val = t.val / 3 % 1 * 1024 + (i 1).val) :
    ∑ j : Fin 3, part m c ⟨3 * (t.val / 3) + j.val, ht j⟩ i = prod (aA m c) (bA m c) y := by
  unfold prod
  rw [Fin.sum_univ_tiles 3 1536 rfl]
  refine Finset.sum_congr rfl fun j _ => Finset.sum_congr rfl fun k _ => ?_
  have hj := j.isLt
  refine congrArg₂ (· * ·) (congrArg₂ _ (Fin.ext ?_) (Fin.ext ?_)) (congrArg₂ _ (Fin.ext ?_) (Fin.ext ?_))
  · show (3 * (t.val / 3) + j.val) / 3 * 1024 + (i 0).val = (y 0).val
    omega
  · show (3 * (t.val / 3) + j.val) % 3 * 1536 + k.val = j.val * 1536 + k.val
    omega
  · show (3 * (t.val / 3) + j.val) % 3 * 1536 + k.val = j.val * 1536 + k.val
    omega
  · show (3 * (t.val / 3) + j.val) / 3 % 1 * 1024 + (i 1).val = (y 1).val
    omega

/-- The kernel's array after the run. -/
theorem final : (dats m 0 c).arrAt 2 cfg0.N = prod (aA m c) (bA m c) := by
  refine (dats m 0 c).arrAt_eq_of_covers 2 _ (by decide +kernel) fun t hf y => ?_
  have hl := (flush0_2 t).mp hf
  blk_simp
  rw [after0_2]
  have e := Pipeline.eq_sum_fin_of_reset_step_apply_of_flush (M := EReal) (acc m c) 3 (fun _ => 0) (part m c)
    (acc_first m c) (acc_step m c) t hl
  refine Eq.trans ?_ ((e y).trans ((zero_add _).trans (sum_parts m c t (Pipeline.run_point_lt_of_flush t hl) y _ ?_ ?_)))
  · rw [acc, if_pos hl]
  · blk_simp [idx t]
  · blk_simp [idx t]

/-- The reference's array: its sum over the two sequences and their positions is one sum over the rows. -/
theorem reference (a : FVec Ideal S2x2304x1024 .f32) (b : FVec Ideal S2x2304x1024 .f32) :
    truncf .bf16 (transpose Cert.MixWReferenceIdeal.S1024x1024 [1, 0] (Host.dotGeneral Cert.MixWReferenceIdeal.dot_S2x2304x1024_S2x2304x1024_S1024x1024_01_01_2_2_n_n none b a)
      Cert.MixWReferenceIdeal.Gen.transposes_S1024x1024_S1024x1024_1_0) Cert.MixWReferenceIdeal.Gen.bitsLt_bf16_f32 = prod a b := by
  funext y
  have h : y = ix2 (y 0) (y 1) := by idx_ext
  rw [h]
  unfold prod
  rw [Fin.sum_univ_tiles 2 2304 rfl]
  pointwise [lhs, rhs]
  refine Finset.sum_congr rfl fun q _ => Finset.sum_congr rfl fun k _ => (mul_comm _ _).trans ?_
  have hk := k.isLt
  have h1 : (⟨(q.val * 2304 + k.val) / 2304, by omega⟩ : Fin 2) = q := Fin.ext (show (q.val * 2304 + k.val) / 2304 = q.val by omega)
  have h2 : (⟨(q.val * 2304 + k.val) % 2304, by omega⟩ : Fin 2304) = k := Fin.ext (show (q.val * 2304 + k.val) % 2304 = k.val by omega)
  exact (congrArg₂ (fun u v => a (ix3 u v (y 0)) * b (ix3 u v (y 1))) h1 h2).symm

end Cert.MixWEq

end
-- ==== Proof.LastMix.lean ====
/- The last layer's projection of the mixed heads: the product, forward. -/
module

public import proofs.«01_k».proof.Proof.Gen.LastMixIdeal.Value
public import proofs.«01_k».proof.Proof.Gen.LastMixReferenceIdeal.Run
public import Idealize.ShloMosaic.Lib.Pipeline.ValueKit
public import Idealize.ShloMosaic.Lib.Pointwise

@[expose] public section

set_option maxRecDepth 16384

noncomputable section

namespace Cert.LastMixEq

open Cert.LastMixIdeal Cert.LastMixIdeal.Gen Idealize.ShloMosaic Idealize.ShloMosaic.TcCoe Idealize.SL.Sem

/-- The left factor at a row and a summation index. -/
def lhs (a : FVec Ideal S2x2048x1024 .f32) (i : Fin 4096) (k : Fin 1024) : EReal :=
  a (ix3 ⟨i.val / 2048, by omega⟩ ⟨i.val % 2048, by omega⟩ k)

/-- The right factor at a summation index and a column. -/
def rhs (b : FVec Ideal S1024x1024 .f32) (k : Fin 1024) (j : Fin 1024) : EReal :=
  b (ix2 k j)

/-- The product at an element. -/
def prod (a : FVec Ideal S2x2048x1024 .f32) (b : FVec Ideal S1024x1024 .f32) (y : S4096x1024.Idx) : EReal :=
  ∑ k, lhs a (y 0) k * rhs b k (y 1)

variable (m : (ℓ : Loc nD τ sig) → Buf (Elt Ideal) ℓ) (c : Dev nD)

/-- The factors as arguments of the kernel. -/
abbrev aA : FVec Ideal S2x2048x1024 .f32 := m ((c : Thread nD τ).loc main_arg0)
abbrev bA : FVec Ideal S1024x1024 .f32 := m ((c : Thread nD τ).loc main_arg1)

theorem idx : ∀ t : Fin cfg0.N, win0_0.index t = ![t.val / 1, t.val % 1] ∧ win0_1.index t = ![t.val % 1, t.val / 1 % 1]
    ∧ win0_2.index t = ![t.val / 1, t.val / 1 % 1] :=
  (by decide +kernel : ∀ t : Fin grid0.N, _)

theorem points (t : Fin cfg0.N) : t.val < 4 := lt_of_lt_of_eq t.isLt N_0

/-- Row, column and summation index of an element of the blocks of grid point `t`. -/
def ti (t : Fin cfg0.N) (x : Fin 1024) : Fin 4096 := ⟨t.val / 1 * 1024 + x.val, by have := points t; omega⟩
def tj (t : Fin cfg0.N) (y : Fin 1024) : Fin 1024 := ⟨t.val / 1 % 1 * 1024 + y.val, by omega⟩
def tk (t : Fin cfg0.N) (k : Fin 1024) : Fin 1024 := ⟨t.val % 1 * 1024 + k.val, by omega⟩

variable (t : Fin cfg0.N) (x : Fin 1024) (y : Fin 1024) (k : Fin 1024)

theorem lhs_read : (iblk m c 0 t (ix2 x k) : EReal) = lhs (aA m c) (ti t x) (tk t k) := by
  unfold lhs ti tk
  blk_point [iblk, V, idx t]

theorem rhs_read : (iblk m c 1 t (ix2 k y) : EReal) = rhs (bA m c) (tk t k) (tj t y) := by
  unfold rhs tk tj
  blk_point [iblk, V, idx t]

/-- What one grid point adds to an element of its block. -/
def part (t : Fin cfg0.N) (i : S1024x1024.Idx) : EReal :=
  ∑ k, lhs (aA m c) (ti t (i 0)) (tk t k) * rhs (bA m c) (tk t k) (tj t (i 1))

theorem product_at (a : FVec Ideal S1024x1024 .bf16) (b : FVec Ideal S1024x1024 .bf16) :
    (k0_pay1 (F := Ideal) a b (ix2 x y) : EReal) = ∑ k, (a (ix2 x k) : EReal) * b (ix2 k y) := by
  pointwise [k0_pay1]

theorem product_part (i : S1024x1024.Idx) : (k0_pay1 (F := Ideal) (iblk m c 0 t) (iblk m c 1 t) i : EReal) = part m c t i := by
  have h : i = ix2 (i 0) (i 1) := by idx_ext
  refine (congrArg (k0_pay1 (F := Ideal) (iblk m c 0 t) (iblk m c 1 t)) h).trans ((product_at _ _ _ _).trans ?_)
  exact Finset.sum_congr rfl fun k _ => congrArg₂ (· * ·) (lhs_read m c t _ k) (rhs_read m c t _ k)

theorem part_prod (i : S1024x1024.Idx) (y : S4096x1024.Idx) (h0 : (y 0).val = t.val / 1 * 1024 + (i 0).val)
    (h1 : (y 1).val = t.val / 1 % 1 * 1024 + (i 1).val) : part m c t i = prod (aA m c) (bA m c) y := by
  refine Finset.sum_congr rfl fun k _ => ?_
  refine congrArg₂ (· * ·) (congrArg₂ _ (Fin.ext ?_) (Fin.ext ?_)) (congrArg₂ _ (Fin.ext ?_) (Fin.ext ?_))
  · exact h0.symm
  · show t.val % 1 * 1024 + k.val = k.val
    omega
  · show t.val % 1 * 1024 + k.val = k.val
    omega
  · exact h1.symm

/-- The kernel's array after the run. -/
theorem final : (dats m 0 c).arrAt 2 cfg0.N = prod (aA m c) (bA m c) := by
  refine (dats m 0 c).arrAt_eq_of_covers 2 _ (by decide +kernel) fun t hf y => ?_
  blk_simp
  rw [after0_2]
  unfold out0_2
  frame_out
  refine (product_part m c t y).trans (part_prod m c t y _ ?_ ?_)
  · blk_simp [idx t]
  · blk_simp [idx t]

/-- The reference's array. -/
theorem reference (a : FVec Ideal S2x2048x1024 .f32) (b : FVec Ideal S1024x1024 .f32) :
    shapeCast Cert.LastMixReferenceIdeal.S4096x1024 (Host.dotGeneral Cert.LastMixReferenceIdeal.dot_S2x2048x1024_S1024x1024_S2x2048x1024_2_0_01_1_n_n none a b)
      Cert.LastMixReferenceIdeal.Gen.shapeCasts_S2x2048x1024_S4096x1024 = prod a b := by
  funext y
  have h : y = ix2 (y 0) (y 1) := by idx_ext
  rw [h]
  pointwise [prod, lhs, rhs]

end Cert.LastMixEq

end
-- ==== Proof.LastMixT.lean ====
/- The last layer's projection of the mixed heads: the product, gradient with respect to the tokens. -/
module

public import proofs.«01_k».proof.Proof.Gen.LastMixTIdeal.Value
public import proofs.«01_k».proof.Proof.Gen.LastMixTReferenceIdeal.Run
public import Idealize.ShloMosaic.Lib.Pipeline.ValueKit
public import Idealize.ShloMosaic.Lib.Pointwise

@[expose] public section

set_option maxRecDepth 16384

noncomputable section

namespace Cert.LastMixTEq

open Cert.LastMixTIdeal Cert.LastMixTIdeal.Gen Idealize.ShloMosaic Idealize.ShloMosaic.TcCoe Idealize.SL.Sem

/-- The left factor at a row and a summation index. -/
def lhs (a : FVec Ideal S2x2048x1024 .f32) (i : Fin 4096) (k : Fin 1024) : EReal :=
  a (ix3 ⟨i.val / 2048, by omega⟩ ⟨i.val % 2048, by omega⟩ k)

/-- The right factor at a summation index and a column. -/
def rhs (b : FVec Ideal S1024x1024 .f32) (k : Fin 1024) (j : Fin 1024) : EReal :=
  b (ix2 j k)

/-- The product at an element. -/
def prod (a : FVec Ideal S2x2048x1024 .f32) (b : FVec Ideal S1024x1024 .f32) (y : S4096x1024.Idx) : EReal :=
  ∑ k, lhs a (y 0) k * rhs b k (y 1)

variable (m : (ℓ : Loc nD τ sig) → Buf (Elt Ideal) ℓ) (c : Dev nD)

/-- The factors as arguments of the kernel. -/
abbrev aA : FVec Ideal S2x2048x1024 .f32 := m ((c : Thread nD τ).loc main_arg2)
abbrev bA : FVec Ideal S1024x1024 .f32 := m ((c : Thread nD τ).loc main_arg1)

theorem idx : ∀ t : Fin cfg0.N, win0_0.index t = ![t.val / 1, t.val % 1] ∧ win0_1.index t = ![t.val / 1 % 1, t.val % 1]
    ∧ win0_2.index t = ![t.val / 1, t.val / 1 % 1] :=
  (by decide +kernel : ∀ t : Fin grid0.N, _)

theorem points (t : Fin cfg0.N) : t.val < 4 := lt_of_lt_of_eq t.isLt N_0

/-- Row, column and summation index of an element of the blocks of grid point `t`. -/
def ti (t : Fin cfg0.N) (x : Fin 1024) : Fin 4096 := ⟨t.val / 1 * 1024 + x.val, by have := points t; omega⟩
def tj (t : Fin cfg0.N) (y : Fin 1024) : Fin 1024 := ⟨t.val / 1 % 1 * 1024 + y.val, by omega⟩
def tk (t : Fin cfg0.N) (k : Fin 1024) : Fin 1024 := ⟨t.val % 1 * 1024 + k.val, by omega⟩

variable (t : Fin cfg0.N) (x : Fin 1024) (y : Fin 1024) (k : Fin 1024)

theorem lhs_read : (iblk m c 0 t (ix2 x k) : EReal) = lhs (aA m c) (ti t x) (tk t k) := by
  unfold lhs ti tk
  blk_point [iblk, V, idx t]

theorem rhs_read : (iblk m c 1 t (ix2 y k) : EReal) = rhs (bA m c) (tk t k) (tj t y) := by
  unfold rhs tk tj
  blk_point [iblk, V, idx t]

/-- What one grid point adds to an element of its block. -/
def part (t : Fin cfg0.N) (i : S1024x1024.Idx) : EReal :=
  ∑ k, lhs (aA m c) (ti t (i 0)) (tk t k) * rhs (bA m c) (tk t k) (tj t (i 1))

theorem product_at (a : FVec Ideal S1024x1024 .bf16) (b : FVec Ideal S1024x1024 .bf16) :
    (k0_pay1 (F := Ideal) a b (ix2 x y) : EReal) = ∑ k, (a (ix2 x k) : EReal) * b (ix2 y k) := by
  pointwise [k0_pay1]

theorem product_part (i : S1024x1024.Idx) : (k0_pay1 (F := Ideal) (iblk m c 0 t) (iblk m c 1 t) i : EReal) = part m c t i := by
  have h : i = ix2 (i 0) (i 1) := by idx_ext
  refine (congrArg (k0_pay1 (F := Ideal) (iblk m c 0 t) (iblk m c 1 t)) h).trans ((product_at _ _ _ _).trans ?_)
  exact Finset.sum_congr rfl fun k _ => congrArg₂ (· * ·) (lhs_read m c t _ k) (rhs_read m c t _ k)

theorem part_prod (i : S1024x1024.Idx) (y : S4096x1024.Idx) (h0 : (y 0).val = t.val / 1 * 1024 + (i 0).val)
    (h1 : (y 1).val = t.val / 1 % 1 * 1024 + (i 1).val) : part m c t i = prod (aA m c) (bA m c) y := by
  refine Finset.sum_congr rfl fun k _ => ?_
  refine congrArg₂ (· * ·) (congrArg₂ _ (Fin.ext ?_) (Fin.ext ?_)) (congrArg₂ _ (Fin.ext ?_) (Fin.ext ?_))
  · exact h0.symm
  · show t.val % 1 * 1024 + k.val = k.val
    omega
  · show t.val % 1 * 1024 + k.val = k.val
    omega
  · exact h1.symm

/-- The kernel's array after the run. -/
theorem final : (dats m 0 c).arrAt 2 cfg0.N = prod (aA m c) (bA m c) := by
  refine (dats m 0 c).arrAt_eq_of_covers 2 _ (by decide +kernel) fun t hf y => ?_
  blk_simp
  rw [after0_2]
  unfold out0_2
  frame_out
  refine (product_part m c t y).trans (part_prod m c t y _ ?_ ?_)
  · blk_simp [idx t]
  · blk_simp [idx t]

/-- The reference's array. -/
theorem reference (a : FVec Ideal S2x2048x1024 .f32) (b : FVec Ideal S1024x1024 .f32) :
    shapeCast Cert.LastMixTReferenceIdeal.S4096x1024 (Host.dotGeneral Cert.LastMixTReferenceIdeal.dot_S2x2048x1024_S1024x1024_S2x2048x1024_2_1_01_0_n_n none a b)
      Cert.LastMixTReferenceIdeal.Gen.shapeCasts_S2x2048x1024_S4096x1024 = prod a b := by
  funext y
  have h : y = ix2 (y 0) (y 1) := by idx_ext
  rw [h]
  pointwise [prod, lhs, rhs]

end Cert.LastMixTEq

end
-- ==== Proof.LastMixW.lean ====
/- The last layer's projection of the mixed heads: the product, gradient with respect to the weights. -/
module

public import proofs.«01_k».proof.Proof.Gen.LastMixWIdeal.Value
public import proofs.«01_k».proof.Proof.Gen.LastMixWReferenceIdeal.Run
public import Idealize.ShloMosaic.Lib.Pipeline.ValueKit
public import Idealize.ShloMosaic.Lib.Pointwise
public import Idealize.ShloMosaic.Lib.Pipeline.ReadBack

@[expose] public section

set_option maxRecDepth 16384

noncomputable section

namespace Cert.LastMixWEq

open Cert.LastMixWIdeal Cert.LastMixWIdeal.Gen Idealize.ShloMosaic Idealize.ShloMosaic.TcCoe Idealize.SL.Sem

/-- The left factor at a row and a summation index. -/
def lhs (a : FVec Ideal S2x2048x1024 .f32) (i : Fin 1024) (k : Fin 4096) : EReal :=
  a (ix3 ⟨k.val / 2048, by omega⟩ ⟨k.val % 2048, by omega⟩ i)

/-- The right factor at a summation index and a column. -/
def rhs (b : FVec Ideal S2x2048x1024 .f32) (k : Fin 4096) (j : Fin 1024) : EReal :=
  b (ix3 ⟨k.val / 2048, by omega⟩ ⟨k.val % 2048, by omega⟩ j)

/-- The product at an element. -/
def prod (a : FVec Ideal S2x2048x1024 .f32) (b : FVec Ideal S2x2048x1024 .f32) (y : S1024x1024.Idx) : EReal :=
  ∑ k, lhs a (y 0) k * rhs b k (y 1)

variable (m : (ℓ : Loc nD τ sig) → Buf (Elt Ideal) ℓ) (c : Dev nD)

/-- The factors as arguments of the kernel. -/
abbrev aA : FVec Ideal S2x2048x1024 .f32 := m ((c : Thread nD τ).loc main_arg0)
abbrev bA : FVec Ideal S2x2048x1024 .f32 := m ((c : Thread nD τ).loc main_arg2)

theorem idx : ∀ t : Fin cfg0.N, win0_0.index t = ![t.val % 4, t.val / 4] ∧ win0_1.index t = ![t.val % 4, t.val / 4 % 1]
    ∧ win0_2.index t = ![t.val / 4, t.val / 4 % 1] :=
  (by decide +kernel : ∀ t : Fin grid0.N, _)

theorem points (t : Fin cfg0.N) : t.val < 4 := lt_of_lt_of_eq t.isLt N_0

/-- Row, column and summation index of an element of the blocks of grid point `t`. -/
def ti (t : Fin cfg0.N) (x : Fin 1024) : Fin 1024 := ⟨t.val / 4 * 1024 + x.val, by have := points t; omega⟩
def tj (t : Fin cfg0.N) (y : Fin 1024) : Fin 1024 := ⟨t.val / 4 % 1 * 1024 + y.val, by omega⟩
def tk (t : Fin cfg0.N) (k : Fin 1024) : Fin 4096 := ⟨t.val % 4 * 1024 + k.val, by omega⟩

variable (t : Fin cfg0.N) (x : Fin 1024) (y : Fin 1024) (k : Fin 1024)

theorem lhs_read : (iblk m c 0 t (ix2 k x) : EReal) = lhs (aA m c) (ti t x) (tk t k) := by
  unfold lhs ti tk
  blk_point [iblk, V, idx t]

theorem rhs_read : (iblk m c 1 t (ix2 k y) : EReal) = rhs (bA m c) (tk t k) (tj t y) := by
  unfold rhs tk tj
  blk_point [iblk, V, idx t]

/-- What one grid point adds to an element of its block. -/
def part (t : Fin cfg0.N) (i : S1024x1024.Idx) : EReal :=
  ∑ k, lhs (aA m c) (ti t (i 0)) (tk t k) * rhs (bA m c) (tk t k) (tj t (i 1))

theorem product_at (a : FVec Ideal S1024x1024 .bf16) (b : FVec Ideal S1024x1024 .bf16) :
    (k0_pay1 (F := Ideal) a b (ix2 x y) : EReal) = ∑ k, (a (ix2 k x) : EReal) * b (ix2 k y) := by
  pointwise [k0_pay1]

theorem product_part (i : S1024x1024.Idx) : (k0_pay1 (F := Ideal) (iblk m c 0 t) (iblk m c 1 t) i : EReal) = part m c t i := by
  have h : i = ix2 (i 0) (i 1) := by idx_ext
  refine (congrArg (k0_pay1 (F := Ideal) (iblk m c 0 t) (iblk m c 1 t)) h).trans ((product_at _ _ _ _).trans ?_)
  exact Finset.sum_congr rfl fun k _ => congrArg₂ (· * ·) (lhs_read m c t _ k) (rhs_read m c t _ k)

theorem first_at (i : S1024x1024.Idx) : (k0_pay2 (F := Ideal) (iblk m c 0 t) (iblk m c 1 t) i : EReal) = 0 + part m c t i := by
  rw [zero_add, ← product_part]
  pointwise [k0_pay2]

theorem next_at (o : FVec Ideal S1024x1024 .f32) (i : S1024x1024.Idx) :
    (k0_pay3 (F := Ideal) (iblk m c 0 t) (iblk m c 1 t) o i : EReal) = (o i : EReal) + part m c t i := by
  rw [← product_part]
  pointwise [k0_pay3]

theorem last_at (o : FVec Ideal S1024x1024 .f32) (i : S1024x1024.Idx) :
    (k0_pay4 (F := Ideal) (iblk m c 0 t) (iblk m c 1 t) o i : EReal) = (o i : EReal) + part m c t i := by
  rw [← product_part]
  pointwise [k0_pay4]

/-- What is accumulated after point `n`: in the scratch, and at a run's last point in the output block. -/
def acc (n : ℕ) (h : n < cfg0.N) (i : S1024x1024.Idx) : EReal :=
  if n % 4 = 3 then ((outsAt0 m c n h).1 i : EReal) else (outsAt0 m c n h).2 i

theorem acc_first (h : t.val % 4 = 0) (i : S1024x1024.Idx) : acc m c t.val t.isLt i = 0 + part m c t i := by
  rw [acc, if_neg (by omega), outsAt0_A m c t h (by omega) (by omega)]
  frame_out
  exact first_at m c t i

theorem acc_step (h : ¬t.val % 4 = 0) (i : S1024x1024.Idx) :
    acc m c t.val t.isLt i = acc m c (t.val - 1) (Nat.lt_of_le_of_lt (Nat.sub_le _ _) t.isLt) i + part m c t i := by
  rw [acc, acc, if_neg (show ¬(t.val - 1) % 4 = 3 by omega)]
  by_cases h' : t.val % 4 = 3
  · rw [if_pos h', outsAt0_C m c t h (by omega) h']
    frame_out
    rw [read_unread_whole]
    exact last_at m c t _ i
  · rw [if_neg h', outsAt0_B m c t h (by omega) h']
    frame_out
    rw [read_unread_whole]
    exact next_at m c t _ i

theorem sum_parts (ht : ∀ j : Fin 4, 4 * (t.val / 4) + j.val < cfg0.N) (i : S1024x1024.Idx) (y : S1024x1024.Idx)
    (h0 : (y 0).val = t.val / 4 * 1024 + (i 0).val) (h1 : (y 1).val = t.val / 4 % 1 * 1024 + (i 1).val) :
    ∑ j : Fin 4, part m c ⟨4 * (t.val / 4) + j.val, ht j⟩ i = prod (aA m c) (bA m c) y := by
  unfold prod
  rw [Fin.sum_univ_tiles 4 1024 rfl]
  refine Finset.sum_congr rfl fun j _ => Finset.sum_congr rfl fun k _ => ?_
  have hj := j.isLt
  refine congrArg₂ (· * ·) (congrArg₂ _ (Fin.ext ?_) (Fin.ext ?_)) (congrArg₂ _ (Fin.ext ?_) (Fin.ext ?_))
  · show (4 * (t.val / 4) + j.val) / 4 * 1024 + (i 0).val = (y 0).val
    omega
  · show (4 * (t.val / 4) + j.val) % 4 * 1024 + k.val = j.val * 1024 + k.val
    omega
  · show (4 * (t.val / 4) + j.val) % 4 * 1024 + k.val = j.val * 1024 + k.val
    omega
  · show (4 * (t.val / 4) + j.val) / 4 % 1 * 1024 + (i 1).val = (y 1).val
    omega

/-- The kernel's array after the run. -/
theorem final : (dats m 0 c).arrAt 2 cfg0.N = prod (aA m c) (bA m c) := by
  refine (dats m 0 c).arrAt_eq_of_covers 2 _ (by decide +kernel) fun t hf y => ?_
  have hl := (flush0_2 t).mp hf
  blk_simp
  rw [after0_2]
  have e := Pipeline.eq_sum_fin_of_reset_step_apply_of_flush (M := EReal) (acc m c) 4 (fun _ => 0) (part m c)
    (acc_first m c) (acc_step m c) t hl
  refine Eq.trans ?_ ((e y).trans ((zero_add _).trans (sum_parts m c t (Pipeline.run_point_lt_of_flush t hl) y _ ?_ ?_)))
  · rw [acc, if_pos hl]
  · blk_simp [idx t]
  · blk_simp [idx t]

/-- The reference's array: its sum over the two sequences and their positions is one sum over the rows. -/
theorem reference (a : FVec Ideal S2x2048x1024 .f32) (b : FVec Ideal S2x2048x1024 .f32) :
    truncf .bf16 (transpose Cert.LastMixWReferenceIdeal.S1024x1024 [1, 0] (Host.dotGeneral Cert.LastMixWReferenceIdeal.dot_S2x2048x1024_S2x2048x1024_S1024x1024_01_01_2_2_n_n none b a)
      Cert.LastMixWReferenceIdeal.Gen.transposes_S1024x1024_S1024x1024_1_0) Cert.LastMixWReferenceIdeal.Gen.bitsLt_bf16_f32 = prod a b := by
  funext y
  have h : y = ix2 (y 0) (y 1) := by idx_ext
  rw [h]
  unfold prod
  rw [Fin.sum_univ_tiles 2 2048 rfl]
  pointwise [lhs, rhs]
  refine Finset.sum_congr rfl fun q _ => Finset.sum_congr rfl fun k _ => (mul_comm _ _).trans ?_
  have hk := k.isLt
  have h1 : (⟨(q.val * 2048 + k.val) / 2048, by omega⟩ : Fin 2) = q := Fin.ext (show (q.val * 2048 + k.val) / 2048 = q.val by omega)
  have h2 : (⟨(q.val * 2048 + k.val) % 2048, by omega⟩ : Fin 2048) = k := Fin.ext (show (q.val * 2048 + k.val) % 2048 = k.val by omega)
  exact (congrArg₂ (fun u v => a (ix3 u v (y 0)) * b (ix3 u v (y 1))) h1 h2).symm

end Cert.LastMixWEq

end
-- ==== Proof.Block.lean ====
/- What one half of the kernel's block computes: the weights of 256 query rows, the gradient of their scores, and their parts
   of the three results, at an index. -/
module

public import proofs.«01_k».proof.Proof.Gen.KernelIdeal.Value
public import proofs.«01_k».proof.Proof.SoftmaxGrad

@[expose] public section

set_option maxRecDepth 16384

noncomputable section

namespace Cert.Block

open Cert.KernelIdeal Cert.KernelIdeal.Gen Idealize.ShloMosaic Idealize.ShloMosaic.TcCoe Idealize.SL.Sem
open Cert.SoftmaxGrad (kExp kProb kGrad)

/-- The named constant: the scores' scale times the logarithm of e to base 2. -/
abbrev kap : EReal := Named.named (F := Ideal) (φ := .f32) κ "scale_log2e" 0x3E38AA3B#32

/-- One eighth, the scores' scale. -/
abbrev eighth : EReal := Ideal.ofBits .f32 0x3E000000#32

/-- The products of row `r` of a 256-row block with every column of a transposed block. -/
def brow (x : FVec Ideal S1x1x256x64 .bf16) (y : FVec Ideal S1x1x64x2304 .bf16) (r : Fin 256) (s : Fin 2304) : EReal :=
  ∑ e : Fin 64, (x (ix4 0 0 r e) : EReal) * y (ix4 0 0 e s)

theorem exp2_eq (x : EReal) : FloatOps.exp2 (F := Ideal) (φ := .f32) x = Ideal.exp2 x := rfl

variable (q d : FVec Ideal S1x1x256x64 .bf16) (k v : FVec Ideal S1x1x64x2304 .bf16)
variable (r : Fin 256) (s : Fin 2304) (e : Fin 64)

/-- The weights, first half. -/
theorem pay11_at : k0_pay11 (F := Ideal) k q (ix2 r s) = kProb kap (brow q k r) s := by
  pointwise [k0_pay11, k0_pay7, k0_pay9, kProb, kExp, brow]
  simp only [exp2_eq]

/-- The weights' gradient, first half. -/
theorem pay12_at : k0_pay12 (F := Ideal) v d (ix2 r s) = brow d v r s := by
  pointwise [k0_pay12, k0_pay8, k0_pay10, brow]

/-- The weights, second half. -/
theorem pay20_at : k0_pay20 (F := Ideal) (k0_pay7 (F := Ideal) k) q (ix2 r s) = kProb kap (brow q k r) s := by
  pointwise [k0_pay20, k0_pay7, k0_pay18, kProb, kExp, brow]
  simp only [exp2_eq]

/-- The weights' gradient, second half. -/
theorem pay21_at : k0_pay21 (F := Ideal) (k0_pay8 (F := Ideal) v) d (ix2 r s) = brow d v r s := by
  pointwise [k0_pay21, k0_pay8, k0_pay19, brow]

/-- The scores' gradient, first half, over any weights and gradients of them. -/
theorem pay14_at (p dp : FVec Ideal S256x2304 .f32) :
    k0_pay14 (F := Ideal) p dp (mulf p dp) (ix2 r s) = p (ix2 r s) * (dp (ix2 r s) - ∑ i, p (ix2 r i) * dp (ix2 r i)) * eighth := by
  pointwise [k0_pay14]

/-- The scores' gradient, first half. -/
theorem grad_first : k0_pay14 (F := Ideal) (k0_pay11 (F := Ideal) k q) (k0_pay12 (F := Ideal) v d) (k0_pay13 (F := Ideal) k v q d) (ix2 r s)
    = kGrad kap eighth (brow q k r) (brow d v r) s := by
  unfold k0_pay13
  rw [pay14_at]
  simp only [pay11_at, pay12_at]
  rfl

/-- The scores' gradient, second half. -/
theorem grad_second : k0_pay1 (F := Ideal) (k0_pay20 (F := Ideal) (k0_pay7 (F := Ideal) k) q) (k0_pay21 (F := Ideal) (k0_pay8 (F := Ideal) v) d) (k0_pay22 (F := Ideal) (k0_pay7 (F := Ideal) k) (k0_pay8 (F := Ideal) v) q d) (ix2 r s)
    = kGrad kap eighth (brow q k r) (brow d v r) s := by
  have h : k0_pay1 (F := Ideal) (k0_pay20 (F := Ideal) (k0_pay7 (F := Ideal) k) q) (k0_pay21 (F := Ideal) (k0_pay8 (F := Ideal) v) d) (k0_pay22 (F := Ideal) (k0_pay7 (F := Ideal) k) (k0_pay8 (F := Ideal) v) q d) (ix2 r s)
      = k0_pay20 (F := Ideal) (k0_pay7 (F := Ideal) k) q (ix2 r s) * (k0_pay21 (F := Ideal) (k0_pay8 (F := Ideal) v) d (ix2 r s)
          - ∑ i, k0_pay20 (F := Ideal) (k0_pay7 (F := Ideal) k) q (ix2 r i) * k0_pay21 (F := Ideal) (k0_pay8 (F := Ideal) v) d (ix2 r i)) * eighth := by
    pointwise [k0_pay1, k0_pay22]
  rw [h]
  simp only [pay20_at, pay21_at]
  rfl

/-- The queries' gradient, first half, transposed. -/
theorem dq_first : k0_pay15 (F := Ideal) (k0_pay7 (F := Ideal) k) (k0_pay11 (F := Ideal) k q) (k0_pay12 (F := Ideal) v d) (k0_pay13 (F := Ideal) k v q d) (ix4 0 0 e r)
    = ∑ s, kGrad kap eighth (brow q k r) (brow d v r) s * k (ix4 0 0 e s) := by
  have h : ∀ w : FVec Ideal S64x2304 .bf16, ∀ a b c, k0_pay15 (F := Ideal) w a b c (ix4 0 0 e r) = ∑ s, w (ix2 e s) * k0_pay14 (F := Ideal) a b c (ix2 r s) := by
    intro w a b c
    pointwise [k0_pay15]
  rw [h]
  refine Finset.sum_congr rfl fun s _ => ?_
  rw [grad_first, mul_comm]
  pointwise [k0_pay7]

/-- The queries' gradient, second half, transposed. -/
theorem dq_second : k0_pay2 (F := Ideal) (k0_pay7 (F := Ideal) k) (k0_pay20 (F := Ideal) (k0_pay7 (F := Ideal) k) q) (k0_pay21 (F := Ideal) (k0_pay8 (F := Ideal) v) d) (k0_pay22 (F := Ideal) (k0_pay7 (F := Ideal) k) (k0_pay8 (F := Ideal) v) q d) (ix4 0 0 e r)
    = ∑ s, kGrad kap eighth (brow q k r) (brow d v r) s * k (ix4 0 0 e s) := by
  have h : ∀ w : FVec Ideal S64x2304 .bf16, ∀ a b c, k0_pay2 (F := Ideal) w a b c (ix4 0 0 e r) = ∑ s, w (ix2 e s) * k0_pay1 (F := Ideal) a b c (ix2 r s) := by
    intro w a b c
    pointwise [k0_pay2]
  rw [h]
  refine Finset.sum_congr rfl fun s _ => ?_
  rw [grad_second, mul_comm]
  pointwise [k0_pay7]

variable (q' d' : FVec Ideal S1x1x256x64 .bf16) (o : FVec Ideal S1x1x2304x64 .f32)

/-- The keys' gradient after the block: what was there, and the parts of the two halves. -/
theorem dk_step :
    k0_pay3 (F := Ideal) (k0_pay16 (F := Ideal) (k0_pay9 (F := Ideal) q) (k0_pay11 (F := Ideal) k q) (k0_pay12 (F := Ideal) v d) (k0_pay13 (F := Ideal) k v q d)) (k0_pay18 (F := Ideal) q')
        (k0_pay20 (F := Ideal) (k0_pay7 (F := Ideal) k) q') (k0_pay21 (F := Ideal) (k0_pay8 (F := Ideal) v) d') (k0_pay22 (F := Ideal) (k0_pay7 (F := Ideal) k) (k0_pay8 (F := Ideal) v) q' d') o (ix4 0 0 s e)
      = o (ix4 0 0 s e) + ((∑ r, kGrad kap eighth (brow q k r) (brow d v r) s * q (ix4 0 0 r e))
          + ∑ r, kGrad kap eighth (brow q' k r) (brow d' v r) s * q' (ix4 0 0 r e)) := by
  have h : ∀ x y a b c, k0_pay3 (F := Ideal) x y a b c o (ix4 0 0 s e)
      = o (ix4 0 0 s e) + (x (ix2 s e) + ∑ r, k0_pay1 (F := Ideal) a b c (ix2 r s) * y (ix2 r e)) := by
    intro x y a b c
    pointwise [k0_pay3]
  have h' : ∀ y a b c, k0_pay16 (F := Ideal) y a b c (ix2 s e) = ∑ r, k0_pay14 (F := Ideal) a b c (ix2 r s) * y (ix2 r e) := by
    intro y a b c
    pointwise [k0_pay16]
  rw [h, h']
  simp only [grad_first, grad_second]
  pointwise [k0_pay9, k0_pay18]

/-- The values' gradient after the block: what was there, and the parts of the two halves. -/
theorem dv_step :
    k0_pay4 (F := Ideal) (k0_pay17 (F := Ideal) (k0_pay10 (F := Ideal) d) (k0_pay11 (F := Ideal) k q)) (k0_pay19 (F := Ideal) d') (k0_pay20 (F := Ideal) (k0_pay7 (F := Ideal) k) q') o (ix4 0 0 s e)
      = o (ix4 0 0 s e) + ((∑ r, kProb kap (brow q k r) s * d (ix4 0 0 r e))
          + ∑ r, kProb kap (brow q' k r) s * d' (ix4 0 0 r e)) := by
  have h : ∀ x y a, k0_pay4 (F := Ideal) x y a o (ix4 0 0 s e)
      = o (ix4 0 0 s e) + (x (ix2 s e) + ∑ r, a (ix2 r s) * y (ix2 r e)) := by
    intro x y a
    pointwise [k0_pay4]
  have h' : ∀ y a, k0_pay17 (F := Ideal) y a (ix2 s e) = ∑ r, a (ix2 r s) * y (ix2 r e) := by
    intro y a
    pointwise [k0_pay17]
  rw [h, h']
  simp only [pay11_at, pay20_at]
  pointwise [k0_pay10, k0_pay19]

/-- The accumulators start at zero. -/
theorem zero_at : k0_pay5 (F := Ideal) (ix4 0 0 s e) = 0 ∧ k0_pay6 (F := Ideal) (ix4 0 0 s e) = 0 := by
  constructor <;> pointwise [k0_pay5, k0_pay6]

end Cert.Block

end
-- ==== Proof.Reads.lean ====
/- The blocks the kernel reads, as parts of the argument arrays; and the results its arrays are to hold. -/
module

public import proofs.«01_k».proof.Proof.Block
public import proofs.«01_k».proof.Proof.Rows

@[expose] public section

set_option maxRecDepth 16384

noncomputable section

namespace Cert.Arrays

open Cert.KernelIdeal Cert.KernelIdeal.Gen Idealize.ShloMosaic Idealize.ShloMosaic.TcCoe Idealize.SL.Sem
open Cert.Rows (QArr KArr qHead row dqOf dkOf)
open Cert.SoftmaxGrad (kProb kGrad)
open Cert.Block (kap eighth brow)

variable (m : (ℓ : Loc nD τ sig) → Buf (Elt Ideal) ℓ) (c : Dev nD)

/-- The queries. -/
abbrev qA : QArr := m ((c : Thread nD τ).loc main_arg0)
/-- The keys. -/
abbrev kA : KArr := m ((c : Thread nD τ).loc main_arg1)
/-- The values. -/
abbrev vA : KArr := m ((c : Thread nD τ).loc main_arg2)
/-- The upstream gradient. -/
abbrev gA : QArr := m ((c : Thread nD τ).loc main_arg3)

/-- The kernel's gradient of the scores. -/
abbrev dS (b : Fin 2) (h : Fin 4) (u : Fin 3) (n : Fin 2048) : Fin 2304 → EReal :=
  kGrad kap eighth (row (qA m c) (kA m c) b h u n) (row (gA m c) (vA m c) b h u n)

/-- The kernel's weights. -/
abbrev prob (b : Fin 2) (h : Fin 4) (u : Fin 3) (n : Fin 2048) : Fin 2304 → EReal :=
  kProb kap (row (qA m c) (kA m c) b h u n)

theorem idx : ∀ t : Fin cfg0.N, win0_0.index t = ![t.val / 48, t.val / 4 % 12, t.val % 4, 0]
    ∧ win0_1.index t = ![t.val / 48, t.val / 12 % 4, 0, 0] ∧ win0_2.index t = ![t.val / 48, t.val / 12 % 4, 0, 0]
    ∧ win0_3.index t = ![t.val / 48, t.val / 4 % 12, t.val % 4, 0] ∧ win0_4.index t = ![t.val / 48, t.val / 4 % 12, 0, t.val % 4]
    ∧ win0_5.index t = ![t.val / 48, t.val / 12 % 4, 0, 0] ∧ win0_6.index t = ![t.val / 48, t.val / 12 % 4, 0, 0] :=
  (by decide +kernel : ∀ t : Fin grid0.N, _)

theorem lt96 (t : Fin cfg0.N) : t.val < 96 := lt_of_lt_of_eq t.isLt N_0

/-- The batch element of grid point `t`. -/
def tb (t : Fin cfg0.N) : Fin 2 := ⟨t.val / 48, by have := lt96 t; omega⟩
/-- The key head of grid point `t`. -/
def th (t : Fin cfg0.N) : Fin 4 := ⟨t.val / 12 % 4, by omega⟩
/-- The place in its group of the query head of grid point `t`. -/
def tu (t : Fin cfg0.N) : Fin 3 := ⟨t.val / 4 % 3, by omega⟩
/-- Row `r` of the query block of grid point `t`. -/
def tn (t : Fin cfg0.N) (r : Fin 512) : Fin 2048 := ⟨t.val % 4 * 512 + r.val, by omega⟩
/-- Row `r` of the first half of a block. -/
def lo (r : Fin 256) : Fin 512 := ⟨r.val, by omega⟩
/-- Row `r` of the second half of a block. -/
def hi (r : Fin 256) : Fin 512 := ⟨256 + r.val, by omega⟩

variable (t : Fin cfg0.N) (x : Fin 512) (r : Fin 256) (s : Fin 2304) (e : Fin 64)

theorem head_val : (qHead (th t) (tu t)).val = t.val / 4 % 12 := by
  show t.val / 12 % 4 * 3 + t.val / 4 % 3 = _
  omega

theorem read_at (b : Fin 2) (hd : Fin 12) (h : Fin 4) (n : Fin 2048) (hb : b.val = t.val / 48) (hd' : hd.val = t.val / 4 % 12)
    (hh : h.val = t.val / 12 % 4) (hn : n.val = t.val % 4 * 512 + x.val) :
    (iblk m c 0 t (ix4 0 0 x e) : EReal) = qA m c (ix4 b n hd e) ∧ (iblk m c 1 t (ix4 0 0 e s) : EReal) = kA m c (ix4 b s h e)
      ∧ (iblk m c 2 t (ix4 0 0 e s) : EReal) = vA m c (ix4 b s h e) ∧ (iblk m c 3 t (ix4 0 0 x e) : EReal) = gA m c (ix4 b n hd e) := by
  refine ⟨?_, ?_, ?_, ?_⟩
  · blk_point [iblk, V, idx t]
  · blk_point [iblk, V, idx t]
  · blk_point [iblk, V, idx t]
  · blk_point [iblk, V, idx t]

theorem q_read : (iblk m c 0 t (ix4 0 0 x e) : EReal) = qA m c (ix4 (tb t) (tn t x) (qHead (th t) (tu t)) e) :=
  (read_at m c t x 0 e _ _ (th t) _ rfl (head_val t) rfl rfl).1

theorem k_read : (iblk m c 1 t (ix4 0 0 e s) : EReal) = kA m c (ix4 (tb t) s (th t) e) :=
  (read_at m c t 0 s e (tb t) _ (th t) (tn t 0) rfl (head_val t) rfl rfl).2.1

theorem v_read : (iblk m c 2 t (ix4 0 0 e s) : EReal) = vA m c (ix4 (tb t) s (th t) e) :=
  (read_at m c t 0 s e (tb t) _ (th t) (tn t 0) rfl (head_val t) rfl rfl).2.2.1

theorem g_read : (iblk m c 3 t (ix4 0 0 x e) : EReal) = gA m c (ix4 (tb t) (tn t x) (qHead (th t) (tu t)) e) :=
  (read_at m c t x 0 e _ _ (th t) _ rfl (head_val t) rfl rfl).2.2.2

/-- The first half of a block of queries or of upstream gradients. -/
abbrev half0 (X : FVec Ideal S1x1x512x64 .bf16) : FVec Ideal S1x1x256x64 .bf16 :=
  View.ld (Val := Elt Ideal) (e' := .bf16) X (Rect.unit ![0, 0, 0, 0] ![1, 1, 256, 64] inb_S1x1x512x64_S1x1x256x64_0_0_0_0)

/-- The second half. -/
abbrev half1 (X : FVec Ideal S1x1x512x64 .bf16) : FVec Ideal S1x1x256x64 .bf16 :=
  View.ld (Val := Elt Ideal) (e' := .bf16) X (Rect.unit ![0, 0, 256, 0] ![1, 1, 256, 64] inb_S1x1x512x64_S1x1x256x64_0_0_256_0)

theorem half0_at (X : FVec Ideal S1x1x512x64 .bf16) : half0 X (ix4 0 0 r e) = X (ix4 0 0 (lo r) e) := by
  show X _ = X _
  congr 1
  unfold lo
  idx_ext

theorem half1_at (X : FVec Ideal S1x1x512x64 .bf16) : half1 X (ix4 0 0 r e) = X (ix4 0 0 (hi r) e) := by
  show X _ = X _
  congr 1
  unfold hi
  idx_ext

/-- A block's row of products is the arrays' row. -/
theorem brow_eq (X : FVec Ideal S1x1x256x64 .bf16) (Y : FVec Ideal S1x1x64x2304 .bf16) (xs : QArr) (ys : KArr)
    (b : Fin 2) (h : Fin 4) (u : Fin 3) (n : Fin 2048) (hX : ∀ e, X (ix4 0 0 r e) = xs (ix4 b n (qHead h u) e))
    (hY : ∀ e s, Y (ix4 0 0 e s) = ys (ix4 b s h e)) : brow X Y r = row xs ys b h u n := by
  funext s
  unfold brow row
  exact Finset.sum_congr rfl fun e _ => by rw [hX, hY]

theorem score0 : brow (half0 (iblk m c 0 t)) (iblk m c 1 t) r = row (qA m c) (kA m c) (tb t) (th t) (tu t) (tn t (lo r)) :=
  brow_eq r _ _ _ _ _ _ _ _ (fun e => (half0_at r e _).trans (q_read m c t _ e)) fun e s => k_read m c t s e

theorem score1 : brow (half1 (iblk m c 0 t)) (iblk m c 1 t) r = row (qA m c) (kA m c) (tb t) (th t) (tu t) (tn t (hi r)) :=
  brow_eq r _ _ _ _ _ _ _ _ (fun e => (half1_at r e _).trans (q_read m c t _ e)) fun e s => k_read m c t s e

theorem dprob0 : brow (half0 (iblk m c 3 t)) (iblk m c 2 t) r = row (gA m c) (vA m c) (tb t) (th t) (tu t) (tn t (lo r)) :=
  brow_eq r _ _ _ _ _ _ _ _ (fun e => (half0_at r e _).trans (g_read m c t _ e)) fun e s => v_read m c t s e

theorem dprob1 : brow (half1 (iblk m c 3 t)) (iblk m c 2 t) r = row (gA m c) (vA m c) (tb t) (th t) (tu t) (tn t (hi r)) :=
  brow_eq r _ _ _ _ _ _ _ _ (fun e => (half1_at r e _).trans (g_read m c t _ e)) fun e s => v_read m c t s e

end Cert.Arrays

end
-- ==== Proof.DqArray.lean ====
/- The kernel's array of the queries' gradient. -/
module

public import proofs.«01_k».proof.Proof.Reads

@[expose] public section

set_option maxRecDepth 16384

noncomputable section

namespace Cert.Arrays

open Cert.KernelIdeal Cert.KernelIdeal.Gen Idealize.ShloMosaic Idealize.ShloMosaic.TcCoe Idealize.SL.Sem
open Cert.Rows (QArr KArr qHead row dqOf dkOf)
open Cert.SoftmaxGrad (kProb kGrad)
open Cert.Block (kap eighth brow)

variable (m : (ℓ : Loc nD τ sig) → Buf (Elt Ideal) ℓ) (c : Dev nD)

/-- The queries' gradient at an index of its array. -/
def dqAt (b : Fin 2) (hd : Fin 12) (e : Fin 64) (n : Fin 2048) : EReal :=
  dqOf (dS m c) (kA m c) b ⟨hd.val / 3, by omega⟩ ⟨hd.val % 3, by omega⟩ e n

section
variable (t : Fin cfg0.N) (r : Fin 256) (e : Fin 64) (b : Fin 2) (hd : Fin 12) (n : Fin 2048)

theorem dqAt_eq (n' : Fin 2048) (hb : b.val = t.val / 48) (hh : hd.val = t.val / 4 % 12) (hn : n = n') :
    dqAt m c b hd e n = dqOf (dS m c) (kA m c) (tb t) (th t) (tu t) e n' := by
  subst hn
  have e1 : b = tb t := Fin.ext hb
  have e2 : (⟨hd.val / 3, by omega⟩ : Fin 4) = th t := Fin.ext (by show hd.val / 3 = t.val / 12 % 4; omega)
  have e3 : (⟨hd.val % 3, by omega⟩ : Fin 3) = tu t := Fin.ext (by show hd.val % 3 = t.val / 4 % 3; omega)
  unfold dqAt
  rw [e1, e2, e3]

/-- The first half of a block's queries' gradient. -/
theorem dq0 : (k0_pay15 (F := Ideal) (k0_pay7 (iblk m c 1 t)) (k0_pay11 (iblk m c 1 t) (half0 (iblk m c 0 t)))
      (k0_pay12 (iblk m c 2 t) (half0 (iblk m c 3 t)))
      (k0_pay13 (iblk m c 1 t) (iblk m c 2 t) (half0 (iblk m c 0 t)) (half0 (iblk m c 3 t))) (ix4 0 0 e r) : EReal)
    = dqOf (dS m c) (kA m c) (tb t) (th t) (tu t) e (tn t (lo r)) := by
  refine (Block.dq_first _ _ _ _ r e).trans (Finset.sum_congr rfl fun s _ => ?_)
  rw [score0, dprob0]
  exact congrArg₂ (· * ·) rfl (k_read m c t s e)

/-- The second half of a block's queries' gradient. -/
theorem dq1 : (k0_pay2 (F := Ideal) (k0_pay7 (iblk m c 1 t)) (k0_pay20 (k0_pay7 (iblk m c 1 t)) (half1 (iblk m c 0 t)))
      (k0_pay21 (k0_pay8 (iblk m c 2 t)) (half1 (iblk m c 3 t)))
      (k0_pay22 (k0_pay7 (iblk m c 1 t)) (k0_pay8 (iblk m c 2 t)) (half1 (iblk m c 0 t)) (half1 (iblk m c 3 t))) (ix4 0 0 e r) : EReal)
    = dqOf (dS m c) (kA m c) (tb t) (th t) (tu t) e (tn t (hi r)) := by
  refine (Block.dq_second _ _ _ _ r e).trans (Finset.sum_congr rfl fun s _ => ?_)
  rw [score1, dprob1]
  exact congrArg₂ (· * ·) rfl (k_read m c t s e)
end

/-- What a grid point leaves in the block of the queries' gradient, whichever case it runs. -/
theorem dq_point (t : Fin cfg0.N) (y : S1x1x64x512.Idx) (b : Fin 2) (hd : Fin 12) (e : Fin 64) (n : Fin 2048)
    (hb : b.val = t.val / 48) (hh : hd.val = t.val / 4 % 12) (he : e.val = (y 2).val) (hn : n.val = t.val % 4 * 512 + (y 3).val) :
    ((outsAt0 m c t.val t.isLt).1 y : EReal) = dqAt m c b hd e n := by
  by_cases h : t.val % 12 = 0
  · rw [outsAt0_A m c t h]
    frame_out
    canon_tiles x h'
    · have hx : x = ix4 0 0 e (x 3) := by idx_ext
      rw [hx]
      exact (dq1 m c t (x 3) e).trans (dqAt_eq m c t e b hd n _ hb hh (Fin.ext (by simp only [tn, hi]; omega))).symm
    · have hx : x = ix4 0 0 e (x 3) := by idx_ext
      rw [hx]
      exact (dq0 m c t (x 3) e).trans (dqAt_eq m c t e b hd n _ hb hh (Fin.ext (by simp only [tn, lo]; omega))).symm
  · rw [outsAt0_B m c t h]
    frame_out
    canon_tiles x h'
    · have hx : x = ix4 0 0 e (x 3) := by idx_ext
      rw [hx]
      exact (dq1 m c t (x 3) e).trans (dqAt_eq m c t e b hd n _ hb hh (Fin.ext (by simp only [tn, hi]; omega))).symm
    · have hx : x = ix4 0 0 e (x 3) := by idx_ext
      rw [hx]
      exact (dq0 m c t (x 3) e).trans (dqAt_eq m c t e b hd n _ hb hh (Fin.ext (by simp only [tn, lo]; omega))).symm

/-- The array of the queries' gradient after the run. -/
theorem dq_final : (dats m 0 c).arrAt 4 cfg0.N = fun y : S2x12x64x2048.Idx => dqAt m c (y 0) (y 1) (y 2) (y 3) := by
  refine (dats m 0 c).arrAt_eq_of_covers 4 _ (by decide +kernel) fun t hf y => ?_
  blk_simp
  rw [after0_4]
  refine dq_point m c t y _ _ _ _ ?_ ?_ ?_ ?_
  · blk_simp [idx t]
  · blk_simp [idx t]
  · blk_simp [idx t]
    try omega
  · blk_simp [idx t]
    try omega

end Cert.Arrays

end
-- ==== Proof.RunSum.lean ====
/- A sum over the grid points of one run, each adding two halves of 256 rows, is the sum over the run's groups and rows. -/
module

public import Idealize.ShloMosaic.Lib.Pipeline.ValueKit
public import Idealize.ShloMosaic.Lib.Pointwise

@[expose] public section

noncomputable section

namespace Cert.RunSum

open Idealize.ShloMosaic

/-- Point `j` of a run of `3 * 4` belongs to group `j / 4` and holds the rows from `j % 4 * 512`, in halves of 256. -/
theorem sum_run (f : Fin 3 → Fin 2048 → EReal) :
    (∑ j : Fin 12, ((∑ r : Fin 256, f ⟨j.val / 4, by omega⟩ ⟨j.val % 4 * 512 + r.val, by omega⟩)
        + ∑ r : Fin 256, f ⟨j.val / 4, by omega⟩ ⟨j.val % 4 * 512 + (256 + r.val), by omega⟩))
      = ∑ u : Fin 3, ∑ n : Fin 2048, f u n := by
  rw [Fin.sum_univ_tiles 3 4 rfl]
  refine Finset.sum_congr rfl fun u _ => ?_
  rw [Fin.sum_univ_tiles 4 512 rfl (f u)]
  refine Finset.sum_congr rfl fun i _ => ?_
  rw [Fin.sum_univ_tiles 2 256 rfl, Fin.sum_univ_two]
  have hu : (⟨(u.val * 4 + i.val) / 4, by omega⟩ : Fin 3) = u := Fin.ext (by show (u.val * 4 + i.val) / 4 = u.val; omega)
  refine congrArg₂ (· + ·) (Finset.sum_congr rfl fun r _ => ?_) (Finset.sum_congr rfl fun r _ => ?_)
  · refine congrArg₂ f hu (Fin.ext ?_)
    show (u.val * 4 + i.val) % 4 * 512 + r.val = i.val * 512 + (0 * 256 + r.val)
    omega
  · refine congrArg₂ f hu (Fin.ext ?_)
    show (u.val * 4 + i.val) % 4 * 512 + (256 + r.val) = i.val * 512 + (1 * 256 + r.val)
    omega

end Cert.RunSum

end
-- ==== Proof.DkArrays.lean ====
/- The kernel's arrays of the keys' and the values' gradients, summed over the twelve grid points of a run. -/
module

public import proofs.«01_k».proof.Proof.Reads
public import proofs.«01_k».proof.Proof.RunSum

@[expose] public section

set_option maxRecDepth 16384

noncomputable section

namespace Cert.Arrays

open Cert.KernelIdeal Cert.KernelIdeal.Gen Idealize.ShloMosaic Idealize.ShloMosaic.TcCoe Idealize.SL.Sem
open Cert.Rows (QArr KArr qHead row dqOf dkOf)
open Cert.SoftmaxGrad (kProb kGrad)
open Cert.Block (kap eighth brow)

variable (m : (ℓ : Loc nD τ sig) → Buf (Elt Ideal) ℓ) (c : Dev nD)

/-- What one grid point adds to an element of a gradient summed over query rows. -/
def part (ds : Fin 2 → Fin 4 → Fin 3 → Fin 2048 → Fin 2304 → EReal) (q : QArr) (t : Fin cfg0.N) (s : Fin 2304) (e : Fin 64) : EReal :=
  (∑ r : Fin 256, ds (tb t) (th t) (tu t) (tn t (lo r)) s * q (ix4 (tb t) (tn t (lo r)) (qHead (th t) (tu t)) e))
    + ∑ r : Fin 256, ds (tb t) (th t) (tu t) (tn t (hi r)) s * q (ix4 (tb t) (tn t (hi r)) (qHead (th t) (tu t)) e)

section
variable (t : Fin cfg0.N) (s : Fin 2304) (e : Fin 64) (o : FVec Ideal S1x1x2304x64 .f32)

/-- One point's step of the keys' gradient. -/
theorem dk_step : (k0_pay3 (F := Ideal)
      (k0_pay16 (k0_pay9 (half0 (iblk m c 0 t))) (k0_pay11 (iblk m c 1 t) (half0 (iblk m c 0 t)))
        (k0_pay12 (iblk m c 2 t) (half0 (iblk m c 3 t)))
        (k0_pay13 (iblk m c 1 t) (iblk m c 2 t) (half0 (iblk m c 0 t)) (half0 (iblk m c 3 t))))
      (k0_pay18 (half1 (iblk m c 0 t))) (k0_pay20 (k0_pay7 (iblk m c 1 t)) (half1 (iblk m c 0 t)))
      (k0_pay21 (k0_pay8 (iblk m c 2 t)) (half1 (iblk m c 3 t)))
      (k0_pay22 (k0_pay7 (iblk m c 1 t)) (k0_pay8 (iblk m c 2 t)) (half1 (iblk m c 0 t)) (half1 (iblk m c 3 t))) o (ix4 0 0 s e) : EReal)
    = (o (ix4 0 0 s e) : EReal) + part (dS m c) (qA m c) t s e := by
  refine (Block.dk_step _ _ _ _ s e _ _ o).trans ?_
  unfold part
  refine congrArg₂ (· + ·) rfl (congrArg₂ (· + ·) (Finset.sum_congr rfl fun r _ => ?_) (Finset.sum_congr rfl fun r _ => ?_))
  · rw [score0, dprob0]
    exact congrArg₂ (· * ·) rfl ((half0_at r e _).trans (q_read m c t _ e))
  · rw [score1, dprob1]
    exact congrArg₂ (· * ·) rfl ((half1_at r e _).trans (q_read m c t _ e))

/-- One point's step of the values' gradient. -/
theorem dv_step : (k0_pay4 (F := Ideal)
      (k0_pay17 (k0_pay10 (half0 (iblk m c 3 t))) (k0_pay11 (iblk m c 1 t) (half0 (iblk m c 0 t))))
      (k0_pay19 (half1 (iblk m c 3 t))) (k0_pay20 (k0_pay7 (iblk m c 1 t)) (half1 (iblk m c 0 t))) o (ix4 0 0 s e) : EReal)
    = (o (ix4 0 0 s e) : EReal) + part (prob m c) (gA m c) t s e := by
  refine (Block.dv_step _ _ _ s e _ _ o).trans ?_
  unfold part
  refine congrArg₂ (· + ·) rfl (congrArg₂ (· + ·) (Finset.sum_congr rfl fun r _ => ?_) (Finset.sum_congr rfl fun r _ => ?_))
  · rw [score0]
    exact congrArg₂ (· * ·) rfl ((half0_at r e _).trans (g_read m c t _ e))
  · rw [score1]
    exact congrArg₂ (· * ·) rfl ((half1_at r e _).trans (g_read m c t _ e))
end

/-- The parts of a run's twelve points are the whole sum over the group's heads and rows. -/
theorem sum_parts (ds : Fin 2 → Fin 4 → Fin 3 → Fin 2048 → Fin 2304 → EReal) (q : QArr) (t : Fin cfg0.N)
    (ht : ∀ j : Fin 12, 12 * (t.val / 12) + j.val < cfg0.N) (b : Fin 2) (h : Fin 4) (hb : b.val = t.val / 48) (hh : h.val = t.val / 12 % 4)
    (s : Fin 2304) (e : Fin 64) : ∑ j : Fin 12, part ds q ⟨12 * (t.val / 12) + j.val, ht j⟩ s e = dkOf ds q b h s e := by
  refine Eq.trans (Finset.sum_congr rfl fun j _ => ?_)
    (RunSum.sum_run fun u n => ds b h u n s * q (ix4 b n (qHead h u) e))
  have hj := j.isLt
  have e1 : tb ⟨12 * (t.val / 12) + j.val, ht j⟩ = b := Fin.ext (by show (12 * (t.val / 12) + j.val) / 48 = b.val; omega)
  have e2 : th ⟨12 * (t.val / 12) + j.val, ht j⟩ = h := Fin.ext (by show (12 * (t.val / 12) + j.val) / 12 % 4 = h.val; omega)
  have e3 : tu ⟨12 * (t.val / 12) + j.val, ht j⟩ = (⟨j.val / 4, by omega⟩ : Fin 3) :=
    Fin.ext (by show (12 * (t.val / 12) + j.val) / 4 % 3 = j.val / 4; omega)
  have e4 : ∀ r : Fin 256, tn ⟨12 * (t.val / 12) + j.val, ht j⟩ (lo r) = (⟨j.val % 4 * 512 + r.val, by omega⟩ : Fin 2048) :=
    fun r => Fin.ext (by show (12 * (t.val / 12) + j.val) % 4 * 512 + r.val = j.val % 4 * 512 + r.val; omega)
  have e5 : ∀ r : Fin 256, tn ⟨12 * (t.val / 12) + j.val, ht j⟩ (hi r) = (⟨j.val % 4 * 512 + (256 + r.val), by omega⟩ : Fin 2048) :=
    fun r => Fin.ext (by show (12 * (t.val / 12) + j.val) % 4 * 512 + (256 + r.val) = j.val % 4 * 512 + (256 + r.val); omega)
  unfold part
  simp only [e1, e2, e3, e4, e5]

theorem idx4 (i : S1x1x2304x64.Idx) : i = ix4 0 0 (i 2) (i 3) := by idx_ext

/-- The array of the keys' gradient after the run. -/
theorem dk_final : (dats m 0 c).arrAt 5 cfg0.N = fun y : S2x4x2304x64.Idx => dkOf (dS m c) (qA m c) (y 0) (y 1) (y 2) (y 3) := by
  refine (dats m 0 c).arrAt_eq_of_covers 5 _ (by decide +kernel) fun t hf y => ?_
  blk_simp
  rw [after0_5, Pipeline.eq_sum_fin_of_reset_step_apply_of_flush (M := EReal) (fun n h => (outsAt0 m c n h).2.1) 12 (fun _ => 0)
    (fun t i => part (dS m c) (qA m c) t (i 2) (i 3))
    (fun t h i => by
      rw [outsAt0_A m c t h]
      frame_out
      rw [idx4 i]
      exact (dk_step m c t (i 2) (i 3) _).trans (congrArg₂ (· + ·) (Block.zero_at (i 2) (i 3)).1 rfl))
    (fun t h i => by
      rw [outsAt0_B m c t h]
      frame_out
      rw [idx4 i]
      exact dk_step m c t (i 2) (i 3) _)
    t ((flush0_5 t).mp hf) _, zero_add]
  have h2 : (y 2).val < 2304 := (y 2).isLt
  have h0 : (y 0).val < 1 := (y 0).isLt
  have h1 : (y 1).val < 1 := (y 1).isLt
  refine (sum_parts (dS m c) (qA m c) t (Pipeline.run_point_lt_of_flush t ((flush0_5 t).mp hf)) _ _ ?_ ?_ (y 2) (y 3)).trans
    (congrArg₂ (dkOf (dS m c) (qA m c) _ _) (Fin.ext ?_) (Fin.ext ?_))
  · blk_simp [idx t]
  · blk_simp [idx t]
  · blk_simp [idx t]
    try omega
  · blk_simp [idx t]
    try omega

/-- The array of the values' gradient after the run. -/
theorem dv_final : (dats m 0 c).arrAt 6 cfg0.N = fun y : S2x4x2304x64.Idx => dkOf (prob m c) (gA m c) (y 0) (y 1) (y 2) (y 3) := by
  refine (dats m 0 c).arrAt_eq_of_covers 6 _ (by decide +kernel) fun t hf y => ?_
  blk_simp
  rw [after0_6, Pipeline.eq_sum_fin_of_reset_step_apply_of_flush (M := EReal) (fun n h => (outsAt0 m c n h).2.2) 12 (fun _ => 0)
    (fun t i => part (prob m c) (gA m c) t (i 2) (i 3))
    (fun t h i => by
      rw [outsAt0_A m c t h]
      frame_out
      rw [idx4 i]
      exact (dv_step m c t (i 2) (i 3) _).trans (congrArg₂ (· + ·) (Block.zero_at (i 2) (i 3)).2 rfl))
    (fun t h i => by
      rw [outsAt0_B m c t h]
      frame_out
      rw [idx4 i]
      exact dv_step m c t (i 2) (i 3) _)
    t ((flush0_6 t).mp hf) _, zero_add]
  have h0 : (y 0).val < 1 := (y 0).isLt
  have h1 : (y 1).val < 1 := (y 1).isLt
  refine (sum_parts (prob m c) (gA m c) t (Pipeline.run_point_lt_of_flush t ((flush0_6 t).mp hf)) _ _ ?_ ?_ (y 2) (y 3)).trans
    (congrArg₂ (dkOf (prob m c) (gA m c) _ _) (Fin.ext ?_) (Fin.ext ?_))
  · blk_simp [idx t]
  · blk_simp [idx t]
  · blk_simp [idx t]
    try omega
  · blk_simp [idx t]
    try omega

end Cert.Arrays

end
-- ==== Proof.RefArrays.lean ====
/- The reference's three gradients through named intermediate arrays: the scaled scores, their exponentials, the row sums,
   the weights, the gradients of the weights and of the scores. -/
module

public import proofs.«01_k».proof.Proof.Gen.ReferenceIdeal.Run
public import proofs.«01_k».proof.Proof.SoftmaxGrad

@[expose] public section

set_option maxRecDepth 16384

noncomputable section

namespace Cert.RefArrays

open Cert.ReferenceIdeal Cert.ReferenceIdeal.Gen Idealize.ShloMosaic Idealize.ShloMosaic.TcCoe Idealize.SL.Sem

abbrev QArr := FVec Ideal S2x2048x12x64 .f32
abbrev KArr := FVec Ideal S2x2304x4x64 .f32

/-- The scores times the scale. -/
def scores (q : QArr) (k : KArr) : FVec Ideal S2x4x3x2048x2304 .f32 :=
  mulf (transpose S2x4x3x2048x2304 [0, 1, 4, 3, 2]
      (Host.dotGeneral dot_S2x2304x4x64_S2x2048x4x3x64_S2x4x2304x2048x3_3_4_1_13_02_02 none k
        (shapeCast _ q shapeCasts_S2x2048x12x64_S2x2048x4x3x64)) transposes_S2x4x2304x2048x3_S2x4x3x2048x2304_0_1_4_3_2)
    (broadcastInDim S2x4x3x2048x2304 ![] bcast_S_S2x4x3x2048x2304 (constant S_ .f32 0x3E000000#32))

/-- A row statistic, repeated along the row. -/
def along (x : FVec Ideal S2x4x3x2048x1 .f32) : FVec Ideal S2x4x3x2048x2304 .f32 :=
  broadcastInDim S2x4x3x2048x2304 ![0, 1, 2, 3, 4] bcast_S2x4x3x2048x1_S2x4x3x2048x2304_0_1_2_3_4 x

/-- A row statistic as a column. -/
def column (x : FVec Ideal S2x4x3x2048 .f32) : FVec Ideal S2x4x3x2048x1 .f32 :=
  broadcastInDim S2x4x3x2048x1 ![0, 1, 2, 3] bcast_S2x4x3x2048_S2x4x3x2048x1_0_1_2_3 x

/-- The largest scaled score of each row. -/
def rowMax (s : FVec Ideal S2x4x3x2048x2304 .f32) : FVec Ideal S2x4x3x2048 .f32 :=
  maximumf (broadcastInDim S2x4x3x2048 ![] bcast_S_S2x4x3x2048 (constant S_ .f32 0xFF800000#32))
    (Host.reduce (FloatOps.maximumf (F := Ideal) (φ := .f32)) s (constant S_ .f32 0xFF800000#32) reducesTo_S2x4x3x2048x2304_S2x4x3x2048_d4 h_S_)

/-- The unnormalised weights. -/
def exps (s : FVec Ideal S2x4x3x2048x2304 .f32) : FVec Ideal S2x4x3x2048x2304 .f32 :=
  Host.exp (subf s (along (column (rowMax s))))

/-- The sum along each row. -/
def rowSum (e : FVec Ideal S2x4x3x2048x2304 .f32) : FVec Ideal S2x4x3x2048 .f32 :=
  Host.reduceAdd e (constant S_ .f32 0x00000000#32) reducesTo_S2x4x3x2048x2304_S2x4x3x2048_d4 h_S_

/-- The upstream gradient with its rows last. -/
def gT (g : QArr) : FVec Ideal S2x4x64x3x2048 .f32 :=
  transpose S2x4x64x3x2048 [0, 2, 4, 3, 1] (shapeCast _ g shapeCasts_S2x2048x12x64_S2x2048x4x3x64)
    transposes_S2x2048x4x3x64_S2x4x64x3x2048_0_2_4_3_1

/-- The gradient of the weights. -/
def dProb (g : QArr) (v : KArr) : FVec Ideal S2x4x3x2048x2304 .f32 :=
  Host.dotGeneral dot_S2x4x64x3x2048_S2x2304x4x64_S2x4x3x2048x2304_2_3_34_1_01_02 none (gT g) v

/-- Minus the row's product of gradient and weight, as the derivative of the quotient's denominator gives it. -/
def denom (d e : FVec Ideal S2x4x3x2048x2304 .f32) : FVec Ideal S2x4x3x2048 .f32 :=
  Host.reduceAdd (Host.negf (shapeCast _ (rowSum (mulf (mulf d (along
      (Host.divf (broadcastInDim S2x4x3x2048x1 ![] bcast_S_S2x4x3x2048x1 (constant S_ .f32 0x3F800000#32))
        (mulf (column (rowSum e)) (column (rowSum e)))))) e)) shapeCasts_S2x4x3x2048_S2x4x3x2048x1))
    (constant S_ .f32 0x00000000#32) reducesTo_S2x4x3x2048x1_S2x4x3x2048_d4 h_S_

/-- The gradient of the unscaled scores. -/
def dScore (d e : FVec Ideal S2x4x3x2048x2304 .f32) : FVec Ideal S2x4x3x2048x2304 .f32 :=
  mulf (mulf (addf (Host.divf d (along (column (rowSum e))))
      (broadcastInDim S2x4x3x2048x2304 ![0, 1, 2, 3] bcast_S2x4x3x2048_S2x4x3x2048x2304_0_1_2_3 (denom d e))) e)
    (broadcastInDim S2x4x3x2048x2304 ![] bcast_S_S2x4x3x2048x2304 (constant S_ .f32 0x3E000000#32))

/-- The scores' gradient with its columns before its rows. -/
def dScoreT (s : FVec Ideal S2x4x3x2048x2304 .f32) : FVec Ideal S2x4x2304x2048x3 .f32 :=
  transpose S2x4x2304x2048x3 [0, 1, 4, 3, 2] s transposes_S2x4x3x2048x2304_S2x4x2304x2048x3_0_1_4_3_2

/-- The gradient of the queries, from that of the scores. -/
def dq (s : FVec Ideal S2x4x3x2048x2304 .f32) (k : KArr) : FVec Ideal S2x12x64x2048 .f32 :=
  transpose S2x12x64x2048 [0, 2, 3, 1] (shapeCast _ (transpose S2x2048x4x3x64 [0, 2, 1, 3, 4]
      (Host.dotGeneral dot_S2x4x2304x2048x3_S2x2304x4x64_S2x4x2048x3x64_2_1_34_3_01_02 none (dScoreT s) k)
      transposes_S2x4x2048x3x64_S2x2048x4x3x64_0_2_1_3_4) shapeCasts_S2x2048x4x3x64_S2x2048x12x64)
    transposes_S2x2048x12x64_S2x12x64x2048_0_2_3_1

/-- The gradient of the keys, from that of the scores. -/
def dk (s : FVec Ideal S2x4x3x2048x2304 .f32) (q : QArr) : FVec Ideal S2x4x2304x64 .f32 :=
  transpose S2x4x2304x64 [0, 2, 1, 3] (transpose S2x2304x4x64 [0, 2, 1, 3]
      (Host.dotGeneral dot_S2x4x2304x2048x3_S2x2048x4x3x64_S2x4x2304x64_34_13_2_4_01_02 none (dScoreT s)
        (shapeCast _ q shapeCasts_S2x2048x12x64_S2x2048x4x3x64))
      transposes_S2x4x2304x64_S2x2304x4x64_0_2_1_3) transposes_S2x2304x4x64_S2x4x2304x64_0_2_1_3

/-- The gradient of the values, from the weights. -/
def dv (e : FVec Ideal S2x4x3x2048x2304 .f32) (g : QArr) : FVec Ideal S2x4x2304x64 .f32 :=
  transpose S2x4x2304x64 [0, 2, 1, 3] (transpose S2x2304x4x64 [0, 3, 1, 2]
      (Host.dotGeneral dot_S2x4x64x3x2048_S2x4x3x2048x2304_S2x4x64x2304_34_23_2_4_01_01 none (gT g)
        (Host.divf e (along (column (rowSum e)))))
      transposes_S2x4x64x2304_S2x2304x4x64_0_3_1_2) transposes_S2x2304x4x64_S2x4x2304x64_0_2_1_3

variable (m : (ℓ : Loc nD τ sig) → Buf (Elt Ideal) ℓ) (c : Dev nD)

theorem out0 : Value.res_main_v61 m c = dq (dScore (dProb (m ((c.tc : Thread nD τ).loc main_arg3)) (m ((c.tc : Thread nD τ).loc main_arg2)))
    (exps (scores (m ((c.tc : Thread nD τ).loc main_arg0)) (m ((c.tc : Thread nD τ).loc main_arg1))))) (m ((c.tc : Thread nD τ).loc main_arg1)) := rfl

theorem out1 : Value.res_main_v62 m c = dk (dScore (dProb (m ((c.tc : Thread nD τ).loc main_arg3)) (m ((c.tc : Thread nD τ).loc main_arg2)))
    (exps (scores (m ((c.tc : Thread nD τ).loc main_arg0)) (m ((c.tc : Thread nD τ).loc main_arg1))))) (m ((c.tc : Thread nD τ).loc main_arg0)) := rfl

end Cert.RefArrays

end
-- ==== Proof.RefPoints.lean ====
/- The reference's three gradients at an index. -/
module

public import proofs.«01_k».proof.Proof.RefArrays
public import proofs.«01_k».proof.Proof.HostMax
public import proofs.«01_k».proof.Proof.Rows

@[expose] public section

set_option maxRecDepth 16384

noncomputable section

namespace Cert.RefArrays

open Cert.ReferenceIdeal Cert.ReferenceIdeal.Gen Idealize.ShloMosaic Idealize.ShloMosaic.TcCoe Idealize.SL.Sem
open Cert.Rows (qHead row dqOf dkOf)

/-- One eighth, the scores' scale. -/
abbrev eighth : EReal := Ideal.ofBits .f32 0x3E000000#32

theorem max_at {s : Shape} (p q : FVec Ideal s .f32) (j : s.Idx) : maximumf p q j = max (p j : EReal) (q j : EReal) := rfl

theorem const_at {s : Shape} (f) (h) (w : BitVec 32) (j : s.Idx) :
    broadcastInDim s f h (constant (F := Ideal) S_ .f32 w) j = Ideal.ofBits .f32 w := rfl

variable (q g : QArr) (k v : KArr) (x d : FVec Ideal S2x4x3x2048x2304 .f32)
variable (b : Fin 2) (h : Fin 4) (u : Fin 3) (r : Fin 2048) (s : Fin 2304) (e : Fin 64)

theorem scores_at : scores q k (ix5 b h u r s) = row q k b h u r s * eighth := by
  unfold row
  simp only [mul_comm (q _)]
  pointwise [scores, qHead]

theorem dProb_at : dProb g v (ix5 b h u r s) = row g v b h u r s := by
  pointwise [dProb, gT, row, qHead]

theorem rowMax_at : rowMax x (ix4 b h u r) = max (Ideal.ofBits .f32 0xFF800000#32)
    (Finset.univ.fold max (Ideal.ofBits .f32 0xFF800000#32) fun s => x (ix5 b h u r s)) := by
  unfold rowMax
  rw [max_at, const_at, HostMax.reduce_max_at]

theorem exps_at : exps x (ix5 b h u r s) = Ideal.exp (x (ix5 b h u r s) - rowMax x (ix4 b h u r)) := by
  pointwise [exps, along, column]

theorem exps_scores_at :
    exps (scores q k) (ix5 b h u r s) = SoftmaxGrad.rExp eighth (row q k b h u r) s := by
  rw [exps_at, rowMax_at]
  simp only [scores_at]
  rfl

theorem dScore_at' :
    dScore d x (ix5 b h u r s) = (Ideal.div (d (ix5 b h u r s)) (∑ i, x (ix5 b h u r i))
      + -(∑ i, d (ix5 b h u r i) * Ideal.div 1 ((∑ l, x (ix5 b h u r l)) * ∑ l, x (ix5 b h u r l)) * x (ix5 b h u r i)))
        * x (ix5 b h u r s) * eighth := by
  pointwise [dScore, denom, along, column, rowSum]
  simp only [Finset.univ_unique, Finset.sum_singleton]

/-- The reference's gradient of the scores. -/
abbrev dS (b : Fin 2) (h : Fin 4) (u : Fin 3) (r : Fin 2048) : Fin 2304 → EReal :=
  SoftmaxGrad.rGrad eighth (row q k b h u r) (row g v b h u r)

/-- The reference's weights. -/
abbrev prob (b : Fin 2) (h : Fin 4) (u : Fin 3) (r : Fin 2048) : Fin 2304 → EReal :=
  SoftmaxGrad.rProb eighth (row q k b h u r)

theorem dScore_at : dScore (dProb g v) (exps (scores q k)) (ix5 b h u r s) = dS q g k v b h u r s := by
  rw [dScore_at']
  simp only [exps_scores_at, dProb_at]
  rfl

theorem dq_at' (h : Fin 12) : dq x k (ix4 b h e r)
    = ∑ s, x (ix5 b ⟨h.val / 3, by omega⟩ ⟨h.val % 3, by omega⟩ r s) * k (ix4 b s ⟨h.val / 3, by omega⟩ e) := by
  pointwise [dq, dScoreT]

theorem dk_at' : dk x q (ix4 b h s e) = ∑ u, ∑ r, x (ix5 b h u r s) * q (ix4 b r (qHead h u) e) := by
  rw [Finset.sum_comm]
  pointwise [dk, dScoreT, qHead]

theorem dv_at' : dv x g (ix4 b h s e)
    = ∑ u, ∑ r, Ideal.div (x (ix5 b h u r s)) (∑ i, x (ix5 b h u r i)) * g (ix4 b r (qHead h u) e) := by
  simp only [mul_comm _ (g _)]
  pointwise [dv, gT, along, column, rowSum, qHead]

/-- The reference's gradient of the queries at an index. -/
theorem dq_at (h : Fin 12) : dq (dScore (dProb g v) (exps (scores q k))) k (ix4 b h e r)
    = dqOf (dS q g k v) k b ⟨h.val / 3, by omega⟩ ⟨h.val % 3, by omega⟩ e r := by
  rw [dq_at']
  simp only [dScore_at]
  rfl

/-- The reference's gradient of the keys at an index. -/
theorem dk_at : dk (dScore (dProb g v) (exps (scores q k))) q (ix4 b h s e) = dkOf (dS q g k v) q b h s e := by
  rw [dk_at']
  simp only [dScore_at]
  rfl

/-- The reference's gradient of the values at an index. -/
theorem dv_at : dv (exps (scores q k)) g (ix4 b h s e) = dkOf (prob q k) g b h s e := by
  rw [dv_at']
  simp only [exps_scores_at]
  rfl

end Cert.RefArrays

end
-- ==== Proof.Equation.lean ====
/- The kernel's arrays are the reference's, where the precondition holds. -/
module

public import proofs.«01_k».proof.Proof.DqArray
public import proofs.«01_k».proof.Proof.DkArrays
public import proofs.«01_k».proof.Proof.RefPoints
public import proofs.«01_k».proof.Proof.Finite

@[expose] public section

set_option maxRecDepth 16384

noncomputable section

namespace Cert.Equation

open Cert.KernelIdeal Cert.KernelIdeal.Gen Idealize.ShloMosaic Idealize.ShloMosaic.TcCoe Idealize.SL.Sem
open Cert.Arrays (qA kA vA gA)
open Cert.Rows (row dqOf dkOf)

/-- The kernel's named constant is the scale over the natural logarithm of two. -/
theorem kap_eq : Block.kap = (((1 / 8 : ℝ) * (Real.log 2)⁻¹ : ℝ) : EReal) :=
  IdealRules.named_const.ideal_named_scalar _ _ _ _ rfl

/-- The scale is one eighth. -/
theorem eighth_eq : Block.eighth = ((1 / 8 : ℝ) : EReal) := SoftmaxGrad.ofBits_eighth

variable (m : (ℓ : Loc nD τ sig) → Buf (Elt Ideal) ℓ) (c : Dev nD)
variable (hr : ∀ b h u n s, ∃ r : ℝ, row (qA m c) (kA m c) b h u n s = r)

include hr in
theorem prob_eq : Arrays.prob m c = RefArrays.prob (qA m c) (kA m c) := by
  funext b h u n s
  show SoftmaxGrad.kProb Block.kap _ s = SoftmaxGrad.rProb Block.eighth _ s
  rw [kap_eq, eighth_eq]
  exact SoftmaxGrad.prob_eq _ (by norm_num) _ (hr b h u n) s

include hr in
theorem dS_eq : Arrays.dS m c = RefArrays.dS (qA m c) (gA m c) (kA m c) (vA m c) := by
  funext b h u n s
  show SoftmaxGrad.kGrad Block.kap Block.eighth _ _ s = SoftmaxGrad.rGrad Block.eighth _ _ s
  rw [kap_eq, eighth_eq]
  exact SoftmaxGrad.grad_eq _ (by norm_num) _ _ (hr b h u n) s

theorem idx_q (y : S2x12x64x2048.Idx) : y = ix4 (y 0) (y 1) (y 2) (y 3) := by idx_ext
theorem idx_k (y : S2x4x2304x64.Idx) : y = ix4 (y 0) (y 1) (y 2) (y 3) := by idx_ext

include hr in
theorem dq_eq : (dats m 0 c).arrAt 4 cfg0.N = RefArrays.dq (RefArrays.dScore (RefArrays.dProb (gA m c) (vA m c))
    (RefArrays.exps (RefArrays.scores (qA m c) (kA m c)))) (kA m c) := by
  rw [Arrays.dq_final]
  funext y
  refine Eq.trans ?_ (Eq.trans (RefArrays.dq_at (qA m c) (gA m c) (kA m c) (vA m c) (y 0) (y 3) (y 2) (y 1)).symm (congrArg _ (idx_q y).symm))
  unfold Arrays.dqAt
  rw [dS_eq m c hr]

include hr in
theorem dk_eq : (dats m 0 c).arrAt 5 cfg0.N = RefArrays.dk (RefArrays.dScore (RefArrays.dProb (gA m c) (vA m c))
    (RefArrays.exps (RefArrays.scores (qA m c) (kA m c)))) (qA m c) := by
  rw [Arrays.dk_final, dS_eq m c hr]
  funext y
  exact Eq.trans (RefArrays.dk_at (qA m c) (gA m c) (kA m c) (vA m c) (y 0) (y 1) (y 2) (y 3)).symm (congrArg _ (idx_k y).symm)

include hr in
theorem dv_eq : (dats m 0 c).arrAt 6 cfg0.N = RefArrays.dv (RefArrays.exps (RefArrays.scores (qA m c) (kA m c))) (gA m c) := by
  rw [Arrays.dv_final, prob_eq m c hr]
  funext y
  exact Eq.trans (RefArrays.dv_at (qA m c) (gA m c) (kA m c) (y 0) (y 1) (y 2) (y 3)).symm (congrArg _ (idx_k y).symm)

end Cert.Equation

end
-- ==== Proof.Glu.lean ====
/- The gate of the even layers, over the latent positions: the product, forward. -/
module

public import proofs.«01_k».proof.Proof.Gen.GluIdeal.Value
public import proofs.«01_k».proof.Proof.Gen.GluReferenceIdeal.Run
public import Idealize.ShloMosaic.Lib.Pipeline.ValueKit
public import Idealize.ShloMosaic.Lib.Pointwise

@[expose] public section

set_option maxRecDepth 16384

noncomputable section

namespace Cert.GluEq

open Cert.GluIdeal Cert.GluIdeal.Gen Idealize.ShloMosaic Idealize.ShloMosaic.TcCoe Idealize.SL.Sem

/-- The left factor at a row and a summation index. -/
def lhs (a : FVec Ideal S2x2048x256 .f32) (i : Fin 4096) (k : Fin 256) : EReal :=
  a (ix3 ⟨i.val / 2048, by omega⟩ ⟨i.val % 2048, by omega⟩ k)

/-- The right factor at a summation index and a column. -/
def rhs (b : FVec Ideal S256x256 .f32) (k : Fin 256) (j : Fin 256) : EReal :=
  b (ix2 k j)

/-- The product at an element. -/
def prod (a : FVec Ideal S2x2048x256 .f32) (b : FVec Ideal S256x256 .f32) (y : S4096x256.Idx) : EReal :=
  ∑ k, lhs a (y 0) k * rhs b k (y 1)

variable (m : (ℓ : Loc nD τ sig) → Buf (Elt Ideal) ℓ) (c : Dev nD)

/-- The factors as arguments of the kernel. -/
abbrev aA : FVec Ideal S2x2048x256 .f32 := m ((c : Thread nD τ).loc main_arg0)
abbrev bA : FVec Ideal S256x256 .f32 := m ((c : Thread nD τ).loc main_arg1)

theorem idx : ∀ t : Fin cfg0.N, win0_0.index t = ![t.val / 1, t.val % 1] ∧ win0_1.index t = ![t.val % 1, t.val / 1 % 1]
    ∧ win0_2.index t = ![t.val / 1, t.val / 1 % 1] :=
  (by decide +kernel : ∀ t : Fin grid0.N, _)

theorem points (t : Fin cfg0.N) : t.val < 4 := lt_of_lt_of_eq t.isLt N_0

/-- Row, column and summation index of an element of the blocks of grid point `t`. -/
def ti (t : Fin cfg0.N) (x : Fin 1024) : Fin 4096 := ⟨t.val / 1 * 1024 + x.val, by have := points t; omega⟩
def tj (t : Fin cfg0.N) (y : Fin 256) : Fin 256 := ⟨t.val / 1 % 1 * 256 + y.val, by omega⟩
def tk (t : Fin cfg0.N) (k : Fin 256) : Fin 256 := ⟨t.val % 1 * 256 + k.val, by omega⟩

variable (t : Fin cfg0.N) (x : Fin 1024) (y : Fin 256) (k : Fin 256)

theorem lhs_read : (iblk m c 0 t (ix2 x k) : EReal) = lhs (aA m c) (ti t x) (tk t k) := by
  unfold lhs ti tk
  blk_point [iblk, V, idx t]

theorem rhs_read : (iblk m c 1 t (ix2 k y) : EReal) = rhs (bA m c) (tk t k) (tj t y) := by
  unfold rhs tk tj
  blk_point [iblk, V, idx t]

/-- What one grid point adds to an element of its block. -/
def part (t : Fin cfg0.N) (i : S1024x256.Idx) : EReal :=
  ∑ k, lhs (aA m c) (ti t (i 0)) (tk t k) * rhs (bA m c) (tk t k) (tj t (i 1))

theorem product_at (a : FVec Ideal S1024x256 .bf16) (b : FVec Ideal S256x256 .bf16) :
    (k0_pay1 (F := Ideal) a b (ix2 x y) : EReal) = ∑ k, (a (ix2 x k) : EReal) * b (ix2 k y) := by
  pointwise [k0_pay1]

theorem product_part (i : S1024x256.Idx) : (k0_pay1 (F := Ideal) (iblk m c 0 t) (iblk m c 1 t) i : EReal) = part m c t i := by
  have h : i = ix2 (i 0) (i 1) := by idx_ext
  refine (congrArg (k0_pay1 (F := Ideal) (iblk m c 0 t) (iblk m c 1 t)) h).trans ((product_at _ _ _ _).trans ?_)
  exact Finset.sum_congr rfl fun k _ => congrArg₂ (· * ·) (lhs_read m c t _ k) (rhs_read m c t _ k)

theorem part_prod (i : S1024x256.Idx) (y : S4096x256.Idx) (h0 : (y 0).val = t.val / 1 * 1024 + (i 0).val)
    (h1 : (y 1).val = t.val / 1 % 1 * 256 + (i 1).val) : part m c t i = prod (aA m c) (bA m c) y := by
  refine Finset.sum_congr rfl fun k _ => ?_
  refine congrArg₂ (· * ·) (congrArg₂ _ (Fin.ext ?_) (Fin.ext ?_)) (congrArg₂ _ (Fin.ext ?_) (Fin.ext ?_))
  · exact h0.symm
  · show t.val % 1 * 256 + k.val = k.val
    omega
  · show t.val % 1 * 256 + k.val = k.val
    omega
  · exact h1.symm

/-- The kernel's array after the run. -/
theorem final : (dats m 0 c).arrAt 2 cfg0.N = prod (aA m c) (bA m c) := by
  refine (dats m 0 c).arrAt_eq_of_covers 2 _ (by decide +kernel) fun t hf y => ?_
  blk_simp
  rw [after0_2]
  unfold out0_2
  frame_out
  refine (product_part m c t y).trans (part_prod m c t y _ ?_ ?_)
  · blk_simp [idx t]
  · blk_simp [idx t]

/-- The reference's array. -/
theorem reference (a : FVec Ideal S2x2048x256 .f32) (b : FVec Ideal S256x256 .f32) :
    shapeCast Cert.GluReferenceIdeal.S4096x256 (Host.dotGeneral Cert.GluReferenceIdeal.dot_S2x2048x256_S256x256_S2x2048x256_2_0_01_1_n_n none a b)
      Cert.GluReferenceIdeal.Gen.shapeCasts_S2x2048x256_S4096x256 = prod a b := by
  funext y
  have h : y = ix2 (y 0) (y 1) := by idx_ext
  rw [h]
  pointwise [prod, lhs, rhs]

end Cert.GluEq

end
-- ==== Proof.GluT.lean ====
/- The gate of the even layers, over the latent positions: the product, gradient with respect to the tokens. -/
module

public import proofs.«01_k».proof.Proof.Gen.GluTIdeal.Value
public import proofs.«01_k».proof.Proof.Gen.GluTReferenceIdeal.Run
public import Idealize.ShloMosaic.Lib.Pipeline.ValueKit
public import Idealize.ShloMosaic.Lib.Pointwise

@[expose] public section

set_option maxRecDepth 16384

noncomputable section

namespace Cert.GluTEq

open Cert.GluTIdeal Cert.GluTIdeal.Gen Idealize.ShloMosaic Idealize.ShloMosaic.TcCoe Idealize.SL.Sem

/-- The left factor at a row and a summation index. -/
def lhs (a : FVec Ideal S2x2048x256 .f32) (i : Fin 4096) (k : Fin 256) : EReal :=
  a (ix3 ⟨i.val / 2048, by omega⟩ ⟨i.val % 2048, by omega⟩ k)

/-- The right factor at a summation index and a column. -/
def rhs (b : FVec Ideal S256x256 .f32) (k : Fin 256) (j : Fin 256) : EReal :=
  b (ix2 j k)

/-- The product at an element. -/
def prod (a : FVec Ideal S2x2048x256 .f32) (b : FVec Ideal S256x256 .f32) (y : S4096x256.Idx) : EReal :=
  ∑ k, lhs a (y 0) k * rhs b k (y 1)

variable (m : (ℓ : Loc nD τ sig) → Buf (Elt Ideal) ℓ) (c : Dev nD)

/-- The factors as arguments of the kernel. -/
abbrev aA : FVec Ideal S2x2048x256 .f32 := m ((c : Thread nD τ).loc main_arg2)
abbrev bA : FVec Ideal S256x256 .f32 := m ((c : Thread nD τ).loc main_arg1)

theorem idx : ∀ t : Fin cfg0.N, win0_0.index t = ![t.val / 1, t.val % 1] ∧ win0_1.index t = ![t.val / 1 % 1, t.val % 1]
    ∧ win0_2.index t = ![t.val / 1, t.val / 1 % 1] :=
  (by decide +kernel : ∀ t : Fin grid0.N, _)

theorem points (t : Fin cfg0.N) : t.val < 4 := lt_of_lt_of_eq t.isLt N_0

/-- Row, column and summation index of an element of the blocks of grid point `t`. -/
def ti (t : Fin cfg0.N) (x : Fin 1024) : Fin 4096 := ⟨t.val / 1 * 1024 + x.val, by have := points t; omega⟩
def tj (t : Fin cfg0.N) (y : Fin 256) : Fin 256 := ⟨t.val / 1 % 1 * 256 + y.val, by omega⟩
def tk (t : Fin cfg0.N) (k : Fin 256) : Fin 256 := ⟨t.val % 1 * 256 + k.val, by omega⟩

variable (t : Fin cfg0.N) (x : Fin 1024) (y : Fin 256) (k : Fin 256)

theorem lhs_read : (iblk m c 0 t (ix2 x k) : EReal) = lhs (aA m c) (ti t x) (tk t k) := by
  unfold lhs ti tk
  blk_point [iblk, V, idx t]

theorem rhs_read : (iblk m c 1 t (ix2 y k) : EReal) = rhs (bA m c) (tk t k) (tj t y) := by
  unfold rhs tk tj
  blk_point [iblk, V, idx t]

/-- What one grid point adds to an element of its block. -/
def part (t : Fin cfg0.N) (i : S1024x256.Idx) : EReal :=
  ∑ k, lhs (aA m c) (ti t (i 0)) (tk t k) * rhs (bA m c) (tk t k) (tj t (i 1))

theorem product_at (a : FVec Ideal S1024x256 .bf16) (b : FVec Ideal S256x256 .bf16) :
    (k0_pay1 (F := Ideal) a b (ix2 x y) : EReal) = ∑ k, (a (ix2 x k) : EReal) * b (ix2 y k) := by
  pointwise [k0_pay1]

theorem product_part (i : S1024x256.Idx) : (k0_pay1 (F := Ideal) (iblk m c 0 t) (iblk m c 1 t) i : EReal) = part m c t i := by
  have h : i = ix2 (i 0) (i 1) := by idx_ext
  refine (congrArg (k0_pay1 (F := Ideal) (iblk m c 0 t) (iblk m c 1 t)) h).trans ((product_at _ _ _ _).trans ?_)
  exact Finset.sum_congr rfl fun k _ => congrArg₂ (· * ·) (lhs_read m c t _ k) (rhs_read m c t _ k)

theorem part_prod (i : S1024x256.Idx) (y : S4096x256.Idx) (h0 : (y 0).val = t.val / 1 * 1024 + (i 0).val)
    (h1 : (y 1).val = t.val / 1 % 1 * 256 + (i 1).val) : part m c t i = prod (aA m c) (bA m c) y := by
  refine Finset.sum_congr rfl fun k _ => ?_
  refine congrArg₂ (· * ·) (congrArg₂ _ (Fin.ext ?_) (Fin.ext ?_)) (congrArg₂ _ (Fin.ext ?_) (Fin.ext ?_))
  · exact h0.symm
  · show t.val % 1 * 256 + k.val = k.val
    omega
  · show t.val % 1 * 256 + k.val = k.val
    omega
  · exact h1.symm

/-- The kernel's array after the run. -/
theorem final : (dats m 0 c).arrAt 2 cfg0.N = prod (aA m c) (bA m c) := by
  refine (dats m 0 c).arrAt_eq_of_covers 2 _ (by decide +kernel) fun t hf y => ?_
  blk_simp
  rw [after0_2]
  unfold out0_2
  frame_out
  refine (product_part m c t y).trans (part_prod m c t y _ ?_ ?_)
  · blk_simp [idx t]
  · blk_simp [idx t]

/-- The reference's array. -/
theorem reference (a : FVec Ideal S2x2048x256 .f32) (b : FVec Ideal S256x256 .f32) :
    shapeCast Cert.GluTReferenceIdeal.S4096x256 (Host.dotGeneral Cert.GluTReferenceIdeal.dot_S2x2048x256_S256x256_S2x2048x256_2_1_01_0_n_n none a b)
      Cert.GluTReferenceIdeal.Gen.shapeCasts_S2x2048x256_S4096x256 = prod a b := by
  funext y
  have h : y = ix2 (y 0) (y 1) := by idx_ext
  rw [h]
  pointwise [prod, lhs, rhs]

end Cert.GluTEq

end
-- ==== Proof.GluW.lean ====
/- The gate of the even layers, over the latent positions: the product, gradient with respect to the weights. -/
module

public import proofs.«01_k».proof.Proof.Gen.GluWIdeal.Value
public import proofs.«01_k».proof.Proof.Gen.GluWReferenceIdeal.Run
public import Idealize.ShloMosaic.Lib.Pipeline.ValueKit
public import Idealize.ShloMosaic.Lib.Pointwise
public import Idealize.ShloMosaic.Lib.Pipeline.ReadBack

@[expose] public section

set_option maxRecDepth 16384

noncomputable section

namespace Cert.GluWEq

open Cert.GluWIdeal Cert.GluWIdeal.Gen Idealize.ShloMosaic Idealize.ShloMosaic.TcCoe Idealize.SL.Sem

/-- The left factor at a row and a summation index. -/
def lhs (a : FVec Ideal S2x2048x256 .f32) (i : Fin 256) (k : Fin 4096) : EReal :=
  a (ix3 ⟨k.val / 2048, by omega⟩ ⟨k.val % 2048, by omega⟩ i)

/-- The right factor at a summation index and a column. -/
def rhs (b : FVec Ideal S2x2048x256 .f32) (k : Fin 4096) (j : Fin 256) : EReal :=
  b (ix3 ⟨k.val / 2048, by omega⟩ ⟨k.val % 2048, by omega⟩ j)

/-- The product at an element. -/
def prod (a : FVec Ideal S2x2048x256 .f32) (b : FVec Ideal S2x2048x256 .f32) (y : S256x256.Idx) : EReal :=
  ∑ k, lhs a (y 0) k * rhs b k (y 1)

variable (m : (ℓ : Loc nD τ sig) → Buf (Elt Ideal) ℓ) (c : Dev nD)

/-- The factors as arguments of the kernel. -/
abbrev aA : FVec Ideal S2x2048x256 .f32 := m ((c : Thread nD τ).loc main_arg0)
abbrev bA : FVec Ideal S2x2048x256 .f32 := m ((c : Thread nD τ).loc main_arg2)

theorem idx : ∀ t : Fin cfg0.N, win0_0.index t = ![t.val % 2, t.val / 2] ∧ win0_1.index t = ![t.val % 2, t.val / 2 % 1]
    ∧ win0_2.index t = ![t.val / 2, t.val / 2 % 1] :=
  (by decide +kernel : ∀ t : Fin grid0.N, _)

theorem points (t : Fin cfg0.N) : t.val < 2 := lt_of_lt_of_eq t.isLt N_0

/-- Row, column and summation index of an element of the blocks of grid point `t`. -/
def ti (t : Fin cfg0.N) (x : Fin 256) : Fin 256 := ⟨t.val / 2 * 256 + x.val, by have := points t; omega⟩
def tj (t : Fin cfg0.N) (y : Fin 256) : Fin 256 := ⟨t.val / 2 % 1 * 256 + y.val, by omega⟩
def tk (t : Fin cfg0.N) (k : Fin 2048) : Fin 4096 := ⟨t.val % 2 * 2048 + k.val, by omega⟩

variable (t : Fin cfg0.N) (x : Fin 256) (y : Fin 256) (k : Fin 2048)

theorem lhs_read : (iblk m c 0 t (ix2 k x) : EReal) = lhs (aA m c) (ti t x) (tk t k) := by
  unfold lhs ti tk
  blk_point [iblk, V, idx t]

theorem rhs_read : (iblk m c 1 t (ix2 k y) : EReal) = rhs (bA m c) (tk t k) (tj t y) := by
  unfold rhs tk tj
  blk_point [iblk, V, idx t]

/-- What one grid point adds to an element of its block. -/
def part (t : Fin cfg0.N) (i : S256x256.Idx) : EReal :=
  ∑ k, lhs (aA m c) (ti t (i 0)) (tk t k) * rhs (bA m c) (tk t k) (tj t (i 1))

theorem product_at (a : FVec Ideal S2048x256 .bf16) (b : FVec Ideal S2048x256 .bf16) :
    (k0_pay1 (F := Ideal) a b (ix2 x y) : EReal) = ∑ k, (a (ix2 k x) : EReal) * b (ix2 k y) := by
  pointwise [k0_pay1]

theorem product_part (i : S256x256.Idx) : (k0_pay1 (F := Ideal) (iblk m c 0 t) (iblk m c 1 t) i : EReal) = part m c t i := by
  have h : i = ix2 (i 0) (i 1) := by idx_ext
  refine (congrArg (k0_pay1 (F := Ideal) (iblk m c 0 t) (iblk m c 1 t)) h).trans ((product_at _ _ _ _).trans ?_)
  exact Finset.sum_congr rfl fun k _ => congrArg₂ (· * ·) (lhs_read m c t _ k) (rhs_read m c t _ k)

theorem first_at (i : S256x256.Idx) : (k0_pay2 (F := Ideal) (iblk m c 0 t) (iblk m c 1 t) i : EReal) = 0 + part m c t i := by
  rw [zero_add, ← product_part]
  pointwise [k0_pay2]

theorem last_at (o : FVec Ideal S256x256 .f32) (i : S256x256.Idx) :
    (k0_pay4 (F := Ideal) (iblk m c 0 t) (iblk m c 1 t) o i : EReal) = (o i : EReal) + part m c t i := by
  rw [← product_part]
  pointwise [k0_pay4]

/-- What is accumulated after point `n`: in the scratch, and at a run's last point in the output block. -/
def acc (n : ℕ) (h : n < cfg0.N) (i : S256x256.Idx) : EReal :=
  if n % 2 = 1 then ((outsAt0 m c n h).1 i : EReal) else (outsAt0 m c n h).2 i

theorem acc_first (h : t.val % 2 = 0) (i : S256x256.Idx) : acc m c t.val t.isLt i = 0 + part m c t i := by
  rw [acc, if_neg (by omega), outsAt0_A m c t h (by omega)]
  frame_out
  exact first_at m c t i

theorem acc_step (h : ¬t.val % 2 = 0) (i : S256x256.Idx) :
    acc m c t.val t.isLt i = acc m c (t.val - 1) (Nat.lt_of_le_of_lt (Nat.sub_le _ _) t.isLt) i + part m c t i := by
  rw [acc, acc, if_neg (show ¬(t.val - 1) % 2 = 1 by omega), if_pos (by omega), outsAt0_B m c t h (by omega)]
  frame_out
  rw [read_unread_whole]
  exact last_at m c t _ i

theorem sum_parts (ht : ∀ j : Fin 2, 2 * (t.val / 2) + j.val < cfg0.N) (i : S256x256.Idx) (y : S256x256.Idx)
    (h0 : (y 0).val = t.val / 2 * 256 + (i 0).val) (h1 : (y 1).val = t.val / 2 % 1 * 256 + (i 1).val) :
    ∑ j : Fin 2, part m c ⟨2 * (t.val / 2) + j.val, ht j⟩ i = prod (aA m c) (bA m c) y := by
  unfold prod
  rw [Fin.sum_univ_tiles 2 2048 rfl]
  refine Finset.sum_congr rfl fun j _ => Finset.sum_congr rfl fun k _ => ?_
  have hj := j.isLt
  refine congrArg₂ (· * ·) (congrArg₂ _ (Fin.ext ?_) (Fin.ext ?_)) (congrArg₂ _ (Fin.ext ?_) (Fin.ext ?_))
  · show (2 * (t.val / 2) + j.val) / 2 * 256 + (i 0).val = (y 0).val
    omega
  · show (2 * (t.val / 2) + j.val) % 2 * 2048 + k.val = j.val * 2048 + k.val
    omega
  · show (2 * (t.val / 2) + j.val) % 2 * 2048 + k.val = j.val * 2048 + k.val
    omega
  · show (2 * (t.val / 2) + j.val) / 2 % 1 * 256 + (i 1).val = (y 1).val
    omega

/-- The kernel's array after the run. -/
theorem final : (dats m 0 c).arrAt 2 cfg0.N = prod (aA m c) (bA m c) := by
  refine (dats m 0 c).arrAt_eq_of_covers 2 _ (by decide +kernel) fun t hf y => ?_
  have hl := (flush0_2 t).mp hf
  blk_simp
  rw [after0_2]
  have e := Pipeline.eq_sum_fin_of_reset_step_apply_of_flush (M := EReal) (acc m c) 2 (fun _ => 0) (part m c)
    (acc_first m c) (acc_step m c) t hl
  refine Eq.trans ?_ ((e y).trans ((zero_add _).trans (sum_parts m c t (Pipeline.run_point_lt_of_flush t hl) y _ ?_ ?_)))
  · rw [acc, if_pos hl]
  · blk_simp [idx t]
  · blk_simp [idx t]

/-- The reference's array: its sum over the two sequences and their positions is one sum over the rows. -/
theorem reference (a : FVec Ideal S2x2048x256 .f32) (b : FVec Ideal S2x2048x256 .f32) :
    truncf .bf16 (transpose Cert.GluWReferenceIdeal.S256x256 [1, 0] (Host.dotGeneral Cert.GluWReferenceIdeal.dot_S2x2048x256_S2x2048x256_S256x256_01_01_2_2_n_n none b a)
      Cert.GluWReferenceIdeal.Gen.transposes_S256x256_S256x256_1_0) Cert.GluWReferenceIdeal.Gen.bitsLt_bf16_f32 = prod a b := by
  funext y
  have h : y = ix2 (y 0) (y 1) := by idx_ext
  rw [h]
  unfold prod
  rw [Fin.sum_univ_tiles 2 2048 rfl]
  pointwise [lhs, rhs]
  refine Finset.sum_congr rfl fun q _ => Finset.sum_congr rfl fun k _ => (mul_comm _ _).trans ?_
  have hk := k.isLt
  have h1 : (⟨(q.val * 2048 + k.val) / 2048, by omega⟩ : Fin 2) = q := Fin.ext (show (q.val * 2048 + k.val) / 2048 = q.val by omega)
  have h2 : (⟨(q.val * 2048 + k.val) % 2048, by omega⟩ : Fin 2048) = k := Fin.ext (show (q.val * 2048 + k.val) % 2048 = k.val by omega)
  exact (congrArg₂ (fun u v => a (ix3 u v (y 0)) * b (ix3 u v (y 1))) h1 h2).symm

end Cert.GluWEq

end
-- ==== Proof.GluCtx.lean ====
/- The gate of the even layers, over the context positions: the product, forward. -/
module

public import proofs.«01_k».proof.Proof.Gen.GluCtxIdeal.Value
public import proofs.«01_k».proof.Proof.Gen.GluCtxReferenceIdeal.Run
public import Idealize.ShloMosaic.Lib.Pipeline.ValueKit
public import Idealize.ShloMosaic.Lib.Pointwise

@[expose] public section

set_option maxRecDepth 16384

noncomputable section

namespace Cert.GluCtxEq

open Cert.GluCtxIdeal Cert.GluCtxIdeal.Gen Idealize.ShloMosaic Idealize.ShloMosaic.TcCoe Idealize.SL.Sem

/-- The left factor at a row and a summation index. -/
def lhs (a : FVec Ideal S2x256x256 .f32) (i : Fin 512) (k : Fin 256) : EReal :=
  a (ix3 ⟨i.val / 256, by omega⟩ ⟨i.val % 256, by omega⟩ k)

/-- The right factor at a summation index and a column. -/
def rhs (b : FVec Ideal S256x256 .f32) (k : Fin 256) (j : Fin 256) : EReal :=
  b (ix2 k j)

/-- The product at an element. -/
def prod (a : FVec Ideal S2x256x256 .f32) (b : FVec Ideal S256x256 .f32) (y : S512x256.Idx) : EReal :=
  ∑ k, lhs a (y 0) k * rhs b k (y 1)

variable (m : (ℓ : Loc nD τ sig) → Buf (Elt Ideal) ℓ) (c : Dev nD)

/-- The factors as arguments of the kernel. -/
abbrev aA : FVec Ideal S2x256x256 .f32 := m ((c : Thread nD τ).loc main_arg0)
abbrev bA : FVec Ideal S256x256 .f32 := m ((c : Thread nD τ).loc main_arg1)

theorem idx : ∀ t : Fin cfg0.N, win0_0.index t = ![t.val / 1, t.val % 1] ∧ win0_1.index t = ![t.val % 1, t.val / 1 % 1]
    ∧ win0_2.index t = ![t.val / 1, t.val / 1 % 1] :=
  (by decide +kernel : ∀ t : Fin grid0.N, _)

theorem points (t : Fin cfg0.N) : t.val < 1 := lt_of_lt_of_eq t.isLt N_0

/-- Row, column and summation index of an element of the blocks of grid point `t`. -/
def ti (t : Fin cfg0.N) (x : Fin 512) : Fin 512 := ⟨t.val / 1 * 512 + x.val, by have := points t; omega⟩
def tj (t : Fin cfg0.N) (y : Fin 256) : Fin 256 := ⟨t.val / 1 % 1 * 256 + y.val, by omega⟩
def tk (t : Fin cfg0.N) (k : Fin 256) : Fin 256 := ⟨t.val % 1 * 256 + k.val, by omega⟩

variable (t : Fin cfg0.N) (x : Fin 512) (y : Fin 256) (k : Fin 256)

theorem lhs_read : (iblk m c 0 t (ix2 x k) : EReal) = lhs (aA m c) (ti t x) (tk t k) := by
  unfold lhs ti tk
  blk_point [iblk, V, idx t]

theorem rhs_read : (iblk m c 1 t (ix2 k y) : EReal) = rhs (bA m c) (tk t k) (tj t y) := by
  unfold rhs tk tj
  blk_point [iblk, V, idx t]

/-- What one grid point adds to an element of its block. -/
def part (t : Fin cfg0.N) (i : S512x256.Idx) : EReal :=
  ∑ k, lhs (aA m c) (ti t (i 0)) (tk t k) * rhs (bA m c) (tk t k) (tj t (i 1))

theorem product_at (a : FVec Ideal S512x256 .bf16) (b : FVec Ideal S256x256 .bf16) :
    (k0_pay1 (F := Ideal) a b (ix2 x y) : EReal) = ∑ k, (a (ix2 x k) : EReal) * b (ix2 k y) := by
  pointwise [k0_pay1]

theorem product_part (i : S512x256.Idx) : (k0_pay1 (F := Ideal) (iblk m c 0 t) (iblk m c 1 t) i : EReal) = part m c t i := by
  have h : i = ix2 (i 0) (i 1) := by idx_ext
  refine (congrArg (k0_pay1 (F := Ideal) (iblk m c 0 t) (iblk m c 1 t)) h).trans ((product_at _ _ _ _).trans ?_)
  exact Finset.sum_congr rfl fun k _ => congrArg₂ (· * ·) (lhs_read m c t _ k) (rhs_read m c t _ k)

theorem part_prod (i : S512x256.Idx) (y : S512x256.Idx) (h0 : (y 0).val = t.val / 1 * 512 + (i 0).val)
    (h1 : (y 1).val = t.val / 1 % 1 * 256 + (i 1).val) : part m c t i = prod (aA m c) (bA m c) y := by
  refine Finset.sum_congr rfl fun k _ => ?_
  refine congrArg₂ (· * ·) (congrArg₂ _ (Fin.ext ?_) (Fin.ext ?_)) (congrArg₂ _ (Fin.ext ?_) (Fin.ext ?_))
  · exact h0.symm
  · show t.val % 1 * 256 + k.val = k.val
    omega
  · show t.val % 1 * 256 + k.val = k.val
    omega
  · exact h1.symm

/-- The kernel's array after the run. -/
theorem final : (dats m 0 c).arrAt 2 cfg0.N = prod (aA m c) (bA m c) := by
  refine (dats m 0 c).arrAt_eq_of_covers 2 _ (by decide +kernel) fun t hf y => ?_
  blk_simp
  rw [after0_2]
  unfold out0_2
  frame_out
  refine (product_part m c t y).trans (part_prod m c t y _ ?_ ?_)
  · blk_simp [idx t]
  · blk_simp [idx t]

/-- The reference's array. -/
theorem reference (a : FVec Ideal S2x256x256 .f32) (b : FVec Ideal S256x256 .f32) :
    shapeCast Cert.GluCtxReferenceIdeal.S512x256 (Host.dotGeneral Cert.GluCtxReferenceIdeal.dot_S2x256x256_S256x256_S2x256x256_2_0_01_1_n_n none a b)
      Cert.GluCtxReferenceIdeal.Gen.shapeCasts_S2x256x256_S512x256 = prod a b := by
  funext y
  have h : y = ix2 (y 0) (y 1) := by idx_ext
  rw [h]
  pointwise [prod, lhs, rhs]

end Cert.GluCtxEq

end
-- ==== Proof.GluCtxT.lean ====
/- The gate of the even layers, over the context positions: the product, gradient with respect to the tokens. -/
module

public import proofs.«01_k».proof.Proof.Gen.GluCtxTIdeal.Value
public import proofs.«01_k».proof.Proof.Gen.GluCtxTReferenceIdeal.Run
public import Idealize.ShloMosaic.Lib.Pipeline.ValueKit
public import Idealize.ShloMosaic.Lib.Pointwise

@[expose] public section

set_option maxRecDepth 16384

noncomputable section

namespace Cert.GluCtxTEq

open Cert.GluCtxTIdeal Cert.GluCtxTIdeal.Gen Idealize.ShloMosaic Idealize.ShloMosaic.TcCoe Idealize.SL.Sem

/-- The left factor at a row and a summation index. -/
def lhs (a : FVec Ideal S2x256x256 .f32) (i : Fin 512) (k : Fin 256) : EReal :=
  a (ix3 ⟨i.val / 256, by omega⟩ ⟨i.val % 256, by omega⟩ k)

/-- The right factor at a summation index and a column. -/
def rhs (b : FVec Ideal S256x256 .f32) (k : Fin 256) (j : Fin 256) : EReal :=
  b (ix2 j k)

/-- The product at an element. -/
def prod (a : FVec Ideal S2x256x256 .f32) (b : FVec Ideal S256x256 .f32) (y : S512x256.Idx) : EReal :=
  ∑ k, lhs a (y 0) k * rhs b k (y 1)

variable (m : (ℓ : Loc nD τ sig) → Buf (Elt Ideal) ℓ) (c : Dev nD)

/-- The factors as arguments of the kernel. -/
abbrev aA : FVec Ideal S2x256x256 .f32 := m ((c : Thread nD τ).loc main_arg2)
abbrev bA : FVec Ideal S256x256 .f32 := m ((c : Thread nD τ).loc main_arg1)

theorem idx : ∀ t : Fin cfg0.N, win0_0.index t = ![t.val / 1, t.val % 1] ∧ win0_1.index t = ![t.val / 1 % 1, t.val % 1]
    ∧ win0_2.index t = ![t.val / 1, t.val / 1 % 1] :=
  (by decide +kernel : ∀ t : Fin grid0.N, _)

theorem points (t : Fin cfg0.N) : t.val < 1 := lt_of_lt_of_eq t.isLt N_0

/-- Row, column and summation index of an element of the blocks of grid point `t`. -/
def ti (t : Fin cfg0.N) (x : Fin 512) : Fin 512 := ⟨t.val / 1 * 512 + x.val, by have := points t; omega⟩
def tj (t : Fin cfg0.N) (y : Fin 256) : Fin 256 := ⟨t.val / 1 % 1 * 256 + y.val, by omega⟩
def tk (t : Fin cfg0.N) (k : Fin 256) : Fin 256 := ⟨t.val % 1 * 256 + k.val, by omega⟩

variable (t : Fin cfg0.N) (x : Fin 512) (y : Fin 256) (k : Fin 256)

theorem lhs_read : (iblk m c 0 t (ix2 x k) : EReal) = lhs (aA m c) (ti t x) (tk t k) := by
  unfold lhs ti tk
  blk_point [iblk, V, idx t]

theorem rhs_read : (iblk m c 1 t (ix2 y k) : EReal) = rhs (bA m c) (tk t k) (tj t y) := by
  unfold rhs tk tj
  blk_point [iblk, V, idx t]

/-- What one grid point adds to an element of its block. -/
def part (t : Fin cfg0.N) (i : S512x256.Idx) : EReal :=
  ∑ k, lhs (aA m c) (ti t (i 0)) (tk t k) * rhs (bA m c) (tk t k) (tj t (i 1))

theorem product_at (a : FVec Ideal S512x256 .bf16) (b : FVec Ideal S256x256 .bf16) :
    (k0_pay1 (F := Ideal) a b (ix2 x y) : EReal) = ∑ k, (a (ix2 x k) : EReal) * b (ix2 y k) := by
  pointwise [k0_pay1]

theorem product_part (i : S512x256.Idx) : (k0_pay1 (F := Ideal) (iblk m c 0 t) (iblk m c 1 t) i : EReal) = part m c t i := by
  have h : i = ix2 (i 0) (i 1) := by idx_ext
  refine (congrArg (k0_pay1 (F := Ideal) (iblk m c 0 t) (iblk m c 1 t)) h).trans ((product_at _ _ _ _).trans ?_)
  exact Finset.sum_congr rfl fun k _ => congrArg₂ (· * ·) (lhs_read m c t _ k) (rhs_read m c t _ k)

theorem part_prod (i : S512x256.Idx) (y : S512x256.Idx) (h0 : (y 0).val = t.val / 1 * 512 + (i 0).val)
    (h1 : (y 1).val = t.val / 1 % 1 * 256 + (i 1).val) : part m c t i = prod (aA m c) (bA m c) y := by
  refine Finset.sum_congr rfl fun k _ => ?_
  refine congrArg₂ (· * ·) (congrArg₂ _ (Fin.ext ?_) (Fin.ext ?_)) (congrArg₂ _ (Fin.ext ?_) (Fin.ext ?_))
  · exact h0.symm
  · show t.val % 1 * 256 + k.val = k.val
    omega
  · show t.val % 1 * 256 + k.val = k.val
    omega
  · exact h1.symm

/-- The kernel's array after the run. -/
theorem final : (dats m 0 c).arrAt 2 cfg0.N = prod (aA m c) (bA m c) := by
  refine (dats m 0 c).arrAt_eq_of_covers 2 _ (by decide +kernel) fun t hf y => ?_
  blk_simp
  rw [after0_2]
  unfold out0_2
  frame_out
  refine (product_part m c t y).trans (part_prod m c t y _ ?_ ?_)
  · blk_simp [idx t]
  · blk_simp [idx t]

/-- The reference's array. -/
theorem reference (a : FVec Ideal S2x256x256 .f32) (b : FVec Ideal S256x256 .f32) :
    shapeCast Cert.GluCtxTReferenceIdeal.S512x256 (Host.dotGeneral Cert.GluCtxTReferenceIdeal.dot_S2x256x256_S256x256_S2x256x256_2_1_01_0_n_n none a b)
      Cert.GluCtxTReferenceIdeal.Gen.shapeCasts_S2x256x256_S512x256 = prod a b := by
  funext y
  have h : y = ix2 (y 0) (y 1) := by idx_ext
  rw [h]
  pointwise [prod, lhs, rhs]

end Cert.GluCtxTEq

end
-- ==== Proof.GluCtxW.lean ====
/- The gate of the even layers, over the context positions: the product, gradient with respect to the weights. -/
module

public import proofs.«01_k».proof.Proof.Gen.GluCtxWIdeal.Value
public import proofs.«01_k».proof.Proof.Gen.GluCtxWReferenceIdeal.Run
public import Idealize.ShloMosaic.Lib.Pipeline.ValueKit
public import Idealize.ShloMosaic.Lib.Pointwise

@[expose] public section

set_option maxRecDepth 16384

noncomputable section

namespace Cert.GluCtxWEq

open Cert.GluCtxWIdeal Cert.GluCtxWIdeal.Gen Idealize.ShloMosaic Idealize.ShloMosaic.TcCoe Idealize.SL.Sem

/-- The left factor at a row and a summation index. -/
def lhs (a : FVec Ideal S2x256x256 .f32) (i : Fin 256) (k : Fin 512) : EReal :=
  a (ix3 ⟨k.val / 256, by omega⟩ ⟨k.val % 256, by omega⟩ i)

/-- The right factor at a summation index and a column. -/
def rhs (b : FVec Ideal S2x256x256 .f32) (k : Fin 512) (j : Fin 256) : EReal :=
  b (ix3 ⟨k.val / 256, by omega⟩ ⟨k.val % 256, by omega⟩ j)

/-- The product at an element. -/
def prod (a : FVec Ideal S2x256x256 .f32) (b : FVec Ideal S2x256x256 .f32) (y : S256x256.Idx) : EReal :=
  ∑ k, lhs a (y 0) k * rhs b k (y 1)

variable (m : (ℓ : Loc nD τ sig) → Buf (Elt Ideal) ℓ) (c : Dev nD)

/-- The factors as arguments of the kernel. -/
abbrev aA : FVec Ideal S2x256x256 .f32 := m ((c : Thread nD τ).loc main_arg0)
abbrev bA : FVec Ideal S2x256x256 .f32 := m ((c : Thread nD τ).loc main_arg2)

theorem idx : ∀ t : Fin cfg0.N, win0_0.index t = ![t.val % 1, t.val / 1] ∧ win0_1.index t = ![t.val % 1, t.val / 1 % 1]
    ∧ win0_2.index t = ![t.val / 1, t.val / 1 % 1] :=
  (by decide +kernel : ∀ t : Fin grid0.N, _)

theorem points (t : Fin cfg0.N) : t.val < 1 := lt_of_lt_of_eq t.isLt N_0

/-- Row, column and summation index of an element of the blocks of grid point `t`. -/
def ti (t : Fin cfg0.N) (x : Fin 256) : Fin 256 := ⟨t.val / 1 * 256 + x.val, by have := points t; omega⟩
def tj (t : Fin cfg0.N) (y : Fin 256) : Fin 256 := ⟨t.val / 1 % 1 * 256 + y.val, by omega⟩
def tk (t : Fin cfg0.N) (k : Fin 512) : Fin 512 := ⟨t.val % 1 * 512 + k.val, by omega⟩

variable (t : Fin cfg0.N) (x : Fin 256) (y : Fin 256) (k : Fin 512)

theorem lhs_read : (iblk m c 0 t (ix2 k x) : EReal) = lhs (aA m c) (ti t x) (tk t k) := by
  unfold lhs ti tk
  blk_point [iblk, V, idx t]

theorem rhs_read : (iblk m c 1 t (ix2 k y) : EReal) = rhs (bA m c) (tk t k) (tj t y) := by
  unfold rhs tk tj
  blk_point [iblk, V, idx t]

/-- What one grid point adds to an element of its block. -/
def part (t : Fin cfg0.N) (i : S256x256.Idx) : EReal :=
  ∑ k, lhs (aA m c) (ti t (i 0)) (tk t k) * rhs (bA m c) (tk t k) (tj t (i 1))

theorem product_at (a : FVec Ideal S512x256 .bf16) (b : FVec Ideal S512x256 .bf16) :
    (k0_pay1 (F := Ideal) a b (ix2 x y) : EReal) = ∑ k, (a (ix2 k x) : EReal) * b (ix2 k y) := by
  pointwise [k0_pay1]

theorem product_part (i : S256x256.Idx) : (k0_pay1 (F := Ideal) (iblk m c 0 t) (iblk m c 1 t) i : EReal) = part m c t i := by
  have h : i = ix2 (i 0) (i 1) := by idx_ext
  refine (congrArg (k0_pay1 (F := Ideal) (iblk m c 0 t) (iblk m c 1 t)) h).trans ((product_at _ _ _ _).trans ?_)
  exact Finset.sum_congr rfl fun k _ => congrArg₂ (· * ·) (lhs_read m c t _ k) (rhs_read m c t _ k)

theorem part_prod (i : S256x256.Idx) (y : S256x256.Idx) (h0 : (y 0).val = t.val / 1 * 256 + (i 0).val)
    (h1 : (y 1).val = t.val / 1 % 1 * 256 + (i 1).val) : part m c t i = prod (aA m c) (bA m c) y := by
  refine Finset.sum_congr rfl fun k _ => ?_
  refine congrArg₂ (· * ·) (congrArg₂ _ (Fin.ext ?_) (Fin.ext ?_)) (congrArg₂ _ (Fin.ext ?_) (Fin.ext ?_))
  · exact h0.symm
  · show t.val % 1 * 512 + k.val = k.val
    omega
  · show t.val % 1 * 512 + k.val = k.val
    omega
  · exact h1.symm

/-- The kernel's array after the run. -/
theorem final : (dats m 0 c).arrAt 2 cfg0.N = prod (aA m c) (bA m c) := by
  refine (dats m 0 c).arrAt_eq_of_covers 2 _ (by decide +kernel) fun t hf y => ?_
  blk_simp
  rw [after0_2]
  unfold out0_2
  frame_out
  refine (product_part m c t y).trans (part_prod m c t y _ ?_ ?_)
  · blk_simp [idx t]
  · blk_simp [idx t]

/-- The reference's array: its sum over the two sequences and their positions is one sum over the rows. -/
theorem reference (a : FVec Ideal S2x256x256 .f32) (b : FVec Ideal S2x256x256 .f32) :
    truncf .bf16 (transpose Cert.GluCtxWReferenceIdeal.S256x256 [1, 0] (Host.dotGeneral Cert.GluCtxWReferenceIdeal.dot_S2x256x256_S2x256x256_S256x256_01_01_2_2_n_n none b a)
      Cert.GluCtxWReferenceIdeal.Gen.transposes_S256x256_S256x256_1_0) Cert.GluCtxWReferenceIdeal.Gen.bitsLt_bf16_f32 = prod a b := by
  funext y
  have h : y = ix2 (y 0) (y 1) := by idx_ext
  rw [h]
  unfold prod
  rw [Fin.sum_univ_tiles 2 256 rfl]
  pointwise [lhs, rhs]
  refine Finset.sum_congr rfl fun q _ => Finset.sum_congr rfl fun k _ => (mul_comm _ _).trans ?_
  have hk := k.isLt
  have h1 : (⟨(q.val * 256 + k.val) / 256, by omega⟩ : Fin 2) = q := Fin.ext (show (q.val * 256 + k.val) / 256 = q.val by omega)
  have h2 : (⟨(q.val * 256 + k.val) % 256, by omega⟩ : Fin 256) = k := Fin.ext (show (q.val * 256 + k.val) % 256 = k.val by omega)
  exact (congrArg₂ (fun u v => a (ix3 u v (y 0)) * b (ix3 u v (y 1))) h1 h2).symm

end Cert.GluCtxWEq

end
-- ==== Proof.AdamStep.lean ====
/- One step of AdamW at one number. -/
module

public import Idealize.ShloMosaic.PureOps.Ideal
public import Idealize.ShloMosaic.Lib.Pointwise

@[expose] public section

noncomputable section

namespace Cert.AdamStep

open Idealize.ShloMosaic

/-- The number a float32 word stands for. -/
def lit (w : BitVec 32) : EReal := Ideal.ofBits .f32 w

/-- The new first moment, with the rates 0.9 and 0.1 as float32 holds them. -/
def mean (g m : EReal) : EReal := lit 0x3F666666#32 * m + lit 0x3DCCCCCD#32 * g

/-- The new second moment, with the rates 0.999 and 0.001. -/
def square (g v : EReal) : EReal := lit 0x3F7FBE77#32 * v + lit 0x3A83126F#32 * (g * g)

/-- The change of the weight: the learning rate times the corrected moments' quotient and the decayed weight. -/
def delta (w g m v : EReal) : EReal :=
  lit 0xBA83126F#32 * (Ideal.div (Ideal.div (mean g m) (lit 0x3F26BD02#32))
    (Ideal.sqrt (Ideal.div (square g v) (lit 0x3C231ACC#32)) + lit 0x322BCC77#32) + lit 0x3C23D70A#32 * w)

end Cert.AdamStep

end
-- ==== Proof.AdamUp.lean ====
/- The optimiser's step on the feed-forward blocks' first weights. -/
module

public import proofs.«01_k».proof.Proof.AdamStep
public import proofs.«01_k».proof.Proof.Gen.AdamUpIdeal.Value
public import proofs.«01_k».proof.Proof.Gen.AdamUpReferenceIdeal.Run
public import Idealize.ShloMosaic.Lib.Pipeline.ValueKit
public import Idealize.ShloMosaic.Lib.Pointwise

@[expose] public section

set_option maxRecDepth 16384

noncomputable section

namespace Cert.AdamUpEq

open Cert.AdamUpIdeal Cert.AdamUpIdeal.Gen Idealize.ShloMosaic Idealize.ShloMosaic.TcCoe Idealize.SL.Sem
open Cert.AdamStep (lit mean square delta)

/-- A weight's part read by rows. -/
def row (b : FVec Ideal S4x1024x512 .f32) (y : S4096x512.Idx) : EReal :=
  b (ix3 ⟨(y 0).val / 1024, by have : (y 0).val < 4096 := (y 0).isLt; omega⟩ ⟨(y 0).val % 1024, by omega⟩ (y 1))

/-- One device's gradient read by rows. -/
def slot (a : FVec Ideal S8x4x1024x512 .bf16) (d : Fin 8) (y : S4096x512.Idx) : EReal :=
  a (ix4 d ⟨(y 0).val / 1024, by have : (y 0).val < 4096 := (y 0).isLt; omega⟩ ⟨(y 0).val % 1024, by omega⟩ (y 1))

/-- The sum of the devices' gradients. -/
def grad (a : FVec Ideal S8x4x1024x512 .bf16) (y : S4096x512.Idx) : EReal := ∑ d, slot a d y

/-- The new moments and the change of the weight. -/
def newMean (a : FVec Ideal S8x4x1024x512 .bf16) (u : FVec Ideal S4x1024x512 .f32) (y : S4096x512.Idx) : EReal := mean (grad a y) (row u y)
def newSquare (a : FVec Ideal S8x4x1024x512 .bf16) (v : FVec Ideal S4x1024x512 .f32) (y : S4096x512.Idx) : EReal := square (grad a y) (row v y)
def change (a : FVec Ideal S8x4x1024x512 .bf16) (w u v : FVec Ideal S4x1024x512 .f32) (y : S4096x512.Idx) : EReal :=
  delta (row w y) (grad a y) (row u y) (row v y)

variable (m : (ℓ : Loc nD τ sig) → Buf (Elt Ideal) ℓ) (c : Dev nD)

/-- The kernel's arguments. -/
abbrev aA : FVec Ideal S8x4x1024x512 .bf16 := m ((c : Thread nD τ).loc main_arg0)
abbrev wA : FVec Ideal S4x1024x512 .f32 := m ((c : Thread nD τ).loc main_arg1)
abbrev uA : FVec Ideal S4x1024x512 .f32 := m ((c : Thread nD τ).loc main_arg2)
abbrev vA : FVec Ideal S4x1024x512 .f32 := m ((c : Thread nD τ).loc main_arg3)

theorem points (t : Fin cfg0.N) : t.val < 16 := lt_of_lt_of_eq t.isLt N_0

theorem idx : ∀ t : Fin cfg0.N, win0_0.index t = ![0, t.val, 0]
    ∧ win0_1.index t = ![t.val, 0]
    ∧ win0_2.index t = ![t.val, 0]
    ∧ win0_3.index t = ![t.val, 0]
    ∧ win0_4.index t = ![t.val, 0]
    ∧ win0_5.index t = ![t.val, 0]
    ∧ win0_6.index t = ![t.val, 0]
    ∧ win0_7.index t = ![t.val, 0] :=
  (by decide +kernel : ∀ t : Fin grid0.N, _)

/-- A row of the blocks of grid point `t`. -/
def ti (t : Fin cfg0.N) (x : Fin 256) : Fin 4096 := ⟨t.val * 256 + x.val, by have := points t; omega⟩

variable (t : Fin cfg0.N) (x : Fin 256) (y : Fin 512)

theorem weight_read : (iblk m c 1 t (ix2 x y) : EReal) = row (wA m c) (ix2 (ti t x) y) := by
  unfold row ti
  blk_point [iblk, V, idx t]

theorem mean_read : (iblk m c 2 t (ix2 x y) : EReal) = row (uA m c) (ix2 (ti t x) y) := by
  unfold row ti
  blk_point [iblk, V, idx t]

theorem square_read : (iblk m c 3 t (ix2 x y) : EReal) = row (vA m c) (ix2 (ti t x) y) := by
  unfold row ti
  blk_point [iblk, V, idx t]

/-- The reshape of the devices' gradients to rows. -/
theorem V_a : V m c main_v3 = shapeCast S8x4096x512 (aA m c) shapeCasts_S8x4x1024x512_S8x4096x512 := by
  simp only [V, hostOps0, List.flatten_cons, List.flatten_nil, List.append_nil, List.cons_append, List.nil_append]
  after_results <;> rfl

theorem flat_at (a : FVec Ideal S8x4x1024x512 .bf16) (d : Fin 8) (r : Fin 4096) :
    (shapeCast S8x4096x512 a shapeCasts_S8x4x1024x512_S8x4096x512 (ix3 d r y) : EReal) = slot a d (ix2 r y) := by
  unfold slot
  pointwise

theorem emb_at (d : Fin 8) : (win0_0.blk t).view.emb (ix3 d x y) = ix3 d (ti t x) y := by
  unfold ti
  funext k
  fin_cases k <;> apply Fin.ext <;> blk_simp [idx t] <;> rfl

theorem block_read (d : Fin 8) : (iblk m c 0 t (ix3 d x y) : EReal) = slot (aA m c) d (ix2 (ti t x) y) := by
  show (V m c main_v3 ((win0_0.blk t).view.emb (ix3 d x y)) : EReal) = _
  rw [emb_at, V_a]
  exact flat_at y _ _ _

theorem slot_read : (View.ld (iblk m c 0 t) r0_0 (ix3 0 x y) : EReal) = slot (aA m c) 0 (ix2 (ti t x) y)
    ∧ (View.ld (iblk m c 0 t) r0_1 (ix3 0 x y) : EReal) = slot (aA m c) 1 (ix2 (ti t x) y)
    ∧ (View.ld (iblk m c 0 t) r0_2 (ix3 0 x y) : EReal) = slot (aA m c) 2 (ix2 (ti t x) y)
    ∧ (View.ld (iblk m c 0 t) r0_3 (ix3 0 x y) : EReal) = slot (aA m c) 3 (ix2 (ti t x) y)
    ∧ (View.ld (iblk m c 0 t) r0_4 (ix3 0 x y) : EReal) = slot (aA m c) 4 (ix2 (ti t x) y)
    ∧ (View.ld (iblk m c 0 t) r0_5 (ix3 0 x y) : EReal) = slot (aA m c) 5 (ix2 (ti t x) y)
    ∧ (View.ld (iblk m c 0 t) r0_6 (ix3 0 x y) : EReal) = slot (aA m c) 6 (ix2 (ti t x) y)
    ∧ (View.ld (iblk m c 0 t) r0_7 (ix3 0 x y) : EReal) = slot (aA m c) 7 (ix2 (ti t x) y) := by
  refine ⟨?_, ?_, ?_, ?_, ?_, ?_, ?_, ?_⟩
  · exact (congrArg (iblk m c 0 t) (by idx_ext : r0_0.idx (ix3 0 x y) = ix3 0 x y)).trans (block_read m c t x y 0)
  · exact (congrArg (iblk m c 0 t) (by idx_ext : r0_1.idx (ix3 0 x y) = ix3 1 x y)).trans (block_read m c t x y 1)
  · exact (congrArg (iblk m c 0 t) (by idx_ext : r0_2.idx (ix3 0 x y) = ix3 2 x y)).trans (block_read m c t x y 2)
  · exact (congrArg (iblk m c 0 t) (by idx_ext : r0_3.idx (ix3 0 x y) = ix3 3 x y)).trans (block_read m c t x y 3)
  · exact (congrArg (iblk m c 0 t) (by idx_ext : r0_4.idx (ix3 0 x y) = ix3 4 x y)).trans (block_read m c t x y 4)
  · exact (congrArg (iblk m c 0 t) (by idx_ext : r0_5.idx (ix3 0 x y) = ix3 5 x y)).trans (block_read m c t x y 5)
  · exact (congrArg (iblk m c 0 t) (by idx_ext : r0_6.idx (ix3 0 x y) = ix3 6 x y)).trans (block_read m c t x y 6)
  · exact (congrArg (iblk m c 0 t) (by idx_ext : r0_7.idx (ix3 0 x y) = ix3 7 x y)).trans (block_read m c t x y 7)

theorem sum_at (l0 l1 l2 l3 l4 l5 l6 l7 : FVec Ideal S1x256x512 .bf16) :
    (k0_pay4 (F := Ideal) l0 l1 l2 l3 l4 l5 l6 l7 (ix2 x y) : EReal) = (l0 (ix3 0 x y) : EReal) + l1 (ix3 0 x y)
      + l2 (ix3 0 x y) + l3 (ix3 0 x y) + l4 (ix3 0 x y) + l5 (ix3 0 x y) + l6 (ix3 0 x y) + l7 (ix3 0 x y) := by
  pointwise [k0_pay4]

/-- The gradient's block. -/
abbrev total (t : Fin cfg0.N) : FVec Ideal S256x512 .f32 :=
  k0_pay4 (F := Ideal) (View.ld (iblk m c 0 t) r0_0) (View.ld (iblk m c 0 t) r0_1) (View.ld (iblk m c 0 t) r0_2)
    (View.ld (iblk m c 0 t) r0_3) (View.ld (iblk m c 0 t) r0_4) (View.ld (iblk m c 0 t) r0_5) (View.ld (iblk m c 0 t) r0_6)
    (View.ld (iblk m c 0 t) r0_7)

theorem grad_read : (total m c t (ix2 x y) : EReal) = grad (aA m c) (ix2 (ti t x) y) := by
  obtain ⟨h0, h1, h2, h3, h4, h5, h6, h7⟩ := slot_read m c t x y
  refine (sum_at x y _ _ _ _ _ _ _ _).trans ?_
  rw [h0, h1, h2, h3, h4, h5, h6, h7, grad, Fin.sum_univ_eight]

variable (g w u v : FVec Ideal S256x512 .f32)

theorem mean_at : (k0_pay1 (F := Ideal) g u (ix2 x y) : EReal) = mean (g (ix2 x y)) (u (ix2 x y)) := by
  pointwise [k0_pay1, mean, lit]

theorem square_at : (k0_pay2 (F := Ideal) g v (ix2 x y) : EReal) = square (g (ix2 x y)) (v (ix2 x y)) := by
  pointwise [k0_pay2, square, lit]

theorem delta_at : (k0_pay3 (F := Ideal) g w u v (ix2 x y) : EReal)
    = delta (w (ix2 x y)) (g (ix2 x y)) (u (ix2 x y)) (v (ix2 x y)) := by
  pointwise [k0_pay3, k0_pay2, k0_pay1, delta, mean, square, lit]

/-- The element of the array at an index of the blocks of grid point `t`. -/
theorem place (i : S256x512.Idx) (y : S4096x512.Idx) (h0 : (y 0).val = t.val * 256 + (i 0).val) (h1 : (y 1).val = (i 1).val) :
    i = ix2 (i 0) (i 1) ∧ ix2 (ti t (i 0)) (i 1) = y := by
  refine ⟨by idx_ext, ?_⟩
  funext d
  refine Fin.cases (Fin.ext h0.symm) (fun d => ?_) d
  exact Fin.cases (Fin.ext h1.symm) (fun d => d.elim0) d

/- The kernel's arrays after the run. -/

theorem grad_part (i : S256x512.Idx) (y : S4096x512.Idx) (h0 : (y 0).val = t.val * 256 + (i 0).val) (h1 : (y 1).val = (i 1).val) :
    (total m c t i : EReal) = grad (aA m c) y := by
  obtain ⟨h, e⟩ := place t i y h0 h1
  rw [← e]
  exact (congrArg (total m c t) h).trans (grad_read m c t _ _)

theorem final_grad : (dats m 0 c).arrAt 4 cfg0.N = grad (aA m c) := by
  refine (dats m 0 c).arrAt_eq_of_covers 4 _ (by decide +kernel) fun t hf y => ?_
  blk_simp
  rw [after0_4]
  unfold out0_4
  frame_out
  refine grad_part m c t y _ ?_ ?_
  · blk_simp [idx t]
  · blk_simp [idx t]

theorem change_part (i : S256x512.Idx) (y : S4096x512.Idx) (h0 : (y 0).val = t.val * 256 + (i 0).val) (h1 : (y 1).val = (i 1).val) :
    (k0_pay3 (F := Ideal) (total m c t) (iblk m c 1 t) (iblk m c 2 t) (iblk m c 3 t) i : EReal) = change (aA m c) (wA m c) (uA m c) (vA m c) y := by
  obtain ⟨h, e⟩ := place t i y h0 h1
  rw [← e]
  refine (congrArg (k0_pay3 (F := Ideal) (total m c t) (iblk m c 1 t) (iblk m c 2 t) (iblk m c 3 t)) h).trans ((delta_at _ _ _ _ _ _).trans ?_)
  exact congr (congr (congrArg₂ delta (weight_read m c t _ _) (grad_read m c t _ _)) (mean_read m c t _ _)) (square_read m c t _ _)

theorem final_change : (dats m 0 c).arrAt 5 cfg0.N = change (aA m c) (wA m c) (uA m c) (vA m c) := by
  refine (dats m 0 c).arrAt_eq_of_covers 5 _ (by decide +kernel) fun t hf y => ?_
  blk_simp
  rw [after0_5]
  unfold out0_5
  frame_out
  refine change_part m c t y _ ?_ ?_
  · blk_simp [idx t]
  · blk_simp [idx t]

theorem mean_part (i : S256x512.Idx) (y : S4096x512.Idx) (h0 : (y 0).val = t.val * 256 + (i 0).val) (h1 : (y 1).val = (i 1).val) :
    (k0_pay1 (F := Ideal) (total m c t) (iblk m c 2 t) i : EReal) = newMean (aA m c) (uA m c) y := by
  obtain ⟨h, e⟩ := place t i y h0 h1
  rw [← e]
  refine (congrArg (k0_pay1 (F := Ideal) (total m c t) (iblk m c 2 t)) h).trans ((mean_at _ _ _ _).trans ?_)
  exact congrArg₂ mean (grad_read m c t _ _) (mean_read m c t _ _)

theorem final_mean : (dats m 0 c).arrAt 6 cfg0.N = newMean (aA m c) (uA m c) := by
  refine (dats m 0 c).arrAt_eq_of_covers 6 _ (by decide +kernel) fun t hf y => ?_
  blk_simp
  rw [after0_6]
  unfold out0_6
  frame_out
  refine mean_part m c t y _ ?_ ?_
  · blk_simp [idx t]
  · blk_simp [idx t]

theorem square_part (i : S256x512.Idx) (y : S4096x512.Idx) (h0 : (y 0).val = t.val * 256 + (i 0).val) (h1 : (y 1).val = (i 1).val) :
    (k0_pay2 (F := Ideal) (total m c t) (iblk m c 3 t) i : EReal) = newSquare (aA m c) (vA m c) y := by
  obtain ⟨h, e⟩ := place t i y h0 h1
  rw [← e]
  refine (congrArg (k0_pay2 (F := Ideal) (total m c t) (iblk m c 3 t)) h).trans ((square_at _ _ _ _).trans ?_)
  exact congrArg₂ square (grad_read m c t _ _) (square_read m c t _ _)

theorem final_square : (dats m 0 c).arrAt 7 cfg0.N = newSquare (aA m c) (vA m c) := by
  refine (dats m 0 c).arrAt_eq_of_covers 7 _ (by decide +kernel) fun t hf y => ?_
  blk_simp
  rw [after0_7]
  unfold out0_7
  frame_out
  refine square_part m c t y _ ?_ ?_
  · blk_simp [idx t]
  · blk_simp [idx t]

/- The reference's arrays. -/

theorem reference_grad (a : FVec Ideal S8x4x1024x512 .bf16) :
    shapeCast Cert.AdamUpReferenceIdeal.S4096x512 (Host.reduceAdd (extf .f32 a Cert.AdamUpReferenceIdeal.Gen.bitsLt_bf16_f32) (constant Cert.AdamUpReferenceIdeal.S_ .f32 0x00000000#32) Cert.AdamUpReferenceIdeal.Gen.reducesTo_S8x4x1024x512_S4x1024x512_d0 Cert.AdamUpReferenceIdeal.Gen.h_S_) Cert.AdamUpReferenceIdeal.Gen.shapeCasts_S4x1024x512_S4096x512 = grad a := by
  funext y
  have h : y = ix2 (y 0) (y 1) := by idx_ext
  rw [h]
  pointwise [grad, slot]

theorem reference_change (a : FVec Ideal S8x4x1024x512 .bf16) (w u v : FVec Ideal S4x1024x512 .f32) :
    shapeCast Cert.AdamUpReferenceIdeal.S4096x512 (mulf (broadcastInDim Cert.AdamUpReferenceIdeal.S4x1024x512 ![] Cert.AdamUpReferenceIdeal.Gen.bcast_S_S4x1024x512 (constant Cert.AdamUpReferenceIdeal.S_ .f32 0xBA83126F#32)) (addf (Host.divf (Host.divf (addf (mulf (broadcastInDim Cert.AdamUpReferenceIdeal.S4x1024x512 ![] Cert.AdamUpReferenceIdeal.Gen.bcast_S_S4x1024x512 (constant Cert.AdamUpReferenceIdeal.S_ .f32 0x3F666666#32)) u) (mulf (broadcastInDim Cert.AdamUpReferenceIdeal.S4x1024x512 ![] Cert.AdamUpReferenceIdeal.Gen.bcast_S_S4x1024x512 (constant Cert.AdamUpReferenceIdeal.S_ .f32 0x3DCCCCCD#32)) (Host.reduceAdd (extf .f32 a Cert.AdamUpReferenceIdeal.Gen.bitsLt_bf16_f32) (constant Cert.AdamUpReferenceIdeal.S_ .f32 0x00000000#32) Cert.AdamUpReferenceIdeal.Gen.reducesTo_S8x4x1024x512_S4x1024x512_d0 Cert.AdamUpReferenceIdeal.Gen.h_S_))) (broadcastInDim Cert.AdamUpReferenceIdeal.S4x1024x512 ![] Cert.AdamUpReferenceIdeal.Gen.bcast_S_S4x1024x512 (constant Cert.AdamUpReferenceIdeal.S_ .f32 0x3F26BD02#32))) (addf (Host.sqrt (Host.divf (addf (mulf (broadcastInDim Cert.AdamUpReferenceIdeal.S4x1024x512 ![] Cert.AdamUpReferenceIdeal.Gen.bcast_S_S4x1024x512 (constant Cert.AdamUpReferenceIdeal.S_ .f32 0x3F7FBE77#32)) v) (mulf (broadcastInDim Cert.AdamUpReferenceIdeal.S4x1024x512 ![] Cert.AdamUpReferenceIdeal.Gen.bcast_S_S4x1024x512 (constant Cert.AdamUpReferenceIdeal.S_ .f32 0x3A83126F#32)) (mulf (Host.reduceAdd (extf .f32 a Cert.AdamUpReferenceIdeal.Gen.bitsLt_bf16_f32) (constant Cert.AdamUpReferenceIdeal.S_ .f32 0x00000000#32) Cert.AdamUpReferenceIdeal.Gen.reducesTo_S8x4x1024x512_S4x1024x512_d0 Cert.AdamUpReferenceIdeal.Gen.h_S_) (Host.reduceAdd (extf .f32 a Cert.AdamUpReferenceIdeal.Gen.bitsLt_bf16_f32) (constant Cert.AdamUpReferenceIdeal.S_ .f32 0x00000000#32) Cert.AdamUpReferenceIdeal.Gen.reducesTo_S8x4x1024x512_S4x1024x512_d0 Cert.AdamUpReferenceIdeal.Gen.h_S_)))) (broadcastInDim Cert.AdamUpReferenceIdeal.S4x1024x512 ![] Cert.AdamUpReferenceIdeal.Gen.bcast_S_S4x1024x512 (constant Cert.AdamUpReferenceIdeal.S_ .f32 0x3C231ACC#32)))) (broadcastInDim Cert.AdamUpReferenceIdeal.S4x1024x512 ![] Cert.AdamUpReferenceIdeal.Gen.bcast_S_S4x1024x512 (constant Cert.AdamUpReferenceIdeal.S_ .f32 0x322BCC77#32)))) (mulf (broadcastInDim Cert.AdamUpReferenceIdeal.S4x1024x512 ![] Cert.AdamUpReferenceIdeal.Gen.bcast_S_S4x1024x512 (constant Cert.AdamUpReferenceIdeal.S_ .f32 0x3C23D70A#32)) w))) Cert.AdamUpReferenceIdeal.Gen.shapeCasts_S4x1024x512_S4096x512 = change a w u v := by
  funext y
  have h : y = ix2 (y 0) (y 1) := by idx_ext
  rw [h]
  pointwise [change, delta, mean, square, lit, row, grad, slot]

theorem reference_mean (a : FVec Ideal S8x4x1024x512 .bf16) (u : FVec Ideal S4x1024x512 .f32) :
    shapeCast Cert.AdamUpReferenceIdeal.S4096x512 (addf (mulf (broadcastInDim Cert.AdamUpReferenceIdeal.S4x1024x512 ![] Cert.AdamUpReferenceIdeal.Gen.bcast_S_S4x1024x512 (constant Cert.AdamUpReferenceIdeal.S_ .f32 0x3F666666#32)) u) (mulf (broadcastInDim Cert.AdamUpReferenceIdeal.S4x1024x512 ![] Cert.AdamUpReferenceIdeal.Gen.bcast_S_S4x1024x512 (constant Cert.AdamUpReferenceIdeal.S_ .f32 0x3DCCCCCD#32)) (Host.reduceAdd (extf .f32 a Cert.AdamUpReferenceIdeal.Gen.bitsLt_bf16_f32) (constant Cert.AdamUpReferenceIdeal.S_ .f32 0x00000000#32) Cert.AdamUpReferenceIdeal.Gen.reducesTo_S8x4x1024x512_S4x1024x512_d0 Cert.AdamUpReferenceIdeal.Gen.h_S_))) Cert.AdamUpReferenceIdeal.Gen.shapeCasts_S4x1024x512_S4096x512 = newMean a u := by
  funext y
  have h : y = ix2 (y 0) (y 1) := by idx_ext
  rw [h]
  pointwise [newMean, mean, lit, row, grad, slot]

theorem reference_square (a : FVec Ideal S8x4x1024x512 .bf16) (v : FVec Ideal S4x1024x512 .f32) :
    shapeCast Cert.AdamUpReferenceIdeal.S4096x512 (addf (mulf (broadcastInDim Cert.AdamUpReferenceIdeal.S4x1024x512 ![] Cert.AdamUpReferenceIdeal.Gen.bcast_S_S4x1024x512 (constant Cert.AdamUpReferenceIdeal.S_ .f32 0x3F7FBE77#32)) v) (mulf (broadcastInDim Cert.AdamUpReferenceIdeal.S4x1024x512 ![] Cert.AdamUpReferenceIdeal.Gen.bcast_S_S4x1024x512 (constant Cert.AdamUpReferenceIdeal.S_ .f32 0x3A83126F#32)) (mulf (Host.reduceAdd (extf .f32 a Cert.AdamUpReferenceIdeal.Gen.bitsLt_bf16_f32) (constant Cert.AdamUpReferenceIdeal.S_ .f32 0x00000000#32) Cert.AdamUpReferenceIdeal.Gen.reducesTo_S8x4x1024x512_S4x1024x512_d0 Cert.AdamUpReferenceIdeal.Gen.h_S_) (Host.reduceAdd (extf .f32 a Cert.AdamUpReferenceIdeal.Gen.bitsLt_bf16_f32) (constant Cert.AdamUpReferenceIdeal.S_ .f32 0x00000000#32) Cert.AdamUpReferenceIdeal.Gen.reducesTo_S8x4x1024x512_S4x1024x512_d0 Cert.AdamUpReferenceIdeal.Gen.h_S_)))) Cert.AdamUpReferenceIdeal.Gen.shapeCasts_S4x1024x512_S4096x512 = newSquare a v := by
  funext y
  have h : y = ix2 (y 0) (y 1) := by idx_ext
  rw [h]
  pointwise [newSquare, square, lit, row, grad, slot]

end Cert.AdamUpEq

end
-- ==== Proof.AdamDown.lean ====
/- The optimiser's step on the feed-forward blocks' second weights. -/
module

public import proofs.«01_k».proof.Proof.AdamStep
public import proofs.«01_k».proof.Proof.Gen.AdamDownIdeal.Value
public import proofs.«01_k».proof.Proof.Gen.AdamDownReferenceIdeal.Run
public import Idealize.ShloMosaic.Lib.Pipeline.ValueKit
public import Idealize.ShloMosaic.Lib.Pointwise

@[expose] public section

set_option maxRecDepth 16384

noncomputable section

namespace Cert.AdamDownEq

open Cert.AdamDownIdeal Cert.AdamDownIdeal.Gen Idealize.ShloMosaic Idealize.ShloMosaic.TcCoe Idealize.SL.Sem
open Cert.AdamStep (lit mean square delta)

/-- A weight's part read by rows. -/
def row (b : FVec Ideal S4x512x1024 .f32) (y : S2048x1024.Idx) : EReal :=
  b (ix3 ⟨(y 0).val / 512, by have : (y 0).val < 2048 := (y 0).isLt; omega⟩ ⟨(y 0).val % 512, by omega⟩ (y 1))

/-- One device's gradient read by rows. -/
def slot (a : FVec Ideal S8x4x512x1024 .bf16) (d : Fin 8) (y : S2048x1024.Idx) : EReal :=
  a (ix4 d ⟨(y 0).val / 512, by have : (y 0).val < 2048 := (y 0).isLt; omega⟩ ⟨(y 0).val % 512, by omega⟩ (y 1))

/-- The sum of the devices' gradients. -/
def grad (a : FVec Ideal S8x4x512x1024 .bf16) (y : S2048x1024.Idx) : EReal := ∑ d, slot a d y

/-- The new moments and the change of the weight. -/
def newMean (a : FVec Ideal S8x4x512x1024 .bf16) (u : FVec Ideal S4x512x1024 .f32) (y : S2048x1024.Idx) : EReal := mean (grad a y) (row u y)
def newSquare (a : FVec Ideal S8x4x512x1024 .bf16) (v : FVec Ideal S4x512x1024 .f32) (y : S2048x1024.Idx) : EReal := square (grad a y) (row v y)
def change (a : FVec Ideal S8x4x512x1024 .bf16) (w u v : FVec Ideal S4x512x1024 .f32) (y : S2048x1024.Idx) : EReal :=
  delta (row w y) (grad a y) (row u y) (row v y)

variable (m : (ℓ : Loc nD τ sig) → Buf (Elt Ideal) ℓ) (c : Dev nD)

/-- The kernel's arguments. -/
abbrev aA : FVec Ideal S8x4x512x1024 .bf16 := m ((c : Thread nD τ).loc main_arg0)
abbrev wA : FVec Ideal S4x512x1024 .f32 := m ((c : Thread nD τ).loc main_arg1)
abbrev uA : FVec Ideal S4x512x1024 .f32 := m ((c : Thread nD τ).loc main_arg2)
abbrev vA : FVec Ideal S4x512x1024 .f32 := m ((c : Thread nD τ).loc main_arg3)

theorem points (t : Fin cfg0.N) : t.val < 8 := lt_of_lt_of_eq t.isLt N_0

theorem idx : ∀ t : Fin cfg0.N, win0_0.index t = ![0, t.val, 0]
    ∧ win0_1.index t = ![t.val, 0]
    ∧ win0_2.index t = ![t.val, 0]
    ∧ win0_3.index t = ![t.val, 0]
    ∧ win0_4.index t = ![t.val, 0]
    ∧ win0_5.index t = ![t.val, 0]
    ∧ win0_6.index t = ![t.val, 0]
    ∧ win0_7.index t = ![t.val, 0] :=
  (by decide +kernel : ∀ t : Fin grid0.N, _)

/-- A row of the blocks of grid point `t`. -/
def ti (t : Fin cfg0.N) (x : Fin 256) : Fin 2048 := ⟨t.val * 256 + x.val, by have := points t; omega⟩

variable (t : Fin cfg0.N) (x : Fin 256) (y : Fin 1024)

theorem weight_read : (iblk m c 1 t (ix2 x y) : EReal) = row (wA m c) (ix2 (ti t x) y) := by
  unfold row ti
  blk_point [iblk, V, idx t]

theorem mean_read : (iblk m c 2 t (ix2 x y) : EReal) = row (uA m c) (ix2 (ti t x) y) := by
  unfold row ti
  blk_point [iblk, V, idx t]

theorem square_read : (iblk m c 3 t (ix2 x y) : EReal) = row (vA m c) (ix2 (ti t x) y) := by
  unfold row ti
  blk_point [iblk, V, idx t]

/-- The reshape of the devices' gradients to rows. -/
theorem V_a : V m c main_v3 = shapeCast S8x2048x1024 (aA m c) shapeCasts_S8x4x512x1024_S8x2048x1024 := by
  simp only [V, hostOps0, List.flatten_cons, List.flatten_nil, List.append_nil, List.cons_append, List.nil_append]
  after_results <;> rfl

theorem flat_at (a : FVec Ideal S8x4x512x1024 .bf16) (d : Fin 8) (r : Fin 2048) :
    (shapeCast S8x2048x1024 a shapeCasts_S8x4x512x1024_S8x2048x1024 (ix3 d r y) : EReal) = slot a d (ix2 r y) := by
  unfold slot
  pointwise

theorem emb_at (d : Fin 8) : (win0_0.blk t).view.emb (ix3 d x y) = ix3 d (ti t x) y := by
  unfold ti
  funext k
  fin_cases k <;> apply Fin.ext <;> blk_simp [idx t] <;> rfl

theorem block_read (d : Fin 8) : (iblk m c 0 t (ix3 d x y) : EReal) = slot (aA m c) d (ix2 (ti t x) y) := by
  show (V m c main_v3 ((win0_0.blk t).view.emb (ix3 d x y)) : EReal) = _
  rw [emb_at, V_a]
  exact flat_at y _ _ _

theorem slot_read : (View.ld (iblk m c 0 t) r0_0 (ix3 0 x y) : EReal) = slot (aA m c) 0 (ix2 (ti t x) y)
    ∧ (View.ld (iblk m c 0 t) r0_1 (ix3 0 x y) : EReal) = slot (aA m c) 1 (ix2 (ti t x) y)
    ∧ (View.ld (iblk m c 0 t) r0_2 (ix3 0 x y) : EReal) = slot (aA m c) 2 (ix2 (ti t x) y)
    ∧ (View.ld (iblk m c 0 t) r0_3 (ix3 0 x y) : EReal) = slot (aA m c) 3 (ix2 (ti t x) y)
    ∧ (View.ld (iblk m c 0 t) r0_4 (ix3 0 x y) : EReal) = slot (aA m c) 4 (ix2 (ti t x) y)
    ∧ (View.ld (iblk m c 0 t) r0_5 (ix3 0 x y) : EReal) = slot (aA m c) 5 (ix2 (ti t x) y)
    ∧ (View.ld (iblk m c 0 t) r0_6 (ix3 0 x y) : EReal) = slot (aA m c) 6 (ix2 (ti t x) y)
    ∧ (View.ld (iblk m c 0 t) r0_7 (ix3 0 x y) : EReal) = slot (aA m c) 7 (ix2 (ti t x) y) := by
  refine ⟨?_, ?_, ?_, ?_, ?_, ?_, ?_, ?_⟩
  · exact (congrArg (iblk m c 0 t) (by idx_ext : r0_0.idx (ix3 0 x y) = ix3 0 x y)).trans (block_read m c t x y 0)
  · exact (congrArg (iblk m c 0 t) (by idx_ext : r0_1.idx (ix3 0 x y) = ix3 1 x y)).trans (block_read m c t x y 1)
  · exact (congrArg (iblk m c 0 t) (by idx_ext : r0_2.idx (ix3 0 x y) = ix3 2 x y)).trans (block_read m c t x y 2)
  · exact (congrArg (iblk m c 0 t) (by idx_ext : r0_3.idx (ix3 0 x y) = ix3 3 x y)).trans (block_read m c t x y 3)
  · exact (congrArg (iblk m c 0 t) (by idx_ext : r0_4.idx (ix3 0 x y) = ix3 4 x y)).trans (block_read m c t x y 4)
  · exact (congrArg (iblk m c 0 t) (by idx_ext : r0_5.idx (ix3 0 x y) = ix3 5 x y)).trans (block_read m c t x y 5)
  · exact (congrArg (iblk m c 0 t) (by idx_ext : r0_6.idx (ix3 0 x y) = ix3 6 x y)).trans (block_read m c t x y 6)
  · exact (congrArg (iblk m c 0 t) (by idx_ext : r0_7.idx (ix3 0 x y) = ix3 7 x y)).trans (block_read m c t x y 7)

theorem sum_at (l0 l1 l2 l3 l4 l5 l6 l7 : FVec Ideal S1x256x1024 .bf16) :
    (k0_pay4 (F := Ideal) l0 l1 l2 l3 l4 l5 l6 l7 (ix2 x y) : EReal) = (l0 (ix3 0 x y) : EReal) + l1 (ix3 0 x y)
      + l2 (ix3 0 x y) + l3 (ix3 0 x y) + l4 (ix3 0 x y) + l5 (ix3 0 x y) + l6 (ix3 0 x y) + l7 (ix3 0 x y) := by
  pointwise [k0_pay4]

/-- The gradient's block. -/
abbrev total (t : Fin cfg0.N) : FVec Ideal S256x1024 .f32 :=
  k0_pay4 (F := Ideal) (View.ld (iblk m c 0 t) r0_0) (View.ld (iblk m c 0 t) r0_1) (View.ld (iblk m c 0 t) r0_2)
    (View.ld (iblk m c 0 t) r0_3) (View.ld (iblk m c 0 t) r0_4) (View.ld (iblk m c 0 t) r0_5) (View.ld (iblk m c 0 t) r0_6)
    (View.ld (iblk m c 0 t) r0_7)

theorem grad_read : (total m c t (ix2 x y) : EReal) = grad (aA m c) (ix2 (ti t x) y) := by
  obtain ⟨h0, h1, h2, h3, h4, h5, h6, h7⟩ := slot_read m c t x y
  refine (sum_at x y _ _ _ _ _ _ _ _).trans ?_
  rw [h0, h1, h2, h3, h4, h5, h6, h7, grad, Fin.sum_univ_eight]

variable (g w u v : FVec Ideal S256x1024 .f32)

theorem mean_at : (k0_pay1 (F := Ideal) g u (ix2 x y) : EReal) = mean (g (ix2 x y)) (u (ix2 x y)) := by
  pointwise [k0_pay1, mean, lit]

theorem square_at : (k0_pay2 (F := Ideal) g v (ix2 x y) : EReal) = square (g (ix2 x y)) (v (ix2 x y)) := by
  pointwise [k0_pay2, square, lit]

theorem delta_at : (k0_pay3 (F := Ideal) g w u v (ix2 x y) : EReal)
    = delta (w (ix2 x y)) (g (ix2 x y)) (u (ix2 x y)) (v (ix2 x y)) := by
  pointwise [k0_pay3, k0_pay2, k0_pay1, delta, mean, square, lit]

/-- The element of the array at an index of the blocks of grid point `t`. -/
theorem place (i : S256x1024.Idx) (y : S2048x1024.Idx) (h0 : (y 0).val = t.val * 256 + (i 0).val) (h1 : (y 1).val = (i 1).val) :
    i = ix2 (i 0) (i 1) ∧ ix2 (ti t (i 0)) (i 1) = y := by
  refine ⟨by idx_ext, ?_⟩
  funext d
  refine Fin.cases (Fin.ext h0.symm) (fun d => ?_) d
  exact Fin.cases (Fin.ext h1.symm) (fun d => d.elim0) d

/- The kernel's arrays after the run. -/

theorem grad_part (i : S256x1024.Idx) (y : S2048x1024.Idx) (h0 : (y 0).val = t.val * 256 + (i 0).val) (h1 : (y 1).val = (i 1).val) :
    (total m c t i : EReal) = grad (aA m c) y := by
  obtain ⟨h, e⟩ := place t i y h0 h1
  rw [← e]
  exact (congrArg (total m c t) h).trans (grad_read m c t _ _)

theorem final_grad : (dats m 0 c).arrAt 4 cfg0.N = grad (aA m c) := by
  refine (dats m 0 c).arrAt_eq_of_covers 4 _ (by decide +kernel) fun t hf y => ?_
  blk_simp
  rw [after0_4]
  unfold out0_4
  frame_out
  refine grad_part m c t y _ ?_ ?_
  · blk_simp [idx t]
  · blk_simp [idx t]

theorem change_part (i : S256x1024.Idx) (y : S2048x1024.Idx) (h0 : (y 0).val = t.val * 256 + (i 0).val) (h1 : (y 1).val = (i 1).val) :
    (k0_pay3 (F := Ideal) (total m c t) (iblk m c 1 t) (iblk m c 2 t) (iblk m c 3 t) i : EReal) = change (aA m c) (wA m c) (uA m c) (vA m c) y := by
  obtain ⟨h, e⟩ := place t i y h0 h1
  rw [← e]
  refine (congrArg (k0_pay3 (F := Ideal) (total m c t) (iblk m c 1 t) (iblk m c 2 t) (iblk m c 3 t)) h).trans ((delta_at _ _ _ _ _ _).trans ?_)
  exact congr (congr (congrArg₂ delta (weight_read m c t _ _) (grad_read m c t _ _)) (mean_read m c t _ _)) (square_read m c t _ _)

theorem final_change : (dats m 0 c).arrAt 5 cfg0.N = change (aA m c) (wA m c) (uA m c) (vA m c) := by
  refine (dats m 0 c).arrAt_eq_of_covers 5 _ (by decide +kernel) fun t hf y => ?_
  blk_simp
  rw [after0_5]
  unfold out0_5
  frame_out
  refine change_part m c t y _ ?_ ?_
  · blk_simp [idx t]
  · blk_simp [idx t]

theorem mean_part (i : S256x1024.Idx) (y : S2048x1024.Idx) (h0 : (y 0).val = t.val * 256 + (i 0).val) (h1 : (y 1).val = (i 1).val) :
    (k0_pay1 (F := Ideal) (total m c t) (iblk m c 2 t) i : EReal) = newMean (aA m c) (uA m c) y := by
  obtain ⟨h, e⟩ := place t i y h0 h1
  rw [← e]
  refine (congrArg (k0_pay1 (F := Ideal) (total m c t) (iblk m c 2 t)) h).trans ((mean_at _ _ _ _).trans ?_)
  exact congrArg₂ mean (grad_read m c t _ _) (mean_read m c t _ _)

theorem final_mean : (dats m 0 c).arrAt 6 cfg0.N = newMean (aA m c) (uA m c) := by
  refine (dats m 0 c).arrAt_eq_of_covers 6 _ (by decide +kernel) fun t hf y => ?_
  blk_simp
  rw [after0_6]
  unfold out0_6
  frame_out
  refine mean_part m c t y _ ?_ ?_
  · blk_simp [idx t]
  · blk_simp [idx t]

theorem square_part (i : S256x1024.Idx) (y : S2048x1024.Idx) (h0 : (y 0).val = t.val * 256 + (i 0).val) (h1 : (y 1).val = (i 1).val) :
    (k0_pay2 (F := Ideal) (total m c t) (iblk m c 3 t) i : EReal) = newSquare (aA m c) (vA m c) y := by
  obtain ⟨h, e⟩ := place t i y h0 h1
  rw [← e]
  refine (congrArg (k0_pay2 (F := Ideal) (total m c t) (iblk m c 3 t)) h).trans ((square_at _ _ _ _).trans ?_)
  exact congrArg₂ square (grad_read m c t _ _) (square_read m c t _ _)

theorem final_square : (dats m 0 c).arrAt 7 cfg0.N = newSquare (aA m c) (vA m c) := by
  refine (dats m 0 c).arrAt_eq_of_covers 7 _ (by decide +kernel) fun t hf y => ?_
  blk_simp
  rw [after0_7]
  unfold out0_7
  frame_out
  refine square_part m c t y _ ?_ ?_
  · blk_simp [idx t]
  · blk_simp [idx t]

/- The reference's arrays. -/

theorem reference_grad (a : FVec Ideal S8x4x512x1024 .bf16) :
    shapeCast Cert.AdamDownReferenceIdeal.S2048x1024 (Host.reduceAdd (extf .f32 a Cert.AdamDownReferenceIdeal.Gen.bitsLt_bf16_f32) (constant Cert.AdamDownReferenceIdeal.S_ .f32 0x00000000#32) Cert.AdamDownReferenceIdeal.Gen.reducesTo_S8x4x512x1024_S4x512x1024_d0 Cert.AdamDownReferenceIdeal.Gen.h_S_) Cert.AdamDownReferenceIdeal.Gen.shapeCasts_S4x512x1024_S2048x1024 = grad a := by
  funext y
  have h : y = ix2 (y 0) (y 1) := by idx_ext
  rw [h]
  pointwise [grad, slot]

theorem reference_change (a : FVec Ideal S8x4x512x1024 .bf16) (w u v : FVec Ideal S4x512x1024 .f32) :
    shapeCast Cert.AdamDownReferenceIdeal.S2048x1024 (mulf (broadcastInDim Cert.AdamDownReferenceIdeal.S4x512x1024 ![] Cert.AdamDownReferenceIdeal.Gen.bcast_S_S4x512x1024 (constant Cert.AdamDownReferenceIdeal.S_ .f32 0xBA83126F#32)) (addf (Host.divf (Host.divf (addf (mulf (broadcastInDim Cert.AdamDownReferenceIdeal.S4x512x1024 ![] Cert.AdamDownReferenceIdeal.Gen.bcast_S_S4x512x1024 (constant Cert.AdamDownReferenceIdeal.S_ .f32 0x3F666666#32)) u) (mulf (broadcastInDim Cert.AdamDownReferenceIdeal.S4x512x1024 ![] Cert.AdamDownReferenceIdeal.Gen.bcast_S_S4x512x1024 (constant Cert.AdamDownReferenceIdeal.S_ .f32 0x3DCCCCCD#32)) (Host.reduceAdd (extf .f32 a Cert.AdamDownReferenceIdeal.Gen.bitsLt_bf16_f32) (constant Cert.AdamDownReferenceIdeal.S_ .f32 0x00000000#32) Cert.AdamDownReferenceIdeal.Gen.reducesTo_S8x4x512x1024_S4x512x1024_d0 Cert.AdamDownReferenceIdeal.Gen.h_S_))) (broadcastInDim Cert.AdamDownReferenceIdeal.S4x512x1024 ![] Cert.AdamDownReferenceIdeal.Gen.bcast_S_S4x512x1024 (constant Cert.AdamDownReferenceIdeal.S_ .f32 0x3F26BD02#32))) (addf (Host.sqrt (Host.divf (addf (mulf (broadcastInDim Cert.AdamDownReferenceIdeal.S4x512x1024 ![] Cert.AdamDownReferenceIdeal.Gen.bcast_S_S4x512x1024 (constant Cert.AdamDownReferenceIdeal.S_ .f32 0x3F7FBE77#32)) v) (mulf (broadcastInDim Cert.AdamDownReferenceIdeal.S4x512x1024 ![] Cert.AdamDownReferenceIdeal.Gen.bcast_S_S4x512x1024 (constant Cert.AdamDownReferenceIdeal.S_ .f32 0x3A83126F#32)) (mulf (Host.reduceAdd (extf .f32 a Cert.AdamDownReferenceIdeal.Gen.bitsLt_bf16_f32) (constant Cert.AdamDownReferenceIdeal.S_ .f32 0x00000000#32) Cert.AdamDownReferenceIdeal.Gen.reducesTo_S8x4x512x1024_S4x512x1024_d0 Cert.AdamDownReferenceIdeal.Gen.h_S_) (Host.reduceAdd (extf .f32 a Cert.AdamDownReferenceIdeal.Gen.bitsLt_bf16_f32) (constant Cert.AdamDownReferenceIdeal.S_ .f32 0x00000000#32) Cert.AdamDownReferenceIdeal.Gen.reducesTo_S8x4x512x1024_S4x512x1024_d0 Cert.AdamDownReferenceIdeal.Gen.h_S_)))) (broadcastInDim Cert.AdamDownReferenceIdeal.S4x512x1024 ![] Cert.AdamDownReferenceIdeal.Gen.bcast_S_S4x512x1024 (constant Cert.AdamDownReferenceIdeal.S_ .f32 0x3C231ACC#32)))) (broadcastInDim Cert.AdamDownReferenceIdeal.S4x512x1024 ![] Cert.AdamDownReferenceIdeal.Gen.bcast_S_S4x512x1024 (constant Cert.AdamDownReferenceIdeal.S_ .f32 0x322BCC77#32)))) (mulf (broadcastInDim Cert.AdamDownReferenceIdeal.S4x512x1024 ![] Cert.AdamDownReferenceIdeal.Gen.bcast_S_S4x512x1024 (constant Cert.AdamDownReferenceIdeal.S_ .f32 0x3C23D70A#32)) w))) Cert.AdamDownReferenceIdeal.Gen.shapeCasts_S4x512x1024_S2048x1024 = change a w u v := by
  funext y
  have h : y = ix2 (y 0) (y 1) := by idx_ext
  rw [h]
  pointwise [change, delta, mean, square, lit, row, grad, slot]

theorem reference_mean (a : FVec Ideal S8x4x512x1024 .bf16) (u : FVec Ideal S4x512x1024 .f32) :
    shapeCast Cert.AdamDownReferenceIdeal.S2048x1024 (addf (mulf (broadcastInDim Cert.AdamDownReferenceIdeal.S4x512x1024 ![] Cert.AdamDownReferenceIdeal.Gen.bcast_S_S4x512x1024 (constant Cert.AdamDownReferenceIdeal.S_ .f32 0x3F666666#32)) u) (mulf (broadcastInDim Cert.AdamDownReferenceIdeal.S4x512x1024 ![] Cert.AdamDownReferenceIdeal.Gen.bcast_S_S4x512x1024 (constant Cert.AdamDownReferenceIdeal.S_ .f32 0x3DCCCCCD#32)) (Host.reduceAdd (extf .f32 a Cert.AdamDownReferenceIdeal.Gen.bitsLt_bf16_f32) (constant Cert.AdamDownReferenceIdeal.S_ .f32 0x00000000#32) Cert.AdamDownReferenceIdeal.Gen.reducesTo_S8x4x512x1024_S4x512x1024_d0 Cert.AdamDownReferenceIdeal.Gen.h_S_))) Cert.AdamDownReferenceIdeal.Gen.shapeCasts_S4x512x1024_S2048x1024 = newMean a u := by
  funext y
  have h : y = ix2 (y 0) (y 1) := by idx_ext
  rw [h]
  pointwise [newMean, mean, lit, row, grad, slot]

theorem reference_square (a : FVec Ideal S8x4x512x1024 .bf16) (v : FVec Ideal S4x512x1024 .f32) :
    shapeCast Cert.AdamDownReferenceIdeal.S2048x1024 (addf (mulf (broadcastInDim Cert.AdamDownReferenceIdeal.S4x512x1024 ![] Cert.AdamDownReferenceIdeal.Gen.bcast_S_S4x512x1024 (constant Cert.AdamDownReferenceIdeal.S_ .f32 0x3F7FBE77#32)) v) (mulf (broadcastInDim Cert.AdamDownReferenceIdeal.S4x512x1024 ![] Cert.AdamDownReferenceIdeal.Gen.bcast_S_S4x512x1024 (constant Cert.AdamDownReferenceIdeal.S_ .f32 0x3A83126F#32)) (mulf (Host.reduceAdd (extf .f32 a Cert.AdamDownReferenceIdeal.Gen.bitsLt_bf16_f32) (constant Cert.AdamDownReferenceIdeal.S_ .f32 0x00000000#32) Cert.AdamDownReferenceIdeal.Gen.reducesTo_S8x4x512x1024_S4x512x1024_d0 Cert.AdamDownReferenceIdeal.Gen.h_S_) (Host.reduceAdd (extf .f32 a Cert.AdamDownReferenceIdeal.Gen.bitsLt_bf16_f32) (constant Cert.AdamDownReferenceIdeal.S_ .f32 0x00000000#32) Cert.AdamDownReferenceIdeal.Gen.reducesTo_S8x4x512x1024_S4x512x1024_d0 Cert.AdamDownReferenceIdeal.Gen.h_S_)))) Cert.AdamDownReferenceIdeal.Gen.shapeCasts_S4x512x1024_S2048x1024 = newSquare a v := by
  funext y
  have h : y = ix2 (y 0) (y 1) := by idx_ext
  rw [h]
  pointwise [newSquare, square, lit, row, grad, slot]

end Cert.AdamDownEq

end
-- ==== Proof.AdamEvenIn.lean ====
/- The optimiser's step on the even layers' input projections. -/
module

public import proofs.«01_k».proof.Proof.AdamStep
public import proofs.«01_k».proof.Proof.Gen.AdamEvenInIdeal.Value
public import proofs.«01_k».proof.Proof.Gen.AdamEvenInReferenceIdeal.Run
public import Idealize.ShloMosaic.Lib.Pipeline.ValueKit
public import Idealize.ShloMosaic.Lib.Pointwise

@[expose] public section

set_option maxRecDepth 16384

noncomputable section

namespace Cert.AdamEvenInEq

open Cert.AdamEvenInIdeal Cert.AdamEvenInIdeal.Gen Idealize.ShloMosaic Idealize.ShloMosaic.TcCoe Idealize.SL.Sem
open Cert.AdamStep (lit mean square delta)

/-- A weight's part read by rows. -/
def row (b : FVec Ideal S2x1024x192 .f32) (y : S2048x192.Idx) : EReal :=
  b (ix3 ⟨(y 0).val / 1024, by have : (y 0).val < 2048 := (y 0).isLt; omega⟩ ⟨(y 0).val % 1024, by omega⟩ (y 1))

/-- One device's gradient read by rows. -/
def slot (a : FVec Ideal S8x2x1024x192 .bf16) (d : Fin 8) (y : S2048x192.Idx) : EReal :=
  a (ix4 d ⟨(y 0).val / 1024, by have : (y 0).val < 2048 := (y 0).isLt; omega⟩ ⟨(y 0).val % 1024, by omega⟩ (y 1))

/-- The sum of the devices' gradients. -/
def grad (a : FVec Ideal S8x2x1024x192 .bf16) (y : S2048x192.Idx) : EReal := ∑ d, slot a d y

/-- The new moments and the change of the weight. -/
def newMean (a : FVec Ideal S8x2x1024x192 .bf16) (u : FVec Ideal S2x1024x192 .f32) (y : S2048x192.Idx) : EReal := mean (grad a y) (row u y)
def newSquare (a : FVec Ideal S8x2x1024x192 .bf16) (v : FVec Ideal S2x1024x192 .f32) (y : S2048x192.Idx) : EReal := square (grad a y) (row v y)
def change (a : FVec Ideal S8x2x1024x192 .bf16) (w u v : FVec Ideal S2x1024x192 .f32) (y : S2048x192.Idx) : EReal :=
  delta (row w y) (grad a y) (row u y) (row v y)

variable (m : (ℓ : Loc nD τ sig) → Buf (Elt Ideal) ℓ) (c : Dev nD)

/-- The kernel's arguments. -/
abbrev aA : FVec Ideal S8x2x1024x192 .bf16 := m ((c : Thread nD τ).loc main_arg0)
abbrev wA : FVec Ideal S2x1024x192 .f32 := m ((c : Thread nD τ).loc main_arg1)
abbrev uA : FVec Ideal S2x1024x192 .f32 := m ((c : Thread nD τ).loc main_arg2)
abbrev vA : FVec Ideal S2x1024x192 .f32 := m ((c : Thread nD τ).loc main_arg3)

theorem points (t : Fin cfg0.N) : t.val < 8 := lt_of_lt_of_eq t.isLt N_0

theorem idx : ∀ t : Fin cfg0.N, win0_0.index t = ![0, t.val, 0]
    ∧ win0_1.index t = ![t.val, 0]
    ∧ win0_2.index t = ![t.val, 0]
    ∧ win0_3.index t = ![t.val, 0]
    ∧ win0_4.index t = ![t.val, 0]
    ∧ win0_5.index t = ![t.val, 0]
    ∧ win0_6.index t = ![t.val, 0]
    ∧ win0_7.index t = ![t.val, 0] :=
  (by decide +kernel : ∀ t : Fin grid0.N, _)

/-- A row of the blocks of grid point `t`. -/
def ti (t : Fin cfg0.N) (x : Fin 256) : Fin 2048 := ⟨t.val * 256 + x.val, by have := points t; omega⟩

variable (t : Fin cfg0.N) (x : Fin 256) (y : Fin 192)

theorem weight_read : (iblk m c 1 t (ix2 x y) : EReal) = row (wA m c) (ix2 (ti t x) y) := by
  unfold row ti
  blk_point [iblk, V, idx t]

theorem mean_read : (iblk m c 2 t (ix2 x y) : EReal) = row (uA m c) (ix2 (ti t x) y) := by
  unfold row ti
  blk_point [iblk, V, idx t]

theorem square_read : (iblk m c 3 t (ix2 x y) : EReal) = row (vA m c) (ix2 (ti t x) y) := by
  unfold row ti
  blk_point [iblk, V, idx t]

/-- The reshape of the devices' gradients to rows. -/
theorem V_a : V m c main_v3 = shapeCast S8x2048x192 (aA m c) shapeCasts_S8x2x1024x192_S8x2048x192 := by
  simp only [V, hostOps0, List.flatten_cons, List.flatten_nil, List.append_nil, List.cons_append, List.nil_append]
  after_results <;> rfl

theorem flat_at (a : FVec Ideal S8x2x1024x192 .bf16) (d : Fin 8) (r : Fin 2048) :
    (shapeCast S8x2048x192 a shapeCasts_S8x2x1024x192_S8x2048x192 (ix3 d r y) : EReal) = slot a d (ix2 r y) := by
  unfold slot
  pointwise

theorem emb_at (d : Fin 8) : (win0_0.blk t).view.emb (ix3 d x y) = ix3 d (ti t x) y := by
  unfold ti
  funext k
  fin_cases k <;> apply Fin.ext <;> blk_simp [idx t] <;> rfl

theorem block_read (d : Fin 8) : (iblk m c 0 t (ix3 d x y) : EReal) = slot (aA m c) d (ix2 (ti t x) y) := by
  show (V m c main_v3 ((win0_0.blk t).view.emb (ix3 d x y)) : EReal) = _
  rw [emb_at, V_a]
  exact flat_at y _ _ _

theorem slot_read : (View.ld (iblk m c 0 t) r0_0 (ix3 0 x y) : EReal) = slot (aA m c) 0 (ix2 (ti t x) y)
    ∧ (View.ld (iblk m c 0 t) r0_1 (ix3 0 x y) : EReal) = slot (aA m c) 1 (ix2 (ti t x) y)
    ∧ (View.ld (iblk m c 0 t) r0_2 (ix3 0 x y) : EReal) = slot (aA m c) 2 (ix2 (ti t x) y)
    ∧ (View.ld (iblk m c 0 t) r0_3 (ix3 0 x y) : EReal) = slot (aA m c) 3 (ix2 (ti t x) y)
    ∧ (View.ld (iblk m c 0 t) r0_4 (ix3 0 x y) : EReal) = slot (aA m c) 4 (ix2 (ti t x) y)
    ∧ (View.ld (iblk m c 0 t) r0_5 (ix3 0 x y) : EReal) = slot (aA m c) 5 (ix2 (ti t x) y)
    ∧ (View.ld (iblk m c 0 t) r0_6 (ix3 0 x y) : EReal) = slot (aA m c) 6 (ix2 (ti t x) y)
    ∧ (View.ld (iblk m c 0 t) r0_7 (ix3 0 x y) : EReal) = slot (aA m c) 7 (ix2 (ti t x) y) := by
  refine ⟨?_, ?_, ?_, ?_, ?_, ?_, ?_, ?_⟩
  · exact (congrArg (iblk m c 0 t) (by idx_ext : r0_0.idx (ix3 0 x y) = ix3 0 x y)).trans (block_read m c t x y 0)
  · exact (congrArg (iblk m c 0 t) (by idx_ext : r0_1.idx (ix3 0 x y) = ix3 1 x y)).trans (block_read m c t x y 1)
  · exact (congrArg (iblk m c 0 t) (by idx_ext : r0_2.idx (ix3 0 x y) = ix3 2 x y)).trans (block_read m c t x y 2)
  · exact (congrArg (iblk m c 0 t) (by idx_ext : r0_3.idx (ix3 0 x y) = ix3 3 x y)).trans (block_read m c t x y 3)
  · exact (congrArg (iblk m c 0 t) (by idx_ext : r0_4.idx (ix3 0 x y) = ix3 4 x y)).trans (block_read m c t x y 4)
  · exact (congrArg (iblk m c 0 t) (by idx_ext : r0_5.idx (ix3 0 x y) = ix3 5 x y)).trans (block_read m c t x y 5)
  · exact (congrArg (iblk m c 0 t) (by idx_ext : r0_6.idx (ix3 0 x y) = ix3 6 x y)).trans (block_read m c t x y 6)
  · exact (congrArg (iblk m c 0 t) (by idx_ext : r0_7.idx (ix3 0 x y) = ix3 7 x y)).trans (block_read m c t x y 7)

theorem sum_at (l0 l1 l2 l3 l4 l5 l6 l7 : FVec Ideal S1x256x192 .bf16) :
    (k0_pay4 (F := Ideal) l0 l1 l2 l3 l4 l5 l6 l7 (ix2 x y) : EReal) = (l0 (ix3 0 x y) : EReal) + l1 (ix3 0 x y)
      + l2 (ix3 0 x y) + l3 (ix3 0 x y) + l4 (ix3 0 x y) + l5 (ix3 0 x y) + l6 (ix3 0 x y) + l7 (ix3 0 x y) := by
  pointwise [k0_pay4]

/-- The gradient's block. -/
abbrev total (t : Fin cfg0.N) : FVec Ideal S256x192 .f32 :=
  k0_pay4 (F := Ideal) (View.ld (iblk m c 0 t) r0_0) (View.ld (iblk m c 0 t) r0_1) (View.ld (iblk m c 0 t) r0_2)
    (View.ld (iblk m c 0 t) r0_3) (View.ld (iblk m c 0 t) r0_4) (View.ld (iblk m c 0 t) r0_5) (View.ld (iblk m c 0 t) r0_6)
    (View.ld (iblk m c 0 t) r0_7)

theorem grad_read : (total m c t (ix2 x y) : EReal) = grad (aA m c) (ix2 (ti t x) y) := by
  obtain ⟨h0, h1, h2, h3, h4, h5, h6, h7⟩ := slot_read m c t x y
  refine (sum_at x y _ _ _ _ _ _ _ _).trans ?_
  rw [h0, h1, h2, h3, h4, h5, h6, h7, grad, Fin.sum_univ_eight]

variable (g w u v : FVec Ideal S256x192 .f32)

theorem mean_at : (k0_pay1 (F := Ideal) g u (ix2 x y) : EReal) = mean (g (ix2 x y)) (u (ix2 x y)) := by
  pointwise [k0_pay1, mean, lit]

theorem square_at : (k0_pay2 (F := Ideal) g v (ix2 x y) : EReal) = square (g (ix2 x y)) (v (ix2 x y)) := by
  pointwise [k0_pay2, square, lit]

theorem delta_at : (k0_pay3 (F := Ideal) g w u v (ix2 x y) : EReal)
    = delta (w (ix2 x y)) (g (ix2 x y)) (u (ix2 x y)) (v (ix2 x y)) := by
  pointwise [k0_pay3, k0_pay2, k0_pay1, delta, mean, square, lit]

/-- The element of the array at an index of the blocks of grid point `t`. -/
theorem place (i : S256x192.Idx) (y : S2048x192.Idx) (h0 : (y 0).val = t.val * 256 + (i 0).val) (h1 : (y 1).val = (i 1).val) :
    i = ix2 (i 0) (i 1) ∧ ix2 (ti t (i 0)) (i 1) = y := by
  refine ⟨by idx_ext, ?_⟩
  funext d
  refine Fin.cases (Fin.ext h0.symm) (fun d => ?_) d
  exact Fin.cases (Fin.ext h1.symm) (fun d => d.elim0) d

/- The kernel's arrays after the run. -/

theorem grad_part (i : S256x192.Idx) (y : S2048x192.Idx) (h0 : (y 0).val = t.val * 256 + (i 0).val) (h1 : (y 1).val = (i 1).val) :
    (total m c t i : EReal) = grad (aA m c) y := by
  obtain ⟨h, e⟩ := place t i y h0 h1
  rw [← e]
  exact (congrArg (total m c t) h).trans (grad_read m c t _ _)

theorem final_grad : (dats m 0 c).arrAt 4 cfg0.N = grad (aA m c) := by
  refine (dats m 0 c).arrAt_eq_of_covers 4 _ (by decide +kernel) fun t hf y => ?_
  blk_simp
  rw [after0_4]
  unfold out0_4
  frame_out
  refine grad_part m c t y _ ?_ ?_
  · blk_simp [idx t]
  · blk_simp [idx t]

theorem change_part (i : S256x192.Idx) (y : S2048x192.Idx) (h0 : (y 0).val = t.val * 256 + (i 0).val) (h1 : (y 1).val = (i 1).val) :
    (k0_pay3 (F := Ideal) (total m c t) (iblk m c 1 t) (iblk m c 2 t) (iblk m c 3 t) i : EReal) = change (aA m c) (wA m c) (uA m c) (vA m c) y := by
  obtain ⟨h, e⟩ := place t i y h0 h1
  rw [← e]
  refine (congrArg (k0_pay3 (F := Ideal) (total m c t) (iblk m c 1 t) (iblk m c 2 t) (iblk m c 3 t)) h).trans ((delta_at _ _ _ _ _ _).trans ?_)
  exact congr (congr (congrArg₂ delta (weight_read m c t _ _) (grad_read m c t _ _)) (mean_read m c t _ _)) (square_read m c t _ _)

theorem final_change : (dats m 0 c).arrAt 5 cfg0.N = change (aA m c) (wA m c) (uA m c) (vA m c) := by
  refine (dats m 0 c).arrAt_eq_of_covers 5 _ (by decide +kernel) fun t hf y => ?_
  blk_simp
  rw [after0_5]
  unfold out0_5
  frame_out
  refine change_part m c t y _ ?_ ?_
  · blk_simp [idx t]
  · blk_simp [idx t]

theorem mean_part (i : S256x192.Idx) (y : S2048x192.Idx) (h0 : (y 0).val = t.val * 256 + (i 0).val) (h1 : (y 1).val = (i 1).val) :
    (k0_pay1 (F := Ideal) (total m c t) (iblk m c 2 t) i : EReal) = newMean (aA m c) (uA m c) y := by
  obtain ⟨h, e⟩ := place t i y h0 h1
  rw [← e]
  refine (congrArg (k0_pay1 (F := Ideal) (total m c t) (iblk m c 2 t)) h).trans ((mean_at _ _ _ _).trans ?_)
  exact congrArg₂ mean (grad_read m c t _ _) (mean_read m c t _ _)

theorem final_mean : (dats m 0 c).arrAt 6 cfg0.N = newMean (aA m c) (uA m c) := by
  refine (dats m 0 c).arrAt_eq_of_covers 6 _ (by decide +kernel) fun t hf y => ?_
  blk_simp
  rw [after0_6]
  unfold out0_6
  frame_out
  refine mean_part m c t y _ ?_ ?_
  · blk_simp [idx t]
  · blk_simp [idx t]

theorem square_part (i : S256x192.Idx) (y : S2048x192.Idx) (h0 : (y 0).val = t.val * 256 + (i 0).val) (h1 : (y 1).val = (i 1).val) :
    (k0_pay2 (F := Ideal) (total m c t) (iblk m c 3 t) i : EReal) = newSquare (aA m c) (vA m c) y := by
  obtain ⟨h, e⟩ := place t i y h0 h1
  rw [← e]
  refine (congrArg (k0_pay2 (F := Ideal) (total m c t) (iblk m c 3 t)) h).trans ((square_at _ _ _ _).trans ?_)
  exact congrArg₂ square (grad_read m c t _ _) (square_read m c t _ _)

theorem final_square : (dats m 0 c).arrAt 7 cfg0.N = newSquare (aA m c) (vA m c) := by
  refine (dats m 0 c).arrAt_eq_of_covers 7 _ (by decide +kernel) fun t hf y => ?_
  blk_simp
  rw [after0_7]
  unfold out0_7
  frame_out
  refine square_part m c t y _ ?_ ?_
  · blk_simp [idx t]
  · blk_simp [idx t]

/- The reference's arrays. -/

theorem reference_grad (a : FVec Ideal S8x2x1024x192 .bf16) :
    shapeCast Cert.AdamEvenInReferenceIdeal.S2048x192 (Host.reduceAdd (extf .f32 a Cert.AdamEvenInReferenceIdeal.Gen.bitsLt_bf16_f32) (constant Cert.AdamEvenInReferenceIdeal.S_ .f32 0x00000000#32) Cert.AdamEvenInReferenceIdeal.Gen.reducesTo_S8x2x1024x192_S2x1024x192_d0 Cert.AdamEvenInReferenceIdeal.Gen.h_S_) Cert.AdamEvenInReferenceIdeal.Gen.shapeCasts_S2x1024x192_S2048x192 = grad a := by
  funext y
  have h : y = ix2 (y 0) (y 1) := by idx_ext
  rw [h]
  pointwise [grad, slot]

theorem reference_change (a : FVec Ideal S8x2x1024x192 .bf16) (w u v : FVec Ideal S2x1024x192 .f32) :
    shapeCast Cert.AdamEvenInReferenceIdeal.S2048x192 (mulf (broadcastInDim Cert.AdamEvenInReferenceIdeal.S2x1024x192 ![] Cert.AdamEvenInReferenceIdeal.Gen.bcast_S_S2x1024x192 (constant Cert.AdamEvenInReferenceIdeal.S_ .f32 0xBA83126F#32)) (addf (Host.divf (Host.divf (addf (mulf (broadcastInDim Cert.AdamEvenInReferenceIdeal.S2x1024x192 ![] Cert.AdamEvenInReferenceIdeal.Gen.bcast_S_S2x1024x192 (constant Cert.AdamEvenInReferenceIdeal.S_ .f32 0x3F666666#32)) u) (mulf (broadcastInDim Cert.AdamEvenInReferenceIdeal.S2x1024x192 ![] Cert.AdamEvenInReferenceIdeal.Gen.bcast_S_S2x1024x192 (constant Cert.AdamEvenInReferenceIdeal.S_ .f32 0x3DCCCCCD#32)) (Host.reduceAdd (extf .f32 a Cert.AdamEvenInReferenceIdeal.Gen.bitsLt_bf16_f32) (constant Cert.AdamEvenInReferenceIdeal.S_ .f32 0x00000000#32) Cert.AdamEvenInReferenceIdeal.Gen.reducesTo_S8x2x1024x192_S2x1024x192_d0 Cert.AdamEvenInReferenceIdeal.Gen.h_S_))) (broadcastInDim Cert.AdamEvenInReferenceIdeal.S2x1024x192 ![] Cert.AdamEvenInReferenceIdeal.Gen.bcast_S_S2x1024x192 (constant Cert.AdamEvenInReferenceIdeal.S_ .f32 0x3F26BD02#32))) (addf (Host.sqrt (Host.divf (addf (mulf (broadcastInDim Cert.AdamEvenInReferenceIdeal.S2x1024x192 ![] Cert.AdamEvenInReferenceIdeal.Gen.bcast_S_S2x1024x192 (constant Cert.AdamEvenInReferenceIdeal.S_ .f32 0x3F7FBE77#32)) v) (mulf (broadcastInDim Cert.AdamEvenInReferenceIdeal.S2x1024x192 ![] Cert.AdamEvenInReferenceIdeal.Gen.bcast_S_S2x1024x192 (constant Cert.AdamEvenInReferenceIdeal.S_ .f32 0x3A83126F#32)) (mulf (Host.reduceAdd (extf .f32 a Cert.AdamEvenInReferenceIdeal.Gen.bitsLt_bf16_f32) (constant Cert.AdamEvenInReferenceIdeal.S_ .f32 0x00000000#32) Cert.AdamEvenInReferenceIdeal.Gen.reducesTo_S8x2x1024x192_S2x1024x192_d0 Cert.AdamEvenInReferenceIdeal.Gen.h_S_) (Host.reduceAdd (extf .f32 a Cert.AdamEvenInReferenceIdeal.Gen.bitsLt_bf16_f32) (constant Cert.AdamEvenInReferenceIdeal.S_ .f32 0x00000000#32) Cert.AdamEvenInReferenceIdeal.Gen.reducesTo_S8x2x1024x192_S2x1024x192_d0 Cert.AdamEvenInReferenceIdeal.Gen.h_S_)))) (broadcastInDim Cert.AdamEvenInReferenceIdeal.S2x1024x192 ![] Cert.AdamEvenInReferenceIdeal.Gen.bcast_S_S2x1024x192 (constant Cert.AdamEvenInReferenceIdeal.S_ .f32 0x3C231ACC#32)))) (broadcastInDim Cert.AdamEvenInReferenceIdeal.S2x1024x192 ![] Cert.AdamEvenInReferenceIdeal.Gen.bcast_S_S2x1024x192 (constant Cert.AdamEvenInReferenceIdeal.S_ .f32 0x322BCC77#32)))) (mulf (broadcastInDim Cert.AdamEvenInReferenceIdeal.S2x1024x192 ![] Cert.AdamEvenInReferenceIdeal.Gen.bcast_S_S2x1024x192 (constant Cert.AdamEvenInReferenceIdeal.S_ .f32 0x3C23D70A#32)) w))) Cert.AdamEvenInReferenceIdeal.Gen.shapeCasts_S2x1024x192_S2048x192 = change a w u v := by
  funext y
  have h : y = ix2 (y 0) (y 1) := by idx_ext
  rw [h]
  pointwise [change, delta, mean, square, lit, row, grad, slot]

theorem reference_mean (a : FVec Ideal S8x2x1024x192 .bf16) (u : FVec Ideal S2x1024x192 .f32) :
    shapeCast Cert.AdamEvenInReferenceIdeal.S2048x192 (addf (mulf (broadcastInDim Cert.AdamEvenInReferenceIdeal.S2x1024x192 ![] Cert.AdamEvenInReferenceIdeal.Gen.bcast_S_S2x1024x192 (constant Cert.AdamEvenInReferenceIdeal.S_ .f32 0x3F666666#32)) u) (mulf (broadcastInDim Cert.AdamEvenInReferenceIdeal.S2x1024x192 ![] Cert.AdamEvenInReferenceIdeal.Gen.bcast_S_S2x1024x192 (constant Cert.AdamEvenInReferenceIdeal.S_ .f32 0x3DCCCCCD#32)) (Host.reduceAdd (extf .f32 a Cert.AdamEvenInReferenceIdeal.Gen.bitsLt_bf16_f32) (constant Cert.AdamEvenInReferenceIdeal.S_ .f32 0x00000000#32) Cert.AdamEvenInReferenceIdeal.Gen.reducesTo_S8x2x1024x192_S2x1024x192_d0 Cert.AdamEvenInReferenceIdeal.Gen.h_S_))) Cert.AdamEvenInReferenceIdeal.Gen.shapeCasts_S2x1024x192_S2048x192 = newMean a u := by
  funext y
  have h : y = ix2 (y 0) (y 1) := by idx_ext
  rw [h]
  pointwise [newMean, mean, lit, row, grad, slot]

theorem reference_square (a : FVec Ideal S8x2x1024x192 .bf16) (v : FVec Ideal S2x1024x192 .f32) :
    shapeCast Cert.AdamEvenInReferenceIdeal.S2048x192 (addf (mulf (broadcastInDim Cert.AdamEvenInReferenceIdeal.S2x1024x192 ![] Cert.AdamEvenInReferenceIdeal.Gen.bcast_S_S2x1024x192 (constant Cert.AdamEvenInReferenceIdeal.S_ .f32 0x3F7FBE77#32)) v) (mulf (broadcastInDim Cert.AdamEvenInReferenceIdeal.S2x1024x192 ![] Cert.AdamEvenInReferenceIdeal.Gen.bcast_S_S2x1024x192 (constant Cert.AdamEvenInReferenceIdeal.S_ .f32 0x3A83126F#32)) (mulf (Host.reduceAdd (extf .f32 a Cert.AdamEvenInReferenceIdeal.Gen.bitsLt_bf16_f32) (constant Cert.AdamEvenInReferenceIdeal.S_ .f32 0x00000000#32) Cert.AdamEvenInReferenceIdeal.Gen.reducesTo_S8x2x1024x192_S2x1024x192_d0 Cert.AdamEvenInReferenceIdeal.Gen.h_S_) (Host.reduceAdd (extf .f32 a Cert.AdamEvenInReferenceIdeal.Gen.bitsLt_bf16_f32) (constant Cert.AdamEvenInReferenceIdeal.S_ .f32 0x00000000#32) Cert.AdamEvenInReferenceIdeal.Gen.reducesTo_S8x2x1024x192_S2x1024x192_d0 Cert.AdamEvenInReferenceIdeal.Gen.h_S_)))) Cert.AdamEvenInReferenceIdeal.Gen.shapeCasts_S2x1024x192_S2048x192 = newSquare a v := by
  funext y
  have h : y = ix2 (y 0) (y 1) := by idx_ext
  rw [h]
  pointwise [newSquare, square, lit, row, grad, slot]

end Cert.AdamEvenInEq

end
-- ==== Proof.AdamMix.lean ====
/- The optimiser's step on the projections of the mixed heads. -/
module

public import proofs.«01_k».proof.Proof.AdamStep
public import proofs.«01_k».proof.Proof.Gen.AdamMixIdeal.Value
public import proofs.«01_k».proof.Proof.Gen.AdamMixReferenceIdeal.Run
public import Idealize.ShloMosaic.Lib.Pipeline.ValueKit
public import Idealize.ShloMosaic.Lib.Pointwise

@[expose] public section

set_option maxRecDepth 16384

noncomputable section

namespace Cert.AdamMixEq

open Cert.AdamMixIdeal Cert.AdamMixIdeal.Gen Idealize.ShloMosaic Idealize.ShloMosaic.TcCoe Idealize.SL.Sem
open Cert.AdamStep (lit mean square delta)

/-- A weight's part read by rows. -/
def row (b : FVec Ideal S2x128x1024 .f32) (y : S256x1024.Idx) : EReal :=
  b (ix3 ⟨(y 0).val / 128, by have : (y 0).val < 256 := (y 0).isLt; omega⟩ ⟨(y 0).val % 128, by omega⟩ (y 1))

/-- One device's gradient read by rows. -/
def slot (a : FVec Ideal S8x2x128x1024 .bf16) (d : Fin 8) (y : S256x1024.Idx) : EReal :=
  a (ix4 d ⟨(y 0).val / 128, by have : (y 0).val < 256 := (y 0).isLt; omega⟩ ⟨(y 0).val % 128, by omega⟩ (y 1))

/-- The sum of the devices' gradients. -/
def grad (a : FVec Ideal S8x2x128x1024 .bf16) (y : S256x1024.Idx) : EReal := ∑ d, slot a d y

/-- The new moments and the change of the weight. -/
def newMean (a : FVec Ideal S8x2x128x1024 .bf16) (u : FVec Ideal S2x128x1024 .f32) (y : S256x1024.Idx) : EReal := mean (grad a y) (row u y)
def newSquare (a : FVec Ideal S8x2x128x1024 .bf16) (v : FVec Ideal S2x128x1024 .f32) (y : S256x1024.Idx) : EReal := square (grad a y) (row v y)
def change (a : FVec Ideal S8x2x128x1024 .bf16) (w u v : FVec Ideal S2x128x1024 .f32) (y : S256x1024.Idx) : EReal :=
  delta (row w y) (grad a y) (row u y) (row v y)

variable (m : (ℓ : Loc nD τ sig) → Buf (Elt Ideal) ℓ) (c : Dev nD)

/-- The kernel's arguments. -/
abbrev aA : FVec Ideal S8x2x128x1024 .bf16 := m ((c : Thread nD τ).loc main_arg0)
abbrev wA : FVec Ideal S2x128x1024 .f32 := m ((c : Thread nD τ).loc main_arg1)
abbrev uA : FVec Ideal S2x128x1024 .f32 := m ((c : Thread nD τ).loc main_arg2)
abbrev vA : FVec Ideal S2x128x1024 .f32 := m ((c : Thread nD τ).loc main_arg3)

theorem points (t : Fin cfg0.N) : t.val < 1 := lt_of_lt_of_eq t.isLt N_0

theorem idx : ∀ t : Fin cfg0.N, win0_0.index t = ![0, t.val, 0]
    ∧ win0_1.index t = ![t.val, 0]
    ∧ win0_2.index t = ![t.val, 0]
    ∧ win0_3.index t = ![t.val, 0]
    ∧ win0_4.index t = ![t.val, 0]
    ∧ win0_5.index t = ![t.val, 0]
    ∧ win0_6.index t = ![t.val, 0]
    ∧ win0_7.index t = ![t.val, 0] :=
  (by decide +kernel : ∀ t : Fin grid0.N, _)

/-- A row of the blocks of grid point `t`. -/
def ti (t : Fin cfg0.N) (x : Fin 256) : Fin 256 := ⟨t.val * 256 + x.val, by have := points t; omega⟩

variable (t : Fin cfg0.N) (x : Fin 256) (y : Fin 1024)

theorem weight_read : (iblk m c 1 t (ix2 x y) : EReal) = row (wA m c) (ix2 (ti t x) y) := by
  unfold row ti
  blk_point [iblk, V, idx t]

theorem mean_read : (iblk m c 2 t (ix2 x y) : EReal) = row (uA m c) (ix2 (ti t x) y) := by
  unfold row ti
  blk_point [iblk, V, idx t]

theorem square_read : (iblk m c 3 t (ix2 x y) : EReal) = row (vA m c) (ix2 (ti t x) y) := by
  unfold row ti
  blk_point [iblk, V, idx t]

/-- The reshape of the devices' gradients to rows. -/
theorem V_a : V m c main_v3 = shapeCast S8x256x1024 (aA m c) shapeCasts_S8x2x128x1024_S8x256x1024 := by
  simp only [V, hostOps0, List.flatten_cons, List.flatten_nil, List.append_nil, List.cons_append, List.nil_append]
  after_results <;> rfl

theorem flat_at (a : FVec Ideal S8x2x128x1024 .bf16) (d : Fin 8) (r : Fin 256) :
    (shapeCast S8x256x1024 a shapeCasts_S8x2x128x1024_S8x256x1024 (ix3 d r y) : EReal) = slot a d (ix2 r y) := by
  unfold slot
  pointwise

theorem emb_at (d : Fin 8) : (win0_0.blk t).view.emb (ix3 d x y) = ix3 d (ti t x) y := by
  unfold ti
  funext k
  fin_cases k <;> apply Fin.ext <;> blk_simp [idx t] <;> rfl

theorem block_read (d : Fin 8) : (iblk m c 0 t (ix3 d x y) : EReal) = slot (aA m c) d (ix2 (ti t x) y) := by
  show (V m c main_v3 ((win0_0.blk t).view.emb (ix3 d x y)) : EReal) = _
  rw [emb_at, V_a]
  exact flat_at y _ _ _

theorem slot_read : (View.ld (iblk m c 0 t) r0_0 (ix3 0 x y) : EReal) = slot (aA m c) 0 (ix2 (ti t x) y)
    ∧ (View.ld (iblk m c 0 t) r0_1 (ix3 0 x y) : EReal) = slot (aA m c) 1 (ix2 (ti t x) y)
    ∧ (View.ld (iblk m c 0 t) r0_2 (ix3 0 x y) : EReal) = slot (aA m c) 2 (ix2 (ti t x) y)
    ∧ (View.ld (iblk m c 0 t) r0_3 (ix3 0 x y) : EReal) = slot (aA m c) 3 (ix2 (ti t x) y)
    ∧ (View.ld (iblk m c 0 t) r0_4 (ix3 0 x y) : EReal) = slot (aA m c) 4 (ix2 (ti t x) y)
    ∧ (View.ld (iblk m c 0 t) r0_5 (ix3 0 x y) : EReal) = slot (aA m c) 5 (ix2 (ti t x) y)
    ∧ (View.ld (iblk m c 0 t) r0_6 (ix3 0 x y) : EReal) = slot (aA m c) 6 (ix2 (ti t x) y)
    ∧ (View.ld (iblk m c 0 t) r0_7 (ix3 0 x y) : EReal) = slot (aA m c) 7 (ix2 (ti t x) y) := by
  refine ⟨?_, ?_, ?_, ?_, ?_, ?_, ?_, ?_⟩
  · exact (congrArg (iblk m c 0 t) (by idx_ext : r0_0.idx (ix3 0 x y) = ix3 0 x y)).trans (block_read m c t x y 0)
  · exact (congrArg (iblk m c 0 t) (by idx_ext : r0_1.idx (ix3 0 x y) = ix3 1 x y)).trans (block_read m c t x y 1)
  · exact (congrArg (iblk m c 0 t) (by idx_ext : r0_2.idx (ix3 0 x y) = ix3 2 x y)).trans (block_read m c t x y 2)
  · exact (congrArg (iblk m c 0 t) (by idx_ext : r0_3.idx (ix3 0 x y) = ix3 3 x y)).trans (block_read m c t x y 3)
  · exact (congrArg (iblk m c 0 t) (by idx_ext : r0_4.idx (ix3 0 x y) = ix3 4 x y)).trans (block_read m c t x y 4)
  · exact (congrArg (iblk m c 0 t) (by idx_ext : r0_5.idx (ix3 0 x y) = ix3 5 x y)).trans (block_read m c t x y 5)
  · exact (congrArg (iblk m c 0 t) (by idx_ext : r0_6.idx (ix3 0 x y) = ix3 6 x y)).trans (block_read m c t x y 6)
  · exact (congrArg (iblk m c 0 t) (by idx_ext : r0_7.idx (ix3 0 x y) = ix3 7 x y)).trans (block_read m c t x y 7)

theorem sum_at (l0 l1 l2 l3 l4 l5 l6 l7 : FVec Ideal S1x256x1024 .bf16) :
    (k0_pay4 (F := Ideal) l0 l1 l2 l3 l4 l5 l6 l7 (ix2 x y) : EReal) = (l0 (ix3 0 x y) : EReal) + l1 (ix3 0 x y)
      + l2 (ix3 0 x y) + l3 (ix3 0 x y) + l4 (ix3 0 x y) + l5 (ix3 0 x y) + l6 (ix3 0 x y) + l7 (ix3 0 x y) := by
  pointwise [k0_pay4]

/-- The gradient's block. -/
abbrev total (t : Fin cfg0.N) : FVec Ideal S256x1024 .f32 :=
  k0_pay4 (F := Ideal) (View.ld (iblk m c 0 t) r0_0) (View.ld (iblk m c 0 t) r0_1) (View.ld (iblk m c 0 t) r0_2)
    (View.ld (iblk m c 0 t) r0_3) (View.ld (iblk m c 0 t) r0_4) (View.ld (iblk m c 0 t) r0_5) (View.ld (iblk m c 0 t) r0_6)
    (View.ld (iblk m c 0 t) r0_7)

theorem grad_read : (total m c t (ix2 x y) : EReal) = grad (aA m c) (ix2 (ti t x) y) := by
  obtain ⟨h0, h1, h2, h3, h4, h5, h6, h7⟩ := slot_read m c t x y
  refine (sum_at x y _ _ _ _ _ _ _ _).trans ?_
  rw [h0, h1, h2, h3, h4, h5, h6, h7, grad, Fin.sum_univ_eight]

variable (g w u v : FVec Ideal S256x1024 .f32)

theorem mean_at : (k0_pay1 (F := Ideal) g u (ix2 x y) : EReal) = mean (g (ix2 x y)) (u (ix2 x y)) := by
  pointwise [k0_pay1, mean, lit]

theorem square_at : (k0_pay2 (F := Ideal) g v (ix2 x y) : EReal) = square (g (ix2 x y)) (v (ix2 x y)) := by
  pointwise [k0_pay2, square, lit]

theorem delta_at : (k0_pay3 (F := Ideal) g w u v (ix2 x y) : EReal)
    = delta (w (ix2 x y)) (g (ix2 x y)) (u (ix2 x y)) (v (ix2 x y)) := by
  pointwise [k0_pay3, k0_pay2, k0_pay1, delta, mean, square, lit]

/-- The element of the array at an index of the blocks of grid point `t`. -/
theorem place (i : S256x1024.Idx) (y : S256x1024.Idx) (h0 : (y 0).val = t.val * 256 + (i 0).val) (h1 : (y 1).val = (i 1).val) :
    i = ix2 (i 0) (i 1) ∧ ix2 (ti t (i 0)) (i 1) = y := by
  refine ⟨by idx_ext, ?_⟩
  funext d
  refine Fin.cases (Fin.ext h0.symm) (fun d => ?_) d
  exact Fin.cases (Fin.ext h1.symm) (fun d => d.elim0) d

/- The kernel's arrays after the run. -/

theorem grad_part (i : S256x1024.Idx) (y : S256x1024.Idx) (h0 : (y 0).val = t.val * 256 + (i 0).val) (h1 : (y 1).val = (i 1).val) :
    (total m c t i : EReal) = grad (aA m c) y := by
  obtain ⟨h, e⟩ := place t i y h0 h1
  rw [← e]
  exact (congrArg (total m c t) h).trans (grad_read m c t _ _)

theorem final_grad : (dats m 0 c).arrAt 4 cfg0.N = grad (aA m c) := by
  refine (dats m 0 c).arrAt_eq_of_covers 4 _ (by decide +kernel) fun t hf y => ?_
  blk_simp
  rw [after0_4]
  unfold out0_4
  frame_out
  refine grad_part m c t y _ ?_ ?_
  · blk_simp [idx t]
  · blk_simp [idx t]

theorem change_part (i : S256x1024.Idx) (y : S256x1024.Idx) (h0 : (y 0).val = t.val * 256 + (i 0).val) (h1 : (y 1).val = (i 1).val) :
    (k0_pay3 (F := Ideal) (total m c t) (iblk m c 1 t) (iblk m c 2 t) (iblk m c 3 t) i : EReal) = change (aA m c) (wA m c) (uA m c) (vA m c) y := by
  obtain ⟨h, e⟩ := place t i y h0 h1
  rw [← e]
  refine (congrArg (k0_pay3 (F := Ideal) (total m c t) (iblk m c 1 t) (iblk m c 2 t) (iblk m c 3 t)) h).trans ((delta_at _ _ _ _ _ _).trans ?_)
  exact congr (congr (congrArg₂ delta (weight_read m c t _ _) (grad_read m c t _ _)) (mean_read m c t _ _)) (square_read m c t _ _)

theorem final_change : (dats m 0 c).arrAt 5 cfg0.N = change (aA m c) (wA m c) (uA m c) (vA m c) := by
  refine (dats m 0 c).arrAt_eq_of_covers 5 _ (by decide +kernel) fun t hf y => ?_
  blk_simp
  rw [after0_5]
  unfold out0_5
  frame_out
  refine change_part m c t y _ ?_ ?_
  · blk_simp [idx t]
  · blk_simp [idx t]

theorem mean_part (i : S256x1024.Idx) (y : S256x1024.Idx) (h0 : (y 0).val = t.val * 256 + (i 0).val) (h1 : (y 1).val = (i 1).val) :
    (k0_pay1 (F := Ideal) (total m c t) (iblk m c 2 t) i : EReal) = newMean (aA m c) (uA m c) y := by
  obtain ⟨h, e⟩ := place t i y h0 h1
  rw [← e]
  refine (congrArg (k0_pay1 (F := Ideal) (total m c t) (iblk m c 2 t)) h).trans ((mean_at _ _ _ _).trans ?_)
  exact congrArg₂ mean (grad_read m c t _ _) (mean_read m c t _ _)

theorem final_mean : (dats m 0 c).arrAt 6 cfg0.N = newMean (aA m c) (uA m c) := by
  refine (dats m 0 c).arrAt_eq_of_covers 6 _ (by decide +kernel) fun t hf y => ?_
  blk_simp
  rw [after0_6]
  unfold out0_6
  frame_out
  refine mean_part m c t y _ ?_ ?_
  · blk_simp [idx t]
  · blk_simp [idx t]

theorem square_part (i : S256x1024.Idx) (y : S256x1024.Idx) (h0 : (y 0).val = t.val * 256 + (i 0).val) (h1 : (y 1).val = (i 1).val) :
    (k0_pay2 (F := Ideal) (total m c t) (iblk m c 3 t) i : EReal) = newSquare (aA m c) (vA m c) y := by
  obtain ⟨h, e⟩ := place t i y h0 h1
  rw [← e]
  refine (congrArg (k0_pay2 (F := Ideal) (total m c t) (iblk m c 3 t)) h).trans ((square_at _ _ _ _).trans ?_)
  exact congrArg₂ square (grad_read m c t _ _) (square_read m c t _ _)

theorem final_square : (dats m 0 c).arrAt 7 cfg0.N = newSquare (aA m c) (vA m c) := by
  refine (dats m 0 c).arrAt_eq_of_covers 7 _ (by decide +kernel) fun t hf y => ?_
  blk_simp
  rw [after0_7]
  unfold out0_7
  frame_out
  refine square_part m c t y _ ?_ ?_
  · blk_simp [idx t]
  · blk_simp [idx t]

/- The reference's arrays. -/

theorem reference_grad (a : FVec Ideal S8x2x128x1024 .bf16) :
    shapeCast Cert.AdamMixReferenceIdeal.S256x1024 (Host.reduceAdd (extf .f32 a Cert.AdamMixReferenceIdeal.Gen.bitsLt_bf16_f32) (constant Cert.AdamMixReferenceIdeal.S_ .f32 0x00000000#32) Cert.AdamMixReferenceIdeal.Gen.reducesTo_S8x2x128x1024_S2x128x1024_d0 Cert.AdamMixReferenceIdeal.Gen.h_S_) Cert.AdamMixReferenceIdeal.Gen.shapeCasts_S2x128x1024_S256x1024 = grad a := by
  funext y
  have h : y = ix2 (y 0) (y 1) := by idx_ext
  rw [h]
  pointwise [grad, slot]

theorem reference_change (a : FVec Ideal S8x2x128x1024 .bf16) (w u v : FVec Ideal S2x128x1024 .f32) :
    shapeCast Cert.AdamMixReferenceIdeal.S256x1024 (mulf (broadcastInDim Cert.AdamMixReferenceIdeal.S2x128x1024 ![] Cert.AdamMixReferenceIdeal.Gen.bcast_S_S2x128x1024 (constant Cert.AdamMixReferenceIdeal.S_ .f32 0xBA83126F#32)) (addf (Host.divf (Host.divf (addf (mulf (broadcastInDim Cert.AdamMixReferenceIdeal.S2x128x1024 ![] Cert.AdamMixReferenceIdeal.Gen.bcast_S_S2x128x1024 (constant Cert.AdamMixReferenceIdeal.S_ .f32 0x3F666666#32)) u) (mulf (broadcastInDim Cert.AdamMixReferenceIdeal.S2x128x1024 ![] Cert.AdamMixReferenceIdeal.Gen.bcast_S_S2x128x1024 (constant Cert.AdamMixReferenceIdeal.S_ .f32 0x3DCCCCCD#32)) (Host.reduceAdd (extf .f32 a Cert.AdamMixReferenceIdeal.Gen.bitsLt_bf16_f32) (constant Cert.AdamMixReferenceIdeal.S_ .f32 0x00000000#32) Cert.AdamMixReferenceIdeal.Gen.reducesTo_S8x2x128x1024_S2x128x1024_d0 Cert.AdamMixReferenceIdeal.Gen.h_S_))) (broadcastInDim Cert.AdamMixReferenceIdeal.S2x128x1024 ![] Cert.AdamMixReferenceIdeal.Gen.bcast_S_S2x128x1024 (constant Cert.AdamMixReferenceIdeal.S_ .f32 0x3F26BD02#32))) (addf (Host.sqrt (Host.divf (addf (mulf (broadcastInDim Cert.AdamMixReferenceIdeal.S2x128x1024 ![] Cert.AdamMixReferenceIdeal.Gen.bcast_S_S2x128x1024 (constant Cert.AdamMixReferenceIdeal.S_ .f32 0x3F7FBE77#32)) v) (mulf (broadcastInDim Cert.AdamMixReferenceIdeal.S2x128x1024 ![] Cert.AdamMixReferenceIdeal.Gen.bcast_S_S2x128x1024 (constant Cert.AdamMixReferenceIdeal.S_ .f32 0x3A83126F#32)) (mulf (Host.reduceAdd (extf .f32 a Cert.AdamMixReferenceIdeal.Gen.bitsLt_bf16_f32) (constant Cert.AdamMixReferenceIdeal.S_ .f32 0x00000000#32) Cert.AdamMixReferenceIdeal.Gen.reducesTo_S8x2x128x1024_S2x128x1024_d0 Cert.AdamMixReferenceIdeal.Gen.h_S_) (Host.reduceAdd (extf .f32 a Cert.AdamMixReferenceIdeal.Gen.bitsLt_bf16_f32) (constant Cert.AdamMixReferenceIdeal.S_ .f32 0x00000000#32) Cert.AdamMixReferenceIdeal.Gen.reducesTo_S8x2x128x1024_S2x128x1024_d0 Cert.AdamMixReferenceIdeal.Gen.h_S_)))) (broadcastInDim Cert.AdamMixReferenceIdeal.S2x128x1024 ![] Cert.AdamMixReferenceIdeal.Gen.bcast_S_S2x128x1024 (constant Cert.AdamMixReferenceIdeal.S_ .f32 0x3C231ACC#32)))) (broadcastInDim Cert.AdamMixReferenceIdeal.S2x128x1024 ![] Cert.AdamMixReferenceIdeal.Gen.bcast_S_S2x128x1024 (constant Cert.AdamMixReferenceIdeal.S_ .f32 0x322BCC77#32)))) (mulf (broadcastInDim Cert.AdamMixReferenceIdeal.S2x128x1024 ![] Cert.AdamMixReferenceIdeal.Gen.bcast_S_S2x128x1024 (constant Cert.AdamMixReferenceIdeal.S_ .f32 0x3C23D70A#32)) w))) Cert.AdamMixReferenceIdeal.Gen.shapeCasts_S2x128x1024_S256x1024 = change a w u v := by
  funext y
  have h : y = ix2 (y 0) (y 1) := by idx_ext
  rw [h]
  pointwise [change, delta, mean, square, lit, row, grad, slot]

theorem reference_mean (a : FVec Ideal S8x2x128x1024 .bf16) (u : FVec Ideal S2x128x1024 .f32) :
    shapeCast Cert.AdamMixReferenceIdeal.S256x1024 (addf (mulf (broadcastInDim Cert.AdamMixReferenceIdeal.S2x128x1024 ![] Cert.AdamMixReferenceIdeal.Gen.bcast_S_S2x128x1024 (constant Cert.AdamMixReferenceIdeal.S_ .f32 0x3F666666#32)) u) (mulf (broadcastInDim Cert.AdamMixReferenceIdeal.S2x128x1024 ![] Cert.AdamMixReferenceIdeal.Gen.bcast_S_S2x128x1024 (constant Cert.AdamMixReferenceIdeal.S_ .f32 0x3DCCCCCD#32)) (Host.reduceAdd (extf .f32 a Cert.AdamMixReferenceIdeal.Gen.bitsLt_bf16_f32) (constant Cert.AdamMixReferenceIdeal.S_ .f32 0x00000000#32) Cert.AdamMixReferenceIdeal.Gen.reducesTo_S8x2x128x1024_S2x128x1024_d0 Cert.AdamMixReferenceIdeal.Gen.h_S_))) Cert.AdamMixReferenceIdeal.Gen.shapeCasts_S2x128x1024_S256x1024 = newMean a u := by
  funext y
  have h : y = ix2 (y 0) (y 1) := by idx_ext
  rw [h]
  pointwise [newMean, mean, lit, row, grad, slot]

theorem reference_square (a : FVec Ideal S8x2x128x1024 .bf16) (v : FVec Ideal S2x128x1024 .f32) :
    shapeCast Cert.AdamMixReferenceIdeal.S256x1024 (addf (mulf (broadcastInDim Cert.AdamMixReferenceIdeal.S2x128x1024 ![] Cert.AdamMixReferenceIdeal.Gen.bcast_S_S2x128x1024 (constant Cert.AdamMixReferenceIdeal.S_ .f32 0x3F7FBE77#32)) v) (mulf (broadcastInDim Cert.AdamMixReferenceIdeal.S2x128x1024 ![] Cert.AdamMixReferenceIdeal.Gen.bcast_S_S2x128x1024 (constant Cert.AdamMixReferenceIdeal.S_ .f32 0x3A83126F#32)) (mulf (Host.reduceAdd (extf .f32 a Cert.AdamMixReferenceIdeal.Gen.bitsLt_bf16_f32) (constant Cert.AdamMixReferenceIdeal.S_ .f32 0x00000000#32) Cert.AdamMixReferenceIdeal.Gen.reducesTo_S8x2x128x1024_S2x128x1024_d0 Cert.AdamMixReferenceIdeal.Gen.h_S_) (Host.reduceAdd (extf .f32 a Cert.AdamMixReferenceIdeal.Gen.bitsLt_bf16_f32) (constant Cert.AdamMixReferenceIdeal.S_ .f32 0x00000000#32) Cert.AdamMixReferenceIdeal.Gen.reducesTo_S8x2x128x1024_S2x128x1024_d0 Cert.AdamMixReferenceIdeal.Gen.h_S_)))) Cert.AdamMixReferenceIdeal.Gen.shapeCasts_S2x128x1024_S256x1024 = newSquare a v := by
  funext y
  have h : y = ix2 (y 0) (y 1) := by idx_ext
  rw [h]
  pointwise [newSquare, square, lit, row, grad, slot]

end Cert.AdamMixEq

end
-- ==== Proof.AdamOddIn.lean ====
/- The optimiser's step on the odd layers' input projections. -/
module

public import proofs.«01_k».proof.Proof.AdamStep
public import proofs.«01_k».proof.Proof.Gen.AdamOddInIdeal.Value
public import proofs.«01_k».proof.Proof.Gen.AdamOddInReferenceIdeal.Run
public import Idealize.ShloMosaic.Lib.Pipeline.ValueKit
public import Idealize.ShloMosaic.Lib.Pointwise

@[expose] public section

set_option maxRecDepth 16384

noncomputable section

namespace Cert.AdamOddInEq

open Cert.AdamOddInIdeal Cert.AdamOddInIdeal.Gen Idealize.ShloMosaic Idealize.ShloMosaic.TcCoe Idealize.SL.Sem
open Cert.AdamStep (lit mean square delta)

/-- A weight's part read by rows. -/
def row (b : FVec Ideal S2x1024x292 .f32) (y : S2048x292.Idx) : EReal :=
  b (ix3 ⟨(y 0).val / 1024, by have : (y 0).val < 2048 := (y 0).isLt; omega⟩ ⟨(y 0).val % 1024, by omega⟩ (y 1))

/-- One device's gradient read by rows. -/
def slot (a : FVec Ideal S8x2x1024x292 .bf16) (d : Fin 8) (y : S2048x292.Idx) : EReal :=
  a (ix4 d ⟨(y 0).val / 1024, by have : (y 0).val < 2048 := (y 0).isLt; omega⟩ ⟨(y 0).val % 1024, by omega⟩ (y 1))

/-- The sum of the devices' gradients. -/
def grad (a : FVec Ideal S8x2x1024x292 .bf16) (y : S2048x292.Idx) : EReal := ∑ d, slot a d y

/-- The new moments and the change of the weight. -/
def newMean (a : FVec Ideal S8x2x1024x292 .bf16) (u : FVec Ideal S2x1024x292 .f32) (y : S2048x292.Idx) : EReal := mean (grad a y) (row u y)
def newSquare (a : FVec Ideal S8x2x1024x292 .bf16) (v : FVec Ideal S2x1024x292 .f32) (y : S2048x292.Idx) : EReal := square (grad a y) (row v y)
def change (a : FVec Ideal S8x2x1024x292 .bf16) (w u v : FVec Ideal S2x1024x292 .f32) (y : S2048x292.Idx) : EReal :=
  delta (row w y) (grad a y) (row u y) (row v y)

variable (m : (ℓ : Loc nD τ sig) → Buf (Elt Ideal) ℓ) (c : Dev nD)

/-- The kernel's arguments. -/
abbrev aA : FVec Ideal S8x2x1024x292 .bf16 := m ((c : Thread nD τ).loc main_arg0)
abbrev wA : FVec Ideal S2x1024x292 .f32 := m ((c : Thread nD τ).loc main_arg1)
abbrev uA : FVec Ideal S2x1024x292 .f32 := m ((c : Thread nD τ).loc main_arg2)
abbrev vA : FVec Ideal S2x1024x292 .f32 := m ((c : Thread nD τ).loc main_arg3)

theorem points (t : Fin cfg0.N) : t.val < 8 := lt_of_lt_of_eq t.isLt N_0

theorem idx : ∀ t : Fin cfg0.N, win0_0.index t = ![0, t.val, 0]
    ∧ win0_1.index t = ![t.val, 0]
    ∧ win0_2.index t = ![t.val, 0]
    ∧ win0_3.index t = ![t.val, 0]
    ∧ win0_4.index t = ![t.val, 0]
    ∧ win0_5.index t = ![t.val, 0]
    ∧ win0_6.index t = ![t.val, 0]
    ∧ win0_7.index t = ![t.val, 0] :=
  (by decide +kernel : ∀ t : Fin grid0.N, _)

/-- A row of the blocks of grid point `t`. -/
def ti (t : Fin cfg0.N) (x : Fin 256) : Fin 2048 := ⟨t.val * 256 + x.val, by have := points t; omega⟩

variable (t : Fin cfg0.N) (x : Fin 256) (y : Fin 292)

theorem weight_read : (iblk m c 1 t (ix2 x y) : EReal) = row (wA m c) (ix2 (ti t x) y) := by
  unfold row ti
  blk_point [iblk, V, idx t]

theorem mean_read : (iblk m c 2 t (ix2 x y) : EReal) = row (uA m c) (ix2 (ti t x) y) := by
  unfold row ti
  blk_point [iblk, V, idx t]

theorem square_read : (iblk m c 3 t (ix2 x y) : EReal) = row (vA m c) (ix2 (ti t x) y) := by
  unfold row ti
  blk_point [iblk, V, idx t]

/-- The reshape of the devices' gradients to rows. -/
theorem V_a : V m c main_v3 = shapeCast S8x2048x292 (aA m c) shapeCasts_S8x2x1024x292_S8x2048x292 := by
  simp only [V, hostOps0, List.flatten_cons, List.flatten_nil, List.append_nil, List.cons_append, List.nil_append]
  after_results <;> rfl

theorem flat_at (a : FVec Ideal S8x2x1024x292 .bf16) (d : Fin 8) (r : Fin 2048) :
    (shapeCast S8x2048x292 a shapeCasts_S8x2x1024x292_S8x2048x292 (ix3 d r y) : EReal) = slot a d (ix2 r y) := by
  unfold slot
  pointwise

theorem emb_at (d : Fin 8) : (win0_0.blk t).view.emb (ix3 d x y) = ix3 d (ti t x) y := by
  unfold ti
  funext k
  fin_cases k <;> apply Fin.ext <;> blk_simp [idx t] <;> rfl

theorem block_read (d : Fin 8) : (iblk m c 0 t (ix3 d x y) : EReal) = slot (aA m c) d (ix2 (ti t x) y) := by
  show (V m c main_v3 ((win0_0.blk t).view.emb (ix3 d x y)) : EReal) = _
  rw [emb_at, V_a]
  exact flat_at y _ _ _

theorem slot_read : (View.ld (iblk m c 0 t) r0_0 (ix3 0 x y) : EReal) = slot (aA m c) 0 (ix2 (ti t x) y)
    ∧ (View.ld (iblk m c 0 t) r0_1 (ix3 0 x y) : EReal) = slot (aA m c) 1 (ix2 (ti t x) y)
    ∧ (View.ld (iblk m c 0 t) r0_2 (ix3 0 x y) : EReal) = slot (aA m c) 2 (ix2 (ti t x) y)
    ∧ (View.ld (iblk m c 0 t) r0_3 (ix3 0 x y) : EReal) = slot (aA m c) 3 (ix2 (ti t x) y)
    ∧ (View.ld (iblk m c 0 t) r0_4 (ix3 0 x y) : EReal) = slot (aA m c) 4 (ix2 (ti t x) y)
    ∧ (View.ld (iblk m c 0 t) r0_5 (ix3 0 x y) : EReal) = slot (aA m c) 5 (ix2 (ti t x) y)
    ∧ (View.ld (iblk m c 0 t) r0_6 (ix3 0 x y) : EReal) = slot (aA m c) 6 (ix2 (ti t x) y)
    ∧ (View.ld (iblk m c 0 t) r0_7 (ix3 0 x y) : EReal) = slot (aA m c) 7 (ix2 (ti t x) y) := by
  refine ⟨?_, ?_, ?_, ?_, ?_, ?_, ?_, ?_⟩
  · exact (congrArg (iblk m c 0 t) (by idx_ext : r0_0.idx (ix3 0 x y) = ix3 0 x y)).trans (block_read m c t x y 0)
  · exact (congrArg (iblk m c 0 t) (by idx_ext : r0_1.idx (ix3 0 x y) = ix3 1 x y)).trans (block_read m c t x y 1)
  · exact (congrArg (iblk m c 0 t) (by idx_ext : r0_2.idx (ix3 0 x y) = ix3 2 x y)).trans (block_read m c t x y 2)
  · exact (congrArg (iblk m c 0 t) (by idx_ext : r0_3.idx (ix3 0 x y) = ix3 3 x y)).trans (block_read m c t x y 3)
  · exact (congrArg (iblk m c 0 t) (by idx_ext : r0_4.idx (ix3 0 x y) = ix3 4 x y)).trans (block_read m c t x y 4)
  · exact (congrArg (iblk m c 0 t) (by idx_ext : r0_5.idx (ix3 0 x y) = ix3 5 x y)).trans (block_read m c t x y 5)
  · exact (congrArg (iblk m c 0 t) (by idx_ext : r0_6.idx (ix3 0 x y) = ix3 6 x y)).trans (block_read m c t x y 6)
  · exact (congrArg (iblk m c 0 t) (by idx_ext : r0_7.idx (ix3 0 x y) = ix3 7 x y)).trans (block_read m c t x y 7)

theorem sum_at (l0 l1 l2 l3 l4 l5 l6 l7 : FVec Ideal S1x256x292 .bf16) :
    (k0_pay4 (F := Ideal) l0 l1 l2 l3 l4 l5 l6 l7 (ix2 x y) : EReal) = (l0 (ix3 0 x y) : EReal) + l1 (ix3 0 x y)
      + l2 (ix3 0 x y) + l3 (ix3 0 x y) + l4 (ix3 0 x y) + l5 (ix3 0 x y) + l6 (ix3 0 x y) + l7 (ix3 0 x y) := by
  pointwise [k0_pay4]

/-- The gradient's block. -/
abbrev total (t : Fin cfg0.N) : FVec Ideal S256x292 .f32 :=
  k0_pay4 (F := Ideal) (View.ld (iblk m c 0 t) r0_0) (View.ld (iblk m c 0 t) r0_1) (View.ld (iblk m c 0 t) r0_2)
    (View.ld (iblk m c 0 t) r0_3) (View.ld (iblk m c 0 t) r0_4) (View.ld (iblk m c 0 t) r0_5) (View.ld (iblk m c 0 t) r0_6)
    (View.ld (iblk m c 0 t) r0_7)

theorem grad_read : (total m c t (ix2 x y) : EReal) = grad (aA m c) (ix2 (ti t x) y) := by
  obtain ⟨h0, h1, h2, h3, h4, h5, h6, h7⟩ := slot_read m c t x y
  refine (sum_at x y _ _ _ _ _ _ _ _).trans ?_
  rw [h0, h1, h2, h3, h4, h5, h6, h7, grad, Fin.sum_univ_eight]

variable (g w u v : FVec Ideal S256x292 .f32)

theorem mean_at : (k0_pay1 (F := Ideal) g u (ix2 x y) : EReal) = mean (g (ix2 x y)) (u (ix2 x y)) := by
  pointwise [k0_pay1, mean, lit]

theorem square_at : (k0_pay2 (F := Ideal) g v (ix2 x y) : EReal) = square (g (ix2 x y)) (v (ix2 x y)) := by
  pointwise [k0_pay2, square, lit]

theorem delta_at : (k0_pay3 (F := Ideal) g w u v (ix2 x y) : EReal)
    = delta (w (ix2 x y)) (g (ix2 x y)) (u (ix2 x y)) (v (ix2 x y)) := by
  pointwise [k0_pay3, k0_pay2, k0_pay1, delta, mean, square, lit]

/-- The element of the array at an index of the blocks of grid point `t`. -/
theorem place (i : S256x292.Idx) (y : S2048x292.Idx) (h0 : (y 0).val = t.val * 256 + (i 0).val) (h1 : (y 1).val = (i 1).val) :
    i = ix2 (i 0) (i 1) ∧ ix2 (ti t (i 0)) (i 1) = y := by
  refine ⟨by idx_ext, ?_⟩
  funext d
  refine Fin.cases (Fin.ext h0.symm) (fun d => ?_) d
  exact Fin.cases (Fin.ext h1.symm) (fun d => d.elim0) d

/- The kernel's arrays after the run. -/

theorem grad_part (i : S256x292.Idx) (y : S2048x292.Idx) (h0 : (y 0).val = t.val * 256 + (i 0).val) (h1 : (y 1).val = (i 1).val) :
    (total m c t i : EReal) = grad (aA m c) y := by
  obtain ⟨h, e⟩ := place t i y h0 h1
  rw [← e]
  exact (congrArg (total m c t) h).trans (grad_read m c t _ _)

theorem final_grad : (dats m 0 c).arrAt 4 cfg0.N = grad (aA m c) := by
  refine (dats m 0 c).arrAt_eq_of_covers 4 _ (by decide +kernel) fun t hf y => ?_
  blk_simp
  rw [after0_4]
  unfold out0_4
  frame_out
  refine grad_part m c t y _ ?_ ?_
  · blk_simp [idx t]
  · blk_simp [idx t]

theorem change_part (i : S256x292.Idx) (y : S2048x292.Idx) (h0 : (y 0).val = t.val * 256 + (i 0).val) (h1 : (y 1).val = (i 1).val) :
    (k0_pay3 (F := Ideal) (total m c t) (iblk m c 1 t) (iblk m c 2 t) (iblk m c 3 t) i : EReal) = change (aA m c) (wA m c) (uA m c) (vA m c) y := by
  obtain ⟨h, e⟩ := place t i y h0 h1
  rw [← e]
  refine (congrArg (k0_pay3 (F := Ideal) (total m c t) (iblk m c 1 t) (iblk m c 2 t) (iblk m c 3 t)) h).trans ((delta_at _ _ _ _ _ _).trans ?_)
  exact congr (congr (congrArg₂ delta (weight_read m c t _ _) (grad_read m c t _ _)) (mean_read m c t _ _)) (square_read m c t _ _)

theorem final_change : (dats m 0 c).arrAt 5 cfg0.N = change (aA m c) (wA m c) (uA m c) (vA m c) := by
  refine (dats m 0 c).arrAt_eq_of_covers 5 _ (by decide +kernel) fun t hf y => ?_
  blk_simp
  rw [after0_5]
  unfold out0_5
  frame_out
  refine change_part m c t y _ ?_ ?_
  · blk_simp [idx t]
  · blk_simp [idx t]

theorem mean_part (i : S256x292.Idx) (y : S2048x292.Idx) (h0 : (y 0).val = t.val * 256 + (i 0).val) (h1 : (y 1).val = (i 1).val) :
    (k0_pay1 (F := Ideal) (total m c t) (iblk m c 2 t) i : EReal) = newMean (aA m c) (uA m c) y := by
  obtain ⟨h, e⟩ := place t i y h0 h1
  rw [← e]
  refine (congrArg (k0_pay1 (F := Ideal) (total m c t) (iblk m c 2 t)) h).trans ((mean_at _ _ _ _).trans ?_)
  exact congrArg₂ mean (grad_read m c t _ _) (mean_read m c t _ _)

theorem final_mean : (dats m 0 c).arrAt 6 cfg0.N = newMean (aA m c) (uA m c) := by
  refine (dats m 0 c).arrAt_eq_of_covers 6 _ (by decide +kernel) fun t hf y => ?_
  blk_simp
  rw [after0_6]
  unfold out0_6
  frame_out
  refine mean_part m c t y _ ?_ ?_
  · blk_simp [idx t]
  · blk_simp [idx t]

theorem square_part (i : S256x292.Idx) (y : S2048x292.Idx) (h0 : (y 0).val = t.val * 256 + (i 0).val) (h1 : (y 1).val = (i 1).val) :
    (k0_pay2 (F := Ideal) (total m c t) (iblk m c 3 t) i : EReal) = newSquare (aA m c) (vA m c) y := by
  obtain ⟨h, e⟩ := place t i y h0 h1
  rw [← e]
  refine (congrArg (k0_pay2 (F := Ideal) (total m c t) (iblk m c 3 t)) h).trans ((square_at _ _ _ _).trans ?_)
  exact congrArg₂ square (grad_read m c t _ _) (square_read m c t _ _)

theorem final_square : (dats m 0 c).arrAt 7 cfg0.N = newSquare (aA m c) (vA m c) := by
  refine (dats m 0 c).arrAt_eq_of_covers 7 _ (by decide +kernel) fun t hf y => ?_
  blk_simp
  rw [after0_7]
  unfold out0_7
  frame_out
  refine square_part m c t y _ ?_ ?_
  · blk_simp [idx t]
  · blk_simp [idx t]

/- The reference's arrays. -/

theorem reference_grad (a : FVec Ideal S8x2x1024x292 .bf16) :
    shapeCast Cert.AdamOddInReferenceIdeal.S2048x292 (Host.reduceAdd (extf .f32 a Cert.AdamOddInReferenceIdeal.Gen.bitsLt_bf16_f32) (constant Cert.AdamOddInReferenceIdeal.S_ .f32 0x00000000#32) Cert.AdamOddInReferenceIdeal.Gen.reducesTo_S8x2x1024x292_S2x1024x292_d0 Cert.AdamOddInReferenceIdeal.Gen.h_S_) Cert.AdamOddInReferenceIdeal.Gen.shapeCasts_S2x1024x292_S2048x292 = grad a := by
  funext y
  have h : y = ix2 (y 0) (y 1) := by idx_ext
  rw [h]
  pointwise [grad, slot]

theorem reference_change (a : FVec Ideal S8x2x1024x292 .bf16) (w u v : FVec Ideal S2x1024x292 .f32) :
    shapeCast Cert.AdamOddInReferenceIdeal.S2048x292 (mulf (broadcastInDim Cert.AdamOddInReferenceIdeal.S2x1024x292 ![] Cert.AdamOddInReferenceIdeal.Gen.bcast_S_S2x1024x292 (constant Cert.AdamOddInReferenceIdeal.S_ .f32 0xBA83126F#32)) (addf (Host.divf (Host.divf (addf (mulf (broadcastInDim Cert.AdamOddInReferenceIdeal.S2x1024x292 ![] Cert.AdamOddInReferenceIdeal.Gen.bcast_S_S2x1024x292 (constant Cert.AdamOddInReferenceIdeal.S_ .f32 0x3F666666#32)) u) (mulf (broadcastInDim Cert.AdamOddInReferenceIdeal.S2x1024x292 ![] Cert.AdamOddInReferenceIdeal.Gen.bcast_S_S2x1024x292 (constant Cert.AdamOddInReferenceIdeal.S_ .f32 0x3DCCCCCD#32)) (Host.reduceAdd (extf .f32 a Cert.AdamOddInReferenceIdeal.Gen.bitsLt_bf16_f32) (constant Cert.AdamOddInReferenceIdeal.S_ .f32 0x00000000#32) Cert.AdamOddInReferenceIdeal.Gen.reducesTo_S8x2x1024x292_S2x1024x292_d0 Cert.AdamOddInReferenceIdeal.Gen.h_S_))) (broadcastInDim Cert.AdamOddInReferenceIdeal.S2x1024x292 ![] Cert.AdamOddInReferenceIdeal.Gen.bcast_S_S2x1024x292 (constant Cert.AdamOddInReferenceIdeal.S_ .f32 0x3F26BD02#32))) (addf (Host.sqrt (Host.divf (addf (mulf (broadcastInDim Cert.AdamOddInReferenceIdeal.S2x1024x292 ![] Cert.AdamOddInReferenceIdeal.Gen.bcast_S_S2x1024x292 (constant Cert.AdamOddInReferenceIdeal.S_ .f32 0x3F7FBE77#32)) v) (mulf (broadcastInDim Cert.AdamOddInReferenceIdeal.S2x1024x292 ![] Cert.AdamOddInReferenceIdeal.Gen.bcast_S_S2x1024x292 (constant Cert.AdamOddInReferenceIdeal.S_ .f32 0x3A83126F#32)) (mulf (Host.reduceAdd (extf .f32 a Cert.AdamOddInReferenceIdeal.Gen.bitsLt_bf16_f32) (constant Cert.AdamOddInReferenceIdeal.S_ .f32 0x00000000#32) Cert.AdamOddInReferenceIdeal.Gen.reducesTo_S8x2x1024x292_S2x1024x292_d0 Cert.AdamOddInReferenceIdeal.Gen.h_S_) (Host.reduceAdd (extf .f32 a Cert.AdamOddInReferenceIdeal.Gen.bitsLt_bf16_f32) (constant Cert.AdamOddInReferenceIdeal.S_ .f32 0x00000000#32) Cert.AdamOddInReferenceIdeal.Gen.reducesTo_S8x2x1024x292_S2x1024x292_d0 Cert.AdamOddInReferenceIdeal.Gen.h_S_)))) (broadcastInDim Cert.AdamOddInReferenceIdeal.S2x1024x292 ![] Cert.AdamOddInReferenceIdeal.Gen.bcast_S_S2x1024x292 (constant Cert.AdamOddInReferenceIdeal.S_ .f32 0x3C231ACC#32)))) (broadcastInDim Cert.AdamOddInReferenceIdeal.S2x1024x292 ![] Cert.AdamOddInReferenceIdeal.Gen.bcast_S_S2x1024x292 (constant Cert.AdamOddInReferenceIdeal.S_ .f32 0x322BCC77#32)))) (mulf (broadcastInDim Cert.AdamOddInReferenceIdeal.S2x1024x292 ![] Cert.AdamOddInReferenceIdeal.Gen.bcast_S_S2x1024x292 (constant Cert.AdamOddInReferenceIdeal.S_ .f32 0x3C23D70A#32)) w))) Cert.AdamOddInReferenceIdeal.Gen.shapeCasts_S2x1024x292_S2048x292 = change a w u v := by
  funext y
  have h : y = ix2 (y 0) (y 1) := by idx_ext
  rw [h]
  pointwise [change, delta, mean, square, lit, row, grad, slot]

theorem reference_mean (a : FVec Ideal S8x2x1024x292 .bf16) (u : FVec Ideal S2x1024x292 .f32) :
    shapeCast Cert.AdamOddInReferenceIdeal.S2048x292 (addf (mulf (broadcastInDim Cert.AdamOddInReferenceIdeal.S2x1024x292 ![] Cert.AdamOddInReferenceIdeal.Gen.bcast_S_S2x1024x292 (constant Cert.AdamOddInReferenceIdeal.S_ .f32 0x3F666666#32)) u) (mulf (broadcastInDim Cert.AdamOddInReferenceIdeal.S2x1024x292 ![] Cert.AdamOddInReferenceIdeal.Gen.bcast_S_S2x1024x292 (constant Cert.AdamOddInReferenceIdeal.S_ .f32 0x3DCCCCCD#32)) (Host.reduceAdd (extf .f32 a Cert.AdamOddInReferenceIdeal.Gen.bitsLt_bf16_f32) (constant Cert.AdamOddInReferenceIdeal.S_ .f32 0x00000000#32) Cert.AdamOddInReferenceIdeal.Gen.reducesTo_S8x2x1024x292_S2x1024x292_d0 Cert.AdamOddInReferenceIdeal.Gen.h_S_))) Cert.AdamOddInReferenceIdeal.Gen.shapeCasts_S2x1024x292_S2048x292 = newMean a u := by
  funext y
  have h : y = ix2 (y 0) (y 1) := by idx_ext
  rw [h]
  pointwise [newMean, mean, lit, row, grad, slot]

theorem reference_square (a : FVec Ideal S8x2x1024x292 .bf16) (v : FVec Ideal S2x1024x292 .f32) :
    shapeCast Cert.AdamOddInReferenceIdeal.S2048x292 (addf (mulf (broadcastInDim Cert.AdamOddInReferenceIdeal.S2x1024x292 ![] Cert.AdamOddInReferenceIdeal.Gen.bcast_S_S2x1024x292 (constant Cert.AdamOddInReferenceIdeal.S_ .f32 0x3F7FBE77#32)) v) (mulf (broadcastInDim Cert.AdamOddInReferenceIdeal.S2x1024x292 ![] Cert.AdamOddInReferenceIdeal.Gen.bcast_S_S2x1024x292 (constant Cert.AdamOddInReferenceIdeal.S_ .f32 0x3A83126F#32)) (mulf (Host.reduceAdd (extf .f32 a Cert.AdamOddInReferenceIdeal.Gen.bitsLt_bf16_f32) (constant Cert.AdamOddInReferenceIdeal.S_ .f32 0x00000000#32) Cert.AdamOddInReferenceIdeal.Gen.reducesTo_S8x2x1024x292_S2x1024x292_d0 Cert.AdamOddInReferenceIdeal.Gen.h_S_) (Host.reduceAdd (extf .f32 a Cert.AdamOddInReferenceIdeal.Gen.bitsLt_bf16_f32) (constant Cert.AdamOddInReferenceIdeal.S_ .f32 0x00000000#32) Cert.AdamOddInReferenceIdeal.Gen.reducesTo_S8x2x1024x292_S2x1024x292_d0 Cert.AdamOddInReferenceIdeal.Gen.h_S_)))) Cert.AdamOddInReferenceIdeal.Gen.shapeCasts_S2x1024x292_S2048x292 = newSquare a v := by
  funext y
  have h : y = ix2 (y 0) (y 1) := by idx_ext
  rw [h]
  pointwise [newSquare, square, lit, row, grad, slot]

end Cert.AdamOddInEq

end
-- ==== Proof.AdamQ.lean ====
/- The optimiser's step on the odd layers' projections to queries. -/
module

public import proofs.«01_k».proof.Proof.AdamStep
public import proofs.«01_k».proof.Proof.Gen.AdamQIdeal.Value
public import proofs.«01_k».proof.Proof.Gen.AdamQReferenceIdeal.Run
public import Idealize.ShloMosaic.Lib.Pipeline.ValueKit
public import Idealize.ShloMosaic.Lib.Pointwise

@[expose] public section

set_option maxRecDepth 16384

noncomputable section

namespace Cert.AdamQEq

open Cert.AdamQIdeal Cert.AdamQIdeal.Gen Idealize.ShloMosaic Idealize.ShloMosaic.TcCoe Idealize.SL.Sem
open Cert.AdamStep (lit mean square delta)

/-- A weight's part read by rows. -/
def row (b : FVec Ideal S2x512x96 .f32) (y : S1024x96.Idx) : EReal :=
  b (ix3 ⟨(y 0).val / 512, by have : (y 0).val < 1024 := (y 0).isLt; omega⟩ ⟨(y 0).val % 512, by omega⟩ (y 1))

/-- One device's gradient read by rows. -/
def slot (a : FVec Ideal S8x2x512x96 .bf16) (d : Fin 8) (y : S1024x96.Idx) : EReal :=
  a (ix4 d ⟨(y 0).val / 512, by have : (y 0).val < 1024 := (y 0).isLt; omega⟩ ⟨(y 0).val % 512, by omega⟩ (y 1))

/-- The sum of the devices' gradients. -/
def grad (a : FVec Ideal S8x2x512x96 .bf16) (y : S1024x96.Idx) : EReal := ∑ d, slot a d y

/-- The new moments and the change of the weight. -/
def newMean (a : FVec Ideal S8x2x512x96 .bf16) (u : FVec Ideal S2x512x96 .f32) (y : S1024x96.Idx) : EReal := mean (grad a y) (row u y)
def newSquare (a : FVec Ideal S8x2x512x96 .bf16) (v : FVec Ideal S2x512x96 .f32) (y : S1024x96.Idx) : EReal := square (grad a y) (row v y)
def change (a : FVec Ideal S8x2x512x96 .bf16) (w u v : FVec Ideal S2x512x96 .f32) (y : S1024x96.Idx) : EReal :=
  delta (row w y) (grad a y) (row u y) (row v y)

variable (m : (ℓ : Loc nD τ sig) → Buf (Elt Ideal) ℓ) (c : Dev nD)

/-- The kernel's arguments. -/
abbrev aA : FVec Ideal S8x2x512x96 .bf16 := m ((c : Thread nD τ).loc main_arg0)
abbrev wA : FVec Ideal S2x512x96 .f32 := m ((c : Thread nD τ).loc main_arg1)
abbrev uA : FVec Ideal S2x512x96 .f32 := m ((c : Thread nD τ).loc main_arg2)
abbrev vA : FVec Ideal S2x512x96 .f32 := m ((c : Thread nD τ).loc main_arg3)

theorem points (t : Fin cfg0.N) : t.val < 4 := lt_of_lt_of_eq t.isLt N_0

theorem idx : ∀ t : Fin cfg0.N, win0_0.index t = ![0, t.val, 0]
    ∧ win0_1.index t = ![t.val, 0]
    ∧ win0_2.index t = ![t.val, 0]
    ∧ win0_3.index t = ![t.val, 0]
    ∧ win0_4.index t = ![t.val, 0]
    ∧ win0_5.index t = ![t.val, 0]
    ∧ win0_6.index t = ![t.val, 0]
    ∧ win0_7.index t = ![t.val, 0] :=
  (by decide +kernel : ∀ t : Fin grid0.N, _)

/-- A row of the blocks of grid point `t`. -/
def ti (t : Fin cfg0.N) (x : Fin 256) : Fin 1024 := ⟨t.val * 256 + x.val, by have := points t; omega⟩

variable (t : Fin cfg0.N) (x : Fin 256) (y : Fin 96)

theorem weight_read : (iblk m c 1 t (ix2 x y) : EReal) = row (wA m c) (ix2 (ti t x) y) := by
  unfold row ti
  blk_point [iblk, V, idx t]

theorem mean_read : (iblk m c 2 t (ix2 x y) : EReal) = row (uA m c) (ix2 (ti t x) y) := by
  unfold row ti
  blk_point [iblk, V, idx t]

theorem square_read : (iblk m c 3 t (ix2 x y) : EReal) = row (vA m c) (ix2 (ti t x) y) := by
  unfold row ti
  blk_point [iblk, V, idx t]

/-- The reshape of the devices' gradients to rows. -/
theorem V_a : V m c main_v3 = shapeCast S8x1024x96 (aA m c) shapeCasts_S8x2x512x96_S8x1024x96 := by
  simp only [V, hostOps0, List.flatten_cons, List.flatten_nil, List.append_nil, List.cons_append, List.nil_append]
  after_results <;> rfl

theorem flat_at (a : FVec Ideal S8x2x512x96 .bf16) (d : Fin 8) (r : Fin 1024) :
    (shapeCast S8x1024x96 a shapeCasts_S8x2x512x96_S8x1024x96 (ix3 d r y) : EReal) = slot a d (ix2 r y) := by
  unfold slot
  pointwise

theorem emb_at (d : Fin 8) : (win0_0.blk t).view.emb (ix3 d x y) = ix3 d (ti t x) y := by
  unfold ti
  funext k
  fin_cases k <;> apply Fin.ext <;> blk_simp [idx t] <;> rfl

theorem block_read (d : Fin 8) : (iblk m c 0 t (ix3 d x y) : EReal) = slot (aA m c) d (ix2 (ti t x) y) := by
  show (V m c main_v3 ((win0_0.blk t).view.emb (ix3 d x y)) : EReal) = _
  rw [emb_at, V_a]
  exact flat_at y _ _ _

theorem slot_read : (View.ld (iblk m c 0 t) r0_0 (ix3 0 x y) : EReal) = slot (aA m c) 0 (ix2 (ti t x) y)
    ∧ (View.ld (iblk m c 0 t) r0_1 (ix3 0 x y) : EReal) = slot (aA m c) 1 (ix2 (ti t x) y)
    ∧ (View.ld (iblk m c 0 t) r0_2 (ix3 0 x y) : EReal) = slot (aA m c) 2 (ix2 (ti t x) y)
    ∧ (View.ld (iblk m c 0 t) r0_3 (ix3 0 x y) : EReal) = slot (aA m c) 3 (ix2 (ti t x) y)
    ∧ (View.ld (iblk m c 0 t) r0_4 (ix3 0 x y) : EReal) = slot (aA m c) 4 (ix2 (ti t x) y)
    ∧ (View.ld (iblk m c 0 t) r0_5 (ix3 0 x y) : EReal) = slot (aA m c) 5 (ix2 (ti t x) y)
    ∧ (View.ld (iblk m c 0 t) r0_6 (ix3 0 x y) : EReal) = slot (aA m c) 6 (ix2 (ti t x) y)
    ∧ (View.ld (iblk m c 0 t) r0_7 (ix3 0 x y) : EReal) = slot (aA m c) 7 (ix2 (ti t x) y) := by
  refine ⟨?_, ?_, ?_, ?_, ?_, ?_, ?_, ?_⟩
  · exact (congrArg (iblk m c 0 t) (by idx_ext : r0_0.idx (ix3 0 x y) = ix3 0 x y)).trans (block_read m c t x y 0)
  · exact (congrArg (iblk m c 0 t) (by idx_ext : r0_1.idx (ix3 0 x y) = ix3 1 x y)).trans (block_read m c t x y 1)
  · exact (congrArg (iblk m c 0 t) (by idx_ext : r0_2.idx (ix3 0 x y) = ix3 2 x y)).trans (block_read m c t x y 2)
  · exact (congrArg (iblk m c 0 t) (by idx_ext : r0_3.idx (ix3 0 x y) = ix3 3 x y)).trans (block_read m c t x y 3)
  · exact (congrArg (iblk m c 0 t) (by idx_ext : r0_4.idx (ix3 0 x y) = ix3 4 x y)).trans (block_read m c t x y 4)
  · exact (congrArg (iblk m c 0 t) (by idx_ext : r0_5.idx (ix3 0 x y) = ix3 5 x y)).trans (block_read m c t x y 5)
  · exact (congrArg (iblk m c 0 t) (by idx_ext : r0_6.idx (ix3 0 x y) = ix3 6 x y)).trans (block_read m c t x y 6)
  · exact (congrArg (iblk m c 0 t) (by idx_ext : r0_7.idx (ix3 0 x y) = ix3 7 x y)).trans (block_read m c t x y 7)

theorem sum_at (l0 l1 l2 l3 l4 l5 l6 l7 : FVec Ideal S1x256x96 .bf16) :
    (k0_pay4 (F := Ideal) l0 l1 l2 l3 l4 l5 l6 l7 (ix2 x y) : EReal) = (l0 (ix3 0 x y) : EReal) + l1 (ix3 0 x y)
      + l2 (ix3 0 x y) + l3 (ix3 0 x y) + l4 (ix3 0 x y) + l5 (ix3 0 x y) + l6 (ix3 0 x y) + l7 (ix3 0 x y) := by
  pointwise [k0_pay4]

/-- The gradient's block. -/
abbrev total (t : Fin cfg0.N) : FVec Ideal S256x96 .f32 :=
  k0_pay4 (F := Ideal) (View.ld (iblk m c 0 t) r0_0) (View.ld (iblk m c 0 t) r0_1) (View.ld (iblk m c 0 t) r0_2)
    (View.ld (iblk m c 0 t) r0_3) (View.ld (iblk m c 0 t) r0_4) (View.ld (iblk m c 0 t) r0_5) (View.ld (iblk m c 0 t) r0_6)
    (View.ld (iblk m c 0 t) r0_7)

theorem grad_read : (total m c t (ix2 x y) : EReal) = grad (aA m c) (ix2 (ti t x) y) := by
  obtain ⟨h0, h1, h2, h3, h4, h5, h6, h7⟩ := slot_read m c t x y
  refine (sum_at x y _ _ _ _ _ _ _ _).trans ?_
  rw [h0, h1, h2, h3, h4, h5, h6, h7, grad, Fin.sum_univ_eight]

variable (g w u v : FVec Ideal S256x96 .f32)

theorem mean_at : (k0_pay1 (F := Ideal) g u (ix2 x y) : EReal) = mean (g (ix2 x y)) (u (ix2 x y)) := by
  pointwise [k0_pay1, mean, lit]

theorem square_at : (k0_pay2 (F := Ideal) g v (ix2 x y) : EReal) = square (g (ix2 x y)) (v (ix2 x y)) := by
  pointwise [k0_pay2, square, lit]

theorem delta_at : (k0_pay3 (F := Ideal) g w u v (ix2 x y) : EReal)
    = delta (w (ix2 x y)) (g (ix2 x y)) (u (ix2 x y)) (v (ix2 x y)) := by
  pointwise [k0_pay3, k0_pay2, k0_pay1, delta, mean, square, lit]

/-- The element of the array at an index of the blocks of grid point `t`. -/
theorem place (i : S256x96.Idx) (y : S1024x96.Idx) (h0 : (y 0).val = t.val * 256 + (i 0).val) (h1 : (y 1).val = (i 1).val) :
    i = ix2 (i 0) (i 1) ∧ ix2 (ti t (i 0)) (i 1) = y := by
  refine ⟨by idx_ext, ?_⟩
  funext d
  refine Fin.cases (Fin.ext h0.symm) (fun d => ?_) d
  exact Fin.cases (Fin.ext h1.symm) (fun d => d.elim0) d

/- The kernel's arrays after the run. -/

theorem grad_part (i : S256x96.Idx) (y : S1024x96.Idx) (h0 : (y 0).val = t.val * 256 + (i 0).val) (h1 : (y 1).val = (i 1).val) :
    (total m c t i : EReal) = grad (aA m c) y := by
  obtain ⟨h, e⟩ := place t i y h0 h1
  rw [← e]
  exact (congrArg (total m c t) h).trans (grad_read m c t _ _)

theorem final_grad : (dats m 0 c).arrAt 4 cfg0.N = grad (aA m c) := by
  refine (dats m 0 c).arrAt_eq_of_covers 4 _ (by decide +kernel) fun t hf y => ?_
  blk_simp
  rw [after0_4]
  unfold out0_4
  frame_out
  refine grad_part m c t y _ ?_ ?_
  · blk_simp [idx t]
  · blk_simp [idx t]

theorem change_part (i : S256x96.Idx) (y : S1024x96.Idx) (h0 : (y 0).val = t.val * 256 + (i 0).val) (h1 : (y 1).val = (i 1).val) :
    (k0_pay3 (F := Ideal) (total m c t) (iblk m c 1 t) (iblk m c 2 t) (iblk m c 3 t) i : EReal) = change (aA m c) (wA m c) (uA m c) (vA m c) y := by
  obtain ⟨h, e⟩ := place t i y h0 h1
  rw [← e]
  refine (congrArg (k0_pay3 (F := Ideal) (total m c t) (iblk m c 1 t) (iblk m c 2 t) (iblk m c 3 t)) h).trans ((delta_at _ _ _ _ _ _).trans ?_)
  exact congr (congr (congrArg₂ delta (weight_read m c t _ _) (grad_read m c t _ _)) (mean_read m c t _ _)) (square_read m c t _ _)

theorem final_change : (dats m 0 c).arrAt 5 cfg0.N = change (aA m c) (wA m c) (uA m c) (vA m c) := by
  refine (dats m 0 c).arrAt_eq_of_covers 5 _ (by decide +kernel) fun t hf y => ?_
  blk_simp
  rw [after0_5]
  unfold out0_5
  frame_out
  refine change_part m c t y _ ?_ ?_
  · blk_simp [idx t]
  · blk_simp [idx t]

theorem mean_part (i : S256x96.Idx) (y : S1024x96.Idx) (h0 : (y 0).val = t.val * 256 + (i 0).val) (h1 : (y 1).val = (i 1).val) :
    (k0_pay1 (F := Ideal) (total m c t) (iblk m c 2 t) i : EReal) = newMean (aA m c) (uA m c) y := by
  obtain ⟨h, e⟩ := place t i y h0 h1
  rw [← e]
  refine (congrArg (k0_pay1 (F := Ideal) (total m c t) (iblk m c 2 t)) h).trans ((mean_at _ _ _ _).trans ?_)
  exact congrArg₂ mean (grad_read m c t _ _) (mean_read m c t _ _)

theorem final_mean : (dats m 0 c).arrAt 6 cfg0.N = newMean (aA m c) (uA m c) := by
  refine (dats m 0 c).arrAt_eq_of_covers 6 _ (by decide +kernel) fun t hf y => ?_
  blk_simp
  rw [after0_6]
  unfold out0_6
  frame_out
  refine mean_part m c t y _ ?_ ?_
  · blk_simp [idx t]
  · blk_simp [idx t]

theorem square_part (i : S256x96.Idx) (y : S1024x96.Idx) (h0 : (y 0).val = t.val * 256 + (i 0).val) (h1 : (y 1).val = (i 1).val) :
    (k0_pay2 (F := Ideal) (total m c t) (iblk m c 3 t) i : EReal) = newSquare (aA m c) (vA m c) y := by
  obtain ⟨h, e⟩ := place t i y h0 h1
  rw [← e]
  refine (congrArg (k0_pay2 (F := Ideal) (total m c t) (iblk m c 3 t)) h).trans ((square_at _ _ _ _).trans ?_)
  exact congrArg₂ square (grad_read m c t _ _) (square_read m c t _ _)

theorem final_square : (dats m 0 c).arrAt 7 cfg0.N = newSquare (aA m c) (vA m c) := by
  refine (dats m 0 c).arrAt_eq_of_covers 7 _ (by decide +kernel) fun t hf y => ?_
  blk_simp
  rw [after0_7]
  unfold out0_7
  frame_out
  refine square_part m c t y _ ?_ ?_
  · blk_simp [idx t]
  · blk_simp [idx t]

/- The reference's arrays. -/

theorem reference_grad (a : FVec Ideal S8x2x512x96 .bf16) :
    shapeCast Cert.AdamQReferenceIdeal.S1024x96 (Host.reduceAdd (extf .f32 a Cert.AdamQReferenceIdeal.Gen.bitsLt_bf16_f32) (constant Cert.AdamQReferenceIdeal.S_ .f32 0x00000000#32) Cert.AdamQReferenceIdeal.Gen.reducesTo_S8x2x512x96_S2x512x96_d0 Cert.AdamQReferenceIdeal.Gen.h_S_) Cert.AdamQReferenceIdeal.Gen.shapeCasts_S2x512x96_S1024x96 = grad a := by
  funext y
  have h : y = ix2 (y 0) (y 1) := by idx_ext
  rw [h]
  pointwise [grad, slot]

theorem reference_change (a : FVec Ideal S8x2x512x96 .bf16) (w u v : FVec Ideal S2x512x96 .f32) :
    shapeCast Cert.AdamQReferenceIdeal.S1024x96 (mulf (broadcastInDim Cert.AdamQReferenceIdeal.S2x512x96 ![] Cert.AdamQReferenceIdeal.Gen.bcast_S_S2x512x96 (constant Cert.AdamQReferenceIdeal.S_ .f32 0xBA83126F#32)) (addf (Host.divf (Host.divf (addf (mulf (broadcastInDim Cert.AdamQReferenceIdeal.S2x512x96 ![] Cert.AdamQReferenceIdeal.Gen.bcast_S_S2x512x96 (constant Cert.AdamQReferenceIdeal.S_ .f32 0x3F666666#32)) u) (mulf (broadcastInDim Cert.AdamQReferenceIdeal.S2x512x96 ![] Cert.AdamQReferenceIdeal.Gen.bcast_S_S2x512x96 (constant Cert.AdamQReferenceIdeal.S_ .f32 0x3DCCCCCD#32)) (Host.reduceAdd (extf .f32 a Cert.AdamQReferenceIdeal.Gen.bitsLt_bf16_f32) (constant Cert.AdamQReferenceIdeal.S_ .f32 0x00000000#32) Cert.AdamQReferenceIdeal.Gen.reducesTo_S8x2x512x96_S2x512x96_d0 Cert.AdamQReferenceIdeal.Gen.h_S_))) (broadcastInDim Cert.AdamQReferenceIdeal.S2x512x96 ![] Cert.AdamQReferenceIdeal.Gen.bcast_S_S2x512x96 (constant Cert.AdamQReferenceIdeal.S_ .f32 0x3F26BD02#32))) (addf (Host.sqrt (Host.divf (addf (mulf (broadcastInDim Cert.AdamQReferenceIdeal.S2x512x96 ![] Cert.AdamQReferenceIdeal.Gen.bcast_S_S2x512x96 (constant Cert.AdamQReferenceIdeal.S_ .f32 0x3F7FBE77#32)) v) (mulf (broadcastInDim Cert.AdamQReferenceIdeal.S2x512x96 ![] Cert.AdamQReferenceIdeal.Gen.bcast_S_S2x512x96 (constant Cert.AdamQReferenceIdeal.S_ .f32 0x3A83126F#32)) (mulf (Host.reduceAdd (extf .f32 a Cert.AdamQReferenceIdeal.Gen.bitsLt_bf16_f32) (constant Cert.AdamQReferenceIdeal.S_ .f32 0x00000000#32) Cert.AdamQReferenceIdeal.Gen.reducesTo_S8x2x512x96_S2x512x96_d0 Cert.AdamQReferenceIdeal.Gen.h_S_) (Host.reduceAdd (extf .f32 a Cert.AdamQReferenceIdeal.Gen.bitsLt_bf16_f32) (constant Cert.AdamQReferenceIdeal.S_ .f32 0x00000000#32) Cert.AdamQReferenceIdeal.Gen.reducesTo_S8x2x512x96_S2x512x96_d0 Cert.AdamQReferenceIdeal.Gen.h_S_)))) (broadcastInDim Cert.AdamQReferenceIdeal.S2x512x96 ![] Cert.AdamQReferenceIdeal.Gen.bcast_S_S2x512x96 (constant Cert.AdamQReferenceIdeal.S_ .f32 0x3C231ACC#32)))) (broadcastInDim Cert.AdamQReferenceIdeal.S2x512x96 ![] Cert.AdamQReferenceIdeal.Gen.bcast_S_S2x512x96 (constant Cert.AdamQReferenceIdeal.S_ .f32 0x322BCC77#32)))) (mulf (broadcastInDim Cert.AdamQReferenceIdeal.S2x512x96 ![] Cert.AdamQReferenceIdeal.Gen.bcast_S_S2x512x96 (constant Cert.AdamQReferenceIdeal.S_ .f32 0x3C23D70A#32)) w))) Cert.AdamQReferenceIdeal.Gen.shapeCasts_S2x512x96_S1024x96 = change a w u v := by
  funext y
  have h : y = ix2 (y 0) (y 1) := by idx_ext
  rw [h]
  pointwise [change, delta, mean, square, lit, row, grad, slot]

theorem reference_mean (a : FVec Ideal S8x2x512x96 .bf16) (u : FVec Ideal S2x512x96 .f32) :
    shapeCast Cert.AdamQReferenceIdeal.S1024x96 (addf (mulf (broadcastInDim Cert.AdamQReferenceIdeal.S2x512x96 ![] Cert.AdamQReferenceIdeal.Gen.bcast_S_S2x512x96 (constant Cert.AdamQReferenceIdeal.S_ .f32 0x3F666666#32)) u) (mulf (broadcastInDim Cert.AdamQReferenceIdeal.S2x512x96 ![] Cert.AdamQReferenceIdeal.Gen.bcast_S_S2x512x96 (constant Cert.AdamQReferenceIdeal.S_ .f32 0x3DCCCCCD#32)) (Host.reduceAdd (extf .f32 a Cert.AdamQReferenceIdeal.Gen.bitsLt_bf16_f32) (constant Cert.AdamQReferenceIdeal.S_ .f32 0x00000000#32) Cert.AdamQReferenceIdeal.Gen.reducesTo_S8x2x512x96_S2x512x96_d0 Cert.AdamQReferenceIdeal.Gen.h_S_))) Cert.AdamQReferenceIdeal.Gen.shapeCasts_S2x512x96_S1024x96 = newMean a u := by
  funext y
  have h : y = ix2 (y 0) (y 1) := by idx_ext
  rw [h]
  pointwise [newMean, mean, lit, row, grad, slot]

theorem reference_square (a : FVec Ideal S8x2x512x96 .bf16) (v : FVec Ideal S2x512x96 .f32) :
    shapeCast Cert.AdamQReferenceIdeal.S1024x96 (addf (mulf (broadcastInDim Cert.AdamQReferenceIdeal.S2x512x96 ![] Cert.AdamQReferenceIdeal.Gen.bcast_S_S2x512x96 (constant Cert.AdamQReferenceIdeal.S_ .f32 0x3F7FBE77#32)) v) (mulf (broadcastInDim Cert.AdamQReferenceIdeal.S2x512x96 ![] Cert.AdamQReferenceIdeal.Gen.bcast_S_S2x512x96 (constant Cert.AdamQReferenceIdeal.S_ .f32 0x3A83126F#32)) (mulf (Host.reduceAdd (extf .f32 a Cert.AdamQReferenceIdeal.Gen.bitsLt_bf16_f32) (constant Cert.AdamQReferenceIdeal.S_ .f32 0x00000000#32) Cert.AdamQReferenceIdeal.Gen.reducesTo_S8x2x512x96_S2x512x96_d0 Cert.AdamQReferenceIdeal.Gen.h_S_) (Host.reduceAdd (extf .f32 a Cert.AdamQReferenceIdeal.Gen.bitsLt_bf16_f32) (constant Cert.AdamQReferenceIdeal.S_ .f32 0x00000000#32) Cert.AdamQReferenceIdeal.Gen.reducesTo_S8x2x512x96_S2x512x96_d0 Cert.AdamQReferenceIdeal.Gen.h_S_)))) Cert.AdamQReferenceIdeal.Gen.shapeCasts_S2x512x96_S1024x96 = newSquare a v := by
  funext y
  have h : y = ix2 (y 0) (y 1) := by idx_ext
  rw [h]
  pointwise [newSquare, square, lit, row, grad, slot]

end Cert.AdamQEq

end
-- ==== Proof.AdamKv.lean ====
/- The optimiser's step on the odd layers' projections to keys and values. -/
module

public import proofs.«01_k».proof.Proof.AdamStep
public import proofs.«01_k».proof.Proof.Gen.AdamKvIdeal.Value
public import proofs.«01_k».proof.Proof.Gen.AdamKvReferenceIdeal.Run
public import Idealize.ShloMosaic.Lib.Pipeline.ValueKit
public import Idealize.ShloMosaic.Lib.Pointwise

@[expose] public section

set_option maxRecDepth 16384

noncomputable section

namespace Cert.AdamKvEq

open Cert.AdamKvIdeal Cert.AdamKvIdeal.Gen Idealize.ShloMosaic Idealize.ShloMosaic.TcCoe Idealize.SL.Sem
open Cert.AdamStep (lit mean square delta)

/-- A weight's part read by rows. -/
def row (b : FVec Ideal S2x256x128 .f32) (y : S512x128.Idx) : EReal :=
  b (ix3 ⟨(y 0).val / 256, by have : (y 0).val < 512 := (y 0).isLt; omega⟩ ⟨(y 0).val % 256, by omega⟩ (y 1))

/-- One device's gradient read by rows. -/
def slot (a : FVec Ideal S8x2x256x128 .bf16) (d : Fin 8) (y : S512x128.Idx) : EReal :=
  a (ix4 d ⟨(y 0).val / 256, by have : (y 0).val < 512 := (y 0).isLt; omega⟩ ⟨(y 0).val % 256, by omega⟩ (y 1))

/-- The sum of the devices' gradients. -/
def grad (a : FVec Ideal S8x2x256x128 .bf16) (y : S512x128.Idx) : EReal := ∑ d, slot a d y

/-- The new moments and the change of the weight. -/
def newMean (a : FVec Ideal S8x2x256x128 .bf16) (u : FVec Ideal S2x256x128 .f32) (y : S512x128.Idx) : EReal := mean (grad a y) (row u y)
def newSquare (a : FVec Ideal S8x2x256x128 .bf16) (v : FVec Ideal S2x256x128 .f32) (y : S512x128.Idx) : EReal := square (grad a y) (row v y)
def change (a : FVec Ideal S8x2x256x128 .bf16) (w u v : FVec Ideal S2x256x128 .f32) (y : S512x128.Idx) : EReal :=
  delta (row w y) (grad a y) (row u y) (row v y)

variable (m : (ℓ : Loc nD τ sig) → Buf (Elt Ideal) ℓ) (c : Dev nD)

/-- The kernel's arguments. -/
abbrev aA : FVec Ideal S8x2x256x128 .bf16 := m ((c : Thread nD τ).loc main_arg0)
abbrev wA : FVec Ideal S2x256x128 .f32 := m ((c : Thread nD τ).loc main_arg1)
abbrev uA : FVec Ideal S2x256x128 .f32 := m ((c : Thread nD τ).loc main_arg2)
abbrev vA : FVec Ideal S2x256x128 .f32 := m ((c : Thread nD τ).loc main_arg3)

theorem points (t : Fin cfg0.N) : t.val < 2 := lt_of_lt_of_eq t.isLt N_0

theorem idx : ∀ t : Fin cfg0.N, win0_0.index t = ![0, t.val, 0]
    ∧ win0_1.index t = ![t.val, 0]
    ∧ win0_2.index t = ![t.val, 0]
    ∧ win0_3.index t = ![t.val, 0]
    ∧ win0_4.index t = ![t.val, 0]
    ∧ win0_5.index t = ![t.val, 0]
    ∧ win0_6.index t = ![t.val, 0]
    ∧ win0_7.index t = ![t.val, 0] :=
  (by decide +kernel : ∀ t : Fin grid0.N, _)

/-- A row of the blocks of grid point `t`. -/
def ti (t : Fin cfg0.N) (x : Fin 256) : Fin 512 := ⟨t.val * 256 + x.val, by have := points t; omega⟩

variable (t : Fin cfg0.N) (x : Fin 256) (y : Fin 128)

theorem weight_read : (iblk m c 1 t (ix2 x y) : EReal) = row (wA m c) (ix2 (ti t x) y) := by
  unfold row ti
  blk_point [iblk, V, idx t]

theorem mean_read : (iblk m c 2 t (ix2 x y) : EReal) = row (uA m c) (ix2 (ti t x) y) := by
  unfold row ti
  blk_point [iblk, V, idx t]

theorem square_read : (iblk m c 3 t (ix2 x y) : EReal) = row (vA m c) (ix2 (ti t x) y) := by
  unfold row ti
  blk_point [iblk, V, idx t]

/-- The reshape of the devices' gradients to rows. -/
theorem V_a : V m c main_v3 = shapeCast S8x512x128 (aA m c) shapeCasts_S8x2x256x128_S8x512x128 := by
  simp only [V, hostOps0, List.flatten_cons, List.flatten_nil, List.append_nil, List.cons_append, List.nil_append]
  after_results <;> rfl

theorem flat_at (a : FVec Ideal S8x2x256x128 .bf16) (d : Fin 8) (r : Fin 512) :
    (shapeCast S8x512x128 a shapeCasts_S8x2x256x128_S8x512x128 (ix3 d r y) : EReal) = slot a d (ix2 r y) := by
  unfold slot
  pointwise

theorem emb_at (d : Fin 8) : (win0_0.blk t).view.emb (ix3 d x y) = ix3 d (ti t x) y := by
  unfold ti
  funext k
  fin_cases k <;> apply Fin.ext <;> blk_simp [idx t] <;> rfl

theorem block_read (d : Fin 8) : (iblk m c 0 t (ix3 d x y) : EReal) = slot (aA m c) d (ix2 (ti t x) y) := by
  show (V m c main_v3 ((win0_0.blk t).view.emb (ix3 d x y)) : EReal) = _
  rw [emb_at, V_a]
  exact flat_at y _ _ _

theorem slot_read : (View.ld (iblk m c 0 t) r0_0 (ix3 0 x y) : EReal) = slot (aA m c) 0 (ix2 (ti t x) y)
    ∧ (View.ld (iblk m c 0 t) r0_1 (ix3 0 x y) : EReal) = slot (aA m c) 1 (ix2 (ti t x) y)
    ∧ (View.ld (iblk m c 0 t) r0_2 (ix3 0 x y) : EReal) = slot (aA m c) 2 (ix2 (ti t x) y)
    ∧ (View.ld (iblk m c 0 t) r0_3 (ix3 0 x y) : EReal) = slot (aA m c) 3 (ix2 (ti t x) y)
    ∧ (View.ld (iblk m c 0 t) r0_4 (ix3 0 x y) : EReal) = slot (aA m c) 4 (ix2 (ti t x) y)
    ∧ (View.ld (iblk m c 0 t) r0_5 (ix3 0 x y) : EReal) = slot (aA m c) 5 (ix2 (ti t x) y)
    ∧ (View.ld (iblk m c 0 t) r0_6 (ix3 0 x y) : EReal) = slot (aA m c) 6 (ix2 (ti t x) y)
    ∧ (View.ld (iblk m c 0 t) r0_7 (ix3 0 x y) : EReal) = slot (aA m c) 7 (ix2 (ti t x) y) := by
  refine ⟨?_, ?_, ?_, ?_, ?_, ?_, ?_, ?_⟩
  · exact (congrArg (iblk m c 0 t) (by idx_ext : r0_0.idx (ix3 0 x y) = ix3 0 x y)).trans (block_read m c t x y 0)
  · exact (congrArg (iblk m c 0 t) (by idx_ext : r0_1.idx (ix3 0 x y) = ix3 1 x y)).trans (block_read m c t x y 1)
  · exact (congrArg (iblk m c 0 t) (by idx_ext : r0_2.idx (ix3 0 x y) = ix3 2 x y)).trans (block_read m c t x y 2)
  · exact (congrArg (iblk m c 0 t) (by idx_ext : r0_3.idx (ix3 0 x y) = ix3 3 x y)).trans (block_read m c t x y 3)
  · exact (congrArg (iblk m c 0 t) (by idx_ext : r0_4.idx (ix3 0 x y) = ix3 4 x y)).trans (block_read m c t x y 4)
  · exact (congrArg (iblk m c 0 t) (by idx_ext : r0_5.idx (ix3 0 x y) = ix3 5 x y)).trans (block_read m c t x y 5)
  · exact (congrArg (iblk m c 0 t) (by idx_ext : r0_6.idx (ix3 0 x y) = ix3 6 x y)).trans (block_read m c t x y 6)
  · exact (congrArg (iblk m c 0 t) (by idx_ext : r0_7.idx (ix3 0 x y) = ix3 7 x y)).trans (block_read m c t x y 7)

theorem sum_at (l0 l1 l2 l3 l4 l5 l6 l7 : FVec Ideal S1x256x128 .bf16) :
    (k0_pay4 (F := Ideal) l0 l1 l2 l3 l4 l5 l6 l7 (ix2 x y) : EReal) = (l0 (ix3 0 x y) : EReal) + l1 (ix3 0 x y)
      + l2 (ix3 0 x y) + l3 (ix3 0 x y) + l4 (ix3 0 x y) + l5 (ix3 0 x y) + l6 (ix3 0 x y) + l7 (ix3 0 x y) := by
  pointwise [k0_pay4]

/-- The gradient's block. -/
abbrev total (t : Fin cfg0.N) : FVec Ideal S256x128 .f32 :=
  k0_pay4 (F := Ideal) (View.ld (iblk m c 0 t) r0_0) (View.ld (iblk m c 0 t) r0_1) (View.ld (iblk m c 0 t) r0_2)
    (View.ld (iblk m c 0 t) r0_3) (View.ld (iblk m c 0 t) r0_4) (View.ld (iblk m c 0 t) r0_5) (View.ld (iblk m c 0 t) r0_6)
    (View.ld (iblk m c 0 t) r0_7)

theorem grad_read : (total m c t (ix2 x y) : EReal) = grad (aA m c) (ix2 (ti t x) y) := by
  obtain ⟨h0, h1, h2, h3, h4, h5, h6, h7⟩ := slot_read m c t x y
  refine (sum_at x y _ _ _ _ _ _ _ _).trans ?_
  rw [h0, h1, h2, h3, h4, h5, h6, h7, grad, Fin.sum_univ_eight]

variable (g w u v : FVec Ideal S256x128 .f32)

theorem mean_at : (k0_pay1 (F := Ideal) g u (ix2 x y) : EReal) = mean (g (ix2 x y)) (u (ix2 x y)) := by
  pointwise [k0_pay1, mean, lit]

theorem square_at : (k0_pay2 (F := Ideal) g v (ix2 x y) : EReal) = square (g (ix2 x y)) (v (ix2 x y)) := by
  pointwise [k0_pay2, square, lit]

theorem delta_at : (k0_pay3 (F := Ideal) g w u v (ix2 x y) : EReal)
    = delta (w (ix2 x y)) (g (ix2 x y)) (u (ix2 x y)) (v (ix2 x y)) := by
  pointwise [k0_pay3, k0_pay2, k0_pay1, delta, mean, square, lit]

/-- The element of the array at an index of the blocks of grid point `t`. -/
theorem place (i : S256x128.Idx) (y : S512x128.Idx) (h0 : (y 0).val = t.val * 256 + (i 0).val) (h1 : (y 1).val = (i 1).val) :
    i = ix2 (i 0) (i 1) ∧ ix2 (ti t (i 0)) (i 1) = y := by
  refine ⟨by idx_ext, ?_⟩
  funext d
  refine Fin.cases (Fin.ext h0.symm) (fun d => ?_) d
  exact Fin.cases (Fin.ext h1.symm) (fun d => d.elim0) d

/- The kernel's arrays after the run. -/

theorem grad_part (i : S256x128.Idx) (y : S512x128.Idx) (h0 : (y 0).val = t.val * 256 + (i 0).val) (h1 : (y 1).val = (i 1).val) :
    (total m c t i : EReal) = grad (aA m c) y := by
  obtain ⟨h, e⟩ := place t i y h0 h1
  rw [← e]
  exact (congrArg (total m c t) h).trans (grad_read m c t _ _)

theorem final_grad : (dats m 0 c).arrAt 4 cfg0.N = grad (aA m c) := by
  refine (dats m 0 c).arrAt_eq_of_covers 4 _ (by decide +kernel) fun t hf y => ?_
  blk_simp
  rw [after0_4]
  unfold out0_4
  frame_out
  refine grad_part m c t y _ ?_ ?_
  · blk_simp [idx t]
  · blk_simp [idx t]

theorem change_part (i : S256x128.Idx) (y : S512x128.Idx) (h0 : (y 0).val = t.val * 256 + (i 0).val) (h1 : (y 1).val = (i 1).val) :
    (k0_pay3 (F := Ideal) (total m c t) (iblk m c 1 t) (iblk m c 2 t) (iblk m c 3 t) i : EReal) = change (aA m c) (wA m c) (uA m c) (vA m c) y := by
  obtain ⟨h, e⟩ := place t i y h0 h1
  rw [← e]
  refine (congrArg (k0_pay3 (F := Ideal) (total m c t) (iblk m c 1 t) (iblk m c 2 t) (iblk m c 3 t)) h).trans ((delta_at _ _ _ _ _ _).trans ?_)
  exact congr (congr (congrArg₂ delta (weight_read m c t _ _) (grad_read m c t _ _)) (mean_read m c t _ _)) (square_read m c t _ _)

theorem final_change : (dats m 0 c).arrAt 5 cfg0.N = change (aA m c) (wA m c) (uA m c) (vA m c) := by
  refine (dats m 0 c).arrAt_eq_of_covers 5 _ (by decide +kernel) fun t hf y => ?_
  blk_simp
  rw [after0_5]
  unfold out0_5
  frame_out
  refine change_part m c t y _ ?_ ?_
  · blk_simp [idx t]
  · blk_simp [idx t]

theorem mean_part (i : S256x128.Idx) (y : S512x128.Idx) (h0 : (y 0).val = t.val * 256 + (i 0).val) (h1 : (y 1).val = (i 1).val) :
    (k0_pay1 (F := Ideal) (total m c t) (iblk m c 2 t) i : EReal) = newMean (aA m c) (uA m c) y := by
  obtain ⟨h, e⟩ := place t i y h0 h1
  rw [← e]
  refine (congrArg (k0_pay1 (F := Ideal) (total m c t) (iblk m c 2 t)) h).trans ((mean_at _ _ _ _).trans ?_)
  exact congrArg₂ mean (grad_read m c t _ _) (mean_read m c t _ _)

theorem final_mean : (dats m 0 c).arrAt 6 cfg0.N = newMean (aA m c) (uA m c) := by
  refine (dats m 0 c).arrAt_eq_of_covers 6 _ (by decide +kernel) fun t hf y => ?_
  blk_simp
  rw [after0_6]
  unfold out0_6
  frame_out
  refine mean_part m c t y _ ?_ ?_
  · blk_simp [idx t]
  · blk_simp [idx t]

theorem square_part (i : S256x128.Idx) (y : S512x128.Idx) (h0 : (y 0).val = t.val * 256 + (i 0).val) (h1 : (y 1).val = (i 1).val) :
    (k0_pay2 (F := Ideal) (total m c t) (iblk m c 3 t) i : EReal) = newSquare (aA m c) (vA m c) y := by
  obtain ⟨h, e⟩ := place t i y h0 h1
  rw [← e]
  refine (congrArg (k0_pay2 (F := Ideal) (total m c t) (iblk m c 3 t)) h).trans ((square_at _ _ _ _).trans ?_)
  exact congrArg₂ square (grad_read m c t _ _) (square_read m c t _ _)

theorem final_square : (dats m 0 c).arrAt 7 cfg0.N = newSquare (aA m c) (vA m c) := by
  refine (dats m 0 c).arrAt_eq_of_covers 7 _ (by decide +kernel) fun t hf y => ?_
  blk_simp
  rw [after0_7]
  unfold out0_7
  frame_out
  refine square_part m c t y _ ?_ ?_
  · blk_simp [idx t]
  · blk_simp [idx t]

/- The reference's arrays. -/

theorem reference_grad (a : FVec Ideal S8x2x256x128 .bf16) :
    shapeCast Cert.AdamKvReferenceIdeal.S512x128 (Host.reduceAdd (extf .f32 a Cert.AdamKvReferenceIdeal.Gen.bitsLt_bf16_f32) (constant Cert.AdamKvReferenceIdeal.S_ .f32 0x00000000#32) Cert.AdamKvReferenceIdeal.Gen.reducesTo_S8x2x256x128_S2x256x128_d0 Cert.AdamKvReferenceIdeal.Gen.h_S_) Cert.AdamKvReferenceIdeal.Gen.shapeCasts_S2x256x128_S512x128 = grad a := by
  funext y
  have h : y = ix2 (y 0) (y 1) := by idx_ext
  rw [h]
  pointwise [grad, slot]

theorem reference_change (a : FVec Ideal S8x2x256x128 .bf16) (w u v : FVec Ideal S2x256x128 .f32) :
    shapeCast Cert.AdamKvReferenceIdeal.S512x128 (mulf (broadcastInDim Cert.AdamKvReferenceIdeal.S2x256x128 ![] Cert.AdamKvReferenceIdeal.Gen.bcast_S_S2x256x128 (constant Cert.AdamKvReferenceIdeal.S_ .f32 0xBA83126F#32)) (addf (Host.divf (Host.divf (addf (mulf (broadcastInDim Cert.AdamKvReferenceIdeal.S2x256x128 ![] Cert.AdamKvReferenceIdeal.Gen.bcast_S_S2x256x128 (constant Cert.AdamKvReferenceIdeal.S_ .f32 0x3F666666#32)) u) (mulf (broadcastInDim Cert.AdamKvReferenceIdeal.S2x256x128 ![] Cert.AdamKvReferenceIdeal.Gen.bcast_S_S2x256x128 (constant Cert.AdamKvReferenceIdeal.S_ .f32 0x3DCCCCCD#32)) (Host.reduceAdd (extf .f32 a Cert.AdamKvReferenceIdeal.Gen.bitsLt_bf16_f32) (constant Cert.AdamKvReferenceIdeal.S_ .f32 0x00000000#32) Cert.AdamKvReferenceIdeal.Gen.reducesTo_S8x2x256x128_S2x256x128_d0 Cert.AdamKvReferenceIdeal.Gen.h_S_))) (broadcastInDim Cert.AdamKvReferenceIdeal.S2x256x128 ![] Cert.AdamKvReferenceIdeal.Gen.bcast_S_S2x256x128 (constant Cert.AdamKvReferenceIdeal.S_ .f32 0x3F26BD02#32))) (addf (Host.sqrt (Host.divf (addf (mulf (broadcastInDim Cert.AdamKvReferenceIdeal.S2x256x128 ![] Cert.AdamKvReferenceIdeal.Gen.bcast_S_S2x256x128 (constant Cert.AdamKvReferenceIdeal.S_ .f32 0x3F7FBE77#32)) v) (mulf (broadcastInDim Cert.AdamKvReferenceIdeal.S2x256x128 ![] Cert.AdamKvReferenceIdeal.Gen.bcast_S_S2x256x128 (constant Cert.AdamKvReferenceIdeal.S_ .f32 0x3A83126F#32)) (mulf (Host.reduceAdd (extf .f32 a Cert.AdamKvReferenceIdeal.Gen.bitsLt_bf16_f32) (constant Cert.AdamKvReferenceIdeal.S_ .f32 0x00000000#32) Cert.AdamKvReferenceIdeal.Gen.reducesTo_S8x2x256x128_S2x256x128_d0 Cert.AdamKvReferenceIdeal.Gen.h_S_) (Host.reduceAdd (extf .f32 a Cert.AdamKvReferenceIdeal.Gen.bitsLt_bf16_f32) (constant Cert.AdamKvReferenceIdeal.S_ .f32 0x00000000#32) Cert.AdamKvReferenceIdeal.Gen.reducesTo_S8x2x256x128_S2x256x128_d0 Cert.AdamKvReferenceIdeal.Gen.h_S_)))) (broadcastInDim Cert.AdamKvReferenceIdeal.S2x256x128 ![] Cert.AdamKvReferenceIdeal.Gen.bcast_S_S2x256x128 (constant Cert.AdamKvReferenceIdeal.S_ .f32 0x3C231ACC#32)))) (broadcastInDim Cert.AdamKvReferenceIdeal.S2x256x128 ![] Cert.AdamKvReferenceIdeal.Gen.bcast_S_S2x256x128 (constant Cert.AdamKvReferenceIdeal.S_ .f32 0x322BCC77#32)))) (mulf (broadcastInDim Cert.AdamKvReferenceIdeal.S2x256x128 ![] Cert.AdamKvReferenceIdeal.Gen.bcast_S_S2x256x128 (constant Cert.AdamKvReferenceIdeal.S_ .f32 0x3C23D70A#32)) w))) Cert.AdamKvReferenceIdeal.Gen.shapeCasts_S2x256x128_S512x128 = change a w u v := by
  funext y
  have h : y = ix2 (y 0) (y 1) := by idx_ext
  rw [h]
  pointwise [change, delta, mean, square, lit, row, grad, slot]

theorem reference_mean (a : FVec Ideal S8x2x256x128 .bf16) (u : FVec Ideal S2x256x128 .f32) :
    shapeCast Cert.AdamKvReferenceIdeal.S512x128 (addf (mulf (broadcastInDim Cert.AdamKvReferenceIdeal.S2x256x128 ![] Cert.AdamKvReferenceIdeal.Gen.bcast_S_S2x256x128 (constant Cert.AdamKvReferenceIdeal.S_ .f32 0x3F666666#32)) u) (mulf (broadcastInDim Cert.AdamKvReferenceIdeal.S2x256x128 ![] Cert.AdamKvReferenceIdeal.Gen.bcast_S_S2x256x128 (constant Cert.AdamKvReferenceIdeal.S_ .f32 0x3DCCCCCD#32)) (Host.reduceAdd (extf .f32 a Cert.AdamKvReferenceIdeal.Gen.bitsLt_bf16_f32) (constant Cert.AdamKvReferenceIdeal.S_ .f32 0x00000000#32) Cert.AdamKvReferenceIdeal.Gen.reducesTo_S8x2x256x128_S2x256x128_d0 Cert.AdamKvReferenceIdeal.Gen.h_S_))) Cert.AdamKvReferenceIdeal.Gen.shapeCasts_S2x256x128_S512x128 = newMean a u := by
  funext y
  have h : y = ix2 (y 0) (y 1) := by idx_ext
  rw [h]
  pointwise [newMean, mean, lit, row, grad, slot]

theorem reference_square (a : FVec Ideal S8x2x256x128 .bf16) (v : FVec Ideal S2x256x128 .f32) :
    shapeCast Cert.AdamKvReferenceIdeal.S512x128 (addf (mulf (broadcastInDim Cert.AdamKvReferenceIdeal.S2x256x128 ![] Cert.AdamKvReferenceIdeal.Gen.bcast_S_S2x256x128 (constant Cert.AdamKvReferenceIdeal.S_ .f32 0x3F7FBE77#32)) v) (mulf (broadcastInDim Cert.AdamKvReferenceIdeal.S2x256x128 ![] Cert.AdamKvReferenceIdeal.Gen.bcast_S_S2x256x128 (constant Cert.AdamKvReferenceIdeal.S_ .f32 0x3A83126F#32)) (mulf (Host.reduceAdd (extf .f32 a Cert.AdamKvReferenceIdeal.Gen.bitsLt_bf16_f32) (constant Cert.AdamKvReferenceIdeal.S_ .f32 0x00000000#32) Cert.AdamKvReferenceIdeal.Gen.reducesTo_S8x2x256x128_S2x256x128_d0 Cert.AdamKvReferenceIdeal.Gen.h_S_) (Host.reduceAdd (extf .f32 a Cert.AdamKvReferenceIdeal.Gen.bitsLt_bf16_f32) (constant Cert.AdamKvReferenceIdeal.S_ .f32 0x00000000#32) Cert.AdamKvReferenceIdeal.Gen.reducesTo_S8x2x256x128_S2x256x128_d0 Cert.AdamKvReferenceIdeal.Gen.h_S_)))) Cert.AdamKvReferenceIdeal.Gen.shapeCasts_S2x256x128_S512x128 = newSquare a v := by
  funext y
  have h : y = ix2 (y 0) (y 1) := by idx_ext
  rw [h]
  pointwise [newSquare, square, lit, row, grad, slot]

end Cert.AdamKvEq

end
-- ==== Proof.AdamGlu.lean ====
/- The optimiser's step on the gates of the even layers. -/
module

public import proofs.«01_k».proof.Proof.AdamStep
public import proofs.«01_k».proof.Proof.Gen.AdamGluIdeal.Value
public import proofs.«01_k».proof.Proof.Gen.AdamGluReferenceIdeal.Run
public import Idealize.ShloMosaic.Lib.Pipeline.ValueKit
public import Idealize.ShloMosaic.Lib.Pointwise

@[expose] public section

set_option maxRecDepth 16384

noncomputable section

namespace Cert.AdamGluEq

open Cert.AdamGluIdeal Cert.AdamGluIdeal.Gen Idealize.ShloMosaic Idealize.ShloMosaic.TcCoe Idealize.SL.Sem
open Cert.AdamStep (lit mean square delta)

/-- A weight's part read by rows. -/
def row (b : FVec Ideal S2x32x256 .f32) (y : S64x256.Idx) : EReal :=
  b (ix3 ⟨(y 0).val / 32, by have : (y 0).val < 64 := (y 0).isLt; omega⟩ ⟨(y 0).val % 32, by omega⟩ (y 1))

/-- One device's gradient read by rows. -/
def slot (a : FVec Ideal S8x2x32x256 .bf16) (d : Fin 8) (y : S64x256.Idx) : EReal :=
  a (ix4 d ⟨(y 0).val / 32, by have : (y 0).val < 64 := (y 0).isLt; omega⟩ ⟨(y 0).val % 32, by omega⟩ (y 1))

/-- The sum of the devices' gradients. -/
def grad (a : FVec Ideal S8x2x32x256 .bf16) (y : S64x256.Idx) : EReal := ∑ d, slot a d y

/-- The new moments and the change of the weight. -/
def newMean (a : FVec Ideal S8x2x32x256 .bf16) (u : FVec Ideal S2x32x256 .f32) (y : S64x256.Idx) : EReal := mean (grad a y) (row u y)
def newSquare (a : FVec Ideal S8x2x32x256 .bf16) (v : FVec Ideal S2x32x256 .f32) (y : S64x256.Idx) : EReal := square (grad a y) (row v y)
def change (a : FVec Ideal S8x2x32x256 .bf16) (w u v : FVec Ideal S2x32x256 .f32) (y : S64x256.Idx) : EReal :=
  delta (row w y) (grad a y) (row u y) (row v y)

variable (m : (ℓ : Loc nD τ sig) → Buf (Elt Ideal) ℓ) (c : Dev nD)

/-- The kernel's arguments. -/
abbrev aA : FVec Ideal S8x2x32x256 .bf16 := m ((c : Thread nD τ).loc main_arg0)
abbrev wA : FVec Ideal S2x32x256 .f32 := m ((c : Thread nD τ).loc main_arg1)
abbrev uA : FVec Ideal S2x32x256 .f32 := m ((c : Thread nD τ).loc main_arg2)
abbrev vA : FVec Ideal S2x32x256 .f32 := m ((c : Thread nD τ).loc main_arg3)

theorem points (t : Fin cfg0.N) : t.val < 1 := lt_of_lt_of_eq t.isLt N_0

theorem idx : ∀ t : Fin cfg0.N, win0_0.index t = ![0, t.val, 0]
    ∧ win0_1.index t = ![t.val, 0]
    ∧ win0_2.index t = ![t.val, 0]
    ∧ win0_3.index t = ![t.val, 0]
    ∧ win0_4.index t = ![t.val, 0]
    ∧ win0_5.index t = ![t.val, 0]
    ∧ win0_6.index t = ![t.val, 0]
    ∧ win0_7.index t = ![t.val, 0] :=
  (by decide +kernel : ∀ t : Fin grid0.N, _)

/-- A row of the blocks of grid point `t`. -/
def ti (t : Fin cfg0.N) (x : Fin 64) : Fin 64 := ⟨t.val * 64 + x.val, by have := points t; omega⟩

variable (t : Fin cfg0.N) (x : Fin 64) (y : Fin 256)

theorem weight_read : (iblk m c 1 t (ix2 x y) : EReal) = row (wA m c) (ix2 (ti t x) y) := by
  unfold row ti
  blk_point [iblk, V, idx t]

theorem mean_read : (iblk m c 2 t (ix2 x y) : EReal) = row (uA m c) (ix2 (ti t x) y) := by
  unfold row ti
  blk_point [iblk, V, idx t]

theorem square_read : (iblk m c 3 t (ix2 x y) : EReal) = row (vA m c) (ix2 (ti t x) y) := by
  unfold row ti
  blk_point [iblk, V, idx t]

/-- The reshape of the devices' gradients to rows. -/
theorem V_a : V m c main_v3 = shapeCast S8x64x256 (aA m c) shapeCasts_S8x2x32x256_S8x64x256 := by
  simp only [V, hostOps0, List.flatten_cons, List.flatten_nil, List.append_nil, List.cons_append, List.nil_append]
  after_results <;> rfl

theorem flat_at (a : FVec Ideal S8x2x32x256 .bf16) (d : Fin 8) (r : Fin 64) :
    (shapeCast S8x64x256 a shapeCasts_S8x2x32x256_S8x64x256 (ix3 d r y) : EReal) = slot a d (ix2 r y) := by
  unfold slot
  pointwise

theorem emb_at (d : Fin 8) : (win0_0.blk t).view.emb (ix3 d x y) = ix3 d (ti t x) y := by
  unfold ti
  funext k
  fin_cases k <;> apply Fin.ext <;> blk_simp [idx t] <;> rfl

theorem block_read (d : Fin 8) : (iblk m c 0 t (ix3 d x y) : EReal) = slot (aA m c) d (ix2 (ti t x) y) := by
  show (V m c main_v3 ((win0_0.blk t).view.emb (ix3 d x y)) : EReal) = _
  rw [emb_at, V_a]
  exact flat_at y _ _ _

theorem slot_read : (View.ld (iblk m c 0 t) r0_0 (ix3 0 x y) : EReal) = slot (aA m c) 0 (ix2 (ti t x) y)
    ∧ (View.ld (iblk m c 0 t) r0_1 (ix3 0 x y) : EReal) = slot (aA m c) 1 (ix2 (ti t x) y)
    ∧ (View.ld (iblk m c 0 t) r0_2 (ix3 0 x y) : EReal) = slot (aA m c) 2 (ix2 (ti t x) y)
    ∧ (View.ld (iblk m c 0 t) r0_3 (ix3 0 x y) : EReal) = slot (aA m c) 3 (ix2 (ti t x) y)
    ∧ (View.ld (iblk m c 0 t) r0_4 (ix3 0 x y) : EReal) = slot (aA m c) 4 (ix2 (ti t x) y)
    ∧ (View.ld (iblk m c 0 t) r0_5 (ix3 0 x y) : EReal) = slot (aA m c) 5 (ix2 (ti t x) y)
    ∧ (View.ld (iblk m c 0 t) r0_6 (ix3 0 x y) : EReal) = slot (aA m c) 6 (ix2 (ti t x) y)
    ∧ (View.ld (iblk m c 0 t) r0_7 (ix3 0 x y) : EReal) = slot (aA m c) 7 (ix2 (ti t x) y) := by
  refine ⟨?_, ?_, ?_, ?_, ?_, ?_, ?_, ?_⟩
  · exact (congrArg (iblk m c 0 t) (by idx_ext : r0_0.idx (ix3 0 x y) = ix3 0 x y)).trans (block_read m c t x y 0)
  · exact (congrArg (iblk m c 0 t) (by idx_ext : r0_1.idx (ix3 0 x y) = ix3 1 x y)).trans (block_read m c t x y 1)
  · exact (congrArg (iblk m c 0 t) (by idx_ext : r0_2.idx (ix3 0 x y) = ix3 2 x y)).trans (block_read m c t x y 2)
  · exact (congrArg (iblk m c 0 t) (by idx_ext : r0_3.idx (ix3 0 x y) = ix3 3 x y)).trans (block_read m c t x y 3)
  · exact (congrArg (iblk m c 0 t) (by idx_ext : r0_4.idx (ix3 0 x y) = ix3 4 x y)).trans (block_read m c t x y 4)
  · exact (congrArg (iblk m c 0 t) (by idx_ext : r0_5.idx (ix3 0 x y) = ix3 5 x y)).trans (block_read m c t x y 5)
  · exact (congrArg (iblk m c 0 t) (by idx_ext : r0_6.idx (ix3 0 x y) = ix3 6 x y)).trans (block_read m c t x y 6)
  · exact (congrArg (iblk m c 0 t) (by idx_ext : r0_7.idx (ix3 0 x y) = ix3 7 x y)).trans (block_read m c t x y 7)

theorem sum_at (l0 l1 l2 l3 l4 l5 l6 l7 : FVec Ideal S1x64x256 .bf16) :
    (k0_pay4 (F := Ideal) l0 l1 l2 l3 l4 l5 l6 l7 (ix2 x y) : EReal) = (l0 (ix3 0 x y) : EReal) + l1 (ix3 0 x y)
      + l2 (ix3 0 x y) + l3 (ix3 0 x y) + l4 (ix3 0 x y) + l5 (ix3 0 x y) + l6 (ix3 0 x y) + l7 (ix3 0 x y) := by
  pointwise [k0_pay4]

/-- The gradient's block. -/
abbrev total (t : Fin cfg0.N) : FVec Ideal S64x256 .f32 :=
  k0_pay4 (F := Ideal) (View.ld (iblk m c 0 t) r0_0) (View.ld (iblk m c 0 t) r0_1) (View.ld (iblk m c 0 t) r0_2)
    (View.ld (iblk m c 0 t) r0_3) (View.ld (iblk m c 0 t) r0_4) (View.ld (iblk m c 0 t) r0_5) (View.ld (iblk m c 0 t) r0_6)
    (View.ld (iblk m c 0 t) r0_7)

theorem grad_read : (total m c t (ix2 x y) : EReal) = grad (aA m c) (ix2 (ti t x) y) := by
  obtain ⟨h0, h1, h2, h3, h4, h5, h6, h7⟩ := slot_read m c t x y
  refine (sum_at x y _ _ _ _ _ _ _ _).trans ?_
  rw [h0, h1, h2, h3, h4, h5, h6, h7, grad, Fin.sum_univ_eight]

variable (g w u v : FVec Ideal S64x256 .f32)

theorem mean_at : (k0_pay1 (F := Ideal) g u (ix2 x y) : EReal) = mean (g (ix2 x y)) (u (ix2 x y)) := by
  pointwise [k0_pay1, mean, lit]

theorem square_at : (k0_pay2 (F := Ideal) g v (ix2 x y) : EReal) = square (g (ix2 x y)) (v (ix2 x y)) := by
  pointwise [k0_pay2, square, lit]

theorem delta_at : (k0_pay3 (F := Ideal) g w u v (ix2 x y) : EReal)
    = delta (w (ix2 x y)) (g (ix2 x y)) (u (ix2 x y)) (v (ix2 x y)) := by
  pointwise [k0_pay3, k0_pay2, k0_pay1, delta, mean, square, lit]

/-- The element of the array at an index of the blocks of grid point `t`. -/
theorem place (i : S64x256.Idx) (y : S64x256.Idx) (h0 : (y 0).val = t.val * 64 + (i 0).val) (h1 : (y 1).val = (i 1).val) :
    i = ix2 (i 0) (i 1) ∧ ix2 (ti t (i 0)) (i 1) = y := by
  refine ⟨by idx_ext, ?_⟩
  funext d
  refine Fin.cases (Fin.ext h0.symm) (fun d => ?_) d
  exact Fin.cases (Fin.ext h1.symm) (fun d => d.elim0) d

/- The kernel's arrays after the run. -/

theorem grad_part (i : S64x256.Idx) (y : S64x256.Idx) (h0 : (y 0).val = t.val * 64 + (i 0).val) (h1 : (y 1).val = (i 1).val) :
    (total m c t i : EReal) = grad (aA m c) y := by
  obtain ⟨h, e⟩ := place t i y h0 h1
  rw [← e]
  exact (congrArg (total m c t) h).trans (grad_read m c t _ _)

theorem final_grad : (dats m 0 c).arrAt 4 cfg0.N = grad (aA m c) := by
  refine (dats m 0 c).arrAt_eq_of_covers 4 _ (by decide +kernel) fun t hf y => ?_
  blk_simp
  rw [after0_4]
  unfold out0_4
  frame_out
  refine grad_part m c t y _ ?_ ?_
  · blk_simp [idx t]
  · blk_simp [idx t]

theorem change_part (i : S64x256.Idx) (y : S64x256.Idx) (h0 : (y 0).val = t.val * 64 + (i 0).val) (h1 : (y 1).val = (i 1).val) :
    (k0_pay3 (F := Ideal) (total m c t) (iblk m c 1 t) (iblk m c 2 t) (iblk m c 3 t) i : EReal) = change (aA m c) (wA m c) (uA m c) (vA m c) y := by
  obtain ⟨h, e⟩ := place t i y h0 h1
  rw [← e]
  refine (congrArg (k0_pay3 (F := Ideal) (total m c t) (iblk m c 1 t) (iblk m c 2 t) (iblk m c 3 t)) h).trans ((delta_at _ _ _ _ _ _).trans ?_)
  exact congr (congr (congrArg₂ delta (weight_read m c t _ _) (grad_read m c t _ _)) (mean_read m c t _ _)) (square_read m c t _ _)

theorem final_change : (dats m 0 c).arrAt 5 cfg0.N = change (aA m c) (wA m c) (uA m c) (vA m c) := by
  refine (dats m 0 c).arrAt_eq_of_covers 5 _ (by decide +kernel) fun t hf y => ?_
  blk_simp
  rw [after0_5]
  unfold out0_5
  frame_out
  refine change_part m c t y _ ?_ ?_
  · blk_simp [idx t]
  · blk_simp [idx t]

theorem mean_part (i : S64x256.Idx) (y : S64x256.Idx) (h0 : (y 0).val = t.val * 64 + (i 0).val) (h1 : (y 1).val = (i 1).val) :
    (k0_pay1 (F := Ideal) (total m c t) (iblk m c 2 t) i : EReal) = newMean (aA m c) (uA m c) y := by
  obtain ⟨h, e⟩ := place t i y h0 h1
  rw [← e]
  refine (congrArg (k0_pay1 (F := Ideal) (total m c t) (iblk m c 2 t)) h).trans ((mean_at _ _ _ _).trans ?_)
  exact congrArg₂ mean (grad_read m c t _ _) (mean_read m c t _ _)

theorem final_mean : (dats m 0 c).arrAt 6 cfg0.N = newMean (aA m c) (uA m c) := by
  refine (dats m 0 c).arrAt_eq_of_covers 6 _ (by decide +kernel) fun t hf y => ?_
  blk_simp
  rw [after0_6]
  unfold out0_6
  frame_out
  refine mean_part m c t y _ ?_ ?_
  · blk_simp [idx t]
  · blk_simp [idx t]

theorem square_part (i : S64x256.Idx) (y : S64x256.Idx) (h0 : (y 0).val = t.val * 64 + (i 0).val) (h1 : (y 1).val = (i 1).val) :
    (k0_pay2 (F := Ideal) (total m c t) (iblk m c 3 t) i : EReal) = newSquare (aA m c) (vA m c) y := by
  obtain ⟨h, e⟩ := place t i y h0 h1
  rw [← e]
  refine (congrArg (k0_pay2 (F := Ideal) (total m c t) (iblk m c 3 t)) h).trans ((square_at _ _ _ _).trans ?_)
  exact congrArg₂ square (grad_read m c t _ _) (square_read m c t _ _)

theorem final_square : (dats m 0 c).arrAt 7 cfg0.N = newSquare (aA m c) (vA m c) := by
  refine (dats m 0 c).arrAt_eq_of_covers 7 _ (by decide +kernel) fun t hf y => ?_
  blk_simp
  rw [after0_7]
  unfold out0_7
  frame_out
  refine square_part m c t y _ ?_ ?_
  · blk_simp [idx t]
  · blk_simp [idx t]

/- The reference's arrays. -/

theorem reference_grad (a : FVec Ideal S8x2x32x256 .bf16) :
    shapeCast Cert.AdamGluReferenceIdeal.S64x256 (Host.reduceAdd (extf .f32 a Cert.AdamGluReferenceIdeal.Gen.bitsLt_bf16_f32) (constant Cert.AdamGluReferenceIdeal.S_ .f32 0x00000000#32) Cert.AdamGluReferenceIdeal.Gen.reducesTo_S8x2x32x256_S2x32x256_d0 Cert.AdamGluReferenceIdeal.Gen.h_S_) Cert.AdamGluReferenceIdeal.Gen.shapeCasts_S2x32x256_S64x256 = grad a := by
  funext y
  have h : y = ix2 (y 0) (y 1) := by idx_ext
  rw [h]
  pointwise [grad, slot]

theorem reference_change (a : FVec Ideal S8x2x32x256 .bf16) (w u v : FVec Ideal S2x32x256 .f32) :
    shapeCast Cert.AdamGluReferenceIdeal.S64x256 (mulf (broadcastInDim Cert.AdamGluReferenceIdeal.S2x32x256 ![] Cert.AdamGluReferenceIdeal.Gen.bcast_S_S2x32x256 (constant Cert.AdamGluReferenceIdeal.S_ .f32 0xBA83126F#32)) (addf (Host.divf (Host.divf (addf (mulf (broadcastInDim Cert.AdamGluReferenceIdeal.S2x32x256 ![] Cert.AdamGluReferenceIdeal.Gen.bcast_S_S2x32x256 (constant Cert.AdamGluReferenceIdeal.S_ .f32 0x3F666666#32)) u) (mulf (broadcastInDim Cert.AdamGluReferenceIdeal.S2x32x256 ![] Cert.AdamGluReferenceIdeal.Gen.bcast_S_S2x32x256 (constant Cert.AdamGluReferenceIdeal.S_ .f32 0x3DCCCCCD#32)) (Host.reduceAdd (extf .f32 a Cert.AdamGluReferenceIdeal.Gen.bitsLt_bf16_f32) (constant Cert.AdamGluReferenceIdeal.S_ .f32 0x00000000#32) Cert.AdamGluReferenceIdeal.Gen.reducesTo_S8x2x32x256_S2x32x256_d0 Cert.AdamGluReferenceIdeal.Gen.h_S_))) (broadcastInDim Cert.AdamGluReferenceIdeal.S2x32x256 ![] Cert.AdamGluReferenceIdeal.Gen.bcast_S_S2x32x256 (constant Cert.AdamGluReferenceIdeal.S_ .f32 0x3F26BD02#32))) (addf (Host.sqrt (Host.divf (addf (mulf (broadcastInDim Cert.AdamGluReferenceIdeal.S2x32x256 ![] Cert.AdamGluReferenceIdeal.Gen.bcast_S_S2x32x256 (constant Cert.AdamGluReferenceIdeal.S_ .f32 0x3F7FBE77#32)) v) (mulf (broadcastInDim Cert.AdamGluReferenceIdeal.S2x32x256 ![] Cert.AdamGluReferenceIdeal.Gen.bcast_S_S2x32x256 (constant Cert.AdamGluReferenceIdeal.S_ .f32 0x3A83126F#32)) (mulf (Host.reduceAdd (extf .f32 a Cert.AdamGluReferenceIdeal.Gen.bitsLt_bf16_f32) (constant Cert.AdamGluReferenceIdeal.S_ .f32 0x00000000#32) Cert.AdamGluReferenceIdeal.Gen.reducesTo_S8x2x32x256_S2x32x256_d0 Cert.AdamGluReferenceIdeal.Gen.h_S_) (Host.reduceAdd (extf .f32 a Cert.AdamGluReferenceIdeal.Gen.bitsLt_bf16_f32) (constant Cert.AdamGluReferenceIdeal.S_ .f32 0x00000000#32) Cert.AdamGluReferenceIdeal.Gen.reducesTo_S8x2x32x256_S2x32x256_d0 Cert.AdamGluReferenceIdeal.Gen.h_S_)))) (broadcastInDim Cert.AdamGluReferenceIdeal.S2x32x256 ![] Cert.AdamGluReferenceIdeal.Gen.bcast_S_S2x32x256 (constant Cert.AdamGluReferenceIdeal.S_ .f32 0x3C231ACC#32)))) (broadcastInDim Cert.AdamGluReferenceIdeal.S2x32x256 ![] Cert.AdamGluReferenceIdeal.Gen.bcast_S_S2x32x256 (constant Cert.AdamGluReferenceIdeal.S_ .f32 0x322BCC77#32)))) (mulf (broadcastInDim Cert.AdamGluReferenceIdeal.S2x32x256 ![] Cert.AdamGluReferenceIdeal.Gen.bcast_S_S2x32x256 (constant Cert.AdamGluReferenceIdeal.S_ .f32 0x3C23D70A#32)) w))) Cert.AdamGluReferenceIdeal.Gen.shapeCasts_S2x32x256_S64x256 = change a w u v := by
  funext y
  have h : y = ix2 (y 0) (y 1) := by idx_ext
  rw [h]
  pointwise [change, delta, mean, square, lit, row, grad, slot]

theorem reference_mean (a : FVec Ideal S8x2x32x256 .bf16) (u : FVec Ideal S2x32x256 .f32) :
    shapeCast Cert.AdamGluReferenceIdeal.S64x256 (addf (mulf (broadcastInDim Cert.AdamGluReferenceIdeal.S2x32x256 ![] Cert.AdamGluReferenceIdeal.Gen.bcast_S_S2x32x256 (constant Cert.AdamGluReferenceIdeal.S_ .f32 0x3F666666#32)) u) (mulf (broadcastInDim Cert.AdamGluReferenceIdeal.S2x32x256 ![] Cert.AdamGluReferenceIdeal.Gen.bcast_S_S2x32x256 (constant Cert.AdamGluReferenceIdeal.S_ .f32 0x3DCCCCCD#32)) (Host.reduceAdd (extf .f32 a Cert.AdamGluReferenceIdeal.Gen.bitsLt_bf16_f32) (constant Cert.AdamGluReferenceIdeal.S_ .f32 0x00000000#32) Cert.AdamGluReferenceIdeal.Gen.reducesTo_S8x2x32x256_S2x32x256_d0 Cert.AdamGluReferenceIdeal.Gen.h_S_))) Cert.AdamGluReferenceIdeal.Gen.shapeCasts_S2x32x256_S64x256 = newMean a u := by
  funext y
  have h : y = ix2 (y 0) (y 1) := by idx_ext
  rw [h]
  pointwise [newMean, mean, lit, row, grad, slot]

theorem reference_square (a : FVec Ideal S8x2x32x256 .bf16) (v : FVec Ideal S2x32x256 .f32) :
    shapeCast Cert.AdamGluReferenceIdeal.S64x256 (addf (mulf (broadcastInDim Cert.AdamGluReferenceIdeal.S2x32x256 ![] Cert.AdamGluReferenceIdeal.Gen.bcast_S_S2x32x256 (constant Cert.AdamGluReferenceIdeal.S_ .f32 0x3F7FBE77#32)) v) (mulf (broadcastInDim Cert.AdamGluReferenceIdeal.S2x32x256 ![] Cert.AdamGluReferenceIdeal.Gen.bcast_S_S2x32x256 (constant Cert.AdamGluReferenceIdeal.S_ .f32 0x3A83126F#32)) (mulf (Host.reduceAdd (extf .f32 a Cert.AdamGluReferenceIdeal.Gen.bitsLt_bf16_f32) (constant Cert.AdamGluReferenceIdeal.S_ .f32 0x00000000#32) Cert.AdamGluReferenceIdeal.Gen.reducesTo_S8x2x32x256_S2x32x256_d0 Cert.AdamGluReferenceIdeal.Gen.h_S_) (Host.reduceAdd (extf .f32 a Cert.AdamGluReferenceIdeal.Gen.bitsLt_bf16_f32) (constant Cert.AdamGluReferenceIdeal.S_ .f32 0x00000000#32) Cert.AdamGluReferenceIdeal.Gen.reducesTo_S8x2x32x256_S2x32x256_d0 Cert.AdamGluReferenceIdeal.Gen.h_S_)))) Cert.AdamGluReferenceIdeal.Gen.shapeCasts_S2x32x256_S64x256 = newSquare a v := by
  funext y
  have h : y = ix2 (y 0) (y 1) := by idx_ext
  rw [h]
  pointwise [newSquare, square, lit, row, grad, slot]

end Cert.AdamGluEq

end
-- ==== Proof.AdamMod.lean ====
/- The optimiser's step on the modulation's weights. -/
module

public import proofs.«01_k».proof.Proof.AdamStep
public import proofs.«01_k».proof.Proof.Gen.AdamModIdeal.Value
public import proofs.«01_k».proof.Proof.Gen.AdamModReferenceIdeal.Run
public import Idealize.ShloMosaic.Lib.Pipeline.ValueKit
public import Idealize.ShloMosaic.Lib.Pointwise

@[expose] public section

set_option maxRecDepth 16384

noncomputable section

namespace Cert.AdamModEq

open Cert.AdamModIdeal Cert.AdamModIdeal.Gen Idealize.ShloMosaic Idealize.ShloMosaic.TcCoe Idealize.SL.Sem
open Cert.AdamStep (lit mean square delta)

/-- A weight's part read by rows. -/
def row (b : FVec Ideal S4x1024x768 .f32) (y : S4096x768.Idx) : EReal :=
  b (ix3 ⟨(y 0).val / 1024, by have : (y 0).val < 4096 := (y 0).isLt; omega⟩ ⟨(y 0).val % 1024, by omega⟩ (y 1))

/-- The new moments and the change of the weight. -/
def newMean (a : FVec Ideal S4x1024x768 .f32) (u : FVec Ideal S4x1024x768 .f32) (y : S4096x768.Idx) : EReal := mean (row a y) (row u y)
def newSquare (a : FVec Ideal S4x1024x768 .f32) (v : FVec Ideal S4x1024x768 .f32) (y : S4096x768.Idx) : EReal := square (row a y) (row v y)
def change (a : FVec Ideal S4x1024x768 .f32) (w u v : FVec Ideal S4x1024x768 .f32) (y : S4096x768.Idx) : EReal :=
  delta (row w y) (row a y) (row u y) (row v y)

variable (m : (ℓ : Loc nD τ sig) → Buf (Elt Ideal) ℓ) (c : Dev nD)

/-- The kernel's arguments. -/
abbrev wA : FVec Ideal S4x1024x768 .f32 := m ((c : Thread nD τ).loc main_arg0)
abbrev aA : FVec Ideal S4x1024x768 .f32 := m ((c : Thread nD τ).loc main_arg1)
abbrev uA : FVec Ideal S4x1024x768 .f32 := m ((c : Thread nD τ).loc main_arg2)
abbrev vA : FVec Ideal S4x1024x768 .f32 := m ((c : Thread nD τ).loc main_arg3)

theorem points (t : Fin cfg0.N) : t.val < 8 := lt_of_lt_of_eq t.isLt N_0

theorem idx : ∀ t : Fin cfg0.N, win0_0.index t = ![t.val, 0]
    ∧ win0_1.index t = ![t.val, 0]
    ∧ win0_2.index t = ![t.val, 0]
    ∧ win0_3.index t = ![t.val, 0]
    ∧ win0_4.index t = ![t.val, 0]
    ∧ win0_5.index t = ![t.val, 0]
    ∧ win0_6.index t = ![t.val, 0] :=
  (by decide +kernel : ∀ t : Fin grid0.N, _)

/-- A row of the blocks of grid point `t`. -/
def ti (t : Fin cfg0.N) (x : Fin 512) : Fin 4096 := ⟨t.val * 512 + x.val, by have := points t; omega⟩

variable (t : Fin cfg0.N) (x : Fin 512) (y : Fin 768)

theorem weight_read : (iblk m c 0 t (ix2 x y) : EReal) = row (wA m c) (ix2 (ti t x) y) := by
  unfold row ti
  blk_point [iblk, V, idx t]

theorem mean_read : (iblk m c 2 t (ix2 x y) : EReal) = row (uA m c) (ix2 (ti t x) y) := by
  unfold row ti
  blk_point [iblk, V, idx t]

theorem square_read : (iblk m c 3 t (ix2 x y) : EReal) = row (vA m c) (ix2 (ti t x) y) := by
  unfold row ti
  blk_point [iblk, V, idx t]

theorem grad_read : (iblk m c 1 t (ix2 x y) : EReal) = row (aA m c) (ix2 (ti t x) y) := by
  unfold row ti
  blk_point [iblk, V, idx t]

variable (g w u v : FVec Ideal S512x768 .f32)

theorem mean_at : (k0_pay2 (F := Ideal) g u (ix2 x y) : EReal) = mean (g (ix2 x y)) (u (ix2 x y)) := by
  pointwise [k0_pay2, k0_pay1, mean, lit]

theorem square_at : (k0_pay3 (F := Ideal) g v (ix2 x y) : EReal) = square (g (ix2 x y)) (v (ix2 x y)) := by
  pointwise [k0_pay3, k0_pay1, square, lit]

theorem delta_at : (k0_pay4 (F := Ideal) w g u v (ix2 x y) : EReal)
    = delta (w (ix2 x y)) (g (ix2 x y)) (u (ix2 x y)) (v (ix2 x y)) := by
  pointwise [k0_pay4, k0_pay3, k0_pay2, k0_pay1, delta, mean, square, lit]

/-- The element of the array at an index of the blocks of grid point `t`. -/
theorem place (i : S512x768.Idx) (y : S4096x768.Idx) (h0 : (y 0).val = t.val * 512 + (i 0).val) (h1 : (y 1).val = (i 1).val) :
    i = ix2 (i 0) (i 1) ∧ ix2 (ti t (i 0)) (i 1) = y := by
  refine ⟨by idx_ext, ?_⟩
  funext d
  refine Fin.cases (Fin.ext h0.symm) (fun d => ?_) d
  exact Fin.cases (Fin.ext h1.symm) (fun d => d.elim0) d

/- The kernel's arrays after the run. -/

theorem change_part (i : S512x768.Idx) (y : S4096x768.Idx) (h0 : (y 0).val = t.val * 512 + (i 0).val) (h1 : (y 1).val = (i 1).val) :
    (k0_pay4 (F := Ideal) (iblk m c 0 t) (iblk m c 1 t) (iblk m c 2 t) (iblk m c 3 t) i : EReal) = change (aA m c) (wA m c) (uA m c) (vA m c) y := by
  obtain ⟨h, e⟩ := place t i y h0 h1
  rw [← e]
  refine (congrArg (k0_pay4 (F := Ideal) (iblk m c 0 t) (iblk m c 1 t) (iblk m c 2 t) (iblk m c 3 t)) h).trans ((delta_at _ _ _ _ _ _).trans ?_)
  exact congr (congr (congrArg₂ delta (weight_read m c t _ _) (grad_read m c t _ _)) (mean_read m c t _ _)) (square_read m c t _ _)

theorem final_change : (dats m 0 c).arrAt 4 cfg0.N = change (aA m c) (wA m c) (uA m c) (vA m c) := by
  refine (dats m 0 c).arrAt_eq_of_covers 4 _ (by decide +kernel) fun t hf y => ?_
  blk_simp
  rw [after0_4]
  unfold out0_4
  frame_out
  refine change_part m c t y _ ?_ ?_
  · blk_simp [idx t]
  · blk_simp [idx t]

theorem mean_part (i : S512x768.Idx) (y : S4096x768.Idx) (h0 : (y 0).val = t.val * 512 + (i 0).val) (h1 : (y 1).val = (i 1).val) :
    (k0_pay2 (F := Ideal) (iblk m c 1 t) (iblk m c 2 t) i : EReal) = newMean (aA m c) (uA m c) y := by
  obtain ⟨h, e⟩ := place t i y h0 h1
  rw [← e]
  refine (congrArg (k0_pay2 (F := Ideal) (iblk m c 1 t) (iblk m c 2 t)) h).trans ((mean_at _ _ _ _).trans ?_)
  exact congrArg₂ mean (grad_read m c t _ _) (mean_read m c t _ _)

theorem final_mean : (dats m 0 c).arrAt 5 cfg0.N = newMean (aA m c) (uA m c) := by
  refine (dats m 0 c).arrAt_eq_of_covers 5 _ (by decide +kernel) fun t hf y => ?_
  blk_simp
  rw [after0_5]
  unfold out0_5
  frame_out
  refine mean_part m c t y _ ?_ ?_
  · blk_simp [idx t]
  · blk_simp [idx t]

theorem square_part (i : S512x768.Idx) (y : S4096x768.Idx) (h0 : (y 0).val = t.val * 512 + (i 0).val) (h1 : (y 1).val = (i 1).val) :
    (k0_pay3 (F := Ideal) (iblk m c 1 t) (iblk m c 3 t) i : EReal) = newSquare (aA m c) (vA m c) y := by
  obtain ⟨h, e⟩ := place t i y h0 h1
  rw [← e]
  refine (congrArg (k0_pay3 (F := Ideal) (iblk m c 1 t) (iblk m c 3 t)) h).trans ((square_at _ _ _ _).trans ?_)
  exact congrArg₂ square (grad_read m c t _ _) (square_read m c t _ _)

theorem final_square : (dats m 0 c).arrAt 6 cfg0.N = newSquare (aA m c) (vA m c) := by
  refine (dats m 0 c).arrAt_eq_of_covers 6 _ (by decide +kernel) fun t hf y => ?_
  blk_simp
  rw [after0_6]
  unfold out0_6
  frame_out
  refine square_part m c t y _ ?_ ?_
  · blk_simp [idx t]
  · blk_simp [idx t]

/- The reference's arrays. -/

theorem reference_change (a : FVec Ideal S4x1024x768 .f32) (w u v : FVec Ideal S4x1024x768 .f32) :
    shapeCast Cert.AdamModReferenceIdeal.S4096x768 (mulf (broadcastInDim Cert.AdamModReferenceIdeal.S4x1024x768 ![] Cert.AdamModReferenceIdeal.Gen.bcast_S_S4x1024x768 (constant Cert.AdamModReferenceIdeal.S_ .f32 0xBA83126F#32)) (addf (Host.divf (Host.divf (addf (mulf (broadcastInDim Cert.AdamModReferenceIdeal.S4x1024x768 ![] Cert.AdamModReferenceIdeal.Gen.bcast_S_S4x1024x768 (constant Cert.AdamModReferenceIdeal.S_ .f32 0x3F666666#32)) u) (mulf (broadcastInDim Cert.AdamModReferenceIdeal.S4x1024x768 ![] Cert.AdamModReferenceIdeal.Gen.bcast_S_S4x1024x768 (constant Cert.AdamModReferenceIdeal.S_ .f32 0x3DCCCCCD#32)) a)) (broadcastInDim Cert.AdamModReferenceIdeal.S4x1024x768 ![] Cert.AdamModReferenceIdeal.Gen.bcast_S_S4x1024x768 (constant Cert.AdamModReferenceIdeal.S_ .f32 0x3F26BD02#32))) (addf (Host.sqrt (Host.divf (addf (mulf (broadcastInDim Cert.AdamModReferenceIdeal.S4x1024x768 ![] Cert.AdamModReferenceIdeal.Gen.bcast_S_S4x1024x768 (constant Cert.AdamModReferenceIdeal.S_ .f32 0x3F7FBE77#32)) v) (mulf (broadcastInDim Cert.AdamModReferenceIdeal.S4x1024x768 ![] Cert.AdamModReferenceIdeal.Gen.bcast_S_S4x1024x768 (constant Cert.AdamModReferenceIdeal.S_ .f32 0x3A83126F#32)) (mulf a a))) (broadcastInDim Cert.AdamModReferenceIdeal.S4x1024x768 ![] Cert.AdamModReferenceIdeal.Gen.bcast_S_S4x1024x768 (constant Cert.AdamModReferenceIdeal.S_ .f32 0x3C231ACC#32)))) (broadcastInDim Cert.AdamModReferenceIdeal.S4x1024x768 ![] Cert.AdamModReferenceIdeal.Gen.bcast_S_S4x1024x768 (constant Cert.AdamModReferenceIdeal.S_ .f32 0x322BCC77#32)))) (mulf (broadcastInDim Cert.AdamModReferenceIdeal.S4x1024x768 ![] Cert.AdamModReferenceIdeal.Gen.bcast_S_S4x1024x768 (constant Cert.AdamModReferenceIdeal.S_ .f32 0x3C23D70A#32)) w))) Cert.AdamModReferenceIdeal.Gen.shapeCasts_S4x1024x768_S4096x768 = change a w u v := by
  funext y
  have h : y = ix2 (y 0) (y 1) := by idx_ext
  rw [h]
  pointwise [change, delta, mean, square, lit, row]

theorem reference_mean (a : FVec Ideal S4x1024x768 .f32) (u : FVec Ideal S4x1024x768 .f32) :
    shapeCast Cert.AdamModReferenceIdeal.S4096x768 (addf (mulf (broadcastInDim Cert.AdamModReferenceIdeal.S4x1024x768 ![] Cert.AdamModReferenceIdeal.Gen.bcast_S_S4x1024x768 (constant Cert.AdamModReferenceIdeal.S_ .f32 0x3F666666#32)) u) (mulf (broadcastInDim Cert.AdamModReferenceIdeal.S4x1024x768 ![] Cert.AdamModReferenceIdeal.Gen.bcast_S_S4x1024x768 (constant Cert.AdamModReferenceIdeal.S_ .f32 0x3DCCCCCD#32)) a)) Cert.AdamModReferenceIdeal.Gen.shapeCasts_S4x1024x768_S4096x768 = newMean a u := by
  funext y
  have h : y = ix2 (y 0) (y 1) := by idx_ext
  rw [h]
  pointwise [newMean, mean, lit, row]

theorem reference_square (a : FVec Ideal S4x1024x768 .f32) (v : FVec Ideal S4x1024x768 .f32) :
    shapeCast Cert.AdamModReferenceIdeal.S4096x768 (addf (mulf (broadcastInDim Cert.AdamModReferenceIdeal.S4x1024x768 ![] Cert.AdamModReferenceIdeal.Gen.bcast_S_S4x1024x768 (constant Cert.AdamModReferenceIdeal.S_ .f32 0x3F7FBE77#32)) v) (mulf (broadcastInDim Cert.AdamModReferenceIdeal.S4x1024x768 ![] Cert.AdamModReferenceIdeal.Gen.bcast_S_S4x1024x768 (constant Cert.AdamModReferenceIdeal.S_ .f32 0x3A83126F#32)) (mulf a a))) Cert.AdamModReferenceIdeal.Gen.shapeCasts_S4x1024x768_S4096x768 = newSquare a v := by
  funext y
  have h : y = ix2 (y 0) (y 1) := by idx_ext
  rw [h]
  pointwise [newSquare, square, lit, row]

end Cert.AdamModEq

end
-- ==== Proof.SumSmall.lean ====
/- The sum of the devices' packed gradients. -/
module

public import proofs.«01_k».proof.Proof.Gen.SumSmallIdeal.Value
public import proofs.«01_k».proof.Proof.Gen.SumSmallReferenceIdeal.Run
public import Idealize.ShloMosaic.Lib.Pipeline.ValueKit
public import Idealize.ShloMosaic.Lib.Pointwise

@[expose] public section

set_option maxRecDepth 16384

noncomputable section

namespace Cert.SumSmallEq

open Cert.SumSmallIdeal Cert.SumSmallIdeal.Gen Idealize.ShloMosaic Idealize.ShloMosaic.TcCoe Idealize.SL.Sem

/-- The sum over the devices at an element. -/
def total (a : FVec Ideal S8x2336x128 .f32) (y : S2336x128.Idx) : EReal := ∑ d : Fin 8, a (ix3 d (y 0) (y 1))

variable (m : (ℓ : Loc nD τ sig) → Buf (Elt Ideal) ℓ) (c : Dev nD)

/-- The kernel's argument. -/
abbrev aA : FVec Ideal S8x2336x128 .f32 := m ((c : Thread nD τ).loc main_arg0)

theorem idx : ∀ t : Fin cfg0.N, win0_0.index t = ![0, 0, 0] ∧ win0_1.index t = ![0, 0] :=
  (by decide +kernel : ∀ t : Fin grid0.N, _)

variable (t : Fin cfg0.N) (x : Fin 2336) (y : Fin 128)

theorem slot_read : (View.ld (iblk m c 0 t) r0_0 (ix3 0 x y) : EReal) = aA m c (ix3 0 x y)
    ∧ (View.ld (iblk m c 0 t) r0_1 (ix3 0 x y) : EReal) = aA m c (ix3 1 x y)
    ∧ (View.ld (iblk m c 0 t) r0_2 (ix3 0 x y) : EReal) = aA m c (ix3 2 x y)
    ∧ (View.ld (iblk m c 0 t) r0_3 (ix3 0 x y) : EReal) = aA m c (ix3 3 x y)
    ∧ (View.ld (iblk m c 0 t) r0_4 (ix3 0 x y) : EReal) = aA m c (ix3 4 x y)
    ∧ (View.ld (iblk m c 0 t) r0_5 (ix3 0 x y) : EReal) = aA m c (ix3 5 x y)
    ∧ (View.ld (iblk m c 0 t) r0_6 (ix3 0 x y) : EReal) = aA m c (ix3 6 x y)
    ∧ (View.ld (iblk m c 0 t) r0_7 (ix3 0 x y) : EReal) = aA m c (ix3 7 x y) := by
  refine ⟨?_, ?_, ?_, ?_, ?_, ?_, ?_, ?_⟩
  all_goals blk_point [iblk, V, idx t]

theorem sum_at (l0 l1 l2 l3 l4 l5 l6 l7 : FVec Ideal S1x2336x128 .f32) :
    (k0_pay1 (F := Ideal) l0 l1 l2 l3 l4 l5 l6 l7 (ix2 x y) : EReal) = (l0 (ix3 0 x y) : EReal) + l1 (ix3 0 x y)
      + l2 (ix3 0 x y) + l3 (ix3 0 x y) + l4 (ix3 0 x y) + l5 (ix3 0 x y) + l6 (ix3 0 x y) + l7 (ix3 0 x y) := by
  pointwise [k0_pay1]

theorem sum_part (i y : S2336x128.Idx) (h0 : (y 0).val = (i 0).val) (h1 : (y 1).val = (i 1).val) :
    (k0_pay1 (F := Ideal) (View.ld (iblk m c 0 t) r0_0) (View.ld (iblk m c 0 t) r0_1) (View.ld (iblk m c 0 t) r0_2)
    (View.ld (iblk m c 0 t) r0_3) (View.ld (iblk m c 0 t) r0_4) (View.ld (iblk m c 0 t) r0_5) (View.ld (iblk m c 0 t) r0_6)
    (View.ld (iblk m c 0 t) r0_7) i : EReal) = total (aA m c) y := by
  have h : i = ix2 (i 0) (i 1) := by idx_ext
  obtain ⟨e0, e1, e2, e3, e4, e5, e6, e7⟩ := slot_read m c t (i 0) (i 1)
  refine (congrArg (k0_pay1 (F := Ideal) _ _ _ _ _ _ _ _) h).trans ((sum_at _ _ _ _ _ _ _ _ _ _).trans ?_)
  rw [e0, e1, e2, e3, e4, e5, e6, e7, total, Fin.sum_univ_eight, show y 0 = i 0 from Fin.ext h0,
    show y 1 = i 1 from Fin.ext h1]

/-- The kernel's array after the run. -/
theorem final : (dats m 0 c).arrAt 1 cfg0.N = total (aA m c) := by
  refine (dats m 0 c).arrAt_eq_of_covers 1 _ (by decide +kernel) fun t hf y => ?_
  blk_simp
  rw [after0_1]
  unfold out0_1
  frame_out
  refine sum_part m c t y _ ?_ ?_
  · blk_simp [idx t]
  · blk_simp [idx t]

/-- The reference's array. -/
theorem reference (a : FVec Ideal S8x2336x128 .f32) :
    Host.reduceAdd a (constant Cert.SumSmallReferenceIdeal.S_ .f32 0x00000000#32)
      Cert.SumSmallReferenceIdeal.Gen.reducesTo_S8x2336x128_S2336x128_d0 Cert.SumSmallReferenceIdeal.Gen.h_S_ = total a := by
  funext y
  have h : y = ix2 (y 0) (y 1) := by idx_ext
  rw [h]
  pointwise [total]

end Cert.SumSmallEq

end
-- ==== Proof.lean ====
module

public import proofs.«01_k».proof.Defs
public import proofs.«01_k».proof.Proof.Gen.Kernel
public import proofs.«01_k».proof.Proof.Gen.Kernel.Frame
public import proofs.«01_k».proof.Proof.Gen.KernelIdeal
public import proofs.«01_k».proof.Proof.Gen.KernelIdeal.Frame
public import proofs.«01_k».proof.Proof.Gen.KernelIdeal.Value
public import proofs.«01_k».proof.Proof.Gen.ReferenceIdeal
public import proofs.«01_k».proof.Proof.Gen.ReferenceIdeal.Run
public import proofs.«01_k».proof.Proof.Gen.Dense
public import proofs.«01_k».proof.Proof.Gen.Dense.Frame
public import proofs.«01_k».proof.Proof.Gen.DenseIdeal
public import proofs.«01_k».proof.Proof.Gen.DenseIdeal.Frame
public import proofs.«01_k».proof.Proof.Gen.DenseIdeal.Value
public import proofs.«01_k».proof.Proof.Gen.DenseReferenceIdeal
public import proofs.«01_k».proof.Proof.Gen.DenseReferenceIdeal.Run
public import proofs.«01_k».proof.Proof.DenseEquation
public import proofs.«01_k».proof.Proof.Gen.Mla
public import proofs.«01_k».proof.Proof.Gen.Mla.Frame
public import proofs.«01_k».proof.Proof.Gen.MlaIdeal
public import proofs.«01_k».proof.Proof.Gen.MlaIdeal.Frame
public import proofs.«01_k».proof.Proof.Gen.MlaIdeal.Value
public import proofs.«01_k».proof.Proof.Gen.MlaReferenceIdeal
public import proofs.«01_k».proof.Proof.Gen.MlaReferenceIdeal.Run
public import proofs.«01_k».proof.Proof.MlaEquation
public import proofs.«01_k».proof.Proof.Gen.MlaGrad
public import proofs.«01_k».proof.Proof.Gen.MlaGrad.Frame
public import proofs.«01_k».proof.Proof.Gen.MlaGradIdeal
public import proofs.«01_k».proof.Proof.Gen.MlaGradIdeal.Frame
public import proofs.«01_k».proof.Proof.Gen.MlaGradIdeal.Value
public import proofs.«01_k».proof.Proof.Gen.MlaGradReferenceIdeal
public import proofs.«01_k».proof.Proof.Gen.MlaGradReferenceIdeal.Run
public import proofs.«01_k».proof.Proof.MlaGradEquation
public import proofs.«01_k».proof.Proof.Gen.MlpUp
public import proofs.«01_k».proof.Proof.Gen.MlpUp.Frame
public import proofs.«01_k».proof.Proof.Gen.MlpUpIdeal
public import proofs.«01_k».proof.Proof.Gen.MlpUpIdeal.Frame
public import proofs.«01_k».proof.Proof.Gen.MlpUpReferenceIdeal
public import proofs.«01_k».proof.Proof.MlpUp
public import proofs.«01_k».proof.Proof.Gen.MlpGrad
public import proofs.«01_k».proof.Proof.Gen.MlpGrad.Frame
public import proofs.«01_k».proof.Proof.Gen.MlpGradIdeal
public import proofs.«01_k».proof.Proof.Gen.MlpGradIdeal.Frame
public import proofs.«01_k».proof.Proof.Gen.MlpGradReferenceIdeal
public import proofs.«01_k».proof.Proof.MlpGrad
public import proofs.«01_k».proof.Proof.Gen.MlpInT
public import proofs.«01_k».proof.Proof.Gen.MlpInT.Frame
public import proofs.«01_k».proof.Proof.Gen.MlpInTIdeal
public import proofs.«01_k».proof.Proof.Gen.MlpInTIdeal.Frame
public import proofs.«01_k».proof.Proof.Gen.MlpInTReferenceIdeal
public import proofs.«01_k».proof.Proof.MlpInT
public import proofs.«01_k».proof.Proof.Gen.MlpInW
public import proofs.«01_k».proof.Proof.Gen.MlpInW.Frame
public import proofs.«01_k».proof.Proof.Gen.MlpInWIdeal
public import proofs.«01_k».proof.Proof.Gen.MlpInWIdeal.Frame
public import proofs.«01_k».proof.Proof.Gen.MlpInWReferenceIdeal
public import proofs.«01_k».proof.Proof.MlpInW
public import proofs.«01_k».proof.Proof.Gen.MlpOut
public import proofs.«01_k».proof.Proof.Gen.MlpOut.Frame
public import proofs.«01_k».proof.Proof.Gen.MlpOutIdeal
public import proofs.«01_k».proof.Proof.Gen.MlpOutIdeal.Frame
public import proofs.«01_k».proof.Proof.Gen.MlpOutReferenceIdeal
public import proofs.«01_k».proof.Proof.MlpOut
public import proofs.«01_k».proof.Proof.Gen.MlpOutW
public import proofs.«01_k».proof.Proof.Gen.MlpOutW.Frame
public import proofs.«01_k».proof.Proof.Gen.MlpOutWIdeal
public import proofs.«01_k».proof.Proof.Gen.MlpOutWIdeal.Frame
public import proofs.«01_k».proof.Proof.Gen.MlpOutWReferenceIdeal
public import proofs.«01_k».proof.Proof.MlpOutW
public import proofs.«01_k».proof.Proof.Gen.LastUp
public import proofs.«01_k».proof.Proof.Gen.LastUp.Frame
public import proofs.«01_k».proof.Proof.Gen.LastUpIdeal
public import proofs.«01_k».proof.Proof.Gen.LastUpIdeal.Frame
public import proofs.«01_k».proof.Proof.Gen.LastUpReferenceIdeal
public import proofs.«01_k».proof.Proof.LastUp
public import proofs.«01_k».proof.Proof.Gen.LastGrad
public import proofs.«01_k».proof.Proof.Gen.LastGrad.Frame
public import proofs.«01_k».proof.Proof.Gen.LastGradIdeal
public import proofs.«01_k».proof.Proof.Gen.LastGradIdeal.Frame
public import proofs.«01_k».proof.Proof.Gen.LastGradReferenceIdeal
public import proofs.«01_k».proof.Proof.LastGrad
public import proofs.«01_k».proof.Proof.Gen.LastInT
public import proofs.«01_k».proof.Proof.Gen.LastInT.Frame
public import proofs.«01_k».proof.Proof.Gen.LastInTIdeal
public import proofs.«01_k».proof.Proof.Gen.LastInTIdeal.Frame
public import proofs.«01_k».proof.Proof.Gen.LastInTReferenceIdeal
public import proofs.«01_k».proof.Proof.LastInT
public import proofs.«01_k».proof.Proof.Gen.LastInW
public import proofs.«01_k».proof.Proof.Gen.LastInW.Frame
public import proofs.«01_k».proof.Proof.Gen.LastInWIdeal
public import proofs.«01_k».proof.Proof.Gen.LastInWIdeal.Frame
public import proofs.«01_k».proof.Proof.Gen.LastInWReferenceIdeal
public import proofs.«01_k».proof.Proof.LastInW
public import proofs.«01_k».proof.Proof.Gen.LastOut
public import proofs.«01_k».proof.Proof.Gen.LastOut.Frame
public import proofs.«01_k».proof.Proof.Gen.LastOutIdeal
public import proofs.«01_k».proof.Proof.Gen.LastOutIdeal.Frame
public import proofs.«01_k».proof.Proof.Gen.LastOutReferenceIdeal
public import proofs.«01_k».proof.Proof.LastOut
public import proofs.«01_k».proof.Proof.Gen.LastOutW
public import proofs.«01_k».proof.Proof.Gen.LastOutW.Frame
public import proofs.«01_k».proof.Proof.Gen.LastOutWIdeal
public import proofs.«01_k».proof.Proof.Gen.LastOutWIdeal.Frame
public import proofs.«01_k».proof.Proof.Gen.LastOutWReferenceIdeal
public import proofs.«01_k».proof.Proof.LastOutW
public import proofs.«01_k».proof.Proof.Gen.EvenIn
public import proofs.«01_k».proof.Proof.Gen.EvenIn.Frame
public import proofs.«01_k».proof.Proof.Gen.EvenInIdeal
public import proofs.«01_k».proof.Proof.Gen.EvenInIdeal.Frame
public import proofs.«01_k».proof.Proof.Gen.EvenInReferenceIdeal
public import proofs.«01_k».proof.Proof.EvenIn
public import proofs.«01_k».proof.Proof.Gen.EvenInT
public import proofs.«01_k».proof.Proof.Gen.EvenInT.Frame
public import proofs.«01_k».proof.Proof.Gen.EvenInTIdeal
public import proofs.«01_k».proof.Proof.Gen.EvenInTIdeal.Frame
public import proofs.«01_k».proof.Proof.Gen.EvenInTReferenceIdeal
public import proofs.«01_k».proof.Proof.EvenInT
public import proofs.«01_k».proof.Proof.Gen.EvenInW
public import proofs.«01_k».proof.Proof.Gen.EvenInW.Frame
public import proofs.«01_k».proof.Proof.Gen.EvenInWIdeal
public import proofs.«01_k».proof.Proof.Gen.EvenInWIdeal.Frame
public import proofs.«01_k».proof.Proof.Gen.EvenInWReferenceIdeal
public import proofs.«01_k».proof.Proof.EvenInW
public import proofs.«01_k».proof.Proof.Gen.OddIn
public import proofs.«01_k».proof.Proof.Gen.OddIn.Frame
public import proofs.«01_k».proof.Proof.Gen.OddInIdeal
public import proofs.«01_k».proof.Proof.Gen.OddInIdeal.Frame
public import proofs.«01_k».proof.Proof.Gen.OddInReferenceIdeal
public import proofs.«01_k».proof.Proof.OddIn
public import proofs.«01_k».proof.Proof.Gen.OddInT
public import proofs.«01_k».proof.Proof.Gen.OddInT.Frame
public import proofs.«01_k».proof.Proof.Gen.OddInTIdeal
public import proofs.«01_k».proof.Proof.Gen.OddInTIdeal.Frame
public import proofs.«01_k».proof.Proof.Gen.OddInTReferenceIdeal
public import proofs.«01_k».proof.Proof.OddInT
public import proofs.«01_k».proof.Proof.Gen.OddInW
public import proofs.«01_k».proof.Proof.Gen.OddInW.Frame
public import proofs.«01_k».proof.Proof.Gen.OddInWIdeal
public import proofs.«01_k».proof.Proof.Gen.OddInWIdeal.Frame
public import proofs.«01_k».proof.Proof.Gen.OddInWReferenceIdeal
public import proofs.«01_k».proof.Proof.OddInW
public import proofs.«01_k».proof.Proof.Gen.MlaQ
public import proofs.«01_k».proof.Proof.Gen.MlaQ.Frame
public import proofs.«01_k».proof.Proof.Gen.MlaQIdeal
public import proofs.«01_k».proof.Proof.Gen.MlaQIdeal.Frame
public import proofs.«01_k».proof.Proof.Gen.MlaQReferenceIdeal
public import proofs.«01_k».proof.Proof.MlaQ
public import proofs.«01_k».proof.Proof.Gen.MlaQT
public import proofs.«01_k».proof.Proof.Gen.MlaQT.Frame
public import proofs.«01_k».proof.Proof.Gen.MlaQTIdeal
public import proofs.«01_k».proof.Proof.Gen.MlaQTIdeal.Frame
public import proofs.«01_k».proof.Proof.Gen.MlaQTReferenceIdeal
public import proofs.«01_k».proof.Proof.MlaQT
public import proofs.«01_k».proof.Proof.Gen.MlaQW
public import proofs.«01_k».proof.Proof.Gen.MlaQW.Frame
public import proofs.«01_k».proof.Proof.Gen.MlaQWIdeal
public import proofs.«01_k».proof.Proof.Gen.MlaQWIdeal.Frame
public import proofs.«01_k».proof.Proof.Gen.MlaQWReferenceIdeal
public import proofs.«01_k».proof.Proof.MlaQW
public import proofs.«01_k».proof.Proof.Gen.MlaKv
public import proofs.«01_k».proof.Proof.Gen.MlaKv.Frame
public import proofs.«01_k».proof.Proof.Gen.MlaKvIdeal
public import proofs.«01_k».proof.Proof.Gen.MlaKvIdeal.Frame
public import proofs.«01_k».proof.Proof.Gen.MlaKvReferenceIdeal
public import proofs.«01_k».proof.Proof.MlaKv
public import proofs.«01_k».proof.Proof.Gen.MlaKvT
public import proofs.«01_k».proof.Proof.Gen.MlaKvT.Frame
public import proofs.«01_k».proof.Proof.Gen.MlaKvTIdeal
public import proofs.«01_k».proof.Proof.Gen.MlaKvTIdeal.Frame
public import proofs.«01_k».proof.Proof.Gen.MlaKvTReferenceIdeal
public import proofs.«01_k».proof.Proof.MlaKvT
public import proofs.«01_k».proof.Proof.Gen.MlaKvW
public import proofs.«01_k».proof.Proof.Gen.MlaKvW.Frame
public import proofs.«01_k».proof.Proof.Gen.MlaKvWIdeal
public import proofs.«01_k».proof.Proof.Gen.MlaKvWIdeal.Frame
public import proofs.«01_k».proof.Proof.Gen.MlaKvWReferenceIdeal
public import proofs.«01_k».proof.Proof.MlaKvW
public import proofs.«01_k».proof.Proof.Gen.Mix
public import proofs.«01_k».proof.Proof.Gen.Mix.Frame
public import proofs.«01_k».proof.Proof.Gen.MixIdeal
public import proofs.«01_k».proof.Proof.Gen.MixIdeal.Frame
public import proofs.«01_k».proof.Proof.Gen.MixReferenceIdeal
public import proofs.«01_k».proof.Proof.Mix
public import proofs.«01_k».proof.Proof.Gen.MixT
public import proofs.«01_k».proof.Proof.Gen.MixT.Frame
public import proofs.«01_k».proof.Proof.Gen.MixTIdeal
public import proofs.«01_k».proof.Proof.Gen.MixTIdeal.Frame
public import proofs.«01_k».proof.Proof.Gen.MixTReferenceIdeal
public import proofs.«01_k».proof.Proof.MixT
public import proofs.«01_k».proof.Proof.Gen.MixW
public import proofs.«01_k».proof.Proof.Gen.MixW.Frame
public import proofs.«01_k».proof.Proof.Gen.MixWIdeal
public import proofs.«01_k».proof.Proof.Gen.MixWIdeal.Frame
public import proofs.«01_k».proof.Proof.Gen.MixWReferenceIdeal
public import proofs.«01_k».proof.Proof.MixW
public import proofs.«01_k».proof.Proof.Gen.LastMix
public import proofs.«01_k».proof.Proof.Gen.LastMix.Frame
public import proofs.«01_k».proof.Proof.Gen.LastMixIdeal
public import proofs.«01_k».proof.Proof.Gen.LastMixIdeal.Frame
public import proofs.«01_k».proof.Proof.Gen.LastMixReferenceIdeal
public import proofs.«01_k».proof.Proof.LastMix
public import proofs.«01_k».proof.Proof.Gen.LastMixT
public import proofs.«01_k».proof.Proof.Gen.LastMixT.Frame
public import proofs.«01_k».proof.Proof.Gen.LastMixTIdeal
public import proofs.«01_k».proof.Proof.Gen.LastMixTIdeal.Frame
public import proofs.«01_k».proof.Proof.Gen.LastMixTReferenceIdeal
public import proofs.«01_k».proof.Proof.LastMixT
public import proofs.«01_k».proof.Proof.Gen.LastMixW
public import proofs.«01_k».proof.Proof.Gen.LastMixW.Frame
public import proofs.«01_k».proof.Proof.Gen.LastMixWIdeal
public import proofs.«01_k».proof.Proof.Gen.LastMixWIdeal.Frame
public import proofs.«01_k».proof.Proof.Gen.LastMixWReferenceIdeal
public import proofs.«01_k».proof.Proof.LastMixW
public import proofs.«01_k».proof.Proof.Equation
public import Idealize.ShloMosaic.Lib.Claim
public import Idealize.ShloMosaic.Lib.Quiescent
public import Idealize.ShloMosaic.Adequacy
public import Idealize.ShloMosaic.Init
public import proofs.«01_k».proof.Proof.Gen.Glu
public import proofs.«01_k».proof.Proof.Gen.Glu.Frame
public import proofs.«01_k».proof.Proof.Gen.GluIdeal
public import proofs.«01_k».proof.Proof.Gen.GluIdeal.Frame
public import proofs.«01_k».proof.Proof.Gen.GluReferenceIdeal
public import proofs.«01_k».proof.Proof.Glu
public import proofs.«01_k».proof.Proof.Gen.GluT
public import proofs.«01_k».proof.Proof.Gen.GluT.Frame
public import proofs.«01_k».proof.Proof.Gen.GluTIdeal
public import proofs.«01_k».proof.Proof.Gen.GluTIdeal.Frame
public import proofs.«01_k».proof.Proof.Gen.GluTReferenceIdeal
public import proofs.«01_k».proof.Proof.GluT
public import proofs.«01_k».proof.Proof.Gen.GluW
public import proofs.«01_k».proof.Proof.Gen.GluW.Frame
public import proofs.«01_k».proof.Proof.Gen.GluWIdeal
public import proofs.«01_k».proof.Proof.Gen.GluWIdeal.Frame
public import proofs.«01_k».proof.Proof.Gen.GluWReferenceIdeal
public import proofs.«01_k».proof.Proof.GluW
public import proofs.«01_k».proof.Proof.Gen.GluCtx
public import proofs.«01_k».proof.Proof.Gen.GluCtx.Frame
public import proofs.«01_k».proof.Proof.Gen.GluCtxIdeal
public import proofs.«01_k».proof.Proof.Gen.GluCtxIdeal.Frame
public import proofs.«01_k».proof.Proof.Gen.GluCtxReferenceIdeal
public import proofs.«01_k».proof.Proof.GluCtx
public import proofs.«01_k».proof.Proof.Gen.GluCtxT
public import proofs.«01_k».proof.Proof.Gen.GluCtxT.Frame
public import proofs.«01_k».proof.Proof.Gen.GluCtxTIdeal
public import proofs.«01_k».proof.Proof.Gen.GluCtxTIdeal.Frame
public import proofs.«01_k».proof.Proof.Gen.GluCtxTReferenceIdeal
public import proofs.«01_k».proof.Proof.GluCtxT
public import proofs.«01_k».proof.Proof.Gen.GluCtxW
public import proofs.«01_k».proof.Proof.Gen.GluCtxW.Frame
public import proofs.«01_k».proof.Proof.Gen.GluCtxWIdeal
public import proofs.«01_k».proof.Proof.Gen.GluCtxWIdeal.Frame
public import proofs.«01_k».proof.Proof.Gen.GluCtxWReferenceIdeal
public import proofs.«01_k».proof.Proof.GluCtxW
public import proofs.«01_k».proof.Proof.Gen.AdamUp
public import proofs.«01_k».proof.Proof.Gen.AdamUp.Frame
public import proofs.«01_k».proof.Proof.Gen.AdamUpIdeal
public import proofs.«01_k».proof.Proof.Gen.AdamUpIdeal.Frame
public import proofs.«01_k».proof.Proof.Gen.AdamUpReferenceIdeal
public import proofs.«01_k».proof.Proof.AdamUp
public import proofs.«01_k».proof.Proof.Gen.AdamDown
public import proofs.«01_k».proof.Proof.Gen.AdamDown.Frame
public import proofs.«01_k».proof.Proof.Gen.AdamDownIdeal
public import proofs.«01_k».proof.Proof.Gen.AdamDownIdeal.Frame
public import proofs.«01_k».proof.Proof.Gen.AdamDownReferenceIdeal
public import proofs.«01_k».proof.Proof.AdamDown
public import proofs.«01_k».proof.Proof.Gen.AdamEvenIn
public import proofs.«01_k».proof.Proof.Gen.AdamEvenIn.Frame
public import proofs.«01_k».proof.Proof.Gen.AdamEvenInIdeal
public import proofs.«01_k».proof.Proof.Gen.AdamEvenInIdeal.Frame
public import proofs.«01_k».proof.Proof.Gen.AdamEvenInReferenceIdeal
public import proofs.«01_k».proof.Proof.AdamEvenIn
public import proofs.«01_k».proof.Proof.Gen.AdamMix
public import proofs.«01_k».proof.Proof.Gen.AdamMix.Frame
public import proofs.«01_k».proof.Proof.Gen.AdamMixIdeal
public import proofs.«01_k».proof.Proof.Gen.AdamMixIdeal.Frame
public import proofs.«01_k».proof.Proof.Gen.AdamMixReferenceIdeal
public import proofs.«01_k».proof.Proof.AdamMix
public import proofs.«01_k».proof.Proof.Gen.AdamOddIn
public import proofs.«01_k».proof.Proof.Gen.AdamOddIn.Frame
public import proofs.«01_k».proof.Proof.Gen.AdamOddInIdeal
public import proofs.«01_k».proof.Proof.Gen.AdamOddInIdeal.Frame
public import proofs.«01_k».proof.Proof.Gen.AdamOddInReferenceIdeal
public import proofs.«01_k».proof.Proof.AdamOddIn
public import proofs.«01_k».proof.Proof.Gen.AdamQ
public import proofs.«01_k».proof.Proof.Gen.AdamQ.Frame
public import proofs.«01_k».proof.Proof.Gen.AdamQIdeal
public import proofs.«01_k».proof.Proof.Gen.AdamQIdeal.Frame
public import proofs.«01_k».proof.Proof.Gen.AdamQReferenceIdeal
public import proofs.«01_k».proof.Proof.AdamQ
public import proofs.«01_k».proof.Proof.Gen.AdamKv
public import proofs.«01_k».proof.Proof.Gen.AdamKv.Frame
public import proofs.«01_k».proof.Proof.Gen.AdamKvIdeal
public import proofs.«01_k».proof.Proof.Gen.AdamKvIdeal.Frame
public import proofs.«01_k».proof.Proof.Gen.AdamKvReferenceIdeal
public import proofs.«01_k».proof.Proof.AdamKv
public import proofs.«01_k».proof.Proof.Gen.AdamGlu
public import proofs.«01_k».proof.Proof.Gen.AdamGlu.Frame
public import proofs.«01_k».proof.Proof.Gen.AdamGluIdeal
public import proofs.«01_k».proof.Proof.Gen.AdamGluIdeal.Frame
public import proofs.«01_k».proof.Proof.Gen.AdamGluReferenceIdeal
public import proofs.«01_k».proof.Proof.AdamGlu
public import proofs.«01_k».proof.Proof.Gen.AdamMod
public import proofs.«01_k».proof.Proof.Gen.AdamMod.Frame
public import proofs.«01_k».proof.Proof.Gen.AdamModIdeal
public import proofs.«01_k».proof.Proof.Gen.AdamModIdeal.Frame
public import proofs.«01_k».proof.Proof.Gen.AdamModReferenceIdeal
public import proofs.«01_k».proof.Proof.AdamMod
public import proofs.«01_k».proof.Proof.Gen.SumSmall
public import proofs.«01_k».proof.Proof.Gen.SumSmall.Frame
public import proofs.«01_k».proof.Proof.Gen.SumSmallIdeal
public import proofs.«01_k».proof.Proof.Gen.SumSmallIdeal.Frame
public import proofs.«01_k».proof.Proof.Gen.SumSmallReferenceIdeal
public import proofs.«01_k».proof.Proof.SumSmall

@[expose] public section

set_option maxRecDepth 16384

noncomputable section

namespace Cert.Proof

open Idealize.ShloMosaic Idealize.SL.Sem

theorem frame_kernel : Cert.quiescent_Kernel := fun m g _ => Cert.Kernel.Gen.frame m g

theorem frame_ideal : Cert.quiescent_KernelIdeal := fun m g _ => Cert.KernelIdeal.Gen.frame m g

theorem frame_reference : Cert.quiescent_ReferenceIdeal := fun m g _ =>
  (θ_run Cert.ReferenceIdeal.defs _ _).mono (fun r h => ⟨fun c => (h c).2.2.2, sem_eq_zero_of_no_sems (by decide) r.2⟩)
    (Cert.ReferenceIdeal.Value.run (F := Ideal) m g)

theorem named : Cert.preserves_Kernel_KernelIdeal :=
  IdealRules.named_const.statement Cert.KernelIdeal.κ "scale_log2e" .f32 0x3E38AA3B#32 (((1 / 8) * (Real.log 2)⁻¹ : ℝ) : EReal) rfl

section
variable [hPre_finite : Cert.Pre_finite.Facts]

theorem frame_ideal_finite : Cert.quiescent_KernelIdeal_pre_finite := fun m g _ => Cert.KernelIdeal.Gen.frame m g

theorem frame_reference_finite : Cert.quiescent_ReferenceIdeal_pre_finite := fun m g _ => frame_reference m g trivial

/-- The two programs end with the same gradients. -/
theorem gradients : Cert.algebraic_KernelIdeal_ReferenceIdeal_pre_finite := by
  pair_intro
  · run_from Cert.KernelIdeal.Value.run_blocks m g
  · run_from Cert.ReferenceIdeal.Value.run m' g'
    · obtain ⟨h0, h1, h2, h3⟩ := hagree c
      rw [RefArrays.out0, h0, h1, h2, h3]
      exact (Equation.dq_eq m c (Finite.rows _ _ _ _ (hpre c))).symm
    · obtain ⟨h0, h1, h2, h3⟩ := hagree c
      rw [RefArrays.out1, h0, h1, h2, h3]
      exact (Equation.dk_eq m c (Finite.rows _ _ _ _ (hpre c))).symm
    · exact (Equation.dv_eq m c (Finite.rows _ _ _ _ (hpre c))).symm
end

/-! The other attentions: the frames, the named constant, and the equality of the two programs' arrays. -/

theorem frame_Dense : Cert.quiescent_Dense := fun m g _ => Cert.Dense.Gen.frame m g

theorem frame_DenseIdeal : Cert.quiescent_DenseIdeal := fun m g _ => Cert.DenseIdeal.Gen.frame m g

theorem frame_DenseReference : Cert.quiescent_DenseReferenceIdeal := fun m g _ =>
  (θ_run Cert.DenseReferenceIdeal.defs _ _).mono (fun r h => ⟨fun c => (h c).2, sem_eq_zero_of_no_sems (by decide) r.2⟩)
    (Cert.DenseReferenceIdeal.Value.run (F := Ideal) m g)

theorem named_Dense : Cert.preserves_Dense_DenseIdeal :=
  IdealRules.named_const.statement Cert.DenseIdeal.κ "scale_log2e" .f32 0x3E38AA3B#32 (((1 / 8) * (Real.log 2)⁻¹ : ℝ) : EReal) rfl

section
variable [hPre_finite_forward : Cert.Pre_finite_forward.Facts]

theorem frame_DenseIdeal_finite : Cert.quiescent_DenseIdeal_pre_finite_forward := fun m g _ => Cert.DenseIdeal.Gen.frame m g

theorem frame_DenseReference_finite : Cert.quiescent_DenseReferenceIdeal_pre_finite_forward := fun m g _ => frame_DenseReference m g trivial

theorem equal_Dense : Cert.algebraic_DenseIdeal_DenseReferenceIdeal_pre_finite_forward := by
  pair_intro
  · run_from Cert.DenseIdeal.Value.run_blocks m g
  · run_from Cert.DenseReferenceIdeal.Value.run m' g'
    · exact (DenseEquation.equal m c (hpre c)).symm
end

theorem frame_Mla : Cert.quiescent_Mla := fun m g _ => Cert.Mla.Gen.frame m g

theorem frame_MlaIdeal : Cert.quiescent_MlaIdeal := fun m g _ => Cert.MlaIdeal.Gen.frame m g

theorem frame_MlaReference : Cert.quiescent_MlaReferenceIdeal := fun m g _ =>
  (θ_run Cert.MlaReferenceIdeal.defs _ _).mono (fun r h => ⟨fun c => (h c).2, sem_eq_zero_of_no_sems (by decide) r.2⟩)
    (Cert.MlaReferenceIdeal.Value.run (F := Ideal) m g)

theorem named_Mla : Cert.preserves_Mla_MlaIdeal :=
  IdealRules.named_const.statement Cert.MlaIdeal.κ "scale_log2e" .f32 0x3E16C740#32 (((3424635 / 33554432) * (Real.log 2)⁻¹ : ℝ) : EReal) rfl

section
variable [hPre_finite_mla_forward : Cert.Pre_finite_mla_forward.Facts]

theorem frame_MlaIdeal_finite : Cert.quiescent_MlaIdeal_pre_finite_mla_forward := fun m g _ => Cert.MlaIdeal.Gen.frame m g

theorem frame_MlaReference_finite : Cert.quiescent_MlaReferenceIdeal_pre_finite_mla_forward := fun m g _ => frame_MlaReference m g trivial

theorem equal_Mla : Cert.algebraic_MlaIdeal_MlaReferenceIdeal_pre_finite_mla_forward := by
  pair_intro
  · run_from Cert.MlaIdeal.Value.run_blocks m g
  · run_from Cert.MlaReferenceIdeal.Value.run m' g'
    · exact (MlaEquation.equal m c (hpre c)).symm
end

theorem frame_MlaGrad : Cert.quiescent_MlaGrad := fun m g _ => Cert.MlaGrad.Gen.frame m g

theorem frame_MlaGradIdeal : Cert.quiescent_MlaGradIdeal := fun m g _ => Cert.MlaGradIdeal.Gen.frame m g

theorem frame_MlaGradReference : Cert.quiescent_MlaGradReferenceIdeal := fun m g _ =>
  (θ_run Cert.MlaGradReferenceIdeal.defs _ _).mono (fun r h => ⟨fun c => (h c).2.2.2, sem_eq_zero_of_no_sems (by decide) r.2⟩)
    (Cert.MlaGradReferenceIdeal.Value.run (F := Ideal) m g)

theorem named_MlaGrad : Cert.preserves_MlaGrad_MlaGradIdeal :=
  IdealRules.named_const.statement Cert.MlaGradIdeal.κ "scale_log2e" .f32 0x3E16C740#32 (((3424635 / 33554432) * (Real.log 2)⁻¹ : ℝ) : EReal) rfl

section
variable [hPre_finite_mla : Cert.Pre_finite_mla.Facts]

theorem frame_MlaGradIdeal_finite : Cert.quiescent_MlaGradIdeal_pre_finite_mla := fun m g _ => Cert.MlaGradIdeal.Gen.frame m g

theorem frame_MlaGradReference_finite : Cert.quiescent_MlaGradReferenceIdeal_pre_finite_mla := fun m g _ => frame_MlaGradReference m g trivial

theorem equal_MlaGrad : Cert.algebraic_MlaGradIdeal_MlaGradReferenceIdeal_pre_finite_mla := by
  pair_intro
  · run_from Cert.MlaGradIdeal.Value.run_blocks m g
  · run_from Cert.MlaGradReferenceIdeal.Value.run m' g'
    · obtain ⟨h0, h1, h2, h3⟩ := hagree c
      rw [MlaGradRef.out0, h0, h1, h2, h3]
      exact (MlaGradEquation.dq_eq m c (MlaGradEquation.rows _ _ _ _ (hpre c))).symm
    · obtain ⟨h0, h1, h2, h3⟩ := hagree c
      rw [MlaGradRef.out1, h0, h1, h2, h3]
      exact (MlaGradEquation.dk_eq m c (MlaGradEquation.rows _ _ _ _ (hpre c))).symm
    · exact (MlaGradEquation.dv_eq m c (MlaGradEquation.rows _ _ _ _ (hpre c))).symm
end

/-! The products: the frames of each, and the equality of the two programs' arrays. -/

theorem frame_MlpUp : Cert.quiescent_MlpUp := fun m g _ => Cert.MlpUp.Gen.frame m g

theorem frame_MlpUpIdeal : Cert.quiescent_MlpUpIdeal := fun m g _ => Cert.MlpUpIdeal.Gen.frame m g

theorem frame_MlpUpReference : Cert.quiescent_MlpUpReferenceIdeal := fun m g _ =>
  (θ_run Cert.MlpUpReferenceIdeal.defs _ _).mono
    (fun r h => ⟨fun c => (h c).2.2, sem_eq_zero_of_no_sems (by decide) r.2⟩)
    (Cert.MlpUpReferenceIdeal.Value.run (F := Ideal) m g)

theorem equal_MlpUp : Cert.algebraic_MlpUpIdeal_MlpUpReferenceIdeal := by
  pair_intro
  · run_from Cert.MlpUpIdeal.Value.run_blocks m g
  · run_from Cert.MlpUpReferenceIdeal.Value.run m' g'
    · exact (MlpUpEq.reference_rect _ _).trans (MlpUpEq.final_rect m c).symm
    · exact (MlpUpEq.reference_square _ _).trans (MlpUpEq.final_square m c).symm

theorem frame_MlpGrad : Cert.quiescent_MlpGrad := fun m g _ => Cert.MlpGrad.Gen.frame m g

theorem frame_MlpGradIdeal : Cert.quiescent_MlpGradIdeal := fun m g _ => Cert.MlpGradIdeal.Gen.frame m g

theorem frame_MlpGradReference : Cert.quiescent_MlpGradReferenceIdeal := fun m g _ =>
  (θ_run Cert.MlpGradReferenceIdeal.defs _ _).mono
    (fun r h => ⟨fun c => (h c).2, sem_eq_zero_of_no_sems (by decide) r.2⟩)
    (Cert.MlpGradReferenceIdeal.Value.run (F := Ideal) m g)

theorem equal_MlpGrad : Cert.algebraic_MlpGradIdeal_MlpGradReferenceIdeal := by
  pair_intro
  · run_from Cert.MlpGradIdeal.Value.run_blocks m g
  · run_from Cert.MlpGradReferenceIdeal.Value.run m' g'
    · exact (MlpGradEq.reference _ _ _).trans (MlpGradEq.final m c).symm

theorem frame_MlpInT : Cert.quiescent_MlpInT := fun m g _ => Cert.MlpInT.Gen.frame m g

theorem frame_MlpInTIdeal : Cert.quiescent_MlpInTIdeal := fun m g _ => Cert.MlpInTIdeal.Gen.frame m g

theorem frame_MlpInTReference : Cert.quiescent_MlpInTReferenceIdeal := fun m g _ =>
  (θ_run Cert.MlpInTReferenceIdeal.defs _ _).mono
    (fun r h => ⟨fun c => (h c).2, sem_eq_zero_of_no_sems (by decide) r.2⟩)
    (Cert.MlpInTReferenceIdeal.Value.run (F := Ideal) m g)

theorem equal_MlpInT : Cert.algebraic_MlpInTIdeal_MlpInTReferenceIdeal := by
  pair_intro
  · run_from Cert.MlpInTIdeal.Value.run_blocks m g
  · run_from Cert.MlpInTReferenceIdeal.Value.run m' g'
    · exact (MlpInTEq.reference _ _).trans (MlpInTEq.final m c).symm

theorem frame_MlpInW : Cert.quiescent_MlpInW := fun m g _ => Cert.MlpInW.Gen.frame m g

theorem frame_MlpInWIdeal : Cert.quiescent_MlpInWIdeal := fun m g _ => Cert.MlpInWIdeal.Gen.frame m g

theorem frame_MlpInWReference : Cert.quiescent_MlpInWReferenceIdeal := fun m g _ =>
  (θ_run Cert.MlpInWReferenceIdeal.defs _ _).mono
    (fun r h => ⟨fun c => (h c).2, sem_eq_zero_of_no_sems (by decide) r.2⟩)
    (Cert.MlpInWReferenceIdeal.Value.run (F := Ideal) m g)

theorem equal_MlpInW : Cert.algebraic_MlpInWIdeal_MlpInWReferenceIdeal := by
  pair_intro
  · run_from Cert.MlpInWIdeal.Value.run_blocks m g
  · run_from Cert.MlpInWReferenceIdeal.Value.run m' g'
    · exact (MlpInWEq.reference _ _).trans (MlpInWEq.final m c).symm

theorem frame_MlpOut : Cert.quiescent_MlpOut := fun m g _ => Cert.MlpOut.Gen.frame m g

theorem frame_MlpOutIdeal : Cert.quiescent_MlpOutIdeal := fun m g _ => Cert.MlpOutIdeal.Gen.frame m g

theorem frame_MlpOutReference : Cert.quiescent_MlpOutReferenceIdeal := fun m g _ =>
  (θ_run Cert.MlpOutReferenceIdeal.defs _ _).mono
    (fun r h => ⟨fun c => (h c).2, sem_eq_zero_of_no_sems (by decide) r.2⟩)
    (Cert.MlpOutReferenceIdeal.Value.run (F := Ideal) m g)

theorem equal_MlpOut : Cert.algebraic_MlpOutIdeal_MlpOutReferenceIdeal := by
  pair_intro
  · run_from Cert.MlpOutIdeal.Value.run_blocks m g
  · run_from Cert.MlpOutReferenceIdeal.Value.run m' g'
    · exact (MlpOutEq.reference _ _).trans (MlpOutEq.final m c).symm

theorem frame_MlpOutW : Cert.quiescent_MlpOutW := fun m g _ => Cert.MlpOutW.Gen.frame m g

theorem frame_MlpOutWIdeal : Cert.quiescent_MlpOutWIdeal := fun m g _ => Cert.MlpOutWIdeal.Gen.frame m g

theorem frame_MlpOutWReference : Cert.quiescent_MlpOutWReferenceIdeal := fun m g _ =>
  (θ_run Cert.MlpOutWReferenceIdeal.defs _ _).mono
    (fun r h => ⟨fun c => (h c).2, sem_eq_zero_of_no_sems (by decide) r.2⟩)
    (Cert.MlpOutWReferenceIdeal.Value.run (F := Ideal) m g)

theorem equal_MlpOutW : Cert.algebraic_MlpOutWIdeal_MlpOutWReferenceIdeal := by
  pair_intro
  · run_from Cert.MlpOutWIdeal.Value.run_blocks m g
  · run_from Cert.MlpOutWReferenceIdeal.Value.run m' g'
    · exact (MlpOutWEq.reference _ _).trans (MlpOutWEq.final m c).symm

theorem frame_LastUp : Cert.quiescent_LastUp := fun m g _ => Cert.LastUp.Gen.frame m g

theorem frame_LastUpIdeal : Cert.quiescent_LastUpIdeal := fun m g _ => Cert.LastUpIdeal.Gen.frame m g

theorem frame_LastUpReference : Cert.quiescent_LastUpReferenceIdeal := fun m g _ =>
  (θ_run Cert.LastUpReferenceIdeal.defs _ _).mono
    (fun r h => ⟨fun c => (h c).2.2, sem_eq_zero_of_no_sems (by decide) r.2⟩)
    (Cert.LastUpReferenceIdeal.Value.run (F := Ideal) m g)

theorem equal_LastUp : Cert.algebraic_LastUpIdeal_LastUpReferenceIdeal := by
  pair_intro
  · run_from Cert.LastUpIdeal.Value.run_blocks m g
  · run_from Cert.LastUpReferenceIdeal.Value.run m' g'
    · exact (LastUpEq.reference_rect _ _).trans (LastUpEq.final_rect m c).symm
    · exact (LastUpEq.reference_square _ _).trans (LastUpEq.final_square m c).symm

theorem frame_LastGrad : Cert.quiescent_LastGrad := fun m g _ => Cert.LastGrad.Gen.frame m g

theorem frame_LastGradIdeal : Cert.quiescent_LastGradIdeal := fun m g _ => Cert.LastGradIdeal.Gen.frame m g

theorem frame_LastGradReference : Cert.quiescent_LastGradReferenceIdeal := fun m g _ =>
  (θ_run Cert.LastGradReferenceIdeal.defs _ _).mono
    (fun r h => ⟨fun c => (h c).2, sem_eq_zero_of_no_sems (by decide) r.2⟩)
    (Cert.LastGradReferenceIdeal.Value.run (F := Ideal) m g)

theorem equal_LastGrad : Cert.algebraic_LastGradIdeal_LastGradReferenceIdeal := by
  pair_intro
  · run_from Cert.LastGradIdeal.Value.run_blocks m g
  · run_from Cert.LastGradReferenceIdeal.Value.run m' g'
    · exact (LastGradEq.reference _ _ _).trans (LastGradEq.final m c).symm

theorem frame_LastInT : Cert.quiescent_LastInT := fun m g _ => Cert.LastInT.Gen.frame m g

theorem frame_LastInTIdeal : Cert.quiescent_LastInTIdeal := fun m g _ => Cert.LastInTIdeal.Gen.frame m g

theorem frame_LastInTReference : Cert.quiescent_LastInTReferenceIdeal := fun m g _ =>
  (θ_run Cert.LastInTReferenceIdeal.defs _ _).mono
    (fun r h => ⟨fun c => (h c).2, sem_eq_zero_of_no_sems (by decide) r.2⟩)
    (Cert.LastInTReferenceIdeal.Value.run (F := Ideal) m g)

theorem equal_LastInT : Cert.algebraic_LastInTIdeal_LastInTReferenceIdeal := by
  pair_intro
  · run_from Cert.LastInTIdeal.Value.run_blocks m g
  · run_from Cert.LastInTReferenceIdeal.Value.run m' g'
    · exact (LastInTEq.reference _ _).trans (LastInTEq.final m c).symm

theorem frame_LastInW : Cert.quiescent_LastInW := fun m g _ => Cert.LastInW.Gen.frame m g

theorem frame_LastInWIdeal : Cert.quiescent_LastInWIdeal := fun m g _ => Cert.LastInWIdeal.Gen.frame m g

theorem frame_LastInWReference : Cert.quiescent_LastInWReferenceIdeal := fun m g _ =>
  (θ_run Cert.LastInWReferenceIdeal.defs _ _).mono
    (fun r h => ⟨fun c => (h c).2, sem_eq_zero_of_no_sems (by decide) r.2⟩)
    (Cert.LastInWReferenceIdeal.Value.run (F := Ideal) m g)

theorem equal_LastInW : Cert.algebraic_LastInWIdeal_LastInWReferenceIdeal := by
  pair_intro
  · run_from Cert.LastInWIdeal.Value.run_blocks m g
  · run_from Cert.LastInWReferenceIdeal.Value.run m' g'
    · exact (LastInWEq.reference _ _).trans (LastInWEq.final m c).symm

theorem frame_LastOut : Cert.quiescent_LastOut := fun m g _ => Cert.LastOut.Gen.frame m g

theorem frame_LastOutIdeal : Cert.quiescent_LastOutIdeal := fun m g _ => Cert.LastOutIdeal.Gen.frame m g

theorem frame_LastOutReference : Cert.quiescent_LastOutReferenceIdeal := fun m g _ =>
  (θ_run Cert.LastOutReferenceIdeal.defs _ _).mono
    (fun r h => ⟨fun c => (h c).2, sem_eq_zero_of_no_sems (by decide) r.2⟩)
    (Cert.LastOutReferenceIdeal.Value.run (F := Ideal) m g)

theorem equal_LastOut : Cert.algebraic_LastOutIdeal_LastOutReferenceIdeal := by
  pair_intro
  · run_from Cert.LastOutIdeal.Value.run_blocks m g
  · run_from Cert.LastOutReferenceIdeal.Value.run m' g'
    · exact (LastOutEq.reference _ _).trans (LastOutEq.final m c).symm

theorem frame_LastOutW : Cert.quiescent_LastOutW := fun m g _ => Cert.LastOutW.Gen.frame m g

theorem frame_LastOutWIdeal : Cert.quiescent_LastOutWIdeal := fun m g _ => Cert.LastOutWIdeal.Gen.frame m g

theorem frame_LastOutWReference : Cert.quiescent_LastOutWReferenceIdeal := fun m g _ =>
  (θ_run Cert.LastOutWReferenceIdeal.defs _ _).mono
    (fun r h => ⟨fun c => (h c).2, sem_eq_zero_of_no_sems (by decide) r.2⟩)
    (Cert.LastOutWReferenceIdeal.Value.run (F := Ideal) m g)

theorem equal_LastOutW : Cert.algebraic_LastOutWIdeal_LastOutWReferenceIdeal := by
  pair_intro
  · run_from Cert.LastOutWIdeal.Value.run_blocks m g
  · run_from Cert.LastOutWReferenceIdeal.Value.run m' g'
    · exact (LastOutWEq.reference _ _).trans (LastOutWEq.final m c).symm

theorem frame_EvenIn : Cert.quiescent_EvenIn := fun m g _ => Cert.EvenIn.Gen.frame m g

theorem frame_EvenInIdeal : Cert.quiescent_EvenInIdeal := fun m g _ => Cert.EvenInIdeal.Gen.frame m g

theorem frame_EvenInReference : Cert.quiescent_EvenInReferenceIdeal := fun m g _ =>
  (θ_run Cert.EvenInReferenceIdeal.defs _ _).mono
    (fun r h => ⟨fun c => (h c).2, sem_eq_zero_of_no_sems (by decide) r.2⟩)
    (Cert.EvenInReferenceIdeal.Value.run (F := Ideal) m g)

theorem equal_EvenIn : Cert.algebraic_EvenInIdeal_EvenInReferenceIdeal := by
  pair_intro
  · run_from Cert.EvenInIdeal.Value.run_blocks m g
  · run_from Cert.EvenInReferenceIdeal.Value.run m' g'
    · exact (EvenInEq.reference _ _).trans (EvenInEq.final m c).symm

theorem frame_EvenInT : Cert.quiescent_EvenInT := fun m g _ => Cert.EvenInT.Gen.frame m g

theorem frame_EvenInTIdeal : Cert.quiescent_EvenInTIdeal := fun m g _ => Cert.EvenInTIdeal.Gen.frame m g

theorem frame_EvenInTReference : Cert.quiescent_EvenInTReferenceIdeal := fun m g _ =>
  (θ_run Cert.EvenInTReferenceIdeal.defs _ _).mono
    (fun r h => ⟨fun c => (h c).2, sem_eq_zero_of_no_sems (by decide) r.2⟩)
    (Cert.EvenInTReferenceIdeal.Value.run (F := Ideal) m g)

theorem equal_EvenInT : Cert.algebraic_EvenInTIdeal_EvenInTReferenceIdeal := by
  pair_intro
  · run_from Cert.EvenInTIdeal.Value.run_blocks m g
  · run_from Cert.EvenInTReferenceIdeal.Value.run m' g'
    · exact (EvenInTEq.reference _ _).trans (EvenInTEq.final m c).symm

theorem frame_EvenInW : Cert.quiescent_EvenInW := fun m g _ => Cert.EvenInW.Gen.frame m g

theorem frame_EvenInWIdeal : Cert.quiescent_EvenInWIdeal := fun m g _ => Cert.EvenInWIdeal.Gen.frame m g

theorem frame_EvenInWReference : Cert.quiescent_EvenInWReferenceIdeal := fun m g _ =>
  (θ_run Cert.EvenInWReferenceIdeal.defs _ _).mono
    (fun r h => ⟨fun c => (h c).2, sem_eq_zero_of_no_sems (by decide) r.2⟩)
    (Cert.EvenInWReferenceIdeal.Value.run (F := Ideal) m g)

theorem equal_EvenInW : Cert.algebraic_EvenInWIdeal_EvenInWReferenceIdeal := by
  pair_intro
  · run_from Cert.EvenInWIdeal.Value.run_blocks m g
  · run_from Cert.EvenInWReferenceIdeal.Value.run m' g'
    · exact (EvenInWEq.reference _ _).trans (EvenInWEq.final m c).symm

theorem frame_OddIn : Cert.quiescent_OddIn := fun m g _ => Cert.OddIn.Gen.frame m g

theorem frame_OddInIdeal : Cert.quiescent_OddInIdeal := fun m g _ => Cert.OddInIdeal.Gen.frame m g

theorem frame_OddInReference : Cert.quiescent_OddInReferenceIdeal := fun m g _ =>
  (θ_run Cert.OddInReferenceIdeal.defs _ _).mono
    (fun r h => ⟨fun c => (h c).2, sem_eq_zero_of_no_sems (by decide) r.2⟩)
    (Cert.OddInReferenceIdeal.Value.run (F := Ideal) m g)

theorem equal_OddIn : Cert.algebraic_OddInIdeal_OddInReferenceIdeal := by
  pair_intro
  · run_from Cert.OddInIdeal.Value.run_blocks m g
  · run_from Cert.OddInReferenceIdeal.Value.run m' g'
    · exact (OddInEq.reference _ _).trans (OddInEq.final m c).symm

theorem frame_OddInT : Cert.quiescent_OddInT := fun m g _ => Cert.OddInT.Gen.frame m g

theorem frame_OddInTIdeal : Cert.quiescent_OddInTIdeal := fun m g _ => Cert.OddInTIdeal.Gen.frame m g

theorem frame_OddInTReference : Cert.quiescent_OddInTReferenceIdeal := fun m g _ =>
  (θ_run Cert.OddInTReferenceIdeal.defs _ _).mono
    (fun r h => ⟨fun c => (h c).2, sem_eq_zero_of_no_sems (by decide) r.2⟩)
    (Cert.OddInTReferenceIdeal.Value.run (F := Ideal) m g)

theorem equal_OddInT : Cert.algebraic_OddInTIdeal_OddInTReferenceIdeal := by
  pair_intro
  · run_from Cert.OddInTIdeal.Value.run_blocks m g
  · run_from Cert.OddInTReferenceIdeal.Value.run m' g'
    · exact (OddInTEq.reference _ _).trans (OddInTEq.final m c).symm

theorem frame_OddInW : Cert.quiescent_OddInW := fun m g _ => Cert.OddInW.Gen.frame m g

theorem frame_OddInWIdeal : Cert.quiescent_OddInWIdeal := fun m g _ => Cert.OddInWIdeal.Gen.frame m g

theorem frame_OddInWReference : Cert.quiescent_OddInWReferenceIdeal := fun m g _ =>
  (θ_run Cert.OddInWReferenceIdeal.defs _ _).mono
    (fun r h => ⟨fun c => (h c).2, sem_eq_zero_of_no_sems (by decide) r.2⟩)
    (Cert.OddInWReferenceIdeal.Value.run (F := Ideal) m g)

theorem equal_OddInW : Cert.algebraic_OddInWIdeal_OddInWReferenceIdeal := by
  pair_intro
  · run_from Cert.OddInWIdeal.Value.run_blocks m g
  · run_from Cert.OddInWReferenceIdeal.Value.run m' g'
    · exact (OddInWEq.reference _ _).trans (OddInWEq.final m c).symm

theorem frame_MlaQ : Cert.quiescent_MlaQ := fun m g _ => Cert.MlaQ.Gen.frame m g

theorem frame_MlaQIdeal : Cert.quiescent_MlaQIdeal := fun m g _ => Cert.MlaQIdeal.Gen.frame m g

theorem frame_MlaQReference : Cert.quiescent_MlaQReferenceIdeal := fun m g _ =>
  (θ_run Cert.MlaQReferenceIdeal.defs _ _).mono
    (fun r h => ⟨fun c => (h c).2, sem_eq_zero_of_no_sems (by decide) r.2⟩)
    (Cert.MlaQReferenceIdeal.Value.run (F := Ideal) m g)

theorem equal_MlaQ : Cert.algebraic_MlaQIdeal_MlaQReferenceIdeal := by
  pair_intro
  · run_from Cert.MlaQIdeal.Value.run_blocks m g
  · run_from Cert.MlaQReferenceIdeal.Value.run m' g'
    · exact (MlaQEq.reference _ _).trans (MlaQEq.final m c).symm

theorem frame_MlaQT : Cert.quiescent_MlaQT := fun m g _ => Cert.MlaQT.Gen.frame m g

theorem frame_MlaQTIdeal : Cert.quiescent_MlaQTIdeal := fun m g _ => Cert.MlaQTIdeal.Gen.frame m g

theorem frame_MlaQTReference : Cert.quiescent_MlaQTReferenceIdeal := fun m g _ =>
  (θ_run Cert.MlaQTReferenceIdeal.defs _ _).mono
    (fun r h => ⟨fun c => (h c).2, sem_eq_zero_of_no_sems (by decide) r.2⟩)
    (Cert.MlaQTReferenceIdeal.Value.run (F := Ideal) m g)

theorem equal_MlaQT : Cert.algebraic_MlaQTIdeal_MlaQTReferenceIdeal := by
  pair_intro
  · run_from Cert.MlaQTIdeal.Value.run_blocks m g
  · run_from Cert.MlaQTReferenceIdeal.Value.run m' g'
    · exact (MlaQTEq.reference _ _).trans (MlaQTEq.final m c).symm

theorem frame_MlaQW : Cert.quiescent_MlaQW := fun m g _ => Cert.MlaQW.Gen.frame m g

theorem frame_MlaQWIdeal : Cert.quiescent_MlaQWIdeal := fun m g _ => Cert.MlaQWIdeal.Gen.frame m g

theorem frame_MlaQWReference : Cert.quiescent_MlaQWReferenceIdeal := fun m g _ =>
  (θ_run Cert.MlaQWReferenceIdeal.defs _ _).mono
    (fun r h => ⟨fun c => (h c).2, sem_eq_zero_of_no_sems (by decide) r.2⟩)
    (Cert.MlaQWReferenceIdeal.Value.run (F := Ideal) m g)

theorem equal_MlaQW : Cert.algebraic_MlaQWIdeal_MlaQWReferenceIdeal := by
  pair_intro
  · run_from Cert.MlaQWIdeal.Value.run_blocks m g
  · run_from Cert.MlaQWReferenceIdeal.Value.run m' g'
    · exact (MlaQWEq.reference _ _).trans (MlaQWEq.final m c).symm

theorem frame_MlaKv : Cert.quiescent_MlaKv := fun m g _ => Cert.MlaKv.Gen.frame m g

theorem frame_MlaKvIdeal : Cert.quiescent_MlaKvIdeal := fun m g _ => Cert.MlaKvIdeal.Gen.frame m g

theorem frame_MlaKvReference : Cert.quiescent_MlaKvReferenceIdeal := fun m g _ =>
  (θ_run Cert.MlaKvReferenceIdeal.defs _ _).mono
    (fun r h => ⟨fun c => (h c).2, sem_eq_zero_of_no_sems (by decide) r.2⟩)
    (Cert.MlaKvReferenceIdeal.Value.run (F := Ideal) m g)

theorem equal_MlaKv : Cert.algebraic_MlaKvIdeal_MlaKvReferenceIdeal := by
  pair_intro
  · run_from Cert.MlaKvIdeal.Value.run_blocks m g
  · run_from Cert.MlaKvReferenceIdeal.Value.run m' g'
    · exact (MlaKvEq.reference _ _).trans (MlaKvEq.final m c).symm

theorem frame_MlaKvT : Cert.quiescent_MlaKvT := fun m g _ => Cert.MlaKvT.Gen.frame m g

theorem frame_MlaKvTIdeal : Cert.quiescent_MlaKvTIdeal := fun m g _ => Cert.MlaKvTIdeal.Gen.frame m g

theorem frame_MlaKvTReference : Cert.quiescent_MlaKvTReferenceIdeal := fun m g _ =>
  (θ_run Cert.MlaKvTReferenceIdeal.defs _ _).mono
    (fun r h => ⟨fun c => (h c).2, sem_eq_zero_of_no_sems (by decide) r.2⟩)
    (Cert.MlaKvTReferenceIdeal.Value.run (F := Ideal) m g)

theorem equal_MlaKvT : Cert.algebraic_MlaKvTIdeal_MlaKvTReferenceIdeal := by
  pair_intro
  · run_from Cert.MlaKvTIdeal.Value.run_blocks m g
  · run_from Cert.MlaKvTReferenceIdeal.Value.run m' g'
    · exact (MlaKvTEq.reference _ _).trans (MlaKvTEq.final m c).symm

theorem frame_MlaKvW : Cert.quiescent_MlaKvW := fun m g _ => Cert.MlaKvW.Gen.frame m g

theorem frame_MlaKvWIdeal : Cert.quiescent_MlaKvWIdeal := fun m g _ => Cert.MlaKvWIdeal.Gen.frame m g

theorem frame_MlaKvWReference : Cert.quiescent_MlaKvWReferenceIdeal := fun m g _ =>
  (θ_run Cert.MlaKvWReferenceIdeal.defs _ _).mono
    (fun r h => ⟨fun c => (h c).2, sem_eq_zero_of_no_sems (by decide) r.2⟩)
    (Cert.MlaKvWReferenceIdeal.Value.run (F := Ideal) m g)

theorem equal_MlaKvW : Cert.algebraic_MlaKvWIdeal_MlaKvWReferenceIdeal := by
  pair_intro
  · run_from Cert.MlaKvWIdeal.Value.run_blocks m g
  · run_from Cert.MlaKvWReferenceIdeal.Value.run m' g'
    · exact (MlaKvWEq.reference _ _).trans (MlaKvWEq.final m c).symm

theorem frame_Mix : Cert.quiescent_Mix := fun m g _ => Cert.Mix.Gen.frame m g

theorem frame_MixIdeal : Cert.quiescent_MixIdeal := fun m g _ => Cert.MixIdeal.Gen.frame m g

theorem frame_MixReference : Cert.quiescent_MixReferenceIdeal := fun m g _ =>
  (θ_run Cert.MixReferenceIdeal.defs _ _).mono
    (fun r h => ⟨fun c => (h c).2, sem_eq_zero_of_no_sems (by decide) r.2⟩)
    (Cert.MixReferenceIdeal.Value.run (F := Ideal) m g)

theorem equal_Mix : Cert.algebraic_MixIdeal_MixReferenceIdeal := by
  pair_intro
  · run_from Cert.MixIdeal.Value.run_blocks m g
  · run_from Cert.MixReferenceIdeal.Value.run m' g'
    · exact (MixEq.reference _ _).trans (MixEq.final m c).symm

theorem frame_MixT : Cert.quiescent_MixT := fun m g _ => Cert.MixT.Gen.frame m g

theorem frame_MixTIdeal : Cert.quiescent_MixTIdeal := fun m g _ => Cert.MixTIdeal.Gen.frame m g

theorem frame_MixTReference : Cert.quiescent_MixTReferenceIdeal := fun m g _ =>
  (θ_run Cert.MixTReferenceIdeal.defs _ _).mono
    (fun r h => ⟨fun c => (h c).2, sem_eq_zero_of_no_sems (by decide) r.2⟩)
    (Cert.MixTReferenceIdeal.Value.run (F := Ideal) m g)

theorem equal_MixT : Cert.algebraic_MixTIdeal_MixTReferenceIdeal := by
  pair_intro
  · run_from Cert.MixTIdeal.Value.run_blocks m g
  · run_from Cert.MixTReferenceIdeal.Value.run m' g'
    · exact (MixTEq.reference _ _).trans (MixTEq.final m c).symm

theorem frame_MixW : Cert.quiescent_MixW := fun m g _ => Cert.MixW.Gen.frame m g

theorem frame_MixWIdeal : Cert.quiescent_MixWIdeal := fun m g _ => Cert.MixWIdeal.Gen.frame m g

theorem frame_MixWReference : Cert.quiescent_MixWReferenceIdeal := fun m g _ =>
  (θ_run Cert.MixWReferenceIdeal.defs _ _).mono
    (fun r h => ⟨fun c => (h c).2, sem_eq_zero_of_no_sems (by decide) r.2⟩)
    (Cert.MixWReferenceIdeal.Value.run (F := Ideal) m g)

theorem equal_MixW : Cert.algebraic_MixWIdeal_MixWReferenceIdeal := by
  pair_intro
  · run_from Cert.MixWIdeal.Value.run_blocks m g
  · run_from Cert.MixWReferenceIdeal.Value.run m' g'
    · exact (MixWEq.reference _ _).trans (MixWEq.final m c).symm

theorem frame_LastMix : Cert.quiescent_LastMix := fun m g _ => Cert.LastMix.Gen.frame m g

theorem frame_LastMixIdeal : Cert.quiescent_LastMixIdeal := fun m g _ => Cert.LastMixIdeal.Gen.frame m g

theorem frame_LastMixReference : Cert.quiescent_LastMixReferenceIdeal := fun m g _ =>
  (θ_run Cert.LastMixReferenceIdeal.defs _ _).mono
    (fun r h => ⟨fun c => (h c).2, sem_eq_zero_of_no_sems (by decide) r.2⟩)
    (Cert.LastMixReferenceIdeal.Value.run (F := Ideal) m g)

theorem equal_LastMix : Cert.algebraic_LastMixIdeal_LastMixReferenceIdeal := by
  pair_intro
  · run_from Cert.LastMixIdeal.Value.run_blocks m g
  · run_from Cert.LastMixReferenceIdeal.Value.run m' g'
    · exact (LastMixEq.reference _ _).trans (LastMixEq.final m c).symm

theorem frame_LastMixT : Cert.quiescent_LastMixT := fun m g _ => Cert.LastMixT.Gen.frame m g

theorem frame_LastMixTIdeal : Cert.quiescent_LastMixTIdeal := fun m g _ => Cert.LastMixTIdeal.Gen.frame m g

theorem frame_LastMixTReference : Cert.quiescent_LastMixTReferenceIdeal := fun m g _ =>
  (θ_run Cert.LastMixTReferenceIdeal.defs _ _).mono
    (fun r h => ⟨fun c => (h c).2, sem_eq_zero_of_no_sems (by decide) r.2⟩)
    (Cert.LastMixTReferenceIdeal.Value.run (F := Ideal) m g)

theorem equal_LastMixT : Cert.algebraic_LastMixTIdeal_LastMixTReferenceIdeal := by
  pair_intro
  · run_from Cert.LastMixTIdeal.Value.run_blocks m g
  · run_from Cert.LastMixTReferenceIdeal.Value.run m' g'
    · exact (LastMixTEq.reference _ _).trans (LastMixTEq.final m c).symm

theorem frame_LastMixW : Cert.quiescent_LastMixW := fun m g _ => Cert.LastMixW.Gen.frame m g

theorem frame_LastMixWIdeal : Cert.quiescent_LastMixWIdeal := fun m g _ => Cert.LastMixWIdeal.Gen.frame m g

theorem frame_LastMixWReference : Cert.quiescent_LastMixWReferenceIdeal := fun m g _ =>
  (θ_run Cert.LastMixWReferenceIdeal.defs _ _).mono
    (fun r h => ⟨fun c => (h c).2, sem_eq_zero_of_no_sems (by decide) r.2⟩)
    (Cert.LastMixWReferenceIdeal.Value.run (F := Ideal) m g)

theorem equal_LastMixW : Cert.algebraic_LastMixWIdeal_LastMixWReferenceIdeal := by
  pair_intro
  · run_from Cert.LastMixWIdeal.Value.run_blocks m g
  · run_from Cert.LastMixWReferenceIdeal.Value.run m' g'
    · exact (LastMixWEq.reference _ _).trans (LastMixWEq.final m c).symm

theorem frame_Glu : Cert.quiescent_Glu := fun m g _ => Cert.Glu.Gen.frame m g

theorem frame_GluIdeal : Cert.quiescent_GluIdeal := fun m g _ => Cert.GluIdeal.Gen.frame m g

theorem frame_GluReference : Cert.quiescent_GluReferenceIdeal := fun m g _ =>
  (θ_run Cert.GluReferenceIdeal.defs _ _).mono
    (fun r h => ⟨fun c => (h c).2, sem_eq_zero_of_no_sems (by decide) r.2⟩)
    (Cert.GluReferenceIdeal.Value.run (F := Ideal) m g)

theorem equal_Glu : Cert.algebraic_GluIdeal_GluReferenceIdeal := by
  pair_intro
  · run_from Cert.GluIdeal.Value.run_blocks m g
  · run_from Cert.GluReferenceIdeal.Value.run m' g'
    · exact (GluEq.reference _ _).trans (GluEq.final m c).symm

theorem frame_GluT : Cert.quiescent_GluT := fun m g _ => Cert.GluT.Gen.frame m g

theorem frame_GluTIdeal : Cert.quiescent_GluTIdeal := fun m g _ => Cert.GluTIdeal.Gen.frame m g

theorem frame_GluTReference : Cert.quiescent_GluTReferenceIdeal := fun m g _ =>
  (θ_run Cert.GluTReferenceIdeal.defs _ _).mono
    (fun r h => ⟨fun c => (h c).2, sem_eq_zero_of_no_sems (by decide) r.2⟩)
    (Cert.GluTReferenceIdeal.Value.run (F := Ideal) m g)

theorem equal_GluT : Cert.algebraic_GluTIdeal_GluTReferenceIdeal := by
  pair_intro
  · run_from Cert.GluTIdeal.Value.run_blocks m g
  · run_from Cert.GluTReferenceIdeal.Value.run m' g'
    · exact (GluTEq.reference _ _).trans (GluTEq.final m c).symm

theorem frame_GluW : Cert.quiescent_GluW := fun m g _ => Cert.GluW.Gen.frame m g

theorem frame_GluWIdeal : Cert.quiescent_GluWIdeal := fun m g _ => Cert.GluWIdeal.Gen.frame m g

theorem frame_GluWReference : Cert.quiescent_GluWReferenceIdeal := fun m g _ =>
  (θ_run Cert.GluWReferenceIdeal.defs _ _).mono
    (fun r h => ⟨fun c => (h c).2, sem_eq_zero_of_no_sems (by decide) r.2⟩)
    (Cert.GluWReferenceIdeal.Value.run (F := Ideal) m g)

theorem equal_GluW : Cert.algebraic_GluWIdeal_GluWReferenceIdeal := by
  pair_intro
  · run_from Cert.GluWIdeal.Value.run_blocks m g
  · run_from Cert.GluWReferenceIdeal.Value.run m' g'
    · exact (GluWEq.reference _ _).trans (GluWEq.final m c).symm

theorem frame_GluCtx : Cert.quiescent_GluCtx := fun m g _ => Cert.GluCtx.Gen.frame m g

theorem frame_GluCtxIdeal : Cert.quiescent_GluCtxIdeal := fun m g _ => Cert.GluCtxIdeal.Gen.frame m g

theorem frame_GluCtxReference : Cert.quiescent_GluCtxReferenceIdeal := fun m g _ =>
  (θ_run Cert.GluCtxReferenceIdeal.defs _ _).mono
    (fun r h => ⟨fun c => (h c).2, sem_eq_zero_of_no_sems (by decide) r.2⟩)
    (Cert.GluCtxReferenceIdeal.Value.run (F := Ideal) m g)

theorem equal_GluCtx : Cert.algebraic_GluCtxIdeal_GluCtxReferenceIdeal := by
  pair_intro
  · run_from Cert.GluCtxIdeal.Value.run_blocks m g
  · run_from Cert.GluCtxReferenceIdeal.Value.run m' g'
    · exact (GluCtxEq.reference _ _).trans (GluCtxEq.final m c).symm

theorem frame_GluCtxT : Cert.quiescent_GluCtxT := fun m g _ => Cert.GluCtxT.Gen.frame m g

theorem frame_GluCtxTIdeal : Cert.quiescent_GluCtxTIdeal := fun m g _ => Cert.GluCtxTIdeal.Gen.frame m g

theorem frame_GluCtxTReference : Cert.quiescent_GluCtxTReferenceIdeal := fun m g _ =>
  (θ_run Cert.GluCtxTReferenceIdeal.defs _ _).mono
    (fun r h => ⟨fun c => (h c).2, sem_eq_zero_of_no_sems (by decide) r.2⟩)
    (Cert.GluCtxTReferenceIdeal.Value.run (F := Ideal) m g)

theorem equal_GluCtxT : Cert.algebraic_GluCtxTIdeal_GluCtxTReferenceIdeal := by
  pair_intro
  · run_from Cert.GluCtxTIdeal.Value.run_blocks m g
  · run_from Cert.GluCtxTReferenceIdeal.Value.run m' g'
    · exact (GluCtxTEq.reference _ _).trans (GluCtxTEq.final m c).symm

theorem frame_GluCtxW : Cert.quiescent_GluCtxW := fun m g _ => Cert.GluCtxW.Gen.frame m g

theorem frame_GluCtxWIdeal : Cert.quiescent_GluCtxWIdeal := fun m g _ => Cert.GluCtxWIdeal.Gen.frame m g

theorem frame_GluCtxWReference : Cert.quiescent_GluCtxWReferenceIdeal := fun m g _ =>
  (θ_run Cert.GluCtxWReferenceIdeal.defs _ _).mono
    (fun r h => ⟨fun c => (h c).2, sem_eq_zero_of_no_sems (by decide) r.2⟩)
    (Cert.GluCtxWReferenceIdeal.Value.run (F := Ideal) m g)

theorem equal_GluCtxW : Cert.algebraic_GluCtxWIdeal_GluCtxWReferenceIdeal := by
  pair_intro
  · run_from Cert.GluCtxWIdeal.Value.run_blocks m g
  · run_from Cert.GluCtxWReferenceIdeal.Value.run m' g'
    · exact (GluCtxWEq.reference _ _).trans (GluCtxWEq.final m c).symm

theorem frame_AdamUp : Cert.quiescent_AdamUp := fun m g _ => Cert.AdamUp.Gen.frame m g

theorem frame_AdamUpIdeal : Cert.quiescent_AdamUpIdeal := fun m g _ => Cert.AdamUpIdeal.Gen.frame m g

theorem frame_AdamUpReference : Cert.quiescent_AdamUpReferenceIdeal := fun m g _ =>
  (θ_run Cert.AdamUpReferenceIdeal.defs _ _).mono
    (fun r h => ⟨fun c => (h c).2.2.2.2, sem_eq_zero_of_no_sems (by decide) r.2⟩)
    (Cert.AdamUpReferenceIdeal.Value.run (F := Ideal) m g)

theorem equal_AdamUp : Cert.algebraic_AdamUpIdeal_AdamUpReferenceIdeal := by
  pair_intro
  · run_from Cert.AdamUpIdeal.Value.run_blocks m g
  · refine (θ_run Cert.AdamUpReferenceIdeal.defs _ _).mono (fun r h c => ?_) (Cert.AdamUpReferenceIdeal.Value.run (F := Ideal) m' g')
    obtain ⟨e0, e1, e2, e3⟩ := hagree c
    obtain ⟨h0, h1, h2, h3, h4⟩ := h c
    refine ⟨h0.trans ?_, h1.trans ?_, h2.trans ?_, h3.trans ?_, h4⟩
    · exact (AdamUpEq.reference_grad _).trans ((congrArg AdamUpEq.grad e0).trans (AdamUpEq.final_grad m c).symm)
    · exact (AdamUpEq.reference_change _ _ _ _).trans
        ((congr (congr (congrArg₂ AdamUpEq.change e0 e1) e2) e3).trans (AdamUpEq.final_change m c).symm)
    · exact (AdamUpEq.reference_mean _ _).trans ((congrArg₂ AdamUpEq.newMean e0 e2).trans (AdamUpEq.final_mean m c).symm)
    · exact (AdamUpEq.reference_square _ _).trans ((congrArg₂ AdamUpEq.newSquare e0 e3).trans (AdamUpEq.final_square m c).symm)

theorem frame_AdamDown : Cert.quiescent_AdamDown := fun m g _ => Cert.AdamDown.Gen.frame m g

theorem frame_AdamDownIdeal : Cert.quiescent_AdamDownIdeal := fun m g _ => Cert.AdamDownIdeal.Gen.frame m g

theorem frame_AdamDownReference : Cert.quiescent_AdamDownReferenceIdeal := fun m g _ =>
  (θ_run Cert.AdamDownReferenceIdeal.defs _ _).mono
    (fun r h => ⟨fun c => (h c).2.2.2.2, sem_eq_zero_of_no_sems (by decide) r.2⟩)
    (Cert.AdamDownReferenceIdeal.Value.run (F := Ideal) m g)

theorem equal_AdamDown : Cert.algebraic_AdamDownIdeal_AdamDownReferenceIdeal := by
  pair_intro
  · run_from Cert.AdamDownIdeal.Value.run_blocks m g
  · refine (θ_run Cert.AdamDownReferenceIdeal.defs _ _).mono (fun r h c => ?_) (Cert.AdamDownReferenceIdeal.Value.run (F := Ideal) m' g')
    obtain ⟨e0, e1, e2, e3⟩ := hagree c
    obtain ⟨h0, h1, h2, h3, h4⟩ := h c
    refine ⟨h0.trans ?_, h1.trans ?_, h2.trans ?_, h3.trans ?_, h4⟩
    · exact (AdamDownEq.reference_grad _).trans ((congrArg AdamDownEq.grad e0).trans (AdamDownEq.final_grad m c).symm)
    · exact (AdamDownEq.reference_change _ _ _ _).trans
        ((congr (congr (congrArg₂ AdamDownEq.change e0 e1) e2) e3).trans (AdamDownEq.final_change m c).symm)
    · exact (AdamDownEq.reference_mean _ _).trans ((congrArg₂ AdamDownEq.newMean e0 e2).trans (AdamDownEq.final_mean m c).symm)
    · exact (AdamDownEq.reference_square _ _).trans ((congrArg₂ AdamDownEq.newSquare e0 e3).trans (AdamDownEq.final_square m c).symm)

theorem frame_AdamEvenIn : Cert.quiescent_AdamEvenIn := fun m g _ => Cert.AdamEvenIn.Gen.frame m g

theorem frame_AdamEvenInIdeal : Cert.quiescent_AdamEvenInIdeal := fun m g _ => Cert.AdamEvenInIdeal.Gen.frame m g

theorem frame_AdamEvenInReference : Cert.quiescent_AdamEvenInReferenceIdeal := fun m g _ =>
  (θ_run Cert.AdamEvenInReferenceIdeal.defs _ _).mono
    (fun r h => ⟨fun c => (h c).2.2.2.2, sem_eq_zero_of_no_sems (by decide) r.2⟩)
    (Cert.AdamEvenInReferenceIdeal.Value.run (F := Ideal) m g)

theorem equal_AdamEvenIn : Cert.algebraic_AdamEvenInIdeal_AdamEvenInReferenceIdeal := by
  pair_intro
  · run_from Cert.AdamEvenInIdeal.Value.run_blocks m g
  · refine (θ_run Cert.AdamEvenInReferenceIdeal.defs _ _).mono (fun r h c => ?_) (Cert.AdamEvenInReferenceIdeal.Value.run (F := Ideal) m' g')
    obtain ⟨e0, e1, e2, e3⟩ := hagree c
    obtain ⟨h0, h1, h2, h3, h4⟩ := h c
    refine ⟨h0.trans ?_, h1.trans ?_, h2.trans ?_, h3.trans ?_, h4⟩
    · exact (AdamEvenInEq.reference_grad _).trans ((congrArg AdamEvenInEq.grad e0).trans (AdamEvenInEq.final_grad m c).symm)
    · exact (AdamEvenInEq.reference_change _ _ _ _).trans
        ((congr (congr (congrArg₂ AdamEvenInEq.change e0 e1) e2) e3).trans (AdamEvenInEq.final_change m c).symm)
    · exact (AdamEvenInEq.reference_mean _ _).trans ((congrArg₂ AdamEvenInEq.newMean e0 e2).trans (AdamEvenInEq.final_mean m c).symm)
    · exact (AdamEvenInEq.reference_square _ _).trans ((congrArg₂ AdamEvenInEq.newSquare e0 e3).trans (AdamEvenInEq.final_square m c).symm)

theorem frame_AdamMix : Cert.quiescent_AdamMix := fun m g _ => Cert.AdamMix.Gen.frame m g

theorem frame_AdamMixIdeal : Cert.quiescent_AdamMixIdeal := fun m g _ => Cert.AdamMixIdeal.Gen.frame m g

theorem frame_AdamMixReference : Cert.quiescent_AdamMixReferenceIdeal := fun m g _ =>
  (θ_run Cert.AdamMixReferenceIdeal.defs _ _).mono
    (fun r h => ⟨fun c => (h c).2.2.2.2, sem_eq_zero_of_no_sems (by decide) r.2⟩)
    (Cert.AdamMixReferenceIdeal.Value.run (F := Ideal) m g)

theorem equal_AdamMix : Cert.algebraic_AdamMixIdeal_AdamMixReferenceIdeal := by
  pair_intro
  · run_from Cert.AdamMixIdeal.Value.run_blocks m g
  · refine (θ_run Cert.AdamMixReferenceIdeal.defs _ _).mono (fun r h c => ?_) (Cert.AdamMixReferenceIdeal.Value.run (F := Ideal) m' g')
    obtain ⟨e0, e1, e2, e3⟩ := hagree c
    obtain ⟨h0, h1, h2, h3, h4⟩ := h c
    refine ⟨h0.trans ?_, h1.trans ?_, h2.trans ?_, h3.trans ?_, h4⟩
    · exact (AdamMixEq.reference_grad _).trans ((congrArg AdamMixEq.grad e0).trans (AdamMixEq.final_grad m c).symm)
    · exact (AdamMixEq.reference_change _ _ _ _).trans
        ((congr (congr (congrArg₂ AdamMixEq.change e0 e1) e2) e3).trans (AdamMixEq.final_change m c).symm)
    · exact (AdamMixEq.reference_mean _ _).trans ((congrArg₂ AdamMixEq.newMean e0 e2).trans (AdamMixEq.final_mean m c).symm)
    · exact (AdamMixEq.reference_square _ _).trans ((congrArg₂ AdamMixEq.newSquare e0 e3).trans (AdamMixEq.final_square m c).symm)

theorem frame_AdamOddIn : Cert.quiescent_AdamOddIn := fun m g _ => Cert.AdamOddIn.Gen.frame m g

theorem frame_AdamOddInIdeal : Cert.quiescent_AdamOddInIdeal := fun m g _ => Cert.AdamOddInIdeal.Gen.frame m g

theorem frame_AdamOddInReference : Cert.quiescent_AdamOddInReferenceIdeal := fun m g _ =>
  (θ_run Cert.AdamOddInReferenceIdeal.defs _ _).mono
    (fun r h => ⟨fun c => (h c).2.2.2.2, sem_eq_zero_of_no_sems (by decide) r.2⟩)
    (Cert.AdamOddInReferenceIdeal.Value.run (F := Ideal) m g)

theorem equal_AdamOddIn : Cert.algebraic_AdamOddInIdeal_AdamOddInReferenceIdeal := by
  pair_intro
  · run_from Cert.AdamOddInIdeal.Value.run_blocks m g
  · refine (θ_run Cert.AdamOddInReferenceIdeal.defs _ _).mono (fun r h c => ?_) (Cert.AdamOddInReferenceIdeal.Value.run (F := Ideal) m' g')
    obtain ⟨e0, e1, e2, e3⟩ := hagree c
    obtain ⟨h0, h1, h2, h3, h4⟩ := h c
    refine ⟨h0.trans ?_, h1.trans ?_, h2.trans ?_, h3.trans ?_, h4⟩
    · exact (AdamOddInEq.reference_grad _).trans ((congrArg AdamOddInEq.grad e0).trans (AdamOddInEq.final_grad m c).symm)
    · exact (AdamOddInEq.reference_change _ _ _ _).trans
        ((congr (congr (congrArg₂ AdamOddInEq.change e0 e1) e2) e3).trans (AdamOddInEq.final_change m c).symm)
    · exact (AdamOddInEq.reference_mean _ _).trans ((congrArg₂ AdamOddInEq.newMean e0 e2).trans (AdamOddInEq.final_mean m c).symm)
    · exact (AdamOddInEq.reference_square _ _).trans ((congrArg₂ AdamOddInEq.newSquare e0 e3).trans (AdamOddInEq.final_square m c).symm)

theorem frame_AdamQ : Cert.quiescent_AdamQ := fun m g _ => Cert.AdamQ.Gen.frame m g

theorem frame_AdamQIdeal : Cert.quiescent_AdamQIdeal := fun m g _ => Cert.AdamQIdeal.Gen.frame m g

theorem frame_AdamQReference : Cert.quiescent_AdamQReferenceIdeal := fun m g _ =>
  (θ_run Cert.AdamQReferenceIdeal.defs _ _).mono
    (fun r h => ⟨fun c => (h c).2.2.2.2, sem_eq_zero_of_no_sems (by decide) r.2⟩)
    (Cert.AdamQReferenceIdeal.Value.run (F := Ideal) m g)

theorem equal_AdamQ : Cert.algebraic_AdamQIdeal_AdamQReferenceIdeal := by
  pair_intro
  · run_from Cert.AdamQIdeal.Value.run_blocks m g
  · refine (θ_run Cert.AdamQReferenceIdeal.defs _ _).mono (fun r h c => ?_) (Cert.AdamQReferenceIdeal.Value.run (F := Ideal) m' g')
    obtain ⟨e0, e1, e2, e3⟩ := hagree c
    obtain ⟨h0, h1, h2, h3, h4⟩ := h c
    refine ⟨h0.trans ?_, h1.trans ?_, h2.trans ?_, h3.trans ?_, h4⟩
    · exact (AdamQEq.reference_grad _).trans ((congrArg AdamQEq.grad e0).trans (AdamQEq.final_grad m c).symm)
    · exact (AdamQEq.reference_change _ _ _ _).trans
        ((congr (congr (congrArg₂ AdamQEq.change e0 e1) e2) e3).trans (AdamQEq.final_change m c).symm)
    · exact (AdamQEq.reference_mean _ _).trans ((congrArg₂ AdamQEq.newMean e0 e2).trans (AdamQEq.final_mean m c).symm)
    · exact (AdamQEq.reference_square _ _).trans ((congrArg₂ AdamQEq.newSquare e0 e3).trans (AdamQEq.final_square m c).symm)

theorem frame_AdamKv : Cert.quiescent_AdamKv := fun m g _ => Cert.AdamKv.Gen.frame m g

theorem frame_AdamKvIdeal : Cert.quiescent_AdamKvIdeal := fun m g _ => Cert.AdamKvIdeal.Gen.frame m g

theorem frame_AdamKvReference : Cert.quiescent_AdamKvReferenceIdeal := fun m g _ =>
  (θ_run Cert.AdamKvReferenceIdeal.defs _ _).mono
    (fun r h => ⟨fun c => (h c).2.2.2.2, sem_eq_zero_of_no_sems (by decide) r.2⟩)
    (Cert.AdamKvReferenceIdeal.Value.run (F := Ideal) m g)

theorem equal_AdamKv : Cert.algebraic_AdamKvIdeal_AdamKvReferenceIdeal := by
  pair_intro
  · run_from Cert.AdamKvIdeal.Value.run_blocks m g
  · refine (θ_run Cert.AdamKvReferenceIdeal.defs _ _).mono (fun r h c => ?_) (Cert.AdamKvReferenceIdeal.Value.run (F := Ideal) m' g')
    obtain ⟨e0, e1, e2, e3⟩ := hagree c
    obtain ⟨h0, h1, h2, h3, h4⟩ := h c
    refine ⟨h0.trans ?_, h1.trans ?_, h2.trans ?_, h3.trans ?_, h4⟩
    · exact (AdamKvEq.reference_grad _).trans ((congrArg AdamKvEq.grad e0).trans (AdamKvEq.final_grad m c).symm)
    · exact (AdamKvEq.reference_change _ _ _ _).trans
        ((congr (congr (congrArg₂ AdamKvEq.change e0 e1) e2) e3).trans (AdamKvEq.final_change m c).symm)
    · exact (AdamKvEq.reference_mean _ _).trans ((congrArg₂ AdamKvEq.newMean e0 e2).trans (AdamKvEq.final_mean m c).symm)
    · exact (AdamKvEq.reference_square _ _).trans ((congrArg₂ AdamKvEq.newSquare e0 e3).trans (AdamKvEq.final_square m c).symm)

theorem frame_AdamGlu : Cert.quiescent_AdamGlu := fun m g _ => Cert.AdamGlu.Gen.frame m g

theorem frame_AdamGluIdeal : Cert.quiescent_AdamGluIdeal := fun m g _ => Cert.AdamGluIdeal.Gen.frame m g

theorem frame_AdamGluReference : Cert.quiescent_AdamGluReferenceIdeal := fun m g _ =>
  (θ_run Cert.AdamGluReferenceIdeal.defs _ _).mono
    (fun r h => ⟨fun c => (h c).2.2.2.2, sem_eq_zero_of_no_sems (by decide) r.2⟩)
    (Cert.AdamGluReferenceIdeal.Value.run (F := Ideal) m g)

theorem equal_AdamGlu : Cert.algebraic_AdamGluIdeal_AdamGluReferenceIdeal := by
  pair_intro
  · run_from Cert.AdamGluIdeal.Value.run_blocks m g
  · refine (θ_run Cert.AdamGluReferenceIdeal.defs _ _).mono (fun r h c => ?_) (Cert.AdamGluReferenceIdeal.Value.run (F := Ideal) m' g')
    obtain ⟨e0, e1, e2, e3⟩ := hagree c
    obtain ⟨h0, h1, h2, h3, h4⟩ := h c
    refine ⟨h0.trans ?_, h1.trans ?_, h2.trans ?_, h3.trans ?_, h4⟩
    · exact (AdamGluEq.reference_grad _).trans ((congrArg AdamGluEq.grad e0).trans (AdamGluEq.final_grad m c).symm)
    · exact (AdamGluEq.reference_change _ _ _ _).trans
        ((congr (congr (congrArg₂ AdamGluEq.change e0 e1) e2) e3).trans (AdamGluEq.final_change m c).symm)
    · exact (AdamGluEq.reference_mean _ _).trans ((congrArg₂ AdamGluEq.newMean e0 e2).trans (AdamGluEq.final_mean m c).symm)
    · exact (AdamGluEq.reference_square _ _).trans ((congrArg₂ AdamGluEq.newSquare e0 e3).trans (AdamGluEq.final_square m c).symm)

theorem frame_AdamMod : Cert.quiescent_AdamMod := fun m g _ => Cert.AdamMod.Gen.frame m g

theorem frame_AdamModIdeal : Cert.quiescent_AdamModIdeal := fun m g _ => Cert.AdamModIdeal.Gen.frame m g

theorem frame_AdamModReference : Cert.quiescent_AdamModReferenceIdeal := fun m g _ =>
  (θ_run Cert.AdamModReferenceIdeal.defs _ _).mono
    (fun r h => ⟨fun c => (h c).2.2.2, sem_eq_zero_of_no_sems (by decide) r.2⟩)
    (Cert.AdamModReferenceIdeal.Value.run (F := Ideal) m g)

theorem equal_AdamMod : Cert.algebraic_AdamModIdeal_AdamModReferenceIdeal := by
  pair_intro
  · run_from Cert.AdamModIdeal.Value.run_blocks m g
  · run_from Cert.AdamModReferenceIdeal.Value.run m' g'
    · exact (AdamModEq.reference_change _ _ _ _).trans (AdamModEq.final_change m c).symm
    · exact (AdamModEq.reference_mean _ _).trans (AdamModEq.final_mean m c).symm
    · exact (AdamModEq.reference_square _ _).trans (AdamModEq.final_square m c).symm

theorem frame_SumSmall : Cert.quiescent_SumSmall := fun m g _ => Cert.SumSmall.Gen.frame m g

theorem frame_SumSmallIdeal : Cert.quiescent_SumSmallIdeal := fun m g _ => Cert.SumSmallIdeal.Gen.frame m g

theorem frame_SumSmallReference : Cert.quiescent_SumSmallReferenceIdeal := fun m g _ =>
  (θ_run Cert.SumSmallReferenceIdeal.defs _ _).mono
    (fun r h => ⟨fun c => (h c).2, sem_eq_zero_of_no_sems (by decide) r.2⟩)
    (Cert.SumSmallReferenceIdeal.Value.run (F := Ideal) m g)

theorem equal_SumSmall : Cert.algebraic_SumSmallIdeal_SumSmallReferenceIdeal := by
  pair_intro
  · run_from Cert.SumSmallIdeal.Value.run_blocks m g
  · refine (θ_run Cert.SumSmallReferenceIdeal.defs _ _).mono (fun r h c => ?_) (Cert.SumSmallReferenceIdeal.Value.run (F := Ideal) m' g')
    refine ⟨(h c).1.trans ?_, (h c).2⟩
    exact (SumSmallEq.reference _).trans ((congrArg SumSmallEq.total (hagree c)).trans (SumSmallEq.final m c).symm)

theorem claim : Cert.Claim :=
  ⟨Cert.Kernel.Gen.facts, Cert.KernelIdeal.Gen.facts, Cert.ReferenceIdeal.Gen.facts,
    Cert.Dense.Gen.facts, Cert.DenseIdeal.Gen.facts, Cert.DenseReferenceIdeal.Gen.facts,
    Cert.Mla.Gen.facts, Cert.MlaIdeal.Gen.facts, Cert.MlaReferenceIdeal.Gen.facts,
    Cert.MlaGrad.Gen.facts, Cert.MlaGradIdeal.Gen.facts, Cert.MlaGradReferenceIdeal.Gen.facts,
    Cert.MlpUp.Gen.facts, Cert.MlpUpIdeal.Gen.facts, Cert.MlpUpReferenceIdeal.Gen.facts,
    Cert.MlpGrad.Gen.facts, Cert.MlpGradIdeal.Gen.facts, Cert.MlpGradReferenceIdeal.Gen.facts,
    Cert.MlpInT.Gen.facts, Cert.MlpInTIdeal.Gen.facts, Cert.MlpInTReferenceIdeal.Gen.facts,
    Cert.MlpInW.Gen.facts, Cert.MlpInWIdeal.Gen.facts, Cert.MlpInWReferenceIdeal.Gen.facts,
    Cert.MlpOut.Gen.facts, Cert.MlpOutIdeal.Gen.facts, Cert.MlpOutReferenceIdeal.Gen.facts,
    Cert.MlpOutW.Gen.facts, Cert.MlpOutWIdeal.Gen.facts, Cert.MlpOutWReferenceIdeal.Gen.facts,
    Cert.LastUp.Gen.facts, Cert.LastUpIdeal.Gen.facts, Cert.LastUpReferenceIdeal.Gen.facts,
    Cert.LastGrad.Gen.facts, Cert.LastGradIdeal.Gen.facts, Cert.LastGradReferenceIdeal.Gen.facts,
    Cert.LastInT.Gen.facts, Cert.LastInTIdeal.Gen.facts, Cert.LastInTReferenceIdeal.Gen.facts,
    Cert.LastInW.Gen.facts, Cert.LastInWIdeal.Gen.facts, Cert.LastInWReferenceIdeal.Gen.facts,
    Cert.LastOut.Gen.facts, Cert.LastOutIdeal.Gen.facts, Cert.LastOutReferenceIdeal.Gen.facts,
    Cert.LastOutW.Gen.facts, Cert.LastOutWIdeal.Gen.facts, Cert.LastOutWReferenceIdeal.Gen.facts,
    Cert.EvenIn.Gen.facts, Cert.EvenInIdeal.Gen.facts, Cert.EvenInReferenceIdeal.Gen.facts,
    Cert.EvenInT.Gen.facts, Cert.EvenInTIdeal.Gen.facts, Cert.EvenInTReferenceIdeal.Gen.facts,
    Cert.EvenInW.Gen.facts, Cert.EvenInWIdeal.Gen.facts, Cert.EvenInWReferenceIdeal.Gen.facts,
    Cert.OddIn.Gen.facts, Cert.OddInIdeal.Gen.facts, Cert.OddInReferenceIdeal.Gen.facts,
    Cert.OddInT.Gen.facts, Cert.OddInTIdeal.Gen.facts, Cert.OddInTReferenceIdeal.Gen.facts,
    Cert.OddInW.Gen.facts, Cert.OddInWIdeal.Gen.facts, Cert.OddInWReferenceIdeal.Gen.facts,
    Cert.MlaQ.Gen.facts, Cert.MlaQIdeal.Gen.facts, Cert.MlaQReferenceIdeal.Gen.facts,
    Cert.MlaQT.Gen.facts, Cert.MlaQTIdeal.Gen.facts, Cert.MlaQTReferenceIdeal.Gen.facts,
    Cert.MlaQW.Gen.facts, Cert.MlaQWIdeal.Gen.facts, Cert.MlaQWReferenceIdeal.Gen.facts,
    Cert.MlaKv.Gen.facts, Cert.MlaKvIdeal.Gen.facts, Cert.MlaKvReferenceIdeal.Gen.facts,
    Cert.MlaKvT.Gen.facts, Cert.MlaKvTIdeal.Gen.facts, Cert.MlaKvTReferenceIdeal.Gen.facts,
    Cert.MlaKvW.Gen.facts, Cert.MlaKvWIdeal.Gen.facts, Cert.MlaKvWReferenceIdeal.Gen.facts,
    Cert.Mix.Gen.facts, Cert.MixIdeal.Gen.facts, Cert.MixReferenceIdeal.Gen.facts,
    Cert.MixT.Gen.facts, Cert.MixTIdeal.Gen.facts, Cert.MixTReferenceIdeal.Gen.facts,
    Cert.MixW.Gen.facts, Cert.MixWIdeal.Gen.facts, Cert.MixWReferenceIdeal.Gen.facts,
    Cert.LastMix.Gen.facts, Cert.LastMixIdeal.Gen.facts, Cert.LastMixReferenceIdeal.Gen.facts,
    Cert.LastMixT.Gen.facts, Cert.LastMixTIdeal.Gen.facts, Cert.LastMixTReferenceIdeal.Gen.facts,
    Cert.LastMixW.Gen.facts, Cert.LastMixWIdeal.Gen.facts, Cert.LastMixWReferenceIdeal.Gen.facts,
    Cert.Glu.Gen.facts, Cert.GluIdeal.Gen.facts, Cert.GluReferenceIdeal.Gen.facts,
    Cert.GluT.Gen.facts, Cert.GluTIdeal.Gen.facts, Cert.GluTReferenceIdeal.Gen.facts,
    Cert.GluW.Gen.facts, Cert.GluWIdeal.Gen.facts, Cert.GluWReferenceIdeal.Gen.facts,
    Cert.GluCtx.Gen.facts, Cert.GluCtxIdeal.Gen.facts, Cert.GluCtxReferenceIdeal.Gen.facts,
    Cert.GluCtxT.Gen.facts, Cert.GluCtxTIdeal.Gen.facts, Cert.GluCtxTReferenceIdeal.Gen.facts,
    Cert.GluCtxW.Gen.facts, Cert.GluCtxWIdeal.Gen.facts, Cert.GluCtxWReferenceIdeal.Gen.facts,
    Cert.AdamUp.Gen.facts, Cert.AdamUpIdeal.Gen.facts, Cert.AdamUpReferenceIdeal.Gen.facts,
    Cert.AdamDown.Gen.facts, Cert.AdamDownIdeal.Gen.facts, Cert.AdamDownReferenceIdeal.Gen.facts,
    Cert.AdamEvenIn.Gen.facts, Cert.AdamEvenInIdeal.Gen.facts, Cert.AdamEvenInReferenceIdeal.Gen.facts,
    Cert.AdamMix.Gen.facts, Cert.AdamMixIdeal.Gen.facts, Cert.AdamMixReferenceIdeal.Gen.facts,
    Cert.AdamOddIn.Gen.facts, Cert.AdamOddInIdeal.Gen.facts, Cert.AdamOddInReferenceIdeal.Gen.facts,
    Cert.AdamQ.Gen.facts, Cert.AdamQIdeal.Gen.facts, Cert.AdamQReferenceIdeal.Gen.facts,
    Cert.AdamKv.Gen.facts, Cert.AdamKvIdeal.Gen.facts, Cert.AdamKvReferenceIdeal.Gen.facts,
    Cert.AdamGlu.Gen.facts, Cert.AdamGluIdeal.Gen.facts, Cert.AdamGluReferenceIdeal.Gen.facts,
    Cert.AdamMod.Gen.facts, Cert.AdamModIdeal.Gen.facts, Cert.AdamModReferenceIdeal.Gen.facts,
    Cert.SumSmall.Gen.facts, Cert.SumSmallIdeal.Gen.facts, Cert.SumSmallReferenceIdeal.Gen.facts,
    Finite.facts, DenseEquation.facts, MlaEquation.facts, MlaGradEquation.facts,
    frame_kernel, frame_ideal, frame_ideal_finite (hPre_finite := Finite.facts),
    frame_reference, frame_reference_finite (hPre_finite := Finite.facts),
    frame_Dense, frame_DenseIdeal, frame_DenseIdeal_finite (hPre_finite_forward := DenseEquation.facts),
    frame_DenseReference, frame_DenseReference_finite (hPre_finite_forward := DenseEquation.facts),
    frame_Mla, frame_MlaIdeal, frame_MlaIdeal_finite (hPre_finite_mla_forward := MlaEquation.facts),
    frame_MlaReference, frame_MlaReference_finite (hPre_finite_mla_forward := MlaEquation.facts),
    frame_MlaGrad, frame_MlaGradIdeal, frame_MlaGradIdeal_finite (hPre_finite_mla := MlaGradEquation.facts),
    frame_MlaGradReference, frame_MlaGradReference_finite (hPre_finite_mla := MlaGradEquation.facts),
    frame_MlpUp, frame_MlpUpIdeal, frame_MlpUpReference,
    frame_MlpGrad, frame_MlpGradIdeal, frame_MlpGradReference,
    frame_MlpInT, frame_MlpInTIdeal, frame_MlpInTReference,
    frame_MlpInW, frame_MlpInWIdeal, frame_MlpInWReference,
    frame_MlpOut, frame_MlpOutIdeal, frame_MlpOutReference,
    frame_MlpOutW, frame_MlpOutWIdeal, frame_MlpOutWReference,
    frame_LastUp, frame_LastUpIdeal, frame_LastUpReference,
    frame_LastGrad, frame_LastGradIdeal, frame_LastGradReference,
    frame_LastInT, frame_LastInTIdeal, frame_LastInTReference,
    frame_LastInW, frame_LastInWIdeal, frame_LastInWReference,
    frame_LastOut, frame_LastOutIdeal, frame_LastOutReference,
    frame_LastOutW, frame_LastOutWIdeal, frame_LastOutWReference,
    frame_EvenIn, frame_EvenInIdeal, frame_EvenInReference,
    frame_EvenInT, frame_EvenInTIdeal, frame_EvenInTReference,
    frame_EvenInW, frame_EvenInWIdeal, frame_EvenInWReference,
    frame_OddIn, frame_OddInIdeal, frame_OddInReference,
    frame_OddInT, frame_OddInTIdeal, frame_OddInTReference,
    frame_OddInW, frame_OddInWIdeal, frame_OddInWReference,
    frame_MlaQ, frame_MlaQIdeal, frame_MlaQReference,
    frame_MlaQT, frame_MlaQTIdeal, frame_MlaQTReference,
    frame_MlaQW, frame_MlaQWIdeal, frame_MlaQWReference,
    frame_MlaKv, frame_MlaKvIdeal, frame_MlaKvReference,
    frame_MlaKvT, frame_MlaKvTIdeal, frame_MlaKvTReference,
    frame_MlaKvW, frame_MlaKvWIdeal, frame_MlaKvWReference,
    frame_Mix, frame_MixIdeal, frame_MixReference,
    frame_MixT, frame_MixTIdeal, frame_MixTReference,
    frame_MixW, frame_MixWIdeal, frame_MixWReference,
    frame_LastMix, frame_LastMixIdeal, frame_LastMixReference,
    frame_LastMixT, frame_LastMixTIdeal, frame_LastMixTReference,
    frame_LastMixW, frame_LastMixWIdeal, frame_LastMixWReference,
    frame_Glu, frame_GluIdeal, frame_GluReference,
    frame_GluT, frame_GluTIdeal, frame_GluTReference,
    frame_GluW, frame_GluWIdeal, frame_GluWReference,
    frame_GluCtx, frame_GluCtxIdeal, frame_GluCtxReference,
    frame_GluCtxT, frame_GluCtxTIdeal, frame_GluCtxTReference,
    frame_GluCtxW, frame_GluCtxWIdeal, frame_GluCtxWReference,
    frame_AdamUp, frame_AdamUpIdeal, frame_AdamUpReference,
    frame_AdamDown, frame_AdamDownIdeal, frame_AdamDownReference,
    frame_AdamEvenIn, frame_AdamEvenInIdeal, frame_AdamEvenInReference,
    frame_AdamMix, frame_AdamMixIdeal, frame_AdamMixReference,
    frame_AdamOddIn, frame_AdamOddInIdeal, frame_AdamOddInReference,
    frame_AdamQ, frame_AdamQIdeal, frame_AdamQReference,
    frame_AdamKv, frame_AdamKvIdeal, frame_AdamKvReference,
    frame_AdamGlu, frame_AdamGluIdeal, frame_AdamGluReference,
    frame_AdamMod, frame_AdamModIdeal, frame_AdamModReference,
    frame_SumSmall, frame_SumSmallIdeal, frame_SumSmallReference,
    named, gradients (hPre_finite := Finite.facts),
    named_Dense, equal_Dense (hPre_finite_forward := DenseEquation.facts),
    named_Mla, equal_Mla (hPre_finite_mla_forward := MlaEquation.facts),
    named_MlaGrad, equal_MlaGrad (hPre_finite_mla := MlaGradEquation.facts),
    trivial, equal_MlpUp,
    trivial, equal_MlpGrad,
    trivial, equal_MlpInT,
    trivial, equal_MlpInW,
    trivial, equal_MlpOut,
    trivial, equal_MlpOutW,
    trivial, equal_LastUp,
    trivial, equal_LastGrad,
    trivial, equal_LastInT,
    trivial, equal_LastInW,
    trivial, equal_LastOut,
    trivial, equal_LastOutW,
    trivial, equal_EvenIn,
    trivial, equal_EvenInT,
    trivial, equal_EvenInW,
    trivial, equal_OddIn,
    trivial, equal_OddInT,
    trivial, equal_OddInW,
    trivial, equal_MlaQ,
    trivial, equal_MlaQT,
    trivial, equal_MlaQW,
    trivial, equal_MlaKv,
    trivial, equal_MlaKvT,
    trivial, equal_MlaKvW,
    trivial, equal_Mix,
    trivial, equal_MixT,
    trivial, equal_MixW,
    trivial, equal_LastMix,
    trivial, equal_LastMixT,
    trivial, equal_LastMixW,
    trivial, equal_Glu,
    trivial, equal_GluT,
    trivial, equal_GluW,
    trivial, equal_GluCtx,
    trivial, equal_GluCtxT,
    trivial, equal_GluCtxW,
    trivial, equal_AdamUp,
    trivial, equal_AdamDown,
    trivial, equal_AdamEvenIn,
    trivial, equal_AdamMix,
    trivial, equal_AdamOddIn,
    trivial, equal_AdamQ,
    trivial, equal_AdamKv,
    trivial, equal_AdamGlu,
    trivial, equal_AdamMod,
    trivial, equal_SumSmall⟩

end Cert.Proof

end
